-- ==== Defs.lean ====
def Pre_Kernel [hPre_rois_on_map : Cert.Pre_rois_on_map.Facts] (m : (ℓ : Loc Cert.Kernel.nD Cert.Kernel.τ Cert.Kernel.sig) → Buf (Elt Bits) ℓ) : Prop :=
  ∀ c : Dev Cert.Kernel.nD,
    (Cert.Pre_rois_on_map.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rois_on_map : Cert.Pre_rois_on_map.Facts] (m : (ℓ : Loc Cert.KernelIdeal.nD Cert.KernelIdeal.τ Cert.KernelIdeal.sig) → Buf (Elt Ideal) ℓ) : Prop :=
  ∀ c : Dev Cert.KernelIdeal.nD,
    (Cert.Pre_rois_on_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_rois_small [hPre_rois_small : Cert.Pre_rois_small.Facts] (m : (ℓ : Loc Cert.KernelIdeal.nD Cert.KernelIdeal.τ Cert.KernelIdeal.sig) → Buf (Elt Ideal) ℓ) : Prop :=
  ∀ c : Dev Cert.KernelIdeal.nD,
    (Cert.Pre_rois_small.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_small [hPre_rois_small : Cert.Pre_rois_small.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_small.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_rois_on_map : Cert.Pre_rois_on_map.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rois_on_map : Cert.Pre_rois_on_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rois_small [hKernelIdeal : Cert.KernelIdeal.Facts] [hPre_rois_small : Cert.Pre_rois_small.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_small m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rois_small [hReferenceIdeal : Cert.ReferenceIdeal.Facts] [hPre_rois_small : Cert.Pre_rois_small.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_small m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_rois_small [hKernelIdeal : Cert.KernelIdeal.Facts] [hReferenceIdeal : Cert.ReferenceIdeal.Facts] [hPre_rois_small : Cert.Pre_rois_small.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_small m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rois_on_map : Cert.Pre_rois_on_map.Facts) (hPre_rois_small : Cert.Pre_rois_small.Facts),
    quiescent_Kernel (hKernel := hKernel) (hPre_rois_on_map := hPre_rois_on_map)
    ∧ quiescent_KernelIdeal (hKernelIdeal := hKernelIdeal) (hPre_rois_on_map := hPre_rois_on_map)
    ∧ quiescent_KernelIdeal_pre_rois_small (hKernelIdeal := hKernelIdeal) (hPre_rois_small := hPre_rois_small)
    ∧ quiescent_ReferenceIdeal (hReferenceIdeal := hReferenceIdeal)
    ∧ quiescent_ReferenceIdeal_pre_rois_small (hReferenceIdeal := hReferenceIdeal) (hPre_rois_small := hPre_rois_small)
    ∧ preserves_Kernel_KernelIdeal
    ∧ algebraic_KernelIdeal_ReferenceIdeal_pre_rois_small (hKernelIdeal := hKernelIdeal) (hReferenceIdeal := hReferenceIdeal) (hPre_rois_small := hPre_rois_small)
-- ==== Pre_rois_on_map.lean ====
abbrev S1024x13 : Shape := ⟨2, ![1024, 13]⟩
abbrev S2x256x200x200 : Shape := ⟨4, ![2, 256, 200, 200]⟩
abbrev S_ : Shape := ⟨0, ![]⟩
abbrev S1024x5 : Shape := ⟨2, ![1024, 5]⟩
abbrev S1024x1 : Shape := ⟨2, ![1024, 1]⟩
abbrev S1024 : Shape := ⟨1, ![1024]⟩
abbrev S7 : Shape := ⟨1, ![7]⟩
abbrev S1x7 : Shape := ⟨2, ![1, 7]⟩
abbrev S1024x7 : Shape := ⟨2, ![1024, 7]⟩

class Facts : Prop where
  slices_S1024x13_S1024x5_0_0 : S1024x13.Slices ![0, 0] S1024x5
  slices_S1024x5_S1024x1_0_0 : S1024x5.Slices ![0, 0] S1024x1
  shapeCasts_S1024x1_S1024 : S1024x1.ShapeCasts S1024
  slices_S1024x5_S1024x1_0_1 : S1024x5.Slices ![0, 1] S1024x1
  bcast_S_S1024 : S_.BroadcastsInDim S1024 (![] : Fin 0 → Fin S1024.rank)
  slices_S1024x5_S1024x1_0_2 : S1024x5.Slices ![0, 2] S1024x1
  slices_S1024x5_S1024x1_0_3 : S1024x5.Slices ![0, 3] S1024x1
  slices_S1024x5_S1024x1_0_4 : S1024x5.Slices ![0, 4] S1024x1
  bcast_S7_S1x7_1 : S7.BroadcastsInDim S1x7 (![1] : Fin 1 → Fin S1x7.rank)
  bcast_S1024_S1024x1_0 : S1024.BroadcastsInDim S1024x1 (![0] : Fin 1 → Fin S1024x1.rank)
  bcast_S1x7_S1024x7_0_1 : S1x7.BroadcastsInDim S1024x7 (![0, 1] : Fin 2 → Fin S1024x7.rank)
  bcast_S1024x1_S1024x7_0_1 : S1024x1.BroadcastsInDim S1024x7 (![0, 1] : Fin 2 → Fin S1024x7.rank)
  bcast_S_S1024x7 : S_.BroadcastsInDim S1024x7 (![] : Fin 0 → Fin S1024x7.rank)
  reducesTo_S1024_S_d0 : S1024.ReducesTo [0] S_
  h_S_ : 0 < S_.numel
  reducesTo_S1024x7_S_d0_1 : S1024x7.ReducesTo [0, 1] S_

variable [Facts]

def fn_round {F : FTy → Type} [FloatOps F] (arg0 : FVec F S1024 .f32) : FVec F S1024 .f32 :=
  let v0 : FVec F S1024 .f32 := Host.roundeven arg0
  v0

def fn_clip {F : FTy → Type} [FloatOps F] (arg0 : IVec S1024x7 32) (arg1 : IVec S_ 32) (arg2 : IVec S_ 32) : IVec S1024x7 32 :=
  let v0 : IVec S_ 32 := id arg1
  let v1 : IVec S1024x7 32 := broadcastInDim S1024x7 ![] bcast_S_S1024x7 v0
  let v2 : IVec S1024x7 32 := maxsi v1 arg0
  let v3 : IVec S_ 32 := id arg2
  let v4 : IVec S1024x7 32 := broadcastInDim S1024x7 ![] bcast_S_S1024x7 v3
  let v5 : IVec S1024x7 32 := minsi v4 v2
  v5

def fn_part4 {F : FTy → Type} [FloatOps F] (main_v12 : IVec S1024 32) (main_v19 : IVec S1024 32) (main_v61 : IVec S1024x7 32) (main_v72 : IVec S1024x7 32) (main_v80 : IVec S1024 1) (main_c_12 : IVec S_ 32) : IVec S_ 1 :=
  let main_v81 : IVec S1024 32 := broadcastInDim S1024 ![] bcast_S_S1024 main_c_12
  let main_v82 : IVec S1024 1 := cmpi .sge main_v19 main_v81
  let main_v83 : IVec S1024 1 := andi main_v80 main_v82
  let main_c_13 : IVec S_ 1 := constantI S_ 1 1#1
  let main_v84 : IVec S_ 1 := (fun x v => Host.reduce IntOp.andi x v reducesTo_S1024_S_d0 h_S_) main_v83 main_c_13
  let main_c_14 : IVec S_ 32 := constantI S_ 32 200#32
  let main_v85 : IVec S1024 32 := broadcastInDim S1024 ![] bcast_S_S1024 main_c_14
  let main_v86 : IVec S1024 32 := minsi main_v19 main_v85
  let main_v87 : IVec S1024x1 32 := broadcastInDim S1024x1 ![0] bcast_S1024_S1024x1_0 main_v86
  let main_v88 : IVec S1024x7 32 := broadcastInDim S1024x7 ![0, 1] bcast_S1024x1_S1024x7_0_1 main_v87
  let main_v89 : IVec S1024x7 1 := cmpi .sge main_v61 main_v88
  let main_c_15 : IVec S_ 1 := constantI S_ 1 1#1
  let main_v90 : IVec S_ 1 := (fun x v => Host.reduce IntOp.andi x v reducesTo_S1024x7_S_d0_1 h_S_) main_v89 main_c_15
  let main_v91 : IVec S_ 1 := andi main_v84 main_v90
  let main_c_16 : IVec S_ 32 := constantI S_ 32 200#32
  let main_v92 : IVec S1024 32 := broadcastInDim S1024 ![] bcast_S_S1024 main_c_16
  let main_v93 : IVec S1024 32 := minsi main_v12 main_v92
  let main_v94 : IVec S1024x1 32 := broadcastInDim S1024x1 ![0] bcast_S1024_S1024x1_0 main_v93
  let main_v95 : IVec S1024x7 32 := broadcastInDim S1024x7 ![0, 1] bcast_S1024x1_S1024x7_0_1 main_v94
  let main_v96 : IVec S1024x7 1 := cmpi .sge main_v72 main_v95
  let main_c_17 : IVec S_ 1 := constantI S_ 1 1#1
  let main_v97 : IVec S_ 1 := (fun x v => Host.reduce IntOp.andi x v reducesTo_S1024x7_S_d0_1 h_S_) main_v96 main_c_17
  let main_v98 : IVec S_ 1 := andi main_v91 main_v97
  main_v98

def fn_part3 {F : FTy → Type} [FloatOps F] (main_v5 : IVec S1024 32) (main_v12 : IVec S1024 32) (main_v19 : IVec S1024 32) (main_v49 : FVec F S1024 .f32) (main_v61 : IVec S1024x7 32) (main_v62 : FVec F S1x7 .f32) : IVec S_ 1 :=
  let main_v63 : FVec F S1024x1 .f32 := broadcastInDim S1024x1 ![0] bcast_S1024_S1024x1_0 main_v49
  let main_v64 : FVec F S1024x7 .f32 := broadcastInDim S1024x7 ![0, 1] bcast_S1x7_S1024x7_0_1 main_v62
  let main_v65 : FVec F S1024x7 .f32 := broadcastInDim S1024x7 ![0, 1] bcast_S1024x1_S1024x7_0_1 main_v63
  let main_v66 : FVec F S1024x7 .f32 := mulf main_v64 main_v65
  let main_v67 : FVec F S1024x7 .f32 := Host.floor main_v66
  let main_v68 : IVec S1024x7 32 := fptosi 32 main_v67
  let main_v69 : IVec S1024x1 32 := broadcastInDim S1024x1 ![0] bcast_S1024_S1024x1_0 main_v12
  let main_v70 : IVec S1024x7 32 := broadcastInDim S1024x7 ![0, 1] bcast_S1024x1_S1024x7_0_1 main_v69
  let main_v71 : IVec S1024x7 32 := addi main_v68 main_v70
  let main_c_7 : IVec S_ 32 := constantI S_ 32 0#32
  let main_c_8 : IVec S_ 32 := constantI S_ 32 200#32
  let main_v72 : IVec S1024x7 32 := fn_clip (F := F) main_v71 main_c_7 main_c_8
  let main_c_9 : IVec S_ 32 := constantI S_ 32 0#32
  let main_v73 : IVec S1024 32 := broadcastInDim S1024 ![] bcast_S_S1024 main_c_9
  let main_v74 : IVec S1024 1 := cmpi .sge main_v5 main_v73
  let main_c_10 : IVec S_ 32 := constantI S_ 32 1#32
  let main_v75 : IVec S1024 32 := broadcastInDim S1024 ![] bcast_S_S1024 main_c_10
  let main_v76 : IVec S1024 1 := cmpi .sle main_v5 main_v75
  let main_v77 : IVec S1024 1 := andi main_v74 main_v76
  let main_c_11 : IVec S_ 32 := constantI S_ 32 0#32
  let main_v78 : IVec S1024 32 := broadcastInDim S1024 ![] bcast_S_S1024 main_c_11
  let main_v79 : IVec S1024 1 := cmpi .sge main_v12 main_v78
  let main_v80 : IVec S1024 1 := andi main_v77 main_v79
  let main_c_12 : IVec S_ 32 := constantI S_ 32 0#32
  fn_part4 (F := F) main_v12 main_v19 main_v61 main_v72 main_v80 main_c_12

def fn_part2 {F : FTy → Type} [FloatOps F] (main_v5 : IVec S1024 32) (main_v12 : IVec S1024 32) (main_v19 : IVec S1024 32) (main_v41 : FVec F S1024 .f32) (main_v42 : IVec S1024 32) (main_c_2 : IVec S_ 32) : IVec S_ 1 :=
  let main_v43 : IVec S1024 32 := broadcastInDim S1024 ![] bcast_S_S1024 main_c_2
  let main_v44 : IVec S1024 32 := addi main_v42 main_v43
  let main_c_3 : IVec S_ 32 := constantI S_ 32 1#32
  let main_v45 : IVec S1024 32 := broadcastInDim S1024 ![] bcast_S_S1024 main_c_3
  let main_v46 : IVec S1024 32 := maxsi main_v44 main_v45
  let main_v47 : FVec F S1024 .f32 := sitofp .f32 main_v46
  let main_cst_4 : FVec F S_ .f32 := constant S_ .f32 0x40E00000#32
  let main_v48 : FVec F S1024 .f32 := broadcastInDim S1024 ![] bcast_S_S1024 main_cst_4
  let main_v49 : FVec F S1024 .f32 := Host.divf main_v47 main_v48
  let main_v50 : FVec F S7 .f32 := sitofp .f32 (iotaInDim S7 32 0)
  let main_v51 : FVec F S1x7 .f32 := broadcastInDim S1x7 ![1] bcast_S7_S1x7_1 main_v50
  let main_v52 : FVec F S1024x1 .f32 := broadcastInDim S1024x1 ![0] bcast_S1024_S1024x1_0 main_v41
  let main_v53 : FVec F S1024x7 .f32 := broadcastInDim S1024x7 ![0, 1] bcast_S1x7_S1024x7_0_1 main_v51
  let main_v54 : FVec F S1024x7 .f32 := broadcastInDim S1024x7 ![0, 1] bcast_S1024x1_S1024x7_0_1 main_v52
  let main_v55 : FVec F S1024x7 .f32 := mulf main_v53 main_v54
  let main_v56 : FVec F S1024x7 .f32 := Host.floor main_v55
  let main_v57 : IVec S1024x7 32 := fptosi 32 main_v56
  let main_v58 : IVec S1024x1 32 := broadcastInDim S1024x1 ![0] bcast_S1024_S1024x1_0 main_v19
  let main_v59 : IVec S1024x7 32 := broadcastInDim S1024x7 ![0, 1] bcast_S1024x1_S1024x7_0_1 main_v58
  let main_v60 : IVec S1024x7 32 := addi main_v57 main_v59
  let main_c_5 : IVec S_ 32 := constantI S_ 32 0#32
  let main_c_6 : IVec S_ 32 := constantI S_ 32 200#32
  let main_v61 : IVec S1024x7 32 := fn_clip (F := F) main_v60 main_c_5 main_c_6
  let main_v62 : FVec F S1x7 .f32 := broadcastInDim S1x7 ![1] bcast_S7_S1x7_1 main_v50
  fn_part3 (F := F) main_v5 main_v12 main_v19 main_v49 main_v61 main_v62

def fn_part1 {F : FTy → Type} [FloatOps F] (main_v0 : FVec F S1024x5 .f32) (main_v2 : FVec F S_ .f32) (main_v5 : IVec S1024 32) (main_v12 : IVec S1024 32) (main_v19 : IVec S1024 32) (main_v21 : FVec F S1024 .f32) (main_v22 : FVec F S_ .f32) : IVec S_ 1 :=
  let main_v23 : FVec F S1024 .f32 := broadcastInDim S1024 ![] bcast_S_S1024 main_v22
  let main_v24 : FVec F S1024 .f32 := mulf main_v21 main_v23
  let main_v25 : FVec F S1024 .f32 := fn_round (F := F) main_v24
  let main_v26 : IVec S1024 32 := fptosi 32 main_v25
  let main_v27 : FVec F S1024x1 .f32 := (extractStridedSlice S1024x1 ![0, 4] · slices_S1024x5_S1024x1_0_4) main_v0
  let main_v28 : FVec F S1024 .f32 := shapeCast S1024 main_v27 shapeCasts_S1024x1_S1024
  let main_v29 : FVec F S_ .f32 := id main_v2
  let main_v30 : FVec F S1024 .f32 := broadcastInDim S1024 ![] bcast_S_S1024 main_v29
  let main_v31 : FVec F S1024 .f32 := mulf main_v28 main_v30
  let main_v32 : FVec F S1024 .f32 := fn_round (F := F) main_v31
  let main_v33 : IVec S1024 32 := fptosi 32 main_v32
  let main_v34 : IVec S1024 32 := subi main_v33 main_v19
  let main_c : IVec S_ 32 := constantI S_ 32 1#32
  let main_v35 : IVec S1024 32 := broadcastInDim S1024 ![] bcast_S_S1024 main_c
  let main_v36 : IVec S1024 32 := addi main_v34 main_v35
  let main_c_0 : IVec S_ 32 := constantI S_ 32 1#32
  let main_v37 : IVec S1024 32 := broadcastInDim S1024 ![] bcast_S_S1024 main_c_0
  let main_v38 : IVec S1024 32 := maxsi main_v36 main_v37
  let main_v39 : FVec F S1024 .f32 := sitofp .f32 main_v38
  let main_cst_1 : FVec F S_ .f32 := constant S_ .f32 0x40E00000#32
  let main_v40 : FVec F S1024 .f32 := broadcastInDim S1024 ![] bcast_S_S1024 main_cst_1
  let main_v41 : FVec F S1024 .f32 := Host.divf main_v39 main_v40
  let main_v42 : IVec S1024 32 := subi main_v26 main_v12
  let main_c_2 : IVec S_ 32 := constantI S_ 32 1#32
  fn_part2 (F := F) main_v5 main_v12 main_v19 main_v41 main_v42 main_c_2

def fn {F : FTy → Type} [FloatOps F] (main_arg0 : FVec F S1024x13 .f32) (main_arg1 : FVec F S2x256x200x200 .f32) (main_arg2 : IVec S_ 32) : IVec S_ 1 :=
  let main_v0 : FVec F S1024x5 .f32 := (extractStridedSlice S1024x5 ![0, 0] · slices_S1024x13_S1024x5_0_0) main_arg0
  let main_v1 : FVec F S_ .f32 := sitofp .f32 main_arg2
  let main_cst : FVec F S_ .f32 := constant S_ .f32 0x3F800000#32
  let main_v2 : FVec F S_ .f32 := Host.divf main_cst main_v1
  let main_v3 : FVec F S1024x1 .f32 := (extractStridedSlice S1024x1 ![0, 0] · slices_S1024x5_S1024x1_0_0) main_v0
  let main_v4 : FVec F S1024 .f32 := shapeCast S1024 main_v3 shapeCasts_S1024x1_S1024
  let main_v5 : IVec S1024 32 := fptosi 32 main_v4
  let main_v6 : FVec F S1024x1 .f32 := (extractStridedSlice S1024x1 ![0, 1] · slices_S1024x5_S1024x1_0_1) main_v0
  let main_v7 : FVec F S1024 .f32 := shapeCast S1024 main_v6 shapeCasts_S1024x1_S1024
  let main_v8 : FVec F S_ .f32 := id main_v2
  let main_v9 : FVec F S1024 .f32 := broadcastInDim S1024 ![] bcast_S_S1024 main_v8
  let main_v10 : FVec F S1024 .f32 := mulf main_v7 main_v9
  let main_v11 : FVec F S1024 .f32 := fn_round (F := F) main_v10
  let main_v12 : IVec S1024 32 := fptosi 32 main_v11
  let main_v13 : FVec F S1024x1 .f32 := (extractStridedSlice S1024x1 ![0, 2] · slices_S1024x5_S1024x1_0_2) main_v0
  let main_v14 : FVec F S1024 .f32 := shapeCast S1024 main_v13 shapeCasts_S1024x1_S1024
  let main_v15 : FVec F S_ .f32 := id main_v2
  let main_v16 : FVec F S1024 .f32 := broadcastInDim S1024 ![] bcast_S_S1024 main_v15
  let main_v17 : FVec F S1024 .f32 := mulf main_v14 main_v16
  let main_v18 : FVec F S1024 .f32 := fn_round (F := F) main_v17
  let main_v19 : IVec S1024 32 := fptosi 32 main_v18
  let main_v20 : FVec F S1024x1 .f32 := (extractStridedSlice S1024x1 ![0, 3] · slices_S1024x5_S1024x1_0_3) main_v0
  let main_v21 : FVec F S1024 .f32 := shapeCast S1024 main_v20 shapeCasts_S1024x1_S1024
  let main_v22 : FVec F S_ .f32 := id main_v2
  fn_part1 (F := F) main_v0 main_v2 main_v5 main_v12 main_v19 main_v21 main_v22
-- ==== Pre_rois_small.lean ====
abbrev S1024x13 : Shape := ⟨2, ![1024, 13]⟩
abbrev S2x256x200x200 : Shape := ⟨4, ![2, 256, 200, 200]⟩
abbrev S_ : Shape := ⟨0, ![]⟩
abbrev S1024x5 : Shape := ⟨2, ![1024, 5]⟩
abbrev S1024x1 : Shape := ⟨2, ![1024, 1]⟩
abbrev S1024 : Shape := ⟨1, ![1024]⟩
abbrev S7 : Shape := ⟨1, ![7]⟩
abbrev S1x7 : Shape := ⟨2, ![1, 7]⟩
abbrev S1024x7 : Shape := ⟨2, ![1024, 7]⟩

class Facts : Prop where
  slices_S1024x13_S1024x5_0_0 : S1024x13.Slices ![0, 0] S1024x5
  slices_S1024x5_S1024x1_0_0 : S1024x5.Slices ![0, 0] S1024x1
  shapeCasts_S1024x1_S1024 : S1024x1.ShapeCasts S1024
  slices_S1024x5_S1024x1_0_1 : S1024x5.Slices ![0, 1] S1024x1
  bcast_S_S1024 : S_.BroadcastsInDim S1024 (![] : Fin 0 → Fin S1024.rank)
  slices_S1024x5_S1024x1_0_2 : S1024x5.Slices ![0, 2] S1024x1
  slices_S1024x5_S1024x1_0_3 : S1024x5.Slices ![0, 3] S1024x1
  slices_S1024x5_S1024x1_0_4 : S1024x5.Slices ![0, 4] S1024x1
  bcast_S7_S1x7_1 : S7.BroadcastsInDim S1x7 (![1] : Fin 1 → Fin S1x7.rank)
  bcast_S1024_S1024x1_0 : S1024.BroadcastsInDim S1024x1 (![0] : Fin 1 → Fin S1024x1.rank)
  bcast_S1x7_S1024x7_0_1 : S1x7.BroadcastsInDim S1024x7 (![0, 1] : Fin 2 → Fin S1024x7.rank)
  bcast_S1024x1_S1024x7_0_1 : S1024x1.BroadcastsInDim S1024x7 (![0, 1] : Fin 2 → Fin S1024x7.rank)
  bcast_S_S1024x7 : S_.BroadcastsInDim S1024x7 (![] : Fin 0 → Fin S1024x7.rank)
  reducesTo_S1024_S_d0 : S1024.ReducesTo [0] S_
  h_S_ : 0 < S_.numel
  bcast_S_S2x256x200x200 : S_.BroadcastsInDim S2x256x200x200 (![] : Fin 0 → Fin S2x256x200x200.rank)
  reducesTo_S2x256x200x200_S_d0_1_2_3 : S2x256x200x200.ReducesTo [0, 1, 2, 3] S_

variable [Facts]

def fn_round {F : FTy → Type} [FloatOps F] (arg0 : FVec F S1024 .f32) : FVec F S1024 .f32 :=
  let v0 : FVec F S1024 .f32 := Host.roundeven arg0
  v0

def fn_clip {F : FTy → Type} [FloatOps F] (arg0 : IVec S1024x7 32) (arg1 : IVec S_ 32) (arg2 : IVec S_ 32) : IVec S1024x7 32 :=
  let v0 : IVec S_ 32 := id arg1
  let v1 : IVec S1024x7 32 := broadcastInDim S1024x7 ![] bcast_S_S1024x7 v0
  let v2 : IVec S1024x7 32 := maxsi v1 arg0
  let v3 : IVec S_ 32 := id arg2
  let v4 : IVec S1024x7 32 := broadcastInDim S1024x7 ![] bcast_S_S1024x7 v3
  let v5 : IVec S1024x7 32 := minsi v4 v2
  v5

def fn_part5 {F : FTy → Type} [FloatOps F] (main_arg1 : FVec F S2x256x200x200 .f32) (main_v19 : IVec S1024 32) (main_v33 : IVec S1024 32) (main_v90 : IVec S_ 1) (main_v96 : IVec S1024 1) (main_v98 : IVec S1024 1) : IVec S_ 1 :=
  let main_v99 : IVec S1024 1 := andi main_v96 main_v98
  let main_c_19 : IVec S_ 32 := constantI S_ 32 13#32
  let main_v100 : IVec S1024 32 := broadcastInDim S1024 ![] bcast_S_S1024 main_c_19
  let main_v101 : IVec S1024 32 := addi main_v19 main_v100
  let main_v102 : IVec S1024 1 := cmpi .sle main_v33 main_v101
  let main_v103 : IVec S1024 1 := andi main_v99 main_v102
  let main_c_20 : IVec S_ 1 := constantI S_ 1 1#1
  let main_v104 : IVec S_ 1 := (fun x v => Host.reduce IntOp.andi x v reducesTo_S1024_S_d0 h_S_) main_v103 main_c_20
  let main_v105 : IVec S_ 1 := andi main_v90 main_v104
  let main_cst_21 : FVec F S_ .f32 := constant S_ .f32 0x7F800000#32
  let main_v106 : FVec F S2x256x200x200 .f32 := broadcastInDim S2x256x200x200 ![] bcast_S_S2x256x200x200 main_cst_21
  let main_v107 : IVec S2x256x200x200 1 := cmpf .olt main_arg1 main_v106
  let main_c_22 : IVec S_ 1 := constantI S_ 1 1#1
  let main_v108 : IVec S_ 1 := (fun x v => Host.reduce IntOp.andi x v reducesTo_S2x256x200x200_S_d0_1_2_3 h_S_) main_v107 main_c_22
  let main_v109 : IVec S_ 1 := andi main_v105 main_v108
  main_v109

def fn_part4 {F : FTy → Type} [FloatOps F] (main_arg1 : FVec F S2x256x200x200 .f32) (main_v12 : IVec S1024 32) (main_v19 : IVec S1024 32) (main_v26 : IVec S1024 32) (main_v33 : IVec S1024 32) (main_v80 : IVec S1024 1) (main_c_12 : IVec S_ 32) : IVec S_ 1 :=
  let main_v81 : IVec S1024 32 := broadcastInDim S1024 ![] bcast_S_S1024 main_c_12
  let main_v82 : IVec S1024 1 := cmpi .sle main_v12 main_v81
  let main_v83 : IVec S1024 1 := andi main_v80 main_v82
  let main_c_13 : IVec S_ 32 := constantI S_ 32 0#32
  let main_v84 : IVec S1024 32 := broadcastInDim S1024 ![] bcast_S_S1024 main_c_13
  let main_v85 : IVec S1024 1 := cmpi .sge main_v19 main_v84
  let main_v86 : IVec S1024 1 := andi main_v83 main_v85
  let main_c_14 : IVec S_ 32 := constantI S_ 32 200#32
  let main_v87 : IVec S1024 32 := broadcastInDim S1024 ![] bcast_S_S1024 main_c_14
  let main_v88 : IVec S1024 1 := cmpi .sle main_v19 main_v87
  let main_v89 : IVec S1024 1 := andi main_v86 main_v88
  let main_c_15 : IVec S_ 1 := constantI S_ 1 1#1
  let main_v90 : IVec S_ 1 := (fun x v => Host.reduce IntOp.andi x v reducesTo_S1024_S_d0 h_S_) main_v89 main_c_15
  let main_c_16 : IVec S_ 32 := constantI S_ 32 0#32
  let main_v91 : IVec S1024 32 := broadcastInDim S1024 ![] bcast_S_S1024 main_c_16
  let main_v92 : IVec S1024 1 := cmpi .sge main_v26 main_v91
  let main_c_17 : IVec S_ 32 := constantI S_ 32 13#32
  let main_v93 : IVec S1024 32 := broadcastInDim S1024 ![] bcast_S_S1024 main_c_17
  let main_v94 : IVec S1024 32 := addi main_v12 main_v93
  let main_v95 : IVec S1024 1 := cmpi .sle main_v26 main_v94
  let main_v96 : IVec S1024 1 := andi main_v92 main_v95
  let main_c_18 : IVec S_ 32 := constantI S_ 32 0#32
  let main_v97 : IVec S1024 32 := broadcastInDim S1024 ![] bcast_S_S1024 main_c_18
  let main_v98 : IVec S1024 1 := cmpi .sge main_v33 main_v97
  fn_part5 (F := F) main_arg1 main_v19 main_v33 main_v90 main_v96 main_v98

def fn_part3 {F : FTy → Type} [FloatOps F] (main_arg1 : FVec F S2x256x200x200 .f32) (main_v5 : IVec S1024 32) (main_v12 : IVec S1024 32) (main_v19 : IVec S1024 32) (main_v26 : IVec S1024 32) (main_v33 : IVec S1024 32) (main_v49 : FVec F S1024 .f32) (main_v62 : FVec F S1x7 .f32) : IVec S_ 1 :=
  let main_v63 : FVec F S1024x1 .f32 := broadcastInDim S1024x1 ![0] bcast_S1024_S1024x1_0 main_v49
  let main_v64 : FVec F S1024x7 .f32 := broadcastInDim S1024x7 ![0, 1] bcast_S1x7_S1024x7_0_1 main_v62
  let main_v65 : FVec F S1024x7 .f32 := broadcastInDim S1024x7 ![0, 1] bcast_S1024x1_S1024x7_0_1 main_v63
  let main_v66 : FVec F S1024x7 .f32 := mulf main_v64 main_v65
  let main_v67 : FVec F S1024x7 .f32 := Host.floor main_v66
  let main_v68 : IVec S1024x7 32 := fptosi 32 main_v67
  let main_v69 : IVec S1024x1 32 := broadcastInDim S1024x1 ![0] bcast_S1024_S1024x1_0 main_v12
  let main_v70 : IVec S1024x7 32 := broadcastInDim S1024x7 ![0, 1] bcast_S1024x1_S1024x7_0_1 main_v69
  let main_v71 : IVec S1024x7 32 := addi main_v68 main_v70
  let main_c_7 : IVec S_ 32 := constantI S_ 32 0#32
  let main_c_8 : IVec S_ 32 := constantI S_ 32 200#32
  let main_v72 : IVec S1024x7 32 := fn_clip (F := F) main_v71 main_c_7 main_c_8
  let main_c_9 : IVec S_ 32 := constantI S_ 32 0#32
  let main_v73 : IVec S1024 32 := broadcastInDim S1024 ![] bcast_S_S1024 main_c_9
  let main_v74 : IVec S1024 1 := cmpi .sge main_v5 main_v73
  let main_c_10 : IVec S_ 32 := constantI S_ 32 1#32
  let main_v75 : IVec S1024 32 := broadcastInDim S1024 ![] bcast_S_S1024 main_c_10
  let main_v76 : IVec S1024 1 := cmpi .sle main_v5 main_v75
  let main_v77 : IVec S1024 1 := andi main_v74 main_v76
  let main_c_11 : IVec S_ 32 := constantI S_ 32 0#32
  let main_v78 : IVec S1024 32 := broadcastInDim S1024 ![] bcast_S_S1024 main_c_11
  let main_v79 : IVec S1024 1 := cmpi .sge main_v12 main_v78
  let main_v80 : IVec S1024 1 := andi main_v77 main_v79
  let main_c_12 : IVec S_ 32 := constantI S_ 32 200#32
  fn_part4 (F := F) main_arg1 main_v12 main_v19 main_v26 main_v33 main_v80 main_c_12

def fn_part2 {F : FTy → Type} [FloatOps F] (main_arg1 : FVec F S2x256x200x200 .f32) (main_v5 : IVec S1024 32) (main_v12 : IVec S1024 32) (main_v19 : IVec S1024 32) (main_v26 : IVec S1024 32) (main_v33 : IVec S1024 32) (main_v41 : FVec F S1024 .f32) (main_v42 : IVec S1024 32) (main_c_2 : IVec S_ 32) : IVec S_ 1 :=
  let main_v43 : IVec S1024 32 := broadcastInDim S1024 ![] bcast_S_S1024 main_c_2
  let main_v44 : IVec S1024 32 := addi main_v42 main_v43
  let main_c_3 : IVec S_ 32 := constantI S_ 32 1#32
  let main_v45 : IVec S1024 32 := broadcastInDim S1024 ![] bcast_S_S1024 main_c_3
  let main_v46 : IVec S1024 32 := maxsi main_v44 main_v45
  let main_v47 : FVec F S1024 .f32 := sitofp .f32 main_v46
  let main_cst_4 : FVec F S_ .f32 := constant S_ .f32 0x40E00000#32
  let main_v48 : FVec F S1024 .f32 := broadcastInDim S1024 ![] bcast_S_S1024 main_cst_4
  let main_v49 : FVec F S1024 .f32 := Host.divf main_v47 main_v48
  let main_v50 : FVec F S7 .f32 := sitofp .f32 (iotaInDim S7 32 0)
  let main_v51 : FVec F S1x7 .f32 := broadcastInDim S1x7 ![1] bcast_S7_S1x7_1 main_v50
  let main_v52 : FVec F S1024x1 .f32 := broadcastInDim S1024x1 ![0] bcast_S1024_S1024x1_0 main_v41
  let main_v53 : FVec F S1024x7 .f32 := broadcastInDim S1024x7 ![0, 1] bcast_S1x7_S1024x7_0_1 main_v51
  let main_v54 : FVec F S1024x7 .f32 := broadcastInDim S1024x7 ![0, 1] bcast_S1024x1_S1024x7_0_1 main_v52
  let main_v55 : FVec F S1024x7 .f32 := mulf main_v53 main_v54
  let main_v56 : FVec F S1024x7 .f32 := Host.floor main_v55
  let main_v57 : IVec S1024x7 32 := fptosi 32 main_v56
  let main_v58 : IVec S1024x1 32 := broadcastInDim S1024x1 ![0] bcast_S1024_S1024x1_0 main_v19
  let main_v59 : IVec S1024x7 32 := broadcastInDim S1024x7 ![0, 1] bcast_S1024x1_S1024x7_0_1 main_v58
  let main_v60 : IVec S1024x7 32 := addi main_v57 main_v59
  let main_c_5 : IVec S_ 32 := constantI S_ 32 0#32
  let main_c_6 : IVec S_ 32 := constantI S_ 32 200#32
  let main_v61 : IVec S1024x7 32 := fn_clip (F := F) main_v60 main_c_5 main_c_6
  let main_v62 : FVec F S1x7 .f32 := broadcastInDim S1x7 ![1] bcast_S7_S1x7_1 main_v50
  fn_part3 (F := F) main_arg1 main_v5 main_v12 main_v19 main_v26 main_v33 main_v49 main_v62

def fn_part1 {F : FTy → Type} [FloatOps F] (main_arg1 : FVec F S2x256x200x200 .f32) (main_v0 : FVec F S1024x5 .f32) (main_v2 : FVec F S_ .f32) (main_v5 : IVec S1024 32) (main_v12 : IVec S1024 32) (main_v19 : IVec S1024 32) (main_v21 : FVec F S1024 .f32) (main_v22 : FVec F S_ .f32) : IVec S_ 1 :=
  let main_v23 : FVec F S1024 .f32 := broadcastInDim S1024 ![] bcast_S_S1024 main_v22
  let main_v24 : FVec F S1024 .f32 := mulf main_v21 main_v23
  let main_v25 : FVec F S1024 .f32 := fn_round (F := F) main_v24
  let main_v26 : IVec S1024 32 := fptosi 32 main_v25
  let main_v27 : FVec F S1024x1 .f32 := (extractStridedSlice S1024x1 ![0, 4] · slices_S1024x5_S1024x1_0_4) main_v0
  let main_v28 : FVec F S1024 .f32 := shapeCast S1024 main_v27 shapeCasts_S1024x1_S1024
  let main_v29 : FVec F S_ .f32 := id main_v2
  let main_v30 : FVec F S1024 .f32 := broadcastInDim S1024 ![] bcast_S_S1024 main_v29
  let main_v31 : FVec F S1024 .f32 := mulf main_v28 main_v30
  let main_v32 : FVec F S1024 .f32 := fn_round (F := F) main_v31
  let main_v33 : IVec S1024 32 := fptosi 32 main_v32
  let main_v34 : IVec S1024 32 := subi main_v33 main_v19
  let main_c : IVec S_ 32 := constantI S_ 32 1#32
  let main_v35 : IVec S1024 32 := broadcastInDim S1024 ![] bcast_S_S1024 main_c
  let main_v36 : IVec S1024 32 := addi main_v34 main_v35
  let main_c_0 : IVec S_ 32 := constantI S_ 32 1#32
  let main_v37 : IVec S1024 32 := broadcastInDim S1024 ![] bcast_S_S1024 main_c_0
  let main_v38 : IVec S1024 32 := maxsi main_v36 main_v37
  let main_v39 : FVec F S1024 .f32 := sitofp .f32 main_v38
  let main_cst_1 : FVec F S_ .f32 := constant S_ .f32 0x40E00000#32
  let main_v40 : FVec F S1024 .f32 := broadcastInDim S1024 ![] bcast_S_S1024 main_cst_1
  let main_v41 : FVec F S1024 .f32 := Host.divf main_v39 main_v40
  let main_v42 : IVec S1024 32 := subi main_v26 main_v12
  let main_c_2 : IVec S_ 32 := constantI S_ 32 1#32
  fn_part2 (F := F) main_arg1 main_v5 main_v12 main_v19 main_v26 main_v33 main_v41 main_v42 main_c_2

def fn {F : FTy → Type} [FloatOps F] (main_arg0 : FVec F S1024x13 .f32) (main_arg1 : FVec F S2x256x200x200 .f32) (main_arg2 : IVec S_ 32) : IVec S_ 1 :=
  let main_v0 : FVec F S1024x5 .f32 := (extractStridedSlice S1024x5 ![0, 0] · slices_S1024x13_S1024x5_0_0) main_arg0
  let main_v1 : FVec F S_ .f32 := sitofp .f32 main_arg2
  let main_cst : FVec F S_ .f32 := constant S_ .f32 0x3F800000#32
  let main_v2 : FVec F S_ .f32 := Host.divf main_cst main_v1
  let main_v3 : FVec F S1024x1 .f32 := (extractStridedSlice S1024x1 ![0, 0] · slices_S1024x5_S1024x1_0_0) main_v0
  let main_v4 : FVec F S1024 .f32 := shapeCast S1024 main_v3 shapeCasts_S1024x1_S1024
  let main_v5 : IVec S1024 32 := fptosi 32 main_v4
  let main_v6 : FVec F S1024x1 .f32 := (extractStridedSlice S1024x1 ![0, 1] · slices_S1024x5_S1024x1_0_1) main_v0
  let main_v7 : FVec F S1024 .f32 := shapeCast S1024 main_v6 shapeCasts_S1024x1_S1024
  let main_v8 : FVec F S_ .f32 := id main_v2
  let main_v9 : FVec F S1024 .f32 := broadcastInDim S1024 ![] bcast_S_S1024 main_v8
  let main_v10 : FVec F S1024 .f32 := mulf main_v7 main_v9
  let main_v11 : FVec F S1024 .f32 := fn_round (F := F) main_v10
  let main_v12 : IVec S1024 32 := fptosi 32 main_v11
  let main_v13 : FVec F S1024x1 .f32 := (extractStridedSlice S1024x1 ![0, 2] · slices_S1024x5_S1024x1_0_2) main_v0
  let main_v14 : FVec F S1024 .f32 := shapeCast S1024 main_v13 shapeCasts_S1024x1_S1024
  let main_v15 : FVec F S_ .f32 := id main_v2
  let main_v16 : FVec F S1024 .f32 := broadcastInDim S1024 ![] bcast_S_S1024 main_v15
  let main_v17 : FVec F S1024 .f32 := mulf main_v14 main_v16
  let main_v18 : FVec F S1024 .f32 := fn_round (F := F) main_v17
  let main_v19 : IVec S1024 32 := fptosi 32 main_v18
  let main_v20 : FVec F S1024x1 .f32 := (extractStridedSlice S1024x1 ![0, 3] · slices_S1024x5_S1024x1_0_3) main_v0
  let main_v21 : FVec F S1024 .f32 := shapeCast S1024 main_v20 shapeCasts_S1024x1_S1024
  let main_v22 : FVec F S_ .f32 := id main_v2
  fn_part1 (F := F) main_arg1 main_v0 main_v2 main_v5 main_v12 main_v19 main_v21 main_v22
-- ==== Kernel.lean ====
abbrev S1024x13 : Shape := ⟨2, ![1024, 13]⟩
abbrev S2x256x200x200 : Shape := ⟨4, ![2, 256, 200, 200]⟩
abbrev S_ : Shape := ⟨0, ![]⟩
abbrev S1024x5 : Shape := ⟨2, ![1024, 5]⟩
abbrev S1024x1 : Shape := ⟨2, ![1024, 1]⟩
abbrev S1024 : Shape := ⟨1, ![1024]⟩
abbrev S7 : Shape := ⟨1, ![7]⟩
abbrev S1x7 : Shape := ⟨2, ![1, 7]⟩
abbrev S1024x7 : Shape := ⟨2, ![1024, 7]⟩
abbrev S1024x7x1 : Shape := ⟨3, ![1024, 7, 1]⟩
abbrev S1024x7x4 : Shape := ⟨3, ![1024, 7, 4]⟩
abbrev S1024x28 : Shape := ⟨2, ![1024, 28]⟩
abbrev S1024x7x3 : Shape := ⟨3, ![1024, 7, 3]⟩
abbrev S1024x21 : Shape := ⟨2, ![1024, 21]⟩
abbrev S1024x14 : Shape := ⟨2, ![1024, 14]⟩
abbrev S1024x65 : Shape := ⟨2, ![1024, 65]⟩
abbrev S2x200x200x256 : Shape := ⟨4, ![2, 200, 200, 256]⟩
abbrev S400x200x256 : Shape := ⟨3, ![400, 200, 256]⟩
abbrev S1024x256x49 : Shape := ⟨3, ![1024, 256, 49]⟩
abbrev S32x256x49 : Shape := ⟨3, ![32, 256, 49]⟩
abbrev S64x14x24x256 : Shape := ⟨4, ![64, 14, 24, 256]⟩
abbrev S32x14x7x256 : Shape := ⟨4, ![32, 14, 7, 256]⟩
abbrev S32x49x256 : Shape := ⟨3, ![32, 49, 256]⟩
abbrev S64 : Shape := ⟨1, ![64]⟩
abbrev S1x1 : Shape := ⟨2, ![1, 1]⟩
abbrev S1 : Shape := ⟨1, ![1]⟩
abbrev S1x14x24x256 : Shape := ⟨4, ![1, 14, 24, 256]⟩
abbrev S14x24x256 : Shape := ⟨3, ![14, 24, 256]⟩
abbrev S14x1x256 : Shape := ⟨3, ![14, 1, 256]⟩
abbrev S1x14x1x256 : Shape := ⟨4, ![1, 14, 1, 256]⟩
abbrev S3x1x1 : Shape := ⟨3, ![3, 1, 1]⟩
abbrev S1x3x7x256 : Shape := ⟨4, ![1, 3, 7, 256]⟩
abbrev S3x7x256 : Shape := ⟨3, ![3, 7, 256]⟩
abbrev S7x256 : Shape := ⟨2, ![7, 256]⟩
abbrev S1x7x256 : Shape := ⟨3, ![1, 7, 256]⟩
abbrev S1x49x256 : Shape := ⟨3, ![1, 49, 256]⟩
abbrev S49x256 : Shape := ⟨2, ![49, 256]⟩
abbrev S256x49 : Shape := ⟨2, ![256, 49]⟩
abbrev S1x256x49 : Shape := ⟨3, ![1, 256, 49]⟩

abbrev nBuf : Space → Nat
  | .hbm => 224
  | .vmem => 5
  | .smem => 1
  | _ => 0

abbrev hbmTy0_0 (i : Nat) : BufTy := match i % 128 with
  | 0 => ⟨S1024x13, .f32⟩
  | 1 => ⟨S2x256x200x200, .f32⟩
  | 2 => ⟨S_, .i32⟩
  | 3 => ⟨S_, .f32⟩
  | 4 => ⟨S_, .f32⟩
  | 5 => ⟨S_, .f32⟩
  | 6 => ⟨S1024x5, .f32⟩
  | 7 => ⟨S1024x1, .f32⟩
  | 8 => ⟨S1024, .f32⟩
  | 9 => ⟨S1024, .i32⟩
  | 10 => ⟨S1024x1, .f32⟩
  | 11 => ⟨S1024, .f32⟩
  | 12 => ⟨S_, .f32⟩
  | 13 => ⟨S1024, .f32⟩
  | 14 => ⟨S1024, .f32⟩
  | 15 => ⟨S1024, .f32⟩
  | 16 => ⟨S1024, .i32⟩
  | 17 => ⟨S1024x1, .f32⟩
  | 18 => ⟨S1024, .f32⟩
  | 19 => ⟨S_, .f32⟩
  | 20 => ⟨S1024, .f32⟩
  | 21 => ⟨S1024, .f32⟩
  | 22 => ⟨S1024, .f32⟩
  | 23 => ⟨S1024, .i32⟩
  | 24 => ⟨S1024x1, .f32⟩
  | 25 => ⟨S1024, .f32⟩
  | 26 => ⟨S_, .f32⟩
  | 27 => ⟨S1024, .f32⟩
  | 28 => ⟨S1024, .f32⟩
  | 29 => ⟨S1024, .f32⟩
  | 30 => ⟨S1024, .i32⟩
  | 31 => ⟨S1024x1, .f32⟩
  | 32 => ⟨S1024, .f32⟩
  | 33 => ⟨S_, .f32⟩
  | 34 => ⟨S1024, .f32⟩
  | 35 => ⟨S1024, .f32⟩
  | 36 => ⟨S1024, .f32⟩
  | 37 => ⟨S1024, .i32⟩
  | 38 => ⟨S1024, .i32⟩
  | 39 => ⟨S_, .i32⟩
  | 40 => ⟨S1024, .i32⟩
  | 41 => ⟨S1024, .i32⟩
  | 42 => ⟨S_, .i32⟩
  | 43 => ⟨S1024, .i32⟩
  | 44 => ⟨S1024, .i32⟩
  | 45 => ⟨S1024, .i32⟩
  | 46 => ⟨S_, .i32⟩
  | 47 => ⟨S1024, .i32⟩
  | 48 => ⟨S1024, .i32⟩
  | 49 => ⟨S_, .i32⟩
  | 50 => ⟨S1024, .i32⟩
  | 51 => ⟨S1024, .i32⟩
  | 52 => ⟨S1024, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | 60 => ⟨S7, .f32⟩
  | 61 => ⟨S1x7, .f32⟩
  | 62 => ⟨S1024x1, .f32⟩
  | 63 => ⟨S1024x7, .f32⟩
  | 64 => ⟨S1024x7, .f32⟩
  | 65 => ⟨S1024x7, .f32⟩
  | 66 => ⟨S1024x7, .f32⟩
  | 67 => ⟨S1024x7, .i32⟩
  | 68 => ⟨S1024x1, .i32⟩
  | 69 => ⟨S1024x7, .i32⟩
  | 70 => ⟨S1024x7, .i32⟩
  | 71 => ⟨S_, .i32⟩
  | 72 => ⟨S_, .i32⟩
  | 73 => ⟨S_, .i32⟩
  | 74 => ⟨S1024x7, .i32⟩
  | 75 => ⟨S1024x7, .i32⟩
  | 76 => ⟨S_, .i32⟩
  | 77 => ⟨S1024x7, .i32⟩
  | 78 => ⟨S1024x7, .i32⟩
  | 79 => ⟨S1x7, .f32⟩
  | 80 => ⟨S_, .f32⟩
  | 81 => ⟨S1x7, .f32⟩
  | 82 => ⟨S1x7, .f32⟩
  | 83 => ⟨S1024x1, .f32⟩
  | 84 => ⟨S1024x7, .f32⟩
  | 85 => ⟨S1024x7, .f32⟩
  | 86 => ⟨S1024x7, .f32⟩
  | 87 => ⟨S1024x7, .f32⟩
  | 88 => ⟨S1024x7, .i32⟩
  | 89 => ⟨S1024x1, .i32⟩
  | 90 => ⟨S1024x7, .i32⟩
  | 91 => ⟨S1024x7, .i32⟩
  | 92 => ⟨S_, .i32⟩
  | 93 => ⟨S_, .i32⟩
  | 94 => ⟨S_, .i32⟩
  | 95 => ⟨S1024x7, .i32⟩
  | 96 => ⟨S1024x7, .i32⟩
  | 97 => ⟨S_, .i32⟩
  | 98 => ⟨S1024x7, .i32⟩
  | 99 => ⟨S1024x7, .i32⟩
  | 100 => ⟨S1x7, .f32⟩
  | 101 => ⟨S1024x1, .f32⟩
  | 102 => ⟨S1024x7, .f32⟩
  | 103 => ⟨S1024x7, .f32⟩
  | 104 => ⟨S1024x7, .f32⟩
  | 105 => ⟨S1024x7, .f32⟩
  | 106 => ⟨S1024x7, .i32⟩
  | 107 => ⟨S1024x1, .i32⟩
  | 108 => ⟨S1024x7, .i32⟩
  | 109 => ⟨S1024x7, .i32⟩
  | 110 => ⟨S_, .i32⟩
  | 111 => ⟨S_, .i32⟩
  | 112 => ⟨S_, .i32⟩
  | 113 => ⟨S1024x7, .i32⟩
  | 114 => ⟨S1024x7, .i32⟩
  | 115 => ⟨S_, .i32⟩
  | 116 => ⟨S1024x7, .i32⟩
  | 117 => ⟨S1024x7, .i32⟩
  | 118 => ⟨S1x7, .f32⟩
  | 119 => ⟨S_, .f32⟩
  | 120 => ⟨S1x7, .f32⟩
  | 121 => ⟨S1x7, .f32⟩
  | 122 => ⟨S1024x1, .f32⟩
  | 123 => ⟨S1024x7, .f32⟩
  | 124 => ⟨S1024x7, .f32⟩
  | 125 => ⟨S1024x7, .f32⟩
  | 126 => ⟨S1024x7, .f32⟩
  | 127 => ⟨S1024x7, .i32⟩
  | _ => ⟨S1024x13, .f32⟩

abbrev hbmTy0_1 (i : Nat) : BufTy := match i % 128 with
  | 0 => ⟨S1024x1, .i32⟩
  | 1 => ⟨S1024x7, .i32⟩
  | 2 => ⟨S1024x7, .i32⟩
  | 3 => ⟨S_, .i32⟩
  | 4 => ⟨S_, .i32⟩
  | 5 => ⟨S_, .i32⟩
  | 6 => ⟨S1024x7, .i32⟩
  | 7 => ⟨S1024x7, .i32⟩
  | 8 => ⟨S_, .i32⟩
  | 9 => ⟨S1024x7, .i32⟩
  | 10 => ⟨S1024x7, .i32⟩
  | 11 => ⟨S_, .i32⟩
  | 12 => ⟨S1024, .i32⟩
  | 13 => ⟨S1024, .i32⟩
  | 14 => ⟨S_, .i32⟩
  | 15 => ⟨S1024, .i32⟩
  | 16 => ⟨S1024, .i32⟩
  | 17 => ⟨S_, .i32⟩
  | 18 => ⟨S_, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i1⟩
  | 25 => ⟨S1024, .i32⟩
  | 26 => ⟨S1024, .i32⟩
  | 27 => ⟨S_, .i32⟩
  | 28 => ⟨S1024, .i32⟩
  | 29 => ⟨S1024, .i1⟩
  | 30 => ⟨S1024, .i1⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i32⟩
  | 41 => ⟨S_, .i32⟩
  | 42 => ⟨S1024, .i32⟩
  | 43 => ⟨S1024, .i32⟩
  | 44 => ⟨S1024, .i32⟩
  | 45 => ⟨S1024x1, .i32⟩
  | 46 => ⟨S1024x7, .i32⟩
  | 47 => ⟨S1024x7, .i32⟩
  | 48 => ⟨S1024x1, .i32⟩
  | 49 => ⟨S1024x7, .i32⟩
  | 50 => ⟨S1024x7, .i32⟩
  | 51 => ⟨S1024x1, .i32⟩
  | 52 => ⟨S1024x7, .i32⟩
  | 53 => ⟨S1024x7, .i32⟩
  | 54 => ⟨S1024x1, .i32⟩
  | 55 => ⟨S1024x7, .i32⟩
  | 56 => ⟨S1024x7, .i32⟩
  | 57 => ⟨S_, .i32⟩
  | 58 => ⟨S1024x7, .i32⟩
  | 59 => ⟨S1024x7, .i32⟩
  | 60 => ⟨S_, .i32⟩
  | 61 => ⟨S1024x7, .i32⟩
  | 62 => ⟨S1024x7, .i32⟩
  | 63 => ⟨S_, .i32⟩
  | 64 => ⟨S1024x7, .i32⟩
  | 65 => ⟨S1024x7, .i32⟩
  | 66 => ⟨S_, .i32⟩
  | 67 => ⟨S1024x7, .i32⟩
  | 68 => ⟨S1024x7, .i32⟩
  | 69 => ⟨S_, .i32⟩
  | 70 => ⟨S1024x7, .i32⟩
  | 71 => ⟨S1024x7, .i32⟩
  | 72 => ⟨S1024x7, .i32⟩
  | 73 => ⟨S1024x7x1, .i32⟩
  | 74 => ⟨S1024x7x1, .i32⟩
  | 75 => ⟨S1024x7x1, .i32⟩
  | 76 => ⟨S1024x7x1, .i32⟩
  | 77 => ⟨S1024x7x4, .i32⟩
  | 78 => ⟨S1024x28, .i32⟩
  | 79 => ⟨S_, .i32⟩
  | 80 => ⟨S1024x7, .i32⟩
  | 81 => ⟨S1024x7, .i32⟩
  | 82 => ⟨S1024x7, .i32⟩
  | 83 => ⟨S1024x7, .i32⟩
  | 84 => ⟨S1024x7x1, .i32⟩
  | 85 => ⟨S1024x7x1, .i32⟩
  | 86 => ⟨S1024x7x1, .i32⟩
  | 87 => ⟨S1024x7x3, .i32⟩
  | 88 => ⟨S1024x21, .i32⟩
  | 89 => ⟨S1024x1, .i32⟩
  | 90 => ⟨S1024x1, .i32⟩
  | 91 => ⟨S_, .i32⟩
  | 92 => ⟨S1024x14, .i32⟩
  | 93 => ⟨S2x200x200x256, .f32⟩
  | 94 => ⟨S400x200x256, .f32⟩
  | 95 => ⟨S1024x256x49, .f32⟩
  | _ => ⟨S1024x13, .f32⟩

abbrev hbmTy (i : Nat) : BufTy := match i / 128 with
  | 0 => hbmTy0_0 i
  | 1 => hbmTy0_1 i
  | _ => ⟨S1024x13, .f32⟩

abbrev bufTy : (tb : Table) → Fin (tcTables nBuf tb) → BufTy
  | .hbm, ⟨i, _⟩ => hbmTy i
  | .local _ .vmem, ⟨0, _⟩ => ⟨S32x256x49, .f32⟩
  | .local _ .vmem, ⟨1, _⟩ => ⟨S32x256x49, .f32⟩
  | .local _ .vmem, ⟨2, _⟩ => ⟨S64x14x24x256, .f32⟩
  | .local _ .vmem, ⟨3, _⟩ => ⟨S32x14x7x256, .f32⟩
  | .local _ .vmem, ⟨4, _⟩ => ⟨S32x49x256, .f32⟩
  | .local _ .smem, ⟨0, _⟩ => ⟨S1024x65, .i32⟩
  | _, _ => ⟨S1024x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_c : Ref sig .tc := ⟨.hbm, 39, rfl⟩
abbrev main_v35 : Ref sig .tc := ⟨.hbm, 40, rfl⟩
abbrev main_v36 : Ref sig .tc := ⟨.hbm, 41, rfl⟩
abbrev main_c_0 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c_1 : Ref sig .tc := ⟨.hbm, 46, rfl⟩
abbrev main_v40 : Ref sig .tc := ⟨.hbm, 47, rfl⟩
abbrev main_v41 : Ref sig .tc := ⟨.hbm, 48, rfl⟩
abbrev main_c_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_5 : Ref sig .tc := ⟨.hbm, 71, rfl⟩
abbrev main_c_6 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_8 : Ref sig .tc := ⟨.hbm, 92, rfl⟩
abbrev main_c_9 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_10 : Ref sig .tc := ⟨.hbm, 110, rfl⟩
abbrev main_c_11 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_v85 : Ref sig .tc := ⟨.hbm, 117, rfl⟩
abbrev main_v86 : Ref sig .tc := ⟨.hbm, 118, rfl⟩
abbrev main_cst_12 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_13 : Ref sig .tc := ⟨.hbm, 131, rfl⟩
abbrev main_c_14 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v98 : Ref sig .tc := ⟨.hbm, 138, rfl⟩
abbrev main_c_15 : Ref sig .tc := ⟨.hbm, 139, rfl⟩
abbrev main_v99 : Ref sig .tc := ⟨.hbm, 140, rfl⟩
abbrev main_v100 : Ref sig .tc := ⟨.hbm, 141, rfl⟩
abbrev main_c_16 : Ref sig .tc := ⟨.hbm, 142, rfl⟩
abbrev main_v101 : Ref sig .tc := ⟨.hbm, 143, rfl⟩
abbrev main_v102 : Ref sig .tc := ⟨.hbm, 144, rfl⟩
abbrev main_c_17 : Ref sig .tc := ⟨.hbm, 145, rfl⟩
abbrev main_call8_v0 : Ref sig .tc := ⟨.hbm, 146, rfl⟩
abbrev main_call8_v1 : Ref sig .tc := ⟨.hbm, 147, rfl⟩
abbrev main_call8_v2 : Ref sig .tc := ⟨.hbm, 148, rfl⟩
abbrev main_call8_v3 : Ref sig .tc := ⟨.hbm, 149, rfl⟩
abbrev main_call8_v4 : Ref sig .tc := ⟨.hbm, 150, rfl⟩
abbrev main_call8_v5 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_c : Ref sig .tc := ⟨.hbm, 155, rfl⟩
abbrev main_call8_v9 : Ref sig .tc := ⟨.hbm, 156, rfl⟩
abbrev main_call8_v10 : Ref sig .tc := ⟨.hbm, 157, rfl⟩
abbrev main_call8_v11 : Ref sig .tc := ⟨.hbm, 158, rfl⟩
abbrev main_call8_c_0 : Ref sig .tc := ⟨.hbm, 159, rfl⟩
abbrev main_call8_v12 : Ref sig .tc := ⟨.hbm, 160, rfl⟩
abbrev main_call8_v13 : Ref sig .tc := ⟨.hbm, 161, rfl⟩
abbrev main_v103 : Ref sig .tc := ⟨.hbm, 162, rfl⟩
abbrev main_c_18 : Ref sig .tc := ⟨.hbm, 163, rfl⟩
abbrev main_v104 : Ref sig .tc := ⟨.hbm, 164, rfl⟩
abbrev main_v105 : Ref sig .tc := ⟨.hbm, 165, rfl⟩
abbrev main_c_19 : Ref sig .tc := ⟨.hbm, 166, rfl⟩
abbrev main_v106 : Ref sig .tc := ⟨.hbm, 167, rfl⟩
abbrev main_v107 : Ref sig .tc := ⟨.hbm, 168, rfl⟩
abbrev main_c_20 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_c_21 : Ref sig .tc := ⟨.hbm, 185, rfl⟩
abbrev main_v123 : Ref sig .tc := ⟨.hbm, 186, rfl⟩
abbrev main_v124 : Ref sig .tc := ⟨.hbm, 187, rfl⟩
abbrev main_c_22 : Ref sig .tc := ⟨.hbm, 188, rfl⟩
abbrev main_v125 : Ref sig .tc := ⟨.hbm, 189, rfl⟩
abbrev main_v126 : Ref sig .tc := ⟨.hbm, 190, rfl⟩
abbrev main_c_23 : Ref sig .tc := ⟨.hbm, 191, rfl⟩
abbrev main_v127 : Ref sig .tc := ⟨.hbm, 192, rfl⟩
abbrev main_v128 : Ref sig .tc := ⟨.hbm, 193, rfl⟩
abbrev main_c_24 : Ref sig .tc := ⟨.hbm, 194, rfl⟩
abbrev main_v129 : Ref sig .tc := ⟨.hbm, 195, rfl⟩
abbrev main_v130 : Ref sig .tc := ⟨.hbm, 196, rfl⟩
abbrev main_c_25 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_c_26 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_c_27 : Ref sig .tc := ⟨.hbm, 219, rfl⟩
abbrev main_v151 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v152 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v152.idx], fun | 0 => main_v152.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_mult1 (v12907 : BitVec 32) : BitVec 32 :=
  v12907

def k0_off1 (v12906 : BitVec 32) (v12907 : BitVec 32) : Fin 3 → Nat :=
  let v12908 : BitVec 32 := v12907
  let c0_i32_6990 : BitVec 32 := 0#32
  ![v12906.toNat, v12908.toNat, 0]

def k0_chk1 (i : grid0.Coords) (v12906 : BitVec 32) (v12907 : BitVec 32) : Prop :=
  (∀ (k0_h1 : k0_cond1 i = 1#1), 8 ∣ (k0_mult1 v12907).toNat) ∧
  (∀ (k0_h1 : k0_cond1 i = 1#1), ∀ a, (k0_off1 v12906 v12907) a + S14x24x256.size a ≤ S400x200x256.size a)
theorem k0_mult1_dvd : ∀ (i : grid0.Coords) (v12906 : BitVec 32) (v12907 : BitVec 32) (k0_hw1 : k0_chk1 i v12906 v12907), ∀ (k0_h1 : k0_cond1 i = 1#1), 8 ∣ (k0_mult1 v12907).toNat := fun i v12906 v12907 k0_hw1 k0_h1 => k0_hw1.1 k0_h1
theorem k0_off1_inb : ∀ (i : grid0.Coords) (v12906 : BitVec 32) (v12907 : BitVec 32) (k0_hw1 : k0_chk1 i v12906 v12907), ∀ (k0_h1 : k0_cond1 i = 1#1), ∀ a, (k0_off1 v12906 v12907) a + S14x24x256.size a ≤ S400x200x256.size a := fun i v12906 v12907 k0_hw1 k0_h1 => k0_hw1.2 k0_h1

def k0_mult2 (v12915 : BitVec 32) : BitVec 32 :=
  v12915

def k0_off2 (v12914 : BitVec 32) (v12915 : BitVec 32) : Fin 3 → Nat :=
  let v12916 : BitVec 32 := v12915
  let c0_i32_7000 : BitVec 32 := 0#32
  ![v12914.toNat, v12916.toNat, 0]

def k0_chk2 (i : grid0.Coords) (v12914 : BitVec 32) (v12915 : BitVec 32) : Prop :=
  (∀ (k0_h1 : k0_cond1 i = 1#1), 8 ∣ (k0_mult2 v12915).toNat) ∧
  (∀ (k0_h1 : k0_cond1 i = 1#1), ∀ a, (k0_off2 v12914 v12915) a + S14x24x256.size a ≤ S400x200x256.size a)
theorem k0_mult2_dvd : ∀ (i : grid0.Coords) (v12914 : BitVec 32) (v12915 : BitVec 32) (k0_hw2 : k0_chk2 i v12914 v12915), ∀ (k0_h1 : k0_cond1 i = 1#1), 8 ∣ (k0_mult2 v12915).toNat := fun i v12914 v12915 k0_hw2 k0_h1 => k0_hw2.1 k0_h1
theorem k0_off2_inb : ∀ (i : grid0.Coords) (v12914 : BitVec 32) (v12915 : BitVec 32) (k0_hw2 : k0_chk2 i v12914 v12915), ∀ (k0_h1 : k0_cond1 i = 1#1), ∀ a, (k0_off2 v12914 v12915) a + S14x24x256.size a ≤ S400x200x256.size a := fun i v12914 v12915 k0_hw2 k0_h1 => k0_hw2.2 k0_h1

def k0_mult3 (v12923 : BitVec 32) : BitVec 32 :=
  v12923

def k0_off3 (v12922 : BitVec 32) (v12923 : BitVec 32) : Fin 3 → Nat :=
  let v12924 : BitVec 32 := v12923
  let c0_i32_7010 : BitVec 32 := 0#32
  ![v12922.toNat, v12924.toNat, 0]

def k0_chk3 (i : grid0.Coords) (v12922 : BitVec 32) (v12923 : BitVec 32) : Prop :=
  (∀ (k0_h1 : k0_cond1 i = 1#1), 8 ∣ (k0_mult3 v12923).toNat) ∧
  (∀ (k0_h1 : k0_cond1 i = 1#1), ∀ a, (k0_off3 v12922 v12923) a + S14x24x256.size a ≤ S400x200x256.size a)
theorem k0_mult3_dvd : ∀ (i : grid0.Coords) (v12922 : BitVec 32) (v12923 : BitVec 32) (k0_hw3 : k0_chk3 i v12922 v12923), ∀ (k0_h1 : k0_cond1 i = 1#1), 8 ∣ (k0_mult3 v12923).toNat := fun i v12922 v12923 k0_hw3 k0_h1 => k0_hw3.1 k0_h1
theorem k0_off3_inb : ∀ (i : grid0.Coords) (v12922 : BitVec 32) (v12923 : BitVec 32) (k0_hw3 : k0_chk3 i v12922 v12923), ∀ (k0_h1 : k0_cond1 i = 1#1), ∀ a, (k0_off3 v12922 v12923) a + S14x24x256.size a ≤ S400x200x256.size a := fun i v12922 v12923 k0_hw3 k0_h1 => k0_hw3.2 k0_h1

def k0_mult4 (v12931 : BitVec 32) : BitVec 32 :=
  v12931

def k0_off4 (v12930 : BitVec 32) (v12931 : BitVec 32) : Fin 3 → Nat :=
  let v12932 : BitVec 32 := v12931
  let c0_i32_7020 : BitVec 32 := 0#32
  ![v12930.toNat, v12932.toNat, 0]

def k0_chk4 (i : grid0.Coords) (v12930 : BitVec 32) (v12931 : BitVec 32) : Prop :=
  (∀ (k0_h1 : k0_cond1 i = 1#1), 8 ∣ (k0_mult4 v12931).toNat) ∧
  (∀ (k0_h1 : k0_cond1 i = 1#1), ∀ a, (k0_off4 v12930 v12931) a + S14x24x256.size a ≤ S400x200x256.size a)
theorem k0_mult4_dvd : ∀ (i : grid0.Coords) (v12930 : BitVec 32) (v12931 : BitVec 32) (k0_hw4 : k0_chk4 i v12930 v12931), ∀ (k0_h1 : k0_cond1 i = 1#1), 8 ∣ (k0_mult4 v12931).toNat := fun i v12930 v12931 k0_hw4 k0_h1 => k0_hw4.1 k0_h1
theorem k0_off4_inb : ∀ (i : grid0.Coords) (v12930 : BitVec 32) (v12931 : BitVec 32) (k0_hw4 : k0_chk4 i v12930 v12931), ∀ (k0_h1 : k0_cond1 i = 1#1), ∀ a, (k0_off4 v12930 v12931) a + S14x24x256.size a ≤ S400x200x256.size a := fun i v12930 v12931 k0_hw4 k0_h1 => k0_hw4.2 k0_h1

def k0_mult5 (v12939 : BitVec 32) : BitVec 32 :=
  v12939

def k0_off5 (v12938 : BitVec 32) (v12939 : BitVec 32) : Fin 3 → Nat :=
  let v12940 : BitVec 32 := v12939
  let c0_i32_7030 : BitVec 32 := 0#32
  ![v12938.toNat, v12940.toNat, 0]

def k0_chk5 (i : grid0.Coords) (v12938 : BitVec 32) (v12939 : BitVec 32) : Prop :=
  (∀ (k0_h1 : k0_cond1 i = 1#1), 8 ∣ (k0_mult5 v12939).toNat) ∧
  (∀ (k0_h1 : k0_cond1 i = 1#1), ∀ a, (k0_off5 v12938 v12939) a + S14x24x256.size a ≤ S400x200x256.size a)
theorem k0_mult5_dvd : ∀ (i : grid0.Coords) (v12938 : BitVec 32) (v12939 : BitVec 32) (k0_hw5 : k0_chk5 i v12938 v12939), ∀ (k0_h1 : k0_cond1 i = 1#1), 8 ∣ (k0_mult5 v12939).toNat := fun i v12938 v12939 k0_hw5 k0_h1 => k0_hw5.1 k0_h1
theorem k0_off5_inb : ∀ (i : grid0.Coords) (v12938 : BitVec 32) (v12939 : BitVec 32) (k0_hw5 : k0_chk5 i v12938 v12939), ∀ (k0_h1 : k0_cond1 i = 1#1), ∀ a, (k0_off5 v12938 v12939) a + S14x24x256.size a ≤ S400x200x256.size a := fun i v12938 v12939 k0_hw5 k0_h1 => k0_hw5.2 k0_h1

def k0_mult6 (v12947 : BitVec 32) : BitVec 32 :=
  v12947

def k0_off6 (v12946 : BitVec 32) (v12947 : BitVec 32) : Fin 3 → Nat :=
  let v12948 : BitVec 32 := v12947
  let c0_i32_7040 : BitVec 32 := 0#32
  ![v12946.toNat, v12948.toNat, 0]

def k0_chk6 (i : grid0.Coords) (v12946 : BitVec 32) (v12947 : BitVec 32) : Prop :=
  (∀ (k0_h1 : k0_cond1 i = 1#1), 8 ∣ (k0_mult6 v12947).toNat) ∧
  (∀ (k0_h1 : k0_cond1 i = 1#1), ∀ a, (k0_off6 v12946 v12947) a + S14x24x256.size a ≤ S400x200x256.size a)
theorem k0_mult6_dvd : ∀ (i : grid0.Coords) (v12946 : BitVec 32) (v12947 : BitVec 32) (k0_hw6 : k0_chk6 i v12946 v12947), ∀ (k0_h1 : k0_cond1 i = 1#1), 8 ∣ (k0_mult6 v12947).toNat := fun i v12946 v12947 k0_hw6 k0_h1 => k0_hw6.1 k0_h1
theorem k0_off6_inb : ∀ (i : grid0.Coords) (v12946 : BitVec 32) (v12947 : BitVec 32) (k0_hw6 : k0_chk6 i v12946 v12947), ∀ (k0_h1 : k0_cond1 i = 1#1), ∀ a, (k0_off6 v12946 v12947) a + S14x24x256.size a ≤ S400x200x256.size a := fun i v12946 v12947 k0_hw6 k0_h1 => k0_hw6.2 k0_h1

def k0_mult7 (v12955 : BitVec 32) : BitVec 32 :=
  v12955

def k0_off7 (v12954 : BitVec 32) (v12955 : BitVec 32) : Fin 3 → Nat :=
  let v12956 : BitVec 32 := v12955
  let c0_i32_7050 : BitVec 32 := 0#32
  ![v12954.toNat, v12956.toNat, 0]

def k0_chk7 (i : grid0.Coords) (v12954 : BitVec 32) (v12955 : BitVec 32) : Prop :=
  (∀ (k0_h1 : k0_cond1 i = 1#1), 8 ∣ (k0_mult7 v12955).toNat) ∧
  (∀ (k0_h1 : k0_cond1 i = 1#1), ∀ a, (k0_off7 v12954 v12955) a + S14x24x256.size a ≤ S400x200x256.size a)
theorem k0_mult7_dvd : ∀ (i : grid0.Coords) (v12954 : BitVec 32) (v12955 : BitVec 32) (k0_hw7 : k0_chk7 i v12954 v12955), ∀ (k0_h1 : k0_cond1 i = 1#1), 8 ∣ (k0_mult7 v12955).toNat := fun i v12954 v12955 k0_hw7 k0_h1 => k0_hw7.1 k0_h1
theorem k0_off7_inb : ∀ (i : grid0.Coords) (v12954 : BitVec 32) (v12955 : BitVec 32) (k0_hw7 : k0_chk7 i v12954 v12955), ∀ (k0_h1 : k0_cond1 i = 1#1), ∀ a, (k0_off7 v12954 v12955) a + S14x24x256.size a ≤ S400x200x256.size a := fun i v12954 v12955 k0_hw7 k0_h1 => k0_hw7.2 k0_h1

def k0_mult8 (v12963 : BitVec 32) : BitVec 32 :=
  v12963

def k0_off8 (v12962 : BitVec 32) (v12963 : BitVec 32) : Fin 3 → Nat :=
  let v12964 : BitVec 32 := v12963
  let c0_i32_7060 : BitVec 32 := 0#32
  ![v12962.toNat, v12964.toNat, 0]

def k0_chk8 (i : grid0.Coords) (v12962 : BitVec 32) (v12963 : BitVec 32) : Prop :=
  (∀ (k0_h1 : k0_cond1 i = 1#1), 8 ∣ (k0_mult8 v12963).toNat) ∧
  (∀ (k0_h1 : k0_cond1 i = 1#1), ∀ a, (k0_off8 v12962 v12963) a + S14x24x256.size a ≤ S400x200x256.size a)
theorem k0_mult8_dvd : ∀ (i : grid0.Coords) (v12962 : BitVec 32) (v12963 : BitVec 32) (k0_hw8 : k0_chk8 i v12962 v12963), ∀ (k0_h1 : k0_cond1 i = 1#1), 8 ∣ (k0_mult8 v12963).toNat := fun i v12962 v12963 k0_hw8 k0_h1 => k0_hw8.1 k0_h1
theorem k0_off8_inb : ∀ (i : grid0.Coords) (v12962 : BitVec 32) (v12963 : BitVec 32) (k0_hw8 : k0_chk8 i v12962 v12963), ∀ (k0_h1 : k0_cond1 i = 1#1), ∀ a, (k0_off8 v12962 v12963) a + S14x24x256.size a ≤ S400x200x256.size a := fun i v12962 v12963 k0_hw8 k0_h1 => k0_hw8.2 k0_h1

def k0_mult9 (v12971 : BitVec 32) : BitVec 32 :=
  v12971

def k0_off9 (v12970 : BitVec 32) (v12971 : BitVec 32) : Fin 3 → Nat :=
  let v12972 : BitVec 32 := v12971
  let c0_i32_7070 : BitVec 32 := 0#32
  ![v12970.toNat, v12972.toNat, 0]

def k0_chk9 (i : grid0.Coords) (v12970 : BitVec 32) (v12971 : BitVec 32) : Prop :=
  (∀ (k0_h1 : k0_cond1 i = 1#1), 8 ∣ (k0_mult9 v12971).toNat) ∧
  (∀ (k0_h1 : k0_cond1 i = 1#1), ∀ a, (k0_off9 v12970 v12971) a + S14x24x256.size a ≤ S400x200x256.size a)
theorem k0_mult9_dvd : ∀ (i : grid0.Coords) (v12970 : BitVec 32) (v12971 : BitVec 32) (k0_hw9 : k0_chk9 i v12970 v12971), ∀ (k0_h1 : k0_cond1 i = 1#1), 8 ∣ (k0_mult9 v12971).toNat := fun i v12970 v12971 k0_hw9 k0_h1 => k0_hw9.1 k0_h1
theorem k0_off9_inb : ∀ (i : grid0.Coords) (v12970 : BitVec 32) (v12971 : BitVec 32) (k0_hw9 : k0_chk9 i v12970 v12971), ∀ (k0_h1 : k0_cond1 i = 1#1), ∀ a, (k0_off9 v12970 v12971) a + S14x24x256.size a ≤ S400x200x256.size a := fun i v12970 v12971 k0_hw9 k0_h1 => k0_hw9.2 k0_h1

def k0_mult10 (v12979 : BitVec 32) : BitVec 32 :=
  v12979

def k0_off10 (v12978 : BitVec 32) (v12979 : BitVec 32) : Fin 3 → Nat :=
  let v12980 : BitVec 32 := v12979
  let c0_i32_7080 : BitVec 32 := 0#32
  ![v12978.toNat, v12980.toNat, 0]

def k0_chk10 (i : grid0.Coords) (v12978 : BitVec 32) (v12979 : BitVec 32) : Prop :=
  (∀ (k0_h1 : k0_cond1 i = 1#1), 8 ∣ (k0_mult10 v12979).toNat) ∧
  (∀ (k0_h1 : k0_cond1 i = 1#1), ∀ a, (k0_off10 v12978 v12979) a + S14x24x256.size a ≤ S400x200x256.size a)
theorem k0_mult10_dvd : ∀ (i : grid0.Coords) (v12978 : BitVec 32) (v12979 : BitVec 32) (k0_hw10 : k0_chk10 i v12978 v12979), ∀ (k0_h1 : k0_cond1 i = 1#1), 8 ∣ (k0_mult10 v12979).toNat := fun i v12978 v12979 k0_hw10 k0_h1 => k0_hw10.1 k0_h1
theorem k0_off10_inb : ∀ (i : grid0.Coords) (v12978 : BitVec 32) (v12979 : BitVec 32) (k0_hw10 : k0_chk10 i v12978 v12979), ∀ (k0_h1 : k0_cond1 i = 1#1), ∀ a, (k0_off10 v12978 v12979) a + S14x24x256.size a ≤ S400x200x256.size a := fun i v12978 v12979 k0_hw10 k0_h1 => k0_hw10.2 k0_h1

def k0_mult11 (v12987 : BitVec 32) : BitVec 32 :=
  v12987

def k0_off11 (v12986 : BitVec 32) (v12987 : BitVec 32) : Fin 3 → Nat :=
  let v12988 : BitVec 32 := v12987
  let c0_i32_7090 : BitVec 32 := 0#32
  ![v12986.toNat, v12988.toNat, 0]

def k0_chk11 (i : grid0.Coords) (v12986 : BitVec 32) (v12987 : BitVec 32) : Prop :=
  (∀ (k0_h1 : k0_cond1 i = 1#1), 8 ∣ (k0_mult11 v12987).toNat) ∧
  (∀ (k0_h1 : k0_cond1 i = 1#1), ∀ a, (k0_off11 v12986 v12987) a + S14x24x256.size a ≤ S400x200x256.size a)
theorem k0_mult11_dvd : ∀ (i : grid0.Coords) (v12986 : BitVec 32) (v12987 : BitVec 32) (k0_hw11 : k0_chk11 i v12986 v12987), ∀ (k0_h1 : k0_cond1 i = 1#1), 8 ∣ (k0_mult11 v12987).toNat := fun i v12986 v12987 k0_hw11 k0_h1 => k0_hw11.1 k0_h1
theorem k0_off11_inb : ∀ (i : grid0.Coords) (v12986 : BitVec 32) (v12987 : BitVec 32) (k0_hw11 : k0_chk11 i v12986 v12987), ∀ (k0_h1 : k0_cond1 i = 1#1), ∀ a, (k0_off11 v12986 v12987) a + S14x24x256.size a ≤ S400x200x256.size a := fun i v12986 v12987 k0_hw11 k0_h1 => k0_hw11.2 k0_h1

def k0_mult12 (v12995 : BitVec 32) : BitVec 32 :=
  v12995

def k0_off12 (v12994 : BitVec 32) (v12995 : BitVec 32) : Fin 3 → Nat :=
  let v12996 : BitVec 32 := v12995
  let c0_i32_7100 : BitVec 32 := 0#32
  ![v12994.toNat, v12996.toNat, 0]

def k0_chk12 (i : grid0.Coords) (v12994 : BitVec 32) (v12995 : BitVec 32) : Prop :=
  (∀ (k0_h1 : k0_cond1 i = 1#1), 8 ∣ (k0_mult12 v12995).toNat) ∧
  (∀ (k0_h1 : k0_cond1 i = 1#1), ∀ a, (k0_off12 v12994 v12995) a + S14x24x256.size a ≤ S400x200x256.size a)
theorem k0_mult12_dvd : ∀ (i : grid0.Coords) (v12994 : BitVec 32) (v12995 : BitVec 32) (k0_hw12 : k0_chk12 i v12994 v12995), ∀ (k0_h1 : k0_cond1 i = 1#1), 8 ∣ (k0_mult12 v12995).toNat := fun i v12994 v12995 k0_hw12 k0_h1 => k0_hw12.1 k0_h1
theorem k0_off12_inb : ∀ (i : grid0.Coords) (v12994 : BitVec 32) (v12995 : BitVec 32) (k0_hw12 : k0_chk12 i v12994 v12995), ∀ (k0_h1 : k0_cond1 i = 1#1), ∀ a, (k0_off12 v12994 v12995) a + S14x24x256.size a ≤ S400x200x256.size a := fun i v12994 v12995 k0_hw12 k0_h1 => k0_hw12.2 k0_h1

def k0_mult13 (v13003 : BitVec 32) : BitVec 32 :=
  v13003

def k0_off13 (v13002 : BitVec 32) (v13003 : BitVec 32) : Fin 3 → Nat :=
  let v13004 : BitVec 32 := v13003
  let c0_i32_7110 : BitVec 32 := 0#32
  ![v13002.toNat, v13004.toNat, 0]

def k0_chk13 (i : grid0.Coords) (v13002 : BitVec 32) (v13003 : BitVec 32) : Prop :=
  (∀ (k0_h1 : k0_cond1 i = 1#1), 8 ∣ (k0_mult13 v13003).toNat) ∧
  (∀ (k0_h1 : k0_cond1 i = 1#1), ∀ a, (k0_off13 v13002 v13003) a + S14x24x256.size a ≤ S400x200x256.size a)
theorem k0_mult13_dvd : ∀ (i : grid0.Coords) (v13002 : BitVec 32) (v13003 : BitVec 32) (k0_hw13 : k0_chk13 i v13002 v13003), ∀ (k0_h1 : k0_cond1 i = 1#1), 8 ∣ (k0_mult13 v13003).toNat := fun i v13002 v13003 k0_hw13 k0_h1 => k0_hw13.1 k0_h1
theorem k0_off13_inb : ∀ (i : grid0.Coords) (v13002 : BitVec 32) (v13003 : BitVec 32) (k0_hw13 : k0_chk13 i v13002 v13003), ∀ (k0_h1 : k0_cond1 i = 1#1), ∀ a, (k0_off13 v13002 v13003) a + S14x24x256.size a ≤ S400x200x256.size a := fun i v13002 v13003 k0_hw13 k0_h1 => k0_hw13.2 k0_h1

def k0_mult14 (v13011 : BitVec 32) : BitVec 32 :=
  v13011

def k0_off14 (v13010 : BitVec 32) (v13011 : BitVec 32) : Fin 3 → Nat :=
  let v13012 : BitVec 32 := v13011
  let c0_i32_7120 : BitVec 32 := 0#32
  ![v13010.toNat, v13012.toNat, 0]

def k0_chk14 (i : grid0.Coords) (v13010 : BitVec 32) (v13011 : BitVec 32) : Prop :=
  (∀ (k0_h1 : k0_cond1 i = 1#1), 8 ∣ (k0_mult14 v13011).toNat) ∧
  (∀ (k0_h1 : k0_cond1 i = 1#1), ∀ a, (k0_off14 v13010 v13011) a + S14x24x256.size a ≤ S400x200x256.size a)
theorem k0_mult14_dvd : ∀ (i : grid0.Coords) (v13010 : BitVec 32) (v13011 : BitVec 32) (k0_hw14 : k0_chk14 i v13010 v13011), ∀ (k0_h1 : k0_cond1 i = 1#1), 8 ∣ (k0_mult14 v13011).toNat := fun i v13010 v13011 k0_hw14 k0_h1 => k0_hw14.1 k0_h1
theorem k0_off14_inb : ∀ (i : grid0.Coords) (v13010 : BitVec 32) (v13011 : BitVec 32) (k0_hw14 : k0_chk14 i v13010 v13011), ∀ (k0_h1 : k0_cond1 i = 1#1), ∀ a, (k0_off14 v13010 v13011) a + S14x24x256.size a ≤ S400x200x256.size a := fun i v13010 v13011 k0_hw14 k0_h1 => k0_hw14.2 k0_h1

def k0_mult15 (v13019 : BitVec 32) : BitVec 32 :=
  v13019

def k0_off15 (v13018 : BitVec 32) (v13019 : BitVec 32) : Fin 3 → Nat :=
  let v13020 : BitVec 32 := v13019
  let c0_i32_7130 : BitVec 32 := 0#32
  ![v13018.toNat, v13020.toNat, 0]

def k0_chk15 (i : grid0.Coords) (v13018 : BitVec 32) (v13019 : BitVec 32) : Prop :=
  (∀ (k0_h1 : k0_cond1 i = 1#1), 8 ∣ (k0_mult15 v13019).toNat) ∧
  (∀ (k0_h1 : k0_cond1 i = 1#1), ∀ a, (k0_off15 v13018 v13019) a + S14x24x256.size a ≤ S400x200x256.size a)
theorem k0_mult15_dvd : ∀ (i : grid0.Coords) (v13018 : BitVec 32) (v13019 : BitVec 32) (k0_hw15 : k0_chk15 i v13018 v13019), ∀ (k0_h1 : k0_cond1 i = 1#1), 8 ∣ (k0_mult15 v13019).toNat := fun i v13018 v13019 k0_hw15 k0_h1 => k0_hw15.1 k0_h1
theorem k0_off15_inb : ∀ (i : grid0.Coords) (v13018 : BitVec 32) (v13019 : BitVec 32) (k0_hw15 : k0_chk15 i v13018 v13019), ∀ (k0_h1 : k0_cond1 i = 1#1), ∀ a, (k0_off15 v13018 v13019) a + S14x24x256.size a ≤ S400x200x256.size a := fun i v13018 v13019 k0_hw15 k0_h1 => k0_hw15.2 k0_h1

def k0_mult16 (v13027 : BitVec 32) : BitVec 32 :=
  v13027

def k0_off16 (v13026 : BitVec 32) (v13027 : BitVec 32) : Fin 3 → Nat :=
  let v13028 : BitVec 32 := v13027
  let c0_i32_7140 : BitVec 32 := 0#32
  ![v13026.toNat, v13028.toNat, 0]

def k0_chk16 (i : grid0.Coords) (v13026 : BitVec 32) (v13027 : BitVec 32) : Prop :=
  (∀ (k0_h1 : k0_cond1 i = 1#1), 8 ∣ (k0_mult16 v13027).toNat) ∧
  (∀ (k0_h1 : k0_cond1 i = 1#1), ∀ a, (k0_off16 v13026 v13027) a + S14x24x256.size a ≤ S400x200x256.size a)
theorem k0_mult16_dvd : ∀ (i : grid0.Coords) (v13026 : BitVec 32) (v13027 : BitVec 32) (k0_hw16 : k0_chk16 i v13026 v13027), ∀ (k0_h1 : k0_cond1 i = 1#1), 8 ∣ (k0_mult16 v13027).toNat := fun i v13026 v13027 k0_hw16 k0_h1 => k0_hw16.1 k0_h1
theorem k0_off16_inb : ∀ (i : grid0.Coords) (v13026 : BitVec 32) (v13027 : BitVec 32) (k0_hw16 : k0_chk16 i v13026 v13027), ∀ (k0_h1 : k0_cond1 i = 1#1), ∀ a, (k0_off16 v13026 v13027) a + S14x24x256.size a ≤ S400x200x256.size a := fun i v13026 v13027 k0_hw16 k0_h1 => k0_hw16.2 k0_h1

def k0_mult17 (v13035 : BitVec 32) : BitVec 32 :=
  v13035

def k0_off17 (v13034 : BitVec 32) (v13035 : BitVec 32) : Fin 3 → Nat :=
  let v13036 : BitVec 32 := v13035
  let c0_i32_7150 : BitVec 32 := 0#32
  ![v13034.toNat, v13036.toNat, 0]

def k0_chk17 (i : grid0.Coords) (v13034 : BitVec 32) (v13035 : BitVec 32) : Prop :=
  (∀ (k0_h1 : k0_cond1 i = 1#1), 8 ∣ (k0_mult17 v13035).toNat) ∧
  (∀ (k0_h1 : k0_cond1 i = 1#1), ∀ a, (k0_off17 v13034 v13035) a + S14x24x256.size a ≤ S400x200x256.size a)
theorem k0_mult17_dvd : ∀ (i : grid0.Coords) (v13034 : BitVec 32) (v13035 : BitVec 32) (k0_hw17 : k0_chk17 i v13034 v13035), ∀ (k0_h1 : k0_cond1 i = 1#1), 8 ∣ (k0_mult17 v13035).toNat := fun i v13034 v13035 k0_hw17 k0_h1 => k0_hw17.1 k0_h1
theorem k0_off17_inb : ∀ (i : grid0.Coords) (v13034 : BitVec 32) (v13035 : BitVec 32) (k0_hw17 : k0_chk17 i v13034 v13035), ∀ (k0_h1 : k0_cond1 i = 1#1), ∀ a, (k0_off17 v13034 v13035) a + S14x24x256.size a ≤ S400x200x256.size a := fun i v13034 v13035 k0_hw17 k0_h1 => k0_hw17.2 k0_h1

def k0_mult18 (v13043 : BitVec 32) : BitVec 32 :=
  v13043

def k0_off18 (v13042 : BitVec 32) (v13043 : BitVec 32) : Fin 3 → Nat :=
  let v13044 : BitVec 32 := v13043
  let c0_i32_7160 : BitVec 32 := 0#32
  ![v13042.toNat, v13044.toNat, 0]

def k0_chk18 (i : grid0.Coords) (v13042 : BitVec 32) (v13043 : BitVec 32) : Prop :=
  (∀ (k0_h1 : k0_cond1 i = 1#1), 8 ∣ (k0_mult18 v13043).toNat) ∧
  (∀ (k0_h1 : k0_cond1 i = 1#1), ∀ a, (k0_off18 v13042 v13043) a + S14x24x256.size a ≤ S400x200x256.size a)
theorem k0_mult18_dvd : ∀ (i : grid0.Coords) (v13042 : BitVec 32) (v13043 : BitVec 32) (k0_hw18 : k0_chk18 i v13042 v13043), ∀ (k0_h1 : k0_cond1 i = 1#1), 8 ∣ (k0_mult18 v13043).toNat := fun i v13042 v13043 k0_hw18 k0_h1 => k0_hw18.1 k0_h1
theorem k0_off18_inb : ∀ (i : grid0.Coords) (v13042 : BitVec 32) (v13043 : BitVec 32) (k0_hw18 : k0_chk18 i v13042 v13043), ∀ (k0_h1 : k0_cond1 i = 1#1), ∀ a, (k0_off18 v13042 v13043) a + S14x24x256.size a ≤ S400x200x256.size a := fun i v13042 v13043 k0_hw18 k0_h1 => k0_hw18.2 k0_h1

def k0_mult19 (v13051 : BitVec 32) : BitVec 32 :=
  v13051

def k0_off19 (v13050 : BitVec 32) (v13051 : BitVec 32) : Fin 3 → Nat :=
  let v13052 : BitVec 32 := v13051
  let c0_i32_7170 : BitVec 32 := 0#32
  ![v13050.toNat, v13052.toNat, 0]

def k0_chk19 (i : grid0.Coords) (v13050 : BitVec 32) (v13051 : BitVec 32) : Prop :=
  (∀ (k0_h1 : k0_cond1 i = 1#1), 8 ∣ (k0_mult19 v13051).toNat) ∧
  (∀ (k0_h1 : k0_cond1 i = 1#1), ∀ a, (k0_off19 v13050 v13051) a + S14x24x256.size a ≤ S400x200x256.size a)
theorem k0_mult19_dvd : ∀ (i : grid0.Coords) (v13050 : BitVec 32) (v13051 : BitVec 32) (k0_hw19 : k0_chk19 i v13050 v13051), ∀ (k0_h1 : k0_cond1 i = 1#1), 8 ∣ (k0_mult19 v13051).toNat := fun i v13050 v13051 k0_hw19 k0_h1 => k0_hw19.1 k0_h1
theorem k0_off19_inb : ∀ (i : grid0.Coords) (v13050 : BitVec 32) (v13051 : BitVec 32) (k0_hw19 : k0_chk19 i v13050 v13051), ∀ (k0_h1 : k0_cond1 i = 1#1), ∀ a, (k0_off19 v13050 v13051) a + S14x24x256.size a ≤ S400x200x256.size a := fun i v13050 v13051 k0_hw19 k0_h1 => k0_hw19.2 k0_h1

def k0_mult20 (v13059 : BitVec 32) : BitVec 32 :=
  v13059

def k0_off20 (v13058 : BitVec 32) (v13059 : BitVec 32) : Fin 3 → Nat :=
  let v13060 : BitVec 32 := v13059
  let c0_i32_7180 : BitVec 32 := 0#32
  ![v13058.toNat, v13060.toNat, 0]

def k0_chk20 (i : grid0.Coords) (v13058 : BitVec 32) (v13059 : BitVec 32) : Prop :=
  (∀ (k0_h1 : k0_cond1 i = 1#1), 8 ∣ (k0_mult20 v13059).toNat) ∧
  (∀ (k0_h1 : k0_cond1 i = 1#1), ∀ a, (k0_off20 v13058 v13059) a + S14x24x256.size a ≤ S400x200x256.size a)
theorem k0_mult20_dvd : ∀ (i : grid0.Coords) (v13058 : BitVec 32) (v13059 : BitVec 32) (k0_hw20 : k0_chk20 i v13058 v13059), ∀ (k0_h1 : k0_cond1 i = 1#1), 8 ∣ (k0_mult20 v13059).toNat := fun i v13058 v13059 k0_hw20 k0_h1 => k0_hw20.1 k0_h1
theorem k0_off20_inb : ∀ (i : grid0.Coords) (v13058 : BitVec 32) (v13059 : BitVec 32) (k0_hw20 : k0_chk20 i v13058 v13059), ∀ (k0_h1 : k0_cond1 i = 1#1), ∀ a, (k0_off20 v13058 v13059) a + S14x24x256.size a ≤ S400x200x256.size a := fun i v13058 v13059 k0_hw20 k0_h1 => k0_hw20.2 k0_h1

def k0_mult21 (v13067 : BitVec 32) : BitVec 32 :=
  v13067

def k0_off21 (v13066 : BitVec 32) (v13067 : BitVec 32) : Fin 3 → Nat :=
  let v13068 : BitVec 32 := v13067
  let c0_i32_7190 : BitVec 32 := 0#32
  ![v13066.toNat, v13068.toNat, 0]

def k0_chk21 (i : grid0.Coords) (v13066 : BitVec 32) (v13067 : BitVec 32) : Prop :=
  (∀ (k0_h1 : k0_cond1 i = 1#1), 8 ∣ (k0_mult21 v13067).toNat) ∧
  (∀ (k0_h1 : k0_cond1 i = 1#1), ∀ a, (k0_off21 v13066 v13067) a + S14x24x256.size a ≤ S400x200x256.size a)
theorem k0_mult21_dvd : ∀ (i : grid0.Coords) (v13066 : BitVec 32) (v13067 : BitVec 32) (k0_hw21 : k0_chk21 i v13066 v13067), ∀ (k0_h1 : k0_cond1 i = 1#1), 8 ∣ (k0_mult21 v13067).toNat := fun i v13066 v13067 k0_hw21 k0_h1 => k0_hw21.1 k0_h1
theorem k0_off21_inb : ∀ (i : grid0.Coords) (v13066 : BitVec 32) (v13067 : BitVec 32) (k0_hw21 : k0_chk21 i v13066 v13067), ∀ (k0_h1 : k0_cond1 i = 1#1), ∀ a, (k0_off21 v13066 v13067) a + S14x24x256.size a ≤ S400x200x256.size a := fun i v13066 v13067 k0_hw21 k0_h1 => k0_hw21.2 k0_h1

def k0_mult22 (v13075 : BitVec 32) : BitVec 32 :=
  v13075

def k0_off22 (v13074 : BitVec 32) (v13075 : BitVec 32) : Fin 3 → Nat :=
  let v13076 : BitVec 32 := v13075
  let c0_i32_7200 : BitVec 32 := 0#32
  ![v13074.toNat, v13076.toNat, 0]

def k0_chk22 (i : grid0.Coords) (v13074 : BitVec 32) (v13075 : BitVec 32) : Prop :=
  (∀ (k0_h1 : k0_cond1 i = 1#1), 8 ∣ (k0_mult22 v13075).toNat) ∧
  (∀ (k0_h1 : k0_cond1 i = 1#1), ∀ a, (k0_off22 v13074 v13075) a + S14x24x256.size a ≤ S400x200x256.size a)
theorem k0_mult22_dvd : ∀ (i : grid0.Coords) (v13074 : BitVec 32) (v13075 : BitVec 32) (k0_hw22 : k0_chk22 i v13074 v13075), ∀ (k0_h1 : k0_cond1 i = 1#1), 8 ∣ (k0_mult22 v13075).toNat := fun i v13074 v13075 k0_hw22 k0_h1 => k0_hw22.1 k0_h1
theorem k0_off22_inb : ∀ (i : grid0.Coords) (v13074 : BitVec 32) (v13075 : BitVec 32) (k0_hw22 : k0_chk22 i v13074 v13075), ∀ (k0_h1 : k0_cond1 i = 1#1), ∀ a, (k0_off22 v13074 v13075) a + S14x24x256.size a ≤ S400x200x256.size a := fun i v13074 v13075 k0_hw22 k0_h1 => k0_hw22.2 k0_h1

def k0_mult23 (v13083 : BitVec 32) : BitVec 32 :=
  v13083

def k0_off23 (v13082 : BitVec 32) (v13083 : BitVec 32) : Fin 3 → Nat :=
  let v13084 : BitVec 32 := v13083
  let c0_i32_7210 : BitVec 32 := 0#32
  ![v13082.toNat, v13084.toNat, 0]

def k0_chk23 (i : grid0.Coords) (v13082 : BitVec 32) (v13083 : BitVec 32) : Prop :=
  (∀ (k0_h1 : k0_cond1 i = 1#1), 8 ∣ (k0_mult23 v13083).toNat) ∧
  (∀ (k0_h1 : k0_cond1 i = 1#1), ∀ a, (k0_off23 v13082 v13083) a + S14x24x256.size a ≤ S400x200x256.size a)
theorem k0_mult23_dvd : ∀ (i : grid0.Coords) (v13082 : BitVec 32) (v13083 : BitVec 32) (k0_hw23 : k0_chk23 i v13082 v13083), ∀ (k0_h1 : k0_cond1 i = 1#1), 8 ∣ (k0_mult23 v13083).toNat := fun i v13082 v13083 k0_hw23 k0_h1 => k0_hw23.1 k0_h1
theorem k0_off23_inb : ∀ (i : grid0.Coords) (v13082 : BitVec 32) (v13083 : BitVec 32) (k0_hw23 : k0_chk23 i v13082 v13083), ∀ (k0_h1 : k0_cond1 i = 1#1), ∀ a, (k0_off23 v13082 v13083) a + S14x24x256.size a ≤ S400x200x256.size a := fun i v13082 v13083 k0_hw23 k0_h1 => k0_hw23.2 k0_h1

def k0_mult24 (v13091 : BitVec 32) : BitVec 32 :=
  v13091

def k0_off24 (v13090 : BitVec 32) (v13091 : BitVec 32) : Fin 3 → Nat :=
  let v13092 : BitVec 32 := v13091
  let c0_i32_7220 : BitVec 32 := 0#32
  ![v13090.toNat, v13092.toNat, 0]

def k0_chk24 (i : grid0.Coords) (v13090 : BitVec 32) (v13091 : BitVec 32) : Prop :=
  (∀ (k0_h1 : k0_cond1 i = 1#1), 8 ∣ (k0_mult24 v13091).toNat) ∧
  (∀ (k0_h1 : k0_cond1 i = 1#1), ∀ a, (k0_off24 v13090 v13091) a + S14x24x256.size a ≤ S400x200x256.size a)
theorem k0_mult24_dvd : ∀ (i : grid0.Coords) (v13090 : BitVec 32) (v13091 : BitVec 32) (k0_hw24 : k0_chk24 i v13090 v13091), ∀ (k0_h1 : k0_cond1 i = 1#1), 8 ∣ (k0_mult24 v13091).toNat := fun i v13090 v13091 k0_hw24 k0_h1 => k0_hw24.1 k0_h1
theorem k0_off24_inb : ∀ (i : grid0.Coords) (v13090 : BitVec 32) (v13091 : BitVec 32) (k0_hw24 : k0_chk24 i v13090 v13091), ∀ (k0_h1 : k0_cond1 i = 1#1), ∀ a, (k0_off24 v13090 v13091) a + S14x24x256.size a ≤ S400x200x256.size a := fun i v13090 v13091 k0_hw24 k0_h1 => k0_hw24.2 k0_h1

def k0_mult25 (v13099 : BitVec 32) : BitVec 32 :=
  v13099

def k0_off25 (v13098 : BitVec 32) (v13099 : BitVec 32) : Fin 3 → Nat :=
  let v13100 : BitVec 32 := v13099
  let c0_i32_7230 : BitVec 32 := 0#32
  ![v13098.toNat, v13100.toNat, 0]

def k0_chk25 (i : grid0.Coords) (v13098 : BitVec 32) (v13099 : BitVec 32) : Prop :=
  (∀ (k0_h1 : k0_cond1 i = 1#1), 8 ∣ (k0_mult25 v13099).toNat) ∧
  (∀ (k0_h1 : k0_cond1 i = 1#1), ∀ a, (k0_off25 v13098 v13099) a + S14x24x256.size a ≤ S400x200x256.size a)
theorem k0_mult25_dvd : ∀ (i : grid0.Coords) (v13098 : BitVec 32) (v13099 : BitVec 32) (k0_hw25 : k0_chk25 i v13098 v13099), ∀ (k0_h1 : k0_cond1 i = 1#1), 8 ∣ (k0_mult25 v13099).toNat := fun i v13098 v13099 k0_hw25 k0_h1 => k0_hw25.1 k0_h1
theorem k0_off25_inb : ∀ (i : grid0.Coords) (v13098 : BitVec 32) (v13099 : BitVec 32) (k0_hw25 : k0_chk25 i v13098 v13099), ∀ (k0_h1 : k0_cond1 i = 1#1), ∀ a, (k0_off25 v13098 v13099) a + S14x24x256.size a ≤ S400x200x256.size a := fun i v13098 v13099 k0_hw25 k0_h1 => k0_hw25.2 k0_h1

def k0_mult26 (v13107 : BitVec 32) : BitVec 32 :=
  v13107

def k0_off26 (v13106 : BitVec 32) (v13107 : BitVec 32) : Fin 3 → Nat :=
  let v13108 : BitVec 32 := v13107
  let c0_i32_7240 : BitVec 32 := 0#32
  ![v13106.toNat, v13108.toNat, 0]

def k0_chk26 (i : grid0.Coords) (v13106 : BitVec 32) (v13107 : BitVec 32) : Prop :=
  (∀ (k0_h1 : k0_cond1 i = 1#1), 8 ∣ (k0_mult26 v13107).toNat) ∧
  (∀ (k0_h1 : k0_cond1 i = 1#1), ∀ a, (k0_off26 v13106 v13107) a + S14x24x256.size a ≤ S400x200x256.size a)
theorem k0_mult26_dvd : ∀ (i : grid0.Coords) (v13106 : BitVec 32) (v13107 : BitVec 32) (k0_hw26 : k0_chk26 i v13106 v13107), ∀ (k0_h1 : k0_cond1 i = 1#1), 8 ∣ (k0_mult26 v13107).toNat := fun i v13106 v13107 k0_hw26 k0_h1 => k0_hw26.1 k0_h1
theorem k0_off26_inb : ∀ (i : grid0.Coords) (v13106 : BitVec 32) (v13107 : BitVec 32) (k0_hw26 : k0_chk26 i v13106 v13107), ∀ (k0_h1 : k0_cond1 i = 1#1), ∀ a, (k0_off26 v13106 v13107) a + S14x24x256.size a ≤ S400x200x256.size a := fun i v13106 v13107 k0_hw26 k0_h1 => k0_hw26.2 k0_h1

def k0_mult27 (v13115 : BitVec 32) : BitVec 32 :=
  v13115

def k0_off27 (v13114 : BitVec 32) (v13115 : BitVec 32) : Fin 3 → Nat :=
  let v13116 : BitVec 32 := v13115
  let c0_i32_7250 : BitVec 32 := 0#32
  ![v13114.toNat, v13116.toNat, 0]

def k0_chk27 (i : grid0.Coords) (v13114 : BitVec 32) (v13115 : BitVec 32) : Prop :=
  (∀ (k0_h1 : k0_cond1 i = 1#1), 8 ∣ (k0_mult27 v13115).toNat) ∧
  (∀ (k0_h1 : k0_cond1 i = 1#1), ∀ a, (k0_off27 v13114 v13115) a + S14x24x256.size a ≤ S400x200x256.size a)
theorem k0_mult27_dvd : ∀ (i : grid0.Coords) (v13114 : BitVec 32) (v13115 : BitVec 32) (k0_hw27 : k0_chk27 i v13114 v13115), ∀ (k0_h1 : k0_cond1 i = 1#1), 8 ∣ (k0_mult27 v13115).toNat := fun i v13114 v13115 k0_hw27 k0_h1 => k0_hw27.1 k0_h1
theorem k0_off27_inb : ∀ (i : grid0.Coords) (v13114 : BitVec 32) (v13115 : BitVec 32) (k0_hw27 : k0_chk27 i v13114 v13115), ∀ (k0_h1 : k0_cond1 i = 1#1), ∀ a, (k0_off27 v13114 v13115) a + S14x24x256.size a ≤ S400x200x256.size a := fun i v13114 v13115 k0_hw27 k0_h1 => k0_hw27.2 k0_h1

def k0_mult28 (v13123 : BitVec 32) : BitVec 32 :=
  v13123

def k0_off28 (v13122 : BitVec 32) (v13123 : BitVec 32) : Fin 3 → Nat :=
  let v13124 : BitVec 32 := v13123
  let c0_i32_7260 : BitVec 32 := 0#32
  ![v13122.toNat, v13124.toNat, 0]

def k0_chk28 (i : grid0.Coords) (v13122 : BitVec 32) (v13123 : BitVec 32) : Prop :=
  (∀ (k0_h1 : k0_cond1 i = 1#1), 8 ∣ (k0_mult28 v13123).toNat) ∧
  (∀ (k0_h1 : k0_cond1 i = 1#1), ∀ a, (k0_off28 v13122 v13123) a + S14x24x256.size a ≤ S400x200x256.size a)
theorem k0_mult28_dvd : ∀ (i : grid0.Coords) (v13122 : BitVec 32) (v13123 : BitVec 32) (k0_hw28 : k0_chk28 i v13122 v13123), ∀ (k0_h1 : k0_cond1 i = 1#1), 8 ∣ (k0_mult28 v13123).toNat := fun i v13122 v13123 k0_hw28 k0_h1 => k0_hw28.1 k0_h1
theorem k0_off28_inb : ∀ (i : grid0.Coords) (v13122 : BitVec 32) (v13123 : BitVec 32) (k0_hw28 : k0_chk28 i v13122 v13123), ∀ (k0_h1 : k0_cond1 i = 1#1), ∀ a, (k0_off28 v13122 v13123) a + S14x24x256.size a ≤ S400x200x256.size a := fun i v13122 v13123 k0_hw28 k0_h1 => k0_hw28.2 k0_h1

def k0_mult29 (v13131 : BitVec 32) : BitVec 32 :=
  v13131

def k0_off29 (v13130 : BitVec 32) (v13131 : BitVec 32) : Fin 3 → Nat :=
  let v13132 : BitVec 32 := v13131
  let c0_i32_7270 : BitVec 32 := 0#32
  ![v13130.toNat, v13132.toNat, 0]

def k0_chk29 (i : grid0.Coords) (v13130 : BitVec 32) (v13131 : BitVec 32) : Prop :=
  (∀ (k0_h1 : k0_cond1 i = 1#1), 8 ∣ (k0_mult29 v13131).toNat) ∧
  (∀ (k0_h1 : k0_cond1 i = 1#1), ∀ a, (k0_off29 v13130 v13131) a + S14x24x256.size a ≤ S400x200x256.size a)
theorem k0_mult29_dvd : ∀ (i : grid0.Coords) (v13130 : BitVec 32) (v13131 : BitVec 32) (k0_hw29 : k0_chk29 i v13130 v13131), ∀ (k0_h1 : k0_cond1 i = 1#1), 8 ∣ (k0_mult29 v13131).toNat := fun i v13130 v13131 k0_hw29 k0_h1 => k0_hw29.1 k0_h1
theorem k0_off29_inb : ∀ (i : grid0.Coords) (v13130 : BitVec 32) (v13131 : BitVec 32) (k0_hw29 : k0_chk29 i v13130 v13131), ∀ (k0_h1 : k0_cond1 i = 1#1), ∀ a, (k0_off29 v13130 v13131) a + S14x24x256.size a ≤ S400x200x256.size a := fun i v13130 v13131 k0_hw29 k0_h1 => k0_hw29.2 k0_h1

def k0_mult30 (v13139 : BitVec 32) : BitVec 32 :=
  v13139

def k0_off30 (v13138 : BitVec 32) (v13139 : BitVec 32) : Fin 3 → Nat :=
  let v13140 : BitVec 32 := v13139
  let c0_i32_7280 : BitVec 32 := 0#32
  ![v13138.toNat, v13140.toNat, 0]

def k0_chk30 (i : grid0.Coords) (v13138 : BitVec 32) (v13139 : BitVec 32) : Prop :=
  (∀ (k0_h1 : k0_cond1 i = 1#1), 8 ∣ (k0_mult30 v13139).toNat) ∧
  (∀ (k0_h1 : k0_cond1 i = 1#1), ∀ a, (k0_off30 v13138 v13139) a + S14x24x256.size a ≤ S400x200x256.size a)
theorem k0_mult30_dvd : ∀ (i : grid0.Coords) (v13138 : BitVec 32) (v13139 : BitVec 32) (k0_hw30 : k0_chk30 i v13138 v13139), ∀ (k0_h1 : k0_cond1 i = 1#1), 8 ∣ (k0_mult30 v13139).toNat := fun i v13138 v13139 k0_hw30 k0_h1 => k0_hw30.1 k0_h1
theorem k0_off30_inb : ∀ (i : grid0.Coords) (v13138 : BitVec 32) (v13139 : BitVec 32) (k0_hw30 : k0_chk30 i v13138 v13139), ∀ (k0_h1 : k0_cond1 i = 1#1), ∀ a, (k0_off30 v13138 v13139) a + S14x24x256.size a ≤ S400x200x256.size a := fun i v13138 v13139 k0_hw30 k0_h1 => k0_hw30.2 k0_h1

def k0_mult31 (v13147 : BitVec 32) : BitVec 32 :=
  v13147

def k0_off31 (v13146 : BitVec 32) (v13147 : BitVec 32) : Fin 3 → Nat :=
  let v13148 : BitVec 32 := v13147
  let c0_i32_7290 : BitVec 32 := 0#32
  ![v13146.toNat, v13148.toNat, 0]

def k0_chk31 (i : grid0.Coords) (v13146 : BitVec 32) (v13147 : BitVec 32) : Prop :=
  (∀ (k0_h1 : k0_cond1 i = 1#1), 8 ∣ (k0_mult31 v13147).toNat) ∧
  (∀ (k0_h1 : k0_cond1 i = 1#1), ∀ a, (k0_off31 v13146 v13147) a + S14x24x256.size a ≤ S400x200x256.size a)
theorem k0_mult31_dvd : ∀ (i : grid0.Coords) (v13146 : BitVec 32) (v13147 : BitVec 32) (k0_hw31 : k0_chk31 i v13146 v13147), ∀ (k0_h1 : k0_cond1 i = 1#1), 8 ∣ (k0_mult31 v13147).toNat := fun i v13146 v13147 k0_hw31 k0_h1 => k0_hw31.1 k0_h1
theorem k0_off31_inb : ∀ (i : grid0.Coords) (v13146 : BitVec 32) (v13147 : BitVec 32) (k0_hw31 : k0_chk31 i v13146 v13147), ∀ (k0_h1 : k0_cond1 i = 1#1), ∀ a, (k0_off31 v13146 v13147) a + S14x24x256.size a ≤ S400x200x256.size a := fun i v13146 v13147 k0_hw31 k0_h1 => k0_hw31.2 k0_h1

def k0_mult32 (v13155 : BitVec 32) : BitVec 32 :=
  v13155

def k0_off32 (v13154 : BitVec 32) (v13155 : BitVec 32) : Fin 3 → Nat :=
  let v13156 : BitVec 32 := v13155
  let c0_i32_7300 : BitVec 32 := 0#32
  ![v13154.toNat, v13156.toNat, 0]

def k0_chk32 (i : grid0.Coords) (v13154 : BitVec 32) (v13155 : BitVec 32) : Prop :=
  (∀ (k0_h1 : k0_cond1 i = 1#1), 8 ∣ (k0_mult32 v13155).toNat) ∧
  (∀ (k0_h1 : k0_cond1 i = 1#1), ∀ a, (k0_off32 v13154 v13155) a + S14x24x256.size a ≤ S400x200x256.size a)
theorem k0_mult32_dvd : ∀ (i : grid0.Coords) (v13154 : BitVec 32) (v13155 : BitVec 32) (k0_hw32 : k0_chk32 i v13154 v13155), ∀ (k0_h1 : k0_cond1 i = 1#1), 8 ∣ (k0_mult32 v13155).toNat := fun i v13154 v13155 k0_hw32 k0_h1 => k0_hw32.1 k0_h1
theorem k0_off32_inb : ∀ (i : grid0.Coords) (v13154 : BitVec 32) (v13155 : BitVec 32) (k0_hw32 : k0_chk32 i v13154 v13155), ∀ (k0_h1 : k0_cond1 i = 1#1), ∀ a, (k0_off32 v13154 v13155) a + S14x24x256.size a ≤ S400x200x256.size a := fun i v13154 v13155 k0_hw32 k0_h1 => k0_hw32.2 k0_h1

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c32_i32 : BitVec 32 := 32#32
  let v7 : BitVec 1 := Scalar.cmpi .slt v6 c32_i32
  let v8 : BitVec 32 := Scalar.extui v7
  let c0_i32_3 : BitVec 32 := 0#32
  let v9 : BitVec 1 := Scalar.cmpi .ne v8 c0_i32_3
  v9

def k0_off33 (i : grid0.Coords) : Fin 2 → Nat :=
  let c32_i32_6982 : BitVec 32 := 32#32
  let arg0 : BitVec 32 := BitVec.ofNat 32 (i 0).val
  let c1_i32_6981 : BitVec 32 := 1#32
  let v12906 : BitVec 32 := Scalar.addi arg0 c1_i32_6981
  let v12907 : BitVec 32 := Scalar.muli c32_i32_6982 v12906
  let c0_i32_6983 : BitVec 32 := 0#32
  let v12908 : BitVec 32 := Scalar.addi v12907 c0_i32_6983
  let v12909 : Index := Scalar.indexCast v12908
  let c0_6984 : Index := 0#32
  ![v12909.toNat, 0]
def k0_off34 (i : grid0.Coords) : Fin 2 → Nat :=
  let c32_i32_6982 : BitVec 32 := 32#32
  let arg0 : BitVec 32 := BitVec.ofNat 32 (i 0).val
  let c1_i32_6981 : BitVec 32 := 1#32
  let v12906 : BitVec 32 := Scalar.addi arg0 c1_i32_6981
  let v12907 : BitVec 32 := Scalar.muli c32_i32_6982 v12906
  let c0_i32_6983 : BitVec 32 := 0#32
  let v12908 : BitVec 32 := Scalar.addi v12907 c0_i32_6983
  let v12911 : Index := Scalar.indexCast v12908
  let c1_6985 : Index := 1#32
  ![v12911.toNat, 1]
def k0_mult33 (v12912 : BitVec 32) : BitVec 32 :=
  v12912

def k0_off35 (i : grid0.Coords) : Fin 1 → Nat :=
  let c32_i32_6988 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12916 : BitVec 32 := Scalar.muli c32_i32_6988 v2
  let c0_i32_6989 : BitVec 32 := 0#32
  let v12917 : BitVec 32 := Scalar.addi v12916 c0_i32_6989
  ![v12917.toNat]
def k0_off36 (i : grid0.Coords) : Fin 4 → Nat :=
  let c32_i32_6986 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12914 : BitVec 32 := Scalar.muli c32_i32_6986 v2
  let c0_i32_6987 : BitVec 32 := 0#32
  let v12915 : BitVec 32 := Scalar.addi v12914 c0_i32_6987
  let c0_i32_6990 : BitVec 32 := 0#32
  let c0_i32_6991 : BitVec 32 := 0#32
  let c0_i32_6992 : BitVec 32 := 0#32
  ![v12915.toNat, 0, 0, 0]
def k0_off37 (v12910 : BitVec 32) (v12912 : BitVec 32) : Fin 3 → Nat :=
  let v12913 : BitVec 32 := v12912
  let c0_i32_6993 : BitVec 32 := 0#32
  ![v12910.toNat, v12913.toNat, 0]

def k0_chk33 (i : grid0.Coords) (v12910 : BitVec 32) (v12912 : BitVec 32) : Prop :=
  (∀ (k0_h2 : k0_cond2 i = 1#1), 8 ∣ (k0_mult33 v12912).toNat) ∧
  (∀ (k0_h2 : k0_cond2 i = 1#1), ∀ a, (k0_off37 v12910 v12912) a + S14x24x256.size a ≤ S400x200x256.size a)
theorem k0_mult33_dvd : ∀ (i : grid0.Coords) (v12910 : BitVec 32) (v12912 : BitVec 32) (k0_hw33 : k0_chk33 i v12910 v12912), ∀ (k0_h2 : k0_cond2 i = 1#1), 8 ∣ (k0_mult33 v12912).toNat := fun i v12910 v12912 k0_hw33 k0_h2 => k0_hw33.1 k0_h2
theorem k0_off37_inb : ∀ (i : grid0.Coords) (v12910 : BitVec 32) (v12912 : BitVec 32) (k0_hw33 : k0_chk33 i v12910 v12912), ∀ (k0_h2 : k0_cond2 i = 1#1), ∀ a, (k0_off37 v12910 v12912) a + S14x24x256.size a ≤ S400x200x256.size a := fun i v12910 v12912 k0_hw33 k0_h2 => k0_hw33.2 k0_h2

def k0_off38 (i : grid0.Coords) : Fin 2 → Nat :=
  let c32_i32_6995 : BitVec 32 := 32#32
  let arg0 : BitVec 32 := BitVec.ofNat 32 (i 0).val
  let c1_i32_6994 : BitVec 32 := 1#32
  let v12923 : BitVec 32 := Scalar.addi arg0 c1_i32_6994
  let v12924 : BitVec 32 := Scalar.muli c32_i32_6995 v12923
  let c1_i32_6996 : BitVec 32 := 1#32
  let v12925 : BitVec 32 := Scalar.addi v12924 c1_i32_6996
  let v12926 : Index := Scalar.indexCast v12925
  let c0_6997 : Index := 0#32
  ![v12926.toNat, 0]
def k0_off39 (i : grid0.Coords) : Fin 2 → Nat :=
  let c32_i32_6995 : BitVec 32 := 32#32
  let arg0 : BitVec 32 := BitVec.ofNat 32 (i 0).val
  let c1_i32_6994 : BitVec 32 := 1#32
  let v12923 : BitVec 32 := Scalar.addi arg0 c1_i32_6994
  let v12924 : BitVec 32 := Scalar.muli c32_i32_6995 v12923
  let c1_i32_6996 : BitVec 32 := 1#32
  let v12925 : BitVec 32 := Scalar.addi v12924 c1_i32_6996
  let v12928 : Index := Scalar.indexCast v12925
  let c1_6998 : Index := 1#32
  ![v12928.toNat, 1]
def k0_mult34 (v12929 : BitVec 32) : BitVec 32 :=
  v12929

def k0_off40 (i : grid0.Coords) : Fin 1 → Nat :=
  let c32_i32_7001 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12933 : BitVec 32 := Scalar.muli c32_i32_7001 v2
  let c1_i32_7002 : BitVec 32 := 1#32
  let v12934 : BitVec 32 := Scalar.addi v12933 c1_i32_7002
  ![v12934.toNat]
def k0_off41 (i : grid0.Coords) : Fin 4 → Nat :=
  let c32_i32_6999 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12931 : BitVec 32 := Scalar.muli c32_i32_6999 v2
  let c1_i32_7000 : BitVec 32 := 1#32
  let v12932 : BitVec 32 := Scalar.addi v12931 c1_i32_7000
  let c0_i32_7003 : BitVec 32 := 0#32
  let c0_i32_7004 : BitVec 32 := 0#32
  let c0_i32_7005 : BitVec 32 := 0#32
  ![v12932.toNat, 0, 0, 0]
def k0_off42 (v12927 : BitVec 32) (v12929 : BitVec 32) : Fin 3 → Nat :=
  let v12930 : BitVec 32 := v12929
  let c0_i32_7006 : BitVec 32 := 0#32
  ![v12927.toNat, v12930.toNat, 0]

def k0_chk34 (i : grid0.Coords) (v12927 : BitVec 32) (v12929 : BitVec 32) : Prop :=
  (∀ (k0_h2 : k0_cond2 i = 1#1), 8 ∣ (k0_mult34 v12929).toNat) ∧
  (∀ (k0_h2 : k0_cond2 i = 1#1), ∀ a, (k0_off42 v12927 v12929) a + S14x24x256.size a ≤ S400x200x256.size a)
theorem k0_mult34_dvd : ∀ (i : grid0.Coords) (v12927 : BitVec 32) (v12929 : BitVec 32) (k0_hw34 : k0_chk34 i v12927 v12929), ∀ (k0_h2 : k0_cond2 i = 1#1), 8 ∣ (k0_mult34 v12929).toNat := fun i v12927 v12929 k0_hw34 k0_h2 => k0_hw34.1 k0_h2
theorem k0_off42_inb : ∀ (i : grid0.Coords) (v12927 : BitVec 32) (v12929 : BitVec 32) (k0_hw34 : k0_chk34 i v12927 v12929), ∀ (k0_h2 : k0_cond2 i = 1#1), ∀ a, (k0_off42 v12927 v12929) a + S14x24x256.size a ≤ S400x200x256.size a := fun i v12927 v12929 k0_hw34 k0_h2 => k0_hw34.2 k0_h2

def k0_off43 (i : grid0.Coords) : Fin 2 → Nat :=
  let c32_i32_7008 : BitVec 32 := 32#32
  let arg0 : BitVec 32 := BitVec.ofNat 32 (i 0).val
  let c1_i32_7007 : BitVec 32 := 1#32
  let v12940 : BitVec 32 := Scalar.addi arg0 c1_i32_7007
  let v12941 : BitVec 32 := Scalar.muli c32_i32_7008 v12940
  let c2_i32_7009 : BitVec 32 := 2#32
  let v12942 : BitVec 32 := Scalar.addi v12941 c2_i32_7009
  let v12943 : Index := Scalar.indexCast v12942
  let c0_7010 : Index := 0#32
  ![v12943.toNat, 0]
def k0_off44 (i : grid0.Coords) : Fin 2 → Nat :=
  let c32_i32_7008 : BitVec 32 := 32#32
  let arg0 : BitVec 32 := BitVec.ofNat 32 (i 0).val
  let c1_i32_7007 : BitVec 32 := 1#32
  let v12940 : BitVec 32 := Scalar.addi arg0 c1_i32_7007
  let v12941 : BitVec 32 := Scalar.muli c32_i32_7008 v12940
  let c2_i32_7009 : BitVec 32 := 2#32
  let v12942 : BitVec 32 := Scalar.addi v12941 c2_i32_7009
  let v12945 : Index := Scalar.indexCast v12942
  let c1_7011 : Index := 1#32
  ![v12945.toNat, 1]
def k0_mult35 (v12946 : BitVec 32) : BitVec 32 :=
  v12946

def k0_off45 (i : grid0.Coords) : Fin 1 → Nat :=
  let c32_i32_7014 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12950 : BitVec 32 := Scalar.muli c32_i32_7014 v2
  let c2_i32_7015 : BitVec 32 := 2#32
  let v12951 : BitVec 32 := Scalar.addi v12950 c2_i32_7015
  ![v12951.toNat]
def k0_off46 (i : grid0.Coords) : Fin 4 → Nat :=
  let c32_i32_7012 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12948 : BitVec 32 := Scalar.muli c32_i32_7012 v2
  let c2_i32_7013 : BitVec 32 := 2#32
  let v12949 : BitVec 32 := Scalar.addi v12948 c2_i32_7013
  let c0_i32_7016 : BitVec 32 := 0#32
  let c0_i32_7017 : BitVec 32 := 0#32
  let c0_i32_7018 : BitVec 32 := 0#32
  ![v12949.toNat, 0, 0, 0]
def k0_off47 (v12944 : BitVec 32) (v12946 : BitVec 32) : Fin 3 → Nat :=
  let v12947 : BitVec 32 := v12946
  let c0_i32_7019 : BitVec 32 := 0#32
  ![v12944.toNat, v12947.toNat, 0]

def k0_chk35 (i : grid0.Coords) (v12944 : BitVec 32) (v12946 : BitVec 32) : Prop :=
  (∀ (k0_h2 : k0_cond2 i = 1#1), 8 ∣ (k0_mult35 v12946).toNat) ∧
  (∀ (k0_h2 : k0_cond2 i = 1#1), ∀ a, (k0_off47 v12944 v12946) a + S14x24x256.size a ≤ S400x200x256.size a)
theorem k0_mult35_dvd : ∀ (i : grid0.Coords) (v12944 : BitVec 32) (v12946 : BitVec 32) (k0_hw35 : k0_chk35 i v12944 v12946), ∀ (k0_h2 : k0_cond2 i = 1#1), 8 ∣ (k0_mult35 v12946).toNat := fun i v12944 v12946 k0_hw35 k0_h2 => k0_hw35.1 k0_h2
theorem k0_off47_inb : ∀ (i : grid0.Coords) (v12944 : BitVec 32) (v12946 : BitVec 32) (k0_hw35 : k0_chk35 i v12944 v12946), ∀ (k0_h2 : k0_cond2 i = 1#1), ∀ a, (k0_off47 v12944 v12946) a + S14x24x256.size a ≤ S400x200x256.size a := fun i v12944 v12946 k0_hw35 k0_h2 => k0_hw35.2 k0_h2

def k0_off48 (i : grid0.Coords) : Fin 2 → Nat :=
  let c32_i32_7021 : BitVec 32 := 32#32
  let arg0 : BitVec 32 := BitVec.ofNat 32 (i 0).val
  let c1_i32_7020 : BitVec 32 := 1#32
  let v12957 : BitVec 32 := Scalar.addi arg0 c1_i32_7020
  let v12958 : BitVec 32 := Scalar.muli c32_i32_7021 v12957
  let c3_i32_7022 : BitVec 32 := 3#32
  let v12959 : BitVec 32 := Scalar.addi v12958 c3_i32_7022
  let v12960 : Index := Scalar.indexCast v12959
  let c0_7023 : Index := 0#32
  ![v12960.toNat, 0]
def k0_off49 (i : grid0.Coords) : Fin 2 → Nat :=
  let c32_i32_7021 : BitVec 32 := 32#32
  let arg0 : BitVec 32 := BitVec.ofNat 32 (i 0).val
  let c1_i32_7020 : BitVec 32 := 1#32
  let v12957 : BitVec 32 := Scalar.addi arg0 c1_i32_7020
  let v12958 : BitVec 32 := Scalar.muli c32_i32_7021 v12957
  let c3_i32_7022 : BitVec 32 := 3#32
  let v12959 : BitVec 32 := Scalar.addi v12958 c3_i32_7022
  let v12962 : Index := Scalar.indexCast v12959
  let c1_7024 : Index := 1#32
  ![v12962.toNat, 1]
def k0_mult36 (v12963 : BitVec 32) : BitVec 32 :=
  v12963

def k0_off50 (i : grid0.Coords) : Fin 1 → Nat :=
  let c32_i32_7027 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12967 : BitVec 32 := Scalar.muli c32_i32_7027 v2
  let c3_i32_7028 : BitVec 32 := 3#32
  let v12968 : BitVec 32 := Scalar.addi v12967 c3_i32_7028
  ![v12968.toNat]
def k0_off51 (i : grid0.Coords) : Fin 4 → Nat :=
  let c32_i32_7025 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12965 : BitVec 32 := Scalar.muli c32_i32_7025 v2
  let c3_i32_7026 : BitVec 32 := 3#32
  let v12966 : BitVec 32 := Scalar.addi v12965 c3_i32_7026
  let c0_i32_7029 : BitVec 32 := 0#32
  let c0_i32_7030 : BitVec 32 := 0#32
  let c0_i32_7031 : BitVec 32 := 0#32
  ![v12966.toNat, 0, 0, 0]
def k0_off52 (v12961 : BitVec 32) (v12963 : BitVec 32) : Fin 3 → Nat :=
  let v12964 : BitVec 32 := v12963
  let c0_i32_7032 : BitVec 32 := 0#32
  ![v12961.toNat, v12964.toNat, 0]

def k0_chk36 (i : grid0.Coords) (v12961 : BitVec 32) (v12963 : BitVec 32) : Prop :=
  (∀ (k0_h2 : k0_cond2 i = 1#1), 8 ∣ (k0_mult36 v12963).toNat) ∧
  (∀ (k0_h2 : k0_cond2 i = 1#1), ∀ a, (k0_off52 v12961 v12963) a + S14x24x256.size a ≤ S400x200x256.size a)
theorem k0_mult36_dvd : ∀ (i : grid0.Coords) (v12961 : BitVec 32) (v12963 : BitVec 32) (k0_hw36 : k0_chk36 i v12961 v12963), ∀ (k0_h2 : k0_cond2 i = 1#1), 8 ∣ (k0_mult36 v12963).toNat := fun i v12961 v12963 k0_hw36 k0_h2 => k0_hw36.1 k0_h2
theorem k0_off52_inb : ∀ (i : grid0.Coords) (v12961 : BitVec 32) (v12963 : BitVec 32) (k0_hw36 : k0_chk36 i v12961 v12963), ∀ (k0_h2 : k0_cond2 i = 1#1), ∀ a, (k0_off52 v12961 v12963) a + S14x24x256.size a ≤ S400x200x256.size a := fun i v12961 v12963 k0_hw36 k0_h2 => k0_hw36.2 k0_h2

def k0_off53 (i : grid0.Coords) : Fin 2 → Nat :=
  let c32_i32_7034 : BitVec 32 := 32#32
  let arg0 : BitVec 32 := BitVec.ofNat 32 (i 0).val
  let c1_i32_7033 : BitVec 32 := 1#32
  let v12974 : BitVec 32 := Scalar.addi arg0 c1_i32_7033
  let v12975 : BitVec 32 := Scalar.muli c32_i32_7034 v12974
  let c4_i32_7035 : BitVec 32 := 4#32
  let v12976 : BitVec 32 := Scalar.addi v12975 c4_i32_7035
  let v12977 : Index := Scalar.indexCast v12976
  let c0_7036 : Index := 0#32
  ![v12977.toNat, 0]
def k0_off54 (i : grid0.Coords) : Fin 2 → Nat :=
  let c32_i32_7034 : BitVec 32 := 32#32
  let arg0 : BitVec 32 := BitVec.ofNat 32 (i 0).val
  let c1_i32_7033 : BitVec 32 := 1#32
  let v12974 : BitVec 32 := Scalar.addi arg0 c1_i32_7033
  let v12975 : BitVec 32 := Scalar.muli c32_i32_7034 v12974
  let c4_i32_7035 : BitVec 32 := 4#32
  let v12976 : BitVec 32 := Scalar.addi v12975 c4_i32_7035
  let v12979 : Index := Scalar.indexCast v12976
  let c1_7037 : Index := 1#32
  ![v12979.toNat, 1]
def k0_mult37 (v12980 : BitVec 32) : BitVec 32 :=
  v12980

def k0_off55 (i : grid0.Coords) : Fin 1 → Nat :=
  let c32_i32_7040 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12984 : BitVec 32 := Scalar.muli c32_i32_7040 v2
  let c4_i32_7041 : BitVec 32 := 4#32
  let v12985 : BitVec 32 := Scalar.addi v12984 c4_i32_7041
  ![v12985.toNat]
def k0_off56 (i : grid0.Coords) : Fin 4 → Nat :=
  let c32_i32_7038 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12982 : BitVec 32 := Scalar.muli c32_i32_7038 v2
  let c4_i32_7039 : BitVec 32 := 4#32
  let v12983 : BitVec 32 := Scalar.addi v12982 c4_i32_7039
  let c0_i32_7042 : BitVec 32 := 0#32
  let c0_i32_7043 : BitVec 32 := 0#32
  let c0_i32_7044 : BitVec 32 := 0#32
  ![v12983.toNat, 0, 0, 0]
def k0_off57 (v12978 : BitVec 32) (v12980 : BitVec 32) : Fin 3 → Nat :=
  let v12981 : BitVec 32 := v12980
  let c0_i32_7045 : BitVec 32 := 0#32
  ![v12978.toNat, v12981.toNat, 0]

def k0_chk37 (i : grid0.Coords) (v12978 : BitVec 32) (v12980 : BitVec 32) : Prop :=
  (∀ (k0_h2 : k0_cond2 i = 1#1), 8 ∣ (k0_mult37 v12980).toNat) ∧
  (∀ (k0_h2 : k0_cond2 i = 1#1), ∀ a, (k0_off57 v12978 v12980) a + S14x24x256.size a ≤ S400x200x256.size a)
theorem k0_mult37_dvd : ∀ (i : grid0.Coords) (v12978 : BitVec 32) (v12980 : BitVec 32) (k0_hw37 : k0_chk37 i v12978 v12980), ∀ (k0_h2 : k0_cond2 i = 1#1), 8 ∣ (k0_mult37 v12980).toNat := fun i v12978 v12980 k0_hw37 k0_h2 => k0_hw37.1 k0_h2
theorem k0_off57_inb : ∀ (i : grid0.Coords) (v12978 : BitVec 32) (v12980 : BitVec 32) (k0_hw37 : k0_chk37 i v12978 v12980), ∀ (k0_h2 : k0_cond2 i = 1#1), ∀ a, (k0_off57 v12978 v12980) a + S14x24x256.size a ≤ S400x200x256.size a := fun i v12978 v12980 k0_hw37 k0_h2 => k0_hw37.2 k0_h2

def k0_off58 (i : grid0.Coords) : Fin 2 → Nat :=
  let c32_i32_7047 : BitVec 32 := 32#32
  let arg0 : BitVec 32 := BitVec.ofNat 32 (i 0).val
  let c1_i32_7046 : BitVec 32 := 1#32
  let v12991 : BitVec 32 := Scalar.addi arg0 c1_i32_7046
  let v12992 : BitVec 32 := Scalar.muli c32_i32_7047 v12991
  let c5_i32_7048 : BitVec 32 := 5#32
  let v12993 : BitVec 32 := Scalar.addi v12992 c5_i32_7048
  let v12994 : Index := Scalar.indexCast v12993
  let c0_7049 : Index := 0#32
  ![v12994.toNat, 0]
def k0_off59 (i : grid0.Coords) : Fin 2 → Nat :=
  let c32_i32_7047 : BitVec 32 := 32#32
  let arg0 : BitVec 32 := BitVec.ofNat 32 (i 0).val
  let c1_i32_7046 : BitVec 32 := 1#32
  let v12991 : BitVec 32 := Scalar.addi arg0 c1_i32_7046
  let v12992 : BitVec 32 := Scalar.muli c32_i32_7047 v12991
  let c5_i32_7048 : BitVec 32 := 5#32
  let v12993 : BitVec 32 := Scalar.addi v12992 c5_i32_7048
  let v12996 : Index := Scalar.indexCast v12993
  let c1_7050 : Index := 1#32
  ![v12996.toNat, 1]
def k0_mult38 (v12997 : BitVec 32) : BitVec 32 :=
  v12997

def k0_off60 (i : grid0.Coords) : Fin 1 → Nat :=
  let c32_i32_7053 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13001 : BitVec 32 := Scalar.muli c32_i32_7053 v2
  let c5_i32_7054 : BitVec 32 := 5#32
  let v13002 : BitVec 32 := Scalar.addi v13001 c5_i32_7054
  ![v13002.toNat]
def k0_off61 (i : grid0.Coords) : Fin 4 → Nat :=
  let c32_i32_7051 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v12999 : BitVec 32 := Scalar.muli c32_i32_7051 v2
  let c5_i32_7052 : BitVec 32 := 5#32
  let v13000 : BitVec 32 := Scalar.addi v12999 c5_i32_7052
  let c0_i32_7055 : BitVec 32 := 0#32
  let c0_i32_7056 : BitVec 32 := 0#32
  let c0_i32_7057 : BitVec 32 := 0#32
  ![v13000.toNat, 0, 0, 0]
def k0_off62 (v12995 : BitVec 32) (v12997 : BitVec 32) : Fin 3 → Nat :=
  let v12998 : BitVec 32 := v12997
  let c0_i32_7058 : BitVec 32 := 0#32
  ![v12995.toNat, v12998.toNat, 0]

def k0_chk38 (i : grid0.Coords) (v12995 : BitVec 32) (v12997 : BitVec 32) : Prop :=
  (∀ (k0_h2 : k0_cond2 i = 1#1), 8 ∣ (k0_mult38 v12997).toNat) ∧
  (∀ (k0_h2 : k0_cond2 i = 1#1), ∀ a, (k0_off62 v12995 v12997) a + S14x24x256.size a ≤ S400x200x256.size a)
theorem k0_mult38_dvd : ∀ (i : grid0.Coords) (v12995 : BitVec 32) (v12997 : BitVec 32) (k0_hw38 : k0_chk38 i v12995 v12997), ∀ (k0_h2 : k0_cond2 i = 1#1), 8 ∣ (k0_mult38 v12997).toNat := fun i v12995 v12997 k0_hw38 k0_h2 => k0_hw38.1 k0_h2
theorem k0_off62_inb : ∀ (i : grid0.Coords) (v12995 : BitVec 32) (v12997 : BitVec 32) (k0_hw38 : k0_chk38 i v12995 v12997), ∀ (k0_h2 : k0_cond2 i = 1#1), ∀ a, (k0_off62 v12995 v12997) a + S14x24x256.size a ≤ S400x200x256.size a := fun i v12995 v12997 k0_hw38 k0_h2 => k0_hw38.2 k0_h2

def k0_off63 (i : grid0.Coords) : Fin 2 → Nat :=
  let c32_i32_7060 : BitVec 32 := 32#32
  let arg0 : BitVec 32 := BitVec.ofNat 32 (i 0).val
  let c1_i32_7059 : BitVec 32 := 1#32
  let v13008 : BitVec 32 := Scalar.addi arg0 c1_i32_7059
  let v13009 : BitVec 32 := Scalar.muli c32_i32_7060 v13008
  let c6_i32_7061 : BitVec 32 := 6#32
  let v13010 : BitVec 32 := Scalar.addi v13009 c6_i32_7061
  let v13011 : Index := Scalar.indexCast v13010
  let c0_7062 : Index := 0#32
  ![v13011.toNat, 0]
def k0_off64 (i : grid0.Coords) : Fin 2 → Nat :=
  let c32_i32_7060 : BitVec 32 := 32#32
  let arg0 : BitVec 32 := BitVec.ofNat 32 (i 0).val
  let c1_i32_7059 : BitVec 32 := 1#32
  let v13008 : BitVec 32 := Scalar.addi arg0 c1_i32_7059
  let v13009 : BitVec 32 := Scalar.muli c32_i32_7060 v13008
  let c6_i32_7061 : BitVec 32 := 6#32
  let v13010 : BitVec 32 := Scalar.addi v13009 c6_i32_7061
  let v13013 : Index := Scalar.indexCast v13010
  let c1_7063 : Index := 1#32
  ![v13013.toNat, 1]
def k0_mult39 (v13014 : BitVec 32) : BitVec 32 :=
  v13014

def k0_off65 (i : grid0.Coords) : Fin 1 → Nat :=
  let c32_i32_7066 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13018 : BitVec 32 := Scalar.muli c32_i32_7066 v2
  let c6_i32_7067 : BitVec 32 := 6#32
  let v13019 : BitVec 32 := Scalar.addi v13018 c6_i32_7067
  ![v13019.toNat]
def k0_off66 (i : grid0.Coords) : Fin 4 → Nat :=
  let c32_i32_7064 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13016 : BitVec 32 := Scalar.muli c32_i32_7064 v2
  let c6_i32_7065 : BitVec 32 := 6#32
  let v13017 : BitVec 32 := Scalar.addi v13016 c6_i32_7065
  let c0_i32_7068 : BitVec 32 := 0#32
  let c0_i32_7069 : BitVec 32 := 0#32
  let c0_i32_7070 : BitVec 32 := 0#32
  ![v13017.toNat, 0, 0, 0]
def k0_off67 (v13012 : BitVec 32) (v13014 : BitVec 32) : Fin 3 → Nat :=
  let v13015 : BitVec 32 := v13014
  let c0_i32_7071 : BitVec 32 := 0#32
  ![v13012.toNat, v13015.toNat, 0]

def k0_chk39 (i : grid0.Coords) (v13012 : BitVec 32) (v13014 : BitVec 32) : Prop :=
  (∀ (k0_h2 : k0_cond2 i = 1#1), 8 ∣ (k0_mult39 v13014).toNat) ∧
  (∀ (k0_h2 : k0_cond2 i = 1#1), ∀ a, (k0_off67 v13012 v13014) a + S14x24x256.size a ≤ S400x200x256.size a)
theorem k0_mult39_dvd : ∀ (i : grid0.Coords) (v13012 : BitVec 32) (v13014 : BitVec 32) (k0_hw39 : k0_chk39 i v13012 v13014), ∀ (k0_h2 : k0_cond2 i = 1#1), 8 ∣ (k0_mult39 v13014).toNat := fun i v13012 v13014 k0_hw39 k0_h2 => k0_hw39.1 k0_h2
theorem k0_off67_inb : ∀ (i : grid0.Coords) (v13012 : BitVec 32) (v13014 : BitVec 32) (k0_hw39 : k0_chk39 i v13012 v13014), ∀ (k0_h2 : k0_cond2 i = 1#1), ∀ a, (k0_off67 v13012 v13014) a + S14x24x256.size a ≤ S400x200x256.size a := fun i v13012 v13014 k0_hw39 k0_h2 => k0_hw39.2 k0_h2

def k0_off68 (i : grid0.Coords) : Fin 2 → Nat :=
  let c32_i32_7073 : BitVec 32 := 32#32
  let arg0 : BitVec 32 := BitVec.ofNat 32 (i 0).val
  let c1_i32_7072 : BitVec 32 := 1#32
  let v13025 : BitVec 32 := Scalar.addi arg0 c1_i32_7072
  let v13026 : BitVec 32 := Scalar.muli c32_i32_7073 v13025
  let c7_i32_7074 : BitVec 32 := 7#32
  let v13027 : BitVec 32 := Scalar.addi v13026 c7_i32_7074
  let v13028 : Index := Scalar.indexCast v13027
  let c0_7075 : Index := 0#32
  ![v13028.toNat, 0]
def k0_off69 (i : grid0.Coords) : Fin 2 → Nat :=
  let c32_i32_7073 : BitVec 32 := 32#32
  let arg0 : BitVec 32 := BitVec.ofNat 32 (i 0).val
  let c1_i32_7072 : BitVec 32 := 1#32
  let v13025 : BitVec 32 := Scalar.addi arg0 c1_i32_7072
  let v13026 : BitVec 32 := Scalar.muli c32_i32_7073 v13025
  let c7_i32_7074 : BitVec 32 := 7#32
  let v13027 : BitVec 32 := Scalar.addi v13026 c7_i32_7074
  let v13030 : Index := Scalar.indexCast v13027
  let c1_7076 : Index := 1#32
  ![v13030.toNat, 1]
def k0_mult40 (v13031 : BitVec 32) : BitVec 32 :=
  v13031

def k0_off70 (i : grid0.Coords) : Fin 1 → Nat :=
  let c32_i32_7079 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13035 : BitVec 32 := Scalar.muli c32_i32_7079 v2
  let c7_i32_7080 : BitVec 32 := 7#32
  let v13036 : BitVec 32 := Scalar.addi v13035 c7_i32_7080
  ![v13036.toNat]
def k0_off71 (i : grid0.Coords) : Fin 4 → Nat :=
  let c32_i32_7077 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13033 : BitVec 32 := Scalar.muli c32_i32_7077 v2
  let c7_i32_7078 : BitVec 32 := 7#32
  let v13034 : BitVec 32 := Scalar.addi v13033 c7_i32_7078
  let c0_i32_7081 : BitVec 32 := 0#32
  let c0_i32_7082 : BitVec 32 := 0#32
  let c0_i32_7083 : BitVec 32 := 0#32
  ![v13034.toNat, 0, 0, 0]
def k0_off72 (v13029 : BitVec 32) (v13031 : BitVec 32) : Fin 3 → Nat :=
  let v13032 : BitVec 32 := v13031
  let c0_i32_7084 : BitVec 32 := 0#32
  ![v13029.toNat, v13032.toNat, 0]

def k0_chk40 (i : grid0.Coords) (v13029 : BitVec 32) (v13031 : BitVec 32) : Prop :=
  (∀ (k0_h2 : k0_cond2 i = 1#1), 8 ∣ (k0_mult40 v13031).toNat) ∧
  (∀ (k0_h2 : k0_cond2 i = 1#1), ∀ a, (k0_off72 v13029 v13031) a + S14x24x256.size a ≤ S400x200x256.size a)
theorem k0_mult40_dvd : ∀ (i : grid0.Coords) (v13029 : BitVec 32) (v13031 : BitVec 32) (k0_hw40 : k0_chk40 i v13029 v13031), ∀ (k0_h2 : k0_cond2 i = 1#1), 8 ∣ (k0_mult40 v13031).toNat := fun i v13029 v13031 k0_hw40 k0_h2 => k0_hw40.1 k0_h2
theorem k0_off72_inb : ∀ (i : grid0.Coords) (v13029 : BitVec 32) (v13031 : BitVec 32) (k0_hw40 : k0_chk40 i v13029 v13031), ∀ (k0_h2 : k0_cond2 i = 1#1), ∀ a, (k0_off72 v13029 v13031) a + S14x24x256.size a ≤ S400x200x256.size a := fun i v13029 v13031 k0_hw40 k0_h2 => k0_hw40.2 k0_h2

def k0_off73 (i : grid0.Coords) : Fin 2 → Nat :=
  let c32_i32_7086 : BitVec 32 := 32#32
  let arg0 : BitVec 32 := BitVec.ofNat 32 (i 0).val
  let c1_i32_7085 : BitVec 32 := 1#32
  let v13042 : BitVec 32 := Scalar.addi arg0 c1_i32_7085
  let v13043 : BitVec 32 := Scalar.muli c32_i32_7086 v13042
  let c8_i32_7087 : BitVec 32 := 8#32
  let v13044 : BitVec 32 := Scalar.addi v13043 c8_i32_7087
  let v13045 : Index := Scalar.indexCast v13044
  let c0_7088 : Index := 0#32
  ![v13045.toNat, 0]
def k0_off74 (i : grid0.Coords) : Fin 2 → Nat :=
  let c32_i32_7086 : BitVec 32 := 32#32
  let arg0 : BitVec 32 := BitVec.ofNat 32 (i 0).val
  let c1_i32_7085 : BitVec 32 := 1#32
  let v13042 : BitVec 32 := Scalar.addi arg0 c1_i32_7085
  let v13043 : BitVec 32 := Scalar.muli c32_i32_7086 v13042
  let c8_i32_7087 : BitVec 32 := 8#32
  let v13044 : BitVec 32 := Scalar.addi v13043 c8_i32_7087
  let v13047 : Index := Scalar.indexCast v13044
  let c1_7089 : Index := 1#32
  ![v13047.toNat, 1]
def k0_mult41 (v13048 : BitVec 32) : BitVec 32 :=
  v13048

def k0_off75 (i : grid0.Coords) : Fin 1 → Nat :=
  let c32_i32_7092 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13052 : BitVec 32 := Scalar.muli c32_i32_7092 v2
  let c8_i32_7093 : BitVec 32 := 8#32
  let v13053 : BitVec 32 := Scalar.addi v13052 c8_i32_7093
  ![v13053.toNat]
def k0_off76 (i : grid0.Coords) : Fin 4 → Nat :=
  let c32_i32_7090 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13050 : BitVec 32 := Scalar.muli c32_i32_7090 v2
  let c8_i32_7091 : BitVec 32 := 8#32
  let v13051 : BitVec 32 := Scalar.addi v13050 c8_i32_7091
  let c0_i32_7094 : BitVec 32 := 0#32
  let c0_i32_7095 : BitVec 32 := 0#32
  let c0_i32_7096 : BitVec 32 := 0#32
  ![v13051.toNat, 0, 0, 0]
def k0_off77 (v13046 : BitVec 32) (v13048 : BitVec 32) : Fin 3 → Nat :=
  let v13049 : BitVec 32 := v13048
  let c0_i32_7097 : BitVec 32 := 0#32
  ![v13046.toNat, v13049.toNat, 0]

def k0_chk41 (i : grid0.Coords) (v13046 : BitVec 32) (v13048 : BitVec 32) : Prop :=
  (∀ (k0_h2 : k0_cond2 i = 1#1), 8 ∣ (k0_mult41 v13048).toNat) ∧
  (∀ (k0_h2 : k0_cond2 i = 1#1), ∀ a, (k0_off77 v13046 v13048) a + S14x24x256.size a ≤ S400x200x256.size a)
theorem k0_mult41_dvd : ∀ (i : grid0.Coords) (v13046 : BitVec 32) (v13048 : BitVec 32) (k0_hw41 : k0_chk41 i v13046 v13048), ∀ (k0_h2 : k0_cond2 i = 1#1), 8 ∣ (k0_mult41 v13048).toNat := fun i v13046 v13048 k0_hw41 k0_h2 => k0_hw41.1 k0_h2
theorem k0_off77_inb : ∀ (i : grid0.Coords) (v13046 : BitVec 32) (v13048 : BitVec 32) (k0_hw41 : k0_chk41 i v13046 v13048), ∀ (k0_h2 : k0_cond2 i = 1#1), ∀ a, (k0_off77 v13046 v13048) a + S14x24x256.size a ≤ S400x200x256.size a := fun i v13046 v13048 k0_hw41 k0_h2 => k0_hw41.2 k0_h2

def k0_off78 (i : grid0.Coords) : Fin 2 → Nat :=
  let c32_i32_7099 : BitVec 32 := 32#32
  let arg0 : BitVec 32 := BitVec.ofNat 32 (i 0).val
  let c1_i32_7098 : BitVec 32 := 1#32
  let v13059 : BitVec 32 := Scalar.addi arg0 c1_i32_7098
  let v13060 : BitVec 32 := Scalar.muli c32_i32_7099 v13059
  let c9_i32_7100 : BitVec 32 := 9#32
  let v13061 : BitVec 32 := Scalar.addi v13060 c9_i32_7100
  let v13062 : Index := Scalar.indexCast v13061
  let c0_7101 : Index := 0#32
  ![v13062.toNat, 0]
def k0_off79 (i : grid0.Coords) : Fin 2 → Nat :=
  let c32_i32_7099 : BitVec 32 := 32#32
  let arg0 : BitVec 32 := BitVec.ofNat 32 (i 0).val
  let c1_i32_7098 : BitVec 32 := 1#32
  let v13059 : BitVec 32 := Scalar.addi arg0 c1_i32_7098
  let v13060 : BitVec 32 := Scalar.muli c32_i32_7099 v13059
  let c9_i32_7100 : BitVec 32 := 9#32
  let v13061 : BitVec 32 := Scalar.addi v13060 c9_i32_7100
  let v13064 : Index := Scalar.indexCast v13061
  let c1_7102 : Index := 1#32
  ![v13064.toNat, 1]
def k0_mult42 (v13065 : BitVec 32) : BitVec 32 :=
  v13065

def k0_off80 (i : grid0.Coords) : Fin 1 → Nat :=
  let c32_i32_7105 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13069 : BitVec 32 := Scalar.muli c32_i32_7105 v2
  let c9_i32_7106 : BitVec 32 := 9#32
  let v13070 : BitVec 32 := Scalar.addi v13069 c9_i32_7106
  ![v13070.toNat]
def k0_off81 (i : grid0.Coords) : Fin 4 → Nat :=
  let c32_i32_7103 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13067 : BitVec 32 := Scalar.muli c32_i32_7103 v2
  let c9_i32_7104 : BitVec 32 := 9#32
  let v13068 : BitVec 32 := Scalar.addi v13067 c9_i32_7104
  let c0_i32_7107 : BitVec 32 := 0#32
  let c0_i32_7108 : BitVec 32 := 0#32
  let c0_i32_7109 : BitVec 32 := 0#32
  ![v13068.toNat, 0, 0, 0]
def k0_off82 (v13063 : BitVec 32) (v13065 : BitVec 32) : Fin 3 → Nat :=
  let v13066 : BitVec 32 := v13065
  let c0_i32_7110 : BitVec 32 := 0#32
  ![v13063.toNat, v13066.toNat, 0]

def k0_chk42 (i : grid0.Coords) (v13063 : BitVec 32) (v13065 : BitVec 32) : Prop :=
  (∀ (k0_h2 : k0_cond2 i = 1#1), 8 ∣ (k0_mult42 v13065).toNat) ∧
  (∀ (k0_h2 : k0_cond2 i = 1#1), ∀ a, (k0_off82 v13063 v13065) a + S14x24x256.size a ≤ S400x200x256.size a)
theorem k0_mult42_dvd : ∀ (i : grid0.Coords) (v13063 : BitVec 32) (v13065 : BitVec 32) (k0_hw42 : k0_chk42 i v13063 v13065), ∀ (k0_h2 : k0_cond2 i = 1#1), 8 ∣ (k0_mult42 v13065).toNat := fun i v13063 v13065 k0_hw42 k0_h2 => k0_hw42.1 k0_h2
theorem k0_off82_inb : ∀ (i : grid0.Coords) (v13063 : BitVec 32) (v13065 : BitVec 32) (k0_hw42 : k0_chk42 i v13063 v13065), ∀ (k0_h2 : k0_cond2 i = 1#1), ∀ a, (k0_off82 v13063 v13065) a + S14x24x256.size a ≤ S400x200x256.size a := fun i v13063 v13065 k0_hw42 k0_h2 => k0_hw42.2 k0_h2

def k0_off83 (i : grid0.Coords) : Fin 2 → Nat :=
  let c32_i32_7112 : BitVec 32 := 32#32
  let arg0 : BitVec 32 := BitVec.ofNat 32 (i 0).val
  let c1_i32_7111 : BitVec 32 := 1#32
  let v13076 : BitVec 32 := Scalar.addi arg0 c1_i32_7111
  let v13077 : BitVec 32 := Scalar.muli c32_i32_7112 v13076
  let c10_i32_7113 : BitVec 32 := 10#32
  let v13078 : BitVec 32 := Scalar.addi v13077 c10_i32_7113
  let v13079 : Index := Scalar.indexCast v13078
  let c0_7114 : Index := 0#32
  ![v13079.toNat, 0]
def k0_off84 (i : grid0.Coords) : Fin 2 → Nat :=
  let c32_i32_7112 : BitVec 32 := 32#32
  let arg0 : BitVec 32 := BitVec.ofNat 32 (i 0).val
  let c1_i32_7111 : BitVec 32 := 1#32
  let v13076 : BitVec 32 := Scalar.addi arg0 c1_i32_7111
  let v13077 : BitVec 32 := Scalar.muli c32_i32_7112 v13076
  let c10_i32_7113 : BitVec 32 := 10#32
  let v13078 : BitVec 32 := Scalar.addi v13077 c10_i32_7113
  let v13081 : Index := Scalar.indexCast v13078
  let c1_7115 : Index := 1#32
  ![v13081.toNat, 1]
def k0_mult43 (v13082 : BitVec 32) : BitVec 32 :=
  v13082

def k0_off85 (i : grid0.Coords) : Fin 1 → Nat :=
  let c32_i32_7118 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13086 : BitVec 32 := Scalar.muli c32_i32_7118 v2
  let c10_i32_7119 : BitVec 32 := 10#32
  let v13087 : BitVec 32 := Scalar.addi v13086 c10_i32_7119
  ![v13087.toNat]
def k0_off86 (i : grid0.Coords) : Fin 4 → Nat :=
  let c32_i32_7116 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13084 : BitVec 32 := Scalar.muli c32_i32_7116 v2
  let c10_i32_7117 : BitVec 32 := 10#32
  let v13085 : BitVec 32 := Scalar.addi v13084 c10_i32_7117
  let c0_i32_7120 : BitVec 32 := 0#32
  let c0_i32_7121 : BitVec 32 := 0#32
  let c0_i32_7122 : BitVec 32 := 0#32
  ![v13085.toNat, 0, 0, 0]
def k0_off87 (v13080 : BitVec 32) (v13082 : BitVec 32) : Fin 3 → Nat :=
  let v13083 : BitVec 32 := v13082
  let c0_i32_7123 : BitVec 32 := 0#32
  ![v13080.toNat, v13083.toNat, 0]

def k0_chk43 (i : grid0.Coords) (v13080 : BitVec 32) (v13082 : BitVec 32) : Prop :=
  (∀ (k0_h2 : k0_cond2 i = 1#1), 8 ∣ (k0_mult43 v13082).toNat) ∧
  (∀ (k0_h2 : k0_cond2 i = 1#1), ∀ a, (k0_off87 v13080 v13082) a + S14x24x256.size a ≤ S400x200x256.size a)
theorem k0_mult43_dvd : ∀ (i : grid0.Coords) (v13080 : BitVec 32) (v13082 : BitVec 32) (k0_hw43 : k0_chk43 i v13080 v13082), ∀ (k0_h2 : k0_cond2 i = 1#1), 8 ∣ (k0_mult43 v13082).toNat := fun i v13080 v13082 k0_hw43 k0_h2 => k0_hw43.1 k0_h2
theorem k0_off87_inb : ∀ (i : grid0.Coords) (v13080 : BitVec 32) (v13082 : BitVec 32) (k0_hw43 : k0_chk43 i v13080 v13082), ∀ (k0_h2 : k0_cond2 i = 1#1), ∀ a, (k0_off87 v13080 v13082) a + S14x24x256.size a ≤ S400x200x256.size a := fun i v13080 v13082 k0_hw43 k0_h2 => k0_hw43.2 k0_h2

def k0_off88 (i : grid0.Coords) : Fin 2 → Nat :=
  let c32_i32_7125 : BitVec 32 := 32#32
  let arg0 : BitVec 32 := BitVec.ofNat 32 (i 0).val
  let c1_i32_7124 : BitVec 32 := 1#32
  let v13093 : BitVec 32 := Scalar.addi arg0 c1_i32_7124
  let v13094 : BitVec 32 := Scalar.muli c32_i32_7125 v13093
  let c11_i32_7126 : BitVec 32 := 11#32
  let v13095 : BitVec 32 := Scalar.addi v13094 c11_i32_7126
  let v13096 : Index := Scalar.indexCast v13095
  let c0_7127 : Index := 0#32
  ![v13096.toNat, 0]
def k0_off89 (i : grid0.Coords) : Fin 2 → Nat :=
  let c32_i32_7125 : BitVec 32 := 32#32
  let arg0 : BitVec 32 := BitVec.ofNat 32 (i 0).val
  let c1_i32_7124 : BitVec 32 := 1#32
  let v13093 : BitVec 32 := Scalar.addi arg0 c1_i32_7124
  let v13094 : BitVec 32 := Scalar.muli c32_i32_7125 v13093
  let c11_i32_7126 : BitVec 32 := 11#32
  let v13095 : BitVec 32 := Scalar.addi v13094 c11_i32_7126
  let v13098 : Index := Scalar.indexCast v13095
  let c1_7128 : Index := 1#32
  ![v13098.toNat, 1]
def k0_mult44 (v13099 : BitVec 32) : BitVec 32 :=
  v13099

def k0_off90 (i : grid0.Coords) : Fin 1 → Nat :=
  let c32_i32_7131 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13103 : BitVec 32 := Scalar.muli c32_i32_7131 v2
  let c11_i32_7132 : BitVec 32 := 11#32
  let v13104 : BitVec 32 := Scalar.addi v13103 c11_i32_7132
  ![v13104.toNat]
def k0_off91 (i : grid0.Coords) : Fin 4 → Nat :=
  let c32_i32_7129 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13101 : BitVec 32 := Scalar.muli c32_i32_7129 v2
  let c11_i32_7130 : BitVec 32 := 11#32
  let v13102 : BitVec 32 := Scalar.addi v13101 c11_i32_7130
  let c0_i32_7133 : BitVec 32 := 0#32
  let c0_i32_7134 : BitVec 32 := 0#32
  let c0_i32_7135 : BitVec 32 := 0#32
  ![v13102.toNat, 0, 0, 0]
def k0_off92 (v13097 : BitVec 32) (v13099 : BitVec 32) : Fin 3 → Nat :=
  let v13100 : BitVec 32 := v13099
  let c0_i32_7136 : BitVec 32 := 0#32
  ![v13097.toNat, v13100.toNat, 0]

def k0_chk44 (i : grid0.Coords) (v13097 : BitVec 32) (v13099 : BitVec 32) : Prop :=
  (∀ (k0_h2 : k0_cond2 i = 1#1), 8 ∣ (k0_mult44 v13099).toNat) ∧
  (∀ (k0_h2 : k0_cond2 i = 1#1), ∀ a, (k0_off92 v13097 v13099) a + S14x24x256.size a ≤ S400x200x256.size a)
theorem k0_mult44_dvd : ∀ (i : grid0.Coords) (v13097 : BitVec 32) (v13099 : BitVec 32) (k0_hw44 : k0_chk44 i v13097 v13099), ∀ (k0_h2 : k0_cond2 i = 1#1), 8 ∣ (k0_mult44 v13099).toNat := fun i v13097 v13099 k0_hw44 k0_h2 => k0_hw44.1 k0_h2
theorem k0_off92_inb : ∀ (i : grid0.Coords) (v13097 : BitVec 32) (v13099 : BitVec 32) (k0_hw44 : k0_chk44 i v13097 v13099), ∀ (k0_h2 : k0_cond2 i = 1#1), ∀ a, (k0_off92 v13097 v13099) a + S14x24x256.size a ≤ S400x200x256.size a := fun i v13097 v13099 k0_hw44 k0_h2 => k0_hw44.2 k0_h2

def k0_off93 (i : grid0.Coords) : Fin 2 → Nat :=
  let c32_i32_7138 : BitVec 32 := 32#32
  let arg0 : BitVec 32 := BitVec.ofNat 32 (i 0).val
  let c1_i32_7137 : BitVec 32 := 1#32
  let v13110 : BitVec 32 := Scalar.addi arg0 c1_i32_7137
  let v13111 : BitVec 32 := Scalar.muli c32_i32_7138 v13110
  let c12_i32_7139 : BitVec 32 := 12#32
  let v13112 : BitVec 32 := Scalar.addi v13111 c12_i32_7139
  let v13113 : Index := Scalar.indexCast v13112
  let c0_7140 : Index := 0#32
  ![v13113.toNat, 0]
def k0_off94 (i : grid0.Coords) : Fin 2 → Nat :=
  let c32_i32_7138 : BitVec 32 := 32#32
  let arg0 : BitVec 32 := BitVec.ofNat 32 (i 0).val
  let c1_i32_7137 : BitVec 32 := 1#32
  let v13110 : BitVec 32 := Scalar.addi arg0 c1_i32_7137
  let v13111 : BitVec 32 := Scalar.muli c32_i32_7138 v13110
  let c12_i32_7139 : BitVec 32 := 12#32
  let v13112 : BitVec 32 := Scalar.addi v13111 c12_i32_7139
  let v13115 : Index := Scalar.indexCast v13112
  let c1_7141 : Index := 1#32
  ![v13115.toNat, 1]
def k0_mult45 (v13116 : BitVec 32) : BitVec 32 :=
  v13116

def k0_off95 (i : grid0.Coords) : Fin 1 → Nat :=
  let c32_i32_7144 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13120 : BitVec 32 := Scalar.muli c32_i32_7144 v2
  let c12_i32_7145 : BitVec 32 := 12#32
  let v13121 : BitVec 32 := Scalar.addi v13120 c12_i32_7145
  ![v13121.toNat]
def k0_off96 (i : grid0.Coords) : Fin 4 → Nat :=
  let c32_i32_7142 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13118 : BitVec 32 := Scalar.muli c32_i32_7142 v2
  let c12_i32_7143 : BitVec 32 := 12#32
  let v13119 : BitVec 32 := Scalar.addi v13118 c12_i32_7143
  let c0_i32_7146 : BitVec 32 := 0#32
  let c0_i32_7147 : BitVec 32 := 0#32
  let c0_i32_7148 : BitVec 32 := 0#32
  ![v13119.toNat, 0, 0, 0]
def k0_off97 (v13114 : BitVec 32) (v13116 : BitVec 32) : Fin 3 → Nat :=
  let v13117 : BitVec 32 := v13116
  let c0_i32_7149 : BitVec 32 := 0#32
  ![v13114.toNat, v13117.toNat, 0]

def k0_chk45 (i : grid0.Coords) (v13114 : BitVec 32) (v13116 : BitVec 32) : Prop :=
  (∀ (k0_h2 : k0_cond2 i = 1#1), 8 ∣ (k0_mult45 v13116).toNat) ∧
  (∀ (k0_h2 : k0_cond2 i = 1#1), ∀ a, (k0_off97 v13114 v13116) a + S14x24x256.size a ≤ S400x200x256.size a)
theorem k0_mult45_dvd : ∀ (i : grid0.Coords) (v13114 : BitVec 32) (v13116 : BitVec 32) (k0_hw45 : k0_chk45 i v13114 v13116), ∀ (k0_h2 : k0_cond2 i = 1#1), 8 ∣ (k0_mult45 v13116).toNat := fun i v13114 v13116 k0_hw45 k0_h2 => k0_hw45.1 k0_h2
theorem k0_off97_inb : ∀ (i : grid0.Coords) (v13114 : BitVec 32) (v13116 : BitVec 32) (k0_hw45 : k0_chk45 i v13114 v13116), ∀ (k0_h2 : k0_cond2 i = 1#1), ∀ a, (k0_off97 v13114 v13116) a + S14x24x256.size a ≤ S400x200x256.size a := fun i v13114 v13116 k0_hw45 k0_h2 => k0_hw45.2 k0_h2

def k0_off98 (i : grid0.Coords) : Fin 2 → Nat :=
  let c32_i32_7151 : BitVec 32 := 32#32
  let arg0 : BitVec 32 := BitVec.ofNat 32 (i 0).val
  let c1_i32_7150 : BitVec 32 := 1#32
  let v13127 : BitVec 32 := Scalar.addi arg0 c1_i32_7150
  let v13128 : BitVec 32 := Scalar.muli c32_i32_7151 v13127
  let c13_i32_7152 : BitVec 32 := 13#32
  let v13129 : BitVec 32 := Scalar.addi v13128 c13_i32_7152
  let v13130 : Index := Scalar.indexCast v13129
  let c0_7153 : Index := 0#32
  ![v13130.toNat, 0]
def k0_off99 (i : grid0.Coords) : Fin 2 → Nat :=
  let c32_i32_7151 : BitVec 32 := 32#32
  let arg0 : BitVec 32 := BitVec.ofNat 32 (i 0).val
  let c1_i32_7150 : BitVec 32 := 1#32
  let v13127 : BitVec 32 := Scalar.addi arg0 c1_i32_7150
  let v13128 : BitVec 32 := Scalar.muli c32_i32_7151 v13127
  let c13_i32_7152 : BitVec 32 := 13#32
  let v13129 : BitVec 32 := Scalar.addi v13128 c13_i32_7152
  let v13132 : Index := Scalar.indexCast v13129
  let c1_7154 : Index := 1#32
  ![v13132.toNat, 1]
def k0_mult46 (v13133 : BitVec 32) : BitVec 32 :=
  v13133

def k0_off100 (i : grid0.Coords) : Fin 1 → Nat :=
  let c32_i32_7157 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13137 : BitVec 32 := Scalar.muli c32_i32_7157 v2
  let c13_i32_7158 : BitVec 32 := 13#32
  let v13138 : BitVec 32 := Scalar.addi v13137 c13_i32_7158
  ![v13138.toNat]
def k0_off101 (i : grid0.Coords) : Fin 4 → Nat :=
  let c32_i32_7155 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13135 : BitVec 32 := Scalar.muli c32_i32_7155 v2
  let c13_i32_7156 : BitVec 32 := 13#32
  let v13136 : BitVec 32 := Scalar.addi v13135 c13_i32_7156
  let c0_i32_7159 : BitVec 32 := 0#32
  let c0_i32_7160 : BitVec 32 := 0#32
  let c0_i32_7161 : BitVec 32 := 0#32
  ![v13136.toNat, 0, 0, 0]
def k0_off102 (v13131 : BitVec 32) (v13133 : BitVec 32) : Fin 3 → Nat :=
  let v13134 : BitVec 32 := v13133
  let c0_i32_7162 : BitVec 32 := 0#32
  ![v13131.toNat, v13134.toNat, 0]

def k0_chk46 (i : grid0.Coords) (v13131 : BitVec 32) (v13133 : BitVec 32) : Prop :=
  (∀ (k0_h2 : k0_cond2 i = 1#1), 8 ∣ (k0_mult46 v13133).toNat) ∧
  (∀ (k0_h2 : k0_cond2 i = 1#1), ∀ a, (k0_off102 v13131 v13133) a + S14x24x256.size a ≤ S400x200x256.size a)
theorem k0_mult46_dvd : ∀ (i : grid0.Coords) (v13131 : BitVec 32) (v13133 : BitVec 32) (k0_hw46 : k0_chk46 i v13131 v13133), ∀ (k0_h2 : k0_cond2 i = 1#1), 8 ∣ (k0_mult46 v13133).toNat := fun i v13131 v13133 k0_hw46 k0_h2 => k0_hw46.1 k0_h2
theorem k0_off102_inb : ∀ (i : grid0.Coords) (v13131 : BitVec 32) (v13133 : BitVec 32) (k0_hw46 : k0_chk46 i v13131 v13133), ∀ (k0_h2 : k0_cond2 i = 1#1), ∀ a, (k0_off102 v13131 v13133) a + S14x24x256.size a ≤ S400x200x256.size a := fun i v13131 v13133 k0_hw46 k0_h2 => k0_hw46.2 k0_h2

def k0_off103 (i : grid0.Coords) : Fin 2 → Nat :=
  let c32_i32_7164 : BitVec 32 := 32#32
  let arg0 : BitVec 32 := BitVec.ofNat 32 (i 0).val
  let c1_i32_7163 : BitVec 32 := 1#32
  let v13144 : BitVec 32 := Scalar.addi arg0 c1_i32_7163
  let v13145 : BitVec 32 := Scalar.muli c32_i32_7164 v13144
  let c14_i32_7165 : BitVec 32 := 14#32
  let v13146 : BitVec 32 := Scalar.addi v13145 c14_i32_7165
  let v13147 : Index := Scalar.indexCast v13146
  let c0_7166 : Index := 0#32
  ![v13147.toNat, 0]
def k0_off104 (i : grid0.Coords) : Fin 2 → Nat :=
  let c32_i32_7164 : BitVec 32 := 32#32
  let arg0 : BitVec 32 := BitVec.ofNat 32 (i 0).val
  let c1_i32_7163 : BitVec 32 := 1#32
  let v13144 : BitVec 32 := Scalar.addi arg0 c1_i32_7163
  let v13145 : BitVec 32 := Scalar.muli c32_i32_7164 v13144
  let c14_i32_7165 : BitVec 32 := 14#32
  let v13146 : BitVec 32 := Scalar.addi v13145 c14_i32_7165
  let v13149 : Index := Scalar.indexCast v13146
  let c1_7167 : Index := 1#32
  ![v13149.toNat, 1]
def k0_mult47 (v13150 : BitVec 32) : BitVec 32 :=
  v13150

def k0_off105 (i : grid0.Coords) : Fin 1 → Nat :=
  let c32_i32_7170 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13154 : BitVec 32 := Scalar.muli c32_i32_7170 v2
  let c14_i32_7171 : BitVec 32 := 14#32
  let v13155 : BitVec 32 := Scalar.addi v13154 c14_i32_7171
  ![v13155.toNat]
def k0_off106 (i : grid0.Coords) : Fin 4 → Nat :=
  let c32_i32_7168 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13152 : BitVec 32 := Scalar.muli c32_i32_7168 v2
  let c14_i32_7169 : BitVec 32 := 14#32
  let v13153 : BitVec 32 := Scalar.addi v13152 c14_i32_7169
  let c0_i32_7172 : BitVec 32 := 0#32
  let c0_i32_7173 : BitVec 32 := 0#32
  let c0_i32_7174 : BitVec 32 := 0#32
  ![v13153.toNat, 0, 0, 0]
def k0_off107 (v13148 : BitVec 32) (v13150 : BitVec 32) : Fin 3 → Nat :=
  let v13151 : BitVec 32 := v13150
  let c0_i32_7175 : BitVec 32 := 0#32
  ![v13148.toNat, v13151.toNat, 0]

def k0_chk47 (i : grid0.Coords) (v13148 : BitVec 32) (v13150 : BitVec 32) : Prop :=
  (∀ (k0_h2 : k0_cond2 i = 1#1), 8 ∣ (k0_mult47 v13150).toNat) ∧
  (∀ (k0_h2 : k0_cond2 i = 1#1), ∀ a, (k0_off107 v13148 v13150) a + S14x24x256.size a ≤ S400x200x256.size a)
theorem k0_mult47_dvd : ∀ (i : grid0.Coords) (v13148 : BitVec 32) (v13150 : BitVec 32) (k0_hw47 : k0_chk47 i v13148 v13150), ∀ (k0_h2 : k0_cond2 i = 1#1), 8 ∣ (k0_mult47 v13150).toNat := fun i v13148 v13150 k0_hw47 k0_h2 => k0_hw47.1 k0_h2
theorem k0_off107_inb : ∀ (i : grid0.Coords) (v13148 : BitVec 32) (v13150 : BitVec 32) (k0_hw47 : k0_chk47 i v13148 v13150), ∀ (k0_h2 : k0_cond2 i = 1#1), ∀ a, (k0_off107 v13148 v13150) a + S14x24x256.size a ≤ S400x200x256.size a := fun i v13148 v13150 k0_hw47 k0_h2 => k0_hw47.2 k0_h2

def k0_off108 (i : grid0.Coords) : Fin 2 → Nat :=
  let c32_i32_7177 : BitVec 32 := 32#32
  let arg0 : BitVec 32 := BitVec.ofNat 32 (i 0).val
  let c1_i32_7176 : BitVec 32 := 1#32
  let v13161 : BitVec 32 := Scalar.addi arg0 c1_i32_7176
  let v13162 : BitVec 32 := Scalar.muli c32_i32_7177 v13161
  let c15_i32_7178 : BitVec 32 := 15#32
  let v13163 : BitVec 32 := Scalar.addi v13162 c15_i32_7178
  let v13164 : Index := Scalar.indexCast v13163
  let c0_7179 : Index := 0#32
  ![v13164.toNat, 0]
def k0_off109 (i : grid0.Coords) : Fin 2 → Nat :=
  let c32_i32_7177 : BitVec 32 := 32#32
  let arg0 : BitVec 32 := BitVec.ofNat 32 (i 0).val
  let c1_i32_7176 : BitVec 32 := 1#32
  let v13161 : BitVec 32 := Scalar.addi arg0 c1_i32_7176
  let v13162 : BitVec 32 := Scalar.muli c32_i32_7177 v13161
  let c15_i32_7178 : BitVec 32 := 15#32
  let v13163 : BitVec 32 := Scalar.addi v13162 c15_i32_7178
  let v13166 : Index := Scalar.indexCast v13163
  let c1_7180 : Index := 1#32
  ![v13166.toNat, 1]
def k0_mult48 (v13167 : BitVec 32) : BitVec 32 :=
  v13167

def k0_off110 (i : grid0.Coords) : Fin 1 → Nat :=
  let c32_i32_7183 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13171 : BitVec 32 := Scalar.muli c32_i32_7183 v2
  let c15_i32_7184 : BitVec 32 := 15#32
  let v13172 : BitVec 32 := Scalar.addi v13171 c15_i32_7184
  ![v13172.toNat]
def k0_off111 (i : grid0.Coords) : Fin 4 → Nat :=
  let c32_i32_7181 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13169 : BitVec 32 := Scalar.muli c32_i32_7181 v2
  let c15_i32_7182 : BitVec 32 := 15#32
  let v13170 : BitVec 32 := Scalar.addi v13169 c15_i32_7182
  let c0_i32_7185 : BitVec 32 := 0#32
  let c0_i32_7186 : BitVec 32 := 0#32
  let c0_i32_7187 : BitVec 32 := 0#32
  ![v13170.toNat, 0, 0, 0]
def k0_off112 (v13165 : BitVec 32) (v13167 : BitVec 32) : Fin 3 → Nat :=
  let v13168 : BitVec 32 := v13167
  let c0_i32_7188 : BitVec 32 := 0#32
  ![v13165.toNat, v13168.toNat, 0]

def k0_chk48 (i : grid0.Coords) (v13165 : BitVec 32) (v13167 : BitVec 32) : Prop :=
  (∀ (k0_h2 : k0_cond2 i = 1#1), 8 ∣ (k0_mult48 v13167).toNat) ∧
  (∀ (k0_h2 : k0_cond2 i = 1#1), ∀ a, (k0_off112 v13165 v13167) a + S14x24x256.size a ≤ S400x200x256.size a)
theorem k0_mult48_dvd : ∀ (i : grid0.Coords) (v13165 : BitVec 32) (v13167 : BitVec 32) (k0_hw48 : k0_chk48 i v13165 v13167), ∀ (k0_h2 : k0_cond2 i = 1#1), 8 ∣ (k0_mult48 v13167).toNat := fun i v13165 v13167 k0_hw48 k0_h2 => k0_hw48.1 k0_h2
theorem k0_off112_inb : ∀ (i : grid0.Coords) (v13165 : BitVec 32) (v13167 : BitVec 32) (k0_hw48 : k0_chk48 i v13165 v13167), ∀ (k0_h2 : k0_cond2 i = 1#1), ∀ a, (k0_off112 v13165 v13167) a + S14x24x256.size a ≤ S400x200x256.size a := fun i v13165 v13167 k0_hw48 k0_h2 => k0_hw48.2 k0_h2

def k0_off113 (i : grid0.Coords) : Fin 2 → Nat :=
  let c32_i32_7190 : BitVec 32 := 32#32
  let arg0 : BitVec 32 := BitVec.ofNat 32 (i 0).val
  let c1_i32_7189 : BitVec 32 := 1#32
  let v13178 : BitVec 32 := Scalar.addi arg0 c1_i32_7189
  let v13179 : BitVec 32 := Scalar.muli c32_i32_7190 v13178
  let c16_i32_7191 : BitVec 32 := 16#32
  let v13180 : BitVec 32 := Scalar.addi v13179 c16_i32_7191
  let v13181 : Index := Scalar.indexCast v13180
  let c0_7192 : Index := 0#32
  ![v13181.toNat, 0]
def k0_off114 (i : grid0.Coords) : Fin 2 → Nat :=
  let c32_i32_7190 : BitVec 32 := 32#32
  let arg0 : BitVec 32 := BitVec.ofNat 32 (i 0).val
  let c1_i32_7189 : BitVec 32 := 1#32
  let v13178 : BitVec 32 := Scalar.addi arg0 c1_i32_7189
  let v13179 : BitVec 32 := Scalar.muli c32_i32_7190 v13178
  let c16_i32_7191 : BitVec 32 := 16#32
  let v13180 : BitVec 32 := Scalar.addi v13179 c16_i32_7191
  let v13183 : Index := Scalar.indexCast v13180
  let c1_7193 : Index := 1#32
  ![v13183.toNat, 1]
def k0_mult49 (v13184 : BitVec 32) : BitVec 32 :=
  v13184

def k0_off115 (i : grid0.Coords) : Fin 1 → Nat :=
  let c32_i32_7196 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13188 : BitVec 32 := Scalar.muli c32_i32_7196 v2
  let c16_i32_7197 : BitVec 32 := 16#32
  let v13189 : BitVec 32 := Scalar.addi v13188 c16_i32_7197
  ![v13189.toNat]
def k0_off116 (i : grid0.Coords) : Fin 4 → Nat :=
  let c32_i32_7194 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13186 : BitVec 32 := Scalar.muli c32_i32_7194 v2
  let c16_i32_7195 : BitVec 32 := 16#32
  let v13187 : BitVec 32 := Scalar.addi v13186 c16_i32_7195
  let c0_i32_7198 : BitVec 32 := 0#32
  let c0_i32_7199 : BitVec 32 := 0#32
  let c0_i32_7200 : BitVec 32 := 0#32
  ![v13187.toNat, 0, 0, 0]
def k0_off117 (v13182 : BitVec 32) (v13184 : BitVec 32) : Fin 3 → Nat :=
  let v13185 : BitVec 32 := v13184
  let c0_i32_7201 : BitVec 32 := 0#32
  ![v13182.toNat, v13185.toNat, 0]

def k0_chk49 (i : grid0.Coords) (v13182 : BitVec 32) (v13184 : BitVec 32) : Prop :=
  (∀ (k0_h2 : k0_cond2 i = 1#1), 8 ∣ (k0_mult49 v13184).toNat) ∧
  (∀ (k0_h2 : k0_cond2 i = 1#1), ∀ a, (k0_off117 v13182 v13184) a + S14x24x256.size a ≤ S400x200x256.size a)
theorem k0_mult49_dvd : ∀ (i : grid0.Coords) (v13182 : BitVec 32) (v13184 : BitVec 32) (k0_hw49 : k0_chk49 i v13182 v13184), ∀ (k0_h2 : k0_cond2 i = 1#1), 8 ∣ (k0_mult49 v13184).toNat := fun i v13182 v13184 k0_hw49 k0_h2 => k0_hw49.1 k0_h2
theorem k0_off117_inb : ∀ (i : grid0.Coords) (v13182 : BitVec 32) (v13184 : BitVec 32) (k0_hw49 : k0_chk49 i v13182 v13184), ∀ (k0_h2 : k0_cond2 i = 1#1), ∀ a, (k0_off117 v13182 v13184) a + S14x24x256.size a ≤ S400x200x256.size a := fun i v13182 v13184 k0_hw49 k0_h2 => k0_hw49.2 k0_h2

def k0_off118 (i : grid0.Coords) : Fin 2 → Nat :=
  let c32_i32_7203 : BitVec 32 := 32#32
  let arg0 : BitVec 32 := BitVec.ofNat 32 (i 0).val
  let c1_i32_7202 : BitVec 32 := 1#32
  let v13195 : BitVec 32 := Scalar.addi arg0 c1_i32_7202
  let v13196 : BitVec 32 := Scalar.muli c32_i32_7203 v13195
  let c17_i32_7204 : BitVec 32 := 17#32
  let v13197 : BitVec 32 := Scalar.addi v13196 c17_i32_7204
  let v13198 : Index := Scalar.indexCast v13197
  let c0_7205 : Index := 0#32
  ![v13198.toNat, 0]
def k0_off119 (i : grid0.Coords) : Fin 2 → Nat :=
  let c32_i32_7203 : BitVec 32 := 32#32
  let arg0 : BitVec 32 := BitVec.ofNat 32 (i 0).val
  let c1_i32_7202 : BitVec 32 := 1#32
  let v13195 : BitVec 32 := Scalar.addi arg0 c1_i32_7202
  let v13196 : BitVec 32 := Scalar.muli c32_i32_7203 v13195
  let c17_i32_7204 : BitVec 32 := 17#32
  let v13197 : BitVec 32 := Scalar.addi v13196 c17_i32_7204
  let v13200 : Index := Scalar.indexCast v13197
  let c1_7206 : Index := 1#32
  ![v13200.toNat, 1]
def k0_mult50 (v13201 : BitVec 32) : BitVec 32 :=
  v13201

def k0_off120 (i : grid0.Coords) : Fin 1 → Nat :=
  let c32_i32_7209 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13205 : BitVec 32 := Scalar.muli c32_i32_7209 v2
  let c17_i32_7210 : BitVec 32 := 17#32
  let v13206 : BitVec 32 := Scalar.addi v13205 c17_i32_7210
  ![v13206.toNat]
def k0_off121 (i : grid0.Coords) : Fin 4 → Nat :=
  let c32_i32_7207 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13203 : BitVec 32 := Scalar.muli c32_i32_7207 v2
  let c17_i32_7208 : BitVec 32 := 17#32
  let v13204 : BitVec 32 := Scalar.addi v13203 c17_i32_7208
  let c0_i32_7211 : BitVec 32 := 0#32
  let c0_i32_7212 : BitVec 32 := 0#32
  let c0_i32_7213 : BitVec 32 := 0#32
  ![v13204.toNat, 0, 0, 0]
def k0_off122 (v13199 : BitVec 32) (v13201 : BitVec 32) : Fin 3 → Nat :=
  let v13202 : BitVec 32 := v13201
  let c0_i32_7214 : BitVec 32 := 0#32
  ![v13199.toNat, v13202.toNat, 0]

def k0_chk50 (i : grid0.Coords) (v13199 : BitVec 32) (v13201 : BitVec 32) : Prop :=
  (∀ (k0_h2 : k0_cond2 i = 1#1), 8 ∣ (k0_mult50 v13201).toNat) ∧
  (∀ (k0_h2 : k0_cond2 i = 1#1), ∀ a, (k0_off122 v13199 v13201) a + S14x24x256.size a ≤ S400x200x256.size a)
theorem k0_mult50_dvd : ∀ (i : grid0.Coords) (v13199 : BitVec 32) (v13201 : BitVec 32) (k0_hw50 : k0_chk50 i v13199 v13201), ∀ (k0_h2 : k0_cond2 i = 1#1), 8 ∣ (k0_mult50 v13201).toNat := fun i v13199 v13201 k0_hw50 k0_h2 => k0_hw50.1 k0_h2
theorem k0_off122_inb : ∀ (i : grid0.Coords) (v13199 : BitVec 32) (v13201 : BitVec 32) (k0_hw50 : k0_chk50 i v13199 v13201), ∀ (k0_h2 : k0_cond2 i = 1#1), ∀ a, (k0_off122 v13199 v13201) a + S14x24x256.size a ≤ S400x200x256.size a := fun i v13199 v13201 k0_hw50 k0_h2 => k0_hw50.2 k0_h2

def k0_off123 (i : grid0.Coords) : Fin 2 → Nat :=
  let c32_i32_7216 : BitVec 32 := 32#32
  let arg0 : BitVec 32 := BitVec.ofNat 32 (i 0).val
  let c1_i32_7215 : BitVec 32 := 1#32
  let v13212 : BitVec 32 := Scalar.addi arg0 c1_i32_7215
  let v13213 : BitVec 32 := Scalar.muli c32_i32_7216 v13212
  let c18_i32_7217 : BitVec 32 := 18#32
  let v13214 : BitVec 32 := Scalar.addi v13213 c18_i32_7217
  let v13215 : Index := Scalar.indexCast v13214
  let c0_7218 : Index := 0#32
  ![v13215.toNat, 0]
def k0_off124 (i : grid0.Coords) : Fin 2 → Nat :=
  let c32_i32_7216 : BitVec 32 := 32#32
  let arg0 : BitVec 32 := BitVec.ofNat 32 (i 0).val
  let c1_i32_7215 : BitVec 32 := 1#32
  let v13212 : BitVec 32 := Scalar.addi arg0 c1_i32_7215
  let v13213 : BitVec 32 := Scalar.muli c32_i32_7216 v13212
  let c18_i32_7217 : BitVec 32 := 18#32
  let v13214 : BitVec 32 := Scalar.addi v13213 c18_i32_7217
  let v13217 : Index := Scalar.indexCast v13214
  let c1_7219 : Index := 1#32
  ![v13217.toNat, 1]
def k0_mult51 (v13218 : BitVec 32) : BitVec 32 :=
  v13218

def k0_off125 (i : grid0.Coords) : Fin 1 → Nat :=
  let c32_i32_7222 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13222 : BitVec 32 := Scalar.muli c32_i32_7222 v2
  let c18_i32_7223 : BitVec 32 := 18#32
  let v13223 : BitVec 32 := Scalar.addi v13222 c18_i32_7223
  ![v13223.toNat]
def k0_off126 (i : grid0.Coords) : Fin 4 → Nat :=
  let c32_i32_7220 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13220 : BitVec 32 := Scalar.muli c32_i32_7220 v2
  let c18_i32_7221 : BitVec 32 := 18#32
  let v13221 : BitVec 32 := Scalar.addi v13220 c18_i32_7221
  let c0_i32_7224 : BitVec 32 := 0#32
  let c0_i32_7225 : BitVec 32 := 0#32
  let c0_i32_7226 : BitVec 32 := 0#32
  ![v13221.toNat, 0, 0, 0]
def k0_off127 (v13216 : BitVec 32) (v13218 : BitVec 32) : Fin 3 → Nat :=
  let v13219 : BitVec 32 := v13218
  let c0_i32_7227 : BitVec 32 := 0#32
  ![v13216.toNat, v13219.toNat, 0]

def k0_chk51 (i : grid0.Coords) (v13216 : BitVec 32) (v13218 : BitVec 32) : Prop :=
  (∀ (k0_h2 : k0_cond2 i = 1#1), 8 ∣ (k0_mult51 v13218).toNat) ∧
  (∀ (k0_h2 : k0_cond2 i = 1#1), ∀ a, (k0_off127 v13216 v13218) a + S14x24x256.size a ≤ S400x200x256.size a)
theorem k0_mult51_dvd : ∀ (i : grid0.Coords) (v13216 : BitVec 32) (v13218 : BitVec 32) (k0_hw51 : k0_chk51 i v13216 v13218), ∀ (k0_h2 : k0_cond2 i = 1#1), 8 ∣ (k0_mult51 v13218).toNat := fun i v13216 v13218 k0_hw51 k0_h2 => k0_hw51.1 k0_h2
theorem k0_off127_inb : ∀ (i : grid0.Coords) (v13216 : BitVec 32) (v13218 : BitVec 32) (k0_hw51 : k0_chk51 i v13216 v13218), ∀ (k0_h2 : k0_cond2 i = 1#1), ∀ a, (k0_off127 v13216 v13218) a + S14x24x256.size a ≤ S400x200x256.size a := fun i v13216 v13218 k0_hw51 k0_h2 => k0_hw51.2 k0_h2

def k0_off128 (i : grid0.Coords) : Fin 2 → Nat :=
  let c32_i32_7229 : BitVec 32 := 32#32
  let arg0 : BitVec 32 := BitVec.ofNat 32 (i 0).val
  let c1_i32_7228 : BitVec 32 := 1#32
  let v13229 : BitVec 32 := Scalar.addi arg0 c1_i32_7228
  let v13230 : BitVec 32 := Scalar.muli c32_i32_7229 v13229
  let c19_i32_7230 : BitVec 32 := 19#32
  let v13231 : BitVec 32 := Scalar.addi v13230 c19_i32_7230
  let v13232 : Index := Scalar.indexCast v13231
  let c0_7231 : Index := 0#32
  ![v13232.toNat, 0]
def k0_off129 (i : grid0.Coords) : Fin 2 → Nat :=
  let c32_i32_7229 : BitVec 32 := 32#32
  let arg0 : BitVec 32 := BitVec.ofNat 32 (i 0).val
  let c1_i32_7228 : BitVec 32 := 1#32
  let v13229 : BitVec 32 := Scalar.addi arg0 c1_i32_7228
  let v13230 : BitVec 32 := Scalar.muli c32_i32_7229 v13229
  let c19_i32_7230 : BitVec 32 := 19#32
  let v13231 : BitVec 32 := Scalar.addi v13230 c19_i32_7230
  let v13234 : Index := Scalar.indexCast v13231
  let c1_7232 : Index := 1#32
  ![v13234.toNat, 1]
def k0_mult52 (v13235 : BitVec 32) : BitVec 32 :=
  v13235

def k0_off130 (i : grid0.Coords) : Fin 1 → Nat :=
  let c32_i32_7235 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13239 : BitVec 32 := Scalar.muli c32_i32_7235 v2
  let c19_i32_7236 : BitVec 32 := 19#32
  let v13240 : BitVec 32 := Scalar.addi v13239 c19_i32_7236
  ![v13240.toNat]
def k0_off131 (i : grid0.Coords) : Fin 4 → Nat :=
  let c32_i32_7233 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13237 : BitVec 32 := Scalar.muli c32_i32_7233 v2
  let c19_i32_7234 : BitVec 32 := 19#32
  let v13238 : BitVec 32 := Scalar.addi v13237 c19_i32_7234
  let c0_i32_7237 : BitVec 32 := 0#32
  let c0_i32_7238 : BitVec 32 := 0#32
  let c0_i32_7239 : BitVec 32 := 0#32
  ![v13238.toNat, 0, 0, 0]
def k0_off132 (v13233 : BitVec 32) (v13235 : BitVec 32) : Fin 3 → Nat :=
  let v13236 : BitVec 32 := v13235
  let c0_i32_7240 : BitVec 32 := 0#32
  ![v13233.toNat, v13236.toNat, 0]

def k0_chk52 (i : grid0.Coords) (v13233 : BitVec 32) (v13235 : BitVec 32) : Prop :=
  (∀ (k0_h2 : k0_cond2 i = 1#1), 8 ∣ (k0_mult52 v13235).toNat) ∧
  (∀ (k0_h2 : k0_cond2 i = 1#1), ∀ a, (k0_off132 v13233 v13235) a + S14x24x256.size a ≤ S400x200x256.size a)
theorem k0_mult52_dvd : ∀ (i : grid0.Coords) (v13233 : BitVec 32) (v13235 : BitVec 32) (k0_hw52 : k0_chk52 i v13233 v13235), ∀ (k0_h2 : k0_cond2 i = 1#1), 8 ∣ (k0_mult52 v13235).toNat := fun i v13233 v13235 k0_hw52 k0_h2 => k0_hw52.1 k0_h2
theorem k0_off132_inb : ∀ (i : grid0.Coords) (v13233 : BitVec 32) (v13235 : BitVec 32) (k0_hw52 : k0_chk52 i v13233 v13235), ∀ (k0_h2 : k0_cond2 i = 1#1), ∀ a, (k0_off132 v13233 v13235) a + S14x24x256.size a ≤ S400x200x256.size a := fun i v13233 v13235 k0_hw52 k0_h2 => k0_hw52.2 k0_h2

def k0_off133 (i : grid0.Coords) : Fin 2 → Nat :=
  let c32_i32_7242 : BitVec 32 := 32#32
  let arg0 : BitVec 32 := BitVec.ofNat 32 (i 0).val
  let c1_i32_7241 : BitVec 32 := 1#32
  let v13246 : BitVec 32 := Scalar.addi arg0 c1_i32_7241
  let v13247 : BitVec 32 := Scalar.muli c32_i32_7242 v13246
  let c20_i32_7243 : BitVec 32 := 20#32
  let v13248 : BitVec 32 := Scalar.addi v13247 c20_i32_7243
  let v13249 : Index := Scalar.indexCast v13248
  let c0_7244 : Index := 0#32
  ![v13249.toNat, 0]
def k0_off134 (i : grid0.Coords) : Fin 2 → Nat :=
  let c32_i32_7242 : BitVec 32 := 32#32
  let arg0 : BitVec 32 := BitVec.ofNat 32 (i 0).val
  let c1_i32_7241 : BitVec 32 := 1#32
  let v13246 : BitVec 32 := Scalar.addi arg0 c1_i32_7241
  let v13247 : BitVec 32 := Scalar.muli c32_i32_7242 v13246
  let c20_i32_7243 : BitVec 32 := 20#32
  let v13248 : BitVec 32 := Scalar.addi v13247 c20_i32_7243
  let v13251 : Index := Scalar.indexCast v13248
  let c1_7245 : Index := 1#32
  ![v13251.toNat, 1]
def k0_mult53 (v13252 : BitVec 32) : BitVec 32 :=
  v13252

def k0_off135 (i : grid0.Coords) : Fin 1 → Nat :=
  let c32_i32_7248 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13256 : BitVec 32 := Scalar.muli c32_i32_7248 v2
  let c20_i32_7249 : BitVec 32 := 20#32
  let v13257 : BitVec 32 := Scalar.addi v13256 c20_i32_7249
  ![v13257.toNat]
def k0_off136 (i : grid0.Coords) : Fin 4 → Nat :=
  let c32_i32_7246 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13254 : BitVec 32 := Scalar.muli c32_i32_7246 v2
  let c20_i32_7247 : BitVec 32 := 20#32
  let v13255 : BitVec 32 := Scalar.addi v13254 c20_i32_7247
  let c0_i32_7250 : BitVec 32 := 0#32
  let c0_i32_7251 : BitVec 32 := 0#32
  let c0_i32_7252 : BitVec 32 := 0#32
  ![v13255.toNat, 0, 0, 0]
def k0_off137 (v13250 : BitVec 32) (v13252 : BitVec 32) : Fin 3 → Nat :=
  let v13253 : BitVec 32 := v13252
  let c0_i32_7253 : BitVec 32 := 0#32
  ![v13250.toNat, v13253.toNat, 0]

def k0_chk53 (i : grid0.Coords) (v13250 : BitVec 32) (v13252 : BitVec 32) : Prop :=
  (∀ (k0_h2 : k0_cond2 i = 1#1), 8 ∣ (k0_mult53 v13252).toNat) ∧
  (∀ (k0_h2 : k0_cond2 i = 1#1), ∀ a, (k0_off137 v13250 v13252) a + S14x24x256.size a ≤ S400x200x256.size a)
theorem k0_mult53_dvd : ∀ (i : grid0.Coords) (v13250 : BitVec 32) (v13252 : BitVec 32) (k0_hw53 : k0_chk53 i v13250 v13252), ∀ (k0_h2 : k0_cond2 i = 1#1), 8 ∣ (k0_mult53 v13252).toNat := fun i v13250 v13252 k0_hw53 k0_h2 => k0_hw53.1 k0_h2
theorem k0_off137_inb : ∀ (i : grid0.Coords) (v13250 : BitVec 32) (v13252 : BitVec 32) (k0_hw53 : k0_chk53 i v13250 v13252), ∀ (k0_h2 : k0_cond2 i = 1#1), ∀ a, (k0_off137 v13250 v13252) a + S14x24x256.size a ≤ S400x200x256.size a := fun i v13250 v13252 k0_hw53 k0_h2 => k0_hw53.2 k0_h2

def k0_off138 (i : grid0.Coords) : Fin 2 → Nat :=
  let c32_i32_7255 : BitVec 32 := 32#32
  let arg0 : BitVec 32 := BitVec.ofNat 32 (i 0).val
  let c1_i32_7254 : BitVec 32 := 1#32
  let v13263 : BitVec 32 := Scalar.addi arg0 c1_i32_7254
  let v13264 : BitVec 32 := Scalar.muli c32_i32_7255 v13263
  let c21_i32_7256 : BitVec 32 := 21#32
  let v13265 : BitVec 32 := Scalar.addi v13264 c21_i32_7256
  let v13266 : Index := Scalar.indexCast v13265
  let c0_7257 : Index := 0#32
  ![v13266.toNat, 0]
def k0_off139 (i : grid0.Coords) : Fin 2 → Nat :=
  let c32_i32_7255 : BitVec 32 := 32#32
  let arg0 : BitVec 32 := BitVec.ofNat 32 (i 0).val
  let c1_i32_7254 : BitVec 32 := 1#32
  let v13263 : BitVec 32 := Scalar.addi arg0 c1_i32_7254
  let v13264 : BitVec 32 := Scalar.muli c32_i32_7255 v13263
  let c21_i32_7256 : BitVec 32 := 21#32
  let v13265 : BitVec 32 := Scalar.addi v13264 c21_i32_7256
  let v13268 : Index := Scalar.indexCast v13265
  let c1_7258 : Index := 1#32
  ![v13268.toNat, 1]
def k0_mult54 (v13269 : BitVec 32) : BitVec 32 :=
  v13269

def k0_off140 (i : grid0.Coords) : Fin 1 → Nat :=
  let c32_i32_7261 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13273 : BitVec 32 := Scalar.muli c32_i32_7261 v2
  let c21_i32_7262 : BitVec 32 := 21#32
  let v13274 : BitVec 32 := Scalar.addi v13273 c21_i32_7262
  ![v13274.toNat]
def k0_off141 (i : grid0.Coords) : Fin 4 → Nat :=
  let c32_i32_7259 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13271 : BitVec 32 := Scalar.muli c32_i32_7259 v2
  let c21_i32_7260 : BitVec 32 := 21#32
  let v13272 : BitVec 32 := Scalar.addi v13271 c21_i32_7260
  let c0_i32_7263 : BitVec 32 := 0#32
  let c0_i32_7264 : BitVec 32 := 0#32
  let c0_i32_7265 : BitVec 32 := 0#32
  ![v13272.toNat, 0, 0, 0]
def k0_off142 (v13267 : BitVec 32) (v13269 : BitVec 32) : Fin 3 → Nat :=
  let v13270 : BitVec 32 := v13269
  let c0_i32_7266 : BitVec 32 := 0#32
  ![v13267.toNat, v13270.toNat, 0]

def k0_chk54 (i : grid0.Coords) (v13267 : BitVec 32) (v13269 : BitVec 32) : Prop :=
  (∀ (k0_h2 : k0_cond2 i = 1#1), 8 ∣ (k0_mult54 v13269).toNat) ∧
  (∀ (k0_h2 : k0_cond2 i = 1#1), ∀ a, (k0_off142 v13267 v13269) a + S14x24x256.size a ≤ S400x200x256.size a)
theorem k0_mult54_dvd : ∀ (i : grid0.Coords) (v13267 : BitVec 32) (v13269 : BitVec 32) (k0_hw54 : k0_chk54 i v13267 v13269), ∀ (k0_h2 : k0_cond2 i = 1#1), 8 ∣ (k0_mult54 v13269).toNat := fun i v13267 v13269 k0_hw54 k0_h2 => k0_hw54.1 k0_h2
theorem k0_off142_inb : ∀ (i : grid0.Coords) (v13267 : BitVec 32) (v13269 : BitVec 32) (k0_hw54 : k0_chk54 i v13267 v13269), ∀ (k0_h2 : k0_cond2 i = 1#1), ∀ a, (k0_off142 v13267 v13269) a + S14x24x256.size a ≤ S400x200x256.size a := fun i v13267 v13269 k0_hw54 k0_h2 => k0_hw54.2 k0_h2

def k0_off143 (i : grid0.Coords) : Fin 2 → Nat :=
  let c32_i32_7268 : BitVec 32 := 32#32
  let arg0 : BitVec 32 := BitVec.ofNat 32 (i 0).val
  let c1_i32_7267 : BitVec 32 := 1#32
  let v13280 : BitVec 32 := Scalar.addi arg0 c1_i32_7267
  let v13281 : BitVec 32 := Scalar.muli c32_i32_7268 v13280
  let c22_i32_7269 : BitVec 32 := 22#32
  let v13282 : BitVec 32 := Scalar.addi v13281 c22_i32_7269
  let v13283 : Index := Scalar.indexCast v13282
  let c0_7270 : Index := 0#32
  ![v13283.toNat, 0]
def k0_off144 (i : grid0.Coords) : Fin 2 → Nat :=
  let c32_i32_7268 : BitVec 32 := 32#32
  let arg0 : BitVec 32 := BitVec.ofNat 32 (i 0).val
  let c1_i32_7267 : BitVec 32 := 1#32
  let v13280 : BitVec 32 := Scalar.addi arg0 c1_i32_7267
  let v13281 : BitVec 32 := Scalar.muli c32_i32_7268 v13280
  let c22_i32_7269 : BitVec 32 := 22#32
  let v13282 : BitVec 32 := Scalar.addi v13281 c22_i32_7269
  let v13285 : Index := Scalar.indexCast v13282
  let c1_7271 : Index := 1#32
  ![v13285.toNat, 1]
def k0_mult55 (v13286 : BitVec 32) : BitVec 32 :=
  v13286

def k0_off145 (i : grid0.Coords) : Fin 1 → Nat :=
  let c32_i32_7274 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13290 : BitVec 32 := Scalar.muli c32_i32_7274 v2
  let c22_i32_7275 : BitVec 32 := 22#32
  let v13291 : BitVec 32 := Scalar.addi v13290 c22_i32_7275
  ![v13291.toNat]
def k0_off146 (i : grid0.Coords) : Fin 4 → Nat :=
  let c32_i32_7272 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13288 : BitVec 32 := Scalar.muli c32_i32_7272 v2
  let c22_i32_7273 : BitVec 32 := 22#32
  let v13289 : BitVec 32 := Scalar.addi v13288 c22_i32_7273
  let c0_i32_7276 : BitVec 32 := 0#32
  let c0_i32_7277 : BitVec 32 := 0#32
  let c0_i32_7278 : BitVec 32 := 0#32
  ![v13289.toNat, 0, 0, 0]
def k0_off147 (v13284 : BitVec 32) (v13286 : BitVec 32) : Fin 3 → Nat :=
  let v13287 : BitVec 32 := v13286
  let c0_i32_7279 : BitVec 32 := 0#32
  ![v13284.toNat, v13287.toNat, 0]

def k0_chk55 (i : grid0.Coords) (v13284 : BitVec 32) (v13286 : BitVec 32) : Prop :=
  (∀ (k0_h2 : k0_cond2 i = 1#1), 8 ∣ (k0_mult55 v13286).toNat) ∧
  (∀ (k0_h2 : k0_cond2 i = 1#1), ∀ a, (k0_off147 v13284 v13286) a + S14x24x256.size a ≤ S400x200x256.size a)
theorem k0_mult55_dvd : ∀ (i : grid0.Coords) (v13284 : BitVec 32) (v13286 : BitVec 32) (k0_hw55 : k0_chk55 i v13284 v13286), ∀ (k0_h2 : k0_cond2 i = 1#1), 8 ∣ (k0_mult55 v13286).toNat := fun i v13284 v13286 k0_hw55 k0_h2 => k0_hw55.1 k0_h2
theorem k0_off147_inb : ∀ (i : grid0.Coords) (v13284 : BitVec 32) (v13286 : BitVec 32) (k0_hw55 : k0_chk55 i v13284 v13286), ∀ (k0_h2 : k0_cond2 i = 1#1), ∀ a, (k0_off147 v13284 v13286) a + S14x24x256.size a ≤ S400x200x256.size a := fun i v13284 v13286 k0_hw55 k0_h2 => k0_hw55.2 k0_h2

def k0_off148 (i : grid0.Coords) : Fin 2 → Nat :=
  let c32_i32_7281 : BitVec 32 := 32#32
  let arg0 : BitVec 32 := BitVec.ofNat 32 (i 0).val
  let c1_i32_7280 : BitVec 32 := 1#32
  let v13297 : BitVec 32 := Scalar.addi arg0 c1_i32_7280
  let v13298 : BitVec 32 := Scalar.muli c32_i32_7281 v13297
  let c23_i32_7282 : BitVec 32 := 23#32
  let v13299 : BitVec 32 := Scalar.addi v13298 c23_i32_7282
  let v13300 : Index := Scalar.indexCast v13299
  let c0_7283 : Index := 0#32
  ![v13300.toNat, 0]
def k0_off149 (i : grid0.Coords) : Fin 2 → Nat :=
  let c32_i32_7281 : BitVec 32 := 32#32
  let arg0 : BitVec 32 := BitVec.ofNat 32 (i 0).val
  let c1_i32_7280 : BitVec 32 := 1#32
  let v13297 : BitVec 32 := Scalar.addi arg0 c1_i32_7280
  let v13298 : BitVec 32 := Scalar.muli c32_i32_7281 v13297
  let c23_i32_7282 : BitVec 32 := 23#32
  let v13299 : BitVec 32 := Scalar.addi v13298 c23_i32_7282
  let v13302 : Index := Scalar.indexCast v13299
  let c1_7284 : Index := 1#32
  ![v13302.toNat, 1]
def k0_mult56 (v13303 : BitVec 32) : BitVec 32 :=
  v13303

def k0_off150 (i : grid0.Coords) : Fin 1 → Nat :=
  let c32_i32_7287 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13307 : BitVec 32 := Scalar.muli c32_i32_7287 v2
  let c23_i32_7288 : BitVec 32 := 23#32
  let v13308 : BitVec 32 := Scalar.addi v13307 c23_i32_7288
  ![v13308.toNat]
def k0_off151 (i : grid0.Coords) : Fin 4 → Nat :=
  let c32_i32_7285 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13305 : BitVec 32 := Scalar.muli c32_i32_7285 v2
  let c23_i32_7286 : BitVec 32 := 23#32
  let v13306 : BitVec 32 := Scalar.addi v13305 c23_i32_7286
  let c0_i32_7289 : BitVec 32 := 0#32
  let c0_i32_7290 : BitVec 32 := 0#32
  let c0_i32_7291 : BitVec 32 := 0#32
  ![v13306.toNat, 0, 0, 0]
def k0_off152 (v13301 : BitVec 32) (v13303 : BitVec 32) : Fin 3 → Nat :=
  let v13304 : BitVec 32 := v13303
  let c0_i32_7292 : BitVec 32 := 0#32
  ![v13301.toNat, v13304.toNat, 0]

def k0_chk56 (i : grid0.Coords) (v13301 : BitVec 32) (v13303 : BitVec 32) : Prop :=
  (∀ (k0_h2 : k0_cond2 i = 1#1), 8 ∣ (k0_mult56 v13303).toNat) ∧
  (∀ (k0_h2 : k0_cond2 i = 1#1), ∀ a, (k0_off152 v13301 v13303) a + S14x24x256.size a ≤ S400x200x256.size a)
theorem k0_mult56_dvd : ∀ (i : grid0.Coords) (v13301 : BitVec 32) (v13303 : BitVec 32) (k0_hw56 : k0_chk56 i v13301 v13303), ∀ (k0_h2 : k0_cond2 i = 1#1), 8 ∣ (k0_mult56 v13303).toNat := fun i v13301 v13303 k0_hw56 k0_h2 => k0_hw56.1 k0_h2
theorem k0_off152_inb : ∀ (i : grid0.Coords) (v13301 : BitVec 32) (v13303 : BitVec 32) (k0_hw56 : k0_chk56 i v13301 v13303), ∀ (k0_h2 : k0_cond2 i = 1#1), ∀ a, (k0_off152 v13301 v13303) a + S14x24x256.size a ≤ S400x200x256.size a := fun i v13301 v13303 k0_hw56 k0_h2 => k0_hw56.2 k0_h2

def k0_off153 (i : grid0.Coords) : Fin 2 → Nat :=
  let c32_i32_7294 : BitVec 32 := 32#32
  let arg0 : BitVec 32 := BitVec.ofNat 32 (i 0).val
  let c1_i32_7293 : BitVec 32 := 1#32
  let v13314 : BitVec 32 := Scalar.addi arg0 c1_i32_7293
  let v13315 : BitVec 32 := Scalar.muli c32_i32_7294 v13314
  let c24_i32_7295 : BitVec 32 := 24#32
  let v13316 : BitVec 32 := Scalar.addi v13315 c24_i32_7295
  let v13317 : Index := Scalar.indexCast v13316
  let c0_7296 : Index := 0#32
  ![v13317.toNat, 0]
def k0_off154 (i : grid0.Coords) : Fin 2 → Nat :=
  let c32_i32_7294 : BitVec 32 := 32#32
  let arg0 : BitVec 32 := BitVec.ofNat 32 (i 0).val
  let c1_i32_7293 : BitVec 32 := 1#32
  let v13314 : BitVec 32 := Scalar.addi arg0 c1_i32_7293
  let v13315 : BitVec 32 := Scalar.muli c32_i32_7294 v13314
  let c24_i32_7295 : BitVec 32 := 24#32
  let v13316 : BitVec 32 := Scalar.addi v13315 c24_i32_7295
  let v13319 : Index := Scalar.indexCast v13316
  let c1_7297 : Index := 1#32
  ![v13319.toNat, 1]
def k0_mult57 (v13320 : BitVec 32) : BitVec 32 :=
  v13320

def k0_off155 (i : grid0.Coords) : Fin 1 → Nat :=
  let c32_i32_7300 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13324 : BitVec 32 := Scalar.muli c32_i32_7300 v2
  let c24_i32_7301 : BitVec 32 := 24#32
  let v13325 : BitVec 32 := Scalar.addi v13324 c24_i32_7301
  ![v13325.toNat]
def k0_off156 (i : grid0.Coords) : Fin 4 → Nat :=
  let c32_i32_7298 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13322 : BitVec 32 := Scalar.muli c32_i32_7298 v2
  let c24_i32_7299 : BitVec 32 := 24#32
  let v13323 : BitVec 32 := Scalar.addi v13322 c24_i32_7299
  let c0_i32_7302 : BitVec 32 := 0#32
  let c0_i32_7303 : BitVec 32 := 0#32
  let c0_i32_7304 : BitVec 32 := 0#32
  ![v13323.toNat, 0, 0, 0]
def k0_off157 (v13318 : BitVec 32) (v13320 : BitVec 32) : Fin 3 → Nat :=
  let v13321 : BitVec 32 := v13320
  let c0_i32_7305 : BitVec 32 := 0#32
  ![v13318.toNat, v13321.toNat, 0]

def k0_chk57 (i : grid0.Coords) (v13318 : BitVec 32) (v13320 : BitVec 32) : Prop :=
  (∀ (k0_h2 : k0_cond2 i = 1#1), 8 ∣ (k0_mult57 v13320).toNat) ∧
  (∀ (k0_h2 : k0_cond2 i = 1#1), ∀ a, (k0_off157 v13318 v13320) a + S14x24x256.size a ≤ S400x200x256.size a)
theorem k0_mult57_dvd : ∀ (i : grid0.Coords) (v13318 : BitVec 32) (v13320 : BitVec 32) (k0_hw57 : k0_chk57 i v13318 v13320), ∀ (k0_h2 : k0_cond2 i = 1#1), 8 ∣ (k0_mult57 v13320).toNat := fun i v13318 v13320 k0_hw57 k0_h2 => k0_hw57.1 k0_h2
theorem k0_off157_inb : ∀ (i : grid0.Coords) (v13318 : BitVec 32) (v13320 : BitVec 32) (k0_hw57 : k0_chk57 i v13318 v13320), ∀ (k0_h2 : k0_cond2 i = 1#1), ∀ a, (k0_off157 v13318 v13320) a + S14x24x256.size a ≤ S400x200x256.size a := fun i v13318 v13320 k0_hw57 k0_h2 => k0_hw57.2 k0_h2

def k0_off158 (i : grid0.Coords) : Fin 2 → Nat :=
  let c32_i32_7307 : BitVec 32 := 32#32
  let arg0 : BitVec 32 := BitVec.ofNat 32 (i 0).val
  let c1_i32_7306 : BitVec 32 := 1#32
  let v13331 : BitVec 32 := Scalar.addi arg0 c1_i32_7306
  let v13332 : BitVec 32 := Scalar.muli c32_i32_7307 v13331
  let c25_i32_7308 : BitVec 32 := 25#32
  let v13333 : BitVec 32 := Scalar.addi v13332 c25_i32_7308
  let v13334 : Index := Scalar.indexCast v13333
  let c0_7309 : Index := 0#32
  ![v13334.toNat, 0]
def k0_off159 (i : grid0.Coords) : Fin 2 → Nat :=
  let c32_i32_7307 : BitVec 32 := 32#32
  let arg0 : BitVec 32 := BitVec.ofNat 32 (i 0).val
  let c1_i32_7306 : BitVec 32 := 1#32
  let v13331 : BitVec 32 := Scalar.addi arg0 c1_i32_7306
  let v13332 : BitVec 32 := Scalar.muli c32_i32_7307 v13331
  let c25_i32_7308 : BitVec 32 := 25#32
  let v13333 : BitVec 32 := Scalar.addi v13332 c25_i32_7308
  let v13336 : Index := Scalar.indexCast v13333
  let c1_7310 : Index := 1#32
  ![v13336.toNat, 1]
def k0_mult58 (v13337 : BitVec 32) : BitVec 32 :=
  v13337

def k0_off160 (i : grid0.Coords) : Fin 1 → Nat :=
  let c32_i32_7313 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13341 : BitVec 32 := Scalar.muli c32_i32_7313 v2
  let c25_i32_7314 : BitVec 32 := 25#32
  let v13342 : BitVec 32 := Scalar.addi v13341 c25_i32_7314
  ![v13342.toNat]
def k0_off161 (i : grid0.Coords) : Fin 4 → Nat :=
  let c32_i32_7311 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13339 : BitVec 32 := Scalar.muli c32_i32_7311 v2
  let c25_i32_7312 : BitVec 32 := 25#32
  let v13340 : BitVec 32 := Scalar.addi v13339 c25_i32_7312
  let c0_i32_7315 : BitVec 32 := 0#32
  let c0_i32_7316 : BitVec 32 := 0#32
  let c0_i32_7317 : BitVec 32 := 0#32
  ![v13340.toNat, 0, 0, 0]
def k0_off162 (v13335 : BitVec 32) (v13337 : BitVec 32) : Fin 3 → Nat :=
  let v13338 : BitVec 32 := v13337
  let c0_i32_7318 : BitVec 32 := 0#32
  ![v13335.toNat, v13338.toNat, 0]

def k0_chk58 (i : grid0.Coords) (v13335 : BitVec 32) (v13337 : BitVec 32) : Prop :=
  (∀ (k0_h2 : k0_cond2 i = 1#1), 8 ∣ (k0_mult58 v13337).toNat) ∧
  (∀ (k0_h2 : k0_cond2 i = 1#1), ∀ a, (k0_off162 v13335 v13337) a + S14x24x256.size a ≤ S400x200x256.size a)
theorem k0_mult58_dvd : ∀ (i : grid0.Coords) (v13335 : BitVec 32) (v13337 : BitVec 32) (k0_hw58 : k0_chk58 i v13335 v13337), ∀ (k0_h2 : k0_cond2 i = 1#1), 8 ∣ (k0_mult58 v13337).toNat := fun i v13335 v13337 k0_hw58 k0_h2 => k0_hw58.1 k0_h2
theorem k0_off162_inb : ∀ (i : grid0.Coords) (v13335 : BitVec 32) (v13337 : BitVec 32) (k0_hw58 : k0_chk58 i v13335 v13337), ∀ (k0_h2 : k0_cond2 i = 1#1), ∀ a, (k0_off162 v13335 v13337) a + S14x24x256.size a ≤ S400x200x256.size a := fun i v13335 v13337 k0_hw58 k0_h2 => k0_hw58.2 k0_h2

def k0_off163 (i : grid0.Coords) : Fin 2 → Nat :=
  let c32_i32_7320 : BitVec 32 := 32#32
  let arg0 : BitVec 32 := BitVec.ofNat 32 (i 0).val
  let c1_i32_7319 : BitVec 32 := 1#32
  let v13348 : BitVec 32 := Scalar.addi arg0 c1_i32_7319
  let v13349 : BitVec 32 := Scalar.muli c32_i32_7320 v13348
  let c26_i32_7321 : BitVec 32 := 26#32
  let v13350 : BitVec 32 := Scalar.addi v13349 c26_i32_7321
  let v13351 : Index := Scalar.indexCast v13350
  let c0_7322 : Index := 0#32
  ![v13351.toNat, 0]
def k0_off164 (i : grid0.Coords) : Fin 2 → Nat :=
  let c32_i32_7320 : BitVec 32 := 32#32
  let arg0 : BitVec 32 := BitVec.ofNat 32 (i 0).val
  let c1_i32_7319 : BitVec 32 := 1#32
  let v13348 : BitVec 32 := Scalar.addi arg0 c1_i32_7319
  let v13349 : BitVec 32 := Scalar.muli c32_i32_7320 v13348
  let c26_i32_7321 : BitVec 32 := 26#32
  let v13350 : BitVec 32 := Scalar.addi v13349 c26_i32_7321
  let v13353 : Index := Scalar.indexCast v13350
  let c1_7323 : Index := 1#32
  ![v13353.toNat, 1]
def k0_mult59 (v13354 : BitVec 32) : BitVec 32 :=
  v13354

def k0_off165 (i : grid0.Coords) : Fin 1 → Nat :=
  let c32_i32_7326 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13358 : BitVec 32 := Scalar.muli c32_i32_7326 v2
  let c26_i32_7327 : BitVec 32 := 26#32
  let v13359 : BitVec 32 := Scalar.addi v13358 c26_i32_7327
  ![v13359.toNat]
def k0_off166 (i : grid0.Coords) : Fin 4 → Nat :=
  let c32_i32_7324 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13356 : BitVec 32 := Scalar.muli c32_i32_7324 v2
  let c26_i32_7325 : BitVec 32 := 26#32
  let v13357 : BitVec 32 := Scalar.addi v13356 c26_i32_7325
  let c0_i32_7328 : BitVec 32 := 0#32
  let c0_i32_7329 : BitVec 32 := 0#32
  let c0_i32_7330 : BitVec 32 := 0#32
  ![v13357.toNat, 0, 0, 0]
def k0_off167 (v13352 : BitVec 32) (v13354 : BitVec 32) : Fin 3 → Nat :=
  let v13355 : BitVec 32 := v13354
  let c0_i32_7331 : BitVec 32 := 0#32
  ![v13352.toNat, v13355.toNat, 0]

def k0_chk59 (i : grid0.Coords) (v13352 : BitVec 32) (v13354 : BitVec 32) : Prop :=
  (∀ (k0_h2 : k0_cond2 i = 1#1), 8 ∣ (k0_mult59 v13354).toNat) ∧
  (∀ (k0_h2 : k0_cond2 i = 1#1), ∀ a, (k0_off167 v13352 v13354) a + S14x24x256.size a ≤ S400x200x256.size a)
theorem k0_mult59_dvd : ∀ (i : grid0.Coords) (v13352 : BitVec 32) (v13354 : BitVec 32) (k0_hw59 : k0_chk59 i v13352 v13354), ∀ (k0_h2 : k0_cond2 i = 1#1), 8 ∣ (k0_mult59 v13354).toNat := fun i v13352 v13354 k0_hw59 k0_h2 => k0_hw59.1 k0_h2
theorem k0_off167_inb : ∀ (i : grid0.Coords) (v13352 : BitVec 32) (v13354 : BitVec 32) (k0_hw59 : k0_chk59 i v13352 v13354), ∀ (k0_h2 : k0_cond2 i = 1#1), ∀ a, (k0_off167 v13352 v13354) a + S14x24x256.size a ≤ S400x200x256.size a := fun i v13352 v13354 k0_hw59 k0_h2 => k0_hw59.2 k0_h2

def k0_off168 (i : grid0.Coords) : Fin 2 → Nat :=
  let c32_i32_7333 : BitVec 32 := 32#32
  let arg0 : BitVec 32 := BitVec.ofNat 32 (i 0).val
  let c1_i32_7332 : BitVec 32 := 1#32
  let v13365 : BitVec 32 := Scalar.addi arg0 c1_i32_7332
  let v13366 : BitVec 32 := Scalar.muli c32_i32_7333 v13365
  let c27_i32_7334 : BitVec 32 := 27#32
  let v13367 : BitVec 32 := Scalar.addi v13366 c27_i32_7334
  let v13368 : Index := Scalar.indexCast v13367
  let c0_7335 : Index := 0#32
  ![v13368.toNat, 0]
def k0_off169 (i : grid0.Coords) : Fin 2 → Nat :=
  let c32_i32_7333 : BitVec 32 := 32#32
  let arg0 : BitVec 32 := BitVec.ofNat 32 (i 0).val
  let c1_i32_7332 : BitVec 32 := 1#32
  let v13365 : BitVec 32 := Scalar.addi arg0 c1_i32_7332
  let v13366 : BitVec 32 := Scalar.muli c32_i32_7333 v13365
  let c27_i32_7334 : BitVec 32 := 27#32
  let v13367 : BitVec 32 := Scalar.addi v13366 c27_i32_7334
  let v13370 : Index := Scalar.indexCast v13367
  let c1_7336 : Index := 1#32
  ![v13370.toNat, 1]
def k0_mult60 (v13371 : BitVec 32) : BitVec 32 :=
  v13371

def k0_off170 (i : grid0.Coords) : Fin 1 → Nat :=
  let c32_i32_7339 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13375 : BitVec 32 := Scalar.muli c32_i32_7339 v2
  let c27_i32_7340 : BitVec 32 := 27#32
  let v13376 : BitVec 32 := Scalar.addi v13375 c27_i32_7340
  ![v13376.toNat]
def k0_off171 (i : grid0.Coords) : Fin 4 → Nat :=
  let c32_i32_7337 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13373 : BitVec 32 := Scalar.muli c32_i32_7337 v2
  let c27_i32_7338 : BitVec 32 := 27#32
  let v13374 : BitVec 32 := Scalar.addi v13373 c27_i32_7338
  let c0_i32_7341 : BitVec 32 := 0#32
  let c0_i32_7342 : BitVec 32 := 0#32
  let c0_i32_7343 : BitVec 32 := 0#32
  ![v13374.toNat, 0, 0, 0]
def k0_off172 (v13369 : BitVec 32) (v13371 : BitVec 32) : Fin 3 → Nat :=
  let v13372 : BitVec 32 := v13371
  let c0_i32_7344 : BitVec 32 := 0#32
  ![v13369.toNat, v13372.toNat, 0]

def k0_chk60 (i : grid0.Coords) (v13369 : BitVec 32) (v13371 : BitVec 32) : Prop :=
  (∀ (k0_h2 : k0_cond2 i = 1#1), 8 ∣ (k0_mult60 v13371).toNat) ∧
  (∀ (k0_h2 : k0_cond2 i = 1#1), ∀ a, (k0_off172 v13369 v13371) a + S14x24x256.size a ≤ S400x200x256.size a)
theorem k0_mult60_dvd : ∀ (i : grid0.Coords) (v13369 : BitVec 32) (v13371 : BitVec 32) (k0_hw60 : k0_chk60 i v13369 v13371), ∀ (k0_h2 : k0_cond2 i = 1#1), 8 ∣ (k0_mult60 v13371).toNat := fun i v13369 v13371 k0_hw60 k0_h2 => k0_hw60.1 k0_h2
theorem k0_off172_inb : ∀ (i : grid0.Coords) (v13369 : BitVec 32) (v13371 : BitVec 32) (k0_hw60 : k0_chk60 i v13369 v13371), ∀ (k0_h2 : k0_cond2 i = 1#1), ∀ a, (k0_off172 v13369 v13371) a + S14x24x256.size a ≤ S400x200x256.size a := fun i v13369 v13371 k0_hw60 k0_h2 => k0_hw60.2 k0_h2

def k0_off173 (i : grid0.Coords) : Fin 2 → Nat :=
  let c32_i32_7346 : BitVec 32 := 32#32
  let arg0 : BitVec 32 := BitVec.ofNat 32 (i 0).val
  let c1_i32_7345 : BitVec 32 := 1#32
  let v13382 : BitVec 32 := Scalar.addi arg0 c1_i32_7345
  let v13383 : BitVec 32 := Scalar.muli c32_i32_7346 v13382
  let c28_i32_7347 : BitVec 32 := 28#32
  let v13384 : BitVec 32 := Scalar.addi v13383 c28_i32_7347
  let v13385 : Index := Scalar.indexCast v13384
  let c0_7348 : Index := 0#32
  ![v13385.toNat, 0]
def k0_off174 (i : grid0.Coords) : Fin 2 → Nat :=
  let c32_i32_7346 : BitVec 32 := 32#32
  let arg0 : BitVec 32 := BitVec.ofNat 32 (i 0).val
  let c1_i32_7345 : BitVec 32 := 1#32
  let v13382 : BitVec 32 := Scalar.addi arg0 c1_i32_7345
  let v13383 : BitVec 32 := Scalar.muli c32_i32_7346 v13382
  let c28_i32_7347 : BitVec 32 := 28#32
  let v13384 : BitVec 32 := Scalar.addi v13383 c28_i32_7347
  let v13387 : Index := Scalar.indexCast v13384
  let c1_7349 : Index := 1#32
  ![v13387.toNat, 1]
def k0_mult61 (v13388 : BitVec 32) : BitVec 32 :=
  v13388

def k0_off175 (i : grid0.Coords) : Fin 1 → Nat :=
  let c32_i32_7352 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13392 : BitVec 32 := Scalar.muli c32_i32_7352 v2
  let c28_i32_7353 : BitVec 32 := 28#32
  let v13393 : BitVec 32 := Scalar.addi v13392 c28_i32_7353
  ![v13393.toNat]
def k0_off176 (i : grid0.Coords) : Fin 4 → Nat :=
  let c32_i32_7350 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13390 : BitVec 32 := Scalar.muli c32_i32_7350 v2
  let c28_i32_7351 : BitVec 32 := 28#32
  let v13391 : BitVec 32 := Scalar.addi v13390 c28_i32_7351
  let c0_i32_7354 : BitVec 32 := 0#32
  let c0_i32_7355 : BitVec 32 := 0#32
  let c0_i32_7356 : BitVec 32 := 0#32
  ![v13391.toNat, 0, 0, 0]
def k0_off177 (v13386 : BitVec 32) (v13388 : BitVec 32) : Fin 3 → Nat :=
  let v13389 : BitVec 32 := v13388
  let c0_i32_7357 : BitVec 32 := 0#32
  ![v13386.toNat, v13389.toNat, 0]

def k0_chk61 (i : grid0.Coords) (v13386 : BitVec 32) (v13388 : BitVec 32) : Prop :=
  (∀ (k0_h2 : k0_cond2 i = 1#1), 8 ∣ (k0_mult61 v13388).toNat) ∧
  (∀ (k0_h2 : k0_cond2 i = 1#1), ∀ a, (k0_off177 v13386 v13388) a + S14x24x256.size a ≤ S400x200x256.size a)
theorem k0_mult61_dvd : ∀ (i : grid0.Coords) (v13386 : BitVec 32) (v13388 : BitVec 32) (k0_hw61 : k0_chk61 i v13386 v13388), ∀ (k0_h2 : k0_cond2 i = 1#1), 8 ∣ (k0_mult61 v13388).toNat := fun i v13386 v13388 k0_hw61 k0_h2 => k0_hw61.1 k0_h2
theorem k0_off177_inb : ∀ (i : grid0.Coords) (v13386 : BitVec 32) (v13388 : BitVec 32) (k0_hw61 : k0_chk61 i v13386 v13388), ∀ (k0_h2 : k0_cond2 i = 1#1), ∀ a, (k0_off177 v13386 v13388) a + S14x24x256.size a ≤ S400x200x256.size a := fun i v13386 v13388 k0_hw61 k0_h2 => k0_hw61.2 k0_h2

def k0_off178 (i : grid0.Coords) : Fin 2 → Nat :=
  let c32_i32_7359 : BitVec 32 := 32#32
  let arg0 : BitVec 32 := BitVec.ofNat 32 (i 0).val
  let c1_i32_7358 : BitVec 32 := 1#32
  let v13399 : BitVec 32 := Scalar.addi arg0 c1_i32_7358
  let v13400 : BitVec 32 := Scalar.muli c32_i32_7359 v13399
  let c29_i32_7360 : BitVec 32 := 29#32
  let v13401 : BitVec 32 := Scalar.addi v13400 c29_i32_7360
  let v13402 : Index := Scalar.indexCast v13401
  let c0_7361 : Index := 0#32
  ![v13402.toNat, 0]
def k0_off179 (i : grid0.Coords) : Fin 2 → Nat :=
  let c32_i32_7359 : BitVec 32 := 32#32
  let arg0 : BitVec 32 := BitVec.ofNat 32 (i 0).val
  let c1_i32_7358 : BitVec 32 := 1#32
  let v13399 : BitVec 32 := Scalar.addi arg0 c1_i32_7358
  let v13400 : BitVec 32 := Scalar.muli c32_i32_7359 v13399
  let c29_i32_7360 : BitVec 32 := 29#32
  let v13401 : BitVec 32 := Scalar.addi v13400 c29_i32_7360
  let v13404 : Index := Scalar.indexCast v13401
  let c1_7362 : Index := 1#32
  ![v13404.toNat, 1]
def k0_mult62 (v13405 : BitVec 32) : BitVec 32 :=
  v13405

def k0_off180 (i : grid0.Coords) : Fin 1 → Nat :=
  let c32_i32_7365 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13409 : BitVec 32 := Scalar.muli c32_i32_7365 v2
  let c29_i32_7366 : BitVec 32 := 29#32
  let v13410 : BitVec 32 := Scalar.addi v13409 c29_i32_7366
  ![v13410.toNat]
def k0_off181 (i : grid0.Coords) : Fin 4 → Nat :=
  let c32_i32_7363 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13407 : BitVec 32 := Scalar.muli c32_i32_7363 v2
  let c29_i32_7364 : BitVec 32 := 29#32
  let v13408 : BitVec 32 := Scalar.addi v13407 c29_i32_7364
  let c0_i32_7367 : BitVec 32 := 0#32
  let c0_i32_7368 : BitVec 32 := 0#32
  let c0_i32_7369 : BitVec 32 := 0#32
  ![v13408.toNat, 0, 0, 0]
def k0_off182 (v13403 : BitVec 32) (v13405 : BitVec 32) : Fin 3 → Nat :=
  let v13406 : BitVec 32 := v13405
  let c0_i32_7370 : BitVec 32 := 0#32
  ![v13403.toNat, v13406.toNat, 0]

def k0_chk62 (i : grid0.Coords) (v13403 : BitVec 32) (v13405 : BitVec 32) : Prop :=
  (∀ (k0_h2 : k0_cond2 i = 1#1), 8 ∣ (k0_mult62 v13405).toNat) ∧
  (∀ (k0_h2 : k0_cond2 i = 1#1), ∀ a, (k0_off182 v13403 v13405) a + S14x24x256.size a ≤ S400x200x256.size a)
theorem k0_mult62_dvd : ∀ (i : grid0.Coords) (v13403 : BitVec 32) (v13405 : BitVec 32) (k0_hw62 : k0_chk62 i v13403 v13405), ∀ (k0_h2 : k0_cond2 i = 1#1), 8 ∣ (k0_mult62 v13405).toNat := fun i v13403 v13405 k0_hw62 k0_h2 => k0_hw62.1 k0_h2
theorem k0_off182_inb : ∀ (i : grid0.Coords) (v13403 : BitVec 32) (v13405 : BitVec 32) (k0_hw62 : k0_chk62 i v13403 v13405), ∀ (k0_h2 : k0_cond2 i = 1#1), ∀ a, (k0_off182 v13403 v13405) a + S14x24x256.size a ≤ S400x200x256.size a := fun i v13403 v13405 k0_hw62 k0_h2 => k0_hw62.2 k0_h2

def k0_off183 (i : grid0.Coords) : Fin 2 → Nat :=
  let c32_i32_7372 : BitVec 32 := 32#32
  let arg0 : BitVec 32 := BitVec.ofNat 32 (i 0).val
  let c1_i32_7371 : BitVec 32 := 1#32
  let v13416 : BitVec 32 := Scalar.addi arg0 c1_i32_7371
  let v13417 : BitVec 32 := Scalar.muli c32_i32_7372 v13416
  let c30_i32_7373 : BitVec 32 := 30#32
  let v13418 : BitVec 32 := Scalar.addi v13417 c30_i32_7373
  let v13419 : Index := Scalar.indexCast v13418
  let c0_7374 : Index := 0#32
  ![v13419.toNat, 0]
def k0_off184 (i : grid0.Coords) : Fin 2 → Nat :=
  let c32_i32_7372 : BitVec 32 := 32#32
  let arg0 : BitVec 32 := BitVec.ofNat 32 (i 0).val
  let c1_i32_7371 : BitVec 32 := 1#32
  let v13416 : BitVec 32 := Scalar.addi arg0 c1_i32_7371
  let v13417 : BitVec 32 := Scalar.muli c32_i32_7372 v13416
  let c30_i32_7373 : BitVec 32 := 30#32
  let v13418 : BitVec 32 := Scalar.addi v13417 c30_i32_7373
  let v13421 : Index := Scalar.indexCast v13418
  let c1_7375 : Index := 1#32
  ![v13421.toNat, 1]
def k0_mult63 (v13422 : BitVec 32) : BitVec 32 :=
  v13422

def k0_off185 (i : grid0.Coords) : Fin 1 → Nat :=
  let c32_i32_7378 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13426 : BitVec 32 := Scalar.muli c32_i32_7378 v2
  let c30_i32_7379 : BitVec 32 := 30#32
  let v13427 : BitVec 32 := Scalar.addi v13426 c30_i32_7379
  ![v13427.toNat]
def k0_off186 (i : grid0.Coords) : Fin 4 → Nat :=
  let c32_i32_7376 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13424 : BitVec 32 := Scalar.muli c32_i32_7376 v2
  let c30_i32_7377 : BitVec 32 := 30#32
  let v13425 : BitVec 32 := Scalar.addi v13424 c30_i32_7377
  let c0_i32_7380 : BitVec 32 := 0#32
  let c0_i32_7381 : BitVec 32 := 0#32
  let c0_i32_7382 : BitVec 32 := 0#32
  ![v13425.toNat, 0, 0, 0]
def k0_off187 (v13420 : BitVec 32) (v13422 : BitVec 32) : Fin 3 → Nat :=
  let v13423 : BitVec 32 := v13422
  let c0_i32_7383 : BitVec 32 := 0#32
  ![v13420.toNat, v13423.toNat, 0]

def k0_chk63 (i : grid0.Coords) (v13420 : BitVec 32) (v13422 : BitVec 32) : Prop :=
  (∀ (k0_h2 : k0_cond2 i = 1#1), 8 ∣ (k0_mult63 v13422).toNat) ∧
  (∀ (k0_h2 : k0_cond2 i = 1#1), ∀ a, (k0_off187 v13420 v13422) a + S14x24x256.size a ≤ S400x200x256.size a)
theorem k0_mult63_dvd : ∀ (i : grid0.Coords) (v13420 : BitVec 32) (v13422 : BitVec 32) (k0_hw63 : k0_chk63 i v13420 v13422), ∀ (k0_h2 : k0_cond2 i = 1#1), 8 ∣ (k0_mult63 v13422).toNat := fun i v13420 v13422 k0_hw63 k0_h2 => k0_hw63.1 k0_h2
theorem k0_off187_inb : ∀ (i : grid0.Coords) (v13420 : BitVec 32) (v13422 : BitVec 32) (k0_hw63 : k0_chk63 i v13420 v13422), ∀ (k0_h2 : k0_cond2 i = 1#1), ∀ a, (k0_off187 v13420 v13422) a + S14x24x256.size a ≤ S400x200x256.size a := fun i v13420 v13422 k0_hw63 k0_h2 => k0_hw63.2 k0_h2

def k0_off188 (i : grid0.Coords) : Fin 2 → Nat :=
  let c32_i32_7385 : BitVec 32 := 32#32
  let arg0 : BitVec 32 := BitVec.ofNat 32 (i 0).val
  let c1_i32_7384 : BitVec 32 := 1#32
  let v13433 : BitVec 32 := Scalar.addi arg0 c1_i32_7384
  let v13434 : BitVec 32 := Scalar.muli c32_i32_7385 v13433
  let c31_i32_7386 : BitVec 32 := 31#32
  let v13435 : BitVec 32 := Scalar.addi v13434 c31_i32_7386
  let v13436 : Index := Scalar.indexCast v13435
  let c0_7387 : Index := 0#32
  ![v13436.toNat, 0]
def k0_off189 (i : grid0.Coords) : Fin 2 → Nat :=
  let c32_i32_7385 : BitVec 32 := 32#32
  let arg0 : BitVec 32 := BitVec.ofNat 32 (i 0).val
  let c1_i32_7384 : BitVec 32 := 1#32
  let v13433 : BitVec 32 := Scalar.addi arg0 c1_i32_7384
  let v13434 : BitVec 32 := Scalar.muli c32_i32_7385 v13433
  let c31_i32_7386 : BitVec 32 := 31#32
  let v13435 : BitVec 32 := Scalar.addi v13434 c31_i32_7386
  let v13438 : Index := Scalar.indexCast v13435
  let c1_7388 : Index := 1#32
  ![v13438.toNat, 1]
def k0_mult64 (v13439 : BitVec 32) : BitVec 32 :=
  v13439

def k0_off190 (i : grid0.Coords) : Fin 1 → Nat :=
  let c32_i32_7391 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13443 : BitVec 32 := Scalar.muli c32_i32_7391 v2
  let c31_i32_7392 : BitVec 32 := 31#32
  let v13444 : BitVec 32 := Scalar.addi v13443 c31_i32_7392
  ![v13444.toNat]
def k0_off191 (i : grid0.Coords) : Fin 4 → Nat :=
  let c32_i32_7389 : BitVec 32 := 32#32
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13441 : BitVec 32 := Scalar.muli c32_i32_7389 v2
  let c31_i32_7390 : BitVec 32 := 31#32
  let v13442 : BitVec 32 := Scalar.addi v13441 c31_i32_7390
  let c0_i32_7393 : BitVec 32 := 0#32
  let c0_i32_7394 : BitVec 32 := 0#32
  let c0_i32_7395 : BitVec 32 := 0#32
  ![v13442.toNat, 0, 0, 0]
def k0_off192 (v13437 : BitVec 32) (v13439 : BitVec 32) : Fin 3 → Nat :=
  let v13440 : BitVec 32 := v13439
  let c0_i32_7396 : BitVec 32 := 0#32
  ![v13437.toNat, v13440.toNat, 0]

def k0_chk64 (i : grid0.Coords) (v13437 : BitVec 32) (v13439 : BitVec 32) : Prop :=
  (∀ (k0_h2 : k0_cond2 i = 1#1), 8 ∣ (k0_mult64 v13439).toNat) ∧
  (∀ (k0_h2 : k0_cond2 i = 1#1), ∀ a, (k0_off192 v13437 v13439) a + S14x24x256.size a ≤ S400x200x256.size a)
theorem k0_mult64_dvd : ∀ (i : grid0.Coords) (v13437 : BitVec 32) (v13439 : BitVec 32) (k0_hw64 : k0_chk64 i v13437 v13439), ∀ (k0_h2 : k0_cond2 i = 1#1), 8 ∣ (k0_mult64 v13439).toNat := fun i v13437 v13439 k0_hw64 k0_h2 => k0_hw64.1 k0_h2
theorem k0_off192_inb : ∀ (i : grid0.Coords) (v13437 : BitVec 32) (v13439 : BitVec 32) (k0_hw64 : k0_chk64 i v13437 v13439), ∀ (k0_h2 : k0_cond2 i = 1#1), ∀ a, (k0_off192 v13437 v13439) a + S14x24x256.size a ≤ S400x200x256.size a := fun i v13437 v13439 k0_hw64 k0_h2 => k0_hw64.2 k0_h2

def k0_off193 (i : grid0.Coords) : Fin 2 → Nat :=
  let c32_i32_4 : BitVec 32 := 32#32
  let arg0 : BitVec 32 := BitVec.ofNat 32 (i 0).val
  let v10 : BitVec 32 := Scalar.muli c32_i32_4 arg0
  let c0_i32_5 : BitVec 32 := 0#32
  let v11 : BitVec 32 := Scalar.addi v10 c0_i32_5
  let v12 : Index := Scalar.indexCast v11
  let c0 : Index := 0#32
  ![v12.toNat, 0]
def k0_off194 (i : grid0.Coords) : Fin 2 → Nat :=
  let c32_i32_4 : BitVec 32 := 32#32
  let arg0 : BitVec 32 := BitVec.ofNat 32 (i 0).val
  let v10 : BitVec 32 := Scalar.muli c32_i32_4 arg0
  let c0_i32_5 : BitVec 32 := 0#32
  let v11 : BitVec 32 := Scalar.addi v10 c0_i32_5
  let v14 : Index := Scalar.indexCast v11
  let c1 : Index := 1#32
  ![v14.toNat, 1]
def k0_mult65 (v15 : BitVec 32) : BitVec 32 :=
  v15

def k0_off195 (i : grid0.Coords) : Fin 1 → Nat :=
  let c32_i32_8 : BitVec 32 := 32#32
  let arg0 : BitVec 32 := BitVec.ofNat 32 (i 0).val
  let c2_i32 : BitVec 32 := 2#32
  let v0 : BitVec 32 := Scalar.remsi arg0 c2_i32
  let v19 : BitVec 32 := Scalar.muli c32_i32_8 v0
  let c0_i32_9 : BitVec 32 := 0#32
  let v20 : BitVec 32 := Scalar.addi v19 c0_i32_9
  ![v20.toNat]
def k0_off196 (i : grid0.Coords) : Fin 4 → Nat :=
  let c32_i32_6 : BitVec 32 := 32#32
  let arg0 : BitVec 32 := BitVec.ofNat 32 (i 0).val
  let c2_i32 : BitVec 32 := 2#32
  let v0 : BitVec 32 := Scalar.remsi arg0 c2_i32
  let v17 : BitVec 32 := Scalar.muli c32_i32_6 v0
  let c0_i32_7 : BitVec 32 := 0#32
  let v18 : BitVec 32 := Scalar.addi v17 c0_i32_7
  let c0_i32_10 : BitVec 32 := 0#32
  let c0_i32_11 : BitVec 32 := 0#32
  let c0_i32_12 : BitVec 32 := 0#32
  ![v18.toNat, 0, 0, 0]
def k0_off197 (v13 : BitVec 32) (v15 : BitVec 32) : Fin 3 → Nat :=
  let v16 : BitVec 32 := v15
  let c0_i32_13 : BitVec 32 := 0#32
  ![v13.toNat, v16.toNat, 0]

def k0_chk65 (v13 : BitVec 32) (v15 : BitVec 32) : Prop :=
  (8 ∣ (k0_mult65 v15).toNat) ∧
  (∀ a, (k0_off197 v13 v15) a + S14x24x256.size a ≤ S400x200x256.size a)
theorem k0_mult65_dvd : ∀ (v13 : BitVec 32) (v15 : BitVec 32) (k0_hw65 : k0_chk65 v13 v15), 8 ∣ (k0_mult65 v15).toNat := fun v13 v15 k0_hw65 => k0_hw65.1
theorem k0_off197_inb : ∀ (v13 : BitVec 32) (v15 : BitVec 32) (k0_hw65 : k0_chk65 v13 v15), ∀ a, (k0_off197 v13 v15) a + S14x24x256.size a ≤ S400x200x256.size a := fun v13 v15 k0_hw65 => k0_hw65.2

def k0_off198 (i : grid0.Coords) : Fin 2 → Nat :=
  let c32_i32_14 : BitVec 32 := 32#32
  let arg0 : BitVec 32 := BitVec.ofNat 32 (i 0).val
  let v26 : BitVec 32 := Scalar.muli c32_i32_14 arg0
  let c1_i32_15 : BitVec 32 := 1#32
  let v27 : BitVec 32 := Scalar.addi v26 c1_i32_15
  let v28 : Index := Scalar.indexCast v27
  let c0_16 : Index := 0#32
  ![v28.toNat, 0]
def k0_off199 (i : grid0.Coords) : Fin 2 → Nat :=
  let c32_i32_14 : BitVec 32 := 32#32
  let arg0 : BitVec 32 := BitVec.ofNat 32 (i 0).val
  let v26 : BitVec 32 := Scalar.muli c32_i32_14 arg0
  let c1_i32_15 : BitVec 32 := 1#32
  let v27 : BitVec 32 := Scalar.addi v26 c1_i32_15
  let v30 : Index := Scalar.indexCast v27
  let c1_17 : Index := 1#32
  ![v30.toNat, 1]
def k0_mult66 (v31 : BitVec 32) : BitVec 32 :=
  v31

def k0_off200 (i : grid0.Coords) : Fin 1 → Nat :=
  let c32_i32_20 : BitVec 32 := 32#32
  let arg0 : BitVec 32 := BitVec.ofNat 32 (i 0).val
  let c2_i32 : BitVec 32 := 2#32
  let v0 : BitVec 32 := Scalar.remsi arg0 c2_i32
  let v35 : BitVec 32 := Scalar.muli c32_i32_20 v0
  let c1_i32_21 : BitVec 32 := 1#32
  let v36 : BitVec 32 := Scalar.addi v35 c1_i32_21
  ![v36.toNat]
def k0_off201 (i : grid0.Coords) : Fin 4 → Nat :=
  let c32_i32_18 : BitVec 32 := 32#32
  let arg0 : BitVec 32 := BitVec.ofNat 32 (i 0).val
  let c2_i32 : BitVec 32 := 2#32
  let v0 : BitVec 32 := Scalar.remsi arg0 c2_i32
  let v33 : BitVec 32 := Scalar.muli c32_i32_18 v0
  let c1_i32_19 : BitVec 32 := 1#32
  let v34 : BitVec 32 := Scalar.addi v33 c1_i32_19
  let c0_i32_22 : BitVec 32 := 0#32
  let c0_i32_23 : BitVec 32 := 0#32
  let c0_i32_24 : BitVec 32 := 0#32
  ![v34.toNat, 0, 0, 0]
def k0_off202 (v29 : BitVec 32) (v31 : BitVec 32) : Fin 3 → Nat :=
  let v32 : BitVec 32 := v31
  let c0_i32_25 : BitVec 32 := 0#32
  ![v29.toNat, v32.toNat, 0]

def k0_chk66 (v29 : BitVec 32) (v31 : BitVec 32) : Prop :=
  (8 ∣ (k0_mult66 v31).toNat) ∧
  (∀ a, (k0_off202 v29 v31) a + S14x24x256.size a ≤ S400x200x256.size a)
theorem k0_mult66_dvd : ∀ (v29 : BitVec 32) (v31 : BitVec 32) (k0_hw66 : k0_chk66 v29 v31), 8 ∣ (k0_mult66 v31).toNat := fun v29 v31 k0_hw66 => k0_hw66.1
theorem k0_off202_inb : ∀ (v29 : BitVec 32) (v31 : BitVec 32) (k0_hw66 : k0_chk66 v29 v31), ∀ a, (k0_off202 v29 v31) a + S14x24x256.size a ≤ S400x200x256.size a := fun v29 v31 k0_hw66 => k0_hw66.2

def k0_off203 (i : grid0.Coords) : Fin 2 → Nat :=
  let c32_i32_26 : BitVec 32 := 32#32
  let arg0 : BitVec 32 := BitVec.ofNat 32 (i 0).val
  let v42 : BitVec 32 := Scalar.muli c32_i32_26 arg0
  let c2_i32_27 : BitVec 32 := 2#32
  let v43 : BitVec 32 := Scalar.addi v42 c2_i32_27
  let v44 : Index := Scalar.indexCast v43
  let c0_28 : Index := 0#32
  ![v44.toNat, 0]
def k0_off204 (i : grid0.Coords) : Fin 2 → Nat :=
  let c32_i32_26 : BitVec 32 := 32#32
  let arg0 : BitVec 32 := BitVec.ofNat 32 (i 0).val
  let v42 : BitVec 32 := Scalar.muli c32_i32_26 arg0
  let c2_i32_27 : BitVec 32 := 2#32
  let v43 : BitVec 32 := Scalar.addi v42 c2_i32_27
  let v46 : Index := Scalar.indexCast v43
  let c1_29 : Index := 1#32
  ![v46.toNat, 1]
def k0_mult67 (v47 : BitVec 32) : BitVec 32 :=
  v47

def k0_off205 (i : grid0.Coords) : Fin 1 → Nat :=
  let c32_i32_32 : BitVec 32 := 32#32
  let arg0 : BitVec 32 := BitVec.ofNat 32 (i 0).val
  let c2_i32 : BitVec 32 := 2#32
  let v0 : BitVec 32 := Scalar.remsi arg0 c2_i32
  let v51 : BitVec 32 := Scalar.muli c32_i32_32 v0
  let c2_i32_33 : BitVec 32 := 2#32
  let v52 : BitVec 32 := Scalar.addi v51 c2_i32_33
  ![v52.toNat]
def k0_off206 (i : grid0.Coords) : Fin 4 → Nat :=
  let c32_i32_30 : BitVec 32 := 32#32
  let arg0 : BitVec 32 := BitVec.ofNat 32 (i 0).val
  let c2_i32 : BitVec 32 := 2#32
  let v0 : BitVec 32 := Scalar.remsi arg0 c2_i32
  let v49 : BitVec 32 := Scalar.muli c32_i32_30 v0
  let c2_i32_31 : BitVec 32 := 2#32
  let v50 : BitVec 32 := Scalar.addi v49 c2_i32_31
  let c0_i32_34 : BitVec 32 := 0#32
  let c0_i32_35 : BitVec 32 := 0#32
  let c0_i32_36 : BitVec 32 := 0#32
  ![v50.toNat, 0, 0, 0]
def k0_off207 (v45 : BitVec 32) (v47 : BitVec 32) : Fin 3 → Nat :=
  let v48 : BitVec 32 := v47
  let c0_i32_37 : BitVec 32 := 0#32
  ![v45.toNat, v48.toNat, 0]

def k0_chk67 (v45 : BitVec 32) (v47 : BitVec 32) : Prop :=
  (8 ∣ (k0_mult67 v47).toNat) ∧
  (∀ a, (k0_off207 v45 v47) a + S14x24x256.size a ≤ S400x200x256.size a)
theorem k0_mult67_dvd : ∀ (v45 : BitVec 32) (v47 : BitVec 32) (k0_hw67 : k0_chk67 v45 v47), 8 ∣ (k0_mult67 v47).toNat := fun v45 v47 k0_hw67 => k0_hw67.1
theorem k0_off207_inb : ∀ (v45 : BitVec 32) (v47 : BitVec 32) (k0_hw67 : k0_chk67 v45 v47), ∀ a, (k0_off207 v45 v47) a + S14x24x256.size a ≤ S400x200x256.size a := fun v45 v47 k0_hw67 => k0_hw67.2

def k0_off208 (i : grid0.Coords) : Fin 2 → Nat :=
  let c32_i32_38 : BitVec 32 := 32#32
  let arg0 : BitVec 32 := BitVec.ofNat 32 (i 0).val
  let v58 : BitVec 32 := Scalar.muli c32_i32_38 arg0
  let c3_i32 : BitVec 32 := 3#32
  let v59 : BitVec 32 := Scalar.addi v58 c3_i32
  let v60 : Index := Scalar.indexCast v59
  let c0_39 : Index := 0#32
  ![v60.toNat, 0]
def k0_off209 (i : grid0.Coords) : Fin 2 → Nat :=
  let c32_i32_38 : BitVec 32 := 32#32
  let arg0 : BitVec 32 := BitVec.ofNat 32 (i 0).val
  let v58 : BitVec 32 := Scalar.muli c32_i32_38 arg0
  let c3_i32 : BitVec 32 := 3#32
  let v59 : BitVec 32 := Scalar.addi v58 c3_i32
  let v62 : Index := Scalar.indexCast v59
  let c1_40 : Index := 1#32
  ![v62.toNat, 1]
def k0_mult68 (v63 : BitVec 32) : BitVec 32 :=
  v63

def k0_off210 (i : grid0.Coords) : Fin 1 → Nat :=
  let c32_i32_43 : BitVec 32 := 32#32
  let arg0 : BitVec 32 := BitVec.ofNat 32 (i 0).val
  let c2_i32 : BitVec 32 := 2#32
  let v0 : BitVec 32 := Scalar.remsi arg0 c2_i32
  let v67 : BitVec 32 := Scalar.muli c32_i32_43 v0
  let c3_i32_44 : BitVec 32 := 3#32
  let v68 : BitVec 32 := Scalar.addi v67 c3_i32_44
  ![v68.toNat]
def k0_off211 (i : grid0.Coords) : Fin 4 → Nat :=
  let c32_i32_41 : BitVec 32 := 32#32
  let arg0 : BitVec 32 := BitVec.ofNat 32 (i 0).val
  let c2_i32 : BitVec 32 := 2#32
  let v0 : BitVec 32 := Scalar.remsi arg0 c2_i32
  let v65 : BitVec 32 := Scalar.muli c32_i32_41 v0
  let c3_i32_42 : BitVec 32 := 3#32
  let v66 : BitVec 32 := Scalar.addi v65 c3_i32_42
  let c0_i32_45 : BitVec 32 := 0#32
  let c0_i32_46 : BitVec 32 := 0#32
  let c0_i32_47 : BitVec 32 := 0#32
  ![v66.toNat, 0, 0, 0]
def k0_off212 (v61 : BitVec 32) (v63 : BitVec 32) : Fin 3 → Nat :=
  let v64 : BitVec 32 := v63
  let c0_i32_48 : BitVec 32 := 0#32
  ![v61.toNat, v64.toNat, 0]

def k0_chk68 (v61 : BitVec 32) (v63 : BitVec 32) : Prop :=
  (8 ∣ (k0_mult68 v63).toNat) ∧
  (∀ a, (k0_off212 v61 v63) a + S14x24x256.size a ≤ S400x200x256.size a)
theorem k0_mult68_dvd : ∀ (v61 : BitVec 32) (v63 : BitVec 32) (k0_hw68 : k0_chk68 v61 v63), 8 ∣ (k0_mult68 v63).toNat := fun v61 v63 k0_hw68 => k0_hw68.1
theorem k0_off212_inb : ∀ (v61 : BitVec 32) (v63 : BitVec 32) (k0_hw68 : k0_chk68 v61 v63), ∀ a, (k0_off212 v61 v63) a + S14x24x256.size a ≤ S400x200x256.size a := fun v61 v63 k0_hw68 => k0_hw68.2

def k0_off213 (i : grid0.Coords) : Fin 2 → Nat :=
  let c32_i32_49 : BitVec 32 := 32#32
  let arg0 : BitVec 32 := BitVec.ofNat 32 (i 0).val
  let v74 : BitVec 32 := Scalar.muli c32_i32_49 arg0
  let c4_i32 : BitVec 32 := 4#32
  let v75 : BitVec 32 := Scalar.addi v74 c4_i32
  let v76 : Index := Scalar.indexCast v75
  let c0_50 : Index := 0#32
  ![v76.toNat, 0]
def k0_off214 (i : grid0.Coords) : Fin 2 → Nat :=
  let c32_i32_49 : BitVec 32 := 32#32
  let arg0 : BitVec 32 := BitVec.ofNat 32 (i 0).val
  let v74 : BitVec 32 := Scalar.muli c32_i32_49 arg0
  let c4_i32 : BitVec 32 := 4#32
  let v75 : BitVec 32 := Scalar.addi v74 c4_i32
  let v78 : Index := Scalar.indexCast v75
  let c1_51 : Index := 1#32
  ![v78.toNat, 1]
def k0_mult69 (v79 : BitVec 32) : BitVec 32 :=
  v79

def k0_off215 (i : grid0.Coords) : Fin 1 → Nat :=
  let c32_i32_54 : BitVec 32 := 32#32
  let arg0 : BitVec 32 := BitVec.ofNat 32 (i 0).val
  let c2_i32 : BitVec 32 := 2#32
  let v0 : BitVec 32 := Scalar.remsi arg0 c2_i32
  let v83 : BitVec 32 := Scalar.muli c32_i32_54 v0
  let c4_i32_55 : BitVec 32 := 4#32
  let v84 : BitVec 32 := Scalar.addi v83 c4_i32_55
  ![v84.toNat]
def k0_off216 (i : grid0.Coords) : Fin 4 → Nat :=
  let c32_i32_52 : BitVec 32 := 32#32
  let arg0 : BitVec 32 := BitVec.ofNat 32 (i 0).val
  let c2_i32 : BitVec 32 := 2#32
  let v0 : BitVec 32 := Scalar.remsi arg0 c2_i32
  let v81 : BitVec 32 := Scalar.muli c32_i32_52 v0
  let c4_i32_53 : BitVec 32 := 4#32
  let v82 : BitVec 32 := Scalar.addi v81 c4_i32_53
  let c0_i32_56 : BitVec 32 := 0#32
  let c0_i32_57 : BitVec 32 := 0#32
  let c0_i32_58 : BitVec 32 := 0#32
  ![v82.toNat, 0, 0, 0]
def k0_off217 (v77 : BitVec 32) (v79 : BitVec 32) : Fin 3 → Nat :=
  let v80 : BitVec 32 := v79
  let c0_i32_59 : BitVec 32 := 0#32
  ![v77.toNat, v80.toNat, 0]

def k0_chk69 (v77 : BitVec 32) (v79 : BitVec 32) : Prop :=
  (8 ∣ (k0_mult69 v79).toNat) ∧
  (∀ a, (k0_off217 v77 v79) a + S14x24x256.size a ≤ S400x200x256.size a)
theorem k0_mult69_dvd : ∀ (v77 : BitVec 32) (v79 : BitVec 32) (k0_hw69 : k0_chk69 v77 v79), 8 ∣ (k0_mult69 v79).toNat := fun v77 v79 k0_hw69 => k0_hw69.1
theorem k0_off217_inb : ∀ (v77 : BitVec 32) (v79 : BitVec 32) (k0_hw69 : k0_chk69 v77 v79), ∀ a, (k0_off217 v77 v79) a + S14x24x256.size a ≤ S400x200x256.size a := fun v77 v79 k0_hw69 => k0_hw69.2

def k0_off218 (i : grid0.Coords) : Fin 2 → Nat :=
  let c32_i32_60 : BitVec 32 := 32#32
  let arg0 : BitVec 32 := BitVec.ofNat 32 (i 0).val
  let v90 : BitVec 32 := Scalar.muli c32_i32_60 arg0
  let c5_i32 : BitVec 32 := 5#32
  let v91 : BitVec 32 := Scalar.addi v90 c5_i32
  let v92 : Index := Scalar.indexCast v91
  let c0_61 : Index := 0#32
  ![v92.toNat, 0]
def k0_off219 (i : grid0.Coords) : Fin 2 → Nat :=
  let c32_i32_60 : BitVec 32 := 32#32
  let arg0 : BitVec 32 := BitVec.ofNat 32 (i 0).val
  let v90 : BitVec 32 := Scalar.muli c32_i32_60 arg0
  let c5_i32 : BitVec 32 := 5#32
  let v91 : BitVec 32 := Scalar.addi v90 c5_i32
  let v94 : Index := Scalar.indexCast v91
  let c1_62 : Index := 1#32
  ![v94.toNat, 1]
def k0_mult70 (v95 : BitVec 32) : BitVec 32 :=
  v95

def k0_off220 (i : grid0.Coords) : Fin 1 → Nat :=
  let c32_i32_65 : BitVec 32 := 32#32
  let arg0 : BitVec 32 := BitVec.ofNat 32 (i 0).val
  let c2_i32 : BitVec 32 := 2#32
  let v0 : BitVec 32 := Scalar.remsi arg0 c2_i32
  let v99 : BitVec 32 := Scalar.muli c32_i32_65 v0
  let c5_i32_66 : BitVec 32 := 5#32
  let v100 : BitVec 32 := Scalar.addi v99 c5_i32_66
  ![v100.toNat]
def k0_off221 (i : grid0.Coords) : Fin 4 → Nat :=
  let c32_i32_63 : BitVec 32 := 32#32
  let arg0 : BitVec 32 := BitVec.ofNat 32 (i 0).val
  let c2_i32 : BitVec 32 := 2#32
  let v0 : BitVec 32 := Scalar.remsi arg0 c2_i32
  let v97 : BitVec 32 := Scalar.muli c32_i32_63 v0
  let c5_i32_64 : BitVec 32 := 5#32
  let v98 : BitVec 32 := Scalar.addi v97 c5_i32_64
  let c0_i32_67 : BitVec 32 := 0#32
  let c0_i32_68 : BitVec 32 := 0#32
  let c0_i32_69 : BitVec 32 := 0#32
  ![v98.toNat, 0, 0, 0]
def k0_off222 (v93 : BitVec 32) (v95 : BitVec 32) : Fin 3 → Nat :=
  let v96 : BitVec 32 := v95
  let c0_i32_70 : BitVec 32 := 0#32
  ![v93.toNat, v96.toNat, 0]

def k0_chk70 (v93 : BitVec 32) (v95 : BitVec 32) : Prop :=
  (8 ∣ (k0_mult70 v95).toNat) ∧
  (∀ a, (k0_off222 v93 v95) a + S14x24x256.size a ≤ S400x200x256.size a)
theorem k0_mult70_dvd : ∀ (v93 : BitVec 32) (v95 : BitVec 32) (k0_hw70 : k0_chk70 v93 v95), 8 ∣ (k0_mult70 v95).toNat := fun v93 v95 k0_hw70 => k0_hw70.1
theorem k0_off222_inb : ∀ (v93 : BitVec 32) (v95 : BitVec 32) (k0_hw70 : k0_chk70 v93 v95), ∀ a, (k0_off222 v93 v95) a + S14x24x256.size a ≤ S400x200x256.size a := fun v93 v95 k0_hw70 => k0_hw70.2

def k0_off223 (i : grid0.Coords) : Fin 2 → Nat :=
  let c32_i32_71 : BitVec 32 := 32#32
  let arg0 : BitVec 32 := BitVec.ofNat 32 (i 0).val
  let v106 : BitVec 32 := Scalar.muli c32_i32_71 arg0
  let c6_i32 : BitVec 32 := 6#32
  let v107 : BitVec 32 := Scalar.addi v106 c6_i32
  let v108 : Index := Scalar.indexCast v107
  let c0_72 : Index := 0#32
  ![v108.toNat, 0]
def k0_off224 (i : grid0.Coords) : Fin 2 → Nat :=
  let c32_i32_71 : BitVec 32 := 32#32
  let arg0 : BitVec 32 := BitVec.ofNat 32 (i 0).val
  let v106 : BitVec 32 := Scalar.muli c32_i32_71 arg0
  let c6_i32 : BitVec 32 := 6#32
  let v107 : BitVec 32 := Scalar.addi v106 c6_i32
  let v110 : Index := Scalar.indexCast v107
  let c1_73 : Index := 1#32
  ![v110.toNat, 1]
def k0_mult71 (v111 : BitVec 32) : BitVec 32 :=
  v111

def k0_off225 (i : grid0.Coords) : Fin 1 → Nat :=
  let c32_i32_76 : BitVec 32 := 32#32
  let arg0 : BitVec 32 := BitVec.ofNat 32 (i 0).val
  let c2_i32 : BitVec 32 := 2#32
  let v0 : BitVec 32 := Scalar.remsi arg0 c2_i32
  let v115 : BitVec 32 := Scalar.muli c32_i32_76 v0
  let c6_i32_77 : BitVec 32 := 6#32
  let v116 : BitVec 32 := Scalar.addi v115 c6_i32_77
  ![v116.toNat]
def k0_off226 (i : grid0.Coords) : Fin 4 → Nat :=
  let c32_i32_74 : BitVec 32 := 32#32
  let arg0 : BitVec 32 := BitVec.ofNat 32 (i 0).val
  let c2_i32 : BitVec 32 := 2#32
  let v0 : BitVec 32 := Scalar.remsi arg0 c2_i32
  let v113 : BitVec 32 := Scalar.muli c32_i32_74 v0
  let c6_i32_75 : BitVec 32 := 6#32
  let v114 : BitVec 32 := Scalar.addi v113 c6_i32_75
  let c0_i32_78 : BitVec 32 := 0#32
  let c0_i32_79 : BitVec 32 := 0#32
  let c0_i32_80 : BitVec 32 := 0#32
  ![v114.toNat, 0, 0, 0]
def k0_off227 (v109 : BitVec 32) (v111 : BitVec 32) : Fin 3 → Nat :=
  let v112 : BitVec 32 := v111
  let c0_i32_81 : BitVec 32 := 0#32
  ![v109.toNat, v112.toNat, 0]

def k0_chk71 (v109 : BitVec 32) (v111 : BitVec 32) : Prop :=
  (8 ∣ (k0_mult71 v111).toNat) ∧
  (∀ a, (k0_off227 v109 v111) a + S14x24x256.size a ≤ S400x200x256.size a)
theorem k0_mult71_dvd : ∀ (v109 : BitVec 32) (v111 : BitVec 32) (k0_hw71 : k0_chk71 v109 v111), 8 ∣ (k0_mult71 v111).toNat := fun v109 v111 k0_hw71 => k0_hw71.1
theorem k0_off227_inb : ∀ (v109 : BitVec 32) (v111 : BitVec 32) (k0_hw71 : k0_chk71 v109 v111), ∀ a, (k0_off227 v109 v111) a + S14x24x256.size a ≤ S400x200x256.size a := fun v109 v111 k0_hw71 => k0_hw71.2

def k0_off228 (i : grid0.Coords) : Fin 2 → Nat :=
  let c32_i32_82 : BitVec 32 := 32#32
  let arg0 : BitVec 32 := BitVec.ofNat 32 (i 0).val
  let v122 : BitVec 32 := Scalar.muli c32_i32_82 arg0
  let c7_i32 : BitVec 32 := 7#32
  let v123 : BitVec 32 := Scalar.addi v122 c7_i32
  let v124 : Index := Scalar.indexCast v123
  let c0_83 : Index := 0#32
  ![v124.toNat, 0]
def k0_off229 (i : grid0.Coords) : Fin 2 → Nat :=
  let c32_i32_82 : BitVec 32 := 32#32
  let arg0 : BitVec 32 := BitVec.ofNat 32 (i 0).val
  let v122 : BitVec 32 := Scalar.muli c32_i32_82 arg0
  let c7_i32 : BitVec 32 := 7#32
  let v123 : BitVec 32 := Scalar.addi v122 c7_i32
  let v126 : Index := Scalar.indexCast v123
  let c1_84 : Index := 1#32
  ![v126.toNat, 1]
def k0_mult72 (v127 : BitVec 32) : BitVec 32 :=
  v127

def k0_off230 (i : grid0.Coords) : Fin 1 → Nat :=
  let c32_i32_87 : BitVec 32 := 32#32
  let arg0 : BitVec 32 := BitVec.ofNat 32 (i 0).val
  let c2_i32 : BitVec 32 := 2#32
  let v0 : BitVec 32 := Scalar.remsi arg0 c2_i32
  let v131 : BitVec 32 := Scalar.muli c32_i32_87 v0
  let c7_i32_88 : BitVec 32 := 7#32
  let v132 : BitVec 32 := Scalar.addi v131 c7_i32_88
  ![v132.toNat]
def k0_off231 (i : grid0.Coords) : Fin 4 → Nat :=
  let c32_i32_85 : BitVec 32 := 32#32
  let arg0 : BitVec 32 := BitVec.ofNat 32 (i 0).val
  let c2_i32 : BitVec 32 := 2#32
  let v0 : BitVec 32 := Scalar.remsi arg0 c2_i32
  let v129 : BitVec 32 := Scalar.muli c32_i32_85 v0
  let c7_i32_86 : BitVec 32 := 7#32
  let v130 : BitVec 32 := Scalar.addi v129 c7_i32_86
  let c0_i32_89 : BitVec 32 := 0#32
  let c0_i32_90 : BitVec 32 := 0#32
  let c0_i32_91 : BitVec 32 := 0#32
  ![v130.toNat, 0, 0, 0]
def k0_off232 (v125 : BitVec 32) (v127 : BitVec 32) : Fin 3 → Nat :=
  let v128 : BitVec 32 := v127
  let c0_i32_92 : BitVec 32 := 0#32
  ![v125.toNat, v128.toNat, 0]

def k0_chk72 (v125 : BitVec 32) (v127 : BitVec 32) : Prop :=
  (8 ∣ (k0_mult72 v127).toNat) ∧
  (∀ a, (k0_off232 v125 v127) a + S14x24x256.size a ≤ S400x200x256.size a)
theorem k0_mult72_dvd : ∀ (v125 : BitVec 32) (v127 : BitVec 32) (k0_hw72 : k0_chk72 v125 v127), 8 ∣ (k0_mult72 v127).toNat := fun v125 v127 k0_hw72 => k0_hw72.1
theorem k0_off232_inb : ∀ (v125 : BitVec 32) (v127 : BitVec 32) (k0_hw72 : k0_chk72 v125 v127), ∀ a, (k0_off232 v125 v127) a + S14x24x256.size a ≤ S400x200x256.size a := fun v125 v127 k0_hw72 => k0_hw72.2

def k0_off233 (i : grid0.Coords) : Fin 2 → Nat :=
  let c32_i32_93 : BitVec 32 := 32#32
  let arg0 : BitVec 32 := BitVec.ofNat 32 (i 0).val
  let v138 : BitVec 32 := Scalar.muli c32_i32_93 arg0
  let c8_i32 : BitVec 32 := 8#32
  let v139 : BitVec 32 := Scalar.addi v138 c8_i32
  let v140 : Index := Scalar.indexCast v139
  let c0_94 : Index := 0#32
  ![v140.toNat, 0]
def k0_off234 (i : grid0.Coords) : Fin 2 → Nat :=
  let c32_i32_93 : BitVec 32 := 32#32
  let arg0 : BitVec 32 := BitVec.ofNat 32 (i 0).val
  let v138 : BitVec 32 := Scalar.muli c32_i32_93 arg0
  let c8_i32 : BitVec 32 := 8#32
  let v139 : BitVec 32 := Scalar.addi v138 c8_i32
  let v142 : Index := Scalar.indexCast v139
  let c1_95 : Index := 1#32
  ![v142.toNat, 1]
def k0_mult73 (v143 : BitVec 32) : BitVec 32 :=
  v143

def k0_off235 (i : grid0.Coords) : Fin 1 → Nat :=
  let c32_i32_98 : BitVec 32 := 32#32
  let arg0 : BitVec 32 := BitVec.ofNat 32 (i 0).val
  let c2_i32 : BitVec 32 := 2#32
  let v0 : BitVec 32 := Scalar.remsi arg0 c2_i32
  let v147 : BitVec 32 := Scalar.muli c32_i32_98 v0
  let c8_i32_99 : BitVec 32 := 8#32
  let v148 : BitVec 32 := Scalar.addi v147 c8_i32_99
  ![v148.toNat]
def k0_off236 (i : grid0.Coords) : Fin 4 → Nat :=
  let c32_i32_96 : BitVec 32 := 32#32
  let arg0 : BitVec 32 := BitVec.ofNat 32 (i 0).val
  let c2_i32 : BitVec 32 := 2#32
  let v0 : BitVec 32 := Scalar.remsi arg0 c2_i32
  let v145 : BitVec 32 := Scalar.muli c32_i32_96 v0
  let c8_i32_97 : BitVec 32 := 8#32
  let v146 : BitVec 32 := Scalar.addi v145 c8_i32_97
  let c0_i32_100 : BitVec 32 := 0#32
  let c0_i32_101 : BitVec 32 := 0#32
  let c0_i32_102 : BitVec 32 := 0#32
  ![v146.toNat, 0, 0, 0]
def k0_off237 (v141 : BitVec 32) (v143 : BitVec 32) : Fin 3 → Nat :=
  let v144 : BitVec 32 := v143
  let c0_i32_103 : BitVec 32 := 0#32
  ![v141.toNat, v144.toNat, 0]

def k0_chk73 (v141 : BitVec 32) (v143 : BitVec 32) : Prop :=
  (8 ∣ (k0_mult73 v143).toNat) ∧
  (∀ a, (k0_off237 v141 v143) a + S14x24x256.size a ≤ S400x200x256.size a)
theorem k0_mult73_dvd : ∀ (v141 : BitVec 32) (v143 : BitVec 32) (k0_hw73 : k0_chk73 v141 v143), 8 ∣ (k0_mult73 v143).toNat := fun v141 v143 k0_hw73 => k0_hw73.1
theorem k0_off237_inb : ∀ (v141 : BitVec 32) (v143 : BitVec 32) (k0_hw73 : k0_chk73 v141 v143), ∀ a, (k0_off237 v141 v143) a + S14x24x256.size a ≤ S400x200x256.size a := fun v141 v143 k0_hw73 => k0_hw73.2

def k0_off238 (i : grid0.Coords) : Fin 2 → Nat :=
  let c32_i32_104 : BitVec 32 := 32#32
  let arg0 : BitVec 32 := BitVec.ofNat 32 (i 0).val
  let v154 : BitVec 32 := Scalar.muli c32_i32_104 arg0
  let c9_i32 : BitVec 32 := 9#32
  let v155 : BitVec 32 := Scalar.addi v154 c9_i32
  let v156 : Index := Scalar.indexCast v155
  let c0_105 : Index := 0#32
  ![v156.toNat, 0]
def k0_off239 (i : grid0.Coords) : Fin 2 → Nat :=
  let c32_i32_104 : BitVec 32 := 32#32
  let arg0 : BitVec 32 := BitVec.ofNat 32 (i 0).val
  let v154 : BitVec 32 := Scalar.muli c32_i32_104 arg0
  let c9_i32 : BitVec 32 := 9#32
  let v155 : BitVec 32 := Scalar.addi v154 c9_i32
  let v158 : Index := Scalar.indexCast v155
  let c1_106 : Index := 1#32
  ![v158.toNat, 1]
def k0_mult74 (v159 : BitVec 32) : BitVec 32 :=
  v159

def k0_off240 (i : grid0.Coords) : Fin 1 → Nat :=
  let c32_i32_109 : BitVec 32 := 32#32
  let arg0 : BitVec 32 := BitVec.ofNat 32 (i 0).val
  let c2_i32 : BitVec 32 := 2#32
  let v0 : BitVec 32 := Scalar.remsi arg0 c2_i32
  let v163 : BitVec 32 := Scalar.muli c32_i32_109 v0
  let c9_i32_110 : BitVec 32 := 9#32
  let v164 : BitVec 32 := Scalar.addi v163 c9_i32_110
  ![v164.toNat]
def k0_off241 (i : grid0.Coords) : Fin 4 → Nat :=
  let c32_i32_107 : BitVec 32 := 32#32
  let arg0 : BitVec 32 := BitVec.ofNat 32 (i 0).val
  let c2_i32 : BitVec 32 := 2#32
  let v0 : BitVec 32 := Scalar.remsi arg0 c2_i32
  let v161 : BitVec 32 := Scalar.muli c32_i32_107 v0
  let c9_i32_108 : BitVec 32 := 9#32
  let v162 : BitVec 32 := Scalar.addi v161 c9_i32_108
  let c0_i32_111 : BitVec 32 := 0#32
  let c0_i32_112 : BitVec 32 := 0#32
  let c0_i32_113 : BitVec 32 := 0#32
  ![v162.toNat, 0, 0, 0]
def k0_off242 (v157 : BitVec 32) (v159 : BitVec 32) : Fin 3 → Nat :=
  let v160 : BitVec 32 := v159
  let c0_i32_114 : BitVec 32 := 0#32
  ![v157.toNat, v160.toNat, 0]

def k0_chk74 (v157 : BitVec 32) (v159 : BitVec 32) : Prop :=
  (8 ∣ (k0_mult74 v159).toNat) ∧
  (∀ a, (k0_off242 v157 v159) a + S14x24x256.size a ≤ S400x200x256.size a)
theorem k0_mult74_dvd : ∀ (v157 : BitVec 32) (v159 : BitVec 32) (k0_hw74 : k0_chk74 v157 v159), 8 ∣ (k0_mult74 v159).toNat := fun v157 v159 k0_hw74 => k0_hw74.1
theorem k0_off242_inb : ∀ (v157 : BitVec 32) (v159 : BitVec 32) (k0_hw74 : k0_chk74 v157 v159), ∀ a, (k0_off242 v157 v159) a + S14x24x256.size a ≤ S400x200x256.size a := fun v157 v159 k0_hw74 => k0_hw74.2

def k0_off243 (i : grid0.Coords) : Fin 2 → Nat :=
  let c32_i32_115 : BitVec 32 := 32#32
  let arg0 : BitVec 32 := BitVec.ofNat 32 (i 0).val
  let v170 : BitVec 32 := Scalar.muli c32_i32_115 arg0
  let c10_i32 : BitVec 32 := 10#32
  let v171 : BitVec 32 := Scalar.addi v170 c10_i32
  let v172 : Index := Scalar.indexCast v171
  let c0_116 : Index := 0#32
  ![v172.toNat, 0]
def k0_off244 (i : grid0.Coords) : Fin 2 → Nat :=
  let c32_i32_115 : BitVec 32 := 32#32
  let arg0 : BitVec 32 := BitVec.ofNat 32 (i 0).val
  let v170 : BitVec 32 := Scalar.muli c32_i32_115 arg0
  let c10_i32 : BitVec 32 := 10#32
  let v171 : BitVec 32 := Scalar.addi v170 c10_i32
  let v174 : Index := Scalar.indexCast v171
  let c1_117 : Index := 1#32
  ![v174.toNat, 1]
def k0_mult75 (v175 : BitVec 32) : BitVec 32 :=
  v175

def k0_off245 (i : grid0.Coords) : Fin 1 → Nat :=
  let c32_i32_120 : BitVec 32 := 32#32
  let arg0 : BitVec 32 := BitVec.ofNat 32 (i 0).val
  let c2_i32 : BitVec 32 := 2#32
  let v0 : BitVec 32 := Scalar.remsi arg0 c2_i32
  let v179 : BitVec 32 := Scalar.muli c32_i32_120 v0
  let c10_i32_121 : BitVec 32 := 10#32
  let v180 : BitVec 32 := Scalar.addi v179 c10_i32_121
  ![v180.toNat]
def k0_off246 (i : grid0.Coords) : Fin 4 → Nat :=
  let c32_i32_118 : BitVec 32 := 32#32
  let arg0 : BitVec 32 := BitVec.ofNat 32 (i 0).val
  let c2_i32 : BitVec 32 := 2#32
  let v0 : BitVec 32 := Scalar.remsi arg0 c2_i32
  let v177 : BitVec 32 := Scalar.muli c32_i32_118 v0
  let c10_i32_119 : BitVec 32 := 10#32
  let v178 : BitVec 32 := Scalar.addi v177 c10_i32_119
  let c0_i32_122 : BitVec 32 := 0#32
  let c0_i32_123 : BitVec 32 := 0#32
  let c0_i32_124 : BitVec 32 := 0#32
  ![v178.toNat, 0, 0, 0]
def k0_off247 (v173 : BitVec 32) (v175 : BitVec 32) : Fin 3 → Nat :=
  let v176 : BitVec 32 := v175
  let c0_i32_125 : BitVec 32 := 0#32
  ![v173.toNat, v176.toNat, 0]

def k0_chk75 (v173 : BitVec 32) (v175 : BitVec 32) : Prop :=
  (8 ∣ (k0_mult75 v175).toNat) ∧
  (∀ a, (k0_off247 v173 v175) a + S14x24x256.size a ≤ S400x200x256.size a)
theorem k0_mult75_dvd : ∀ (v173 : BitVec 32) (v175 : BitVec 32) (k0_hw75 : k0_chk75 v173 v175), 8 ∣ (k0_mult75 v175).toNat := fun v173 v175 k0_hw75 => k0_hw75.1
theorem k0_off247_inb : ∀ (v173 : BitVec 32) (v175 : BitVec 32) (k0_hw75 : k0_chk75 v173 v175), ∀ a, (k0_off247 v173 v175) a + S14x24x256.size a ≤ S400x200x256.size a := fun v173 v175 k0_hw75 => k0_hw75.2

def k0_off248 (i : grid0.Coords) : Fin 2 → Nat :=
  let c32_i32_126 : BitVec 32 := 32#32
  let arg0 : BitVec 32 := BitVec.ofNat 32 (i 0).val
  let v186 : BitVec 32 := Scalar.muli c32_i32_126 arg0
  let c11_i32 : BitVec 32 := 11#32
  let v187 : BitVec 32 := Scalar.addi v186 c11_i32
  let v188 : Index := Scalar.indexCast v187
  let c0_127 : Index := 0#32
  ![v188.toNat, 0]
def k0_off249 (i : grid0.Coords) : Fin 2 → Nat :=
  let c32_i32_126 : BitVec 32 := 32#32
  let arg0 : BitVec 32 := BitVec.ofNat 32 (i 0).val
  let v186 : BitVec 32 := Scalar.muli c32_i32_126 arg0
  let c11_i32 : BitVec 32 := 11#32
  let v187 : BitVec 32 := Scalar.addi v186 c11_i32
  let v190 : Index := Scalar.indexCast v187
  let c1_128 : Index := 1#32
  ![v190.toNat, 1]
def k0_mult76 (v191 : BitVec 32) : BitVec 32 :=
  v191

def k0_off250 (i : grid0.Coords) : Fin 1 → Nat :=
  let c32_i32_131 : BitVec 32 := 32#32
  let arg0 : BitVec 32 := BitVec.ofNat 32 (i 0).val
  let c2_i32 : BitVec 32 := 2#32
  let v0 : BitVec 32 := Scalar.remsi arg0 c2_i32
  let v195 : BitVec 32 := Scalar.muli c32_i32_131 v0
  let c11_i32_132 : BitVec 32 := 11#32
  let v196 : BitVec 32 := Scalar.addi v195 c11_i32_132
  ![v196.toNat]
def k0_off251 (i : grid0.Coords) : Fin 4 → Nat :=
  let c32_i32_129 : BitVec 32 := 32#32
  let arg0 : BitVec 32 := BitVec.ofNat 32 (i 0).val
  let c2_i32 : BitVec 32 := 2#32
  let v0 : BitVec 32 := Scalar.remsi arg0 c2_i32
  let v193 : BitVec 32 := Scalar.muli c32_i32_129 v0
  let c11_i32_130 : BitVec 32 := 11#32
  let v194 : BitVec 32 := Scalar.addi v193 c11_i32_130
  let c0_i32_133 : BitVec 32 := 0#32
  let c0_i32_134 : BitVec 32 := 0#32
  let c0_i32_135 : BitVec 32 := 0#32
  ![v194.toNat, 0, 0, 0]
def k0_off252 (v189 : BitVec 32) (v191 : BitVec 32) : Fin 3 → Nat :=
  let v192 : BitVec 32 := v191
  let c0_i32_136 : BitVec 32 := 0#32
  ![v189.toNat, v192.toNat, 0]

def k0_chk76 (v189 : BitVec 32) (v191 : BitVec 32) : Prop :=
  (8 ∣ (k0_mult76 v191).toNat) ∧
  (∀ a, (k0_off252 v189 v191) a + S14x24x256.size a ≤ S400x200x256.size a)
theorem k0_mult76_dvd : ∀ (v189 : BitVec 32) (v191 : BitVec 32) (k0_hw76 : k0_chk76 v189 v191), 8 ∣ (k0_mult76 v191).toNat := fun v189 v191 k0_hw76 => k0_hw76.1
theorem k0_off252_inb : ∀ (v189 : BitVec 32) (v191 : BitVec 32) (k0_hw76 : k0_chk76 v189 v191), ∀ a, (k0_off252 v189 v191) a + S14x24x256.size a ≤ S400x200x256.size a := fun v189 v191 k0_hw76 => k0_hw76.2

def k0_off253 (i : grid0.Coords) : Fin 2 → Nat :=
  let c32_i32_137 : BitVec 32 := 32#32
  let arg0 : BitVec 32 := BitVec.ofNat 32 (i 0).val
  let v202 : BitVec 32 := Scalar.muli c32_i32_137 arg0
  let c12_i32 : BitVec 32 := 12#32
  let v203 : BitVec 32 := Scalar.addi v202 c12_i32
  let v204 : Index := Scalar.indexCast v203
  let c0_138 : Index := 0#32
  ![v204.toNat, 0]
def k0_off254 (i : grid0.Coords) : Fin 2 → Nat :=
  let c32_i32_137 : BitVec 32 := 32#32
  let arg0 : BitVec 32 := BitVec.ofNat 32 (i 0).val
  let v202 : BitVec 32 := Scalar.muli c32_i32_137 arg0
  let c12_i32 : BitVec 32 := 12#32
  let v203 : BitVec 32 := Scalar.addi v202 c12_i32
  let v206 : Index := Scalar.indexCast v203
  let c1_139 : Index := 1#32
  ![v206.toNat, 1]
def k0_mult77 (v207 : BitVec 32) : BitVec 32 :=
  v207

def k0_off255 (i : grid0.Coords) : Fin 1 → Nat :=
  let c32_i32_142 : BitVec 32 := 32#32
  let arg0 : BitVec 32 := BitVec.ofNat 32 (i 0).val
  let c2_i32 : BitVec 32 := 2#32
  let v0 : BitVec 32 := Scalar.remsi arg0 c2_i32
  let v211 : BitVec 32 := Scalar.muli c32_i32_142 v0
  let c12_i32_143 : BitVec 32 := 12#32
  let v212 : BitVec 32 := Scalar.addi v211 c12_i32_143
  ![v212.toNat]
def k0_off256 (i : grid0.Coords) : Fin 4 → Nat :=
  let c32_i32_140 : BitVec 32 := 32#32
  let arg0 : BitVec 32 := BitVec.ofNat 32 (i 0).val
  let c2_i32 : BitVec 32 := 2#32
  let v0 : BitVec 32 := Scalar.remsi arg0 c2_i32
  let v209 : BitVec 32 := Scalar.muli c32_i32_140 v0
  let c12_i32_141 : BitVec 32 := 12#32
  let v210 : BitVec 32 := Scalar.addi v209 c12_i32_141
  let c0_i32_144 : BitVec 32 := 0#32
  let c0_i32_145 : BitVec 32 := 0#32
  let c0_i32_146 : BitVec 32 := 0#32
  ![v210.toNat, 0, 0, 0]
def k0_off257 (v205 : BitVec 32) (v207 : BitVec 32) : Fin 3 → Nat :=
  let v208 : BitVec 32 := v207
  let c0_i32_147 : BitVec 32 := 0#32
  ![v205.toNat, v208.toNat, 0]

def k0_chk77 (v205 : BitVec 32) (v207 : BitVec 32) : Prop :=
  (8 ∣ (k0_mult77 v207).toNat) ∧
  (∀ a, (k0_off257 v205 v207) a + S14x24x256.size a ≤ S400x200x256.size a)
theorem k0_mult77_dvd : ∀ (v205 : BitVec 32) (v207 : BitVec 32) (k0_hw77 : k0_chk77 v205 v207), 8 ∣ (k0_mult77 v207).toNat := fun v205 v207 k0_hw77 => k0_hw77.1
theorem k0_off257_inb : ∀ (v205 : BitVec 32) (v207 : BitVec 32) (k0_hw77 : k0_chk77 v205 v207), ∀ a, (k0_off257 v205 v207) a + S14x24x256.size a ≤ S400x200x256.size a := fun v205 v207 k0_hw77 => k0_hw77.2

def k0_off258 (i : grid0.Coords) : Fin 2 → Nat :=
  let c32_i32_148 : BitVec 32 := 32#32
  let arg0 : BitVec 32 := BitVec.ofNat 32 (i 0).val
  let v218 : BitVec 32 := Scalar.muli c32_i32_148 arg0
  let c13_i32 : BitVec 32 := 13#32
  let v219 : BitVec 32 := Scalar.addi v218 c13_i32
  let v220 : Index := Scalar.indexCast v219
  let c0_149 : Index := 0#32
  ![v220.toNat, 0]
def k0_off259 (i : grid0.Coords) : Fin 2 → Nat :=
  let c32_i32_148 : BitVec 32 := 32#32
  let arg0 : BitVec 32 := BitVec.ofNat 32 (i 0).val
  let v218 : BitVec 32 := Scalar.muli c32_i32_148 arg0
  let c13_i32 : BitVec 32 := 13#32
  let v219 : BitVec 32 := Scalar.addi v218 c13_i32
  let v222 : Index := Scalar.indexCast v219
  let c1_150 : Index := 1#32
  ![v222.toNat, 1]
def k0_mult78 (v223 : BitVec 32) : BitVec 32 :=
  v223

def k0_off260 (i : grid0.Coords) : Fin 1 → Nat :=
  let c32_i32_153 : BitVec 32 := 32#32
  let arg0 : BitVec 32 := BitVec.ofNat 32 (i 0).val
  let c2_i32 : BitVec 32 := 2#32
  let v0 : BitVec 32 := Scalar.remsi arg0 c2_i32
  let v227 : BitVec 32 := Scalar.muli c32_i32_153 v0
  let c13_i32_154 : BitVec 32 := 13#32
  let v228 : BitVec 32 := Scalar.addi v227 c13_i32_154
  ![v228.toNat]
def k0_off261 (i : grid0.Coords) : Fin 4 → Nat :=
  let c32_i32_151 : BitVec 32 := 32#32
  let arg0 : BitVec 32 := BitVec.ofNat 32 (i 0).val
  let c2_i32 : BitVec 32 := 2#32
  let v0 : BitVec 32 := Scalar.remsi arg0 c2_i32
  let v225 : BitVec 32 := Scalar.muli c32_i32_151 v0
  let c13_i32_152 : BitVec 32 := 13#32
  let v226 : BitVec 32 := Scalar.addi v225 c13_i32_152
  let c0_i32_155 : BitVec 32 := 0#32
  let c0_i32_156 : BitVec 32 := 0#32
  let c0_i32_157 : BitVec 32 := 0#32
  ![v226.toNat, 0, 0, 0]
def k0_off262 (v221 : BitVec 32) (v223 : BitVec 32) : Fin 3 → Nat :=
  let v224 : BitVec 32 := v223
  let c0_i32_158 : BitVec 32 := 0#32
  ![v221.toNat, v224.toNat, 0]

def k0_chk78 (v221 : BitVec 32) (v223 : BitVec 32) : Prop :=
  (8 ∣ (k0_mult78 v223).toNat) ∧
  (∀ a, (k0_off262 v221 v223) a + S14x24x256.size a ≤ S400x200x256.size a)
theorem k0_mult78_dvd : ∀ (v221 : BitVec 32) (v223 : BitVec 32) (k0_hw78 : k0_chk78 v221 v223), 8 ∣ (k0_mult78 v223).toNat := fun v221 v223 k0_hw78 => k0_hw78.1
theorem k0_off262_inb : ∀ (v221 : BitVec 32) (v223 : BitVec 32) (k0_hw78 : k0_chk78 v221 v223), ∀ a, (k0_off262 v221 v223) a + S14x24x256.size a ≤ S400x200x256.size a := fun v221 v223 k0_hw78 => k0_hw78.2

def k0_off263 (i : grid0.Coords) : Fin 2 → Nat :=
  let c32_i32_159 : BitVec 32 := 32#32
  let arg0 : BitVec 32 := BitVec.ofNat 32 (i 0).val
  let v234 : BitVec 32 := Scalar.muli c32_i32_159 arg0
  let c14_i32 : BitVec 32 := 14#32
  let v235 : BitVec 32 := Scalar.addi v234 c14_i32
  let v236 : Index := Scalar.indexCast v235
  let c0_160 : Index := 0#32
  ![v236.toNat, 0]
def k0_off264 (i : grid0.Coords) : Fin 2 → Nat :=
  let c32_i32_159 : BitVec 32 := 32#32
  let arg0 : BitVec 32 := BitVec.ofNat 32 (i 0).val
  let v234 : BitVec 32 := Scalar.muli c32_i32_159 arg0
  let c14_i32 : BitVec 32 := 14#32
  let v235 : BitVec 32 := Scalar.addi v234 c14_i32
  let v238 : Index := Scalar.indexCast v235
  let c1_161 : Index := 1#32
  ![v238.toNat, 1]
def k0_mult79 (v239 : BitVec 32) : BitVec 32 :=
  v239

def k0_off265 (i : grid0.Coords) : Fin 1 → Nat :=
  let c32_i32_164 : BitVec 32 := 32#32
  let arg0 : BitVec 32 := BitVec.ofNat 32 (i 0).val
  let c2_i32 : BitVec 32 := 2#32
  let v0 : BitVec 32 := Scalar.remsi arg0 c2_i32
  let v243 : BitVec 32 := Scalar.muli c32_i32_164 v0
  let c14_i32_165 : BitVec 32 := 14#32
  let v244 : BitVec 32 := Scalar.addi v243 c14_i32_165
  ![v244.toNat]
def k0_off266 (i : grid0.Coords) : Fin 4 → Nat :=
  let c32_i32_162 : BitVec 32 := 32#32
  let arg0 : BitVec 32 := BitVec.ofNat 32 (i 0).val
  let c2_i32 : BitVec 32 := 2#32
  let v0 : BitVec 32 := Scalar.remsi arg0 c2_i32
  let v241 : BitVec 32 := Scalar.muli c32_i32_162 v0
  let c14_i32_163 : BitVec 32 := 14#32
  let v242 : BitVec 32 := Scalar.addi v241 c14_i32_163
  let c0_i32_166 : BitVec 32 := 0#32
  let c0_i32_167 : BitVec 32 := 0#32
  let c0_i32_168 : BitVec 32 := 0#32
  ![v242.toNat, 0, 0, 0]
def k0_off267 (v237 : BitVec 32) (v239 : BitVec 32) : Fin 3 → Nat :=
  let v240 : BitVec 32 := v239
  let c0_i32_169 : BitVec 32 := 0#32
  ![v237.toNat, v240.toNat, 0]

def k0_chk79 (v237 : BitVec 32) (v239 : BitVec 32) : Prop :=
  (8 ∣ (k0_mult79 v239).toNat) ∧
  (∀ a, (k0_off267 v237 v239) a + S14x24x256.size a ≤ S400x200x256.size a)
theorem k0_mult79_dvd : ∀ (v237 : BitVec 32) (v239 : BitVec 32) (k0_hw79 : k0_chk79 v237 v239), 8 ∣ (k0_mult79 v239).toNat := fun v237 v239 k0_hw79 => k0_hw79.1
theorem k0_off267_inb : ∀ (v237 : BitVec 32) (v239 : BitVec 32) (k0_hw79 : k0_chk79 v237 v239), ∀ a, (k0_off267 v237 v239) a + S14x24x256.size a ≤ S400x200x256.size a := fun v237 v239 k0_hw79 => k0_hw79.2

def k0_off268 (i : grid0.Coords) : Fin 2 → Nat :=
  let c32_i32_170 : BitVec 32 := 32#32
  let arg0 : BitVec 32 := BitVec.ofNat 32 (i 0).val
  let v250 : BitVec 32 := Scalar.muli c32_i32_170 arg0
  let c15_i32 : BitVec 32 := 15#32
  let v251 : BitVec 32 := Scalar.addi v250 c15_i32
  let v252 : Index := Scalar.indexCast v251
  let c0_171 : Index := 0#32
  ![v252.toNat, 0]
def k0_off269 (i : grid0.Coords) : Fin 2 → Nat :=
  let c32_i32_170 : BitVec 32 := 32#32
  let arg0 : BitVec 32 := BitVec.ofNat 32 (i 0).val
  let v250 : BitVec 32 := Scalar.muli c32_i32_170 arg0
  let c15_i32 : BitVec 32 := 15#32
  let v251 : BitVec 32 := Scalar.addi v250 c15_i32
  let v254 : Index := Scalar.indexCast v251
  let c1_172 : Index := 1#32
  ![v254.toNat, 1]
def k0_mult80 (v255 : BitVec 32) : BitVec 32 :=
  v255

def k0_off270 (i : grid0.Coords) : Fin 1 → Nat :=
  let c32_i32_175 : BitVec 32 := 32#32
  let arg0 : BitVec 32 := BitVec.ofNat 32 (i 0).val
  let c2_i32 : BitVec 32 := 2#32
  let v0 : BitVec 32 := Scalar.remsi arg0 c2_i32
  let v259 : BitVec 32 := Scalar.muli c32_i32_175 v0
  let c15_i32_176 : BitVec 32 := 15#32
  let v260 : BitVec 32 := Scalar.addi v259 c15_i32_176
  ![v260.toNat]
def k0_off271 (i : grid0.Coords) : Fin 4 → Nat :=
  let c32_i32_173 : BitVec 32 := 32#32
  let arg0 : BitVec 32 := BitVec.ofNat 32 (i 0).val
  let c2_i32 : BitVec 32 := 2#32
  let v0 : BitVec 32 := Scalar.remsi arg0 c2_i32
  let v257 : BitVec 32 := Scalar.muli c32_i32_173 v0
  let c15_i32_174 : BitVec 32 := 15#32
  let v258 : BitVec 32 := Scalar.addi v257 c15_i32_174
  let c0_i32_177 : BitVec 32 := 0#32
  let c0_i32_178 : BitVec 32 := 0#32
  let c0_i32_179 : BitVec 32 := 0#32
  ![v258.toNat, 0, 0, 0]
def k0_off272 (v253 : BitVec 32) (v255 : BitVec 32) : Fin 3 → Nat :=
  let v256 : BitVec 32 := v255
  let c0_i32_180 : BitVec 32 := 0#32
  ![v253.toNat, v256.toNat, 0]

def k0_chk80 (v253 : BitVec 32) (v255 : BitVec 32) : Prop :=
  (8 ∣ (k0_mult80 v255).toNat) ∧
  (∀ a, (k0_off272 v253 v255) a + S14x24x256.size a ≤ S400x200x256.size a)
theorem k0_mult80_dvd : ∀ (v253 : BitVec 32) (v255 : BitVec 32) (k0_hw80 : k0_chk80 v253 v255), 8 ∣ (k0_mult80 v255).toNat := fun v253 v255 k0_hw80 => k0_hw80.1
theorem k0_off272_inb : ∀ (v253 : BitVec 32) (v255 : BitVec 32) (k0_hw80 : k0_chk80 v253 v255), ∀ a, (k0_off272 v253 v255) a + S14x24x256.size a ≤ S400x200x256.size a := fun v253 v255 k0_hw80 => k0_hw80.2

def k0_off273 (i : grid0.Coords) : Fin 2 → Nat :=
  let c32_i32_181 : BitVec 32 := 32#32
  let arg0 : BitVec 32 := BitVec.ofNat 32 (i 0).val
  let v266 : BitVec 32 := Scalar.muli c32_i32_181 arg0
  let c16_i32 : BitVec 32 := 16#32
  let v267 : BitVec 32 := Scalar.addi v266 c16_i32
  let v268 : Index := Scalar.indexCast v267
  let c0_182 : Index := 0#32
  ![v268.toNat, 0]
def k0_off274 (i : grid0.Coords) : Fin 2 → Nat :=
  let c32_i32_181 : BitVec 32 := 32#32
  let arg0 : BitVec 32 := BitVec.ofNat 32 (i 0).val
  let v266 : BitVec 32 := Scalar.muli c32_i32_181 arg0
  let c16_i32 : BitVec 32 := 16#32
  let v267 : BitVec 32 := Scalar.addi v266 c16_i32
  let v270 : Index := Scalar.indexCast v267
  let c1_183 : Index := 1#32
  ![v270.toNat, 1]
def k0_mult81 (v271 : BitVec 32) : BitVec 32 :=
  v271

def k0_off275 (i : grid0.Coords) : Fin 1 → Nat :=
  let c32_i32_186 : BitVec 32 := 32#32
  let arg0 : BitVec 32 := BitVec.ofNat 32 (i 0).val
  let c2_i32 : BitVec 32 := 2#32
  let v0 : BitVec 32 := Scalar.remsi arg0 c2_i32
  let v275 : BitVec 32 := Scalar.muli c32_i32_186 v0
  let c16_i32_187 : BitVec 32 := 16#32
  let v276 : BitVec 32 := Scalar.addi v275 c16_i32_187
  ![v276.toNat]
def k0_off276 (i : grid0.Coords) : Fin 4 → Nat :=
  let c32_i32_184 : BitVec 32 := 32#32
  let arg0 : BitVec 32 := BitVec.ofNat 32 (i 0).val
  let c2_i32 : BitVec 32 := 2#32
  let v0 : BitVec 32 := Scalar.remsi arg0 c2_i32
  let v273 : BitVec 32 := Scalar.muli c32_i32_184 v0
  let c16_i32_185 : BitVec 32 := 16#32
  let v274 : BitVec 32 := Scalar.addi v273 c16_i32_185
  let c0_i32_188 : BitVec 32 := 0#32
  let c0_i32_189 : BitVec 32 := 0#32
  let c0_i32_190 : BitVec 32 := 0#32
  ![v274.toNat, 0, 0, 0]
def k0_off277 (v269 : BitVec 32) (v271 : BitVec 32) : Fin 3 → Nat :=
  let v272 : BitVec 32 := v271
  let c0_i32_191 : BitVec 32 := 0#32
  ![v269.toNat, v272.toNat, 0]

def k0_chk81 (v269 : BitVec 32) (v271 : BitVec 32) : Prop :=
  (8 ∣ (k0_mult81 v271).toNat) ∧
  (∀ a, (k0_off277 v269 v271) a + S14x24x256.size a ≤ S400x200x256.size a)
theorem k0_mult81_dvd : ∀ (v269 : BitVec 32) (v271 : BitVec 32) (k0_hw81 : k0_chk81 v269 v271), 8 ∣ (k0_mult81 v271).toNat := fun v269 v271 k0_hw81 => k0_hw81.1
theorem k0_off277_inb : ∀ (v269 : BitVec 32) (v271 : BitVec 32) (k0_hw81 : k0_chk81 v269 v271), ∀ a, (k0_off277 v269 v271) a + S14x24x256.size a ≤ S400x200x256.size a := fun v269 v271 k0_hw81 => k0_hw81.2

def k0_off278 (i : grid0.Coords) : Fin 2 → Nat :=
  let c32_i32_192 : BitVec 32 := 32#32
  let arg0 : BitVec 32 := BitVec.ofNat 32 (i 0).val
  let v282 : BitVec 32 := Scalar.muli c32_i32_192 arg0
  let c17_i32 : BitVec 32 := 17#32
  let v283 : BitVec 32 := Scalar.addi v282 c17_i32
  let v284 : Index := Scalar.indexCast v283
  let c0_193 : Index := 0#32
  ![v284.toNat, 0]
def k0_off279 (i : grid0.Coords) : Fin 2 → Nat :=
  let c32_i32_192 : BitVec 32 := 32#32
  let arg0 : BitVec 32 := BitVec.ofNat 32 (i 0).val
  let v282 : BitVec 32 := Scalar.muli c32_i32_192 arg0
  let c17_i32 : BitVec 32 := 17#32
  let v283 : BitVec 32 := Scalar.addi v282 c17_i32
  let v286 : Index := Scalar.indexCast v283
  let c1_194 : Index := 1#32
  ![v286.toNat, 1]
def k0_mult82 (v287 : BitVec 32) : BitVec 32 :=
  v287

def k0_off280 (i : grid0.Coords) : Fin 1 → Nat :=
  let c32_i32_197 : BitVec 32 := 32#32
  let arg0 : BitVec 32 := BitVec.ofNat 32 (i 0).val
  let c2_i32 : BitVec 32 := 2#32
  let v0 : BitVec 32 := Scalar.remsi arg0 c2_i32
  let v291 : BitVec 32 := Scalar.muli c32_i32_197 v0
  let c17_i32_198 : BitVec 32 := 17#32
  let v292 : BitVec 32 := Scalar.addi v291 c17_i32_198
  ![v292.toNat]
def k0_off281 (i : grid0.Coords) : Fin 4 → Nat :=
  let c32_i32_195 : BitVec 32 := 32#32
  let arg0 : BitVec 32 := BitVec.ofNat 32 (i 0).val
  let c2_i32 : BitVec 32 := 2#32
  let v0 : BitVec 32 := Scalar.remsi arg0 c2_i32
  let v289 : BitVec 32 := Scalar.muli c32_i32_195 v0
  let c17_i32_196 : BitVec 32 := 17#32
  let v290 : BitVec 32 := Scalar.addi v289 c17_i32_196
  let c0_i32_199 : BitVec 32 := 0#32
  let c0_i32_200 : BitVec 32 := 0#32
  let c0_i32_201 : BitVec 32 := 0#32
  ![v290.toNat, 0, 0, 0]
def k0_off282 (v285 : BitVec 32) (v287 : BitVec 32) : Fin 3 → Nat :=
  let v288 : BitVec 32 := v287
  let c0_i32_202 : BitVec 32 := 0#32
  ![v285.toNat, v288.toNat, 0]

def k0_chk82 (v285 : BitVec 32) (v287 : BitVec 32) : Prop :=
  (8 ∣ (k0_mult82 v287).toNat) ∧
  (∀ a, (k0_off282 v285 v287) a + S14x24x256.size a ≤ S400x200x256.size a)
theorem k0_mult82_dvd : ∀ (v285 : BitVec 32) (v287 : BitVec 32) (k0_hw82 : k0_chk82 v285 v287), 8 ∣ (k0_mult82 v287).toNat := fun v285 v287 k0_hw82 => k0_hw82.1
theorem k0_off282_inb : ∀ (v285 : BitVec 32) (v287 : BitVec 32) (k0_hw82 : k0_chk82 v285 v287), ∀ a, (k0_off282 v285 v287) a + S14x24x256.size a ≤ S400x200x256.size a := fun v285 v287 k0_hw82 => k0_hw82.2

def k0_off283 (i : grid0.Coords) : Fin 2 → Nat :=
  let c32_i32_203 : BitVec 32 := 32#32
  let arg0 : BitVec 32 := BitVec.ofNat 32 (i 0).val
  let v298 : BitVec 32 := Scalar.muli c32_i32_203 arg0
  let c18_i32 : BitVec 32 := 18#32
  let v299 : BitVec 32 := Scalar.addi v298 c18_i32
  let v300 : Index := Scalar.indexCast v299
  let c0_204 : Index := 0#32
  ![v300.toNat, 0]
def k0_off284 (i : grid0.Coords) : Fin 2 → Nat :=
  let c32_i32_203 : BitVec 32 := 32#32
  let arg0 : BitVec 32 := BitVec.ofNat 32 (i 0).val
  let v298 : BitVec 32 := Scalar.muli c32_i32_203 arg0
  let c18_i32 : BitVec 32 := 18#32
  let v299 : BitVec 32 := Scalar.addi v298 c18_i32
  let v302 : Index := Scalar.indexCast v299
  let c1_205 : Index := 1#32
  ![v302.toNat, 1]
def k0_mult83 (v303 : BitVec 32) : BitVec 32 :=
  v303

def k0_off285 (i : grid0.Coords) : Fin 1 → Nat :=
  let c32_i32_208 : BitVec 32 := 32#32
  let arg0 : BitVec 32 := BitVec.ofNat 32 (i 0).val
  let c2_i32 : BitVec 32 := 2#32
  let v0 : BitVec 32 := Scalar.remsi arg0 c2_i32
  let v307 : BitVec 32 := Scalar.muli c32_i32_208 v0
  let c18_i32_209 : BitVec 32 := 18#32
  let v308 : BitVec 32 := Scalar.addi v307 c18_i32_209
  ![v308.toNat]
def k0_off286 (i : grid0.Coords) : Fin 4 → Nat :=
  let c32_i32_206 : BitVec 32 := 32#32
  let arg0 : BitVec 32 := BitVec.ofNat 32 (i 0).val
  let c2_i32 : BitVec 32 := 2#32
  let v0 : BitVec 32 := Scalar.remsi arg0 c2_i32
  let v305 : BitVec 32 := Scalar.muli c32_i32_206 v0
  let c18_i32_207 : BitVec 32 := 18#32
  let v306 : BitVec 32 := Scalar.addi v305 c18_i32_207
  let c0_i32_210 : BitVec 32 := 0#32
  let c0_i32_211 : BitVec 32 := 0#32
  let c0_i32_212 : BitVec 32 := 0#32
  ![v306.toNat, 0, 0, 0]
def k0_off287 (v301 : BitVec 32) (v303 : BitVec 32) : Fin 3 → Nat :=
  let v304 : BitVec 32 := v303
  let c0_i32_213 : BitVec 32 := 0#32
  ![v301.toNat, v304.toNat, 0]

def k0_chk83 (v301 : BitVec 32) (v303 : BitVec 32) : Prop :=
  (8 ∣ (k0_mult83 v303).toNat) ∧
  (∀ a, (k0_off287 v301 v303) a + S14x24x256.size a ≤ S400x200x256.size a)
theorem k0_mult83_dvd : ∀ (v301 : BitVec 32) (v303 : BitVec 32) (k0_hw83 : k0_chk83 v301 v303), 8 ∣ (k0_mult83 v303).toNat := fun v301 v303 k0_hw83 => k0_hw83.1
theorem k0_off287_inb : ∀ (v301 : BitVec 32) (v303 : BitVec 32) (k0_hw83 : k0_chk83 v301 v303), ∀ a, (k0_off287 v301 v303) a + S14x24x256.size a ≤ S400x200x256.size a := fun v301 v303 k0_hw83 => k0_hw83.2

def k0_off288 (i : grid0.Coords) : Fin 2 → Nat :=
  let c32_i32_214 : BitVec 32 := 32#32
  let arg0 : BitVec 32 := BitVec.ofNat 32 (i 0).val
  let v314 : BitVec 32 := Scalar.muli c32_i32_214 arg0
  let c19_i32 : BitVec 32 := 19#32
  let v315 : BitVec 32 := Scalar.addi v314 c19_i32
  let v316 : Index := Scalar.indexCast v315
  let c0_215 : Index := 0#32
  ![v316.toNat, 0]
def k0_off289 (i : grid0.Coords) : Fin 2 → Nat :=
  let c32_i32_214 : BitVec 32 := 32#32
  let arg0 : BitVec 32 := BitVec.ofNat 32 (i 0).val
  let v314 : BitVec 32 := Scalar.muli c32_i32_214 arg0
  let c19_i32 : BitVec 32 := 19#32
  let v315 : BitVec 32 := Scalar.addi v314 c19_i32
  let v318 : Index := Scalar.indexCast v315
  let c1_216 : Index := 1#32
  ![v318.toNat, 1]
def k0_mult84 (v319 : BitVec 32) : BitVec 32 :=
  v319

def k0_off290 (i : grid0.Coords) : Fin 1 → Nat :=
  let c32_i32_219 : BitVec 32 := 32#32
  let arg0 : BitVec 32 := BitVec.ofNat 32 (i 0).val
  let c2_i32 : BitVec 32 := 2#32
  let v0 : BitVec 32 := Scalar.remsi arg0 c2_i32
  let v323 : BitVec 32 := Scalar.muli c32_i32_219 v0
  let c19_i32_220 : BitVec 32 := 19#32
  let v324 : BitVec 32 := Scalar.addi v323 c19_i32_220
  ![v324.toNat]
def k0_off291 (i : grid0.Coords) : Fin 4 → Nat :=
  let c32_i32_217 : BitVec 32 := 32#32
  let arg0 : BitVec 32 := BitVec.ofNat 32 (i 0).val
  let c2_i32 : BitVec 32 := 2#32
  let v0 : BitVec 32 := Scalar.remsi arg0 c2_i32
  let v321 : BitVec 32 := Scalar.muli c32_i32_217 v0
  let c19_i32_218 : BitVec 32 := 19#32
  let v322 : BitVec 32 := Scalar.addi v321 c19_i32_218
  let c0_i32_221 : BitVec 32 := 0#32
  let c0_i32_222 : BitVec 32 := 0#32
  let c0_i32_223 : BitVec 32 := 0#32
  ![v322.toNat, 0, 0, 0]
def k0_off292 (v317 : BitVec 32) (v319 : BitVec 32) : Fin 3 → Nat :=
  let v320 : BitVec 32 := v319
  let c0_i32_224 : BitVec 32 := 0#32
  ![v317.toNat, v320.toNat, 0]

def k0_chk84 (v317 : BitVec 32) (v319 : BitVec 32) : Prop :=
  (8 ∣ (k0_mult84 v319).toNat) ∧
  (∀ a, (k0_off292 v317 v319) a + S14x24x256.size a ≤ S400x200x256.size a)
theorem k0_mult84_dvd : ∀ (v317 : BitVec 32) (v319 : BitVec 32) (k0_hw84 : k0_chk84 v317 v319), 8 ∣ (k0_mult84 v319).toNat := fun v317 v319 k0_hw84 => k0_hw84.1
theorem k0_off292_inb : ∀ (v317 : BitVec 32) (v319 : BitVec 32) (k0_hw84 : k0_chk84 v317 v319), ∀ a, (k0_off292 v317 v319) a + S14x24x256.size a ≤ S400x200x256.size a := fun v317 v319 k0_hw84 => k0_hw84.2

def k0_off293 (i : grid0.Coords) : Fin 2 → Nat :=
  let c32_i32_225 : BitVec 32 := 32#32
  let arg0 : BitVec 32 := BitVec.ofNat 32 (i 0).val
  let v330 : BitVec 32 := Scalar.muli c32_i32_225 arg0
  let c20_i32 : BitVec 32 := 20#32
  let v331 : BitVec 32 := Scalar.addi v330 c20_i32
  let v332 : Index := Scalar.indexCast v331
  let c0_226 : Index := 0#32
  ![v332.toNat, 0]
def k0_off294 (i : grid0.Coords) : Fin 2 → Nat :=
  let c32_i32_225 : BitVec 32 := 32#32
  let arg0 : BitVec 32 := BitVec.ofNat 32 (i 0).val
  let v330 : BitVec 32 := Scalar.muli c32_i32_225 arg0
  let c20_i32 : BitVec 32 := 20#32
  let v331 : BitVec 32 := Scalar.addi v330 c20_i32
  let v334 : Index := Scalar.indexCast v331
  let c1_227 : Index := 1#32
  ![v334.toNat, 1]
def k0_mult85 (v335 : BitVec 32) : BitVec 32 :=
  v335

def k0_off295 (i : grid0.Coords) : Fin 1 → Nat :=
  let c32_i32_230 : BitVec 32 := 32#32
  let arg0 : BitVec 32 := BitVec.ofNat 32 (i 0).val
  let c2_i32 : BitVec 32 := 2#32
  let v0 : BitVec 32 := Scalar.remsi arg0 c2_i32
  let v339 : BitVec 32 := Scalar.muli c32_i32_230 v0
  let c20_i32_231 : BitVec 32 := 20#32
  let v340 : BitVec 32 := Scalar.addi v339 c20_i32_231
  ![v340.toNat]
def k0_off296 (i : grid0.Coords) : Fin 4 → Nat :=
  let c32_i32_228 : BitVec 32 := 32#32
  let arg0 : BitVec 32 := BitVec.ofNat 32 (i 0).val
  let c2_i32 : BitVec 32 := 2#32
  let v0 : BitVec 32 := Scalar.remsi arg0 c2_i32
  let v337 : BitVec 32 := Scalar.muli c32_i32_228 v0
  let c20_i32_229 : BitVec 32 := 20#32
  let v338 : BitVec 32 := Scalar.addi v337 c20_i32_229
  let c0_i32_232 : BitVec 32 := 0#32
  let c0_i32_233 : BitVec 32 := 0#32
  let c0_i32_234 : BitVec 32 := 0#32
  ![v338.toNat, 0, 0, 0]
def k0_off297 (v333 : BitVec 32) (v335 : BitVec 32) : Fin 3 → Nat :=
  let v336 : BitVec 32 := v335
  let c0_i32_235 : BitVec 32 := 0#32
  ![v333.toNat, v336.toNat, 0]

def k0_chk85 (v333 : BitVec 32) (v335 : BitVec 32) : Prop :=
  (8 ∣ (k0_mult85 v335).toNat) ∧
  (∀ a, (k0_off297 v333 v335) a + S14x24x256.size a ≤ S400x200x256.size a)
theorem k0_mult85_dvd : ∀ (v333 : BitVec 32) (v335 : BitVec 32) (k0_hw85 : k0_chk85 v333 v335), 8 ∣ (k0_mult85 v335).toNat := fun v333 v335 k0_hw85 => k0_hw85.1
theorem k0_off297_inb : ∀ (v333 : BitVec 32) (v335 : BitVec 32) (k0_hw85 : k0_chk85 v333 v335), ∀ a, (k0_off297 v333 v335) a + S14x24x256.size a ≤ S400x200x256.size a := fun v333 v335 k0_hw85 => k0_hw85.2

def k0_off298 (i : grid0.Coords) : Fin 2 → Nat :=
  let c32_i32_236 : BitVec 32 := 32#32
  let arg0 : BitVec 32 := BitVec.ofNat 32 (i 0).val
  let v346 : BitVec 32 := Scalar.muli c32_i32_236 arg0
  let c21_i32 : BitVec 32 := 21#32
  let v347 : BitVec 32 := Scalar.addi v346 c21_i32
  let v348 : Index := Scalar.indexCast v347
  let c0_237 : Index := 0#32
  ![v348.toNat, 0]
def k0_off299 (i : grid0.Coords) : Fin 2 → Nat :=
  let c32_i32_236 : BitVec 32 := 32#32
  let arg0 : BitVec 32 := BitVec.ofNat 32 (i 0).val
  let v346 : BitVec 32 := Scalar.muli c32_i32_236 arg0
  let c21_i32 : BitVec 32 := 21#32
  let v347 : BitVec 32 := Scalar.addi v346 c21_i32
  let v350 : Index := Scalar.indexCast v347
  let c1_238 : Index := 1#32
  ![v350.toNat, 1]
def k0_mult86 (v351 : BitVec 32) : BitVec 32 :=
  v351

def k0_off300 (i : grid0.Coords) : Fin 1 → Nat :=
  let c32_i32_241 : BitVec 32 := 32#32
  let arg0 : BitVec 32 := BitVec.ofNat 32 (i 0).val
  let c2_i32 : BitVec 32 := 2#32
  let v0 : BitVec 32 := Scalar.remsi arg0 c2_i32
  let v355 : BitVec 32 := Scalar.muli c32_i32_241 v0
  let c21_i32_242 : BitVec 32 := 21#32
  let v356 : BitVec 32 := Scalar.addi v355 c21_i32_242
  ![v356.toNat]
def k0_off301 (i : grid0.Coords) : Fin 4 → Nat :=
  let c32_i32_239 : BitVec 32 := 32#32
  let arg0 : BitVec 32 := BitVec.ofNat 32 (i 0).val
  let c2_i32 : BitVec 32 := 2#32
  let v0 : BitVec 32 := Scalar.remsi arg0 c2_i32
  let v353 : BitVec 32 := Scalar.muli c32_i32_239 v0
  let c21_i32_240 : BitVec 32 := 21#32
  let v354 : BitVec 32 := Scalar.addi v353 c21_i32_240
  let c0_i32_243 : BitVec 32 := 0#32
  let c0_i32_244 : BitVec 32 := 0#32
  let c0_i32_245 : BitVec 32 := 0#32
  ![v354.toNat, 0, 0, 0]
def k0_off302 (v349 : BitVec 32) (v351 : BitVec 32) : Fin 3 → Nat :=
  let v352 : BitVec 32 := v351
  let c0_i32_246 : BitVec 32 := 0#32
  ![v349.toNat, v352.toNat, 0]

def k0_chk86 (v349 : BitVec 32) (v351 : BitVec 32) : Prop :=
  (8 ∣ (k0_mult86 v351).toNat) ∧
  (∀ a, (k0_off302 v349 v351) a + S14x24x256.size a ≤ S400x200x256.size a)
theorem k0_mult86_dvd : ∀ (v349 : BitVec 32) (v351 : BitVec 32) (k0_hw86 : k0_chk86 v349 v351), 8 ∣ (k0_mult86 v351).toNat := fun v349 v351 k0_hw86 => k0_hw86.1
theorem k0_off302_inb : ∀ (v349 : BitVec 32) (v351 : BitVec 32) (k0_hw86 : k0_chk86 v349 v351), ∀ a, (k0_off302 v349 v351) a + S14x24x256.size a ≤ S400x200x256.size a := fun v349 v351 k0_hw86 => k0_hw86.2

def k0_off303 (i : grid0.Coords) : Fin 2 → Nat :=
  let c32_i32_247 : BitVec 32 := 32#32
  let arg0 : BitVec 32 := BitVec.ofNat 32 (i 0).val
  let v362 : BitVec 32 := Scalar.muli c32_i32_247 arg0
  let c22_i32 : BitVec 32 := 22#32
  let v363 : BitVec 32 := Scalar.addi v362 c22_i32
  let v364 : Index := Scalar.indexCast v363
  let c0_248 : Index := 0#32
  ![v364.toNat, 0]
def k0_off304 (i : grid0.Coords) : Fin 2 → Nat :=
  let c32_i32_247 : BitVec 32 := 32#32
  let arg0 : BitVec 32 := BitVec.ofNat 32 (i 0).val
  let v362 : BitVec 32 := Scalar.muli c32_i32_247 arg0
  let c22_i32 : BitVec 32 := 22#32
  let v363 : BitVec 32 := Scalar.addi v362 c22_i32
  let v366 : Index := Scalar.indexCast v363
  let c1_249 : Index := 1#32
  ![v366.toNat, 1]
def k0_mult87 (v367 : BitVec 32) : BitVec 32 :=
  v367

def k0_off305 (i : grid0.Coords) : Fin 1 → Nat :=
  let c32_i32_252 : BitVec 32 := 32#32
  let arg0 : BitVec 32 := BitVec.ofNat 32 (i 0).val
  let c2_i32 : BitVec 32 := 2#32
  let v0 : BitVec 32 := Scalar.remsi arg0 c2_i32
  let v371 : BitVec 32 := Scalar.muli c32_i32_252 v0
  let c22_i32_253 : BitVec 32 := 22#32
  let v372 : BitVec 32 := Scalar.addi v371 c22_i32_253
  ![v372.toNat]
def k0_off306 (i : grid0.Coords) : Fin 4 → Nat :=
  let c32_i32_250 : BitVec 32 := 32#32
  let arg0 : BitVec 32 := BitVec.ofNat 32 (i 0).val
  let c2_i32 : BitVec 32 := 2#32
  let v0 : BitVec 32 := Scalar.remsi arg0 c2_i32
  let v369 : BitVec 32 := Scalar.muli c32_i32_250 v0
  let c22_i32_251 : BitVec 32 := 22#32
  let v370 : BitVec 32 := Scalar.addi v369 c22_i32_251
  let c0_i32_254 : BitVec 32 := 0#32
  let c0_i32_255 : BitVec 32 := 0#32
  let c0_i32_256 : BitVec 32 := 0#32
  ![v370.toNat, 0, 0, 0]
def k0_off307 (v365 : BitVec 32) (v367 : BitVec 32) : Fin 3 → Nat :=
  let v368 : BitVec 32 := v367
  let c0_i32_257 : BitVec 32 := 0#32
  ![v365.toNat, v368.toNat, 0]

def k0_chk87 (v365 : BitVec 32) (v367 : BitVec 32) : Prop :=
  (8 ∣ (k0_mult87 v367).toNat) ∧
  (∀ a, (k0_off307 v365 v367) a + S14x24x256.size a ≤ S400x200x256.size a)
theorem k0_mult87_dvd : ∀ (v365 : BitVec 32) (v367 : BitVec 32) (k0_hw87 : k0_chk87 v365 v367), 8 ∣ (k0_mult87 v367).toNat := fun v365 v367 k0_hw87 => k0_hw87.1
theorem k0_off307_inb : ∀ (v365 : BitVec 32) (v367 : BitVec 32) (k0_hw87 : k0_chk87 v365 v367), ∀ a, (k0_off307 v365 v367) a + S14x24x256.size a ≤ S400x200x256.size a := fun v365 v367 k0_hw87 => k0_hw87.2

def k0_off308 (i : grid0.Coords) : Fin 2 → Nat :=
  let c32_i32_258 : BitVec 32 := 32#32
  let arg0 : BitVec 32 := BitVec.ofNat 32 (i 0).val
  let v378 : BitVec 32 := Scalar.muli c32_i32_258 arg0
  let c23_i32 : BitVec 32 := 23#32
  let v379 : BitVec 32 := Scalar.addi v378 c23_i32
  let v380 : Index := Scalar.indexCast v379
  let c0_259 : Index := 0#32
  ![v380.toNat, 0]
def k0_off309 (i : grid0.Coords) : Fin 2 → Nat :=
  let c32_i32_258 : BitVec 32 := 32#32
  let arg0 : BitVec 32 := BitVec.ofNat 32 (i 0).val
  let v378 : BitVec 32 := Scalar.muli c32_i32_258 arg0
  let c23_i32 : BitVec 32 := 23#32
  let v379 : BitVec 32 := Scalar.addi v378 c23_i32
  let v382 : Index := Scalar.indexCast v379
  let c1_260 : Index := 1#32
  ![v382.toNat, 1]
def k0_mult88 (v383 : BitVec 32) : BitVec 32 :=
  v383

def k0_off310 (i : grid0.Coords) : Fin 1 → Nat :=
  let c32_i32_263 : BitVec 32 := 32#32
  let arg0 : BitVec 32 := BitVec.ofNat 32 (i 0).val
  let c2_i32 : BitVec 32 := 2#32
  let v0 : BitVec 32 := Scalar.remsi arg0 c2_i32
  let v387 : BitVec 32 := Scalar.muli c32_i32_263 v0
  let c23_i32_264 : BitVec 32 := 23#32
  let v388 : BitVec 32 := Scalar.addi v387 c23_i32_264
  ![v388.toNat]
def k0_off311 (i : grid0.Coords) : Fin 4 → Nat :=
  let c32_i32_261 : BitVec 32 := 32#32
  let arg0 : BitVec 32 := BitVec.ofNat 32 (i 0).val
  let c2_i32 : BitVec 32 := 2#32
  let v0 : BitVec 32 := Scalar.remsi arg0 c2_i32
  let v385 : BitVec 32 := Scalar.muli c32_i32_261 v0
  let c23_i32_262 : BitVec 32 := 23#32
  let v386 : BitVec 32 := Scalar.addi v385 c23_i32_262
  let c0_i32_265 : BitVec 32 := 0#32
  let c0_i32_266 : BitVec 32 := 0#32
  let c0_i32_267 : BitVec 32 := 0#32
  ![v386.toNat, 0, 0, 0]
def k0_off312 (v381 : BitVec 32) (v383 : BitVec 32) : Fin 3 → Nat :=
  let v384 : BitVec 32 := v383
  let c0_i32_268 : BitVec 32 := 0#32
  ![v381.toNat, v384.toNat, 0]

def k0_chk88 (v381 : BitVec 32) (v383 : BitVec 32) : Prop :=
  (8 ∣ (k0_mult88 v383).toNat) ∧
  (∀ a, (k0_off312 v381 v383) a + S14x24x256.size a ≤ S400x200x256.size a)
theorem k0_mult88_dvd : ∀ (v381 : BitVec 32) (v383 : BitVec 32) (k0_hw88 : k0_chk88 v381 v383), 8 ∣ (k0_mult88 v383).toNat := fun v381 v383 k0_hw88 => k0_hw88.1
theorem k0_off312_inb : ∀ (v381 : BitVec 32) (v383 : BitVec 32) (k0_hw88 : k0_chk88 v381 v383), ∀ a, (k0_off312 v381 v383) a + S14x24x256.size a ≤ S400x200x256.size a := fun v381 v383 k0_hw88 => k0_hw88.2

def k0_off313 (i : grid0.Coords) : Fin 2 → Nat :=
  let c32_i32_269 : BitVec 32 := 32#32
  let arg0 : BitVec 32 := BitVec.ofNat 32 (i 0).val
  let v394 : BitVec 32 := Scalar.muli c32_i32_269 arg0
  let c24_i32 : BitVec 32 := 24#32
  let v395 : BitVec 32 := Scalar.addi v394 c24_i32
  let v396 : Index := Scalar.indexCast v395
  let c0_270 : Index := 0#32
  ![v396.toNat, 0]
def k0_off314 (i : grid0.Coords) : Fin 2 → Nat :=
  let c32_i32_269 : BitVec 32 := 32#32
  let arg0 : BitVec 32 := BitVec.ofNat 32 (i 0).val
  let v394 : BitVec 32 := Scalar.muli c32_i32_269 arg0
  let c24_i32 : BitVec 32 := 24#32
  let v395 : BitVec 32 := Scalar.addi v394 c24_i32
  let v398 : Index := Scalar.indexCast v395
  let c1_271 : Index := 1#32
  ![v398.toNat, 1]
def k0_mult89 (v399 : BitVec 32) : BitVec 32 :=
  v399

def k0_off315 (i : grid0.Coords) : Fin 1 → Nat :=
  let c32_i32_274 : BitVec 32 := 32#32
  let arg0 : BitVec 32 := BitVec.ofNat 32 (i 0).val
  let c2_i32 : BitVec 32 := 2#32
  let v0 : BitVec 32 := Scalar.remsi arg0 c2_i32
  let v403 : BitVec 32 := Scalar.muli c32_i32_274 v0
  let c24_i32_275 : BitVec 32 := 24#32
  let v404 : BitVec 32 := Scalar.addi v403 c24_i32_275
  ![v404.toNat]
def k0_off316 (i : grid0.Coords) : Fin 4 → Nat :=
  let c32_i32_272 : BitVec 32 := 32#32
  let arg0 : BitVec 32 := BitVec.ofNat 32 (i 0).val
  let c2_i32 : BitVec 32 := 2#32
  let v0 : BitVec 32 := Scalar.remsi arg0 c2_i32
  let v401 : BitVec 32 := Scalar.muli c32_i32_272 v0
  let c24_i32_273 : BitVec 32 := 24#32
  let v402 : BitVec 32 := Scalar.addi v401 c24_i32_273
  let c0_i32_276 : BitVec 32 := 0#32
  let c0_i32_277 : BitVec 32 := 0#32
  let c0_i32_278 : BitVec 32 := 0#32
  ![v402.toNat, 0, 0, 0]
def k0_off317 (v397 : BitVec 32) (v399 : BitVec 32) : Fin 3 → Nat :=
  let v400 : BitVec 32 := v399
  let c0_i32_279 : BitVec 32 := 0#32
  ![v397.toNat, v400.toNat, 0]

def k0_chk89 (v397 : BitVec 32) (v399 : BitVec 32) : Prop :=
  (8 ∣ (k0_mult89 v399).toNat) ∧
  (∀ a, (k0_off317 v397 v399) a + S14x24x256.size a ≤ S400x200x256.size a)
theorem k0_mult89_dvd : ∀ (v397 : BitVec 32) (v399 : BitVec 32) (k0_hw89 : k0_chk89 v397 v399), 8 ∣ (k0_mult89 v399).toNat := fun v397 v399 k0_hw89 => k0_hw89.1
theorem k0_off317_inb : ∀ (v397 : BitVec 32) (v399 : BitVec 32) (k0_hw89 : k0_chk89 v397 v399), ∀ a, (k0_off317 v397 v399) a + S14x24x256.size a ≤ S400x200x256.size a := fun v397 v399 k0_hw89 => k0_hw89.2

def k0_off318 (i : grid0.Coords) : Fin 2 → Nat :=
  let c32_i32_280 : BitVec 32 := 32#32
  let arg0 : BitVec 32 := BitVec.ofNat 32 (i 0).val
  let v410 : BitVec 32 := Scalar.muli c32_i32_280 arg0
  let c25_i32 : BitVec 32 := 25#32
  let v411 : BitVec 32 := Scalar.addi v410 c25_i32
  let v412 : Index := Scalar.indexCast v411
  let c0_281 : Index := 0#32
  ![v412.toNat, 0]
def k0_off319 (i : grid0.Coords) : Fin 2 → Nat :=
  let c32_i32_280 : BitVec 32 := 32#32
  let arg0 : BitVec 32 := BitVec.ofNat 32 (i 0).val
  let v410 : BitVec 32 := Scalar.muli c32_i32_280 arg0
  let c25_i32 : BitVec 32 := 25#32
  let v411 : BitVec 32 := Scalar.addi v410 c25_i32
  let v414 : Index := Scalar.indexCast v411
  let c1_282 : Index := 1#32
  ![v414.toNat, 1]
def k0_mult90 (v415 : BitVec 32) : BitVec 32 :=
  v415

def k0_off320 (i : grid0.Coords) : Fin 1 → Nat :=
  let c32_i32_285 : BitVec 32 := 32#32
  let arg0 : BitVec 32 := BitVec.ofNat 32 (i 0).val
  let c2_i32 : BitVec 32 := 2#32
  let v0 : BitVec 32 := Scalar.remsi arg0 c2_i32
  let v419 : BitVec 32 := Scalar.muli c32_i32_285 v0
  let c25_i32_286 : BitVec 32 := 25#32
  let v420 : BitVec 32 := Scalar.addi v419 c25_i32_286
  ![v420.toNat]
def k0_off321 (i : grid0.Coords) : Fin 4 → Nat :=
  let c32_i32_283 : BitVec 32 := 32#32
  let arg0 : BitVec 32 := BitVec.ofNat 32 (i 0).val
  let c2_i32 : BitVec 32 := 2#32
  let v0 : BitVec 32 := Scalar.remsi arg0 c2_i32
  let v417 : BitVec 32 := Scalar.muli c32_i32_283 v0
  let c25_i32_284 : BitVec 32 := 25#32
  let v418 : BitVec 32 := Scalar.addi v417 c25_i32_284
  let c0_i32_287 : BitVec 32 := 0#32
  let c0_i32_288 : BitVec 32 := 0#32
  let c0_i32_289 : BitVec 32 := 0#32
  ![v418.toNat, 0, 0, 0]
def k0_off322 (v413 : BitVec 32) (v415 : BitVec 32) : Fin 3 → Nat :=
  let v416 : BitVec 32 := v415
  let c0_i32_290 : BitVec 32 := 0#32
  ![v413.toNat, v416.toNat, 0]

def k0_chk90 (v413 : BitVec 32) (v415 : BitVec 32) : Prop :=
  (8 ∣ (k0_mult90 v415).toNat) ∧
  (∀ a, (k0_off322 v413 v415) a + S14x24x256.size a ≤ S400x200x256.size a)
theorem k0_mult90_dvd : ∀ (v413 : BitVec 32) (v415 : BitVec 32) (k0_hw90 : k0_chk90 v413 v415), 8 ∣ (k0_mult90 v415).toNat := fun v413 v415 k0_hw90 => k0_hw90.1
theorem k0_off322_inb : ∀ (v413 : BitVec 32) (v415 : BitVec 32) (k0_hw90 : k0_chk90 v413 v415), ∀ a, (k0_off322 v413 v415) a + S14x24x256.size a ≤ S400x200x256.size a := fun v413 v415 k0_hw90 => k0_hw90.2

def k0_off323 (i : grid0.Coords) : Fin 2 → Nat :=
  let c32_i32_291 : BitVec 32 := 32#32
  let arg0 : BitVec 32 := BitVec.ofNat 32 (i 0).val
  let v426 : BitVec 32 := Scalar.muli c32_i32_291 arg0
  let c26_i32 : BitVec 32 := 26#32
  let v427 : BitVec 32 := Scalar.addi v426 c26_i32
  let v428 : Index := Scalar.indexCast v427
  let c0_292 : Index := 0#32
  ![v428.toNat, 0]
def k0_off324 (i : grid0.Coords) : Fin 2 → Nat :=
  let c32_i32_291 : BitVec 32 := 32#32
  let arg0 : BitVec 32 := BitVec.ofNat 32 (i 0).val
  let v426 : BitVec 32 := Scalar.muli c32_i32_291 arg0
  let c26_i32 : BitVec 32 := 26#32
  let v427 : BitVec 32 := Scalar.addi v426 c26_i32
  let v430 : Index := Scalar.indexCast v427
  let c1_293 : Index := 1#32
  ![v430.toNat, 1]
def k0_mult91 (v431 : BitVec 32) : BitVec 32 :=
  v431

def k0_off325 (i : grid0.Coords) : Fin 1 → Nat :=
  let c32_i32_296 : BitVec 32 := 32#32
  let arg0 : BitVec 32 := BitVec.ofNat 32 (i 0).val
  let c2_i32 : BitVec 32 := 2#32
  let v0 : BitVec 32 := Scalar.remsi arg0 c2_i32
  let v435 : BitVec 32 := Scalar.muli c32_i32_296 v0
  let c26_i32_297 : BitVec 32 := 26#32
  let v436 : BitVec 32 := Scalar.addi v435 c26_i32_297
  ![v436.toNat]
def k0_off326 (i : grid0.Coords) : Fin 4 → Nat :=
  let c32_i32_294 : BitVec 32 := 32#32
  let arg0 : BitVec 32 := BitVec.ofNat 32 (i 0).val
  let c2_i32 : BitVec 32 := 2#32
  let v0 : BitVec 32 := Scalar.remsi arg0 c2_i32
  let v433 : BitVec 32 := Scalar.muli c32_i32_294 v0
  let c26_i32_295 : BitVec 32 := 26#32
  let v434 : BitVec 32 := Scalar.addi v433 c26_i32_295
  let c0_i32_298 : BitVec 32 := 0#32
  let c0_i32_299 : BitVec 32 := 0#32
  let c0_i32_300 : BitVec 32 := 0#32
  ![v434.toNat, 0, 0, 0]
def k0_off327 (v429 : BitVec 32) (v431 : BitVec 32) : Fin 3 → Nat :=
  let v432 : BitVec 32 := v431
  let c0_i32_301 : BitVec 32 := 0#32
  ![v429.toNat, v432.toNat, 0]

def k0_chk91 (v429 : BitVec 32) (v431 : BitVec 32) : Prop :=
  (8 ∣ (k0_mult91 v431).toNat) ∧
  (∀ a, (k0_off327 v429 v431) a + S14x24x256.size a ≤ S400x200x256.size a)
theorem k0_mult91_dvd : ∀ (v429 : BitVec 32) (v431 : BitVec 32) (k0_hw91 : k0_chk91 v429 v431), 8 ∣ (k0_mult91 v431).toNat := fun v429 v431 k0_hw91 => k0_hw91.1
theorem k0_off327_inb : ∀ (v429 : BitVec 32) (v431 : BitVec 32) (k0_hw91 : k0_chk91 v429 v431), ∀ a, (k0_off327 v429 v431) a + S14x24x256.size a ≤ S400x200x256.size a := fun v429 v431 k0_hw91 => k0_hw91.2

def k0_off328 (i : grid0.Coords) : Fin 2 → Nat :=
  let c32_i32_302 : BitVec 32 := 32#32
  let arg0 : BitVec 32 := BitVec.ofNat 32 (i 0).val
  let v442 : BitVec 32 := Scalar.muli c32_i32_302 arg0
  let c27_i32 : BitVec 32 := 27#32
  let v443 : BitVec 32 := Scalar.addi v442 c27_i32
  let v444 : Index := Scalar.indexCast v443
  let c0_303 : Index := 0#32
  ![v444.toNat, 0]
def k0_off329 (i : grid0.Coords) : Fin 2 → Nat :=
  let c32_i32_302 : BitVec 32 := 32#32
  let arg0 : BitVec 32 := BitVec.ofNat 32 (i 0).val
  let v442 : BitVec 32 := Scalar.muli c32_i32_302 arg0
  let c27_i32 : BitVec 32 := 27#32
  let v443 : BitVec 32 := Scalar.addi v442 c27_i32
  let v446 : Index := Scalar.indexCast v443
  let c1_304 : Index := 1#32
  ![v446.toNat, 1]
def k0_mult92 (v447 : BitVec 32) : BitVec 32 :=
  v447

def k0_off330 (i : grid0.Coords) : Fin 1 → Nat :=
  let c32_i32_307 : BitVec 32 := 32#32
  let arg0 : BitVec 32 := BitVec.ofNat 32 (i 0).val
  let c2_i32 : BitVec 32 := 2#32
  let v0 : BitVec 32 := Scalar.remsi arg0 c2_i32
  let v451 : BitVec 32 := Scalar.muli c32_i32_307 v0
  let c27_i32_308 : BitVec 32 := 27#32
  let v452 : BitVec 32 := Scalar.addi v451 c27_i32_308
  ![v452.toNat]
def k0_off331 (i : grid0.Coords) : Fin 4 → Nat :=
  let c32_i32_305 : BitVec 32 := 32#32
  let arg0 : BitVec 32 := BitVec.ofNat 32 (i 0).val
  let c2_i32 : BitVec 32 := 2#32
  let v0 : BitVec 32 := Scalar.remsi arg0 c2_i32
  let v449 : BitVec 32 := Scalar.muli c32_i32_305 v0
  let c27_i32_306 : BitVec 32 := 27#32
  let v450 : BitVec 32 := Scalar.addi v449 c27_i32_306
  let c0_i32_309 : BitVec 32 := 0#32
  let c0_i32_310 : BitVec 32 := 0#32
  let c0_i32_311 : BitVec 32 := 0#32
  ![v450.toNat, 0, 0, 0]
def k0_off332 (v445 : BitVec 32) (v447 : BitVec 32) : Fin 3 → Nat :=
  let v448 : BitVec 32 := v447
  let c0_i32_312 : BitVec 32 := 0#32
  ![v445.toNat, v448.toNat, 0]

def k0_chk92 (v445 : BitVec 32) (v447 : BitVec 32) : Prop :=
  (8 ∣ (k0_mult92 v447).toNat) ∧
  (∀ a, (k0_off332 v445 v447) a + S14x24x256.size a ≤ S400x200x256.size a)
theorem k0_mult92_dvd : ∀ (v445 : BitVec 32) (v447 : BitVec 32) (k0_hw92 : k0_chk92 v445 v447), 8 ∣ (k0_mult92 v447).toNat := fun v445 v447 k0_hw92 => k0_hw92.1
theorem k0_off332_inb : ∀ (v445 : BitVec 32) (v447 : BitVec 32) (k0_hw92 : k0_chk92 v445 v447), ∀ a, (k0_off332 v445 v447) a + S14x24x256.size a ≤ S400x200x256.size a := fun v445 v447 k0_hw92 => k0_hw92.2

def k0_off333 (i : grid0.Coords) : Fin 2 → Nat :=
  let c32_i32_313 : BitVec 32 := 32#32
  let arg0 : BitVec 32 := BitVec.ofNat 32 (i 0).val
  let v458 : BitVec 32 := Scalar.muli c32_i32_313 arg0
  let c28_i32 : BitVec 32 := 28#32
  let v459 : BitVec 32 := Scalar.addi v458 c28_i32
  let v460 : Index := Scalar.indexCast v459
  let c0_314 : Index := 0#32
  ![v460.toNat, 0]
def k0_off334 (i : grid0.Coords) : Fin 2 → Nat :=
  let c32_i32_313 : BitVec 32 := 32#32
  let arg0 : BitVec 32 := BitVec.ofNat 32 (i 0).val
  let v458 : BitVec 32 := Scalar.muli c32_i32_313 arg0
  let c28_i32 : BitVec 32 := 28#32
  let v459 : BitVec 32 := Scalar.addi v458 c28_i32
  let v462 : Index := Scalar.indexCast v459
  let c1_315 : Index := 1#32
  ![v462.toNat, 1]
def k0_mult93 (v463 : BitVec 32) : BitVec 32 :=
  v463

def k0_off335 (i : grid0.Coords) : Fin 1 → Nat :=
  let c32_i32_318 : BitVec 32 := 32#32
  let arg0 : BitVec 32 := BitVec.ofNat 32 (i 0).val
  let c2_i32 : BitVec 32 := 2#32
  let v0 : BitVec 32 := Scalar.remsi arg0 c2_i32
  let v467 : BitVec 32 := Scalar.muli c32_i32_318 v0
  let c28_i32_319 : BitVec 32 := 28#32
  let v468 : BitVec 32 := Scalar.addi v467 c28_i32_319
  ![v468.toNat]
def k0_off336 (i : grid0.Coords) : Fin 4 → Nat :=
  let c32_i32_316 : BitVec 32 := 32#32
  let arg0 : BitVec 32 := BitVec.ofNat 32 (i 0).val
  let c2_i32 : BitVec 32 := 2#32
  let v0 : BitVec 32 := Scalar.remsi arg0 c2_i32
  let v465 : BitVec 32 := Scalar.muli c32_i32_316 v0
  let c28_i32_317 : BitVec 32 := 28#32
  let v466 : BitVec 32 := Scalar.addi v465 c28_i32_317
  let c0_i32_320 : BitVec 32 := 0#32
  let c0_i32_321 : BitVec 32 := 0#32
  let c0_i32_322 : BitVec 32 := 0#32
  ![v466.toNat, 0, 0, 0]
def k0_off337 (v461 : BitVec 32) (v463 : BitVec 32) : Fin 3 → Nat :=
  let v464 : BitVec 32 := v463
  let c0_i32_323 : BitVec 32 := 0#32
  ![v461.toNat, v464.toNat, 0]

def k0_chk93 (v461 : BitVec 32) (v463 : BitVec 32) : Prop :=
  (8 ∣ (k0_mult93 v463).toNat) ∧
  (∀ a, (k0_off337 v461 v463) a + S14x24x256.size a ≤ S400x200x256.size a)
theorem k0_mult93_dvd : ∀ (v461 : BitVec 32) (v463 : BitVec 32) (k0_hw93 : k0_chk93 v461 v463), 8 ∣ (k0_mult93 v463).toNat := fun v461 v463 k0_hw93 => k0_hw93.1
theorem k0_off337_inb : ∀ (v461 : BitVec 32) (v463 : BitVec 32) (k0_hw93 : k0_chk93 v461 v463), ∀ a, (k0_off337 v461 v463) a + S14x24x256.size a ≤ S400x200x256.size a := fun v461 v463 k0_hw93 => k0_hw93.2

def k0_off338 (i : grid0.Coords) : Fin 2 → Nat :=
  let c32_i32_324 : BitVec 32 := 32#32
  let arg0 : BitVec 32 := BitVec.ofNat 32 (i 0).val
  let v474 : BitVec 32 := Scalar.muli c32_i32_324 arg0
  let c29_i32 : BitVec 32 := 29#32
  let v475 : BitVec 32 := Scalar.addi v474 c29_i32
  let v476 : Index := Scalar.indexCast v475
  let c0_325 : Index := 0#32
  ![v476.toNat, 0]
def k0_off339 (i : grid0.Coords) : Fin 2 → Nat :=
  let c32_i32_324 : BitVec 32 := 32#32
  let arg0 : BitVec 32 := BitVec.ofNat 32 (i 0).val
  let v474 : BitVec 32 := Scalar.muli c32_i32_324 arg0
  let c29_i32 : BitVec 32 := 29#32
  let v475 : BitVec 32 := Scalar.addi v474 c29_i32
  let v478 : Index := Scalar.indexCast v475
  let c1_326 : Index := 1#32
  ![v478.toNat, 1]
def k0_mult94 (v479 : BitVec 32) : BitVec 32 :=
  v479

def k0_off340 (i : grid0.Coords) : Fin 1 → Nat :=
  let c32_i32_329 : BitVec 32 := 32#32
  let arg0 : BitVec 32 := BitVec.ofNat 32 (i 0).val
  let c2_i32 : BitVec 32 := 2#32
  let v0 : BitVec 32 := Scalar.remsi arg0 c2_i32
  let v483 : BitVec 32 := Scalar.muli c32_i32_329 v0
  let c29_i32_330 : BitVec 32 := 29#32
  let v484 : BitVec 32 := Scalar.addi v483 c29_i32_330
  ![v484.toNat]
def k0_off341 (i : grid0.Coords) : Fin 4 → Nat :=
  let c32_i32_327 : BitVec 32 := 32#32
  let arg0 : BitVec 32 := BitVec.ofNat 32 (i 0).val
  let c2_i32 : BitVec 32 := 2#32
  let v0 : BitVec 32 := Scalar.remsi arg0 c2_i32
  let v481 : BitVec 32 := Scalar.muli c32_i32_327 v0
  let c29_i32_328 : BitVec 32 := 29#32
  let v482 : BitVec 32 := Scalar.addi v481 c29_i32_328
  let c0_i32_331 : BitVec 32 := 0#32
  let c0_i32_332 : BitVec 32 := 0#32
  let c0_i32_333 : BitVec 32 := 0#32
  ![v482.toNat, 0, 0, 0]
def k0_off342 (v477 : BitVec 32) (v479 : BitVec 32) : Fin 3 → Nat :=
  let v480 : BitVec 32 := v479
  let c0_i32_334 : BitVec 32 := 0#32
  ![v477.toNat, v480.toNat, 0]

def k0_chk94 (v477 : BitVec 32) (v479 : BitVec 32) : Prop :=
  (8 ∣ (k0_mult94 v479).toNat) ∧
  (∀ a, (k0_off342 v477 v479) a + S14x24x256.size a ≤ S400x200x256.size a)
theorem k0_mult94_dvd : ∀ (v477 : BitVec 32) (v479 : BitVec 32) (k0_hw94 : k0_chk94 v477 v479), 8 ∣ (k0_mult94 v479).toNat := fun v477 v479 k0_hw94 => k0_hw94.1
theorem k0_off342_inb : ∀ (v477 : BitVec 32) (v479 : BitVec 32) (k0_hw94 : k0_chk94 v477 v479), ∀ a, (k0_off342 v477 v479) a + S14x24x256.size a ≤ S400x200x256.size a := fun v477 v479 k0_hw94 => k0_hw94.2

def k0_off343 (i : grid0.Coords) : Fin 2 → Nat :=
  let c32_i32_335 : BitVec 32 := 32#32
  let arg0 : BitVec 32 := BitVec.ofNat 32 (i 0).val
  let v490 : BitVec 32 := Scalar.muli c32_i32_335 arg0
  let c30_i32 : BitVec 32 := 30#32
  let v491 : BitVec 32 := Scalar.addi v490 c30_i32
  let v492 : Index := Scalar.indexCast v491
  let c0_336 : Index := 0#32
  ![v492.toNat, 0]
def k0_off344 (i : grid0.Coords) : Fin 2 → Nat :=
  let c32_i32_335 : BitVec 32 := 32#32
  let arg0 : BitVec 32 := BitVec.ofNat 32 (i 0).val
  let v490 : BitVec 32 := Scalar.muli c32_i32_335 arg0
  let c30_i32 : BitVec 32 := 30#32
  let v491 : BitVec 32 := Scalar.addi v490 c30_i32
  let v494 : Index := Scalar.indexCast v491
  let c1_337 : Index := 1#32
  ![v494.toNat, 1]
def k0_mult95 (v495 : BitVec 32) : BitVec 32 :=
  v495

def k0_off345 (i : grid0.Coords) : Fin 1 → Nat :=
  let c32_i32_340 : BitVec 32 := 32#32
  let arg0 : BitVec 32 := BitVec.ofNat 32 (i 0).val
  let c2_i32 : BitVec 32 := 2#32
  let v0 : BitVec 32 := Scalar.remsi arg0 c2_i32
  let v499 : BitVec 32 := Scalar.muli c32_i32_340 v0
  let c30_i32_341 : BitVec 32 := 30#32
  let v500 : BitVec 32 := Scalar.addi v499 c30_i32_341
  ![v500.toNat]
def k0_off346 (i : grid0.Coords) : Fin 4 → Nat :=
  let c32_i32_338 : BitVec 32 := 32#32
  let arg0 : BitVec 32 := BitVec.ofNat 32 (i 0).val
  let c2_i32 : BitVec 32 := 2#32
  let v0 : BitVec 32 := Scalar.remsi arg0 c2_i32
  let v497 : BitVec 32 := Scalar.muli c32_i32_338 v0
  let c30_i32_339 : BitVec 32 := 30#32
  let v498 : BitVec 32 := Scalar.addi v497 c30_i32_339
  let c0_i32_342 : BitVec 32 := 0#32
  let c0_i32_343 : BitVec 32 := 0#32
  let c0_i32_344 : BitVec 32 := 0#32
  ![v498.toNat, 0, 0, 0]
def k0_off347 (v493 : BitVec 32) (v495 : BitVec 32) : Fin 3 → Nat :=
  let v496 : BitVec 32 := v495
  let c0_i32_345 : BitVec 32 := 0#32
  ![v493.toNat, v496.toNat, 0]

def k0_chk95 (v493 : BitVec 32) (v495 : BitVec 32) : Prop :=
  (8 ∣ (k0_mult95 v495).toNat) ∧
  (∀ a, (k0_off347 v493 v495) a + S14x24x256.size a ≤ S400x200x256.size a)
theorem k0_mult95_dvd : ∀ (v493 : BitVec 32) (v495 : BitVec 32) (k0_hw95 : k0_chk95 v493 v495), 8 ∣ (k0_mult95 v495).toNat := fun v493 v495 k0_hw95 => k0_hw95.1
theorem k0_off347_inb : ∀ (v493 : BitVec 32) (v495 : BitVec 32) (k0_hw95 : k0_chk95 v493 v495), ∀ a, (k0_off347 v493 v495) a + S14x24x256.size a ≤ S400x200x256.size a := fun v493 v495 k0_hw95 => k0_hw95.2

def k0_off348 (i : grid0.Coords) : Fin 2 → Nat :=
  let c32_i32_346 : BitVec 32 := 32#32
  let arg0 : BitVec 32 := BitVec.ofNat 32 (i 0).val
  let v506 : BitVec 32 := Scalar.muli c32_i32_346 arg0
  let c31_i32 : BitVec 32 := 31#32
  let v507 : BitVec 32 := Scalar.addi v506 c31_i32
  let v508 : Index := Scalar.indexCast v507
  let c0_347 : Index := 0#32
  ![v508.toNat, 0]
def k0_off349 (i : grid0.Coords) : Fin 2 → Nat :=
  let c32_i32_346 : BitVec 32 := 32#32
  let arg0 : BitVec 32 := BitVec.ofNat 32 (i 0).val
  let v506 : BitVec 32 := Scalar.muli c32_i32_346 arg0
  let c31_i32 : BitVec 32 := 31#32
  let v507 : BitVec 32 := Scalar.addi v506 c31_i32
  let v510 : Index := Scalar.indexCast v507
  let c1_348 : Index := 1#32
  ![v510.toNat, 1]
def k0_mult96 (v511 : BitVec 32) : BitVec 32 :=
  v511

def k0_off350 (i : grid0.Coords) : Fin 1 → Nat :=
  let c32_i32_351 : BitVec 32 := 32#32
  let arg0 : BitVec 32 := BitVec.ofNat 32 (i 0).val
  let c2_i32 : BitVec 32 := 2#32
  let v0 : BitVec 32 := Scalar.remsi arg0 c2_i32
  let v515 : BitVec 32 := Scalar.muli c32_i32_351 v0
  let c31_i32_352 : BitVec 32 := 31#32
  let v516 : BitVec 32 := Scalar.addi v515 c31_i32_352
  ![v516.toNat]
def k0_off351 (i : grid0.Coords) : Fin 4 → Nat :=
  let c32_i32_349 : BitVec 32 := 32#32
  let arg0 : BitVec 32 := BitVec.ofNat 32 (i 0).val
  let c2_i32 : BitVec 32 := 2#32
  let v0 : BitVec 32 := Scalar.remsi arg0 c2_i32
  let v513 : BitVec 32 := Scalar.muli c32_i32_349 v0
  let c31_i32_350 : BitVec 32 := 31#32
  let v514 : BitVec 32 := Scalar.addi v513 c31_i32_350
  let c0_i32_353 : BitVec 32 := 0#32
  let c0_i32_354 : BitVec 32 := 0#32
  let c0_i32_355 : BitVec 32 := 0#32
  ![v514.toNat, 0, 0, 0]
def k0_off352 (v509 : BitVec 32) (v511 : BitVec 32) : Fin 3 → Nat :=
  let v512 : BitVec 32 := v511
  let c0_i32_356 : BitVec 32 := 0#32
  ![v509.toNat, v512.toNat, 0]

def k0_chk96 (v509 : BitVec 32) (v511 : BitVec 32) : Prop :=
  (8 ∣ (k0_mult96 v511).toNat) ∧
  (∀ a, (k0_off352 v509 v511) a + S14x24x256.size a ≤ S400x200x256.size a)
theorem k0_mult96_dvd : ∀ (v509 : BitVec 32) (v511 : BitVec 32) (k0_hw96 : k0_chk96 v509 v511), 8 ∣ (k0_mult96 v511).toNat := fun v509 v511 k0_hw96 => k0_hw96.1
theorem k0_off352_inb : ∀ (v509 : BitVec 32) (v511 : BitVec 32) (k0_hw96 : k0_chk96 v509 v511), ∀ a, (k0_off352 v509 v511) a + S14x24x256.size a ≤ S400x200x256.size a := fun v509 v511 k0_hw96 => k0_hw96.2

def k0_off353 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v527 : Index := Scalar.indexCast v523
  let c16 : Index := 16#32
  ![v527.toNat, 16]
def k0_off354 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v529 : Index := Scalar.indexCast v523
  let c17 : Index := 17#32
  ![v529.toNat, 17]
def k0_off355 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v531 : Index := Scalar.indexCast v523
  let c18 : Index := 18#32
  ![v531.toNat, 18]
def k0_off356 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v533 : Index := Scalar.indexCast v523
  let c19 : Index := 19#32
  ![v533.toNat, 19]
def k0_off357 (i : grid0.Coords) (v528 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v535 : Index := Scalar.indexCast v525
  let c0_361 : Index := 0#32
  let v536 : Index := Scalar.indexCast v528
  let c0_362 : Index := 0#32
  ![v535.toNat, 0, v536.toNat, 0]

def k0_chk97 (i : grid0.Coords) (v528 : BitVec 32) : Prop :=
  (∀ a, (k0_off357 i v528) a + S1x14x1x256.size a ≤ S64x14x24x256.size a)
theorem k0_off357_inb : ∀ (i : grid0.Coords) (v528 : BitVec 32) (k0_hw97 : k0_chk97 i v528), ∀ a, (k0_off357 i v528) a + S1x14x1x256.size a ≤ S64x14x24x256.size a := fun i v528 k0_hw97 => k0_hw97

def k0_off358 (i : grid0.Coords) (v530 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v539 : Index := Scalar.indexCast v525
  let c0_363 : Index := 0#32
  let v540 : Index := Scalar.indexCast v530
  let c0_364 : Index := 0#32
  ![v539.toNat, 0, v540.toNat, 0]

def k0_chk98 (i : grid0.Coords) (v530 : BitVec 32) : Prop :=
  (∀ a, (k0_off358 i v530) a + S1x14x1x256.size a ≤ S64x14x24x256.size a)
theorem k0_off358_inb : ∀ (i : grid0.Coords) (v530 : BitVec 32) (k0_hw98 : k0_chk98 i v530), ∀ a, (k0_off358 i v530) a + S1x14x1x256.size a ≤ S64x14x24x256.size a := fun i v530 k0_hw98 => k0_hw98

def k0_off359 (i : grid0.Coords) (v532 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v543 : Index := Scalar.indexCast v525
  let c0_365 : Index := 0#32
  let v544 : Index := Scalar.indexCast v532
  let c0_366 : Index := 0#32
  ![v543.toNat, 0, v544.toNat, 0]

def k0_chk99 (i : grid0.Coords) (v532 : BitVec 32) : Prop :=
  (∀ a, (k0_off359 i v532) a + S1x14x1x256.size a ≤ S64x14x24x256.size a)
theorem k0_off359_inb : ∀ (i : grid0.Coords) (v532 : BitVec 32) (k0_hw99 : k0_chk99 i v532), ∀ a, (k0_off359 i v532) a + S1x14x1x256.size a ≤ S64x14x24x256.size a := fun i v532 k0_hw99 => k0_hw99

def k0_off360 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v558 : Index := Scalar.indexCast v523
  let c20 : Index := 20#32
  ![v558.toNat, 20]
def k0_off361 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v560 : Index := Scalar.indexCast v523
  let c21 : Index := 21#32
  ![v560.toNat, 21]
def k0_off362 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v562 : Index := Scalar.indexCast v523
  let c22 : Index := 22#32
  ![v562.toNat, 22]
def k0_off363 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v564 : Index := Scalar.indexCast v523
  let c23 : Index := 23#32
  ![v564.toNat, 23]
def k0_off364 (i : grid0.Coords) (v559 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v566 : Index := Scalar.indexCast v525
  let c0_374 : Index := 0#32
  let v567 : Index := Scalar.indexCast v559
  let c0_375 : Index := 0#32
  ![v566.toNat, 0, v567.toNat, 0]

def k0_chk100 (i : grid0.Coords) (v559 : BitVec 32) : Prop :=
  (∀ a, (k0_off364 i v559) a + S1x14x1x256.size a ≤ S64x14x24x256.size a)
theorem k0_off364_inb : ∀ (i : grid0.Coords) (v559 : BitVec 32) (k0_hw100 : k0_chk100 i v559), ∀ a, (k0_off364 i v559) a + S1x14x1x256.size a ≤ S64x14x24x256.size a := fun i v559 k0_hw100 => k0_hw100

def k0_off365 (i : grid0.Coords) (v561 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v570 : Index := Scalar.indexCast v525
  let c0_376 : Index := 0#32
  let v571 : Index := Scalar.indexCast v561
  let c0_377 : Index := 0#32
  ![v570.toNat, 0, v571.toNat, 0]

def k0_chk101 (i : grid0.Coords) (v561 : BitVec 32) : Prop :=
  (∀ a, (k0_off365 i v561) a + S1x14x1x256.size a ≤ S64x14x24x256.size a)
theorem k0_off365_inb : ∀ (i : grid0.Coords) (v561 : BitVec 32) (k0_hw101 : k0_chk101 i v561), ∀ a, (k0_off365 i v561) a + S1x14x1x256.size a ≤ S64x14x24x256.size a := fun i v561 k0_hw101 => k0_hw101

def k0_off366 (i : grid0.Coords) (v563 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v574 : Index := Scalar.indexCast v525
  let c0_378 : Index := 0#32
  let v575 : Index := Scalar.indexCast v563
  let c0_379 : Index := 0#32
  ![v574.toNat, 0, v575.toNat, 0]

def k0_chk102 (i : grid0.Coords) (v563 : BitVec 32) : Prop :=
  (∀ a, (k0_off366 i v563) a + S1x14x1x256.size a ≤ S64x14x24x256.size a)
theorem k0_off366_inb : ∀ (i : grid0.Coords) (v563 : BitVec 32) (k0_hw102 : k0_chk102 i v563), ∀ a, (k0_off366 i v563) a + S1x14x1x256.size a ≤ S64x14x24x256.size a := fun i v563 k0_hw102 => k0_hw102

def k0_off367 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v589 : Index := Scalar.indexCast v523
  let c24 : Index := 24#32
  ![v589.toNat, 24]
def k0_off368 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v591 : Index := Scalar.indexCast v523
  let c25 : Index := 25#32
  ![v591.toNat, 25]
def k0_off369 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v593 : Index := Scalar.indexCast v523
  let c26 : Index := 26#32
  ![v593.toNat, 26]
def k0_off370 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v595 : Index := Scalar.indexCast v523
  let c27 : Index := 27#32
  ![v595.toNat, 27]
def k0_off371 (i : grid0.Coords) (v590 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v597 : Index := Scalar.indexCast v525
  let c0_387 : Index := 0#32
  let v598 : Index := Scalar.indexCast v590
  let c0_388 : Index := 0#32
  ![v597.toNat, 0, v598.toNat, 0]

def k0_chk103 (i : grid0.Coords) (v590 : BitVec 32) : Prop :=
  (∀ a, (k0_off371 i v590) a + S1x14x1x256.size a ≤ S64x14x24x256.size a)
theorem k0_off371_inb : ∀ (i : grid0.Coords) (v590 : BitVec 32) (k0_hw103 : k0_chk103 i v590), ∀ a, (k0_off371 i v590) a + S1x14x1x256.size a ≤ S64x14x24x256.size a := fun i v590 k0_hw103 => k0_hw103

def k0_off372 (i : grid0.Coords) (v592 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v601 : Index := Scalar.indexCast v525
  let c0_389 : Index := 0#32
  let v602 : Index := Scalar.indexCast v592
  let c0_390 : Index := 0#32
  ![v601.toNat, 0, v602.toNat, 0]

def k0_chk104 (i : grid0.Coords) (v592 : BitVec 32) : Prop :=
  (∀ a, (k0_off372 i v592) a + S1x14x1x256.size a ≤ S64x14x24x256.size a)
theorem k0_off372_inb : ∀ (i : grid0.Coords) (v592 : BitVec 32) (k0_hw104 : k0_chk104 i v592), ∀ a, (k0_off372 i v592) a + S1x14x1x256.size a ≤ S64x14x24x256.size a := fun i v592 k0_hw104 => k0_hw104

def k0_off373 (i : grid0.Coords) (v594 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v605 : Index := Scalar.indexCast v525
  let c0_391 : Index := 0#32
  let v606 : Index := Scalar.indexCast v594
  let c0_392 : Index := 0#32
  ![v605.toNat, 0, v606.toNat, 0]

def k0_chk105 (i : grid0.Coords) (v594 : BitVec 32) : Prop :=
  (∀ a, (k0_off373 i v594) a + S1x14x1x256.size a ≤ S64x14x24x256.size a)
theorem k0_off373_inb : ∀ (i : grid0.Coords) (v594 : BitVec 32) (k0_hw105 : k0_chk105 i v594), ∀ a, (k0_off373 i v594) a + S1x14x1x256.size a ≤ S64x14x24x256.size a := fun i v594 k0_hw105 => k0_hw105

def k0_off374 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v620 : Index := Scalar.indexCast v523
  let c28 : Index := 28#32
  ![v620.toNat, 28]
def k0_off375 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v622 : Index := Scalar.indexCast v523
  let c29 : Index := 29#32
  ![v622.toNat, 29]
def k0_off376 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v624 : Index := Scalar.indexCast v523
  let c30 : Index := 30#32
  ![v624.toNat, 30]
def k0_off377 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v626 : Index := Scalar.indexCast v523
  let c31 : Index := 31#32
  ![v626.toNat, 31]
def k0_off378 (i : grid0.Coords) (v621 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v628 : Index := Scalar.indexCast v525
  let c0_399 : Index := 0#32
  let v629 : Index := Scalar.indexCast v621
  let c0_400 : Index := 0#32
  ![v628.toNat, 0, v629.toNat, 0]

def k0_chk106 (i : grid0.Coords) (v621 : BitVec 32) : Prop :=
  (∀ a, (k0_off378 i v621) a + S1x14x1x256.size a ≤ S64x14x24x256.size a)
theorem k0_off378_inb : ∀ (i : grid0.Coords) (v621 : BitVec 32) (k0_hw106 : k0_chk106 i v621), ∀ a, (k0_off378 i v621) a + S1x14x1x256.size a ≤ S64x14x24x256.size a := fun i v621 k0_hw106 => k0_hw106

def k0_off379 (i : grid0.Coords) (v623 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v632 : Index := Scalar.indexCast v525
  let c0_401 : Index := 0#32
  let v633 : Index := Scalar.indexCast v623
  let c0_402 : Index := 0#32
  ![v632.toNat, 0, v633.toNat, 0]

def k0_chk107 (i : grid0.Coords) (v623 : BitVec 32) : Prop :=
  (∀ a, (k0_off379 i v623) a + S1x14x1x256.size a ≤ S64x14x24x256.size a)
theorem k0_off379_inb : ∀ (i : grid0.Coords) (v623 : BitVec 32) (k0_hw107 : k0_chk107 i v623), ∀ a, (k0_off379 i v623) a + S1x14x1x256.size a ≤ S64x14x24x256.size a := fun i v623 k0_hw107 => k0_hw107

def k0_off380 (i : grid0.Coords) (v625 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v636 : Index := Scalar.indexCast v525
  let c0_403 : Index := 0#32
  let v637 : Index := Scalar.indexCast v625
  let c0_404 : Index := 0#32
  ![v636.toNat, 0, v637.toNat, 0]

def k0_chk108 (i : grid0.Coords) (v625 : BitVec 32) : Prop :=
  (∀ a, (k0_off380 i v625) a + S1x14x1x256.size a ≤ S64x14x24x256.size a)
theorem k0_off380_inb : ∀ (i : grid0.Coords) (v625 : BitVec 32) (k0_hw108 : k0_chk108 i v625), ∀ a, (k0_off380 i v625) a + S1x14x1x256.size a ≤ S64x14x24x256.size a := fun i v625 k0_hw108 => k0_hw108

def k0_off381 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v651 : Index := Scalar.indexCast v523
  let c32 : Index := 32#32
  ![v651.toNat, 32]
def k0_off382 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v653 : Index := Scalar.indexCast v523
  let c33 : Index := 33#32
  ![v653.toNat, 33]
def k0_off383 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v655 : Index := Scalar.indexCast v523
  let c34 : Index := 34#32
  ![v655.toNat, 34]
def k0_off384 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v657 : Index := Scalar.indexCast v523
  let c35 : Index := 35#32
  ![v657.toNat, 35]
def k0_off385 (i : grid0.Coords) (v652 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v659 : Index := Scalar.indexCast v525
  let c0_411 : Index := 0#32
  let v660 : Index := Scalar.indexCast v652
  let c0_412 : Index := 0#32
  ![v659.toNat, 0, v660.toNat, 0]

def k0_chk109 (i : grid0.Coords) (v652 : BitVec 32) : Prop :=
  (∀ a, (k0_off385 i v652) a + S1x14x1x256.size a ≤ S64x14x24x256.size a)
theorem k0_off385_inb : ∀ (i : grid0.Coords) (v652 : BitVec 32) (k0_hw109 : k0_chk109 i v652), ∀ a, (k0_off385 i v652) a + S1x14x1x256.size a ≤ S64x14x24x256.size a := fun i v652 k0_hw109 => k0_hw109

def k0_off386 (i : grid0.Coords) (v654 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v663 : Index := Scalar.indexCast v525
  let c0_413 : Index := 0#32
  let v664 : Index := Scalar.indexCast v654
  let c0_414 : Index := 0#32
  ![v663.toNat, 0, v664.toNat, 0]

def k0_chk110 (i : grid0.Coords) (v654 : BitVec 32) : Prop :=
  (∀ a, (k0_off386 i v654) a + S1x14x1x256.size a ≤ S64x14x24x256.size a)
theorem k0_off386_inb : ∀ (i : grid0.Coords) (v654 : BitVec 32) (k0_hw110 : k0_chk110 i v654), ∀ a, (k0_off386 i v654) a + S1x14x1x256.size a ≤ S64x14x24x256.size a := fun i v654 k0_hw110 => k0_hw110

def k0_off387 (i : grid0.Coords) (v656 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v667 : Index := Scalar.indexCast v525
  let c0_415 : Index := 0#32
  let v668 : Index := Scalar.indexCast v656
  let c0_416 : Index := 0#32
  ![v667.toNat, 0, v668.toNat, 0]

def k0_chk111 (i : grid0.Coords) (v656 : BitVec 32) : Prop :=
  (∀ a, (k0_off387 i v656) a + S1x14x1x256.size a ≤ S64x14x24x256.size a)
theorem k0_off387_inb : ∀ (i : grid0.Coords) (v656 : BitVec 32) (k0_hw111 : k0_chk111 i v656), ∀ a, (k0_off387 i v656) a + S1x14x1x256.size a ≤ S64x14x24x256.size a := fun i v656 k0_hw111 => k0_hw111

def k0_off388 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v682 : Index := Scalar.indexCast v523
  let c36 : Index := 36#32
  ![v682.toNat, 36]
def k0_off389 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v684 : Index := Scalar.indexCast v523
  let c37 : Index := 37#32
  ![v684.toNat, 37]
def k0_off390 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v686 : Index := Scalar.indexCast v523
  let c38 : Index := 38#32
  ![v686.toNat, 38]
def k0_off391 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v688 : Index := Scalar.indexCast v523
  let c39 : Index := 39#32
  ![v688.toNat, 39]
def k0_off392 (i : grid0.Coords) (v683 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v690 : Index := Scalar.indexCast v525
  let c0_423 : Index := 0#32
  let v691 : Index := Scalar.indexCast v683
  let c0_424 : Index := 0#32
  ![v690.toNat, 0, v691.toNat, 0]

def k0_chk112 (i : grid0.Coords) (v683 : BitVec 32) : Prop :=
  (∀ a, (k0_off392 i v683) a + S1x14x1x256.size a ≤ S64x14x24x256.size a)
theorem k0_off392_inb : ∀ (i : grid0.Coords) (v683 : BitVec 32) (k0_hw112 : k0_chk112 i v683), ∀ a, (k0_off392 i v683) a + S1x14x1x256.size a ≤ S64x14x24x256.size a := fun i v683 k0_hw112 => k0_hw112

def k0_off393 (i : grid0.Coords) (v685 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v694 : Index := Scalar.indexCast v525
  let c0_425 : Index := 0#32
  let v695 : Index := Scalar.indexCast v685
  let c0_426 : Index := 0#32
  ![v694.toNat, 0, v695.toNat, 0]

def k0_chk113 (i : grid0.Coords) (v685 : BitVec 32) : Prop :=
  (∀ a, (k0_off393 i v685) a + S1x14x1x256.size a ≤ S64x14x24x256.size a)
theorem k0_off393_inb : ∀ (i : grid0.Coords) (v685 : BitVec 32) (k0_hw113 : k0_chk113 i v685), ∀ a, (k0_off393 i v685) a + S1x14x1x256.size a ≤ S64x14x24x256.size a := fun i v685 k0_hw113 => k0_hw113

def k0_off394 (i : grid0.Coords) (v687 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v698 : Index := Scalar.indexCast v525
  let c0_427 : Index := 0#32
  let v699 : Index := Scalar.indexCast v687
  let c0_428 : Index := 0#32
  ![v698.toNat, 0, v699.toNat, 0]

def k0_chk114 (i : grid0.Coords) (v687 : BitVec 32) : Prop :=
  (∀ a, (k0_off394 i v687) a + S1x14x1x256.size a ≤ S64x14x24x256.size a)
theorem k0_off394_inb : ∀ (i : grid0.Coords) (v687 : BitVec 32) (k0_hw114 : k0_chk114 i v687), ∀ a, (k0_off394 i v687) a + S1x14x1x256.size a ≤ S64x14x24x256.size a := fun i v687 k0_hw114 => k0_hw114

def k0_off395 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v713 : Index := Scalar.indexCast v523
  let c40 : Index := 40#32
  ![v713.toNat, 40]
def k0_off396 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v715 : Index := Scalar.indexCast v523
  let c41 : Index := 41#32
  ![v715.toNat, 41]
def k0_off397 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v717 : Index := Scalar.indexCast v523
  let c42 : Index := 42#32
  ![v717.toNat, 42]
def k0_off398 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v719 : Index := Scalar.indexCast v523
  let c43 : Index := 43#32
  ![v719.toNat, 43]
def k0_off399 (i : grid0.Coords) (v714 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v721 : Index := Scalar.indexCast v525
  let c0_435 : Index := 0#32
  let v722 : Index := Scalar.indexCast v714
  let c0_436 : Index := 0#32
  ![v721.toNat, 0, v722.toNat, 0]

def k0_chk115 (i : grid0.Coords) (v714 : BitVec 32) : Prop :=
  (∀ a, (k0_off399 i v714) a + S1x14x1x256.size a ≤ S64x14x24x256.size a)
theorem k0_off399_inb : ∀ (i : grid0.Coords) (v714 : BitVec 32) (k0_hw115 : k0_chk115 i v714), ∀ a, (k0_off399 i v714) a + S1x14x1x256.size a ≤ S64x14x24x256.size a := fun i v714 k0_hw115 => k0_hw115

def k0_off400 (i : grid0.Coords) (v716 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v725 : Index := Scalar.indexCast v525
  let c0_437 : Index := 0#32
  let v726 : Index := Scalar.indexCast v716
  let c0_438 : Index := 0#32
  ![v725.toNat, 0, v726.toNat, 0]

def k0_chk116 (i : grid0.Coords) (v716 : BitVec 32) : Prop :=
  (∀ a, (k0_off400 i v716) a + S1x14x1x256.size a ≤ S64x14x24x256.size a)
theorem k0_off400_inb : ∀ (i : grid0.Coords) (v716 : BitVec 32) (k0_hw116 : k0_chk116 i v716), ∀ a, (k0_off400 i v716) a + S1x14x1x256.size a ≤ S64x14x24x256.size a := fun i v716 k0_hw116 => k0_hw116

def k0_off401 (i : grid0.Coords) (v718 : BitVec 32) : Fin 4 → Nat :=
  let c32_i32_359 : BitVec 32 := 32#32
  let arg0 : BitVec 32 := BitVec.ofNat 32 (i 0).val
  let c2_i32 : BitVec 32 := 2#32
  let v0 : BitVec 32 := Scalar.remsi arg0 c2_i32
  let v524 : BitVec 32 := Scalar.muli c32_i32_359 v0
  let c0_i32_360 : BitVec 32 := 0#32
  let v525 : BitVec 32 := Scalar.addi v524 c0_i32_360
  let v729 : Index := Scalar.indexCast v525
  let c0_439 : Index := 0#32
  let v730 : Index := Scalar.indexCast v718
  let c0_440 : Index := 0#32
  ![v729.toNat, 0, v730.toNat, 0]

def k0_chk117 (i : grid0.Coords) (v718 : BitVec 32) : Prop :=
  (∀ a, (k0_off401 i v718) a + S1x14x1x256.size a ≤ S64x14x24x256.size a)
theorem k0_off401_inb : ∀ (i : grid0.Coords) (v718 : BitVec 32) (k0_hw117 : k0_chk117 i v718), ∀ a, (k0_off401 i v718) a + S1x14x1x256.size a ≤ S64x14x24x256.size a := fun i v718 k0_hw117 => k0_hw117

def k0_off402 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v745 : Index := Scalar.indexCast v523
  let c44 : Index := 44#32
  ![v745.toNat, 44]
def k0_off403 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v747 : Index := Scalar.indexCast v523
  let c45 : Index := 45#32
  ![v747.toNat, 45]
def k0_off404 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v749 : Index := Scalar.indexCast v523
  let c46 : Index := 46#32
  ![v749.toNat, 46]
def k0_off405 (v746 : BitVec 32) : Fin 4 → Nat :=
  let c0_447 : Index := 0#32
  let v751 : Index := Scalar.indexCast v746
  let c0_448 : Index := 0#32
  let c0_449 : Index := 0#32
  ![0, v751.toNat, 0, 0]

def k0_chk118 (v746 : BitVec 32) : Prop :=
  (∀ a, (k0_off405 v746) a + S1x3x7x256.size a ≤ S32x14x7x256.size a)
theorem k0_off405_inb : ∀ (v746 : BitVec 32) (k0_hw118 : k0_chk118 v746), ∀ a, (k0_off405 v746) a + S1x3x7x256.size a ≤ S32x14x7x256.size a := fun v746 k0_hw118 => k0_hw118

def k0_off406 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v767 : Index := Scalar.indexCast v523
  let c47 : Index := 47#32
  ![v767.toNat, 47]
def k0_off407 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v769 : Index := Scalar.indexCast v523
  let c48 : Index := 48#32
  ![v769.toNat, 48]
def k0_off408 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v771 : Index := Scalar.indexCast v523
  let c49 : Index := 49#32
  ![v771.toNat, 49]
def k0_off409 (v768 : BitVec 32) : Fin 4 → Nat :=
  let c0_455 : Index := 0#32
  let v773 : Index := Scalar.indexCast v768
  let c0_456 : Index := 0#32
  let c0_457 : Index := 0#32
  ![0, v773.toNat, 0, 0]

def k0_chk119 (v768 : BitVec 32) : Prop :=
  (∀ a, (k0_off409 v768) a + S1x3x7x256.size a ≤ S32x14x7x256.size a)
theorem k0_off409_inb : ∀ (v768 : BitVec 32) (k0_hw119 : k0_chk119 v768), ∀ a, (k0_off409 v768) a + S1x3x7x256.size a ≤ S32x14x7x256.size a := fun v768 k0_hw119 => k0_hw119

def k0_off410 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v789 : Index := Scalar.indexCast v523
  let c50 : Index := 50#32
  ![v789.toNat, 50]
def k0_off411 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v791 : Index := Scalar.indexCast v523
  let c51 : Index := 51#32
  ![v791.toNat, 51]
def k0_off412 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v793 : Index := Scalar.indexCast v523
  let c52 : Index := 52#32
  ![v793.toNat, 52]
def k0_off413 (v790 : BitVec 32) : Fin 4 → Nat :=
  let c0_462 : Index := 0#32
  let v795 : Index := Scalar.indexCast v790
  let c0_463 : Index := 0#32
  let c0_464 : Index := 0#32
  ![0, v795.toNat, 0, 0]

def k0_chk120 (v790 : BitVec 32) : Prop :=
  (∀ a, (k0_off413 v790) a + S1x3x7x256.size a ≤ S32x14x7x256.size a)
theorem k0_off413_inb : ∀ (v790 : BitVec 32) (k0_hw120 : k0_chk120 v790), ∀ a, (k0_off413 v790) a + S1x3x7x256.size a ≤ S32x14x7x256.size a := fun v790 k0_hw120 => k0_hw120

def k0_off414 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v811 : Index := Scalar.indexCast v523
  let c53 : Index := 53#32
  ![v811.toNat, 53]
def k0_off415 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v813 : Index := Scalar.indexCast v523
  let c54 : Index := 54#32
  ![v813.toNat, 54]
def k0_off416 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v815 : Index := Scalar.indexCast v523
  let c55 : Index := 55#32
  ![v815.toNat, 55]
def k0_off417 (v812 : BitVec 32) : Fin 4 → Nat :=
  let c0_469 : Index := 0#32
  let v817 : Index := Scalar.indexCast v812
  let c0_470 : Index := 0#32
  let c0_471 : Index := 0#32
  ![0, v817.toNat, 0, 0]

def k0_chk121 (v812 : BitVec 32) : Prop :=
  (∀ a, (k0_off417 v812) a + S1x3x7x256.size a ≤ S32x14x7x256.size a)
theorem k0_off417_inb : ∀ (v812 : BitVec 32) (k0_hw121 : k0_chk121 v812), ∀ a, (k0_off417 v812) a + S1x3x7x256.size a ≤ S32x14x7x256.size a := fun v812 k0_hw121 => k0_hw121

def k0_off418 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v833 : Index := Scalar.indexCast v523
  let c56 : Index := 56#32
  ![v833.toNat, 56]
def k0_off419 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v835 : Index := Scalar.indexCast v523
  let c57 : Index := 57#32
  ![v835.toNat, 57]
def k0_off420 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v837 : Index := Scalar.indexCast v523
  let c58 : Index := 58#32
  ![v837.toNat, 58]
def k0_off421 (v834 : BitVec 32) : Fin 4 → Nat :=
  let c0_477 : Index := 0#32
  let v839 : Index := Scalar.indexCast v834
  let c0_478 : Index := 0#32
  let c0_479 : Index := 0#32
  ![0, v839.toNat, 0, 0]

def k0_chk122 (v834 : BitVec 32) : Prop :=
  (∀ a, (k0_off421 v834) a + S1x3x7x256.size a ≤ S32x14x7x256.size a)
theorem k0_off421_inb : ∀ (v834 : BitVec 32) (k0_hw122 : k0_chk122 v834), ∀ a, (k0_off421 v834) a + S1x3x7x256.size a ≤ S32x14x7x256.size a := fun v834 k0_hw122 => k0_hw122

def k0_off422 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v855 : Index := Scalar.indexCast v523
  let c59 : Index := 59#32
  ![v855.toNat, 59]
def k0_off423 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v857 : Index := Scalar.indexCast v523
  let c60 : Index := 60#32
  ![v857.toNat, 60]
def k0_off424 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v859 : Index := Scalar.indexCast v523
  let c61 : Index := 61#32
  ![v859.toNat, 61]
def k0_off425 (v856 : BitVec 32) : Fin 4 → Nat :=
  let c0_485 : Index := 0#32
  let v861 : Index := Scalar.indexCast v856
  let c0_486 : Index := 0#32
  let c0_487 : Index := 0#32
  ![0, v861.toNat, 0, 0]

def k0_chk123 (v856 : BitVec 32) : Prop :=
  (∀ a, (k0_off425 v856) a + S1x3x7x256.size a ≤ S32x14x7x256.size a)
theorem k0_off425_inb : ∀ (v856 : BitVec 32) (k0_hw123 : k0_chk123 v856), ∀ a, (k0_off425 v856) a + S1x3x7x256.size a ≤ S32x14x7x256.size a := fun v856 k0_hw123 => k0_hw123

def k0_off426 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v877 : Index := Scalar.indexCast v523
  let c62 : Index := 62#32
  ![v877.toNat, 62]
def k0_off427 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v879 : Index := Scalar.indexCast v523
  let c63 : Index := 63#32
  ![v879.toNat, 63]
def k0_off428 (i : grid0.Coords) : Fin 2 → Nat :=
  let c32_i32_357 : BitVec 32 := 32#32
  let arg0 : BitVec 32 := BitVec.ofNat 32 (i 0).val
  let v522 : BitVec 32 := Scalar.muli c32_i32_357 arg0
  let c0_i32_358 : BitVec 32 := 0#32
  let v523 : BitVec 32 := Scalar.addi v522 c0_i32_358
  let v881 : Index := Scalar.indexCast v523
  let c64 : Index := 64#32
  ![v881.toNat, 64]
def k0_off429 (v878 : BitVec 32) : Fin 4 → Nat :=
  let c0_493 : Index := 0#32
  let v883 : Index := Scalar.indexCast v878
  let c0_494 : Index := 0#32
  let c0_495 : Index := 0#32
  ![0, v883.toNat, 0, 0]

def k0_chk124 (v878 : BitVec 32) : Prop :=
  (∀ a, (k0_off429 v878) a + S1x3x7x256.size a ≤ S32x14x7x256.size a)
theorem k0_off429_inb : ∀ (v878 : BitVec 32) (k0_hw124 : k0_chk124 v878), ∀ a, (k0_off429 v878) a + S1x3x7x256.size a ≤ S32x14x7x256.size a := fun v878 k0_hw124 => k0_hw124

def k0_off430 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v904 : Index := Scalar.indexCast v900
  let c16_506 : Index := 16#32
  ![v904.toNat, 16]
def k0_off431 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v906 : Index := Scalar.indexCast v900
  let c17_507 : Index := 17#32
  ![v906.toNat, 17]
def k0_off432 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v908 : Index := Scalar.indexCast v900
  let c18_508 : Index := 18#32
  ![v908.toNat, 18]
def k0_off433 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v910 : Index := Scalar.indexCast v900
  let c19_509 : Index := 19#32
  ![v910.toNat, 19]
def k0_off434 (i : grid0.Coords) (v905 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v912 : Index := Scalar.indexCast v902
  let c0_510 : Index := 0#32
  let v913 : Index := Scalar.indexCast v905
  let c0_511 : Index := 0#32
  ![v912.toNat, 0, v913.toNat, 0]

def k0_chk125 (i : grid0.Coords) (v905 : BitVec 32) : Prop :=
  (∀ a, (k0_off434 i v905) a + S1x14x1x256.size a ≤ S64x14x24x256.size a)
theorem k0_off434_inb : ∀ (i : grid0.Coords) (v905 : BitVec 32) (k0_hw125 : k0_chk125 i v905), ∀ a, (k0_off434 i v905) a + S1x14x1x256.size a ≤ S64x14x24x256.size a := fun i v905 k0_hw125 => k0_hw125

def k0_off435 (i : grid0.Coords) (v907 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v916 : Index := Scalar.indexCast v902
  let c0_512 : Index := 0#32
  let v917 : Index := Scalar.indexCast v907
  let c0_513 : Index := 0#32
  ![v916.toNat, 0, v917.toNat, 0]

def k0_chk126 (i : grid0.Coords) (v907 : BitVec 32) : Prop :=
  (∀ a, (k0_off435 i v907) a + S1x14x1x256.size a ≤ S64x14x24x256.size a)
theorem k0_off435_inb : ∀ (i : grid0.Coords) (v907 : BitVec 32) (k0_hw126 : k0_chk126 i v907), ∀ a, (k0_off435 i v907) a + S1x14x1x256.size a ≤ S64x14x24x256.size a := fun i v907 k0_hw126 => k0_hw126

def k0_off436 (i : grid0.Coords) (v909 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v920 : Index := Scalar.indexCast v902
  let c0_514 : Index := 0#32
  let v921 : Index := Scalar.indexCast v909
  let c0_515 : Index := 0#32
  ![v920.toNat, 0, v921.toNat, 0]

def k0_chk127 (i : grid0.Coords) (v909 : BitVec 32) : Prop :=
  (∀ a, (k0_off436 i v909) a + S1x14x1x256.size a ≤ S64x14x24x256.size a)
theorem k0_off436_inb : ∀ (i : grid0.Coords) (v909 : BitVec 32) (k0_hw127 : k0_chk127 i v909), ∀ a, (k0_off436 i v909) a + S1x14x1x256.size a ≤ S64x14x24x256.size a := fun i v909 k0_hw127 => k0_hw127

def k0_off437 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v935 : Index := Scalar.indexCast v900
  let c20_523 : Index := 20#32
  ![v935.toNat, 20]
def k0_off438 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v937 : Index := Scalar.indexCast v900
  let c21_524 : Index := 21#32
  ![v937.toNat, 21]
def k0_off439 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v939 : Index := Scalar.indexCast v900
  let c22_525 : Index := 22#32
  ![v939.toNat, 22]
def k0_off440 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v941 : Index := Scalar.indexCast v900
  let c23_526 : Index := 23#32
  ![v941.toNat, 23]
def k0_off441 (i : grid0.Coords) (v936 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v943 : Index := Scalar.indexCast v902
  let c0_527 : Index := 0#32
  let v944 : Index := Scalar.indexCast v936
  let c0_528 : Index := 0#32
  ![v943.toNat, 0, v944.toNat, 0]

def k0_chk128 (i : grid0.Coords) (v936 : BitVec 32) : Prop :=
  (∀ a, (k0_off441 i v936) a + S1x14x1x256.size a ≤ S64x14x24x256.size a)
theorem k0_off441_inb : ∀ (i : grid0.Coords) (v936 : BitVec 32) (k0_hw128 : k0_chk128 i v936), ∀ a, (k0_off441 i v936) a + S1x14x1x256.size a ≤ S64x14x24x256.size a := fun i v936 k0_hw128 => k0_hw128

def k0_off442 (i : grid0.Coords) (v938 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v947 : Index := Scalar.indexCast v902
  let c0_529 : Index := 0#32
  let v948 : Index := Scalar.indexCast v938
  let c0_530 : Index := 0#32
  ![v947.toNat, 0, v948.toNat, 0]

def k0_chk129 (i : grid0.Coords) (v938 : BitVec 32) : Prop :=
  (∀ a, (k0_off442 i v938) a + S1x14x1x256.size a ≤ S64x14x24x256.size a)
theorem k0_off442_inb : ∀ (i : grid0.Coords) (v938 : BitVec 32) (k0_hw129 : k0_chk129 i v938), ∀ a, (k0_off442 i v938) a + S1x14x1x256.size a ≤ S64x14x24x256.size a := fun i v938 k0_hw129 => k0_hw129

def k0_off443 (i : grid0.Coords) (v940 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v951 : Index := Scalar.indexCast v902
  let c0_531 : Index := 0#32
  let v952 : Index := Scalar.indexCast v940
  let c0_532 : Index := 0#32
  ![v951.toNat, 0, v952.toNat, 0]

def k0_chk130 (i : grid0.Coords) (v940 : BitVec 32) : Prop :=
  (∀ a, (k0_off443 i v940) a + S1x14x1x256.size a ≤ S64x14x24x256.size a)
theorem k0_off443_inb : ∀ (i : grid0.Coords) (v940 : BitVec 32) (k0_hw130 : k0_chk130 i v940), ∀ a, (k0_off443 i v940) a + S1x14x1x256.size a ≤ S64x14x24x256.size a := fun i v940 k0_hw130 => k0_hw130

def k0_off444 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v966 : Index := Scalar.indexCast v900
  let c24_540 : Index := 24#32
  ![v966.toNat, 24]
def k0_off445 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v968 : Index := Scalar.indexCast v900
  let c25_541 : Index := 25#32
  ![v968.toNat, 25]
def k0_off446 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v970 : Index := Scalar.indexCast v900
  let c26_542 : Index := 26#32
  ![v970.toNat, 26]
def k0_off447 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v972 : Index := Scalar.indexCast v900
  let c27_543 : Index := 27#32
  ![v972.toNat, 27]
def k0_off448 (i : grid0.Coords) (v967 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v974 : Index := Scalar.indexCast v902
  let c0_544 : Index := 0#32
  let v975 : Index := Scalar.indexCast v967
  let c0_545 : Index := 0#32
  ![v974.toNat, 0, v975.toNat, 0]

def k0_chk131 (i : grid0.Coords) (v967 : BitVec 32) : Prop :=
  (∀ a, (k0_off448 i v967) a + S1x14x1x256.size a ≤ S64x14x24x256.size a)
theorem k0_off448_inb : ∀ (i : grid0.Coords) (v967 : BitVec 32) (k0_hw131 : k0_chk131 i v967), ∀ a, (k0_off448 i v967) a + S1x14x1x256.size a ≤ S64x14x24x256.size a := fun i v967 k0_hw131 => k0_hw131

def k0_off449 (i : grid0.Coords) (v969 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v978 : Index := Scalar.indexCast v902
  let c0_546 : Index := 0#32
  let v979 : Index := Scalar.indexCast v969
  let c0_547 : Index := 0#32
  ![v978.toNat, 0, v979.toNat, 0]

def k0_chk132 (i : grid0.Coords) (v969 : BitVec 32) : Prop :=
  (∀ a, (k0_off449 i v969) a + S1x14x1x256.size a ≤ S64x14x24x256.size a)
theorem k0_off449_inb : ∀ (i : grid0.Coords) (v969 : BitVec 32) (k0_hw132 : k0_chk132 i v969), ∀ a, (k0_off449 i v969) a + S1x14x1x256.size a ≤ S64x14x24x256.size a := fun i v969 k0_hw132 => k0_hw132

def k0_off450 (i : grid0.Coords) (v971 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v982 : Index := Scalar.indexCast v902
  let c0_548 : Index := 0#32
  let v983 : Index := Scalar.indexCast v971
  let c0_549 : Index := 0#32
  ![v982.toNat, 0, v983.toNat, 0]

def k0_chk133 (i : grid0.Coords) (v971 : BitVec 32) : Prop :=
  (∀ a, (k0_off450 i v971) a + S1x14x1x256.size a ≤ S64x14x24x256.size a)
theorem k0_off450_inb : ∀ (i : grid0.Coords) (v971 : BitVec 32) (k0_hw133 : k0_chk133 i v971), ∀ a, (k0_off450 i v971) a + S1x14x1x256.size a ≤ S64x14x24x256.size a := fun i v971 k0_hw133 => k0_hw133

def k0_off451 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v997 : Index := Scalar.indexCast v900
  let c28_557 : Index := 28#32
  ![v997.toNat, 28]
def k0_off452 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v999 : Index := Scalar.indexCast v900
  let c29_558 : Index := 29#32
  ![v999.toNat, 29]
def k0_off453 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1001 : Index := Scalar.indexCast v900
  let c30_559 : Index := 30#32
  ![v1001.toNat, 30]
def k0_off454 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1003 : Index := Scalar.indexCast v900
  let c31_560 : Index := 31#32
  ![v1003.toNat, 31]
def k0_off455 (i : grid0.Coords) (v998 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1005 : Index := Scalar.indexCast v902
  let c0_561 : Index := 0#32
  let v1006 : Index := Scalar.indexCast v998
  let c0_562 : Index := 0#32
  ![v1005.toNat, 0, v1006.toNat, 0]

def k0_chk134 (i : grid0.Coords) (v998 : BitVec 32) : Prop :=
  (∀ a, (k0_off455 i v998) a + S1x14x1x256.size a ≤ S64x14x24x256.size a)
theorem k0_off455_inb : ∀ (i : grid0.Coords) (v998 : BitVec 32) (k0_hw134 : k0_chk134 i v998), ∀ a, (k0_off455 i v998) a + S1x14x1x256.size a ≤ S64x14x24x256.size a := fun i v998 k0_hw134 => k0_hw134

def k0_off456 (i : grid0.Coords) (v1000 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1009 : Index := Scalar.indexCast v902
  let c0_563 : Index := 0#32
  let v1010 : Index := Scalar.indexCast v1000
  let c0_564 : Index := 0#32
  ![v1009.toNat, 0, v1010.toNat, 0]

def k0_chk135 (i : grid0.Coords) (v1000 : BitVec 32) : Prop :=
  (∀ a, (k0_off456 i v1000) a + S1x14x1x256.size a ≤ S64x14x24x256.size a)
theorem k0_off456_inb : ∀ (i : grid0.Coords) (v1000 : BitVec 32) (k0_hw135 : k0_chk135 i v1000), ∀ a, (k0_off456 i v1000) a + S1x14x1x256.size a ≤ S64x14x24x256.size a := fun i v1000 k0_hw135 => k0_hw135

def k0_off457 (i : grid0.Coords) (v1002 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1013 : Index := Scalar.indexCast v902
  let c0_565 : Index := 0#32
  let v1014 : Index := Scalar.indexCast v1002
  let c0_566 : Index := 0#32
  ![v1013.toNat, 0, v1014.toNat, 0]

def k0_chk136 (i : grid0.Coords) (v1002 : BitVec 32) : Prop :=
  (∀ a, (k0_off457 i v1002) a + S1x14x1x256.size a ≤ S64x14x24x256.size a)
theorem k0_off457_inb : ∀ (i : grid0.Coords) (v1002 : BitVec 32) (k0_hw136 : k0_chk136 i v1002), ∀ a, (k0_off457 i v1002) a + S1x14x1x256.size a ≤ S64x14x24x256.size a := fun i v1002 k0_hw136 => k0_hw136

def k0_off458 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1028 : Index := Scalar.indexCast v900
  let c32_574 : Index := 32#32
  ![v1028.toNat, 32]
def k0_off459 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1030 : Index := Scalar.indexCast v900
  let c33_575 : Index := 33#32
  ![v1030.toNat, 33]
def k0_off460 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1032 : Index := Scalar.indexCast v900
  let c34_576 : Index := 34#32
  ![v1032.toNat, 34]
def k0_off461 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1034 : Index := Scalar.indexCast v900
  let c35_577 : Index := 35#32
  ![v1034.toNat, 35]
def k0_off462 (i : grid0.Coords) (v1029 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1036 : Index := Scalar.indexCast v902
  let c0_578 : Index := 0#32
  let v1037 : Index := Scalar.indexCast v1029
  let c0_579 : Index := 0#32
  ![v1036.toNat, 0, v1037.toNat, 0]

def k0_chk137 (i : grid0.Coords) (v1029 : BitVec 32) : Prop :=
  (∀ a, (k0_off462 i v1029) a + S1x14x1x256.size a ≤ S64x14x24x256.size a)
theorem k0_off462_inb : ∀ (i : grid0.Coords) (v1029 : BitVec 32) (k0_hw137 : k0_chk137 i v1029), ∀ a, (k0_off462 i v1029) a + S1x14x1x256.size a ≤ S64x14x24x256.size a := fun i v1029 k0_hw137 => k0_hw137

def k0_off463 (i : grid0.Coords) (v1031 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1040 : Index := Scalar.indexCast v902
  let c0_580 : Index := 0#32
  let v1041 : Index := Scalar.indexCast v1031
  let c0_581 : Index := 0#32
  ![v1040.toNat, 0, v1041.toNat, 0]

def k0_chk138 (i : grid0.Coords) (v1031 : BitVec 32) : Prop :=
  (∀ a, (k0_off463 i v1031) a + S1x14x1x256.size a ≤ S64x14x24x256.size a)
theorem k0_off463_inb : ∀ (i : grid0.Coords) (v1031 : BitVec 32) (k0_hw138 : k0_chk138 i v1031), ∀ a, (k0_off463 i v1031) a + S1x14x1x256.size a ≤ S64x14x24x256.size a := fun i v1031 k0_hw138 => k0_hw138

def k0_off464 (i : grid0.Coords) (v1033 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1044 : Index := Scalar.indexCast v902
  let c0_582 : Index := 0#32
  let v1045 : Index := Scalar.indexCast v1033
  let c0_583 : Index := 0#32
  ![v1044.toNat, 0, v1045.toNat, 0]

def k0_chk139 (i : grid0.Coords) (v1033 : BitVec 32) : Prop :=
  (∀ a, (k0_off464 i v1033) a + S1x14x1x256.size a ≤ S64x14x24x256.size a)
theorem k0_off464_inb : ∀ (i : grid0.Coords) (v1033 : BitVec 32) (k0_hw139 : k0_chk139 i v1033), ∀ a, (k0_off464 i v1033) a + S1x14x1x256.size a ≤ S64x14x24x256.size a := fun i v1033 k0_hw139 => k0_hw139

def k0_off465 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1059 : Index := Scalar.indexCast v900
  let c36_591 : Index := 36#32
  ![v1059.toNat, 36]
def k0_off466 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1061 : Index := Scalar.indexCast v900
  let c37_592 : Index := 37#32
  ![v1061.toNat, 37]
def k0_off467 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1063 : Index := Scalar.indexCast v900
  let c38_593 : Index := 38#32
  ![v1063.toNat, 38]
def k0_off468 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1065 : Index := Scalar.indexCast v900
  let c39_594 : Index := 39#32
  ![v1065.toNat, 39]
def k0_off469 (i : grid0.Coords) (v1060 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1067 : Index := Scalar.indexCast v902
  let c0_595 : Index := 0#32
  let v1068 : Index := Scalar.indexCast v1060
  let c0_596 : Index := 0#32
  ![v1067.toNat, 0, v1068.toNat, 0]

def k0_chk140 (i : grid0.Coords) (v1060 : BitVec 32) : Prop :=
  (∀ a, (k0_off469 i v1060) a + S1x14x1x256.size a ≤ S64x14x24x256.size a)
theorem k0_off469_inb : ∀ (i : grid0.Coords) (v1060 : BitVec 32) (k0_hw140 : k0_chk140 i v1060), ∀ a, (k0_off469 i v1060) a + S1x14x1x256.size a ≤ S64x14x24x256.size a := fun i v1060 k0_hw140 => k0_hw140

def k0_off470 (i : grid0.Coords) (v1062 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1071 : Index := Scalar.indexCast v902
  let c0_597 : Index := 0#32
  let v1072 : Index := Scalar.indexCast v1062
  let c0_598 : Index := 0#32
  ![v1071.toNat, 0, v1072.toNat, 0]

def k0_chk141 (i : grid0.Coords) (v1062 : BitVec 32) : Prop :=
  (∀ a, (k0_off470 i v1062) a + S1x14x1x256.size a ≤ S64x14x24x256.size a)
theorem k0_off470_inb : ∀ (i : grid0.Coords) (v1062 : BitVec 32) (k0_hw141 : k0_chk141 i v1062), ∀ a, (k0_off470 i v1062) a + S1x14x1x256.size a ≤ S64x14x24x256.size a := fun i v1062 k0_hw141 => k0_hw141

def k0_off471 (i : grid0.Coords) (v1064 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1075 : Index := Scalar.indexCast v902
  let c0_599 : Index := 0#32
  let v1076 : Index := Scalar.indexCast v1064
  let c0_600 : Index := 0#32
  ![v1075.toNat, 0, v1076.toNat, 0]

def k0_chk142 (i : grid0.Coords) (v1064 : BitVec 32) : Prop :=
  (∀ a, (k0_off471 i v1064) a + S1x14x1x256.size a ≤ S64x14x24x256.size a)
theorem k0_off471_inb : ∀ (i : grid0.Coords) (v1064 : BitVec 32) (k0_hw142 : k0_chk142 i v1064), ∀ a, (k0_off471 i v1064) a + S1x14x1x256.size a ≤ S64x14x24x256.size a := fun i v1064 k0_hw142 => k0_hw142

def k0_off472 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1090 : Index := Scalar.indexCast v900
  let c40_608 : Index := 40#32
  ![v1090.toNat, 40]
def k0_off473 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1092 : Index := Scalar.indexCast v900
  let c41_609 : Index := 41#32
  ![v1092.toNat, 41]
def k0_off474 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1094 : Index := Scalar.indexCast v900
  let c42_610 : Index := 42#32
  ![v1094.toNat, 42]
def k0_off475 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1096 : Index := Scalar.indexCast v900
  let c43_611 : Index := 43#32
  ![v1096.toNat, 43]
def k0_off476 (i : grid0.Coords) (v1091 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1098 : Index := Scalar.indexCast v902
  let c0_612 : Index := 0#32
  let v1099 : Index := Scalar.indexCast v1091
  let c0_613 : Index := 0#32
  ![v1098.toNat, 0, v1099.toNat, 0]

def k0_chk143 (i : grid0.Coords) (v1091 : BitVec 32) : Prop :=
  (∀ a, (k0_off476 i v1091) a + S1x14x1x256.size a ≤ S64x14x24x256.size a)
theorem k0_off476_inb : ∀ (i : grid0.Coords) (v1091 : BitVec 32) (k0_hw143 : k0_chk143 i v1091), ∀ a, (k0_off476 i v1091) a + S1x14x1x256.size a ≤ S64x14x24x256.size a := fun i v1091 k0_hw143 => k0_hw143

def k0_off477 (i : grid0.Coords) (v1093 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1102 : Index := Scalar.indexCast v902
  let c0_614 : Index := 0#32
  let v1103 : Index := Scalar.indexCast v1093
  let c0_615 : Index := 0#32
  ![v1102.toNat, 0, v1103.toNat, 0]

def k0_chk144 (i : grid0.Coords) (v1093 : BitVec 32) : Prop :=
  (∀ a, (k0_off477 i v1093) a + S1x14x1x256.size a ≤ S64x14x24x256.size a)
theorem k0_off477_inb : ∀ (i : grid0.Coords) (v1093 : BitVec 32) (k0_hw144 : k0_chk144 i v1093), ∀ a, (k0_off477 i v1093) a + S1x14x1x256.size a ≤ S64x14x24x256.size a := fun i v1093 k0_hw144 => k0_hw144

def k0_off478 (i : grid0.Coords) (v1095 : BitVec 32) : Fin 4 → Nat :=
  let c32_i32_503 : BitVec 32 := 32#32
  let arg0 : BitVec 32 := BitVec.ofNat 32 (i 0).val
  let c2_i32 : BitVec 32 := 2#32
  let v0 : BitVec 32 := Scalar.remsi arg0 c2_i32
  let v901 : BitVec 32 := Scalar.muli c32_i32_503 v0
  let c1_i32_504 : BitVec 32 := 1#32
  let v902 : BitVec 32 := Scalar.addi v901 c1_i32_504
  let v1106 : Index := Scalar.indexCast v902
  let c0_616 : Index := 0#32
  let v1107 : Index := Scalar.indexCast v1095
  let c0_617 : Index := 0#32
  ![v1106.toNat, 0, v1107.toNat, 0]

def k0_chk145 (i : grid0.Coords) (v1095 : BitVec 32) : Prop :=
  (∀ a, (k0_off478 i v1095) a + S1x14x1x256.size a ≤ S64x14x24x256.size a)
theorem k0_off478_inb : ∀ (i : grid0.Coords) (v1095 : BitVec 32) (k0_hw145 : k0_chk145 i v1095), ∀ a, (k0_off478 i v1095) a + S1x14x1x256.size a ≤ S64x14x24x256.size a := fun i v1095 k0_hw145 => k0_hw145

def k0_off479 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1122 : Index := Scalar.indexCast v900
  let c44_625 : Index := 44#32
  ![v1122.toNat, 44]
def k0_off480 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1124 : Index := Scalar.indexCast v900
  let c45_626 : Index := 45#32
  ![v1124.toNat, 45]
def k0_off481 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1126 : Index := Scalar.indexCast v900
  let c46_627 : Index := 46#32
  ![v1126.toNat, 46]
def k0_off482 (v1123 : BitVec 32) : Fin 4 → Nat :=
  let c1_628 : Index := 1#32
  let v1128 : Index := Scalar.indexCast v1123
  let c0_629 : Index := 0#32
  let c0_630 : Index := 0#32
  ![1, v1128.toNat, 0, 0]

def k0_chk146 (v1123 : BitVec 32) : Prop :=
  (∀ a, (k0_off482 v1123) a + S1x3x7x256.size a ≤ S32x14x7x256.size a)
theorem k0_off482_inb : ∀ (v1123 : BitVec 32) (k0_hw146 : k0_chk146 v1123), ∀ a, (k0_off482 v1123) a + S1x3x7x256.size a ≤ S32x14x7x256.size a := fun v1123 k0_hw146 => k0_hw146

def k0_off483 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1144 : Index := Scalar.indexCast v900
  let c47_636 : Index := 47#32
  ![v1144.toNat, 47]
def k0_off484 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1146 : Index := Scalar.indexCast v900
  let c48_637 : Index := 48#32
  ![v1146.toNat, 48]
def k0_off485 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1148 : Index := Scalar.indexCast v900
  let c49_638 : Index := 49#32
  ![v1148.toNat, 49]
def k0_off486 (v1145 : BitVec 32) : Fin 4 → Nat :=
  let c1_639 : Index := 1#32
  let v1150 : Index := Scalar.indexCast v1145
  let c0_640 : Index := 0#32
  let c0_641 : Index := 0#32
  ![1, v1150.toNat, 0, 0]

def k0_chk147 (v1145 : BitVec 32) : Prop :=
  (∀ a, (k0_off486 v1145) a + S1x3x7x256.size a ≤ S32x14x7x256.size a)
theorem k0_off486_inb : ∀ (v1145 : BitVec 32) (k0_hw147 : k0_chk147 v1145), ∀ a, (k0_off486 v1145) a + S1x3x7x256.size a ≤ S32x14x7x256.size a := fun v1145 k0_hw147 => k0_hw147

def k0_off487 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1166 : Index := Scalar.indexCast v900
  let c50_647 : Index := 50#32
  ![v1166.toNat, 50]
def k0_off488 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1168 : Index := Scalar.indexCast v900
  let c51_648 : Index := 51#32
  ![v1168.toNat, 51]
def k0_off489 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1170 : Index := Scalar.indexCast v900
  let c52_649 : Index := 52#32
  ![v1170.toNat, 52]
def k0_off490 (v1167 : BitVec 32) : Fin 4 → Nat :=
  let c1_650 : Index := 1#32
  let v1172 : Index := Scalar.indexCast v1167
  let c0_651 : Index := 0#32
  let c0_652 : Index := 0#32
  ![1, v1172.toNat, 0, 0]

def k0_chk148 (v1167 : BitVec 32) : Prop :=
  (∀ a, (k0_off490 v1167) a + S1x3x7x256.size a ≤ S32x14x7x256.size a)
theorem k0_off490_inb : ∀ (v1167 : BitVec 32) (k0_hw148 : k0_chk148 v1167), ∀ a, (k0_off490 v1167) a + S1x3x7x256.size a ≤ S32x14x7x256.size a := fun v1167 k0_hw148 => k0_hw148

def k0_off491 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1188 : Index := Scalar.indexCast v900
  let c53_658 : Index := 53#32
  ![v1188.toNat, 53]
def k0_off492 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1190 : Index := Scalar.indexCast v900
  let c54_659 : Index := 54#32
  ![v1190.toNat, 54]
def k0_off493 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1192 : Index := Scalar.indexCast v900
  let c55_660 : Index := 55#32
  ![v1192.toNat, 55]
def k0_off494 (v1189 : BitVec 32) : Fin 4 → Nat :=
  let c1_661 : Index := 1#32
  let v1194 : Index := Scalar.indexCast v1189
  let c0_662 : Index := 0#32
  let c0_663 : Index := 0#32
  ![1, v1194.toNat, 0, 0]

def k0_chk149 (v1189 : BitVec 32) : Prop :=
  (∀ a, (k0_off494 v1189) a + S1x3x7x256.size a ≤ S32x14x7x256.size a)
theorem k0_off494_inb : ∀ (v1189 : BitVec 32) (k0_hw149 : k0_chk149 v1189), ∀ a, (k0_off494 v1189) a + S1x3x7x256.size a ≤ S32x14x7x256.size a := fun v1189 k0_hw149 => k0_hw149

def k0_off495 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1210 : Index := Scalar.indexCast v900
  let c56_669 : Index := 56#32
  ![v1210.toNat, 56]
def k0_off496 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1212 : Index := Scalar.indexCast v900
  let c57_670 : Index := 57#32
  ![v1212.toNat, 57]
def k0_off497 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1214 : Index := Scalar.indexCast v900
  let c58_671 : Index := 58#32
  ![v1214.toNat, 58]
def k0_off498 (v1211 : BitVec 32) : Fin 4 → Nat :=
  let c1_672 : Index := 1#32
  let v1216 : Index := Scalar.indexCast v1211
  let c0_673 : Index := 0#32
  let c0_674 : Index := 0#32
  ![1, v1216.toNat, 0, 0]

def k0_chk150 (v1211 : BitVec 32) : Prop :=
  (∀ a, (k0_off498 v1211) a + S1x3x7x256.size a ≤ S32x14x7x256.size a)
theorem k0_off498_inb : ∀ (v1211 : BitVec 32) (k0_hw150 : k0_chk150 v1211), ∀ a, (k0_off498 v1211) a + S1x3x7x256.size a ≤ S32x14x7x256.size a := fun v1211 k0_hw150 => k0_hw150

def k0_off499 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1232 : Index := Scalar.indexCast v900
  let c59_680 : Index := 59#32
  ![v1232.toNat, 59]
def k0_off500 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1234 : Index := Scalar.indexCast v900
  let c60_681 : Index := 60#32
  ![v1234.toNat, 60]
def k0_off501 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1236 : Index := Scalar.indexCast v900
  let c61_682 : Index := 61#32
  ![v1236.toNat, 61]
def k0_off502 (v1233 : BitVec 32) : Fin 4 → Nat :=
  let c1_683 : Index := 1#32
  let v1238 : Index := Scalar.indexCast v1233
  let c0_684 : Index := 0#32
  let c0_685 : Index := 0#32
  ![1, v1238.toNat, 0, 0]

def k0_chk151 (v1233 : BitVec 32) : Prop :=
  (∀ a, (k0_off502 v1233) a + S1x3x7x256.size a ≤ S32x14x7x256.size a)
theorem k0_off502_inb : ∀ (v1233 : BitVec 32) (k0_hw151 : k0_chk151 v1233), ∀ a, (k0_off502 v1233) a + S1x3x7x256.size a ≤ S32x14x7x256.size a := fun v1233 k0_hw151 => k0_hw151

def k0_off503 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1254 : Index := Scalar.indexCast v900
  let c62_691 : Index := 62#32
  ![v1254.toNat, 62]
def k0_off504 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1256 : Index := Scalar.indexCast v900
  let c63_692 : Index := 63#32
  ![v1256.toNat, 63]
def k0_off505 (i : grid0.Coords) : Fin 2 → Nat :=
  let c32_i32_501 : BitVec 32 := 32#32
  let arg0 : BitVec 32 := BitVec.ofNat 32 (i 0).val
  let v899 : BitVec 32 := Scalar.muli c32_i32_501 arg0
  let c1_i32_502 : BitVec 32 := 1#32
  let v900 : BitVec 32 := Scalar.addi v899 c1_i32_502
  let v1258 : Index := Scalar.indexCast v900
  let c64_693 : Index := 64#32
  ![v1258.toNat, 64]
def k0_off506 (v1255 : BitVec 32) : Fin 4 → Nat :=
  let c1_694 : Index := 1#32
  let v1260 : Index := Scalar.indexCast v1255
  let c0_695 : Index := 0#32
  let c0_696 : Index := 0#32
  ![1, v1260.toNat, 0, 0]

def k0_chk152 (v1255 : BitVec 32) : Prop :=
  (∀ a, (k0_off506 v1255) a + S1x3x7x256.size a ≤ S32x14x7x256.size a)
theorem k0_off506_inb : ∀ (v1255 : BitVec 32) (k0_hw152 : k0_chk152 v1255), ∀ a, (k0_off506 v1255) a + S1x3x7x256.size a ≤ S32x14x7x256.size a := fun v1255 k0_hw152 => k0_hw152

def k0_off507 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1281 : Index := Scalar.indexCast v1277
  let c16_707 : Index := 16#32
  ![v1281.toNat, 16]
def k0_off508 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1283 : Index := Scalar.indexCast v1277
  let c17_708 : Index := 17#32
  ![v1283.toNat, 17]
def k0_off509 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1285 : Index := Scalar.indexCast v1277
  let c18_709 : Index := 18#32
  ![v1285.toNat, 18]
def k0_off510 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1287 : Index := Scalar.indexCast v1277
  let c19_710 : Index := 19#32
  ![v1287.toNat, 19]
def k0_off511 (i : grid0.Coords) (v1282 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1289 : Index := Scalar.indexCast v1279
  let c0_711 : Index := 0#32
  let v1290 : Index := Scalar.indexCast v1282
  let c0_712 : Index := 0#32
  ![v1289.toNat, 0, v1290.toNat, 0]

def k0_chk153 (i : grid0.Coords) (v1282 : BitVec 32) : Prop :=
  (∀ a, (k0_off511 i v1282) a + S1x14x1x256.size a ≤ S64x14x24x256.size a)
theorem k0_off511_inb : ∀ (i : grid0.Coords) (v1282 : BitVec 32) (k0_hw153 : k0_chk153 i v1282), ∀ a, (k0_off511 i v1282) a + S1x14x1x256.size a ≤ S64x14x24x256.size a := fun i v1282 k0_hw153 => k0_hw153

def k0_off512 (i : grid0.Coords) (v1284 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1293 : Index := Scalar.indexCast v1279
  let c0_713 : Index := 0#32
  let v1294 : Index := Scalar.indexCast v1284
  let c0_714 : Index := 0#32
  ![v1293.toNat, 0, v1294.toNat, 0]

def k0_chk154 (i : grid0.Coords) (v1284 : BitVec 32) : Prop :=
  (∀ a, (k0_off512 i v1284) a + S1x14x1x256.size a ≤ S64x14x24x256.size a)
theorem k0_off512_inb : ∀ (i : grid0.Coords) (v1284 : BitVec 32) (k0_hw154 : k0_chk154 i v1284), ∀ a, (k0_off512 i v1284) a + S1x14x1x256.size a ≤ S64x14x24x256.size a := fun i v1284 k0_hw154 => k0_hw154

def k0_off513 (i : grid0.Coords) (v1286 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1297 : Index := Scalar.indexCast v1279
  let c0_715 : Index := 0#32
  let v1298 : Index := Scalar.indexCast v1286
  let c0_716 : Index := 0#32
  ![v1297.toNat, 0, v1298.toNat, 0]

def k0_chk155 (i : grid0.Coords) (v1286 : BitVec 32) : Prop :=
  (∀ a, (k0_off513 i v1286) a + S1x14x1x256.size a ≤ S64x14x24x256.size a)
theorem k0_off513_inb : ∀ (i : grid0.Coords) (v1286 : BitVec 32) (k0_hw155 : k0_chk155 i v1286), ∀ a, (k0_off513 i v1286) a + S1x14x1x256.size a ≤ S64x14x24x256.size a := fun i v1286 k0_hw155 => k0_hw155

def k0_off514 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1312 : Index := Scalar.indexCast v1277
  let c20_724 : Index := 20#32
  ![v1312.toNat, 20]
def k0_off515 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1314 : Index := Scalar.indexCast v1277
  let c21_725 : Index := 21#32
  ![v1314.toNat, 21]
def k0_off516 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1316 : Index := Scalar.indexCast v1277
  let c22_726 : Index := 22#32
  ![v1316.toNat, 22]
def k0_off517 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1318 : Index := Scalar.indexCast v1277
  let c23_727 : Index := 23#32
  ![v1318.toNat, 23]
def k0_off518 (i : grid0.Coords) (v1313 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1320 : Index := Scalar.indexCast v1279
  let c0_728 : Index := 0#32
  let v1321 : Index := Scalar.indexCast v1313
  let c0_729 : Index := 0#32
  ![v1320.toNat, 0, v1321.toNat, 0]

def k0_chk156 (i : grid0.Coords) (v1313 : BitVec 32) : Prop :=
  (∀ a, (k0_off518 i v1313) a + S1x14x1x256.size a ≤ S64x14x24x256.size a)
theorem k0_off518_inb : ∀ (i : grid0.Coords) (v1313 : BitVec 32) (k0_hw156 : k0_chk156 i v1313), ∀ a, (k0_off518 i v1313) a + S1x14x1x256.size a ≤ S64x14x24x256.size a := fun i v1313 k0_hw156 => k0_hw156

def k0_off519 (i : grid0.Coords) (v1315 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1324 : Index := Scalar.indexCast v1279
  let c0_730 : Index := 0#32
  let v1325 : Index := Scalar.indexCast v1315
  let c0_731 : Index := 0#32
  ![v1324.toNat, 0, v1325.toNat, 0]

def k0_chk157 (i : grid0.Coords) (v1315 : BitVec 32) : Prop :=
  (∀ a, (k0_off519 i v1315) a + S1x14x1x256.size a ≤ S64x14x24x256.size a)
theorem k0_off519_inb : ∀ (i : grid0.Coords) (v1315 : BitVec 32) (k0_hw157 : k0_chk157 i v1315), ∀ a, (k0_off519 i v1315) a + S1x14x1x256.size a ≤ S64x14x24x256.size a := fun i v1315 k0_hw157 => k0_hw157

def k0_off520 (i : grid0.Coords) (v1317 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1328 : Index := Scalar.indexCast v1279
  let c0_732 : Index := 0#32
  let v1329 : Index := Scalar.indexCast v1317
  let c0_733 : Index := 0#32
  ![v1328.toNat, 0, v1329.toNat, 0]

def k0_chk158 (i : grid0.Coords) (v1317 : BitVec 32) : Prop :=
  (∀ a, (k0_off520 i v1317) a + S1x14x1x256.size a ≤ S64x14x24x256.size a)
theorem k0_off520_inb : ∀ (i : grid0.Coords) (v1317 : BitVec 32) (k0_hw158 : k0_chk158 i v1317), ∀ a, (k0_off520 i v1317) a + S1x14x1x256.size a ≤ S64x14x24x256.size a := fun i v1317 k0_hw158 => k0_hw158

def k0_off521 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1343 : Index := Scalar.indexCast v1277
  let c24_741 : Index := 24#32
  ![v1343.toNat, 24]
def k0_off522 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1345 : Index := Scalar.indexCast v1277
  let c25_742 : Index := 25#32
  ![v1345.toNat, 25]
def k0_off523 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1347 : Index := Scalar.indexCast v1277
  let c26_743 : Index := 26#32
  ![v1347.toNat, 26]
def k0_off524 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1349 : Index := Scalar.indexCast v1277
  let c27_744 : Index := 27#32
  ![v1349.toNat, 27]
def k0_off525 (i : grid0.Coords) (v1344 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1351 : Index := Scalar.indexCast v1279
  let c0_745 : Index := 0#32
  let v1352 : Index := Scalar.indexCast v1344
  let c0_746 : Index := 0#32
  ![v1351.toNat, 0, v1352.toNat, 0]

def k0_chk159 (i : grid0.Coords) (v1344 : BitVec 32) : Prop :=
  (∀ a, (k0_off525 i v1344) a + S1x14x1x256.size a ≤ S64x14x24x256.size a)
theorem k0_off525_inb : ∀ (i : grid0.Coords) (v1344 : BitVec 32) (k0_hw159 : k0_chk159 i v1344), ∀ a, (k0_off525 i v1344) a + S1x14x1x256.size a ≤ S64x14x24x256.size a := fun i v1344 k0_hw159 => k0_hw159

def k0_off526 (i : grid0.Coords) (v1346 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1355 : Index := Scalar.indexCast v1279
  let c0_747 : Index := 0#32
  let v1356 : Index := Scalar.indexCast v1346
  let c0_748 : Index := 0#32
  ![v1355.toNat, 0, v1356.toNat, 0]

def k0_chk160 (i : grid0.Coords) (v1346 : BitVec 32) : Prop :=
  (∀ a, (k0_off526 i v1346) a + S1x14x1x256.size a ≤ S64x14x24x256.size a)
theorem k0_off526_inb : ∀ (i : grid0.Coords) (v1346 : BitVec 32) (k0_hw160 : k0_chk160 i v1346), ∀ a, (k0_off526 i v1346) a + S1x14x1x256.size a ≤ S64x14x24x256.size a := fun i v1346 k0_hw160 => k0_hw160

def k0_off527 (i : grid0.Coords) (v1348 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1359 : Index := Scalar.indexCast v1279
  let c0_749 : Index := 0#32
  let v1360 : Index := Scalar.indexCast v1348
  let c0_750 : Index := 0#32
  ![v1359.toNat, 0, v1360.toNat, 0]

def k0_chk161 (i : grid0.Coords) (v1348 : BitVec 32) : Prop :=
  (∀ a, (k0_off527 i v1348) a + S1x14x1x256.size a ≤ S64x14x24x256.size a)
theorem k0_off527_inb : ∀ (i : grid0.Coords) (v1348 : BitVec 32) (k0_hw161 : k0_chk161 i v1348), ∀ a, (k0_off527 i v1348) a + S1x14x1x256.size a ≤ S64x14x24x256.size a := fun i v1348 k0_hw161 => k0_hw161

def k0_off528 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1374 : Index := Scalar.indexCast v1277
  let c28_758 : Index := 28#32
  ![v1374.toNat, 28]
def k0_off529 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1376 : Index := Scalar.indexCast v1277
  let c29_759 : Index := 29#32
  ![v1376.toNat, 29]
def k0_off530 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1378 : Index := Scalar.indexCast v1277
  let c30_760 : Index := 30#32
  ![v1378.toNat, 30]
def k0_off531 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1380 : Index := Scalar.indexCast v1277
  let c31_761 : Index := 31#32
  ![v1380.toNat, 31]
def k0_off532 (i : grid0.Coords) (v1375 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1382 : Index := Scalar.indexCast v1279
  let c0_762 : Index := 0#32
  let v1383 : Index := Scalar.indexCast v1375
  let c0_763 : Index := 0#32
  ![v1382.toNat, 0, v1383.toNat, 0]

def k0_chk162 (i : grid0.Coords) (v1375 : BitVec 32) : Prop :=
  (∀ a, (k0_off532 i v1375) a + S1x14x1x256.size a ≤ S64x14x24x256.size a)
theorem k0_off532_inb : ∀ (i : grid0.Coords) (v1375 : BitVec 32) (k0_hw162 : k0_chk162 i v1375), ∀ a, (k0_off532 i v1375) a + S1x14x1x256.size a ≤ S64x14x24x256.size a := fun i v1375 k0_hw162 => k0_hw162

def k0_off533 (i : grid0.Coords) (v1377 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1386 : Index := Scalar.indexCast v1279
  let c0_764 : Index := 0#32
  let v1387 : Index := Scalar.indexCast v1377
  let c0_765 : Index := 0#32
  ![v1386.toNat, 0, v1387.toNat, 0]

def k0_chk163 (i : grid0.Coords) (v1377 : BitVec 32) : Prop :=
  (∀ a, (k0_off533 i v1377) a + S1x14x1x256.size a ≤ S64x14x24x256.size a)
theorem k0_off533_inb : ∀ (i : grid0.Coords) (v1377 : BitVec 32) (k0_hw163 : k0_chk163 i v1377), ∀ a, (k0_off533 i v1377) a + S1x14x1x256.size a ≤ S64x14x24x256.size a := fun i v1377 k0_hw163 => k0_hw163

def k0_off534 (i : grid0.Coords) (v1379 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1390 : Index := Scalar.indexCast v1279
  let c0_766 : Index := 0#32
  let v1391 : Index := Scalar.indexCast v1379
  let c0_767 : Index := 0#32
  ![v1390.toNat, 0, v1391.toNat, 0]

def k0_chk164 (i : grid0.Coords) (v1379 : BitVec 32) : Prop :=
  (∀ a, (k0_off534 i v1379) a + S1x14x1x256.size a ≤ S64x14x24x256.size a)
theorem k0_off534_inb : ∀ (i : grid0.Coords) (v1379 : BitVec 32) (k0_hw164 : k0_chk164 i v1379), ∀ a, (k0_off534 i v1379) a + S1x14x1x256.size a ≤ S64x14x24x256.size a := fun i v1379 k0_hw164 => k0_hw164

def k0_off535 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1405 : Index := Scalar.indexCast v1277
  let c32_775 : Index := 32#32
  ![v1405.toNat, 32]
def k0_off536 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1407 : Index := Scalar.indexCast v1277
  let c33_776 : Index := 33#32
  ![v1407.toNat, 33]
def k0_off537 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1409 : Index := Scalar.indexCast v1277
  let c34_777 : Index := 34#32
  ![v1409.toNat, 34]
def k0_off538 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1411 : Index := Scalar.indexCast v1277
  let c35_778 : Index := 35#32
  ![v1411.toNat, 35]
def k0_off539 (i : grid0.Coords) (v1406 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1413 : Index := Scalar.indexCast v1279
  let c0_779 : Index := 0#32
  let v1414 : Index := Scalar.indexCast v1406
  let c0_780 : Index := 0#32
  ![v1413.toNat, 0, v1414.toNat, 0]

def k0_chk165 (i : grid0.Coords) (v1406 : BitVec 32) : Prop :=
  (∀ a, (k0_off539 i v1406) a + S1x14x1x256.size a ≤ S64x14x24x256.size a)
theorem k0_off539_inb : ∀ (i : grid0.Coords) (v1406 : BitVec 32) (k0_hw165 : k0_chk165 i v1406), ∀ a, (k0_off539 i v1406) a + S1x14x1x256.size a ≤ S64x14x24x256.size a := fun i v1406 k0_hw165 => k0_hw165

def k0_off540 (i : grid0.Coords) (v1408 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1417 : Index := Scalar.indexCast v1279
  let c0_781 : Index := 0#32
  let v1418 : Index := Scalar.indexCast v1408
  let c0_782 : Index := 0#32
  ![v1417.toNat, 0, v1418.toNat, 0]

def k0_chk166 (i : grid0.Coords) (v1408 : BitVec 32) : Prop :=
  (∀ a, (k0_off540 i v1408) a + S1x14x1x256.size a ≤ S64x14x24x256.size a)
theorem k0_off540_inb : ∀ (i : grid0.Coords) (v1408 : BitVec 32) (k0_hw166 : k0_chk166 i v1408), ∀ a, (k0_off540 i v1408) a + S1x14x1x256.size a ≤ S64x14x24x256.size a := fun i v1408 k0_hw166 => k0_hw166

def k0_off541 (i : grid0.Coords) (v1410 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1421 : Index := Scalar.indexCast v1279
  let c0_783 : Index := 0#32
  let v1422 : Index := Scalar.indexCast v1410
  let c0_784 : Index := 0#32
  ![v1421.toNat, 0, v1422.toNat, 0]

def k0_chk167 (i : grid0.Coords) (v1410 : BitVec 32) : Prop :=
  (∀ a, (k0_off541 i v1410) a + S1x14x1x256.size a ≤ S64x14x24x256.size a)
theorem k0_off541_inb : ∀ (i : grid0.Coords) (v1410 : BitVec 32) (k0_hw167 : k0_chk167 i v1410), ∀ a, (k0_off541 i v1410) a + S1x14x1x256.size a ≤ S64x14x24x256.size a := fun i v1410 k0_hw167 => k0_hw167

def k0_off542 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1436 : Index := Scalar.indexCast v1277
  let c36_792 : Index := 36#32
  ![v1436.toNat, 36]
def k0_off543 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1438 : Index := Scalar.indexCast v1277
  let c37_793 : Index := 37#32
  ![v1438.toNat, 37]
def k0_off544 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1440 : Index := Scalar.indexCast v1277
  let c38_794 : Index := 38#32
  ![v1440.toNat, 38]
def k0_off545 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1442 : Index := Scalar.indexCast v1277
  let c39_795 : Index := 39#32
  ![v1442.toNat, 39]
def k0_off546 (i : grid0.Coords) (v1437 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1444 : Index := Scalar.indexCast v1279
  let c0_796 : Index := 0#32
  let v1445 : Index := Scalar.indexCast v1437
  let c0_797 : Index := 0#32
  ![v1444.toNat, 0, v1445.toNat, 0]

def k0_chk168 (i : grid0.Coords) (v1437 : BitVec 32) : Prop :=
  (∀ a, (k0_off546 i v1437) a + S1x14x1x256.size a ≤ S64x14x24x256.size a)
theorem k0_off546_inb : ∀ (i : grid0.Coords) (v1437 : BitVec 32) (k0_hw168 : k0_chk168 i v1437), ∀ a, (k0_off546 i v1437) a + S1x14x1x256.size a ≤ S64x14x24x256.size a := fun i v1437 k0_hw168 => k0_hw168

def k0_off547 (i : grid0.Coords) (v1439 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1448 : Index := Scalar.indexCast v1279
  let c0_798 : Index := 0#32
  let v1449 : Index := Scalar.indexCast v1439
  let c0_799 : Index := 0#32
  ![v1448.toNat, 0, v1449.toNat, 0]

def k0_chk169 (i : grid0.Coords) (v1439 : BitVec 32) : Prop :=
  (∀ a, (k0_off547 i v1439) a + S1x14x1x256.size a ≤ S64x14x24x256.size a)
theorem k0_off547_inb : ∀ (i : grid0.Coords) (v1439 : BitVec 32) (k0_hw169 : k0_chk169 i v1439), ∀ a, (k0_off547 i v1439) a + S1x14x1x256.size a ≤ S64x14x24x256.size a := fun i v1439 k0_hw169 => k0_hw169

def k0_off548 (i : grid0.Coords) (v1441 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1452 : Index := Scalar.indexCast v1279
  let c0_800 : Index := 0#32
  let v1453 : Index := Scalar.indexCast v1441
  let c0_801 : Index := 0#32
  ![v1452.toNat, 0, v1453.toNat, 0]

def k0_chk170 (i : grid0.Coords) (v1441 : BitVec 32) : Prop :=
  (∀ a, (k0_off548 i v1441) a + S1x14x1x256.size a ≤ S64x14x24x256.size a)
theorem k0_off548_inb : ∀ (i : grid0.Coords) (v1441 : BitVec 32) (k0_hw170 : k0_chk170 i v1441), ∀ a, (k0_off548 i v1441) a + S1x14x1x256.size a ≤ S64x14x24x256.size a := fun i v1441 k0_hw170 => k0_hw170

def k0_off549 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1467 : Index := Scalar.indexCast v1277
  let c40_809 : Index := 40#32
  ![v1467.toNat, 40]
def k0_off550 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1469 : Index := Scalar.indexCast v1277
  let c41_810 : Index := 41#32
  ![v1469.toNat, 41]
def k0_off551 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1471 : Index := Scalar.indexCast v1277
  let c42_811 : Index := 42#32
  ![v1471.toNat, 42]
def k0_off552 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1473 : Index := Scalar.indexCast v1277
  let c43_812 : Index := 43#32
  ![v1473.toNat, 43]
def k0_off553 (i : grid0.Coords) (v1468 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1475 : Index := Scalar.indexCast v1279
  let c0_813 : Index := 0#32
  let v1476 : Index := Scalar.indexCast v1468
  let c0_814 : Index := 0#32
  ![v1475.toNat, 0, v1476.toNat, 0]

def k0_chk171 (i : grid0.Coords) (v1468 : BitVec 32) : Prop :=
  (∀ a, (k0_off553 i v1468) a + S1x14x1x256.size a ≤ S64x14x24x256.size a)
theorem k0_off553_inb : ∀ (i : grid0.Coords) (v1468 : BitVec 32) (k0_hw171 : k0_chk171 i v1468), ∀ a, (k0_off553 i v1468) a + S1x14x1x256.size a ≤ S64x14x24x256.size a := fun i v1468 k0_hw171 => k0_hw171

def k0_off554 (i : grid0.Coords) (v1470 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1479 : Index := Scalar.indexCast v1279
  let c0_815 : Index := 0#32
  let v1480 : Index := Scalar.indexCast v1470
  let c0_816 : Index := 0#32
  ![v1479.toNat, 0, v1480.toNat, 0]

def k0_chk172 (i : grid0.Coords) (v1470 : BitVec 32) : Prop :=
  (∀ a, (k0_off554 i v1470) a + S1x14x1x256.size a ≤ S64x14x24x256.size a)
theorem k0_off554_inb : ∀ (i : grid0.Coords) (v1470 : BitVec 32) (k0_hw172 : k0_chk172 i v1470), ∀ a, (k0_off554 i v1470) a + S1x14x1x256.size a ≤ S64x14x24x256.size a := fun i v1470 k0_hw172 => k0_hw172

def k0_off555 (i : grid0.Coords) (v1472 : BitVec 32) : Fin 4 → Nat :=
  let c32_i32_704 : BitVec 32 := 32#32
  let arg0 : BitVec 32 := BitVec.ofNat 32 (i 0).val
  let c2_i32 : BitVec 32 := 2#32
  let v0 : BitVec 32 := Scalar.remsi arg0 c2_i32
  let v1278 : BitVec 32 := Scalar.muli c32_i32_704 v0
  let c2_i32_705 : BitVec 32 := 2#32
  let v1279 : BitVec 32 := Scalar.addi v1278 c2_i32_705
  let v1483 : Index := Scalar.indexCast v1279
  let c0_817 : Index := 0#32
  let v1484 : Index := Scalar.indexCast v1472
  let c0_818 : Index := 0#32
  ![v1483.toNat, 0, v1484.toNat, 0]

def k0_chk173 (i : grid0.Coords) (v1472 : BitVec 32) : Prop :=
  (∀ a, (k0_off555 i v1472) a + S1x14x1x256.size a ≤ S64x14x24x256.size a)
theorem k0_off555_inb : ∀ (i : grid0.Coords) (v1472 : BitVec 32) (k0_hw173 : k0_chk173 i v1472), ∀ a, (k0_off555 i v1472) a + S1x14x1x256.size a ≤ S64x14x24x256.size a := fun i v1472 k0_hw173 => k0_hw173

def k0_off556 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1499 : Index := Scalar.indexCast v1277
  let c44_826 : Index := 44#32
  ![v1499.toNat, 44]
def k0_off557 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1501 : Index := Scalar.indexCast v1277
  let c45_827 : Index := 45#32
  ![v1501.toNat, 45]
def k0_off558 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1503 : Index := Scalar.indexCast v1277
  let c46_828 : Index := 46#32
  ![v1503.toNat, 46]
def k0_off559 (v1500 : BitVec 32) : Fin 4 → Nat :=
  let c2_829 : Index := 2#32
  let v1505 : Index := Scalar.indexCast v1500
  let c0_830 : Index := 0#32
  let c0_831 : Index := 0#32
  ![2, v1505.toNat, 0, 0]

def k0_chk174 (v1500 : BitVec 32) : Prop :=
  (∀ a, (k0_off559 v1500) a + S1x3x7x256.size a ≤ S32x14x7x256.size a)
theorem k0_off559_inb : ∀ (v1500 : BitVec 32) (k0_hw174 : k0_chk174 v1500), ∀ a, (k0_off559 v1500) a + S1x3x7x256.size a ≤ S32x14x7x256.size a := fun v1500 k0_hw174 => k0_hw174

def k0_off560 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1521 : Index := Scalar.indexCast v1277
  let c47_837 : Index := 47#32
  ![v1521.toNat, 47]
def k0_off561 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1523 : Index := Scalar.indexCast v1277
  let c48_838 : Index := 48#32
  ![v1523.toNat, 48]
def k0_off562 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1525 : Index := Scalar.indexCast v1277
  let c49_839 : Index := 49#32
  ![v1525.toNat, 49]
def k0_off563 (v1522 : BitVec 32) : Fin 4 → Nat :=
  let c2_840 : Index := 2#32
  let v1527 : Index := Scalar.indexCast v1522
  let c0_841 : Index := 0#32
  let c0_842 : Index := 0#32
  ![2, v1527.toNat, 0, 0]

def k0_chk175 (v1522 : BitVec 32) : Prop :=
  (∀ a, (k0_off563 v1522) a + S1x3x7x256.size a ≤ S32x14x7x256.size a)
theorem k0_off563_inb : ∀ (v1522 : BitVec 32) (k0_hw175 : k0_chk175 v1522), ∀ a, (k0_off563 v1522) a + S1x3x7x256.size a ≤ S32x14x7x256.size a := fun v1522 k0_hw175 => k0_hw175

def k0_off564 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1543 : Index := Scalar.indexCast v1277
  let c50_848 : Index := 50#32
  ![v1543.toNat, 50]
def k0_off565 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1545 : Index := Scalar.indexCast v1277
  let c51_849 : Index := 51#32
  ![v1545.toNat, 51]
def k0_off566 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1547 : Index := Scalar.indexCast v1277
  let c52_850 : Index := 52#32
  ![v1547.toNat, 52]
def k0_off567 (v1544 : BitVec 32) : Fin 4 → Nat :=
  let c2_851 : Index := 2#32
  let v1549 : Index := Scalar.indexCast v1544
  let c0_852 : Index := 0#32
  let c0_853 : Index := 0#32
  ![2, v1549.toNat, 0, 0]

def k0_chk176 (v1544 : BitVec 32) : Prop :=
  (∀ a, (k0_off567 v1544) a + S1x3x7x256.size a ≤ S32x14x7x256.size a)
theorem k0_off567_inb : ∀ (v1544 : BitVec 32) (k0_hw176 : k0_chk176 v1544), ∀ a, (k0_off567 v1544) a + S1x3x7x256.size a ≤ S32x14x7x256.size a := fun v1544 k0_hw176 => k0_hw176

def k0_off568 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1565 : Index := Scalar.indexCast v1277
  let c53_859 : Index := 53#32
  ![v1565.toNat, 53]
def k0_off569 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1567 : Index := Scalar.indexCast v1277
  let c54_860 : Index := 54#32
  ![v1567.toNat, 54]
def k0_off570 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1569 : Index := Scalar.indexCast v1277
  let c55_861 : Index := 55#32
  ![v1569.toNat, 55]
def k0_off571 (v1566 : BitVec 32) : Fin 4 → Nat :=
  let c2_862 : Index := 2#32
  let v1571 : Index := Scalar.indexCast v1566
  let c0_863 : Index := 0#32
  let c0_864 : Index := 0#32
  ![2, v1571.toNat, 0, 0]

def k0_chk177 (v1566 : BitVec 32) : Prop :=
  (∀ a, (k0_off571 v1566) a + S1x3x7x256.size a ≤ S32x14x7x256.size a)
theorem k0_off571_inb : ∀ (v1566 : BitVec 32) (k0_hw177 : k0_chk177 v1566), ∀ a, (k0_off571 v1566) a + S1x3x7x256.size a ≤ S32x14x7x256.size a := fun v1566 k0_hw177 => k0_hw177

def k0_off572 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1587 : Index := Scalar.indexCast v1277
  let c56_870 : Index := 56#32
  ![v1587.toNat, 56]
def k0_off573 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1589 : Index := Scalar.indexCast v1277
  let c57_871 : Index := 57#32
  ![v1589.toNat, 57]
def k0_off574 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1591 : Index := Scalar.indexCast v1277
  let c58_872 : Index := 58#32
  ![v1591.toNat, 58]
def k0_off575 (v1588 : BitVec 32) : Fin 4 → Nat :=
  let c2_873 : Index := 2#32
  let v1593 : Index := Scalar.indexCast v1588
  let c0_874 : Index := 0#32
  let c0_875 : Index := 0#32
  ![2, v1593.toNat, 0, 0]

def k0_chk178 (v1588 : BitVec 32) : Prop :=
  (∀ a, (k0_off575 v1588) a + S1x3x7x256.size a ≤ S32x14x7x256.size a)
theorem k0_off575_inb : ∀ (v1588 : BitVec 32) (k0_hw178 : k0_chk178 v1588), ∀ a, (k0_off575 v1588) a + S1x3x7x256.size a ≤ S32x14x7x256.size a := fun v1588 k0_hw178 => k0_hw178

def k0_off576 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1609 : Index := Scalar.indexCast v1277
  let c59_881 : Index := 59#32
  ![v1609.toNat, 59]
def k0_off577 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1611 : Index := Scalar.indexCast v1277
  let c60_882 : Index := 60#32
  ![v1611.toNat, 60]
def k0_off578 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1613 : Index := Scalar.indexCast v1277
  let c61_883 : Index := 61#32
  ![v1613.toNat, 61]
def k0_off579 (v1610 : BitVec 32) : Fin 4 → Nat :=
  let c2_884 : Index := 2#32
  let v1615 : Index := Scalar.indexCast v1610
  let c0_885 : Index := 0#32
  let c0_886 : Index := 0#32
  ![2, v1615.toNat, 0, 0]

def k0_chk179 (v1610 : BitVec 32) : Prop :=
  (∀ a, (k0_off579 v1610) a + S1x3x7x256.size a ≤ S32x14x7x256.size a)
theorem k0_off579_inb : ∀ (v1610 : BitVec 32) (k0_hw179 : k0_chk179 v1610), ∀ a, (k0_off579 v1610) a + S1x3x7x256.size a ≤ S32x14x7x256.size a := fun v1610 k0_hw179 => k0_hw179

def k0_off580 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1631 : Index := Scalar.indexCast v1277
  let c62_892 : Index := 62#32
  ![v1631.toNat, 62]
def k0_off581 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1633 : Index := Scalar.indexCast v1277
  let c63_893 : Index := 63#32
  ![v1633.toNat, 63]
def k0_off582 (i : grid0.Coords) : Fin 2 → Nat :=
  let c32_i32_702 : BitVec 32 := 32#32
  let arg0 : BitVec 32 := BitVec.ofNat 32 (i 0).val
  let v1276 : BitVec 32 := Scalar.muli c32_i32_702 arg0
  let c2_i32_703 : BitVec 32 := 2#32
  let v1277 : BitVec 32 := Scalar.addi v1276 c2_i32_703
  let v1635 : Index := Scalar.indexCast v1277
  let c64_894 : Index := 64#32
  ![v1635.toNat, 64]
def k0_off583 (v1632 : BitVec 32) : Fin 4 → Nat :=
  let c2_895 : Index := 2#32
  let v1637 : Index := Scalar.indexCast v1632
  let c0_896 : Index := 0#32
  let c0_897 : Index := 0#32
  ![2, v1637.toNat, 0, 0]

def k0_chk180 (v1632 : BitVec 32) : Prop :=
  (∀ a, (k0_off583 v1632) a + S1x3x7x256.size a ≤ S32x14x7x256.size a)
theorem k0_off583_inb : ∀ (v1632 : BitVec 32) (k0_hw180 : k0_chk180 v1632), ∀ a, (k0_off583 v1632) a + S1x3x7x256.size a ≤ S32x14x7x256.size a := fun v1632 k0_hw180 => k0_hw180

def k0_off584 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1658 : Index := Scalar.indexCast v1654
  let c16_908 : Index := 16#32
  ![v1658.toNat, 16]
def k0_off585 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1660 : Index := Scalar.indexCast v1654
  let c17_909 : Index := 17#32
  ![v1660.toNat, 17]
def k0_off586 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1662 : Index := Scalar.indexCast v1654
  let c18_910 : Index := 18#32
  ![v1662.toNat, 18]
def k0_off587 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1664 : Index := Scalar.indexCast v1654
  let c19_911 : Index := 19#32
  ![v1664.toNat, 19]
def k0_off588 (i : grid0.Coords) (v1659 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1666 : Index := Scalar.indexCast v1656
  let c0_912 : Index := 0#32
  let v1667 : Index := Scalar.indexCast v1659
  let c0_913 : Index := 0#32
  ![v1666.toNat, 0, v1667.toNat, 0]

def k0_chk181 (i : grid0.Coords) (v1659 : BitVec 32) : Prop :=
  (∀ a, (k0_off588 i v1659) a + S1x14x1x256.size a ≤ S64x14x24x256.size a)
theorem k0_off588_inb : ∀ (i : grid0.Coords) (v1659 : BitVec 32) (k0_hw181 : k0_chk181 i v1659), ∀ a, (k0_off588 i v1659) a + S1x14x1x256.size a ≤ S64x14x24x256.size a := fun i v1659 k0_hw181 => k0_hw181

def k0_off589 (i : grid0.Coords) (v1661 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1670 : Index := Scalar.indexCast v1656
  let c0_914 : Index := 0#32
  let v1671 : Index := Scalar.indexCast v1661
  let c0_915 : Index := 0#32
  ![v1670.toNat, 0, v1671.toNat, 0]

def k0_chk182 (i : grid0.Coords) (v1661 : BitVec 32) : Prop :=
  (∀ a, (k0_off589 i v1661) a + S1x14x1x256.size a ≤ S64x14x24x256.size a)
theorem k0_off589_inb : ∀ (i : grid0.Coords) (v1661 : BitVec 32) (k0_hw182 : k0_chk182 i v1661), ∀ a, (k0_off589 i v1661) a + S1x14x1x256.size a ≤ S64x14x24x256.size a := fun i v1661 k0_hw182 => k0_hw182

def k0_off590 (i : grid0.Coords) (v1663 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1674 : Index := Scalar.indexCast v1656
  let c0_916 : Index := 0#32
  let v1675 : Index := Scalar.indexCast v1663
  let c0_917 : Index := 0#32
  ![v1674.toNat, 0, v1675.toNat, 0]

def k0_chk183 (i : grid0.Coords) (v1663 : BitVec 32) : Prop :=
  (∀ a, (k0_off590 i v1663) a + S1x14x1x256.size a ≤ S64x14x24x256.size a)
theorem k0_off590_inb : ∀ (i : grid0.Coords) (v1663 : BitVec 32) (k0_hw183 : k0_chk183 i v1663), ∀ a, (k0_off590 i v1663) a + S1x14x1x256.size a ≤ S64x14x24x256.size a := fun i v1663 k0_hw183 => k0_hw183

def k0_off591 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1689 : Index := Scalar.indexCast v1654
  let c20_925 : Index := 20#32
  ![v1689.toNat, 20]
def k0_off592 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1691 : Index := Scalar.indexCast v1654
  let c21_926 : Index := 21#32
  ![v1691.toNat, 21]
def k0_off593 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1693 : Index := Scalar.indexCast v1654
  let c22_927 : Index := 22#32
  ![v1693.toNat, 22]
def k0_off594 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1695 : Index := Scalar.indexCast v1654
  let c23_928 : Index := 23#32
  ![v1695.toNat, 23]
def k0_off595 (i : grid0.Coords) (v1690 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1697 : Index := Scalar.indexCast v1656
  let c0_929 : Index := 0#32
  let v1698 : Index := Scalar.indexCast v1690
  let c0_930 : Index := 0#32
  ![v1697.toNat, 0, v1698.toNat, 0]

def k0_chk184 (i : grid0.Coords) (v1690 : BitVec 32) : Prop :=
  (∀ a, (k0_off595 i v1690) a + S1x14x1x256.size a ≤ S64x14x24x256.size a)
theorem k0_off595_inb : ∀ (i : grid0.Coords) (v1690 : BitVec 32) (k0_hw184 : k0_chk184 i v1690), ∀ a, (k0_off595 i v1690) a + S1x14x1x256.size a ≤ S64x14x24x256.size a := fun i v1690 k0_hw184 => k0_hw184

def k0_off596 (i : grid0.Coords) (v1692 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1701 : Index := Scalar.indexCast v1656
  let c0_931 : Index := 0#32
  let v1702 : Index := Scalar.indexCast v1692
  let c0_932 : Index := 0#32
  ![v1701.toNat, 0, v1702.toNat, 0]

def k0_chk185 (i : grid0.Coords) (v1692 : BitVec 32) : Prop :=
  (∀ a, (k0_off596 i v1692) a + S1x14x1x256.size a ≤ S64x14x24x256.size a)
theorem k0_off596_inb : ∀ (i : grid0.Coords) (v1692 : BitVec 32) (k0_hw185 : k0_chk185 i v1692), ∀ a, (k0_off596 i v1692) a + S1x14x1x256.size a ≤ S64x14x24x256.size a := fun i v1692 k0_hw185 => k0_hw185

def k0_off597 (i : grid0.Coords) (v1694 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1705 : Index := Scalar.indexCast v1656
  let c0_933 : Index := 0#32
  let v1706 : Index := Scalar.indexCast v1694
  let c0_934 : Index := 0#32
  ![v1705.toNat, 0, v1706.toNat, 0]

def k0_chk186 (i : grid0.Coords) (v1694 : BitVec 32) : Prop :=
  (∀ a, (k0_off597 i v1694) a + S1x14x1x256.size a ≤ S64x14x24x256.size a)
theorem k0_off597_inb : ∀ (i : grid0.Coords) (v1694 : BitVec 32) (k0_hw186 : k0_chk186 i v1694), ∀ a, (k0_off597 i v1694) a + S1x14x1x256.size a ≤ S64x14x24x256.size a := fun i v1694 k0_hw186 => k0_hw186

def k0_off598 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1720 : Index := Scalar.indexCast v1654
  let c24_942 : Index := 24#32
  ![v1720.toNat, 24]
def k0_off599 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1722 : Index := Scalar.indexCast v1654
  let c25_943 : Index := 25#32
  ![v1722.toNat, 25]
def k0_off600 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1724 : Index := Scalar.indexCast v1654
  let c26_944 : Index := 26#32
  ![v1724.toNat, 26]
def k0_off601 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1726 : Index := Scalar.indexCast v1654
  let c27_945 : Index := 27#32
  ![v1726.toNat, 27]
def k0_off602 (i : grid0.Coords) (v1721 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1728 : Index := Scalar.indexCast v1656
  let c0_946 : Index := 0#32
  let v1729 : Index := Scalar.indexCast v1721
  let c0_947 : Index := 0#32
  ![v1728.toNat, 0, v1729.toNat, 0]

def k0_chk187 (i : grid0.Coords) (v1721 : BitVec 32) : Prop :=
  (∀ a, (k0_off602 i v1721) a + S1x14x1x256.size a ≤ S64x14x24x256.size a)
theorem k0_off602_inb : ∀ (i : grid0.Coords) (v1721 : BitVec 32) (k0_hw187 : k0_chk187 i v1721), ∀ a, (k0_off602 i v1721) a + S1x14x1x256.size a ≤ S64x14x24x256.size a := fun i v1721 k0_hw187 => k0_hw187

def k0_off603 (i : grid0.Coords) (v1723 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1732 : Index := Scalar.indexCast v1656
  let c0_948 : Index := 0#32
  let v1733 : Index := Scalar.indexCast v1723
  let c0_949 : Index := 0#32
  ![v1732.toNat, 0, v1733.toNat, 0]

def k0_chk188 (i : grid0.Coords) (v1723 : BitVec 32) : Prop :=
  (∀ a, (k0_off603 i v1723) a + S1x14x1x256.size a ≤ S64x14x24x256.size a)
theorem k0_off603_inb : ∀ (i : grid0.Coords) (v1723 : BitVec 32) (k0_hw188 : k0_chk188 i v1723), ∀ a, (k0_off603 i v1723) a + S1x14x1x256.size a ≤ S64x14x24x256.size a := fun i v1723 k0_hw188 => k0_hw188

def k0_off604 (i : grid0.Coords) (v1725 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1736 : Index := Scalar.indexCast v1656
  let c0_950 : Index := 0#32
  let v1737 : Index := Scalar.indexCast v1725
  let c0_951 : Index := 0#32
  ![v1736.toNat, 0, v1737.toNat, 0]

def k0_chk189 (i : grid0.Coords) (v1725 : BitVec 32) : Prop :=
  (∀ a, (k0_off604 i v1725) a + S1x14x1x256.size a ≤ S64x14x24x256.size a)
theorem k0_off604_inb : ∀ (i : grid0.Coords) (v1725 : BitVec 32) (k0_hw189 : k0_chk189 i v1725), ∀ a, (k0_off604 i v1725) a + S1x14x1x256.size a ≤ S64x14x24x256.size a := fun i v1725 k0_hw189 => k0_hw189

def k0_off605 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1751 : Index := Scalar.indexCast v1654
  let c28_959 : Index := 28#32
  ![v1751.toNat, 28]
def k0_off606 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1753 : Index := Scalar.indexCast v1654
  let c29_960 : Index := 29#32
  ![v1753.toNat, 29]
def k0_off607 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1755 : Index := Scalar.indexCast v1654
  let c30_961 : Index := 30#32
  ![v1755.toNat, 30]
def k0_off608 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1757 : Index := Scalar.indexCast v1654
  let c31_962 : Index := 31#32
  ![v1757.toNat, 31]
def k0_off609 (i : grid0.Coords) (v1752 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1759 : Index := Scalar.indexCast v1656
  let c0_963 : Index := 0#32
  let v1760 : Index := Scalar.indexCast v1752
  let c0_964 : Index := 0#32
  ![v1759.toNat, 0, v1760.toNat, 0]

def k0_chk190 (i : grid0.Coords) (v1752 : BitVec 32) : Prop :=
  (∀ a, (k0_off609 i v1752) a + S1x14x1x256.size a ≤ S64x14x24x256.size a)
theorem k0_off609_inb : ∀ (i : grid0.Coords) (v1752 : BitVec 32) (k0_hw190 : k0_chk190 i v1752), ∀ a, (k0_off609 i v1752) a + S1x14x1x256.size a ≤ S64x14x24x256.size a := fun i v1752 k0_hw190 => k0_hw190

def k0_off610 (i : grid0.Coords) (v1754 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1763 : Index := Scalar.indexCast v1656
  let c0_965 : Index := 0#32
  let v1764 : Index := Scalar.indexCast v1754
  let c0_966 : Index := 0#32
  ![v1763.toNat, 0, v1764.toNat, 0]

def k0_chk191 (i : grid0.Coords) (v1754 : BitVec 32) : Prop :=
  (∀ a, (k0_off610 i v1754) a + S1x14x1x256.size a ≤ S64x14x24x256.size a)
theorem k0_off610_inb : ∀ (i : grid0.Coords) (v1754 : BitVec 32) (k0_hw191 : k0_chk191 i v1754), ∀ a, (k0_off610 i v1754) a + S1x14x1x256.size a ≤ S64x14x24x256.size a := fun i v1754 k0_hw191 => k0_hw191

def k0_off611 (i : grid0.Coords) (v1756 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1767 : Index := Scalar.indexCast v1656
  let c0_967 : Index := 0#32
  let v1768 : Index := Scalar.indexCast v1756
  let c0_968 : Index := 0#32
  ![v1767.toNat, 0, v1768.toNat, 0]

def k0_chk192 (i : grid0.Coords) (v1756 : BitVec 32) : Prop :=
  (∀ a, (k0_off611 i v1756) a + S1x14x1x256.size a ≤ S64x14x24x256.size a)
theorem k0_off611_inb : ∀ (i : grid0.Coords) (v1756 : BitVec 32) (k0_hw192 : k0_chk192 i v1756), ∀ a, (k0_off611 i v1756) a + S1x14x1x256.size a ≤ S64x14x24x256.size a := fun i v1756 k0_hw192 => k0_hw192

def k0_off612 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1782 : Index := Scalar.indexCast v1654
  let c32_976 : Index := 32#32
  ![v1782.toNat, 32]
def k0_off613 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1784 : Index := Scalar.indexCast v1654
  let c33_977 : Index := 33#32
  ![v1784.toNat, 33]
def k0_off614 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1786 : Index := Scalar.indexCast v1654
  let c34_978 : Index := 34#32
  ![v1786.toNat, 34]
def k0_off615 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1788 : Index := Scalar.indexCast v1654
  let c35_979 : Index := 35#32
  ![v1788.toNat, 35]
def k0_off616 (i : grid0.Coords) (v1783 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1790 : Index := Scalar.indexCast v1656
  let c0_980 : Index := 0#32
  let v1791 : Index := Scalar.indexCast v1783
  let c0_981 : Index := 0#32
  ![v1790.toNat, 0, v1791.toNat, 0]

def k0_chk193 (i : grid0.Coords) (v1783 : BitVec 32) : Prop :=
  (∀ a, (k0_off616 i v1783) a + S1x14x1x256.size a ≤ S64x14x24x256.size a)
theorem k0_off616_inb : ∀ (i : grid0.Coords) (v1783 : BitVec 32) (k0_hw193 : k0_chk193 i v1783), ∀ a, (k0_off616 i v1783) a + S1x14x1x256.size a ≤ S64x14x24x256.size a := fun i v1783 k0_hw193 => k0_hw193

def k0_off617 (i : grid0.Coords) (v1785 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1794 : Index := Scalar.indexCast v1656
  let c0_982 : Index := 0#32
  let v1795 : Index := Scalar.indexCast v1785
  let c0_983 : Index := 0#32
  ![v1794.toNat, 0, v1795.toNat, 0]

def k0_chk194 (i : grid0.Coords) (v1785 : BitVec 32) : Prop :=
  (∀ a, (k0_off617 i v1785) a + S1x14x1x256.size a ≤ S64x14x24x256.size a)
theorem k0_off617_inb : ∀ (i : grid0.Coords) (v1785 : BitVec 32) (k0_hw194 : k0_chk194 i v1785), ∀ a, (k0_off617 i v1785) a + S1x14x1x256.size a ≤ S64x14x24x256.size a := fun i v1785 k0_hw194 => k0_hw194

def k0_off618 (i : grid0.Coords) (v1787 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1798 : Index := Scalar.indexCast v1656
  let c0_984 : Index := 0#32
  let v1799 : Index := Scalar.indexCast v1787
  let c0_985 : Index := 0#32
  ![v1798.toNat, 0, v1799.toNat, 0]

def k0_chk195 (i : grid0.Coords) (v1787 : BitVec 32) : Prop :=
  (∀ a, (k0_off618 i v1787) a + S1x14x1x256.size a ≤ S64x14x24x256.size a)
theorem k0_off618_inb : ∀ (i : grid0.Coords) (v1787 : BitVec 32) (k0_hw195 : k0_chk195 i v1787), ∀ a, (k0_off618 i v1787) a + S1x14x1x256.size a ≤ S64x14x24x256.size a := fun i v1787 k0_hw195 => k0_hw195

def k0_off619 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1813 : Index := Scalar.indexCast v1654
  let c36_993 : Index := 36#32
  ![v1813.toNat, 36]
def k0_off620 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1815 : Index := Scalar.indexCast v1654
  let c37_994 : Index := 37#32
  ![v1815.toNat, 37]
def k0_off621 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1817 : Index := Scalar.indexCast v1654
  let c38_995 : Index := 38#32
  ![v1817.toNat, 38]
def k0_off622 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1819 : Index := Scalar.indexCast v1654
  let c39_996 : Index := 39#32
  ![v1819.toNat, 39]
def k0_off623 (i : grid0.Coords) (v1814 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1821 : Index := Scalar.indexCast v1656
  let c0_997 : Index := 0#32
  let v1822 : Index := Scalar.indexCast v1814
  let c0_998 : Index := 0#32
  ![v1821.toNat, 0, v1822.toNat, 0]

def k0_chk196 (i : grid0.Coords) (v1814 : BitVec 32) : Prop :=
  (∀ a, (k0_off623 i v1814) a + S1x14x1x256.size a ≤ S64x14x24x256.size a)
theorem k0_off623_inb : ∀ (i : grid0.Coords) (v1814 : BitVec 32) (k0_hw196 : k0_chk196 i v1814), ∀ a, (k0_off623 i v1814) a + S1x14x1x256.size a ≤ S64x14x24x256.size a := fun i v1814 k0_hw196 => k0_hw196

def k0_off624 (i : grid0.Coords) (v1816 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1825 : Index := Scalar.indexCast v1656
  let c0_999 : Index := 0#32
  let v1826 : Index := Scalar.indexCast v1816
  let c0_1000 : Index := 0#32
  ![v1825.toNat, 0, v1826.toNat, 0]

def k0_chk197 (i : grid0.Coords) (v1816 : BitVec 32) : Prop :=
  (∀ a, (k0_off624 i v1816) a + S1x14x1x256.size a ≤ S64x14x24x256.size a)
theorem k0_off624_inb : ∀ (i : grid0.Coords) (v1816 : BitVec 32) (k0_hw197 : k0_chk197 i v1816), ∀ a, (k0_off624 i v1816) a + S1x14x1x256.size a ≤ S64x14x24x256.size a := fun i v1816 k0_hw197 => k0_hw197

def k0_off625 (i : grid0.Coords) (v1818 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1829 : Index := Scalar.indexCast v1656
  let c0_1001 : Index := 0#32
  let v1830 : Index := Scalar.indexCast v1818
  let c0_1002 : Index := 0#32
  ![v1829.toNat, 0, v1830.toNat, 0]

def k0_chk198 (i : grid0.Coords) (v1818 : BitVec 32) : Prop :=
  (∀ a, (k0_off625 i v1818) a + S1x14x1x256.size a ≤ S64x14x24x256.size a)
theorem k0_off625_inb : ∀ (i : grid0.Coords) (v1818 : BitVec 32) (k0_hw198 : k0_chk198 i v1818), ∀ a, (k0_off625 i v1818) a + S1x14x1x256.size a ≤ S64x14x24x256.size a := fun i v1818 k0_hw198 => k0_hw198

def k0_off626 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1844 : Index := Scalar.indexCast v1654
  let c40_1010 : Index := 40#32
  ![v1844.toNat, 40]
def k0_off627 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1846 : Index := Scalar.indexCast v1654
  let c41_1011 : Index := 41#32
  ![v1846.toNat, 41]
def k0_off628 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1848 : Index := Scalar.indexCast v1654
  let c42_1012 : Index := 42#32
  ![v1848.toNat, 42]
def k0_off629 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1850 : Index := Scalar.indexCast v1654
  let c43_1013 : Index := 43#32
  ![v1850.toNat, 43]
def k0_off630 (i : grid0.Coords) (v1845 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1852 : Index := Scalar.indexCast v1656
  let c0_1014 : Index := 0#32
  let v1853 : Index := Scalar.indexCast v1845
  let c0_1015 : Index := 0#32
  ![v1852.toNat, 0, v1853.toNat, 0]

def k0_chk199 (i : grid0.Coords) (v1845 : BitVec 32) : Prop :=
  (∀ a, (k0_off630 i v1845) a + S1x14x1x256.size a ≤ S64x14x24x256.size a)
theorem k0_off630_inb : ∀ (i : grid0.Coords) (v1845 : BitVec 32) (k0_hw199 : k0_chk199 i v1845), ∀ a, (k0_off630 i v1845) a + S1x14x1x256.size a ≤ S64x14x24x256.size a := fun i v1845 k0_hw199 => k0_hw199

def k0_off631 (i : grid0.Coords) (v1847 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1856 : Index := Scalar.indexCast v1656
  let c0_1016 : Index := 0#32
  let v1857 : Index := Scalar.indexCast v1847
  let c0_1017 : Index := 0#32
  ![v1856.toNat, 0, v1857.toNat, 0]

def k0_chk200 (i : grid0.Coords) (v1847 : BitVec 32) : Prop :=
  (∀ a, (k0_off631 i v1847) a + S1x14x1x256.size a ≤ S64x14x24x256.size a)
theorem k0_off631_inb : ∀ (i : grid0.Coords) (v1847 : BitVec 32) (k0_hw200 : k0_chk200 i v1847), ∀ a, (k0_off631 i v1847) a + S1x14x1x256.size a ≤ S64x14x24x256.size a := fun i v1847 k0_hw200 => k0_hw200

def k0_off632 (i : grid0.Coords) (v1849 : BitVec 32) : Fin 4 → Nat :=
  let c32_i32_905 : BitVec 32 := 32#32
  let arg0 : BitVec 32 := BitVec.ofNat 32 (i 0).val
  let c2_i32 : BitVec 32 := 2#32
  let v0 : BitVec 32 := Scalar.remsi arg0 c2_i32
  let v1655 : BitVec 32 := Scalar.muli c32_i32_905 v0
  let c3_i32_906 : BitVec 32 := 3#32
  let v1656 : BitVec 32 := Scalar.addi v1655 c3_i32_906
  let v1860 : Index := Scalar.indexCast v1656
  let c0_1018 : Index := 0#32
  let v1861 : Index := Scalar.indexCast v1849
  let c0_1019 : Index := 0#32
  ![v1860.toNat, 0, v1861.toNat, 0]

def k0_chk201 (i : grid0.Coords) (v1849 : BitVec 32) : Prop :=
  (∀ a, (k0_off632 i v1849) a + S1x14x1x256.size a ≤ S64x14x24x256.size a)
theorem k0_off632_inb : ∀ (i : grid0.Coords) (v1849 : BitVec 32) (k0_hw201 : k0_chk201 i v1849), ∀ a, (k0_off632 i v1849) a + S1x14x1x256.size a ≤ S64x14x24x256.size a := fun i v1849 k0_hw201 => k0_hw201

def k0_off633 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1876 : Index := Scalar.indexCast v1654
  let c44_1027 : Index := 44#32
  ![v1876.toNat, 44]
def k0_off634 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1878 : Index := Scalar.indexCast v1654
  let c45_1028 : Index := 45#32
  ![v1878.toNat, 45]
def k0_off635 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1880 : Index := Scalar.indexCast v1654
  let c46_1029 : Index := 46#32
  ![v1880.toNat, 46]
def k0_off636 (v1877 : BitVec 32) : Fin 4 → Nat :=
  let c3_1030 : Index := 3#32
  let v1882 : Index := Scalar.indexCast v1877
  let c0_1031 : Index := 0#32
  let c0_1032 : Index := 0#32
  ![3, v1882.toNat, 0, 0]

def k0_chk202 (v1877 : BitVec 32) : Prop :=
  (∀ a, (k0_off636 v1877) a + S1x3x7x256.size a ≤ S32x14x7x256.size a)
theorem k0_off636_inb : ∀ (v1877 : BitVec 32) (k0_hw202 : k0_chk202 v1877), ∀ a, (k0_off636 v1877) a + S1x3x7x256.size a ≤ S32x14x7x256.size a := fun v1877 k0_hw202 => k0_hw202

def k0_off637 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1898 : Index := Scalar.indexCast v1654
  let c47_1038 : Index := 47#32
  ![v1898.toNat, 47]
def k0_off638 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1900 : Index := Scalar.indexCast v1654
  let c48_1039 : Index := 48#32
  ![v1900.toNat, 48]
def k0_off639 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1902 : Index := Scalar.indexCast v1654
  let c49_1040 : Index := 49#32
  ![v1902.toNat, 49]
def k0_off640 (v1899 : BitVec 32) : Fin 4 → Nat :=
  let c3_1041 : Index := 3#32
  let v1904 : Index := Scalar.indexCast v1899
  let c0_1042 : Index := 0#32
  let c0_1043 : Index := 0#32
  ![3, v1904.toNat, 0, 0]

def k0_chk203 (v1899 : BitVec 32) : Prop :=
  (∀ a, (k0_off640 v1899) a + S1x3x7x256.size a ≤ S32x14x7x256.size a)
theorem k0_off640_inb : ∀ (v1899 : BitVec 32) (k0_hw203 : k0_chk203 v1899), ∀ a, (k0_off640 v1899) a + S1x3x7x256.size a ≤ S32x14x7x256.size a := fun v1899 k0_hw203 => k0_hw203

def k0_off641 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1920 : Index := Scalar.indexCast v1654
  let c50_1049 : Index := 50#32
  ![v1920.toNat, 50]
def k0_off642 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1922 : Index := Scalar.indexCast v1654
  let c51_1050 : Index := 51#32
  ![v1922.toNat, 51]
def k0_off643 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1924 : Index := Scalar.indexCast v1654
  let c52_1051 : Index := 52#32
  ![v1924.toNat, 52]
def k0_off644 (v1921 : BitVec 32) : Fin 4 → Nat :=
  let c3_1052 : Index := 3#32
  let v1926 : Index := Scalar.indexCast v1921
  let c0_1053 : Index := 0#32
  let c0_1054 : Index := 0#32
  ![3, v1926.toNat, 0, 0]

def k0_chk204 (v1921 : BitVec 32) : Prop :=
  (∀ a, (k0_off644 v1921) a + S1x3x7x256.size a ≤ S32x14x7x256.size a)
theorem k0_off644_inb : ∀ (v1921 : BitVec 32) (k0_hw204 : k0_chk204 v1921), ∀ a, (k0_off644 v1921) a + S1x3x7x256.size a ≤ S32x14x7x256.size a := fun v1921 k0_hw204 => k0_hw204

def k0_off645 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1942 : Index := Scalar.indexCast v1654
  let c53_1060 : Index := 53#32
  ![v1942.toNat, 53]
def k0_off646 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1944 : Index := Scalar.indexCast v1654
  let c54_1061 : Index := 54#32
  ![v1944.toNat, 54]
def k0_off647 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1946 : Index := Scalar.indexCast v1654
  let c55_1062 : Index := 55#32
  ![v1946.toNat, 55]
def k0_off648 (v1943 : BitVec 32) : Fin 4 → Nat :=
  let c3_1063 : Index := 3#32
  let v1948 : Index := Scalar.indexCast v1943
  let c0_1064 : Index := 0#32
  let c0_1065 : Index := 0#32
  ![3, v1948.toNat, 0, 0]

def k0_chk205 (v1943 : BitVec 32) : Prop :=
  (∀ a, (k0_off648 v1943) a + S1x3x7x256.size a ≤ S32x14x7x256.size a)
theorem k0_off648_inb : ∀ (v1943 : BitVec 32) (k0_hw205 : k0_chk205 v1943), ∀ a, (k0_off648 v1943) a + S1x3x7x256.size a ≤ S32x14x7x256.size a := fun v1943 k0_hw205 => k0_hw205

def k0_off649 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1964 : Index := Scalar.indexCast v1654
  let c56_1071 : Index := 56#32
  ![v1964.toNat, 56]
def k0_off650 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1966 : Index := Scalar.indexCast v1654
  let c57_1072 : Index := 57#32
  ![v1966.toNat, 57]
def k0_off651 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1968 : Index := Scalar.indexCast v1654
  let c58_1073 : Index := 58#32
  ![v1968.toNat, 58]
def k0_off652 (v1965 : BitVec 32) : Fin 4 → Nat :=
  let c3_1074 : Index := 3#32
  let v1970 : Index := Scalar.indexCast v1965
  let c0_1075 : Index := 0#32
  let c0_1076 : Index := 0#32
  ![3, v1970.toNat, 0, 0]

def k0_chk206 (v1965 : BitVec 32) : Prop :=
  (∀ a, (k0_off652 v1965) a + S1x3x7x256.size a ≤ S32x14x7x256.size a)
theorem k0_off652_inb : ∀ (v1965 : BitVec 32) (k0_hw206 : k0_chk206 v1965), ∀ a, (k0_off652 v1965) a + S1x3x7x256.size a ≤ S32x14x7x256.size a := fun v1965 k0_hw206 => k0_hw206

def k0_off653 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1986 : Index := Scalar.indexCast v1654
  let c59_1082 : Index := 59#32
  ![v1986.toNat, 59]
def k0_off654 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1988 : Index := Scalar.indexCast v1654
  let c60_1083 : Index := 60#32
  ![v1988.toNat, 60]
def k0_off655 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v1990 : Index := Scalar.indexCast v1654
  let c61_1084 : Index := 61#32
  ![v1990.toNat, 61]
def k0_off656 (v1987 : BitVec 32) : Fin 4 → Nat :=
  let c3_1085 : Index := 3#32
  let v1992 : Index := Scalar.indexCast v1987
  let c0_1086 : Index := 0#32
  let c0_1087 : Index := 0#32
  ![3, v1992.toNat, 0, 0]

def k0_chk207 (v1987 : BitVec 32) : Prop :=
  (∀ a, (k0_off656 v1987) a + S1x3x7x256.size a ≤ S32x14x7x256.size a)
theorem k0_off656_inb : ∀ (v1987 : BitVec 32) (k0_hw207 : k0_chk207 v1987), ∀ a, (k0_off656 v1987) a + S1x3x7x256.size a ≤ S32x14x7x256.size a := fun v1987 k0_hw207 => k0_hw207

def k0_off657 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v2008 : Index := Scalar.indexCast v1654
  let c62_1093 : Index := 62#32
  ![v2008.toNat, 62]
def k0_off658 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v2010 : Index := Scalar.indexCast v1654
  let c63_1094 : Index := 63#32
  ![v2010.toNat, 63]
def k0_off659 (i : grid0.Coords) : Fin 2 → Nat :=
  let c32_i32_903 : BitVec 32 := 32#32
  let arg0 : BitVec 32 := BitVec.ofNat 32 (i 0).val
  let v1653 : BitVec 32 := Scalar.muli c32_i32_903 arg0
  let c3_i32_904 : BitVec 32 := 3#32
  let v1654 : BitVec 32 := Scalar.addi v1653 c3_i32_904
  let v2012 : Index := Scalar.indexCast v1654
  let c64_1095 : Index := 64#32
  ![v2012.toNat, 64]
def k0_off660 (v2009 : BitVec 32) : Fin 4 → Nat :=
  let c3_1096 : Index := 3#32
  let v2014 : Index := Scalar.indexCast v2009
  let c0_1097 : Index := 0#32
  let c0_1098 : Index := 0#32
  ![3, v2014.toNat, 0, 0]

def k0_chk208 (v2009 : BitVec 32) : Prop :=
  (∀ a, (k0_off660 v2009) a + S1x3x7x256.size a ≤ S32x14x7x256.size a)
theorem k0_off660_inb : ∀ (v2009 : BitVec 32) (k0_hw208 : k0_chk208 v2009), ∀ a, (k0_off660 v2009) a + S1x3x7x256.size a ≤ S32x14x7x256.size a := fun v2009 k0_hw208 => k0_hw208

def k0_off661 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2035 : Index := Scalar.indexCast v2031
  let c16_1109 : Index := 16#32
  ![v2035.toNat, 16]
def k0_off662 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2037 : Index := Scalar.indexCast v2031
  let c17_1110 : Index := 17#32
  ![v2037.toNat, 17]
def k0_off663 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2039 : Index := Scalar.indexCast v2031
  let c18_1111 : Index := 18#32
  ![v2039.toNat, 18]
def k0_off664 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2041 : Index := Scalar.indexCast v2031
  let c19_1112 : Index := 19#32
  ![v2041.toNat, 19]
def k0_off665 (i : grid0.Coords) (v2036 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2043 : Index := Scalar.indexCast v2033
  let c0_1113 : Index := 0#32
  let v2044 : Index := Scalar.indexCast v2036
  let c0_1114 : Index := 0#32
  ![v2043.toNat, 0, v2044.toNat, 0]

def k0_chk209 (i : grid0.Coords) (v2036 : BitVec 32) : Prop :=
  (∀ a, (k0_off665 i v2036) a + S1x14x1x256.size a ≤ S64x14x24x256.size a)
theorem k0_off665_inb : ∀ (i : grid0.Coords) (v2036 : BitVec 32) (k0_hw209 : k0_chk209 i v2036), ∀ a, (k0_off665 i v2036) a + S1x14x1x256.size a ≤ S64x14x24x256.size a := fun i v2036 k0_hw209 => k0_hw209

def k0_off666 (i : grid0.Coords) (v2038 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2047 : Index := Scalar.indexCast v2033
  let c0_1115 : Index := 0#32
  let v2048 : Index := Scalar.indexCast v2038
  let c0_1116 : Index := 0#32
  ![v2047.toNat, 0, v2048.toNat, 0]

def k0_chk210 (i : grid0.Coords) (v2038 : BitVec 32) : Prop :=
  (∀ a, (k0_off666 i v2038) a + S1x14x1x256.size a ≤ S64x14x24x256.size a)
theorem k0_off666_inb : ∀ (i : grid0.Coords) (v2038 : BitVec 32) (k0_hw210 : k0_chk210 i v2038), ∀ a, (k0_off666 i v2038) a + S1x14x1x256.size a ≤ S64x14x24x256.size a := fun i v2038 k0_hw210 => k0_hw210

def k0_off667 (i : grid0.Coords) (v2040 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2051 : Index := Scalar.indexCast v2033
  let c0_1117 : Index := 0#32
  let v2052 : Index := Scalar.indexCast v2040
  let c0_1118 : Index := 0#32
  ![v2051.toNat, 0, v2052.toNat, 0]

def k0_chk211 (i : grid0.Coords) (v2040 : BitVec 32) : Prop :=
  (∀ a, (k0_off667 i v2040) a + S1x14x1x256.size a ≤ S64x14x24x256.size a)
theorem k0_off667_inb : ∀ (i : grid0.Coords) (v2040 : BitVec 32) (k0_hw211 : k0_chk211 i v2040), ∀ a, (k0_off667 i v2040) a + S1x14x1x256.size a ≤ S64x14x24x256.size a := fun i v2040 k0_hw211 => k0_hw211

def k0_off668 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2066 : Index := Scalar.indexCast v2031
  let c20_1126 : Index := 20#32
  ![v2066.toNat, 20]
def k0_off669 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2068 : Index := Scalar.indexCast v2031
  let c21_1127 : Index := 21#32
  ![v2068.toNat, 21]
def k0_off670 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2070 : Index := Scalar.indexCast v2031
  let c22_1128 : Index := 22#32
  ![v2070.toNat, 22]
def k0_off671 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2072 : Index := Scalar.indexCast v2031
  let c23_1129 : Index := 23#32
  ![v2072.toNat, 23]
def k0_off672 (i : grid0.Coords) (v2067 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2074 : Index := Scalar.indexCast v2033
  let c0_1130 : Index := 0#32
  let v2075 : Index := Scalar.indexCast v2067
  let c0_1131 : Index := 0#32
  ![v2074.toNat, 0, v2075.toNat, 0]

def k0_chk212 (i : grid0.Coords) (v2067 : BitVec 32) : Prop :=
  (∀ a, (k0_off672 i v2067) a + S1x14x1x256.size a ≤ S64x14x24x256.size a)
theorem k0_off672_inb : ∀ (i : grid0.Coords) (v2067 : BitVec 32) (k0_hw212 : k0_chk212 i v2067), ∀ a, (k0_off672 i v2067) a + S1x14x1x256.size a ≤ S64x14x24x256.size a := fun i v2067 k0_hw212 => k0_hw212

def k0_off673 (i : grid0.Coords) (v2069 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2078 : Index := Scalar.indexCast v2033
  let c0_1132 : Index := 0#32
  let v2079 : Index := Scalar.indexCast v2069
  let c0_1133 : Index := 0#32
  ![v2078.toNat, 0, v2079.toNat, 0]

def k0_chk213 (i : grid0.Coords) (v2069 : BitVec 32) : Prop :=
  (∀ a, (k0_off673 i v2069) a + S1x14x1x256.size a ≤ S64x14x24x256.size a)
theorem k0_off673_inb : ∀ (i : grid0.Coords) (v2069 : BitVec 32) (k0_hw213 : k0_chk213 i v2069), ∀ a, (k0_off673 i v2069) a + S1x14x1x256.size a ≤ S64x14x24x256.size a := fun i v2069 k0_hw213 => k0_hw213

def k0_off674 (i : grid0.Coords) (v2071 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2082 : Index := Scalar.indexCast v2033
  let c0_1134 : Index := 0#32
  let v2083 : Index := Scalar.indexCast v2071
  let c0_1135 : Index := 0#32
  ![v2082.toNat, 0, v2083.toNat, 0]

def k0_chk214 (i : grid0.Coords) (v2071 : BitVec 32) : Prop :=
  (∀ a, (k0_off674 i v2071) a + S1x14x1x256.size a ≤ S64x14x24x256.size a)
theorem k0_off674_inb : ∀ (i : grid0.Coords) (v2071 : BitVec 32) (k0_hw214 : k0_chk214 i v2071), ∀ a, (k0_off674 i v2071) a + S1x14x1x256.size a ≤ S64x14x24x256.size a := fun i v2071 k0_hw214 => k0_hw214

def k0_off675 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2097 : Index := Scalar.indexCast v2031
  let c24_1143 : Index := 24#32
  ![v2097.toNat, 24]
def k0_off676 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2099 : Index := Scalar.indexCast v2031
  let c25_1144 : Index := 25#32
  ![v2099.toNat, 25]
def k0_off677 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2101 : Index := Scalar.indexCast v2031
  let c26_1145 : Index := 26#32
  ![v2101.toNat, 26]
def k0_off678 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2103 : Index := Scalar.indexCast v2031
  let c27_1146 : Index := 27#32
  ![v2103.toNat, 27]
def k0_off679 (i : grid0.Coords) (v2098 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2105 : Index := Scalar.indexCast v2033
  let c0_1147 : Index := 0#32
  let v2106 : Index := Scalar.indexCast v2098
  let c0_1148 : Index := 0#32
  ![v2105.toNat, 0, v2106.toNat, 0]

def k0_chk215 (i : grid0.Coords) (v2098 : BitVec 32) : Prop :=
  (∀ a, (k0_off679 i v2098) a + S1x14x1x256.size a ≤ S64x14x24x256.size a)
theorem k0_off679_inb : ∀ (i : grid0.Coords) (v2098 : BitVec 32) (k0_hw215 : k0_chk215 i v2098), ∀ a, (k0_off679 i v2098) a + S1x14x1x256.size a ≤ S64x14x24x256.size a := fun i v2098 k0_hw215 => k0_hw215

def k0_off680 (i : grid0.Coords) (v2100 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2109 : Index := Scalar.indexCast v2033
  let c0_1149 : Index := 0#32
  let v2110 : Index := Scalar.indexCast v2100
  let c0_1150 : Index := 0#32
  ![v2109.toNat, 0, v2110.toNat, 0]

def k0_chk216 (i : grid0.Coords) (v2100 : BitVec 32) : Prop :=
  (∀ a, (k0_off680 i v2100) a + S1x14x1x256.size a ≤ S64x14x24x256.size a)
theorem k0_off680_inb : ∀ (i : grid0.Coords) (v2100 : BitVec 32) (k0_hw216 : k0_chk216 i v2100), ∀ a, (k0_off680 i v2100) a + S1x14x1x256.size a ≤ S64x14x24x256.size a := fun i v2100 k0_hw216 => k0_hw216

def k0_off681 (i : grid0.Coords) (v2102 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2113 : Index := Scalar.indexCast v2033
  let c0_1151 : Index := 0#32
  let v2114 : Index := Scalar.indexCast v2102
  let c0_1152 : Index := 0#32
  ![v2113.toNat, 0, v2114.toNat, 0]

def k0_chk217 (i : grid0.Coords) (v2102 : BitVec 32) : Prop :=
  (∀ a, (k0_off681 i v2102) a + S1x14x1x256.size a ≤ S64x14x24x256.size a)
theorem k0_off681_inb : ∀ (i : grid0.Coords) (v2102 : BitVec 32) (k0_hw217 : k0_chk217 i v2102), ∀ a, (k0_off681 i v2102) a + S1x14x1x256.size a ≤ S64x14x24x256.size a := fun i v2102 k0_hw217 => k0_hw217

def k0_off682 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2128 : Index := Scalar.indexCast v2031
  let c28_1160 : Index := 28#32
  ![v2128.toNat, 28]
def k0_off683 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2130 : Index := Scalar.indexCast v2031
  let c29_1161 : Index := 29#32
  ![v2130.toNat, 29]
def k0_off684 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2132 : Index := Scalar.indexCast v2031
  let c30_1162 : Index := 30#32
  ![v2132.toNat, 30]
def k0_off685 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2134 : Index := Scalar.indexCast v2031
  let c31_1163 : Index := 31#32
  ![v2134.toNat, 31]
def k0_off686 (i : grid0.Coords) (v2129 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2136 : Index := Scalar.indexCast v2033
  let c0_1164 : Index := 0#32
  let v2137 : Index := Scalar.indexCast v2129
  let c0_1165 : Index := 0#32
  ![v2136.toNat, 0, v2137.toNat, 0]

def k0_chk218 (i : grid0.Coords) (v2129 : BitVec 32) : Prop :=
  (∀ a, (k0_off686 i v2129) a + S1x14x1x256.size a ≤ S64x14x24x256.size a)
theorem k0_off686_inb : ∀ (i : grid0.Coords) (v2129 : BitVec 32) (k0_hw218 : k0_chk218 i v2129), ∀ a, (k0_off686 i v2129) a + S1x14x1x256.size a ≤ S64x14x24x256.size a := fun i v2129 k0_hw218 => k0_hw218

def k0_off687 (i : grid0.Coords) (v2131 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2140 : Index := Scalar.indexCast v2033
  let c0_1166 : Index := 0#32
  let v2141 : Index := Scalar.indexCast v2131
  let c0_1167 : Index := 0#32
  ![v2140.toNat, 0, v2141.toNat, 0]

def k0_chk219 (i : grid0.Coords) (v2131 : BitVec 32) : Prop :=
  (∀ a, (k0_off687 i v2131) a + S1x14x1x256.size a ≤ S64x14x24x256.size a)
theorem k0_off687_inb : ∀ (i : grid0.Coords) (v2131 : BitVec 32) (k0_hw219 : k0_chk219 i v2131), ∀ a, (k0_off687 i v2131) a + S1x14x1x256.size a ≤ S64x14x24x256.size a := fun i v2131 k0_hw219 => k0_hw219

def k0_off688 (i : grid0.Coords) (v2133 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2144 : Index := Scalar.indexCast v2033
  let c0_1168 : Index := 0#32
  let v2145 : Index := Scalar.indexCast v2133
  let c0_1169 : Index := 0#32
  ![v2144.toNat, 0, v2145.toNat, 0]

def k0_chk220 (i : grid0.Coords) (v2133 : BitVec 32) : Prop :=
  (∀ a, (k0_off688 i v2133) a + S1x14x1x256.size a ≤ S64x14x24x256.size a)
theorem k0_off688_inb : ∀ (i : grid0.Coords) (v2133 : BitVec 32) (k0_hw220 : k0_chk220 i v2133), ∀ a, (k0_off688 i v2133) a + S1x14x1x256.size a ≤ S64x14x24x256.size a := fun i v2133 k0_hw220 => k0_hw220

def k0_off689 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2159 : Index := Scalar.indexCast v2031
  let c32_1177 : Index := 32#32
  ![v2159.toNat, 32]
def k0_off690 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2161 : Index := Scalar.indexCast v2031
  let c33_1178 : Index := 33#32
  ![v2161.toNat, 33]
def k0_off691 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2163 : Index := Scalar.indexCast v2031
  let c34_1179 : Index := 34#32
  ![v2163.toNat, 34]
def k0_off692 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2165 : Index := Scalar.indexCast v2031
  let c35_1180 : Index := 35#32
  ![v2165.toNat, 35]
def k0_off693 (i : grid0.Coords) (v2160 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2167 : Index := Scalar.indexCast v2033
  let c0_1181 : Index := 0#32
  let v2168 : Index := Scalar.indexCast v2160
  let c0_1182 : Index := 0#32
  ![v2167.toNat, 0, v2168.toNat, 0]

def k0_chk221 (i : grid0.Coords) (v2160 : BitVec 32) : Prop :=
  (∀ a, (k0_off693 i v2160) a + S1x14x1x256.size a ≤ S64x14x24x256.size a)
theorem k0_off693_inb : ∀ (i : grid0.Coords) (v2160 : BitVec 32) (k0_hw221 : k0_chk221 i v2160), ∀ a, (k0_off693 i v2160) a + S1x14x1x256.size a ≤ S64x14x24x256.size a := fun i v2160 k0_hw221 => k0_hw221

def k0_off694 (i : grid0.Coords) (v2162 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2171 : Index := Scalar.indexCast v2033
  let c0_1183 : Index := 0#32
  let v2172 : Index := Scalar.indexCast v2162
  let c0_1184 : Index := 0#32
  ![v2171.toNat, 0, v2172.toNat, 0]

def k0_chk222 (i : grid0.Coords) (v2162 : BitVec 32) : Prop :=
  (∀ a, (k0_off694 i v2162) a + S1x14x1x256.size a ≤ S64x14x24x256.size a)
theorem k0_off694_inb : ∀ (i : grid0.Coords) (v2162 : BitVec 32) (k0_hw222 : k0_chk222 i v2162), ∀ a, (k0_off694 i v2162) a + S1x14x1x256.size a ≤ S64x14x24x256.size a := fun i v2162 k0_hw222 => k0_hw222

def k0_off695 (i : grid0.Coords) (v2164 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2175 : Index := Scalar.indexCast v2033
  let c0_1185 : Index := 0#32
  let v2176 : Index := Scalar.indexCast v2164
  let c0_1186 : Index := 0#32
  ![v2175.toNat, 0, v2176.toNat, 0]

def k0_chk223 (i : grid0.Coords) (v2164 : BitVec 32) : Prop :=
  (∀ a, (k0_off695 i v2164) a + S1x14x1x256.size a ≤ S64x14x24x256.size a)
theorem k0_off695_inb : ∀ (i : grid0.Coords) (v2164 : BitVec 32) (k0_hw223 : k0_chk223 i v2164), ∀ a, (k0_off695 i v2164) a + S1x14x1x256.size a ≤ S64x14x24x256.size a := fun i v2164 k0_hw223 => k0_hw223

def k0_off696 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2190 : Index := Scalar.indexCast v2031
  let c36_1194 : Index := 36#32
  ![v2190.toNat, 36]
def k0_off697 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2192 : Index := Scalar.indexCast v2031
  let c37_1195 : Index := 37#32
  ![v2192.toNat, 37]
def k0_off698 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2194 : Index := Scalar.indexCast v2031
  let c38_1196 : Index := 38#32
  ![v2194.toNat, 38]
def k0_off699 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2196 : Index := Scalar.indexCast v2031
  let c39_1197 : Index := 39#32
  ![v2196.toNat, 39]
def k0_off700 (i : grid0.Coords) (v2191 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2198 : Index := Scalar.indexCast v2033
  let c0_1198 : Index := 0#32
  let v2199 : Index := Scalar.indexCast v2191
  let c0_1199 : Index := 0#32
  ![v2198.toNat, 0, v2199.toNat, 0]

def k0_chk224 (i : grid0.Coords) (v2191 : BitVec 32) : Prop :=
  (∀ a, (k0_off700 i v2191) a + S1x14x1x256.size a ≤ S64x14x24x256.size a)
theorem k0_off700_inb : ∀ (i : grid0.Coords) (v2191 : BitVec 32) (k0_hw224 : k0_chk224 i v2191), ∀ a, (k0_off700 i v2191) a + S1x14x1x256.size a ≤ S64x14x24x256.size a := fun i v2191 k0_hw224 => k0_hw224

def k0_off701 (i : grid0.Coords) (v2193 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2202 : Index := Scalar.indexCast v2033
  let c0_1200 : Index := 0#32
  let v2203 : Index := Scalar.indexCast v2193
  let c0_1201 : Index := 0#32
  ![v2202.toNat, 0, v2203.toNat, 0]

def k0_chk225 (i : grid0.Coords) (v2193 : BitVec 32) : Prop :=
  (∀ a, (k0_off701 i v2193) a + S1x14x1x256.size a ≤ S64x14x24x256.size a)
theorem k0_off701_inb : ∀ (i : grid0.Coords) (v2193 : BitVec 32) (k0_hw225 : k0_chk225 i v2193), ∀ a, (k0_off701 i v2193) a + S1x14x1x256.size a ≤ S64x14x24x256.size a := fun i v2193 k0_hw225 => k0_hw225

def k0_off702 (i : grid0.Coords) (v2195 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2206 : Index := Scalar.indexCast v2033
  let c0_1202 : Index := 0#32
  let v2207 : Index := Scalar.indexCast v2195
  let c0_1203 : Index := 0#32
  ![v2206.toNat, 0, v2207.toNat, 0]

def k0_chk226 (i : grid0.Coords) (v2195 : BitVec 32) : Prop :=
  (∀ a, (k0_off702 i v2195) a + S1x14x1x256.size a ≤ S64x14x24x256.size a)
theorem k0_off702_inb : ∀ (i : grid0.Coords) (v2195 : BitVec 32) (k0_hw226 : k0_chk226 i v2195), ∀ a, (k0_off702 i v2195) a + S1x14x1x256.size a ≤ S64x14x24x256.size a := fun i v2195 k0_hw226 => k0_hw226

def k0_off703 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2221 : Index := Scalar.indexCast v2031
  let c40_1211 : Index := 40#32
  ![v2221.toNat, 40]
def k0_off704 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2223 : Index := Scalar.indexCast v2031
  let c41_1212 : Index := 41#32
  ![v2223.toNat, 41]
def k0_off705 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2225 : Index := Scalar.indexCast v2031
  let c42_1213 : Index := 42#32
  ![v2225.toNat, 42]
def k0_off706 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2227 : Index := Scalar.indexCast v2031
  let c43_1214 : Index := 43#32
  ![v2227.toNat, 43]
def k0_off707 (i : grid0.Coords) (v2222 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2229 : Index := Scalar.indexCast v2033
  let c0_1215 : Index := 0#32
  let v2230 : Index := Scalar.indexCast v2222
  let c0_1216 : Index := 0#32
  ![v2229.toNat, 0, v2230.toNat, 0]

def k0_chk227 (i : grid0.Coords) (v2222 : BitVec 32) : Prop :=
  (∀ a, (k0_off707 i v2222) a + S1x14x1x256.size a ≤ S64x14x24x256.size a)
theorem k0_off707_inb : ∀ (i : grid0.Coords) (v2222 : BitVec 32) (k0_hw227 : k0_chk227 i v2222), ∀ a, (k0_off707 i v2222) a + S1x14x1x256.size a ≤ S64x14x24x256.size a := fun i v2222 k0_hw227 => k0_hw227

def k0_off708 (i : grid0.Coords) (v2224 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2233 : Index := Scalar.indexCast v2033
  let c0_1217 : Index := 0#32
  let v2234 : Index := Scalar.indexCast v2224
  let c0_1218 : Index := 0#32
  ![v2233.toNat, 0, v2234.toNat, 0]

def k0_chk228 (i : grid0.Coords) (v2224 : BitVec 32) : Prop :=
  (∀ a, (k0_off708 i v2224) a + S1x14x1x256.size a ≤ S64x14x24x256.size a)
theorem k0_off708_inb : ∀ (i : grid0.Coords) (v2224 : BitVec 32) (k0_hw228 : k0_chk228 i v2224), ∀ a, (k0_off708 i v2224) a + S1x14x1x256.size a ≤ S64x14x24x256.size a := fun i v2224 k0_hw228 => k0_hw228

def k0_off709 (i : grid0.Coords) (v2226 : BitVec 32) : Fin 4 → Nat :=
  let c32_i32_1106 : BitVec 32 := 32#32
  let arg0 : BitVec 32 := BitVec.ofNat 32 (i 0).val
  let c2_i32 : BitVec 32 := 2#32
  let v0 : BitVec 32 := Scalar.remsi arg0 c2_i32
  let v2032 : BitVec 32 := Scalar.muli c32_i32_1106 v0
  let c4_i32_1107 : BitVec 32 := 4#32
  let v2033 : BitVec 32 := Scalar.addi v2032 c4_i32_1107
  let v2237 : Index := Scalar.indexCast v2033
  let c0_1219 : Index := 0#32
  let v2238 : Index := Scalar.indexCast v2226
  let c0_1220 : Index := 0#32
  ![v2237.toNat, 0, v2238.toNat, 0]

def k0_chk229 (i : grid0.Coords) (v2226 : BitVec 32) : Prop :=
  (∀ a, (k0_off709 i v2226) a + S1x14x1x256.size a ≤ S64x14x24x256.size a)
theorem k0_off709_inb : ∀ (i : grid0.Coords) (v2226 : BitVec 32) (k0_hw229 : k0_chk229 i v2226), ∀ a, (k0_off709 i v2226) a + S1x14x1x256.size a ≤ S64x14x24x256.size a := fun i v2226 k0_hw229 => k0_hw229

def k0_off710 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2253 : Index := Scalar.indexCast v2031
  let c44_1228 : Index := 44#32
  ![v2253.toNat, 44]
def k0_off711 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2255 : Index := Scalar.indexCast v2031
  let c45_1229 : Index := 45#32
  ![v2255.toNat, 45]
def k0_off712 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2257 : Index := Scalar.indexCast v2031
  let c46_1230 : Index := 46#32
  ![v2257.toNat, 46]
def k0_off713 (v2254 : BitVec 32) : Fin 4 → Nat :=
  let c4_1231 : Index := 4#32
  let v2259 : Index := Scalar.indexCast v2254
  let c0_1232 : Index := 0#32
  let c0_1233 : Index := 0#32
  ![4, v2259.toNat, 0, 0]

def k0_chk230 (v2254 : BitVec 32) : Prop :=
  (∀ a, (k0_off713 v2254) a + S1x3x7x256.size a ≤ S32x14x7x256.size a)
theorem k0_off713_inb : ∀ (v2254 : BitVec 32) (k0_hw230 : k0_chk230 v2254), ∀ a, (k0_off713 v2254) a + S1x3x7x256.size a ≤ S32x14x7x256.size a := fun v2254 k0_hw230 => k0_hw230

def k0_off714 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2275 : Index := Scalar.indexCast v2031
  let c47_1239 : Index := 47#32
  ![v2275.toNat, 47]
def k0_off715 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2277 : Index := Scalar.indexCast v2031
  let c48_1240 : Index := 48#32
  ![v2277.toNat, 48]
def k0_off716 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2279 : Index := Scalar.indexCast v2031
  let c49_1241 : Index := 49#32
  ![v2279.toNat, 49]
def k0_off717 (v2276 : BitVec 32) : Fin 4 → Nat :=
  let c4_1242 : Index := 4#32
  let v2281 : Index := Scalar.indexCast v2276
  let c0_1243 : Index := 0#32
  let c0_1244 : Index := 0#32
  ![4, v2281.toNat, 0, 0]

def k0_chk231 (v2276 : BitVec 32) : Prop :=
  (∀ a, (k0_off717 v2276) a + S1x3x7x256.size a ≤ S32x14x7x256.size a)
theorem k0_off717_inb : ∀ (v2276 : BitVec 32) (k0_hw231 : k0_chk231 v2276), ∀ a, (k0_off717 v2276) a + S1x3x7x256.size a ≤ S32x14x7x256.size a := fun v2276 k0_hw231 => k0_hw231

def k0_off718 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2297 : Index := Scalar.indexCast v2031
  let c50_1250 : Index := 50#32
  ![v2297.toNat, 50]
def k0_off719 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2299 : Index := Scalar.indexCast v2031
  let c51_1251 : Index := 51#32
  ![v2299.toNat, 51]
def k0_off720 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2301 : Index := Scalar.indexCast v2031
  let c52_1252 : Index := 52#32
  ![v2301.toNat, 52]
def k0_off721 (v2298 : BitVec 32) : Fin 4 → Nat :=
  let c4_1253 : Index := 4#32
  let v2303 : Index := Scalar.indexCast v2298
  let c0_1254 : Index := 0#32
  let c0_1255 : Index := 0#32
  ![4, v2303.toNat, 0, 0]

def k0_chk232 (v2298 : BitVec 32) : Prop :=
  (∀ a, (k0_off721 v2298) a + S1x3x7x256.size a ≤ S32x14x7x256.size a)
theorem k0_off721_inb : ∀ (v2298 : BitVec 32) (k0_hw232 : k0_chk232 v2298), ∀ a, (k0_off721 v2298) a + S1x3x7x256.size a ≤ S32x14x7x256.size a := fun v2298 k0_hw232 => k0_hw232

def k0_off722 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2319 : Index := Scalar.indexCast v2031
  let c53_1261 : Index := 53#32
  ![v2319.toNat, 53]
def k0_off723 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2321 : Index := Scalar.indexCast v2031
  let c54_1262 : Index := 54#32
  ![v2321.toNat, 54]
def k0_off724 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2323 : Index := Scalar.indexCast v2031
  let c55_1263 : Index := 55#32
  ![v2323.toNat, 55]
def k0_off725 (v2320 : BitVec 32) : Fin 4 → Nat :=
  let c4_1264 : Index := 4#32
  let v2325 : Index := Scalar.indexCast v2320
  let c0_1265 : Index := 0#32
  let c0_1266 : Index := 0#32
  ![4, v2325.toNat, 0, 0]

def k0_chk233 (v2320 : BitVec 32) : Prop :=
  (∀ a, (k0_off725 v2320) a + S1x3x7x256.size a ≤ S32x14x7x256.size a)
theorem k0_off725_inb : ∀ (v2320 : BitVec 32) (k0_hw233 : k0_chk233 v2320), ∀ a, (k0_off725 v2320) a + S1x3x7x256.size a ≤ S32x14x7x256.size a := fun v2320 k0_hw233 => k0_hw233

def k0_off726 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2341 : Index := Scalar.indexCast v2031
  let c56_1272 : Index := 56#32
  ![v2341.toNat, 56]
def k0_off727 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2343 : Index := Scalar.indexCast v2031
  let c57_1273 : Index := 57#32
  ![v2343.toNat, 57]
def k0_off728 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2345 : Index := Scalar.indexCast v2031
  let c58_1274 : Index := 58#32
  ![v2345.toNat, 58]
def k0_off729 (v2342 : BitVec 32) : Fin 4 → Nat :=
  let c4_1275 : Index := 4#32
  let v2347 : Index := Scalar.indexCast v2342
  let c0_1276 : Index := 0#32
  let c0_1277 : Index := 0#32
  ![4, v2347.toNat, 0, 0]

def k0_chk234 (v2342 : BitVec 32) : Prop :=
  (∀ a, (k0_off729 v2342) a + S1x3x7x256.size a ≤ S32x14x7x256.size a)
theorem k0_off729_inb : ∀ (v2342 : BitVec 32) (k0_hw234 : k0_chk234 v2342), ∀ a, (k0_off729 v2342) a + S1x3x7x256.size a ≤ S32x14x7x256.size a := fun v2342 k0_hw234 => k0_hw234

def k0_off730 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2363 : Index := Scalar.indexCast v2031
  let c59_1283 : Index := 59#32
  ![v2363.toNat, 59]
def k0_off731 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2365 : Index := Scalar.indexCast v2031
  let c60_1284 : Index := 60#32
  ![v2365.toNat, 60]
def k0_off732 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2367 : Index := Scalar.indexCast v2031
  let c61_1285 : Index := 61#32
  ![v2367.toNat, 61]
def k0_off733 (v2364 : BitVec 32) : Fin 4 → Nat :=
  let c4_1286 : Index := 4#32
  let v2369 : Index := Scalar.indexCast v2364
  let c0_1287 : Index := 0#32
  let c0_1288 : Index := 0#32
  ![4, v2369.toNat, 0, 0]

def k0_chk235 (v2364 : BitVec 32) : Prop :=
  (∀ a, (k0_off733 v2364) a + S1x3x7x256.size a ≤ S32x14x7x256.size a)
theorem k0_off733_inb : ∀ (v2364 : BitVec 32) (k0_hw235 : k0_chk235 v2364), ∀ a, (k0_off733 v2364) a + S1x3x7x256.size a ≤ S32x14x7x256.size a := fun v2364 k0_hw235 => k0_hw235

def k0_off734 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2385 : Index := Scalar.indexCast v2031
  let c62_1294 : Index := 62#32
  ![v2385.toNat, 62]
def k0_off735 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2387 : Index := Scalar.indexCast v2031
  let c63_1295 : Index := 63#32
  ![v2387.toNat, 63]
def k0_off736 (i : grid0.Coords) : Fin 2 → Nat :=
  let c32_i32_1104 : BitVec 32 := 32#32
  let arg0 : BitVec 32 := BitVec.ofNat 32 (i 0).val
  let v2030 : BitVec 32 := Scalar.muli c32_i32_1104 arg0
  let c4_i32_1105 : BitVec 32 := 4#32
  let v2031 : BitVec 32 := Scalar.addi v2030 c4_i32_1105
  let v2389 : Index := Scalar.indexCast v2031
  let c64_1296 : Index := 64#32
  ![v2389.toNat, 64]
def k0_off737 (v2386 : BitVec 32) : Fin 4 → Nat :=
  let c4_1297 : Index := 4#32
  let v2391 : Index := Scalar.indexCast v2386
  let c0_1298 : Index := 0#32
  let c0_1299 : Index := 0#32
  ![4, v2391.toNat, 0, 0]

def k0_chk236 (v2386 : BitVec 32) : Prop :=
  (∀ a, (k0_off737 v2386) a + S1x3x7x256.size a ≤ S32x14x7x256.size a)
theorem k0_off737_inb : ∀ (v2386 : BitVec 32) (k0_hw236 : k0_chk236 v2386), ∀ a, (k0_off737 v2386) a + S1x3x7x256.size a ≤ S32x14x7x256.size a := fun v2386 k0_hw236 => k0_hw236

def k0_off738 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2412 : Index := Scalar.indexCast v2408
  let c16_1310 : Index := 16#32
  ![v2412.toNat, 16]
def k0_off739 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2414 : Index := Scalar.indexCast v2408
  let c17_1311 : Index := 17#32
  ![v2414.toNat, 17]
def k0_off740 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2416 : Index := Scalar.indexCast v2408
  let c18_1312 : Index := 18#32
  ![v2416.toNat, 18]
def k0_off741 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2418 : Index := Scalar.indexCast v2408
  let c19_1313 : Index := 19#32
  ![v2418.toNat, 19]
def k0_off742 (i : grid0.Coords) (v2413 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2420 : Index := Scalar.indexCast v2410
  let c0_1314 : Index := 0#32
  let v2421 : Index := Scalar.indexCast v2413
  let c0_1315 : Index := 0#32
  ![v2420.toNat, 0, v2421.toNat, 0]

def k0_chk237 (i : grid0.Coords) (v2413 : BitVec 32) : Prop :=
  (∀ a, (k0_off742 i v2413) a + S1x14x1x256.size a ≤ S64x14x24x256.size a)
theorem k0_off742_inb : ∀ (i : grid0.Coords) (v2413 : BitVec 32) (k0_hw237 : k0_chk237 i v2413), ∀ a, (k0_off742 i v2413) a + S1x14x1x256.size a ≤ S64x14x24x256.size a := fun i v2413 k0_hw237 => k0_hw237

def k0_off743 (i : grid0.Coords) (v2415 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2424 : Index := Scalar.indexCast v2410
  let c0_1316 : Index := 0#32
  let v2425 : Index := Scalar.indexCast v2415
  let c0_1317 : Index := 0#32
  ![v2424.toNat, 0, v2425.toNat, 0]

def k0_chk238 (i : grid0.Coords) (v2415 : BitVec 32) : Prop :=
  (∀ a, (k0_off743 i v2415) a + S1x14x1x256.size a ≤ S64x14x24x256.size a)
theorem k0_off743_inb : ∀ (i : grid0.Coords) (v2415 : BitVec 32) (k0_hw238 : k0_chk238 i v2415), ∀ a, (k0_off743 i v2415) a + S1x14x1x256.size a ≤ S64x14x24x256.size a := fun i v2415 k0_hw238 => k0_hw238

def k0_off744 (i : grid0.Coords) (v2417 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2428 : Index := Scalar.indexCast v2410
  let c0_1318 : Index := 0#32
  let v2429 : Index := Scalar.indexCast v2417
  let c0_1319 : Index := 0#32
  ![v2428.toNat, 0, v2429.toNat, 0]

def k0_chk239 (i : grid0.Coords) (v2417 : BitVec 32) : Prop :=
  (∀ a, (k0_off744 i v2417) a + S1x14x1x256.size a ≤ S64x14x24x256.size a)
theorem k0_off744_inb : ∀ (i : grid0.Coords) (v2417 : BitVec 32) (k0_hw239 : k0_chk239 i v2417), ∀ a, (k0_off744 i v2417) a + S1x14x1x256.size a ≤ S64x14x24x256.size a := fun i v2417 k0_hw239 => k0_hw239

def k0_off745 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2443 : Index := Scalar.indexCast v2408
  let c20_1327 : Index := 20#32
  ![v2443.toNat, 20]
def k0_off746 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2445 : Index := Scalar.indexCast v2408
  let c21_1328 : Index := 21#32
  ![v2445.toNat, 21]
def k0_off747 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2447 : Index := Scalar.indexCast v2408
  let c22_1329 : Index := 22#32
  ![v2447.toNat, 22]
def k0_off748 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2449 : Index := Scalar.indexCast v2408
  let c23_1330 : Index := 23#32
  ![v2449.toNat, 23]
def k0_off749 (i : grid0.Coords) (v2444 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2451 : Index := Scalar.indexCast v2410
  let c0_1331 : Index := 0#32
  let v2452 : Index := Scalar.indexCast v2444
  let c0_1332 : Index := 0#32
  ![v2451.toNat, 0, v2452.toNat, 0]

def k0_chk240 (i : grid0.Coords) (v2444 : BitVec 32) : Prop :=
  (∀ a, (k0_off749 i v2444) a + S1x14x1x256.size a ≤ S64x14x24x256.size a)
theorem k0_off749_inb : ∀ (i : grid0.Coords) (v2444 : BitVec 32) (k0_hw240 : k0_chk240 i v2444), ∀ a, (k0_off749 i v2444) a + S1x14x1x256.size a ≤ S64x14x24x256.size a := fun i v2444 k0_hw240 => k0_hw240

def k0_off750 (i : grid0.Coords) (v2446 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2455 : Index := Scalar.indexCast v2410
  let c0_1333 : Index := 0#32
  let v2456 : Index := Scalar.indexCast v2446
  let c0_1334 : Index := 0#32
  ![v2455.toNat, 0, v2456.toNat, 0]

def k0_chk241 (i : grid0.Coords) (v2446 : BitVec 32) : Prop :=
  (∀ a, (k0_off750 i v2446) a + S1x14x1x256.size a ≤ S64x14x24x256.size a)
theorem k0_off750_inb : ∀ (i : grid0.Coords) (v2446 : BitVec 32) (k0_hw241 : k0_chk241 i v2446), ∀ a, (k0_off750 i v2446) a + S1x14x1x256.size a ≤ S64x14x24x256.size a := fun i v2446 k0_hw241 => k0_hw241

def k0_off751 (i : grid0.Coords) (v2448 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2459 : Index := Scalar.indexCast v2410
  let c0_1335 : Index := 0#32
  let v2460 : Index := Scalar.indexCast v2448
  let c0_1336 : Index := 0#32
  ![v2459.toNat, 0, v2460.toNat, 0]

def k0_chk242 (i : grid0.Coords) (v2448 : BitVec 32) : Prop :=
  (∀ a, (k0_off751 i v2448) a + S1x14x1x256.size a ≤ S64x14x24x256.size a)
theorem k0_off751_inb : ∀ (i : grid0.Coords) (v2448 : BitVec 32) (k0_hw242 : k0_chk242 i v2448), ∀ a, (k0_off751 i v2448) a + S1x14x1x256.size a ≤ S64x14x24x256.size a := fun i v2448 k0_hw242 => k0_hw242

def k0_off752 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2474 : Index := Scalar.indexCast v2408
  let c24_1344 : Index := 24#32
  ![v2474.toNat, 24]
def k0_off753 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2476 : Index := Scalar.indexCast v2408
  let c25_1345 : Index := 25#32
  ![v2476.toNat, 25]
def k0_off754 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2478 : Index := Scalar.indexCast v2408
  let c26_1346 : Index := 26#32
  ![v2478.toNat, 26]
def k0_off755 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2480 : Index := Scalar.indexCast v2408
  let c27_1347 : Index := 27#32
  ![v2480.toNat, 27]
def k0_off756 (i : grid0.Coords) (v2475 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2482 : Index := Scalar.indexCast v2410
  let c0_1348 : Index := 0#32
  let v2483 : Index := Scalar.indexCast v2475
  let c0_1349 : Index := 0#32
  ![v2482.toNat, 0, v2483.toNat, 0]

def k0_chk243 (i : grid0.Coords) (v2475 : BitVec 32) : Prop :=
  (∀ a, (k0_off756 i v2475) a + S1x14x1x256.size a ≤ S64x14x24x256.size a)
theorem k0_off756_inb : ∀ (i : grid0.Coords) (v2475 : BitVec 32) (k0_hw243 : k0_chk243 i v2475), ∀ a, (k0_off756 i v2475) a + S1x14x1x256.size a ≤ S64x14x24x256.size a := fun i v2475 k0_hw243 => k0_hw243

def k0_off757 (i : grid0.Coords) (v2477 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2486 : Index := Scalar.indexCast v2410
  let c0_1350 : Index := 0#32
  let v2487 : Index := Scalar.indexCast v2477
  let c0_1351 : Index := 0#32
  ![v2486.toNat, 0, v2487.toNat, 0]

def k0_chk244 (i : grid0.Coords) (v2477 : BitVec 32) : Prop :=
  (∀ a, (k0_off757 i v2477) a + S1x14x1x256.size a ≤ S64x14x24x256.size a)
theorem k0_off757_inb : ∀ (i : grid0.Coords) (v2477 : BitVec 32) (k0_hw244 : k0_chk244 i v2477), ∀ a, (k0_off757 i v2477) a + S1x14x1x256.size a ≤ S64x14x24x256.size a := fun i v2477 k0_hw244 => k0_hw244

def k0_off758 (i : grid0.Coords) (v2479 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2490 : Index := Scalar.indexCast v2410
  let c0_1352 : Index := 0#32
  let v2491 : Index := Scalar.indexCast v2479
  let c0_1353 : Index := 0#32
  ![v2490.toNat, 0, v2491.toNat, 0]

def k0_chk245 (i : grid0.Coords) (v2479 : BitVec 32) : Prop :=
  (∀ a, (k0_off758 i v2479) a + S1x14x1x256.size a ≤ S64x14x24x256.size a)
theorem k0_off758_inb : ∀ (i : grid0.Coords) (v2479 : BitVec 32) (k0_hw245 : k0_chk245 i v2479), ∀ a, (k0_off758 i v2479) a + S1x14x1x256.size a ≤ S64x14x24x256.size a := fun i v2479 k0_hw245 => k0_hw245

def k0_off759 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2505 : Index := Scalar.indexCast v2408
  let c28_1361 : Index := 28#32
  ![v2505.toNat, 28]
def k0_off760 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2507 : Index := Scalar.indexCast v2408
  let c29_1362 : Index := 29#32
  ![v2507.toNat, 29]
def k0_off761 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2509 : Index := Scalar.indexCast v2408
  let c30_1363 : Index := 30#32
  ![v2509.toNat, 30]
def k0_off762 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2511 : Index := Scalar.indexCast v2408
  let c31_1364 : Index := 31#32
  ![v2511.toNat, 31]
def k0_off763 (i : grid0.Coords) (v2506 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2513 : Index := Scalar.indexCast v2410
  let c0_1365 : Index := 0#32
  let v2514 : Index := Scalar.indexCast v2506
  let c0_1366 : Index := 0#32
  ![v2513.toNat, 0, v2514.toNat, 0]

def k0_chk246 (i : grid0.Coords) (v2506 : BitVec 32) : Prop :=
  (∀ a, (k0_off763 i v2506) a + S1x14x1x256.size a ≤ S64x14x24x256.size a)
theorem k0_off763_inb : ∀ (i : grid0.Coords) (v2506 : BitVec 32) (k0_hw246 : k0_chk246 i v2506), ∀ a, (k0_off763 i v2506) a + S1x14x1x256.size a ≤ S64x14x24x256.size a := fun i v2506 k0_hw246 => k0_hw246

def k0_off764 (i : grid0.Coords) (v2508 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2517 : Index := Scalar.indexCast v2410
  let c0_1367 : Index := 0#32
  let v2518 : Index := Scalar.indexCast v2508
  let c0_1368 : Index := 0#32
  ![v2517.toNat, 0, v2518.toNat, 0]

def k0_chk247 (i : grid0.Coords) (v2508 : BitVec 32) : Prop :=
  (∀ a, (k0_off764 i v2508) a + S1x14x1x256.size a ≤ S64x14x24x256.size a)
theorem k0_off764_inb : ∀ (i : grid0.Coords) (v2508 : BitVec 32) (k0_hw247 : k0_chk247 i v2508), ∀ a, (k0_off764 i v2508) a + S1x14x1x256.size a ≤ S64x14x24x256.size a := fun i v2508 k0_hw247 => k0_hw247

def k0_off765 (i : grid0.Coords) (v2510 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2521 : Index := Scalar.indexCast v2410
  let c0_1369 : Index := 0#32
  let v2522 : Index := Scalar.indexCast v2510
  let c0_1370 : Index := 0#32
  ![v2521.toNat, 0, v2522.toNat, 0]

def k0_chk248 (i : grid0.Coords) (v2510 : BitVec 32) : Prop :=
  (∀ a, (k0_off765 i v2510) a + S1x14x1x256.size a ≤ S64x14x24x256.size a)
theorem k0_off765_inb : ∀ (i : grid0.Coords) (v2510 : BitVec 32) (k0_hw248 : k0_chk248 i v2510), ∀ a, (k0_off765 i v2510) a + S1x14x1x256.size a ≤ S64x14x24x256.size a := fun i v2510 k0_hw248 => k0_hw248

def k0_off766 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2536 : Index := Scalar.indexCast v2408
  let c32_1378 : Index := 32#32
  ![v2536.toNat, 32]
def k0_off767 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2538 : Index := Scalar.indexCast v2408
  let c33_1379 : Index := 33#32
  ![v2538.toNat, 33]
def k0_off768 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2540 : Index := Scalar.indexCast v2408
  let c34_1380 : Index := 34#32
  ![v2540.toNat, 34]
def k0_off769 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2542 : Index := Scalar.indexCast v2408
  let c35_1381 : Index := 35#32
  ![v2542.toNat, 35]
def k0_off770 (i : grid0.Coords) (v2537 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2544 : Index := Scalar.indexCast v2410
  let c0_1382 : Index := 0#32
  let v2545 : Index := Scalar.indexCast v2537
  let c0_1383 : Index := 0#32
  ![v2544.toNat, 0, v2545.toNat, 0]

def k0_chk249 (i : grid0.Coords) (v2537 : BitVec 32) : Prop :=
  (∀ a, (k0_off770 i v2537) a + S1x14x1x256.size a ≤ S64x14x24x256.size a)
theorem k0_off770_inb : ∀ (i : grid0.Coords) (v2537 : BitVec 32) (k0_hw249 : k0_chk249 i v2537), ∀ a, (k0_off770 i v2537) a + S1x14x1x256.size a ≤ S64x14x24x256.size a := fun i v2537 k0_hw249 => k0_hw249

def k0_off771 (i : grid0.Coords) (v2539 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2548 : Index := Scalar.indexCast v2410
  let c0_1384 : Index := 0#32
  let v2549 : Index := Scalar.indexCast v2539
  let c0_1385 : Index := 0#32
  ![v2548.toNat, 0, v2549.toNat, 0]

def k0_chk250 (i : grid0.Coords) (v2539 : BitVec 32) : Prop :=
  (∀ a, (k0_off771 i v2539) a + S1x14x1x256.size a ≤ S64x14x24x256.size a)
theorem k0_off771_inb : ∀ (i : grid0.Coords) (v2539 : BitVec 32) (k0_hw250 : k0_chk250 i v2539), ∀ a, (k0_off771 i v2539) a + S1x14x1x256.size a ≤ S64x14x24x256.size a := fun i v2539 k0_hw250 => k0_hw250

def k0_off772 (i : grid0.Coords) (v2541 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2552 : Index := Scalar.indexCast v2410
  let c0_1386 : Index := 0#32
  let v2553 : Index := Scalar.indexCast v2541
  let c0_1387 : Index := 0#32
  ![v2552.toNat, 0, v2553.toNat, 0]

def k0_chk251 (i : grid0.Coords) (v2541 : BitVec 32) : Prop :=
  (∀ a, (k0_off772 i v2541) a + S1x14x1x256.size a ≤ S64x14x24x256.size a)
theorem k0_off772_inb : ∀ (i : grid0.Coords) (v2541 : BitVec 32) (k0_hw251 : k0_chk251 i v2541), ∀ a, (k0_off772 i v2541) a + S1x14x1x256.size a ≤ S64x14x24x256.size a := fun i v2541 k0_hw251 => k0_hw251

def k0_off773 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2567 : Index := Scalar.indexCast v2408
  let c36_1395 : Index := 36#32
  ![v2567.toNat, 36]
def k0_off774 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2569 : Index := Scalar.indexCast v2408
  let c37_1396 : Index := 37#32
  ![v2569.toNat, 37]
def k0_off775 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2571 : Index := Scalar.indexCast v2408
  let c38_1397 : Index := 38#32
  ![v2571.toNat, 38]
def k0_off776 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2573 : Index := Scalar.indexCast v2408
  let c39_1398 : Index := 39#32
  ![v2573.toNat, 39]
def k0_off777 (i : grid0.Coords) (v2568 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2575 : Index := Scalar.indexCast v2410
  let c0_1399 : Index := 0#32
  let v2576 : Index := Scalar.indexCast v2568
  let c0_1400 : Index := 0#32
  ![v2575.toNat, 0, v2576.toNat, 0]

def k0_chk252 (i : grid0.Coords) (v2568 : BitVec 32) : Prop :=
  (∀ a, (k0_off777 i v2568) a + S1x14x1x256.size a ≤ S64x14x24x256.size a)
theorem k0_off777_inb : ∀ (i : grid0.Coords) (v2568 : BitVec 32) (k0_hw252 : k0_chk252 i v2568), ∀ a, (k0_off777 i v2568) a + S1x14x1x256.size a ≤ S64x14x24x256.size a := fun i v2568 k0_hw252 => k0_hw252

def k0_off778 (i : grid0.Coords) (v2570 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2579 : Index := Scalar.indexCast v2410
  let c0_1401 : Index := 0#32
  let v2580 : Index := Scalar.indexCast v2570
  let c0_1402 : Index := 0#32
  ![v2579.toNat, 0, v2580.toNat, 0]

def k0_chk253 (i : grid0.Coords) (v2570 : BitVec 32) : Prop :=
  (∀ a, (k0_off778 i v2570) a + S1x14x1x256.size a ≤ S64x14x24x256.size a)
theorem k0_off778_inb : ∀ (i : grid0.Coords) (v2570 : BitVec 32) (k0_hw253 : k0_chk253 i v2570), ∀ a, (k0_off778 i v2570) a + S1x14x1x256.size a ≤ S64x14x24x256.size a := fun i v2570 k0_hw253 => k0_hw253

def k0_off779 (i : grid0.Coords) (v2572 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2583 : Index := Scalar.indexCast v2410
  let c0_1403 : Index := 0#32
  let v2584 : Index := Scalar.indexCast v2572
  let c0_1404 : Index := 0#32
  ![v2583.toNat, 0, v2584.toNat, 0]

def k0_chk254 (i : grid0.Coords) (v2572 : BitVec 32) : Prop :=
  (∀ a, (k0_off779 i v2572) a + S1x14x1x256.size a ≤ S64x14x24x256.size a)
theorem k0_off779_inb : ∀ (i : grid0.Coords) (v2572 : BitVec 32) (k0_hw254 : k0_chk254 i v2572), ∀ a, (k0_off779 i v2572) a + S1x14x1x256.size a ≤ S64x14x24x256.size a := fun i v2572 k0_hw254 => k0_hw254

def k0_off780 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2598 : Index := Scalar.indexCast v2408
  let c40_1412 : Index := 40#32
  ![v2598.toNat, 40]
def k0_off781 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2600 : Index := Scalar.indexCast v2408
  let c41_1413 : Index := 41#32
  ![v2600.toNat, 41]
def k0_off782 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2602 : Index := Scalar.indexCast v2408
  let c42_1414 : Index := 42#32
  ![v2602.toNat, 42]
def k0_off783 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2604 : Index := Scalar.indexCast v2408
  let c43_1415 : Index := 43#32
  ![v2604.toNat, 43]
def k0_off784 (i : grid0.Coords) (v2599 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2606 : Index := Scalar.indexCast v2410
  let c0_1416 : Index := 0#32
  let v2607 : Index := Scalar.indexCast v2599
  let c0_1417 : Index := 0#32
  ![v2606.toNat, 0, v2607.toNat, 0]

def k0_chk255 (i : grid0.Coords) (v2599 : BitVec 32) : Prop :=
  (∀ a, (k0_off784 i v2599) a + S1x14x1x256.size a ≤ S64x14x24x256.size a)
theorem k0_off784_inb : ∀ (i : grid0.Coords) (v2599 : BitVec 32) (k0_hw255 : k0_chk255 i v2599), ∀ a, (k0_off784 i v2599) a + S1x14x1x256.size a ≤ S64x14x24x256.size a := fun i v2599 k0_hw255 => k0_hw255

def k0_off785 (i : grid0.Coords) (v2601 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2610 : Index := Scalar.indexCast v2410
  let c0_1418 : Index := 0#32
  let v2611 : Index := Scalar.indexCast v2601
  let c0_1419 : Index := 0#32
  ![v2610.toNat, 0, v2611.toNat, 0]

def k0_chk256 (i : grid0.Coords) (v2601 : BitVec 32) : Prop :=
  (∀ a, (k0_off785 i v2601) a + S1x14x1x256.size a ≤ S64x14x24x256.size a)
theorem k0_off785_inb : ∀ (i : grid0.Coords) (v2601 : BitVec 32) (k0_hw256 : k0_chk256 i v2601), ∀ a, (k0_off785 i v2601) a + S1x14x1x256.size a ≤ S64x14x24x256.size a := fun i v2601 k0_hw256 => k0_hw256

def k0_off786 (i : grid0.Coords) (v2603 : BitVec 32) : Fin 4 → Nat :=
  let c32_i32_1307 : BitVec 32 := 32#32
  let arg0 : BitVec 32 := BitVec.ofNat 32 (i 0).val
  let c2_i32 : BitVec 32 := 2#32
  let v0 : BitVec 32 := Scalar.remsi arg0 c2_i32
  let v2409 : BitVec 32 := Scalar.muli c32_i32_1307 v0
  let c5_i32_1308 : BitVec 32 := 5#32
  let v2410 : BitVec 32 := Scalar.addi v2409 c5_i32_1308
  let v2614 : Index := Scalar.indexCast v2410
  let c0_1420 : Index := 0#32
  let v2615 : Index := Scalar.indexCast v2603
  let c0_1421 : Index := 0#32
  ![v2614.toNat, 0, v2615.toNat, 0]

def k0_chk257 (i : grid0.Coords) (v2603 : BitVec 32) : Prop :=
  (∀ a, (k0_off786 i v2603) a + S1x14x1x256.size a ≤ S64x14x24x256.size a)
theorem k0_off786_inb : ∀ (i : grid0.Coords) (v2603 : BitVec 32) (k0_hw257 : k0_chk257 i v2603), ∀ a, (k0_off786 i v2603) a + S1x14x1x256.size a ≤ S64x14x24x256.size a := fun i v2603 k0_hw257 => k0_hw257

def k0_off787 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2630 : Index := Scalar.indexCast v2408
  let c44_1429 : Index := 44#32
  ![v2630.toNat, 44]
def k0_off788 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2632 : Index := Scalar.indexCast v2408
  let c45_1430 : Index := 45#32
  ![v2632.toNat, 45]
def k0_off789 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2634 : Index := Scalar.indexCast v2408
  let c46_1431 : Index := 46#32
  ![v2634.toNat, 46]
def k0_off790 (v2631 : BitVec 32) : Fin 4 → Nat :=
  let c5_1432 : Index := 5#32
  let v2636 : Index := Scalar.indexCast v2631
  let c0_1433 : Index := 0#32
  let c0_1434 : Index := 0#32
  ![5, v2636.toNat, 0, 0]

def k0_chk258 (v2631 : BitVec 32) : Prop :=
  (∀ a, (k0_off790 v2631) a + S1x3x7x256.size a ≤ S32x14x7x256.size a)
theorem k0_off790_inb : ∀ (v2631 : BitVec 32) (k0_hw258 : k0_chk258 v2631), ∀ a, (k0_off790 v2631) a + S1x3x7x256.size a ≤ S32x14x7x256.size a := fun v2631 k0_hw258 => k0_hw258

def k0_off791 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2652 : Index := Scalar.indexCast v2408
  let c47_1440 : Index := 47#32
  ![v2652.toNat, 47]
def k0_off792 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2654 : Index := Scalar.indexCast v2408
  let c48_1441 : Index := 48#32
  ![v2654.toNat, 48]
def k0_off793 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2656 : Index := Scalar.indexCast v2408
  let c49_1442 : Index := 49#32
  ![v2656.toNat, 49]
def k0_off794 (v2653 : BitVec 32) : Fin 4 → Nat :=
  let c5_1443 : Index := 5#32
  let v2658 : Index := Scalar.indexCast v2653
  let c0_1444 : Index := 0#32
  let c0_1445 : Index := 0#32
  ![5, v2658.toNat, 0, 0]

def k0_chk259 (v2653 : BitVec 32) : Prop :=
  (∀ a, (k0_off794 v2653) a + S1x3x7x256.size a ≤ S32x14x7x256.size a)
theorem k0_off794_inb : ∀ (v2653 : BitVec 32) (k0_hw259 : k0_chk259 v2653), ∀ a, (k0_off794 v2653) a + S1x3x7x256.size a ≤ S32x14x7x256.size a := fun v2653 k0_hw259 => k0_hw259

def k0_off795 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2674 : Index := Scalar.indexCast v2408
  let c50_1451 : Index := 50#32
  ![v2674.toNat, 50]
def k0_off796 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2676 : Index := Scalar.indexCast v2408
  let c51_1452 : Index := 51#32
  ![v2676.toNat, 51]
def k0_off797 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2678 : Index := Scalar.indexCast v2408
  let c52_1453 : Index := 52#32
  ![v2678.toNat, 52]
def k0_off798 (v2675 : BitVec 32) : Fin 4 → Nat :=
  let c5_1454 : Index := 5#32
  let v2680 : Index := Scalar.indexCast v2675
  let c0_1455 : Index := 0#32
  let c0_1456 : Index := 0#32
  ![5, v2680.toNat, 0, 0]

def k0_chk260 (v2675 : BitVec 32) : Prop :=
  (∀ a, (k0_off798 v2675) a + S1x3x7x256.size a ≤ S32x14x7x256.size a)
theorem k0_off798_inb : ∀ (v2675 : BitVec 32) (k0_hw260 : k0_chk260 v2675), ∀ a, (k0_off798 v2675) a + S1x3x7x256.size a ≤ S32x14x7x256.size a := fun v2675 k0_hw260 => k0_hw260

def k0_off799 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2696 : Index := Scalar.indexCast v2408
  let c53_1462 : Index := 53#32
  ![v2696.toNat, 53]
def k0_off800 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2698 : Index := Scalar.indexCast v2408
  let c54_1463 : Index := 54#32
  ![v2698.toNat, 54]
def k0_off801 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2700 : Index := Scalar.indexCast v2408
  let c55_1464 : Index := 55#32
  ![v2700.toNat, 55]
def k0_off802 (v2697 : BitVec 32) : Fin 4 → Nat :=
  let c5_1465 : Index := 5#32
  let v2702 : Index := Scalar.indexCast v2697
  let c0_1466 : Index := 0#32
  let c0_1467 : Index := 0#32
  ![5, v2702.toNat, 0, 0]

def k0_chk261 (v2697 : BitVec 32) : Prop :=
  (∀ a, (k0_off802 v2697) a + S1x3x7x256.size a ≤ S32x14x7x256.size a)
theorem k0_off802_inb : ∀ (v2697 : BitVec 32) (k0_hw261 : k0_chk261 v2697), ∀ a, (k0_off802 v2697) a + S1x3x7x256.size a ≤ S32x14x7x256.size a := fun v2697 k0_hw261 => k0_hw261

def k0_off803 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2718 : Index := Scalar.indexCast v2408
  let c56_1473 : Index := 56#32
  ![v2718.toNat, 56]
def k0_off804 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2720 : Index := Scalar.indexCast v2408
  let c57_1474 : Index := 57#32
  ![v2720.toNat, 57]
def k0_off805 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2722 : Index := Scalar.indexCast v2408
  let c58_1475 : Index := 58#32
  ![v2722.toNat, 58]
def k0_off806 (v2719 : BitVec 32) : Fin 4 → Nat :=
  let c5_1476 : Index := 5#32
  let v2724 : Index := Scalar.indexCast v2719
  let c0_1477 : Index := 0#32
  let c0_1478 : Index := 0#32
  ![5, v2724.toNat, 0, 0]

def k0_chk262 (v2719 : BitVec 32) : Prop :=
  (∀ a, (k0_off806 v2719) a + S1x3x7x256.size a ≤ S32x14x7x256.size a)
theorem k0_off806_inb : ∀ (v2719 : BitVec 32) (k0_hw262 : k0_chk262 v2719), ∀ a, (k0_off806 v2719) a + S1x3x7x256.size a ≤ S32x14x7x256.size a := fun v2719 k0_hw262 => k0_hw262

def k0_off807 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2740 : Index := Scalar.indexCast v2408
  let c59_1484 : Index := 59#32
  ![v2740.toNat, 59]
def k0_off808 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2742 : Index := Scalar.indexCast v2408
  let c60_1485 : Index := 60#32
  ![v2742.toNat, 60]
def k0_off809 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2744 : Index := Scalar.indexCast v2408
  let c61_1486 : Index := 61#32
  ![v2744.toNat, 61]
def k0_off810 (v2741 : BitVec 32) : Fin 4 → Nat :=
  let c5_1487 : Index := 5#32
  let v2746 : Index := Scalar.indexCast v2741
  let c0_1488 : Index := 0#32
  let c0_1489 : Index := 0#32
  ![5, v2746.toNat, 0, 0]

def k0_chk263 (v2741 : BitVec 32) : Prop :=
  (∀ a, (k0_off810 v2741) a + S1x3x7x256.size a ≤ S32x14x7x256.size a)
theorem k0_off810_inb : ∀ (v2741 : BitVec 32) (k0_hw263 : k0_chk263 v2741), ∀ a, (k0_off810 v2741) a + S1x3x7x256.size a ≤ S32x14x7x256.size a := fun v2741 k0_hw263 => k0_hw263

def k0_off811 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2762 : Index := Scalar.indexCast v2408
  let c62_1495 : Index := 62#32
  ![v2762.toNat, 62]
def k0_off812 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2764 : Index := Scalar.indexCast v2408
  let c63_1496 : Index := 63#32
  ![v2764.toNat, 63]
def k0_off813 (i : grid0.Coords) : Fin 2 → Nat :=
  let c32_i32_1305 : BitVec 32 := 32#32
  let arg0 : BitVec 32 := BitVec.ofNat 32 (i 0).val
  let v2407 : BitVec 32 := Scalar.muli c32_i32_1305 arg0
  let c5_i32_1306 : BitVec 32 := 5#32
  let v2408 : BitVec 32 := Scalar.addi v2407 c5_i32_1306
  let v2766 : Index := Scalar.indexCast v2408
  let c64_1497 : Index := 64#32
  ![v2766.toNat, 64]
def k0_off814 (v2763 : BitVec 32) : Fin 4 → Nat :=
  let c5_1498 : Index := 5#32
  let v2768 : Index := Scalar.indexCast v2763
  let c0_1499 : Index := 0#32
  let c0_1500 : Index := 0#32
  ![5, v2768.toNat, 0, 0]

def k0_chk264 (v2763 : BitVec 32) : Prop :=
  (∀ a, (k0_off814 v2763) a + S1x3x7x256.size a ≤ S32x14x7x256.size a)
theorem k0_off814_inb : ∀ (v2763 : BitVec 32) (k0_hw264 : k0_chk264 v2763), ∀ a, (k0_off814 v2763) a + S1x3x7x256.size a ≤ S32x14x7x256.size a := fun v2763 k0_hw264 => k0_hw264

def k0_off815 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2789 : Index := Scalar.indexCast v2785
  let c16_1511 : Index := 16#32
  ![v2789.toNat, 16]
def k0_off816 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2791 : Index := Scalar.indexCast v2785
  let c17_1512 : Index := 17#32
  ![v2791.toNat, 17]
def k0_off817 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2793 : Index := Scalar.indexCast v2785
  let c18_1513 : Index := 18#32
  ![v2793.toNat, 18]
def k0_off818 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2795 : Index := Scalar.indexCast v2785
  let c19_1514 : Index := 19#32
  ![v2795.toNat, 19]
def k0_off819 (i : grid0.Coords) (v2790 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2797 : Index := Scalar.indexCast v2787
  let c0_1515 : Index := 0#32
  let v2798 : Index := Scalar.indexCast v2790
  let c0_1516 : Index := 0#32
  ![v2797.toNat, 0, v2798.toNat, 0]

def k0_chk265 (i : grid0.Coords) (v2790 : BitVec 32) : Prop :=
  (∀ a, (k0_off819 i v2790) a + S1x14x1x256.size a ≤ S64x14x24x256.size a)
theorem k0_off819_inb : ∀ (i : grid0.Coords) (v2790 : BitVec 32) (k0_hw265 : k0_chk265 i v2790), ∀ a, (k0_off819 i v2790) a + S1x14x1x256.size a ≤ S64x14x24x256.size a := fun i v2790 k0_hw265 => k0_hw265

def k0_off820 (i : grid0.Coords) (v2792 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2801 : Index := Scalar.indexCast v2787
  let c0_1517 : Index := 0#32
  let v2802 : Index := Scalar.indexCast v2792
  let c0_1518 : Index := 0#32
  ![v2801.toNat, 0, v2802.toNat, 0]

def k0_chk266 (i : grid0.Coords) (v2792 : BitVec 32) : Prop :=
  (∀ a, (k0_off820 i v2792) a + S1x14x1x256.size a ≤ S64x14x24x256.size a)
theorem k0_off820_inb : ∀ (i : grid0.Coords) (v2792 : BitVec 32) (k0_hw266 : k0_chk266 i v2792), ∀ a, (k0_off820 i v2792) a + S1x14x1x256.size a ≤ S64x14x24x256.size a := fun i v2792 k0_hw266 => k0_hw266

def k0_off821 (i : grid0.Coords) (v2794 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2805 : Index := Scalar.indexCast v2787
  let c0_1519 : Index := 0#32
  let v2806 : Index := Scalar.indexCast v2794
  let c0_1520 : Index := 0#32
  ![v2805.toNat, 0, v2806.toNat, 0]

def k0_chk267 (i : grid0.Coords) (v2794 : BitVec 32) : Prop :=
  (∀ a, (k0_off821 i v2794) a + S1x14x1x256.size a ≤ S64x14x24x256.size a)
theorem k0_off821_inb : ∀ (i : grid0.Coords) (v2794 : BitVec 32) (k0_hw267 : k0_chk267 i v2794), ∀ a, (k0_off821 i v2794) a + S1x14x1x256.size a ≤ S64x14x24x256.size a := fun i v2794 k0_hw267 => k0_hw267

def k0_off822 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2820 : Index := Scalar.indexCast v2785
  let c20_1528 : Index := 20#32
  ![v2820.toNat, 20]
def k0_off823 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2822 : Index := Scalar.indexCast v2785
  let c21_1529 : Index := 21#32
  ![v2822.toNat, 21]
def k0_off824 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2824 : Index := Scalar.indexCast v2785
  let c22_1530 : Index := 22#32
  ![v2824.toNat, 22]
def k0_off825 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2826 : Index := Scalar.indexCast v2785
  let c23_1531 : Index := 23#32
  ![v2826.toNat, 23]
def k0_off826 (i : grid0.Coords) (v2821 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2828 : Index := Scalar.indexCast v2787
  let c0_1532 : Index := 0#32
  let v2829 : Index := Scalar.indexCast v2821
  let c0_1533 : Index := 0#32
  ![v2828.toNat, 0, v2829.toNat, 0]

def k0_chk268 (i : grid0.Coords) (v2821 : BitVec 32) : Prop :=
  (∀ a, (k0_off826 i v2821) a + S1x14x1x256.size a ≤ S64x14x24x256.size a)
theorem k0_off826_inb : ∀ (i : grid0.Coords) (v2821 : BitVec 32) (k0_hw268 : k0_chk268 i v2821), ∀ a, (k0_off826 i v2821) a + S1x14x1x256.size a ≤ S64x14x24x256.size a := fun i v2821 k0_hw268 => k0_hw268

def k0_off827 (i : grid0.Coords) (v2823 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2832 : Index := Scalar.indexCast v2787
  let c0_1534 : Index := 0#32
  let v2833 : Index := Scalar.indexCast v2823
  let c0_1535 : Index := 0#32
  ![v2832.toNat, 0, v2833.toNat, 0]

def k0_chk269 (i : grid0.Coords) (v2823 : BitVec 32) : Prop :=
  (∀ a, (k0_off827 i v2823) a + S1x14x1x256.size a ≤ S64x14x24x256.size a)
theorem k0_off827_inb : ∀ (i : grid0.Coords) (v2823 : BitVec 32) (k0_hw269 : k0_chk269 i v2823), ∀ a, (k0_off827 i v2823) a + S1x14x1x256.size a ≤ S64x14x24x256.size a := fun i v2823 k0_hw269 => k0_hw269

def k0_off828 (i : grid0.Coords) (v2825 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2836 : Index := Scalar.indexCast v2787
  let c0_1536 : Index := 0#32
  let v2837 : Index := Scalar.indexCast v2825
  let c0_1537 : Index := 0#32
  ![v2836.toNat, 0, v2837.toNat, 0]

def k0_chk270 (i : grid0.Coords) (v2825 : BitVec 32) : Prop :=
  (∀ a, (k0_off828 i v2825) a + S1x14x1x256.size a ≤ S64x14x24x256.size a)
theorem k0_off828_inb : ∀ (i : grid0.Coords) (v2825 : BitVec 32) (k0_hw270 : k0_chk270 i v2825), ∀ a, (k0_off828 i v2825) a + S1x14x1x256.size a ≤ S64x14x24x256.size a := fun i v2825 k0_hw270 => k0_hw270

def k0_off829 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2851 : Index := Scalar.indexCast v2785
  let c24_1545 : Index := 24#32
  ![v2851.toNat, 24]
def k0_off830 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2853 : Index := Scalar.indexCast v2785
  let c25_1546 : Index := 25#32
  ![v2853.toNat, 25]
def k0_off831 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2855 : Index := Scalar.indexCast v2785
  let c26_1547 : Index := 26#32
  ![v2855.toNat, 26]
def k0_off832 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2857 : Index := Scalar.indexCast v2785
  let c27_1548 : Index := 27#32
  ![v2857.toNat, 27]
def k0_off833 (i : grid0.Coords) (v2852 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2859 : Index := Scalar.indexCast v2787
  let c0_1549 : Index := 0#32
  let v2860 : Index := Scalar.indexCast v2852
  let c0_1550 : Index := 0#32
  ![v2859.toNat, 0, v2860.toNat, 0]

def k0_chk271 (i : grid0.Coords) (v2852 : BitVec 32) : Prop :=
  (∀ a, (k0_off833 i v2852) a + S1x14x1x256.size a ≤ S64x14x24x256.size a)
theorem k0_off833_inb : ∀ (i : grid0.Coords) (v2852 : BitVec 32) (k0_hw271 : k0_chk271 i v2852), ∀ a, (k0_off833 i v2852) a + S1x14x1x256.size a ≤ S64x14x24x256.size a := fun i v2852 k0_hw271 => k0_hw271

def k0_off834 (i : grid0.Coords) (v2854 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2863 : Index := Scalar.indexCast v2787
  let c0_1551 : Index := 0#32
  let v2864 : Index := Scalar.indexCast v2854
  let c0_1552 : Index := 0#32
  ![v2863.toNat, 0, v2864.toNat, 0]

def k0_chk272 (i : grid0.Coords) (v2854 : BitVec 32) : Prop :=
  (∀ a, (k0_off834 i v2854) a + S1x14x1x256.size a ≤ S64x14x24x256.size a)
theorem k0_off834_inb : ∀ (i : grid0.Coords) (v2854 : BitVec 32) (k0_hw272 : k0_chk272 i v2854), ∀ a, (k0_off834 i v2854) a + S1x14x1x256.size a ≤ S64x14x24x256.size a := fun i v2854 k0_hw272 => k0_hw272

def k0_off835 (i : grid0.Coords) (v2856 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2867 : Index := Scalar.indexCast v2787
  let c0_1553 : Index := 0#32
  let v2868 : Index := Scalar.indexCast v2856
  let c0_1554 : Index := 0#32
  ![v2867.toNat, 0, v2868.toNat, 0]

def k0_chk273 (i : grid0.Coords) (v2856 : BitVec 32) : Prop :=
  (∀ a, (k0_off835 i v2856) a + S1x14x1x256.size a ≤ S64x14x24x256.size a)
theorem k0_off835_inb : ∀ (i : grid0.Coords) (v2856 : BitVec 32) (k0_hw273 : k0_chk273 i v2856), ∀ a, (k0_off835 i v2856) a + S1x14x1x256.size a ≤ S64x14x24x256.size a := fun i v2856 k0_hw273 => k0_hw273

def k0_off836 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2882 : Index := Scalar.indexCast v2785
  let c28_1562 : Index := 28#32
  ![v2882.toNat, 28]
def k0_off837 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2884 : Index := Scalar.indexCast v2785
  let c29_1563 : Index := 29#32
  ![v2884.toNat, 29]
def k0_off838 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2886 : Index := Scalar.indexCast v2785
  let c30_1564 : Index := 30#32
  ![v2886.toNat, 30]
def k0_off839 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2888 : Index := Scalar.indexCast v2785
  let c31_1565 : Index := 31#32
  ![v2888.toNat, 31]
def k0_off840 (i : grid0.Coords) (v2883 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2890 : Index := Scalar.indexCast v2787
  let c0_1566 : Index := 0#32
  let v2891 : Index := Scalar.indexCast v2883
  let c0_1567 : Index := 0#32
  ![v2890.toNat, 0, v2891.toNat, 0]

def k0_chk274 (i : grid0.Coords) (v2883 : BitVec 32) : Prop :=
  (∀ a, (k0_off840 i v2883) a + S1x14x1x256.size a ≤ S64x14x24x256.size a)
theorem k0_off840_inb : ∀ (i : grid0.Coords) (v2883 : BitVec 32) (k0_hw274 : k0_chk274 i v2883), ∀ a, (k0_off840 i v2883) a + S1x14x1x256.size a ≤ S64x14x24x256.size a := fun i v2883 k0_hw274 => k0_hw274

def k0_off841 (i : grid0.Coords) (v2885 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2894 : Index := Scalar.indexCast v2787
  let c0_1568 : Index := 0#32
  let v2895 : Index := Scalar.indexCast v2885
  let c0_1569 : Index := 0#32
  ![v2894.toNat, 0, v2895.toNat, 0]

def k0_chk275 (i : grid0.Coords) (v2885 : BitVec 32) : Prop :=
  (∀ a, (k0_off841 i v2885) a + S1x14x1x256.size a ≤ S64x14x24x256.size a)
theorem k0_off841_inb : ∀ (i : grid0.Coords) (v2885 : BitVec 32) (k0_hw275 : k0_chk275 i v2885), ∀ a, (k0_off841 i v2885) a + S1x14x1x256.size a ≤ S64x14x24x256.size a := fun i v2885 k0_hw275 => k0_hw275

def k0_off842 (i : grid0.Coords) (v2887 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2898 : Index := Scalar.indexCast v2787
  let c0_1570 : Index := 0#32
  let v2899 : Index := Scalar.indexCast v2887
  let c0_1571 : Index := 0#32
  ![v2898.toNat, 0, v2899.toNat, 0]

def k0_chk276 (i : grid0.Coords) (v2887 : BitVec 32) : Prop :=
  (∀ a, (k0_off842 i v2887) a + S1x14x1x256.size a ≤ S64x14x24x256.size a)
theorem k0_off842_inb : ∀ (i : grid0.Coords) (v2887 : BitVec 32) (k0_hw276 : k0_chk276 i v2887), ∀ a, (k0_off842 i v2887) a + S1x14x1x256.size a ≤ S64x14x24x256.size a := fun i v2887 k0_hw276 => k0_hw276

def k0_off843 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2913 : Index := Scalar.indexCast v2785
  let c32_1579 : Index := 32#32
  ![v2913.toNat, 32]
def k0_off844 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2915 : Index := Scalar.indexCast v2785
  let c33_1580 : Index := 33#32
  ![v2915.toNat, 33]
def k0_off845 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2917 : Index := Scalar.indexCast v2785
  let c34_1581 : Index := 34#32
  ![v2917.toNat, 34]
def k0_off846 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2919 : Index := Scalar.indexCast v2785
  let c35_1582 : Index := 35#32
  ![v2919.toNat, 35]
def k0_off847 (i : grid0.Coords) (v2914 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2921 : Index := Scalar.indexCast v2787
  let c0_1583 : Index := 0#32
  let v2922 : Index := Scalar.indexCast v2914
  let c0_1584 : Index := 0#32
  ![v2921.toNat, 0, v2922.toNat, 0]

def k0_chk277 (i : grid0.Coords) (v2914 : BitVec 32) : Prop :=
  (∀ a, (k0_off847 i v2914) a + S1x14x1x256.size a ≤ S64x14x24x256.size a)
theorem k0_off847_inb : ∀ (i : grid0.Coords) (v2914 : BitVec 32) (k0_hw277 : k0_chk277 i v2914), ∀ a, (k0_off847 i v2914) a + S1x14x1x256.size a ≤ S64x14x24x256.size a := fun i v2914 k0_hw277 => k0_hw277

def k0_off848 (i : grid0.Coords) (v2916 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2925 : Index := Scalar.indexCast v2787
  let c0_1585 : Index := 0#32
  let v2926 : Index := Scalar.indexCast v2916
  let c0_1586 : Index := 0#32
  ![v2925.toNat, 0, v2926.toNat, 0]

def k0_chk278 (i : grid0.Coords) (v2916 : BitVec 32) : Prop :=
  (∀ a, (k0_off848 i v2916) a + S1x14x1x256.size a ≤ S64x14x24x256.size a)
theorem k0_off848_inb : ∀ (i : grid0.Coords) (v2916 : BitVec 32) (k0_hw278 : k0_chk278 i v2916), ∀ a, (k0_off848 i v2916) a + S1x14x1x256.size a ≤ S64x14x24x256.size a := fun i v2916 k0_hw278 => k0_hw278

def k0_off849 (i : grid0.Coords) (v2918 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2929 : Index := Scalar.indexCast v2787
  let c0_1587 : Index := 0#32
  let v2930 : Index := Scalar.indexCast v2918
  let c0_1588 : Index := 0#32
  ![v2929.toNat, 0, v2930.toNat, 0]

def k0_chk279 (i : grid0.Coords) (v2918 : BitVec 32) : Prop :=
  (∀ a, (k0_off849 i v2918) a + S1x14x1x256.size a ≤ S64x14x24x256.size a)
theorem k0_off849_inb : ∀ (i : grid0.Coords) (v2918 : BitVec 32) (k0_hw279 : k0_chk279 i v2918), ∀ a, (k0_off849 i v2918) a + S1x14x1x256.size a ≤ S64x14x24x256.size a := fun i v2918 k0_hw279 => k0_hw279

def k0_off850 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2944 : Index := Scalar.indexCast v2785
  let c36_1596 : Index := 36#32
  ![v2944.toNat, 36]
def k0_off851 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2946 : Index := Scalar.indexCast v2785
  let c37_1597 : Index := 37#32
  ![v2946.toNat, 37]
def k0_off852 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2948 : Index := Scalar.indexCast v2785
  let c38_1598 : Index := 38#32
  ![v2948.toNat, 38]
def k0_off853 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2950 : Index := Scalar.indexCast v2785
  let c39_1599 : Index := 39#32
  ![v2950.toNat, 39]
def k0_off854 (i : grid0.Coords) (v2945 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2952 : Index := Scalar.indexCast v2787
  let c0_1600 : Index := 0#32
  let v2953 : Index := Scalar.indexCast v2945
  let c0_1601 : Index := 0#32
  ![v2952.toNat, 0, v2953.toNat, 0]

def k0_chk280 (i : grid0.Coords) (v2945 : BitVec 32) : Prop :=
  (∀ a, (k0_off854 i v2945) a + S1x14x1x256.size a ≤ S64x14x24x256.size a)
theorem k0_off854_inb : ∀ (i : grid0.Coords) (v2945 : BitVec 32) (k0_hw280 : k0_chk280 i v2945), ∀ a, (k0_off854 i v2945) a + S1x14x1x256.size a ≤ S64x14x24x256.size a := fun i v2945 k0_hw280 => k0_hw280

def k0_off855 (i : grid0.Coords) (v2947 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2956 : Index := Scalar.indexCast v2787
  let c0_1602 : Index := 0#32
  let v2957 : Index := Scalar.indexCast v2947
  let c0_1603 : Index := 0#32
  ![v2956.toNat, 0, v2957.toNat, 0]

def k0_chk281 (i : grid0.Coords) (v2947 : BitVec 32) : Prop :=
  (∀ a, (k0_off855 i v2947) a + S1x14x1x256.size a ≤ S64x14x24x256.size a)
theorem k0_off855_inb : ∀ (i : grid0.Coords) (v2947 : BitVec 32) (k0_hw281 : k0_chk281 i v2947), ∀ a, (k0_off855 i v2947) a + S1x14x1x256.size a ≤ S64x14x24x256.size a := fun i v2947 k0_hw281 => k0_hw281

def k0_off856 (i : grid0.Coords) (v2949 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2960 : Index := Scalar.indexCast v2787
  let c0_1604 : Index := 0#32
  let v2961 : Index := Scalar.indexCast v2949
  let c0_1605 : Index := 0#32
  ![v2960.toNat, 0, v2961.toNat, 0]

def k0_chk282 (i : grid0.Coords) (v2949 : BitVec 32) : Prop :=
  (∀ a, (k0_off856 i v2949) a + S1x14x1x256.size a ≤ S64x14x24x256.size a)
theorem k0_off856_inb : ∀ (i : grid0.Coords) (v2949 : BitVec 32) (k0_hw282 : k0_chk282 i v2949), ∀ a, (k0_off856 i v2949) a + S1x14x1x256.size a ≤ S64x14x24x256.size a := fun i v2949 k0_hw282 => k0_hw282

def k0_off857 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2975 : Index := Scalar.indexCast v2785
  let c40_1613 : Index := 40#32
  ![v2975.toNat, 40]
def k0_off858 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2977 : Index := Scalar.indexCast v2785
  let c41_1614 : Index := 41#32
  ![v2977.toNat, 41]
def k0_off859 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2979 : Index := Scalar.indexCast v2785
  let c42_1615 : Index := 42#32
  ![v2979.toNat, 42]
def k0_off860 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v2981 : Index := Scalar.indexCast v2785
  let c43_1616 : Index := 43#32
  ![v2981.toNat, 43]
def k0_off861 (i : grid0.Coords) (v2976 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2983 : Index := Scalar.indexCast v2787
  let c0_1617 : Index := 0#32
  let v2984 : Index := Scalar.indexCast v2976
  let c0_1618 : Index := 0#32
  ![v2983.toNat, 0, v2984.toNat, 0]

def k0_chk283 (i : grid0.Coords) (v2976 : BitVec 32) : Prop :=
  (∀ a, (k0_off861 i v2976) a + S1x14x1x256.size a ≤ S64x14x24x256.size a)
theorem k0_off861_inb : ∀ (i : grid0.Coords) (v2976 : BitVec 32) (k0_hw283 : k0_chk283 i v2976), ∀ a, (k0_off861 i v2976) a + S1x14x1x256.size a ≤ S64x14x24x256.size a := fun i v2976 k0_hw283 => k0_hw283

def k0_off862 (i : grid0.Coords) (v2978 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2987 : Index := Scalar.indexCast v2787
  let c0_1619 : Index := 0#32
  let v2988 : Index := Scalar.indexCast v2978
  let c0_1620 : Index := 0#32
  ![v2987.toNat, 0, v2988.toNat, 0]

def k0_chk284 (i : grid0.Coords) (v2978 : BitVec 32) : Prop :=
  (∀ a, (k0_off862 i v2978) a + S1x14x1x256.size a ≤ S64x14x24x256.size a)
theorem k0_off862_inb : ∀ (i : grid0.Coords) (v2978 : BitVec 32) (k0_hw284 : k0_chk284 i v2978), ∀ a, (k0_off862 i v2978) a + S1x14x1x256.size a ≤ S64x14x24x256.size a := fun i v2978 k0_hw284 => k0_hw284

def k0_off863 (i : grid0.Coords) (v2980 : BitVec 32) : Fin 4 → Nat :=
  let c32_i32_1508 : BitVec 32 := 32#32
  let arg0 : BitVec 32 := BitVec.ofNat 32 (i 0).val
  let c2_i32 : BitVec 32 := 2#32
  let v0 : BitVec 32 := Scalar.remsi arg0 c2_i32
  let v2786 : BitVec 32 := Scalar.muli c32_i32_1508 v0
  let c6_i32_1509 : BitVec 32 := 6#32
  let v2787 : BitVec 32 := Scalar.addi v2786 c6_i32_1509
  let v2991 : Index := Scalar.indexCast v2787
  let c0_1621 : Index := 0#32
  let v2992 : Index := Scalar.indexCast v2980
  let c0_1622 : Index := 0#32
  ![v2991.toNat, 0, v2992.toNat, 0]

def k0_chk285 (i : grid0.Coords) (v2980 : BitVec 32) : Prop :=
  (∀ a, (k0_off863 i v2980) a + S1x14x1x256.size a ≤ S64x14x24x256.size a)
theorem k0_off863_inb : ∀ (i : grid0.Coords) (v2980 : BitVec 32) (k0_hw285 : k0_chk285 i v2980), ∀ a, (k0_off863 i v2980) a + S1x14x1x256.size a ≤ S64x14x24x256.size a := fun i v2980 k0_hw285 => k0_hw285

def k0_off864 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3007 : Index := Scalar.indexCast v2785
  let c44_1630 : Index := 44#32
  ![v3007.toNat, 44]
def k0_off865 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3009 : Index := Scalar.indexCast v2785
  let c45_1631 : Index := 45#32
  ![v3009.toNat, 45]
def k0_off866 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3011 : Index := Scalar.indexCast v2785
  let c46_1632 : Index := 46#32
  ![v3011.toNat, 46]
def k0_off867 (v3008 : BitVec 32) : Fin 4 → Nat :=
  let c6_1633 : Index := 6#32
  let v3013 : Index := Scalar.indexCast v3008
  let c0_1634 : Index := 0#32
  let c0_1635 : Index := 0#32
  ![6, v3013.toNat, 0, 0]

def k0_chk286 (v3008 : BitVec 32) : Prop :=
  (∀ a, (k0_off867 v3008) a + S1x3x7x256.size a ≤ S32x14x7x256.size a)
theorem k0_off867_inb : ∀ (v3008 : BitVec 32) (k0_hw286 : k0_chk286 v3008), ∀ a, (k0_off867 v3008) a + S1x3x7x256.size a ≤ S32x14x7x256.size a := fun v3008 k0_hw286 => k0_hw286

def k0_off868 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3029 : Index := Scalar.indexCast v2785
  let c47_1641 : Index := 47#32
  ![v3029.toNat, 47]
def k0_off869 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3031 : Index := Scalar.indexCast v2785
  let c48_1642 : Index := 48#32
  ![v3031.toNat, 48]
def k0_off870 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3033 : Index := Scalar.indexCast v2785
  let c49_1643 : Index := 49#32
  ![v3033.toNat, 49]
def k0_off871 (v3030 : BitVec 32) : Fin 4 → Nat :=
  let c6_1644 : Index := 6#32
  let v3035 : Index := Scalar.indexCast v3030
  let c0_1645 : Index := 0#32
  let c0_1646 : Index := 0#32
  ![6, v3035.toNat, 0, 0]

def k0_chk287 (v3030 : BitVec 32) : Prop :=
  (∀ a, (k0_off871 v3030) a + S1x3x7x256.size a ≤ S32x14x7x256.size a)
theorem k0_off871_inb : ∀ (v3030 : BitVec 32) (k0_hw287 : k0_chk287 v3030), ∀ a, (k0_off871 v3030) a + S1x3x7x256.size a ≤ S32x14x7x256.size a := fun v3030 k0_hw287 => k0_hw287

def k0_off872 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3051 : Index := Scalar.indexCast v2785
  let c50_1652 : Index := 50#32
  ![v3051.toNat, 50]
def k0_off873 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3053 : Index := Scalar.indexCast v2785
  let c51_1653 : Index := 51#32
  ![v3053.toNat, 51]
def k0_off874 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3055 : Index := Scalar.indexCast v2785
  let c52_1654 : Index := 52#32
  ![v3055.toNat, 52]
def k0_off875 (v3052 : BitVec 32) : Fin 4 → Nat :=
  let c6_1655 : Index := 6#32
  let v3057 : Index := Scalar.indexCast v3052
  let c0_1656 : Index := 0#32
  let c0_1657 : Index := 0#32
  ![6, v3057.toNat, 0, 0]

def k0_chk288 (v3052 : BitVec 32) : Prop :=
  (∀ a, (k0_off875 v3052) a + S1x3x7x256.size a ≤ S32x14x7x256.size a)
theorem k0_off875_inb : ∀ (v3052 : BitVec 32) (k0_hw288 : k0_chk288 v3052), ∀ a, (k0_off875 v3052) a + S1x3x7x256.size a ≤ S32x14x7x256.size a := fun v3052 k0_hw288 => k0_hw288

def k0_off876 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3073 : Index := Scalar.indexCast v2785
  let c53_1663 : Index := 53#32
  ![v3073.toNat, 53]
def k0_off877 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3075 : Index := Scalar.indexCast v2785
  let c54_1664 : Index := 54#32
  ![v3075.toNat, 54]
def k0_off878 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3077 : Index := Scalar.indexCast v2785
  let c55_1665 : Index := 55#32
  ![v3077.toNat, 55]
def k0_off879 (v3074 : BitVec 32) : Fin 4 → Nat :=
  let c6_1666 : Index := 6#32
  let v3079 : Index := Scalar.indexCast v3074
  let c0_1667 : Index := 0#32
  let c0_1668 : Index := 0#32
  ![6, v3079.toNat, 0, 0]

def k0_chk289 (v3074 : BitVec 32) : Prop :=
  (∀ a, (k0_off879 v3074) a + S1x3x7x256.size a ≤ S32x14x7x256.size a)
theorem k0_off879_inb : ∀ (v3074 : BitVec 32) (k0_hw289 : k0_chk289 v3074), ∀ a, (k0_off879 v3074) a + S1x3x7x256.size a ≤ S32x14x7x256.size a := fun v3074 k0_hw289 => k0_hw289

def k0_off880 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3095 : Index := Scalar.indexCast v2785
  let c56_1674 : Index := 56#32
  ![v3095.toNat, 56]
def k0_off881 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3097 : Index := Scalar.indexCast v2785
  let c57_1675 : Index := 57#32
  ![v3097.toNat, 57]
def k0_off882 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3099 : Index := Scalar.indexCast v2785
  let c58_1676 : Index := 58#32
  ![v3099.toNat, 58]
def k0_off883 (v3096 : BitVec 32) : Fin 4 → Nat :=
  let c6_1677 : Index := 6#32
  let v3101 : Index := Scalar.indexCast v3096
  let c0_1678 : Index := 0#32
  let c0_1679 : Index := 0#32
  ![6, v3101.toNat, 0, 0]

def k0_chk290 (v3096 : BitVec 32) : Prop :=
  (∀ a, (k0_off883 v3096) a + S1x3x7x256.size a ≤ S32x14x7x256.size a)
theorem k0_off883_inb : ∀ (v3096 : BitVec 32) (k0_hw290 : k0_chk290 v3096), ∀ a, (k0_off883 v3096) a + S1x3x7x256.size a ≤ S32x14x7x256.size a := fun v3096 k0_hw290 => k0_hw290

def k0_off884 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3117 : Index := Scalar.indexCast v2785
  let c59_1685 : Index := 59#32
  ![v3117.toNat, 59]
def k0_off885 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3119 : Index := Scalar.indexCast v2785
  let c60_1686 : Index := 60#32
  ![v3119.toNat, 60]
def k0_off886 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3121 : Index := Scalar.indexCast v2785
  let c61_1687 : Index := 61#32
  ![v3121.toNat, 61]
def k0_off887 (v3118 : BitVec 32) : Fin 4 → Nat :=
  let c6_1688 : Index := 6#32
  let v3123 : Index := Scalar.indexCast v3118
  let c0_1689 : Index := 0#32
  let c0_1690 : Index := 0#32
  ![6, v3123.toNat, 0, 0]

def k0_chk291 (v3118 : BitVec 32) : Prop :=
  (∀ a, (k0_off887 v3118) a + S1x3x7x256.size a ≤ S32x14x7x256.size a)
theorem k0_off887_inb : ∀ (v3118 : BitVec 32) (k0_hw291 : k0_chk291 v3118), ∀ a, (k0_off887 v3118) a + S1x3x7x256.size a ≤ S32x14x7x256.size a := fun v3118 k0_hw291 => k0_hw291

def k0_off888 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3139 : Index := Scalar.indexCast v2785
  let c62_1696 : Index := 62#32
  ![v3139.toNat, 62]
def k0_off889 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3141 : Index := Scalar.indexCast v2785
  let c63_1697 : Index := 63#32
  ![v3141.toNat, 63]
def k0_off890 (i : grid0.Coords) : Fin 2 → Nat :=
  let c32_i32_1506 : BitVec 32 := 32#32
  let arg0 : BitVec 32 := BitVec.ofNat 32 (i 0).val
  let v2784 : BitVec 32 := Scalar.muli c32_i32_1506 arg0
  let c6_i32_1507 : BitVec 32 := 6#32
  let v2785 : BitVec 32 := Scalar.addi v2784 c6_i32_1507
  let v3143 : Index := Scalar.indexCast v2785
  let c64_1698 : Index := 64#32
  ![v3143.toNat, 64]
def k0_off891 (v3140 : BitVec 32) : Fin 4 → Nat :=
  let c6_1699 : Index := 6#32
  let v3145 : Index := Scalar.indexCast v3140
  let c0_1700 : Index := 0#32
  let c0_1701 : Index := 0#32
  ![6, v3145.toNat, 0, 0]

def k0_chk292 (v3140 : BitVec 32) : Prop :=
  (∀ a, (k0_off891 v3140) a + S1x3x7x256.size a ≤ S32x14x7x256.size a)
theorem k0_off891_inb : ∀ (v3140 : BitVec 32) (k0_hw292 : k0_chk292 v3140), ∀ a, (k0_off891 v3140) a + S1x3x7x256.size a ≤ S32x14x7x256.size a := fun v3140 k0_hw292 => k0_hw292

def k0_off892 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3166 : Index := Scalar.indexCast v3162
  let c16_1712 : Index := 16#32
  ![v3166.toNat, 16]
def k0_off893 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3168 : Index := Scalar.indexCast v3162
  let c17_1713 : Index := 17#32
  ![v3168.toNat, 17]
def k0_off894 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3170 : Index := Scalar.indexCast v3162
  let c18_1714 : Index := 18#32
  ![v3170.toNat, 18]
def k0_off895 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3172 : Index := Scalar.indexCast v3162
  let c19_1715 : Index := 19#32
  ![v3172.toNat, 19]
def k0_off896 (i : grid0.Coords) (v3167 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3174 : Index := Scalar.indexCast v3164
  let c0_1716 : Index := 0#32
  let v3175 : Index := Scalar.indexCast v3167
  let c0_1717 : Index := 0#32
  ![v3174.toNat, 0, v3175.toNat, 0]

def k0_chk293 (i : grid0.Coords) (v3167 : BitVec 32) : Prop :=
  (∀ a, (k0_off896 i v3167) a + S1x14x1x256.size a ≤ S64x14x24x256.size a)
theorem k0_off896_inb : ∀ (i : grid0.Coords) (v3167 : BitVec 32) (k0_hw293 : k0_chk293 i v3167), ∀ a, (k0_off896 i v3167) a + S1x14x1x256.size a ≤ S64x14x24x256.size a := fun i v3167 k0_hw293 => k0_hw293

def k0_off897 (i : grid0.Coords) (v3169 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3178 : Index := Scalar.indexCast v3164
  let c0_1718 : Index := 0#32
  let v3179 : Index := Scalar.indexCast v3169
  let c0_1719 : Index := 0#32
  ![v3178.toNat, 0, v3179.toNat, 0]

def k0_chk294 (i : grid0.Coords) (v3169 : BitVec 32) : Prop :=
  (∀ a, (k0_off897 i v3169) a + S1x14x1x256.size a ≤ S64x14x24x256.size a)
theorem k0_off897_inb : ∀ (i : grid0.Coords) (v3169 : BitVec 32) (k0_hw294 : k0_chk294 i v3169), ∀ a, (k0_off897 i v3169) a + S1x14x1x256.size a ≤ S64x14x24x256.size a := fun i v3169 k0_hw294 => k0_hw294

def k0_off898 (i : grid0.Coords) (v3171 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3182 : Index := Scalar.indexCast v3164
  let c0_1720 : Index := 0#32
  let v3183 : Index := Scalar.indexCast v3171
  let c0_1721 : Index := 0#32
  ![v3182.toNat, 0, v3183.toNat, 0]

def k0_chk295 (i : grid0.Coords) (v3171 : BitVec 32) : Prop :=
  (∀ a, (k0_off898 i v3171) a + S1x14x1x256.size a ≤ S64x14x24x256.size a)
theorem k0_off898_inb : ∀ (i : grid0.Coords) (v3171 : BitVec 32) (k0_hw295 : k0_chk295 i v3171), ∀ a, (k0_off898 i v3171) a + S1x14x1x256.size a ≤ S64x14x24x256.size a := fun i v3171 k0_hw295 => k0_hw295

def k0_off899 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3197 : Index := Scalar.indexCast v3162
  let c20_1729 : Index := 20#32
  ![v3197.toNat, 20]
def k0_off900 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3199 : Index := Scalar.indexCast v3162
  let c21_1730 : Index := 21#32
  ![v3199.toNat, 21]
def k0_off901 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3201 : Index := Scalar.indexCast v3162
  let c22_1731 : Index := 22#32
  ![v3201.toNat, 22]
def k0_off902 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3203 : Index := Scalar.indexCast v3162
  let c23_1732 : Index := 23#32
  ![v3203.toNat, 23]
def k0_off903 (i : grid0.Coords) (v3198 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3205 : Index := Scalar.indexCast v3164
  let c0_1733 : Index := 0#32
  let v3206 : Index := Scalar.indexCast v3198
  let c0_1734 : Index := 0#32
  ![v3205.toNat, 0, v3206.toNat, 0]

def k0_chk296 (i : grid0.Coords) (v3198 : BitVec 32) : Prop :=
  (∀ a, (k0_off903 i v3198) a + S1x14x1x256.size a ≤ S64x14x24x256.size a)
theorem k0_off903_inb : ∀ (i : grid0.Coords) (v3198 : BitVec 32) (k0_hw296 : k0_chk296 i v3198), ∀ a, (k0_off903 i v3198) a + S1x14x1x256.size a ≤ S64x14x24x256.size a := fun i v3198 k0_hw296 => k0_hw296

def k0_off904 (i : grid0.Coords) (v3200 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3209 : Index := Scalar.indexCast v3164
  let c0_1735 : Index := 0#32
  let v3210 : Index := Scalar.indexCast v3200
  let c0_1736 : Index := 0#32
  ![v3209.toNat, 0, v3210.toNat, 0]

def k0_chk297 (i : grid0.Coords) (v3200 : BitVec 32) : Prop :=
  (∀ a, (k0_off904 i v3200) a + S1x14x1x256.size a ≤ S64x14x24x256.size a)
theorem k0_off904_inb : ∀ (i : grid0.Coords) (v3200 : BitVec 32) (k0_hw297 : k0_chk297 i v3200), ∀ a, (k0_off904 i v3200) a + S1x14x1x256.size a ≤ S64x14x24x256.size a := fun i v3200 k0_hw297 => k0_hw297

def k0_off905 (i : grid0.Coords) (v3202 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3213 : Index := Scalar.indexCast v3164
  let c0_1737 : Index := 0#32
  let v3214 : Index := Scalar.indexCast v3202
  let c0_1738 : Index := 0#32
  ![v3213.toNat, 0, v3214.toNat, 0]

def k0_chk298 (i : grid0.Coords) (v3202 : BitVec 32) : Prop :=
  (∀ a, (k0_off905 i v3202) a + S1x14x1x256.size a ≤ S64x14x24x256.size a)
theorem k0_off905_inb : ∀ (i : grid0.Coords) (v3202 : BitVec 32) (k0_hw298 : k0_chk298 i v3202), ∀ a, (k0_off905 i v3202) a + S1x14x1x256.size a ≤ S64x14x24x256.size a := fun i v3202 k0_hw298 => k0_hw298

def k0_off906 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3228 : Index := Scalar.indexCast v3162
  let c24_1746 : Index := 24#32
  ![v3228.toNat, 24]
def k0_off907 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3230 : Index := Scalar.indexCast v3162
  let c25_1747 : Index := 25#32
  ![v3230.toNat, 25]
def k0_off908 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3232 : Index := Scalar.indexCast v3162
  let c26_1748 : Index := 26#32
  ![v3232.toNat, 26]
def k0_off909 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3234 : Index := Scalar.indexCast v3162
  let c27_1749 : Index := 27#32
  ![v3234.toNat, 27]
def k0_off910 (i : grid0.Coords) (v3229 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3236 : Index := Scalar.indexCast v3164
  let c0_1750 : Index := 0#32
  let v3237 : Index := Scalar.indexCast v3229
  let c0_1751 : Index := 0#32
  ![v3236.toNat, 0, v3237.toNat, 0]

def k0_chk299 (i : grid0.Coords) (v3229 : BitVec 32) : Prop :=
  (∀ a, (k0_off910 i v3229) a + S1x14x1x256.size a ≤ S64x14x24x256.size a)
theorem k0_off910_inb : ∀ (i : grid0.Coords) (v3229 : BitVec 32) (k0_hw299 : k0_chk299 i v3229), ∀ a, (k0_off910 i v3229) a + S1x14x1x256.size a ≤ S64x14x24x256.size a := fun i v3229 k0_hw299 => k0_hw299

def k0_off911 (i : grid0.Coords) (v3231 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3240 : Index := Scalar.indexCast v3164
  let c0_1752 : Index := 0#32
  let v3241 : Index := Scalar.indexCast v3231
  let c0_1753 : Index := 0#32
  ![v3240.toNat, 0, v3241.toNat, 0]

def k0_chk300 (i : grid0.Coords) (v3231 : BitVec 32) : Prop :=
  (∀ a, (k0_off911 i v3231) a + S1x14x1x256.size a ≤ S64x14x24x256.size a)
theorem k0_off911_inb : ∀ (i : grid0.Coords) (v3231 : BitVec 32) (k0_hw300 : k0_chk300 i v3231), ∀ a, (k0_off911 i v3231) a + S1x14x1x256.size a ≤ S64x14x24x256.size a := fun i v3231 k0_hw300 => k0_hw300

def k0_off912 (i : grid0.Coords) (v3233 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3244 : Index := Scalar.indexCast v3164
  let c0_1754 : Index := 0#32
  let v3245 : Index := Scalar.indexCast v3233
  let c0_1755 : Index := 0#32
  ![v3244.toNat, 0, v3245.toNat, 0]

def k0_chk301 (i : grid0.Coords) (v3233 : BitVec 32) : Prop :=
  (∀ a, (k0_off912 i v3233) a + S1x14x1x256.size a ≤ S64x14x24x256.size a)
theorem k0_off912_inb : ∀ (i : grid0.Coords) (v3233 : BitVec 32) (k0_hw301 : k0_chk301 i v3233), ∀ a, (k0_off912 i v3233) a + S1x14x1x256.size a ≤ S64x14x24x256.size a := fun i v3233 k0_hw301 => k0_hw301

def k0_off913 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3259 : Index := Scalar.indexCast v3162
  let c28_1763 : Index := 28#32
  ![v3259.toNat, 28]
def k0_off914 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3261 : Index := Scalar.indexCast v3162
  let c29_1764 : Index := 29#32
  ![v3261.toNat, 29]
def k0_off915 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3263 : Index := Scalar.indexCast v3162
  let c30_1765 : Index := 30#32
  ![v3263.toNat, 30]
def k0_off916 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3265 : Index := Scalar.indexCast v3162
  let c31_1766 : Index := 31#32
  ![v3265.toNat, 31]
def k0_off917 (i : grid0.Coords) (v3260 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3267 : Index := Scalar.indexCast v3164
  let c0_1767 : Index := 0#32
  let v3268 : Index := Scalar.indexCast v3260
  let c0_1768 : Index := 0#32
  ![v3267.toNat, 0, v3268.toNat, 0]

def k0_chk302 (i : grid0.Coords) (v3260 : BitVec 32) : Prop :=
  (∀ a, (k0_off917 i v3260) a + S1x14x1x256.size a ≤ S64x14x24x256.size a)
theorem k0_off917_inb : ∀ (i : grid0.Coords) (v3260 : BitVec 32) (k0_hw302 : k0_chk302 i v3260), ∀ a, (k0_off917 i v3260) a + S1x14x1x256.size a ≤ S64x14x24x256.size a := fun i v3260 k0_hw302 => k0_hw302

def k0_off918 (i : grid0.Coords) (v3262 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3271 : Index := Scalar.indexCast v3164
  let c0_1769 : Index := 0#32
  let v3272 : Index := Scalar.indexCast v3262
  let c0_1770 : Index := 0#32
  ![v3271.toNat, 0, v3272.toNat, 0]

def k0_chk303 (i : grid0.Coords) (v3262 : BitVec 32) : Prop :=
  (∀ a, (k0_off918 i v3262) a + S1x14x1x256.size a ≤ S64x14x24x256.size a)
theorem k0_off918_inb : ∀ (i : grid0.Coords) (v3262 : BitVec 32) (k0_hw303 : k0_chk303 i v3262), ∀ a, (k0_off918 i v3262) a + S1x14x1x256.size a ≤ S64x14x24x256.size a := fun i v3262 k0_hw303 => k0_hw303

def k0_off919 (i : grid0.Coords) (v3264 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3275 : Index := Scalar.indexCast v3164
  let c0_1771 : Index := 0#32
  let v3276 : Index := Scalar.indexCast v3264
  let c0_1772 : Index := 0#32
  ![v3275.toNat, 0, v3276.toNat, 0]

def k0_chk304 (i : grid0.Coords) (v3264 : BitVec 32) : Prop :=
  (∀ a, (k0_off919 i v3264) a + S1x14x1x256.size a ≤ S64x14x24x256.size a)
theorem k0_off919_inb : ∀ (i : grid0.Coords) (v3264 : BitVec 32) (k0_hw304 : k0_chk304 i v3264), ∀ a, (k0_off919 i v3264) a + S1x14x1x256.size a ≤ S64x14x24x256.size a := fun i v3264 k0_hw304 => k0_hw304

def k0_off920 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3290 : Index := Scalar.indexCast v3162
  let c32_1780 : Index := 32#32
  ![v3290.toNat, 32]
def k0_off921 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3292 : Index := Scalar.indexCast v3162
  let c33_1781 : Index := 33#32
  ![v3292.toNat, 33]
def k0_off922 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3294 : Index := Scalar.indexCast v3162
  let c34_1782 : Index := 34#32
  ![v3294.toNat, 34]
def k0_off923 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3296 : Index := Scalar.indexCast v3162
  let c35_1783 : Index := 35#32
  ![v3296.toNat, 35]
def k0_off924 (i : grid0.Coords) (v3291 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3298 : Index := Scalar.indexCast v3164
  let c0_1784 : Index := 0#32
  let v3299 : Index := Scalar.indexCast v3291
  let c0_1785 : Index := 0#32
  ![v3298.toNat, 0, v3299.toNat, 0]

def k0_chk305 (i : grid0.Coords) (v3291 : BitVec 32) : Prop :=
  (∀ a, (k0_off924 i v3291) a + S1x14x1x256.size a ≤ S64x14x24x256.size a)
theorem k0_off924_inb : ∀ (i : grid0.Coords) (v3291 : BitVec 32) (k0_hw305 : k0_chk305 i v3291), ∀ a, (k0_off924 i v3291) a + S1x14x1x256.size a ≤ S64x14x24x256.size a := fun i v3291 k0_hw305 => k0_hw305

def k0_off925 (i : grid0.Coords) (v3293 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3302 : Index := Scalar.indexCast v3164
  let c0_1786 : Index := 0#32
  let v3303 : Index := Scalar.indexCast v3293
  let c0_1787 : Index := 0#32
  ![v3302.toNat, 0, v3303.toNat, 0]

def k0_chk306 (i : grid0.Coords) (v3293 : BitVec 32) : Prop :=
  (∀ a, (k0_off925 i v3293) a + S1x14x1x256.size a ≤ S64x14x24x256.size a)
theorem k0_off925_inb : ∀ (i : grid0.Coords) (v3293 : BitVec 32) (k0_hw306 : k0_chk306 i v3293), ∀ a, (k0_off925 i v3293) a + S1x14x1x256.size a ≤ S64x14x24x256.size a := fun i v3293 k0_hw306 => k0_hw306

def k0_off926 (i : grid0.Coords) (v3295 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3306 : Index := Scalar.indexCast v3164
  let c0_1788 : Index := 0#32
  let v3307 : Index := Scalar.indexCast v3295
  let c0_1789 : Index := 0#32
  ![v3306.toNat, 0, v3307.toNat, 0]

def k0_chk307 (i : grid0.Coords) (v3295 : BitVec 32) : Prop :=
  (∀ a, (k0_off926 i v3295) a + S1x14x1x256.size a ≤ S64x14x24x256.size a)
theorem k0_off926_inb : ∀ (i : grid0.Coords) (v3295 : BitVec 32) (k0_hw307 : k0_chk307 i v3295), ∀ a, (k0_off926 i v3295) a + S1x14x1x256.size a ≤ S64x14x24x256.size a := fun i v3295 k0_hw307 => k0_hw307

def k0_off927 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3321 : Index := Scalar.indexCast v3162
  let c36_1797 : Index := 36#32
  ![v3321.toNat, 36]
def k0_off928 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3323 : Index := Scalar.indexCast v3162
  let c37_1798 : Index := 37#32
  ![v3323.toNat, 37]
def k0_off929 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3325 : Index := Scalar.indexCast v3162
  let c38_1799 : Index := 38#32
  ![v3325.toNat, 38]
def k0_off930 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3327 : Index := Scalar.indexCast v3162
  let c39_1800 : Index := 39#32
  ![v3327.toNat, 39]
def k0_off931 (i : grid0.Coords) (v3322 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3329 : Index := Scalar.indexCast v3164
  let c0_1801 : Index := 0#32
  let v3330 : Index := Scalar.indexCast v3322
  let c0_1802 : Index := 0#32
  ![v3329.toNat, 0, v3330.toNat, 0]

def k0_chk308 (i : grid0.Coords) (v3322 : BitVec 32) : Prop :=
  (∀ a, (k0_off931 i v3322) a + S1x14x1x256.size a ≤ S64x14x24x256.size a)
theorem k0_off931_inb : ∀ (i : grid0.Coords) (v3322 : BitVec 32) (k0_hw308 : k0_chk308 i v3322), ∀ a, (k0_off931 i v3322) a + S1x14x1x256.size a ≤ S64x14x24x256.size a := fun i v3322 k0_hw308 => k0_hw308

def k0_off932 (i : grid0.Coords) (v3324 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3333 : Index := Scalar.indexCast v3164
  let c0_1803 : Index := 0#32
  let v3334 : Index := Scalar.indexCast v3324
  let c0_1804 : Index := 0#32
  ![v3333.toNat, 0, v3334.toNat, 0]

def k0_chk309 (i : grid0.Coords) (v3324 : BitVec 32) : Prop :=
  (∀ a, (k0_off932 i v3324) a + S1x14x1x256.size a ≤ S64x14x24x256.size a)
theorem k0_off932_inb : ∀ (i : grid0.Coords) (v3324 : BitVec 32) (k0_hw309 : k0_chk309 i v3324), ∀ a, (k0_off932 i v3324) a + S1x14x1x256.size a ≤ S64x14x24x256.size a := fun i v3324 k0_hw309 => k0_hw309

def k0_off933 (i : grid0.Coords) (v3326 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3337 : Index := Scalar.indexCast v3164
  let c0_1805 : Index := 0#32
  let v3338 : Index := Scalar.indexCast v3326
  let c0_1806 : Index := 0#32
  ![v3337.toNat, 0, v3338.toNat, 0]

def k0_chk310 (i : grid0.Coords) (v3326 : BitVec 32) : Prop :=
  (∀ a, (k0_off933 i v3326) a + S1x14x1x256.size a ≤ S64x14x24x256.size a)
theorem k0_off933_inb : ∀ (i : grid0.Coords) (v3326 : BitVec 32) (k0_hw310 : k0_chk310 i v3326), ∀ a, (k0_off933 i v3326) a + S1x14x1x256.size a ≤ S64x14x24x256.size a := fun i v3326 k0_hw310 => k0_hw310

def k0_off934 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3352 : Index := Scalar.indexCast v3162
  let c40_1814 : Index := 40#32
  ![v3352.toNat, 40]
def k0_off935 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3354 : Index := Scalar.indexCast v3162
  let c41_1815 : Index := 41#32
  ![v3354.toNat, 41]
def k0_off936 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3356 : Index := Scalar.indexCast v3162
  let c42_1816 : Index := 42#32
  ![v3356.toNat, 42]
def k0_off937 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3358 : Index := Scalar.indexCast v3162
  let c43_1817 : Index := 43#32
  ![v3358.toNat, 43]
def k0_off938 (i : grid0.Coords) (v3353 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3360 : Index := Scalar.indexCast v3164
  let c0_1818 : Index := 0#32
  let v3361 : Index := Scalar.indexCast v3353
  let c0_1819 : Index := 0#32
  ![v3360.toNat, 0, v3361.toNat, 0]

def k0_chk311 (i : grid0.Coords) (v3353 : BitVec 32) : Prop :=
  (∀ a, (k0_off938 i v3353) a + S1x14x1x256.size a ≤ S64x14x24x256.size a)
theorem k0_off938_inb : ∀ (i : grid0.Coords) (v3353 : BitVec 32) (k0_hw311 : k0_chk311 i v3353), ∀ a, (k0_off938 i v3353) a + S1x14x1x256.size a ≤ S64x14x24x256.size a := fun i v3353 k0_hw311 => k0_hw311

def k0_off939 (i : grid0.Coords) (v3355 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3364 : Index := Scalar.indexCast v3164
  let c0_1820 : Index := 0#32
  let v3365 : Index := Scalar.indexCast v3355
  let c0_1821 : Index := 0#32
  ![v3364.toNat, 0, v3365.toNat, 0]

def k0_chk312 (i : grid0.Coords) (v3355 : BitVec 32) : Prop :=
  (∀ a, (k0_off939 i v3355) a + S1x14x1x256.size a ≤ S64x14x24x256.size a)
theorem k0_off939_inb : ∀ (i : grid0.Coords) (v3355 : BitVec 32) (k0_hw312 : k0_chk312 i v3355), ∀ a, (k0_off939 i v3355) a + S1x14x1x256.size a ≤ S64x14x24x256.size a := fun i v3355 k0_hw312 => k0_hw312

def k0_off940 (i : grid0.Coords) (v3357 : BitVec 32) : Fin 4 → Nat :=
  let c32_i32_1709 : BitVec 32 := 32#32
  let arg0 : BitVec 32 := BitVec.ofNat 32 (i 0).val
  let c2_i32 : BitVec 32 := 2#32
  let v0 : BitVec 32 := Scalar.remsi arg0 c2_i32
  let v3163 : BitVec 32 := Scalar.muli c32_i32_1709 v0
  let c7_i32_1710 : BitVec 32 := 7#32
  let v3164 : BitVec 32 := Scalar.addi v3163 c7_i32_1710
  let v3368 : Index := Scalar.indexCast v3164
  let c0_1822 : Index := 0#32
  let v3369 : Index := Scalar.indexCast v3357
  let c0_1823 : Index := 0#32
  ![v3368.toNat, 0, v3369.toNat, 0]

def k0_chk313 (i : grid0.Coords) (v3357 : BitVec 32) : Prop :=
  (∀ a, (k0_off940 i v3357) a + S1x14x1x256.size a ≤ S64x14x24x256.size a)
theorem k0_off940_inb : ∀ (i : grid0.Coords) (v3357 : BitVec 32) (k0_hw313 : k0_chk313 i v3357), ∀ a, (k0_off940 i v3357) a + S1x14x1x256.size a ≤ S64x14x24x256.size a := fun i v3357 k0_hw313 => k0_hw313

def k0_off941 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3384 : Index := Scalar.indexCast v3162
  let c44_1831 : Index := 44#32
  ![v3384.toNat, 44]
def k0_off942 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3386 : Index := Scalar.indexCast v3162
  let c45_1832 : Index := 45#32
  ![v3386.toNat, 45]
def k0_off943 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3388 : Index := Scalar.indexCast v3162
  let c46_1833 : Index := 46#32
  ![v3388.toNat, 46]
def k0_off944 (v3385 : BitVec 32) : Fin 4 → Nat :=
  let c7_1834 : Index := 7#32
  let v3390 : Index := Scalar.indexCast v3385
  let c0_1835 : Index := 0#32
  let c0_1836 : Index := 0#32
  ![7, v3390.toNat, 0, 0]

def k0_chk314 (v3385 : BitVec 32) : Prop :=
  (∀ a, (k0_off944 v3385) a + S1x3x7x256.size a ≤ S32x14x7x256.size a)
theorem k0_off944_inb : ∀ (v3385 : BitVec 32) (k0_hw314 : k0_chk314 v3385), ∀ a, (k0_off944 v3385) a + S1x3x7x256.size a ≤ S32x14x7x256.size a := fun v3385 k0_hw314 => k0_hw314

def k0_off945 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3406 : Index := Scalar.indexCast v3162
  let c47_1842 : Index := 47#32
  ![v3406.toNat, 47]
def k0_off946 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3408 : Index := Scalar.indexCast v3162
  let c48_1843 : Index := 48#32
  ![v3408.toNat, 48]
def k0_off947 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3410 : Index := Scalar.indexCast v3162
  let c49_1844 : Index := 49#32
  ![v3410.toNat, 49]
def k0_off948 (v3407 : BitVec 32) : Fin 4 → Nat :=
  let c7_1845 : Index := 7#32
  let v3412 : Index := Scalar.indexCast v3407
  let c0_1846 : Index := 0#32
  let c0_1847 : Index := 0#32
  ![7, v3412.toNat, 0, 0]

def k0_chk315 (v3407 : BitVec 32) : Prop :=
  (∀ a, (k0_off948 v3407) a + S1x3x7x256.size a ≤ S32x14x7x256.size a)
theorem k0_off948_inb : ∀ (v3407 : BitVec 32) (k0_hw315 : k0_chk315 v3407), ∀ a, (k0_off948 v3407) a + S1x3x7x256.size a ≤ S32x14x7x256.size a := fun v3407 k0_hw315 => k0_hw315

def k0_off949 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3428 : Index := Scalar.indexCast v3162
  let c50_1853 : Index := 50#32
  ![v3428.toNat, 50]
def k0_off950 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3430 : Index := Scalar.indexCast v3162
  let c51_1854 : Index := 51#32
  ![v3430.toNat, 51]
def k0_off951 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3432 : Index := Scalar.indexCast v3162
  let c52_1855 : Index := 52#32
  ![v3432.toNat, 52]
def k0_off952 (v3429 : BitVec 32) : Fin 4 → Nat :=
  let c7_1856 : Index := 7#32
  let v3434 : Index := Scalar.indexCast v3429
  let c0_1857 : Index := 0#32
  let c0_1858 : Index := 0#32
  ![7, v3434.toNat, 0, 0]

def k0_chk316 (v3429 : BitVec 32) : Prop :=
  (∀ a, (k0_off952 v3429) a + S1x3x7x256.size a ≤ S32x14x7x256.size a)
theorem k0_off952_inb : ∀ (v3429 : BitVec 32) (k0_hw316 : k0_chk316 v3429), ∀ a, (k0_off952 v3429) a + S1x3x7x256.size a ≤ S32x14x7x256.size a := fun v3429 k0_hw316 => k0_hw316

def k0_off953 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3450 : Index := Scalar.indexCast v3162
  let c53_1864 : Index := 53#32
  ![v3450.toNat, 53]
def k0_off954 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3452 : Index := Scalar.indexCast v3162
  let c54_1865 : Index := 54#32
  ![v3452.toNat, 54]
def k0_off955 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3454 : Index := Scalar.indexCast v3162
  let c55_1866 : Index := 55#32
  ![v3454.toNat, 55]
def k0_off956 (v3451 : BitVec 32) : Fin 4 → Nat :=
  let c7_1867 : Index := 7#32
  let v3456 : Index := Scalar.indexCast v3451
  let c0_1868 : Index := 0#32
  let c0_1869 : Index := 0#32
  ![7, v3456.toNat, 0, 0]

def k0_chk317 (v3451 : BitVec 32) : Prop :=
  (∀ a, (k0_off956 v3451) a + S1x3x7x256.size a ≤ S32x14x7x256.size a)
theorem k0_off956_inb : ∀ (v3451 : BitVec 32) (k0_hw317 : k0_chk317 v3451), ∀ a, (k0_off956 v3451) a + S1x3x7x256.size a ≤ S32x14x7x256.size a := fun v3451 k0_hw317 => k0_hw317

def k0_off957 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3472 : Index := Scalar.indexCast v3162
  let c56_1875 : Index := 56#32
  ![v3472.toNat, 56]
def k0_off958 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3474 : Index := Scalar.indexCast v3162
  let c57_1876 : Index := 57#32
  ![v3474.toNat, 57]
def k0_off959 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3476 : Index := Scalar.indexCast v3162
  let c58_1877 : Index := 58#32
  ![v3476.toNat, 58]
def k0_off960 (v3473 : BitVec 32) : Fin 4 → Nat :=
  let c7_1878 : Index := 7#32
  let v3478 : Index := Scalar.indexCast v3473
  let c0_1879 : Index := 0#32
  let c0_1880 : Index := 0#32
  ![7, v3478.toNat, 0, 0]

def k0_chk318 (v3473 : BitVec 32) : Prop :=
  (∀ a, (k0_off960 v3473) a + S1x3x7x256.size a ≤ S32x14x7x256.size a)
theorem k0_off960_inb : ∀ (v3473 : BitVec 32) (k0_hw318 : k0_chk318 v3473), ∀ a, (k0_off960 v3473) a + S1x3x7x256.size a ≤ S32x14x7x256.size a := fun v3473 k0_hw318 => k0_hw318

def k0_off961 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3494 : Index := Scalar.indexCast v3162
  let c59_1886 : Index := 59#32
  ![v3494.toNat, 59]
def k0_off962 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3496 : Index := Scalar.indexCast v3162
  let c60_1887 : Index := 60#32
  ![v3496.toNat, 60]
def k0_off963 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3498 : Index := Scalar.indexCast v3162
  let c61_1888 : Index := 61#32
  ![v3498.toNat, 61]
def k0_off964 (v3495 : BitVec 32) : Fin 4 → Nat :=
  let c7_1889 : Index := 7#32
  let v3500 : Index := Scalar.indexCast v3495
  let c0_1890 : Index := 0#32
  let c0_1891 : Index := 0#32
  ![7, v3500.toNat, 0, 0]

def k0_chk319 (v3495 : BitVec 32) : Prop :=
  (∀ a, (k0_off964 v3495) a + S1x3x7x256.size a ≤ S32x14x7x256.size a)
theorem k0_off964_inb : ∀ (v3495 : BitVec 32) (k0_hw319 : k0_chk319 v3495), ∀ a, (k0_off964 v3495) a + S1x3x7x256.size a ≤ S32x14x7x256.size a := fun v3495 k0_hw319 => k0_hw319

def k0_off965 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3516 : Index := Scalar.indexCast v3162
  let c62_1897 : Index := 62#32
  ![v3516.toNat, 62]
def k0_off966 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3518 : Index := Scalar.indexCast v3162
  let c63_1898 : Index := 63#32
  ![v3518.toNat, 63]
def k0_off967 (i : grid0.Coords) : Fin 2 → Nat :=
  let c32_i32_1707 : BitVec 32 := 32#32
  let arg0 : BitVec 32 := BitVec.ofNat 32 (i 0).val
  let v3161 : BitVec 32 := Scalar.muli c32_i32_1707 arg0
  let c7_i32_1708 : BitVec 32 := 7#32
  let v3162 : BitVec 32 := Scalar.addi v3161 c7_i32_1708
  let v3520 : Index := Scalar.indexCast v3162
  let c64_1899 : Index := 64#32
  ![v3520.toNat, 64]
def k0_off968 (v3517 : BitVec 32) : Fin 4 → Nat :=
  let c7_1900 : Index := 7#32
  let v3522 : Index := Scalar.indexCast v3517
  let c0_1901 : Index := 0#32
  let c0_1902 : Index := 0#32
  ![7, v3522.toNat, 0, 0]

def k0_chk320 (v3517 : BitVec 32) : Prop :=
  (∀ a, (k0_off968 v3517) a + S1x3x7x256.size a ≤ S32x14x7x256.size a)
theorem k0_off968_inb : ∀ (v3517 : BitVec 32) (k0_hw320 : k0_chk320 v3517), ∀ a, (k0_off968 v3517) a + S1x3x7x256.size a ≤ S32x14x7x256.size a := fun v3517 k0_hw320 => k0_hw320

def k0_off969 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3543 : Index := Scalar.indexCast v3539
  let c16_1913 : Index := 16#32
  ![v3543.toNat, 16]
def k0_off970 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3545 : Index := Scalar.indexCast v3539
  let c17_1914 : Index := 17#32
  ![v3545.toNat, 17]
def k0_off971 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3547 : Index := Scalar.indexCast v3539
  let c18_1915 : Index := 18#32
  ![v3547.toNat, 18]
def k0_off972 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3549 : Index := Scalar.indexCast v3539
  let c19_1916 : Index := 19#32
  ![v3549.toNat, 19]
def k0_off973 (i : grid0.Coords) (v3544 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3551 : Index := Scalar.indexCast v3541
  let c0_1917 : Index := 0#32
  let v3552 : Index := Scalar.indexCast v3544
  let c0_1918 : Index := 0#32
  ![v3551.toNat, 0, v3552.toNat, 0]

def k0_chk321 (i : grid0.Coords) (v3544 : BitVec 32) : Prop :=
  (∀ a, (k0_off973 i v3544) a + S1x14x1x256.size a ≤ S64x14x24x256.size a)
theorem k0_off973_inb : ∀ (i : grid0.Coords) (v3544 : BitVec 32) (k0_hw321 : k0_chk321 i v3544), ∀ a, (k0_off973 i v3544) a + S1x14x1x256.size a ≤ S64x14x24x256.size a := fun i v3544 k0_hw321 => k0_hw321

def k0_off974 (i : grid0.Coords) (v3546 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3555 : Index := Scalar.indexCast v3541
  let c0_1919 : Index := 0#32
  let v3556 : Index := Scalar.indexCast v3546
  let c0_1920 : Index := 0#32
  ![v3555.toNat, 0, v3556.toNat, 0]

def k0_chk322 (i : grid0.Coords) (v3546 : BitVec 32) : Prop :=
  (∀ a, (k0_off974 i v3546) a + S1x14x1x256.size a ≤ S64x14x24x256.size a)
theorem k0_off974_inb : ∀ (i : grid0.Coords) (v3546 : BitVec 32) (k0_hw322 : k0_chk322 i v3546), ∀ a, (k0_off974 i v3546) a + S1x14x1x256.size a ≤ S64x14x24x256.size a := fun i v3546 k0_hw322 => k0_hw322

def k0_off975 (i : grid0.Coords) (v3548 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3559 : Index := Scalar.indexCast v3541
  let c0_1921 : Index := 0#32
  let v3560 : Index := Scalar.indexCast v3548
  let c0_1922 : Index := 0#32
  ![v3559.toNat, 0, v3560.toNat, 0]

def k0_chk323 (i : grid0.Coords) (v3548 : BitVec 32) : Prop :=
  (∀ a, (k0_off975 i v3548) a + S1x14x1x256.size a ≤ S64x14x24x256.size a)
theorem k0_off975_inb : ∀ (i : grid0.Coords) (v3548 : BitVec 32) (k0_hw323 : k0_chk323 i v3548), ∀ a, (k0_off975 i v3548) a + S1x14x1x256.size a ≤ S64x14x24x256.size a := fun i v3548 k0_hw323 => k0_hw323

def k0_off976 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3574 : Index := Scalar.indexCast v3539
  let c20_1929 : Index := 20#32
  ![v3574.toNat, 20]
def k0_off977 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3576 : Index := Scalar.indexCast v3539
  let c21_1930 : Index := 21#32
  ![v3576.toNat, 21]
def k0_off978 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3578 : Index := Scalar.indexCast v3539
  let c22_1931 : Index := 22#32
  ![v3578.toNat, 22]
def k0_off979 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3580 : Index := Scalar.indexCast v3539
  let c23_1932 : Index := 23#32
  ![v3580.toNat, 23]
def k0_off980 (i : grid0.Coords) (v3575 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3582 : Index := Scalar.indexCast v3541
  let c0_1933 : Index := 0#32
  let v3583 : Index := Scalar.indexCast v3575
  let c0_1934 : Index := 0#32
  ![v3582.toNat, 0, v3583.toNat, 0]

def k0_chk324 (i : grid0.Coords) (v3575 : BitVec 32) : Prop :=
  (∀ a, (k0_off980 i v3575) a + S1x14x1x256.size a ≤ S64x14x24x256.size a)
theorem k0_off980_inb : ∀ (i : grid0.Coords) (v3575 : BitVec 32) (k0_hw324 : k0_chk324 i v3575), ∀ a, (k0_off980 i v3575) a + S1x14x1x256.size a ≤ S64x14x24x256.size a := fun i v3575 k0_hw324 => k0_hw324

def k0_off981 (i : grid0.Coords) (v3577 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3586 : Index := Scalar.indexCast v3541
  let c0_1935 : Index := 0#32
  let v3587 : Index := Scalar.indexCast v3577
  let c0_1936 : Index := 0#32
  ![v3586.toNat, 0, v3587.toNat, 0]

def k0_chk325 (i : grid0.Coords) (v3577 : BitVec 32) : Prop :=
  (∀ a, (k0_off981 i v3577) a + S1x14x1x256.size a ≤ S64x14x24x256.size a)
theorem k0_off981_inb : ∀ (i : grid0.Coords) (v3577 : BitVec 32) (k0_hw325 : k0_chk325 i v3577), ∀ a, (k0_off981 i v3577) a + S1x14x1x256.size a ≤ S64x14x24x256.size a := fun i v3577 k0_hw325 => k0_hw325

def k0_off982 (i : grid0.Coords) (v3579 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3590 : Index := Scalar.indexCast v3541
  let c0_1937 : Index := 0#32
  let v3591 : Index := Scalar.indexCast v3579
  let c0_1938 : Index := 0#32
  ![v3590.toNat, 0, v3591.toNat, 0]

def k0_chk326 (i : grid0.Coords) (v3579 : BitVec 32) : Prop :=
  (∀ a, (k0_off982 i v3579) a + S1x14x1x256.size a ≤ S64x14x24x256.size a)
theorem k0_off982_inb : ∀ (i : grid0.Coords) (v3579 : BitVec 32) (k0_hw326 : k0_chk326 i v3579), ∀ a, (k0_off982 i v3579) a + S1x14x1x256.size a ≤ S64x14x24x256.size a := fun i v3579 k0_hw326 => k0_hw326

def k0_off983 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3605 : Index := Scalar.indexCast v3539
  let c24_1946 : Index := 24#32
  ![v3605.toNat, 24]
def k0_off984 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3607 : Index := Scalar.indexCast v3539
  let c25_1947 : Index := 25#32
  ![v3607.toNat, 25]
def k0_off985 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3609 : Index := Scalar.indexCast v3539
  let c26_1948 : Index := 26#32
  ![v3609.toNat, 26]
def k0_off986 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3611 : Index := Scalar.indexCast v3539
  let c27_1949 : Index := 27#32
  ![v3611.toNat, 27]
def k0_off987 (i : grid0.Coords) (v3606 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3613 : Index := Scalar.indexCast v3541
  let c0_1950 : Index := 0#32
  let v3614 : Index := Scalar.indexCast v3606
  let c0_1951 : Index := 0#32
  ![v3613.toNat, 0, v3614.toNat, 0]

def k0_chk327 (i : grid0.Coords) (v3606 : BitVec 32) : Prop :=
  (∀ a, (k0_off987 i v3606) a + S1x14x1x256.size a ≤ S64x14x24x256.size a)
theorem k0_off987_inb : ∀ (i : grid0.Coords) (v3606 : BitVec 32) (k0_hw327 : k0_chk327 i v3606), ∀ a, (k0_off987 i v3606) a + S1x14x1x256.size a ≤ S64x14x24x256.size a := fun i v3606 k0_hw327 => k0_hw327

def k0_off988 (i : grid0.Coords) (v3608 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3617 : Index := Scalar.indexCast v3541
  let c0_1952 : Index := 0#32
  let v3618 : Index := Scalar.indexCast v3608
  let c0_1953 : Index := 0#32
  ![v3617.toNat, 0, v3618.toNat, 0]

def k0_chk328 (i : grid0.Coords) (v3608 : BitVec 32) : Prop :=
  (∀ a, (k0_off988 i v3608) a + S1x14x1x256.size a ≤ S64x14x24x256.size a)
theorem k0_off988_inb : ∀ (i : grid0.Coords) (v3608 : BitVec 32) (k0_hw328 : k0_chk328 i v3608), ∀ a, (k0_off988 i v3608) a + S1x14x1x256.size a ≤ S64x14x24x256.size a := fun i v3608 k0_hw328 => k0_hw328

def k0_off989 (i : grid0.Coords) (v3610 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3621 : Index := Scalar.indexCast v3541
  let c0_1954 : Index := 0#32
  let v3622 : Index := Scalar.indexCast v3610
  let c0_1955 : Index := 0#32
  ![v3621.toNat, 0, v3622.toNat, 0]

def k0_chk329 (i : grid0.Coords) (v3610 : BitVec 32) : Prop :=
  (∀ a, (k0_off989 i v3610) a + S1x14x1x256.size a ≤ S64x14x24x256.size a)
theorem k0_off989_inb : ∀ (i : grid0.Coords) (v3610 : BitVec 32) (k0_hw329 : k0_chk329 i v3610), ∀ a, (k0_off989 i v3610) a + S1x14x1x256.size a ≤ S64x14x24x256.size a := fun i v3610 k0_hw329 => k0_hw329

def k0_off990 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3636 : Index := Scalar.indexCast v3539
  let c28_1963 : Index := 28#32
  ![v3636.toNat, 28]
def k0_off991 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3638 : Index := Scalar.indexCast v3539
  let c29_1964 : Index := 29#32
  ![v3638.toNat, 29]
def k0_off992 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3640 : Index := Scalar.indexCast v3539
  let c30_1965 : Index := 30#32
  ![v3640.toNat, 30]
def k0_off993 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3642 : Index := Scalar.indexCast v3539
  let c31_1966 : Index := 31#32
  ![v3642.toNat, 31]
def k0_off994 (i : grid0.Coords) (v3637 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3644 : Index := Scalar.indexCast v3541
  let c0_1967 : Index := 0#32
  let v3645 : Index := Scalar.indexCast v3637
  let c0_1968 : Index := 0#32
  ![v3644.toNat, 0, v3645.toNat, 0]

def k0_chk330 (i : grid0.Coords) (v3637 : BitVec 32) : Prop :=
  (∀ a, (k0_off994 i v3637) a + S1x14x1x256.size a ≤ S64x14x24x256.size a)
theorem k0_off994_inb : ∀ (i : grid0.Coords) (v3637 : BitVec 32) (k0_hw330 : k0_chk330 i v3637), ∀ a, (k0_off994 i v3637) a + S1x14x1x256.size a ≤ S64x14x24x256.size a := fun i v3637 k0_hw330 => k0_hw330

def k0_off995 (i : grid0.Coords) (v3639 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3648 : Index := Scalar.indexCast v3541
  let c0_1969 : Index := 0#32
  let v3649 : Index := Scalar.indexCast v3639
  let c0_1970 : Index := 0#32
  ![v3648.toNat, 0, v3649.toNat, 0]

def k0_chk331 (i : grid0.Coords) (v3639 : BitVec 32) : Prop :=
  (∀ a, (k0_off995 i v3639) a + S1x14x1x256.size a ≤ S64x14x24x256.size a)
theorem k0_off995_inb : ∀ (i : grid0.Coords) (v3639 : BitVec 32) (k0_hw331 : k0_chk331 i v3639), ∀ a, (k0_off995 i v3639) a + S1x14x1x256.size a ≤ S64x14x24x256.size a := fun i v3639 k0_hw331 => k0_hw331

def k0_off996 (i : grid0.Coords) (v3641 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3652 : Index := Scalar.indexCast v3541
  let c0_1971 : Index := 0#32
  let v3653 : Index := Scalar.indexCast v3641
  let c0_1972 : Index := 0#32
  ![v3652.toNat, 0, v3653.toNat, 0]

def k0_chk332 (i : grid0.Coords) (v3641 : BitVec 32) : Prop :=
  (∀ a, (k0_off996 i v3641) a + S1x14x1x256.size a ≤ S64x14x24x256.size a)
theorem k0_off996_inb : ∀ (i : grid0.Coords) (v3641 : BitVec 32) (k0_hw332 : k0_chk332 i v3641), ∀ a, (k0_off996 i v3641) a + S1x14x1x256.size a ≤ S64x14x24x256.size a := fun i v3641 k0_hw332 => k0_hw332

def k0_off997 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3667 : Index := Scalar.indexCast v3539
  let c32_1980 : Index := 32#32
  ![v3667.toNat, 32]
def k0_off998 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3669 : Index := Scalar.indexCast v3539
  let c33_1981 : Index := 33#32
  ![v3669.toNat, 33]
def k0_off999 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3671 : Index := Scalar.indexCast v3539
  let c34_1982 : Index := 34#32
  ![v3671.toNat, 34]
def k0_off1000 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3673 : Index := Scalar.indexCast v3539
  let c35_1983 : Index := 35#32
  ![v3673.toNat, 35]
def k0_off1001 (i : grid0.Coords) (v3668 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3675 : Index := Scalar.indexCast v3541
  let c0_1984 : Index := 0#32
  let v3676 : Index := Scalar.indexCast v3668
  let c0_1985 : Index := 0#32
  ![v3675.toNat, 0, v3676.toNat, 0]

def k0_chk333 (i : grid0.Coords) (v3668 : BitVec 32) : Prop :=
  (∀ a, (k0_off1001 i v3668) a + S1x14x1x256.size a ≤ S64x14x24x256.size a)
theorem k0_off1001_inb : ∀ (i : grid0.Coords) (v3668 : BitVec 32) (k0_hw333 : k0_chk333 i v3668), ∀ a, (k0_off1001 i v3668) a + S1x14x1x256.size a ≤ S64x14x24x256.size a := fun i v3668 k0_hw333 => k0_hw333

def k0_off1002 (i : grid0.Coords) (v3670 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3679 : Index := Scalar.indexCast v3541
  let c0_1986 : Index := 0#32
  let v3680 : Index := Scalar.indexCast v3670
  let c0_1987 : Index := 0#32
  ![v3679.toNat, 0, v3680.toNat, 0]

def k0_chk334 (i : grid0.Coords) (v3670 : BitVec 32) : Prop :=
  (∀ a, (k0_off1002 i v3670) a + S1x14x1x256.size a ≤ S64x14x24x256.size a)
theorem k0_off1002_inb : ∀ (i : grid0.Coords) (v3670 : BitVec 32) (k0_hw334 : k0_chk334 i v3670), ∀ a, (k0_off1002 i v3670) a + S1x14x1x256.size a ≤ S64x14x24x256.size a := fun i v3670 k0_hw334 => k0_hw334

def k0_off1003 (i : grid0.Coords) (v3672 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3683 : Index := Scalar.indexCast v3541
  let c0_1988 : Index := 0#32
  let v3684 : Index := Scalar.indexCast v3672
  let c0_1989 : Index := 0#32
  ![v3683.toNat, 0, v3684.toNat, 0]

def k0_chk335 (i : grid0.Coords) (v3672 : BitVec 32) : Prop :=
  (∀ a, (k0_off1003 i v3672) a + S1x14x1x256.size a ≤ S64x14x24x256.size a)
theorem k0_off1003_inb : ∀ (i : grid0.Coords) (v3672 : BitVec 32) (k0_hw335 : k0_chk335 i v3672), ∀ a, (k0_off1003 i v3672) a + S1x14x1x256.size a ≤ S64x14x24x256.size a := fun i v3672 k0_hw335 => k0_hw335

def k0_off1004 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3698 : Index := Scalar.indexCast v3539
  let c36_1997 : Index := 36#32
  ![v3698.toNat, 36]
def k0_off1005 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3700 : Index := Scalar.indexCast v3539
  let c37_1998 : Index := 37#32
  ![v3700.toNat, 37]
def k0_off1006 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3702 : Index := Scalar.indexCast v3539
  let c38_1999 : Index := 38#32
  ![v3702.toNat, 38]
def k0_off1007 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3704 : Index := Scalar.indexCast v3539
  let c39_2000 : Index := 39#32
  ![v3704.toNat, 39]
def k0_off1008 (i : grid0.Coords) (v3699 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3706 : Index := Scalar.indexCast v3541
  let c0_2001 : Index := 0#32
  let v3707 : Index := Scalar.indexCast v3699
  let c0_2002 : Index := 0#32
  ![v3706.toNat, 0, v3707.toNat, 0]

def k0_chk336 (i : grid0.Coords) (v3699 : BitVec 32) : Prop :=
  (∀ a, (k0_off1008 i v3699) a + S1x14x1x256.size a ≤ S64x14x24x256.size a)
theorem k0_off1008_inb : ∀ (i : grid0.Coords) (v3699 : BitVec 32) (k0_hw336 : k0_chk336 i v3699), ∀ a, (k0_off1008 i v3699) a + S1x14x1x256.size a ≤ S64x14x24x256.size a := fun i v3699 k0_hw336 => k0_hw336

def k0_off1009 (i : grid0.Coords) (v3701 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3710 : Index := Scalar.indexCast v3541
  let c0_2003 : Index := 0#32
  let v3711 : Index := Scalar.indexCast v3701
  let c0_2004 : Index := 0#32
  ![v3710.toNat, 0, v3711.toNat, 0]

def k0_chk337 (i : grid0.Coords) (v3701 : BitVec 32) : Prop :=
  (∀ a, (k0_off1009 i v3701) a + S1x14x1x256.size a ≤ S64x14x24x256.size a)
theorem k0_off1009_inb : ∀ (i : grid0.Coords) (v3701 : BitVec 32) (k0_hw337 : k0_chk337 i v3701), ∀ a, (k0_off1009 i v3701) a + S1x14x1x256.size a ≤ S64x14x24x256.size a := fun i v3701 k0_hw337 => k0_hw337

def k0_off1010 (i : grid0.Coords) (v3703 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3714 : Index := Scalar.indexCast v3541
  let c0_2005 : Index := 0#32
  let v3715 : Index := Scalar.indexCast v3703
  let c0_2006 : Index := 0#32
  ![v3714.toNat, 0, v3715.toNat, 0]

def k0_chk338 (i : grid0.Coords) (v3703 : BitVec 32) : Prop :=
  (∀ a, (k0_off1010 i v3703) a + S1x14x1x256.size a ≤ S64x14x24x256.size a)
theorem k0_off1010_inb : ∀ (i : grid0.Coords) (v3703 : BitVec 32) (k0_hw338 : k0_chk338 i v3703), ∀ a, (k0_off1010 i v3703) a + S1x14x1x256.size a ≤ S64x14x24x256.size a := fun i v3703 k0_hw338 => k0_hw338

def k0_off1011 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3729 : Index := Scalar.indexCast v3539
  let c40_2014 : Index := 40#32
  ![v3729.toNat, 40]
def k0_off1012 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3731 : Index := Scalar.indexCast v3539
  let c41_2015 : Index := 41#32
  ![v3731.toNat, 41]
def k0_off1013 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3733 : Index := Scalar.indexCast v3539
  let c42_2016 : Index := 42#32
  ![v3733.toNat, 42]
def k0_off1014 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3735 : Index := Scalar.indexCast v3539
  let c43_2017 : Index := 43#32
  ![v3735.toNat, 43]
def k0_off1015 (i : grid0.Coords) (v3730 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3737 : Index := Scalar.indexCast v3541
  let c0_2018 : Index := 0#32
  let v3738 : Index := Scalar.indexCast v3730
  let c0_2019 : Index := 0#32
  ![v3737.toNat, 0, v3738.toNat, 0]

def k0_chk339 (i : grid0.Coords) (v3730 : BitVec 32) : Prop :=
  (∀ a, (k0_off1015 i v3730) a + S1x14x1x256.size a ≤ S64x14x24x256.size a)
theorem k0_off1015_inb : ∀ (i : grid0.Coords) (v3730 : BitVec 32) (k0_hw339 : k0_chk339 i v3730), ∀ a, (k0_off1015 i v3730) a + S1x14x1x256.size a ≤ S64x14x24x256.size a := fun i v3730 k0_hw339 => k0_hw339

def k0_off1016 (i : grid0.Coords) (v3732 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3741 : Index := Scalar.indexCast v3541
  let c0_2020 : Index := 0#32
  let v3742 : Index := Scalar.indexCast v3732
  let c0_2021 : Index := 0#32
  ![v3741.toNat, 0, v3742.toNat, 0]

def k0_chk340 (i : grid0.Coords) (v3732 : BitVec 32) : Prop :=
  (∀ a, (k0_off1016 i v3732) a + S1x14x1x256.size a ≤ S64x14x24x256.size a)
theorem k0_off1016_inb : ∀ (i : grid0.Coords) (v3732 : BitVec 32) (k0_hw340 : k0_chk340 i v3732), ∀ a, (k0_off1016 i v3732) a + S1x14x1x256.size a ≤ S64x14x24x256.size a := fun i v3732 k0_hw340 => k0_hw340

def k0_off1017 (i : grid0.Coords) (v3734 : BitVec 32) : Fin 4 → Nat :=
  let c32_i32_1910 : BitVec 32 := 32#32
  let arg0 : BitVec 32 := BitVec.ofNat 32 (i 0).val
  let c2_i32 : BitVec 32 := 2#32
  let v0 : BitVec 32 := Scalar.remsi arg0 c2_i32
  let v3540 : BitVec 32 := Scalar.muli c32_i32_1910 v0
  let c8_i32_1911 : BitVec 32 := 8#32
  let v3541 : BitVec 32 := Scalar.addi v3540 c8_i32_1911
  let v3745 : Index := Scalar.indexCast v3541
  let c0_2022 : Index := 0#32
  let v3746 : Index := Scalar.indexCast v3734
  let c0_2023 : Index := 0#32
  ![v3745.toNat, 0, v3746.toNat, 0]

def k0_chk341 (i : grid0.Coords) (v3734 : BitVec 32) : Prop :=
  (∀ a, (k0_off1017 i v3734) a + S1x14x1x256.size a ≤ S64x14x24x256.size a)
theorem k0_off1017_inb : ∀ (i : grid0.Coords) (v3734 : BitVec 32) (k0_hw341 : k0_chk341 i v3734), ∀ a, (k0_off1017 i v3734) a + S1x14x1x256.size a ≤ S64x14x24x256.size a := fun i v3734 k0_hw341 => k0_hw341

def k0_off1018 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3761 : Index := Scalar.indexCast v3539
  let c44_2031 : Index := 44#32
  ![v3761.toNat, 44]
def k0_off1019 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3763 : Index := Scalar.indexCast v3539
  let c45_2032 : Index := 45#32
  ![v3763.toNat, 45]
def k0_off1020 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3765 : Index := Scalar.indexCast v3539
  let c46_2033 : Index := 46#32
  ![v3765.toNat, 46]
def k0_off1021 (v3762 : BitVec 32) : Fin 4 → Nat :=
  let c8_2034 : Index := 8#32
  let v3767 : Index := Scalar.indexCast v3762
  let c0_2035 : Index := 0#32
  let c0_2036 : Index := 0#32
  ![8, v3767.toNat, 0, 0]

def k0_chk342 (v3762 : BitVec 32) : Prop :=
  (∀ a, (k0_off1021 v3762) a + S1x3x7x256.size a ≤ S32x14x7x256.size a)
theorem k0_off1021_inb : ∀ (v3762 : BitVec 32) (k0_hw342 : k0_chk342 v3762), ∀ a, (k0_off1021 v3762) a + S1x3x7x256.size a ≤ S32x14x7x256.size a := fun v3762 k0_hw342 => k0_hw342

def k0_off1022 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3783 : Index := Scalar.indexCast v3539
  let c47_2042 : Index := 47#32
  ![v3783.toNat, 47]
def k0_off1023 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3785 : Index := Scalar.indexCast v3539
  let c48_2043 : Index := 48#32
  ![v3785.toNat, 48]
def k0_off1024 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3787 : Index := Scalar.indexCast v3539
  let c49_2044 : Index := 49#32
  ![v3787.toNat, 49]
def k0_off1025 (v3784 : BitVec 32) : Fin 4 → Nat :=
  let c8_2045 : Index := 8#32
  let v3789 : Index := Scalar.indexCast v3784
  let c0_2046 : Index := 0#32
  let c0_2047 : Index := 0#32
  ![8, v3789.toNat, 0, 0]

def k0_chk343 (v3784 : BitVec 32) : Prop :=
  (∀ a, (k0_off1025 v3784) a + S1x3x7x256.size a ≤ S32x14x7x256.size a)
theorem k0_off1025_inb : ∀ (v3784 : BitVec 32) (k0_hw343 : k0_chk343 v3784), ∀ a, (k0_off1025 v3784) a + S1x3x7x256.size a ≤ S32x14x7x256.size a := fun v3784 k0_hw343 => k0_hw343

def k0_off1026 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3805 : Index := Scalar.indexCast v3539
  let c50_2053 : Index := 50#32
  ![v3805.toNat, 50]
def k0_off1027 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3807 : Index := Scalar.indexCast v3539
  let c51_2054 : Index := 51#32
  ![v3807.toNat, 51]
def k0_off1028 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3809 : Index := Scalar.indexCast v3539
  let c52_2055 : Index := 52#32
  ![v3809.toNat, 52]
def k0_off1029 (v3806 : BitVec 32) : Fin 4 → Nat :=
  let c8_2056 : Index := 8#32
  let v3811 : Index := Scalar.indexCast v3806
  let c0_2057 : Index := 0#32
  let c0_2058 : Index := 0#32
  ![8, v3811.toNat, 0, 0]

def k0_chk344 (v3806 : BitVec 32) : Prop :=
  (∀ a, (k0_off1029 v3806) a + S1x3x7x256.size a ≤ S32x14x7x256.size a)
theorem k0_off1029_inb : ∀ (v3806 : BitVec 32) (k0_hw344 : k0_chk344 v3806), ∀ a, (k0_off1029 v3806) a + S1x3x7x256.size a ≤ S32x14x7x256.size a := fun v3806 k0_hw344 => k0_hw344

def k0_off1030 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3827 : Index := Scalar.indexCast v3539
  let c53_2064 : Index := 53#32
  ![v3827.toNat, 53]
def k0_off1031 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3829 : Index := Scalar.indexCast v3539
  let c54_2065 : Index := 54#32
  ![v3829.toNat, 54]
def k0_off1032 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3831 : Index := Scalar.indexCast v3539
  let c55_2066 : Index := 55#32
  ![v3831.toNat, 55]
def k0_off1033 (v3828 : BitVec 32) : Fin 4 → Nat :=
  let c8_2067 : Index := 8#32
  let v3833 : Index := Scalar.indexCast v3828
  let c0_2068 : Index := 0#32
  let c0_2069 : Index := 0#32
  ![8, v3833.toNat, 0, 0]

def k0_chk345 (v3828 : BitVec 32) : Prop :=
  (∀ a, (k0_off1033 v3828) a + S1x3x7x256.size a ≤ S32x14x7x256.size a)
theorem k0_off1033_inb : ∀ (v3828 : BitVec 32) (k0_hw345 : k0_chk345 v3828), ∀ a, (k0_off1033 v3828) a + S1x3x7x256.size a ≤ S32x14x7x256.size a := fun v3828 k0_hw345 => k0_hw345

def k0_off1034 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3849 : Index := Scalar.indexCast v3539
  let c56_2075 : Index := 56#32
  ![v3849.toNat, 56]
def k0_off1035 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3851 : Index := Scalar.indexCast v3539
  let c57_2076 : Index := 57#32
  ![v3851.toNat, 57]
def k0_off1036 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3853 : Index := Scalar.indexCast v3539
  let c58_2077 : Index := 58#32
  ![v3853.toNat, 58]
def k0_off1037 (v3850 : BitVec 32) : Fin 4 → Nat :=
  let c8_2078 : Index := 8#32
  let v3855 : Index := Scalar.indexCast v3850
  let c0_2079 : Index := 0#32
  let c0_2080 : Index := 0#32
  ![8, v3855.toNat, 0, 0]

def k0_chk346 (v3850 : BitVec 32) : Prop :=
  (∀ a, (k0_off1037 v3850) a + S1x3x7x256.size a ≤ S32x14x7x256.size a)
theorem k0_off1037_inb : ∀ (v3850 : BitVec 32) (k0_hw346 : k0_chk346 v3850), ∀ a, (k0_off1037 v3850) a + S1x3x7x256.size a ≤ S32x14x7x256.size a := fun v3850 k0_hw346 => k0_hw346

def k0_off1038 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3871 : Index := Scalar.indexCast v3539
  let c59_2086 : Index := 59#32
  ![v3871.toNat, 59]
def k0_off1039 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3873 : Index := Scalar.indexCast v3539
  let c60_2087 : Index := 60#32
  ![v3873.toNat, 60]
def k0_off1040 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3875 : Index := Scalar.indexCast v3539
  let c61_2088 : Index := 61#32
  ![v3875.toNat, 61]
def k0_off1041 (v3872 : BitVec 32) : Fin 4 → Nat :=
  let c8_2089 : Index := 8#32
  let v3877 : Index := Scalar.indexCast v3872
  let c0_2090 : Index := 0#32
  let c0_2091 : Index := 0#32
  ![8, v3877.toNat, 0, 0]

def k0_chk347 (v3872 : BitVec 32) : Prop :=
  (∀ a, (k0_off1041 v3872) a + S1x3x7x256.size a ≤ S32x14x7x256.size a)
theorem k0_off1041_inb : ∀ (v3872 : BitVec 32) (k0_hw347 : k0_chk347 v3872), ∀ a, (k0_off1041 v3872) a + S1x3x7x256.size a ≤ S32x14x7x256.size a := fun v3872 k0_hw347 => k0_hw347

def k0_off1042 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3893 : Index := Scalar.indexCast v3539
  let c62_2097 : Index := 62#32
  ![v3893.toNat, 62]
def k0_off1043 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3895 : Index := Scalar.indexCast v3539
  let c63_2098 : Index := 63#32
  ![v3895.toNat, 63]
def k0_off1044 (i : grid0.Coords) : Fin 2 → Nat :=
  let c32_i32_1908 : BitVec 32 := 32#32
  let arg0 : BitVec 32 := BitVec.ofNat 32 (i 0).val
  let v3538 : BitVec 32 := Scalar.muli c32_i32_1908 arg0
  let c8_i32_1909 : BitVec 32 := 8#32
  let v3539 : BitVec 32 := Scalar.addi v3538 c8_i32_1909
  let v3897 : Index := Scalar.indexCast v3539
  let c64_2099 : Index := 64#32
  ![v3897.toNat, 64]
def k0_off1045 (v3894 : BitVec 32) : Fin 4 → Nat :=
  let c8_2100 : Index := 8#32
  let v3899 : Index := Scalar.indexCast v3894
  let c0_2101 : Index := 0#32
  let c0_2102 : Index := 0#32
  ![8, v3899.toNat, 0, 0]

def k0_chk348 (v3894 : BitVec 32) : Prop :=
  (∀ a, (k0_off1045 v3894) a + S1x3x7x256.size a ≤ S32x14x7x256.size a)
theorem k0_off1045_inb : ∀ (v3894 : BitVec 32) (k0_hw348 : k0_chk348 v3894), ∀ a, (k0_off1045 v3894) a + S1x3x7x256.size a ≤ S32x14x7x256.size a := fun v3894 k0_hw348 => k0_hw348

def k0_off1046 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3920 : Index := Scalar.indexCast v3916
  let c16_2113 : Index := 16#32
  ![v3920.toNat, 16]
def k0_off1047 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3922 : Index := Scalar.indexCast v3916
  let c17_2114 : Index := 17#32
  ![v3922.toNat, 17]
def k0_off1048 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3924 : Index := Scalar.indexCast v3916
  let c18_2115 : Index := 18#32
  ![v3924.toNat, 18]
def k0_off1049 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3926 : Index := Scalar.indexCast v3916
  let c19_2116 : Index := 19#32
  ![v3926.toNat, 19]
def k0_off1050 (i : grid0.Coords) (v3921 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3928 : Index := Scalar.indexCast v3918
  let c0_2117 : Index := 0#32
  let v3929 : Index := Scalar.indexCast v3921
  let c0_2118 : Index := 0#32
  ![v3928.toNat, 0, v3929.toNat, 0]

def k0_chk349 (i : grid0.Coords) (v3921 : BitVec 32) : Prop :=
  (∀ a, (k0_off1050 i v3921) a + S1x14x1x256.size a ≤ S64x14x24x256.size a)
theorem k0_off1050_inb : ∀ (i : grid0.Coords) (v3921 : BitVec 32) (k0_hw349 : k0_chk349 i v3921), ∀ a, (k0_off1050 i v3921) a + S1x14x1x256.size a ≤ S64x14x24x256.size a := fun i v3921 k0_hw349 => k0_hw349

def k0_off1051 (i : grid0.Coords) (v3923 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3932 : Index := Scalar.indexCast v3918
  let c0_2119 : Index := 0#32
  let v3933 : Index := Scalar.indexCast v3923
  let c0_2120 : Index := 0#32
  ![v3932.toNat, 0, v3933.toNat, 0]

def k0_chk350 (i : grid0.Coords) (v3923 : BitVec 32) : Prop :=
  (∀ a, (k0_off1051 i v3923) a + S1x14x1x256.size a ≤ S64x14x24x256.size a)
theorem k0_off1051_inb : ∀ (i : grid0.Coords) (v3923 : BitVec 32) (k0_hw350 : k0_chk350 i v3923), ∀ a, (k0_off1051 i v3923) a + S1x14x1x256.size a ≤ S64x14x24x256.size a := fun i v3923 k0_hw350 => k0_hw350

def k0_off1052 (i : grid0.Coords) (v3925 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3936 : Index := Scalar.indexCast v3918
  let c0_2121 : Index := 0#32
  let v3937 : Index := Scalar.indexCast v3925
  let c0_2122 : Index := 0#32
  ![v3936.toNat, 0, v3937.toNat, 0]

def k0_chk351 (i : grid0.Coords) (v3925 : BitVec 32) : Prop :=
  (∀ a, (k0_off1052 i v3925) a + S1x14x1x256.size a ≤ S64x14x24x256.size a)
theorem k0_off1052_inb : ∀ (i : grid0.Coords) (v3925 : BitVec 32) (k0_hw351 : k0_chk351 i v3925), ∀ a, (k0_off1052 i v3925) a + S1x14x1x256.size a ≤ S64x14x24x256.size a := fun i v3925 k0_hw351 => k0_hw351

def k0_off1053 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3951 : Index := Scalar.indexCast v3916
  let c20_2129 : Index := 20#32
  ![v3951.toNat, 20]
def k0_off1054 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3953 : Index := Scalar.indexCast v3916
  let c21_2130 : Index := 21#32
  ![v3953.toNat, 21]
def k0_off1055 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3955 : Index := Scalar.indexCast v3916
  let c22_2131 : Index := 22#32
  ![v3955.toNat, 22]
def k0_off1056 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3957 : Index := Scalar.indexCast v3916
  let c23_2132 : Index := 23#32
  ![v3957.toNat, 23]
def k0_off1057 (i : grid0.Coords) (v3952 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3959 : Index := Scalar.indexCast v3918
  let c0_2133 : Index := 0#32
  let v3960 : Index := Scalar.indexCast v3952
  let c0_2134 : Index := 0#32
  ![v3959.toNat, 0, v3960.toNat, 0]

def k0_chk352 (i : grid0.Coords) (v3952 : BitVec 32) : Prop :=
  (∀ a, (k0_off1057 i v3952) a + S1x14x1x256.size a ≤ S64x14x24x256.size a)
theorem k0_off1057_inb : ∀ (i : grid0.Coords) (v3952 : BitVec 32) (k0_hw352 : k0_chk352 i v3952), ∀ a, (k0_off1057 i v3952) a + S1x14x1x256.size a ≤ S64x14x24x256.size a := fun i v3952 k0_hw352 => k0_hw352

def k0_off1058 (i : grid0.Coords) (v3954 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3963 : Index := Scalar.indexCast v3918
  let c0_2135 : Index := 0#32
  let v3964 : Index := Scalar.indexCast v3954
  let c0_2136 : Index := 0#32
  ![v3963.toNat, 0, v3964.toNat, 0]

def k0_chk353 (i : grid0.Coords) (v3954 : BitVec 32) : Prop :=
  (∀ a, (k0_off1058 i v3954) a + S1x14x1x256.size a ≤ S64x14x24x256.size a)
theorem k0_off1058_inb : ∀ (i : grid0.Coords) (v3954 : BitVec 32) (k0_hw353 : k0_chk353 i v3954), ∀ a, (k0_off1058 i v3954) a + S1x14x1x256.size a ≤ S64x14x24x256.size a := fun i v3954 k0_hw353 => k0_hw353

def k0_off1059 (i : grid0.Coords) (v3956 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3967 : Index := Scalar.indexCast v3918
  let c0_2137 : Index := 0#32
  let v3968 : Index := Scalar.indexCast v3956
  let c0_2138 : Index := 0#32
  ![v3967.toNat, 0, v3968.toNat, 0]

def k0_chk354 (i : grid0.Coords) (v3956 : BitVec 32) : Prop :=
  (∀ a, (k0_off1059 i v3956) a + S1x14x1x256.size a ≤ S64x14x24x256.size a)
theorem k0_off1059_inb : ∀ (i : grid0.Coords) (v3956 : BitVec 32) (k0_hw354 : k0_chk354 i v3956), ∀ a, (k0_off1059 i v3956) a + S1x14x1x256.size a ≤ S64x14x24x256.size a := fun i v3956 k0_hw354 => k0_hw354

def k0_off1060 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3982 : Index := Scalar.indexCast v3916
  let c24_2146 : Index := 24#32
  ![v3982.toNat, 24]
def k0_off1061 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3984 : Index := Scalar.indexCast v3916
  let c25_2147 : Index := 25#32
  ![v3984.toNat, 25]
def k0_off1062 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3986 : Index := Scalar.indexCast v3916
  let c26_2148 : Index := 26#32
  ![v3986.toNat, 26]
def k0_off1063 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v3988 : Index := Scalar.indexCast v3916
  let c27_2149 : Index := 27#32
  ![v3988.toNat, 27]
def k0_off1064 (i : grid0.Coords) (v3983 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3990 : Index := Scalar.indexCast v3918
  let c0_2150 : Index := 0#32
  let v3991 : Index := Scalar.indexCast v3983
  let c0_2151 : Index := 0#32
  ![v3990.toNat, 0, v3991.toNat, 0]

def k0_chk355 (i : grid0.Coords) (v3983 : BitVec 32) : Prop :=
  (∀ a, (k0_off1064 i v3983) a + S1x14x1x256.size a ≤ S64x14x24x256.size a)
theorem k0_off1064_inb : ∀ (i : grid0.Coords) (v3983 : BitVec 32) (k0_hw355 : k0_chk355 i v3983), ∀ a, (k0_off1064 i v3983) a + S1x14x1x256.size a ≤ S64x14x24x256.size a := fun i v3983 k0_hw355 => k0_hw355

def k0_off1065 (i : grid0.Coords) (v3985 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3994 : Index := Scalar.indexCast v3918
  let c0_2152 : Index := 0#32
  let v3995 : Index := Scalar.indexCast v3985
  let c0_2153 : Index := 0#32
  ![v3994.toNat, 0, v3995.toNat, 0]

def k0_chk356 (i : grid0.Coords) (v3985 : BitVec 32) : Prop :=
  (∀ a, (k0_off1065 i v3985) a + S1x14x1x256.size a ≤ S64x14x24x256.size a)
theorem k0_off1065_inb : ∀ (i : grid0.Coords) (v3985 : BitVec 32) (k0_hw356 : k0_chk356 i v3985), ∀ a, (k0_off1065 i v3985) a + S1x14x1x256.size a ≤ S64x14x24x256.size a := fun i v3985 k0_hw356 => k0_hw356

def k0_off1066 (i : grid0.Coords) (v3987 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v3998 : Index := Scalar.indexCast v3918
  let c0_2154 : Index := 0#32
  let v3999 : Index := Scalar.indexCast v3987
  let c0_2155 : Index := 0#32
  ![v3998.toNat, 0, v3999.toNat, 0]

def k0_chk357 (i : grid0.Coords) (v3987 : BitVec 32) : Prop :=
  (∀ a, (k0_off1066 i v3987) a + S1x14x1x256.size a ≤ S64x14x24x256.size a)
theorem k0_off1066_inb : ∀ (i : grid0.Coords) (v3987 : BitVec 32) (k0_hw357 : k0_chk357 i v3987), ∀ a, (k0_off1066 i v3987) a + S1x14x1x256.size a ≤ S64x14x24x256.size a := fun i v3987 k0_hw357 => k0_hw357

def k0_off1067 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4013 : Index := Scalar.indexCast v3916
  let c28_2163 : Index := 28#32
  ![v4013.toNat, 28]
def k0_off1068 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4015 : Index := Scalar.indexCast v3916
  let c29_2164 : Index := 29#32
  ![v4015.toNat, 29]
def k0_off1069 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4017 : Index := Scalar.indexCast v3916
  let c30_2165 : Index := 30#32
  ![v4017.toNat, 30]
def k0_off1070 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4019 : Index := Scalar.indexCast v3916
  let c31_2166 : Index := 31#32
  ![v4019.toNat, 31]
def k0_off1071 (i : grid0.Coords) (v4014 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4021 : Index := Scalar.indexCast v3918
  let c0_2167 : Index := 0#32
  let v4022 : Index := Scalar.indexCast v4014
  let c0_2168 : Index := 0#32
  ![v4021.toNat, 0, v4022.toNat, 0]

def k0_chk358 (i : grid0.Coords) (v4014 : BitVec 32) : Prop :=
  (∀ a, (k0_off1071 i v4014) a + S1x14x1x256.size a ≤ S64x14x24x256.size a)
theorem k0_off1071_inb : ∀ (i : grid0.Coords) (v4014 : BitVec 32) (k0_hw358 : k0_chk358 i v4014), ∀ a, (k0_off1071 i v4014) a + S1x14x1x256.size a ≤ S64x14x24x256.size a := fun i v4014 k0_hw358 => k0_hw358

def k0_off1072 (i : grid0.Coords) (v4016 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4025 : Index := Scalar.indexCast v3918
  let c0_2169 : Index := 0#32
  let v4026 : Index := Scalar.indexCast v4016
  let c0_2170 : Index := 0#32
  ![v4025.toNat, 0, v4026.toNat, 0]

def k0_chk359 (i : grid0.Coords) (v4016 : BitVec 32) : Prop :=
  (∀ a, (k0_off1072 i v4016) a + S1x14x1x256.size a ≤ S64x14x24x256.size a)
theorem k0_off1072_inb : ∀ (i : grid0.Coords) (v4016 : BitVec 32) (k0_hw359 : k0_chk359 i v4016), ∀ a, (k0_off1072 i v4016) a + S1x14x1x256.size a ≤ S64x14x24x256.size a := fun i v4016 k0_hw359 => k0_hw359

def k0_off1073 (i : grid0.Coords) (v4018 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4029 : Index := Scalar.indexCast v3918
  let c0_2171 : Index := 0#32
  let v4030 : Index := Scalar.indexCast v4018
  let c0_2172 : Index := 0#32
  ![v4029.toNat, 0, v4030.toNat, 0]

def k0_chk360 (i : grid0.Coords) (v4018 : BitVec 32) : Prop :=
  (∀ a, (k0_off1073 i v4018) a + S1x14x1x256.size a ≤ S64x14x24x256.size a)
theorem k0_off1073_inb : ∀ (i : grid0.Coords) (v4018 : BitVec 32) (k0_hw360 : k0_chk360 i v4018), ∀ a, (k0_off1073 i v4018) a + S1x14x1x256.size a ≤ S64x14x24x256.size a := fun i v4018 k0_hw360 => k0_hw360

def k0_off1074 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4044 : Index := Scalar.indexCast v3916
  let c32_2180 : Index := 32#32
  ![v4044.toNat, 32]
def k0_off1075 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4046 : Index := Scalar.indexCast v3916
  let c33_2181 : Index := 33#32
  ![v4046.toNat, 33]
def k0_off1076 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4048 : Index := Scalar.indexCast v3916
  let c34_2182 : Index := 34#32
  ![v4048.toNat, 34]
def k0_off1077 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4050 : Index := Scalar.indexCast v3916
  let c35_2183 : Index := 35#32
  ![v4050.toNat, 35]
def k0_off1078 (i : grid0.Coords) (v4045 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4052 : Index := Scalar.indexCast v3918
  let c0_2184 : Index := 0#32
  let v4053 : Index := Scalar.indexCast v4045
  let c0_2185 : Index := 0#32
  ![v4052.toNat, 0, v4053.toNat, 0]

def k0_chk361 (i : grid0.Coords) (v4045 : BitVec 32) : Prop :=
  (∀ a, (k0_off1078 i v4045) a + S1x14x1x256.size a ≤ S64x14x24x256.size a)
theorem k0_off1078_inb : ∀ (i : grid0.Coords) (v4045 : BitVec 32) (k0_hw361 : k0_chk361 i v4045), ∀ a, (k0_off1078 i v4045) a + S1x14x1x256.size a ≤ S64x14x24x256.size a := fun i v4045 k0_hw361 => k0_hw361

def k0_off1079 (i : grid0.Coords) (v4047 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4056 : Index := Scalar.indexCast v3918
  let c0_2186 : Index := 0#32
  let v4057 : Index := Scalar.indexCast v4047
  let c0_2187 : Index := 0#32
  ![v4056.toNat, 0, v4057.toNat, 0]

def k0_chk362 (i : grid0.Coords) (v4047 : BitVec 32) : Prop :=
  (∀ a, (k0_off1079 i v4047) a + S1x14x1x256.size a ≤ S64x14x24x256.size a)
theorem k0_off1079_inb : ∀ (i : grid0.Coords) (v4047 : BitVec 32) (k0_hw362 : k0_chk362 i v4047), ∀ a, (k0_off1079 i v4047) a + S1x14x1x256.size a ≤ S64x14x24x256.size a := fun i v4047 k0_hw362 => k0_hw362

def k0_off1080 (i : grid0.Coords) (v4049 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4060 : Index := Scalar.indexCast v3918
  let c0_2188 : Index := 0#32
  let v4061 : Index := Scalar.indexCast v4049
  let c0_2189 : Index := 0#32
  ![v4060.toNat, 0, v4061.toNat, 0]

def k0_chk363 (i : grid0.Coords) (v4049 : BitVec 32) : Prop :=
  (∀ a, (k0_off1080 i v4049) a + S1x14x1x256.size a ≤ S64x14x24x256.size a)
theorem k0_off1080_inb : ∀ (i : grid0.Coords) (v4049 : BitVec 32) (k0_hw363 : k0_chk363 i v4049), ∀ a, (k0_off1080 i v4049) a + S1x14x1x256.size a ≤ S64x14x24x256.size a := fun i v4049 k0_hw363 => k0_hw363

def k0_off1081 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4075 : Index := Scalar.indexCast v3916
  let c36_2197 : Index := 36#32
  ![v4075.toNat, 36]
def k0_off1082 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4077 : Index := Scalar.indexCast v3916
  let c37_2198 : Index := 37#32
  ![v4077.toNat, 37]
def k0_off1083 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4079 : Index := Scalar.indexCast v3916
  let c38_2199 : Index := 38#32
  ![v4079.toNat, 38]
def k0_off1084 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4081 : Index := Scalar.indexCast v3916
  let c39_2200 : Index := 39#32
  ![v4081.toNat, 39]
def k0_off1085 (i : grid0.Coords) (v4076 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4083 : Index := Scalar.indexCast v3918
  let c0_2201 : Index := 0#32
  let v4084 : Index := Scalar.indexCast v4076
  let c0_2202 : Index := 0#32
  ![v4083.toNat, 0, v4084.toNat, 0]

def k0_chk364 (i : grid0.Coords) (v4076 : BitVec 32) : Prop :=
  (∀ a, (k0_off1085 i v4076) a + S1x14x1x256.size a ≤ S64x14x24x256.size a)
theorem k0_off1085_inb : ∀ (i : grid0.Coords) (v4076 : BitVec 32) (k0_hw364 : k0_chk364 i v4076), ∀ a, (k0_off1085 i v4076) a + S1x14x1x256.size a ≤ S64x14x24x256.size a := fun i v4076 k0_hw364 => k0_hw364

def k0_off1086 (i : grid0.Coords) (v4078 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4087 : Index := Scalar.indexCast v3918
  let c0_2203 : Index := 0#32
  let v4088 : Index := Scalar.indexCast v4078
  let c0_2204 : Index := 0#32
  ![v4087.toNat, 0, v4088.toNat, 0]

def k0_chk365 (i : grid0.Coords) (v4078 : BitVec 32) : Prop :=
  (∀ a, (k0_off1086 i v4078) a + S1x14x1x256.size a ≤ S64x14x24x256.size a)
theorem k0_off1086_inb : ∀ (i : grid0.Coords) (v4078 : BitVec 32) (k0_hw365 : k0_chk365 i v4078), ∀ a, (k0_off1086 i v4078) a + S1x14x1x256.size a ≤ S64x14x24x256.size a := fun i v4078 k0_hw365 => k0_hw365

def k0_off1087 (i : grid0.Coords) (v4080 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4091 : Index := Scalar.indexCast v3918
  let c0_2205 : Index := 0#32
  let v4092 : Index := Scalar.indexCast v4080
  let c0_2206 : Index := 0#32
  ![v4091.toNat, 0, v4092.toNat, 0]

def k0_chk366 (i : grid0.Coords) (v4080 : BitVec 32) : Prop :=
  (∀ a, (k0_off1087 i v4080) a + S1x14x1x256.size a ≤ S64x14x24x256.size a)
theorem k0_off1087_inb : ∀ (i : grid0.Coords) (v4080 : BitVec 32) (k0_hw366 : k0_chk366 i v4080), ∀ a, (k0_off1087 i v4080) a + S1x14x1x256.size a ≤ S64x14x24x256.size a := fun i v4080 k0_hw366 => k0_hw366

def k0_off1088 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4106 : Index := Scalar.indexCast v3916
  let c40_2214 : Index := 40#32
  ![v4106.toNat, 40]
def k0_off1089 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4108 : Index := Scalar.indexCast v3916
  let c41_2215 : Index := 41#32
  ![v4108.toNat, 41]
def k0_off1090 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4110 : Index := Scalar.indexCast v3916
  let c42_2216 : Index := 42#32
  ![v4110.toNat, 42]
def k0_off1091 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4112 : Index := Scalar.indexCast v3916
  let c43_2217 : Index := 43#32
  ![v4112.toNat, 43]
def k0_off1092 (i : grid0.Coords) (v4107 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4114 : Index := Scalar.indexCast v3918
  let c0_2218 : Index := 0#32
  let v4115 : Index := Scalar.indexCast v4107
  let c0_2219 : Index := 0#32
  ![v4114.toNat, 0, v4115.toNat, 0]

def k0_chk367 (i : grid0.Coords) (v4107 : BitVec 32) : Prop :=
  (∀ a, (k0_off1092 i v4107) a + S1x14x1x256.size a ≤ S64x14x24x256.size a)
theorem k0_off1092_inb : ∀ (i : grid0.Coords) (v4107 : BitVec 32) (k0_hw367 : k0_chk367 i v4107), ∀ a, (k0_off1092 i v4107) a + S1x14x1x256.size a ≤ S64x14x24x256.size a := fun i v4107 k0_hw367 => k0_hw367

def k0_off1093 (i : grid0.Coords) (v4109 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4118 : Index := Scalar.indexCast v3918
  let c0_2220 : Index := 0#32
  let v4119 : Index := Scalar.indexCast v4109
  let c0_2221 : Index := 0#32
  ![v4118.toNat, 0, v4119.toNat, 0]

def k0_chk368 (i : grid0.Coords) (v4109 : BitVec 32) : Prop :=
  (∀ a, (k0_off1093 i v4109) a + S1x14x1x256.size a ≤ S64x14x24x256.size a)
theorem k0_off1093_inb : ∀ (i : grid0.Coords) (v4109 : BitVec 32) (k0_hw368 : k0_chk368 i v4109), ∀ a, (k0_off1093 i v4109) a + S1x14x1x256.size a ≤ S64x14x24x256.size a := fun i v4109 k0_hw368 => k0_hw368

def k0_off1094 (i : grid0.Coords) (v4111 : BitVec 32) : Fin 4 → Nat :=
  let c32_i32_2110 : BitVec 32 := 32#32
  let arg0 : BitVec 32 := BitVec.ofNat 32 (i 0).val
  let c2_i32 : BitVec 32 := 2#32
  let v0 : BitVec 32 := Scalar.remsi arg0 c2_i32
  let v3917 : BitVec 32 := Scalar.muli c32_i32_2110 v0
  let c9_i32_2111 : BitVec 32 := 9#32
  let v3918 : BitVec 32 := Scalar.addi v3917 c9_i32_2111
  let v4122 : Index := Scalar.indexCast v3918
  let c0_2222 : Index := 0#32
  let v4123 : Index := Scalar.indexCast v4111
  let c0_2223 : Index := 0#32
  ![v4122.toNat, 0, v4123.toNat, 0]

def k0_chk369 (i : grid0.Coords) (v4111 : BitVec 32) : Prop :=
  (∀ a, (k0_off1094 i v4111) a + S1x14x1x256.size a ≤ S64x14x24x256.size a)
theorem k0_off1094_inb : ∀ (i : grid0.Coords) (v4111 : BitVec 32) (k0_hw369 : k0_chk369 i v4111), ∀ a, (k0_off1094 i v4111) a + S1x14x1x256.size a ≤ S64x14x24x256.size a := fun i v4111 k0_hw369 => k0_hw369

def k0_off1095 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4138 : Index := Scalar.indexCast v3916
  let c44_2231 : Index := 44#32
  ![v4138.toNat, 44]
def k0_off1096 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4140 : Index := Scalar.indexCast v3916
  let c45_2232 : Index := 45#32
  ![v4140.toNat, 45]
def k0_off1097 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4142 : Index := Scalar.indexCast v3916
  let c46_2233 : Index := 46#32
  ![v4142.toNat, 46]
def k0_off1098 (v4139 : BitVec 32) : Fin 4 → Nat :=
  let c9_2234 : Index := 9#32
  let v4144 : Index := Scalar.indexCast v4139
  let c0_2235 : Index := 0#32
  let c0_2236 : Index := 0#32
  ![9, v4144.toNat, 0, 0]

def k0_chk370 (v4139 : BitVec 32) : Prop :=
  (∀ a, (k0_off1098 v4139) a + S1x3x7x256.size a ≤ S32x14x7x256.size a)
theorem k0_off1098_inb : ∀ (v4139 : BitVec 32) (k0_hw370 : k0_chk370 v4139), ∀ a, (k0_off1098 v4139) a + S1x3x7x256.size a ≤ S32x14x7x256.size a := fun v4139 k0_hw370 => k0_hw370

def k0_off1099 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4160 : Index := Scalar.indexCast v3916
  let c47_2242 : Index := 47#32
  ![v4160.toNat, 47]
def k0_off1100 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4162 : Index := Scalar.indexCast v3916
  let c48_2243 : Index := 48#32
  ![v4162.toNat, 48]
def k0_off1101 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4164 : Index := Scalar.indexCast v3916
  let c49_2244 : Index := 49#32
  ![v4164.toNat, 49]
def k0_off1102 (v4161 : BitVec 32) : Fin 4 → Nat :=
  let c9_2245 : Index := 9#32
  let v4166 : Index := Scalar.indexCast v4161
  let c0_2246 : Index := 0#32
  let c0_2247 : Index := 0#32
  ![9, v4166.toNat, 0, 0]

def k0_chk371 (v4161 : BitVec 32) : Prop :=
  (∀ a, (k0_off1102 v4161) a + S1x3x7x256.size a ≤ S32x14x7x256.size a)
theorem k0_off1102_inb : ∀ (v4161 : BitVec 32) (k0_hw371 : k0_chk371 v4161), ∀ a, (k0_off1102 v4161) a + S1x3x7x256.size a ≤ S32x14x7x256.size a := fun v4161 k0_hw371 => k0_hw371

def k0_off1103 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4182 : Index := Scalar.indexCast v3916
  let c50_2253 : Index := 50#32
  ![v4182.toNat, 50]
def k0_off1104 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4184 : Index := Scalar.indexCast v3916
  let c51_2254 : Index := 51#32
  ![v4184.toNat, 51]
def k0_off1105 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4186 : Index := Scalar.indexCast v3916
  let c52_2255 : Index := 52#32
  ![v4186.toNat, 52]
def k0_off1106 (v4183 : BitVec 32) : Fin 4 → Nat :=
  let c9_2256 : Index := 9#32
  let v4188 : Index := Scalar.indexCast v4183
  let c0_2257 : Index := 0#32
  let c0_2258 : Index := 0#32
  ![9, v4188.toNat, 0, 0]

def k0_chk372 (v4183 : BitVec 32) : Prop :=
  (∀ a, (k0_off1106 v4183) a + S1x3x7x256.size a ≤ S32x14x7x256.size a)
theorem k0_off1106_inb : ∀ (v4183 : BitVec 32) (k0_hw372 : k0_chk372 v4183), ∀ a, (k0_off1106 v4183) a + S1x3x7x256.size a ≤ S32x14x7x256.size a := fun v4183 k0_hw372 => k0_hw372

def k0_off1107 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4204 : Index := Scalar.indexCast v3916
  let c53_2264 : Index := 53#32
  ![v4204.toNat, 53]
def k0_off1108 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4206 : Index := Scalar.indexCast v3916
  let c54_2265 : Index := 54#32
  ![v4206.toNat, 54]
def k0_off1109 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4208 : Index := Scalar.indexCast v3916
  let c55_2266 : Index := 55#32
  ![v4208.toNat, 55]
def k0_off1110 (v4205 : BitVec 32) : Fin 4 → Nat :=
  let c9_2267 : Index := 9#32
  let v4210 : Index := Scalar.indexCast v4205
  let c0_2268 : Index := 0#32
  let c0_2269 : Index := 0#32
  ![9, v4210.toNat, 0, 0]

def k0_chk373 (v4205 : BitVec 32) : Prop :=
  (∀ a, (k0_off1110 v4205) a + S1x3x7x256.size a ≤ S32x14x7x256.size a)
theorem k0_off1110_inb : ∀ (v4205 : BitVec 32) (k0_hw373 : k0_chk373 v4205), ∀ a, (k0_off1110 v4205) a + S1x3x7x256.size a ≤ S32x14x7x256.size a := fun v4205 k0_hw373 => k0_hw373

def k0_off1111 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4226 : Index := Scalar.indexCast v3916
  let c56_2275 : Index := 56#32
  ![v4226.toNat, 56]
def k0_off1112 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4228 : Index := Scalar.indexCast v3916
  let c57_2276 : Index := 57#32
  ![v4228.toNat, 57]
def k0_off1113 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4230 : Index := Scalar.indexCast v3916
  let c58_2277 : Index := 58#32
  ![v4230.toNat, 58]
def k0_off1114 (v4227 : BitVec 32) : Fin 4 → Nat :=
  let c9_2278 : Index := 9#32
  let v4232 : Index := Scalar.indexCast v4227
  let c0_2279 : Index := 0#32
  let c0_2280 : Index := 0#32
  ![9, v4232.toNat, 0, 0]

def k0_chk374 (v4227 : BitVec 32) : Prop :=
  (∀ a, (k0_off1114 v4227) a + S1x3x7x256.size a ≤ S32x14x7x256.size a)
theorem k0_off1114_inb : ∀ (v4227 : BitVec 32) (k0_hw374 : k0_chk374 v4227), ∀ a, (k0_off1114 v4227) a + S1x3x7x256.size a ≤ S32x14x7x256.size a := fun v4227 k0_hw374 => k0_hw374

def k0_off1115 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4248 : Index := Scalar.indexCast v3916
  let c59_2286 : Index := 59#32
  ![v4248.toNat, 59]
def k0_off1116 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4250 : Index := Scalar.indexCast v3916
  let c60_2287 : Index := 60#32
  ![v4250.toNat, 60]
def k0_off1117 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4252 : Index := Scalar.indexCast v3916
  let c61_2288 : Index := 61#32
  ![v4252.toNat, 61]
def k0_off1118 (v4249 : BitVec 32) : Fin 4 → Nat :=
  let c9_2289 : Index := 9#32
  let v4254 : Index := Scalar.indexCast v4249
  let c0_2290 : Index := 0#32
  let c0_2291 : Index := 0#32
  ![9, v4254.toNat, 0, 0]

def k0_chk375 (v4249 : BitVec 32) : Prop :=
  (∀ a, (k0_off1118 v4249) a + S1x3x7x256.size a ≤ S32x14x7x256.size a)
theorem k0_off1118_inb : ∀ (v4249 : BitVec 32) (k0_hw375 : k0_chk375 v4249), ∀ a, (k0_off1118 v4249) a + S1x3x7x256.size a ≤ S32x14x7x256.size a := fun v4249 k0_hw375 => k0_hw375

def k0_off1119 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4270 : Index := Scalar.indexCast v3916
  let c62_2297 : Index := 62#32
  ![v4270.toNat, 62]
def k0_off1120 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4272 : Index := Scalar.indexCast v3916
  let c63_2298 : Index := 63#32
  ![v4272.toNat, 63]
def k0_off1121 (i : grid0.Coords) : Fin 2 → Nat :=
  let c32_i32_2108 : BitVec 32 := 32#32
  let arg0 : BitVec 32 := BitVec.ofNat 32 (i 0).val
  let v3915 : BitVec 32 := Scalar.muli c32_i32_2108 arg0
  let c9_i32_2109 : BitVec 32 := 9#32
  let v3916 : BitVec 32 := Scalar.addi v3915 c9_i32_2109
  let v4274 : Index := Scalar.indexCast v3916
  let c64_2299 : Index := 64#32
  ![v4274.toNat, 64]
def k0_off1122 (v4271 : BitVec 32) : Fin 4 → Nat :=
  let c9_2300 : Index := 9#32
  let v4276 : Index := Scalar.indexCast v4271
  let c0_2301 : Index := 0#32
  let c0_2302 : Index := 0#32
  ![9, v4276.toNat, 0, 0]

def k0_chk376 (v4271 : BitVec 32) : Prop :=
  (∀ a, (k0_off1122 v4271) a + S1x3x7x256.size a ≤ S32x14x7x256.size a)
theorem k0_off1122_inb : ∀ (v4271 : BitVec 32) (k0_hw376 : k0_chk376 v4271), ∀ a, (k0_off1122 v4271) a + S1x3x7x256.size a ≤ S32x14x7x256.size a := fun v4271 k0_hw376 => k0_hw376

def k0_off1123 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4297 : Index := Scalar.indexCast v4293
  let c16_2313 : Index := 16#32
  ![v4297.toNat, 16]
def k0_off1124 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4299 : Index := Scalar.indexCast v4293
  let c17_2314 : Index := 17#32
  ![v4299.toNat, 17]
def k0_off1125 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4301 : Index := Scalar.indexCast v4293
  let c18_2315 : Index := 18#32
  ![v4301.toNat, 18]
def k0_off1126 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4303 : Index := Scalar.indexCast v4293
  let c19_2316 : Index := 19#32
  ![v4303.toNat, 19]
def k0_off1127 (i : grid0.Coords) (v4298 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4305 : Index := Scalar.indexCast v4295
  let c0_2317 : Index := 0#32
  let v4306 : Index := Scalar.indexCast v4298
  let c0_2318 : Index := 0#32
  ![v4305.toNat, 0, v4306.toNat, 0]

def k0_chk377 (i : grid0.Coords) (v4298 : BitVec 32) : Prop :=
  (∀ a, (k0_off1127 i v4298) a + S1x14x1x256.size a ≤ S64x14x24x256.size a)
theorem k0_off1127_inb : ∀ (i : grid0.Coords) (v4298 : BitVec 32) (k0_hw377 : k0_chk377 i v4298), ∀ a, (k0_off1127 i v4298) a + S1x14x1x256.size a ≤ S64x14x24x256.size a := fun i v4298 k0_hw377 => k0_hw377

def k0_off1128 (i : grid0.Coords) (v4300 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4309 : Index := Scalar.indexCast v4295
  let c0_2319 : Index := 0#32
  let v4310 : Index := Scalar.indexCast v4300
  let c0_2320 : Index := 0#32
  ![v4309.toNat, 0, v4310.toNat, 0]

def k0_chk378 (i : grid0.Coords) (v4300 : BitVec 32) : Prop :=
  (∀ a, (k0_off1128 i v4300) a + S1x14x1x256.size a ≤ S64x14x24x256.size a)
theorem k0_off1128_inb : ∀ (i : grid0.Coords) (v4300 : BitVec 32) (k0_hw378 : k0_chk378 i v4300), ∀ a, (k0_off1128 i v4300) a + S1x14x1x256.size a ≤ S64x14x24x256.size a := fun i v4300 k0_hw378 => k0_hw378

def k0_off1129 (i : grid0.Coords) (v4302 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4313 : Index := Scalar.indexCast v4295
  let c0_2321 : Index := 0#32
  let v4314 : Index := Scalar.indexCast v4302
  let c0_2322 : Index := 0#32
  ![v4313.toNat, 0, v4314.toNat, 0]

def k0_chk379 (i : grid0.Coords) (v4302 : BitVec 32) : Prop :=
  (∀ a, (k0_off1129 i v4302) a + S1x14x1x256.size a ≤ S64x14x24x256.size a)
theorem k0_off1129_inb : ∀ (i : grid0.Coords) (v4302 : BitVec 32) (k0_hw379 : k0_chk379 i v4302), ∀ a, (k0_off1129 i v4302) a + S1x14x1x256.size a ≤ S64x14x24x256.size a := fun i v4302 k0_hw379 => k0_hw379

def k0_off1130 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4328 : Index := Scalar.indexCast v4293
  let c20_2329 : Index := 20#32
  ![v4328.toNat, 20]
def k0_off1131 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4330 : Index := Scalar.indexCast v4293
  let c21_2330 : Index := 21#32
  ![v4330.toNat, 21]
def k0_off1132 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4332 : Index := Scalar.indexCast v4293
  let c22_2331 : Index := 22#32
  ![v4332.toNat, 22]
def k0_off1133 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4334 : Index := Scalar.indexCast v4293
  let c23_2332 : Index := 23#32
  ![v4334.toNat, 23]
def k0_off1134 (i : grid0.Coords) (v4329 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4336 : Index := Scalar.indexCast v4295
  let c0_2333 : Index := 0#32
  let v4337 : Index := Scalar.indexCast v4329
  let c0_2334 : Index := 0#32
  ![v4336.toNat, 0, v4337.toNat, 0]

def k0_chk380 (i : grid0.Coords) (v4329 : BitVec 32) : Prop :=
  (∀ a, (k0_off1134 i v4329) a + S1x14x1x256.size a ≤ S64x14x24x256.size a)
theorem k0_off1134_inb : ∀ (i : grid0.Coords) (v4329 : BitVec 32) (k0_hw380 : k0_chk380 i v4329), ∀ a, (k0_off1134 i v4329) a + S1x14x1x256.size a ≤ S64x14x24x256.size a := fun i v4329 k0_hw380 => k0_hw380

def k0_off1135 (i : grid0.Coords) (v4331 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4340 : Index := Scalar.indexCast v4295
  let c0_2335 : Index := 0#32
  let v4341 : Index := Scalar.indexCast v4331
  let c0_2336 : Index := 0#32
  ![v4340.toNat, 0, v4341.toNat, 0]

def k0_chk381 (i : grid0.Coords) (v4331 : BitVec 32) : Prop :=
  (∀ a, (k0_off1135 i v4331) a + S1x14x1x256.size a ≤ S64x14x24x256.size a)
theorem k0_off1135_inb : ∀ (i : grid0.Coords) (v4331 : BitVec 32) (k0_hw381 : k0_chk381 i v4331), ∀ a, (k0_off1135 i v4331) a + S1x14x1x256.size a ≤ S64x14x24x256.size a := fun i v4331 k0_hw381 => k0_hw381

def k0_off1136 (i : grid0.Coords) (v4333 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4344 : Index := Scalar.indexCast v4295
  let c0_2337 : Index := 0#32
  let v4345 : Index := Scalar.indexCast v4333
  let c0_2338 : Index := 0#32
  ![v4344.toNat, 0, v4345.toNat, 0]

def k0_chk382 (i : grid0.Coords) (v4333 : BitVec 32) : Prop :=
  (∀ a, (k0_off1136 i v4333) a + S1x14x1x256.size a ≤ S64x14x24x256.size a)
theorem k0_off1136_inb : ∀ (i : grid0.Coords) (v4333 : BitVec 32) (k0_hw382 : k0_chk382 i v4333), ∀ a, (k0_off1136 i v4333) a + S1x14x1x256.size a ≤ S64x14x24x256.size a := fun i v4333 k0_hw382 => k0_hw382

def k0_off1137 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4359 : Index := Scalar.indexCast v4293
  let c24_2346 : Index := 24#32
  ![v4359.toNat, 24]
def k0_off1138 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4361 : Index := Scalar.indexCast v4293
  let c25_2347 : Index := 25#32
  ![v4361.toNat, 25]
def k0_off1139 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4363 : Index := Scalar.indexCast v4293
  let c26_2348 : Index := 26#32
  ![v4363.toNat, 26]
def k0_off1140 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4365 : Index := Scalar.indexCast v4293
  let c27_2349 : Index := 27#32
  ![v4365.toNat, 27]
def k0_off1141 (i : grid0.Coords) (v4360 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4367 : Index := Scalar.indexCast v4295
  let c0_2350 : Index := 0#32
  let v4368 : Index := Scalar.indexCast v4360
  let c0_2351 : Index := 0#32
  ![v4367.toNat, 0, v4368.toNat, 0]

def k0_chk383 (i : grid0.Coords) (v4360 : BitVec 32) : Prop :=
  (∀ a, (k0_off1141 i v4360) a + S1x14x1x256.size a ≤ S64x14x24x256.size a)
theorem k0_off1141_inb : ∀ (i : grid0.Coords) (v4360 : BitVec 32) (k0_hw383 : k0_chk383 i v4360), ∀ a, (k0_off1141 i v4360) a + S1x14x1x256.size a ≤ S64x14x24x256.size a := fun i v4360 k0_hw383 => k0_hw383

def k0_off1142 (i : grid0.Coords) (v4362 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4371 : Index := Scalar.indexCast v4295
  let c0_2352 : Index := 0#32
  let v4372 : Index := Scalar.indexCast v4362
  let c0_2353 : Index := 0#32
  ![v4371.toNat, 0, v4372.toNat, 0]

def k0_chk384 (i : grid0.Coords) (v4362 : BitVec 32) : Prop :=
  (∀ a, (k0_off1142 i v4362) a + S1x14x1x256.size a ≤ S64x14x24x256.size a)
theorem k0_off1142_inb : ∀ (i : grid0.Coords) (v4362 : BitVec 32) (k0_hw384 : k0_chk384 i v4362), ∀ a, (k0_off1142 i v4362) a + S1x14x1x256.size a ≤ S64x14x24x256.size a := fun i v4362 k0_hw384 => k0_hw384

def k0_off1143 (i : grid0.Coords) (v4364 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4375 : Index := Scalar.indexCast v4295
  let c0_2354 : Index := 0#32
  let v4376 : Index := Scalar.indexCast v4364
  let c0_2355 : Index := 0#32
  ![v4375.toNat, 0, v4376.toNat, 0]

def k0_chk385 (i : grid0.Coords) (v4364 : BitVec 32) : Prop :=
  (∀ a, (k0_off1143 i v4364) a + S1x14x1x256.size a ≤ S64x14x24x256.size a)
theorem k0_off1143_inb : ∀ (i : grid0.Coords) (v4364 : BitVec 32) (k0_hw385 : k0_chk385 i v4364), ∀ a, (k0_off1143 i v4364) a + S1x14x1x256.size a ≤ S64x14x24x256.size a := fun i v4364 k0_hw385 => k0_hw385

def k0_off1144 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4390 : Index := Scalar.indexCast v4293
  let c28_2363 : Index := 28#32
  ![v4390.toNat, 28]
def k0_off1145 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4392 : Index := Scalar.indexCast v4293
  let c29_2364 : Index := 29#32
  ![v4392.toNat, 29]
def k0_off1146 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4394 : Index := Scalar.indexCast v4293
  let c30_2365 : Index := 30#32
  ![v4394.toNat, 30]
def k0_off1147 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4396 : Index := Scalar.indexCast v4293
  let c31_2366 : Index := 31#32
  ![v4396.toNat, 31]
def k0_off1148 (i : grid0.Coords) (v4391 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4398 : Index := Scalar.indexCast v4295
  let c0_2367 : Index := 0#32
  let v4399 : Index := Scalar.indexCast v4391
  let c0_2368 : Index := 0#32
  ![v4398.toNat, 0, v4399.toNat, 0]

def k0_chk386 (i : grid0.Coords) (v4391 : BitVec 32) : Prop :=
  (∀ a, (k0_off1148 i v4391) a + S1x14x1x256.size a ≤ S64x14x24x256.size a)
theorem k0_off1148_inb : ∀ (i : grid0.Coords) (v4391 : BitVec 32) (k0_hw386 : k0_chk386 i v4391), ∀ a, (k0_off1148 i v4391) a + S1x14x1x256.size a ≤ S64x14x24x256.size a := fun i v4391 k0_hw386 => k0_hw386

def k0_off1149 (i : grid0.Coords) (v4393 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4402 : Index := Scalar.indexCast v4295
  let c0_2369 : Index := 0#32
  let v4403 : Index := Scalar.indexCast v4393
  let c0_2370 : Index := 0#32
  ![v4402.toNat, 0, v4403.toNat, 0]

def k0_chk387 (i : grid0.Coords) (v4393 : BitVec 32) : Prop :=
  (∀ a, (k0_off1149 i v4393) a + S1x14x1x256.size a ≤ S64x14x24x256.size a)
theorem k0_off1149_inb : ∀ (i : grid0.Coords) (v4393 : BitVec 32) (k0_hw387 : k0_chk387 i v4393), ∀ a, (k0_off1149 i v4393) a + S1x14x1x256.size a ≤ S64x14x24x256.size a := fun i v4393 k0_hw387 => k0_hw387

def k0_off1150 (i : grid0.Coords) (v4395 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4406 : Index := Scalar.indexCast v4295
  let c0_2371 : Index := 0#32
  let v4407 : Index := Scalar.indexCast v4395
  let c0_2372 : Index := 0#32
  ![v4406.toNat, 0, v4407.toNat, 0]

def k0_chk388 (i : grid0.Coords) (v4395 : BitVec 32) : Prop :=
  (∀ a, (k0_off1150 i v4395) a + S1x14x1x256.size a ≤ S64x14x24x256.size a)
theorem k0_off1150_inb : ∀ (i : grid0.Coords) (v4395 : BitVec 32) (k0_hw388 : k0_chk388 i v4395), ∀ a, (k0_off1150 i v4395) a + S1x14x1x256.size a ≤ S64x14x24x256.size a := fun i v4395 k0_hw388 => k0_hw388

def k0_off1151 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4421 : Index := Scalar.indexCast v4293
  let c32_2380 : Index := 32#32
  ![v4421.toNat, 32]
def k0_off1152 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4423 : Index := Scalar.indexCast v4293
  let c33_2381 : Index := 33#32
  ![v4423.toNat, 33]
def k0_off1153 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4425 : Index := Scalar.indexCast v4293
  let c34_2382 : Index := 34#32
  ![v4425.toNat, 34]
def k0_off1154 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4427 : Index := Scalar.indexCast v4293
  let c35_2383 : Index := 35#32
  ![v4427.toNat, 35]
def k0_off1155 (i : grid0.Coords) (v4422 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4429 : Index := Scalar.indexCast v4295
  let c0_2384 : Index := 0#32
  let v4430 : Index := Scalar.indexCast v4422
  let c0_2385 : Index := 0#32
  ![v4429.toNat, 0, v4430.toNat, 0]

def k0_chk389 (i : grid0.Coords) (v4422 : BitVec 32) : Prop :=
  (∀ a, (k0_off1155 i v4422) a + S1x14x1x256.size a ≤ S64x14x24x256.size a)
theorem k0_off1155_inb : ∀ (i : grid0.Coords) (v4422 : BitVec 32) (k0_hw389 : k0_chk389 i v4422), ∀ a, (k0_off1155 i v4422) a + S1x14x1x256.size a ≤ S64x14x24x256.size a := fun i v4422 k0_hw389 => k0_hw389

def k0_off1156 (i : grid0.Coords) (v4424 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4433 : Index := Scalar.indexCast v4295
  let c0_2386 : Index := 0#32
  let v4434 : Index := Scalar.indexCast v4424
  let c0_2387 : Index := 0#32
  ![v4433.toNat, 0, v4434.toNat, 0]

def k0_chk390 (i : grid0.Coords) (v4424 : BitVec 32) : Prop :=
  (∀ a, (k0_off1156 i v4424) a + S1x14x1x256.size a ≤ S64x14x24x256.size a)
theorem k0_off1156_inb : ∀ (i : grid0.Coords) (v4424 : BitVec 32) (k0_hw390 : k0_chk390 i v4424), ∀ a, (k0_off1156 i v4424) a + S1x14x1x256.size a ≤ S64x14x24x256.size a := fun i v4424 k0_hw390 => k0_hw390

def k0_off1157 (i : grid0.Coords) (v4426 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4437 : Index := Scalar.indexCast v4295
  let c0_2388 : Index := 0#32
  let v4438 : Index := Scalar.indexCast v4426
  let c0_2389 : Index := 0#32
  ![v4437.toNat, 0, v4438.toNat, 0]

def k0_chk391 (i : grid0.Coords) (v4426 : BitVec 32) : Prop :=
  (∀ a, (k0_off1157 i v4426) a + S1x14x1x256.size a ≤ S64x14x24x256.size a)
theorem k0_off1157_inb : ∀ (i : grid0.Coords) (v4426 : BitVec 32) (k0_hw391 : k0_chk391 i v4426), ∀ a, (k0_off1157 i v4426) a + S1x14x1x256.size a ≤ S64x14x24x256.size a := fun i v4426 k0_hw391 => k0_hw391

def k0_off1158 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4452 : Index := Scalar.indexCast v4293
  let c36_2397 : Index := 36#32
  ![v4452.toNat, 36]
def k0_off1159 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4454 : Index := Scalar.indexCast v4293
  let c37_2398 : Index := 37#32
  ![v4454.toNat, 37]
def k0_off1160 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4456 : Index := Scalar.indexCast v4293
  let c38_2399 : Index := 38#32
  ![v4456.toNat, 38]
def k0_off1161 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4458 : Index := Scalar.indexCast v4293
  let c39_2400 : Index := 39#32
  ![v4458.toNat, 39]
def k0_off1162 (i : grid0.Coords) (v4453 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4460 : Index := Scalar.indexCast v4295
  let c0_2401 : Index := 0#32
  let v4461 : Index := Scalar.indexCast v4453
  let c0_2402 : Index := 0#32
  ![v4460.toNat, 0, v4461.toNat, 0]

def k0_chk392 (i : grid0.Coords) (v4453 : BitVec 32) : Prop :=
  (∀ a, (k0_off1162 i v4453) a + S1x14x1x256.size a ≤ S64x14x24x256.size a)
theorem k0_off1162_inb : ∀ (i : grid0.Coords) (v4453 : BitVec 32) (k0_hw392 : k0_chk392 i v4453), ∀ a, (k0_off1162 i v4453) a + S1x14x1x256.size a ≤ S64x14x24x256.size a := fun i v4453 k0_hw392 => k0_hw392

def k0_off1163 (i : grid0.Coords) (v4455 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4464 : Index := Scalar.indexCast v4295
  let c0_2403 : Index := 0#32
  let v4465 : Index := Scalar.indexCast v4455
  let c0_2404 : Index := 0#32
  ![v4464.toNat, 0, v4465.toNat, 0]

def k0_chk393 (i : grid0.Coords) (v4455 : BitVec 32) : Prop :=
  (∀ a, (k0_off1163 i v4455) a + S1x14x1x256.size a ≤ S64x14x24x256.size a)
theorem k0_off1163_inb : ∀ (i : grid0.Coords) (v4455 : BitVec 32) (k0_hw393 : k0_chk393 i v4455), ∀ a, (k0_off1163 i v4455) a + S1x14x1x256.size a ≤ S64x14x24x256.size a := fun i v4455 k0_hw393 => k0_hw393

def k0_off1164 (i : grid0.Coords) (v4457 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4468 : Index := Scalar.indexCast v4295
  let c0_2405 : Index := 0#32
  let v4469 : Index := Scalar.indexCast v4457
  let c0_2406 : Index := 0#32
  ![v4468.toNat, 0, v4469.toNat, 0]

def k0_chk394 (i : grid0.Coords) (v4457 : BitVec 32) : Prop :=
  (∀ a, (k0_off1164 i v4457) a + S1x14x1x256.size a ≤ S64x14x24x256.size a)
theorem k0_off1164_inb : ∀ (i : grid0.Coords) (v4457 : BitVec 32) (k0_hw394 : k0_chk394 i v4457), ∀ a, (k0_off1164 i v4457) a + S1x14x1x256.size a ≤ S64x14x24x256.size a := fun i v4457 k0_hw394 => k0_hw394

def k0_off1165 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4483 : Index := Scalar.indexCast v4293
  let c40_2414 : Index := 40#32
  ![v4483.toNat, 40]
def k0_off1166 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4485 : Index := Scalar.indexCast v4293
  let c41_2415 : Index := 41#32
  ![v4485.toNat, 41]
def k0_off1167 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4487 : Index := Scalar.indexCast v4293
  let c42_2416 : Index := 42#32
  ![v4487.toNat, 42]
def k0_off1168 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4489 : Index := Scalar.indexCast v4293
  let c43_2417 : Index := 43#32
  ![v4489.toNat, 43]
def k0_off1169 (i : grid0.Coords) (v4484 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4491 : Index := Scalar.indexCast v4295
  let c0_2418 : Index := 0#32
  let v4492 : Index := Scalar.indexCast v4484
  let c0_2419 : Index := 0#32
  ![v4491.toNat, 0, v4492.toNat, 0]

def k0_chk395 (i : grid0.Coords) (v4484 : BitVec 32) : Prop :=
  (∀ a, (k0_off1169 i v4484) a + S1x14x1x256.size a ≤ S64x14x24x256.size a)
theorem k0_off1169_inb : ∀ (i : grid0.Coords) (v4484 : BitVec 32) (k0_hw395 : k0_chk395 i v4484), ∀ a, (k0_off1169 i v4484) a + S1x14x1x256.size a ≤ S64x14x24x256.size a := fun i v4484 k0_hw395 => k0_hw395

def k0_off1170 (i : grid0.Coords) (v4486 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4495 : Index := Scalar.indexCast v4295
  let c0_2420 : Index := 0#32
  let v4496 : Index := Scalar.indexCast v4486
  let c0_2421 : Index := 0#32
  ![v4495.toNat, 0, v4496.toNat, 0]

def k0_chk396 (i : grid0.Coords) (v4486 : BitVec 32) : Prop :=
  (∀ a, (k0_off1170 i v4486) a + S1x14x1x256.size a ≤ S64x14x24x256.size a)
theorem k0_off1170_inb : ∀ (i : grid0.Coords) (v4486 : BitVec 32) (k0_hw396 : k0_chk396 i v4486), ∀ a, (k0_off1170 i v4486) a + S1x14x1x256.size a ≤ S64x14x24x256.size a := fun i v4486 k0_hw396 => k0_hw396

def k0_off1171 (i : grid0.Coords) (v4488 : BitVec 32) : Fin 4 → Nat :=
  let c32_i32_2310 : BitVec 32 := 32#32
  let arg0 : BitVec 32 := BitVec.ofNat 32 (i 0).val
  let c2_i32 : BitVec 32 := 2#32
  let v0 : BitVec 32 := Scalar.remsi arg0 c2_i32
  let v4294 : BitVec 32 := Scalar.muli c32_i32_2310 v0
  let c10_i32_2311 : BitVec 32 := 10#32
  let v4295 : BitVec 32 := Scalar.addi v4294 c10_i32_2311
  let v4499 : Index := Scalar.indexCast v4295
  let c0_2422 : Index := 0#32
  let v4500 : Index := Scalar.indexCast v4488
  let c0_2423 : Index := 0#32
  ![v4499.toNat, 0, v4500.toNat, 0]

def k0_chk397 (i : grid0.Coords) (v4488 : BitVec 32) : Prop :=
  (∀ a, (k0_off1171 i v4488) a + S1x14x1x256.size a ≤ S64x14x24x256.size a)
theorem k0_off1171_inb : ∀ (i : grid0.Coords) (v4488 : BitVec 32) (k0_hw397 : k0_chk397 i v4488), ∀ a, (k0_off1171 i v4488) a + S1x14x1x256.size a ≤ S64x14x24x256.size a := fun i v4488 k0_hw397 => k0_hw397

def k0_off1172 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4515 : Index := Scalar.indexCast v4293
  let c44_2431 : Index := 44#32
  ![v4515.toNat, 44]
def k0_off1173 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4517 : Index := Scalar.indexCast v4293
  let c45_2432 : Index := 45#32
  ![v4517.toNat, 45]
def k0_off1174 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4519 : Index := Scalar.indexCast v4293
  let c46_2433 : Index := 46#32
  ![v4519.toNat, 46]
def k0_off1175 (v4516 : BitVec 32) : Fin 4 → Nat :=
  let c10_2434 : Index := 10#32
  let v4521 : Index := Scalar.indexCast v4516
  let c0_2435 : Index := 0#32
  let c0_2436 : Index := 0#32
  ![10, v4521.toNat, 0, 0]

def k0_chk398 (v4516 : BitVec 32) : Prop :=
  (∀ a, (k0_off1175 v4516) a + S1x3x7x256.size a ≤ S32x14x7x256.size a)
theorem k0_off1175_inb : ∀ (v4516 : BitVec 32) (k0_hw398 : k0_chk398 v4516), ∀ a, (k0_off1175 v4516) a + S1x3x7x256.size a ≤ S32x14x7x256.size a := fun v4516 k0_hw398 => k0_hw398

def k0_off1176 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4537 : Index := Scalar.indexCast v4293
  let c47_2442 : Index := 47#32
  ![v4537.toNat, 47]
def k0_off1177 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4539 : Index := Scalar.indexCast v4293
  let c48_2443 : Index := 48#32
  ![v4539.toNat, 48]
def k0_off1178 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4541 : Index := Scalar.indexCast v4293
  let c49_2444 : Index := 49#32
  ![v4541.toNat, 49]
def k0_off1179 (v4538 : BitVec 32) : Fin 4 → Nat :=
  let c10_2445 : Index := 10#32
  let v4543 : Index := Scalar.indexCast v4538
  let c0_2446 : Index := 0#32
  let c0_2447 : Index := 0#32
  ![10, v4543.toNat, 0, 0]

def k0_chk399 (v4538 : BitVec 32) : Prop :=
  (∀ a, (k0_off1179 v4538) a + S1x3x7x256.size a ≤ S32x14x7x256.size a)
theorem k0_off1179_inb : ∀ (v4538 : BitVec 32) (k0_hw399 : k0_chk399 v4538), ∀ a, (k0_off1179 v4538) a + S1x3x7x256.size a ≤ S32x14x7x256.size a := fun v4538 k0_hw399 => k0_hw399

def k0_off1180 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4559 : Index := Scalar.indexCast v4293
  let c50_2453 : Index := 50#32
  ![v4559.toNat, 50]
def k0_off1181 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4561 : Index := Scalar.indexCast v4293
  let c51_2454 : Index := 51#32
  ![v4561.toNat, 51]
def k0_off1182 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4563 : Index := Scalar.indexCast v4293
  let c52_2455 : Index := 52#32
  ![v4563.toNat, 52]
def k0_off1183 (v4560 : BitVec 32) : Fin 4 → Nat :=
  let c10_2456 : Index := 10#32
  let v4565 : Index := Scalar.indexCast v4560
  let c0_2457 : Index := 0#32
  let c0_2458 : Index := 0#32
  ![10, v4565.toNat, 0, 0]

def k0_chk400 (v4560 : BitVec 32) : Prop :=
  (∀ a, (k0_off1183 v4560) a + S1x3x7x256.size a ≤ S32x14x7x256.size a)
theorem k0_off1183_inb : ∀ (v4560 : BitVec 32) (k0_hw400 : k0_chk400 v4560), ∀ a, (k0_off1183 v4560) a + S1x3x7x256.size a ≤ S32x14x7x256.size a := fun v4560 k0_hw400 => k0_hw400

def k0_off1184 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4581 : Index := Scalar.indexCast v4293
  let c53_2464 : Index := 53#32
  ![v4581.toNat, 53]
def k0_off1185 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4583 : Index := Scalar.indexCast v4293
  let c54_2465 : Index := 54#32
  ![v4583.toNat, 54]
def k0_off1186 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4585 : Index := Scalar.indexCast v4293
  let c55_2466 : Index := 55#32
  ![v4585.toNat, 55]
def k0_off1187 (v4582 : BitVec 32) : Fin 4 → Nat :=
  let c10_2467 : Index := 10#32
  let v4587 : Index := Scalar.indexCast v4582
  let c0_2468 : Index := 0#32
  let c0_2469 : Index := 0#32
  ![10, v4587.toNat, 0, 0]

def k0_chk401 (v4582 : BitVec 32) : Prop :=
  (∀ a, (k0_off1187 v4582) a + S1x3x7x256.size a ≤ S32x14x7x256.size a)
theorem k0_off1187_inb : ∀ (v4582 : BitVec 32) (k0_hw401 : k0_chk401 v4582), ∀ a, (k0_off1187 v4582) a + S1x3x7x256.size a ≤ S32x14x7x256.size a := fun v4582 k0_hw401 => k0_hw401

def k0_off1188 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4603 : Index := Scalar.indexCast v4293
  let c56_2475 : Index := 56#32
  ![v4603.toNat, 56]
def k0_off1189 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4605 : Index := Scalar.indexCast v4293
  let c57_2476 : Index := 57#32
  ![v4605.toNat, 57]
def k0_off1190 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4607 : Index := Scalar.indexCast v4293
  let c58_2477 : Index := 58#32
  ![v4607.toNat, 58]
def k0_off1191 (v4604 : BitVec 32) : Fin 4 → Nat :=
  let c10_2478 : Index := 10#32
  let v4609 : Index := Scalar.indexCast v4604
  let c0_2479 : Index := 0#32
  let c0_2480 : Index := 0#32
  ![10, v4609.toNat, 0, 0]

def k0_chk402 (v4604 : BitVec 32) : Prop :=
  (∀ a, (k0_off1191 v4604) a + S1x3x7x256.size a ≤ S32x14x7x256.size a)
theorem k0_off1191_inb : ∀ (v4604 : BitVec 32) (k0_hw402 : k0_chk402 v4604), ∀ a, (k0_off1191 v4604) a + S1x3x7x256.size a ≤ S32x14x7x256.size a := fun v4604 k0_hw402 => k0_hw402

def k0_off1192 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4625 : Index := Scalar.indexCast v4293
  let c59_2486 : Index := 59#32
  ![v4625.toNat, 59]
def k0_off1193 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4627 : Index := Scalar.indexCast v4293
  let c60_2487 : Index := 60#32
  ![v4627.toNat, 60]
def k0_off1194 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4629 : Index := Scalar.indexCast v4293
  let c61_2488 : Index := 61#32
  ![v4629.toNat, 61]
def k0_off1195 (v4626 : BitVec 32) : Fin 4 → Nat :=
  let c10_2489 : Index := 10#32
  let v4631 : Index := Scalar.indexCast v4626
  let c0_2490 : Index := 0#32
  let c0_2491 : Index := 0#32
  ![10, v4631.toNat, 0, 0]

def k0_chk403 (v4626 : BitVec 32) : Prop :=
  (∀ a, (k0_off1195 v4626) a + S1x3x7x256.size a ≤ S32x14x7x256.size a)
theorem k0_off1195_inb : ∀ (v4626 : BitVec 32) (k0_hw403 : k0_chk403 v4626), ∀ a, (k0_off1195 v4626) a + S1x3x7x256.size a ≤ S32x14x7x256.size a := fun v4626 k0_hw403 => k0_hw403

def k0_off1196 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4647 : Index := Scalar.indexCast v4293
  let c62_2497 : Index := 62#32
  ![v4647.toNat, 62]
def k0_off1197 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4649 : Index := Scalar.indexCast v4293
  let c63_2498 : Index := 63#32
  ![v4649.toNat, 63]
def k0_off1198 (i : grid0.Coords) : Fin 2 → Nat :=
  let c32_i32_2308 : BitVec 32 := 32#32
  let arg0 : BitVec 32 := BitVec.ofNat 32 (i 0).val
  let v4292 : BitVec 32 := Scalar.muli c32_i32_2308 arg0
  let c10_i32_2309 : BitVec 32 := 10#32
  let v4293 : BitVec 32 := Scalar.addi v4292 c10_i32_2309
  let v4651 : Index := Scalar.indexCast v4293
  let c64_2499 : Index := 64#32
  ![v4651.toNat, 64]
def k0_off1199 (v4648 : BitVec 32) : Fin 4 → Nat :=
  let c10_2500 : Index := 10#32
  let v4653 : Index := Scalar.indexCast v4648
  let c0_2501 : Index := 0#32
  let c0_2502 : Index := 0#32
  ![10, v4653.toNat, 0, 0]

def k0_chk404 (v4648 : BitVec 32) : Prop :=
  (∀ a, (k0_off1199 v4648) a + S1x3x7x256.size a ≤ S32x14x7x256.size a)
theorem k0_off1199_inb : ∀ (v4648 : BitVec 32) (k0_hw404 : k0_chk404 v4648), ∀ a, (k0_off1199 v4648) a + S1x3x7x256.size a ≤ S32x14x7x256.size a := fun v4648 k0_hw404 => k0_hw404

def k0_off1200 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4674 : Index := Scalar.indexCast v4670
  let c16_2513 : Index := 16#32
  ![v4674.toNat, 16]
def k0_off1201 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4676 : Index := Scalar.indexCast v4670
  let c17_2514 : Index := 17#32
  ![v4676.toNat, 17]
def k0_off1202 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4678 : Index := Scalar.indexCast v4670
  let c18_2515 : Index := 18#32
  ![v4678.toNat, 18]
def k0_off1203 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4680 : Index := Scalar.indexCast v4670
  let c19_2516 : Index := 19#32
  ![v4680.toNat, 19]
def k0_off1204 (i : grid0.Coords) (v4675 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4682 : Index := Scalar.indexCast v4672
  let c0_2517 : Index := 0#32
  let v4683 : Index := Scalar.indexCast v4675
  let c0_2518 : Index := 0#32
  ![v4682.toNat, 0, v4683.toNat, 0]

def k0_chk405 (i : grid0.Coords) (v4675 : BitVec 32) : Prop :=
  (∀ a, (k0_off1204 i v4675) a + S1x14x1x256.size a ≤ S64x14x24x256.size a)
theorem k0_off1204_inb : ∀ (i : grid0.Coords) (v4675 : BitVec 32) (k0_hw405 : k0_chk405 i v4675), ∀ a, (k0_off1204 i v4675) a + S1x14x1x256.size a ≤ S64x14x24x256.size a := fun i v4675 k0_hw405 => k0_hw405

def k0_off1205 (i : grid0.Coords) (v4677 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4686 : Index := Scalar.indexCast v4672
  let c0_2519 : Index := 0#32
  let v4687 : Index := Scalar.indexCast v4677
  let c0_2520 : Index := 0#32
  ![v4686.toNat, 0, v4687.toNat, 0]

def k0_chk406 (i : grid0.Coords) (v4677 : BitVec 32) : Prop :=
  (∀ a, (k0_off1205 i v4677) a + S1x14x1x256.size a ≤ S64x14x24x256.size a)
theorem k0_off1205_inb : ∀ (i : grid0.Coords) (v4677 : BitVec 32) (k0_hw406 : k0_chk406 i v4677), ∀ a, (k0_off1205 i v4677) a + S1x14x1x256.size a ≤ S64x14x24x256.size a := fun i v4677 k0_hw406 => k0_hw406

def k0_off1206 (i : grid0.Coords) (v4679 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4690 : Index := Scalar.indexCast v4672
  let c0_2521 : Index := 0#32
  let v4691 : Index := Scalar.indexCast v4679
  let c0_2522 : Index := 0#32
  ![v4690.toNat, 0, v4691.toNat, 0]

def k0_chk407 (i : grid0.Coords) (v4679 : BitVec 32) : Prop :=
  (∀ a, (k0_off1206 i v4679) a + S1x14x1x256.size a ≤ S64x14x24x256.size a)
theorem k0_off1206_inb : ∀ (i : grid0.Coords) (v4679 : BitVec 32) (k0_hw407 : k0_chk407 i v4679), ∀ a, (k0_off1206 i v4679) a + S1x14x1x256.size a ≤ S64x14x24x256.size a := fun i v4679 k0_hw407 => k0_hw407

def k0_off1207 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4705 : Index := Scalar.indexCast v4670
  let c20_2529 : Index := 20#32
  ![v4705.toNat, 20]
def k0_off1208 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4707 : Index := Scalar.indexCast v4670
  let c21_2530 : Index := 21#32
  ![v4707.toNat, 21]
def k0_off1209 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4709 : Index := Scalar.indexCast v4670
  let c22_2531 : Index := 22#32
  ![v4709.toNat, 22]
def k0_off1210 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4711 : Index := Scalar.indexCast v4670
  let c23_2532 : Index := 23#32
  ![v4711.toNat, 23]
def k0_off1211 (i : grid0.Coords) (v4706 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4713 : Index := Scalar.indexCast v4672
  let c0_2533 : Index := 0#32
  let v4714 : Index := Scalar.indexCast v4706
  let c0_2534 : Index := 0#32
  ![v4713.toNat, 0, v4714.toNat, 0]

def k0_chk408 (i : grid0.Coords) (v4706 : BitVec 32) : Prop :=
  (∀ a, (k0_off1211 i v4706) a + S1x14x1x256.size a ≤ S64x14x24x256.size a)
theorem k0_off1211_inb : ∀ (i : grid0.Coords) (v4706 : BitVec 32) (k0_hw408 : k0_chk408 i v4706), ∀ a, (k0_off1211 i v4706) a + S1x14x1x256.size a ≤ S64x14x24x256.size a := fun i v4706 k0_hw408 => k0_hw408

def k0_off1212 (i : grid0.Coords) (v4708 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4717 : Index := Scalar.indexCast v4672
  let c0_2535 : Index := 0#32
  let v4718 : Index := Scalar.indexCast v4708
  let c0_2536 : Index := 0#32
  ![v4717.toNat, 0, v4718.toNat, 0]

def k0_chk409 (i : grid0.Coords) (v4708 : BitVec 32) : Prop :=
  (∀ a, (k0_off1212 i v4708) a + S1x14x1x256.size a ≤ S64x14x24x256.size a)
theorem k0_off1212_inb : ∀ (i : grid0.Coords) (v4708 : BitVec 32) (k0_hw409 : k0_chk409 i v4708), ∀ a, (k0_off1212 i v4708) a + S1x14x1x256.size a ≤ S64x14x24x256.size a := fun i v4708 k0_hw409 => k0_hw409

def k0_off1213 (i : grid0.Coords) (v4710 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4721 : Index := Scalar.indexCast v4672
  let c0_2537 : Index := 0#32
  let v4722 : Index := Scalar.indexCast v4710
  let c0_2538 : Index := 0#32
  ![v4721.toNat, 0, v4722.toNat, 0]

def k0_chk410 (i : grid0.Coords) (v4710 : BitVec 32) : Prop :=
  (∀ a, (k0_off1213 i v4710) a + S1x14x1x256.size a ≤ S64x14x24x256.size a)
theorem k0_off1213_inb : ∀ (i : grid0.Coords) (v4710 : BitVec 32) (k0_hw410 : k0_chk410 i v4710), ∀ a, (k0_off1213 i v4710) a + S1x14x1x256.size a ≤ S64x14x24x256.size a := fun i v4710 k0_hw410 => k0_hw410

def k0_off1214 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4736 : Index := Scalar.indexCast v4670
  let c24_2546 : Index := 24#32
  ![v4736.toNat, 24]
def k0_off1215 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4738 : Index := Scalar.indexCast v4670
  let c25_2547 : Index := 25#32
  ![v4738.toNat, 25]
def k0_off1216 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4740 : Index := Scalar.indexCast v4670
  let c26_2548 : Index := 26#32
  ![v4740.toNat, 26]
def k0_off1217 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4742 : Index := Scalar.indexCast v4670
  let c27_2549 : Index := 27#32
  ![v4742.toNat, 27]
def k0_off1218 (i : grid0.Coords) (v4737 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4744 : Index := Scalar.indexCast v4672
  let c0_2550 : Index := 0#32
  let v4745 : Index := Scalar.indexCast v4737
  let c0_2551 : Index := 0#32
  ![v4744.toNat, 0, v4745.toNat, 0]

def k0_chk411 (i : grid0.Coords) (v4737 : BitVec 32) : Prop :=
  (∀ a, (k0_off1218 i v4737) a + S1x14x1x256.size a ≤ S64x14x24x256.size a)
theorem k0_off1218_inb : ∀ (i : grid0.Coords) (v4737 : BitVec 32) (k0_hw411 : k0_chk411 i v4737), ∀ a, (k0_off1218 i v4737) a + S1x14x1x256.size a ≤ S64x14x24x256.size a := fun i v4737 k0_hw411 => k0_hw411

def k0_off1219 (i : grid0.Coords) (v4739 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4748 : Index := Scalar.indexCast v4672
  let c0_2552 : Index := 0#32
  let v4749 : Index := Scalar.indexCast v4739
  let c0_2553 : Index := 0#32
  ![v4748.toNat, 0, v4749.toNat, 0]

def k0_chk412 (i : grid0.Coords) (v4739 : BitVec 32) : Prop :=
  (∀ a, (k0_off1219 i v4739) a + S1x14x1x256.size a ≤ S64x14x24x256.size a)
theorem k0_off1219_inb : ∀ (i : grid0.Coords) (v4739 : BitVec 32) (k0_hw412 : k0_chk412 i v4739), ∀ a, (k0_off1219 i v4739) a + S1x14x1x256.size a ≤ S64x14x24x256.size a := fun i v4739 k0_hw412 => k0_hw412

def k0_off1220 (i : grid0.Coords) (v4741 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4752 : Index := Scalar.indexCast v4672
  let c0_2554 : Index := 0#32
  let v4753 : Index := Scalar.indexCast v4741
  let c0_2555 : Index := 0#32
  ![v4752.toNat, 0, v4753.toNat, 0]

def k0_chk413 (i : grid0.Coords) (v4741 : BitVec 32) : Prop :=
  (∀ a, (k0_off1220 i v4741) a + S1x14x1x256.size a ≤ S64x14x24x256.size a)
theorem k0_off1220_inb : ∀ (i : grid0.Coords) (v4741 : BitVec 32) (k0_hw413 : k0_chk413 i v4741), ∀ a, (k0_off1220 i v4741) a + S1x14x1x256.size a ≤ S64x14x24x256.size a := fun i v4741 k0_hw413 => k0_hw413

def k0_off1221 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4767 : Index := Scalar.indexCast v4670
  let c28_2563 : Index := 28#32
  ![v4767.toNat, 28]
def k0_off1222 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4769 : Index := Scalar.indexCast v4670
  let c29_2564 : Index := 29#32
  ![v4769.toNat, 29]
def k0_off1223 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4771 : Index := Scalar.indexCast v4670
  let c30_2565 : Index := 30#32
  ![v4771.toNat, 30]
def k0_off1224 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4773 : Index := Scalar.indexCast v4670
  let c31_2566 : Index := 31#32
  ![v4773.toNat, 31]
def k0_off1225 (i : grid0.Coords) (v4768 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4775 : Index := Scalar.indexCast v4672
  let c0_2567 : Index := 0#32
  let v4776 : Index := Scalar.indexCast v4768
  let c0_2568 : Index := 0#32
  ![v4775.toNat, 0, v4776.toNat, 0]

def k0_chk414 (i : grid0.Coords) (v4768 : BitVec 32) : Prop :=
  (∀ a, (k0_off1225 i v4768) a + S1x14x1x256.size a ≤ S64x14x24x256.size a)
theorem k0_off1225_inb : ∀ (i : grid0.Coords) (v4768 : BitVec 32) (k0_hw414 : k0_chk414 i v4768), ∀ a, (k0_off1225 i v4768) a + S1x14x1x256.size a ≤ S64x14x24x256.size a := fun i v4768 k0_hw414 => k0_hw414

def k0_off1226 (i : grid0.Coords) (v4770 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4779 : Index := Scalar.indexCast v4672
  let c0_2569 : Index := 0#32
  let v4780 : Index := Scalar.indexCast v4770
  let c0_2570 : Index := 0#32
  ![v4779.toNat, 0, v4780.toNat, 0]

def k0_chk415 (i : grid0.Coords) (v4770 : BitVec 32) : Prop :=
  (∀ a, (k0_off1226 i v4770) a + S1x14x1x256.size a ≤ S64x14x24x256.size a)
theorem k0_off1226_inb : ∀ (i : grid0.Coords) (v4770 : BitVec 32) (k0_hw415 : k0_chk415 i v4770), ∀ a, (k0_off1226 i v4770) a + S1x14x1x256.size a ≤ S64x14x24x256.size a := fun i v4770 k0_hw415 => k0_hw415

def k0_off1227 (i : grid0.Coords) (v4772 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4783 : Index := Scalar.indexCast v4672
  let c0_2571 : Index := 0#32
  let v4784 : Index := Scalar.indexCast v4772
  let c0_2572 : Index := 0#32
  ![v4783.toNat, 0, v4784.toNat, 0]

def k0_chk416 (i : grid0.Coords) (v4772 : BitVec 32) : Prop :=
  (∀ a, (k0_off1227 i v4772) a + S1x14x1x256.size a ≤ S64x14x24x256.size a)
theorem k0_off1227_inb : ∀ (i : grid0.Coords) (v4772 : BitVec 32) (k0_hw416 : k0_chk416 i v4772), ∀ a, (k0_off1227 i v4772) a + S1x14x1x256.size a ≤ S64x14x24x256.size a := fun i v4772 k0_hw416 => k0_hw416

def k0_off1228 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4798 : Index := Scalar.indexCast v4670
  let c32_2580 : Index := 32#32
  ![v4798.toNat, 32]
def k0_off1229 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4800 : Index := Scalar.indexCast v4670
  let c33_2581 : Index := 33#32
  ![v4800.toNat, 33]
def k0_off1230 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4802 : Index := Scalar.indexCast v4670
  let c34_2582 : Index := 34#32
  ![v4802.toNat, 34]
def k0_off1231 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4804 : Index := Scalar.indexCast v4670
  let c35_2583 : Index := 35#32
  ![v4804.toNat, 35]
def k0_off1232 (i : grid0.Coords) (v4799 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4806 : Index := Scalar.indexCast v4672
  let c0_2584 : Index := 0#32
  let v4807 : Index := Scalar.indexCast v4799
  let c0_2585 : Index := 0#32
  ![v4806.toNat, 0, v4807.toNat, 0]

def k0_chk417 (i : grid0.Coords) (v4799 : BitVec 32) : Prop :=
  (∀ a, (k0_off1232 i v4799) a + S1x14x1x256.size a ≤ S64x14x24x256.size a)
theorem k0_off1232_inb : ∀ (i : grid0.Coords) (v4799 : BitVec 32) (k0_hw417 : k0_chk417 i v4799), ∀ a, (k0_off1232 i v4799) a + S1x14x1x256.size a ≤ S64x14x24x256.size a := fun i v4799 k0_hw417 => k0_hw417

def k0_off1233 (i : grid0.Coords) (v4801 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4810 : Index := Scalar.indexCast v4672
  let c0_2586 : Index := 0#32
  let v4811 : Index := Scalar.indexCast v4801
  let c0_2587 : Index := 0#32
  ![v4810.toNat, 0, v4811.toNat, 0]

def k0_chk418 (i : grid0.Coords) (v4801 : BitVec 32) : Prop :=
  (∀ a, (k0_off1233 i v4801) a + S1x14x1x256.size a ≤ S64x14x24x256.size a)
theorem k0_off1233_inb : ∀ (i : grid0.Coords) (v4801 : BitVec 32) (k0_hw418 : k0_chk418 i v4801), ∀ a, (k0_off1233 i v4801) a + S1x14x1x256.size a ≤ S64x14x24x256.size a := fun i v4801 k0_hw418 => k0_hw418

def k0_off1234 (i : grid0.Coords) (v4803 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4814 : Index := Scalar.indexCast v4672
  let c0_2588 : Index := 0#32
  let v4815 : Index := Scalar.indexCast v4803
  let c0_2589 : Index := 0#32
  ![v4814.toNat, 0, v4815.toNat, 0]

def k0_chk419 (i : grid0.Coords) (v4803 : BitVec 32) : Prop :=
  (∀ a, (k0_off1234 i v4803) a + S1x14x1x256.size a ≤ S64x14x24x256.size a)
theorem k0_off1234_inb : ∀ (i : grid0.Coords) (v4803 : BitVec 32) (k0_hw419 : k0_chk419 i v4803), ∀ a, (k0_off1234 i v4803) a + S1x14x1x256.size a ≤ S64x14x24x256.size a := fun i v4803 k0_hw419 => k0_hw419

def k0_off1235 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4829 : Index := Scalar.indexCast v4670
  let c36_2597 : Index := 36#32
  ![v4829.toNat, 36]
def k0_off1236 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4831 : Index := Scalar.indexCast v4670
  let c37_2598 : Index := 37#32
  ![v4831.toNat, 37]
def k0_off1237 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4833 : Index := Scalar.indexCast v4670
  let c38_2599 : Index := 38#32
  ![v4833.toNat, 38]
def k0_off1238 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4835 : Index := Scalar.indexCast v4670
  let c39_2600 : Index := 39#32
  ![v4835.toNat, 39]
def k0_off1239 (i : grid0.Coords) (v4830 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4837 : Index := Scalar.indexCast v4672
  let c0_2601 : Index := 0#32
  let v4838 : Index := Scalar.indexCast v4830
  let c0_2602 : Index := 0#32
  ![v4837.toNat, 0, v4838.toNat, 0]

def k0_chk420 (i : grid0.Coords) (v4830 : BitVec 32) : Prop :=
  (∀ a, (k0_off1239 i v4830) a + S1x14x1x256.size a ≤ S64x14x24x256.size a)
theorem k0_off1239_inb : ∀ (i : grid0.Coords) (v4830 : BitVec 32) (k0_hw420 : k0_chk420 i v4830), ∀ a, (k0_off1239 i v4830) a + S1x14x1x256.size a ≤ S64x14x24x256.size a := fun i v4830 k0_hw420 => k0_hw420

def k0_off1240 (i : grid0.Coords) (v4832 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4841 : Index := Scalar.indexCast v4672
  let c0_2603 : Index := 0#32
  let v4842 : Index := Scalar.indexCast v4832
  let c0_2604 : Index := 0#32
  ![v4841.toNat, 0, v4842.toNat, 0]

def k0_chk421 (i : grid0.Coords) (v4832 : BitVec 32) : Prop :=
  (∀ a, (k0_off1240 i v4832) a + S1x14x1x256.size a ≤ S64x14x24x256.size a)
theorem k0_off1240_inb : ∀ (i : grid0.Coords) (v4832 : BitVec 32) (k0_hw421 : k0_chk421 i v4832), ∀ a, (k0_off1240 i v4832) a + S1x14x1x256.size a ≤ S64x14x24x256.size a := fun i v4832 k0_hw421 => k0_hw421

def k0_off1241 (i : grid0.Coords) (v4834 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4845 : Index := Scalar.indexCast v4672
  let c0_2605 : Index := 0#32
  let v4846 : Index := Scalar.indexCast v4834
  let c0_2606 : Index := 0#32
  ![v4845.toNat, 0, v4846.toNat, 0]

def k0_chk422 (i : grid0.Coords) (v4834 : BitVec 32) : Prop :=
  (∀ a, (k0_off1241 i v4834) a + S1x14x1x256.size a ≤ S64x14x24x256.size a)
theorem k0_off1241_inb : ∀ (i : grid0.Coords) (v4834 : BitVec 32) (k0_hw422 : k0_chk422 i v4834), ∀ a, (k0_off1241 i v4834) a + S1x14x1x256.size a ≤ S64x14x24x256.size a := fun i v4834 k0_hw422 => k0_hw422

def k0_off1242 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4860 : Index := Scalar.indexCast v4670
  let c40_2614 : Index := 40#32
  ![v4860.toNat, 40]
def k0_off1243 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4862 : Index := Scalar.indexCast v4670
  let c41_2615 : Index := 41#32
  ![v4862.toNat, 41]
def k0_off1244 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4864 : Index := Scalar.indexCast v4670
  let c42_2616 : Index := 42#32
  ![v4864.toNat, 42]
def k0_off1245 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4866 : Index := Scalar.indexCast v4670
  let c43_2617 : Index := 43#32
  ![v4866.toNat, 43]
def k0_off1246 (i : grid0.Coords) (v4861 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4868 : Index := Scalar.indexCast v4672
  let c0_2618 : Index := 0#32
  let v4869 : Index := Scalar.indexCast v4861
  let c0_2619 : Index := 0#32
  ![v4868.toNat, 0, v4869.toNat, 0]

def k0_chk423 (i : grid0.Coords) (v4861 : BitVec 32) : Prop :=
  (∀ a, (k0_off1246 i v4861) a + S1x14x1x256.size a ≤ S64x14x24x256.size a)
theorem k0_off1246_inb : ∀ (i : grid0.Coords) (v4861 : BitVec 32) (k0_hw423 : k0_chk423 i v4861), ∀ a, (k0_off1246 i v4861) a + S1x14x1x256.size a ≤ S64x14x24x256.size a := fun i v4861 k0_hw423 => k0_hw423

def k0_off1247 (i : grid0.Coords) (v4863 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4872 : Index := Scalar.indexCast v4672
  let c0_2620 : Index := 0#32
  let v4873 : Index := Scalar.indexCast v4863
  let c0_2621 : Index := 0#32
  ![v4872.toNat, 0, v4873.toNat, 0]

def k0_chk424 (i : grid0.Coords) (v4863 : BitVec 32) : Prop :=
  (∀ a, (k0_off1247 i v4863) a + S1x14x1x256.size a ≤ S64x14x24x256.size a)
theorem k0_off1247_inb : ∀ (i : grid0.Coords) (v4863 : BitVec 32) (k0_hw424 : k0_chk424 i v4863), ∀ a, (k0_off1247 i v4863) a + S1x14x1x256.size a ≤ S64x14x24x256.size a := fun i v4863 k0_hw424 => k0_hw424

def k0_off1248 (i : grid0.Coords) (v4865 : BitVec 32) : Fin 4 → Nat :=
  let c32_i32_2510 : BitVec 32 := 32#32
  let arg0 : BitVec 32 := BitVec.ofNat 32 (i 0).val
  let c2_i32 : BitVec 32 := 2#32
  let v0 : BitVec 32 := Scalar.remsi arg0 c2_i32
  let v4671 : BitVec 32 := Scalar.muli c32_i32_2510 v0
  let c11_i32_2511 : BitVec 32 := 11#32
  let v4672 : BitVec 32 := Scalar.addi v4671 c11_i32_2511
  let v4876 : Index := Scalar.indexCast v4672
  let c0_2622 : Index := 0#32
  let v4877 : Index := Scalar.indexCast v4865
  let c0_2623 : Index := 0#32
  ![v4876.toNat, 0, v4877.toNat, 0]

def k0_chk425 (i : grid0.Coords) (v4865 : BitVec 32) : Prop :=
  (∀ a, (k0_off1248 i v4865) a + S1x14x1x256.size a ≤ S64x14x24x256.size a)
theorem k0_off1248_inb : ∀ (i : grid0.Coords) (v4865 : BitVec 32) (k0_hw425 : k0_chk425 i v4865), ∀ a, (k0_off1248 i v4865) a + S1x14x1x256.size a ≤ S64x14x24x256.size a := fun i v4865 k0_hw425 => k0_hw425

def k0_off1249 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4892 : Index := Scalar.indexCast v4670
  let c44_2631 : Index := 44#32
  ![v4892.toNat, 44]
def k0_off1250 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4894 : Index := Scalar.indexCast v4670
  let c45_2632 : Index := 45#32
  ![v4894.toNat, 45]
def k0_off1251 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4896 : Index := Scalar.indexCast v4670
  let c46_2633 : Index := 46#32
  ![v4896.toNat, 46]
def k0_off1252 (v4893 : BitVec 32) : Fin 4 → Nat :=
  let c11_2634 : Index := 11#32
  let v4898 : Index := Scalar.indexCast v4893
  let c0_2635 : Index := 0#32
  let c0_2636 : Index := 0#32
  ![11, v4898.toNat, 0, 0]

def k0_chk426 (v4893 : BitVec 32) : Prop :=
  (∀ a, (k0_off1252 v4893) a + S1x3x7x256.size a ≤ S32x14x7x256.size a)
theorem k0_off1252_inb : ∀ (v4893 : BitVec 32) (k0_hw426 : k0_chk426 v4893), ∀ a, (k0_off1252 v4893) a + S1x3x7x256.size a ≤ S32x14x7x256.size a := fun v4893 k0_hw426 => k0_hw426

def k0_off1253 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4914 : Index := Scalar.indexCast v4670
  let c47_2642 : Index := 47#32
  ![v4914.toNat, 47]
def k0_off1254 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4916 : Index := Scalar.indexCast v4670
  let c48_2643 : Index := 48#32
  ![v4916.toNat, 48]
def k0_off1255 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4918 : Index := Scalar.indexCast v4670
  let c49_2644 : Index := 49#32
  ![v4918.toNat, 49]
def k0_off1256 (v4915 : BitVec 32) : Fin 4 → Nat :=
  let c11_2645 : Index := 11#32
  let v4920 : Index := Scalar.indexCast v4915
  let c0_2646 : Index := 0#32
  let c0_2647 : Index := 0#32
  ![11, v4920.toNat, 0, 0]

def k0_chk427 (v4915 : BitVec 32) : Prop :=
  (∀ a, (k0_off1256 v4915) a + S1x3x7x256.size a ≤ S32x14x7x256.size a)
theorem k0_off1256_inb : ∀ (v4915 : BitVec 32) (k0_hw427 : k0_chk427 v4915), ∀ a, (k0_off1256 v4915) a + S1x3x7x256.size a ≤ S32x14x7x256.size a := fun v4915 k0_hw427 => k0_hw427

def k0_off1257 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4936 : Index := Scalar.indexCast v4670
  let c50_2653 : Index := 50#32
  ![v4936.toNat, 50]
def k0_off1258 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4938 : Index := Scalar.indexCast v4670
  let c51_2654 : Index := 51#32
  ![v4938.toNat, 51]
def k0_off1259 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4940 : Index := Scalar.indexCast v4670
  let c52_2655 : Index := 52#32
  ![v4940.toNat, 52]
def k0_off1260 (v4937 : BitVec 32) : Fin 4 → Nat :=
  let c11_2656 : Index := 11#32
  let v4942 : Index := Scalar.indexCast v4937
  let c0_2657 : Index := 0#32
  let c0_2658 : Index := 0#32
  ![11, v4942.toNat, 0, 0]

def k0_chk428 (v4937 : BitVec 32) : Prop :=
  (∀ a, (k0_off1260 v4937) a + S1x3x7x256.size a ≤ S32x14x7x256.size a)
theorem k0_off1260_inb : ∀ (v4937 : BitVec 32) (k0_hw428 : k0_chk428 v4937), ∀ a, (k0_off1260 v4937) a + S1x3x7x256.size a ≤ S32x14x7x256.size a := fun v4937 k0_hw428 => k0_hw428

def k0_off1261 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4958 : Index := Scalar.indexCast v4670
  let c53_2664 : Index := 53#32
  ![v4958.toNat, 53]
def k0_off1262 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4960 : Index := Scalar.indexCast v4670
  let c54_2665 : Index := 54#32
  ![v4960.toNat, 54]
def k0_off1263 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4962 : Index := Scalar.indexCast v4670
  let c55_2666 : Index := 55#32
  ![v4962.toNat, 55]
def k0_off1264 (v4959 : BitVec 32) : Fin 4 → Nat :=
  let c11_2667 : Index := 11#32
  let v4964 : Index := Scalar.indexCast v4959
  let c0_2668 : Index := 0#32
  let c0_2669 : Index := 0#32
  ![11, v4964.toNat, 0, 0]

def k0_chk429 (v4959 : BitVec 32) : Prop :=
  (∀ a, (k0_off1264 v4959) a + S1x3x7x256.size a ≤ S32x14x7x256.size a)
theorem k0_off1264_inb : ∀ (v4959 : BitVec 32) (k0_hw429 : k0_chk429 v4959), ∀ a, (k0_off1264 v4959) a + S1x3x7x256.size a ≤ S32x14x7x256.size a := fun v4959 k0_hw429 => k0_hw429

def k0_off1265 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4980 : Index := Scalar.indexCast v4670
  let c56_2675 : Index := 56#32
  ![v4980.toNat, 56]
def k0_off1266 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4982 : Index := Scalar.indexCast v4670
  let c57_2676 : Index := 57#32
  ![v4982.toNat, 57]
def k0_off1267 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v4984 : Index := Scalar.indexCast v4670
  let c58_2677 : Index := 58#32
  ![v4984.toNat, 58]
def k0_off1268 (v4981 : BitVec 32) : Fin 4 → Nat :=
  let c11_2678 : Index := 11#32
  let v4986 : Index := Scalar.indexCast v4981
  let c0_2679 : Index := 0#32
  let c0_2680 : Index := 0#32
  ![11, v4986.toNat, 0, 0]

def k0_chk430 (v4981 : BitVec 32) : Prop :=
  (∀ a, (k0_off1268 v4981) a + S1x3x7x256.size a ≤ S32x14x7x256.size a)
theorem k0_off1268_inb : ∀ (v4981 : BitVec 32) (k0_hw430 : k0_chk430 v4981), ∀ a, (k0_off1268 v4981) a + S1x3x7x256.size a ≤ S32x14x7x256.size a := fun v4981 k0_hw430 => k0_hw430

def k0_off1269 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v5002 : Index := Scalar.indexCast v4670
  let c59_2686 : Index := 59#32
  ![v5002.toNat, 59]
def k0_off1270 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v5004 : Index := Scalar.indexCast v4670
  let c60_2687 : Index := 60#32
  ![v5004.toNat, 60]
def k0_off1271 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v5006 : Index := Scalar.indexCast v4670
  let c61_2688 : Index := 61#32
  ![v5006.toNat, 61]
def k0_off1272 (v5003 : BitVec 32) : Fin 4 → Nat :=
  let c11_2689 : Index := 11#32
  let v5008 : Index := Scalar.indexCast v5003
  let c0_2690 : Index := 0#32
  let c0_2691 : Index := 0#32
  ![11, v5008.toNat, 0, 0]

def k0_chk431 (v5003 : BitVec 32) : Prop :=
  (∀ a, (k0_off1272 v5003) a + S1x3x7x256.size a ≤ S32x14x7x256.size a)
theorem k0_off1272_inb : ∀ (v5003 : BitVec 32) (k0_hw431 : k0_chk431 v5003), ∀ a, (k0_off1272 v5003) a + S1x3x7x256.size a ≤ S32x14x7x256.size a := fun v5003 k0_hw431 => k0_hw431

def k0_off1273 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v5024 : Index := Scalar.indexCast v4670
  let c62_2697 : Index := 62#32
  ![v5024.toNat, 62]
def k0_off1274 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v5026 : Index := Scalar.indexCast v4670
  let c63_2698 : Index := 63#32
  ![v5026.toNat, 63]
def k0_off1275 (i : grid0.Coords) : Fin 2 → Nat :=
  let c32_i32_2508 : BitVec 32 := 32#32
  let arg0 : BitVec 32 := BitVec.ofNat 32 (i 0).val
  let v4669 : BitVec 32 := Scalar.muli c32_i32_2508 arg0
  let c11_i32_2509 : BitVec 32 := 11#32
  let v4670 : BitVec 32 := Scalar.addi v4669 c11_i32_2509
  let v5028 : Index := Scalar.indexCast v4670
  let c64_2699 : Index := 64#32
  ![v5028.toNat, 64]
def k0_off1276 (v5025 : BitVec 32) : Fin 4 → Nat :=
  let c11_2700 : Index := 11#32
  let v5030 : Index := Scalar.indexCast v5025
  let c0_2701 : Index := 0#32
  let c0_2702 : Index := 0#32
  ![11, v5030.toNat, 0, 0]

def k0_chk432 (v5025 : BitVec 32) : Prop :=
  (∀ a, (k0_off1276 v5025) a + S1x3x7x256.size a ≤ S32x14x7x256.size a)
theorem k0_off1276_inb : ∀ (v5025 : BitVec 32) (k0_hw432 : k0_chk432 v5025), ∀ a, (k0_off1276 v5025) a + S1x3x7x256.size a ≤ S32x14x7x256.size a := fun v5025 k0_hw432 => k0_hw432

def k0_off1277 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5051 : Index := Scalar.indexCast v5047
  let c16_2713 : Index := 16#32
  ![v5051.toNat, 16]
def k0_off1278 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5053 : Index := Scalar.indexCast v5047
  let c17_2714 : Index := 17#32
  ![v5053.toNat, 17]
def k0_off1279 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5055 : Index := Scalar.indexCast v5047
  let c18_2715 : Index := 18#32
  ![v5055.toNat, 18]
def k0_off1280 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5057 : Index := Scalar.indexCast v5047
  let c19_2716 : Index := 19#32
  ![v5057.toNat, 19]
def k0_off1281 (i : grid0.Coords) (v5052 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5059 : Index := Scalar.indexCast v5049
  let c0_2717 : Index := 0#32
  let v5060 : Index := Scalar.indexCast v5052
  let c0_2718 : Index := 0#32
  ![v5059.toNat, 0, v5060.toNat, 0]

def k0_chk433 (i : grid0.Coords) (v5052 : BitVec 32) : Prop :=
  (∀ a, (k0_off1281 i v5052) a + S1x14x1x256.size a ≤ S64x14x24x256.size a)
theorem k0_off1281_inb : ∀ (i : grid0.Coords) (v5052 : BitVec 32) (k0_hw433 : k0_chk433 i v5052), ∀ a, (k0_off1281 i v5052) a + S1x14x1x256.size a ≤ S64x14x24x256.size a := fun i v5052 k0_hw433 => k0_hw433

def k0_off1282 (i : grid0.Coords) (v5054 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5063 : Index := Scalar.indexCast v5049
  let c0_2719 : Index := 0#32
  let v5064 : Index := Scalar.indexCast v5054
  let c0_2720 : Index := 0#32
  ![v5063.toNat, 0, v5064.toNat, 0]

def k0_chk434 (i : grid0.Coords) (v5054 : BitVec 32) : Prop :=
  (∀ a, (k0_off1282 i v5054) a + S1x14x1x256.size a ≤ S64x14x24x256.size a)
theorem k0_off1282_inb : ∀ (i : grid0.Coords) (v5054 : BitVec 32) (k0_hw434 : k0_chk434 i v5054), ∀ a, (k0_off1282 i v5054) a + S1x14x1x256.size a ≤ S64x14x24x256.size a := fun i v5054 k0_hw434 => k0_hw434

def k0_off1283 (i : grid0.Coords) (v5056 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5067 : Index := Scalar.indexCast v5049
  let c0_2721 : Index := 0#32
  let v5068 : Index := Scalar.indexCast v5056
  let c0_2722 : Index := 0#32
  ![v5067.toNat, 0, v5068.toNat, 0]

def k0_chk435 (i : grid0.Coords) (v5056 : BitVec 32) : Prop :=
  (∀ a, (k0_off1283 i v5056) a + S1x14x1x256.size a ≤ S64x14x24x256.size a)
theorem k0_off1283_inb : ∀ (i : grid0.Coords) (v5056 : BitVec 32) (k0_hw435 : k0_chk435 i v5056), ∀ a, (k0_off1283 i v5056) a + S1x14x1x256.size a ≤ S64x14x24x256.size a := fun i v5056 k0_hw435 => k0_hw435

def k0_off1284 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5082 : Index := Scalar.indexCast v5047
  let c20_2729 : Index := 20#32
  ![v5082.toNat, 20]
def k0_off1285 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5084 : Index := Scalar.indexCast v5047
  let c21_2730 : Index := 21#32
  ![v5084.toNat, 21]
def k0_off1286 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5086 : Index := Scalar.indexCast v5047
  let c22_2731 : Index := 22#32
  ![v5086.toNat, 22]
def k0_off1287 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5088 : Index := Scalar.indexCast v5047
  let c23_2732 : Index := 23#32
  ![v5088.toNat, 23]
def k0_off1288 (i : grid0.Coords) (v5083 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5090 : Index := Scalar.indexCast v5049
  let c0_2733 : Index := 0#32
  let v5091 : Index := Scalar.indexCast v5083
  let c0_2734 : Index := 0#32
  ![v5090.toNat, 0, v5091.toNat, 0]

def k0_chk436 (i : grid0.Coords) (v5083 : BitVec 32) : Prop :=
  (∀ a, (k0_off1288 i v5083) a + S1x14x1x256.size a ≤ S64x14x24x256.size a)
theorem k0_off1288_inb : ∀ (i : grid0.Coords) (v5083 : BitVec 32) (k0_hw436 : k0_chk436 i v5083), ∀ a, (k0_off1288 i v5083) a + S1x14x1x256.size a ≤ S64x14x24x256.size a := fun i v5083 k0_hw436 => k0_hw436

def k0_off1289 (i : grid0.Coords) (v5085 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5094 : Index := Scalar.indexCast v5049
  let c0_2735 : Index := 0#32
  let v5095 : Index := Scalar.indexCast v5085
  let c0_2736 : Index := 0#32
  ![v5094.toNat, 0, v5095.toNat, 0]

def k0_chk437 (i : grid0.Coords) (v5085 : BitVec 32) : Prop :=
  (∀ a, (k0_off1289 i v5085) a + S1x14x1x256.size a ≤ S64x14x24x256.size a)
theorem k0_off1289_inb : ∀ (i : grid0.Coords) (v5085 : BitVec 32) (k0_hw437 : k0_chk437 i v5085), ∀ a, (k0_off1289 i v5085) a + S1x14x1x256.size a ≤ S64x14x24x256.size a := fun i v5085 k0_hw437 => k0_hw437

def k0_off1290 (i : grid0.Coords) (v5087 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5098 : Index := Scalar.indexCast v5049
  let c0_2737 : Index := 0#32
  let v5099 : Index := Scalar.indexCast v5087
  let c0_2738 : Index := 0#32
  ![v5098.toNat, 0, v5099.toNat, 0]

def k0_chk438 (i : grid0.Coords) (v5087 : BitVec 32) : Prop :=
  (∀ a, (k0_off1290 i v5087) a + S1x14x1x256.size a ≤ S64x14x24x256.size a)
theorem k0_off1290_inb : ∀ (i : grid0.Coords) (v5087 : BitVec 32) (k0_hw438 : k0_chk438 i v5087), ∀ a, (k0_off1290 i v5087) a + S1x14x1x256.size a ≤ S64x14x24x256.size a := fun i v5087 k0_hw438 => k0_hw438

def k0_off1291 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5113 : Index := Scalar.indexCast v5047
  let c24_2746 : Index := 24#32
  ![v5113.toNat, 24]
def k0_off1292 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5115 : Index := Scalar.indexCast v5047
  let c25_2747 : Index := 25#32
  ![v5115.toNat, 25]
def k0_off1293 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5117 : Index := Scalar.indexCast v5047
  let c26_2748 : Index := 26#32
  ![v5117.toNat, 26]
def k0_off1294 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5119 : Index := Scalar.indexCast v5047
  let c27_2749 : Index := 27#32
  ![v5119.toNat, 27]
def k0_off1295 (i : grid0.Coords) (v5114 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5121 : Index := Scalar.indexCast v5049
  let c0_2750 : Index := 0#32
  let v5122 : Index := Scalar.indexCast v5114
  let c0_2751 : Index := 0#32
  ![v5121.toNat, 0, v5122.toNat, 0]

def k0_chk439 (i : grid0.Coords) (v5114 : BitVec 32) : Prop :=
  (∀ a, (k0_off1295 i v5114) a + S1x14x1x256.size a ≤ S64x14x24x256.size a)
theorem k0_off1295_inb : ∀ (i : grid0.Coords) (v5114 : BitVec 32) (k0_hw439 : k0_chk439 i v5114), ∀ a, (k0_off1295 i v5114) a + S1x14x1x256.size a ≤ S64x14x24x256.size a := fun i v5114 k0_hw439 => k0_hw439

def k0_off1296 (i : grid0.Coords) (v5116 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5125 : Index := Scalar.indexCast v5049
  let c0_2752 : Index := 0#32
  let v5126 : Index := Scalar.indexCast v5116
  let c0_2753 : Index := 0#32
  ![v5125.toNat, 0, v5126.toNat, 0]

def k0_chk440 (i : grid0.Coords) (v5116 : BitVec 32) : Prop :=
  (∀ a, (k0_off1296 i v5116) a + S1x14x1x256.size a ≤ S64x14x24x256.size a)
theorem k0_off1296_inb : ∀ (i : grid0.Coords) (v5116 : BitVec 32) (k0_hw440 : k0_chk440 i v5116), ∀ a, (k0_off1296 i v5116) a + S1x14x1x256.size a ≤ S64x14x24x256.size a := fun i v5116 k0_hw440 => k0_hw440

def k0_off1297 (i : grid0.Coords) (v5118 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5129 : Index := Scalar.indexCast v5049
  let c0_2754 : Index := 0#32
  let v5130 : Index := Scalar.indexCast v5118
  let c0_2755 : Index := 0#32
  ![v5129.toNat, 0, v5130.toNat, 0]

def k0_chk441 (i : grid0.Coords) (v5118 : BitVec 32) : Prop :=
  (∀ a, (k0_off1297 i v5118) a + S1x14x1x256.size a ≤ S64x14x24x256.size a)
theorem k0_off1297_inb : ∀ (i : grid0.Coords) (v5118 : BitVec 32) (k0_hw441 : k0_chk441 i v5118), ∀ a, (k0_off1297 i v5118) a + S1x14x1x256.size a ≤ S64x14x24x256.size a := fun i v5118 k0_hw441 => k0_hw441

def k0_off1298 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5144 : Index := Scalar.indexCast v5047
  let c28_2763 : Index := 28#32
  ![v5144.toNat, 28]
def k0_off1299 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5146 : Index := Scalar.indexCast v5047
  let c29_2764 : Index := 29#32
  ![v5146.toNat, 29]
def k0_off1300 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5148 : Index := Scalar.indexCast v5047
  let c30_2765 : Index := 30#32
  ![v5148.toNat, 30]
def k0_off1301 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5150 : Index := Scalar.indexCast v5047
  let c31_2766 : Index := 31#32
  ![v5150.toNat, 31]
def k0_off1302 (i : grid0.Coords) (v5145 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5152 : Index := Scalar.indexCast v5049
  let c0_2767 : Index := 0#32
  let v5153 : Index := Scalar.indexCast v5145
  let c0_2768 : Index := 0#32
  ![v5152.toNat, 0, v5153.toNat, 0]

def k0_chk442 (i : grid0.Coords) (v5145 : BitVec 32) : Prop :=
  (∀ a, (k0_off1302 i v5145) a + S1x14x1x256.size a ≤ S64x14x24x256.size a)
theorem k0_off1302_inb : ∀ (i : grid0.Coords) (v5145 : BitVec 32) (k0_hw442 : k0_chk442 i v5145), ∀ a, (k0_off1302 i v5145) a + S1x14x1x256.size a ≤ S64x14x24x256.size a := fun i v5145 k0_hw442 => k0_hw442

def k0_off1303 (i : grid0.Coords) (v5147 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5156 : Index := Scalar.indexCast v5049
  let c0_2769 : Index := 0#32
  let v5157 : Index := Scalar.indexCast v5147
  let c0_2770 : Index := 0#32
  ![v5156.toNat, 0, v5157.toNat, 0]

def k0_chk443 (i : grid0.Coords) (v5147 : BitVec 32) : Prop :=
  (∀ a, (k0_off1303 i v5147) a + S1x14x1x256.size a ≤ S64x14x24x256.size a)
theorem k0_off1303_inb : ∀ (i : grid0.Coords) (v5147 : BitVec 32) (k0_hw443 : k0_chk443 i v5147), ∀ a, (k0_off1303 i v5147) a + S1x14x1x256.size a ≤ S64x14x24x256.size a := fun i v5147 k0_hw443 => k0_hw443

def k0_off1304 (i : grid0.Coords) (v5149 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5160 : Index := Scalar.indexCast v5049
  let c0_2771 : Index := 0#32
  let v5161 : Index := Scalar.indexCast v5149
  let c0_2772 : Index := 0#32
  ![v5160.toNat, 0, v5161.toNat, 0]

def k0_chk444 (i : grid0.Coords) (v5149 : BitVec 32) : Prop :=
  (∀ a, (k0_off1304 i v5149) a + S1x14x1x256.size a ≤ S64x14x24x256.size a)
theorem k0_off1304_inb : ∀ (i : grid0.Coords) (v5149 : BitVec 32) (k0_hw444 : k0_chk444 i v5149), ∀ a, (k0_off1304 i v5149) a + S1x14x1x256.size a ≤ S64x14x24x256.size a := fun i v5149 k0_hw444 => k0_hw444

def k0_off1305 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5175 : Index := Scalar.indexCast v5047
  let c32_2780 : Index := 32#32
  ![v5175.toNat, 32]
def k0_off1306 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5177 : Index := Scalar.indexCast v5047
  let c33_2781 : Index := 33#32
  ![v5177.toNat, 33]
def k0_off1307 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5179 : Index := Scalar.indexCast v5047
  let c34_2782 : Index := 34#32
  ![v5179.toNat, 34]
def k0_off1308 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5181 : Index := Scalar.indexCast v5047
  let c35_2783 : Index := 35#32
  ![v5181.toNat, 35]
def k0_off1309 (i : grid0.Coords) (v5176 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5183 : Index := Scalar.indexCast v5049
  let c0_2784 : Index := 0#32
  let v5184 : Index := Scalar.indexCast v5176
  let c0_2785 : Index := 0#32
  ![v5183.toNat, 0, v5184.toNat, 0]

def k0_chk445 (i : grid0.Coords) (v5176 : BitVec 32) : Prop :=
  (∀ a, (k0_off1309 i v5176) a + S1x14x1x256.size a ≤ S64x14x24x256.size a)
theorem k0_off1309_inb : ∀ (i : grid0.Coords) (v5176 : BitVec 32) (k0_hw445 : k0_chk445 i v5176), ∀ a, (k0_off1309 i v5176) a + S1x14x1x256.size a ≤ S64x14x24x256.size a := fun i v5176 k0_hw445 => k0_hw445

def k0_off1310 (i : grid0.Coords) (v5178 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5187 : Index := Scalar.indexCast v5049
  let c0_2786 : Index := 0#32
  let v5188 : Index := Scalar.indexCast v5178
  let c0_2787 : Index := 0#32
  ![v5187.toNat, 0, v5188.toNat, 0]

def k0_chk446 (i : grid0.Coords) (v5178 : BitVec 32) : Prop :=
  (∀ a, (k0_off1310 i v5178) a + S1x14x1x256.size a ≤ S64x14x24x256.size a)
theorem k0_off1310_inb : ∀ (i : grid0.Coords) (v5178 : BitVec 32) (k0_hw446 : k0_chk446 i v5178), ∀ a, (k0_off1310 i v5178) a + S1x14x1x256.size a ≤ S64x14x24x256.size a := fun i v5178 k0_hw446 => k0_hw446

def k0_off1311 (i : grid0.Coords) (v5180 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5191 : Index := Scalar.indexCast v5049
  let c0_2788 : Index := 0#32
  let v5192 : Index := Scalar.indexCast v5180
  let c0_2789 : Index := 0#32
  ![v5191.toNat, 0, v5192.toNat, 0]

def k0_chk447 (i : grid0.Coords) (v5180 : BitVec 32) : Prop :=
  (∀ a, (k0_off1311 i v5180) a + S1x14x1x256.size a ≤ S64x14x24x256.size a)
theorem k0_off1311_inb : ∀ (i : grid0.Coords) (v5180 : BitVec 32) (k0_hw447 : k0_chk447 i v5180), ∀ a, (k0_off1311 i v5180) a + S1x14x1x256.size a ≤ S64x14x24x256.size a := fun i v5180 k0_hw447 => k0_hw447

def k0_off1312 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5206 : Index := Scalar.indexCast v5047
  let c36_2797 : Index := 36#32
  ![v5206.toNat, 36]
def k0_off1313 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5208 : Index := Scalar.indexCast v5047
  let c37_2798 : Index := 37#32
  ![v5208.toNat, 37]
def k0_off1314 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5210 : Index := Scalar.indexCast v5047
  let c38_2799 : Index := 38#32
  ![v5210.toNat, 38]
def k0_off1315 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5212 : Index := Scalar.indexCast v5047
  let c39_2800 : Index := 39#32
  ![v5212.toNat, 39]
def k0_off1316 (i : grid0.Coords) (v5207 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5214 : Index := Scalar.indexCast v5049
  let c0_2801 : Index := 0#32
  let v5215 : Index := Scalar.indexCast v5207
  let c0_2802 : Index := 0#32
  ![v5214.toNat, 0, v5215.toNat, 0]

def k0_chk448 (i : grid0.Coords) (v5207 : BitVec 32) : Prop :=
  (∀ a, (k0_off1316 i v5207) a + S1x14x1x256.size a ≤ S64x14x24x256.size a)
theorem k0_off1316_inb : ∀ (i : grid0.Coords) (v5207 : BitVec 32) (k0_hw448 : k0_chk448 i v5207), ∀ a, (k0_off1316 i v5207) a + S1x14x1x256.size a ≤ S64x14x24x256.size a := fun i v5207 k0_hw448 => k0_hw448

def k0_off1317 (i : grid0.Coords) (v5209 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5218 : Index := Scalar.indexCast v5049
  let c0_2803 : Index := 0#32
  let v5219 : Index := Scalar.indexCast v5209
  let c0_2804 : Index := 0#32
  ![v5218.toNat, 0, v5219.toNat, 0]

def k0_chk449 (i : grid0.Coords) (v5209 : BitVec 32) : Prop :=
  (∀ a, (k0_off1317 i v5209) a + S1x14x1x256.size a ≤ S64x14x24x256.size a)
theorem k0_off1317_inb : ∀ (i : grid0.Coords) (v5209 : BitVec 32) (k0_hw449 : k0_chk449 i v5209), ∀ a, (k0_off1317 i v5209) a + S1x14x1x256.size a ≤ S64x14x24x256.size a := fun i v5209 k0_hw449 => k0_hw449

def k0_off1318 (i : grid0.Coords) (v5211 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5222 : Index := Scalar.indexCast v5049
  let c0_2805 : Index := 0#32
  let v5223 : Index := Scalar.indexCast v5211
  let c0_2806 : Index := 0#32
  ![v5222.toNat, 0, v5223.toNat, 0]

def k0_chk450 (i : grid0.Coords) (v5211 : BitVec 32) : Prop :=
  (∀ a, (k0_off1318 i v5211) a + S1x14x1x256.size a ≤ S64x14x24x256.size a)
theorem k0_off1318_inb : ∀ (i : grid0.Coords) (v5211 : BitVec 32) (k0_hw450 : k0_chk450 i v5211), ∀ a, (k0_off1318 i v5211) a + S1x14x1x256.size a ≤ S64x14x24x256.size a := fun i v5211 k0_hw450 => k0_hw450

def k0_off1319 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5237 : Index := Scalar.indexCast v5047
  let c40_2814 : Index := 40#32
  ![v5237.toNat, 40]
def k0_off1320 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5239 : Index := Scalar.indexCast v5047
  let c41_2815 : Index := 41#32
  ![v5239.toNat, 41]
def k0_off1321 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5241 : Index := Scalar.indexCast v5047
  let c42_2816 : Index := 42#32
  ![v5241.toNat, 42]
def k0_off1322 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5243 : Index := Scalar.indexCast v5047
  let c43_2817 : Index := 43#32
  ![v5243.toNat, 43]
def k0_off1323 (i : grid0.Coords) (v5238 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5245 : Index := Scalar.indexCast v5049
  let c0_2818 : Index := 0#32
  let v5246 : Index := Scalar.indexCast v5238
  let c0_2819 : Index := 0#32
  ![v5245.toNat, 0, v5246.toNat, 0]

def k0_chk451 (i : grid0.Coords) (v5238 : BitVec 32) : Prop :=
  (∀ a, (k0_off1323 i v5238) a + S1x14x1x256.size a ≤ S64x14x24x256.size a)
theorem k0_off1323_inb : ∀ (i : grid0.Coords) (v5238 : BitVec 32) (k0_hw451 : k0_chk451 i v5238), ∀ a, (k0_off1323 i v5238) a + S1x14x1x256.size a ≤ S64x14x24x256.size a := fun i v5238 k0_hw451 => k0_hw451

def k0_off1324 (i : grid0.Coords) (v5240 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5249 : Index := Scalar.indexCast v5049
  let c0_2820 : Index := 0#32
  let v5250 : Index := Scalar.indexCast v5240
  let c0_2821 : Index := 0#32
  ![v5249.toNat, 0, v5250.toNat, 0]

def k0_chk452 (i : grid0.Coords) (v5240 : BitVec 32) : Prop :=
  (∀ a, (k0_off1324 i v5240) a + S1x14x1x256.size a ≤ S64x14x24x256.size a)
theorem k0_off1324_inb : ∀ (i : grid0.Coords) (v5240 : BitVec 32) (k0_hw452 : k0_chk452 i v5240), ∀ a, (k0_off1324 i v5240) a + S1x14x1x256.size a ≤ S64x14x24x256.size a := fun i v5240 k0_hw452 => k0_hw452

def k0_off1325 (i : grid0.Coords) (v5242 : BitVec 32) : Fin 4 → Nat :=
  let c32_i32_2710 : BitVec 32 := 32#32
  let arg0 : BitVec 32 := BitVec.ofNat 32 (i 0).val
  let c2_i32 : BitVec 32 := 2#32
  let v0 : BitVec 32 := Scalar.remsi arg0 c2_i32
  let v5048 : BitVec 32 := Scalar.muli c32_i32_2710 v0
  let c12_i32_2711 : BitVec 32 := 12#32
  let v5049 : BitVec 32 := Scalar.addi v5048 c12_i32_2711
  let v5253 : Index := Scalar.indexCast v5049
  let c0_2822 : Index := 0#32
  let v5254 : Index := Scalar.indexCast v5242
  let c0_2823 : Index := 0#32
  ![v5253.toNat, 0, v5254.toNat, 0]

def k0_chk453 (i : grid0.Coords) (v5242 : BitVec 32) : Prop :=
  (∀ a, (k0_off1325 i v5242) a + S1x14x1x256.size a ≤ S64x14x24x256.size a)
theorem k0_off1325_inb : ∀ (i : grid0.Coords) (v5242 : BitVec 32) (k0_hw453 : k0_chk453 i v5242), ∀ a, (k0_off1325 i v5242) a + S1x14x1x256.size a ≤ S64x14x24x256.size a := fun i v5242 k0_hw453 => k0_hw453

def k0_off1326 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5269 : Index := Scalar.indexCast v5047
  let c44_2831 : Index := 44#32
  ![v5269.toNat, 44]
def k0_off1327 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5271 : Index := Scalar.indexCast v5047
  let c45_2832 : Index := 45#32
  ![v5271.toNat, 45]
def k0_off1328 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5273 : Index := Scalar.indexCast v5047
  let c46_2833 : Index := 46#32
  ![v5273.toNat, 46]
def k0_off1329 (v5270 : BitVec 32) : Fin 4 → Nat :=
  let c12_2834 : Index := 12#32
  let v5275 : Index := Scalar.indexCast v5270
  let c0_2835 : Index := 0#32
  let c0_2836 : Index := 0#32
  ![12, v5275.toNat, 0, 0]

def k0_chk454 (v5270 : BitVec 32) : Prop :=
  (∀ a, (k0_off1329 v5270) a + S1x3x7x256.size a ≤ S32x14x7x256.size a)
theorem k0_off1329_inb : ∀ (v5270 : BitVec 32) (k0_hw454 : k0_chk454 v5270), ∀ a, (k0_off1329 v5270) a + S1x3x7x256.size a ≤ S32x14x7x256.size a := fun v5270 k0_hw454 => k0_hw454

def k0_off1330 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5291 : Index := Scalar.indexCast v5047
  let c47_2842 : Index := 47#32
  ![v5291.toNat, 47]
def k0_off1331 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5293 : Index := Scalar.indexCast v5047
  let c48_2843 : Index := 48#32
  ![v5293.toNat, 48]
def k0_off1332 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5295 : Index := Scalar.indexCast v5047
  let c49_2844 : Index := 49#32
  ![v5295.toNat, 49]
def k0_off1333 (v5292 : BitVec 32) : Fin 4 → Nat :=
  let c12_2845 : Index := 12#32
  let v5297 : Index := Scalar.indexCast v5292
  let c0_2846 : Index := 0#32
  let c0_2847 : Index := 0#32
  ![12, v5297.toNat, 0, 0]

def k0_chk455 (v5292 : BitVec 32) : Prop :=
  (∀ a, (k0_off1333 v5292) a + S1x3x7x256.size a ≤ S32x14x7x256.size a)
theorem k0_off1333_inb : ∀ (v5292 : BitVec 32) (k0_hw455 : k0_chk455 v5292), ∀ a, (k0_off1333 v5292) a + S1x3x7x256.size a ≤ S32x14x7x256.size a := fun v5292 k0_hw455 => k0_hw455

def k0_off1334 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5313 : Index := Scalar.indexCast v5047
  let c50_2853 : Index := 50#32
  ![v5313.toNat, 50]
def k0_off1335 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5315 : Index := Scalar.indexCast v5047
  let c51_2854 : Index := 51#32
  ![v5315.toNat, 51]
def k0_off1336 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5317 : Index := Scalar.indexCast v5047
  let c52_2855 : Index := 52#32
  ![v5317.toNat, 52]
def k0_off1337 (v5314 : BitVec 32) : Fin 4 → Nat :=
  let c12_2856 : Index := 12#32
  let v5319 : Index := Scalar.indexCast v5314
  let c0_2857 : Index := 0#32
  let c0_2858 : Index := 0#32
  ![12, v5319.toNat, 0, 0]

def k0_chk456 (v5314 : BitVec 32) : Prop :=
  (∀ a, (k0_off1337 v5314) a + S1x3x7x256.size a ≤ S32x14x7x256.size a)
theorem k0_off1337_inb : ∀ (v5314 : BitVec 32) (k0_hw456 : k0_chk456 v5314), ∀ a, (k0_off1337 v5314) a + S1x3x7x256.size a ≤ S32x14x7x256.size a := fun v5314 k0_hw456 => k0_hw456

def k0_off1338 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5335 : Index := Scalar.indexCast v5047
  let c53_2864 : Index := 53#32
  ![v5335.toNat, 53]
def k0_off1339 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5337 : Index := Scalar.indexCast v5047
  let c54_2865 : Index := 54#32
  ![v5337.toNat, 54]
def k0_off1340 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5339 : Index := Scalar.indexCast v5047
  let c55_2866 : Index := 55#32
  ![v5339.toNat, 55]
def k0_off1341 (v5336 : BitVec 32) : Fin 4 → Nat :=
  let c12_2867 : Index := 12#32
  let v5341 : Index := Scalar.indexCast v5336
  let c0_2868 : Index := 0#32
  let c0_2869 : Index := 0#32
  ![12, v5341.toNat, 0, 0]

def k0_chk457 (v5336 : BitVec 32) : Prop :=
  (∀ a, (k0_off1341 v5336) a + S1x3x7x256.size a ≤ S32x14x7x256.size a)
theorem k0_off1341_inb : ∀ (v5336 : BitVec 32) (k0_hw457 : k0_chk457 v5336), ∀ a, (k0_off1341 v5336) a + S1x3x7x256.size a ≤ S32x14x7x256.size a := fun v5336 k0_hw457 => k0_hw457

def k0_off1342 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5357 : Index := Scalar.indexCast v5047
  let c56_2875 : Index := 56#32
  ![v5357.toNat, 56]
def k0_off1343 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5359 : Index := Scalar.indexCast v5047
  let c57_2876 : Index := 57#32
  ![v5359.toNat, 57]
def k0_off1344 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5361 : Index := Scalar.indexCast v5047
  let c58_2877 : Index := 58#32
  ![v5361.toNat, 58]
def k0_off1345 (v5358 : BitVec 32) : Fin 4 → Nat :=
  let c12_2878 : Index := 12#32
  let v5363 : Index := Scalar.indexCast v5358
  let c0_2879 : Index := 0#32
  let c0_2880 : Index := 0#32
  ![12, v5363.toNat, 0, 0]

def k0_chk458 (v5358 : BitVec 32) : Prop :=
  (∀ a, (k0_off1345 v5358) a + S1x3x7x256.size a ≤ S32x14x7x256.size a)
theorem k0_off1345_inb : ∀ (v5358 : BitVec 32) (k0_hw458 : k0_chk458 v5358), ∀ a, (k0_off1345 v5358) a + S1x3x7x256.size a ≤ S32x14x7x256.size a := fun v5358 k0_hw458 => k0_hw458

def k0_off1346 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5379 : Index := Scalar.indexCast v5047
  let c59_2886 : Index := 59#32
  ![v5379.toNat, 59]
def k0_off1347 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5381 : Index := Scalar.indexCast v5047
  let c60_2887 : Index := 60#32
  ![v5381.toNat, 60]
def k0_off1348 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5383 : Index := Scalar.indexCast v5047
  let c61_2888 : Index := 61#32
  ![v5383.toNat, 61]
def k0_off1349 (v5380 : BitVec 32) : Fin 4 → Nat :=
  let c12_2889 : Index := 12#32
  let v5385 : Index := Scalar.indexCast v5380
  let c0_2890 : Index := 0#32
  let c0_2891 : Index := 0#32
  ![12, v5385.toNat, 0, 0]

def k0_chk459 (v5380 : BitVec 32) : Prop :=
  (∀ a, (k0_off1349 v5380) a + S1x3x7x256.size a ≤ S32x14x7x256.size a)
theorem k0_off1349_inb : ∀ (v5380 : BitVec 32) (k0_hw459 : k0_chk459 v5380), ∀ a, (k0_off1349 v5380) a + S1x3x7x256.size a ≤ S32x14x7x256.size a := fun v5380 k0_hw459 => k0_hw459

def k0_off1350 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5401 : Index := Scalar.indexCast v5047
  let c62_2897 : Index := 62#32
  ![v5401.toNat, 62]
def k0_off1351 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5403 : Index := Scalar.indexCast v5047
  let c63_2898 : Index := 63#32
  ![v5403.toNat, 63]
def k0_off1352 (i : grid0.Coords) : Fin 2 → Nat :=
  let c32_i32_2708 : BitVec 32 := 32#32
  let arg0 : BitVec 32 := BitVec.ofNat 32 (i 0).val
  let v5046 : BitVec 32 := Scalar.muli c32_i32_2708 arg0
  let c12_i32_2709 : BitVec 32 := 12#32
  let v5047 : BitVec 32 := Scalar.addi v5046 c12_i32_2709
  let v5405 : Index := Scalar.indexCast v5047
  let c64_2899 : Index := 64#32
  ![v5405.toNat, 64]
def k0_off1353 (v5402 : BitVec 32) : Fin 4 → Nat :=
  let c12_2900 : Index := 12#32
  let v5407 : Index := Scalar.indexCast v5402
  let c0_2901 : Index := 0#32
  let c0_2902 : Index := 0#32
  ![12, v5407.toNat, 0, 0]

def k0_chk460 (v5402 : BitVec 32) : Prop :=
  (∀ a, (k0_off1353 v5402) a + S1x3x7x256.size a ≤ S32x14x7x256.size a)
theorem k0_off1353_inb : ∀ (v5402 : BitVec 32) (k0_hw460 : k0_chk460 v5402), ∀ a, (k0_off1353 v5402) a + S1x3x7x256.size a ≤ S32x14x7x256.size a := fun v5402 k0_hw460 => k0_hw460

def k0_off1354 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5428 : Index := Scalar.indexCast v5424
  let c16_2913 : Index := 16#32
  ![v5428.toNat, 16]
def k0_off1355 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5430 : Index := Scalar.indexCast v5424
  let c17_2914 : Index := 17#32
  ![v5430.toNat, 17]
def k0_off1356 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5432 : Index := Scalar.indexCast v5424
  let c18_2915 : Index := 18#32
  ![v5432.toNat, 18]
def k0_off1357 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5434 : Index := Scalar.indexCast v5424
  let c19_2916 : Index := 19#32
  ![v5434.toNat, 19]
def k0_off1358 (i : grid0.Coords) (v5429 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5436 : Index := Scalar.indexCast v5426
  let c0_2917 : Index := 0#32
  let v5437 : Index := Scalar.indexCast v5429
  let c0_2918 : Index := 0#32
  ![v5436.toNat, 0, v5437.toNat, 0]

def k0_chk461 (i : grid0.Coords) (v5429 : BitVec 32) : Prop :=
  (∀ a, (k0_off1358 i v5429) a + S1x14x1x256.size a ≤ S64x14x24x256.size a)
theorem k0_off1358_inb : ∀ (i : grid0.Coords) (v5429 : BitVec 32) (k0_hw461 : k0_chk461 i v5429), ∀ a, (k0_off1358 i v5429) a + S1x14x1x256.size a ≤ S64x14x24x256.size a := fun i v5429 k0_hw461 => k0_hw461

def k0_off1359 (i : grid0.Coords) (v5431 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5440 : Index := Scalar.indexCast v5426
  let c0_2919 : Index := 0#32
  let v5441 : Index := Scalar.indexCast v5431
  let c0_2920 : Index := 0#32
  ![v5440.toNat, 0, v5441.toNat, 0]

def k0_chk462 (i : grid0.Coords) (v5431 : BitVec 32) : Prop :=
  (∀ a, (k0_off1359 i v5431) a + S1x14x1x256.size a ≤ S64x14x24x256.size a)
theorem k0_off1359_inb : ∀ (i : grid0.Coords) (v5431 : BitVec 32) (k0_hw462 : k0_chk462 i v5431), ∀ a, (k0_off1359 i v5431) a + S1x14x1x256.size a ≤ S64x14x24x256.size a := fun i v5431 k0_hw462 => k0_hw462

def k0_off1360 (i : grid0.Coords) (v5433 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5444 : Index := Scalar.indexCast v5426
  let c0_2921 : Index := 0#32
  let v5445 : Index := Scalar.indexCast v5433
  let c0_2922 : Index := 0#32
  ![v5444.toNat, 0, v5445.toNat, 0]

def k0_chk463 (i : grid0.Coords) (v5433 : BitVec 32) : Prop :=
  (∀ a, (k0_off1360 i v5433) a + S1x14x1x256.size a ≤ S64x14x24x256.size a)
theorem k0_off1360_inb : ∀ (i : grid0.Coords) (v5433 : BitVec 32) (k0_hw463 : k0_chk463 i v5433), ∀ a, (k0_off1360 i v5433) a + S1x14x1x256.size a ≤ S64x14x24x256.size a := fun i v5433 k0_hw463 => k0_hw463

def k0_off1361 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5459 : Index := Scalar.indexCast v5424
  let c20_2929 : Index := 20#32
  ![v5459.toNat, 20]
def k0_off1362 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5461 : Index := Scalar.indexCast v5424
  let c21_2930 : Index := 21#32
  ![v5461.toNat, 21]
def k0_off1363 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5463 : Index := Scalar.indexCast v5424
  let c22_2931 : Index := 22#32
  ![v5463.toNat, 22]
def k0_off1364 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5465 : Index := Scalar.indexCast v5424
  let c23_2932 : Index := 23#32
  ![v5465.toNat, 23]
def k0_off1365 (i : grid0.Coords) (v5460 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5467 : Index := Scalar.indexCast v5426
  let c0_2933 : Index := 0#32
  let v5468 : Index := Scalar.indexCast v5460
  let c0_2934 : Index := 0#32
  ![v5467.toNat, 0, v5468.toNat, 0]

def k0_chk464 (i : grid0.Coords) (v5460 : BitVec 32) : Prop :=
  (∀ a, (k0_off1365 i v5460) a + S1x14x1x256.size a ≤ S64x14x24x256.size a)
theorem k0_off1365_inb : ∀ (i : grid0.Coords) (v5460 : BitVec 32) (k0_hw464 : k0_chk464 i v5460), ∀ a, (k0_off1365 i v5460) a + S1x14x1x256.size a ≤ S64x14x24x256.size a := fun i v5460 k0_hw464 => k0_hw464

def k0_off1366 (i : grid0.Coords) (v5462 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5471 : Index := Scalar.indexCast v5426
  let c0_2935 : Index := 0#32
  let v5472 : Index := Scalar.indexCast v5462
  let c0_2936 : Index := 0#32
  ![v5471.toNat, 0, v5472.toNat, 0]

def k0_chk465 (i : grid0.Coords) (v5462 : BitVec 32) : Prop :=
  (∀ a, (k0_off1366 i v5462) a + S1x14x1x256.size a ≤ S64x14x24x256.size a)
theorem k0_off1366_inb : ∀ (i : grid0.Coords) (v5462 : BitVec 32) (k0_hw465 : k0_chk465 i v5462), ∀ a, (k0_off1366 i v5462) a + S1x14x1x256.size a ≤ S64x14x24x256.size a := fun i v5462 k0_hw465 => k0_hw465

def k0_off1367 (i : grid0.Coords) (v5464 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5475 : Index := Scalar.indexCast v5426
  let c0_2937 : Index := 0#32
  let v5476 : Index := Scalar.indexCast v5464
  let c0_2938 : Index := 0#32
  ![v5475.toNat, 0, v5476.toNat, 0]

def k0_chk466 (i : grid0.Coords) (v5464 : BitVec 32) : Prop :=
  (∀ a, (k0_off1367 i v5464) a + S1x14x1x256.size a ≤ S64x14x24x256.size a)
theorem k0_off1367_inb : ∀ (i : grid0.Coords) (v5464 : BitVec 32) (k0_hw466 : k0_chk466 i v5464), ∀ a, (k0_off1367 i v5464) a + S1x14x1x256.size a ≤ S64x14x24x256.size a := fun i v5464 k0_hw466 => k0_hw466

def k0_off1368 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5490 : Index := Scalar.indexCast v5424
  let c24_2946 : Index := 24#32
  ![v5490.toNat, 24]
def k0_off1369 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5492 : Index := Scalar.indexCast v5424
  let c25_2947 : Index := 25#32
  ![v5492.toNat, 25]
def k0_off1370 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5494 : Index := Scalar.indexCast v5424
  let c26_2948 : Index := 26#32
  ![v5494.toNat, 26]
def k0_off1371 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5496 : Index := Scalar.indexCast v5424
  let c27_2949 : Index := 27#32
  ![v5496.toNat, 27]
def k0_off1372 (i : grid0.Coords) (v5491 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5498 : Index := Scalar.indexCast v5426
  let c0_2950 : Index := 0#32
  let v5499 : Index := Scalar.indexCast v5491
  let c0_2951 : Index := 0#32
  ![v5498.toNat, 0, v5499.toNat, 0]

def k0_chk467 (i : grid0.Coords) (v5491 : BitVec 32) : Prop :=
  (∀ a, (k0_off1372 i v5491) a + S1x14x1x256.size a ≤ S64x14x24x256.size a)
theorem k0_off1372_inb : ∀ (i : grid0.Coords) (v5491 : BitVec 32) (k0_hw467 : k0_chk467 i v5491), ∀ a, (k0_off1372 i v5491) a + S1x14x1x256.size a ≤ S64x14x24x256.size a := fun i v5491 k0_hw467 => k0_hw467

def k0_off1373 (i : grid0.Coords) (v5493 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5502 : Index := Scalar.indexCast v5426
  let c0_2952 : Index := 0#32
  let v5503 : Index := Scalar.indexCast v5493
  let c0_2953 : Index := 0#32
  ![v5502.toNat, 0, v5503.toNat, 0]

def k0_chk468 (i : grid0.Coords) (v5493 : BitVec 32) : Prop :=
  (∀ a, (k0_off1373 i v5493) a + S1x14x1x256.size a ≤ S64x14x24x256.size a)
theorem k0_off1373_inb : ∀ (i : grid0.Coords) (v5493 : BitVec 32) (k0_hw468 : k0_chk468 i v5493), ∀ a, (k0_off1373 i v5493) a + S1x14x1x256.size a ≤ S64x14x24x256.size a := fun i v5493 k0_hw468 => k0_hw468

def k0_off1374 (i : grid0.Coords) (v5495 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5506 : Index := Scalar.indexCast v5426
  let c0_2954 : Index := 0#32
  let v5507 : Index := Scalar.indexCast v5495
  let c0_2955 : Index := 0#32
  ![v5506.toNat, 0, v5507.toNat, 0]

def k0_chk469 (i : grid0.Coords) (v5495 : BitVec 32) : Prop :=
  (∀ a, (k0_off1374 i v5495) a + S1x14x1x256.size a ≤ S64x14x24x256.size a)
theorem k0_off1374_inb : ∀ (i : grid0.Coords) (v5495 : BitVec 32) (k0_hw469 : k0_chk469 i v5495), ∀ a, (k0_off1374 i v5495) a + S1x14x1x256.size a ≤ S64x14x24x256.size a := fun i v5495 k0_hw469 => k0_hw469

def k0_off1375 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5521 : Index := Scalar.indexCast v5424
  let c28_2963 : Index := 28#32
  ![v5521.toNat, 28]
def k0_off1376 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5523 : Index := Scalar.indexCast v5424
  let c29_2964 : Index := 29#32
  ![v5523.toNat, 29]
def k0_off1377 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5525 : Index := Scalar.indexCast v5424
  let c30_2965 : Index := 30#32
  ![v5525.toNat, 30]
def k0_off1378 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5527 : Index := Scalar.indexCast v5424
  let c31_2966 : Index := 31#32
  ![v5527.toNat, 31]
def k0_off1379 (i : grid0.Coords) (v5522 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5529 : Index := Scalar.indexCast v5426
  let c0_2967 : Index := 0#32
  let v5530 : Index := Scalar.indexCast v5522
  let c0_2968 : Index := 0#32
  ![v5529.toNat, 0, v5530.toNat, 0]

def k0_chk470 (i : grid0.Coords) (v5522 : BitVec 32) : Prop :=
  (∀ a, (k0_off1379 i v5522) a + S1x14x1x256.size a ≤ S64x14x24x256.size a)
theorem k0_off1379_inb : ∀ (i : grid0.Coords) (v5522 : BitVec 32) (k0_hw470 : k0_chk470 i v5522), ∀ a, (k0_off1379 i v5522) a + S1x14x1x256.size a ≤ S64x14x24x256.size a := fun i v5522 k0_hw470 => k0_hw470

def k0_off1380 (i : grid0.Coords) (v5524 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5533 : Index := Scalar.indexCast v5426
  let c0_2969 : Index := 0#32
  let v5534 : Index := Scalar.indexCast v5524
  let c0_2970 : Index := 0#32
  ![v5533.toNat, 0, v5534.toNat, 0]

def k0_chk471 (i : grid0.Coords) (v5524 : BitVec 32) : Prop :=
  (∀ a, (k0_off1380 i v5524) a + S1x14x1x256.size a ≤ S64x14x24x256.size a)
theorem k0_off1380_inb : ∀ (i : grid0.Coords) (v5524 : BitVec 32) (k0_hw471 : k0_chk471 i v5524), ∀ a, (k0_off1380 i v5524) a + S1x14x1x256.size a ≤ S64x14x24x256.size a := fun i v5524 k0_hw471 => k0_hw471

def k0_off1381 (i : grid0.Coords) (v5526 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5537 : Index := Scalar.indexCast v5426
  let c0_2971 : Index := 0#32
  let v5538 : Index := Scalar.indexCast v5526
  let c0_2972 : Index := 0#32
  ![v5537.toNat, 0, v5538.toNat, 0]

def k0_chk472 (i : grid0.Coords) (v5526 : BitVec 32) : Prop :=
  (∀ a, (k0_off1381 i v5526) a + S1x14x1x256.size a ≤ S64x14x24x256.size a)
theorem k0_off1381_inb : ∀ (i : grid0.Coords) (v5526 : BitVec 32) (k0_hw472 : k0_chk472 i v5526), ∀ a, (k0_off1381 i v5526) a + S1x14x1x256.size a ≤ S64x14x24x256.size a := fun i v5526 k0_hw472 => k0_hw472

def k0_off1382 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5552 : Index := Scalar.indexCast v5424
  let c32_2980 : Index := 32#32
  ![v5552.toNat, 32]
def k0_off1383 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5554 : Index := Scalar.indexCast v5424
  let c33_2981 : Index := 33#32
  ![v5554.toNat, 33]
def k0_off1384 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5556 : Index := Scalar.indexCast v5424
  let c34_2982 : Index := 34#32
  ![v5556.toNat, 34]
def k0_off1385 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5558 : Index := Scalar.indexCast v5424
  let c35_2983 : Index := 35#32
  ![v5558.toNat, 35]
def k0_off1386 (i : grid0.Coords) (v5553 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5560 : Index := Scalar.indexCast v5426
  let c0_2984 : Index := 0#32
  let v5561 : Index := Scalar.indexCast v5553
  let c0_2985 : Index := 0#32
  ![v5560.toNat, 0, v5561.toNat, 0]

def k0_chk473 (i : grid0.Coords) (v5553 : BitVec 32) : Prop :=
  (∀ a, (k0_off1386 i v5553) a + S1x14x1x256.size a ≤ S64x14x24x256.size a)
theorem k0_off1386_inb : ∀ (i : grid0.Coords) (v5553 : BitVec 32) (k0_hw473 : k0_chk473 i v5553), ∀ a, (k0_off1386 i v5553) a + S1x14x1x256.size a ≤ S64x14x24x256.size a := fun i v5553 k0_hw473 => k0_hw473

def k0_off1387 (i : grid0.Coords) (v5555 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5564 : Index := Scalar.indexCast v5426
  let c0_2986 : Index := 0#32
  let v5565 : Index := Scalar.indexCast v5555
  let c0_2987 : Index := 0#32
  ![v5564.toNat, 0, v5565.toNat, 0]

def k0_chk474 (i : grid0.Coords) (v5555 : BitVec 32) : Prop :=
  (∀ a, (k0_off1387 i v5555) a + S1x14x1x256.size a ≤ S64x14x24x256.size a)
theorem k0_off1387_inb : ∀ (i : grid0.Coords) (v5555 : BitVec 32) (k0_hw474 : k0_chk474 i v5555), ∀ a, (k0_off1387 i v5555) a + S1x14x1x256.size a ≤ S64x14x24x256.size a := fun i v5555 k0_hw474 => k0_hw474

def k0_off1388 (i : grid0.Coords) (v5557 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5568 : Index := Scalar.indexCast v5426
  let c0_2988 : Index := 0#32
  let v5569 : Index := Scalar.indexCast v5557
  let c0_2989 : Index := 0#32
  ![v5568.toNat, 0, v5569.toNat, 0]

def k0_chk475 (i : grid0.Coords) (v5557 : BitVec 32) : Prop :=
  (∀ a, (k0_off1388 i v5557) a + S1x14x1x256.size a ≤ S64x14x24x256.size a)
theorem k0_off1388_inb : ∀ (i : grid0.Coords) (v5557 : BitVec 32) (k0_hw475 : k0_chk475 i v5557), ∀ a, (k0_off1388 i v5557) a + S1x14x1x256.size a ≤ S64x14x24x256.size a := fun i v5557 k0_hw475 => k0_hw475

def k0_off1389 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5583 : Index := Scalar.indexCast v5424
  let c36_2997 : Index := 36#32
  ![v5583.toNat, 36]
def k0_off1390 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5585 : Index := Scalar.indexCast v5424
  let c37_2998 : Index := 37#32
  ![v5585.toNat, 37]
def k0_off1391 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5587 : Index := Scalar.indexCast v5424
  let c38_2999 : Index := 38#32
  ![v5587.toNat, 38]
def k0_off1392 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5589 : Index := Scalar.indexCast v5424
  let c39_3000 : Index := 39#32
  ![v5589.toNat, 39]
def k0_off1393 (i : grid0.Coords) (v5584 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5591 : Index := Scalar.indexCast v5426
  let c0_3001 : Index := 0#32
  let v5592 : Index := Scalar.indexCast v5584
  let c0_3002 : Index := 0#32
  ![v5591.toNat, 0, v5592.toNat, 0]

def k0_chk476 (i : grid0.Coords) (v5584 : BitVec 32) : Prop :=
  (∀ a, (k0_off1393 i v5584) a + S1x14x1x256.size a ≤ S64x14x24x256.size a)
theorem k0_off1393_inb : ∀ (i : grid0.Coords) (v5584 : BitVec 32) (k0_hw476 : k0_chk476 i v5584), ∀ a, (k0_off1393 i v5584) a + S1x14x1x256.size a ≤ S64x14x24x256.size a := fun i v5584 k0_hw476 => k0_hw476

def k0_off1394 (i : grid0.Coords) (v5586 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5595 : Index := Scalar.indexCast v5426
  let c0_3003 : Index := 0#32
  let v5596 : Index := Scalar.indexCast v5586
  let c0_3004 : Index := 0#32
  ![v5595.toNat, 0, v5596.toNat, 0]

def k0_chk477 (i : grid0.Coords) (v5586 : BitVec 32) : Prop :=
  (∀ a, (k0_off1394 i v5586) a + S1x14x1x256.size a ≤ S64x14x24x256.size a)
theorem k0_off1394_inb : ∀ (i : grid0.Coords) (v5586 : BitVec 32) (k0_hw477 : k0_chk477 i v5586), ∀ a, (k0_off1394 i v5586) a + S1x14x1x256.size a ≤ S64x14x24x256.size a := fun i v5586 k0_hw477 => k0_hw477

def k0_off1395 (i : grid0.Coords) (v5588 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5599 : Index := Scalar.indexCast v5426
  let c0_3005 : Index := 0#32
  let v5600 : Index := Scalar.indexCast v5588
  let c0_3006 : Index := 0#32
  ![v5599.toNat, 0, v5600.toNat, 0]

def k0_chk478 (i : grid0.Coords) (v5588 : BitVec 32) : Prop :=
  (∀ a, (k0_off1395 i v5588) a + S1x14x1x256.size a ≤ S64x14x24x256.size a)
theorem k0_off1395_inb : ∀ (i : grid0.Coords) (v5588 : BitVec 32) (k0_hw478 : k0_chk478 i v5588), ∀ a, (k0_off1395 i v5588) a + S1x14x1x256.size a ≤ S64x14x24x256.size a := fun i v5588 k0_hw478 => k0_hw478

def k0_off1396 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5614 : Index := Scalar.indexCast v5424
  let c40_3014 : Index := 40#32
  ![v5614.toNat, 40]
def k0_off1397 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5616 : Index := Scalar.indexCast v5424
  let c41_3015 : Index := 41#32
  ![v5616.toNat, 41]
def k0_off1398 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5618 : Index := Scalar.indexCast v5424
  let c42_3016 : Index := 42#32
  ![v5618.toNat, 42]
def k0_off1399 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5620 : Index := Scalar.indexCast v5424
  let c43_3017 : Index := 43#32
  ![v5620.toNat, 43]
def k0_off1400 (i : grid0.Coords) (v5615 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5622 : Index := Scalar.indexCast v5426
  let c0_3018 : Index := 0#32
  let v5623 : Index := Scalar.indexCast v5615
  let c0_3019 : Index := 0#32
  ![v5622.toNat, 0, v5623.toNat, 0]

def k0_chk479 (i : grid0.Coords) (v5615 : BitVec 32) : Prop :=
  (∀ a, (k0_off1400 i v5615) a + S1x14x1x256.size a ≤ S64x14x24x256.size a)
theorem k0_off1400_inb : ∀ (i : grid0.Coords) (v5615 : BitVec 32) (k0_hw479 : k0_chk479 i v5615), ∀ a, (k0_off1400 i v5615) a + S1x14x1x256.size a ≤ S64x14x24x256.size a := fun i v5615 k0_hw479 => k0_hw479

def k0_off1401 (i : grid0.Coords) (v5617 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5626 : Index := Scalar.indexCast v5426
  let c0_3020 : Index := 0#32
  let v5627 : Index := Scalar.indexCast v5617
  let c0_3021 : Index := 0#32
  ![v5626.toNat, 0, v5627.toNat, 0]

def k0_chk480 (i : grid0.Coords) (v5617 : BitVec 32) : Prop :=
  (∀ a, (k0_off1401 i v5617) a + S1x14x1x256.size a ≤ S64x14x24x256.size a)
theorem k0_off1401_inb : ∀ (i : grid0.Coords) (v5617 : BitVec 32) (k0_hw480 : k0_chk480 i v5617), ∀ a, (k0_off1401 i v5617) a + S1x14x1x256.size a ≤ S64x14x24x256.size a := fun i v5617 k0_hw480 => k0_hw480

def k0_off1402 (i : grid0.Coords) (v5619 : BitVec 32) : Fin 4 → Nat :=
  let c32_i32_2910 : BitVec 32 := 32#32
  let arg0 : BitVec 32 := BitVec.ofNat 32 (i 0).val
  let c2_i32 : BitVec 32 := 2#32
  let v0 : BitVec 32 := Scalar.remsi arg0 c2_i32
  let v5425 : BitVec 32 := Scalar.muli c32_i32_2910 v0
  let c13_i32_2911 : BitVec 32 := 13#32
  let v5426 : BitVec 32 := Scalar.addi v5425 c13_i32_2911
  let v5630 : Index := Scalar.indexCast v5426
  let c0_3022 : Index := 0#32
  let v5631 : Index := Scalar.indexCast v5619
  let c0_3023 : Index := 0#32
  ![v5630.toNat, 0, v5631.toNat, 0]

def k0_chk481 (i : grid0.Coords) (v5619 : BitVec 32) : Prop :=
  (∀ a, (k0_off1402 i v5619) a + S1x14x1x256.size a ≤ S64x14x24x256.size a)
theorem k0_off1402_inb : ∀ (i : grid0.Coords) (v5619 : BitVec 32) (k0_hw481 : k0_chk481 i v5619), ∀ a, (k0_off1402 i v5619) a + S1x14x1x256.size a ≤ S64x14x24x256.size a := fun i v5619 k0_hw481 => k0_hw481

def k0_off1403 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5646 : Index := Scalar.indexCast v5424
  let c44_3031 : Index := 44#32
  ![v5646.toNat, 44]
def k0_off1404 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5648 : Index := Scalar.indexCast v5424
  let c45_3032 : Index := 45#32
  ![v5648.toNat, 45]
def k0_off1405 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5650 : Index := Scalar.indexCast v5424
  let c46_3033 : Index := 46#32
  ![v5650.toNat, 46]
def k0_off1406 (v5647 : BitVec 32) : Fin 4 → Nat :=
  let c13_3034 : Index := 13#32
  let v5652 : Index := Scalar.indexCast v5647
  let c0_3035 : Index := 0#32
  let c0_3036 : Index := 0#32
  ![13, v5652.toNat, 0, 0]

def k0_chk482 (v5647 : BitVec 32) : Prop :=
  (∀ a, (k0_off1406 v5647) a + S1x3x7x256.size a ≤ S32x14x7x256.size a)
theorem k0_off1406_inb : ∀ (v5647 : BitVec 32) (k0_hw482 : k0_chk482 v5647), ∀ a, (k0_off1406 v5647) a + S1x3x7x256.size a ≤ S32x14x7x256.size a := fun v5647 k0_hw482 => k0_hw482

def k0_off1407 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5668 : Index := Scalar.indexCast v5424
  let c47_3042 : Index := 47#32
  ![v5668.toNat, 47]
def k0_off1408 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5670 : Index := Scalar.indexCast v5424
  let c48_3043 : Index := 48#32
  ![v5670.toNat, 48]
def k0_off1409 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5672 : Index := Scalar.indexCast v5424
  let c49_3044 : Index := 49#32
  ![v5672.toNat, 49]
def k0_off1410 (v5669 : BitVec 32) : Fin 4 → Nat :=
  let c13_3045 : Index := 13#32
  let v5674 : Index := Scalar.indexCast v5669
  let c0_3046 : Index := 0#32
  let c0_3047 : Index := 0#32
  ![13, v5674.toNat, 0, 0]

def k0_chk483 (v5669 : BitVec 32) : Prop :=
  (∀ a, (k0_off1410 v5669) a + S1x3x7x256.size a ≤ S32x14x7x256.size a)
theorem k0_off1410_inb : ∀ (v5669 : BitVec 32) (k0_hw483 : k0_chk483 v5669), ∀ a, (k0_off1410 v5669) a + S1x3x7x256.size a ≤ S32x14x7x256.size a := fun v5669 k0_hw483 => k0_hw483

def k0_off1411 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5690 : Index := Scalar.indexCast v5424
  let c50_3053 : Index := 50#32
  ![v5690.toNat, 50]
def k0_off1412 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5692 : Index := Scalar.indexCast v5424
  let c51_3054 : Index := 51#32
  ![v5692.toNat, 51]
def k0_off1413 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5694 : Index := Scalar.indexCast v5424
  let c52_3055 : Index := 52#32
  ![v5694.toNat, 52]
def k0_off1414 (v5691 : BitVec 32) : Fin 4 → Nat :=
  let c13_3056 : Index := 13#32
  let v5696 : Index := Scalar.indexCast v5691
  let c0_3057 : Index := 0#32
  let c0_3058 : Index := 0#32
  ![13, v5696.toNat, 0, 0]

def k0_chk484 (v5691 : BitVec 32) : Prop :=
  (∀ a, (k0_off1414 v5691) a + S1x3x7x256.size a ≤ S32x14x7x256.size a)
theorem k0_off1414_inb : ∀ (v5691 : BitVec 32) (k0_hw484 : k0_chk484 v5691), ∀ a, (k0_off1414 v5691) a + S1x3x7x256.size a ≤ S32x14x7x256.size a := fun v5691 k0_hw484 => k0_hw484

def k0_off1415 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5712 : Index := Scalar.indexCast v5424
  let c53_3064 : Index := 53#32
  ![v5712.toNat, 53]
def k0_off1416 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5714 : Index := Scalar.indexCast v5424
  let c54_3065 : Index := 54#32
  ![v5714.toNat, 54]
def k0_off1417 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5716 : Index := Scalar.indexCast v5424
  let c55_3066 : Index := 55#32
  ![v5716.toNat, 55]
def k0_off1418 (v5713 : BitVec 32) : Fin 4 → Nat :=
  let c13_3067 : Index := 13#32
  let v5718 : Index := Scalar.indexCast v5713
  let c0_3068 : Index := 0#32
  let c0_3069 : Index := 0#32
  ![13, v5718.toNat, 0, 0]

def k0_chk485 (v5713 : BitVec 32) : Prop :=
  (∀ a, (k0_off1418 v5713) a + S1x3x7x256.size a ≤ S32x14x7x256.size a)
theorem k0_off1418_inb : ∀ (v5713 : BitVec 32) (k0_hw485 : k0_chk485 v5713), ∀ a, (k0_off1418 v5713) a + S1x3x7x256.size a ≤ S32x14x7x256.size a := fun v5713 k0_hw485 => k0_hw485

def k0_off1419 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5734 : Index := Scalar.indexCast v5424
  let c56_3075 : Index := 56#32
  ![v5734.toNat, 56]
def k0_off1420 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5736 : Index := Scalar.indexCast v5424
  let c57_3076 : Index := 57#32
  ![v5736.toNat, 57]
def k0_off1421 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5738 : Index := Scalar.indexCast v5424
  let c58_3077 : Index := 58#32
  ![v5738.toNat, 58]
def k0_off1422 (v5735 : BitVec 32) : Fin 4 → Nat :=
  let c13_3078 : Index := 13#32
  let v5740 : Index := Scalar.indexCast v5735
  let c0_3079 : Index := 0#32
  let c0_3080 : Index := 0#32
  ![13, v5740.toNat, 0, 0]

def k0_chk486 (v5735 : BitVec 32) : Prop :=
  (∀ a, (k0_off1422 v5735) a + S1x3x7x256.size a ≤ S32x14x7x256.size a)
theorem k0_off1422_inb : ∀ (v5735 : BitVec 32) (k0_hw486 : k0_chk486 v5735), ∀ a, (k0_off1422 v5735) a + S1x3x7x256.size a ≤ S32x14x7x256.size a := fun v5735 k0_hw486 => k0_hw486

def k0_off1423 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5756 : Index := Scalar.indexCast v5424
  let c59_3086 : Index := 59#32
  ![v5756.toNat, 59]
def k0_off1424 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5758 : Index := Scalar.indexCast v5424
  let c60_3087 : Index := 60#32
  ![v5758.toNat, 60]
def k0_off1425 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5760 : Index := Scalar.indexCast v5424
  let c61_3088 : Index := 61#32
  ![v5760.toNat, 61]
def k0_off1426 (v5757 : BitVec 32) : Fin 4 → Nat :=
  let c13_3089 : Index := 13#32
  let v5762 : Index := Scalar.indexCast v5757
  let c0_3090 : Index := 0#32
  let c0_3091 : Index := 0#32
  ![13, v5762.toNat, 0, 0]

def k0_chk487 (v5757 : BitVec 32) : Prop :=
  (∀ a, (k0_off1426 v5757) a + S1x3x7x256.size a ≤ S32x14x7x256.size a)
theorem k0_off1426_inb : ∀ (v5757 : BitVec 32) (k0_hw487 : k0_chk487 v5757), ∀ a, (k0_off1426 v5757) a + S1x3x7x256.size a ≤ S32x14x7x256.size a := fun v5757 k0_hw487 => k0_hw487

def k0_off1427 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5778 : Index := Scalar.indexCast v5424
  let c62_3097 : Index := 62#32
  ![v5778.toNat, 62]
def k0_off1428 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5780 : Index := Scalar.indexCast v5424
  let c63_3098 : Index := 63#32
  ![v5780.toNat, 63]
def k0_off1429 (i : grid0.Coords) : Fin 2 → Nat :=
  let c32_i32_2908 : BitVec 32 := 32#32
  let arg0 : BitVec 32 := BitVec.ofNat 32 (i 0).val
  let v5423 : BitVec 32 := Scalar.muli c32_i32_2908 arg0
  let c13_i32_2909 : BitVec 32 := 13#32
  let v5424 : BitVec 32 := Scalar.addi v5423 c13_i32_2909
  let v5782 : Index := Scalar.indexCast v5424
  let c64_3099 : Index := 64#32
  ![v5782.toNat, 64]
def k0_off1430 (v5779 : BitVec 32) : Fin 4 → Nat :=
  let c13_3100 : Index := 13#32
  let v5784 : Index := Scalar.indexCast v5779
  let c0_3101 : Index := 0#32
  let c0_3102 : Index := 0#32
  ![13, v5784.toNat, 0, 0]

def k0_chk488 (v5779 : BitVec 32) : Prop :=
  (∀ a, (k0_off1430 v5779) a + S1x3x7x256.size a ≤ S32x14x7x256.size a)
theorem k0_off1430_inb : ∀ (v5779 : BitVec 32) (k0_hw488 : k0_chk488 v5779), ∀ a, (k0_off1430 v5779) a + S1x3x7x256.size a ≤ S32x14x7x256.size a := fun v5779 k0_hw488 => k0_hw488

def k0_off1431 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5805 : Index := Scalar.indexCast v5801
  let c16_3113 : Index := 16#32
  ![v5805.toNat, 16]
def k0_off1432 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5807 : Index := Scalar.indexCast v5801
  let c17_3114 : Index := 17#32
  ![v5807.toNat, 17]
def k0_off1433 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5809 : Index := Scalar.indexCast v5801
  let c18_3115 : Index := 18#32
  ![v5809.toNat, 18]
def k0_off1434 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5811 : Index := Scalar.indexCast v5801
  let c19_3116 : Index := 19#32
  ![v5811.toNat, 19]
def k0_off1435 (i : grid0.Coords) (v5806 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5813 : Index := Scalar.indexCast v5803
  let c0_3117 : Index := 0#32
  let v5814 : Index := Scalar.indexCast v5806
  let c0_3118 : Index := 0#32
  ![v5813.toNat, 0, v5814.toNat, 0]

def k0_chk489 (i : grid0.Coords) (v5806 : BitVec 32) : Prop :=
  (∀ a, (k0_off1435 i v5806) a + S1x14x1x256.size a ≤ S64x14x24x256.size a)
theorem k0_off1435_inb : ∀ (i : grid0.Coords) (v5806 : BitVec 32) (k0_hw489 : k0_chk489 i v5806), ∀ a, (k0_off1435 i v5806) a + S1x14x1x256.size a ≤ S64x14x24x256.size a := fun i v5806 k0_hw489 => k0_hw489

def k0_off1436 (i : grid0.Coords) (v5808 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5817 : Index := Scalar.indexCast v5803
  let c0_3119 : Index := 0#32
  let v5818 : Index := Scalar.indexCast v5808
  let c0_3120 : Index := 0#32
  ![v5817.toNat, 0, v5818.toNat, 0]

def k0_chk490 (i : grid0.Coords) (v5808 : BitVec 32) : Prop :=
  (∀ a, (k0_off1436 i v5808) a + S1x14x1x256.size a ≤ S64x14x24x256.size a)
theorem k0_off1436_inb : ∀ (i : grid0.Coords) (v5808 : BitVec 32) (k0_hw490 : k0_chk490 i v5808), ∀ a, (k0_off1436 i v5808) a + S1x14x1x256.size a ≤ S64x14x24x256.size a := fun i v5808 k0_hw490 => k0_hw490

def k0_off1437 (i : grid0.Coords) (v5810 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5821 : Index := Scalar.indexCast v5803
  let c0_3121 : Index := 0#32
  let v5822 : Index := Scalar.indexCast v5810
  let c0_3122 : Index := 0#32
  ![v5821.toNat, 0, v5822.toNat, 0]

def k0_chk491 (i : grid0.Coords) (v5810 : BitVec 32) : Prop :=
  (∀ a, (k0_off1437 i v5810) a + S1x14x1x256.size a ≤ S64x14x24x256.size a)
theorem k0_off1437_inb : ∀ (i : grid0.Coords) (v5810 : BitVec 32) (k0_hw491 : k0_chk491 i v5810), ∀ a, (k0_off1437 i v5810) a + S1x14x1x256.size a ≤ S64x14x24x256.size a := fun i v5810 k0_hw491 => k0_hw491

def k0_off1438 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5836 : Index := Scalar.indexCast v5801
  let c20_3130 : Index := 20#32
  ![v5836.toNat, 20]
def k0_off1439 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5838 : Index := Scalar.indexCast v5801
  let c21_3131 : Index := 21#32
  ![v5838.toNat, 21]
def k0_off1440 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5840 : Index := Scalar.indexCast v5801
  let c22_3132 : Index := 22#32
  ![v5840.toNat, 22]
def k0_off1441 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5842 : Index := Scalar.indexCast v5801
  let c23_3133 : Index := 23#32
  ![v5842.toNat, 23]
def k0_off1442 (i : grid0.Coords) (v5837 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5844 : Index := Scalar.indexCast v5803
  let c0_3134 : Index := 0#32
  let v5845 : Index := Scalar.indexCast v5837
  let c0_3135 : Index := 0#32
  ![v5844.toNat, 0, v5845.toNat, 0]

def k0_chk492 (i : grid0.Coords) (v5837 : BitVec 32) : Prop :=
  (∀ a, (k0_off1442 i v5837) a + S1x14x1x256.size a ≤ S64x14x24x256.size a)
theorem k0_off1442_inb : ∀ (i : grid0.Coords) (v5837 : BitVec 32) (k0_hw492 : k0_chk492 i v5837), ∀ a, (k0_off1442 i v5837) a + S1x14x1x256.size a ≤ S64x14x24x256.size a := fun i v5837 k0_hw492 => k0_hw492

def k0_off1443 (i : grid0.Coords) (v5839 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5848 : Index := Scalar.indexCast v5803
  let c0_3136 : Index := 0#32
  let v5849 : Index := Scalar.indexCast v5839
  let c0_3137 : Index := 0#32
  ![v5848.toNat, 0, v5849.toNat, 0]

def k0_chk493 (i : grid0.Coords) (v5839 : BitVec 32) : Prop :=
  (∀ a, (k0_off1443 i v5839) a + S1x14x1x256.size a ≤ S64x14x24x256.size a)
theorem k0_off1443_inb : ∀ (i : grid0.Coords) (v5839 : BitVec 32) (k0_hw493 : k0_chk493 i v5839), ∀ a, (k0_off1443 i v5839) a + S1x14x1x256.size a ≤ S64x14x24x256.size a := fun i v5839 k0_hw493 => k0_hw493

def k0_off1444 (i : grid0.Coords) (v5841 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5852 : Index := Scalar.indexCast v5803
  let c0_3138 : Index := 0#32
  let v5853 : Index := Scalar.indexCast v5841
  let c0_3139 : Index := 0#32
  ![v5852.toNat, 0, v5853.toNat, 0]

def k0_chk494 (i : grid0.Coords) (v5841 : BitVec 32) : Prop :=
  (∀ a, (k0_off1444 i v5841) a + S1x14x1x256.size a ≤ S64x14x24x256.size a)
theorem k0_off1444_inb : ∀ (i : grid0.Coords) (v5841 : BitVec 32) (k0_hw494 : k0_chk494 i v5841), ∀ a, (k0_off1444 i v5841) a + S1x14x1x256.size a ≤ S64x14x24x256.size a := fun i v5841 k0_hw494 => k0_hw494

def k0_off1445 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5867 : Index := Scalar.indexCast v5801
  let c24_3147 : Index := 24#32
  ![v5867.toNat, 24]
def k0_off1446 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5869 : Index := Scalar.indexCast v5801
  let c25_3148 : Index := 25#32
  ![v5869.toNat, 25]
def k0_off1447 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5871 : Index := Scalar.indexCast v5801
  let c26_3149 : Index := 26#32
  ![v5871.toNat, 26]
def k0_off1448 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5873 : Index := Scalar.indexCast v5801
  let c27_3150 : Index := 27#32
  ![v5873.toNat, 27]
def k0_off1449 (i : grid0.Coords) (v5868 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5875 : Index := Scalar.indexCast v5803
  let c0_3151 : Index := 0#32
  let v5876 : Index := Scalar.indexCast v5868
  let c0_3152 : Index := 0#32
  ![v5875.toNat, 0, v5876.toNat, 0]

def k0_chk495 (i : grid0.Coords) (v5868 : BitVec 32) : Prop :=
  (∀ a, (k0_off1449 i v5868) a + S1x14x1x256.size a ≤ S64x14x24x256.size a)
theorem k0_off1449_inb : ∀ (i : grid0.Coords) (v5868 : BitVec 32) (k0_hw495 : k0_chk495 i v5868), ∀ a, (k0_off1449 i v5868) a + S1x14x1x256.size a ≤ S64x14x24x256.size a := fun i v5868 k0_hw495 => k0_hw495

def k0_off1450 (i : grid0.Coords) (v5870 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5879 : Index := Scalar.indexCast v5803
  let c0_3153 : Index := 0#32
  let v5880 : Index := Scalar.indexCast v5870
  let c0_3154 : Index := 0#32
  ![v5879.toNat, 0, v5880.toNat, 0]

def k0_chk496 (i : grid0.Coords) (v5870 : BitVec 32) : Prop :=
  (∀ a, (k0_off1450 i v5870) a + S1x14x1x256.size a ≤ S64x14x24x256.size a)
theorem k0_off1450_inb : ∀ (i : grid0.Coords) (v5870 : BitVec 32) (k0_hw496 : k0_chk496 i v5870), ∀ a, (k0_off1450 i v5870) a + S1x14x1x256.size a ≤ S64x14x24x256.size a := fun i v5870 k0_hw496 => k0_hw496

def k0_off1451 (i : grid0.Coords) (v5872 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5883 : Index := Scalar.indexCast v5803
  let c0_3155 : Index := 0#32
  let v5884 : Index := Scalar.indexCast v5872
  let c0_3156 : Index := 0#32
  ![v5883.toNat, 0, v5884.toNat, 0]

def k0_chk497 (i : grid0.Coords) (v5872 : BitVec 32) : Prop :=
  (∀ a, (k0_off1451 i v5872) a + S1x14x1x256.size a ≤ S64x14x24x256.size a)
theorem k0_off1451_inb : ∀ (i : grid0.Coords) (v5872 : BitVec 32) (k0_hw497 : k0_chk497 i v5872), ∀ a, (k0_off1451 i v5872) a + S1x14x1x256.size a ≤ S64x14x24x256.size a := fun i v5872 k0_hw497 => k0_hw497

def k0_off1452 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5898 : Index := Scalar.indexCast v5801
  let c28_3164 : Index := 28#32
  ![v5898.toNat, 28]
def k0_off1453 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5900 : Index := Scalar.indexCast v5801
  let c29_3165 : Index := 29#32
  ![v5900.toNat, 29]
def k0_off1454 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5902 : Index := Scalar.indexCast v5801
  let c30_3166 : Index := 30#32
  ![v5902.toNat, 30]
def k0_off1455 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5904 : Index := Scalar.indexCast v5801
  let c31_3167 : Index := 31#32
  ![v5904.toNat, 31]
def k0_off1456 (i : grid0.Coords) (v5899 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5906 : Index := Scalar.indexCast v5803
  let c0_3168 : Index := 0#32
  let v5907 : Index := Scalar.indexCast v5899
  let c0_3169 : Index := 0#32
  ![v5906.toNat, 0, v5907.toNat, 0]

def k0_chk498 (i : grid0.Coords) (v5899 : BitVec 32) : Prop :=
  (∀ a, (k0_off1456 i v5899) a + S1x14x1x256.size a ≤ S64x14x24x256.size a)
theorem k0_off1456_inb : ∀ (i : grid0.Coords) (v5899 : BitVec 32) (k0_hw498 : k0_chk498 i v5899), ∀ a, (k0_off1456 i v5899) a + S1x14x1x256.size a ≤ S64x14x24x256.size a := fun i v5899 k0_hw498 => k0_hw498

def k0_off1457 (i : grid0.Coords) (v5901 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5910 : Index := Scalar.indexCast v5803
  let c0_3170 : Index := 0#32
  let v5911 : Index := Scalar.indexCast v5901
  let c0_3171 : Index := 0#32
  ![v5910.toNat, 0, v5911.toNat, 0]

def k0_chk499 (i : grid0.Coords) (v5901 : BitVec 32) : Prop :=
  (∀ a, (k0_off1457 i v5901) a + S1x14x1x256.size a ≤ S64x14x24x256.size a)
theorem k0_off1457_inb : ∀ (i : grid0.Coords) (v5901 : BitVec 32) (k0_hw499 : k0_chk499 i v5901), ∀ a, (k0_off1457 i v5901) a + S1x14x1x256.size a ≤ S64x14x24x256.size a := fun i v5901 k0_hw499 => k0_hw499

def k0_off1458 (i : grid0.Coords) (v5903 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5914 : Index := Scalar.indexCast v5803
  let c0_3172 : Index := 0#32
  let v5915 : Index := Scalar.indexCast v5903
  let c0_3173 : Index := 0#32
  ![v5914.toNat, 0, v5915.toNat, 0]

def k0_chk500 (i : grid0.Coords) (v5903 : BitVec 32) : Prop :=
  (∀ a, (k0_off1458 i v5903) a + S1x14x1x256.size a ≤ S64x14x24x256.size a)
theorem k0_off1458_inb : ∀ (i : grid0.Coords) (v5903 : BitVec 32) (k0_hw500 : k0_chk500 i v5903), ∀ a, (k0_off1458 i v5903) a + S1x14x1x256.size a ≤ S64x14x24x256.size a := fun i v5903 k0_hw500 => k0_hw500

def k0_off1459 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5929 : Index := Scalar.indexCast v5801
  let c32_3181 : Index := 32#32
  ![v5929.toNat, 32]
def k0_off1460 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5931 : Index := Scalar.indexCast v5801
  let c33_3182 : Index := 33#32
  ![v5931.toNat, 33]
def k0_off1461 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5933 : Index := Scalar.indexCast v5801
  let c34_3183 : Index := 34#32
  ![v5933.toNat, 34]
def k0_off1462 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5935 : Index := Scalar.indexCast v5801
  let c35_3184 : Index := 35#32
  ![v5935.toNat, 35]
def k0_off1463 (i : grid0.Coords) (v5930 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5937 : Index := Scalar.indexCast v5803
  let c0_3185 : Index := 0#32
  let v5938 : Index := Scalar.indexCast v5930
  let c0_3186 : Index := 0#32
  ![v5937.toNat, 0, v5938.toNat, 0]

def k0_chk501 (i : grid0.Coords) (v5930 : BitVec 32) : Prop :=
  (∀ a, (k0_off1463 i v5930) a + S1x14x1x256.size a ≤ S64x14x24x256.size a)
theorem k0_off1463_inb : ∀ (i : grid0.Coords) (v5930 : BitVec 32) (k0_hw501 : k0_chk501 i v5930), ∀ a, (k0_off1463 i v5930) a + S1x14x1x256.size a ≤ S64x14x24x256.size a := fun i v5930 k0_hw501 => k0_hw501

def k0_off1464 (i : grid0.Coords) (v5932 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5941 : Index := Scalar.indexCast v5803
  let c0_3187 : Index := 0#32
  let v5942 : Index := Scalar.indexCast v5932
  let c0_3188 : Index := 0#32
  ![v5941.toNat, 0, v5942.toNat, 0]

def k0_chk502 (i : grid0.Coords) (v5932 : BitVec 32) : Prop :=
  (∀ a, (k0_off1464 i v5932) a + S1x14x1x256.size a ≤ S64x14x24x256.size a)
theorem k0_off1464_inb : ∀ (i : grid0.Coords) (v5932 : BitVec 32) (k0_hw502 : k0_chk502 i v5932), ∀ a, (k0_off1464 i v5932) a + S1x14x1x256.size a ≤ S64x14x24x256.size a := fun i v5932 k0_hw502 => k0_hw502

def k0_off1465 (i : grid0.Coords) (v5934 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5945 : Index := Scalar.indexCast v5803
  let c0_3189 : Index := 0#32
  let v5946 : Index := Scalar.indexCast v5934
  let c0_3190 : Index := 0#32
  ![v5945.toNat, 0, v5946.toNat, 0]

def k0_chk503 (i : grid0.Coords) (v5934 : BitVec 32) : Prop :=
  (∀ a, (k0_off1465 i v5934) a + S1x14x1x256.size a ≤ S64x14x24x256.size a)
theorem k0_off1465_inb : ∀ (i : grid0.Coords) (v5934 : BitVec 32) (k0_hw503 : k0_chk503 i v5934), ∀ a, (k0_off1465 i v5934) a + S1x14x1x256.size a ≤ S64x14x24x256.size a := fun i v5934 k0_hw503 => k0_hw503

def k0_off1466 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5960 : Index := Scalar.indexCast v5801
  let c36_3198 : Index := 36#32
  ![v5960.toNat, 36]
def k0_off1467 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5962 : Index := Scalar.indexCast v5801
  let c37_3199 : Index := 37#32
  ![v5962.toNat, 37]
def k0_off1468 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5964 : Index := Scalar.indexCast v5801
  let c38_3200 : Index := 38#32
  ![v5964.toNat, 38]
def k0_off1469 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5966 : Index := Scalar.indexCast v5801
  let c39_3201 : Index := 39#32
  ![v5966.toNat, 39]
def k0_off1470 (i : grid0.Coords) (v5961 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5968 : Index := Scalar.indexCast v5803
  let c0_3202 : Index := 0#32
  let v5969 : Index := Scalar.indexCast v5961
  let c0_3203 : Index := 0#32
  ![v5968.toNat, 0, v5969.toNat, 0]

def k0_chk504 (i : grid0.Coords) (v5961 : BitVec 32) : Prop :=
  (∀ a, (k0_off1470 i v5961) a + S1x14x1x256.size a ≤ S64x14x24x256.size a)
theorem k0_off1470_inb : ∀ (i : grid0.Coords) (v5961 : BitVec 32) (k0_hw504 : k0_chk504 i v5961), ∀ a, (k0_off1470 i v5961) a + S1x14x1x256.size a ≤ S64x14x24x256.size a := fun i v5961 k0_hw504 => k0_hw504

def k0_off1471 (i : grid0.Coords) (v5963 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5972 : Index := Scalar.indexCast v5803
  let c0_3204 : Index := 0#32
  let v5973 : Index := Scalar.indexCast v5963
  let c0_3205 : Index := 0#32
  ![v5972.toNat, 0, v5973.toNat, 0]

def k0_chk505 (i : grid0.Coords) (v5963 : BitVec 32) : Prop :=
  (∀ a, (k0_off1471 i v5963) a + S1x14x1x256.size a ≤ S64x14x24x256.size a)
theorem k0_off1471_inb : ∀ (i : grid0.Coords) (v5963 : BitVec 32) (k0_hw505 : k0_chk505 i v5963), ∀ a, (k0_off1471 i v5963) a + S1x14x1x256.size a ≤ S64x14x24x256.size a := fun i v5963 k0_hw505 => k0_hw505

def k0_off1472 (i : grid0.Coords) (v5965 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5976 : Index := Scalar.indexCast v5803
  let c0_3206 : Index := 0#32
  let v5977 : Index := Scalar.indexCast v5965
  let c0_3207 : Index := 0#32
  ![v5976.toNat, 0, v5977.toNat, 0]

def k0_chk506 (i : grid0.Coords) (v5965 : BitVec 32) : Prop :=
  (∀ a, (k0_off1472 i v5965) a + S1x14x1x256.size a ≤ S64x14x24x256.size a)
theorem k0_off1472_inb : ∀ (i : grid0.Coords) (v5965 : BitVec 32) (k0_hw506 : k0_chk506 i v5965), ∀ a, (k0_off1472 i v5965) a + S1x14x1x256.size a ≤ S64x14x24x256.size a := fun i v5965 k0_hw506 => k0_hw506

def k0_off1473 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5991 : Index := Scalar.indexCast v5801
  let c40_3215 : Index := 40#32
  ![v5991.toNat, 40]
def k0_off1474 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5993 : Index := Scalar.indexCast v5801
  let c41_3216 : Index := 41#32
  ![v5993.toNat, 41]
def k0_off1475 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5995 : Index := Scalar.indexCast v5801
  let c42_3217 : Index := 42#32
  ![v5995.toNat, 42]
def k0_off1476 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v5997 : Index := Scalar.indexCast v5801
  let c43_3218 : Index := 43#32
  ![v5997.toNat, 43]
def k0_off1477 (i : grid0.Coords) (v5992 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v5999 : Index := Scalar.indexCast v5803
  let c0_3219 : Index := 0#32
  let v6000 : Index := Scalar.indexCast v5992
  let c0_3220 : Index := 0#32
  ![v5999.toNat, 0, v6000.toNat, 0]

def k0_chk507 (i : grid0.Coords) (v5992 : BitVec 32) : Prop :=
  (∀ a, (k0_off1477 i v5992) a + S1x14x1x256.size a ≤ S64x14x24x256.size a)
theorem k0_off1477_inb : ∀ (i : grid0.Coords) (v5992 : BitVec 32) (k0_hw507 : k0_chk507 i v5992), ∀ a, (k0_off1477 i v5992) a + S1x14x1x256.size a ≤ S64x14x24x256.size a := fun i v5992 k0_hw507 => k0_hw507

def k0_off1478 (i : grid0.Coords) (v5994 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v6003 : Index := Scalar.indexCast v5803
  let c0_3221 : Index := 0#32
  let v6004 : Index := Scalar.indexCast v5994
  let c0_3222 : Index := 0#32
  ![v6003.toNat, 0, v6004.toNat, 0]

def k0_chk508 (i : grid0.Coords) (v5994 : BitVec 32) : Prop :=
  (∀ a, (k0_off1478 i v5994) a + S1x14x1x256.size a ≤ S64x14x24x256.size a)
theorem k0_off1478_inb : ∀ (i : grid0.Coords) (v5994 : BitVec 32) (k0_hw508 : k0_chk508 i v5994), ∀ a, (k0_off1478 i v5994) a + S1x14x1x256.size a ≤ S64x14x24x256.size a := fun i v5994 k0_hw508 => k0_hw508

def k0_off1479 (i : grid0.Coords) (v5996 : BitVec 32) : Fin 4 → Nat :=
  let c32_i32_3110 : BitVec 32 := 32#32
  let arg0 : BitVec 32 := BitVec.ofNat 32 (i 0).val
  let c2_i32 : BitVec 32 := 2#32
  let v0 : BitVec 32 := Scalar.remsi arg0 c2_i32
  let v5802 : BitVec 32 := Scalar.muli c32_i32_3110 v0
  let c14_i32_3111 : BitVec 32 := 14#32
  let v5803 : BitVec 32 := Scalar.addi v5802 c14_i32_3111
  let v6007 : Index := Scalar.indexCast v5803
  let c0_3223 : Index := 0#32
  let v6008 : Index := Scalar.indexCast v5996
  let c0_3224 : Index := 0#32
  ![v6007.toNat, 0, v6008.toNat, 0]

def k0_chk509 (i : grid0.Coords) (v5996 : BitVec 32) : Prop :=
  (∀ a, (k0_off1479 i v5996) a + S1x14x1x256.size a ≤ S64x14x24x256.size a)
theorem k0_off1479_inb : ∀ (i : grid0.Coords) (v5996 : BitVec 32) (k0_hw509 : k0_chk509 i v5996), ∀ a, (k0_off1479 i v5996) a + S1x14x1x256.size a ≤ S64x14x24x256.size a := fun i v5996 k0_hw509 => k0_hw509

def k0_off1480 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6023 : Index := Scalar.indexCast v5801
  let c44_3232 : Index := 44#32
  ![v6023.toNat, 44]
def k0_off1481 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6025 : Index := Scalar.indexCast v5801
  let c45_3233 : Index := 45#32
  ![v6025.toNat, 45]
def k0_off1482 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6027 : Index := Scalar.indexCast v5801
  let c46_3234 : Index := 46#32
  ![v6027.toNat, 46]
def k0_off1483 (v6024 : BitVec 32) : Fin 4 → Nat :=
  let c14_3235 : Index := 14#32
  let v6029 : Index := Scalar.indexCast v6024
  let c0_3236 : Index := 0#32
  let c0_3237 : Index := 0#32
  ![14, v6029.toNat, 0, 0]

def k0_chk510 (v6024 : BitVec 32) : Prop :=
  (∀ a, (k0_off1483 v6024) a + S1x3x7x256.size a ≤ S32x14x7x256.size a)
theorem k0_off1483_inb : ∀ (v6024 : BitVec 32) (k0_hw510 : k0_chk510 v6024), ∀ a, (k0_off1483 v6024) a + S1x3x7x256.size a ≤ S32x14x7x256.size a := fun v6024 k0_hw510 => k0_hw510

def k0_off1484 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6045 : Index := Scalar.indexCast v5801
  let c47_3243 : Index := 47#32
  ![v6045.toNat, 47]
def k0_off1485 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6047 : Index := Scalar.indexCast v5801
  let c48_3244 : Index := 48#32
  ![v6047.toNat, 48]
def k0_off1486 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6049 : Index := Scalar.indexCast v5801
  let c49_3245 : Index := 49#32
  ![v6049.toNat, 49]
def k0_off1487 (v6046 : BitVec 32) : Fin 4 → Nat :=
  let c14_3246 : Index := 14#32
  let v6051 : Index := Scalar.indexCast v6046
  let c0_3247 : Index := 0#32
  let c0_3248 : Index := 0#32
  ![14, v6051.toNat, 0, 0]

def k0_chk511 (v6046 : BitVec 32) : Prop :=
  (∀ a, (k0_off1487 v6046) a + S1x3x7x256.size a ≤ S32x14x7x256.size a)
theorem k0_off1487_inb : ∀ (v6046 : BitVec 32) (k0_hw511 : k0_chk511 v6046), ∀ a, (k0_off1487 v6046) a + S1x3x7x256.size a ≤ S32x14x7x256.size a := fun v6046 k0_hw511 => k0_hw511

def k0_off1488 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6067 : Index := Scalar.indexCast v5801
  let c50_3254 : Index := 50#32
  ![v6067.toNat, 50]
def k0_off1489 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6069 : Index := Scalar.indexCast v5801
  let c51_3255 : Index := 51#32
  ![v6069.toNat, 51]
def k0_off1490 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6071 : Index := Scalar.indexCast v5801
  let c52_3256 : Index := 52#32
  ![v6071.toNat, 52]
def k0_off1491 (v6068 : BitVec 32) : Fin 4 → Nat :=
  let c14_3257 : Index := 14#32
  let v6073 : Index := Scalar.indexCast v6068
  let c0_3258 : Index := 0#32
  let c0_3259 : Index := 0#32
  ![14, v6073.toNat, 0, 0]

def k0_chk512 (v6068 : BitVec 32) : Prop :=
  (∀ a, (k0_off1491 v6068) a + S1x3x7x256.size a ≤ S32x14x7x256.size a)
theorem k0_off1491_inb : ∀ (v6068 : BitVec 32) (k0_hw512 : k0_chk512 v6068), ∀ a, (k0_off1491 v6068) a + S1x3x7x256.size a ≤ S32x14x7x256.size a := fun v6068 k0_hw512 => k0_hw512

def k0_off1492 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6089 : Index := Scalar.indexCast v5801
  let c53_3265 : Index := 53#32
  ![v6089.toNat, 53]
def k0_off1493 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6091 : Index := Scalar.indexCast v5801
  let c54_3266 : Index := 54#32
  ![v6091.toNat, 54]
def k0_off1494 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6093 : Index := Scalar.indexCast v5801
  let c55_3267 : Index := 55#32
  ![v6093.toNat, 55]
def k0_off1495 (v6090 : BitVec 32) : Fin 4 → Nat :=
  let c14_3268 : Index := 14#32
  let v6095 : Index := Scalar.indexCast v6090
  let c0_3269 : Index := 0#32
  let c0_3270 : Index := 0#32
  ![14, v6095.toNat, 0, 0]

def k0_chk513 (v6090 : BitVec 32) : Prop :=
  (∀ a, (k0_off1495 v6090) a + S1x3x7x256.size a ≤ S32x14x7x256.size a)
theorem k0_off1495_inb : ∀ (v6090 : BitVec 32) (k0_hw513 : k0_chk513 v6090), ∀ a, (k0_off1495 v6090) a + S1x3x7x256.size a ≤ S32x14x7x256.size a := fun v6090 k0_hw513 => k0_hw513

def k0_off1496 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6111 : Index := Scalar.indexCast v5801
  let c56_3276 : Index := 56#32
  ![v6111.toNat, 56]
def k0_off1497 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6113 : Index := Scalar.indexCast v5801
  let c57_3277 : Index := 57#32
  ![v6113.toNat, 57]
def k0_off1498 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6115 : Index := Scalar.indexCast v5801
  let c58_3278 : Index := 58#32
  ![v6115.toNat, 58]
def k0_off1499 (v6112 : BitVec 32) : Fin 4 → Nat :=
  let c14_3279 : Index := 14#32
  let v6117 : Index := Scalar.indexCast v6112
  let c0_3280 : Index := 0#32
  let c0_3281 : Index := 0#32
  ![14, v6117.toNat, 0, 0]

def k0_chk514 (v6112 : BitVec 32) : Prop :=
  (∀ a, (k0_off1499 v6112) a + S1x3x7x256.size a ≤ S32x14x7x256.size a)
theorem k0_off1499_inb : ∀ (v6112 : BitVec 32) (k0_hw514 : k0_chk514 v6112), ∀ a, (k0_off1499 v6112) a + S1x3x7x256.size a ≤ S32x14x7x256.size a := fun v6112 k0_hw514 => k0_hw514

def k0_off1500 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6133 : Index := Scalar.indexCast v5801
  let c59_3287 : Index := 59#32
  ![v6133.toNat, 59]
def k0_off1501 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6135 : Index := Scalar.indexCast v5801
  let c60_3288 : Index := 60#32
  ![v6135.toNat, 60]
def k0_off1502 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6137 : Index := Scalar.indexCast v5801
  let c61_3289 : Index := 61#32
  ![v6137.toNat, 61]
def k0_off1503 (v6134 : BitVec 32) : Fin 4 → Nat :=
  let c14_3290 : Index := 14#32
  let v6139 : Index := Scalar.indexCast v6134
  let c0_3291 : Index := 0#32
  let c0_3292 : Index := 0#32
  ![14, v6139.toNat, 0, 0]

def k0_chk515 (v6134 : BitVec 32) : Prop :=
  (∀ a, (k0_off1503 v6134) a + S1x3x7x256.size a ≤ S32x14x7x256.size a)
theorem k0_off1503_inb : ∀ (v6134 : BitVec 32) (k0_hw515 : k0_chk515 v6134), ∀ a, (k0_off1503 v6134) a + S1x3x7x256.size a ≤ S32x14x7x256.size a := fun v6134 k0_hw515 => k0_hw515

def k0_off1504 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6155 : Index := Scalar.indexCast v5801
  let c62_3298 : Index := 62#32
  ![v6155.toNat, 62]
def k0_off1505 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6157 : Index := Scalar.indexCast v5801
  let c63_3299 : Index := 63#32
  ![v6157.toNat, 63]
def k0_off1506 (i : grid0.Coords) : Fin 2 → Nat :=
  let c32_i32_3108 : BitVec 32 := 32#32
  let arg0 : BitVec 32 := BitVec.ofNat 32 (i 0).val
  let v5800 : BitVec 32 := Scalar.muli c32_i32_3108 arg0
  let c14_i32_3109 : BitVec 32 := 14#32
  let v5801 : BitVec 32 := Scalar.addi v5800 c14_i32_3109
  let v6159 : Index := Scalar.indexCast v5801
  let c64_3300 : Index := 64#32
  ![v6159.toNat, 64]
def k0_off1507 (v6156 : BitVec 32) : Fin 4 → Nat :=
  let c14_3301 : Index := 14#32
  let v6161 : Index := Scalar.indexCast v6156
  let c0_3302 : Index := 0#32
  let c0_3303 : Index := 0#32
  ![14, v6161.toNat, 0, 0]

def k0_chk516 (v6156 : BitVec 32) : Prop :=
  (∀ a, (k0_off1507 v6156) a + S1x3x7x256.size a ≤ S32x14x7x256.size a)
theorem k0_off1507_inb : ∀ (v6156 : BitVec 32) (k0_hw516 : k0_chk516 v6156), ∀ a, (k0_off1507 v6156) a + S1x3x7x256.size a ≤ S32x14x7x256.size a := fun v6156 k0_hw516 => k0_hw516

def k0_off1508 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6182 : Index := Scalar.indexCast v6178
  let c16_3314 : Index := 16#32
  ![v6182.toNat, 16]
def k0_off1509 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6184 : Index := Scalar.indexCast v6178
  let c17_3315 : Index := 17#32
  ![v6184.toNat, 17]
def k0_off1510 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6186 : Index := Scalar.indexCast v6178
  let c18_3316 : Index := 18#32
  ![v6186.toNat, 18]
def k0_off1511 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6188 : Index := Scalar.indexCast v6178
  let c19_3317 : Index := 19#32
  ![v6188.toNat, 19]
def k0_off1512 (i : grid0.Coords) (v6183 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6190 : Index := Scalar.indexCast v6180
  let c0_3318 : Index := 0#32
  let v6191 : Index := Scalar.indexCast v6183
  let c0_3319 : Index := 0#32
  ![v6190.toNat, 0, v6191.toNat, 0]

def k0_chk517 (i : grid0.Coords) (v6183 : BitVec 32) : Prop :=
  (∀ a, (k0_off1512 i v6183) a + S1x14x1x256.size a ≤ S64x14x24x256.size a)
theorem k0_off1512_inb : ∀ (i : grid0.Coords) (v6183 : BitVec 32) (k0_hw517 : k0_chk517 i v6183), ∀ a, (k0_off1512 i v6183) a + S1x14x1x256.size a ≤ S64x14x24x256.size a := fun i v6183 k0_hw517 => k0_hw517

def k0_off1513 (i : grid0.Coords) (v6185 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6194 : Index := Scalar.indexCast v6180
  let c0_3320 : Index := 0#32
  let v6195 : Index := Scalar.indexCast v6185
  let c0_3321 : Index := 0#32
  ![v6194.toNat, 0, v6195.toNat, 0]

def k0_chk518 (i : grid0.Coords) (v6185 : BitVec 32) : Prop :=
  (∀ a, (k0_off1513 i v6185) a + S1x14x1x256.size a ≤ S64x14x24x256.size a)
theorem k0_off1513_inb : ∀ (i : grid0.Coords) (v6185 : BitVec 32) (k0_hw518 : k0_chk518 i v6185), ∀ a, (k0_off1513 i v6185) a + S1x14x1x256.size a ≤ S64x14x24x256.size a := fun i v6185 k0_hw518 => k0_hw518

def k0_off1514 (i : grid0.Coords) (v6187 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6198 : Index := Scalar.indexCast v6180
  let c0_3322 : Index := 0#32
  let v6199 : Index := Scalar.indexCast v6187
  let c0_3323 : Index := 0#32
  ![v6198.toNat, 0, v6199.toNat, 0]

def k0_chk519 (i : grid0.Coords) (v6187 : BitVec 32) : Prop :=
  (∀ a, (k0_off1514 i v6187) a + S1x14x1x256.size a ≤ S64x14x24x256.size a)
theorem k0_off1514_inb : ∀ (i : grid0.Coords) (v6187 : BitVec 32) (k0_hw519 : k0_chk519 i v6187), ∀ a, (k0_off1514 i v6187) a + S1x14x1x256.size a ≤ S64x14x24x256.size a := fun i v6187 k0_hw519 => k0_hw519

def k0_off1515 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6213 : Index := Scalar.indexCast v6178
  let c20_3330 : Index := 20#32
  ![v6213.toNat, 20]
def k0_off1516 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6215 : Index := Scalar.indexCast v6178
  let c21_3331 : Index := 21#32
  ![v6215.toNat, 21]
def k0_off1517 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6217 : Index := Scalar.indexCast v6178
  let c22_3332 : Index := 22#32
  ![v6217.toNat, 22]
def k0_off1518 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6219 : Index := Scalar.indexCast v6178
  let c23_3333 : Index := 23#32
  ![v6219.toNat, 23]
def k0_off1519 (i : grid0.Coords) (v6214 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6221 : Index := Scalar.indexCast v6180
  let c0_3334 : Index := 0#32
  let v6222 : Index := Scalar.indexCast v6214
  let c0_3335 : Index := 0#32
  ![v6221.toNat, 0, v6222.toNat, 0]

def k0_chk520 (i : grid0.Coords) (v6214 : BitVec 32) : Prop :=
  (∀ a, (k0_off1519 i v6214) a + S1x14x1x256.size a ≤ S64x14x24x256.size a)
theorem k0_off1519_inb : ∀ (i : grid0.Coords) (v6214 : BitVec 32) (k0_hw520 : k0_chk520 i v6214), ∀ a, (k0_off1519 i v6214) a + S1x14x1x256.size a ≤ S64x14x24x256.size a := fun i v6214 k0_hw520 => k0_hw520

def k0_off1520 (i : grid0.Coords) (v6216 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6225 : Index := Scalar.indexCast v6180
  let c0_3336 : Index := 0#32
  let v6226 : Index := Scalar.indexCast v6216
  let c0_3337 : Index := 0#32
  ![v6225.toNat, 0, v6226.toNat, 0]

def k0_chk521 (i : grid0.Coords) (v6216 : BitVec 32) : Prop :=
  (∀ a, (k0_off1520 i v6216) a + S1x14x1x256.size a ≤ S64x14x24x256.size a)
theorem k0_off1520_inb : ∀ (i : grid0.Coords) (v6216 : BitVec 32) (k0_hw521 : k0_chk521 i v6216), ∀ a, (k0_off1520 i v6216) a + S1x14x1x256.size a ≤ S64x14x24x256.size a := fun i v6216 k0_hw521 => k0_hw521

def k0_off1521 (i : grid0.Coords) (v6218 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6229 : Index := Scalar.indexCast v6180
  let c0_3338 : Index := 0#32
  let v6230 : Index := Scalar.indexCast v6218
  let c0_3339 : Index := 0#32
  ![v6229.toNat, 0, v6230.toNat, 0]

def k0_chk522 (i : grid0.Coords) (v6218 : BitVec 32) : Prop :=
  (∀ a, (k0_off1521 i v6218) a + S1x14x1x256.size a ≤ S64x14x24x256.size a)
theorem k0_off1521_inb : ∀ (i : grid0.Coords) (v6218 : BitVec 32) (k0_hw522 : k0_chk522 i v6218), ∀ a, (k0_off1521 i v6218) a + S1x14x1x256.size a ≤ S64x14x24x256.size a := fun i v6218 k0_hw522 => k0_hw522

def k0_off1522 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6244 : Index := Scalar.indexCast v6178
  let c24_3347 : Index := 24#32
  ![v6244.toNat, 24]
def k0_off1523 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6246 : Index := Scalar.indexCast v6178
  let c25_3348 : Index := 25#32
  ![v6246.toNat, 25]
def k0_off1524 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6248 : Index := Scalar.indexCast v6178
  let c26_3349 : Index := 26#32
  ![v6248.toNat, 26]
def k0_off1525 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6250 : Index := Scalar.indexCast v6178
  let c27_3350 : Index := 27#32
  ![v6250.toNat, 27]
def k0_off1526 (i : grid0.Coords) (v6245 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6252 : Index := Scalar.indexCast v6180
  let c0_3351 : Index := 0#32
  let v6253 : Index := Scalar.indexCast v6245
  let c0_3352 : Index := 0#32
  ![v6252.toNat, 0, v6253.toNat, 0]

def k0_chk523 (i : grid0.Coords) (v6245 : BitVec 32) : Prop :=
  (∀ a, (k0_off1526 i v6245) a + S1x14x1x256.size a ≤ S64x14x24x256.size a)
theorem k0_off1526_inb : ∀ (i : grid0.Coords) (v6245 : BitVec 32) (k0_hw523 : k0_chk523 i v6245), ∀ a, (k0_off1526 i v6245) a + S1x14x1x256.size a ≤ S64x14x24x256.size a := fun i v6245 k0_hw523 => k0_hw523

def k0_off1527 (i : grid0.Coords) (v6247 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6256 : Index := Scalar.indexCast v6180
  let c0_3353 : Index := 0#32
  let v6257 : Index := Scalar.indexCast v6247
  let c0_3354 : Index := 0#32
  ![v6256.toNat, 0, v6257.toNat, 0]

def k0_chk524 (i : grid0.Coords) (v6247 : BitVec 32) : Prop :=
  (∀ a, (k0_off1527 i v6247) a + S1x14x1x256.size a ≤ S64x14x24x256.size a)
theorem k0_off1527_inb : ∀ (i : grid0.Coords) (v6247 : BitVec 32) (k0_hw524 : k0_chk524 i v6247), ∀ a, (k0_off1527 i v6247) a + S1x14x1x256.size a ≤ S64x14x24x256.size a := fun i v6247 k0_hw524 => k0_hw524

def k0_off1528 (i : grid0.Coords) (v6249 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6260 : Index := Scalar.indexCast v6180
  let c0_3355 : Index := 0#32
  let v6261 : Index := Scalar.indexCast v6249
  let c0_3356 : Index := 0#32
  ![v6260.toNat, 0, v6261.toNat, 0]

def k0_chk525 (i : grid0.Coords) (v6249 : BitVec 32) : Prop :=
  (∀ a, (k0_off1528 i v6249) a + S1x14x1x256.size a ≤ S64x14x24x256.size a)
theorem k0_off1528_inb : ∀ (i : grid0.Coords) (v6249 : BitVec 32) (k0_hw525 : k0_chk525 i v6249), ∀ a, (k0_off1528 i v6249) a + S1x14x1x256.size a ≤ S64x14x24x256.size a := fun i v6249 k0_hw525 => k0_hw525

def k0_off1529 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6275 : Index := Scalar.indexCast v6178
  let c28_3364 : Index := 28#32
  ![v6275.toNat, 28]
def k0_off1530 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6277 : Index := Scalar.indexCast v6178
  let c29_3365 : Index := 29#32
  ![v6277.toNat, 29]
def k0_off1531 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6279 : Index := Scalar.indexCast v6178
  let c30_3366 : Index := 30#32
  ![v6279.toNat, 30]
def k0_off1532 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6281 : Index := Scalar.indexCast v6178
  let c31_3367 : Index := 31#32
  ![v6281.toNat, 31]
def k0_off1533 (i : grid0.Coords) (v6276 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6283 : Index := Scalar.indexCast v6180
  let c0_3368 : Index := 0#32
  let v6284 : Index := Scalar.indexCast v6276
  let c0_3369 : Index := 0#32
  ![v6283.toNat, 0, v6284.toNat, 0]

def k0_chk526 (i : grid0.Coords) (v6276 : BitVec 32) : Prop :=
  (∀ a, (k0_off1533 i v6276) a + S1x14x1x256.size a ≤ S64x14x24x256.size a)
theorem k0_off1533_inb : ∀ (i : grid0.Coords) (v6276 : BitVec 32) (k0_hw526 : k0_chk526 i v6276), ∀ a, (k0_off1533 i v6276) a + S1x14x1x256.size a ≤ S64x14x24x256.size a := fun i v6276 k0_hw526 => k0_hw526

def k0_off1534 (i : grid0.Coords) (v6278 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6287 : Index := Scalar.indexCast v6180
  let c0_3370 : Index := 0#32
  let v6288 : Index := Scalar.indexCast v6278
  let c0_3371 : Index := 0#32
  ![v6287.toNat, 0, v6288.toNat, 0]

def k0_chk527 (i : grid0.Coords) (v6278 : BitVec 32) : Prop :=
  (∀ a, (k0_off1534 i v6278) a + S1x14x1x256.size a ≤ S64x14x24x256.size a)
theorem k0_off1534_inb : ∀ (i : grid0.Coords) (v6278 : BitVec 32) (k0_hw527 : k0_chk527 i v6278), ∀ a, (k0_off1534 i v6278) a + S1x14x1x256.size a ≤ S64x14x24x256.size a := fun i v6278 k0_hw527 => k0_hw527

def k0_off1535 (i : grid0.Coords) (v6280 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6291 : Index := Scalar.indexCast v6180
  let c0_3372 : Index := 0#32
  let v6292 : Index := Scalar.indexCast v6280
  let c0_3373 : Index := 0#32
  ![v6291.toNat, 0, v6292.toNat, 0]

def k0_chk528 (i : grid0.Coords) (v6280 : BitVec 32) : Prop :=
  (∀ a, (k0_off1535 i v6280) a + S1x14x1x256.size a ≤ S64x14x24x256.size a)
theorem k0_off1535_inb : ∀ (i : grid0.Coords) (v6280 : BitVec 32) (k0_hw528 : k0_chk528 i v6280), ∀ a, (k0_off1535 i v6280) a + S1x14x1x256.size a ≤ S64x14x24x256.size a := fun i v6280 k0_hw528 => k0_hw528

def k0_off1536 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6306 : Index := Scalar.indexCast v6178
  let c32_3381 : Index := 32#32
  ![v6306.toNat, 32]
def k0_off1537 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6308 : Index := Scalar.indexCast v6178
  let c33_3382 : Index := 33#32
  ![v6308.toNat, 33]
def k0_off1538 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6310 : Index := Scalar.indexCast v6178
  let c34_3383 : Index := 34#32
  ![v6310.toNat, 34]
def k0_off1539 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6312 : Index := Scalar.indexCast v6178
  let c35_3384 : Index := 35#32
  ![v6312.toNat, 35]
def k0_off1540 (i : grid0.Coords) (v6307 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6314 : Index := Scalar.indexCast v6180
  let c0_3385 : Index := 0#32
  let v6315 : Index := Scalar.indexCast v6307
  let c0_3386 : Index := 0#32
  ![v6314.toNat, 0, v6315.toNat, 0]

def k0_chk529 (i : grid0.Coords) (v6307 : BitVec 32) : Prop :=
  (∀ a, (k0_off1540 i v6307) a + S1x14x1x256.size a ≤ S64x14x24x256.size a)
theorem k0_off1540_inb : ∀ (i : grid0.Coords) (v6307 : BitVec 32) (k0_hw529 : k0_chk529 i v6307), ∀ a, (k0_off1540 i v6307) a + S1x14x1x256.size a ≤ S64x14x24x256.size a := fun i v6307 k0_hw529 => k0_hw529

def k0_off1541 (i : grid0.Coords) (v6309 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6318 : Index := Scalar.indexCast v6180
  let c0_3387 : Index := 0#32
  let v6319 : Index := Scalar.indexCast v6309
  let c0_3388 : Index := 0#32
  ![v6318.toNat, 0, v6319.toNat, 0]

def k0_chk530 (i : grid0.Coords) (v6309 : BitVec 32) : Prop :=
  (∀ a, (k0_off1541 i v6309) a + S1x14x1x256.size a ≤ S64x14x24x256.size a)
theorem k0_off1541_inb : ∀ (i : grid0.Coords) (v6309 : BitVec 32) (k0_hw530 : k0_chk530 i v6309), ∀ a, (k0_off1541 i v6309) a + S1x14x1x256.size a ≤ S64x14x24x256.size a := fun i v6309 k0_hw530 => k0_hw530

def k0_off1542 (i : grid0.Coords) (v6311 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6322 : Index := Scalar.indexCast v6180
  let c0_3389 : Index := 0#32
  let v6323 : Index := Scalar.indexCast v6311
  let c0_3390 : Index := 0#32
  ![v6322.toNat, 0, v6323.toNat, 0]

def k0_chk531 (i : grid0.Coords) (v6311 : BitVec 32) : Prop :=
  (∀ a, (k0_off1542 i v6311) a + S1x14x1x256.size a ≤ S64x14x24x256.size a)
theorem k0_off1542_inb : ∀ (i : grid0.Coords) (v6311 : BitVec 32) (k0_hw531 : k0_chk531 i v6311), ∀ a, (k0_off1542 i v6311) a + S1x14x1x256.size a ≤ S64x14x24x256.size a := fun i v6311 k0_hw531 => k0_hw531

def k0_off1543 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6337 : Index := Scalar.indexCast v6178
  let c36_3398 : Index := 36#32
  ![v6337.toNat, 36]
def k0_off1544 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6339 : Index := Scalar.indexCast v6178
  let c37_3399 : Index := 37#32
  ![v6339.toNat, 37]
def k0_off1545 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6341 : Index := Scalar.indexCast v6178
  let c38_3400 : Index := 38#32
  ![v6341.toNat, 38]
def k0_off1546 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6343 : Index := Scalar.indexCast v6178
  let c39_3401 : Index := 39#32
  ![v6343.toNat, 39]
def k0_off1547 (i : grid0.Coords) (v6338 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6345 : Index := Scalar.indexCast v6180
  let c0_3402 : Index := 0#32
  let v6346 : Index := Scalar.indexCast v6338
  let c0_3403 : Index := 0#32
  ![v6345.toNat, 0, v6346.toNat, 0]

def k0_chk532 (i : grid0.Coords) (v6338 : BitVec 32) : Prop :=
  (∀ a, (k0_off1547 i v6338) a + S1x14x1x256.size a ≤ S64x14x24x256.size a)
theorem k0_off1547_inb : ∀ (i : grid0.Coords) (v6338 : BitVec 32) (k0_hw532 : k0_chk532 i v6338), ∀ a, (k0_off1547 i v6338) a + S1x14x1x256.size a ≤ S64x14x24x256.size a := fun i v6338 k0_hw532 => k0_hw532

def k0_off1548 (i : grid0.Coords) (v6340 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6349 : Index := Scalar.indexCast v6180
  let c0_3404 : Index := 0#32
  let v6350 : Index := Scalar.indexCast v6340
  let c0_3405 : Index := 0#32
  ![v6349.toNat, 0, v6350.toNat, 0]

def k0_chk533 (i : grid0.Coords) (v6340 : BitVec 32) : Prop :=
  (∀ a, (k0_off1548 i v6340) a + S1x14x1x256.size a ≤ S64x14x24x256.size a)
theorem k0_off1548_inb : ∀ (i : grid0.Coords) (v6340 : BitVec 32) (k0_hw533 : k0_chk533 i v6340), ∀ a, (k0_off1548 i v6340) a + S1x14x1x256.size a ≤ S64x14x24x256.size a := fun i v6340 k0_hw533 => k0_hw533

def k0_off1549 (i : grid0.Coords) (v6342 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6353 : Index := Scalar.indexCast v6180
  let c0_3406 : Index := 0#32
  let v6354 : Index := Scalar.indexCast v6342
  let c0_3407 : Index := 0#32
  ![v6353.toNat, 0, v6354.toNat, 0]

def k0_chk534 (i : grid0.Coords) (v6342 : BitVec 32) : Prop :=
  (∀ a, (k0_off1549 i v6342) a + S1x14x1x256.size a ≤ S64x14x24x256.size a)
theorem k0_off1549_inb : ∀ (i : grid0.Coords) (v6342 : BitVec 32) (k0_hw534 : k0_chk534 i v6342), ∀ a, (k0_off1549 i v6342) a + S1x14x1x256.size a ≤ S64x14x24x256.size a := fun i v6342 k0_hw534 => k0_hw534

def k0_off1550 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6368 : Index := Scalar.indexCast v6178
  let c40_3415 : Index := 40#32
  ![v6368.toNat, 40]
def k0_off1551 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6370 : Index := Scalar.indexCast v6178
  let c41_3416 : Index := 41#32
  ![v6370.toNat, 41]
def k0_off1552 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6372 : Index := Scalar.indexCast v6178
  let c42_3417 : Index := 42#32
  ![v6372.toNat, 42]
def k0_off1553 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6374 : Index := Scalar.indexCast v6178
  let c43_3418 : Index := 43#32
  ![v6374.toNat, 43]
def k0_off1554 (i : grid0.Coords) (v6369 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6376 : Index := Scalar.indexCast v6180
  let c0_3419 : Index := 0#32
  let v6377 : Index := Scalar.indexCast v6369
  let c0_3420 : Index := 0#32
  ![v6376.toNat, 0, v6377.toNat, 0]

def k0_chk535 (i : grid0.Coords) (v6369 : BitVec 32) : Prop :=
  (∀ a, (k0_off1554 i v6369) a + S1x14x1x256.size a ≤ S64x14x24x256.size a)
theorem k0_off1554_inb : ∀ (i : grid0.Coords) (v6369 : BitVec 32) (k0_hw535 : k0_chk535 i v6369), ∀ a, (k0_off1554 i v6369) a + S1x14x1x256.size a ≤ S64x14x24x256.size a := fun i v6369 k0_hw535 => k0_hw535

def k0_off1555 (i : grid0.Coords) (v6371 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6380 : Index := Scalar.indexCast v6180
  let c0_3421 : Index := 0#32
  let v6381 : Index := Scalar.indexCast v6371
  let c0_3422 : Index := 0#32
  ![v6380.toNat, 0, v6381.toNat, 0]

def k0_chk536 (i : grid0.Coords) (v6371 : BitVec 32) : Prop :=
  (∀ a, (k0_off1555 i v6371) a + S1x14x1x256.size a ≤ S64x14x24x256.size a)
theorem k0_off1555_inb : ∀ (i : grid0.Coords) (v6371 : BitVec 32) (k0_hw536 : k0_chk536 i v6371), ∀ a, (k0_off1555 i v6371) a + S1x14x1x256.size a ≤ S64x14x24x256.size a := fun i v6371 k0_hw536 => k0_hw536

def k0_off1556 (i : grid0.Coords) (v6373 : BitVec 32) : Fin 4 → Nat :=
  let c32_i32_3311 : BitVec 32 := 32#32
  let arg0 : BitVec 32 := BitVec.ofNat 32 (i 0).val
  let c2_i32 : BitVec 32 := 2#32
  let v0 : BitVec 32 := Scalar.remsi arg0 c2_i32
  let v6179 : BitVec 32 := Scalar.muli c32_i32_3311 v0
  let c15_i32_3312 : BitVec 32 := 15#32
  let v6180 : BitVec 32 := Scalar.addi v6179 c15_i32_3312
  let v6384 : Index := Scalar.indexCast v6180
  let c0_3423 : Index := 0#32
  let v6385 : Index := Scalar.indexCast v6373
  let c0_3424 : Index := 0#32
  ![v6384.toNat, 0, v6385.toNat, 0]

def k0_chk537 (i : grid0.Coords) (v6373 : BitVec 32) : Prop :=
  (∀ a, (k0_off1556 i v6373) a + S1x14x1x256.size a ≤ S64x14x24x256.size a)
theorem k0_off1556_inb : ∀ (i : grid0.Coords) (v6373 : BitVec 32) (k0_hw537 : k0_chk537 i v6373), ∀ a, (k0_off1556 i v6373) a + S1x14x1x256.size a ≤ S64x14x24x256.size a := fun i v6373 k0_hw537 => k0_hw537

def k0_off1557 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6400 : Index := Scalar.indexCast v6178
  let c44_3432 : Index := 44#32
  ![v6400.toNat, 44]
def k0_off1558 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6402 : Index := Scalar.indexCast v6178
  let c45_3433 : Index := 45#32
  ![v6402.toNat, 45]
def k0_off1559 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6404 : Index := Scalar.indexCast v6178
  let c46_3434 : Index := 46#32
  ![v6404.toNat, 46]
def k0_off1560 (v6401 : BitVec 32) : Fin 4 → Nat :=
  let c15_3435 : Index := 15#32
  let v6406 : Index := Scalar.indexCast v6401
  let c0_3436 : Index := 0#32
  let c0_3437 : Index := 0#32
  ![15, v6406.toNat, 0, 0]

def k0_chk538 (v6401 : BitVec 32) : Prop :=
  (∀ a, (k0_off1560 v6401) a + S1x3x7x256.size a ≤ S32x14x7x256.size a)
theorem k0_off1560_inb : ∀ (v6401 : BitVec 32) (k0_hw538 : k0_chk538 v6401), ∀ a, (k0_off1560 v6401) a + S1x3x7x256.size a ≤ S32x14x7x256.size a := fun v6401 k0_hw538 => k0_hw538

def k0_off1561 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6422 : Index := Scalar.indexCast v6178
  let c47_3443 : Index := 47#32
  ![v6422.toNat, 47]
def k0_off1562 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6424 : Index := Scalar.indexCast v6178
  let c48_3444 : Index := 48#32
  ![v6424.toNat, 48]
def k0_off1563 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6426 : Index := Scalar.indexCast v6178
  let c49_3445 : Index := 49#32
  ![v6426.toNat, 49]
def k0_off1564 (v6423 : BitVec 32) : Fin 4 → Nat :=
  let c15_3446 : Index := 15#32
  let v6428 : Index := Scalar.indexCast v6423
  let c0_3447 : Index := 0#32
  let c0_3448 : Index := 0#32
  ![15, v6428.toNat, 0, 0]

def k0_chk539 (v6423 : BitVec 32) : Prop :=
  (∀ a, (k0_off1564 v6423) a + S1x3x7x256.size a ≤ S32x14x7x256.size a)
theorem k0_off1564_inb : ∀ (v6423 : BitVec 32) (k0_hw539 : k0_chk539 v6423), ∀ a, (k0_off1564 v6423) a + S1x3x7x256.size a ≤ S32x14x7x256.size a := fun v6423 k0_hw539 => k0_hw539

def k0_off1565 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6444 : Index := Scalar.indexCast v6178
  let c50_3454 : Index := 50#32
  ![v6444.toNat, 50]
def k0_off1566 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6446 : Index := Scalar.indexCast v6178
  let c51_3455 : Index := 51#32
  ![v6446.toNat, 51]
def k0_off1567 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6448 : Index := Scalar.indexCast v6178
  let c52_3456 : Index := 52#32
  ![v6448.toNat, 52]
def k0_off1568 (v6445 : BitVec 32) : Fin 4 → Nat :=
  let c15_3457 : Index := 15#32
  let v6450 : Index := Scalar.indexCast v6445
  let c0_3458 : Index := 0#32
  let c0_3459 : Index := 0#32
  ![15, v6450.toNat, 0, 0]

def k0_chk540 (v6445 : BitVec 32) : Prop :=
  (∀ a, (k0_off1568 v6445) a + S1x3x7x256.size a ≤ S32x14x7x256.size a)
theorem k0_off1568_inb : ∀ (v6445 : BitVec 32) (k0_hw540 : k0_chk540 v6445), ∀ a, (k0_off1568 v6445) a + S1x3x7x256.size a ≤ S32x14x7x256.size a := fun v6445 k0_hw540 => k0_hw540

def k0_off1569 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6466 : Index := Scalar.indexCast v6178
  let c53_3465 : Index := 53#32
  ![v6466.toNat, 53]
def k0_off1570 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6468 : Index := Scalar.indexCast v6178
  let c54_3466 : Index := 54#32
  ![v6468.toNat, 54]
def k0_off1571 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6470 : Index := Scalar.indexCast v6178
  let c55_3467 : Index := 55#32
  ![v6470.toNat, 55]
def k0_off1572 (v6467 : BitVec 32) : Fin 4 → Nat :=
  let c15_3468 : Index := 15#32
  let v6472 : Index := Scalar.indexCast v6467
  let c0_3469 : Index := 0#32
  let c0_3470 : Index := 0#32
  ![15, v6472.toNat, 0, 0]

def k0_chk541 (v6467 : BitVec 32) : Prop :=
  (∀ a, (k0_off1572 v6467) a + S1x3x7x256.size a ≤ S32x14x7x256.size a)
theorem k0_off1572_inb : ∀ (v6467 : BitVec 32) (k0_hw541 : k0_chk541 v6467), ∀ a, (k0_off1572 v6467) a + S1x3x7x256.size a ≤ S32x14x7x256.size a := fun v6467 k0_hw541 => k0_hw541

def k0_off1573 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6488 : Index := Scalar.indexCast v6178
  let c56_3476 : Index := 56#32
  ![v6488.toNat, 56]
def k0_off1574 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6490 : Index := Scalar.indexCast v6178
  let c57_3477 : Index := 57#32
  ![v6490.toNat, 57]
def k0_off1575 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6492 : Index := Scalar.indexCast v6178
  let c58_3478 : Index := 58#32
  ![v6492.toNat, 58]
def k0_off1576 (v6489 : BitVec 32) : Fin 4 → Nat :=
  let c15_3479 : Index := 15#32
  let v6494 : Index := Scalar.indexCast v6489
  let c0_3480 : Index := 0#32
  let c0_3481 : Index := 0#32
  ![15, v6494.toNat, 0, 0]

def k0_chk542 (v6489 : BitVec 32) : Prop :=
  (∀ a, (k0_off1576 v6489) a + S1x3x7x256.size a ≤ S32x14x7x256.size a)
theorem k0_off1576_inb : ∀ (v6489 : BitVec 32) (k0_hw542 : k0_chk542 v6489), ∀ a, (k0_off1576 v6489) a + S1x3x7x256.size a ≤ S32x14x7x256.size a := fun v6489 k0_hw542 => k0_hw542

def k0_off1577 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6510 : Index := Scalar.indexCast v6178
  let c59_3487 : Index := 59#32
  ![v6510.toNat, 59]
def k0_off1578 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6512 : Index := Scalar.indexCast v6178
  let c60_3488 : Index := 60#32
  ![v6512.toNat, 60]
def k0_off1579 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6514 : Index := Scalar.indexCast v6178
  let c61_3489 : Index := 61#32
  ![v6514.toNat, 61]
def k0_off1580 (v6511 : BitVec 32) : Fin 4 → Nat :=
  let c15_3490 : Index := 15#32
  let v6516 : Index := Scalar.indexCast v6511
  let c0_3491 : Index := 0#32
  let c0_3492 : Index := 0#32
  ![15, v6516.toNat, 0, 0]

def k0_chk543 (v6511 : BitVec 32) : Prop :=
  (∀ a, (k0_off1580 v6511) a + S1x3x7x256.size a ≤ S32x14x7x256.size a)
theorem k0_off1580_inb : ∀ (v6511 : BitVec 32) (k0_hw543 : k0_chk543 v6511), ∀ a, (k0_off1580 v6511) a + S1x3x7x256.size a ≤ S32x14x7x256.size a := fun v6511 k0_hw543 => k0_hw543

def k0_off1581 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6532 : Index := Scalar.indexCast v6178
  let c62_3498 : Index := 62#32
  ![v6532.toNat, 62]
def k0_off1582 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6534 : Index := Scalar.indexCast v6178
  let c63_3499 : Index := 63#32
  ![v6534.toNat, 63]
def k0_off1583 (i : grid0.Coords) : Fin 2 → Nat :=
  let c32_i32_3309 : BitVec 32 := 32#32
  let arg0 : BitVec 32 := BitVec.ofNat 32 (i 0).val
  let v6177 : BitVec 32 := Scalar.muli c32_i32_3309 arg0
  let c15_i32_3310 : BitVec 32 := 15#32
  let v6178 : BitVec 32 := Scalar.addi v6177 c15_i32_3310
  let v6536 : Index := Scalar.indexCast v6178
  let c64_3500 : Index := 64#32
  ![v6536.toNat, 64]
def k0_off1584 (v6533 : BitVec 32) : Fin 4 → Nat :=
  let c15_3501 : Index := 15#32
  let v6538 : Index := Scalar.indexCast v6533
  let c0_3502 : Index := 0#32
  let c0_3503 : Index := 0#32
  ![15, v6538.toNat, 0, 0]

def k0_chk544 (v6533 : BitVec 32) : Prop :=
  (∀ a, (k0_off1584 v6533) a + S1x3x7x256.size a ≤ S32x14x7x256.size a)
theorem k0_off1584_inb : ∀ (v6533 : BitVec 32) (k0_hw544 : k0_chk544 v6533), ∀ a, (k0_off1584 v6533) a + S1x3x7x256.size a ≤ S32x14x7x256.size a := fun v6533 k0_hw544 => k0_hw544

def k0_off1585 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6559 : Index := Scalar.indexCast v6555
  let c16_3514 : Index := 16#32
  ![v6559.toNat, 16]
def k0_off1586 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6561 : Index := Scalar.indexCast v6555
  let c17_3515 : Index := 17#32
  ![v6561.toNat, 17]
def k0_off1587 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6563 : Index := Scalar.indexCast v6555
  let c18_3516 : Index := 18#32
  ![v6563.toNat, 18]
def k0_off1588 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6565 : Index := Scalar.indexCast v6555
  let c19_3517 : Index := 19#32
  ![v6565.toNat, 19]
def k0_off1589 (i : grid0.Coords) (v6560 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6567 : Index := Scalar.indexCast v6557
  let c0_3518 : Index := 0#32
  let v6568 : Index := Scalar.indexCast v6560
  let c0_3519 : Index := 0#32
  ![v6567.toNat, 0, v6568.toNat, 0]

def k0_chk545 (i : grid0.Coords) (v6560 : BitVec 32) : Prop :=
  (∀ a, (k0_off1589 i v6560) a + S1x14x1x256.size a ≤ S64x14x24x256.size a)
theorem k0_off1589_inb : ∀ (i : grid0.Coords) (v6560 : BitVec 32) (k0_hw545 : k0_chk545 i v6560), ∀ a, (k0_off1589 i v6560) a + S1x14x1x256.size a ≤ S64x14x24x256.size a := fun i v6560 k0_hw545 => k0_hw545

def k0_off1590 (i : grid0.Coords) (v6562 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6571 : Index := Scalar.indexCast v6557
  let c0_3520 : Index := 0#32
  let v6572 : Index := Scalar.indexCast v6562
  let c0_3521 : Index := 0#32
  ![v6571.toNat, 0, v6572.toNat, 0]

def k0_chk546 (i : grid0.Coords) (v6562 : BitVec 32) : Prop :=
  (∀ a, (k0_off1590 i v6562) a + S1x14x1x256.size a ≤ S64x14x24x256.size a)
theorem k0_off1590_inb : ∀ (i : grid0.Coords) (v6562 : BitVec 32) (k0_hw546 : k0_chk546 i v6562), ∀ a, (k0_off1590 i v6562) a + S1x14x1x256.size a ≤ S64x14x24x256.size a := fun i v6562 k0_hw546 => k0_hw546

def k0_off1591 (i : grid0.Coords) (v6564 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6575 : Index := Scalar.indexCast v6557
  let c0_3522 : Index := 0#32
  let v6576 : Index := Scalar.indexCast v6564
  let c0_3523 : Index := 0#32
  ![v6575.toNat, 0, v6576.toNat, 0]

def k0_chk547 (i : grid0.Coords) (v6564 : BitVec 32) : Prop :=
  (∀ a, (k0_off1591 i v6564) a + S1x14x1x256.size a ≤ S64x14x24x256.size a)
theorem k0_off1591_inb : ∀ (i : grid0.Coords) (v6564 : BitVec 32) (k0_hw547 : k0_chk547 i v6564), ∀ a, (k0_off1591 i v6564) a + S1x14x1x256.size a ≤ S64x14x24x256.size a := fun i v6564 k0_hw547 => k0_hw547

def k0_off1592 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6590 : Index := Scalar.indexCast v6555
  let c20_3531 : Index := 20#32
  ![v6590.toNat, 20]
def k0_off1593 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6592 : Index := Scalar.indexCast v6555
  let c21_3532 : Index := 21#32
  ![v6592.toNat, 21]
def k0_off1594 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6594 : Index := Scalar.indexCast v6555
  let c22_3533 : Index := 22#32
  ![v6594.toNat, 22]
def k0_off1595 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6596 : Index := Scalar.indexCast v6555
  let c23_3534 : Index := 23#32
  ![v6596.toNat, 23]
def k0_off1596 (i : grid0.Coords) (v6591 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6598 : Index := Scalar.indexCast v6557
  let c0_3535 : Index := 0#32
  let v6599 : Index := Scalar.indexCast v6591
  let c0_3536 : Index := 0#32
  ![v6598.toNat, 0, v6599.toNat, 0]

def k0_chk548 (i : grid0.Coords) (v6591 : BitVec 32) : Prop :=
  (∀ a, (k0_off1596 i v6591) a + S1x14x1x256.size a ≤ S64x14x24x256.size a)
theorem k0_off1596_inb : ∀ (i : grid0.Coords) (v6591 : BitVec 32) (k0_hw548 : k0_chk548 i v6591), ∀ a, (k0_off1596 i v6591) a + S1x14x1x256.size a ≤ S64x14x24x256.size a := fun i v6591 k0_hw548 => k0_hw548

def k0_off1597 (i : grid0.Coords) (v6593 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6602 : Index := Scalar.indexCast v6557
  let c0_3537 : Index := 0#32
  let v6603 : Index := Scalar.indexCast v6593
  let c0_3538 : Index := 0#32
  ![v6602.toNat, 0, v6603.toNat, 0]

def k0_chk549 (i : grid0.Coords) (v6593 : BitVec 32) : Prop :=
  (∀ a, (k0_off1597 i v6593) a + S1x14x1x256.size a ≤ S64x14x24x256.size a)
theorem k0_off1597_inb : ∀ (i : grid0.Coords) (v6593 : BitVec 32) (k0_hw549 : k0_chk549 i v6593), ∀ a, (k0_off1597 i v6593) a + S1x14x1x256.size a ≤ S64x14x24x256.size a := fun i v6593 k0_hw549 => k0_hw549

def k0_off1598 (i : grid0.Coords) (v6595 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6606 : Index := Scalar.indexCast v6557
  let c0_3539 : Index := 0#32
  let v6607 : Index := Scalar.indexCast v6595
  let c0_3540 : Index := 0#32
  ![v6606.toNat, 0, v6607.toNat, 0]

def k0_chk550 (i : grid0.Coords) (v6595 : BitVec 32) : Prop :=
  (∀ a, (k0_off1598 i v6595) a + S1x14x1x256.size a ≤ S64x14x24x256.size a)
theorem k0_off1598_inb : ∀ (i : grid0.Coords) (v6595 : BitVec 32) (k0_hw550 : k0_chk550 i v6595), ∀ a, (k0_off1598 i v6595) a + S1x14x1x256.size a ≤ S64x14x24x256.size a := fun i v6595 k0_hw550 => k0_hw550

def k0_off1599 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6621 : Index := Scalar.indexCast v6555
  let c24_3548 : Index := 24#32
  ![v6621.toNat, 24]
def k0_off1600 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6623 : Index := Scalar.indexCast v6555
  let c25_3549 : Index := 25#32
  ![v6623.toNat, 25]
def k0_off1601 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6625 : Index := Scalar.indexCast v6555
  let c26_3550 : Index := 26#32
  ![v6625.toNat, 26]
def k0_off1602 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6627 : Index := Scalar.indexCast v6555
  let c27_3551 : Index := 27#32
  ![v6627.toNat, 27]
def k0_off1603 (i : grid0.Coords) (v6622 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6629 : Index := Scalar.indexCast v6557
  let c0_3552 : Index := 0#32
  let v6630 : Index := Scalar.indexCast v6622
  let c0_3553 : Index := 0#32
  ![v6629.toNat, 0, v6630.toNat, 0]

def k0_chk551 (i : grid0.Coords) (v6622 : BitVec 32) : Prop :=
  (∀ a, (k0_off1603 i v6622) a + S1x14x1x256.size a ≤ S64x14x24x256.size a)
theorem k0_off1603_inb : ∀ (i : grid0.Coords) (v6622 : BitVec 32) (k0_hw551 : k0_chk551 i v6622), ∀ a, (k0_off1603 i v6622) a + S1x14x1x256.size a ≤ S64x14x24x256.size a := fun i v6622 k0_hw551 => k0_hw551

def k0_off1604 (i : grid0.Coords) (v6624 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6633 : Index := Scalar.indexCast v6557
  let c0_3554 : Index := 0#32
  let v6634 : Index := Scalar.indexCast v6624
  let c0_3555 : Index := 0#32
  ![v6633.toNat, 0, v6634.toNat, 0]

def k0_chk552 (i : grid0.Coords) (v6624 : BitVec 32) : Prop :=
  (∀ a, (k0_off1604 i v6624) a + S1x14x1x256.size a ≤ S64x14x24x256.size a)
theorem k0_off1604_inb : ∀ (i : grid0.Coords) (v6624 : BitVec 32) (k0_hw552 : k0_chk552 i v6624), ∀ a, (k0_off1604 i v6624) a + S1x14x1x256.size a ≤ S64x14x24x256.size a := fun i v6624 k0_hw552 => k0_hw552

def k0_off1605 (i : grid0.Coords) (v6626 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6637 : Index := Scalar.indexCast v6557
  let c0_3556 : Index := 0#32
  let v6638 : Index := Scalar.indexCast v6626
  let c0_3557 : Index := 0#32
  ![v6637.toNat, 0, v6638.toNat, 0]

def k0_chk553 (i : grid0.Coords) (v6626 : BitVec 32) : Prop :=
  (∀ a, (k0_off1605 i v6626) a + S1x14x1x256.size a ≤ S64x14x24x256.size a)
theorem k0_off1605_inb : ∀ (i : grid0.Coords) (v6626 : BitVec 32) (k0_hw553 : k0_chk553 i v6626), ∀ a, (k0_off1605 i v6626) a + S1x14x1x256.size a ≤ S64x14x24x256.size a := fun i v6626 k0_hw553 => k0_hw553

def k0_off1606 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6652 : Index := Scalar.indexCast v6555
  let c28_3565 : Index := 28#32
  ![v6652.toNat, 28]
def k0_off1607 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6654 : Index := Scalar.indexCast v6555
  let c29_3566 : Index := 29#32
  ![v6654.toNat, 29]
def k0_off1608 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6656 : Index := Scalar.indexCast v6555
  let c30_3567 : Index := 30#32
  ![v6656.toNat, 30]
def k0_off1609 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6658 : Index := Scalar.indexCast v6555
  let c31_3568 : Index := 31#32
  ![v6658.toNat, 31]
def k0_off1610 (i : grid0.Coords) (v6653 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6660 : Index := Scalar.indexCast v6557
  let c0_3569 : Index := 0#32
  let v6661 : Index := Scalar.indexCast v6653
  let c0_3570 : Index := 0#32
  ![v6660.toNat, 0, v6661.toNat, 0]

def k0_chk554 (i : grid0.Coords) (v6653 : BitVec 32) : Prop :=
  (∀ a, (k0_off1610 i v6653) a + S1x14x1x256.size a ≤ S64x14x24x256.size a)
theorem k0_off1610_inb : ∀ (i : grid0.Coords) (v6653 : BitVec 32) (k0_hw554 : k0_chk554 i v6653), ∀ a, (k0_off1610 i v6653) a + S1x14x1x256.size a ≤ S64x14x24x256.size a := fun i v6653 k0_hw554 => k0_hw554

def k0_off1611 (i : grid0.Coords) (v6655 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6664 : Index := Scalar.indexCast v6557
  let c0_3571 : Index := 0#32
  let v6665 : Index := Scalar.indexCast v6655
  let c0_3572 : Index := 0#32
  ![v6664.toNat, 0, v6665.toNat, 0]

def k0_chk555 (i : grid0.Coords) (v6655 : BitVec 32) : Prop :=
  (∀ a, (k0_off1611 i v6655) a + S1x14x1x256.size a ≤ S64x14x24x256.size a)
theorem k0_off1611_inb : ∀ (i : grid0.Coords) (v6655 : BitVec 32) (k0_hw555 : k0_chk555 i v6655), ∀ a, (k0_off1611 i v6655) a + S1x14x1x256.size a ≤ S64x14x24x256.size a := fun i v6655 k0_hw555 => k0_hw555

def k0_off1612 (i : grid0.Coords) (v6657 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6668 : Index := Scalar.indexCast v6557
  let c0_3573 : Index := 0#32
  let v6669 : Index := Scalar.indexCast v6657
  let c0_3574 : Index := 0#32
  ![v6668.toNat, 0, v6669.toNat, 0]

def k0_chk556 (i : grid0.Coords) (v6657 : BitVec 32) : Prop :=
  (∀ a, (k0_off1612 i v6657) a + S1x14x1x256.size a ≤ S64x14x24x256.size a)
theorem k0_off1612_inb : ∀ (i : grid0.Coords) (v6657 : BitVec 32) (k0_hw556 : k0_chk556 i v6657), ∀ a, (k0_off1612 i v6657) a + S1x14x1x256.size a ≤ S64x14x24x256.size a := fun i v6657 k0_hw556 => k0_hw556

def k0_off1613 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6683 : Index := Scalar.indexCast v6555
  let c32_3582 : Index := 32#32
  ![v6683.toNat, 32]
def k0_off1614 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6685 : Index := Scalar.indexCast v6555
  let c33_3583 : Index := 33#32
  ![v6685.toNat, 33]
def k0_off1615 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6687 : Index := Scalar.indexCast v6555
  let c34_3584 : Index := 34#32
  ![v6687.toNat, 34]
def k0_off1616 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6689 : Index := Scalar.indexCast v6555
  let c35_3585 : Index := 35#32
  ![v6689.toNat, 35]
def k0_off1617 (i : grid0.Coords) (v6684 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6691 : Index := Scalar.indexCast v6557
  let c0_3586 : Index := 0#32
  let v6692 : Index := Scalar.indexCast v6684
  let c0_3587 : Index := 0#32
  ![v6691.toNat, 0, v6692.toNat, 0]

def k0_chk557 (i : grid0.Coords) (v6684 : BitVec 32) : Prop :=
  (∀ a, (k0_off1617 i v6684) a + S1x14x1x256.size a ≤ S64x14x24x256.size a)
theorem k0_off1617_inb : ∀ (i : grid0.Coords) (v6684 : BitVec 32) (k0_hw557 : k0_chk557 i v6684), ∀ a, (k0_off1617 i v6684) a + S1x14x1x256.size a ≤ S64x14x24x256.size a := fun i v6684 k0_hw557 => k0_hw557

def k0_off1618 (i : grid0.Coords) (v6686 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6695 : Index := Scalar.indexCast v6557
  let c0_3588 : Index := 0#32
  let v6696 : Index := Scalar.indexCast v6686
  let c0_3589 : Index := 0#32
  ![v6695.toNat, 0, v6696.toNat, 0]

def k0_chk558 (i : grid0.Coords) (v6686 : BitVec 32) : Prop :=
  (∀ a, (k0_off1618 i v6686) a + S1x14x1x256.size a ≤ S64x14x24x256.size a)
theorem k0_off1618_inb : ∀ (i : grid0.Coords) (v6686 : BitVec 32) (k0_hw558 : k0_chk558 i v6686), ∀ a, (k0_off1618 i v6686) a + S1x14x1x256.size a ≤ S64x14x24x256.size a := fun i v6686 k0_hw558 => k0_hw558

def k0_off1619 (i : grid0.Coords) (v6688 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6699 : Index := Scalar.indexCast v6557
  let c0_3590 : Index := 0#32
  let v6700 : Index := Scalar.indexCast v6688
  let c0_3591 : Index := 0#32
  ![v6699.toNat, 0, v6700.toNat, 0]

def k0_chk559 (i : grid0.Coords) (v6688 : BitVec 32) : Prop :=
  (∀ a, (k0_off1619 i v6688) a + S1x14x1x256.size a ≤ S64x14x24x256.size a)
theorem k0_off1619_inb : ∀ (i : grid0.Coords) (v6688 : BitVec 32) (k0_hw559 : k0_chk559 i v6688), ∀ a, (k0_off1619 i v6688) a + S1x14x1x256.size a ≤ S64x14x24x256.size a := fun i v6688 k0_hw559 => k0_hw559

def k0_off1620 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6714 : Index := Scalar.indexCast v6555
  let c36_3599 : Index := 36#32
  ![v6714.toNat, 36]
def k0_off1621 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6716 : Index := Scalar.indexCast v6555
  let c37_3600 : Index := 37#32
  ![v6716.toNat, 37]
def k0_off1622 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6718 : Index := Scalar.indexCast v6555
  let c38_3601 : Index := 38#32
  ![v6718.toNat, 38]
def k0_off1623 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6720 : Index := Scalar.indexCast v6555
  let c39_3602 : Index := 39#32
  ![v6720.toNat, 39]
def k0_off1624 (i : grid0.Coords) (v6715 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6722 : Index := Scalar.indexCast v6557
  let c0_3603 : Index := 0#32
  let v6723 : Index := Scalar.indexCast v6715
  let c0_3604 : Index := 0#32
  ![v6722.toNat, 0, v6723.toNat, 0]

def k0_chk560 (i : grid0.Coords) (v6715 : BitVec 32) : Prop :=
  (∀ a, (k0_off1624 i v6715) a + S1x14x1x256.size a ≤ S64x14x24x256.size a)
theorem k0_off1624_inb : ∀ (i : grid0.Coords) (v6715 : BitVec 32) (k0_hw560 : k0_chk560 i v6715), ∀ a, (k0_off1624 i v6715) a + S1x14x1x256.size a ≤ S64x14x24x256.size a := fun i v6715 k0_hw560 => k0_hw560

def k0_off1625 (i : grid0.Coords) (v6717 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6726 : Index := Scalar.indexCast v6557
  let c0_3605 : Index := 0#32
  let v6727 : Index := Scalar.indexCast v6717
  let c0_3606 : Index := 0#32
  ![v6726.toNat, 0, v6727.toNat, 0]

def k0_chk561 (i : grid0.Coords) (v6717 : BitVec 32) : Prop :=
  (∀ a, (k0_off1625 i v6717) a + S1x14x1x256.size a ≤ S64x14x24x256.size a)
theorem k0_off1625_inb : ∀ (i : grid0.Coords) (v6717 : BitVec 32) (k0_hw561 : k0_chk561 i v6717), ∀ a, (k0_off1625 i v6717) a + S1x14x1x256.size a ≤ S64x14x24x256.size a := fun i v6717 k0_hw561 => k0_hw561

def k0_off1626 (i : grid0.Coords) (v6719 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6730 : Index := Scalar.indexCast v6557
  let c0_3607 : Index := 0#32
  let v6731 : Index := Scalar.indexCast v6719
  let c0_3608 : Index := 0#32
  ![v6730.toNat, 0, v6731.toNat, 0]

def k0_chk562 (i : grid0.Coords) (v6719 : BitVec 32) : Prop :=
  (∀ a, (k0_off1626 i v6719) a + S1x14x1x256.size a ≤ S64x14x24x256.size a)
theorem k0_off1626_inb : ∀ (i : grid0.Coords) (v6719 : BitVec 32) (k0_hw562 : k0_chk562 i v6719), ∀ a, (k0_off1626 i v6719) a + S1x14x1x256.size a ≤ S64x14x24x256.size a := fun i v6719 k0_hw562 => k0_hw562

def k0_off1627 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6745 : Index := Scalar.indexCast v6555
  let c40_3616 : Index := 40#32
  ![v6745.toNat, 40]
def k0_off1628 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6747 : Index := Scalar.indexCast v6555
  let c41_3617 : Index := 41#32
  ![v6747.toNat, 41]
def k0_off1629 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6749 : Index := Scalar.indexCast v6555
  let c42_3618 : Index := 42#32
  ![v6749.toNat, 42]
def k0_off1630 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6751 : Index := Scalar.indexCast v6555
  let c43_3619 : Index := 43#32
  ![v6751.toNat, 43]
def k0_off1631 (i : grid0.Coords) (v6746 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6753 : Index := Scalar.indexCast v6557
  let c0_3620 : Index := 0#32
  let v6754 : Index := Scalar.indexCast v6746
  let c0_3621 : Index := 0#32
  ![v6753.toNat, 0, v6754.toNat, 0]

def k0_chk563 (i : grid0.Coords) (v6746 : BitVec 32) : Prop :=
  (∀ a, (k0_off1631 i v6746) a + S1x14x1x256.size a ≤ S64x14x24x256.size a)
theorem k0_off1631_inb : ∀ (i : grid0.Coords) (v6746 : BitVec 32) (k0_hw563 : k0_chk563 i v6746), ∀ a, (k0_off1631 i v6746) a + S1x14x1x256.size a ≤ S64x14x24x256.size a := fun i v6746 k0_hw563 => k0_hw563

def k0_off1632 (i : grid0.Coords) (v6748 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6757 : Index := Scalar.indexCast v6557
  let c0_3622 : Index := 0#32
  let v6758 : Index := Scalar.indexCast v6748
  let c0_3623 : Index := 0#32
  ![v6757.toNat, 0, v6758.toNat, 0]

def k0_chk564 (i : grid0.Coords) (v6748 : BitVec 32) : Prop :=
  (∀ a, (k0_off1632 i v6748) a + S1x14x1x256.size a ≤ S64x14x24x256.size a)
theorem k0_off1632_inb : ∀ (i : grid0.Coords) (v6748 : BitVec 32) (k0_hw564 : k0_chk564 i v6748), ∀ a, (k0_off1632 i v6748) a + S1x14x1x256.size a ≤ S64x14x24x256.size a := fun i v6748 k0_hw564 => k0_hw564

def k0_off1633 (i : grid0.Coords) (v6750 : BitVec 32) : Fin 4 → Nat :=
  let c32_i32_3511 : BitVec 32 := 32#32
  let arg0 : BitVec 32 := BitVec.ofNat 32 (i 0).val
  let c2_i32 : BitVec 32 := 2#32
  let v0 : BitVec 32 := Scalar.remsi arg0 c2_i32
  let v6556 : BitVec 32 := Scalar.muli c32_i32_3511 v0
  let c16_i32_3512 : BitVec 32 := 16#32
  let v6557 : BitVec 32 := Scalar.addi v6556 c16_i32_3512
  let v6761 : Index := Scalar.indexCast v6557
  let c0_3624 : Index := 0#32
  let v6762 : Index := Scalar.indexCast v6750
  let c0_3625 : Index := 0#32
  ![v6761.toNat, 0, v6762.toNat, 0]

def k0_chk565 (i : grid0.Coords) (v6750 : BitVec 32) : Prop :=
  (∀ a, (k0_off1633 i v6750) a + S1x14x1x256.size a ≤ S64x14x24x256.size a)
theorem k0_off1633_inb : ∀ (i : grid0.Coords) (v6750 : BitVec 32) (k0_hw565 : k0_chk565 i v6750), ∀ a, (k0_off1633 i v6750) a + S1x14x1x256.size a ≤ S64x14x24x256.size a := fun i v6750 k0_hw565 => k0_hw565

def k0_off1634 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6777 : Index := Scalar.indexCast v6555
  let c44_3633 : Index := 44#32
  ![v6777.toNat, 44]
def k0_off1635 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6779 : Index := Scalar.indexCast v6555
  let c45_3634 : Index := 45#32
  ![v6779.toNat, 45]
def k0_off1636 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6781 : Index := Scalar.indexCast v6555
  let c46_3635 : Index := 46#32
  ![v6781.toNat, 46]
def k0_off1637 (v6778 : BitVec 32) : Fin 4 → Nat :=
  let c16_3636 : Index := 16#32
  let v6783 : Index := Scalar.indexCast v6778
  let c0_3637 : Index := 0#32
  let c0_3638 : Index := 0#32
  ![16, v6783.toNat, 0, 0]

def k0_chk566 (v6778 : BitVec 32) : Prop :=
  (∀ a, (k0_off1637 v6778) a + S1x3x7x256.size a ≤ S32x14x7x256.size a)
theorem k0_off1637_inb : ∀ (v6778 : BitVec 32) (k0_hw566 : k0_chk566 v6778), ∀ a, (k0_off1637 v6778) a + S1x3x7x256.size a ≤ S32x14x7x256.size a := fun v6778 k0_hw566 => k0_hw566

def k0_off1638 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6799 : Index := Scalar.indexCast v6555
  let c47_3644 : Index := 47#32
  ![v6799.toNat, 47]
def k0_off1639 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6801 : Index := Scalar.indexCast v6555
  let c48_3645 : Index := 48#32
  ![v6801.toNat, 48]
def k0_off1640 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6803 : Index := Scalar.indexCast v6555
  let c49_3646 : Index := 49#32
  ![v6803.toNat, 49]
def k0_off1641 (v6800 : BitVec 32) : Fin 4 → Nat :=
  let c16_3647 : Index := 16#32
  let v6805 : Index := Scalar.indexCast v6800
  let c0_3648 : Index := 0#32
  let c0_3649 : Index := 0#32
  ![16, v6805.toNat, 0, 0]

def k0_chk567 (v6800 : BitVec 32) : Prop :=
  (∀ a, (k0_off1641 v6800) a + S1x3x7x256.size a ≤ S32x14x7x256.size a)
theorem k0_off1641_inb : ∀ (v6800 : BitVec 32) (k0_hw567 : k0_chk567 v6800), ∀ a, (k0_off1641 v6800) a + S1x3x7x256.size a ≤ S32x14x7x256.size a := fun v6800 k0_hw567 => k0_hw567

def k0_off1642 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6821 : Index := Scalar.indexCast v6555
  let c50_3655 : Index := 50#32
  ![v6821.toNat, 50]
def k0_off1643 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6823 : Index := Scalar.indexCast v6555
  let c51_3656 : Index := 51#32
  ![v6823.toNat, 51]
def k0_off1644 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6825 : Index := Scalar.indexCast v6555
  let c52_3657 : Index := 52#32
  ![v6825.toNat, 52]
def k0_off1645 (v6822 : BitVec 32) : Fin 4 → Nat :=
  let c16_3658 : Index := 16#32
  let v6827 : Index := Scalar.indexCast v6822
  let c0_3659 : Index := 0#32
  let c0_3660 : Index := 0#32
  ![16, v6827.toNat, 0, 0]

def k0_chk568 (v6822 : BitVec 32) : Prop :=
  (∀ a, (k0_off1645 v6822) a + S1x3x7x256.size a ≤ S32x14x7x256.size a)
theorem k0_off1645_inb : ∀ (v6822 : BitVec 32) (k0_hw568 : k0_chk568 v6822), ∀ a, (k0_off1645 v6822) a + S1x3x7x256.size a ≤ S32x14x7x256.size a := fun v6822 k0_hw568 => k0_hw568

def k0_off1646 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6843 : Index := Scalar.indexCast v6555
  let c53_3666 : Index := 53#32
  ![v6843.toNat, 53]
def k0_off1647 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6845 : Index := Scalar.indexCast v6555
  let c54_3667 : Index := 54#32
  ![v6845.toNat, 54]
def k0_off1648 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6847 : Index := Scalar.indexCast v6555
  let c55_3668 : Index := 55#32
  ![v6847.toNat, 55]
def k0_off1649 (v6844 : BitVec 32) : Fin 4 → Nat :=
  let c16_3669 : Index := 16#32
  let v6849 : Index := Scalar.indexCast v6844
  let c0_3670 : Index := 0#32
  let c0_3671 : Index := 0#32
  ![16, v6849.toNat, 0, 0]

def k0_chk569 (v6844 : BitVec 32) : Prop :=
  (∀ a, (k0_off1649 v6844) a + S1x3x7x256.size a ≤ S32x14x7x256.size a)
theorem k0_off1649_inb : ∀ (v6844 : BitVec 32) (k0_hw569 : k0_chk569 v6844), ∀ a, (k0_off1649 v6844) a + S1x3x7x256.size a ≤ S32x14x7x256.size a := fun v6844 k0_hw569 => k0_hw569

def k0_off1650 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6865 : Index := Scalar.indexCast v6555
  let c56_3677 : Index := 56#32
  ![v6865.toNat, 56]
def k0_off1651 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6867 : Index := Scalar.indexCast v6555
  let c57_3678 : Index := 57#32
  ![v6867.toNat, 57]
def k0_off1652 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6869 : Index := Scalar.indexCast v6555
  let c58_3679 : Index := 58#32
  ![v6869.toNat, 58]
def k0_off1653 (v6866 : BitVec 32) : Fin 4 → Nat :=
  let c16_3680 : Index := 16#32
  let v6871 : Index := Scalar.indexCast v6866
  let c0_3681 : Index := 0#32
  let c0_3682 : Index := 0#32
  ![16, v6871.toNat, 0, 0]

def k0_chk570 (v6866 : BitVec 32) : Prop :=
  (∀ a, (k0_off1653 v6866) a + S1x3x7x256.size a ≤ S32x14x7x256.size a)
theorem k0_off1653_inb : ∀ (v6866 : BitVec 32) (k0_hw570 : k0_chk570 v6866), ∀ a, (k0_off1653 v6866) a + S1x3x7x256.size a ≤ S32x14x7x256.size a := fun v6866 k0_hw570 => k0_hw570

def k0_off1654 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6887 : Index := Scalar.indexCast v6555
  let c59_3688 : Index := 59#32
  ![v6887.toNat, 59]
def k0_off1655 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6889 : Index := Scalar.indexCast v6555
  let c60_3689 : Index := 60#32
  ![v6889.toNat, 60]
def k0_off1656 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6891 : Index := Scalar.indexCast v6555
  let c61_3690 : Index := 61#32
  ![v6891.toNat, 61]
def k0_off1657 (v6888 : BitVec 32) : Fin 4 → Nat :=
  let c16_3691 : Index := 16#32
  let v6893 : Index := Scalar.indexCast v6888
  let c0_3692 : Index := 0#32
  let c0_3693 : Index := 0#32
  ![16, v6893.toNat, 0, 0]

def k0_chk571 (v6888 : BitVec 32) : Prop :=
  (∀ a, (k0_off1657 v6888) a + S1x3x7x256.size a ≤ S32x14x7x256.size a)
theorem k0_off1657_inb : ∀ (v6888 : BitVec 32) (k0_hw571 : k0_chk571 v6888), ∀ a, (k0_off1657 v6888) a + S1x3x7x256.size a ≤ S32x14x7x256.size a := fun v6888 k0_hw571 => k0_hw571

def k0_off1658 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6909 : Index := Scalar.indexCast v6555
  let c62_3699 : Index := 62#32
  ![v6909.toNat, 62]
def k0_off1659 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6911 : Index := Scalar.indexCast v6555
  let c63_3700 : Index := 63#32
  ![v6911.toNat, 63]
def k0_off1660 (i : grid0.Coords) : Fin 2 → Nat :=
  let c32_i32_3509 : BitVec 32 := 32#32
  let arg0 : BitVec 32 := BitVec.ofNat 32 (i 0).val
  let v6554 : BitVec 32 := Scalar.muli c32_i32_3509 arg0
  let c16_i32_3510 : BitVec 32 := 16#32
  let v6555 : BitVec 32 := Scalar.addi v6554 c16_i32_3510
  let v6913 : Index := Scalar.indexCast v6555
  let c64_3701 : Index := 64#32
  ![v6913.toNat, 64]
def k0_off1661 (v6910 : BitVec 32) : Fin 4 → Nat :=
  let c16_3702 : Index := 16#32
  let v6915 : Index := Scalar.indexCast v6910
  let c0_3703 : Index := 0#32
  let c0_3704 : Index := 0#32
  ![16, v6915.toNat, 0, 0]

def k0_chk572 (v6910 : BitVec 32) : Prop :=
  (∀ a, (k0_off1661 v6910) a + S1x3x7x256.size a ≤ S32x14x7x256.size a)
theorem k0_off1661_inb : ∀ (v6910 : BitVec 32) (k0_hw572 : k0_chk572 v6910), ∀ a, (k0_off1661 v6910) a + S1x3x7x256.size a ≤ S32x14x7x256.size a := fun v6910 k0_hw572 => k0_hw572

def k0_off1662 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6936 : Index := Scalar.indexCast v6932
  let c16_3715 : Index := 16#32
  ![v6936.toNat, 16]
def k0_off1663 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6938 : Index := Scalar.indexCast v6932
  let c17_3716 : Index := 17#32
  ![v6938.toNat, 17]
def k0_off1664 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6940 : Index := Scalar.indexCast v6932
  let c18_3717 : Index := 18#32
  ![v6940.toNat, 18]
def k0_off1665 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6942 : Index := Scalar.indexCast v6932
  let c19_3718 : Index := 19#32
  ![v6942.toNat, 19]
def k0_off1666 (i : grid0.Coords) (v6937 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v6944 : Index := Scalar.indexCast v6934
  let c0_3719 : Index := 0#32
  let v6945 : Index := Scalar.indexCast v6937
  let c0_3720 : Index := 0#32
  ![v6944.toNat, 0, v6945.toNat, 0]

def k0_chk573 (i : grid0.Coords) (v6937 : BitVec 32) : Prop :=
  (∀ a, (k0_off1666 i v6937) a + S1x14x1x256.size a ≤ S64x14x24x256.size a)
theorem k0_off1666_inb : ∀ (i : grid0.Coords) (v6937 : BitVec 32) (k0_hw573 : k0_chk573 i v6937), ∀ a, (k0_off1666 i v6937) a + S1x14x1x256.size a ≤ S64x14x24x256.size a := fun i v6937 k0_hw573 => k0_hw573

def k0_off1667 (i : grid0.Coords) (v6939 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v6948 : Index := Scalar.indexCast v6934
  let c0_3721 : Index := 0#32
  let v6949 : Index := Scalar.indexCast v6939
  let c0_3722 : Index := 0#32
  ![v6948.toNat, 0, v6949.toNat, 0]

def k0_chk574 (i : grid0.Coords) (v6939 : BitVec 32) : Prop :=
  (∀ a, (k0_off1667 i v6939) a + S1x14x1x256.size a ≤ S64x14x24x256.size a)
theorem k0_off1667_inb : ∀ (i : grid0.Coords) (v6939 : BitVec 32) (k0_hw574 : k0_chk574 i v6939), ∀ a, (k0_off1667 i v6939) a + S1x14x1x256.size a ≤ S64x14x24x256.size a := fun i v6939 k0_hw574 => k0_hw574

def k0_off1668 (i : grid0.Coords) (v6941 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v6952 : Index := Scalar.indexCast v6934
  let c0_3723 : Index := 0#32
  let v6953 : Index := Scalar.indexCast v6941
  let c0_3724 : Index := 0#32
  ![v6952.toNat, 0, v6953.toNat, 0]

def k0_chk575 (i : grid0.Coords) (v6941 : BitVec 32) : Prop :=
  (∀ a, (k0_off1668 i v6941) a + S1x14x1x256.size a ≤ S64x14x24x256.size a)
theorem k0_off1668_inb : ∀ (i : grid0.Coords) (v6941 : BitVec 32) (k0_hw575 : k0_chk575 i v6941), ∀ a, (k0_off1668 i v6941) a + S1x14x1x256.size a ≤ S64x14x24x256.size a := fun i v6941 k0_hw575 => k0_hw575

def k0_off1669 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6967 : Index := Scalar.indexCast v6932
  let c20_3732 : Index := 20#32
  ![v6967.toNat, 20]
def k0_off1670 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6969 : Index := Scalar.indexCast v6932
  let c21_3733 : Index := 21#32
  ![v6969.toNat, 21]
def k0_off1671 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6971 : Index := Scalar.indexCast v6932
  let c22_3734 : Index := 22#32
  ![v6971.toNat, 22]
def k0_off1672 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6973 : Index := Scalar.indexCast v6932
  let c23_3735 : Index := 23#32
  ![v6973.toNat, 23]
def k0_off1673 (i : grid0.Coords) (v6968 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v6975 : Index := Scalar.indexCast v6934
  let c0_3736 : Index := 0#32
  let v6976 : Index := Scalar.indexCast v6968
  let c0_3737 : Index := 0#32
  ![v6975.toNat, 0, v6976.toNat, 0]

def k0_chk576 (i : grid0.Coords) (v6968 : BitVec 32) : Prop :=
  (∀ a, (k0_off1673 i v6968) a + S1x14x1x256.size a ≤ S64x14x24x256.size a)
theorem k0_off1673_inb : ∀ (i : grid0.Coords) (v6968 : BitVec 32) (k0_hw576 : k0_chk576 i v6968), ∀ a, (k0_off1673 i v6968) a + S1x14x1x256.size a ≤ S64x14x24x256.size a := fun i v6968 k0_hw576 => k0_hw576

def k0_off1674 (i : grid0.Coords) (v6970 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v6979 : Index := Scalar.indexCast v6934
  let c0_3738 : Index := 0#32
  let v6980 : Index := Scalar.indexCast v6970
  let c0_3739 : Index := 0#32
  ![v6979.toNat, 0, v6980.toNat, 0]

def k0_chk577 (i : grid0.Coords) (v6970 : BitVec 32) : Prop :=
  (∀ a, (k0_off1674 i v6970) a + S1x14x1x256.size a ≤ S64x14x24x256.size a)
theorem k0_off1674_inb : ∀ (i : grid0.Coords) (v6970 : BitVec 32) (k0_hw577 : k0_chk577 i v6970), ∀ a, (k0_off1674 i v6970) a + S1x14x1x256.size a ≤ S64x14x24x256.size a := fun i v6970 k0_hw577 => k0_hw577

def k0_off1675 (i : grid0.Coords) (v6972 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v6983 : Index := Scalar.indexCast v6934
  let c0_3740 : Index := 0#32
  let v6984 : Index := Scalar.indexCast v6972
  let c0_3741 : Index := 0#32
  ![v6983.toNat, 0, v6984.toNat, 0]

def k0_chk578 (i : grid0.Coords) (v6972 : BitVec 32) : Prop :=
  (∀ a, (k0_off1675 i v6972) a + S1x14x1x256.size a ≤ S64x14x24x256.size a)
theorem k0_off1675_inb : ∀ (i : grid0.Coords) (v6972 : BitVec 32) (k0_hw578 : k0_chk578 i v6972), ∀ a, (k0_off1675 i v6972) a + S1x14x1x256.size a ≤ S64x14x24x256.size a := fun i v6972 k0_hw578 => k0_hw578

def k0_off1676 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v6998 : Index := Scalar.indexCast v6932
  let c24_3749 : Index := 24#32
  ![v6998.toNat, 24]
def k0_off1677 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7000 : Index := Scalar.indexCast v6932
  let c25_3750 : Index := 25#32
  ![v7000.toNat, 25]
def k0_off1678 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7002 : Index := Scalar.indexCast v6932
  let c26_3751 : Index := 26#32
  ![v7002.toNat, 26]
def k0_off1679 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7004 : Index := Scalar.indexCast v6932
  let c27_3752 : Index := 27#32
  ![v7004.toNat, 27]
def k0_off1680 (i : grid0.Coords) (v6999 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7006 : Index := Scalar.indexCast v6934
  let c0_3753 : Index := 0#32
  let v7007 : Index := Scalar.indexCast v6999
  let c0_3754 : Index := 0#32
  ![v7006.toNat, 0, v7007.toNat, 0]

def k0_chk579 (i : grid0.Coords) (v6999 : BitVec 32) : Prop :=
  (∀ a, (k0_off1680 i v6999) a + S1x14x1x256.size a ≤ S64x14x24x256.size a)
theorem k0_off1680_inb : ∀ (i : grid0.Coords) (v6999 : BitVec 32) (k0_hw579 : k0_chk579 i v6999), ∀ a, (k0_off1680 i v6999) a + S1x14x1x256.size a ≤ S64x14x24x256.size a := fun i v6999 k0_hw579 => k0_hw579

def k0_off1681 (i : grid0.Coords) (v7001 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7010 : Index := Scalar.indexCast v6934
  let c0_3755 : Index := 0#32
  let v7011 : Index := Scalar.indexCast v7001
  let c0_3756 : Index := 0#32
  ![v7010.toNat, 0, v7011.toNat, 0]

def k0_chk580 (i : grid0.Coords) (v7001 : BitVec 32) : Prop :=
  (∀ a, (k0_off1681 i v7001) a + S1x14x1x256.size a ≤ S64x14x24x256.size a)
theorem k0_off1681_inb : ∀ (i : grid0.Coords) (v7001 : BitVec 32) (k0_hw580 : k0_chk580 i v7001), ∀ a, (k0_off1681 i v7001) a + S1x14x1x256.size a ≤ S64x14x24x256.size a := fun i v7001 k0_hw580 => k0_hw580

def k0_off1682 (i : grid0.Coords) (v7003 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7014 : Index := Scalar.indexCast v6934
  let c0_3757 : Index := 0#32
  let v7015 : Index := Scalar.indexCast v7003
  let c0_3758 : Index := 0#32
  ![v7014.toNat, 0, v7015.toNat, 0]

def k0_chk581 (i : grid0.Coords) (v7003 : BitVec 32) : Prop :=
  (∀ a, (k0_off1682 i v7003) a + S1x14x1x256.size a ≤ S64x14x24x256.size a)
theorem k0_off1682_inb : ∀ (i : grid0.Coords) (v7003 : BitVec 32) (k0_hw581 : k0_chk581 i v7003), ∀ a, (k0_off1682 i v7003) a + S1x14x1x256.size a ≤ S64x14x24x256.size a := fun i v7003 k0_hw581 => k0_hw581

def k0_off1683 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7029 : Index := Scalar.indexCast v6932
  let c28_3766 : Index := 28#32
  ![v7029.toNat, 28]
def k0_off1684 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7031 : Index := Scalar.indexCast v6932
  let c29_3767 : Index := 29#32
  ![v7031.toNat, 29]
def k0_off1685 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7033 : Index := Scalar.indexCast v6932
  let c30_3768 : Index := 30#32
  ![v7033.toNat, 30]
def k0_off1686 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7035 : Index := Scalar.indexCast v6932
  let c31_3769 : Index := 31#32
  ![v7035.toNat, 31]
def k0_off1687 (i : grid0.Coords) (v7030 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7037 : Index := Scalar.indexCast v6934
  let c0_3770 : Index := 0#32
  let v7038 : Index := Scalar.indexCast v7030
  let c0_3771 : Index := 0#32
  ![v7037.toNat, 0, v7038.toNat, 0]

def k0_chk582 (i : grid0.Coords) (v7030 : BitVec 32) : Prop :=
  (∀ a, (k0_off1687 i v7030) a + S1x14x1x256.size a ≤ S64x14x24x256.size a)
theorem k0_off1687_inb : ∀ (i : grid0.Coords) (v7030 : BitVec 32) (k0_hw582 : k0_chk582 i v7030), ∀ a, (k0_off1687 i v7030) a + S1x14x1x256.size a ≤ S64x14x24x256.size a := fun i v7030 k0_hw582 => k0_hw582

def k0_off1688 (i : grid0.Coords) (v7032 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7041 : Index := Scalar.indexCast v6934
  let c0_3772 : Index := 0#32
  let v7042 : Index := Scalar.indexCast v7032
  let c0_3773 : Index := 0#32
  ![v7041.toNat, 0, v7042.toNat, 0]

def k0_chk583 (i : grid0.Coords) (v7032 : BitVec 32) : Prop :=
  (∀ a, (k0_off1688 i v7032) a + S1x14x1x256.size a ≤ S64x14x24x256.size a)
theorem k0_off1688_inb : ∀ (i : grid0.Coords) (v7032 : BitVec 32) (k0_hw583 : k0_chk583 i v7032), ∀ a, (k0_off1688 i v7032) a + S1x14x1x256.size a ≤ S64x14x24x256.size a := fun i v7032 k0_hw583 => k0_hw583

def k0_off1689 (i : grid0.Coords) (v7034 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7045 : Index := Scalar.indexCast v6934
  let c0_3774 : Index := 0#32
  let v7046 : Index := Scalar.indexCast v7034
  let c0_3775 : Index := 0#32
  ![v7045.toNat, 0, v7046.toNat, 0]

def k0_chk584 (i : grid0.Coords) (v7034 : BitVec 32) : Prop :=
  (∀ a, (k0_off1689 i v7034) a + S1x14x1x256.size a ≤ S64x14x24x256.size a)
theorem k0_off1689_inb : ∀ (i : grid0.Coords) (v7034 : BitVec 32) (k0_hw584 : k0_chk584 i v7034), ∀ a, (k0_off1689 i v7034) a + S1x14x1x256.size a ≤ S64x14x24x256.size a := fun i v7034 k0_hw584 => k0_hw584

def k0_off1690 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7060 : Index := Scalar.indexCast v6932
  let c32_3783 : Index := 32#32
  ![v7060.toNat, 32]
def k0_off1691 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7062 : Index := Scalar.indexCast v6932
  let c33_3784 : Index := 33#32
  ![v7062.toNat, 33]
def k0_off1692 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7064 : Index := Scalar.indexCast v6932
  let c34_3785 : Index := 34#32
  ![v7064.toNat, 34]
def k0_off1693 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7066 : Index := Scalar.indexCast v6932
  let c35_3786 : Index := 35#32
  ![v7066.toNat, 35]
def k0_off1694 (i : grid0.Coords) (v7061 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7068 : Index := Scalar.indexCast v6934
  let c0_3787 : Index := 0#32
  let v7069 : Index := Scalar.indexCast v7061
  let c0_3788 : Index := 0#32
  ![v7068.toNat, 0, v7069.toNat, 0]

def k0_chk585 (i : grid0.Coords) (v7061 : BitVec 32) : Prop :=
  (∀ a, (k0_off1694 i v7061) a + S1x14x1x256.size a ≤ S64x14x24x256.size a)
theorem k0_off1694_inb : ∀ (i : grid0.Coords) (v7061 : BitVec 32) (k0_hw585 : k0_chk585 i v7061), ∀ a, (k0_off1694 i v7061) a + S1x14x1x256.size a ≤ S64x14x24x256.size a := fun i v7061 k0_hw585 => k0_hw585

def k0_off1695 (i : grid0.Coords) (v7063 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7072 : Index := Scalar.indexCast v6934
  let c0_3789 : Index := 0#32
  let v7073 : Index := Scalar.indexCast v7063
  let c0_3790 : Index := 0#32
  ![v7072.toNat, 0, v7073.toNat, 0]

def k0_chk586 (i : grid0.Coords) (v7063 : BitVec 32) : Prop :=
  (∀ a, (k0_off1695 i v7063) a + S1x14x1x256.size a ≤ S64x14x24x256.size a)
theorem k0_off1695_inb : ∀ (i : grid0.Coords) (v7063 : BitVec 32) (k0_hw586 : k0_chk586 i v7063), ∀ a, (k0_off1695 i v7063) a + S1x14x1x256.size a ≤ S64x14x24x256.size a := fun i v7063 k0_hw586 => k0_hw586

def k0_off1696 (i : grid0.Coords) (v7065 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7076 : Index := Scalar.indexCast v6934
  let c0_3791 : Index := 0#32
  let v7077 : Index := Scalar.indexCast v7065
  let c0_3792 : Index := 0#32
  ![v7076.toNat, 0, v7077.toNat, 0]

def k0_chk587 (i : grid0.Coords) (v7065 : BitVec 32) : Prop :=
  (∀ a, (k0_off1696 i v7065) a + S1x14x1x256.size a ≤ S64x14x24x256.size a)
theorem k0_off1696_inb : ∀ (i : grid0.Coords) (v7065 : BitVec 32) (k0_hw587 : k0_chk587 i v7065), ∀ a, (k0_off1696 i v7065) a + S1x14x1x256.size a ≤ S64x14x24x256.size a := fun i v7065 k0_hw587 => k0_hw587

def k0_off1697 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7091 : Index := Scalar.indexCast v6932
  let c36_3800 : Index := 36#32
  ![v7091.toNat, 36]
def k0_off1698 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7093 : Index := Scalar.indexCast v6932
  let c37_3801 : Index := 37#32
  ![v7093.toNat, 37]
def k0_off1699 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7095 : Index := Scalar.indexCast v6932
  let c38_3802 : Index := 38#32
  ![v7095.toNat, 38]
def k0_off1700 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7097 : Index := Scalar.indexCast v6932
  let c39_3803 : Index := 39#32
  ![v7097.toNat, 39]
def k0_off1701 (i : grid0.Coords) (v7092 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7099 : Index := Scalar.indexCast v6934
  let c0_3804 : Index := 0#32
  let v7100 : Index := Scalar.indexCast v7092
  let c0_3805 : Index := 0#32
  ![v7099.toNat, 0, v7100.toNat, 0]

def k0_chk588 (i : grid0.Coords) (v7092 : BitVec 32) : Prop :=
  (∀ a, (k0_off1701 i v7092) a + S1x14x1x256.size a ≤ S64x14x24x256.size a)
theorem k0_off1701_inb : ∀ (i : grid0.Coords) (v7092 : BitVec 32) (k0_hw588 : k0_chk588 i v7092), ∀ a, (k0_off1701 i v7092) a + S1x14x1x256.size a ≤ S64x14x24x256.size a := fun i v7092 k0_hw588 => k0_hw588

def k0_off1702 (i : grid0.Coords) (v7094 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7103 : Index := Scalar.indexCast v6934
  let c0_3806 : Index := 0#32
  let v7104 : Index := Scalar.indexCast v7094
  let c0_3807 : Index := 0#32
  ![v7103.toNat, 0, v7104.toNat, 0]

def k0_chk589 (i : grid0.Coords) (v7094 : BitVec 32) : Prop :=
  (∀ a, (k0_off1702 i v7094) a + S1x14x1x256.size a ≤ S64x14x24x256.size a)
theorem k0_off1702_inb : ∀ (i : grid0.Coords) (v7094 : BitVec 32) (k0_hw589 : k0_chk589 i v7094), ∀ a, (k0_off1702 i v7094) a + S1x14x1x256.size a ≤ S64x14x24x256.size a := fun i v7094 k0_hw589 => k0_hw589

def k0_off1703 (i : grid0.Coords) (v7096 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7107 : Index := Scalar.indexCast v6934
  let c0_3808 : Index := 0#32
  let v7108 : Index := Scalar.indexCast v7096
  let c0_3809 : Index := 0#32
  ![v7107.toNat, 0, v7108.toNat, 0]

def k0_chk590 (i : grid0.Coords) (v7096 : BitVec 32) : Prop :=
  (∀ a, (k0_off1703 i v7096) a + S1x14x1x256.size a ≤ S64x14x24x256.size a)
theorem k0_off1703_inb : ∀ (i : grid0.Coords) (v7096 : BitVec 32) (k0_hw590 : k0_chk590 i v7096), ∀ a, (k0_off1703 i v7096) a + S1x14x1x256.size a ≤ S64x14x24x256.size a := fun i v7096 k0_hw590 => k0_hw590

def k0_off1704 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7122 : Index := Scalar.indexCast v6932
  let c40_3817 : Index := 40#32
  ![v7122.toNat, 40]
def k0_off1705 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7124 : Index := Scalar.indexCast v6932
  let c41_3818 : Index := 41#32
  ![v7124.toNat, 41]
def k0_off1706 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7126 : Index := Scalar.indexCast v6932
  let c42_3819 : Index := 42#32
  ![v7126.toNat, 42]
def k0_off1707 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7128 : Index := Scalar.indexCast v6932
  let c43_3820 : Index := 43#32
  ![v7128.toNat, 43]
def k0_off1708 (i : grid0.Coords) (v7123 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7130 : Index := Scalar.indexCast v6934
  let c0_3821 : Index := 0#32
  let v7131 : Index := Scalar.indexCast v7123
  let c0_3822 : Index := 0#32
  ![v7130.toNat, 0, v7131.toNat, 0]

def k0_chk591 (i : grid0.Coords) (v7123 : BitVec 32) : Prop :=
  (∀ a, (k0_off1708 i v7123) a + S1x14x1x256.size a ≤ S64x14x24x256.size a)
theorem k0_off1708_inb : ∀ (i : grid0.Coords) (v7123 : BitVec 32) (k0_hw591 : k0_chk591 i v7123), ∀ a, (k0_off1708 i v7123) a + S1x14x1x256.size a ≤ S64x14x24x256.size a := fun i v7123 k0_hw591 => k0_hw591

def k0_off1709 (i : grid0.Coords) (v7125 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7134 : Index := Scalar.indexCast v6934
  let c0_3823 : Index := 0#32
  let v7135 : Index := Scalar.indexCast v7125
  let c0_3824 : Index := 0#32
  ![v7134.toNat, 0, v7135.toNat, 0]

def k0_chk592 (i : grid0.Coords) (v7125 : BitVec 32) : Prop :=
  (∀ a, (k0_off1709 i v7125) a + S1x14x1x256.size a ≤ S64x14x24x256.size a)
theorem k0_off1709_inb : ∀ (i : grid0.Coords) (v7125 : BitVec 32) (k0_hw592 : k0_chk592 i v7125), ∀ a, (k0_off1709 i v7125) a + S1x14x1x256.size a ≤ S64x14x24x256.size a := fun i v7125 k0_hw592 => k0_hw592

def k0_off1710 (i : grid0.Coords) (v7127 : BitVec 32) : Fin 4 → Nat :=
  let c32_i32_3712 : BitVec 32 := 32#32
  let arg0 : BitVec 32 := BitVec.ofNat 32 (i 0).val
  let c2_i32 : BitVec 32 := 2#32
  let v0 : BitVec 32 := Scalar.remsi arg0 c2_i32
  let v6933 : BitVec 32 := Scalar.muli c32_i32_3712 v0
  let c17_i32_3713 : BitVec 32 := 17#32
  let v6934 : BitVec 32 := Scalar.addi v6933 c17_i32_3713
  let v7138 : Index := Scalar.indexCast v6934
  let c0_3825 : Index := 0#32
  let v7139 : Index := Scalar.indexCast v7127
  let c0_3826 : Index := 0#32
  ![v7138.toNat, 0, v7139.toNat, 0]

def k0_chk593 (i : grid0.Coords) (v7127 : BitVec 32) : Prop :=
  (∀ a, (k0_off1710 i v7127) a + S1x14x1x256.size a ≤ S64x14x24x256.size a)
theorem k0_off1710_inb : ∀ (i : grid0.Coords) (v7127 : BitVec 32) (k0_hw593 : k0_chk593 i v7127), ∀ a, (k0_off1710 i v7127) a + S1x14x1x256.size a ≤ S64x14x24x256.size a := fun i v7127 k0_hw593 => k0_hw593

def k0_off1711 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7154 : Index := Scalar.indexCast v6932
  let c44_3834 : Index := 44#32
  ![v7154.toNat, 44]
def k0_off1712 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7156 : Index := Scalar.indexCast v6932
  let c45_3835 : Index := 45#32
  ![v7156.toNat, 45]
def k0_off1713 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7158 : Index := Scalar.indexCast v6932
  let c46_3836 : Index := 46#32
  ![v7158.toNat, 46]
def k0_off1714 (v7155 : BitVec 32) : Fin 4 → Nat :=
  let c17_3837 : Index := 17#32
  let v7160 : Index := Scalar.indexCast v7155
  let c0_3838 : Index := 0#32
  let c0_3839 : Index := 0#32
  ![17, v7160.toNat, 0, 0]

def k0_chk594 (v7155 : BitVec 32) : Prop :=
  (∀ a, (k0_off1714 v7155) a + S1x3x7x256.size a ≤ S32x14x7x256.size a)
theorem k0_off1714_inb : ∀ (v7155 : BitVec 32) (k0_hw594 : k0_chk594 v7155), ∀ a, (k0_off1714 v7155) a + S1x3x7x256.size a ≤ S32x14x7x256.size a := fun v7155 k0_hw594 => k0_hw594

def k0_off1715 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7176 : Index := Scalar.indexCast v6932
  let c47_3845 : Index := 47#32
  ![v7176.toNat, 47]
def k0_off1716 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7178 : Index := Scalar.indexCast v6932
  let c48_3846 : Index := 48#32
  ![v7178.toNat, 48]
def k0_off1717 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7180 : Index := Scalar.indexCast v6932
  let c49_3847 : Index := 49#32
  ![v7180.toNat, 49]
def k0_off1718 (v7177 : BitVec 32) : Fin 4 → Nat :=
  let c17_3848 : Index := 17#32
  let v7182 : Index := Scalar.indexCast v7177
  let c0_3849 : Index := 0#32
  let c0_3850 : Index := 0#32
  ![17, v7182.toNat, 0, 0]

def k0_chk595 (v7177 : BitVec 32) : Prop :=
  (∀ a, (k0_off1718 v7177) a + S1x3x7x256.size a ≤ S32x14x7x256.size a)
theorem k0_off1718_inb : ∀ (v7177 : BitVec 32) (k0_hw595 : k0_chk595 v7177), ∀ a, (k0_off1718 v7177) a + S1x3x7x256.size a ≤ S32x14x7x256.size a := fun v7177 k0_hw595 => k0_hw595

def k0_off1719 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7198 : Index := Scalar.indexCast v6932
  let c50_3856 : Index := 50#32
  ![v7198.toNat, 50]
def k0_off1720 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7200 : Index := Scalar.indexCast v6932
  let c51_3857 : Index := 51#32
  ![v7200.toNat, 51]
def k0_off1721 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7202 : Index := Scalar.indexCast v6932
  let c52_3858 : Index := 52#32
  ![v7202.toNat, 52]
def k0_off1722 (v7199 : BitVec 32) : Fin 4 → Nat :=
  let c17_3859 : Index := 17#32
  let v7204 : Index := Scalar.indexCast v7199
  let c0_3860 : Index := 0#32
  let c0_3861 : Index := 0#32
  ![17, v7204.toNat, 0, 0]

def k0_chk596 (v7199 : BitVec 32) : Prop :=
  (∀ a, (k0_off1722 v7199) a + S1x3x7x256.size a ≤ S32x14x7x256.size a)
theorem k0_off1722_inb : ∀ (v7199 : BitVec 32) (k0_hw596 : k0_chk596 v7199), ∀ a, (k0_off1722 v7199) a + S1x3x7x256.size a ≤ S32x14x7x256.size a := fun v7199 k0_hw596 => k0_hw596

def k0_off1723 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7220 : Index := Scalar.indexCast v6932
  let c53_3867 : Index := 53#32
  ![v7220.toNat, 53]
def k0_off1724 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7222 : Index := Scalar.indexCast v6932
  let c54_3868 : Index := 54#32
  ![v7222.toNat, 54]
def k0_off1725 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7224 : Index := Scalar.indexCast v6932
  let c55_3869 : Index := 55#32
  ![v7224.toNat, 55]
def k0_off1726 (v7221 : BitVec 32) : Fin 4 → Nat :=
  let c17_3870 : Index := 17#32
  let v7226 : Index := Scalar.indexCast v7221
  let c0_3871 : Index := 0#32
  let c0_3872 : Index := 0#32
  ![17, v7226.toNat, 0, 0]

def k0_chk597 (v7221 : BitVec 32) : Prop :=
  (∀ a, (k0_off1726 v7221) a + S1x3x7x256.size a ≤ S32x14x7x256.size a)
theorem k0_off1726_inb : ∀ (v7221 : BitVec 32) (k0_hw597 : k0_chk597 v7221), ∀ a, (k0_off1726 v7221) a + S1x3x7x256.size a ≤ S32x14x7x256.size a := fun v7221 k0_hw597 => k0_hw597

def k0_off1727 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7242 : Index := Scalar.indexCast v6932
  let c56_3878 : Index := 56#32
  ![v7242.toNat, 56]
def k0_off1728 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7244 : Index := Scalar.indexCast v6932
  let c57_3879 : Index := 57#32
  ![v7244.toNat, 57]
def k0_off1729 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7246 : Index := Scalar.indexCast v6932
  let c58_3880 : Index := 58#32
  ![v7246.toNat, 58]
def k0_off1730 (v7243 : BitVec 32) : Fin 4 → Nat :=
  let c17_3881 : Index := 17#32
  let v7248 : Index := Scalar.indexCast v7243
  let c0_3882 : Index := 0#32
  let c0_3883 : Index := 0#32
  ![17, v7248.toNat, 0, 0]

def k0_chk598 (v7243 : BitVec 32) : Prop :=
  (∀ a, (k0_off1730 v7243) a + S1x3x7x256.size a ≤ S32x14x7x256.size a)
theorem k0_off1730_inb : ∀ (v7243 : BitVec 32) (k0_hw598 : k0_chk598 v7243), ∀ a, (k0_off1730 v7243) a + S1x3x7x256.size a ≤ S32x14x7x256.size a := fun v7243 k0_hw598 => k0_hw598

def k0_off1731 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7264 : Index := Scalar.indexCast v6932
  let c59_3889 : Index := 59#32
  ![v7264.toNat, 59]
def k0_off1732 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7266 : Index := Scalar.indexCast v6932
  let c60_3890 : Index := 60#32
  ![v7266.toNat, 60]
def k0_off1733 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7268 : Index := Scalar.indexCast v6932
  let c61_3891 : Index := 61#32
  ![v7268.toNat, 61]
def k0_off1734 (v7265 : BitVec 32) : Fin 4 → Nat :=
  let c17_3892 : Index := 17#32
  let v7270 : Index := Scalar.indexCast v7265
  let c0_3893 : Index := 0#32
  let c0_3894 : Index := 0#32
  ![17, v7270.toNat, 0, 0]

def k0_chk599 (v7265 : BitVec 32) : Prop :=
  (∀ a, (k0_off1734 v7265) a + S1x3x7x256.size a ≤ S32x14x7x256.size a)
theorem k0_off1734_inb : ∀ (v7265 : BitVec 32) (k0_hw599 : k0_chk599 v7265), ∀ a, (k0_off1734 v7265) a + S1x3x7x256.size a ≤ S32x14x7x256.size a := fun v7265 k0_hw599 => k0_hw599

def k0_off1735 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7286 : Index := Scalar.indexCast v6932
  let c62_3900 : Index := 62#32
  ![v7286.toNat, 62]
def k0_off1736 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7288 : Index := Scalar.indexCast v6932
  let c63_3901 : Index := 63#32
  ![v7288.toNat, 63]
def k0_off1737 (i : grid0.Coords) : Fin 2 → Nat :=
  let c32_i32_3710 : BitVec 32 := 32#32
  let arg0 : BitVec 32 := BitVec.ofNat 32 (i 0).val
  let v6931 : BitVec 32 := Scalar.muli c32_i32_3710 arg0
  let c17_i32_3711 : BitVec 32 := 17#32
  let v6932 : BitVec 32 := Scalar.addi v6931 c17_i32_3711
  let v7290 : Index := Scalar.indexCast v6932
  let c64_3902 : Index := 64#32
  ![v7290.toNat, 64]
def k0_off1738 (v7287 : BitVec 32) : Fin 4 → Nat :=
  let c17_3903 : Index := 17#32
  let v7292 : Index := Scalar.indexCast v7287
  let c0_3904 : Index := 0#32
  let c0_3905 : Index := 0#32
  ![17, v7292.toNat, 0, 0]

def k0_chk600 (v7287 : BitVec 32) : Prop :=
  (∀ a, (k0_off1738 v7287) a + S1x3x7x256.size a ≤ S32x14x7x256.size a)
theorem k0_off1738_inb : ∀ (v7287 : BitVec 32) (k0_hw600 : k0_chk600 v7287), ∀ a, (k0_off1738 v7287) a + S1x3x7x256.size a ≤ S32x14x7x256.size a := fun v7287 k0_hw600 => k0_hw600

def k0_off1739 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7313 : Index := Scalar.indexCast v7309
  let c16_3916 : Index := 16#32
  ![v7313.toNat, 16]
def k0_off1740 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7315 : Index := Scalar.indexCast v7309
  let c17_3917 : Index := 17#32
  ![v7315.toNat, 17]
def k0_off1741 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7317 : Index := Scalar.indexCast v7309
  let c18_3918 : Index := 18#32
  ![v7317.toNat, 18]
def k0_off1742 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7319 : Index := Scalar.indexCast v7309
  let c19_3919 : Index := 19#32
  ![v7319.toNat, 19]
def k0_off1743 (i : grid0.Coords) (v7314 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7321 : Index := Scalar.indexCast v7311
  let c0_3920 : Index := 0#32
  let v7322 : Index := Scalar.indexCast v7314
  let c0_3921 : Index := 0#32
  ![v7321.toNat, 0, v7322.toNat, 0]

def k0_chk601 (i : grid0.Coords) (v7314 : BitVec 32) : Prop :=
  (∀ a, (k0_off1743 i v7314) a + S1x14x1x256.size a ≤ S64x14x24x256.size a)
theorem k0_off1743_inb : ∀ (i : grid0.Coords) (v7314 : BitVec 32) (k0_hw601 : k0_chk601 i v7314), ∀ a, (k0_off1743 i v7314) a + S1x14x1x256.size a ≤ S64x14x24x256.size a := fun i v7314 k0_hw601 => k0_hw601

def k0_off1744 (i : grid0.Coords) (v7316 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7325 : Index := Scalar.indexCast v7311
  let c0_3922 : Index := 0#32
  let v7326 : Index := Scalar.indexCast v7316
  let c0_3923 : Index := 0#32
  ![v7325.toNat, 0, v7326.toNat, 0]

def k0_chk602 (i : grid0.Coords) (v7316 : BitVec 32) : Prop :=
  (∀ a, (k0_off1744 i v7316) a + S1x14x1x256.size a ≤ S64x14x24x256.size a)
theorem k0_off1744_inb : ∀ (i : grid0.Coords) (v7316 : BitVec 32) (k0_hw602 : k0_chk602 i v7316), ∀ a, (k0_off1744 i v7316) a + S1x14x1x256.size a ≤ S64x14x24x256.size a := fun i v7316 k0_hw602 => k0_hw602

def k0_off1745 (i : grid0.Coords) (v7318 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7329 : Index := Scalar.indexCast v7311
  let c0_3924 : Index := 0#32
  let v7330 : Index := Scalar.indexCast v7318
  let c0_3925 : Index := 0#32
  ![v7329.toNat, 0, v7330.toNat, 0]

def k0_chk603 (i : grid0.Coords) (v7318 : BitVec 32) : Prop :=
  (∀ a, (k0_off1745 i v7318) a + S1x14x1x256.size a ≤ S64x14x24x256.size a)
theorem k0_off1745_inb : ∀ (i : grid0.Coords) (v7318 : BitVec 32) (k0_hw603 : k0_chk603 i v7318), ∀ a, (k0_off1745 i v7318) a + S1x14x1x256.size a ≤ S64x14x24x256.size a := fun i v7318 k0_hw603 => k0_hw603

def k0_off1746 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7344 : Index := Scalar.indexCast v7309
  let c20_3933 : Index := 20#32
  ![v7344.toNat, 20]
def k0_off1747 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7346 : Index := Scalar.indexCast v7309
  let c21_3934 : Index := 21#32
  ![v7346.toNat, 21]
def k0_off1748 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7348 : Index := Scalar.indexCast v7309
  let c22_3935 : Index := 22#32
  ![v7348.toNat, 22]
def k0_off1749 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7350 : Index := Scalar.indexCast v7309
  let c23_3936 : Index := 23#32
  ![v7350.toNat, 23]
def k0_off1750 (i : grid0.Coords) (v7345 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7352 : Index := Scalar.indexCast v7311
  let c0_3937 : Index := 0#32
  let v7353 : Index := Scalar.indexCast v7345
  let c0_3938 : Index := 0#32
  ![v7352.toNat, 0, v7353.toNat, 0]

def k0_chk604 (i : grid0.Coords) (v7345 : BitVec 32) : Prop :=
  (∀ a, (k0_off1750 i v7345) a + S1x14x1x256.size a ≤ S64x14x24x256.size a)
theorem k0_off1750_inb : ∀ (i : grid0.Coords) (v7345 : BitVec 32) (k0_hw604 : k0_chk604 i v7345), ∀ a, (k0_off1750 i v7345) a + S1x14x1x256.size a ≤ S64x14x24x256.size a := fun i v7345 k0_hw604 => k0_hw604

def k0_off1751 (i : grid0.Coords) (v7347 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7356 : Index := Scalar.indexCast v7311
  let c0_3939 : Index := 0#32
  let v7357 : Index := Scalar.indexCast v7347
  let c0_3940 : Index := 0#32
  ![v7356.toNat, 0, v7357.toNat, 0]

def k0_chk605 (i : grid0.Coords) (v7347 : BitVec 32) : Prop :=
  (∀ a, (k0_off1751 i v7347) a + S1x14x1x256.size a ≤ S64x14x24x256.size a)
theorem k0_off1751_inb : ∀ (i : grid0.Coords) (v7347 : BitVec 32) (k0_hw605 : k0_chk605 i v7347), ∀ a, (k0_off1751 i v7347) a + S1x14x1x256.size a ≤ S64x14x24x256.size a := fun i v7347 k0_hw605 => k0_hw605

def k0_off1752 (i : grid0.Coords) (v7349 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7360 : Index := Scalar.indexCast v7311
  let c0_3941 : Index := 0#32
  let v7361 : Index := Scalar.indexCast v7349
  let c0_3942 : Index := 0#32
  ![v7360.toNat, 0, v7361.toNat, 0]

def k0_chk606 (i : grid0.Coords) (v7349 : BitVec 32) : Prop :=
  (∀ a, (k0_off1752 i v7349) a + S1x14x1x256.size a ≤ S64x14x24x256.size a)
theorem k0_off1752_inb : ∀ (i : grid0.Coords) (v7349 : BitVec 32) (k0_hw606 : k0_chk606 i v7349), ∀ a, (k0_off1752 i v7349) a + S1x14x1x256.size a ≤ S64x14x24x256.size a := fun i v7349 k0_hw606 => k0_hw606

def k0_off1753 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7375 : Index := Scalar.indexCast v7309
  let c24_3950 : Index := 24#32
  ![v7375.toNat, 24]
def k0_off1754 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7377 : Index := Scalar.indexCast v7309
  let c25_3951 : Index := 25#32
  ![v7377.toNat, 25]
def k0_off1755 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7379 : Index := Scalar.indexCast v7309
  let c26_3952 : Index := 26#32
  ![v7379.toNat, 26]
def k0_off1756 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7381 : Index := Scalar.indexCast v7309
  let c27_3953 : Index := 27#32
  ![v7381.toNat, 27]
def k0_off1757 (i : grid0.Coords) (v7376 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7383 : Index := Scalar.indexCast v7311
  let c0_3954 : Index := 0#32
  let v7384 : Index := Scalar.indexCast v7376
  let c0_3955 : Index := 0#32
  ![v7383.toNat, 0, v7384.toNat, 0]

def k0_chk607 (i : grid0.Coords) (v7376 : BitVec 32) : Prop :=
  (∀ a, (k0_off1757 i v7376) a + S1x14x1x256.size a ≤ S64x14x24x256.size a)
theorem k0_off1757_inb : ∀ (i : grid0.Coords) (v7376 : BitVec 32) (k0_hw607 : k0_chk607 i v7376), ∀ a, (k0_off1757 i v7376) a + S1x14x1x256.size a ≤ S64x14x24x256.size a := fun i v7376 k0_hw607 => k0_hw607

def k0_off1758 (i : grid0.Coords) (v7378 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7387 : Index := Scalar.indexCast v7311
  let c0_3956 : Index := 0#32
  let v7388 : Index := Scalar.indexCast v7378
  let c0_3957 : Index := 0#32
  ![v7387.toNat, 0, v7388.toNat, 0]

def k0_chk608 (i : grid0.Coords) (v7378 : BitVec 32) : Prop :=
  (∀ a, (k0_off1758 i v7378) a + S1x14x1x256.size a ≤ S64x14x24x256.size a)
theorem k0_off1758_inb : ∀ (i : grid0.Coords) (v7378 : BitVec 32) (k0_hw608 : k0_chk608 i v7378), ∀ a, (k0_off1758 i v7378) a + S1x14x1x256.size a ≤ S64x14x24x256.size a := fun i v7378 k0_hw608 => k0_hw608

def k0_off1759 (i : grid0.Coords) (v7380 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7391 : Index := Scalar.indexCast v7311
  let c0_3958 : Index := 0#32
  let v7392 : Index := Scalar.indexCast v7380
  let c0_3959 : Index := 0#32
  ![v7391.toNat, 0, v7392.toNat, 0]

def k0_chk609 (i : grid0.Coords) (v7380 : BitVec 32) : Prop :=
  (∀ a, (k0_off1759 i v7380) a + S1x14x1x256.size a ≤ S64x14x24x256.size a)
theorem k0_off1759_inb : ∀ (i : grid0.Coords) (v7380 : BitVec 32) (k0_hw609 : k0_chk609 i v7380), ∀ a, (k0_off1759 i v7380) a + S1x14x1x256.size a ≤ S64x14x24x256.size a := fun i v7380 k0_hw609 => k0_hw609

def k0_off1760 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7406 : Index := Scalar.indexCast v7309
  let c28_3967 : Index := 28#32
  ![v7406.toNat, 28]
def k0_off1761 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7408 : Index := Scalar.indexCast v7309
  let c29_3968 : Index := 29#32
  ![v7408.toNat, 29]
def k0_off1762 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7410 : Index := Scalar.indexCast v7309
  let c30_3969 : Index := 30#32
  ![v7410.toNat, 30]
def k0_off1763 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7412 : Index := Scalar.indexCast v7309
  let c31_3970 : Index := 31#32
  ![v7412.toNat, 31]
def k0_off1764 (i : grid0.Coords) (v7407 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7414 : Index := Scalar.indexCast v7311
  let c0_3971 : Index := 0#32
  let v7415 : Index := Scalar.indexCast v7407
  let c0_3972 : Index := 0#32
  ![v7414.toNat, 0, v7415.toNat, 0]

def k0_chk610 (i : grid0.Coords) (v7407 : BitVec 32) : Prop :=
  (∀ a, (k0_off1764 i v7407) a + S1x14x1x256.size a ≤ S64x14x24x256.size a)
theorem k0_off1764_inb : ∀ (i : grid0.Coords) (v7407 : BitVec 32) (k0_hw610 : k0_chk610 i v7407), ∀ a, (k0_off1764 i v7407) a + S1x14x1x256.size a ≤ S64x14x24x256.size a := fun i v7407 k0_hw610 => k0_hw610

def k0_off1765 (i : grid0.Coords) (v7409 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7418 : Index := Scalar.indexCast v7311
  let c0_3973 : Index := 0#32
  let v7419 : Index := Scalar.indexCast v7409
  let c0_3974 : Index := 0#32
  ![v7418.toNat, 0, v7419.toNat, 0]

def k0_chk611 (i : grid0.Coords) (v7409 : BitVec 32) : Prop :=
  (∀ a, (k0_off1765 i v7409) a + S1x14x1x256.size a ≤ S64x14x24x256.size a)
theorem k0_off1765_inb : ∀ (i : grid0.Coords) (v7409 : BitVec 32) (k0_hw611 : k0_chk611 i v7409), ∀ a, (k0_off1765 i v7409) a + S1x14x1x256.size a ≤ S64x14x24x256.size a := fun i v7409 k0_hw611 => k0_hw611

def k0_off1766 (i : grid0.Coords) (v7411 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7422 : Index := Scalar.indexCast v7311
  let c0_3975 : Index := 0#32
  let v7423 : Index := Scalar.indexCast v7411
  let c0_3976 : Index := 0#32
  ![v7422.toNat, 0, v7423.toNat, 0]

def k0_chk612 (i : grid0.Coords) (v7411 : BitVec 32) : Prop :=
  (∀ a, (k0_off1766 i v7411) a + S1x14x1x256.size a ≤ S64x14x24x256.size a)
theorem k0_off1766_inb : ∀ (i : grid0.Coords) (v7411 : BitVec 32) (k0_hw612 : k0_chk612 i v7411), ∀ a, (k0_off1766 i v7411) a + S1x14x1x256.size a ≤ S64x14x24x256.size a := fun i v7411 k0_hw612 => k0_hw612

def k0_off1767 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7437 : Index := Scalar.indexCast v7309
  let c32_3984 : Index := 32#32
  ![v7437.toNat, 32]
def k0_off1768 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7439 : Index := Scalar.indexCast v7309
  let c33_3985 : Index := 33#32
  ![v7439.toNat, 33]
def k0_off1769 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7441 : Index := Scalar.indexCast v7309
  let c34_3986 : Index := 34#32
  ![v7441.toNat, 34]
def k0_off1770 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7443 : Index := Scalar.indexCast v7309
  let c35_3987 : Index := 35#32
  ![v7443.toNat, 35]
def k0_off1771 (i : grid0.Coords) (v7438 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7445 : Index := Scalar.indexCast v7311
  let c0_3988 : Index := 0#32
  let v7446 : Index := Scalar.indexCast v7438
  let c0_3989 : Index := 0#32
  ![v7445.toNat, 0, v7446.toNat, 0]

def k0_chk613 (i : grid0.Coords) (v7438 : BitVec 32) : Prop :=
  (∀ a, (k0_off1771 i v7438) a + S1x14x1x256.size a ≤ S64x14x24x256.size a)
theorem k0_off1771_inb : ∀ (i : grid0.Coords) (v7438 : BitVec 32) (k0_hw613 : k0_chk613 i v7438), ∀ a, (k0_off1771 i v7438) a + S1x14x1x256.size a ≤ S64x14x24x256.size a := fun i v7438 k0_hw613 => k0_hw613

def k0_off1772 (i : grid0.Coords) (v7440 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7449 : Index := Scalar.indexCast v7311
  let c0_3990 : Index := 0#32
  let v7450 : Index := Scalar.indexCast v7440
  let c0_3991 : Index := 0#32
  ![v7449.toNat, 0, v7450.toNat, 0]

def k0_chk614 (i : grid0.Coords) (v7440 : BitVec 32) : Prop :=
  (∀ a, (k0_off1772 i v7440) a + S1x14x1x256.size a ≤ S64x14x24x256.size a)
theorem k0_off1772_inb : ∀ (i : grid0.Coords) (v7440 : BitVec 32) (k0_hw614 : k0_chk614 i v7440), ∀ a, (k0_off1772 i v7440) a + S1x14x1x256.size a ≤ S64x14x24x256.size a := fun i v7440 k0_hw614 => k0_hw614

def k0_off1773 (i : grid0.Coords) (v7442 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7453 : Index := Scalar.indexCast v7311
  let c0_3992 : Index := 0#32
  let v7454 : Index := Scalar.indexCast v7442
  let c0_3993 : Index := 0#32
  ![v7453.toNat, 0, v7454.toNat, 0]

def k0_chk615 (i : grid0.Coords) (v7442 : BitVec 32) : Prop :=
  (∀ a, (k0_off1773 i v7442) a + S1x14x1x256.size a ≤ S64x14x24x256.size a)
theorem k0_off1773_inb : ∀ (i : grid0.Coords) (v7442 : BitVec 32) (k0_hw615 : k0_chk615 i v7442), ∀ a, (k0_off1773 i v7442) a + S1x14x1x256.size a ≤ S64x14x24x256.size a := fun i v7442 k0_hw615 => k0_hw615

def k0_off1774 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7468 : Index := Scalar.indexCast v7309
  let c36_4001 : Index := 36#32
  ![v7468.toNat, 36]
def k0_off1775 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7470 : Index := Scalar.indexCast v7309
  let c37_4002 : Index := 37#32
  ![v7470.toNat, 37]
def k0_off1776 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7472 : Index := Scalar.indexCast v7309
  let c38_4003 : Index := 38#32
  ![v7472.toNat, 38]
def k0_off1777 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7474 : Index := Scalar.indexCast v7309
  let c39_4004 : Index := 39#32
  ![v7474.toNat, 39]
def k0_off1778 (i : grid0.Coords) (v7469 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7476 : Index := Scalar.indexCast v7311
  let c0_4005 : Index := 0#32
  let v7477 : Index := Scalar.indexCast v7469
  let c0_4006 : Index := 0#32
  ![v7476.toNat, 0, v7477.toNat, 0]

def k0_chk616 (i : grid0.Coords) (v7469 : BitVec 32) : Prop :=
  (∀ a, (k0_off1778 i v7469) a + S1x14x1x256.size a ≤ S64x14x24x256.size a)
theorem k0_off1778_inb : ∀ (i : grid0.Coords) (v7469 : BitVec 32) (k0_hw616 : k0_chk616 i v7469), ∀ a, (k0_off1778 i v7469) a + S1x14x1x256.size a ≤ S64x14x24x256.size a := fun i v7469 k0_hw616 => k0_hw616

def k0_off1779 (i : grid0.Coords) (v7471 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7480 : Index := Scalar.indexCast v7311
  let c0_4007 : Index := 0#32
  let v7481 : Index := Scalar.indexCast v7471
  let c0_4008 : Index := 0#32
  ![v7480.toNat, 0, v7481.toNat, 0]

def k0_chk617 (i : grid0.Coords) (v7471 : BitVec 32) : Prop :=
  (∀ a, (k0_off1779 i v7471) a + S1x14x1x256.size a ≤ S64x14x24x256.size a)
theorem k0_off1779_inb : ∀ (i : grid0.Coords) (v7471 : BitVec 32) (k0_hw617 : k0_chk617 i v7471), ∀ a, (k0_off1779 i v7471) a + S1x14x1x256.size a ≤ S64x14x24x256.size a := fun i v7471 k0_hw617 => k0_hw617

def k0_off1780 (i : grid0.Coords) (v7473 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7484 : Index := Scalar.indexCast v7311
  let c0_4009 : Index := 0#32
  let v7485 : Index := Scalar.indexCast v7473
  let c0_4010 : Index := 0#32
  ![v7484.toNat, 0, v7485.toNat, 0]

def k0_chk618 (i : grid0.Coords) (v7473 : BitVec 32) : Prop :=
  (∀ a, (k0_off1780 i v7473) a + S1x14x1x256.size a ≤ S64x14x24x256.size a)
theorem k0_off1780_inb : ∀ (i : grid0.Coords) (v7473 : BitVec 32) (k0_hw618 : k0_chk618 i v7473), ∀ a, (k0_off1780 i v7473) a + S1x14x1x256.size a ≤ S64x14x24x256.size a := fun i v7473 k0_hw618 => k0_hw618

def k0_off1781 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7499 : Index := Scalar.indexCast v7309
  let c40_4018 : Index := 40#32
  ![v7499.toNat, 40]
def k0_off1782 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7501 : Index := Scalar.indexCast v7309
  let c41_4019 : Index := 41#32
  ![v7501.toNat, 41]
def k0_off1783 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7503 : Index := Scalar.indexCast v7309
  let c42_4020 : Index := 42#32
  ![v7503.toNat, 42]
def k0_off1784 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7505 : Index := Scalar.indexCast v7309
  let c43_4021 : Index := 43#32
  ![v7505.toNat, 43]
def k0_off1785 (i : grid0.Coords) (v7500 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7507 : Index := Scalar.indexCast v7311
  let c0_4022 : Index := 0#32
  let v7508 : Index := Scalar.indexCast v7500
  let c0_4023 : Index := 0#32
  ![v7507.toNat, 0, v7508.toNat, 0]

def k0_chk619 (i : grid0.Coords) (v7500 : BitVec 32) : Prop :=
  (∀ a, (k0_off1785 i v7500) a + S1x14x1x256.size a ≤ S64x14x24x256.size a)
theorem k0_off1785_inb : ∀ (i : grid0.Coords) (v7500 : BitVec 32) (k0_hw619 : k0_chk619 i v7500), ∀ a, (k0_off1785 i v7500) a + S1x14x1x256.size a ≤ S64x14x24x256.size a := fun i v7500 k0_hw619 => k0_hw619

def k0_off1786 (i : grid0.Coords) (v7502 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7511 : Index := Scalar.indexCast v7311
  let c0_4024 : Index := 0#32
  let v7512 : Index := Scalar.indexCast v7502
  let c0_4025 : Index := 0#32
  ![v7511.toNat, 0, v7512.toNat, 0]

def k0_chk620 (i : grid0.Coords) (v7502 : BitVec 32) : Prop :=
  (∀ a, (k0_off1786 i v7502) a + S1x14x1x256.size a ≤ S64x14x24x256.size a)
theorem k0_off1786_inb : ∀ (i : grid0.Coords) (v7502 : BitVec 32) (k0_hw620 : k0_chk620 i v7502), ∀ a, (k0_off1786 i v7502) a + S1x14x1x256.size a ≤ S64x14x24x256.size a := fun i v7502 k0_hw620 => k0_hw620

def k0_off1787 (i : grid0.Coords) (v7504 : BitVec 32) : Fin 4 → Nat :=
  let c32_i32_3913 : BitVec 32 := 32#32
  let arg0 : BitVec 32 := BitVec.ofNat 32 (i 0).val
  let c2_i32 : BitVec 32 := 2#32
  let v0 : BitVec 32 := Scalar.remsi arg0 c2_i32
  let v7310 : BitVec 32 := Scalar.muli c32_i32_3913 v0
  let c18_i32_3914 : BitVec 32 := 18#32
  let v7311 : BitVec 32 := Scalar.addi v7310 c18_i32_3914
  let v7515 : Index := Scalar.indexCast v7311
  let c0_4026 : Index := 0#32
  let v7516 : Index := Scalar.indexCast v7504
  let c0_4027 : Index := 0#32
  ![v7515.toNat, 0, v7516.toNat, 0]

def k0_chk621 (i : grid0.Coords) (v7504 : BitVec 32) : Prop :=
  (∀ a, (k0_off1787 i v7504) a + S1x14x1x256.size a ≤ S64x14x24x256.size a)
theorem k0_off1787_inb : ∀ (i : grid0.Coords) (v7504 : BitVec 32) (k0_hw621 : k0_chk621 i v7504), ∀ a, (k0_off1787 i v7504) a + S1x14x1x256.size a ≤ S64x14x24x256.size a := fun i v7504 k0_hw621 => k0_hw621

def k0_off1788 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7531 : Index := Scalar.indexCast v7309
  let c44_4035 : Index := 44#32
  ![v7531.toNat, 44]
def k0_off1789 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7533 : Index := Scalar.indexCast v7309
  let c45_4036 : Index := 45#32
  ![v7533.toNat, 45]
def k0_off1790 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7535 : Index := Scalar.indexCast v7309
  let c46_4037 : Index := 46#32
  ![v7535.toNat, 46]
def k0_off1791 (v7532 : BitVec 32) : Fin 4 → Nat :=
  let c18_4038 : Index := 18#32
  let v7537 : Index := Scalar.indexCast v7532
  let c0_4039 : Index := 0#32
  let c0_4040 : Index := 0#32
  ![18, v7537.toNat, 0, 0]

def k0_chk622 (v7532 : BitVec 32) : Prop :=
  (∀ a, (k0_off1791 v7532) a + S1x3x7x256.size a ≤ S32x14x7x256.size a)
theorem k0_off1791_inb : ∀ (v7532 : BitVec 32) (k0_hw622 : k0_chk622 v7532), ∀ a, (k0_off1791 v7532) a + S1x3x7x256.size a ≤ S32x14x7x256.size a := fun v7532 k0_hw622 => k0_hw622

def k0_off1792 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7553 : Index := Scalar.indexCast v7309
  let c47_4046 : Index := 47#32
  ![v7553.toNat, 47]
def k0_off1793 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7555 : Index := Scalar.indexCast v7309
  let c48_4047 : Index := 48#32
  ![v7555.toNat, 48]
def k0_off1794 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7557 : Index := Scalar.indexCast v7309
  let c49_4048 : Index := 49#32
  ![v7557.toNat, 49]
def k0_off1795 (v7554 : BitVec 32) : Fin 4 → Nat :=
  let c18_4049 : Index := 18#32
  let v7559 : Index := Scalar.indexCast v7554
  let c0_4050 : Index := 0#32
  let c0_4051 : Index := 0#32
  ![18, v7559.toNat, 0, 0]

def k0_chk623 (v7554 : BitVec 32) : Prop :=
  (∀ a, (k0_off1795 v7554) a + S1x3x7x256.size a ≤ S32x14x7x256.size a)
theorem k0_off1795_inb : ∀ (v7554 : BitVec 32) (k0_hw623 : k0_chk623 v7554), ∀ a, (k0_off1795 v7554) a + S1x3x7x256.size a ≤ S32x14x7x256.size a := fun v7554 k0_hw623 => k0_hw623

def k0_off1796 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7575 : Index := Scalar.indexCast v7309
  let c50_4057 : Index := 50#32
  ![v7575.toNat, 50]
def k0_off1797 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7577 : Index := Scalar.indexCast v7309
  let c51_4058 : Index := 51#32
  ![v7577.toNat, 51]
def k0_off1798 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7579 : Index := Scalar.indexCast v7309
  let c52_4059 : Index := 52#32
  ![v7579.toNat, 52]
def k0_off1799 (v7576 : BitVec 32) : Fin 4 → Nat :=
  let c18_4060 : Index := 18#32
  let v7581 : Index := Scalar.indexCast v7576
  let c0_4061 : Index := 0#32
  let c0_4062 : Index := 0#32
  ![18, v7581.toNat, 0, 0]

def k0_chk624 (v7576 : BitVec 32) : Prop :=
  (∀ a, (k0_off1799 v7576) a + S1x3x7x256.size a ≤ S32x14x7x256.size a)
theorem k0_off1799_inb : ∀ (v7576 : BitVec 32) (k0_hw624 : k0_chk624 v7576), ∀ a, (k0_off1799 v7576) a + S1x3x7x256.size a ≤ S32x14x7x256.size a := fun v7576 k0_hw624 => k0_hw624

def k0_off1800 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7597 : Index := Scalar.indexCast v7309
  let c53_4068 : Index := 53#32
  ![v7597.toNat, 53]
def k0_off1801 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7599 : Index := Scalar.indexCast v7309
  let c54_4069 : Index := 54#32
  ![v7599.toNat, 54]
def k0_off1802 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7601 : Index := Scalar.indexCast v7309
  let c55_4070 : Index := 55#32
  ![v7601.toNat, 55]
def k0_off1803 (v7598 : BitVec 32) : Fin 4 → Nat :=
  let c18_4071 : Index := 18#32
  let v7603 : Index := Scalar.indexCast v7598
  let c0_4072 : Index := 0#32
  let c0_4073 : Index := 0#32
  ![18, v7603.toNat, 0, 0]

def k0_chk625 (v7598 : BitVec 32) : Prop :=
  (∀ a, (k0_off1803 v7598) a + S1x3x7x256.size a ≤ S32x14x7x256.size a)
theorem k0_off1803_inb : ∀ (v7598 : BitVec 32) (k0_hw625 : k0_chk625 v7598), ∀ a, (k0_off1803 v7598) a + S1x3x7x256.size a ≤ S32x14x7x256.size a := fun v7598 k0_hw625 => k0_hw625

def k0_off1804 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7619 : Index := Scalar.indexCast v7309
  let c56_4079 : Index := 56#32
  ![v7619.toNat, 56]
def k0_off1805 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7621 : Index := Scalar.indexCast v7309
  let c57_4080 : Index := 57#32
  ![v7621.toNat, 57]
def k0_off1806 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7623 : Index := Scalar.indexCast v7309
  let c58_4081 : Index := 58#32
  ![v7623.toNat, 58]
def k0_off1807 (v7620 : BitVec 32) : Fin 4 → Nat :=
  let c18_4082 : Index := 18#32
  let v7625 : Index := Scalar.indexCast v7620
  let c0_4083 : Index := 0#32
  let c0_4084 : Index := 0#32
  ![18, v7625.toNat, 0, 0]

def k0_chk626 (v7620 : BitVec 32) : Prop :=
  (∀ a, (k0_off1807 v7620) a + S1x3x7x256.size a ≤ S32x14x7x256.size a)
theorem k0_off1807_inb : ∀ (v7620 : BitVec 32) (k0_hw626 : k0_chk626 v7620), ∀ a, (k0_off1807 v7620) a + S1x3x7x256.size a ≤ S32x14x7x256.size a := fun v7620 k0_hw626 => k0_hw626

def k0_off1808 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7641 : Index := Scalar.indexCast v7309
  let c59_4090 : Index := 59#32
  ![v7641.toNat, 59]
def k0_off1809 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7643 : Index := Scalar.indexCast v7309
  let c60_4091 : Index := 60#32
  ![v7643.toNat, 60]
def k0_off1810 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7645 : Index := Scalar.indexCast v7309
  let c61_4092 : Index := 61#32
  ![v7645.toNat, 61]
def k0_off1811 (v7642 : BitVec 32) : Fin 4 → Nat :=
  let c18_4093 : Index := 18#32
  let v7647 : Index := Scalar.indexCast v7642
  let c0_4094 : Index := 0#32
  let c0_4095 : Index := 0#32
  ![18, v7647.toNat, 0, 0]

def k0_chk627 (v7642 : BitVec 32) : Prop :=
  (∀ a, (k0_off1811 v7642) a + S1x3x7x256.size a ≤ S32x14x7x256.size a)
theorem k0_off1811_inb : ∀ (v7642 : BitVec 32) (k0_hw627 : k0_chk627 v7642), ∀ a, (k0_off1811 v7642) a + S1x3x7x256.size a ≤ S32x14x7x256.size a := fun v7642 k0_hw627 => k0_hw627

def k0_off1812 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7663 : Index := Scalar.indexCast v7309
  let c62_4101 : Index := 62#32
  ![v7663.toNat, 62]
def k0_off1813 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7665 : Index := Scalar.indexCast v7309
  let c63_4102 : Index := 63#32
  ![v7665.toNat, 63]
def k0_off1814 (i : grid0.Coords) : Fin 2 → Nat :=
  let c32_i32_3911 : BitVec 32 := 32#32
  let arg0 : BitVec 32 := BitVec.ofNat 32 (i 0).val
  let v7308 : BitVec 32 := Scalar.muli c32_i32_3911 arg0
  let c18_i32_3912 : BitVec 32 := 18#32
  let v7309 : BitVec 32 := Scalar.addi v7308 c18_i32_3912
  let v7667 : Index := Scalar.indexCast v7309
  let c64_4103 : Index := 64#32
  ![v7667.toNat, 64]
def k0_off1815 (v7664 : BitVec 32) : Fin 4 → Nat :=
  let c18_4104 : Index := 18#32
  let v7669 : Index := Scalar.indexCast v7664
  let c0_4105 : Index := 0#32
  let c0_4106 : Index := 0#32
  ![18, v7669.toNat, 0, 0]

def k0_chk628 (v7664 : BitVec 32) : Prop :=
  (∀ a, (k0_off1815 v7664) a + S1x3x7x256.size a ≤ S32x14x7x256.size a)
theorem k0_off1815_inb : ∀ (v7664 : BitVec 32) (k0_hw628 : k0_chk628 v7664), ∀ a, (k0_off1815 v7664) a + S1x3x7x256.size a ≤ S32x14x7x256.size a := fun v7664 k0_hw628 => k0_hw628

def k0_off1816 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7690 : Index := Scalar.indexCast v7686
  let c16_4117 : Index := 16#32
  ![v7690.toNat, 16]
def k0_off1817 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7692 : Index := Scalar.indexCast v7686
  let c17_4118 : Index := 17#32
  ![v7692.toNat, 17]
def k0_off1818 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7694 : Index := Scalar.indexCast v7686
  let c18_4119 : Index := 18#32
  ![v7694.toNat, 18]
def k0_off1819 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7696 : Index := Scalar.indexCast v7686
  let c19_4120 : Index := 19#32
  ![v7696.toNat, 19]
def k0_off1820 (i : grid0.Coords) (v7691 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7698 : Index := Scalar.indexCast v7688
  let c0_4121 : Index := 0#32
  let v7699 : Index := Scalar.indexCast v7691
  let c0_4122 : Index := 0#32
  ![v7698.toNat, 0, v7699.toNat, 0]

def k0_chk629 (i : grid0.Coords) (v7691 : BitVec 32) : Prop :=
  (∀ a, (k0_off1820 i v7691) a + S1x14x1x256.size a ≤ S64x14x24x256.size a)
theorem k0_off1820_inb : ∀ (i : grid0.Coords) (v7691 : BitVec 32) (k0_hw629 : k0_chk629 i v7691), ∀ a, (k0_off1820 i v7691) a + S1x14x1x256.size a ≤ S64x14x24x256.size a := fun i v7691 k0_hw629 => k0_hw629

def k0_off1821 (i : grid0.Coords) (v7693 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7702 : Index := Scalar.indexCast v7688
  let c0_4123 : Index := 0#32
  let v7703 : Index := Scalar.indexCast v7693
  let c0_4124 : Index := 0#32
  ![v7702.toNat, 0, v7703.toNat, 0]

def k0_chk630 (i : grid0.Coords) (v7693 : BitVec 32) : Prop :=
  (∀ a, (k0_off1821 i v7693) a + S1x14x1x256.size a ≤ S64x14x24x256.size a)
theorem k0_off1821_inb : ∀ (i : grid0.Coords) (v7693 : BitVec 32) (k0_hw630 : k0_chk630 i v7693), ∀ a, (k0_off1821 i v7693) a + S1x14x1x256.size a ≤ S64x14x24x256.size a := fun i v7693 k0_hw630 => k0_hw630

def k0_off1822 (i : grid0.Coords) (v7695 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7706 : Index := Scalar.indexCast v7688
  let c0_4125 : Index := 0#32
  let v7707 : Index := Scalar.indexCast v7695
  let c0_4126 : Index := 0#32
  ![v7706.toNat, 0, v7707.toNat, 0]

def k0_chk631 (i : grid0.Coords) (v7695 : BitVec 32) : Prop :=
  (∀ a, (k0_off1822 i v7695) a + S1x14x1x256.size a ≤ S64x14x24x256.size a)
theorem k0_off1822_inb : ∀ (i : grid0.Coords) (v7695 : BitVec 32) (k0_hw631 : k0_chk631 i v7695), ∀ a, (k0_off1822 i v7695) a + S1x14x1x256.size a ≤ S64x14x24x256.size a := fun i v7695 k0_hw631 => k0_hw631

def k0_off1823 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7721 : Index := Scalar.indexCast v7686
  let c20_4134 : Index := 20#32
  ![v7721.toNat, 20]
def k0_off1824 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7723 : Index := Scalar.indexCast v7686
  let c21_4135 : Index := 21#32
  ![v7723.toNat, 21]
def k0_off1825 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7725 : Index := Scalar.indexCast v7686
  let c22_4136 : Index := 22#32
  ![v7725.toNat, 22]
def k0_off1826 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7727 : Index := Scalar.indexCast v7686
  let c23_4137 : Index := 23#32
  ![v7727.toNat, 23]
def k0_off1827 (i : grid0.Coords) (v7722 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7729 : Index := Scalar.indexCast v7688
  let c0_4138 : Index := 0#32
  let v7730 : Index := Scalar.indexCast v7722
  let c0_4139 : Index := 0#32
  ![v7729.toNat, 0, v7730.toNat, 0]

def k0_chk632 (i : grid0.Coords) (v7722 : BitVec 32) : Prop :=
  (∀ a, (k0_off1827 i v7722) a + S1x14x1x256.size a ≤ S64x14x24x256.size a)
theorem k0_off1827_inb : ∀ (i : grid0.Coords) (v7722 : BitVec 32) (k0_hw632 : k0_chk632 i v7722), ∀ a, (k0_off1827 i v7722) a + S1x14x1x256.size a ≤ S64x14x24x256.size a := fun i v7722 k0_hw632 => k0_hw632

def k0_off1828 (i : grid0.Coords) (v7724 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7733 : Index := Scalar.indexCast v7688
  let c0_4140 : Index := 0#32
  let v7734 : Index := Scalar.indexCast v7724
  let c0_4141 : Index := 0#32
  ![v7733.toNat, 0, v7734.toNat, 0]

def k0_chk633 (i : grid0.Coords) (v7724 : BitVec 32) : Prop :=
  (∀ a, (k0_off1828 i v7724) a + S1x14x1x256.size a ≤ S64x14x24x256.size a)
theorem k0_off1828_inb : ∀ (i : grid0.Coords) (v7724 : BitVec 32) (k0_hw633 : k0_chk633 i v7724), ∀ a, (k0_off1828 i v7724) a + S1x14x1x256.size a ≤ S64x14x24x256.size a := fun i v7724 k0_hw633 => k0_hw633

def k0_off1829 (i : grid0.Coords) (v7726 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7737 : Index := Scalar.indexCast v7688
  let c0_4142 : Index := 0#32
  let v7738 : Index := Scalar.indexCast v7726
  let c0_4143 : Index := 0#32
  ![v7737.toNat, 0, v7738.toNat, 0]

def k0_chk634 (i : grid0.Coords) (v7726 : BitVec 32) : Prop :=
  (∀ a, (k0_off1829 i v7726) a + S1x14x1x256.size a ≤ S64x14x24x256.size a)
theorem k0_off1829_inb : ∀ (i : grid0.Coords) (v7726 : BitVec 32) (k0_hw634 : k0_chk634 i v7726), ∀ a, (k0_off1829 i v7726) a + S1x14x1x256.size a ≤ S64x14x24x256.size a := fun i v7726 k0_hw634 => k0_hw634

def k0_off1830 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7752 : Index := Scalar.indexCast v7686
  let c24_4151 : Index := 24#32
  ![v7752.toNat, 24]
def k0_off1831 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7754 : Index := Scalar.indexCast v7686
  let c25_4152 : Index := 25#32
  ![v7754.toNat, 25]
def k0_off1832 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7756 : Index := Scalar.indexCast v7686
  let c26_4153 : Index := 26#32
  ![v7756.toNat, 26]
def k0_off1833 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7758 : Index := Scalar.indexCast v7686
  let c27_4154 : Index := 27#32
  ![v7758.toNat, 27]
def k0_off1834 (i : grid0.Coords) (v7753 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7760 : Index := Scalar.indexCast v7688
  let c0_4155 : Index := 0#32
  let v7761 : Index := Scalar.indexCast v7753
  let c0_4156 : Index := 0#32
  ![v7760.toNat, 0, v7761.toNat, 0]

def k0_chk635 (i : grid0.Coords) (v7753 : BitVec 32) : Prop :=
  (∀ a, (k0_off1834 i v7753) a + S1x14x1x256.size a ≤ S64x14x24x256.size a)
theorem k0_off1834_inb : ∀ (i : grid0.Coords) (v7753 : BitVec 32) (k0_hw635 : k0_chk635 i v7753), ∀ a, (k0_off1834 i v7753) a + S1x14x1x256.size a ≤ S64x14x24x256.size a := fun i v7753 k0_hw635 => k0_hw635

def k0_off1835 (i : grid0.Coords) (v7755 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7764 : Index := Scalar.indexCast v7688
  let c0_4157 : Index := 0#32
  let v7765 : Index := Scalar.indexCast v7755
  let c0_4158 : Index := 0#32
  ![v7764.toNat, 0, v7765.toNat, 0]

def k0_chk636 (i : grid0.Coords) (v7755 : BitVec 32) : Prop :=
  (∀ a, (k0_off1835 i v7755) a + S1x14x1x256.size a ≤ S64x14x24x256.size a)
theorem k0_off1835_inb : ∀ (i : grid0.Coords) (v7755 : BitVec 32) (k0_hw636 : k0_chk636 i v7755), ∀ a, (k0_off1835 i v7755) a + S1x14x1x256.size a ≤ S64x14x24x256.size a := fun i v7755 k0_hw636 => k0_hw636

def k0_off1836 (i : grid0.Coords) (v7757 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7768 : Index := Scalar.indexCast v7688
  let c0_4159 : Index := 0#32
  let v7769 : Index := Scalar.indexCast v7757
  let c0_4160 : Index := 0#32
  ![v7768.toNat, 0, v7769.toNat, 0]

def k0_chk637 (i : grid0.Coords) (v7757 : BitVec 32) : Prop :=
  (∀ a, (k0_off1836 i v7757) a + S1x14x1x256.size a ≤ S64x14x24x256.size a)
theorem k0_off1836_inb : ∀ (i : grid0.Coords) (v7757 : BitVec 32) (k0_hw637 : k0_chk637 i v7757), ∀ a, (k0_off1836 i v7757) a + S1x14x1x256.size a ≤ S64x14x24x256.size a := fun i v7757 k0_hw637 => k0_hw637

def k0_off1837 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7783 : Index := Scalar.indexCast v7686
  let c28_4168 : Index := 28#32
  ![v7783.toNat, 28]
def k0_off1838 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7785 : Index := Scalar.indexCast v7686
  let c29_4169 : Index := 29#32
  ![v7785.toNat, 29]
def k0_off1839 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7787 : Index := Scalar.indexCast v7686
  let c30_4170 : Index := 30#32
  ![v7787.toNat, 30]
def k0_off1840 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7789 : Index := Scalar.indexCast v7686
  let c31_4171 : Index := 31#32
  ![v7789.toNat, 31]
def k0_off1841 (i : grid0.Coords) (v7784 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7791 : Index := Scalar.indexCast v7688
  let c0_4172 : Index := 0#32
  let v7792 : Index := Scalar.indexCast v7784
  let c0_4173 : Index := 0#32
  ![v7791.toNat, 0, v7792.toNat, 0]

def k0_chk638 (i : grid0.Coords) (v7784 : BitVec 32) : Prop :=
  (∀ a, (k0_off1841 i v7784) a + S1x14x1x256.size a ≤ S64x14x24x256.size a)
theorem k0_off1841_inb : ∀ (i : grid0.Coords) (v7784 : BitVec 32) (k0_hw638 : k0_chk638 i v7784), ∀ a, (k0_off1841 i v7784) a + S1x14x1x256.size a ≤ S64x14x24x256.size a := fun i v7784 k0_hw638 => k0_hw638

def k0_off1842 (i : grid0.Coords) (v7786 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7795 : Index := Scalar.indexCast v7688
  let c0_4174 : Index := 0#32
  let v7796 : Index := Scalar.indexCast v7786
  let c0_4175 : Index := 0#32
  ![v7795.toNat, 0, v7796.toNat, 0]

def k0_chk639 (i : grid0.Coords) (v7786 : BitVec 32) : Prop :=
  (∀ a, (k0_off1842 i v7786) a + S1x14x1x256.size a ≤ S64x14x24x256.size a)
theorem k0_off1842_inb : ∀ (i : grid0.Coords) (v7786 : BitVec 32) (k0_hw639 : k0_chk639 i v7786), ∀ a, (k0_off1842 i v7786) a + S1x14x1x256.size a ≤ S64x14x24x256.size a := fun i v7786 k0_hw639 => k0_hw639

def k0_off1843 (i : grid0.Coords) (v7788 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7799 : Index := Scalar.indexCast v7688
  let c0_4176 : Index := 0#32
  let v7800 : Index := Scalar.indexCast v7788
  let c0_4177 : Index := 0#32
  ![v7799.toNat, 0, v7800.toNat, 0]

def k0_chk640 (i : grid0.Coords) (v7788 : BitVec 32) : Prop :=
  (∀ a, (k0_off1843 i v7788) a + S1x14x1x256.size a ≤ S64x14x24x256.size a)
theorem k0_off1843_inb : ∀ (i : grid0.Coords) (v7788 : BitVec 32) (k0_hw640 : k0_chk640 i v7788), ∀ a, (k0_off1843 i v7788) a + S1x14x1x256.size a ≤ S64x14x24x256.size a := fun i v7788 k0_hw640 => k0_hw640

def k0_off1844 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7814 : Index := Scalar.indexCast v7686
  let c32_4185 : Index := 32#32
  ![v7814.toNat, 32]
def k0_off1845 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7816 : Index := Scalar.indexCast v7686
  let c33_4186 : Index := 33#32
  ![v7816.toNat, 33]
def k0_off1846 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7818 : Index := Scalar.indexCast v7686
  let c34_4187 : Index := 34#32
  ![v7818.toNat, 34]
def k0_off1847 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7820 : Index := Scalar.indexCast v7686
  let c35_4188 : Index := 35#32
  ![v7820.toNat, 35]
def k0_off1848 (i : grid0.Coords) (v7815 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7822 : Index := Scalar.indexCast v7688
  let c0_4189 : Index := 0#32
  let v7823 : Index := Scalar.indexCast v7815
  let c0_4190 : Index := 0#32
  ![v7822.toNat, 0, v7823.toNat, 0]

def k0_chk641 (i : grid0.Coords) (v7815 : BitVec 32) : Prop :=
  (∀ a, (k0_off1848 i v7815) a + S1x14x1x256.size a ≤ S64x14x24x256.size a)
theorem k0_off1848_inb : ∀ (i : grid0.Coords) (v7815 : BitVec 32) (k0_hw641 : k0_chk641 i v7815), ∀ a, (k0_off1848 i v7815) a + S1x14x1x256.size a ≤ S64x14x24x256.size a := fun i v7815 k0_hw641 => k0_hw641

def k0_off1849 (i : grid0.Coords) (v7817 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7826 : Index := Scalar.indexCast v7688
  let c0_4191 : Index := 0#32
  let v7827 : Index := Scalar.indexCast v7817
  let c0_4192 : Index := 0#32
  ![v7826.toNat, 0, v7827.toNat, 0]

def k0_chk642 (i : grid0.Coords) (v7817 : BitVec 32) : Prop :=
  (∀ a, (k0_off1849 i v7817) a + S1x14x1x256.size a ≤ S64x14x24x256.size a)
theorem k0_off1849_inb : ∀ (i : grid0.Coords) (v7817 : BitVec 32) (k0_hw642 : k0_chk642 i v7817), ∀ a, (k0_off1849 i v7817) a + S1x14x1x256.size a ≤ S64x14x24x256.size a := fun i v7817 k0_hw642 => k0_hw642

def k0_off1850 (i : grid0.Coords) (v7819 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7830 : Index := Scalar.indexCast v7688
  let c0_4193 : Index := 0#32
  let v7831 : Index := Scalar.indexCast v7819
  let c0_4194 : Index := 0#32
  ![v7830.toNat, 0, v7831.toNat, 0]

def k0_chk643 (i : grid0.Coords) (v7819 : BitVec 32) : Prop :=
  (∀ a, (k0_off1850 i v7819) a + S1x14x1x256.size a ≤ S64x14x24x256.size a)
theorem k0_off1850_inb : ∀ (i : grid0.Coords) (v7819 : BitVec 32) (k0_hw643 : k0_chk643 i v7819), ∀ a, (k0_off1850 i v7819) a + S1x14x1x256.size a ≤ S64x14x24x256.size a := fun i v7819 k0_hw643 => k0_hw643

def k0_off1851 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7845 : Index := Scalar.indexCast v7686
  let c36_4202 : Index := 36#32
  ![v7845.toNat, 36]
def k0_off1852 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7847 : Index := Scalar.indexCast v7686
  let c37_4203 : Index := 37#32
  ![v7847.toNat, 37]
def k0_off1853 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7849 : Index := Scalar.indexCast v7686
  let c38_4204 : Index := 38#32
  ![v7849.toNat, 38]
def k0_off1854 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7851 : Index := Scalar.indexCast v7686
  let c39_4205 : Index := 39#32
  ![v7851.toNat, 39]
def k0_off1855 (i : grid0.Coords) (v7846 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7853 : Index := Scalar.indexCast v7688
  let c0_4206 : Index := 0#32
  let v7854 : Index := Scalar.indexCast v7846
  let c0_4207 : Index := 0#32
  ![v7853.toNat, 0, v7854.toNat, 0]

def k0_chk644 (i : grid0.Coords) (v7846 : BitVec 32) : Prop :=
  (∀ a, (k0_off1855 i v7846) a + S1x14x1x256.size a ≤ S64x14x24x256.size a)
theorem k0_off1855_inb : ∀ (i : grid0.Coords) (v7846 : BitVec 32) (k0_hw644 : k0_chk644 i v7846), ∀ a, (k0_off1855 i v7846) a + S1x14x1x256.size a ≤ S64x14x24x256.size a := fun i v7846 k0_hw644 => k0_hw644

def k0_off1856 (i : grid0.Coords) (v7848 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7857 : Index := Scalar.indexCast v7688
  let c0_4208 : Index := 0#32
  let v7858 : Index := Scalar.indexCast v7848
  let c0_4209 : Index := 0#32
  ![v7857.toNat, 0, v7858.toNat, 0]

def k0_chk645 (i : grid0.Coords) (v7848 : BitVec 32) : Prop :=
  (∀ a, (k0_off1856 i v7848) a + S1x14x1x256.size a ≤ S64x14x24x256.size a)
theorem k0_off1856_inb : ∀ (i : grid0.Coords) (v7848 : BitVec 32) (k0_hw645 : k0_chk645 i v7848), ∀ a, (k0_off1856 i v7848) a + S1x14x1x256.size a ≤ S64x14x24x256.size a := fun i v7848 k0_hw645 => k0_hw645

def k0_off1857 (i : grid0.Coords) (v7850 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7861 : Index := Scalar.indexCast v7688
  let c0_4210 : Index := 0#32
  let v7862 : Index := Scalar.indexCast v7850
  let c0_4211 : Index := 0#32
  ![v7861.toNat, 0, v7862.toNat, 0]

def k0_chk646 (i : grid0.Coords) (v7850 : BitVec 32) : Prop :=
  (∀ a, (k0_off1857 i v7850) a + S1x14x1x256.size a ≤ S64x14x24x256.size a)
theorem k0_off1857_inb : ∀ (i : grid0.Coords) (v7850 : BitVec 32) (k0_hw646 : k0_chk646 i v7850), ∀ a, (k0_off1857 i v7850) a + S1x14x1x256.size a ≤ S64x14x24x256.size a := fun i v7850 k0_hw646 => k0_hw646

def k0_off1858 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7876 : Index := Scalar.indexCast v7686
  let c40_4219 : Index := 40#32
  ![v7876.toNat, 40]
def k0_off1859 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7878 : Index := Scalar.indexCast v7686
  let c41_4220 : Index := 41#32
  ![v7878.toNat, 41]
def k0_off1860 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7880 : Index := Scalar.indexCast v7686
  let c42_4221 : Index := 42#32
  ![v7880.toNat, 42]
def k0_off1861 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7882 : Index := Scalar.indexCast v7686
  let c43_4222 : Index := 43#32
  ![v7882.toNat, 43]
def k0_off1862 (i : grid0.Coords) (v7877 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7884 : Index := Scalar.indexCast v7688
  let c0_4223 : Index := 0#32
  let v7885 : Index := Scalar.indexCast v7877
  let c0_4224 : Index := 0#32
  ![v7884.toNat, 0, v7885.toNat, 0]

def k0_chk647 (i : grid0.Coords) (v7877 : BitVec 32) : Prop :=
  (∀ a, (k0_off1862 i v7877) a + S1x14x1x256.size a ≤ S64x14x24x256.size a)
theorem k0_off1862_inb : ∀ (i : grid0.Coords) (v7877 : BitVec 32) (k0_hw647 : k0_chk647 i v7877), ∀ a, (k0_off1862 i v7877) a + S1x14x1x256.size a ≤ S64x14x24x256.size a := fun i v7877 k0_hw647 => k0_hw647

def k0_off1863 (i : grid0.Coords) (v7879 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7888 : Index := Scalar.indexCast v7688
  let c0_4225 : Index := 0#32
  let v7889 : Index := Scalar.indexCast v7879
  let c0_4226 : Index := 0#32
  ![v7888.toNat, 0, v7889.toNat, 0]

def k0_chk648 (i : grid0.Coords) (v7879 : BitVec 32) : Prop :=
  (∀ a, (k0_off1863 i v7879) a + S1x14x1x256.size a ≤ S64x14x24x256.size a)
theorem k0_off1863_inb : ∀ (i : grid0.Coords) (v7879 : BitVec 32) (k0_hw648 : k0_chk648 i v7879), ∀ a, (k0_off1863 i v7879) a + S1x14x1x256.size a ≤ S64x14x24x256.size a := fun i v7879 k0_hw648 => k0_hw648

def k0_off1864 (i : grid0.Coords) (v7881 : BitVec 32) : Fin 4 → Nat :=
  let c32_i32_4114 : BitVec 32 := 32#32
  let arg0 : BitVec 32 := BitVec.ofNat 32 (i 0).val
  let c2_i32 : BitVec 32 := 2#32
  let v0 : BitVec 32 := Scalar.remsi arg0 c2_i32
  let v7687 : BitVec 32 := Scalar.muli c32_i32_4114 v0
  let c19_i32_4115 : BitVec 32 := 19#32
  let v7688 : BitVec 32 := Scalar.addi v7687 c19_i32_4115
  let v7892 : Index := Scalar.indexCast v7688
  let c0_4227 : Index := 0#32
  let v7893 : Index := Scalar.indexCast v7881
  let c0_4228 : Index := 0#32
  ![v7892.toNat, 0, v7893.toNat, 0]

def k0_chk649 (i : grid0.Coords) (v7881 : BitVec 32) : Prop :=
  (∀ a, (k0_off1864 i v7881) a + S1x14x1x256.size a ≤ S64x14x24x256.size a)
theorem k0_off1864_inb : ∀ (i : grid0.Coords) (v7881 : BitVec 32) (k0_hw649 : k0_chk649 i v7881), ∀ a, (k0_off1864 i v7881) a + S1x14x1x256.size a ≤ S64x14x24x256.size a := fun i v7881 k0_hw649 => k0_hw649

def k0_off1865 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7908 : Index := Scalar.indexCast v7686
  let c44_4236 : Index := 44#32
  ![v7908.toNat, 44]
def k0_off1866 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7910 : Index := Scalar.indexCast v7686
  let c45_4237 : Index := 45#32
  ![v7910.toNat, 45]
def k0_off1867 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7912 : Index := Scalar.indexCast v7686
  let c46_4238 : Index := 46#32
  ![v7912.toNat, 46]
def k0_off1868 (v7909 : BitVec 32) : Fin 4 → Nat :=
  let c19_4239 : Index := 19#32
  let v7914 : Index := Scalar.indexCast v7909
  let c0_4240 : Index := 0#32
  let c0_4241 : Index := 0#32
  ![19, v7914.toNat, 0, 0]

def k0_chk650 (v7909 : BitVec 32) : Prop :=
  (∀ a, (k0_off1868 v7909) a + S1x3x7x256.size a ≤ S32x14x7x256.size a)
theorem k0_off1868_inb : ∀ (v7909 : BitVec 32) (k0_hw650 : k0_chk650 v7909), ∀ a, (k0_off1868 v7909) a + S1x3x7x256.size a ≤ S32x14x7x256.size a := fun v7909 k0_hw650 => k0_hw650

def k0_off1869 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7930 : Index := Scalar.indexCast v7686
  let c47_4247 : Index := 47#32
  ![v7930.toNat, 47]
def k0_off1870 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7932 : Index := Scalar.indexCast v7686
  let c48_4248 : Index := 48#32
  ![v7932.toNat, 48]
def k0_off1871 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7934 : Index := Scalar.indexCast v7686
  let c49_4249 : Index := 49#32
  ![v7934.toNat, 49]
def k0_off1872 (v7931 : BitVec 32) : Fin 4 → Nat :=
  let c19_4250 : Index := 19#32
  let v7936 : Index := Scalar.indexCast v7931
  let c0_4251 : Index := 0#32
  let c0_4252 : Index := 0#32
  ![19, v7936.toNat, 0, 0]

def k0_chk651 (v7931 : BitVec 32) : Prop :=
  (∀ a, (k0_off1872 v7931) a + S1x3x7x256.size a ≤ S32x14x7x256.size a)
theorem k0_off1872_inb : ∀ (v7931 : BitVec 32) (k0_hw651 : k0_chk651 v7931), ∀ a, (k0_off1872 v7931) a + S1x3x7x256.size a ≤ S32x14x7x256.size a := fun v7931 k0_hw651 => k0_hw651

def k0_off1873 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7952 : Index := Scalar.indexCast v7686
  let c50_4258 : Index := 50#32
  ![v7952.toNat, 50]
def k0_off1874 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7954 : Index := Scalar.indexCast v7686
  let c51_4259 : Index := 51#32
  ![v7954.toNat, 51]
def k0_off1875 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7956 : Index := Scalar.indexCast v7686
  let c52_4260 : Index := 52#32
  ![v7956.toNat, 52]
def k0_off1876 (v7953 : BitVec 32) : Fin 4 → Nat :=
  let c19_4261 : Index := 19#32
  let v7958 : Index := Scalar.indexCast v7953
  let c0_4262 : Index := 0#32
  let c0_4263 : Index := 0#32
  ![19, v7958.toNat, 0, 0]

def k0_chk652 (v7953 : BitVec 32) : Prop :=
  (∀ a, (k0_off1876 v7953) a + S1x3x7x256.size a ≤ S32x14x7x256.size a)
theorem k0_off1876_inb : ∀ (v7953 : BitVec 32) (k0_hw652 : k0_chk652 v7953), ∀ a, (k0_off1876 v7953) a + S1x3x7x256.size a ≤ S32x14x7x256.size a := fun v7953 k0_hw652 => k0_hw652

def k0_off1877 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7974 : Index := Scalar.indexCast v7686
  let c53_4269 : Index := 53#32
  ![v7974.toNat, 53]
def k0_off1878 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7976 : Index := Scalar.indexCast v7686
  let c54_4270 : Index := 54#32
  ![v7976.toNat, 54]
def k0_off1879 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7978 : Index := Scalar.indexCast v7686
  let c55_4271 : Index := 55#32
  ![v7978.toNat, 55]
def k0_off1880 (v7975 : BitVec 32) : Fin 4 → Nat :=
  let c19_4272 : Index := 19#32
  let v7980 : Index := Scalar.indexCast v7975
  let c0_4273 : Index := 0#32
  let c0_4274 : Index := 0#32
  ![19, v7980.toNat, 0, 0]

def k0_chk653 (v7975 : BitVec 32) : Prop :=
  (∀ a, (k0_off1880 v7975) a + S1x3x7x256.size a ≤ S32x14x7x256.size a)
theorem k0_off1880_inb : ∀ (v7975 : BitVec 32) (k0_hw653 : k0_chk653 v7975), ∀ a, (k0_off1880 v7975) a + S1x3x7x256.size a ≤ S32x14x7x256.size a := fun v7975 k0_hw653 => k0_hw653

def k0_off1881 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7996 : Index := Scalar.indexCast v7686
  let c56_4280 : Index := 56#32
  ![v7996.toNat, 56]
def k0_off1882 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v7998 : Index := Scalar.indexCast v7686
  let c57_4281 : Index := 57#32
  ![v7998.toNat, 57]
def k0_off1883 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8000 : Index := Scalar.indexCast v7686
  let c58_4282 : Index := 58#32
  ![v8000.toNat, 58]
def k0_off1884 (v7997 : BitVec 32) : Fin 4 → Nat :=
  let c19_4283 : Index := 19#32
  let v8002 : Index := Scalar.indexCast v7997
  let c0_4284 : Index := 0#32
  let c0_4285 : Index := 0#32
  ![19, v8002.toNat, 0, 0]

def k0_chk654 (v7997 : BitVec 32) : Prop :=
  (∀ a, (k0_off1884 v7997) a + S1x3x7x256.size a ≤ S32x14x7x256.size a)
theorem k0_off1884_inb : ∀ (v7997 : BitVec 32) (k0_hw654 : k0_chk654 v7997), ∀ a, (k0_off1884 v7997) a + S1x3x7x256.size a ≤ S32x14x7x256.size a := fun v7997 k0_hw654 => k0_hw654

def k0_off1885 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8018 : Index := Scalar.indexCast v7686
  let c59_4291 : Index := 59#32
  ![v8018.toNat, 59]
def k0_off1886 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8020 : Index := Scalar.indexCast v7686
  let c60_4292 : Index := 60#32
  ![v8020.toNat, 60]
def k0_off1887 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8022 : Index := Scalar.indexCast v7686
  let c61_4293 : Index := 61#32
  ![v8022.toNat, 61]
def k0_off1888 (v8019 : BitVec 32) : Fin 4 → Nat :=
  let c19_4294 : Index := 19#32
  let v8024 : Index := Scalar.indexCast v8019
  let c0_4295 : Index := 0#32
  let c0_4296 : Index := 0#32
  ![19, v8024.toNat, 0, 0]

def k0_chk655 (v8019 : BitVec 32) : Prop :=
  (∀ a, (k0_off1888 v8019) a + S1x3x7x256.size a ≤ S32x14x7x256.size a)
theorem k0_off1888_inb : ∀ (v8019 : BitVec 32) (k0_hw655 : k0_chk655 v8019), ∀ a, (k0_off1888 v8019) a + S1x3x7x256.size a ≤ S32x14x7x256.size a := fun v8019 k0_hw655 => k0_hw655

def k0_off1889 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8040 : Index := Scalar.indexCast v7686
  let c62_4302 : Index := 62#32
  ![v8040.toNat, 62]
def k0_off1890 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8042 : Index := Scalar.indexCast v7686
  let c63_4303 : Index := 63#32
  ![v8042.toNat, 63]
def k0_off1891 (i : grid0.Coords) : Fin 2 → Nat :=
  let c32_i32_4112 : BitVec 32 := 32#32
  let arg0 : BitVec 32 := BitVec.ofNat 32 (i 0).val
  let v7685 : BitVec 32 := Scalar.muli c32_i32_4112 arg0
  let c19_i32_4113 : BitVec 32 := 19#32
  let v7686 : BitVec 32 := Scalar.addi v7685 c19_i32_4113
  let v8044 : Index := Scalar.indexCast v7686
  let c64_4304 : Index := 64#32
  ![v8044.toNat, 64]
def k0_off1892 (v8041 : BitVec 32) : Fin 4 → Nat :=
  let c19_4305 : Index := 19#32
  let v8046 : Index := Scalar.indexCast v8041
  let c0_4306 : Index := 0#32
  let c0_4307 : Index := 0#32
  ![19, v8046.toNat, 0, 0]

def k0_chk656 (v8041 : BitVec 32) : Prop :=
  (∀ a, (k0_off1892 v8041) a + S1x3x7x256.size a ≤ S32x14x7x256.size a)
theorem k0_off1892_inb : ∀ (v8041 : BitVec 32) (k0_hw656 : k0_chk656 v8041), ∀ a, (k0_off1892 v8041) a + S1x3x7x256.size a ≤ S32x14x7x256.size a := fun v8041 k0_hw656 => k0_hw656

def k0_off1893 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8067 : Index := Scalar.indexCast v8063
  let c16_4318 : Index := 16#32
  ![v8067.toNat, 16]
def k0_off1894 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8069 : Index := Scalar.indexCast v8063
  let c17_4319 : Index := 17#32
  ![v8069.toNat, 17]
def k0_off1895 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8071 : Index := Scalar.indexCast v8063
  let c18_4320 : Index := 18#32
  ![v8071.toNat, 18]
def k0_off1896 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8073 : Index := Scalar.indexCast v8063
  let c19_4321 : Index := 19#32
  ![v8073.toNat, 19]
def k0_off1897 (i : grid0.Coords) (v8068 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8075 : Index := Scalar.indexCast v8065
  let c0_4322 : Index := 0#32
  let v8076 : Index := Scalar.indexCast v8068
  let c0_4323 : Index := 0#32
  ![v8075.toNat, 0, v8076.toNat, 0]

def k0_chk657 (i : grid0.Coords) (v8068 : BitVec 32) : Prop :=
  (∀ a, (k0_off1897 i v8068) a + S1x14x1x256.size a ≤ S64x14x24x256.size a)
theorem k0_off1897_inb : ∀ (i : grid0.Coords) (v8068 : BitVec 32) (k0_hw657 : k0_chk657 i v8068), ∀ a, (k0_off1897 i v8068) a + S1x14x1x256.size a ≤ S64x14x24x256.size a := fun i v8068 k0_hw657 => k0_hw657

def k0_off1898 (i : grid0.Coords) (v8070 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8079 : Index := Scalar.indexCast v8065
  let c0_4324 : Index := 0#32
  let v8080 : Index := Scalar.indexCast v8070
  let c0_4325 : Index := 0#32
  ![v8079.toNat, 0, v8080.toNat, 0]

def k0_chk658 (i : grid0.Coords) (v8070 : BitVec 32) : Prop :=
  (∀ a, (k0_off1898 i v8070) a + S1x14x1x256.size a ≤ S64x14x24x256.size a)
theorem k0_off1898_inb : ∀ (i : grid0.Coords) (v8070 : BitVec 32) (k0_hw658 : k0_chk658 i v8070), ∀ a, (k0_off1898 i v8070) a + S1x14x1x256.size a ≤ S64x14x24x256.size a := fun i v8070 k0_hw658 => k0_hw658

def k0_off1899 (i : grid0.Coords) (v8072 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8083 : Index := Scalar.indexCast v8065
  let c0_4326 : Index := 0#32
  let v8084 : Index := Scalar.indexCast v8072
  let c0_4327 : Index := 0#32
  ![v8083.toNat, 0, v8084.toNat, 0]

def k0_chk659 (i : grid0.Coords) (v8072 : BitVec 32) : Prop :=
  (∀ a, (k0_off1899 i v8072) a + S1x14x1x256.size a ≤ S64x14x24x256.size a)
theorem k0_off1899_inb : ∀ (i : grid0.Coords) (v8072 : BitVec 32) (k0_hw659 : k0_chk659 i v8072), ∀ a, (k0_off1899 i v8072) a + S1x14x1x256.size a ≤ S64x14x24x256.size a := fun i v8072 k0_hw659 => k0_hw659

def k0_off1900 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8098 : Index := Scalar.indexCast v8063
  let c20_4335 : Index := 20#32
  ![v8098.toNat, 20]
def k0_off1901 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8100 : Index := Scalar.indexCast v8063
  let c21_4336 : Index := 21#32
  ![v8100.toNat, 21]
def k0_off1902 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8102 : Index := Scalar.indexCast v8063
  let c22_4337 : Index := 22#32
  ![v8102.toNat, 22]
def k0_off1903 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8104 : Index := Scalar.indexCast v8063
  let c23_4338 : Index := 23#32
  ![v8104.toNat, 23]
def k0_off1904 (i : grid0.Coords) (v8099 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8106 : Index := Scalar.indexCast v8065
  let c0_4339 : Index := 0#32
  let v8107 : Index := Scalar.indexCast v8099
  let c0_4340 : Index := 0#32
  ![v8106.toNat, 0, v8107.toNat, 0]

def k0_chk660 (i : grid0.Coords) (v8099 : BitVec 32) : Prop :=
  (∀ a, (k0_off1904 i v8099) a + S1x14x1x256.size a ≤ S64x14x24x256.size a)
theorem k0_off1904_inb : ∀ (i : grid0.Coords) (v8099 : BitVec 32) (k0_hw660 : k0_chk660 i v8099), ∀ a, (k0_off1904 i v8099) a + S1x14x1x256.size a ≤ S64x14x24x256.size a := fun i v8099 k0_hw660 => k0_hw660

def k0_off1905 (i : grid0.Coords) (v8101 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8110 : Index := Scalar.indexCast v8065
  let c0_4341 : Index := 0#32
  let v8111 : Index := Scalar.indexCast v8101
  let c0_4342 : Index := 0#32
  ![v8110.toNat, 0, v8111.toNat, 0]

def k0_chk661 (i : grid0.Coords) (v8101 : BitVec 32) : Prop :=
  (∀ a, (k0_off1905 i v8101) a + S1x14x1x256.size a ≤ S64x14x24x256.size a)
theorem k0_off1905_inb : ∀ (i : grid0.Coords) (v8101 : BitVec 32) (k0_hw661 : k0_chk661 i v8101), ∀ a, (k0_off1905 i v8101) a + S1x14x1x256.size a ≤ S64x14x24x256.size a := fun i v8101 k0_hw661 => k0_hw661

def k0_off1906 (i : grid0.Coords) (v8103 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8114 : Index := Scalar.indexCast v8065
  let c0_4343 : Index := 0#32
  let v8115 : Index := Scalar.indexCast v8103
  let c0_4344 : Index := 0#32
  ![v8114.toNat, 0, v8115.toNat, 0]

def k0_chk662 (i : grid0.Coords) (v8103 : BitVec 32) : Prop :=
  (∀ a, (k0_off1906 i v8103) a + S1x14x1x256.size a ≤ S64x14x24x256.size a)
theorem k0_off1906_inb : ∀ (i : grid0.Coords) (v8103 : BitVec 32) (k0_hw662 : k0_chk662 i v8103), ∀ a, (k0_off1906 i v8103) a + S1x14x1x256.size a ≤ S64x14x24x256.size a := fun i v8103 k0_hw662 => k0_hw662

def k0_off1907 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8129 : Index := Scalar.indexCast v8063
  let c24_4352 : Index := 24#32
  ![v8129.toNat, 24]
def k0_off1908 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8131 : Index := Scalar.indexCast v8063
  let c25_4353 : Index := 25#32
  ![v8131.toNat, 25]
def k0_off1909 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8133 : Index := Scalar.indexCast v8063
  let c26_4354 : Index := 26#32
  ![v8133.toNat, 26]
def k0_off1910 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8135 : Index := Scalar.indexCast v8063
  let c27_4355 : Index := 27#32
  ![v8135.toNat, 27]
def k0_off1911 (i : grid0.Coords) (v8130 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8137 : Index := Scalar.indexCast v8065
  let c0_4356 : Index := 0#32
  let v8138 : Index := Scalar.indexCast v8130
  let c0_4357 : Index := 0#32
  ![v8137.toNat, 0, v8138.toNat, 0]

def k0_chk663 (i : grid0.Coords) (v8130 : BitVec 32) : Prop :=
  (∀ a, (k0_off1911 i v8130) a + S1x14x1x256.size a ≤ S64x14x24x256.size a)
theorem k0_off1911_inb : ∀ (i : grid0.Coords) (v8130 : BitVec 32) (k0_hw663 : k0_chk663 i v8130), ∀ a, (k0_off1911 i v8130) a + S1x14x1x256.size a ≤ S64x14x24x256.size a := fun i v8130 k0_hw663 => k0_hw663

def k0_off1912 (i : grid0.Coords) (v8132 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8141 : Index := Scalar.indexCast v8065
  let c0_4358 : Index := 0#32
  let v8142 : Index := Scalar.indexCast v8132
  let c0_4359 : Index := 0#32
  ![v8141.toNat, 0, v8142.toNat, 0]

def k0_chk664 (i : grid0.Coords) (v8132 : BitVec 32) : Prop :=
  (∀ a, (k0_off1912 i v8132) a + S1x14x1x256.size a ≤ S64x14x24x256.size a)
theorem k0_off1912_inb : ∀ (i : grid0.Coords) (v8132 : BitVec 32) (k0_hw664 : k0_chk664 i v8132), ∀ a, (k0_off1912 i v8132) a + S1x14x1x256.size a ≤ S64x14x24x256.size a := fun i v8132 k0_hw664 => k0_hw664

def k0_off1913 (i : grid0.Coords) (v8134 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8145 : Index := Scalar.indexCast v8065
  let c0_4360 : Index := 0#32
  let v8146 : Index := Scalar.indexCast v8134
  let c0_4361 : Index := 0#32
  ![v8145.toNat, 0, v8146.toNat, 0]

def k0_chk665 (i : grid0.Coords) (v8134 : BitVec 32) : Prop :=
  (∀ a, (k0_off1913 i v8134) a + S1x14x1x256.size a ≤ S64x14x24x256.size a)
theorem k0_off1913_inb : ∀ (i : grid0.Coords) (v8134 : BitVec 32) (k0_hw665 : k0_chk665 i v8134), ∀ a, (k0_off1913 i v8134) a + S1x14x1x256.size a ≤ S64x14x24x256.size a := fun i v8134 k0_hw665 => k0_hw665

def k0_off1914 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8160 : Index := Scalar.indexCast v8063
  let c28_4369 : Index := 28#32
  ![v8160.toNat, 28]
def k0_off1915 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8162 : Index := Scalar.indexCast v8063
  let c29_4370 : Index := 29#32
  ![v8162.toNat, 29]
def k0_off1916 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8164 : Index := Scalar.indexCast v8063
  let c30_4371 : Index := 30#32
  ![v8164.toNat, 30]
def k0_off1917 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8166 : Index := Scalar.indexCast v8063
  let c31_4372 : Index := 31#32
  ![v8166.toNat, 31]
def k0_off1918 (i : grid0.Coords) (v8161 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8168 : Index := Scalar.indexCast v8065
  let c0_4373 : Index := 0#32
  let v8169 : Index := Scalar.indexCast v8161
  let c0_4374 : Index := 0#32
  ![v8168.toNat, 0, v8169.toNat, 0]

def k0_chk666 (i : grid0.Coords) (v8161 : BitVec 32) : Prop :=
  (∀ a, (k0_off1918 i v8161) a + S1x14x1x256.size a ≤ S64x14x24x256.size a)
theorem k0_off1918_inb : ∀ (i : grid0.Coords) (v8161 : BitVec 32) (k0_hw666 : k0_chk666 i v8161), ∀ a, (k0_off1918 i v8161) a + S1x14x1x256.size a ≤ S64x14x24x256.size a := fun i v8161 k0_hw666 => k0_hw666

def k0_off1919 (i : grid0.Coords) (v8163 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8172 : Index := Scalar.indexCast v8065
  let c0_4375 : Index := 0#32
  let v8173 : Index := Scalar.indexCast v8163
  let c0_4376 : Index := 0#32
  ![v8172.toNat, 0, v8173.toNat, 0]

def k0_chk667 (i : grid0.Coords) (v8163 : BitVec 32) : Prop :=
  (∀ a, (k0_off1919 i v8163) a + S1x14x1x256.size a ≤ S64x14x24x256.size a)
theorem k0_off1919_inb : ∀ (i : grid0.Coords) (v8163 : BitVec 32) (k0_hw667 : k0_chk667 i v8163), ∀ a, (k0_off1919 i v8163) a + S1x14x1x256.size a ≤ S64x14x24x256.size a := fun i v8163 k0_hw667 => k0_hw667

def k0_off1920 (i : grid0.Coords) (v8165 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8176 : Index := Scalar.indexCast v8065
  let c0_4377 : Index := 0#32
  let v8177 : Index := Scalar.indexCast v8165
  let c0_4378 : Index := 0#32
  ![v8176.toNat, 0, v8177.toNat, 0]

def k0_chk668 (i : grid0.Coords) (v8165 : BitVec 32) : Prop :=
  (∀ a, (k0_off1920 i v8165) a + S1x14x1x256.size a ≤ S64x14x24x256.size a)
theorem k0_off1920_inb : ∀ (i : grid0.Coords) (v8165 : BitVec 32) (k0_hw668 : k0_chk668 i v8165), ∀ a, (k0_off1920 i v8165) a + S1x14x1x256.size a ≤ S64x14x24x256.size a := fun i v8165 k0_hw668 => k0_hw668

def k0_off1921 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8191 : Index := Scalar.indexCast v8063
  let c32_4386 : Index := 32#32
  ![v8191.toNat, 32]
def k0_off1922 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8193 : Index := Scalar.indexCast v8063
  let c33_4387 : Index := 33#32
  ![v8193.toNat, 33]
def k0_off1923 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8195 : Index := Scalar.indexCast v8063
  let c34_4388 : Index := 34#32
  ![v8195.toNat, 34]
def k0_off1924 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8197 : Index := Scalar.indexCast v8063
  let c35_4389 : Index := 35#32
  ![v8197.toNat, 35]
def k0_off1925 (i : grid0.Coords) (v8192 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8199 : Index := Scalar.indexCast v8065
  let c0_4390 : Index := 0#32
  let v8200 : Index := Scalar.indexCast v8192
  let c0_4391 : Index := 0#32
  ![v8199.toNat, 0, v8200.toNat, 0]

def k0_chk669 (i : grid0.Coords) (v8192 : BitVec 32) : Prop :=
  (∀ a, (k0_off1925 i v8192) a + S1x14x1x256.size a ≤ S64x14x24x256.size a)
theorem k0_off1925_inb : ∀ (i : grid0.Coords) (v8192 : BitVec 32) (k0_hw669 : k0_chk669 i v8192), ∀ a, (k0_off1925 i v8192) a + S1x14x1x256.size a ≤ S64x14x24x256.size a := fun i v8192 k0_hw669 => k0_hw669

def k0_off1926 (i : grid0.Coords) (v8194 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8203 : Index := Scalar.indexCast v8065
  let c0_4392 : Index := 0#32
  let v8204 : Index := Scalar.indexCast v8194
  let c0_4393 : Index := 0#32
  ![v8203.toNat, 0, v8204.toNat, 0]

def k0_chk670 (i : grid0.Coords) (v8194 : BitVec 32) : Prop :=
  (∀ a, (k0_off1926 i v8194) a + S1x14x1x256.size a ≤ S64x14x24x256.size a)
theorem k0_off1926_inb : ∀ (i : grid0.Coords) (v8194 : BitVec 32) (k0_hw670 : k0_chk670 i v8194), ∀ a, (k0_off1926 i v8194) a + S1x14x1x256.size a ≤ S64x14x24x256.size a := fun i v8194 k0_hw670 => k0_hw670

def k0_off1927 (i : grid0.Coords) (v8196 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8207 : Index := Scalar.indexCast v8065
  let c0_4394 : Index := 0#32
  let v8208 : Index := Scalar.indexCast v8196
  let c0_4395 : Index := 0#32
  ![v8207.toNat, 0, v8208.toNat, 0]

def k0_chk671 (i : grid0.Coords) (v8196 : BitVec 32) : Prop :=
  (∀ a, (k0_off1927 i v8196) a + S1x14x1x256.size a ≤ S64x14x24x256.size a)
theorem k0_off1927_inb : ∀ (i : grid0.Coords) (v8196 : BitVec 32) (k0_hw671 : k0_chk671 i v8196), ∀ a, (k0_off1927 i v8196) a + S1x14x1x256.size a ≤ S64x14x24x256.size a := fun i v8196 k0_hw671 => k0_hw671

def k0_off1928 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8222 : Index := Scalar.indexCast v8063
  let c36_4403 : Index := 36#32
  ![v8222.toNat, 36]
def k0_off1929 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8224 : Index := Scalar.indexCast v8063
  let c37_4404 : Index := 37#32
  ![v8224.toNat, 37]
def k0_off1930 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8226 : Index := Scalar.indexCast v8063
  let c38_4405 : Index := 38#32
  ![v8226.toNat, 38]
def k0_off1931 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8228 : Index := Scalar.indexCast v8063
  let c39_4406 : Index := 39#32
  ![v8228.toNat, 39]
def k0_off1932 (i : grid0.Coords) (v8223 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8230 : Index := Scalar.indexCast v8065
  let c0_4407 : Index := 0#32
  let v8231 : Index := Scalar.indexCast v8223
  let c0_4408 : Index := 0#32
  ![v8230.toNat, 0, v8231.toNat, 0]

def k0_chk672 (i : grid0.Coords) (v8223 : BitVec 32) : Prop :=
  (∀ a, (k0_off1932 i v8223) a + S1x14x1x256.size a ≤ S64x14x24x256.size a)
theorem k0_off1932_inb : ∀ (i : grid0.Coords) (v8223 : BitVec 32) (k0_hw672 : k0_chk672 i v8223), ∀ a, (k0_off1932 i v8223) a + S1x14x1x256.size a ≤ S64x14x24x256.size a := fun i v8223 k0_hw672 => k0_hw672

def k0_off1933 (i : grid0.Coords) (v8225 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8234 : Index := Scalar.indexCast v8065
  let c0_4409 : Index := 0#32
  let v8235 : Index := Scalar.indexCast v8225
  let c0_4410 : Index := 0#32
  ![v8234.toNat, 0, v8235.toNat, 0]

def k0_chk673 (i : grid0.Coords) (v8225 : BitVec 32) : Prop :=
  (∀ a, (k0_off1933 i v8225) a + S1x14x1x256.size a ≤ S64x14x24x256.size a)
theorem k0_off1933_inb : ∀ (i : grid0.Coords) (v8225 : BitVec 32) (k0_hw673 : k0_chk673 i v8225), ∀ a, (k0_off1933 i v8225) a + S1x14x1x256.size a ≤ S64x14x24x256.size a := fun i v8225 k0_hw673 => k0_hw673

def k0_off1934 (i : grid0.Coords) (v8227 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8238 : Index := Scalar.indexCast v8065
  let c0_4411 : Index := 0#32
  let v8239 : Index := Scalar.indexCast v8227
  let c0_4412 : Index := 0#32
  ![v8238.toNat, 0, v8239.toNat, 0]

def k0_chk674 (i : grid0.Coords) (v8227 : BitVec 32) : Prop :=
  (∀ a, (k0_off1934 i v8227) a + S1x14x1x256.size a ≤ S64x14x24x256.size a)
theorem k0_off1934_inb : ∀ (i : grid0.Coords) (v8227 : BitVec 32) (k0_hw674 : k0_chk674 i v8227), ∀ a, (k0_off1934 i v8227) a + S1x14x1x256.size a ≤ S64x14x24x256.size a := fun i v8227 k0_hw674 => k0_hw674

def k0_off1935 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8253 : Index := Scalar.indexCast v8063
  let c40_4420 : Index := 40#32
  ![v8253.toNat, 40]
def k0_off1936 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8255 : Index := Scalar.indexCast v8063
  let c41_4421 : Index := 41#32
  ![v8255.toNat, 41]
def k0_off1937 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8257 : Index := Scalar.indexCast v8063
  let c42_4422 : Index := 42#32
  ![v8257.toNat, 42]
def k0_off1938 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8259 : Index := Scalar.indexCast v8063
  let c43_4423 : Index := 43#32
  ![v8259.toNat, 43]
def k0_off1939 (i : grid0.Coords) (v8254 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8261 : Index := Scalar.indexCast v8065
  let c0_4424 : Index := 0#32
  let v8262 : Index := Scalar.indexCast v8254
  let c0_4425 : Index := 0#32
  ![v8261.toNat, 0, v8262.toNat, 0]

def k0_chk675 (i : grid0.Coords) (v8254 : BitVec 32) : Prop :=
  (∀ a, (k0_off1939 i v8254) a + S1x14x1x256.size a ≤ S64x14x24x256.size a)
theorem k0_off1939_inb : ∀ (i : grid0.Coords) (v8254 : BitVec 32) (k0_hw675 : k0_chk675 i v8254), ∀ a, (k0_off1939 i v8254) a + S1x14x1x256.size a ≤ S64x14x24x256.size a := fun i v8254 k0_hw675 => k0_hw675

def k0_off1940 (i : grid0.Coords) (v8256 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8265 : Index := Scalar.indexCast v8065
  let c0_4426 : Index := 0#32
  let v8266 : Index := Scalar.indexCast v8256
  let c0_4427 : Index := 0#32
  ![v8265.toNat, 0, v8266.toNat, 0]

def k0_chk676 (i : grid0.Coords) (v8256 : BitVec 32) : Prop :=
  (∀ a, (k0_off1940 i v8256) a + S1x14x1x256.size a ≤ S64x14x24x256.size a)
theorem k0_off1940_inb : ∀ (i : grid0.Coords) (v8256 : BitVec 32) (k0_hw676 : k0_chk676 i v8256), ∀ a, (k0_off1940 i v8256) a + S1x14x1x256.size a ≤ S64x14x24x256.size a := fun i v8256 k0_hw676 => k0_hw676

def k0_off1941 (i : grid0.Coords) (v8258 : BitVec 32) : Fin 4 → Nat :=
  let c32_i32_4315 : BitVec 32 := 32#32
  let arg0 : BitVec 32 := BitVec.ofNat 32 (i 0).val
  let c2_i32 : BitVec 32 := 2#32
  let v0 : BitVec 32 := Scalar.remsi arg0 c2_i32
  let v8064 : BitVec 32 := Scalar.muli c32_i32_4315 v0
  let c20_i32_4316 : BitVec 32 := 20#32
  let v8065 : BitVec 32 := Scalar.addi v8064 c20_i32_4316
  let v8269 : Index := Scalar.indexCast v8065
  let c0_4428 : Index := 0#32
  let v8270 : Index := Scalar.indexCast v8258
  let c0_4429 : Index := 0#32
  ![v8269.toNat, 0, v8270.toNat, 0]

def k0_chk677 (i : grid0.Coords) (v8258 : BitVec 32) : Prop :=
  (∀ a, (k0_off1941 i v8258) a + S1x14x1x256.size a ≤ S64x14x24x256.size a)
theorem k0_off1941_inb : ∀ (i : grid0.Coords) (v8258 : BitVec 32) (k0_hw677 : k0_chk677 i v8258), ∀ a, (k0_off1941 i v8258) a + S1x14x1x256.size a ≤ S64x14x24x256.size a := fun i v8258 k0_hw677 => k0_hw677

def k0_off1942 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8285 : Index := Scalar.indexCast v8063
  let c44_4437 : Index := 44#32
  ![v8285.toNat, 44]
def k0_off1943 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8287 : Index := Scalar.indexCast v8063
  let c45_4438 : Index := 45#32
  ![v8287.toNat, 45]
def k0_off1944 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8289 : Index := Scalar.indexCast v8063
  let c46_4439 : Index := 46#32
  ![v8289.toNat, 46]
def k0_off1945 (v8286 : BitVec 32) : Fin 4 → Nat :=
  let c20_4440 : Index := 20#32
  let v8291 : Index := Scalar.indexCast v8286
  let c0_4441 : Index := 0#32
  let c0_4442 : Index := 0#32
  ![20, v8291.toNat, 0, 0]

def k0_chk678 (v8286 : BitVec 32) : Prop :=
  (∀ a, (k0_off1945 v8286) a + S1x3x7x256.size a ≤ S32x14x7x256.size a)
theorem k0_off1945_inb : ∀ (v8286 : BitVec 32) (k0_hw678 : k0_chk678 v8286), ∀ a, (k0_off1945 v8286) a + S1x3x7x256.size a ≤ S32x14x7x256.size a := fun v8286 k0_hw678 => k0_hw678

def k0_off1946 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8307 : Index := Scalar.indexCast v8063
  let c47_4448 : Index := 47#32
  ![v8307.toNat, 47]
def k0_off1947 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8309 : Index := Scalar.indexCast v8063
  let c48_4449 : Index := 48#32
  ![v8309.toNat, 48]
def k0_off1948 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8311 : Index := Scalar.indexCast v8063
  let c49_4450 : Index := 49#32
  ![v8311.toNat, 49]
def k0_off1949 (v8308 : BitVec 32) : Fin 4 → Nat :=
  let c20_4451 : Index := 20#32
  let v8313 : Index := Scalar.indexCast v8308
  let c0_4452 : Index := 0#32
  let c0_4453 : Index := 0#32
  ![20, v8313.toNat, 0, 0]

def k0_chk679 (v8308 : BitVec 32) : Prop :=
  (∀ a, (k0_off1949 v8308) a + S1x3x7x256.size a ≤ S32x14x7x256.size a)
theorem k0_off1949_inb : ∀ (v8308 : BitVec 32) (k0_hw679 : k0_chk679 v8308), ∀ a, (k0_off1949 v8308) a + S1x3x7x256.size a ≤ S32x14x7x256.size a := fun v8308 k0_hw679 => k0_hw679

def k0_off1950 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8329 : Index := Scalar.indexCast v8063
  let c50_4459 : Index := 50#32
  ![v8329.toNat, 50]
def k0_off1951 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8331 : Index := Scalar.indexCast v8063
  let c51_4460 : Index := 51#32
  ![v8331.toNat, 51]
def k0_off1952 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8333 : Index := Scalar.indexCast v8063
  let c52_4461 : Index := 52#32
  ![v8333.toNat, 52]
def k0_off1953 (v8330 : BitVec 32) : Fin 4 → Nat :=
  let c20_4462 : Index := 20#32
  let v8335 : Index := Scalar.indexCast v8330
  let c0_4463 : Index := 0#32
  let c0_4464 : Index := 0#32
  ![20, v8335.toNat, 0, 0]

def k0_chk680 (v8330 : BitVec 32) : Prop :=
  (∀ a, (k0_off1953 v8330) a + S1x3x7x256.size a ≤ S32x14x7x256.size a)
theorem k0_off1953_inb : ∀ (v8330 : BitVec 32) (k0_hw680 : k0_chk680 v8330), ∀ a, (k0_off1953 v8330) a + S1x3x7x256.size a ≤ S32x14x7x256.size a := fun v8330 k0_hw680 => k0_hw680

def k0_off1954 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8351 : Index := Scalar.indexCast v8063
  let c53_4470 : Index := 53#32
  ![v8351.toNat, 53]
def k0_off1955 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8353 : Index := Scalar.indexCast v8063
  let c54_4471 : Index := 54#32
  ![v8353.toNat, 54]
def k0_off1956 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8355 : Index := Scalar.indexCast v8063
  let c55_4472 : Index := 55#32
  ![v8355.toNat, 55]
def k0_off1957 (v8352 : BitVec 32) : Fin 4 → Nat :=
  let c20_4473 : Index := 20#32
  let v8357 : Index := Scalar.indexCast v8352
  let c0_4474 : Index := 0#32
  let c0_4475 : Index := 0#32
  ![20, v8357.toNat, 0, 0]

def k0_chk681 (v8352 : BitVec 32) : Prop :=
  (∀ a, (k0_off1957 v8352) a + S1x3x7x256.size a ≤ S32x14x7x256.size a)
theorem k0_off1957_inb : ∀ (v8352 : BitVec 32) (k0_hw681 : k0_chk681 v8352), ∀ a, (k0_off1957 v8352) a + S1x3x7x256.size a ≤ S32x14x7x256.size a := fun v8352 k0_hw681 => k0_hw681

def k0_off1958 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8373 : Index := Scalar.indexCast v8063
  let c56_4481 : Index := 56#32
  ![v8373.toNat, 56]
def k0_off1959 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8375 : Index := Scalar.indexCast v8063
  let c57_4482 : Index := 57#32
  ![v8375.toNat, 57]
def k0_off1960 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8377 : Index := Scalar.indexCast v8063
  let c58_4483 : Index := 58#32
  ![v8377.toNat, 58]
def k0_off1961 (v8374 : BitVec 32) : Fin 4 → Nat :=
  let c20_4484 : Index := 20#32
  let v8379 : Index := Scalar.indexCast v8374
  let c0_4485 : Index := 0#32
  let c0_4486 : Index := 0#32
  ![20, v8379.toNat, 0, 0]

def k0_chk682 (v8374 : BitVec 32) : Prop :=
  (∀ a, (k0_off1961 v8374) a + S1x3x7x256.size a ≤ S32x14x7x256.size a)
theorem k0_off1961_inb : ∀ (v8374 : BitVec 32) (k0_hw682 : k0_chk682 v8374), ∀ a, (k0_off1961 v8374) a + S1x3x7x256.size a ≤ S32x14x7x256.size a := fun v8374 k0_hw682 => k0_hw682

def k0_off1962 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8395 : Index := Scalar.indexCast v8063
  let c59_4492 : Index := 59#32
  ![v8395.toNat, 59]
def k0_off1963 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8397 : Index := Scalar.indexCast v8063
  let c60_4493 : Index := 60#32
  ![v8397.toNat, 60]
def k0_off1964 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8399 : Index := Scalar.indexCast v8063
  let c61_4494 : Index := 61#32
  ![v8399.toNat, 61]
def k0_off1965 (v8396 : BitVec 32) : Fin 4 → Nat :=
  let c20_4495 : Index := 20#32
  let v8401 : Index := Scalar.indexCast v8396
  let c0_4496 : Index := 0#32
  let c0_4497 : Index := 0#32
  ![20, v8401.toNat, 0, 0]

def k0_chk683 (v8396 : BitVec 32) : Prop :=
  (∀ a, (k0_off1965 v8396) a + S1x3x7x256.size a ≤ S32x14x7x256.size a)
theorem k0_off1965_inb : ∀ (v8396 : BitVec 32) (k0_hw683 : k0_chk683 v8396), ∀ a, (k0_off1965 v8396) a + S1x3x7x256.size a ≤ S32x14x7x256.size a := fun v8396 k0_hw683 => k0_hw683

def k0_off1966 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8417 : Index := Scalar.indexCast v8063
  let c62_4503 : Index := 62#32
  ![v8417.toNat, 62]
def k0_off1967 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8419 : Index := Scalar.indexCast v8063
  let c63_4504 : Index := 63#32
  ![v8419.toNat, 63]
def k0_off1968 (i : grid0.Coords) : Fin 2 → Nat :=
  let c32_i32_4313 : BitVec 32 := 32#32
  let arg0 : BitVec 32 := BitVec.ofNat 32 (i 0).val
  let v8062 : BitVec 32 := Scalar.muli c32_i32_4313 arg0
  let c20_i32_4314 : BitVec 32 := 20#32
  let v8063 : BitVec 32 := Scalar.addi v8062 c20_i32_4314
  let v8421 : Index := Scalar.indexCast v8063
  let c64_4505 : Index := 64#32
  ![v8421.toNat, 64]
def k0_off1969 (v8418 : BitVec 32) : Fin 4 → Nat :=
  let c20_4506 : Index := 20#32
  let v8423 : Index := Scalar.indexCast v8418
  let c0_4507 : Index := 0#32
  let c0_4508 : Index := 0#32
  ![20, v8423.toNat, 0, 0]

def k0_chk684 (v8418 : BitVec 32) : Prop :=
  (∀ a, (k0_off1969 v8418) a + S1x3x7x256.size a ≤ S32x14x7x256.size a)
theorem k0_off1969_inb : ∀ (v8418 : BitVec 32) (k0_hw684 : k0_chk684 v8418), ∀ a, (k0_off1969 v8418) a + S1x3x7x256.size a ≤ S32x14x7x256.size a := fun v8418 k0_hw684 => k0_hw684

def k0_off1970 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8444 : Index := Scalar.indexCast v8440
  let c16_4519 : Index := 16#32
  ![v8444.toNat, 16]
def k0_off1971 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8446 : Index := Scalar.indexCast v8440
  let c17_4520 : Index := 17#32
  ![v8446.toNat, 17]
def k0_off1972 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8448 : Index := Scalar.indexCast v8440
  let c18_4521 : Index := 18#32
  ![v8448.toNat, 18]
def k0_off1973 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8450 : Index := Scalar.indexCast v8440
  let c19_4522 : Index := 19#32
  ![v8450.toNat, 19]
def k0_off1974 (i : grid0.Coords) (v8445 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8452 : Index := Scalar.indexCast v8442
  let c0_4523 : Index := 0#32
  let v8453 : Index := Scalar.indexCast v8445
  let c0_4524 : Index := 0#32
  ![v8452.toNat, 0, v8453.toNat, 0]

def k0_chk685 (i : grid0.Coords) (v8445 : BitVec 32) : Prop :=
  (∀ a, (k0_off1974 i v8445) a + S1x14x1x256.size a ≤ S64x14x24x256.size a)
theorem k0_off1974_inb : ∀ (i : grid0.Coords) (v8445 : BitVec 32) (k0_hw685 : k0_chk685 i v8445), ∀ a, (k0_off1974 i v8445) a + S1x14x1x256.size a ≤ S64x14x24x256.size a := fun i v8445 k0_hw685 => k0_hw685

def k0_off1975 (i : grid0.Coords) (v8447 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8456 : Index := Scalar.indexCast v8442
  let c0_4525 : Index := 0#32
  let v8457 : Index := Scalar.indexCast v8447
  let c0_4526 : Index := 0#32
  ![v8456.toNat, 0, v8457.toNat, 0]

def k0_chk686 (i : grid0.Coords) (v8447 : BitVec 32) : Prop :=
  (∀ a, (k0_off1975 i v8447) a + S1x14x1x256.size a ≤ S64x14x24x256.size a)
theorem k0_off1975_inb : ∀ (i : grid0.Coords) (v8447 : BitVec 32) (k0_hw686 : k0_chk686 i v8447), ∀ a, (k0_off1975 i v8447) a + S1x14x1x256.size a ≤ S64x14x24x256.size a := fun i v8447 k0_hw686 => k0_hw686

def k0_off1976 (i : grid0.Coords) (v8449 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8460 : Index := Scalar.indexCast v8442
  let c0_4527 : Index := 0#32
  let v8461 : Index := Scalar.indexCast v8449
  let c0_4528 : Index := 0#32
  ![v8460.toNat, 0, v8461.toNat, 0]

def k0_chk687 (i : grid0.Coords) (v8449 : BitVec 32) : Prop :=
  (∀ a, (k0_off1976 i v8449) a + S1x14x1x256.size a ≤ S64x14x24x256.size a)
theorem k0_off1976_inb : ∀ (i : grid0.Coords) (v8449 : BitVec 32) (k0_hw687 : k0_chk687 i v8449), ∀ a, (k0_off1976 i v8449) a + S1x14x1x256.size a ≤ S64x14x24x256.size a := fun i v8449 k0_hw687 => k0_hw687

def k0_off1977 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8475 : Index := Scalar.indexCast v8440
  let c20_4536 : Index := 20#32
  ![v8475.toNat, 20]
def k0_off1978 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8477 : Index := Scalar.indexCast v8440
  let c21_4537 : Index := 21#32
  ![v8477.toNat, 21]
def k0_off1979 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8479 : Index := Scalar.indexCast v8440
  let c22_4538 : Index := 22#32
  ![v8479.toNat, 22]
def k0_off1980 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8481 : Index := Scalar.indexCast v8440
  let c23_4539 : Index := 23#32
  ![v8481.toNat, 23]
def k0_off1981 (i : grid0.Coords) (v8476 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8483 : Index := Scalar.indexCast v8442
  let c0_4540 : Index := 0#32
  let v8484 : Index := Scalar.indexCast v8476
  let c0_4541 : Index := 0#32
  ![v8483.toNat, 0, v8484.toNat, 0]

def k0_chk688 (i : grid0.Coords) (v8476 : BitVec 32) : Prop :=
  (∀ a, (k0_off1981 i v8476) a + S1x14x1x256.size a ≤ S64x14x24x256.size a)
theorem k0_off1981_inb : ∀ (i : grid0.Coords) (v8476 : BitVec 32) (k0_hw688 : k0_chk688 i v8476), ∀ a, (k0_off1981 i v8476) a + S1x14x1x256.size a ≤ S64x14x24x256.size a := fun i v8476 k0_hw688 => k0_hw688

def k0_off1982 (i : grid0.Coords) (v8478 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8487 : Index := Scalar.indexCast v8442
  let c0_4542 : Index := 0#32
  let v8488 : Index := Scalar.indexCast v8478
  let c0_4543 : Index := 0#32
  ![v8487.toNat, 0, v8488.toNat, 0]

def k0_chk689 (i : grid0.Coords) (v8478 : BitVec 32) : Prop :=
  (∀ a, (k0_off1982 i v8478) a + S1x14x1x256.size a ≤ S64x14x24x256.size a)
theorem k0_off1982_inb : ∀ (i : grid0.Coords) (v8478 : BitVec 32) (k0_hw689 : k0_chk689 i v8478), ∀ a, (k0_off1982 i v8478) a + S1x14x1x256.size a ≤ S64x14x24x256.size a := fun i v8478 k0_hw689 => k0_hw689

def k0_off1983 (i : grid0.Coords) (v8480 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8491 : Index := Scalar.indexCast v8442
  let c0_4544 : Index := 0#32
  let v8492 : Index := Scalar.indexCast v8480
  let c0_4545 : Index := 0#32
  ![v8491.toNat, 0, v8492.toNat, 0]

def k0_chk690 (i : grid0.Coords) (v8480 : BitVec 32) : Prop :=
  (∀ a, (k0_off1983 i v8480) a + S1x14x1x256.size a ≤ S64x14x24x256.size a)
theorem k0_off1983_inb : ∀ (i : grid0.Coords) (v8480 : BitVec 32) (k0_hw690 : k0_chk690 i v8480), ∀ a, (k0_off1983 i v8480) a + S1x14x1x256.size a ≤ S64x14x24x256.size a := fun i v8480 k0_hw690 => k0_hw690

def k0_off1984 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8506 : Index := Scalar.indexCast v8440
  let c24_4553 : Index := 24#32
  ![v8506.toNat, 24]
def k0_off1985 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8508 : Index := Scalar.indexCast v8440
  let c25_4554 : Index := 25#32
  ![v8508.toNat, 25]
def k0_off1986 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8510 : Index := Scalar.indexCast v8440
  let c26_4555 : Index := 26#32
  ![v8510.toNat, 26]
def k0_off1987 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8512 : Index := Scalar.indexCast v8440
  let c27_4556 : Index := 27#32
  ![v8512.toNat, 27]
def k0_off1988 (i : grid0.Coords) (v8507 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8514 : Index := Scalar.indexCast v8442
  let c0_4557 : Index := 0#32
  let v8515 : Index := Scalar.indexCast v8507
  let c0_4558 : Index := 0#32
  ![v8514.toNat, 0, v8515.toNat, 0]

def k0_chk691 (i : grid0.Coords) (v8507 : BitVec 32) : Prop :=
  (∀ a, (k0_off1988 i v8507) a + S1x14x1x256.size a ≤ S64x14x24x256.size a)
theorem k0_off1988_inb : ∀ (i : grid0.Coords) (v8507 : BitVec 32) (k0_hw691 : k0_chk691 i v8507), ∀ a, (k0_off1988 i v8507) a + S1x14x1x256.size a ≤ S64x14x24x256.size a := fun i v8507 k0_hw691 => k0_hw691

def k0_off1989 (i : grid0.Coords) (v8509 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8518 : Index := Scalar.indexCast v8442
  let c0_4559 : Index := 0#32
  let v8519 : Index := Scalar.indexCast v8509
  let c0_4560 : Index := 0#32
  ![v8518.toNat, 0, v8519.toNat, 0]

def k0_chk692 (i : grid0.Coords) (v8509 : BitVec 32) : Prop :=
  (∀ a, (k0_off1989 i v8509) a + S1x14x1x256.size a ≤ S64x14x24x256.size a)
theorem k0_off1989_inb : ∀ (i : grid0.Coords) (v8509 : BitVec 32) (k0_hw692 : k0_chk692 i v8509), ∀ a, (k0_off1989 i v8509) a + S1x14x1x256.size a ≤ S64x14x24x256.size a := fun i v8509 k0_hw692 => k0_hw692

def k0_off1990 (i : grid0.Coords) (v8511 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8522 : Index := Scalar.indexCast v8442
  let c0_4561 : Index := 0#32
  let v8523 : Index := Scalar.indexCast v8511
  let c0_4562 : Index := 0#32
  ![v8522.toNat, 0, v8523.toNat, 0]

def k0_chk693 (i : grid0.Coords) (v8511 : BitVec 32) : Prop :=
  (∀ a, (k0_off1990 i v8511) a + S1x14x1x256.size a ≤ S64x14x24x256.size a)
theorem k0_off1990_inb : ∀ (i : grid0.Coords) (v8511 : BitVec 32) (k0_hw693 : k0_chk693 i v8511), ∀ a, (k0_off1990 i v8511) a + S1x14x1x256.size a ≤ S64x14x24x256.size a := fun i v8511 k0_hw693 => k0_hw693

def k0_off1991 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8537 : Index := Scalar.indexCast v8440
  let c28_4570 : Index := 28#32
  ![v8537.toNat, 28]
def k0_off1992 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8539 : Index := Scalar.indexCast v8440
  let c29_4571 : Index := 29#32
  ![v8539.toNat, 29]
def k0_off1993 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8541 : Index := Scalar.indexCast v8440
  let c30_4572 : Index := 30#32
  ![v8541.toNat, 30]
def k0_off1994 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8543 : Index := Scalar.indexCast v8440
  let c31_4573 : Index := 31#32
  ![v8543.toNat, 31]
def k0_off1995 (i : grid0.Coords) (v8538 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8545 : Index := Scalar.indexCast v8442
  let c0_4574 : Index := 0#32
  let v8546 : Index := Scalar.indexCast v8538
  let c0_4575 : Index := 0#32
  ![v8545.toNat, 0, v8546.toNat, 0]

def k0_chk694 (i : grid0.Coords) (v8538 : BitVec 32) : Prop :=
  (∀ a, (k0_off1995 i v8538) a + S1x14x1x256.size a ≤ S64x14x24x256.size a)
theorem k0_off1995_inb : ∀ (i : grid0.Coords) (v8538 : BitVec 32) (k0_hw694 : k0_chk694 i v8538), ∀ a, (k0_off1995 i v8538) a + S1x14x1x256.size a ≤ S64x14x24x256.size a := fun i v8538 k0_hw694 => k0_hw694

def k0_off1996 (i : grid0.Coords) (v8540 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8549 : Index := Scalar.indexCast v8442
  let c0_4576 : Index := 0#32
  let v8550 : Index := Scalar.indexCast v8540
  let c0_4577 : Index := 0#32
  ![v8549.toNat, 0, v8550.toNat, 0]

def k0_chk695 (i : grid0.Coords) (v8540 : BitVec 32) : Prop :=
  (∀ a, (k0_off1996 i v8540) a + S1x14x1x256.size a ≤ S64x14x24x256.size a)
theorem k0_off1996_inb : ∀ (i : grid0.Coords) (v8540 : BitVec 32) (k0_hw695 : k0_chk695 i v8540), ∀ a, (k0_off1996 i v8540) a + S1x14x1x256.size a ≤ S64x14x24x256.size a := fun i v8540 k0_hw695 => k0_hw695

def k0_off1997 (i : grid0.Coords) (v8542 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8553 : Index := Scalar.indexCast v8442
  let c0_4578 : Index := 0#32
  let v8554 : Index := Scalar.indexCast v8542
  let c0_4579 : Index := 0#32
  ![v8553.toNat, 0, v8554.toNat, 0]

def k0_chk696 (i : grid0.Coords) (v8542 : BitVec 32) : Prop :=
  (∀ a, (k0_off1997 i v8542) a + S1x14x1x256.size a ≤ S64x14x24x256.size a)
theorem k0_off1997_inb : ∀ (i : grid0.Coords) (v8542 : BitVec 32) (k0_hw696 : k0_chk696 i v8542), ∀ a, (k0_off1997 i v8542) a + S1x14x1x256.size a ≤ S64x14x24x256.size a := fun i v8542 k0_hw696 => k0_hw696

def k0_off1998 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8568 : Index := Scalar.indexCast v8440
  let c32_4587 : Index := 32#32
  ![v8568.toNat, 32]
def k0_off1999 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8570 : Index := Scalar.indexCast v8440
  let c33_4588 : Index := 33#32
  ![v8570.toNat, 33]
def k0_off2000 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8572 : Index := Scalar.indexCast v8440
  let c34_4589 : Index := 34#32
  ![v8572.toNat, 34]
def k0_off2001 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8574 : Index := Scalar.indexCast v8440
  let c35_4590 : Index := 35#32
  ![v8574.toNat, 35]
def k0_off2002 (i : grid0.Coords) (v8569 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8576 : Index := Scalar.indexCast v8442
  let c0_4591 : Index := 0#32
  let v8577 : Index := Scalar.indexCast v8569
  let c0_4592 : Index := 0#32
  ![v8576.toNat, 0, v8577.toNat, 0]

def k0_chk697 (i : grid0.Coords) (v8569 : BitVec 32) : Prop :=
  (∀ a, (k0_off2002 i v8569) a + S1x14x1x256.size a ≤ S64x14x24x256.size a)
theorem k0_off2002_inb : ∀ (i : grid0.Coords) (v8569 : BitVec 32) (k0_hw697 : k0_chk697 i v8569), ∀ a, (k0_off2002 i v8569) a + S1x14x1x256.size a ≤ S64x14x24x256.size a := fun i v8569 k0_hw697 => k0_hw697

def k0_off2003 (i : grid0.Coords) (v8571 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8580 : Index := Scalar.indexCast v8442
  let c0_4593 : Index := 0#32
  let v8581 : Index := Scalar.indexCast v8571
  let c0_4594 : Index := 0#32
  ![v8580.toNat, 0, v8581.toNat, 0]

def k0_chk698 (i : grid0.Coords) (v8571 : BitVec 32) : Prop :=
  (∀ a, (k0_off2003 i v8571) a + S1x14x1x256.size a ≤ S64x14x24x256.size a)
theorem k0_off2003_inb : ∀ (i : grid0.Coords) (v8571 : BitVec 32) (k0_hw698 : k0_chk698 i v8571), ∀ a, (k0_off2003 i v8571) a + S1x14x1x256.size a ≤ S64x14x24x256.size a := fun i v8571 k0_hw698 => k0_hw698

def k0_off2004 (i : grid0.Coords) (v8573 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8584 : Index := Scalar.indexCast v8442
  let c0_4595 : Index := 0#32
  let v8585 : Index := Scalar.indexCast v8573
  let c0_4596 : Index := 0#32
  ![v8584.toNat, 0, v8585.toNat, 0]

def k0_chk699 (i : grid0.Coords) (v8573 : BitVec 32) : Prop :=
  (∀ a, (k0_off2004 i v8573) a + S1x14x1x256.size a ≤ S64x14x24x256.size a)
theorem k0_off2004_inb : ∀ (i : grid0.Coords) (v8573 : BitVec 32) (k0_hw699 : k0_chk699 i v8573), ∀ a, (k0_off2004 i v8573) a + S1x14x1x256.size a ≤ S64x14x24x256.size a := fun i v8573 k0_hw699 => k0_hw699

def k0_off2005 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8599 : Index := Scalar.indexCast v8440
  let c36_4604 : Index := 36#32
  ![v8599.toNat, 36]
def k0_off2006 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8601 : Index := Scalar.indexCast v8440
  let c37_4605 : Index := 37#32
  ![v8601.toNat, 37]
def k0_off2007 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8603 : Index := Scalar.indexCast v8440
  let c38_4606 : Index := 38#32
  ![v8603.toNat, 38]
def k0_off2008 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8605 : Index := Scalar.indexCast v8440
  let c39_4607 : Index := 39#32
  ![v8605.toNat, 39]
def k0_off2009 (i : grid0.Coords) (v8600 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8607 : Index := Scalar.indexCast v8442
  let c0_4608 : Index := 0#32
  let v8608 : Index := Scalar.indexCast v8600
  let c0_4609 : Index := 0#32
  ![v8607.toNat, 0, v8608.toNat, 0]

def k0_chk700 (i : grid0.Coords) (v8600 : BitVec 32) : Prop :=
  (∀ a, (k0_off2009 i v8600) a + S1x14x1x256.size a ≤ S64x14x24x256.size a)
theorem k0_off2009_inb : ∀ (i : grid0.Coords) (v8600 : BitVec 32) (k0_hw700 : k0_chk700 i v8600), ∀ a, (k0_off2009 i v8600) a + S1x14x1x256.size a ≤ S64x14x24x256.size a := fun i v8600 k0_hw700 => k0_hw700

def k0_off2010 (i : grid0.Coords) (v8602 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8611 : Index := Scalar.indexCast v8442
  let c0_4610 : Index := 0#32
  let v8612 : Index := Scalar.indexCast v8602
  let c0_4611 : Index := 0#32
  ![v8611.toNat, 0, v8612.toNat, 0]

def k0_chk701 (i : grid0.Coords) (v8602 : BitVec 32) : Prop :=
  (∀ a, (k0_off2010 i v8602) a + S1x14x1x256.size a ≤ S64x14x24x256.size a)
theorem k0_off2010_inb : ∀ (i : grid0.Coords) (v8602 : BitVec 32) (k0_hw701 : k0_chk701 i v8602), ∀ a, (k0_off2010 i v8602) a + S1x14x1x256.size a ≤ S64x14x24x256.size a := fun i v8602 k0_hw701 => k0_hw701

def k0_off2011 (i : grid0.Coords) (v8604 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8615 : Index := Scalar.indexCast v8442
  let c0_4612 : Index := 0#32
  let v8616 : Index := Scalar.indexCast v8604
  let c0_4613 : Index := 0#32
  ![v8615.toNat, 0, v8616.toNat, 0]

def k0_chk702 (i : grid0.Coords) (v8604 : BitVec 32) : Prop :=
  (∀ a, (k0_off2011 i v8604) a + S1x14x1x256.size a ≤ S64x14x24x256.size a)
theorem k0_off2011_inb : ∀ (i : grid0.Coords) (v8604 : BitVec 32) (k0_hw702 : k0_chk702 i v8604), ∀ a, (k0_off2011 i v8604) a + S1x14x1x256.size a ≤ S64x14x24x256.size a := fun i v8604 k0_hw702 => k0_hw702

def k0_off2012 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8630 : Index := Scalar.indexCast v8440
  let c40_4621 : Index := 40#32
  ![v8630.toNat, 40]
def k0_off2013 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8632 : Index := Scalar.indexCast v8440
  let c41_4622 : Index := 41#32
  ![v8632.toNat, 41]
def k0_off2014 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8634 : Index := Scalar.indexCast v8440
  let c42_4623 : Index := 42#32
  ![v8634.toNat, 42]
def k0_off2015 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8636 : Index := Scalar.indexCast v8440
  let c43_4624 : Index := 43#32
  ![v8636.toNat, 43]
def k0_off2016 (i : grid0.Coords) (v8631 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8638 : Index := Scalar.indexCast v8442
  let c0_4625 : Index := 0#32
  let v8639 : Index := Scalar.indexCast v8631
  let c0_4626 : Index := 0#32
  ![v8638.toNat, 0, v8639.toNat, 0]

def k0_chk703 (i : grid0.Coords) (v8631 : BitVec 32) : Prop :=
  (∀ a, (k0_off2016 i v8631) a + S1x14x1x256.size a ≤ S64x14x24x256.size a)
theorem k0_off2016_inb : ∀ (i : grid0.Coords) (v8631 : BitVec 32) (k0_hw703 : k0_chk703 i v8631), ∀ a, (k0_off2016 i v8631) a + S1x14x1x256.size a ≤ S64x14x24x256.size a := fun i v8631 k0_hw703 => k0_hw703

def k0_off2017 (i : grid0.Coords) (v8633 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8642 : Index := Scalar.indexCast v8442
  let c0_4627 : Index := 0#32
  let v8643 : Index := Scalar.indexCast v8633
  let c0_4628 : Index := 0#32
  ![v8642.toNat, 0, v8643.toNat, 0]

def k0_chk704 (i : grid0.Coords) (v8633 : BitVec 32) : Prop :=
  (∀ a, (k0_off2017 i v8633) a + S1x14x1x256.size a ≤ S64x14x24x256.size a)
theorem k0_off2017_inb : ∀ (i : grid0.Coords) (v8633 : BitVec 32) (k0_hw704 : k0_chk704 i v8633), ∀ a, (k0_off2017 i v8633) a + S1x14x1x256.size a ≤ S64x14x24x256.size a := fun i v8633 k0_hw704 => k0_hw704

def k0_off2018 (i : grid0.Coords) (v8635 : BitVec 32) : Fin 4 → Nat :=
  let c32_i32_4516 : BitVec 32 := 32#32
  let arg0 : BitVec 32 := BitVec.ofNat 32 (i 0).val
  let c2_i32 : BitVec 32 := 2#32
  let v0 : BitVec 32 := Scalar.remsi arg0 c2_i32
  let v8441 : BitVec 32 := Scalar.muli c32_i32_4516 v0
  let c21_i32_4517 : BitVec 32 := 21#32
  let v8442 : BitVec 32 := Scalar.addi v8441 c21_i32_4517
  let v8646 : Index := Scalar.indexCast v8442
  let c0_4629 : Index := 0#32
  let v8647 : Index := Scalar.indexCast v8635
  let c0_4630 : Index := 0#32
  ![v8646.toNat, 0, v8647.toNat, 0]

def k0_chk705 (i : grid0.Coords) (v8635 : BitVec 32) : Prop :=
  (∀ a, (k0_off2018 i v8635) a + S1x14x1x256.size a ≤ S64x14x24x256.size a)
theorem k0_off2018_inb : ∀ (i : grid0.Coords) (v8635 : BitVec 32) (k0_hw705 : k0_chk705 i v8635), ∀ a, (k0_off2018 i v8635) a + S1x14x1x256.size a ≤ S64x14x24x256.size a := fun i v8635 k0_hw705 => k0_hw705

def k0_off2019 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8662 : Index := Scalar.indexCast v8440
  let c44_4638 : Index := 44#32
  ![v8662.toNat, 44]
def k0_off2020 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8664 : Index := Scalar.indexCast v8440
  let c45_4639 : Index := 45#32
  ![v8664.toNat, 45]
def k0_off2021 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8666 : Index := Scalar.indexCast v8440
  let c46_4640 : Index := 46#32
  ![v8666.toNat, 46]
def k0_off2022 (v8663 : BitVec 32) : Fin 4 → Nat :=
  let c21_4641 : Index := 21#32
  let v8668 : Index := Scalar.indexCast v8663
  let c0_4642 : Index := 0#32
  let c0_4643 : Index := 0#32
  ![21, v8668.toNat, 0, 0]

def k0_chk706 (v8663 : BitVec 32) : Prop :=
  (∀ a, (k0_off2022 v8663) a + S1x3x7x256.size a ≤ S32x14x7x256.size a)
theorem k0_off2022_inb : ∀ (v8663 : BitVec 32) (k0_hw706 : k0_chk706 v8663), ∀ a, (k0_off2022 v8663) a + S1x3x7x256.size a ≤ S32x14x7x256.size a := fun v8663 k0_hw706 => k0_hw706

def k0_off2023 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8684 : Index := Scalar.indexCast v8440
  let c47_4649 : Index := 47#32
  ![v8684.toNat, 47]
def k0_off2024 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8686 : Index := Scalar.indexCast v8440
  let c48_4650 : Index := 48#32
  ![v8686.toNat, 48]
def k0_off2025 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8688 : Index := Scalar.indexCast v8440
  let c49_4651 : Index := 49#32
  ![v8688.toNat, 49]
def k0_off2026 (v8685 : BitVec 32) : Fin 4 → Nat :=
  let c21_4652 : Index := 21#32
  let v8690 : Index := Scalar.indexCast v8685
  let c0_4653 : Index := 0#32
  let c0_4654 : Index := 0#32
  ![21, v8690.toNat, 0, 0]

def k0_chk707 (v8685 : BitVec 32) : Prop :=
  (∀ a, (k0_off2026 v8685) a + S1x3x7x256.size a ≤ S32x14x7x256.size a)
theorem k0_off2026_inb : ∀ (v8685 : BitVec 32) (k0_hw707 : k0_chk707 v8685), ∀ a, (k0_off2026 v8685) a + S1x3x7x256.size a ≤ S32x14x7x256.size a := fun v8685 k0_hw707 => k0_hw707

def k0_off2027 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8706 : Index := Scalar.indexCast v8440
  let c50_4660 : Index := 50#32
  ![v8706.toNat, 50]
def k0_off2028 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8708 : Index := Scalar.indexCast v8440
  let c51_4661 : Index := 51#32
  ![v8708.toNat, 51]
def k0_off2029 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8710 : Index := Scalar.indexCast v8440
  let c52_4662 : Index := 52#32
  ![v8710.toNat, 52]
def k0_off2030 (v8707 : BitVec 32) : Fin 4 → Nat :=
  let c21_4663 : Index := 21#32
  let v8712 : Index := Scalar.indexCast v8707
  let c0_4664 : Index := 0#32
  let c0_4665 : Index := 0#32
  ![21, v8712.toNat, 0, 0]

def k0_chk708 (v8707 : BitVec 32) : Prop :=
  (∀ a, (k0_off2030 v8707) a + S1x3x7x256.size a ≤ S32x14x7x256.size a)
theorem k0_off2030_inb : ∀ (v8707 : BitVec 32) (k0_hw708 : k0_chk708 v8707), ∀ a, (k0_off2030 v8707) a + S1x3x7x256.size a ≤ S32x14x7x256.size a := fun v8707 k0_hw708 => k0_hw708

def k0_off2031 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8728 : Index := Scalar.indexCast v8440
  let c53_4671 : Index := 53#32
  ![v8728.toNat, 53]
def k0_off2032 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8730 : Index := Scalar.indexCast v8440
  let c54_4672 : Index := 54#32
  ![v8730.toNat, 54]
def k0_off2033 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8732 : Index := Scalar.indexCast v8440
  let c55_4673 : Index := 55#32
  ![v8732.toNat, 55]
def k0_off2034 (v8729 : BitVec 32) : Fin 4 → Nat :=
  let c21_4674 : Index := 21#32
  let v8734 : Index := Scalar.indexCast v8729
  let c0_4675 : Index := 0#32
  let c0_4676 : Index := 0#32
  ![21, v8734.toNat, 0, 0]

def k0_chk709 (v8729 : BitVec 32) : Prop :=
  (∀ a, (k0_off2034 v8729) a + S1x3x7x256.size a ≤ S32x14x7x256.size a)
theorem k0_off2034_inb : ∀ (v8729 : BitVec 32) (k0_hw709 : k0_chk709 v8729), ∀ a, (k0_off2034 v8729) a + S1x3x7x256.size a ≤ S32x14x7x256.size a := fun v8729 k0_hw709 => k0_hw709

def k0_off2035 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8750 : Index := Scalar.indexCast v8440
  let c56_4682 : Index := 56#32
  ![v8750.toNat, 56]
def k0_off2036 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8752 : Index := Scalar.indexCast v8440
  let c57_4683 : Index := 57#32
  ![v8752.toNat, 57]
def k0_off2037 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8754 : Index := Scalar.indexCast v8440
  let c58_4684 : Index := 58#32
  ![v8754.toNat, 58]
def k0_off2038 (v8751 : BitVec 32) : Fin 4 → Nat :=
  let c21_4685 : Index := 21#32
  let v8756 : Index := Scalar.indexCast v8751
  let c0_4686 : Index := 0#32
  let c0_4687 : Index := 0#32
  ![21, v8756.toNat, 0, 0]

def k0_chk710 (v8751 : BitVec 32) : Prop :=
  (∀ a, (k0_off2038 v8751) a + S1x3x7x256.size a ≤ S32x14x7x256.size a)
theorem k0_off2038_inb : ∀ (v8751 : BitVec 32) (k0_hw710 : k0_chk710 v8751), ∀ a, (k0_off2038 v8751) a + S1x3x7x256.size a ≤ S32x14x7x256.size a := fun v8751 k0_hw710 => k0_hw710

def k0_off2039 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8772 : Index := Scalar.indexCast v8440
  let c59_4693 : Index := 59#32
  ![v8772.toNat, 59]
def k0_off2040 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8774 : Index := Scalar.indexCast v8440
  let c60_4694 : Index := 60#32
  ![v8774.toNat, 60]
def k0_off2041 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8776 : Index := Scalar.indexCast v8440
  let c61_4695 : Index := 61#32
  ![v8776.toNat, 61]
def k0_off2042 (v8773 : BitVec 32) : Fin 4 → Nat :=
  let c21_4696 : Index := 21#32
  let v8778 : Index := Scalar.indexCast v8773
  let c0_4697 : Index := 0#32
  let c0_4698 : Index := 0#32
  ![21, v8778.toNat, 0, 0]

def k0_chk711 (v8773 : BitVec 32) : Prop :=
  (∀ a, (k0_off2042 v8773) a + S1x3x7x256.size a ≤ S32x14x7x256.size a)
theorem k0_off2042_inb : ∀ (v8773 : BitVec 32) (k0_hw711 : k0_chk711 v8773), ∀ a, (k0_off2042 v8773) a + S1x3x7x256.size a ≤ S32x14x7x256.size a := fun v8773 k0_hw711 => k0_hw711

def k0_off2043 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8794 : Index := Scalar.indexCast v8440
  let c62_4704 : Index := 62#32
  ![v8794.toNat, 62]
def k0_off2044 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8796 : Index := Scalar.indexCast v8440
  let c63_4705 : Index := 63#32
  ![v8796.toNat, 63]
def k0_off2045 (i : grid0.Coords) : Fin 2 → Nat :=
  let c32_i32_4514 : BitVec 32 := 32#32
  let arg0 : BitVec 32 := BitVec.ofNat 32 (i 0).val
  let v8439 : BitVec 32 := Scalar.muli c32_i32_4514 arg0
  let c21_i32_4515 : BitVec 32 := 21#32
  let v8440 : BitVec 32 := Scalar.addi v8439 c21_i32_4515
  let v8798 : Index := Scalar.indexCast v8440
  let c64_4706 : Index := 64#32
  ![v8798.toNat, 64]
def k0_off2046 (v8795 : BitVec 32) : Fin 4 → Nat :=
  let c21_4707 : Index := 21#32
  let v8800 : Index := Scalar.indexCast v8795
  let c0_4708 : Index := 0#32
  let c0_4709 : Index := 0#32
  ![21, v8800.toNat, 0, 0]

def k0_chk712 (v8795 : BitVec 32) : Prop :=
  (∀ a, (k0_off2046 v8795) a + S1x3x7x256.size a ≤ S32x14x7x256.size a)
theorem k0_off2046_inb : ∀ (v8795 : BitVec 32) (k0_hw712 : k0_chk712 v8795), ∀ a, (k0_off2046 v8795) a + S1x3x7x256.size a ≤ S32x14x7x256.size a := fun v8795 k0_hw712 => k0_hw712

def k0_off2047 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8821 : Index := Scalar.indexCast v8817
  let c16_4720 : Index := 16#32
  ![v8821.toNat, 16]
def k0_off2048 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8823 : Index := Scalar.indexCast v8817
  let c17_4721 : Index := 17#32
  ![v8823.toNat, 17]
def k0_off2049 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8825 : Index := Scalar.indexCast v8817
  let c18_4722 : Index := 18#32
  ![v8825.toNat, 18]
def k0_off2050 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8827 : Index := Scalar.indexCast v8817
  let c19_4723 : Index := 19#32
  ![v8827.toNat, 19]
def k0_off2051 (i : grid0.Coords) (v8822 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8829 : Index := Scalar.indexCast v8819
  let c0_4724 : Index := 0#32
  let v8830 : Index := Scalar.indexCast v8822
  let c0_4725 : Index := 0#32
  ![v8829.toNat, 0, v8830.toNat, 0]

def k0_chk713 (i : grid0.Coords) (v8822 : BitVec 32) : Prop :=
  (∀ a, (k0_off2051 i v8822) a + S1x14x1x256.size a ≤ S64x14x24x256.size a)
theorem k0_off2051_inb : ∀ (i : grid0.Coords) (v8822 : BitVec 32) (k0_hw713 : k0_chk713 i v8822), ∀ a, (k0_off2051 i v8822) a + S1x14x1x256.size a ≤ S64x14x24x256.size a := fun i v8822 k0_hw713 => k0_hw713

def k0_off2052 (i : grid0.Coords) (v8824 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8833 : Index := Scalar.indexCast v8819
  let c0_4726 : Index := 0#32
  let v8834 : Index := Scalar.indexCast v8824
  let c0_4727 : Index := 0#32
  ![v8833.toNat, 0, v8834.toNat, 0]

def k0_chk714 (i : grid0.Coords) (v8824 : BitVec 32) : Prop :=
  (∀ a, (k0_off2052 i v8824) a + S1x14x1x256.size a ≤ S64x14x24x256.size a)
theorem k0_off2052_inb : ∀ (i : grid0.Coords) (v8824 : BitVec 32) (k0_hw714 : k0_chk714 i v8824), ∀ a, (k0_off2052 i v8824) a + S1x14x1x256.size a ≤ S64x14x24x256.size a := fun i v8824 k0_hw714 => k0_hw714

def k0_off2053 (i : grid0.Coords) (v8826 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8837 : Index := Scalar.indexCast v8819
  let c0_4728 : Index := 0#32
  let v8838 : Index := Scalar.indexCast v8826
  let c0_4729 : Index := 0#32
  ![v8837.toNat, 0, v8838.toNat, 0]

def k0_chk715 (i : grid0.Coords) (v8826 : BitVec 32) : Prop :=
  (∀ a, (k0_off2053 i v8826) a + S1x14x1x256.size a ≤ S64x14x24x256.size a)
theorem k0_off2053_inb : ∀ (i : grid0.Coords) (v8826 : BitVec 32) (k0_hw715 : k0_chk715 i v8826), ∀ a, (k0_off2053 i v8826) a + S1x14x1x256.size a ≤ S64x14x24x256.size a := fun i v8826 k0_hw715 => k0_hw715

def k0_off2054 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8852 : Index := Scalar.indexCast v8817
  let c20_4737 : Index := 20#32
  ![v8852.toNat, 20]
def k0_off2055 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8854 : Index := Scalar.indexCast v8817
  let c21_4738 : Index := 21#32
  ![v8854.toNat, 21]
def k0_off2056 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8856 : Index := Scalar.indexCast v8817
  let c22_4739 : Index := 22#32
  ![v8856.toNat, 22]
def k0_off2057 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8858 : Index := Scalar.indexCast v8817
  let c23_4740 : Index := 23#32
  ![v8858.toNat, 23]
def k0_off2058 (i : grid0.Coords) (v8853 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8860 : Index := Scalar.indexCast v8819
  let c0_4741 : Index := 0#32
  let v8861 : Index := Scalar.indexCast v8853
  let c0_4742 : Index := 0#32
  ![v8860.toNat, 0, v8861.toNat, 0]

def k0_chk716 (i : grid0.Coords) (v8853 : BitVec 32) : Prop :=
  (∀ a, (k0_off2058 i v8853) a + S1x14x1x256.size a ≤ S64x14x24x256.size a)
theorem k0_off2058_inb : ∀ (i : grid0.Coords) (v8853 : BitVec 32) (k0_hw716 : k0_chk716 i v8853), ∀ a, (k0_off2058 i v8853) a + S1x14x1x256.size a ≤ S64x14x24x256.size a := fun i v8853 k0_hw716 => k0_hw716

def k0_off2059 (i : grid0.Coords) (v8855 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8864 : Index := Scalar.indexCast v8819
  let c0_4743 : Index := 0#32
  let v8865 : Index := Scalar.indexCast v8855
  let c0_4744 : Index := 0#32
  ![v8864.toNat, 0, v8865.toNat, 0]

def k0_chk717 (i : grid0.Coords) (v8855 : BitVec 32) : Prop :=
  (∀ a, (k0_off2059 i v8855) a + S1x14x1x256.size a ≤ S64x14x24x256.size a)
theorem k0_off2059_inb : ∀ (i : grid0.Coords) (v8855 : BitVec 32) (k0_hw717 : k0_chk717 i v8855), ∀ a, (k0_off2059 i v8855) a + S1x14x1x256.size a ≤ S64x14x24x256.size a := fun i v8855 k0_hw717 => k0_hw717

def k0_off2060 (i : grid0.Coords) (v8857 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8868 : Index := Scalar.indexCast v8819
  let c0_4745 : Index := 0#32
  let v8869 : Index := Scalar.indexCast v8857
  let c0_4746 : Index := 0#32
  ![v8868.toNat, 0, v8869.toNat, 0]

def k0_chk718 (i : grid0.Coords) (v8857 : BitVec 32) : Prop :=
  (∀ a, (k0_off2060 i v8857) a + S1x14x1x256.size a ≤ S64x14x24x256.size a)
theorem k0_off2060_inb : ∀ (i : grid0.Coords) (v8857 : BitVec 32) (k0_hw718 : k0_chk718 i v8857), ∀ a, (k0_off2060 i v8857) a + S1x14x1x256.size a ≤ S64x14x24x256.size a := fun i v8857 k0_hw718 => k0_hw718

def k0_off2061 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8883 : Index := Scalar.indexCast v8817
  let c24_4754 : Index := 24#32
  ![v8883.toNat, 24]
def k0_off2062 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8885 : Index := Scalar.indexCast v8817
  let c25_4755 : Index := 25#32
  ![v8885.toNat, 25]
def k0_off2063 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8887 : Index := Scalar.indexCast v8817
  let c26_4756 : Index := 26#32
  ![v8887.toNat, 26]
def k0_off2064 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8889 : Index := Scalar.indexCast v8817
  let c27_4757 : Index := 27#32
  ![v8889.toNat, 27]
def k0_off2065 (i : grid0.Coords) (v8884 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8891 : Index := Scalar.indexCast v8819
  let c0_4758 : Index := 0#32
  let v8892 : Index := Scalar.indexCast v8884
  let c0_4759 : Index := 0#32
  ![v8891.toNat, 0, v8892.toNat, 0]

def k0_chk719 (i : grid0.Coords) (v8884 : BitVec 32) : Prop :=
  (∀ a, (k0_off2065 i v8884) a + S1x14x1x256.size a ≤ S64x14x24x256.size a)
theorem k0_off2065_inb : ∀ (i : grid0.Coords) (v8884 : BitVec 32) (k0_hw719 : k0_chk719 i v8884), ∀ a, (k0_off2065 i v8884) a + S1x14x1x256.size a ≤ S64x14x24x256.size a := fun i v8884 k0_hw719 => k0_hw719

def k0_off2066 (i : grid0.Coords) (v8886 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8895 : Index := Scalar.indexCast v8819
  let c0_4760 : Index := 0#32
  let v8896 : Index := Scalar.indexCast v8886
  let c0_4761 : Index := 0#32
  ![v8895.toNat, 0, v8896.toNat, 0]

def k0_chk720 (i : grid0.Coords) (v8886 : BitVec 32) : Prop :=
  (∀ a, (k0_off2066 i v8886) a + S1x14x1x256.size a ≤ S64x14x24x256.size a)
theorem k0_off2066_inb : ∀ (i : grid0.Coords) (v8886 : BitVec 32) (k0_hw720 : k0_chk720 i v8886), ∀ a, (k0_off2066 i v8886) a + S1x14x1x256.size a ≤ S64x14x24x256.size a := fun i v8886 k0_hw720 => k0_hw720

def k0_off2067 (i : grid0.Coords) (v8888 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8899 : Index := Scalar.indexCast v8819
  let c0_4762 : Index := 0#32
  let v8900 : Index := Scalar.indexCast v8888
  let c0_4763 : Index := 0#32
  ![v8899.toNat, 0, v8900.toNat, 0]

def k0_chk721 (i : grid0.Coords) (v8888 : BitVec 32) : Prop :=
  (∀ a, (k0_off2067 i v8888) a + S1x14x1x256.size a ≤ S64x14x24x256.size a)
theorem k0_off2067_inb : ∀ (i : grid0.Coords) (v8888 : BitVec 32) (k0_hw721 : k0_chk721 i v8888), ∀ a, (k0_off2067 i v8888) a + S1x14x1x256.size a ≤ S64x14x24x256.size a := fun i v8888 k0_hw721 => k0_hw721

def k0_off2068 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8914 : Index := Scalar.indexCast v8817
  let c28_4771 : Index := 28#32
  ![v8914.toNat, 28]
def k0_off2069 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8916 : Index := Scalar.indexCast v8817
  let c29_4772 : Index := 29#32
  ![v8916.toNat, 29]
def k0_off2070 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8918 : Index := Scalar.indexCast v8817
  let c30_4773 : Index := 30#32
  ![v8918.toNat, 30]
def k0_off2071 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8920 : Index := Scalar.indexCast v8817
  let c31_4774 : Index := 31#32
  ![v8920.toNat, 31]
def k0_off2072 (i : grid0.Coords) (v8915 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8922 : Index := Scalar.indexCast v8819
  let c0_4775 : Index := 0#32
  let v8923 : Index := Scalar.indexCast v8915
  let c0_4776 : Index := 0#32
  ![v8922.toNat, 0, v8923.toNat, 0]

def k0_chk722 (i : grid0.Coords) (v8915 : BitVec 32) : Prop :=
  (∀ a, (k0_off2072 i v8915) a + S1x14x1x256.size a ≤ S64x14x24x256.size a)
theorem k0_off2072_inb : ∀ (i : grid0.Coords) (v8915 : BitVec 32) (k0_hw722 : k0_chk722 i v8915), ∀ a, (k0_off2072 i v8915) a + S1x14x1x256.size a ≤ S64x14x24x256.size a := fun i v8915 k0_hw722 => k0_hw722

def k0_off2073 (i : grid0.Coords) (v8917 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8926 : Index := Scalar.indexCast v8819
  let c0_4777 : Index := 0#32
  let v8927 : Index := Scalar.indexCast v8917
  let c0_4778 : Index := 0#32
  ![v8926.toNat, 0, v8927.toNat, 0]

def k0_chk723 (i : grid0.Coords) (v8917 : BitVec 32) : Prop :=
  (∀ a, (k0_off2073 i v8917) a + S1x14x1x256.size a ≤ S64x14x24x256.size a)
theorem k0_off2073_inb : ∀ (i : grid0.Coords) (v8917 : BitVec 32) (k0_hw723 : k0_chk723 i v8917), ∀ a, (k0_off2073 i v8917) a + S1x14x1x256.size a ≤ S64x14x24x256.size a := fun i v8917 k0_hw723 => k0_hw723

def k0_off2074 (i : grid0.Coords) (v8919 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8930 : Index := Scalar.indexCast v8819
  let c0_4779 : Index := 0#32
  let v8931 : Index := Scalar.indexCast v8919
  let c0_4780 : Index := 0#32
  ![v8930.toNat, 0, v8931.toNat, 0]

def k0_chk724 (i : grid0.Coords) (v8919 : BitVec 32) : Prop :=
  (∀ a, (k0_off2074 i v8919) a + S1x14x1x256.size a ≤ S64x14x24x256.size a)
theorem k0_off2074_inb : ∀ (i : grid0.Coords) (v8919 : BitVec 32) (k0_hw724 : k0_chk724 i v8919), ∀ a, (k0_off2074 i v8919) a + S1x14x1x256.size a ≤ S64x14x24x256.size a := fun i v8919 k0_hw724 => k0_hw724

def k0_off2075 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8945 : Index := Scalar.indexCast v8817
  let c32_4788 : Index := 32#32
  ![v8945.toNat, 32]
def k0_off2076 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8947 : Index := Scalar.indexCast v8817
  let c33_4789 : Index := 33#32
  ![v8947.toNat, 33]
def k0_off2077 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8949 : Index := Scalar.indexCast v8817
  let c34_4790 : Index := 34#32
  ![v8949.toNat, 34]
def k0_off2078 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8951 : Index := Scalar.indexCast v8817
  let c35_4791 : Index := 35#32
  ![v8951.toNat, 35]
def k0_off2079 (i : grid0.Coords) (v8946 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8953 : Index := Scalar.indexCast v8819
  let c0_4792 : Index := 0#32
  let v8954 : Index := Scalar.indexCast v8946
  let c0_4793 : Index := 0#32
  ![v8953.toNat, 0, v8954.toNat, 0]

def k0_chk725 (i : grid0.Coords) (v8946 : BitVec 32) : Prop :=
  (∀ a, (k0_off2079 i v8946) a + S1x14x1x256.size a ≤ S64x14x24x256.size a)
theorem k0_off2079_inb : ∀ (i : grid0.Coords) (v8946 : BitVec 32) (k0_hw725 : k0_chk725 i v8946), ∀ a, (k0_off2079 i v8946) a + S1x14x1x256.size a ≤ S64x14x24x256.size a := fun i v8946 k0_hw725 => k0_hw725

def k0_off2080 (i : grid0.Coords) (v8948 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8957 : Index := Scalar.indexCast v8819
  let c0_4794 : Index := 0#32
  let v8958 : Index := Scalar.indexCast v8948
  let c0_4795 : Index := 0#32
  ![v8957.toNat, 0, v8958.toNat, 0]

def k0_chk726 (i : grid0.Coords) (v8948 : BitVec 32) : Prop :=
  (∀ a, (k0_off2080 i v8948) a + S1x14x1x256.size a ≤ S64x14x24x256.size a)
theorem k0_off2080_inb : ∀ (i : grid0.Coords) (v8948 : BitVec 32) (k0_hw726 : k0_chk726 i v8948), ∀ a, (k0_off2080 i v8948) a + S1x14x1x256.size a ≤ S64x14x24x256.size a := fun i v8948 k0_hw726 => k0_hw726

def k0_off2081 (i : grid0.Coords) (v8950 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8961 : Index := Scalar.indexCast v8819
  let c0_4796 : Index := 0#32
  let v8962 : Index := Scalar.indexCast v8950
  let c0_4797 : Index := 0#32
  ![v8961.toNat, 0, v8962.toNat, 0]

def k0_chk727 (i : grid0.Coords) (v8950 : BitVec 32) : Prop :=
  (∀ a, (k0_off2081 i v8950) a + S1x14x1x256.size a ≤ S64x14x24x256.size a)
theorem k0_off2081_inb : ∀ (i : grid0.Coords) (v8950 : BitVec 32) (k0_hw727 : k0_chk727 i v8950), ∀ a, (k0_off2081 i v8950) a + S1x14x1x256.size a ≤ S64x14x24x256.size a := fun i v8950 k0_hw727 => k0_hw727

def k0_off2082 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8976 : Index := Scalar.indexCast v8817
  let c36_4805 : Index := 36#32
  ![v8976.toNat, 36]
def k0_off2083 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8978 : Index := Scalar.indexCast v8817
  let c37_4806 : Index := 37#32
  ![v8978.toNat, 37]
def k0_off2084 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8980 : Index := Scalar.indexCast v8817
  let c38_4807 : Index := 38#32
  ![v8980.toNat, 38]

variable {F : FTy → Type} [FloatOps F]

def k0_off2085 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v8982 : Index := Scalar.indexCast v8817
  let c39_4808 : Index := 39#32
  ![v8982.toNat, 39]
def k0_off2086 (i : grid0.Coords) (v8977 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8984 : Index := Scalar.indexCast v8819
  let c0_4809 : Index := 0#32
  let v8985 : Index := Scalar.indexCast v8977
  let c0_4810 : Index := 0#32
  ![v8984.toNat, 0, v8985.toNat, 0]

def k0_chk728 (i : grid0.Coords) (v8977 : BitVec 32) : Prop :=
  (∀ a, (k0_off2086 i v8977) a + S1x14x1x256.size a ≤ S64x14x24x256.size a)
theorem k0_off2086_inb : ∀ (i : grid0.Coords) (v8977 : BitVec 32) (k0_hw728 : k0_chk728 i v8977), ∀ a, (k0_off2086 i v8977) a + S1x14x1x256.size a ≤ S64x14x24x256.size a := fun i v8977 k0_hw728 => k0_hw728

def k0_off2087 (i : grid0.Coords) (v8979 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8988 : Index := Scalar.indexCast v8819
  let c0_4811 : Index := 0#32
  let v8989 : Index := Scalar.indexCast v8979
  let c0_4812 : Index := 0#32
  ![v8988.toNat, 0, v8989.toNat, 0]

def k0_chk729 (i : grid0.Coords) (v8979 : BitVec 32) : Prop :=
  (∀ a, (k0_off2087 i v8979) a + S1x14x1x256.size a ≤ S64x14x24x256.size a)
theorem k0_off2087_inb : ∀ (i : grid0.Coords) (v8979 : BitVec 32) (k0_hw729 : k0_chk729 i v8979), ∀ a, (k0_off2087 i v8979) a + S1x14x1x256.size a ≤ S64x14x24x256.size a := fun i v8979 k0_hw729 => k0_hw729

def k0_off2088 (i : grid0.Coords) (v8981 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v8992 : Index := Scalar.indexCast v8819
  let c0_4813 : Index := 0#32
  let v8993 : Index := Scalar.indexCast v8981
  let c0_4814 : Index := 0#32
  ![v8992.toNat, 0, v8993.toNat, 0]

def k0_chk730 (i : grid0.Coords) (v8981 : BitVec 32) : Prop :=
  (∀ a, (k0_off2088 i v8981) a + S1x14x1x256.size a ≤ S64x14x24x256.size a)
theorem k0_off2088_inb : ∀ (i : grid0.Coords) (v8981 : BitVec 32) (k0_hw730 : k0_chk730 i v8981), ∀ a, (k0_off2088 i v8981) a + S1x14x1x256.size a ≤ S64x14x24x256.size a := fun i v8981 k0_hw730 => k0_hw730

def k0_off2089 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9007 : Index := Scalar.indexCast v8817
  let c40_4822 : Index := 40#32
  ![v9007.toNat, 40]
def k0_off2090 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9009 : Index := Scalar.indexCast v8817
  let c41_4823 : Index := 41#32
  ![v9009.toNat, 41]
def k0_off2091 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9011 : Index := Scalar.indexCast v8817
  let c42_4824 : Index := 42#32
  ![v9011.toNat, 42]
def k0_off2092 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9013 : Index := Scalar.indexCast v8817
  let c43_4825 : Index := 43#32
  ![v9013.toNat, 43]
def k0_off2093 (i : grid0.Coords) (v9008 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v9015 : Index := Scalar.indexCast v8819
  let c0_4826 : Index := 0#32
  let v9016 : Index := Scalar.indexCast v9008
  let c0_4827 : Index := 0#32
  ![v9015.toNat, 0, v9016.toNat, 0]

def k0_chk731 (i : grid0.Coords) (v9008 : BitVec 32) : Prop :=
  (∀ a, (k0_off2093 i v9008) a + S1x14x1x256.size a ≤ S64x14x24x256.size a)
theorem k0_off2093_inb : ∀ (i : grid0.Coords) (v9008 : BitVec 32) (k0_hw731 : k0_chk731 i v9008), ∀ a, (k0_off2093 i v9008) a + S1x14x1x256.size a ≤ S64x14x24x256.size a := fun i v9008 k0_hw731 => k0_hw731

def k0_off2094 (i : grid0.Coords) (v9010 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v9019 : Index := Scalar.indexCast v8819
  let c0_4828 : Index := 0#32
  let v9020 : Index := Scalar.indexCast v9010
  let c0_4829 : Index := 0#32
  ![v9019.toNat, 0, v9020.toNat, 0]

def k0_chk732 (i : grid0.Coords) (v9010 : BitVec 32) : Prop :=
  (∀ a, (k0_off2094 i v9010) a + S1x14x1x256.size a ≤ S64x14x24x256.size a)
theorem k0_off2094_inb : ∀ (i : grid0.Coords) (v9010 : BitVec 32) (k0_hw732 : k0_chk732 i v9010), ∀ a, (k0_off2094 i v9010) a + S1x14x1x256.size a ≤ S64x14x24x256.size a := fun i v9010 k0_hw732 => k0_hw732

def k0_off2095 (i : grid0.Coords) (v9012 : BitVec 32) : Fin 4 → Nat :=
  let c32_i32_4717 : BitVec 32 := 32#32
  let arg0 : BitVec 32 := BitVec.ofNat 32 (i 0).val
  let c2_i32 : BitVec 32 := 2#32
  let v0 : BitVec 32 := Scalar.remsi arg0 c2_i32
  let v8818 : BitVec 32 := Scalar.muli c32_i32_4717 v0
  let c22_i32_4718 : BitVec 32 := 22#32
  let v8819 : BitVec 32 := Scalar.addi v8818 c22_i32_4718
  let v9023 : Index := Scalar.indexCast v8819
  let c0_4830 : Index := 0#32
  let v9024 : Index := Scalar.indexCast v9012
  let c0_4831 : Index := 0#32
  ![v9023.toNat, 0, v9024.toNat, 0]

def k0_chk733 (i : grid0.Coords) (v9012 : BitVec 32) : Prop :=
  (∀ a, (k0_off2095 i v9012) a + S1x14x1x256.size a ≤ S64x14x24x256.size a)
theorem k0_off2095_inb : ∀ (i : grid0.Coords) (v9012 : BitVec 32) (k0_hw733 : k0_chk733 i v9012), ∀ a, (k0_off2095 i v9012) a + S1x14x1x256.size a ≤ S64x14x24x256.size a := fun i v9012 k0_hw733 => k0_hw733

def k0_off2096 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9039 : Index := Scalar.indexCast v8817
  let c44_4839 : Index := 44#32
  ![v9039.toNat, 44]
def k0_off2097 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9041 : Index := Scalar.indexCast v8817
  let c45_4840 : Index := 45#32
  ![v9041.toNat, 45]
def k0_off2098 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9043 : Index := Scalar.indexCast v8817
  let c46_4841 : Index := 46#32
  ![v9043.toNat, 46]
def k0_off2099 (v9040 : BitVec 32) : Fin 4 → Nat :=
  let c22_4842 : Index := 22#32
  let v9045 : Index := Scalar.indexCast v9040
  let c0_4843 : Index := 0#32
  let c0_4844 : Index := 0#32
  ![22, v9045.toNat, 0, 0]

def k0_chk734 (v9040 : BitVec 32) : Prop :=
  (∀ a, (k0_off2099 v9040) a + S1x3x7x256.size a ≤ S32x14x7x256.size a)
theorem k0_off2099_inb : ∀ (v9040 : BitVec 32) (k0_hw734 : k0_chk734 v9040), ∀ a, (k0_off2099 v9040) a + S1x3x7x256.size a ≤ S32x14x7x256.size a := fun v9040 k0_hw734 => k0_hw734

def k0_off2100 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9061 : Index := Scalar.indexCast v8817
  let c47_4850 : Index := 47#32
  ![v9061.toNat, 47]
def k0_off2101 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9063 : Index := Scalar.indexCast v8817
  let c48_4851 : Index := 48#32
  ![v9063.toNat, 48]
def k0_off2102 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9065 : Index := Scalar.indexCast v8817
  let c49_4852 : Index := 49#32
  ![v9065.toNat, 49]
def k0_off2103 (v9062 : BitVec 32) : Fin 4 → Nat :=
  let c22_4853 : Index := 22#32
  let v9067 : Index := Scalar.indexCast v9062
  let c0_4854 : Index := 0#32
  let c0_4855 : Index := 0#32
  ![22, v9067.toNat, 0, 0]

def k0_chk735 (v9062 : BitVec 32) : Prop :=
  (∀ a, (k0_off2103 v9062) a + S1x3x7x256.size a ≤ S32x14x7x256.size a)
theorem k0_off2103_inb : ∀ (v9062 : BitVec 32) (k0_hw735 : k0_chk735 v9062), ∀ a, (k0_off2103 v9062) a + S1x3x7x256.size a ≤ S32x14x7x256.size a := fun v9062 k0_hw735 => k0_hw735

def k0_off2104 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9083 : Index := Scalar.indexCast v8817
  let c50_4861 : Index := 50#32
  ![v9083.toNat, 50]
def k0_off2105 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9085 : Index := Scalar.indexCast v8817
  let c51_4862 : Index := 51#32
  ![v9085.toNat, 51]
def k0_off2106 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9087 : Index := Scalar.indexCast v8817
  let c52_4863 : Index := 52#32
  ![v9087.toNat, 52]
def k0_off2107 (v9084 : BitVec 32) : Fin 4 → Nat :=
  let c22_4864 : Index := 22#32
  let v9089 : Index := Scalar.indexCast v9084
  let c0_4865 : Index := 0#32
  let c0_4866 : Index := 0#32
  ![22, v9089.toNat, 0, 0]

def k0_chk736 (v9084 : BitVec 32) : Prop :=
  (∀ a, (k0_off2107 v9084) a + S1x3x7x256.size a ≤ S32x14x7x256.size a)
theorem k0_off2107_inb : ∀ (v9084 : BitVec 32) (k0_hw736 : k0_chk736 v9084), ∀ a, (k0_off2107 v9084) a + S1x3x7x256.size a ≤ S32x14x7x256.size a := fun v9084 k0_hw736 => k0_hw736

def k0_off2108 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9105 : Index := Scalar.indexCast v8817
  let c53_4872 : Index := 53#32
  ![v9105.toNat, 53]
def k0_off2109 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9107 : Index := Scalar.indexCast v8817
  let c54_4873 : Index := 54#32
  ![v9107.toNat, 54]
def k0_off2110 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9109 : Index := Scalar.indexCast v8817
  let c55_4874 : Index := 55#32
  ![v9109.toNat, 55]
def k0_off2111 (v9106 : BitVec 32) : Fin 4 → Nat :=
  let c22_4875 : Index := 22#32
  let v9111 : Index := Scalar.indexCast v9106
  let c0_4876 : Index := 0#32
  let c0_4877 : Index := 0#32
  ![22, v9111.toNat, 0, 0]

def k0_chk737 (v9106 : BitVec 32) : Prop :=
  (∀ a, (k0_off2111 v9106) a + S1x3x7x256.size a ≤ S32x14x7x256.size a)
theorem k0_off2111_inb : ∀ (v9106 : BitVec 32) (k0_hw737 : k0_chk737 v9106), ∀ a, (k0_off2111 v9106) a + S1x3x7x256.size a ≤ S32x14x7x256.size a := fun v9106 k0_hw737 => k0_hw737

def k0_off2112 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9127 : Index := Scalar.indexCast v8817
  let c56_4883 : Index := 56#32
  ![v9127.toNat, 56]
def k0_off2113 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9129 : Index := Scalar.indexCast v8817
  let c57_4884 : Index := 57#32
  ![v9129.toNat, 57]
def k0_off2114 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9131 : Index := Scalar.indexCast v8817
  let c58_4885 : Index := 58#32
  ![v9131.toNat, 58]
def k0_off2115 (v9128 : BitVec 32) : Fin 4 → Nat :=
  let c22_4886 : Index := 22#32
  let v9133 : Index := Scalar.indexCast v9128
  let c0_4887 : Index := 0#32
  let c0_4888 : Index := 0#32
  ![22, v9133.toNat, 0, 0]

def k0_chk738 (v9128 : BitVec 32) : Prop :=
  (∀ a, (k0_off2115 v9128) a + S1x3x7x256.size a ≤ S32x14x7x256.size a)
theorem k0_off2115_inb : ∀ (v9128 : BitVec 32) (k0_hw738 : k0_chk738 v9128), ∀ a, (k0_off2115 v9128) a + S1x3x7x256.size a ≤ S32x14x7x256.size a := fun v9128 k0_hw738 => k0_hw738

def k0_off2116 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9149 : Index := Scalar.indexCast v8817
  let c59_4894 : Index := 59#32
  ![v9149.toNat, 59]
def k0_off2117 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9151 : Index := Scalar.indexCast v8817
  let c60_4895 : Index := 60#32
  ![v9151.toNat, 60]
def k0_off2118 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9153 : Index := Scalar.indexCast v8817
  let c61_4896 : Index := 61#32
  ![v9153.toNat, 61]
def k0_off2119 (v9150 : BitVec 32) : Fin 4 → Nat :=
  let c22_4897 : Index := 22#32
  let v9155 : Index := Scalar.indexCast v9150
  let c0_4898 : Index := 0#32
  let c0_4899 : Index := 0#32
  ![22, v9155.toNat, 0, 0]

def k0_chk739 (v9150 : BitVec 32) : Prop :=
  (∀ a, (k0_off2119 v9150) a + S1x3x7x256.size a ≤ S32x14x7x256.size a)
theorem k0_off2119_inb : ∀ (v9150 : BitVec 32) (k0_hw739 : k0_chk739 v9150), ∀ a, (k0_off2119 v9150) a + S1x3x7x256.size a ≤ S32x14x7x256.size a := fun v9150 k0_hw739 => k0_hw739

def k0_off2120 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9171 : Index := Scalar.indexCast v8817
  let c62_4905 : Index := 62#32
  ![v9171.toNat, 62]
def k0_off2121 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9173 : Index := Scalar.indexCast v8817
  let c63_4906 : Index := 63#32
  ![v9173.toNat, 63]
def k0_off2122 (i : grid0.Coords) : Fin 2 → Nat :=
  let c32_i32_4715 : BitVec 32 := 32#32
  let arg0 : BitVec 32 := BitVec.ofNat 32 (i 0).val
  let v8816 : BitVec 32 := Scalar.muli c32_i32_4715 arg0
  let c22_i32_4716 : BitVec 32 := 22#32
  let v8817 : BitVec 32 := Scalar.addi v8816 c22_i32_4716
  let v9175 : Index := Scalar.indexCast v8817
  let c64_4907 : Index := 64#32
  ![v9175.toNat, 64]
def k0_off2123 (v9172 : BitVec 32) : Fin 4 → Nat :=
  let c22_4908 : Index := 22#32
  let v9177 : Index := Scalar.indexCast v9172
  let c0_4909 : Index := 0#32
  let c0_4910 : Index := 0#32
  ![22, v9177.toNat, 0, 0]

def k0_chk740 (v9172 : BitVec 32) : Prop :=
  (∀ a, (k0_off2123 v9172) a + S1x3x7x256.size a ≤ S32x14x7x256.size a)
theorem k0_off2123_inb : ∀ (v9172 : BitVec 32) (k0_hw740 : k0_chk740 v9172), ∀ a, (k0_off2123 v9172) a + S1x3x7x256.size a ≤ S32x14x7x256.size a := fun v9172 k0_hw740 => k0_hw740

def k0_off2124 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9198 : Index := Scalar.indexCast v9194
  let c16_4921 : Index := 16#32
  ![v9198.toNat, 16]
def k0_off2125 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9200 : Index := Scalar.indexCast v9194
  let c17_4922 : Index := 17#32
  ![v9200.toNat, 17]
def k0_off2126 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9202 : Index := Scalar.indexCast v9194
  let c18_4923 : Index := 18#32
  ![v9202.toNat, 18]
def k0_off2127 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9204 : Index := Scalar.indexCast v9194
  let c19_4924 : Index := 19#32
  ![v9204.toNat, 19]
def k0_off2128 (i : grid0.Coords) (v9199 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9206 : Index := Scalar.indexCast v9196
  let c0_4925 : Index := 0#32
  let v9207 : Index := Scalar.indexCast v9199
  let c0_4926 : Index := 0#32
  ![v9206.toNat, 0, v9207.toNat, 0]

def k0_chk741 (i : grid0.Coords) (v9199 : BitVec 32) : Prop :=
  (∀ a, (k0_off2128 i v9199) a + S1x14x1x256.size a ≤ S64x14x24x256.size a)
theorem k0_off2128_inb : ∀ (i : grid0.Coords) (v9199 : BitVec 32) (k0_hw741 : k0_chk741 i v9199), ∀ a, (k0_off2128 i v9199) a + S1x14x1x256.size a ≤ S64x14x24x256.size a := fun i v9199 k0_hw741 => k0_hw741

def k0_off2129 (i : grid0.Coords) (v9201 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9210 : Index := Scalar.indexCast v9196
  let c0_4927 : Index := 0#32
  let v9211 : Index := Scalar.indexCast v9201
  let c0_4928 : Index := 0#32
  ![v9210.toNat, 0, v9211.toNat, 0]

def k0_chk742 (i : grid0.Coords) (v9201 : BitVec 32) : Prop :=
  (∀ a, (k0_off2129 i v9201) a + S1x14x1x256.size a ≤ S64x14x24x256.size a)
theorem k0_off2129_inb : ∀ (i : grid0.Coords) (v9201 : BitVec 32) (k0_hw742 : k0_chk742 i v9201), ∀ a, (k0_off2129 i v9201) a + S1x14x1x256.size a ≤ S64x14x24x256.size a := fun i v9201 k0_hw742 => k0_hw742

def k0_off2130 (i : grid0.Coords) (v9203 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9214 : Index := Scalar.indexCast v9196
  let c0_4929 : Index := 0#32
  let v9215 : Index := Scalar.indexCast v9203
  let c0_4930 : Index := 0#32
  ![v9214.toNat, 0, v9215.toNat, 0]

def k0_chk743 (i : grid0.Coords) (v9203 : BitVec 32) : Prop :=
  (∀ a, (k0_off2130 i v9203) a + S1x14x1x256.size a ≤ S64x14x24x256.size a)
theorem k0_off2130_inb : ∀ (i : grid0.Coords) (v9203 : BitVec 32) (k0_hw743 : k0_chk743 i v9203), ∀ a, (k0_off2130 i v9203) a + S1x14x1x256.size a ≤ S64x14x24x256.size a := fun i v9203 k0_hw743 => k0_hw743

def k0_off2131 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9229 : Index := Scalar.indexCast v9194
  let c20_4938 : Index := 20#32
  ![v9229.toNat, 20]
def k0_off2132 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9231 : Index := Scalar.indexCast v9194
  let c21_4939 : Index := 21#32
  ![v9231.toNat, 21]
def k0_off2133 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9233 : Index := Scalar.indexCast v9194
  let c22_4940 : Index := 22#32
  ![v9233.toNat, 22]
def k0_off2134 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9235 : Index := Scalar.indexCast v9194
  let c23_4941 : Index := 23#32
  ![v9235.toNat, 23]
def k0_off2135 (i : grid0.Coords) (v9230 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9237 : Index := Scalar.indexCast v9196
  let c0_4942 : Index := 0#32
  let v9238 : Index := Scalar.indexCast v9230
  let c0_4943 : Index := 0#32
  ![v9237.toNat, 0, v9238.toNat, 0]

def k0_chk744 (i : grid0.Coords) (v9230 : BitVec 32) : Prop :=
  (∀ a, (k0_off2135 i v9230) a + S1x14x1x256.size a ≤ S64x14x24x256.size a)
theorem k0_off2135_inb : ∀ (i : grid0.Coords) (v9230 : BitVec 32) (k0_hw744 : k0_chk744 i v9230), ∀ a, (k0_off2135 i v9230) a + S1x14x1x256.size a ≤ S64x14x24x256.size a := fun i v9230 k0_hw744 => k0_hw744

def k0_off2136 (i : grid0.Coords) (v9232 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9241 : Index := Scalar.indexCast v9196
  let c0_4944 : Index := 0#32
  let v9242 : Index := Scalar.indexCast v9232
  let c0_4945 : Index := 0#32
  ![v9241.toNat, 0, v9242.toNat, 0]

def k0_chk745 (i : grid0.Coords) (v9232 : BitVec 32) : Prop :=
  (∀ a, (k0_off2136 i v9232) a + S1x14x1x256.size a ≤ S64x14x24x256.size a)
theorem k0_off2136_inb : ∀ (i : grid0.Coords) (v9232 : BitVec 32) (k0_hw745 : k0_chk745 i v9232), ∀ a, (k0_off2136 i v9232) a + S1x14x1x256.size a ≤ S64x14x24x256.size a := fun i v9232 k0_hw745 => k0_hw745

def k0_off2137 (i : grid0.Coords) (v9234 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9245 : Index := Scalar.indexCast v9196
  let c0_4946 : Index := 0#32
  let v9246 : Index := Scalar.indexCast v9234
  let c0_4947 : Index := 0#32
  ![v9245.toNat, 0, v9246.toNat, 0]

def k0_chk746 (i : grid0.Coords) (v9234 : BitVec 32) : Prop :=
  (∀ a, (k0_off2137 i v9234) a + S1x14x1x256.size a ≤ S64x14x24x256.size a)
theorem k0_off2137_inb : ∀ (i : grid0.Coords) (v9234 : BitVec 32) (k0_hw746 : k0_chk746 i v9234), ∀ a, (k0_off2137 i v9234) a + S1x14x1x256.size a ≤ S64x14x24x256.size a := fun i v9234 k0_hw746 => k0_hw746

def k0_off2138 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9260 : Index := Scalar.indexCast v9194
  let c24_4955 : Index := 24#32
  ![v9260.toNat, 24]
def k0_off2139 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9262 : Index := Scalar.indexCast v9194
  let c25_4956 : Index := 25#32
  ![v9262.toNat, 25]
def k0_off2140 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9264 : Index := Scalar.indexCast v9194
  let c26_4957 : Index := 26#32
  ![v9264.toNat, 26]
def k0_off2141 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9266 : Index := Scalar.indexCast v9194
  let c27_4958 : Index := 27#32
  ![v9266.toNat, 27]
def k0_off2142 (i : grid0.Coords) (v9261 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9268 : Index := Scalar.indexCast v9196
  let c0_4959 : Index := 0#32
  let v9269 : Index := Scalar.indexCast v9261
  let c0_4960 : Index := 0#32
  ![v9268.toNat, 0, v9269.toNat, 0]

def k0_chk747 (i : grid0.Coords) (v9261 : BitVec 32) : Prop :=
  (∀ a, (k0_off2142 i v9261) a + S1x14x1x256.size a ≤ S64x14x24x256.size a)
theorem k0_off2142_inb : ∀ (i : grid0.Coords) (v9261 : BitVec 32) (k0_hw747 : k0_chk747 i v9261), ∀ a, (k0_off2142 i v9261) a + S1x14x1x256.size a ≤ S64x14x24x256.size a := fun i v9261 k0_hw747 => k0_hw747

def k0_off2143 (i : grid0.Coords) (v9263 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9272 : Index := Scalar.indexCast v9196
  let c0_4961 : Index := 0#32
  let v9273 : Index := Scalar.indexCast v9263
  let c0_4962 : Index := 0#32
  ![v9272.toNat, 0, v9273.toNat, 0]

def k0_chk748 (i : grid0.Coords) (v9263 : BitVec 32) : Prop :=
  (∀ a, (k0_off2143 i v9263) a + S1x14x1x256.size a ≤ S64x14x24x256.size a)
theorem k0_off2143_inb : ∀ (i : grid0.Coords) (v9263 : BitVec 32) (k0_hw748 : k0_chk748 i v9263), ∀ a, (k0_off2143 i v9263) a + S1x14x1x256.size a ≤ S64x14x24x256.size a := fun i v9263 k0_hw748 => k0_hw748

def k0_off2144 (i : grid0.Coords) (v9265 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9276 : Index := Scalar.indexCast v9196
  let c0_4963 : Index := 0#32
  let v9277 : Index := Scalar.indexCast v9265
  let c0_4964 : Index := 0#32
  ![v9276.toNat, 0, v9277.toNat, 0]

def k0_chk749 (i : grid0.Coords) (v9265 : BitVec 32) : Prop :=
  (∀ a, (k0_off2144 i v9265) a + S1x14x1x256.size a ≤ S64x14x24x256.size a)
theorem k0_off2144_inb : ∀ (i : grid0.Coords) (v9265 : BitVec 32) (k0_hw749 : k0_chk749 i v9265), ∀ a, (k0_off2144 i v9265) a + S1x14x1x256.size a ≤ S64x14x24x256.size a := fun i v9265 k0_hw749 => k0_hw749

def k0_off2145 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9291 : Index := Scalar.indexCast v9194
  let c28_4972 : Index := 28#32
  ![v9291.toNat, 28]
def k0_off2146 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9293 : Index := Scalar.indexCast v9194
  let c29_4973 : Index := 29#32
  ![v9293.toNat, 29]
def k0_off2147 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9295 : Index := Scalar.indexCast v9194
  let c30_4974 : Index := 30#32
  ![v9295.toNat, 30]
def k0_off2148 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9297 : Index := Scalar.indexCast v9194
  let c31_4975 : Index := 31#32
  ![v9297.toNat, 31]
def k0_off2149 (i : grid0.Coords) (v9292 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9299 : Index := Scalar.indexCast v9196
  let c0_4976 : Index := 0#32
  let v9300 : Index := Scalar.indexCast v9292
  let c0_4977 : Index := 0#32
  ![v9299.toNat, 0, v9300.toNat, 0]

def k0_chk750 (i : grid0.Coords) (v9292 : BitVec 32) : Prop :=
  (∀ a, (k0_off2149 i v9292) a + S1x14x1x256.size a ≤ S64x14x24x256.size a)
theorem k0_off2149_inb : ∀ (i : grid0.Coords) (v9292 : BitVec 32) (k0_hw750 : k0_chk750 i v9292), ∀ a, (k0_off2149 i v9292) a + S1x14x1x256.size a ≤ S64x14x24x256.size a := fun i v9292 k0_hw750 => k0_hw750

def k0_off2150 (i : grid0.Coords) (v9294 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9303 : Index := Scalar.indexCast v9196
  let c0_4978 : Index := 0#32
  let v9304 : Index := Scalar.indexCast v9294
  let c0_4979 : Index := 0#32
  ![v9303.toNat, 0, v9304.toNat, 0]

def k0_chk751 (i : grid0.Coords) (v9294 : BitVec 32) : Prop :=
  (∀ a, (k0_off2150 i v9294) a + S1x14x1x256.size a ≤ S64x14x24x256.size a)
theorem k0_off2150_inb : ∀ (i : grid0.Coords) (v9294 : BitVec 32) (k0_hw751 : k0_chk751 i v9294), ∀ a, (k0_off2150 i v9294) a + S1x14x1x256.size a ≤ S64x14x24x256.size a := fun i v9294 k0_hw751 => k0_hw751

def k0_off2151 (i : grid0.Coords) (v9296 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9307 : Index := Scalar.indexCast v9196
  let c0_4980 : Index := 0#32
  let v9308 : Index := Scalar.indexCast v9296
  let c0_4981 : Index := 0#32
  ![v9307.toNat, 0, v9308.toNat, 0]

def k0_chk752 (i : grid0.Coords) (v9296 : BitVec 32) : Prop :=
  (∀ a, (k0_off2151 i v9296) a + S1x14x1x256.size a ≤ S64x14x24x256.size a)
theorem k0_off2151_inb : ∀ (i : grid0.Coords) (v9296 : BitVec 32) (k0_hw752 : k0_chk752 i v9296), ∀ a, (k0_off2151 i v9296) a + S1x14x1x256.size a ≤ S64x14x24x256.size a := fun i v9296 k0_hw752 => k0_hw752

def k0_off2152 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9322 : Index := Scalar.indexCast v9194
  let c32_4989 : Index := 32#32
  ![v9322.toNat, 32]
def k0_off2153 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9324 : Index := Scalar.indexCast v9194
  let c33_4990 : Index := 33#32
  ![v9324.toNat, 33]
def k0_off2154 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9326 : Index := Scalar.indexCast v9194
  let c34_4991 : Index := 34#32
  ![v9326.toNat, 34]
def k0_off2155 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9328 : Index := Scalar.indexCast v9194
  let c35_4992 : Index := 35#32
  ![v9328.toNat, 35]
def k0_off2156 (i : grid0.Coords) (v9323 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9330 : Index := Scalar.indexCast v9196
  let c0_4993 : Index := 0#32
  let v9331 : Index := Scalar.indexCast v9323
  let c0_4994 : Index := 0#32
  ![v9330.toNat, 0, v9331.toNat, 0]

def k0_chk753 (i : grid0.Coords) (v9323 : BitVec 32) : Prop :=
  (∀ a, (k0_off2156 i v9323) a + S1x14x1x256.size a ≤ S64x14x24x256.size a)
theorem k0_off2156_inb : ∀ (i : grid0.Coords) (v9323 : BitVec 32) (k0_hw753 : k0_chk753 i v9323), ∀ a, (k0_off2156 i v9323) a + S1x14x1x256.size a ≤ S64x14x24x256.size a := fun i v9323 k0_hw753 => k0_hw753

def k0_off2157 (i : grid0.Coords) (v9325 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9334 : Index := Scalar.indexCast v9196
  let c0_4995 : Index := 0#32
  let v9335 : Index := Scalar.indexCast v9325
  let c0_4996 : Index := 0#32
  ![v9334.toNat, 0, v9335.toNat, 0]

def k0_chk754 (i : grid0.Coords) (v9325 : BitVec 32) : Prop :=
  (∀ a, (k0_off2157 i v9325) a + S1x14x1x256.size a ≤ S64x14x24x256.size a)
theorem k0_off2157_inb : ∀ (i : grid0.Coords) (v9325 : BitVec 32) (k0_hw754 : k0_chk754 i v9325), ∀ a, (k0_off2157 i v9325) a + S1x14x1x256.size a ≤ S64x14x24x256.size a := fun i v9325 k0_hw754 => k0_hw754

def k0_off2158 (i : grid0.Coords) (v9327 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9338 : Index := Scalar.indexCast v9196
  let c0_4997 : Index := 0#32
  let v9339 : Index := Scalar.indexCast v9327
  let c0_4998 : Index := 0#32
  ![v9338.toNat, 0, v9339.toNat, 0]

def k0_chk755 (i : grid0.Coords) (v9327 : BitVec 32) : Prop :=
  (∀ a, (k0_off2158 i v9327) a + S1x14x1x256.size a ≤ S64x14x24x256.size a)
theorem k0_off2158_inb : ∀ (i : grid0.Coords) (v9327 : BitVec 32) (k0_hw755 : k0_chk755 i v9327), ∀ a, (k0_off2158 i v9327) a + S1x14x1x256.size a ≤ S64x14x24x256.size a := fun i v9327 k0_hw755 => k0_hw755

def k0_off2159 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9353 : Index := Scalar.indexCast v9194
  let c36_5006 : Index := 36#32
  ![v9353.toNat, 36]
def k0_off2160 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9355 : Index := Scalar.indexCast v9194
  let c37_5007 : Index := 37#32
  ![v9355.toNat, 37]
def k0_off2161 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9357 : Index := Scalar.indexCast v9194
  let c38_5008 : Index := 38#32
  ![v9357.toNat, 38]
def k0_off2162 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9359 : Index := Scalar.indexCast v9194
  let c39_5009 : Index := 39#32
  ![v9359.toNat, 39]
def k0_off2163 (i : grid0.Coords) (v9354 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9361 : Index := Scalar.indexCast v9196
  let c0_5010 : Index := 0#32
  let v9362 : Index := Scalar.indexCast v9354
  let c0_5011 : Index := 0#32
  ![v9361.toNat, 0, v9362.toNat, 0]

def k0_chk756 (i : grid0.Coords) (v9354 : BitVec 32) : Prop :=
  (∀ a, (k0_off2163 i v9354) a + S1x14x1x256.size a ≤ S64x14x24x256.size a)
theorem k0_off2163_inb : ∀ (i : grid0.Coords) (v9354 : BitVec 32) (k0_hw756 : k0_chk756 i v9354), ∀ a, (k0_off2163 i v9354) a + S1x14x1x256.size a ≤ S64x14x24x256.size a := fun i v9354 k0_hw756 => k0_hw756

def k0_off2164 (i : grid0.Coords) (v9356 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9365 : Index := Scalar.indexCast v9196
  let c0_5012 : Index := 0#32
  let v9366 : Index := Scalar.indexCast v9356
  let c0_5013 : Index := 0#32
  ![v9365.toNat, 0, v9366.toNat, 0]

def k0_chk757 (i : grid0.Coords) (v9356 : BitVec 32) : Prop :=
  (∀ a, (k0_off2164 i v9356) a + S1x14x1x256.size a ≤ S64x14x24x256.size a)
theorem k0_off2164_inb : ∀ (i : grid0.Coords) (v9356 : BitVec 32) (k0_hw757 : k0_chk757 i v9356), ∀ a, (k0_off2164 i v9356) a + S1x14x1x256.size a ≤ S64x14x24x256.size a := fun i v9356 k0_hw757 => k0_hw757

def k0_off2165 (i : grid0.Coords) (v9358 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9369 : Index := Scalar.indexCast v9196
  let c0_5014 : Index := 0#32
  let v9370 : Index := Scalar.indexCast v9358
  let c0_5015 : Index := 0#32
  ![v9369.toNat, 0, v9370.toNat, 0]

def k0_chk758 (i : grid0.Coords) (v9358 : BitVec 32) : Prop :=
  (∀ a, (k0_off2165 i v9358) a + S1x14x1x256.size a ≤ S64x14x24x256.size a)
theorem k0_off2165_inb : ∀ (i : grid0.Coords) (v9358 : BitVec 32) (k0_hw758 : k0_chk758 i v9358), ∀ a, (k0_off2165 i v9358) a + S1x14x1x256.size a ≤ S64x14x24x256.size a := fun i v9358 k0_hw758 => k0_hw758

def k0_off2166 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9384 : Index := Scalar.indexCast v9194
  let c40_5023 : Index := 40#32
  ![v9384.toNat, 40]
def k0_off2167 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9386 : Index := Scalar.indexCast v9194
  let c41_5024 : Index := 41#32
  ![v9386.toNat, 41]
def k0_off2168 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9388 : Index := Scalar.indexCast v9194
  let c42_5025 : Index := 42#32
  ![v9388.toNat, 42]
def k0_off2169 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9390 : Index := Scalar.indexCast v9194
  let c43_5026 : Index := 43#32
  ![v9390.toNat, 43]
def k0_off2170 (i : grid0.Coords) (v9385 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9392 : Index := Scalar.indexCast v9196
  let c0_5027 : Index := 0#32
  let v9393 : Index := Scalar.indexCast v9385
  let c0_5028 : Index := 0#32
  ![v9392.toNat, 0, v9393.toNat, 0]

def k0_chk759 (i : grid0.Coords) (v9385 : BitVec 32) : Prop :=
  (∀ a, (k0_off2170 i v9385) a + S1x14x1x256.size a ≤ S64x14x24x256.size a)
theorem k0_off2170_inb : ∀ (i : grid0.Coords) (v9385 : BitVec 32) (k0_hw759 : k0_chk759 i v9385), ∀ a, (k0_off2170 i v9385) a + S1x14x1x256.size a ≤ S64x14x24x256.size a := fun i v9385 k0_hw759 => k0_hw759

def k0_off2171 (i : grid0.Coords) (v9387 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9396 : Index := Scalar.indexCast v9196
  let c0_5029 : Index := 0#32
  let v9397 : Index := Scalar.indexCast v9387
  let c0_5030 : Index := 0#32
  ![v9396.toNat, 0, v9397.toNat, 0]

def k0_chk760 (i : grid0.Coords) (v9387 : BitVec 32) : Prop :=
  (∀ a, (k0_off2171 i v9387) a + S1x14x1x256.size a ≤ S64x14x24x256.size a)
theorem k0_off2171_inb : ∀ (i : grid0.Coords) (v9387 : BitVec 32) (k0_hw760 : k0_chk760 i v9387), ∀ a, (k0_off2171 i v9387) a + S1x14x1x256.size a ≤ S64x14x24x256.size a := fun i v9387 k0_hw760 => k0_hw760

def k0_off2172 (i : grid0.Coords) (v9389 : BitVec 32) : Fin 4 → Nat :=
  let c32_i32_4918 : BitVec 32 := 32#32
  let arg0 : BitVec 32 := BitVec.ofNat 32 (i 0).val
  let c2_i32 : BitVec 32 := 2#32
  let v0 : BitVec 32 := Scalar.remsi arg0 c2_i32
  let v9195 : BitVec 32 := Scalar.muli c32_i32_4918 v0
  let c23_i32_4919 : BitVec 32 := 23#32
  let v9196 : BitVec 32 := Scalar.addi v9195 c23_i32_4919
  let v9400 : Index := Scalar.indexCast v9196
  let c0_5031 : Index := 0#32
  let v9401 : Index := Scalar.indexCast v9389
  let c0_5032 : Index := 0#32
  ![v9400.toNat, 0, v9401.toNat, 0]

def k0_chk761 (i : grid0.Coords) (v9389 : BitVec 32) : Prop :=
  (∀ a, (k0_off2172 i v9389) a + S1x14x1x256.size a ≤ S64x14x24x256.size a)
theorem k0_off2172_inb : ∀ (i : grid0.Coords) (v9389 : BitVec 32) (k0_hw761 : k0_chk761 i v9389), ∀ a, (k0_off2172 i v9389) a + S1x14x1x256.size a ≤ S64x14x24x256.size a := fun i v9389 k0_hw761 => k0_hw761

def k0_off2173 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9416 : Index := Scalar.indexCast v9194
  let c44_5040 : Index := 44#32
  ![v9416.toNat, 44]
def k0_off2174 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9418 : Index := Scalar.indexCast v9194
  let c45_5041 : Index := 45#32
  ![v9418.toNat, 45]
def k0_off2175 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9420 : Index := Scalar.indexCast v9194
  let c46_5042 : Index := 46#32
  ![v9420.toNat, 46]
def k0_off2176 (v9417 : BitVec 32) : Fin 4 → Nat :=
  let c23_5043 : Index := 23#32
  let v9422 : Index := Scalar.indexCast v9417
  let c0_5044 : Index := 0#32
  let c0_5045 : Index := 0#32
  ![23, v9422.toNat, 0, 0]

def k0_chk762 (v9417 : BitVec 32) : Prop :=
  (∀ a, (k0_off2176 v9417) a + S1x3x7x256.size a ≤ S32x14x7x256.size a)
theorem k0_off2176_inb : ∀ (v9417 : BitVec 32) (k0_hw762 : k0_chk762 v9417), ∀ a, (k0_off2176 v9417) a + S1x3x7x256.size a ≤ S32x14x7x256.size a := fun v9417 k0_hw762 => k0_hw762

def k0_off2177 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9438 : Index := Scalar.indexCast v9194
  let c47_5051 : Index := 47#32
  ![v9438.toNat, 47]
def k0_off2178 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9440 : Index := Scalar.indexCast v9194
  let c48_5052 : Index := 48#32
  ![v9440.toNat, 48]
def k0_off2179 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9442 : Index := Scalar.indexCast v9194
  let c49_5053 : Index := 49#32
  ![v9442.toNat, 49]
def k0_off2180 (v9439 : BitVec 32) : Fin 4 → Nat :=
  let c23_5054 : Index := 23#32
  let v9444 : Index := Scalar.indexCast v9439
  let c0_5055 : Index := 0#32
  let c0_5056 : Index := 0#32
  ![23, v9444.toNat, 0, 0]

def k0_chk763 (v9439 : BitVec 32) : Prop :=
  (∀ a, (k0_off2180 v9439) a + S1x3x7x256.size a ≤ S32x14x7x256.size a)
theorem k0_off2180_inb : ∀ (v9439 : BitVec 32) (k0_hw763 : k0_chk763 v9439), ∀ a, (k0_off2180 v9439) a + S1x3x7x256.size a ≤ S32x14x7x256.size a := fun v9439 k0_hw763 => k0_hw763

def k0_off2181 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9460 : Index := Scalar.indexCast v9194
  let c50_5062 : Index := 50#32
  ![v9460.toNat, 50]
def k0_off2182 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9462 : Index := Scalar.indexCast v9194
  let c51_5063 : Index := 51#32
  ![v9462.toNat, 51]
def k0_off2183 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9464 : Index := Scalar.indexCast v9194
  let c52_5064 : Index := 52#32
  ![v9464.toNat, 52]
def k0_off2184 (v9461 : BitVec 32) : Fin 4 → Nat :=
  let c23_5065 : Index := 23#32
  let v9466 : Index := Scalar.indexCast v9461
  let c0_5066 : Index := 0#32
  let c0_5067 : Index := 0#32
  ![23, v9466.toNat, 0, 0]

def k0_chk764 (v9461 : BitVec 32) : Prop :=
  (∀ a, (k0_off2184 v9461) a + S1x3x7x256.size a ≤ S32x14x7x256.size a)
theorem k0_off2184_inb : ∀ (v9461 : BitVec 32) (k0_hw764 : k0_chk764 v9461), ∀ a, (k0_off2184 v9461) a + S1x3x7x256.size a ≤ S32x14x7x256.size a := fun v9461 k0_hw764 => k0_hw764

def k0_off2185 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9482 : Index := Scalar.indexCast v9194
  let c53_5073 : Index := 53#32
  ![v9482.toNat, 53]
def k0_off2186 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9484 : Index := Scalar.indexCast v9194
  let c54_5074 : Index := 54#32
  ![v9484.toNat, 54]
def k0_off2187 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9486 : Index := Scalar.indexCast v9194
  let c55_5075 : Index := 55#32
  ![v9486.toNat, 55]
def k0_off2188 (v9483 : BitVec 32) : Fin 4 → Nat :=
  let c23_5076 : Index := 23#32
  let v9488 : Index := Scalar.indexCast v9483
  let c0_5077 : Index := 0#32
  let c0_5078 : Index := 0#32
  ![23, v9488.toNat, 0, 0]

def k0_chk765 (v9483 : BitVec 32) : Prop :=
  (∀ a, (k0_off2188 v9483) a + S1x3x7x256.size a ≤ S32x14x7x256.size a)
theorem k0_off2188_inb : ∀ (v9483 : BitVec 32) (k0_hw765 : k0_chk765 v9483), ∀ a, (k0_off2188 v9483) a + S1x3x7x256.size a ≤ S32x14x7x256.size a := fun v9483 k0_hw765 => k0_hw765

def k0_off2189 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9504 : Index := Scalar.indexCast v9194
  let c56_5084 : Index := 56#32
  ![v9504.toNat, 56]
def k0_off2190 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9506 : Index := Scalar.indexCast v9194
  let c57_5085 : Index := 57#32
  ![v9506.toNat, 57]
def k0_off2191 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9508 : Index := Scalar.indexCast v9194
  let c58_5086 : Index := 58#32
  ![v9508.toNat, 58]
def k0_off2192 (v9505 : BitVec 32) : Fin 4 → Nat :=
  let c23_5087 : Index := 23#32
  let v9510 : Index := Scalar.indexCast v9505
  let c0_5088 : Index := 0#32
  let c0_5089 : Index := 0#32
  ![23, v9510.toNat, 0, 0]

def k0_chk766 (v9505 : BitVec 32) : Prop :=
  (∀ a, (k0_off2192 v9505) a + S1x3x7x256.size a ≤ S32x14x7x256.size a)
theorem k0_off2192_inb : ∀ (v9505 : BitVec 32) (k0_hw766 : k0_chk766 v9505), ∀ a, (k0_off2192 v9505) a + S1x3x7x256.size a ≤ S32x14x7x256.size a := fun v9505 k0_hw766 => k0_hw766

def k0_off2193 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9526 : Index := Scalar.indexCast v9194
  let c59_5095 : Index := 59#32
  ![v9526.toNat, 59]
def k0_off2194 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9528 : Index := Scalar.indexCast v9194
  let c60_5096 : Index := 60#32
  ![v9528.toNat, 60]
def k0_off2195 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9530 : Index := Scalar.indexCast v9194
  let c61_5097 : Index := 61#32
  ![v9530.toNat, 61]
def k0_off2196 (v9527 : BitVec 32) : Fin 4 → Nat :=
  let c23_5098 : Index := 23#32
  let v9532 : Index := Scalar.indexCast v9527
  let c0_5099 : Index := 0#32
  let c0_5100 : Index := 0#32
  ![23, v9532.toNat, 0, 0]

def k0_chk767 (v9527 : BitVec 32) : Prop :=
  (∀ a, (k0_off2196 v9527) a + S1x3x7x256.size a ≤ S32x14x7x256.size a)
theorem k0_off2196_inb : ∀ (v9527 : BitVec 32) (k0_hw767 : k0_chk767 v9527), ∀ a, (k0_off2196 v9527) a + S1x3x7x256.size a ≤ S32x14x7x256.size a := fun v9527 k0_hw767 => k0_hw767

def k0_off2197 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9548 : Index := Scalar.indexCast v9194
  let c62_5106 : Index := 62#32
  ![v9548.toNat, 62]
def k0_off2198 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9550 : Index := Scalar.indexCast v9194
  let c63_5107 : Index := 63#32
  ![v9550.toNat, 63]
def k0_off2199 (i : grid0.Coords) : Fin 2 → Nat :=
  let c32_i32_4916 : BitVec 32 := 32#32
  let arg0 : BitVec 32 := BitVec.ofNat 32 (i 0).val
  let v9193 : BitVec 32 := Scalar.muli c32_i32_4916 arg0
  let c23_i32_4917 : BitVec 32 := 23#32
  let v9194 : BitVec 32 := Scalar.addi v9193 c23_i32_4917
  let v9552 : Index := Scalar.indexCast v9194
  let c64_5108 : Index := 64#32
  ![v9552.toNat, 64]
def k0_off2200 (v9549 : BitVec 32) : Fin 4 → Nat :=
  let c23_5109 : Index := 23#32
  let v9554 : Index := Scalar.indexCast v9549
  let c0_5110 : Index := 0#32
  let c0_5111 : Index := 0#32
  ![23, v9554.toNat, 0, 0]

def k0_chk768 (v9549 : BitVec 32) : Prop :=
  (∀ a, (k0_off2200 v9549) a + S1x3x7x256.size a ≤ S32x14x7x256.size a)
theorem k0_off2200_inb : ∀ (v9549 : BitVec 32) (k0_hw768 : k0_chk768 v9549), ∀ a, (k0_off2200 v9549) a + S1x3x7x256.size a ≤ S32x14x7x256.size a := fun v9549 k0_hw768 => k0_hw768

def k0_off2201 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9575 : Index := Scalar.indexCast v9571
  let c16_5122 : Index := 16#32
  ![v9575.toNat, 16]
def k0_off2202 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9577 : Index := Scalar.indexCast v9571
  let c17_5123 : Index := 17#32
  ![v9577.toNat, 17]
def k0_off2203 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9579 : Index := Scalar.indexCast v9571
  let c18_5124 : Index := 18#32
  ![v9579.toNat, 18]
def k0_off2204 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9581 : Index := Scalar.indexCast v9571
  let c19_5125 : Index := 19#32
  ![v9581.toNat, 19]
def k0_off2205 (i : grid0.Coords) (v9576 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9583 : Index := Scalar.indexCast v9573
  let c0_5126 : Index := 0#32
  let v9584 : Index := Scalar.indexCast v9576
  let c0_5127 : Index := 0#32
  ![v9583.toNat, 0, v9584.toNat, 0]

def k0_chk769 (i : grid0.Coords) (v9576 : BitVec 32) : Prop :=
  (∀ a, (k0_off2205 i v9576) a + S1x14x1x256.size a ≤ S64x14x24x256.size a)
theorem k0_off2205_inb : ∀ (i : grid0.Coords) (v9576 : BitVec 32) (k0_hw769 : k0_chk769 i v9576), ∀ a, (k0_off2205 i v9576) a + S1x14x1x256.size a ≤ S64x14x24x256.size a := fun i v9576 k0_hw769 => k0_hw769

def k0_off2206 (i : grid0.Coords) (v9578 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9587 : Index := Scalar.indexCast v9573
  let c0_5128 : Index := 0#32
  let v9588 : Index := Scalar.indexCast v9578
  let c0_5129 : Index := 0#32
  ![v9587.toNat, 0, v9588.toNat, 0]

def k0_chk770 (i : grid0.Coords) (v9578 : BitVec 32) : Prop :=
  (∀ a, (k0_off2206 i v9578) a + S1x14x1x256.size a ≤ S64x14x24x256.size a)
theorem k0_off2206_inb : ∀ (i : grid0.Coords) (v9578 : BitVec 32) (k0_hw770 : k0_chk770 i v9578), ∀ a, (k0_off2206 i v9578) a + S1x14x1x256.size a ≤ S64x14x24x256.size a := fun i v9578 k0_hw770 => k0_hw770

def k0_off2207 (i : grid0.Coords) (v9580 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9591 : Index := Scalar.indexCast v9573
  let c0_5130 : Index := 0#32
  let v9592 : Index := Scalar.indexCast v9580
  let c0_5131 : Index := 0#32
  ![v9591.toNat, 0, v9592.toNat, 0]

def k0_chk771 (i : grid0.Coords) (v9580 : BitVec 32) : Prop :=
  (∀ a, (k0_off2207 i v9580) a + S1x14x1x256.size a ≤ S64x14x24x256.size a)
theorem k0_off2207_inb : ∀ (i : grid0.Coords) (v9580 : BitVec 32) (k0_hw771 : k0_chk771 i v9580), ∀ a, (k0_off2207 i v9580) a + S1x14x1x256.size a ≤ S64x14x24x256.size a := fun i v9580 k0_hw771 => k0_hw771

def k0_off2208 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9606 : Index := Scalar.indexCast v9571
  let c20_5139 : Index := 20#32
  ![v9606.toNat, 20]
def k0_off2209 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9608 : Index := Scalar.indexCast v9571
  let c21_5140 : Index := 21#32
  ![v9608.toNat, 21]
def k0_off2210 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9610 : Index := Scalar.indexCast v9571
  let c22_5141 : Index := 22#32
  ![v9610.toNat, 22]
def k0_off2211 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9612 : Index := Scalar.indexCast v9571
  let c23_5142 : Index := 23#32
  ![v9612.toNat, 23]
def k0_off2212 (i : grid0.Coords) (v9607 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9614 : Index := Scalar.indexCast v9573
  let c0_5143 : Index := 0#32
  let v9615 : Index := Scalar.indexCast v9607
  let c0_5144 : Index := 0#32
  ![v9614.toNat, 0, v9615.toNat, 0]

def k0_chk772 (i : grid0.Coords) (v9607 : BitVec 32) : Prop :=
  (∀ a, (k0_off2212 i v9607) a + S1x14x1x256.size a ≤ S64x14x24x256.size a)
theorem k0_off2212_inb : ∀ (i : grid0.Coords) (v9607 : BitVec 32) (k0_hw772 : k0_chk772 i v9607), ∀ a, (k0_off2212 i v9607) a + S1x14x1x256.size a ≤ S64x14x24x256.size a := fun i v9607 k0_hw772 => k0_hw772

def k0_off2213 (i : grid0.Coords) (v9609 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9618 : Index := Scalar.indexCast v9573
  let c0_5145 : Index := 0#32
  let v9619 : Index := Scalar.indexCast v9609
  let c0_5146 : Index := 0#32
  ![v9618.toNat, 0, v9619.toNat, 0]

def k0_chk773 (i : grid0.Coords) (v9609 : BitVec 32) : Prop :=
  (∀ a, (k0_off2213 i v9609) a + S1x14x1x256.size a ≤ S64x14x24x256.size a)
theorem k0_off2213_inb : ∀ (i : grid0.Coords) (v9609 : BitVec 32) (k0_hw773 : k0_chk773 i v9609), ∀ a, (k0_off2213 i v9609) a + S1x14x1x256.size a ≤ S64x14x24x256.size a := fun i v9609 k0_hw773 => k0_hw773

def k0_off2214 (i : grid0.Coords) (v9611 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9622 : Index := Scalar.indexCast v9573
  let c0_5147 : Index := 0#32
  let v9623 : Index := Scalar.indexCast v9611
  let c0_5148 : Index := 0#32
  ![v9622.toNat, 0, v9623.toNat, 0]

def k0_chk774 (i : grid0.Coords) (v9611 : BitVec 32) : Prop :=
  (∀ a, (k0_off2214 i v9611) a + S1x14x1x256.size a ≤ S64x14x24x256.size a)
theorem k0_off2214_inb : ∀ (i : grid0.Coords) (v9611 : BitVec 32) (k0_hw774 : k0_chk774 i v9611), ∀ a, (k0_off2214 i v9611) a + S1x14x1x256.size a ≤ S64x14x24x256.size a := fun i v9611 k0_hw774 => k0_hw774

def k0_off2215 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9637 : Index := Scalar.indexCast v9571
  let c24_5156 : Index := 24#32
  ![v9637.toNat, 24]
def k0_off2216 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9639 : Index := Scalar.indexCast v9571
  let c25_5157 : Index := 25#32
  ![v9639.toNat, 25]
def k0_off2217 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9641 : Index := Scalar.indexCast v9571
  let c26_5158 : Index := 26#32
  ![v9641.toNat, 26]
def k0_off2218 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9643 : Index := Scalar.indexCast v9571
  let c27_5159 : Index := 27#32
  ![v9643.toNat, 27]
def k0_off2219 (i : grid0.Coords) (v9638 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9645 : Index := Scalar.indexCast v9573
  let c0_5160 : Index := 0#32
  let v9646 : Index := Scalar.indexCast v9638
  let c0_5161 : Index := 0#32
  ![v9645.toNat, 0, v9646.toNat, 0]

def k0_chk775 (i : grid0.Coords) (v9638 : BitVec 32) : Prop :=
  (∀ a, (k0_off2219 i v9638) a + S1x14x1x256.size a ≤ S64x14x24x256.size a)
theorem k0_off2219_inb : ∀ (i : grid0.Coords) (v9638 : BitVec 32) (k0_hw775 : k0_chk775 i v9638), ∀ a, (k0_off2219 i v9638) a + S1x14x1x256.size a ≤ S64x14x24x256.size a := fun i v9638 k0_hw775 => k0_hw775

def k0_off2220 (i : grid0.Coords) (v9640 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9649 : Index := Scalar.indexCast v9573
  let c0_5162 : Index := 0#32
  let v9650 : Index := Scalar.indexCast v9640
  let c0_5163 : Index := 0#32
  ![v9649.toNat, 0, v9650.toNat, 0]

def k0_chk776 (i : grid0.Coords) (v9640 : BitVec 32) : Prop :=
  (∀ a, (k0_off2220 i v9640) a + S1x14x1x256.size a ≤ S64x14x24x256.size a)
theorem k0_off2220_inb : ∀ (i : grid0.Coords) (v9640 : BitVec 32) (k0_hw776 : k0_chk776 i v9640), ∀ a, (k0_off2220 i v9640) a + S1x14x1x256.size a ≤ S64x14x24x256.size a := fun i v9640 k0_hw776 => k0_hw776

def k0_off2221 (i : grid0.Coords) (v9642 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9653 : Index := Scalar.indexCast v9573
  let c0_5164 : Index := 0#32
  let v9654 : Index := Scalar.indexCast v9642
  let c0_5165 : Index := 0#32
  ![v9653.toNat, 0, v9654.toNat, 0]

def k0_chk777 (i : grid0.Coords) (v9642 : BitVec 32) : Prop :=
  (∀ a, (k0_off2221 i v9642) a + S1x14x1x256.size a ≤ S64x14x24x256.size a)
theorem k0_off2221_inb : ∀ (i : grid0.Coords) (v9642 : BitVec 32) (k0_hw777 : k0_chk777 i v9642), ∀ a, (k0_off2221 i v9642) a + S1x14x1x256.size a ≤ S64x14x24x256.size a := fun i v9642 k0_hw777 => k0_hw777

def k0_off2222 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9668 : Index := Scalar.indexCast v9571
  let c28_5173 : Index := 28#32
  ![v9668.toNat, 28]
def k0_off2223 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9670 : Index := Scalar.indexCast v9571
  let c29_5174 : Index := 29#32
  ![v9670.toNat, 29]
def k0_off2224 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9672 : Index := Scalar.indexCast v9571
  let c30_5175 : Index := 30#32
  ![v9672.toNat, 30]
def k0_off2225 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9674 : Index := Scalar.indexCast v9571
  let c31_5176 : Index := 31#32
  ![v9674.toNat, 31]
def k0_off2226 (i : grid0.Coords) (v9669 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9676 : Index := Scalar.indexCast v9573
  let c0_5177 : Index := 0#32
  let v9677 : Index := Scalar.indexCast v9669
  let c0_5178 : Index := 0#32
  ![v9676.toNat, 0, v9677.toNat, 0]

def k0_chk778 (i : grid0.Coords) (v9669 : BitVec 32) : Prop :=
  (∀ a, (k0_off2226 i v9669) a + S1x14x1x256.size a ≤ S64x14x24x256.size a)
theorem k0_off2226_inb : ∀ (i : grid0.Coords) (v9669 : BitVec 32) (k0_hw778 : k0_chk778 i v9669), ∀ a, (k0_off2226 i v9669) a + S1x14x1x256.size a ≤ S64x14x24x256.size a := fun i v9669 k0_hw778 => k0_hw778

def k0_off2227 (i : grid0.Coords) (v9671 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9680 : Index := Scalar.indexCast v9573
  let c0_5179 : Index := 0#32
  let v9681 : Index := Scalar.indexCast v9671
  let c0_5180 : Index := 0#32
  ![v9680.toNat, 0, v9681.toNat, 0]

def k0_chk779 (i : grid0.Coords) (v9671 : BitVec 32) : Prop :=
  (∀ a, (k0_off2227 i v9671) a + S1x14x1x256.size a ≤ S64x14x24x256.size a)
theorem k0_off2227_inb : ∀ (i : grid0.Coords) (v9671 : BitVec 32) (k0_hw779 : k0_chk779 i v9671), ∀ a, (k0_off2227 i v9671) a + S1x14x1x256.size a ≤ S64x14x24x256.size a := fun i v9671 k0_hw779 => k0_hw779

def k0_off2228 (i : grid0.Coords) (v9673 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9684 : Index := Scalar.indexCast v9573
  let c0_5181 : Index := 0#32
  let v9685 : Index := Scalar.indexCast v9673
  let c0_5182 : Index := 0#32
  ![v9684.toNat, 0, v9685.toNat, 0]

def k0_chk780 (i : grid0.Coords) (v9673 : BitVec 32) : Prop :=
  (∀ a, (k0_off2228 i v9673) a + S1x14x1x256.size a ≤ S64x14x24x256.size a)
theorem k0_off2228_inb : ∀ (i : grid0.Coords) (v9673 : BitVec 32) (k0_hw780 : k0_chk780 i v9673), ∀ a, (k0_off2228 i v9673) a + S1x14x1x256.size a ≤ S64x14x24x256.size a := fun i v9673 k0_hw780 => k0_hw780

def k0_off2229 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9699 : Index := Scalar.indexCast v9571
  let c32_5190 : Index := 32#32
  ![v9699.toNat, 32]
def k0_off2230 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9701 : Index := Scalar.indexCast v9571
  let c33_5191 : Index := 33#32
  ![v9701.toNat, 33]
def k0_off2231 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9703 : Index := Scalar.indexCast v9571
  let c34_5192 : Index := 34#32
  ![v9703.toNat, 34]
def k0_off2232 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9705 : Index := Scalar.indexCast v9571
  let c35_5193 : Index := 35#32
  ![v9705.toNat, 35]
def k0_off2233 (i : grid0.Coords) (v9700 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9707 : Index := Scalar.indexCast v9573
  let c0_5194 : Index := 0#32
  let v9708 : Index := Scalar.indexCast v9700
  let c0_5195 : Index := 0#32
  ![v9707.toNat, 0, v9708.toNat, 0]

def k0_chk781 (i : grid0.Coords) (v9700 : BitVec 32) : Prop :=
  (∀ a, (k0_off2233 i v9700) a + S1x14x1x256.size a ≤ S64x14x24x256.size a)
theorem k0_off2233_inb : ∀ (i : grid0.Coords) (v9700 : BitVec 32) (k0_hw781 : k0_chk781 i v9700), ∀ a, (k0_off2233 i v9700) a + S1x14x1x256.size a ≤ S64x14x24x256.size a := fun i v9700 k0_hw781 => k0_hw781

def k0_off2234 (i : grid0.Coords) (v9702 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9711 : Index := Scalar.indexCast v9573
  let c0_5196 : Index := 0#32
  let v9712 : Index := Scalar.indexCast v9702
  let c0_5197 : Index := 0#32
  ![v9711.toNat, 0, v9712.toNat, 0]

def k0_chk782 (i : grid0.Coords) (v9702 : BitVec 32) : Prop :=
  (∀ a, (k0_off2234 i v9702) a + S1x14x1x256.size a ≤ S64x14x24x256.size a)
theorem k0_off2234_inb : ∀ (i : grid0.Coords) (v9702 : BitVec 32) (k0_hw782 : k0_chk782 i v9702), ∀ a, (k0_off2234 i v9702) a + S1x14x1x256.size a ≤ S64x14x24x256.size a := fun i v9702 k0_hw782 => k0_hw782

def k0_off2235 (i : grid0.Coords) (v9704 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9715 : Index := Scalar.indexCast v9573
  let c0_5198 : Index := 0#32
  let v9716 : Index := Scalar.indexCast v9704
  let c0_5199 : Index := 0#32
  ![v9715.toNat, 0, v9716.toNat, 0]

def k0_chk783 (i : grid0.Coords) (v9704 : BitVec 32) : Prop :=
  (∀ a, (k0_off2235 i v9704) a + S1x14x1x256.size a ≤ S64x14x24x256.size a)
theorem k0_off2235_inb : ∀ (i : grid0.Coords) (v9704 : BitVec 32) (k0_hw783 : k0_chk783 i v9704), ∀ a, (k0_off2235 i v9704) a + S1x14x1x256.size a ≤ S64x14x24x256.size a := fun i v9704 k0_hw783 => k0_hw783

def k0_off2236 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9730 : Index := Scalar.indexCast v9571
  let c36_5207 : Index := 36#32
  ![v9730.toNat, 36]
def k0_off2237 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9732 : Index := Scalar.indexCast v9571
  let c37_5208 : Index := 37#32
  ![v9732.toNat, 37]
def k0_off2238 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9734 : Index := Scalar.indexCast v9571
  let c38_5209 : Index := 38#32
  ![v9734.toNat, 38]
def k0_off2239 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9736 : Index := Scalar.indexCast v9571
  let c39_5210 : Index := 39#32
  ![v9736.toNat, 39]
def k0_off2240 (i : grid0.Coords) (v9731 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9738 : Index := Scalar.indexCast v9573
  let c0_5211 : Index := 0#32
  let v9739 : Index := Scalar.indexCast v9731
  let c0_5212 : Index := 0#32
  ![v9738.toNat, 0, v9739.toNat, 0]

def k0_chk784 (i : grid0.Coords) (v9731 : BitVec 32) : Prop :=
  (∀ a, (k0_off2240 i v9731) a + S1x14x1x256.size a ≤ S64x14x24x256.size a)
theorem k0_off2240_inb : ∀ (i : grid0.Coords) (v9731 : BitVec 32) (k0_hw784 : k0_chk784 i v9731), ∀ a, (k0_off2240 i v9731) a + S1x14x1x256.size a ≤ S64x14x24x256.size a := fun i v9731 k0_hw784 => k0_hw784

def k0_off2241 (i : grid0.Coords) (v9733 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9742 : Index := Scalar.indexCast v9573
  let c0_5213 : Index := 0#32
  let v9743 : Index := Scalar.indexCast v9733
  let c0_5214 : Index := 0#32
  ![v9742.toNat, 0, v9743.toNat, 0]

def k0_chk785 (i : grid0.Coords) (v9733 : BitVec 32) : Prop :=
  (∀ a, (k0_off2241 i v9733) a + S1x14x1x256.size a ≤ S64x14x24x256.size a)
theorem k0_off2241_inb : ∀ (i : grid0.Coords) (v9733 : BitVec 32) (k0_hw785 : k0_chk785 i v9733), ∀ a, (k0_off2241 i v9733) a + S1x14x1x256.size a ≤ S64x14x24x256.size a := fun i v9733 k0_hw785 => k0_hw785

def k0_off2242 (i : grid0.Coords) (v9735 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9746 : Index := Scalar.indexCast v9573
  let c0_5215 : Index := 0#32
  let v9747 : Index := Scalar.indexCast v9735
  let c0_5216 : Index := 0#32
  ![v9746.toNat, 0, v9747.toNat, 0]

def k0_chk786 (i : grid0.Coords) (v9735 : BitVec 32) : Prop :=
  (∀ a, (k0_off2242 i v9735) a + S1x14x1x256.size a ≤ S64x14x24x256.size a)
theorem k0_off2242_inb : ∀ (i : grid0.Coords) (v9735 : BitVec 32) (k0_hw786 : k0_chk786 i v9735), ∀ a, (k0_off2242 i v9735) a + S1x14x1x256.size a ≤ S64x14x24x256.size a := fun i v9735 k0_hw786 => k0_hw786

def k0_off2243 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9761 : Index := Scalar.indexCast v9571
  let c40_5224 : Index := 40#32
  ![v9761.toNat, 40]
def k0_off2244 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9763 : Index := Scalar.indexCast v9571
  let c41_5225 : Index := 41#32
  ![v9763.toNat, 41]
def k0_off2245 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9765 : Index := Scalar.indexCast v9571
  let c42_5226 : Index := 42#32
  ![v9765.toNat, 42]
def k0_off2246 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9767 : Index := Scalar.indexCast v9571
  let c43_5227 : Index := 43#32
  ![v9767.toNat, 43]
def k0_off2247 (i : grid0.Coords) (v9762 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9769 : Index := Scalar.indexCast v9573
  let c0_5228 : Index := 0#32
  let v9770 : Index := Scalar.indexCast v9762
  let c0_5229 : Index := 0#32
  ![v9769.toNat, 0, v9770.toNat, 0]

def k0_chk787 (i : grid0.Coords) (v9762 : BitVec 32) : Prop :=
  (∀ a, (k0_off2247 i v9762) a + S1x14x1x256.size a ≤ S64x14x24x256.size a)
theorem k0_off2247_inb : ∀ (i : grid0.Coords) (v9762 : BitVec 32) (k0_hw787 : k0_chk787 i v9762), ∀ a, (k0_off2247 i v9762) a + S1x14x1x256.size a ≤ S64x14x24x256.size a := fun i v9762 k0_hw787 => k0_hw787

def k0_off2248 (i : grid0.Coords) (v9764 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9773 : Index := Scalar.indexCast v9573
  let c0_5230 : Index := 0#32
  let v9774 : Index := Scalar.indexCast v9764
  let c0_5231 : Index := 0#32
  ![v9773.toNat, 0, v9774.toNat, 0]

def k0_chk788 (i : grid0.Coords) (v9764 : BitVec 32) : Prop :=
  (∀ a, (k0_off2248 i v9764) a + S1x14x1x256.size a ≤ S64x14x24x256.size a)
theorem k0_off2248_inb : ∀ (i : grid0.Coords) (v9764 : BitVec 32) (k0_hw788 : k0_chk788 i v9764), ∀ a, (k0_off2248 i v9764) a + S1x14x1x256.size a ≤ S64x14x24x256.size a := fun i v9764 k0_hw788 => k0_hw788

def k0_off2249 (i : grid0.Coords) (v9766 : BitVec 32) : Fin 4 → Nat :=
  let c32_i32_5119 : BitVec 32 := 32#32
  let arg0 : BitVec 32 := BitVec.ofNat 32 (i 0).val
  let c2_i32 : BitVec 32 := 2#32
  let v0 : BitVec 32 := Scalar.remsi arg0 c2_i32
  let v9572 : BitVec 32 := Scalar.muli c32_i32_5119 v0
  let c24_i32_5120 : BitVec 32 := 24#32
  let v9573 : BitVec 32 := Scalar.addi v9572 c24_i32_5120
  let v9777 : Index := Scalar.indexCast v9573
  let c0_5232 : Index := 0#32
  let v9778 : Index := Scalar.indexCast v9766
  let c0_5233 : Index := 0#32
  ![v9777.toNat, 0, v9778.toNat, 0]

def k0_chk789 (i : grid0.Coords) (v9766 : BitVec 32) : Prop :=
  (∀ a, (k0_off2249 i v9766) a + S1x14x1x256.size a ≤ S64x14x24x256.size a)
theorem k0_off2249_inb : ∀ (i : grid0.Coords) (v9766 : BitVec 32) (k0_hw789 : k0_chk789 i v9766), ∀ a, (k0_off2249 i v9766) a + S1x14x1x256.size a ≤ S64x14x24x256.size a := fun i v9766 k0_hw789 => k0_hw789

def k0_off2250 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9793 : Index := Scalar.indexCast v9571
  let c44_5241 : Index := 44#32
  ![v9793.toNat, 44]
def k0_off2251 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9795 : Index := Scalar.indexCast v9571
  let c45_5242 : Index := 45#32
  ![v9795.toNat, 45]
def k0_off2252 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9797 : Index := Scalar.indexCast v9571
  let c46_5243 : Index := 46#32
  ![v9797.toNat, 46]
def k0_off2253 (v9794 : BitVec 32) : Fin 4 → Nat :=
  let c24_5244 : Index := 24#32
  let v9799 : Index := Scalar.indexCast v9794
  let c0_5245 : Index := 0#32
  let c0_5246 : Index := 0#32
  ![24, v9799.toNat, 0, 0]

def k0_chk790 (v9794 : BitVec 32) : Prop :=
  (∀ a, (k0_off2253 v9794) a + S1x3x7x256.size a ≤ S32x14x7x256.size a)
theorem k0_off2253_inb : ∀ (v9794 : BitVec 32) (k0_hw790 : k0_chk790 v9794), ∀ a, (k0_off2253 v9794) a + S1x3x7x256.size a ≤ S32x14x7x256.size a := fun v9794 k0_hw790 => k0_hw790

def k0_off2254 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9815 : Index := Scalar.indexCast v9571
  let c47_5252 : Index := 47#32
  ![v9815.toNat, 47]
def k0_off2255 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9817 : Index := Scalar.indexCast v9571
  let c48_5253 : Index := 48#32
  ![v9817.toNat, 48]
def k0_off2256 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9819 : Index := Scalar.indexCast v9571
  let c49_5254 : Index := 49#32
  ![v9819.toNat, 49]
def k0_off2257 (v9816 : BitVec 32) : Fin 4 → Nat :=
  let c24_5255 : Index := 24#32
  let v9821 : Index := Scalar.indexCast v9816
  let c0_5256 : Index := 0#32
  let c0_5257 : Index := 0#32
  ![24, v9821.toNat, 0, 0]

def k0_chk791 (v9816 : BitVec 32) : Prop :=
  (∀ a, (k0_off2257 v9816) a + S1x3x7x256.size a ≤ S32x14x7x256.size a)
theorem k0_off2257_inb : ∀ (v9816 : BitVec 32) (k0_hw791 : k0_chk791 v9816), ∀ a, (k0_off2257 v9816) a + S1x3x7x256.size a ≤ S32x14x7x256.size a := fun v9816 k0_hw791 => k0_hw791

def k0_off2258 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9837 : Index := Scalar.indexCast v9571
  let c50_5263 : Index := 50#32
  ![v9837.toNat, 50]
def k0_off2259 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9839 : Index := Scalar.indexCast v9571
  let c51_5264 : Index := 51#32
  ![v9839.toNat, 51]
def k0_off2260 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9841 : Index := Scalar.indexCast v9571
  let c52_5265 : Index := 52#32
  ![v9841.toNat, 52]
def k0_off2261 (v9838 : BitVec 32) : Fin 4 → Nat :=
  let c24_5266 : Index := 24#32
  let v9843 : Index := Scalar.indexCast v9838
  let c0_5267 : Index := 0#32
  let c0_5268 : Index := 0#32
  ![24, v9843.toNat, 0, 0]

def k0_chk792 (v9838 : BitVec 32) : Prop :=
  (∀ a, (k0_off2261 v9838) a + S1x3x7x256.size a ≤ S32x14x7x256.size a)
theorem k0_off2261_inb : ∀ (v9838 : BitVec 32) (k0_hw792 : k0_chk792 v9838), ∀ a, (k0_off2261 v9838) a + S1x3x7x256.size a ≤ S32x14x7x256.size a := fun v9838 k0_hw792 => k0_hw792

def k0_off2262 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9859 : Index := Scalar.indexCast v9571
  let c53_5274 : Index := 53#32
  ![v9859.toNat, 53]
def k0_off2263 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9861 : Index := Scalar.indexCast v9571
  let c54_5275 : Index := 54#32
  ![v9861.toNat, 54]
def k0_off2264 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9863 : Index := Scalar.indexCast v9571
  let c55_5276 : Index := 55#32
  ![v9863.toNat, 55]
def k0_off2265 (v9860 : BitVec 32) : Fin 4 → Nat :=
  let c24_5277 : Index := 24#32
  let v9865 : Index := Scalar.indexCast v9860
  let c0_5278 : Index := 0#32
  let c0_5279 : Index := 0#32
  ![24, v9865.toNat, 0, 0]

def k0_chk793 (v9860 : BitVec 32) : Prop :=
  (∀ a, (k0_off2265 v9860) a + S1x3x7x256.size a ≤ S32x14x7x256.size a)
theorem k0_off2265_inb : ∀ (v9860 : BitVec 32) (k0_hw793 : k0_chk793 v9860), ∀ a, (k0_off2265 v9860) a + S1x3x7x256.size a ≤ S32x14x7x256.size a := fun v9860 k0_hw793 => k0_hw793

def k0_off2266 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9881 : Index := Scalar.indexCast v9571
  let c56_5285 : Index := 56#32
  ![v9881.toNat, 56]
def k0_off2267 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9883 : Index := Scalar.indexCast v9571
  let c57_5286 : Index := 57#32
  ![v9883.toNat, 57]
def k0_off2268 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9885 : Index := Scalar.indexCast v9571
  let c58_5287 : Index := 58#32
  ![v9885.toNat, 58]
def k0_off2269 (v9882 : BitVec 32) : Fin 4 → Nat :=
  let c24_5288 : Index := 24#32
  let v9887 : Index := Scalar.indexCast v9882
  let c0_5289 : Index := 0#32
  let c0_5290 : Index := 0#32
  ![24, v9887.toNat, 0, 0]

def k0_chk794 (v9882 : BitVec 32) : Prop :=
  (∀ a, (k0_off2269 v9882) a + S1x3x7x256.size a ≤ S32x14x7x256.size a)
theorem k0_off2269_inb : ∀ (v9882 : BitVec 32) (k0_hw794 : k0_chk794 v9882), ∀ a, (k0_off2269 v9882) a + S1x3x7x256.size a ≤ S32x14x7x256.size a := fun v9882 k0_hw794 => k0_hw794

def k0_off2270 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9903 : Index := Scalar.indexCast v9571
  let c59_5296 : Index := 59#32
  ![v9903.toNat, 59]
def k0_off2271 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9905 : Index := Scalar.indexCast v9571
  let c60_5297 : Index := 60#32
  ![v9905.toNat, 60]
def k0_off2272 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9907 : Index := Scalar.indexCast v9571
  let c61_5298 : Index := 61#32
  ![v9907.toNat, 61]
def k0_off2273 (v9904 : BitVec 32) : Fin 4 → Nat :=
  let c24_5299 : Index := 24#32
  let v9909 : Index := Scalar.indexCast v9904
  let c0_5300 : Index := 0#32
  let c0_5301 : Index := 0#32
  ![24, v9909.toNat, 0, 0]

def k0_chk795 (v9904 : BitVec 32) : Prop :=
  (∀ a, (k0_off2273 v9904) a + S1x3x7x256.size a ≤ S32x14x7x256.size a)
theorem k0_off2273_inb : ∀ (v9904 : BitVec 32) (k0_hw795 : k0_chk795 v9904), ∀ a, (k0_off2273 v9904) a + S1x3x7x256.size a ≤ S32x14x7x256.size a := fun v9904 k0_hw795 => k0_hw795

def k0_off2274 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9925 : Index := Scalar.indexCast v9571
  let c62_5307 : Index := 62#32
  ![v9925.toNat, 62]
def k0_off2275 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9927 : Index := Scalar.indexCast v9571
  let c63_5308 : Index := 63#32
  ![v9927.toNat, 63]
def k0_off2276 (i : grid0.Coords) : Fin 2 → Nat :=
  let c32_i32_5117 : BitVec 32 := 32#32
  let arg0 : BitVec 32 := BitVec.ofNat 32 (i 0).val
  let v9570 : BitVec 32 := Scalar.muli c32_i32_5117 arg0
  let c24_i32_5118 : BitVec 32 := 24#32
  let v9571 : BitVec 32 := Scalar.addi v9570 c24_i32_5118
  let v9929 : Index := Scalar.indexCast v9571
  let c64_5309 : Index := 64#32
  ![v9929.toNat, 64]
def k0_off2277 (v9926 : BitVec 32) : Fin 4 → Nat :=
  let c24_5310 : Index := 24#32
  let v9931 : Index := Scalar.indexCast v9926
  let c0_5311 : Index := 0#32
  let c0_5312 : Index := 0#32
  ![24, v9931.toNat, 0, 0]

def k0_chk796 (v9926 : BitVec 32) : Prop :=
  (∀ a, (k0_off2277 v9926) a + S1x3x7x256.size a ≤ S32x14x7x256.size a)
theorem k0_off2277_inb : ∀ (v9926 : BitVec 32) (k0_hw796 : k0_chk796 v9926), ∀ a, (k0_off2277 v9926) a + S1x3x7x256.size a ≤ S32x14x7x256.size a := fun v9926 k0_hw796 => k0_hw796

def k0_off2278 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9952 : Index := Scalar.indexCast v9948
  let c16_5323 : Index := 16#32
  ![v9952.toNat, 16]
def k0_off2279 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9954 : Index := Scalar.indexCast v9948
  let c17_5324 : Index := 17#32
  ![v9954.toNat, 17]
def k0_off2280 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9956 : Index := Scalar.indexCast v9948
  let c18_5325 : Index := 18#32
  ![v9956.toNat, 18]
def k0_off2281 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9958 : Index := Scalar.indexCast v9948
  let c19_5326 : Index := 19#32
  ![v9958.toNat, 19]
def k0_off2282 (i : grid0.Coords) (v9953 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v9960 : Index := Scalar.indexCast v9950
  let c0_5327 : Index := 0#32
  let v9961 : Index := Scalar.indexCast v9953
  let c0_5328 : Index := 0#32
  ![v9960.toNat, 0, v9961.toNat, 0]

def k0_chk797 (i : grid0.Coords) (v9953 : BitVec 32) : Prop :=
  (∀ a, (k0_off2282 i v9953) a + S1x14x1x256.size a ≤ S64x14x24x256.size a)
theorem k0_off2282_inb : ∀ (i : grid0.Coords) (v9953 : BitVec 32) (k0_hw797 : k0_chk797 i v9953), ∀ a, (k0_off2282 i v9953) a + S1x14x1x256.size a ≤ S64x14x24x256.size a := fun i v9953 k0_hw797 => k0_hw797

def k0_off2283 (i : grid0.Coords) (v9955 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v9964 : Index := Scalar.indexCast v9950
  let c0_5329 : Index := 0#32
  let v9965 : Index := Scalar.indexCast v9955
  let c0_5330 : Index := 0#32
  ![v9964.toNat, 0, v9965.toNat, 0]

def k0_chk798 (i : grid0.Coords) (v9955 : BitVec 32) : Prop :=
  (∀ a, (k0_off2283 i v9955) a + S1x14x1x256.size a ≤ S64x14x24x256.size a)
theorem k0_off2283_inb : ∀ (i : grid0.Coords) (v9955 : BitVec 32) (k0_hw798 : k0_chk798 i v9955), ∀ a, (k0_off2283 i v9955) a + S1x14x1x256.size a ≤ S64x14x24x256.size a := fun i v9955 k0_hw798 => k0_hw798

def k0_off2284 (i : grid0.Coords) (v9957 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v9968 : Index := Scalar.indexCast v9950
  let c0_5331 : Index := 0#32
  let v9969 : Index := Scalar.indexCast v9957
  let c0_5332 : Index := 0#32
  ![v9968.toNat, 0, v9969.toNat, 0]

def k0_chk799 (i : grid0.Coords) (v9957 : BitVec 32) : Prop :=
  (∀ a, (k0_off2284 i v9957) a + S1x14x1x256.size a ≤ S64x14x24x256.size a)
theorem k0_off2284_inb : ∀ (i : grid0.Coords) (v9957 : BitVec 32) (k0_hw799 : k0_chk799 i v9957), ∀ a, (k0_off2284 i v9957) a + S1x14x1x256.size a ≤ S64x14x24x256.size a := fun i v9957 k0_hw799 => k0_hw799

def k0_off2285 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9983 : Index := Scalar.indexCast v9948
  let c20_5340 : Index := 20#32
  ![v9983.toNat, 20]
def k0_off2286 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9985 : Index := Scalar.indexCast v9948
  let c21_5341 : Index := 21#32
  ![v9985.toNat, 21]
def k0_off2287 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9987 : Index := Scalar.indexCast v9948
  let c22_5342 : Index := 22#32
  ![v9987.toNat, 22]
def k0_off2288 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v9989 : Index := Scalar.indexCast v9948
  let c23_5343 : Index := 23#32
  ![v9989.toNat, 23]
def k0_off2289 (i : grid0.Coords) (v9984 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v9991 : Index := Scalar.indexCast v9950
  let c0_5344 : Index := 0#32
  let v9992 : Index := Scalar.indexCast v9984
  let c0_5345 : Index := 0#32
  ![v9991.toNat, 0, v9992.toNat, 0]

def k0_chk800 (i : grid0.Coords) (v9984 : BitVec 32) : Prop :=
  (∀ a, (k0_off2289 i v9984) a + S1x14x1x256.size a ≤ S64x14x24x256.size a)
theorem k0_off2289_inb : ∀ (i : grid0.Coords) (v9984 : BitVec 32) (k0_hw800 : k0_chk800 i v9984), ∀ a, (k0_off2289 i v9984) a + S1x14x1x256.size a ≤ S64x14x24x256.size a := fun i v9984 k0_hw800 => k0_hw800

def k0_off2290 (i : grid0.Coords) (v9986 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v9995 : Index := Scalar.indexCast v9950
  let c0_5346 : Index := 0#32
  let v9996 : Index := Scalar.indexCast v9986
  let c0_5347 : Index := 0#32
  ![v9995.toNat, 0, v9996.toNat, 0]

def k0_chk801 (i : grid0.Coords) (v9986 : BitVec 32) : Prop :=
  (∀ a, (k0_off2290 i v9986) a + S1x14x1x256.size a ≤ S64x14x24x256.size a)
theorem k0_off2290_inb : ∀ (i : grid0.Coords) (v9986 : BitVec 32) (k0_hw801 : k0_chk801 i v9986), ∀ a, (k0_off2290 i v9986) a + S1x14x1x256.size a ≤ S64x14x24x256.size a := fun i v9986 k0_hw801 => k0_hw801

def k0_off2291 (i : grid0.Coords) (v9988 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v9999 : Index := Scalar.indexCast v9950
  let c0_5348 : Index := 0#32
  let v10000 : Index := Scalar.indexCast v9988
  let c0_5349 : Index := 0#32
  ![v9999.toNat, 0, v10000.toNat, 0]

def k0_chk802 (i : grid0.Coords) (v9988 : BitVec 32) : Prop :=
  (∀ a, (k0_off2291 i v9988) a + S1x14x1x256.size a ≤ S64x14x24x256.size a)
theorem k0_off2291_inb : ∀ (i : grid0.Coords) (v9988 : BitVec 32) (k0_hw802 : k0_chk802 i v9988), ∀ a, (k0_off2291 i v9988) a + S1x14x1x256.size a ≤ S64x14x24x256.size a := fun i v9988 k0_hw802 => k0_hw802

def k0_off2292 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10014 : Index := Scalar.indexCast v9948
  let c24_5357 : Index := 24#32
  ![v10014.toNat, 24]
def k0_off2293 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10016 : Index := Scalar.indexCast v9948
  let c25_5358 : Index := 25#32
  ![v10016.toNat, 25]
def k0_off2294 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10018 : Index := Scalar.indexCast v9948
  let c26_5359 : Index := 26#32
  ![v10018.toNat, 26]
def k0_off2295 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10020 : Index := Scalar.indexCast v9948
  let c27_5360 : Index := 27#32
  ![v10020.toNat, 27]
def k0_off2296 (i : grid0.Coords) (v10015 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10022 : Index := Scalar.indexCast v9950
  let c0_5361 : Index := 0#32
  let v10023 : Index := Scalar.indexCast v10015
  let c0_5362 : Index := 0#32
  ![v10022.toNat, 0, v10023.toNat, 0]

def k0_chk803 (i : grid0.Coords) (v10015 : BitVec 32) : Prop :=
  (∀ a, (k0_off2296 i v10015) a + S1x14x1x256.size a ≤ S64x14x24x256.size a)
theorem k0_off2296_inb : ∀ (i : grid0.Coords) (v10015 : BitVec 32) (k0_hw803 : k0_chk803 i v10015), ∀ a, (k0_off2296 i v10015) a + S1x14x1x256.size a ≤ S64x14x24x256.size a := fun i v10015 k0_hw803 => k0_hw803

def k0_off2297 (i : grid0.Coords) (v10017 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10026 : Index := Scalar.indexCast v9950
  let c0_5363 : Index := 0#32
  let v10027 : Index := Scalar.indexCast v10017
  let c0_5364 : Index := 0#32
  ![v10026.toNat, 0, v10027.toNat, 0]

def k0_chk804 (i : grid0.Coords) (v10017 : BitVec 32) : Prop :=
  (∀ a, (k0_off2297 i v10017) a + S1x14x1x256.size a ≤ S64x14x24x256.size a)
theorem k0_off2297_inb : ∀ (i : grid0.Coords) (v10017 : BitVec 32) (k0_hw804 : k0_chk804 i v10017), ∀ a, (k0_off2297 i v10017) a + S1x14x1x256.size a ≤ S64x14x24x256.size a := fun i v10017 k0_hw804 => k0_hw804

def k0_off2298 (i : grid0.Coords) (v10019 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10030 : Index := Scalar.indexCast v9950
  let c0_5365 : Index := 0#32
  let v10031 : Index := Scalar.indexCast v10019
  let c0_5366 : Index := 0#32
  ![v10030.toNat, 0, v10031.toNat, 0]

def k0_chk805 (i : grid0.Coords) (v10019 : BitVec 32) : Prop :=
  (∀ a, (k0_off2298 i v10019) a + S1x14x1x256.size a ≤ S64x14x24x256.size a)
theorem k0_off2298_inb : ∀ (i : grid0.Coords) (v10019 : BitVec 32) (k0_hw805 : k0_chk805 i v10019), ∀ a, (k0_off2298 i v10019) a + S1x14x1x256.size a ≤ S64x14x24x256.size a := fun i v10019 k0_hw805 => k0_hw805

def k0_off2299 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10045 : Index := Scalar.indexCast v9948
  let c28_5374 : Index := 28#32
  ![v10045.toNat, 28]
def k0_off2300 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10047 : Index := Scalar.indexCast v9948
  let c29_5375 : Index := 29#32
  ![v10047.toNat, 29]
def k0_off2301 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10049 : Index := Scalar.indexCast v9948
  let c30_5376 : Index := 30#32
  ![v10049.toNat, 30]
def k0_off2302 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10051 : Index := Scalar.indexCast v9948
  let c31_5377 : Index := 31#32
  ![v10051.toNat, 31]
def k0_off2303 (i : grid0.Coords) (v10046 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10053 : Index := Scalar.indexCast v9950
  let c0_5378 : Index := 0#32
  let v10054 : Index := Scalar.indexCast v10046
  let c0_5379 : Index := 0#32
  ![v10053.toNat, 0, v10054.toNat, 0]

def k0_chk806 (i : grid0.Coords) (v10046 : BitVec 32) : Prop :=
  (∀ a, (k0_off2303 i v10046) a + S1x14x1x256.size a ≤ S64x14x24x256.size a)
theorem k0_off2303_inb : ∀ (i : grid0.Coords) (v10046 : BitVec 32) (k0_hw806 : k0_chk806 i v10046), ∀ a, (k0_off2303 i v10046) a + S1x14x1x256.size a ≤ S64x14x24x256.size a := fun i v10046 k0_hw806 => k0_hw806

def k0_off2304 (i : grid0.Coords) (v10048 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10057 : Index := Scalar.indexCast v9950
  let c0_5380 : Index := 0#32
  let v10058 : Index := Scalar.indexCast v10048
  let c0_5381 : Index := 0#32
  ![v10057.toNat, 0, v10058.toNat, 0]

def k0_chk807 (i : grid0.Coords) (v10048 : BitVec 32) : Prop :=
  (∀ a, (k0_off2304 i v10048) a + S1x14x1x256.size a ≤ S64x14x24x256.size a)
theorem k0_off2304_inb : ∀ (i : grid0.Coords) (v10048 : BitVec 32) (k0_hw807 : k0_chk807 i v10048), ∀ a, (k0_off2304 i v10048) a + S1x14x1x256.size a ≤ S64x14x24x256.size a := fun i v10048 k0_hw807 => k0_hw807

def k0_off2305 (i : grid0.Coords) (v10050 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10061 : Index := Scalar.indexCast v9950
  let c0_5382 : Index := 0#32
  let v10062 : Index := Scalar.indexCast v10050
  let c0_5383 : Index := 0#32
  ![v10061.toNat, 0, v10062.toNat, 0]

def k0_chk808 (i : grid0.Coords) (v10050 : BitVec 32) : Prop :=
  (∀ a, (k0_off2305 i v10050) a + S1x14x1x256.size a ≤ S64x14x24x256.size a)
theorem k0_off2305_inb : ∀ (i : grid0.Coords) (v10050 : BitVec 32) (k0_hw808 : k0_chk808 i v10050), ∀ a, (k0_off2305 i v10050) a + S1x14x1x256.size a ≤ S64x14x24x256.size a := fun i v10050 k0_hw808 => k0_hw808

def k0_off2306 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10076 : Index := Scalar.indexCast v9948
  let c32_5391 : Index := 32#32
  ![v10076.toNat, 32]
def k0_off2307 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10078 : Index := Scalar.indexCast v9948
  let c33_5392 : Index := 33#32
  ![v10078.toNat, 33]
def k0_off2308 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10080 : Index := Scalar.indexCast v9948
  let c34_5393 : Index := 34#32
  ![v10080.toNat, 34]
def k0_off2309 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10082 : Index := Scalar.indexCast v9948
  let c35_5394 : Index := 35#32
  ![v10082.toNat, 35]
def k0_off2310 (i : grid0.Coords) (v10077 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10084 : Index := Scalar.indexCast v9950
  let c0_5395 : Index := 0#32
  let v10085 : Index := Scalar.indexCast v10077
  let c0_5396 : Index := 0#32
  ![v10084.toNat, 0, v10085.toNat, 0]

def k0_chk809 (i : grid0.Coords) (v10077 : BitVec 32) : Prop :=
  (∀ a, (k0_off2310 i v10077) a + S1x14x1x256.size a ≤ S64x14x24x256.size a)
theorem k0_off2310_inb : ∀ (i : grid0.Coords) (v10077 : BitVec 32) (k0_hw809 : k0_chk809 i v10077), ∀ a, (k0_off2310 i v10077) a + S1x14x1x256.size a ≤ S64x14x24x256.size a := fun i v10077 k0_hw809 => k0_hw809

def k0_off2311 (i : grid0.Coords) (v10079 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10088 : Index := Scalar.indexCast v9950
  let c0_5397 : Index := 0#32
  let v10089 : Index := Scalar.indexCast v10079
  let c0_5398 : Index := 0#32
  ![v10088.toNat, 0, v10089.toNat, 0]

def k0_chk810 (i : grid0.Coords) (v10079 : BitVec 32) : Prop :=
  (∀ a, (k0_off2311 i v10079) a + S1x14x1x256.size a ≤ S64x14x24x256.size a)
theorem k0_off2311_inb : ∀ (i : grid0.Coords) (v10079 : BitVec 32) (k0_hw810 : k0_chk810 i v10079), ∀ a, (k0_off2311 i v10079) a + S1x14x1x256.size a ≤ S64x14x24x256.size a := fun i v10079 k0_hw810 => k0_hw810

def k0_off2312 (i : grid0.Coords) (v10081 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10092 : Index := Scalar.indexCast v9950
  let c0_5399 : Index := 0#32
  let v10093 : Index := Scalar.indexCast v10081
  let c0_5400 : Index := 0#32
  ![v10092.toNat, 0, v10093.toNat, 0]

def k0_chk811 (i : grid0.Coords) (v10081 : BitVec 32) : Prop :=
  (∀ a, (k0_off2312 i v10081) a + S1x14x1x256.size a ≤ S64x14x24x256.size a)
theorem k0_off2312_inb : ∀ (i : grid0.Coords) (v10081 : BitVec 32) (k0_hw811 : k0_chk811 i v10081), ∀ a, (k0_off2312 i v10081) a + S1x14x1x256.size a ≤ S64x14x24x256.size a := fun i v10081 k0_hw811 => k0_hw811

def k0_off2313 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10107 : Index := Scalar.indexCast v9948
  let c36_5408 : Index := 36#32
  ![v10107.toNat, 36]
def k0_off2314 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10109 : Index := Scalar.indexCast v9948
  let c37_5409 : Index := 37#32
  ![v10109.toNat, 37]
def k0_off2315 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10111 : Index := Scalar.indexCast v9948
  let c38_5410 : Index := 38#32
  ![v10111.toNat, 38]
def k0_off2316 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10113 : Index := Scalar.indexCast v9948
  let c39_5411 : Index := 39#32
  ![v10113.toNat, 39]
def k0_off2317 (i : grid0.Coords) (v10108 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10115 : Index := Scalar.indexCast v9950
  let c0_5412 : Index := 0#32
  let v10116 : Index := Scalar.indexCast v10108
  let c0_5413 : Index := 0#32
  ![v10115.toNat, 0, v10116.toNat, 0]

def k0_chk812 (i : grid0.Coords) (v10108 : BitVec 32) : Prop :=
  (∀ a, (k0_off2317 i v10108) a + S1x14x1x256.size a ≤ S64x14x24x256.size a)
theorem k0_off2317_inb : ∀ (i : grid0.Coords) (v10108 : BitVec 32) (k0_hw812 : k0_chk812 i v10108), ∀ a, (k0_off2317 i v10108) a + S1x14x1x256.size a ≤ S64x14x24x256.size a := fun i v10108 k0_hw812 => k0_hw812

def k0_off2318 (i : grid0.Coords) (v10110 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10119 : Index := Scalar.indexCast v9950
  let c0_5414 : Index := 0#32
  let v10120 : Index := Scalar.indexCast v10110
  let c0_5415 : Index := 0#32
  ![v10119.toNat, 0, v10120.toNat, 0]

def k0_chk813 (i : grid0.Coords) (v10110 : BitVec 32) : Prop :=
  (∀ a, (k0_off2318 i v10110) a + S1x14x1x256.size a ≤ S64x14x24x256.size a)
theorem k0_off2318_inb : ∀ (i : grid0.Coords) (v10110 : BitVec 32) (k0_hw813 : k0_chk813 i v10110), ∀ a, (k0_off2318 i v10110) a + S1x14x1x256.size a ≤ S64x14x24x256.size a := fun i v10110 k0_hw813 => k0_hw813

def k0_off2319 (i : grid0.Coords) (v10112 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10123 : Index := Scalar.indexCast v9950
  let c0_5416 : Index := 0#32
  let v10124 : Index := Scalar.indexCast v10112
  let c0_5417 : Index := 0#32
  ![v10123.toNat, 0, v10124.toNat, 0]

def k0_chk814 (i : grid0.Coords) (v10112 : BitVec 32) : Prop :=
  (∀ a, (k0_off2319 i v10112) a + S1x14x1x256.size a ≤ S64x14x24x256.size a)
theorem k0_off2319_inb : ∀ (i : grid0.Coords) (v10112 : BitVec 32) (k0_hw814 : k0_chk814 i v10112), ∀ a, (k0_off2319 i v10112) a + S1x14x1x256.size a ≤ S64x14x24x256.size a := fun i v10112 k0_hw814 => k0_hw814

def k0_off2320 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10138 : Index := Scalar.indexCast v9948
  let c40_5425 : Index := 40#32
  ![v10138.toNat, 40]
def k0_off2321 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10140 : Index := Scalar.indexCast v9948
  let c41_5426 : Index := 41#32
  ![v10140.toNat, 41]
def k0_off2322 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10142 : Index := Scalar.indexCast v9948
  let c42_5427 : Index := 42#32
  ![v10142.toNat, 42]
def k0_off2323 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10144 : Index := Scalar.indexCast v9948
  let c43_5428 : Index := 43#32
  ![v10144.toNat, 43]
def k0_off2324 (i : grid0.Coords) (v10139 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10146 : Index := Scalar.indexCast v9950
  let c0_5429 : Index := 0#32
  let v10147 : Index := Scalar.indexCast v10139
  let c0_5430 : Index := 0#32
  ![v10146.toNat, 0, v10147.toNat, 0]

def k0_chk815 (i : grid0.Coords) (v10139 : BitVec 32) : Prop :=
  (∀ a, (k0_off2324 i v10139) a + S1x14x1x256.size a ≤ S64x14x24x256.size a)
theorem k0_off2324_inb : ∀ (i : grid0.Coords) (v10139 : BitVec 32) (k0_hw815 : k0_chk815 i v10139), ∀ a, (k0_off2324 i v10139) a + S1x14x1x256.size a ≤ S64x14x24x256.size a := fun i v10139 k0_hw815 => k0_hw815

def k0_off2325 (i : grid0.Coords) (v10141 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10150 : Index := Scalar.indexCast v9950
  let c0_5431 : Index := 0#32
  let v10151 : Index := Scalar.indexCast v10141
  let c0_5432 : Index := 0#32
  ![v10150.toNat, 0, v10151.toNat, 0]

def k0_chk816 (i : grid0.Coords) (v10141 : BitVec 32) : Prop :=
  (∀ a, (k0_off2325 i v10141) a + S1x14x1x256.size a ≤ S64x14x24x256.size a)
theorem k0_off2325_inb : ∀ (i : grid0.Coords) (v10141 : BitVec 32) (k0_hw816 : k0_chk816 i v10141), ∀ a, (k0_off2325 i v10141) a + S1x14x1x256.size a ≤ S64x14x24x256.size a := fun i v10141 k0_hw816 => k0_hw816

def k0_off2326 (i : grid0.Coords) (v10143 : BitVec 32) : Fin 4 → Nat :=
  let c32_i32_5320 : BitVec 32 := 32#32
  let arg0 : BitVec 32 := BitVec.ofNat 32 (i 0).val
  let c2_i32 : BitVec 32 := 2#32
  let v0 : BitVec 32 := Scalar.remsi arg0 c2_i32
  let v9949 : BitVec 32 := Scalar.muli c32_i32_5320 v0
  let c25_i32_5321 : BitVec 32 := 25#32
  let v9950 : BitVec 32 := Scalar.addi v9949 c25_i32_5321
  let v10154 : Index := Scalar.indexCast v9950
  let c0_5433 : Index := 0#32
  let v10155 : Index := Scalar.indexCast v10143
  let c0_5434 : Index := 0#32
  ![v10154.toNat, 0, v10155.toNat, 0]

def k0_chk817 (i : grid0.Coords) (v10143 : BitVec 32) : Prop :=
  (∀ a, (k0_off2326 i v10143) a + S1x14x1x256.size a ≤ S64x14x24x256.size a)
theorem k0_off2326_inb : ∀ (i : grid0.Coords) (v10143 : BitVec 32) (k0_hw817 : k0_chk817 i v10143), ∀ a, (k0_off2326 i v10143) a + S1x14x1x256.size a ≤ S64x14x24x256.size a := fun i v10143 k0_hw817 => k0_hw817

def k0_off2327 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10170 : Index := Scalar.indexCast v9948
  let c44_5442 : Index := 44#32
  ![v10170.toNat, 44]
def k0_off2328 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10172 : Index := Scalar.indexCast v9948
  let c45_5443 : Index := 45#32
  ![v10172.toNat, 45]
def k0_off2329 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10174 : Index := Scalar.indexCast v9948
  let c46_5444 : Index := 46#32
  ![v10174.toNat, 46]
def k0_off2330 (v10171 : BitVec 32) : Fin 4 → Nat :=
  let c25_5445 : Index := 25#32
  let v10176 : Index := Scalar.indexCast v10171
  let c0_5446 : Index := 0#32
  let c0_5447 : Index := 0#32
  ![25, v10176.toNat, 0, 0]

def k0_chk818 (v10171 : BitVec 32) : Prop :=
  (∀ a, (k0_off2330 v10171) a + S1x3x7x256.size a ≤ S32x14x7x256.size a)
theorem k0_off2330_inb : ∀ (v10171 : BitVec 32) (k0_hw818 : k0_chk818 v10171), ∀ a, (k0_off2330 v10171) a + S1x3x7x256.size a ≤ S32x14x7x256.size a := fun v10171 k0_hw818 => k0_hw818

def k0_off2331 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10192 : Index := Scalar.indexCast v9948
  let c47_5453 : Index := 47#32
  ![v10192.toNat, 47]
def k0_off2332 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10194 : Index := Scalar.indexCast v9948
  let c48_5454 : Index := 48#32
  ![v10194.toNat, 48]
def k0_off2333 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10196 : Index := Scalar.indexCast v9948
  let c49_5455 : Index := 49#32
  ![v10196.toNat, 49]
def k0_off2334 (v10193 : BitVec 32) : Fin 4 → Nat :=
  let c25_5456 : Index := 25#32
  let v10198 : Index := Scalar.indexCast v10193
  let c0_5457 : Index := 0#32
  let c0_5458 : Index := 0#32
  ![25, v10198.toNat, 0, 0]

def k0_chk819 (v10193 : BitVec 32) : Prop :=
  (∀ a, (k0_off2334 v10193) a + S1x3x7x256.size a ≤ S32x14x7x256.size a)
theorem k0_off2334_inb : ∀ (v10193 : BitVec 32) (k0_hw819 : k0_chk819 v10193), ∀ a, (k0_off2334 v10193) a + S1x3x7x256.size a ≤ S32x14x7x256.size a := fun v10193 k0_hw819 => k0_hw819

def k0_off2335 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10214 : Index := Scalar.indexCast v9948
  let c50_5464 : Index := 50#32
  ![v10214.toNat, 50]
def k0_off2336 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10216 : Index := Scalar.indexCast v9948
  let c51_5465 : Index := 51#32
  ![v10216.toNat, 51]
def k0_off2337 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10218 : Index := Scalar.indexCast v9948
  let c52_5466 : Index := 52#32
  ![v10218.toNat, 52]
def k0_off2338 (v10215 : BitVec 32) : Fin 4 → Nat :=
  let c25_5467 : Index := 25#32
  let v10220 : Index := Scalar.indexCast v10215
  let c0_5468 : Index := 0#32
  let c0_5469 : Index := 0#32
  ![25, v10220.toNat, 0, 0]

def k0_chk820 (v10215 : BitVec 32) : Prop :=
  (∀ a, (k0_off2338 v10215) a + S1x3x7x256.size a ≤ S32x14x7x256.size a)
theorem k0_off2338_inb : ∀ (v10215 : BitVec 32) (k0_hw820 : k0_chk820 v10215), ∀ a, (k0_off2338 v10215) a + S1x3x7x256.size a ≤ S32x14x7x256.size a := fun v10215 k0_hw820 => k0_hw820

def k0_off2339 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10236 : Index := Scalar.indexCast v9948
  let c53_5475 : Index := 53#32
  ![v10236.toNat, 53]
def k0_off2340 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10238 : Index := Scalar.indexCast v9948
  let c54_5476 : Index := 54#32
  ![v10238.toNat, 54]
def k0_off2341 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10240 : Index := Scalar.indexCast v9948
  let c55_5477 : Index := 55#32
  ![v10240.toNat, 55]
def k0_off2342 (v10237 : BitVec 32) : Fin 4 → Nat :=
  let c25_5478 : Index := 25#32
  let v10242 : Index := Scalar.indexCast v10237
  let c0_5479 : Index := 0#32
  let c0_5480 : Index := 0#32
  ![25, v10242.toNat, 0, 0]

def k0_chk821 (v10237 : BitVec 32) : Prop :=
  (∀ a, (k0_off2342 v10237) a + S1x3x7x256.size a ≤ S32x14x7x256.size a)
theorem k0_off2342_inb : ∀ (v10237 : BitVec 32) (k0_hw821 : k0_chk821 v10237), ∀ a, (k0_off2342 v10237) a + S1x3x7x256.size a ≤ S32x14x7x256.size a := fun v10237 k0_hw821 => k0_hw821

def k0_off2343 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10258 : Index := Scalar.indexCast v9948
  let c56_5486 : Index := 56#32
  ![v10258.toNat, 56]
def k0_off2344 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10260 : Index := Scalar.indexCast v9948
  let c57_5487 : Index := 57#32
  ![v10260.toNat, 57]
def k0_off2345 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10262 : Index := Scalar.indexCast v9948
  let c58_5488 : Index := 58#32
  ![v10262.toNat, 58]
def k0_off2346 (v10259 : BitVec 32) : Fin 4 → Nat :=
  let c25_5489 : Index := 25#32
  let v10264 : Index := Scalar.indexCast v10259
  let c0_5490 : Index := 0#32
  let c0_5491 : Index := 0#32
  ![25, v10264.toNat, 0, 0]

def k0_chk822 (v10259 : BitVec 32) : Prop :=
  (∀ a, (k0_off2346 v10259) a + S1x3x7x256.size a ≤ S32x14x7x256.size a)
theorem k0_off2346_inb : ∀ (v10259 : BitVec 32) (k0_hw822 : k0_chk822 v10259), ∀ a, (k0_off2346 v10259) a + S1x3x7x256.size a ≤ S32x14x7x256.size a := fun v10259 k0_hw822 => k0_hw822

def k0_off2347 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10280 : Index := Scalar.indexCast v9948
  let c59_5497 : Index := 59#32
  ![v10280.toNat, 59]
def k0_off2348 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10282 : Index := Scalar.indexCast v9948
  let c60_5498 : Index := 60#32
  ![v10282.toNat, 60]
def k0_off2349 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10284 : Index := Scalar.indexCast v9948
  let c61_5499 : Index := 61#32
  ![v10284.toNat, 61]
def k0_off2350 (v10281 : BitVec 32) : Fin 4 → Nat :=
  let c25_5500 : Index := 25#32
  let v10286 : Index := Scalar.indexCast v10281
  let c0_5501 : Index := 0#32
  let c0_5502 : Index := 0#32
  ![25, v10286.toNat, 0, 0]

def k0_chk823 (v10281 : BitVec 32) : Prop :=
  (∀ a, (k0_off2350 v10281) a + S1x3x7x256.size a ≤ S32x14x7x256.size a)
theorem k0_off2350_inb : ∀ (v10281 : BitVec 32) (k0_hw823 : k0_chk823 v10281), ∀ a, (k0_off2350 v10281) a + S1x3x7x256.size a ≤ S32x14x7x256.size a := fun v10281 k0_hw823 => k0_hw823

def k0_off2351 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10302 : Index := Scalar.indexCast v9948
  let c62_5508 : Index := 62#32
  ![v10302.toNat, 62]
def k0_off2352 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10304 : Index := Scalar.indexCast v9948
  let c63_5509 : Index := 63#32
  ![v10304.toNat, 63]
def k0_off2353 (i : grid0.Coords) : Fin 2 → Nat :=
  let c32_i32_5318 : BitVec 32 := 32#32
  let arg0 : BitVec 32 := BitVec.ofNat 32 (i 0).val
  let v9947 : BitVec 32 := Scalar.muli c32_i32_5318 arg0
  let c25_i32_5319 : BitVec 32 := 25#32
  let v9948 : BitVec 32 := Scalar.addi v9947 c25_i32_5319
  let v10306 : Index := Scalar.indexCast v9948
  let c64_5510 : Index := 64#32
  ![v10306.toNat, 64]
def k0_off2354 (v10303 : BitVec 32) : Fin 4 → Nat :=
  let c25_5511 : Index := 25#32
  let v10308 : Index := Scalar.indexCast v10303
  let c0_5512 : Index := 0#32
  let c0_5513 : Index := 0#32
  ![25, v10308.toNat, 0, 0]

def k0_chk824 (v10303 : BitVec 32) : Prop :=
  (∀ a, (k0_off2354 v10303) a + S1x3x7x256.size a ≤ S32x14x7x256.size a)
theorem k0_off2354_inb : ∀ (v10303 : BitVec 32) (k0_hw824 : k0_chk824 v10303), ∀ a, (k0_off2354 v10303) a + S1x3x7x256.size a ≤ S32x14x7x256.size a := fun v10303 k0_hw824 => k0_hw824

def k0_off2355 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10329 : Index := Scalar.indexCast v10325
  let c16_5524 : Index := 16#32
  ![v10329.toNat, 16]
def k0_off2356 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10331 : Index := Scalar.indexCast v10325
  let c17_5525 : Index := 17#32
  ![v10331.toNat, 17]
def k0_off2357 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10333 : Index := Scalar.indexCast v10325
  let c18_5526 : Index := 18#32
  ![v10333.toNat, 18]
def k0_off2358 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10335 : Index := Scalar.indexCast v10325
  let c19_5527 : Index := 19#32
  ![v10335.toNat, 19]
def k0_off2359 (i : grid0.Coords) (v10330 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10337 : Index := Scalar.indexCast v10327
  let c0_5528 : Index := 0#32
  let v10338 : Index := Scalar.indexCast v10330
  let c0_5529 : Index := 0#32
  ![v10337.toNat, 0, v10338.toNat, 0]

def k0_chk825 (i : grid0.Coords) (v10330 : BitVec 32) : Prop :=
  (∀ a, (k0_off2359 i v10330) a + S1x14x1x256.size a ≤ S64x14x24x256.size a)
theorem k0_off2359_inb : ∀ (i : grid0.Coords) (v10330 : BitVec 32) (k0_hw825 : k0_chk825 i v10330), ∀ a, (k0_off2359 i v10330) a + S1x14x1x256.size a ≤ S64x14x24x256.size a := fun i v10330 k0_hw825 => k0_hw825

def k0_off2360 (i : grid0.Coords) (v10332 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10341 : Index := Scalar.indexCast v10327
  let c0_5530 : Index := 0#32
  let v10342 : Index := Scalar.indexCast v10332
  let c0_5531 : Index := 0#32
  ![v10341.toNat, 0, v10342.toNat, 0]

def k0_chk826 (i : grid0.Coords) (v10332 : BitVec 32) : Prop :=
  (∀ a, (k0_off2360 i v10332) a + S1x14x1x256.size a ≤ S64x14x24x256.size a)
theorem k0_off2360_inb : ∀ (i : grid0.Coords) (v10332 : BitVec 32) (k0_hw826 : k0_chk826 i v10332), ∀ a, (k0_off2360 i v10332) a + S1x14x1x256.size a ≤ S64x14x24x256.size a := fun i v10332 k0_hw826 => k0_hw826

def k0_off2361 (i : grid0.Coords) (v10334 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10345 : Index := Scalar.indexCast v10327
  let c0_5532 : Index := 0#32
  let v10346 : Index := Scalar.indexCast v10334
  let c0_5533 : Index := 0#32
  ![v10345.toNat, 0, v10346.toNat, 0]

def k0_chk827 (i : grid0.Coords) (v10334 : BitVec 32) : Prop :=
  (∀ a, (k0_off2361 i v10334) a + S1x14x1x256.size a ≤ S64x14x24x256.size a)
theorem k0_off2361_inb : ∀ (i : grid0.Coords) (v10334 : BitVec 32) (k0_hw827 : k0_chk827 i v10334), ∀ a, (k0_off2361 i v10334) a + S1x14x1x256.size a ≤ S64x14x24x256.size a := fun i v10334 k0_hw827 => k0_hw827

def k0_off2362 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10360 : Index := Scalar.indexCast v10325
  let c20_5541 : Index := 20#32
  ![v10360.toNat, 20]
def k0_off2363 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10362 : Index := Scalar.indexCast v10325
  let c21_5542 : Index := 21#32
  ![v10362.toNat, 21]
def k0_off2364 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10364 : Index := Scalar.indexCast v10325
  let c22_5543 : Index := 22#32
  ![v10364.toNat, 22]
def k0_off2365 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10366 : Index := Scalar.indexCast v10325
  let c23_5544 : Index := 23#32
  ![v10366.toNat, 23]
def k0_off2366 (i : grid0.Coords) (v10361 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10368 : Index := Scalar.indexCast v10327
  let c0_5545 : Index := 0#32
  let v10369 : Index := Scalar.indexCast v10361
  let c0_5546 : Index := 0#32
  ![v10368.toNat, 0, v10369.toNat, 0]

def k0_chk828 (i : grid0.Coords) (v10361 : BitVec 32) : Prop :=
  (∀ a, (k0_off2366 i v10361) a + S1x14x1x256.size a ≤ S64x14x24x256.size a)
theorem k0_off2366_inb : ∀ (i : grid0.Coords) (v10361 : BitVec 32) (k0_hw828 : k0_chk828 i v10361), ∀ a, (k0_off2366 i v10361) a + S1x14x1x256.size a ≤ S64x14x24x256.size a := fun i v10361 k0_hw828 => k0_hw828

def k0_off2367 (i : grid0.Coords) (v10363 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10372 : Index := Scalar.indexCast v10327
  let c0_5547 : Index := 0#32
  let v10373 : Index := Scalar.indexCast v10363
  let c0_5548 : Index := 0#32
  ![v10372.toNat, 0, v10373.toNat, 0]

def k0_chk829 (i : grid0.Coords) (v10363 : BitVec 32) : Prop :=
  (∀ a, (k0_off2367 i v10363) a + S1x14x1x256.size a ≤ S64x14x24x256.size a)
theorem k0_off2367_inb : ∀ (i : grid0.Coords) (v10363 : BitVec 32) (k0_hw829 : k0_chk829 i v10363), ∀ a, (k0_off2367 i v10363) a + S1x14x1x256.size a ≤ S64x14x24x256.size a := fun i v10363 k0_hw829 => k0_hw829

def k0_off2368 (i : grid0.Coords) (v10365 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10376 : Index := Scalar.indexCast v10327
  let c0_5549 : Index := 0#32
  let v10377 : Index := Scalar.indexCast v10365
  let c0_5550 : Index := 0#32
  ![v10376.toNat, 0, v10377.toNat, 0]

def k0_chk830 (i : grid0.Coords) (v10365 : BitVec 32) : Prop :=
  (∀ a, (k0_off2368 i v10365) a + S1x14x1x256.size a ≤ S64x14x24x256.size a)
theorem k0_off2368_inb : ∀ (i : grid0.Coords) (v10365 : BitVec 32) (k0_hw830 : k0_chk830 i v10365), ∀ a, (k0_off2368 i v10365) a + S1x14x1x256.size a ≤ S64x14x24x256.size a := fun i v10365 k0_hw830 => k0_hw830

def k0_off2369 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10391 : Index := Scalar.indexCast v10325
  let c24_5558 : Index := 24#32
  ![v10391.toNat, 24]
def k0_off2370 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10393 : Index := Scalar.indexCast v10325
  let c25_5559 : Index := 25#32
  ![v10393.toNat, 25]
def k0_off2371 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10395 : Index := Scalar.indexCast v10325
  let c26_5560 : Index := 26#32
  ![v10395.toNat, 26]
def k0_off2372 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10397 : Index := Scalar.indexCast v10325
  let c27_5561 : Index := 27#32
  ![v10397.toNat, 27]
def k0_off2373 (i : grid0.Coords) (v10392 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10399 : Index := Scalar.indexCast v10327
  let c0_5562 : Index := 0#32
  let v10400 : Index := Scalar.indexCast v10392
  let c0_5563 : Index := 0#32
  ![v10399.toNat, 0, v10400.toNat, 0]

def k0_chk831 (i : grid0.Coords) (v10392 : BitVec 32) : Prop :=
  (∀ a, (k0_off2373 i v10392) a + S1x14x1x256.size a ≤ S64x14x24x256.size a)
theorem k0_off2373_inb : ∀ (i : grid0.Coords) (v10392 : BitVec 32) (k0_hw831 : k0_chk831 i v10392), ∀ a, (k0_off2373 i v10392) a + S1x14x1x256.size a ≤ S64x14x24x256.size a := fun i v10392 k0_hw831 => k0_hw831

def k0_off2374 (i : grid0.Coords) (v10394 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10403 : Index := Scalar.indexCast v10327
  let c0_5564 : Index := 0#32
  let v10404 : Index := Scalar.indexCast v10394
  let c0_5565 : Index := 0#32
  ![v10403.toNat, 0, v10404.toNat, 0]

def k0_chk832 (i : grid0.Coords) (v10394 : BitVec 32) : Prop :=
  (∀ a, (k0_off2374 i v10394) a + S1x14x1x256.size a ≤ S64x14x24x256.size a)
theorem k0_off2374_inb : ∀ (i : grid0.Coords) (v10394 : BitVec 32) (k0_hw832 : k0_chk832 i v10394), ∀ a, (k0_off2374 i v10394) a + S1x14x1x256.size a ≤ S64x14x24x256.size a := fun i v10394 k0_hw832 => k0_hw832

def k0_off2375 (i : grid0.Coords) (v10396 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10407 : Index := Scalar.indexCast v10327
  let c0_5566 : Index := 0#32
  let v10408 : Index := Scalar.indexCast v10396
  let c0_5567 : Index := 0#32
  ![v10407.toNat, 0, v10408.toNat, 0]

def k0_chk833 (i : grid0.Coords) (v10396 : BitVec 32) : Prop :=
  (∀ a, (k0_off2375 i v10396) a + S1x14x1x256.size a ≤ S64x14x24x256.size a)
theorem k0_off2375_inb : ∀ (i : grid0.Coords) (v10396 : BitVec 32) (k0_hw833 : k0_chk833 i v10396), ∀ a, (k0_off2375 i v10396) a + S1x14x1x256.size a ≤ S64x14x24x256.size a := fun i v10396 k0_hw833 => k0_hw833

def k0_off2376 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10422 : Index := Scalar.indexCast v10325
  let c28_5575 : Index := 28#32
  ![v10422.toNat, 28]
def k0_off2377 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10424 : Index := Scalar.indexCast v10325
  let c29_5576 : Index := 29#32
  ![v10424.toNat, 29]
def k0_off2378 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10426 : Index := Scalar.indexCast v10325
  let c30_5577 : Index := 30#32
  ![v10426.toNat, 30]
def k0_off2379 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10428 : Index := Scalar.indexCast v10325
  let c31_5578 : Index := 31#32
  ![v10428.toNat, 31]
def k0_off2380 (i : grid0.Coords) (v10423 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10430 : Index := Scalar.indexCast v10327
  let c0_5579 : Index := 0#32
  let v10431 : Index := Scalar.indexCast v10423
  let c0_5580 : Index := 0#32
  ![v10430.toNat, 0, v10431.toNat, 0]

def k0_chk834 (i : grid0.Coords) (v10423 : BitVec 32) : Prop :=
  (∀ a, (k0_off2380 i v10423) a + S1x14x1x256.size a ≤ S64x14x24x256.size a)
theorem k0_off2380_inb : ∀ (i : grid0.Coords) (v10423 : BitVec 32) (k0_hw834 : k0_chk834 i v10423), ∀ a, (k0_off2380 i v10423) a + S1x14x1x256.size a ≤ S64x14x24x256.size a := fun i v10423 k0_hw834 => k0_hw834

def k0_off2381 (i : grid0.Coords) (v10425 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10434 : Index := Scalar.indexCast v10327
  let c0_5581 : Index := 0#32
  let v10435 : Index := Scalar.indexCast v10425
  let c0_5582 : Index := 0#32
  ![v10434.toNat, 0, v10435.toNat, 0]

def k0_chk835 (i : grid0.Coords) (v10425 : BitVec 32) : Prop :=
  (∀ a, (k0_off2381 i v10425) a + S1x14x1x256.size a ≤ S64x14x24x256.size a)
theorem k0_off2381_inb : ∀ (i : grid0.Coords) (v10425 : BitVec 32) (k0_hw835 : k0_chk835 i v10425), ∀ a, (k0_off2381 i v10425) a + S1x14x1x256.size a ≤ S64x14x24x256.size a := fun i v10425 k0_hw835 => k0_hw835

def k0_off2382 (i : grid0.Coords) (v10427 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10438 : Index := Scalar.indexCast v10327
  let c0_5583 : Index := 0#32
  let v10439 : Index := Scalar.indexCast v10427
  let c0_5584 : Index := 0#32
  ![v10438.toNat, 0, v10439.toNat, 0]

def k0_chk836 (i : grid0.Coords) (v10427 : BitVec 32) : Prop :=
  (∀ a, (k0_off2382 i v10427) a + S1x14x1x256.size a ≤ S64x14x24x256.size a)
theorem k0_off2382_inb : ∀ (i : grid0.Coords) (v10427 : BitVec 32) (k0_hw836 : k0_chk836 i v10427), ∀ a, (k0_off2382 i v10427) a + S1x14x1x256.size a ≤ S64x14x24x256.size a := fun i v10427 k0_hw836 => k0_hw836

def k0_off2383 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10453 : Index := Scalar.indexCast v10325
  let c32_5592 : Index := 32#32
  ![v10453.toNat, 32]
def k0_off2384 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10455 : Index := Scalar.indexCast v10325
  let c33_5593 : Index := 33#32
  ![v10455.toNat, 33]
def k0_off2385 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10457 : Index := Scalar.indexCast v10325
  let c34_5594 : Index := 34#32
  ![v10457.toNat, 34]
def k0_off2386 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10459 : Index := Scalar.indexCast v10325
  let c35_5595 : Index := 35#32
  ![v10459.toNat, 35]
def k0_off2387 (i : grid0.Coords) (v10454 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10461 : Index := Scalar.indexCast v10327
  let c0_5596 : Index := 0#32
  let v10462 : Index := Scalar.indexCast v10454
  let c0_5597 : Index := 0#32
  ![v10461.toNat, 0, v10462.toNat, 0]

def k0_chk837 (i : grid0.Coords) (v10454 : BitVec 32) : Prop :=
  (∀ a, (k0_off2387 i v10454) a + S1x14x1x256.size a ≤ S64x14x24x256.size a)
theorem k0_off2387_inb : ∀ (i : grid0.Coords) (v10454 : BitVec 32) (k0_hw837 : k0_chk837 i v10454), ∀ a, (k0_off2387 i v10454) a + S1x14x1x256.size a ≤ S64x14x24x256.size a := fun i v10454 k0_hw837 => k0_hw837

def k0_off2388 (i : grid0.Coords) (v10456 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10465 : Index := Scalar.indexCast v10327
  let c0_5598 : Index := 0#32
  let v10466 : Index := Scalar.indexCast v10456
  let c0_5599 : Index := 0#32
  ![v10465.toNat, 0, v10466.toNat, 0]

def k0_chk838 (i : grid0.Coords) (v10456 : BitVec 32) : Prop :=
  (∀ a, (k0_off2388 i v10456) a + S1x14x1x256.size a ≤ S64x14x24x256.size a)
theorem k0_off2388_inb : ∀ (i : grid0.Coords) (v10456 : BitVec 32) (k0_hw838 : k0_chk838 i v10456), ∀ a, (k0_off2388 i v10456) a + S1x14x1x256.size a ≤ S64x14x24x256.size a := fun i v10456 k0_hw838 => k0_hw838

def k0_off2389 (i : grid0.Coords) (v10458 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10469 : Index := Scalar.indexCast v10327
  let c0_5600 : Index := 0#32
  let v10470 : Index := Scalar.indexCast v10458
  let c0_5601 : Index := 0#32
  ![v10469.toNat, 0, v10470.toNat, 0]

def k0_chk839 (i : grid0.Coords) (v10458 : BitVec 32) : Prop :=
  (∀ a, (k0_off2389 i v10458) a + S1x14x1x256.size a ≤ S64x14x24x256.size a)
theorem k0_off2389_inb : ∀ (i : grid0.Coords) (v10458 : BitVec 32) (k0_hw839 : k0_chk839 i v10458), ∀ a, (k0_off2389 i v10458) a + S1x14x1x256.size a ≤ S64x14x24x256.size a := fun i v10458 k0_hw839 => k0_hw839

def k0_off2390 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10484 : Index := Scalar.indexCast v10325
  let c36_5609 : Index := 36#32
  ![v10484.toNat, 36]
def k0_off2391 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10486 : Index := Scalar.indexCast v10325
  let c37_5610 : Index := 37#32
  ![v10486.toNat, 37]
def k0_off2392 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10488 : Index := Scalar.indexCast v10325
  let c38_5611 : Index := 38#32
  ![v10488.toNat, 38]
def k0_off2393 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10490 : Index := Scalar.indexCast v10325
  let c39_5612 : Index := 39#32
  ![v10490.toNat, 39]
def k0_off2394 (i : grid0.Coords) (v10485 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10492 : Index := Scalar.indexCast v10327
  let c0_5613 : Index := 0#32
  let v10493 : Index := Scalar.indexCast v10485
  let c0_5614 : Index := 0#32
  ![v10492.toNat, 0, v10493.toNat, 0]

def k0_chk840 (i : grid0.Coords) (v10485 : BitVec 32) : Prop :=
  (∀ a, (k0_off2394 i v10485) a + S1x14x1x256.size a ≤ S64x14x24x256.size a)
theorem k0_off2394_inb : ∀ (i : grid0.Coords) (v10485 : BitVec 32) (k0_hw840 : k0_chk840 i v10485), ∀ a, (k0_off2394 i v10485) a + S1x14x1x256.size a ≤ S64x14x24x256.size a := fun i v10485 k0_hw840 => k0_hw840

def k0_off2395 (i : grid0.Coords) (v10487 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10496 : Index := Scalar.indexCast v10327
  let c0_5615 : Index := 0#32
  let v10497 : Index := Scalar.indexCast v10487
  let c0_5616 : Index := 0#32
  ![v10496.toNat, 0, v10497.toNat, 0]

def k0_chk841 (i : grid0.Coords) (v10487 : BitVec 32) : Prop :=
  (∀ a, (k0_off2395 i v10487) a + S1x14x1x256.size a ≤ S64x14x24x256.size a)
theorem k0_off2395_inb : ∀ (i : grid0.Coords) (v10487 : BitVec 32) (k0_hw841 : k0_chk841 i v10487), ∀ a, (k0_off2395 i v10487) a + S1x14x1x256.size a ≤ S64x14x24x256.size a := fun i v10487 k0_hw841 => k0_hw841

def k0_off2396 (i : grid0.Coords) (v10489 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10500 : Index := Scalar.indexCast v10327
  let c0_5617 : Index := 0#32
  let v10501 : Index := Scalar.indexCast v10489
  let c0_5618 : Index := 0#32
  ![v10500.toNat, 0, v10501.toNat, 0]

def k0_chk842 (i : grid0.Coords) (v10489 : BitVec 32) : Prop :=
  (∀ a, (k0_off2396 i v10489) a + S1x14x1x256.size a ≤ S64x14x24x256.size a)
theorem k0_off2396_inb : ∀ (i : grid0.Coords) (v10489 : BitVec 32) (k0_hw842 : k0_chk842 i v10489), ∀ a, (k0_off2396 i v10489) a + S1x14x1x256.size a ≤ S64x14x24x256.size a := fun i v10489 k0_hw842 => k0_hw842

def k0_off2397 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10515 : Index := Scalar.indexCast v10325
  let c40_5626 : Index := 40#32
  ![v10515.toNat, 40]
def k0_off2398 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10517 : Index := Scalar.indexCast v10325
  let c41_5627 : Index := 41#32
  ![v10517.toNat, 41]
def k0_off2399 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10519 : Index := Scalar.indexCast v10325
  let c42_5628 : Index := 42#32
  ![v10519.toNat, 42]
def k0_off2400 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10521 : Index := Scalar.indexCast v10325
  let c43_5629 : Index := 43#32
  ![v10521.toNat, 43]
def k0_off2401 (i : grid0.Coords) (v10516 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10523 : Index := Scalar.indexCast v10327
  let c0_5630 : Index := 0#32
  let v10524 : Index := Scalar.indexCast v10516
  let c0_5631 : Index := 0#32
  ![v10523.toNat, 0, v10524.toNat, 0]

def k0_chk843 (i : grid0.Coords) (v10516 : BitVec 32) : Prop :=
  (∀ a, (k0_off2401 i v10516) a + S1x14x1x256.size a ≤ S64x14x24x256.size a)
theorem k0_off2401_inb : ∀ (i : grid0.Coords) (v10516 : BitVec 32) (k0_hw843 : k0_chk843 i v10516), ∀ a, (k0_off2401 i v10516) a + S1x14x1x256.size a ≤ S64x14x24x256.size a := fun i v10516 k0_hw843 => k0_hw843

def k0_off2402 (i : grid0.Coords) (v10518 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10527 : Index := Scalar.indexCast v10327
  let c0_5632 : Index := 0#32
  let v10528 : Index := Scalar.indexCast v10518
  let c0_5633 : Index := 0#32
  ![v10527.toNat, 0, v10528.toNat, 0]

def k0_chk844 (i : grid0.Coords) (v10518 : BitVec 32) : Prop :=
  (∀ a, (k0_off2402 i v10518) a + S1x14x1x256.size a ≤ S64x14x24x256.size a)
theorem k0_off2402_inb : ∀ (i : grid0.Coords) (v10518 : BitVec 32) (k0_hw844 : k0_chk844 i v10518), ∀ a, (k0_off2402 i v10518) a + S1x14x1x256.size a ≤ S64x14x24x256.size a := fun i v10518 k0_hw844 => k0_hw844

def k0_off2403 (i : grid0.Coords) (v10520 : BitVec 32) : Fin 4 → Nat :=
  let c32_i32_5521 : BitVec 32 := 32#32
  let arg0 : BitVec 32 := BitVec.ofNat 32 (i 0).val
  let c2_i32 : BitVec 32 := 2#32
  let v0 : BitVec 32 := Scalar.remsi arg0 c2_i32
  let v10326 : BitVec 32 := Scalar.muli c32_i32_5521 v0
  let c26_i32_5522 : BitVec 32 := 26#32
  let v10327 : BitVec 32 := Scalar.addi v10326 c26_i32_5522
  let v10531 : Index := Scalar.indexCast v10327
  let c0_5634 : Index := 0#32
  let v10532 : Index := Scalar.indexCast v10520
  let c0_5635 : Index := 0#32
  ![v10531.toNat, 0, v10532.toNat, 0]

def k0_chk845 (i : grid0.Coords) (v10520 : BitVec 32) : Prop :=
  (∀ a, (k0_off2403 i v10520) a + S1x14x1x256.size a ≤ S64x14x24x256.size a)
theorem k0_off2403_inb : ∀ (i : grid0.Coords) (v10520 : BitVec 32) (k0_hw845 : k0_chk845 i v10520), ∀ a, (k0_off2403 i v10520) a + S1x14x1x256.size a ≤ S64x14x24x256.size a := fun i v10520 k0_hw845 => k0_hw845

def k0_off2404 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10547 : Index := Scalar.indexCast v10325
  let c44_5643 : Index := 44#32
  ![v10547.toNat, 44]
def k0_off2405 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10549 : Index := Scalar.indexCast v10325
  let c45_5644 : Index := 45#32
  ![v10549.toNat, 45]
def k0_off2406 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10551 : Index := Scalar.indexCast v10325
  let c46_5645 : Index := 46#32
  ![v10551.toNat, 46]
def k0_off2407 (v10548 : BitVec 32) : Fin 4 → Nat :=
  let c26_5646 : Index := 26#32
  let v10553 : Index := Scalar.indexCast v10548
  let c0_5647 : Index := 0#32
  let c0_5648 : Index := 0#32
  ![26, v10553.toNat, 0, 0]

def k0_chk846 (v10548 : BitVec 32) : Prop :=
  (∀ a, (k0_off2407 v10548) a + S1x3x7x256.size a ≤ S32x14x7x256.size a)
theorem k0_off2407_inb : ∀ (v10548 : BitVec 32) (k0_hw846 : k0_chk846 v10548), ∀ a, (k0_off2407 v10548) a + S1x3x7x256.size a ≤ S32x14x7x256.size a := fun v10548 k0_hw846 => k0_hw846

def k0_off2408 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10569 : Index := Scalar.indexCast v10325
  let c47_5654 : Index := 47#32
  ![v10569.toNat, 47]
def k0_off2409 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10571 : Index := Scalar.indexCast v10325
  let c48_5655 : Index := 48#32
  ![v10571.toNat, 48]
def k0_off2410 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10573 : Index := Scalar.indexCast v10325
  let c49_5656 : Index := 49#32
  ![v10573.toNat, 49]
def k0_off2411 (v10570 : BitVec 32) : Fin 4 → Nat :=
  let c26_5657 : Index := 26#32
  let v10575 : Index := Scalar.indexCast v10570
  let c0_5658 : Index := 0#32
  let c0_5659 : Index := 0#32
  ![26, v10575.toNat, 0, 0]

def k0_chk847 (v10570 : BitVec 32) : Prop :=
  (∀ a, (k0_off2411 v10570) a + S1x3x7x256.size a ≤ S32x14x7x256.size a)
theorem k0_off2411_inb : ∀ (v10570 : BitVec 32) (k0_hw847 : k0_chk847 v10570), ∀ a, (k0_off2411 v10570) a + S1x3x7x256.size a ≤ S32x14x7x256.size a := fun v10570 k0_hw847 => k0_hw847

def k0_off2412 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10591 : Index := Scalar.indexCast v10325
  let c50_5665 : Index := 50#32
  ![v10591.toNat, 50]
def k0_off2413 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10593 : Index := Scalar.indexCast v10325
  let c51_5666 : Index := 51#32
  ![v10593.toNat, 51]
def k0_off2414 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10595 : Index := Scalar.indexCast v10325
  let c52_5667 : Index := 52#32
  ![v10595.toNat, 52]
def k0_off2415 (v10592 : BitVec 32) : Fin 4 → Nat :=
  let c26_5668 : Index := 26#32
  let v10597 : Index := Scalar.indexCast v10592
  let c0_5669 : Index := 0#32
  let c0_5670 : Index := 0#32
  ![26, v10597.toNat, 0, 0]

def k0_chk848 (v10592 : BitVec 32) : Prop :=
  (∀ a, (k0_off2415 v10592) a + S1x3x7x256.size a ≤ S32x14x7x256.size a)
theorem k0_off2415_inb : ∀ (v10592 : BitVec 32) (k0_hw848 : k0_chk848 v10592), ∀ a, (k0_off2415 v10592) a + S1x3x7x256.size a ≤ S32x14x7x256.size a := fun v10592 k0_hw848 => k0_hw848

def k0_off2416 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10613 : Index := Scalar.indexCast v10325
  let c53_5676 : Index := 53#32
  ![v10613.toNat, 53]
def k0_off2417 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10615 : Index := Scalar.indexCast v10325
  let c54_5677 : Index := 54#32
  ![v10615.toNat, 54]
def k0_off2418 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10617 : Index := Scalar.indexCast v10325
  let c55_5678 : Index := 55#32
  ![v10617.toNat, 55]
def k0_off2419 (v10614 : BitVec 32) : Fin 4 → Nat :=
  let c26_5679 : Index := 26#32
  let v10619 : Index := Scalar.indexCast v10614
  let c0_5680 : Index := 0#32
  let c0_5681 : Index := 0#32
  ![26, v10619.toNat, 0, 0]

def k0_chk849 (v10614 : BitVec 32) : Prop :=
  (∀ a, (k0_off2419 v10614) a + S1x3x7x256.size a ≤ S32x14x7x256.size a)
theorem k0_off2419_inb : ∀ (v10614 : BitVec 32) (k0_hw849 : k0_chk849 v10614), ∀ a, (k0_off2419 v10614) a + S1x3x7x256.size a ≤ S32x14x7x256.size a := fun v10614 k0_hw849 => k0_hw849

def k0_off2420 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10635 : Index := Scalar.indexCast v10325
  let c56_5687 : Index := 56#32
  ![v10635.toNat, 56]
def k0_off2421 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10637 : Index := Scalar.indexCast v10325
  let c57_5688 : Index := 57#32
  ![v10637.toNat, 57]
def k0_off2422 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10639 : Index := Scalar.indexCast v10325
  let c58_5689 : Index := 58#32
  ![v10639.toNat, 58]
def k0_off2423 (v10636 : BitVec 32) : Fin 4 → Nat :=
  let c26_5690 : Index := 26#32
  let v10641 : Index := Scalar.indexCast v10636
  let c0_5691 : Index := 0#32
  let c0_5692 : Index := 0#32
  ![26, v10641.toNat, 0, 0]

def k0_chk850 (v10636 : BitVec 32) : Prop :=
  (∀ a, (k0_off2423 v10636) a + S1x3x7x256.size a ≤ S32x14x7x256.size a)
theorem k0_off2423_inb : ∀ (v10636 : BitVec 32) (k0_hw850 : k0_chk850 v10636), ∀ a, (k0_off2423 v10636) a + S1x3x7x256.size a ≤ S32x14x7x256.size a := fun v10636 k0_hw850 => k0_hw850

def k0_off2424 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10657 : Index := Scalar.indexCast v10325
  let c59_5698 : Index := 59#32
  ![v10657.toNat, 59]
def k0_off2425 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10659 : Index := Scalar.indexCast v10325
  let c60_5699 : Index := 60#32
  ![v10659.toNat, 60]
def k0_off2426 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10661 : Index := Scalar.indexCast v10325
  let c61_5700 : Index := 61#32
  ![v10661.toNat, 61]
def k0_off2427 (v10658 : BitVec 32) : Fin 4 → Nat :=
  let c26_5701 : Index := 26#32
  let v10663 : Index := Scalar.indexCast v10658
  let c0_5702 : Index := 0#32
  let c0_5703 : Index := 0#32
  ![26, v10663.toNat, 0, 0]

def k0_chk851 (v10658 : BitVec 32) : Prop :=
  (∀ a, (k0_off2427 v10658) a + S1x3x7x256.size a ≤ S32x14x7x256.size a)
theorem k0_off2427_inb : ∀ (v10658 : BitVec 32) (k0_hw851 : k0_chk851 v10658), ∀ a, (k0_off2427 v10658) a + S1x3x7x256.size a ≤ S32x14x7x256.size a := fun v10658 k0_hw851 => k0_hw851

def k0_off2428 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10679 : Index := Scalar.indexCast v10325
  let c62_5709 : Index := 62#32
  ![v10679.toNat, 62]
def k0_off2429 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10681 : Index := Scalar.indexCast v10325
  let c63_5710 : Index := 63#32
  ![v10681.toNat, 63]
def k0_off2430 (i : grid0.Coords) : Fin 2 → Nat :=
  let c32_i32_5519 : BitVec 32 := 32#32
  let arg0 : BitVec 32 := BitVec.ofNat 32 (i 0).val
  let v10324 : BitVec 32 := Scalar.muli c32_i32_5519 arg0
  let c26_i32_5520 : BitVec 32 := 26#32
  let v10325 : BitVec 32 := Scalar.addi v10324 c26_i32_5520
  let v10683 : Index := Scalar.indexCast v10325
  let c64_5711 : Index := 64#32
  ![v10683.toNat, 64]
def k0_off2431 (v10680 : BitVec 32) : Fin 4 → Nat :=
  let c26_5712 : Index := 26#32
  let v10685 : Index := Scalar.indexCast v10680
  let c0_5713 : Index := 0#32
  let c0_5714 : Index := 0#32
  ![26, v10685.toNat, 0, 0]

def k0_chk852 (v10680 : BitVec 32) : Prop :=
  (∀ a, (k0_off2431 v10680) a + S1x3x7x256.size a ≤ S32x14x7x256.size a)
theorem k0_off2431_inb : ∀ (v10680 : BitVec 32) (k0_hw852 : k0_chk852 v10680), ∀ a, (k0_off2431 v10680) a + S1x3x7x256.size a ≤ S32x14x7x256.size a := fun v10680 k0_hw852 => k0_hw852

def k0_off2432 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10706 : Index := Scalar.indexCast v10702
  let c16_5725 : Index := 16#32
  ![v10706.toNat, 16]
def k0_off2433 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10708 : Index := Scalar.indexCast v10702
  let c17_5726 : Index := 17#32
  ![v10708.toNat, 17]
def k0_off2434 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10710 : Index := Scalar.indexCast v10702
  let c18_5727 : Index := 18#32
  ![v10710.toNat, 18]
def k0_off2435 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10712 : Index := Scalar.indexCast v10702
  let c19_5728 : Index := 19#32
  ![v10712.toNat, 19]
def k0_off2436 (i : grid0.Coords) (v10707 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10714 : Index := Scalar.indexCast v10704
  let c0_5729 : Index := 0#32
  let v10715 : Index := Scalar.indexCast v10707
  let c0_5730 : Index := 0#32
  ![v10714.toNat, 0, v10715.toNat, 0]

def k0_chk853 (i : grid0.Coords) (v10707 : BitVec 32) : Prop :=
  (∀ a, (k0_off2436 i v10707) a + S1x14x1x256.size a ≤ S64x14x24x256.size a)
theorem k0_off2436_inb : ∀ (i : grid0.Coords) (v10707 : BitVec 32) (k0_hw853 : k0_chk853 i v10707), ∀ a, (k0_off2436 i v10707) a + S1x14x1x256.size a ≤ S64x14x24x256.size a := fun i v10707 k0_hw853 => k0_hw853

def k0_off2437 (i : grid0.Coords) (v10709 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10718 : Index := Scalar.indexCast v10704
  let c0_5731 : Index := 0#32
  let v10719 : Index := Scalar.indexCast v10709
  let c0_5732 : Index := 0#32
  ![v10718.toNat, 0, v10719.toNat, 0]

def k0_chk854 (i : grid0.Coords) (v10709 : BitVec 32) : Prop :=
  (∀ a, (k0_off2437 i v10709) a + S1x14x1x256.size a ≤ S64x14x24x256.size a)
theorem k0_off2437_inb : ∀ (i : grid0.Coords) (v10709 : BitVec 32) (k0_hw854 : k0_chk854 i v10709), ∀ a, (k0_off2437 i v10709) a + S1x14x1x256.size a ≤ S64x14x24x256.size a := fun i v10709 k0_hw854 => k0_hw854

def k0_off2438 (i : grid0.Coords) (v10711 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10722 : Index := Scalar.indexCast v10704
  let c0_5733 : Index := 0#32
  let v10723 : Index := Scalar.indexCast v10711
  let c0_5734 : Index := 0#32
  ![v10722.toNat, 0, v10723.toNat, 0]

def k0_chk855 (i : grid0.Coords) (v10711 : BitVec 32) : Prop :=
  (∀ a, (k0_off2438 i v10711) a + S1x14x1x256.size a ≤ S64x14x24x256.size a)
theorem k0_off2438_inb : ∀ (i : grid0.Coords) (v10711 : BitVec 32) (k0_hw855 : k0_chk855 i v10711), ∀ a, (k0_off2438 i v10711) a + S1x14x1x256.size a ≤ S64x14x24x256.size a := fun i v10711 k0_hw855 => k0_hw855

def k0_off2439 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10737 : Index := Scalar.indexCast v10702
  let c20_5742 : Index := 20#32
  ![v10737.toNat, 20]
def k0_off2440 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10739 : Index := Scalar.indexCast v10702
  let c21_5743 : Index := 21#32
  ![v10739.toNat, 21]
def k0_off2441 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10741 : Index := Scalar.indexCast v10702
  let c22_5744 : Index := 22#32
  ![v10741.toNat, 22]
def k0_off2442 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10743 : Index := Scalar.indexCast v10702
  let c23_5745 : Index := 23#32
  ![v10743.toNat, 23]
def k0_off2443 (i : grid0.Coords) (v10738 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10745 : Index := Scalar.indexCast v10704
  let c0_5746 : Index := 0#32
  let v10746 : Index := Scalar.indexCast v10738
  let c0_5747 : Index := 0#32
  ![v10745.toNat, 0, v10746.toNat, 0]

def k0_chk856 (i : grid0.Coords) (v10738 : BitVec 32) : Prop :=
  (∀ a, (k0_off2443 i v10738) a + S1x14x1x256.size a ≤ S64x14x24x256.size a)
theorem k0_off2443_inb : ∀ (i : grid0.Coords) (v10738 : BitVec 32) (k0_hw856 : k0_chk856 i v10738), ∀ a, (k0_off2443 i v10738) a + S1x14x1x256.size a ≤ S64x14x24x256.size a := fun i v10738 k0_hw856 => k0_hw856

def k0_off2444 (i : grid0.Coords) (v10740 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10749 : Index := Scalar.indexCast v10704
  let c0_5748 : Index := 0#32
  let v10750 : Index := Scalar.indexCast v10740
  let c0_5749 : Index := 0#32
  ![v10749.toNat, 0, v10750.toNat, 0]

def k0_chk857 (i : grid0.Coords) (v10740 : BitVec 32) : Prop :=
  (∀ a, (k0_off2444 i v10740) a + S1x14x1x256.size a ≤ S64x14x24x256.size a)
theorem k0_off2444_inb : ∀ (i : grid0.Coords) (v10740 : BitVec 32) (k0_hw857 : k0_chk857 i v10740), ∀ a, (k0_off2444 i v10740) a + S1x14x1x256.size a ≤ S64x14x24x256.size a := fun i v10740 k0_hw857 => k0_hw857

def k0_off2445 (i : grid0.Coords) (v10742 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10753 : Index := Scalar.indexCast v10704
  let c0_5750 : Index := 0#32
  let v10754 : Index := Scalar.indexCast v10742
  let c0_5751 : Index := 0#32
  ![v10753.toNat, 0, v10754.toNat, 0]

def k0_chk858 (i : grid0.Coords) (v10742 : BitVec 32) : Prop :=
  (∀ a, (k0_off2445 i v10742) a + S1x14x1x256.size a ≤ S64x14x24x256.size a)
theorem k0_off2445_inb : ∀ (i : grid0.Coords) (v10742 : BitVec 32) (k0_hw858 : k0_chk858 i v10742), ∀ a, (k0_off2445 i v10742) a + S1x14x1x256.size a ≤ S64x14x24x256.size a := fun i v10742 k0_hw858 => k0_hw858

def k0_off2446 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10768 : Index := Scalar.indexCast v10702
  let c24_5759 : Index := 24#32
  ![v10768.toNat, 24]
def k0_off2447 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10770 : Index := Scalar.indexCast v10702
  let c25_5760 : Index := 25#32
  ![v10770.toNat, 25]
def k0_off2448 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10772 : Index := Scalar.indexCast v10702
  let c26_5761 : Index := 26#32
  ![v10772.toNat, 26]
def k0_off2449 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10774 : Index := Scalar.indexCast v10702
  let c27_5762 : Index := 27#32
  ![v10774.toNat, 27]
def k0_off2450 (i : grid0.Coords) (v10769 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10776 : Index := Scalar.indexCast v10704
  let c0_5763 : Index := 0#32
  let v10777 : Index := Scalar.indexCast v10769
  let c0_5764 : Index := 0#32
  ![v10776.toNat, 0, v10777.toNat, 0]

def k0_chk859 (i : grid0.Coords) (v10769 : BitVec 32) : Prop :=
  (∀ a, (k0_off2450 i v10769) a + S1x14x1x256.size a ≤ S64x14x24x256.size a)
theorem k0_off2450_inb : ∀ (i : grid0.Coords) (v10769 : BitVec 32) (k0_hw859 : k0_chk859 i v10769), ∀ a, (k0_off2450 i v10769) a + S1x14x1x256.size a ≤ S64x14x24x256.size a := fun i v10769 k0_hw859 => k0_hw859

def k0_off2451 (i : grid0.Coords) (v10771 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10780 : Index := Scalar.indexCast v10704
  let c0_5765 : Index := 0#32
  let v10781 : Index := Scalar.indexCast v10771
  let c0_5766 : Index := 0#32
  ![v10780.toNat, 0, v10781.toNat, 0]

def k0_chk860 (i : grid0.Coords) (v10771 : BitVec 32) : Prop :=
  (∀ a, (k0_off2451 i v10771) a + S1x14x1x256.size a ≤ S64x14x24x256.size a)
theorem k0_off2451_inb : ∀ (i : grid0.Coords) (v10771 : BitVec 32) (k0_hw860 : k0_chk860 i v10771), ∀ a, (k0_off2451 i v10771) a + S1x14x1x256.size a ≤ S64x14x24x256.size a := fun i v10771 k0_hw860 => k0_hw860

def k0_off2452 (i : grid0.Coords) (v10773 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10784 : Index := Scalar.indexCast v10704
  let c0_5767 : Index := 0#32
  let v10785 : Index := Scalar.indexCast v10773
  let c0_5768 : Index := 0#32
  ![v10784.toNat, 0, v10785.toNat, 0]

def k0_chk861 (i : grid0.Coords) (v10773 : BitVec 32) : Prop :=
  (∀ a, (k0_off2452 i v10773) a + S1x14x1x256.size a ≤ S64x14x24x256.size a)
theorem k0_off2452_inb : ∀ (i : grid0.Coords) (v10773 : BitVec 32) (k0_hw861 : k0_chk861 i v10773), ∀ a, (k0_off2452 i v10773) a + S1x14x1x256.size a ≤ S64x14x24x256.size a := fun i v10773 k0_hw861 => k0_hw861

def k0_off2453 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10799 : Index := Scalar.indexCast v10702
  let c28_5776 : Index := 28#32
  ![v10799.toNat, 28]
def k0_off2454 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10801 : Index := Scalar.indexCast v10702
  let c29_5777 : Index := 29#32
  ![v10801.toNat, 29]
def k0_off2455 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10803 : Index := Scalar.indexCast v10702
  let c30_5778 : Index := 30#32
  ![v10803.toNat, 30]
def k0_off2456 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10805 : Index := Scalar.indexCast v10702
  let c31_5779 : Index := 31#32
  ![v10805.toNat, 31]
def k0_off2457 (i : grid0.Coords) (v10800 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10807 : Index := Scalar.indexCast v10704
  let c0_5780 : Index := 0#32
  let v10808 : Index := Scalar.indexCast v10800
  let c0_5781 : Index := 0#32
  ![v10807.toNat, 0, v10808.toNat, 0]

def k0_chk862 (i : grid0.Coords) (v10800 : BitVec 32) : Prop :=
  (∀ a, (k0_off2457 i v10800) a + S1x14x1x256.size a ≤ S64x14x24x256.size a)
theorem k0_off2457_inb : ∀ (i : grid0.Coords) (v10800 : BitVec 32) (k0_hw862 : k0_chk862 i v10800), ∀ a, (k0_off2457 i v10800) a + S1x14x1x256.size a ≤ S64x14x24x256.size a := fun i v10800 k0_hw862 => k0_hw862

def k0_off2458 (i : grid0.Coords) (v10802 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10811 : Index := Scalar.indexCast v10704
  let c0_5782 : Index := 0#32
  let v10812 : Index := Scalar.indexCast v10802
  let c0_5783 : Index := 0#32
  ![v10811.toNat, 0, v10812.toNat, 0]

def k0_chk863 (i : grid0.Coords) (v10802 : BitVec 32) : Prop :=
  (∀ a, (k0_off2458 i v10802) a + S1x14x1x256.size a ≤ S64x14x24x256.size a)
theorem k0_off2458_inb : ∀ (i : grid0.Coords) (v10802 : BitVec 32) (k0_hw863 : k0_chk863 i v10802), ∀ a, (k0_off2458 i v10802) a + S1x14x1x256.size a ≤ S64x14x24x256.size a := fun i v10802 k0_hw863 => k0_hw863

def k0_off2459 (i : grid0.Coords) (v10804 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10815 : Index := Scalar.indexCast v10704
  let c0_5784 : Index := 0#32
  let v10816 : Index := Scalar.indexCast v10804
  let c0_5785 : Index := 0#32
  ![v10815.toNat, 0, v10816.toNat, 0]

def k0_chk864 (i : grid0.Coords) (v10804 : BitVec 32) : Prop :=
  (∀ a, (k0_off2459 i v10804) a + S1x14x1x256.size a ≤ S64x14x24x256.size a)
theorem k0_off2459_inb : ∀ (i : grid0.Coords) (v10804 : BitVec 32) (k0_hw864 : k0_chk864 i v10804), ∀ a, (k0_off2459 i v10804) a + S1x14x1x256.size a ≤ S64x14x24x256.size a := fun i v10804 k0_hw864 => k0_hw864

def k0_off2460 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10830 : Index := Scalar.indexCast v10702
  let c32_5793 : Index := 32#32
  ![v10830.toNat, 32]
def k0_off2461 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10832 : Index := Scalar.indexCast v10702
  let c33_5794 : Index := 33#32
  ![v10832.toNat, 33]
def k0_off2462 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10834 : Index := Scalar.indexCast v10702
  let c34_5795 : Index := 34#32
  ![v10834.toNat, 34]
def k0_off2463 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10836 : Index := Scalar.indexCast v10702
  let c35_5796 : Index := 35#32
  ![v10836.toNat, 35]
def k0_off2464 (i : grid0.Coords) (v10831 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10838 : Index := Scalar.indexCast v10704
  let c0_5797 : Index := 0#32
  let v10839 : Index := Scalar.indexCast v10831
  let c0_5798 : Index := 0#32
  ![v10838.toNat, 0, v10839.toNat, 0]

def k0_chk865 (i : grid0.Coords) (v10831 : BitVec 32) : Prop :=
  (∀ a, (k0_off2464 i v10831) a + S1x14x1x256.size a ≤ S64x14x24x256.size a)
theorem k0_off2464_inb : ∀ (i : grid0.Coords) (v10831 : BitVec 32) (k0_hw865 : k0_chk865 i v10831), ∀ a, (k0_off2464 i v10831) a + S1x14x1x256.size a ≤ S64x14x24x256.size a := fun i v10831 k0_hw865 => k0_hw865

def k0_off2465 (i : grid0.Coords) (v10833 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10842 : Index := Scalar.indexCast v10704
  let c0_5799 : Index := 0#32
  let v10843 : Index := Scalar.indexCast v10833
  let c0_5800 : Index := 0#32
  ![v10842.toNat, 0, v10843.toNat, 0]

def k0_chk866 (i : grid0.Coords) (v10833 : BitVec 32) : Prop :=
  (∀ a, (k0_off2465 i v10833) a + S1x14x1x256.size a ≤ S64x14x24x256.size a)
theorem k0_off2465_inb : ∀ (i : grid0.Coords) (v10833 : BitVec 32) (k0_hw866 : k0_chk866 i v10833), ∀ a, (k0_off2465 i v10833) a + S1x14x1x256.size a ≤ S64x14x24x256.size a := fun i v10833 k0_hw866 => k0_hw866

def k0_off2466 (i : grid0.Coords) (v10835 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10846 : Index := Scalar.indexCast v10704
  let c0_5801 : Index := 0#32
  let v10847 : Index := Scalar.indexCast v10835
  let c0_5802 : Index := 0#32
  ![v10846.toNat, 0, v10847.toNat, 0]

def k0_chk867 (i : grid0.Coords) (v10835 : BitVec 32) : Prop :=
  (∀ a, (k0_off2466 i v10835) a + S1x14x1x256.size a ≤ S64x14x24x256.size a)
theorem k0_off2466_inb : ∀ (i : grid0.Coords) (v10835 : BitVec 32) (k0_hw867 : k0_chk867 i v10835), ∀ a, (k0_off2466 i v10835) a + S1x14x1x256.size a ≤ S64x14x24x256.size a := fun i v10835 k0_hw867 => k0_hw867

def k0_off2467 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10861 : Index := Scalar.indexCast v10702
  let c36_5810 : Index := 36#32
  ![v10861.toNat, 36]
def k0_off2468 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10863 : Index := Scalar.indexCast v10702
  let c37_5811 : Index := 37#32
  ![v10863.toNat, 37]
def k0_off2469 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10865 : Index := Scalar.indexCast v10702
  let c38_5812 : Index := 38#32
  ![v10865.toNat, 38]
def k0_off2470 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10867 : Index := Scalar.indexCast v10702
  let c39_5813 : Index := 39#32
  ![v10867.toNat, 39]
def k0_off2471 (i : grid0.Coords) (v10862 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10869 : Index := Scalar.indexCast v10704
  let c0_5814 : Index := 0#32
  let v10870 : Index := Scalar.indexCast v10862
  let c0_5815 : Index := 0#32
  ![v10869.toNat, 0, v10870.toNat, 0]

def k0_chk868 (i : grid0.Coords) (v10862 : BitVec 32) : Prop :=
  (∀ a, (k0_off2471 i v10862) a + S1x14x1x256.size a ≤ S64x14x24x256.size a)
theorem k0_off2471_inb : ∀ (i : grid0.Coords) (v10862 : BitVec 32) (k0_hw868 : k0_chk868 i v10862), ∀ a, (k0_off2471 i v10862) a + S1x14x1x256.size a ≤ S64x14x24x256.size a := fun i v10862 k0_hw868 => k0_hw868

def k0_off2472 (i : grid0.Coords) (v10864 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10873 : Index := Scalar.indexCast v10704
  let c0_5816 : Index := 0#32
  let v10874 : Index := Scalar.indexCast v10864
  let c0_5817 : Index := 0#32
  ![v10873.toNat, 0, v10874.toNat, 0]

def k0_chk869 (i : grid0.Coords) (v10864 : BitVec 32) : Prop :=
  (∀ a, (k0_off2472 i v10864) a + S1x14x1x256.size a ≤ S64x14x24x256.size a)
theorem k0_off2472_inb : ∀ (i : grid0.Coords) (v10864 : BitVec 32) (k0_hw869 : k0_chk869 i v10864), ∀ a, (k0_off2472 i v10864) a + S1x14x1x256.size a ≤ S64x14x24x256.size a := fun i v10864 k0_hw869 => k0_hw869

def k0_off2473 (i : grid0.Coords) (v10866 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10877 : Index := Scalar.indexCast v10704
  let c0_5818 : Index := 0#32
  let v10878 : Index := Scalar.indexCast v10866
  let c0_5819 : Index := 0#32
  ![v10877.toNat, 0, v10878.toNat, 0]

def k0_chk870 (i : grid0.Coords) (v10866 : BitVec 32) : Prop :=
  (∀ a, (k0_off2473 i v10866) a + S1x14x1x256.size a ≤ S64x14x24x256.size a)
theorem k0_off2473_inb : ∀ (i : grid0.Coords) (v10866 : BitVec 32) (k0_hw870 : k0_chk870 i v10866), ∀ a, (k0_off2473 i v10866) a + S1x14x1x256.size a ≤ S64x14x24x256.size a := fun i v10866 k0_hw870 => k0_hw870

def k0_off2474 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10892 : Index := Scalar.indexCast v10702
  let c40_5827 : Index := 40#32
  ![v10892.toNat, 40]
def k0_off2475 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10894 : Index := Scalar.indexCast v10702
  let c41_5828 : Index := 41#32
  ![v10894.toNat, 41]
def k0_off2476 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10896 : Index := Scalar.indexCast v10702
  let c42_5829 : Index := 42#32
  ![v10896.toNat, 42]
def k0_off2477 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10898 : Index := Scalar.indexCast v10702
  let c43_5830 : Index := 43#32
  ![v10898.toNat, 43]
def k0_off2478 (i : grid0.Coords) (v10893 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10900 : Index := Scalar.indexCast v10704
  let c0_5831 : Index := 0#32
  let v10901 : Index := Scalar.indexCast v10893
  let c0_5832 : Index := 0#32
  ![v10900.toNat, 0, v10901.toNat, 0]

def k0_chk871 (i : grid0.Coords) (v10893 : BitVec 32) : Prop :=
  (∀ a, (k0_off2478 i v10893) a + S1x14x1x256.size a ≤ S64x14x24x256.size a)
theorem k0_off2478_inb : ∀ (i : grid0.Coords) (v10893 : BitVec 32) (k0_hw871 : k0_chk871 i v10893), ∀ a, (k0_off2478 i v10893) a + S1x14x1x256.size a ≤ S64x14x24x256.size a := fun i v10893 k0_hw871 => k0_hw871

def k0_off2479 (i : grid0.Coords) (v10895 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10904 : Index := Scalar.indexCast v10704
  let c0_5833 : Index := 0#32
  let v10905 : Index := Scalar.indexCast v10895
  let c0_5834 : Index := 0#32
  ![v10904.toNat, 0, v10905.toNat, 0]

def k0_chk872 (i : grid0.Coords) (v10895 : BitVec 32) : Prop :=
  (∀ a, (k0_off2479 i v10895) a + S1x14x1x256.size a ≤ S64x14x24x256.size a)
theorem k0_off2479_inb : ∀ (i : grid0.Coords) (v10895 : BitVec 32) (k0_hw872 : k0_chk872 i v10895), ∀ a, (k0_off2479 i v10895) a + S1x14x1x256.size a ≤ S64x14x24x256.size a := fun i v10895 k0_hw872 => k0_hw872

def k0_off2480 (i : grid0.Coords) (v10897 : BitVec 32) : Fin 4 → Nat :=
  let c32_i32_5722 : BitVec 32 := 32#32
  let arg0 : BitVec 32 := BitVec.ofNat 32 (i 0).val
  let c2_i32 : BitVec 32 := 2#32
  let v0 : BitVec 32 := Scalar.remsi arg0 c2_i32
  let v10703 : BitVec 32 := Scalar.muli c32_i32_5722 v0
  let c27_i32_5723 : BitVec 32 := 27#32
  let v10704 : BitVec 32 := Scalar.addi v10703 c27_i32_5723
  let v10908 : Index := Scalar.indexCast v10704
  let c0_5835 : Index := 0#32
  let v10909 : Index := Scalar.indexCast v10897
  let c0_5836 : Index := 0#32
  ![v10908.toNat, 0, v10909.toNat, 0]

def k0_chk873 (i : grid0.Coords) (v10897 : BitVec 32) : Prop :=
  (∀ a, (k0_off2480 i v10897) a + S1x14x1x256.size a ≤ S64x14x24x256.size a)
theorem k0_off2480_inb : ∀ (i : grid0.Coords) (v10897 : BitVec 32) (k0_hw873 : k0_chk873 i v10897), ∀ a, (k0_off2480 i v10897) a + S1x14x1x256.size a ≤ S64x14x24x256.size a := fun i v10897 k0_hw873 => k0_hw873

def k0_off2481 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10924 : Index := Scalar.indexCast v10702
  let c44_5844 : Index := 44#32
  ![v10924.toNat, 44]
def k0_off2482 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10926 : Index := Scalar.indexCast v10702
  let c45_5845 : Index := 45#32
  ![v10926.toNat, 45]
def k0_off2483 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10928 : Index := Scalar.indexCast v10702
  let c46_5846 : Index := 46#32
  ![v10928.toNat, 46]
def k0_off2484 (v10925 : BitVec 32) : Fin 4 → Nat :=
  let c27_5847 : Index := 27#32
  let v10930 : Index := Scalar.indexCast v10925
  let c0_5848 : Index := 0#32
  let c0_5849 : Index := 0#32
  ![27, v10930.toNat, 0, 0]

def k0_chk874 (v10925 : BitVec 32) : Prop :=
  (∀ a, (k0_off2484 v10925) a + S1x3x7x256.size a ≤ S32x14x7x256.size a)
theorem k0_off2484_inb : ∀ (v10925 : BitVec 32) (k0_hw874 : k0_chk874 v10925), ∀ a, (k0_off2484 v10925) a + S1x3x7x256.size a ≤ S32x14x7x256.size a := fun v10925 k0_hw874 => k0_hw874

def k0_off2485 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10946 : Index := Scalar.indexCast v10702
  let c47_5855 : Index := 47#32
  ![v10946.toNat, 47]
def k0_off2486 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10948 : Index := Scalar.indexCast v10702
  let c48_5856 : Index := 48#32
  ![v10948.toNat, 48]
def k0_off2487 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10950 : Index := Scalar.indexCast v10702
  let c49_5857 : Index := 49#32
  ![v10950.toNat, 49]
def k0_off2488 (v10947 : BitVec 32) : Fin 4 → Nat :=
  let c27_5858 : Index := 27#32
  let v10952 : Index := Scalar.indexCast v10947
  let c0_5859 : Index := 0#32
  let c0_5860 : Index := 0#32
  ![27, v10952.toNat, 0, 0]

def k0_chk875 (v10947 : BitVec 32) : Prop :=
  (∀ a, (k0_off2488 v10947) a + S1x3x7x256.size a ≤ S32x14x7x256.size a)
theorem k0_off2488_inb : ∀ (v10947 : BitVec 32) (k0_hw875 : k0_chk875 v10947), ∀ a, (k0_off2488 v10947) a + S1x3x7x256.size a ≤ S32x14x7x256.size a := fun v10947 k0_hw875 => k0_hw875

def k0_off2489 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10968 : Index := Scalar.indexCast v10702
  let c50_5866 : Index := 50#32
  ![v10968.toNat, 50]
def k0_off2490 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10970 : Index := Scalar.indexCast v10702
  let c51_5867 : Index := 51#32
  ![v10970.toNat, 51]
def k0_off2491 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10972 : Index := Scalar.indexCast v10702
  let c52_5868 : Index := 52#32
  ![v10972.toNat, 52]
def k0_off2492 (v10969 : BitVec 32) : Fin 4 → Nat :=
  let c27_5869 : Index := 27#32
  let v10974 : Index := Scalar.indexCast v10969
  let c0_5870 : Index := 0#32
  let c0_5871 : Index := 0#32
  ![27, v10974.toNat, 0, 0]

def k0_chk876 (v10969 : BitVec 32) : Prop :=
  (∀ a, (k0_off2492 v10969) a + S1x3x7x256.size a ≤ S32x14x7x256.size a)
theorem k0_off2492_inb : ∀ (v10969 : BitVec 32) (k0_hw876 : k0_chk876 v10969), ∀ a, (k0_off2492 v10969) a + S1x3x7x256.size a ≤ S32x14x7x256.size a := fun v10969 k0_hw876 => k0_hw876

def k0_off2493 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10990 : Index := Scalar.indexCast v10702
  let c53_5877 : Index := 53#32
  ![v10990.toNat, 53]
def k0_off2494 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10992 : Index := Scalar.indexCast v10702
  let c54_5878 : Index := 54#32
  ![v10992.toNat, 54]
def k0_off2495 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v10994 : Index := Scalar.indexCast v10702
  let c55_5879 : Index := 55#32
  ![v10994.toNat, 55]
def k0_off2496 (v10991 : BitVec 32) : Fin 4 → Nat :=
  let c27_5880 : Index := 27#32
  let v10996 : Index := Scalar.indexCast v10991
  let c0_5881 : Index := 0#32
  let c0_5882 : Index := 0#32
  ![27, v10996.toNat, 0, 0]

def k0_chk877 (v10991 : BitVec 32) : Prop :=
  (∀ a, (k0_off2496 v10991) a + S1x3x7x256.size a ≤ S32x14x7x256.size a)
theorem k0_off2496_inb : ∀ (v10991 : BitVec 32) (k0_hw877 : k0_chk877 v10991), ∀ a, (k0_off2496 v10991) a + S1x3x7x256.size a ≤ S32x14x7x256.size a := fun v10991 k0_hw877 => k0_hw877

def k0_off2497 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11012 : Index := Scalar.indexCast v10702
  let c56_5888 : Index := 56#32
  ![v11012.toNat, 56]
def k0_off2498 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11014 : Index := Scalar.indexCast v10702
  let c57_5889 : Index := 57#32
  ![v11014.toNat, 57]
def k0_off2499 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11016 : Index := Scalar.indexCast v10702
  let c58_5890 : Index := 58#32
  ![v11016.toNat, 58]
def k0_off2500 (v11013 : BitVec 32) : Fin 4 → Nat :=
  let c27_5891 : Index := 27#32
  let v11018 : Index := Scalar.indexCast v11013
  let c0_5892 : Index := 0#32
  let c0_5893 : Index := 0#32
  ![27, v11018.toNat, 0, 0]

def k0_chk878 (v11013 : BitVec 32) : Prop :=
  (∀ a, (k0_off2500 v11013) a + S1x3x7x256.size a ≤ S32x14x7x256.size a)
theorem k0_off2500_inb : ∀ (v11013 : BitVec 32) (k0_hw878 : k0_chk878 v11013), ∀ a, (k0_off2500 v11013) a + S1x3x7x256.size a ≤ S32x14x7x256.size a := fun v11013 k0_hw878 => k0_hw878

def k0_off2501 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11034 : Index := Scalar.indexCast v10702
  let c59_5899 : Index := 59#32
  ![v11034.toNat, 59]
def k0_off2502 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11036 : Index := Scalar.indexCast v10702
  let c60_5900 : Index := 60#32
  ![v11036.toNat, 60]
def k0_off2503 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11038 : Index := Scalar.indexCast v10702
  let c61_5901 : Index := 61#32
  ![v11038.toNat, 61]
def k0_off2504 (v11035 : BitVec 32) : Fin 4 → Nat :=
  let c27_5902 : Index := 27#32
  let v11040 : Index := Scalar.indexCast v11035
  let c0_5903 : Index := 0#32
  let c0_5904 : Index := 0#32
  ![27, v11040.toNat, 0, 0]

def k0_chk879 (v11035 : BitVec 32) : Prop :=
  (∀ a, (k0_off2504 v11035) a + S1x3x7x256.size a ≤ S32x14x7x256.size a)
theorem k0_off2504_inb : ∀ (v11035 : BitVec 32) (k0_hw879 : k0_chk879 v11035), ∀ a, (k0_off2504 v11035) a + S1x3x7x256.size a ≤ S32x14x7x256.size a := fun v11035 k0_hw879 => k0_hw879

def k0_off2505 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11056 : Index := Scalar.indexCast v10702
  let c62_5910 : Index := 62#32
  ![v11056.toNat, 62]
def k0_off2506 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11058 : Index := Scalar.indexCast v10702
  let c63_5911 : Index := 63#32
  ![v11058.toNat, 63]
def k0_off2507 (i : grid0.Coords) : Fin 2 → Nat :=
  let c32_i32_5720 : BitVec 32 := 32#32
  let arg0 : BitVec 32 := BitVec.ofNat 32 (i 0).val
  let v10701 : BitVec 32 := Scalar.muli c32_i32_5720 arg0
  let c27_i32_5721 : BitVec 32 := 27#32
  let v10702 : BitVec 32 := Scalar.addi v10701 c27_i32_5721
  let v11060 : Index := Scalar.indexCast v10702
  let c64_5912 : Index := 64#32
  ![v11060.toNat, 64]
def k0_off2508 (v11057 : BitVec 32) : Fin 4 → Nat :=
  let c27_5913 : Index := 27#32
  let v11062 : Index := Scalar.indexCast v11057
  let c0_5914 : Index := 0#32
  let c0_5915 : Index := 0#32
  ![27, v11062.toNat, 0, 0]

def k0_chk880 (v11057 : BitVec 32) : Prop :=
  (∀ a, (k0_off2508 v11057) a + S1x3x7x256.size a ≤ S32x14x7x256.size a)
theorem k0_off2508_inb : ∀ (v11057 : BitVec 32) (k0_hw880 : k0_chk880 v11057), ∀ a, (k0_off2508 v11057) a + S1x3x7x256.size a ≤ S32x14x7x256.size a := fun v11057 k0_hw880 => k0_hw880

def k0_off2509 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11083 : Index := Scalar.indexCast v11079
  let c16_5926 : Index := 16#32
  ![v11083.toNat, 16]
def k0_off2510 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11085 : Index := Scalar.indexCast v11079
  let c17_5927 : Index := 17#32
  ![v11085.toNat, 17]
def k0_off2511 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11087 : Index := Scalar.indexCast v11079
  let c18_5928 : Index := 18#32
  ![v11087.toNat, 18]
def k0_off2512 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11089 : Index := Scalar.indexCast v11079
  let c19_5929 : Index := 19#32
  ![v11089.toNat, 19]
def k0_off2513 (i : grid0.Coords) (v11084 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11091 : Index := Scalar.indexCast v11081
  let c0_5930 : Index := 0#32
  let v11092 : Index := Scalar.indexCast v11084
  let c0_5931 : Index := 0#32
  ![v11091.toNat, 0, v11092.toNat, 0]

def k0_chk881 (i : grid0.Coords) (v11084 : BitVec 32) : Prop :=
  (∀ a, (k0_off2513 i v11084) a + S1x14x1x256.size a ≤ S64x14x24x256.size a)
theorem k0_off2513_inb : ∀ (i : grid0.Coords) (v11084 : BitVec 32) (k0_hw881 : k0_chk881 i v11084), ∀ a, (k0_off2513 i v11084) a + S1x14x1x256.size a ≤ S64x14x24x256.size a := fun i v11084 k0_hw881 => k0_hw881

def k0_off2514 (i : grid0.Coords) (v11086 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11095 : Index := Scalar.indexCast v11081
  let c0_5932 : Index := 0#32
  let v11096 : Index := Scalar.indexCast v11086
  let c0_5933 : Index := 0#32
  ![v11095.toNat, 0, v11096.toNat, 0]

def k0_chk882 (i : grid0.Coords) (v11086 : BitVec 32) : Prop :=
  (∀ a, (k0_off2514 i v11086) a + S1x14x1x256.size a ≤ S64x14x24x256.size a)
theorem k0_off2514_inb : ∀ (i : grid0.Coords) (v11086 : BitVec 32) (k0_hw882 : k0_chk882 i v11086), ∀ a, (k0_off2514 i v11086) a + S1x14x1x256.size a ≤ S64x14x24x256.size a := fun i v11086 k0_hw882 => k0_hw882

def k0_off2515 (i : grid0.Coords) (v11088 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11099 : Index := Scalar.indexCast v11081
  let c0_5934 : Index := 0#32
  let v11100 : Index := Scalar.indexCast v11088
  let c0_5935 : Index := 0#32
  ![v11099.toNat, 0, v11100.toNat, 0]

def k0_chk883 (i : grid0.Coords) (v11088 : BitVec 32) : Prop :=
  (∀ a, (k0_off2515 i v11088) a + S1x14x1x256.size a ≤ S64x14x24x256.size a)
theorem k0_off2515_inb : ∀ (i : grid0.Coords) (v11088 : BitVec 32) (k0_hw883 : k0_chk883 i v11088), ∀ a, (k0_off2515 i v11088) a + S1x14x1x256.size a ≤ S64x14x24x256.size a := fun i v11088 k0_hw883 => k0_hw883

def k0_off2516 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11114 : Index := Scalar.indexCast v11079
  let c20_5943 : Index := 20#32
  ![v11114.toNat, 20]
def k0_off2517 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11116 : Index := Scalar.indexCast v11079
  let c21_5944 : Index := 21#32
  ![v11116.toNat, 21]
def k0_off2518 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11118 : Index := Scalar.indexCast v11079
  let c22_5945 : Index := 22#32
  ![v11118.toNat, 22]
def k0_off2519 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11120 : Index := Scalar.indexCast v11079
  let c23_5946 : Index := 23#32
  ![v11120.toNat, 23]
def k0_off2520 (i : grid0.Coords) (v11115 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11122 : Index := Scalar.indexCast v11081
  let c0_5947 : Index := 0#32
  let v11123 : Index := Scalar.indexCast v11115
  let c0_5948 : Index := 0#32
  ![v11122.toNat, 0, v11123.toNat, 0]

def k0_chk884 (i : grid0.Coords) (v11115 : BitVec 32) : Prop :=
  (∀ a, (k0_off2520 i v11115) a + S1x14x1x256.size a ≤ S64x14x24x256.size a)
theorem k0_off2520_inb : ∀ (i : grid0.Coords) (v11115 : BitVec 32) (k0_hw884 : k0_chk884 i v11115), ∀ a, (k0_off2520 i v11115) a + S1x14x1x256.size a ≤ S64x14x24x256.size a := fun i v11115 k0_hw884 => k0_hw884

def k0_off2521 (i : grid0.Coords) (v11117 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11126 : Index := Scalar.indexCast v11081
  let c0_5949 : Index := 0#32
  let v11127 : Index := Scalar.indexCast v11117
  let c0_5950 : Index := 0#32
  ![v11126.toNat, 0, v11127.toNat, 0]

def k0_chk885 (i : grid0.Coords) (v11117 : BitVec 32) : Prop :=
  (∀ a, (k0_off2521 i v11117) a + S1x14x1x256.size a ≤ S64x14x24x256.size a)
theorem k0_off2521_inb : ∀ (i : grid0.Coords) (v11117 : BitVec 32) (k0_hw885 : k0_chk885 i v11117), ∀ a, (k0_off2521 i v11117) a + S1x14x1x256.size a ≤ S64x14x24x256.size a := fun i v11117 k0_hw885 => k0_hw885

def k0_off2522 (i : grid0.Coords) (v11119 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11130 : Index := Scalar.indexCast v11081
  let c0_5951 : Index := 0#32
  let v11131 : Index := Scalar.indexCast v11119
  let c0_5952 : Index := 0#32
  ![v11130.toNat, 0, v11131.toNat, 0]

def k0_chk886 (i : grid0.Coords) (v11119 : BitVec 32) : Prop :=
  (∀ a, (k0_off2522 i v11119) a + S1x14x1x256.size a ≤ S64x14x24x256.size a)
theorem k0_off2522_inb : ∀ (i : grid0.Coords) (v11119 : BitVec 32) (k0_hw886 : k0_chk886 i v11119), ∀ a, (k0_off2522 i v11119) a + S1x14x1x256.size a ≤ S64x14x24x256.size a := fun i v11119 k0_hw886 => k0_hw886

def k0_off2523 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11145 : Index := Scalar.indexCast v11079
  let c24_5960 : Index := 24#32
  ![v11145.toNat, 24]
def k0_off2524 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11147 : Index := Scalar.indexCast v11079
  let c25_5961 : Index := 25#32
  ![v11147.toNat, 25]
def k0_off2525 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11149 : Index := Scalar.indexCast v11079
  let c26_5962 : Index := 26#32
  ![v11149.toNat, 26]
def k0_off2526 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11151 : Index := Scalar.indexCast v11079
  let c27_5963 : Index := 27#32
  ![v11151.toNat, 27]
def k0_off2527 (i : grid0.Coords) (v11146 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11153 : Index := Scalar.indexCast v11081
  let c0_5964 : Index := 0#32
  let v11154 : Index := Scalar.indexCast v11146
  let c0_5965 : Index := 0#32
  ![v11153.toNat, 0, v11154.toNat, 0]

def k0_chk887 (i : grid0.Coords) (v11146 : BitVec 32) : Prop :=
  (∀ a, (k0_off2527 i v11146) a + S1x14x1x256.size a ≤ S64x14x24x256.size a)
theorem k0_off2527_inb : ∀ (i : grid0.Coords) (v11146 : BitVec 32) (k0_hw887 : k0_chk887 i v11146), ∀ a, (k0_off2527 i v11146) a + S1x14x1x256.size a ≤ S64x14x24x256.size a := fun i v11146 k0_hw887 => k0_hw887

def k0_off2528 (i : grid0.Coords) (v11148 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11157 : Index := Scalar.indexCast v11081
  let c0_5966 : Index := 0#32
  let v11158 : Index := Scalar.indexCast v11148
  let c0_5967 : Index := 0#32
  ![v11157.toNat, 0, v11158.toNat, 0]

def k0_chk888 (i : grid0.Coords) (v11148 : BitVec 32) : Prop :=
  (∀ a, (k0_off2528 i v11148) a + S1x14x1x256.size a ≤ S64x14x24x256.size a)
theorem k0_off2528_inb : ∀ (i : grid0.Coords) (v11148 : BitVec 32) (k0_hw888 : k0_chk888 i v11148), ∀ a, (k0_off2528 i v11148) a + S1x14x1x256.size a ≤ S64x14x24x256.size a := fun i v11148 k0_hw888 => k0_hw888

def k0_off2529 (i : grid0.Coords) (v11150 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11161 : Index := Scalar.indexCast v11081
  let c0_5968 : Index := 0#32
  let v11162 : Index := Scalar.indexCast v11150
  let c0_5969 : Index := 0#32
  ![v11161.toNat, 0, v11162.toNat, 0]

def k0_chk889 (i : grid0.Coords) (v11150 : BitVec 32) : Prop :=
  (∀ a, (k0_off2529 i v11150) a + S1x14x1x256.size a ≤ S64x14x24x256.size a)
theorem k0_off2529_inb : ∀ (i : grid0.Coords) (v11150 : BitVec 32) (k0_hw889 : k0_chk889 i v11150), ∀ a, (k0_off2529 i v11150) a + S1x14x1x256.size a ≤ S64x14x24x256.size a := fun i v11150 k0_hw889 => k0_hw889

def k0_off2530 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11176 : Index := Scalar.indexCast v11079
  let c28_5977 : Index := 28#32
  ![v11176.toNat, 28]
def k0_off2531 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11178 : Index := Scalar.indexCast v11079
  let c29_5978 : Index := 29#32
  ![v11178.toNat, 29]
def k0_off2532 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11180 : Index := Scalar.indexCast v11079
  let c30_5979 : Index := 30#32
  ![v11180.toNat, 30]
def k0_off2533 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11182 : Index := Scalar.indexCast v11079
  let c31_5980 : Index := 31#32
  ![v11182.toNat, 31]
def k0_off2534 (i : grid0.Coords) (v11177 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11184 : Index := Scalar.indexCast v11081
  let c0_5981 : Index := 0#32
  let v11185 : Index := Scalar.indexCast v11177
  let c0_5982 : Index := 0#32
  ![v11184.toNat, 0, v11185.toNat, 0]

def k0_chk890 (i : grid0.Coords) (v11177 : BitVec 32) : Prop :=
  (∀ a, (k0_off2534 i v11177) a + S1x14x1x256.size a ≤ S64x14x24x256.size a)
theorem k0_off2534_inb : ∀ (i : grid0.Coords) (v11177 : BitVec 32) (k0_hw890 : k0_chk890 i v11177), ∀ a, (k0_off2534 i v11177) a + S1x14x1x256.size a ≤ S64x14x24x256.size a := fun i v11177 k0_hw890 => k0_hw890

def k0_off2535 (i : grid0.Coords) (v11179 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11188 : Index := Scalar.indexCast v11081
  let c0_5983 : Index := 0#32
  let v11189 : Index := Scalar.indexCast v11179
  let c0_5984 : Index := 0#32
  ![v11188.toNat, 0, v11189.toNat, 0]

def k0_chk891 (i : grid0.Coords) (v11179 : BitVec 32) : Prop :=
  (∀ a, (k0_off2535 i v11179) a + S1x14x1x256.size a ≤ S64x14x24x256.size a)
theorem k0_off2535_inb : ∀ (i : grid0.Coords) (v11179 : BitVec 32) (k0_hw891 : k0_chk891 i v11179), ∀ a, (k0_off2535 i v11179) a + S1x14x1x256.size a ≤ S64x14x24x256.size a := fun i v11179 k0_hw891 => k0_hw891

def k0_off2536 (i : grid0.Coords) (v11181 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11192 : Index := Scalar.indexCast v11081
  let c0_5985 : Index := 0#32
  let v11193 : Index := Scalar.indexCast v11181
  let c0_5986 : Index := 0#32
  ![v11192.toNat, 0, v11193.toNat, 0]

def k0_chk892 (i : grid0.Coords) (v11181 : BitVec 32) : Prop :=
  (∀ a, (k0_off2536 i v11181) a + S1x14x1x256.size a ≤ S64x14x24x256.size a)
theorem k0_off2536_inb : ∀ (i : grid0.Coords) (v11181 : BitVec 32) (k0_hw892 : k0_chk892 i v11181), ∀ a, (k0_off2536 i v11181) a + S1x14x1x256.size a ≤ S64x14x24x256.size a := fun i v11181 k0_hw892 => k0_hw892

def k0_off2537 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11207 : Index := Scalar.indexCast v11079
  let c32_5994 : Index := 32#32
  ![v11207.toNat, 32]
def k0_off2538 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11209 : Index := Scalar.indexCast v11079
  let c33_5995 : Index := 33#32
  ![v11209.toNat, 33]
def k0_off2539 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11211 : Index := Scalar.indexCast v11079
  let c34_5996 : Index := 34#32
  ![v11211.toNat, 34]
def k0_off2540 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11213 : Index := Scalar.indexCast v11079
  let c35_5997 : Index := 35#32
  ![v11213.toNat, 35]
def k0_off2541 (i : grid0.Coords) (v11208 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11215 : Index := Scalar.indexCast v11081
  let c0_5998 : Index := 0#32
  let v11216 : Index := Scalar.indexCast v11208
  let c0_5999 : Index := 0#32
  ![v11215.toNat, 0, v11216.toNat, 0]

def k0_chk893 (i : grid0.Coords) (v11208 : BitVec 32) : Prop :=
  (∀ a, (k0_off2541 i v11208) a + S1x14x1x256.size a ≤ S64x14x24x256.size a)
theorem k0_off2541_inb : ∀ (i : grid0.Coords) (v11208 : BitVec 32) (k0_hw893 : k0_chk893 i v11208), ∀ a, (k0_off2541 i v11208) a + S1x14x1x256.size a ≤ S64x14x24x256.size a := fun i v11208 k0_hw893 => k0_hw893

def k0_off2542 (i : grid0.Coords) (v11210 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11219 : Index := Scalar.indexCast v11081
  let c0_6000 : Index := 0#32
  let v11220 : Index := Scalar.indexCast v11210
  let c0_6001 : Index := 0#32
  ![v11219.toNat, 0, v11220.toNat, 0]

def k0_chk894 (i : grid0.Coords) (v11210 : BitVec 32) : Prop :=
  (∀ a, (k0_off2542 i v11210) a + S1x14x1x256.size a ≤ S64x14x24x256.size a)
theorem k0_off2542_inb : ∀ (i : grid0.Coords) (v11210 : BitVec 32) (k0_hw894 : k0_chk894 i v11210), ∀ a, (k0_off2542 i v11210) a + S1x14x1x256.size a ≤ S64x14x24x256.size a := fun i v11210 k0_hw894 => k0_hw894

def k0_off2543 (i : grid0.Coords) (v11212 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11223 : Index := Scalar.indexCast v11081
  let c0_6002 : Index := 0#32
  let v11224 : Index := Scalar.indexCast v11212
  let c0_6003 : Index := 0#32
  ![v11223.toNat, 0, v11224.toNat, 0]

def k0_chk895 (i : grid0.Coords) (v11212 : BitVec 32) : Prop :=
  (∀ a, (k0_off2543 i v11212) a + S1x14x1x256.size a ≤ S64x14x24x256.size a)
theorem k0_off2543_inb : ∀ (i : grid0.Coords) (v11212 : BitVec 32) (k0_hw895 : k0_chk895 i v11212), ∀ a, (k0_off2543 i v11212) a + S1x14x1x256.size a ≤ S64x14x24x256.size a := fun i v11212 k0_hw895 => k0_hw895

def k0_off2544 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11238 : Index := Scalar.indexCast v11079
  let c36_6011 : Index := 36#32
  ![v11238.toNat, 36]
def k0_off2545 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11240 : Index := Scalar.indexCast v11079
  let c37_6012 : Index := 37#32
  ![v11240.toNat, 37]
def k0_off2546 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11242 : Index := Scalar.indexCast v11079
  let c38_6013 : Index := 38#32
  ![v11242.toNat, 38]
def k0_off2547 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11244 : Index := Scalar.indexCast v11079
  let c39_6014 : Index := 39#32
  ![v11244.toNat, 39]
def k0_off2548 (i : grid0.Coords) (v11239 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11246 : Index := Scalar.indexCast v11081
  let c0_6015 : Index := 0#32
  let v11247 : Index := Scalar.indexCast v11239
  let c0_6016 : Index := 0#32
  ![v11246.toNat, 0, v11247.toNat, 0]

def k0_chk896 (i : grid0.Coords) (v11239 : BitVec 32) : Prop :=
  (∀ a, (k0_off2548 i v11239) a + S1x14x1x256.size a ≤ S64x14x24x256.size a)
theorem k0_off2548_inb : ∀ (i : grid0.Coords) (v11239 : BitVec 32) (k0_hw896 : k0_chk896 i v11239), ∀ a, (k0_off2548 i v11239) a + S1x14x1x256.size a ≤ S64x14x24x256.size a := fun i v11239 k0_hw896 => k0_hw896

def k0_off2549 (i : grid0.Coords) (v11241 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11250 : Index := Scalar.indexCast v11081
  let c0_6017 : Index := 0#32
  let v11251 : Index := Scalar.indexCast v11241
  let c0_6018 : Index := 0#32
  ![v11250.toNat, 0, v11251.toNat, 0]

def k0_chk897 (i : grid0.Coords) (v11241 : BitVec 32) : Prop :=
  (∀ a, (k0_off2549 i v11241) a + S1x14x1x256.size a ≤ S64x14x24x256.size a)
theorem k0_off2549_inb : ∀ (i : grid0.Coords) (v11241 : BitVec 32) (k0_hw897 : k0_chk897 i v11241), ∀ a, (k0_off2549 i v11241) a + S1x14x1x256.size a ≤ S64x14x24x256.size a := fun i v11241 k0_hw897 => k0_hw897

def k0_off2550 (i : grid0.Coords) (v11243 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11254 : Index := Scalar.indexCast v11081
  let c0_6019 : Index := 0#32
  let v11255 : Index := Scalar.indexCast v11243
  let c0_6020 : Index := 0#32
  ![v11254.toNat, 0, v11255.toNat, 0]

def k0_chk898 (i : grid0.Coords) (v11243 : BitVec 32) : Prop :=
  (∀ a, (k0_off2550 i v11243) a + S1x14x1x256.size a ≤ S64x14x24x256.size a)
theorem k0_off2550_inb : ∀ (i : grid0.Coords) (v11243 : BitVec 32) (k0_hw898 : k0_chk898 i v11243), ∀ a, (k0_off2550 i v11243) a + S1x14x1x256.size a ≤ S64x14x24x256.size a := fun i v11243 k0_hw898 => k0_hw898

def k0_off2551 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11269 : Index := Scalar.indexCast v11079
  let c40_6028 : Index := 40#32
  ![v11269.toNat, 40]
def k0_off2552 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11271 : Index := Scalar.indexCast v11079
  let c41_6029 : Index := 41#32
  ![v11271.toNat, 41]
def k0_off2553 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11273 : Index := Scalar.indexCast v11079
  let c42_6030 : Index := 42#32
  ![v11273.toNat, 42]
def k0_off2554 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11275 : Index := Scalar.indexCast v11079
  let c43_6031 : Index := 43#32
  ![v11275.toNat, 43]
def k0_off2555 (i : grid0.Coords) (v11270 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11277 : Index := Scalar.indexCast v11081
  let c0_6032 : Index := 0#32
  let v11278 : Index := Scalar.indexCast v11270
  let c0_6033 : Index := 0#32
  ![v11277.toNat, 0, v11278.toNat, 0]

def k0_chk899 (i : grid0.Coords) (v11270 : BitVec 32) : Prop :=
  (∀ a, (k0_off2555 i v11270) a + S1x14x1x256.size a ≤ S64x14x24x256.size a)
theorem k0_off2555_inb : ∀ (i : grid0.Coords) (v11270 : BitVec 32) (k0_hw899 : k0_chk899 i v11270), ∀ a, (k0_off2555 i v11270) a + S1x14x1x256.size a ≤ S64x14x24x256.size a := fun i v11270 k0_hw899 => k0_hw899

def k0_off2556 (i : grid0.Coords) (v11272 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11281 : Index := Scalar.indexCast v11081
  let c0_6034 : Index := 0#32
  let v11282 : Index := Scalar.indexCast v11272
  let c0_6035 : Index := 0#32
  ![v11281.toNat, 0, v11282.toNat, 0]

def k0_chk900 (i : grid0.Coords) (v11272 : BitVec 32) : Prop :=
  (∀ a, (k0_off2556 i v11272) a + S1x14x1x256.size a ≤ S64x14x24x256.size a)
theorem k0_off2556_inb : ∀ (i : grid0.Coords) (v11272 : BitVec 32) (k0_hw900 : k0_chk900 i v11272), ∀ a, (k0_off2556 i v11272) a + S1x14x1x256.size a ≤ S64x14x24x256.size a := fun i v11272 k0_hw900 => k0_hw900

def k0_off2557 (i : grid0.Coords) (v11274 : BitVec 32) : Fin 4 → Nat :=
  let c32_i32_5923 : BitVec 32 := 32#32
  let arg0 : BitVec 32 := BitVec.ofNat 32 (i 0).val
  let c2_i32 : BitVec 32 := 2#32
  let v0 : BitVec 32 := Scalar.remsi arg0 c2_i32
  let v11080 : BitVec 32 := Scalar.muli c32_i32_5923 v0
  let c28_i32_5924 : BitVec 32 := 28#32
  let v11081 : BitVec 32 := Scalar.addi v11080 c28_i32_5924
  let v11285 : Index := Scalar.indexCast v11081
  let c0_6036 : Index := 0#32
  let v11286 : Index := Scalar.indexCast v11274
  let c0_6037 : Index := 0#32
  ![v11285.toNat, 0, v11286.toNat, 0]

def k0_chk901 (i : grid0.Coords) (v11274 : BitVec 32) : Prop :=
  (∀ a, (k0_off2557 i v11274) a + S1x14x1x256.size a ≤ S64x14x24x256.size a)
theorem k0_off2557_inb : ∀ (i : grid0.Coords) (v11274 : BitVec 32) (k0_hw901 : k0_chk901 i v11274), ∀ a, (k0_off2557 i v11274) a + S1x14x1x256.size a ≤ S64x14x24x256.size a := fun i v11274 k0_hw901 => k0_hw901

def k0_off2558 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11301 : Index := Scalar.indexCast v11079
  let c44_6045 : Index := 44#32
  ![v11301.toNat, 44]
def k0_off2559 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11303 : Index := Scalar.indexCast v11079
  let c45_6046 : Index := 45#32
  ![v11303.toNat, 45]
def k0_off2560 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11305 : Index := Scalar.indexCast v11079
  let c46_6047 : Index := 46#32
  ![v11305.toNat, 46]
def k0_off2561 (v11302 : BitVec 32) : Fin 4 → Nat :=
  let c28_6048 : Index := 28#32
  let v11307 : Index := Scalar.indexCast v11302
  let c0_6049 : Index := 0#32
  let c0_6050 : Index := 0#32
  ![28, v11307.toNat, 0, 0]

def k0_chk902 (v11302 : BitVec 32) : Prop :=
  (∀ a, (k0_off2561 v11302) a + S1x3x7x256.size a ≤ S32x14x7x256.size a)
theorem k0_off2561_inb : ∀ (v11302 : BitVec 32) (k0_hw902 : k0_chk902 v11302), ∀ a, (k0_off2561 v11302) a + S1x3x7x256.size a ≤ S32x14x7x256.size a := fun v11302 k0_hw902 => k0_hw902

def k0_off2562 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11323 : Index := Scalar.indexCast v11079
  let c47_6056 : Index := 47#32
  ![v11323.toNat, 47]
def k0_off2563 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11325 : Index := Scalar.indexCast v11079
  let c48_6057 : Index := 48#32
  ![v11325.toNat, 48]
def k0_off2564 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11327 : Index := Scalar.indexCast v11079
  let c49_6058 : Index := 49#32
  ![v11327.toNat, 49]
def k0_off2565 (v11324 : BitVec 32) : Fin 4 → Nat :=
  let c28_6059 : Index := 28#32
  let v11329 : Index := Scalar.indexCast v11324
  let c0_6060 : Index := 0#32
  let c0_6061 : Index := 0#32
  ![28, v11329.toNat, 0, 0]

def k0_chk903 (v11324 : BitVec 32) : Prop :=
  (∀ a, (k0_off2565 v11324) a + S1x3x7x256.size a ≤ S32x14x7x256.size a)
theorem k0_off2565_inb : ∀ (v11324 : BitVec 32) (k0_hw903 : k0_chk903 v11324), ∀ a, (k0_off2565 v11324) a + S1x3x7x256.size a ≤ S32x14x7x256.size a := fun v11324 k0_hw903 => k0_hw903

def k0_off2566 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11345 : Index := Scalar.indexCast v11079
  let c50_6067 : Index := 50#32
  ![v11345.toNat, 50]
def k0_off2567 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11347 : Index := Scalar.indexCast v11079
  let c51_6068 : Index := 51#32
  ![v11347.toNat, 51]
def k0_off2568 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11349 : Index := Scalar.indexCast v11079
  let c52_6069 : Index := 52#32
  ![v11349.toNat, 52]
def k0_off2569 (v11346 : BitVec 32) : Fin 4 → Nat :=
  let c28_6070 : Index := 28#32
  let v11351 : Index := Scalar.indexCast v11346
  let c0_6071 : Index := 0#32
  let c0_6072 : Index := 0#32
  ![28, v11351.toNat, 0, 0]

def k0_chk904 (v11346 : BitVec 32) : Prop :=
  (∀ a, (k0_off2569 v11346) a + S1x3x7x256.size a ≤ S32x14x7x256.size a)
theorem k0_off2569_inb : ∀ (v11346 : BitVec 32) (k0_hw904 : k0_chk904 v11346), ∀ a, (k0_off2569 v11346) a + S1x3x7x256.size a ≤ S32x14x7x256.size a := fun v11346 k0_hw904 => k0_hw904

def k0_off2570 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11367 : Index := Scalar.indexCast v11079
  let c53_6078 : Index := 53#32
  ![v11367.toNat, 53]
def k0_off2571 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11369 : Index := Scalar.indexCast v11079
  let c54_6079 : Index := 54#32
  ![v11369.toNat, 54]
def k0_off2572 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11371 : Index := Scalar.indexCast v11079
  let c55_6080 : Index := 55#32
  ![v11371.toNat, 55]
def k0_off2573 (v11368 : BitVec 32) : Fin 4 → Nat :=
  let c28_6081 : Index := 28#32
  let v11373 : Index := Scalar.indexCast v11368
  let c0_6082 : Index := 0#32
  let c0_6083 : Index := 0#32
  ![28, v11373.toNat, 0, 0]

def k0_chk905 (v11368 : BitVec 32) : Prop :=
  (∀ a, (k0_off2573 v11368) a + S1x3x7x256.size a ≤ S32x14x7x256.size a)
theorem k0_off2573_inb : ∀ (v11368 : BitVec 32) (k0_hw905 : k0_chk905 v11368), ∀ a, (k0_off2573 v11368) a + S1x3x7x256.size a ≤ S32x14x7x256.size a := fun v11368 k0_hw905 => k0_hw905

def k0_off2574 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11389 : Index := Scalar.indexCast v11079
  let c56_6089 : Index := 56#32
  ![v11389.toNat, 56]
def k0_off2575 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11391 : Index := Scalar.indexCast v11079
  let c57_6090 : Index := 57#32
  ![v11391.toNat, 57]
def k0_off2576 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11393 : Index := Scalar.indexCast v11079
  let c58_6091 : Index := 58#32
  ![v11393.toNat, 58]
def k0_off2577 (v11390 : BitVec 32) : Fin 4 → Nat :=
  let c28_6092 : Index := 28#32
  let v11395 : Index := Scalar.indexCast v11390
  let c0_6093 : Index := 0#32
  let c0_6094 : Index := 0#32
  ![28, v11395.toNat, 0, 0]

def k0_chk906 (v11390 : BitVec 32) : Prop :=
  (∀ a, (k0_off2577 v11390) a + S1x3x7x256.size a ≤ S32x14x7x256.size a)
theorem k0_off2577_inb : ∀ (v11390 : BitVec 32) (k0_hw906 : k0_chk906 v11390), ∀ a, (k0_off2577 v11390) a + S1x3x7x256.size a ≤ S32x14x7x256.size a := fun v11390 k0_hw906 => k0_hw906

def k0_off2578 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11411 : Index := Scalar.indexCast v11079
  let c59_6100 : Index := 59#32
  ![v11411.toNat, 59]
def k0_off2579 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11413 : Index := Scalar.indexCast v11079
  let c60_6101 : Index := 60#32
  ![v11413.toNat, 60]
def k0_off2580 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11415 : Index := Scalar.indexCast v11079
  let c61_6102 : Index := 61#32
  ![v11415.toNat, 61]
def k0_off2581 (v11412 : BitVec 32) : Fin 4 → Nat :=
  let c28_6103 : Index := 28#32
  let v11417 : Index := Scalar.indexCast v11412
  let c0_6104 : Index := 0#32
  let c0_6105 : Index := 0#32
  ![28, v11417.toNat, 0, 0]

def k0_chk907 (v11412 : BitVec 32) : Prop :=
  (∀ a, (k0_off2581 v11412) a + S1x3x7x256.size a ≤ S32x14x7x256.size a)
theorem k0_off2581_inb : ∀ (v11412 : BitVec 32) (k0_hw907 : k0_chk907 v11412), ∀ a, (k0_off2581 v11412) a + S1x3x7x256.size a ≤ S32x14x7x256.size a := fun v11412 k0_hw907 => k0_hw907

def k0_off2582 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11433 : Index := Scalar.indexCast v11079
  let c62_6111 : Index := 62#32
  ![v11433.toNat, 62]
def k0_off2583 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11435 : Index := Scalar.indexCast v11079
  let c63_6112 : Index := 63#32
  ![v11435.toNat, 63]
def k0_off2584 (i : grid0.Coords) : Fin 2 → Nat :=
  let c32_i32_5921 : BitVec 32 := 32#32
  let arg0 : BitVec 32 := BitVec.ofNat 32 (i 0).val
  let v11078 : BitVec 32 := Scalar.muli c32_i32_5921 arg0
  let c28_i32_5922 : BitVec 32 := 28#32
  let v11079 : BitVec 32 := Scalar.addi v11078 c28_i32_5922
  let v11437 : Index := Scalar.indexCast v11079
  let c64_6113 : Index := 64#32
  ![v11437.toNat, 64]
def k0_off2585 (v11434 : BitVec 32) : Fin 4 → Nat :=
  let c28_6114 : Index := 28#32
  let v11439 : Index := Scalar.indexCast v11434
  let c0_6115 : Index := 0#32
  let c0_6116 : Index := 0#32
  ![28, v11439.toNat, 0, 0]

def k0_chk908 (v11434 : BitVec 32) : Prop :=
  (∀ a, (k0_off2585 v11434) a + S1x3x7x256.size a ≤ S32x14x7x256.size a)
theorem k0_off2585_inb : ∀ (v11434 : BitVec 32) (k0_hw908 : k0_chk908 v11434), ∀ a, (k0_off2585 v11434) a + S1x3x7x256.size a ≤ S32x14x7x256.size a := fun v11434 k0_hw908 => k0_hw908

def k0_off2586 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11460 : Index := Scalar.indexCast v11456
  let c16_6127 : Index := 16#32
  ![v11460.toNat, 16]
def k0_off2587 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11462 : Index := Scalar.indexCast v11456
  let c17_6128 : Index := 17#32
  ![v11462.toNat, 17]
def k0_off2588 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11464 : Index := Scalar.indexCast v11456
  let c18_6129 : Index := 18#32
  ![v11464.toNat, 18]
def k0_off2589 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11466 : Index := Scalar.indexCast v11456
  let c19_6130 : Index := 19#32
  ![v11466.toNat, 19]
def k0_off2590 (i : grid0.Coords) (v11461 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11468 : Index := Scalar.indexCast v11458
  let c0_6131 : Index := 0#32
  let v11469 : Index := Scalar.indexCast v11461
  let c0_6132 : Index := 0#32
  ![v11468.toNat, 0, v11469.toNat, 0]

def k0_chk909 (i : grid0.Coords) (v11461 : BitVec 32) : Prop :=
  (∀ a, (k0_off2590 i v11461) a + S1x14x1x256.size a ≤ S64x14x24x256.size a)
theorem k0_off2590_inb : ∀ (i : grid0.Coords) (v11461 : BitVec 32) (k0_hw909 : k0_chk909 i v11461), ∀ a, (k0_off2590 i v11461) a + S1x14x1x256.size a ≤ S64x14x24x256.size a := fun i v11461 k0_hw909 => k0_hw909

def k0_off2591 (i : grid0.Coords) (v11463 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11472 : Index := Scalar.indexCast v11458
  let c0_6133 : Index := 0#32
  let v11473 : Index := Scalar.indexCast v11463
  let c0_6134 : Index := 0#32
  ![v11472.toNat, 0, v11473.toNat, 0]

def k0_chk910 (i : grid0.Coords) (v11463 : BitVec 32) : Prop :=
  (∀ a, (k0_off2591 i v11463) a + S1x14x1x256.size a ≤ S64x14x24x256.size a)
theorem k0_off2591_inb : ∀ (i : grid0.Coords) (v11463 : BitVec 32) (k0_hw910 : k0_chk910 i v11463), ∀ a, (k0_off2591 i v11463) a + S1x14x1x256.size a ≤ S64x14x24x256.size a := fun i v11463 k0_hw910 => k0_hw910

def k0_off2592 (i : grid0.Coords) (v11465 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11476 : Index := Scalar.indexCast v11458
  let c0_6135 : Index := 0#32
  let v11477 : Index := Scalar.indexCast v11465
  let c0_6136 : Index := 0#32
  ![v11476.toNat, 0, v11477.toNat, 0]

def k0_chk911 (i : grid0.Coords) (v11465 : BitVec 32) : Prop :=
  (∀ a, (k0_off2592 i v11465) a + S1x14x1x256.size a ≤ S64x14x24x256.size a)
theorem k0_off2592_inb : ∀ (i : grid0.Coords) (v11465 : BitVec 32) (k0_hw911 : k0_chk911 i v11465), ∀ a, (k0_off2592 i v11465) a + S1x14x1x256.size a ≤ S64x14x24x256.size a := fun i v11465 k0_hw911 => k0_hw911

def k0_off2593 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11491 : Index := Scalar.indexCast v11456
  let c20_6144 : Index := 20#32
  ![v11491.toNat, 20]
def k0_off2594 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11493 : Index := Scalar.indexCast v11456
  let c21_6145 : Index := 21#32
  ![v11493.toNat, 21]
def k0_off2595 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11495 : Index := Scalar.indexCast v11456
  let c22_6146 : Index := 22#32
  ![v11495.toNat, 22]
def k0_off2596 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11497 : Index := Scalar.indexCast v11456
  let c23_6147 : Index := 23#32
  ![v11497.toNat, 23]
def k0_off2597 (i : grid0.Coords) (v11492 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11499 : Index := Scalar.indexCast v11458
  let c0_6148 : Index := 0#32
  let v11500 : Index := Scalar.indexCast v11492
  let c0_6149 : Index := 0#32
  ![v11499.toNat, 0, v11500.toNat, 0]

def k0_chk912 (i : grid0.Coords) (v11492 : BitVec 32) : Prop :=
  (∀ a, (k0_off2597 i v11492) a + S1x14x1x256.size a ≤ S64x14x24x256.size a)
theorem k0_off2597_inb : ∀ (i : grid0.Coords) (v11492 : BitVec 32) (k0_hw912 : k0_chk912 i v11492), ∀ a, (k0_off2597 i v11492) a + S1x14x1x256.size a ≤ S64x14x24x256.size a := fun i v11492 k0_hw912 => k0_hw912

def k0_off2598 (i : grid0.Coords) (v11494 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11503 : Index := Scalar.indexCast v11458
  let c0_6150 : Index := 0#32
  let v11504 : Index := Scalar.indexCast v11494
  let c0_6151 : Index := 0#32
  ![v11503.toNat, 0, v11504.toNat, 0]

def k0_chk913 (i : grid0.Coords) (v11494 : BitVec 32) : Prop :=
  (∀ a, (k0_off2598 i v11494) a + S1x14x1x256.size a ≤ S64x14x24x256.size a)
theorem k0_off2598_inb : ∀ (i : grid0.Coords) (v11494 : BitVec 32) (k0_hw913 : k0_chk913 i v11494), ∀ a, (k0_off2598 i v11494) a + S1x14x1x256.size a ≤ S64x14x24x256.size a := fun i v11494 k0_hw913 => k0_hw913

def k0_off2599 (i : grid0.Coords) (v11496 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11507 : Index := Scalar.indexCast v11458
  let c0_6152 : Index := 0#32
  let v11508 : Index := Scalar.indexCast v11496
  let c0_6153 : Index := 0#32
  ![v11507.toNat, 0, v11508.toNat, 0]

def k0_chk914 (i : grid0.Coords) (v11496 : BitVec 32) : Prop :=
  (∀ a, (k0_off2599 i v11496) a + S1x14x1x256.size a ≤ S64x14x24x256.size a)
theorem k0_off2599_inb : ∀ (i : grid0.Coords) (v11496 : BitVec 32) (k0_hw914 : k0_chk914 i v11496), ∀ a, (k0_off2599 i v11496) a + S1x14x1x256.size a ≤ S64x14x24x256.size a := fun i v11496 k0_hw914 => k0_hw914

def k0_off2600 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11522 : Index := Scalar.indexCast v11456
  let c24_6161 : Index := 24#32
  ![v11522.toNat, 24]
def k0_off2601 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11524 : Index := Scalar.indexCast v11456
  let c25_6162 : Index := 25#32
  ![v11524.toNat, 25]
def k0_off2602 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11526 : Index := Scalar.indexCast v11456
  let c26_6163 : Index := 26#32
  ![v11526.toNat, 26]
def k0_off2603 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11528 : Index := Scalar.indexCast v11456
  let c27_6164 : Index := 27#32
  ![v11528.toNat, 27]
def k0_off2604 (i : grid0.Coords) (v11523 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11530 : Index := Scalar.indexCast v11458
  let c0_6165 : Index := 0#32
  let v11531 : Index := Scalar.indexCast v11523
  let c0_6166 : Index := 0#32
  ![v11530.toNat, 0, v11531.toNat, 0]

def k0_chk915 (i : grid0.Coords) (v11523 : BitVec 32) : Prop :=
  (∀ a, (k0_off2604 i v11523) a + S1x14x1x256.size a ≤ S64x14x24x256.size a)
theorem k0_off2604_inb : ∀ (i : grid0.Coords) (v11523 : BitVec 32) (k0_hw915 : k0_chk915 i v11523), ∀ a, (k0_off2604 i v11523) a + S1x14x1x256.size a ≤ S64x14x24x256.size a := fun i v11523 k0_hw915 => k0_hw915

def k0_off2605 (i : grid0.Coords) (v11525 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11534 : Index := Scalar.indexCast v11458
  let c0_6167 : Index := 0#32
  let v11535 : Index := Scalar.indexCast v11525
  let c0_6168 : Index := 0#32
  ![v11534.toNat, 0, v11535.toNat, 0]

def k0_chk916 (i : grid0.Coords) (v11525 : BitVec 32) : Prop :=
  (∀ a, (k0_off2605 i v11525) a + S1x14x1x256.size a ≤ S64x14x24x256.size a)
theorem k0_off2605_inb : ∀ (i : grid0.Coords) (v11525 : BitVec 32) (k0_hw916 : k0_chk916 i v11525), ∀ a, (k0_off2605 i v11525) a + S1x14x1x256.size a ≤ S64x14x24x256.size a := fun i v11525 k0_hw916 => k0_hw916

def k0_off2606 (i : grid0.Coords) (v11527 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11538 : Index := Scalar.indexCast v11458
  let c0_6169 : Index := 0#32
  let v11539 : Index := Scalar.indexCast v11527
  let c0_6170 : Index := 0#32
  ![v11538.toNat, 0, v11539.toNat, 0]

def k0_chk917 (i : grid0.Coords) (v11527 : BitVec 32) : Prop :=
  (∀ a, (k0_off2606 i v11527) a + S1x14x1x256.size a ≤ S64x14x24x256.size a)
theorem k0_off2606_inb : ∀ (i : grid0.Coords) (v11527 : BitVec 32) (k0_hw917 : k0_chk917 i v11527), ∀ a, (k0_off2606 i v11527) a + S1x14x1x256.size a ≤ S64x14x24x256.size a := fun i v11527 k0_hw917 => k0_hw917

def k0_off2607 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11553 : Index := Scalar.indexCast v11456
  let c28_6178 : Index := 28#32
  ![v11553.toNat, 28]
def k0_off2608 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11555 : Index := Scalar.indexCast v11456
  let c29_6179 : Index := 29#32
  ![v11555.toNat, 29]
def k0_off2609 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11557 : Index := Scalar.indexCast v11456
  let c30_6180 : Index := 30#32
  ![v11557.toNat, 30]
def k0_off2610 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11559 : Index := Scalar.indexCast v11456
  let c31_6181 : Index := 31#32
  ![v11559.toNat, 31]
def k0_off2611 (i : grid0.Coords) (v11554 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11561 : Index := Scalar.indexCast v11458
  let c0_6182 : Index := 0#32
  let v11562 : Index := Scalar.indexCast v11554
  let c0_6183 : Index := 0#32
  ![v11561.toNat, 0, v11562.toNat, 0]

def k0_chk918 (i : grid0.Coords) (v11554 : BitVec 32) : Prop :=
  (∀ a, (k0_off2611 i v11554) a + S1x14x1x256.size a ≤ S64x14x24x256.size a)
theorem k0_off2611_inb : ∀ (i : grid0.Coords) (v11554 : BitVec 32) (k0_hw918 : k0_chk918 i v11554), ∀ a, (k0_off2611 i v11554) a + S1x14x1x256.size a ≤ S64x14x24x256.size a := fun i v11554 k0_hw918 => k0_hw918

def k0_off2612 (i : grid0.Coords) (v11556 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11565 : Index := Scalar.indexCast v11458
  let c0_6184 : Index := 0#32
  let v11566 : Index := Scalar.indexCast v11556
  let c0_6185 : Index := 0#32
  ![v11565.toNat, 0, v11566.toNat, 0]

def k0_chk919 (i : grid0.Coords) (v11556 : BitVec 32) : Prop :=
  (∀ a, (k0_off2612 i v11556) a + S1x14x1x256.size a ≤ S64x14x24x256.size a)
theorem k0_off2612_inb : ∀ (i : grid0.Coords) (v11556 : BitVec 32) (k0_hw919 : k0_chk919 i v11556), ∀ a, (k0_off2612 i v11556) a + S1x14x1x256.size a ≤ S64x14x24x256.size a := fun i v11556 k0_hw919 => k0_hw919

def k0_off2613 (i : grid0.Coords) (v11558 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11569 : Index := Scalar.indexCast v11458
  let c0_6186 : Index := 0#32
  let v11570 : Index := Scalar.indexCast v11558
  let c0_6187 : Index := 0#32
  ![v11569.toNat, 0, v11570.toNat, 0]

def k0_chk920 (i : grid0.Coords) (v11558 : BitVec 32) : Prop :=
  (∀ a, (k0_off2613 i v11558) a + S1x14x1x256.size a ≤ S64x14x24x256.size a)
theorem k0_off2613_inb : ∀ (i : grid0.Coords) (v11558 : BitVec 32) (k0_hw920 : k0_chk920 i v11558), ∀ a, (k0_off2613 i v11558) a + S1x14x1x256.size a ≤ S64x14x24x256.size a := fun i v11558 k0_hw920 => k0_hw920

def k0_off2614 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11584 : Index := Scalar.indexCast v11456
  let c32_6195 : Index := 32#32
  ![v11584.toNat, 32]
def k0_off2615 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11586 : Index := Scalar.indexCast v11456
  let c33_6196 : Index := 33#32
  ![v11586.toNat, 33]
def k0_off2616 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11588 : Index := Scalar.indexCast v11456
  let c34_6197 : Index := 34#32
  ![v11588.toNat, 34]
def k0_off2617 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11590 : Index := Scalar.indexCast v11456
  let c35_6198 : Index := 35#32
  ![v11590.toNat, 35]
def k0_off2618 (i : grid0.Coords) (v11585 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11592 : Index := Scalar.indexCast v11458
  let c0_6199 : Index := 0#32
  let v11593 : Index := Scalar.indexCast v11585
  let c0_6200 : Index := 0#32
  ![v11592.toNat, 0, v11593.toNat, 0]

def k0_chk921 (i : grid0.Coords) (v11585 : BitVec 32) : Prop :=
  (∀ a, (k0_off2618 i v11585) a + S1x14x1x256.size a ≤ S64x14x24x256.size a)
theorem k0_off2618_inb : ∀ (i : grid0.Coords) (v11585 : BitVec 32) (k0_hw921 : k0_chk921 i v11585), ∀ a, (k0_off2618 i v11585) a + S1x14x1x256.size a ≤ S64x14x24x256.size a := fun i v11585 k0_hw921 => k0_hw921

def k0_off2619 (i : grid0.Coords) (v11587 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11596 : Index := Scalar.indexCast v11458
  let c0_6201 : Index := 0#32
  let v11597 : Index := Scalar.indexCast v11587
  let c0_6202 : Index := 0#32
  ![v11596.toNat, 0, v11597.toNat, 0]

def k0_chk922 (i : grid0.Coords) (v11587 : BitVec 32) : Prop :=
  (∀ a, (k0_off2619 i v11587) a + S1x14x1x256.size a ≤ S64x14x24x256.size a)
theorem k0_off2619_inb : ∀ (i : grid0.Coords) (v11587 : BitVec 32) (k0_hw922 : k0_chk922 i v11587), ∀ a, (k0_off2619 i v11587) a + S1x14x1x256.size a ≤ S64x14x24x256.size a := fun i v11587 k0_hw922 => k0_hw922

def k0_off2620 (i : grid0.Coords) (v11589 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11600 : Index := Scalar.indexCast v11458
  let c0_6203 : Index := 0#32
  let v11601 : Index := Scalar.indexCast v11589
  let c0_6204 : Index := 0#32
  ![v11600.toNat, 0, v11601.toNat, 0]

def k0_chk923 (i : grid0.Coords) (v11589 : BitVec 32) : Prop :=
  (∀ a, (k0_off2620 i v11589) a + S1x14x1x256.size a ≤ S64x14x24x256.size a)
theorem k0_off2620_inb : ∀ (i : grid0.Coords) (v11589 : BitVec 32) (k0_hw923 : k0_chk923 i v11589), ∀ a, (k0_off2620 i v11589) a + S1x14x1x256.size a ≤ S64x14x24x256.size a := fun i v11589 k0_hw923 => k0_hw923

def k0_off2621 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11615 : Index := Scalar.indexCast v11456
  let c36_6212 : Index := 36#32
  ![v11615.toNat, 36]
def k0_off2622 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11617 : Index := Scalar.indexCast v11456
  let c37_6213 : Index := 37#32
  ![v11617.toNat, 37]
def k0_off2623 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11619 : Index := Scalar.indexCast v11456
  let c38_6214 : Index := 38#32
  ![v11619.toNat, 38]
def k0_off2624 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11621 : Index := Scalar.indexCast v11456
  let c39_6215 : Index := 39#32
  ![v11621.toNat, 39]
def k0_off2625 (i : grid0.Coords) (v11616 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11623 : Index := Scalar.indexCast v11458
  let c0_6216 : Index := 0#32
  let v11624 : Index := Scalar.indexCast v11616
  let c0_6217 : Index := 0#32
  ![v11623.toNat, 0, v11624.toNat, 0]

def k0_chk924 (i : grid0.Coords) (v11616 : BitVec 32) : Prop :=
  (∀ a, (k0_off2625 i v11616) a + S1x14x1x256.size a ≤ S64x14x24x256.size a)
theorem k0_off2625_inb : ∀ (i : grid0.Coords) (v11616 : BitVec 32) (k0_hw924 : k0_chk924 i v11616), ∀ a, (k0_off2625 i v11616) a + S1x14x1x256.size a ≤ S64x14x24x256.size a := fun i v11616 k0_hw924 => k0_hw924

def k0_off2626 (i : grid0.Coords) (v11618 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11627 : Index := Scalar.indexCast v11458
  let c0_6218 : Index := 0#32
  let v11628 : Index := Scalar.indexCast v11618
  let c0_6219 : Index := 0#32
  ![v11627.toNat, 0, v11628.toNat, 0]

def k0_chk925 (i : grid0.Coords) (v11618 : BitVec 32) : Prop :=
  (∀ a, (k0_off2626 i v11618) a + S1x14x1x256.size a ≤ S64x14x24x256.size a)
theorem k0_off2626_inb : ∀ (i : grid0.Coords) (v11618 : BitVec 32) (k0_hw925 : k0_chk925 i v11618), ∀ a, (k0_off2626 i v11618) a + S1x14x1x256.size a ≤ S64x14x24x256.size a := fun i v11618 k0_hw925 => k0_hw925

def k0_off2627 (i : grid0.Coords) (v11620 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11631 : Index := Scalar.indexCast v11458
  let c0_6220 : Index := 0#32
  let v11632 : Index := Scalar.indexCast v11620
  let c0_6221 : Index := 0#32
  ![v11631.toNat, 0, v11632.toNat, 0]

def k0_chk926 (i : grid0.Coords) (v11620 : BitVec 32) : Prop :=
  (∀ a, (k0_off2627 i v11620) a + S1x14x1x256.size a ≤ S64x14x24x256.size a)
theorem k0_off2627_inb : ∀ (i : grid0.Coords) (v11620 : BitVec 32) (k0_hw926 : k0_chk926 i v11620), ∀ a, (k0_off2627 i v11620) a + S1x14x1x256.size a ≤ S64x14x24x256.size a := fun i v11620 k0_hw926 => k0_hw926

def k0_off2628 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11646 : Index := Scalar.indexCast v11456
  let c40_6229 : Index := 40#32
  ![v11646.toNat, 40]
def k0_off2629 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11648 : Index := Scalar.indexCast v11456
  let c41_6230 : Index := 41#32
  ![v11648.toNat, 41]
def k0_off2630 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11650 : Index := Scalar.indexCast v11456
  let c42_6231 : Index := 42#32
  ![v11650.toNat, 42]
def k0_off2631 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11652 : Index := Scalar.indexCast v11456
  let c43_6232 : Index := 43#32
  ![v11652.toNat, 43]
def k0_off2632 (i : grid0.Coords) (v11647 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11654 : Index := Scalar.indexCast v11458
  let c0_6233 : Index := 0#32
  let v11655 : Index := Scalar.indexCast v11647
  let c0_6234 : Index := 0#32
  ![v11654.toNat, 0, v11655.toNat, 0]

def k0_chk927 (i : grid0.Coords) (v11647 : BitVec 32) : Prop :=
  (∀ a, (k0_off2632 i v11647) a + S1x14x1x256.size a ≤ S64x14x24x256.size a)
theorem k0_off2632_inb : ∀ (i : grid0.Coords) (v11647 : BitVec 32) (k0_hw927 : k0_chk927 i v11647), ∀ a, (k0_off2632 i v11647) a + S1x14x1x256.size a ≤ S64x14x24x256.size a := fun i v11647 k0_hw927 => k0_hw927

def k0_off2633 (i : grid0.Coords) (v11649 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11658 : Index := Scalar.indexCast v11458
  let c0_6235 : Index := 0#32
  let v11659 : Index := Scalar.indexCast v11649
  let c0_6236 : Index := 0#32
  ![v11658.toNat, 0, v11659.toNat, 0]

def k0_chk928 (i : grid0.Coords) (v11649 : BitVec 32) : Prop :=
  (∀ a, (k0_off2633 i v11649) a + S1x14x1x256.size a ≤ S64x14x24x256.size a)
theorem k0_off2633_inb : ∀ (i : grid0.Coords) (v11649 : BitVec 32) (k0_hw928 : k0_chk928 i v11649), ∀ a, (k0_off2633 i v11649) a + S1x14x1x256.size a ≤ S64x14x24x256.size a := fun i v11649 k0_hw928 => k0_hw928

def k0_off2634 (i : grid0.Coords) (v11651 : BitVec 32) : Fin 4 → Nat :=
  let c32_i32_6124 : BitVec 32 := 32#32
  let arg0 : BitVec 32 := BitVec.ofNat 32 (i 0).val
  let c2_i32 : BitVec 32 := 2#32
  let v0 : BitVec 32 := Scalar.remsi arg0 c2_i32
  let v11457 : BitVec 32 := Scalar.muli c32_i32_6124 v0
  let c29_i32_6125 : BitVec 32 := 29#32
  let v11458 : BitVec 32 := Scalar.addi v11457 c29_i32_6125
  let v11662 : Index := Scalar.indexCast v11458
  let c0_6237 : Index := 0#32
  let v11663 : Index := Scalar.indexCast v11651
  let c0_6238 : Index := 0#32
  ![v11662.toNat, 0, v11663.toNat, 0]

def k0_chk929 (i : grid0.Coords) (v11651 : BitVec 32) : Prop :=
  (∀ a, (k0_off2634 i v11651) a + S1x14x1x256.size a ≤ S64x14x24x256.size a)
theorem k0_off2634_inb : ∀ (i : grid0.Coords) (v11651 : BitVec 32) (k0_hw929 : k0_chk929 i v11651), ∀ a, (k0_off2634 i v11651) a + S1x14x1x256.size a ≤ S64x14x24x256.size a := fun i v11651 k0_hw929 => k0_hw929

def k0_off2635 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11678 : Index := Scalar.indexCast v11456
  let c44_6246 : Index := 44#32
  ![v11678.toNat, 44]
def k0_off2636 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11680 : Index := Scalar.indexCast v11456
  let c45_6247 : Index := 45#32
  ![v11680.toNat, 45]
def k0_off2637 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11682 : Index := Scalar.indexCast v11456
  let c46_6248 : Index := 46#32
  ![v11682.toNat, 46]
def k0_off2638 (v11679 : BitVec 32) : Fin 4 → Nat :=
  let c29_6249 : Index := 29#32
  let v11684 : Index := Scalar.indexCast v11679
  let c0_6250 : Index := 0#32
  let c0_6251 : Index := 0#32
  ![29, v11684.toNat, 0, 0]

def k0_chk930 (v11679 : BitVec 32) : Prop :=
  (∀ a, (k0_off2638 v11679) a + S1x3x7x256.size a ≤ S32x14x7x256.size a)
theorem k0_off2638_inb : ∀ (v11679 : BitVec 32) (k0_hw930 : k0_chk930 v11679), ∀ a, (k0_off2638 v11679) a + S1x3x7x256.size a ≤ S32x14x7x256.size a := fun v11679 k0_hw930 => k0_hw930

def k0_off2639 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11700 : Index := Scalar.indexCast v11456
  let c47_6257 : Index := 47#32
  ![v11700.toNat, 47]
def k0_off2640 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11702 : Index := Scalar.indexCast v11456
  let c48_6258 : Index := 48#32
  ![v11702.toNat, 48]
def k0_off2641 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11704 : Index := Scalar.indexCast v11456
  let c49_6259 : Index := 49#32
  ![v11704.toNat, 49]
def k0_off2642 (v11701 : BitVec 32) : Fin 4 → Nat :=
  let c29_6260 : Index := 29#32
  let v11706 : Index := Scalar.indexCast v11701
  let c0_6261 : Index := 0#32
  let c0_6262 : Index := 0#32
  ![29, v11706.toNat, 0, 0]

def k0_chk931 (v11701 : BitVec 32) : Prop :=
  (∀ a, (k0_off2642 v11701) a + S1x3x7x256.size a ≤ S32x14x7x256.size a)
theorem k0_off2642_inb : ∀ (v11701 : BitVec 32) (k0_hw931 : k0_chk931 v11701), ∀ a, (k0_off2642 v11701) a + S1x3x7x256.size a ≤ S32x14x7x256.size a := fun v11701 k0_hw931 => k0_hw931

def k0_off2643 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11722 : Index := Scalar.indexCast v11456
  let c50_6268 : Index := 50#32
  ![v11722.toNat, 50]
def k0_off2644 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11724 : Index := Scalar.indexCast v11456
  let c51_6269 : Index := 51#32
  ![v11724.toNat, 51]
def k0_off2645 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11726 : Index := Scalar.indexCast v11456
  let c52_6270 : Index := 52#32
  ![v11726.toNat, 52]
def k0_off2646 (v11723 : BitVec 32) : Fin 4 → Nat :=
  let c29_6271 : Index := 29#32
  let v11728 : Index := Scalar.indexCast v11723
  let c0_6272 : Index := 0#32
  let c0_6273 : Index := 0#32
  ![29, v11728.toNat, 0, 0]

def k0_chk932 (v11723 : BitVec 32) : Prop :=
  (∀ a, (k0_off2646 v11723) a + S1x3x7x256.size a ≤ S32x14x7x256.size a)
theorem k0_off2646_inb : ∀ (v11723 : BitVec 32) (k0_hw932 : k0_chk932 v11723), ∀ a, (k0_off2646 v11723) a + S1x3x7x256.size a ≤ S32x14x7x256.size a := fun v11723 k0_hw932 => k0_hw932

def k0_off2647 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11744 : Index := Scalar.indexCast v11456
  let c53_6279 : Index := 53#32
  ![v11744.toNat, 53]
def k0_off2648 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11746 : Index := Scalar.indexCast v11456
  let c54_6280 : Index := 54#32
  ![v11746.toNat, 54]
def k0_off2649 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11748 : Index := Scalar.indexCast v11456
  let c55_6281 : Index := 55#32
  ![v11748.toNat, 55]
def k0_off2650 (v11745 : BitVec 32) : Fin 4 → Nat :=
  let c29_6282 : Index := 29#32
  let v11750 : Index := Scalar.indexCast v11745
  let c0_6283 : Index := 0#32
  let c0_6284 : Index := 0#32
  ![29, v11750.toNat, 0, 0]

def k0_chk933 (v11745 : BitVec 32) : Prop :=
  (∀ a, (k0_off2650 v11745) a + S1x3x7x256.size a ≤ S32x14x7x256.size a)
theorem k0_off2650_inb : ∀ (v11745 : BitVec 32) (k0_hw933 : k0_chk933 v11745), ∀ a, (k0_off2650 v11745) a + S1x3x7x256.size a ≤ S32x14x7x256.size a := fun v11745 k0_hw933 => k0_hw933

def k0_off2651 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11766 : Index := Scalar.indexCast v11456
  let c56_6290 : Index := 56#32
  ![v11766.toNat, 56]
def k0_off2652 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11768 : Index := Scalar.indexCast v11456
  let c57_6291 : Index := 57#32
  ![v11768.toNat, 57]
def k0_off2653 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11770 : Index := Scalar.indexCast v11456
  let c58_6292 : Index := 58#32
  ![v11770.toNat, 58]
def k0_off2654 (v11767 : BitVec 32) : Fin 4 → Nat :=
  let c29_6293 : Index := 29#32
  let v11772 : Index := Scalar.indexCast v11767
  let c0_6294 : Index := 0#32
  let c0_6295 : Index := 0#32
  ![29, v11772.toNat, 0, 0]

def k0_chk934 (v11767 : BitVec 32) : Prop :=
  (∀ a, (k0_off2654 v11767) a + S1x3x7x256.size a ≤ S32x14x7x256.size a)
theorem k0_off2654_inb : ∀ (v11767 : BitVec 32) (k0_hw934 : k0_chk934 v11767), ∀ a, (k0_off2654 v11767) a + S1x3x7x256.size a ≤ S32x14x7x256.size a := fun v11767 k0_hw934 => k0_hw934

def k0_off2655 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11788 : Index := Scalar.indexCast v11456
  let c59_6301 : Index := 59#32
  ![v11788.toNat, 59]
def k0_off2656 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11790 : Index := Scalar.indexCast v11456
  let c60_6302 : Index := 60#32
  ![v11790.toNat, 60]
def k0_off2657 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11792 : Index := Scalar.indexCast v11456
  let c61_6303 : Index := 61#32
  ![v11792.toNat, 61]
def k0_off2658 (v11789 : BitVec 32) : Fin 4 → Nat :=
  let c29_6304 : Index := 29#32
  let v11794 : Index := Scalar.indexCast v11789
  let c0_6305 : Index := 0#32
  let c0_6306 : Index := 0#32
  ![29, v11794.toNat, 0, 0]

def k0_chk935 (v11789 : BitVec 32) : Prop :=
  (∀ a, (k0_off2658 v11789) a + S1x3x7x256.size a ≤ S32x14x7x256.size a)
theorem k0_off2658_inb : ∀ (v11789 : BitVec 32) (k0_hw935 : k0_chk935 v11789), ∀ a, (k0_off2658 v11789) a + S1x3x7x256.size a ≤ S32x14x7x256.size a := fun v11789 k0_hw935 => k0_hw935

def k0_off2659 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11810 : Index := Scalar.indexCast v11456
  let c62_6312 : Index := 62#32
  ![v11810.toNat, 62]
def k0_off2660 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11812 : Index := Scalar.indexCast v11456
  let c63_6313 : Index := 63#32
  ![v11812.toNat, 63]
def k0_off2661 (i : grid0.Coords) : Fin 2 → Nat :=
  let c32_i32_6122 : BitVec 32 := 32#32
  let arg0 : BitVec 32 := BitVec.ofNat 32 (i 0).val
  let v11455 : BitVec 32 := Scalar.muli c32_i32_6122 arg0
  let c29_i32_6123 : BitVec 32 := 29#32
  let v11456 : BitVec 32 := Scalar.addi v11455 c29_i32_6123
  let v11814 : Index := Scalar.indexCast v11456
  let c64_6314 : Index := 64#32
  ![v11814.toNat, 64]
def k0_off2662 (v11811 : BitVec 32) : Fin 4 → Nat :=
  let c29_6315 : Index := 29#32
  let v11816 : Index := Scalar.indexCast v11811
  let c0_6316 : Index := 0#32
  let c0_6317 : Index := 0#32
  ![29, v11816.toNat, 0, 0]

def k0_chk936 (v11811 : BitVec 32) : Prop :=
  (∀ a, (k0_off2662 v11811) a + S1x3x7x256.size a ≤ S32x14x7x256.size a)
theorem k0_off2662_inb : ∀ (v11811 : BitVec 32) (k0_hw936 : k0_chk936 v11811), ∀ a, (k0_off2662 v11811) a + S1x3x7x256.size a ≤ S32x14x7x256.size a := fun v11811 k0_hw936 => k0_hw936

def k0_off2663 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11837 : Index := Scalar.indexCast v11833
  let c16_6328 : Index := 16#32
  ![v11837.toNat, 16]
def k0_off2664 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11839 : Index := Scalar.indexCast v11833
  let c17_6329 : Index := 17#32
  ![v11839.toNat, 17]
def k0_off2665 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11841 : Index := Scalar.indexCast v11833
  let c18_6330 : Index := 18#32
  ![v11841.toNat, 18]
def k0_off2666 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11843 : Index := Scalar.indexCast v11833
  let c19_6331 : Index := 19#32
  ![v11843.toNat, 19]
def k0_off2667 (i : grid0.Coords) (v11838 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11845 : Index := Scalar.indexCast v11835
  let c0_6332 : Index := 0#32
  let v11846 : Index := Scalar.indexCast v11838
  let c0_6333 : Index := 0#32
  ![v11845.toNat, 0, v11846.toNat, 0]

def k0_chk937 (i : grid0.Coords) (v11838 : BitVec 32) : Prop :=
  (∀ a, (k0_off2667 i v11838) a + S1x14x1x256.size a ≤ S64x14x24x256.size a)
theorem k0_off2667_inb : ∀ (i : grid0.Coords) (v11838 : BitVec 32) (k0_hw937 : k0_chk937 i v11838), ∀ a, (k0_off2667 i v11838) a + S1x14x1x256.size a ≤ S64x14x24x256.size a := fun i v11838 k0_hw937 => k0_hw937

def k0_off2668 (i : grid0.Coords) (v11840 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11849 : Index := Scalar.indexCast v11835
  let c0_6334 : Index := 0#32
  let v11850 : Index := Scalar.indexCast v11840
  let c0_6335 : Index := 0#32
  ![v11849.toNat, 0, v11850.toNat, 0]

def k0_chk938 (i : grid0.Coords) (v11840 : BitVec 32) : Prop :=
  (∀ a, (k0_off2668 i v11840) a + S1x14x1x256.size a ≤ S64x14x24x256.size a)
theorem k0_off2668_inb : ∀ (i : grid0.Coords) (v11840 : BitVec 32) (k0_hw938 : k0_chk938 i v11840), ∀ a, (k0_off2668 i v11840) a + S1x14x1x256.size a ≤ S64x14x24x256.size a := fun i v11840 k0_hw938 => k0_hw938

def k0_off2669 (i : grid0.Coords) (v11842 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11853 : Index := Scalar.indexCast v11835
  let c0_6336 : Index := 0#32
  let v11854 : Index := Scalar.indexCast v11842
  let c0_6337 : Index := 0#32
  ![v11853.toNat, 0, v11854.toNat, 0]

def k0_chk939 (i : grid0.Coords) (v11842 : BitVec 32) : Prop :=
  (∀ a, (k0_off2669 i v11842) a + S1x14x1x256.size a ≤ S64x14x24x256.size a)
theorem k0_off2669_inb : ∀ (i : grid0.Coords) (v11842 : BitVec 32) (k0_hw939 : k0_chk939 i v11842), ∀ a, (k0_off2669 i v11842) a + S1x14x1x256.size a ≤ S64x14x24x256.size a := fun i v11842 k0_hw939 => k0_hw939

def k0_off2670 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11868 : Index := Scalar.indexCast v11833
  let c20_6345 : Index := 20#32
  ![v11868.toNat, 20]
def k0_off2671 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11870 : Index := Scalar.indexCast v11833
  let c21_6346 : Index := 21#32
  ![v11870.toNat, 21]
def k0_off2672 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11872 : Index := Scalar.indexCast v11833
  let c22_6347 : Index := 22#32
  ![v11872.toNat, 22]
def k0_off2673 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11874 : Index := Scalar.indexCast v11833
  let c23_6348 : Index := 23#32
  ![v11874.toNat, 23]
def k0_off2674 (i : grid0.Coords) (v11869 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11876 : Index := Scalar.indexCast v11835
  let c0_6349 : Index := 0#32
  let v11877 : Index := Scalar.indexCast v11869
  let c0_6350 : Index := 0#32
  ![v11876.toNat, 0, v11877.toNat, 0]

def k0_chk940 (i : grid0.Coords) (v11869 : BitVec 32) : Prop :=
  (∀ a, (k0_off2674 i v11869) a + S1x14x1x256.size a ≤ S64x14x24x256.size a)
theorem k0_off2674_inb : ∀ (i : grid0.Coords) (v11869 : BitVec 32) (k0_hw940 : k0_chk940 i v11869), ∀ a, (k0_off2674 i v11869) a + S1x14x1x256.size a ≤ S64x14x24x256.size a := fun i v11869 k0_hw940 => k0_hw940

def k0_off2675 (i : grid0.Coords) (v11871 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11880 : Index := Scalar.indexCast v11835
  let c0_6351 : Index := 0#32
  let v11881 : Index := Scalar.indexCast v11871
  let c0_6352 : Index := 0#32
  ![v11880.toNat, 0, v11881.toNat, 0]

def k0_chk941 (i : grid0.Coords) (v11871 : BitVec 32) : Prop :=
  (∀ a, (k0_off2675 i v11871) a + S1x14x1x256.size a ≤ S64x14x24x256.size a)
theorem k0_off2675_inb : ∀ (i : grid0.Coords) (v11871 : BitVec 32) (k0_hw941 : k0_chk941 i v11871), ∀ a, (k0_off2675 i v11871) a + S1x14x1x256.size a ≤ S64x14x24x256.size a := fun i v11871 k0_hw941 => k0_hw941

def k0_off2676 (i : grid0.Coords) (v11873 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11884 : Index := Scalar.indexCast v11835
  let c0_6353 : Index := 0#32
  let v11885 : Index := Scalar.indexCast v11873
  let c0_6354 : Index := 0#32
  ![v11884.toNat, 0, v11885.toNat, 0]

def k0_chk942 (i : grid0.Coords) (v11873 : BitVec 32) : Prop :=
  (∀ a, (k0_off2676 i v11873) a + S1x14x1x256.size a ≤ S64x14x24x256.size a)
theorem k0_off2676_inb : ∀ (i : grid0.Coords) (v11873 : BitVec 32) (k0_hw942 : k0_chk942 i v11873), ∀ a, (k0_off2676 i v11873) a + S1x14x1x256.size a ≤ S64x14x24x256.size a := fun i v11873 k0_hw942 => k0_hw942

def k0_off2677 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11899 : Index := Scalar.indexCast v11833
  let c24_6362 : Index := 24#32
  ![v11899.toNat, 24]
def k0_off2678 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11901 : Index := Scalar.indexCast v11833
  let c25_6363 : Index := 25#32
  ![v11901.toNat, 25]
def k0_off2679 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11903 : Index := Scalar.indexCast v11833
  let c26_6364 : Index := 26#32
  ![v11903.toNat, 26]
def k0_off2680 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11905 : Index := Scalar.indexCast v11833
  let c27_6365 : Index := 27#32
  ![v11905.toNat, 27]
def k0_off2681 (i : grid0.Coords) (v11900 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11907 : Index := Scalar.indexCast v11835
  let c0_6366 : Index := 0#32
  let v11908 : Index := Scalar.indexCast v11900
  let c0_6367 : Index := 0#32
  ![v11907.toNat, 0, v11908.toNat, 0]

def k0_chk943 (i : grid0.Coords) (v11900 : BitVec 32) : Prop :=
  (∀ a, (k0_off2681 i v11900) a + S1x14x1x256.size a ≤ S64x14x24x256.size a)
theorem k0_off2681_inb : ∀ (i : grid0.Coords) (v11900 : BitVec 32) (k0_hw943 : k0_chk943 i v11900), ∀ a, (k0_off2681 i v11900) a + S1x14x1x256.size a ≤ S64x14x24x256.size a := fun i v11900 k0_hw943 => k0_hw943

def k0_off2682 (i : grid0.Coords) (v11902 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11911 : Index := Scalar.indexCast v11835
  let c0_6368 : Index := 0#32
  let v11912 : Index := Scalar.indexCast v11902
  let c0_6369 : Index := 0#32
  ![v11911.toNat, 0, v11912.toNat, 0]

def k0_chk944 (i : grid0.Coords) (v11902 : BitVec 32) : Prop :=
  (∀ a, (k0_off2682 i v11902) a + S1x14x1x256.size a ≤ S64x14x24x256.size a)
theorem k0_off2682_inb : ∀ (i : grid0.Coords) (v11902 : BitVec 32) (k0_hw944 : k0_chk944 i v11902), ∀ a, (k0_off2682 i v11902) a + S1x14x1x256.size a ≤ S64x14x24x256.size a := fun i v11902 k0_hw944 => k0_hw944

def k0_off2683 (i : grid0.Coords) (v11904 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11915 : Index := Scalar.indexCast v11835
  let c0_6370 : Index := 0#32
  let v11916 : Index := Scalar.indexCast v11904
  let c0_6371 : Index := 0#32
  ![v11915.toNat, 0, v11916.toNat, 0]

def k0_chk945 (i : grid0.Coords) (v11904 : BitVec 32) : Prop :=
  (∀ a, (k0_off2683 i v11904) a + S1x14x1x256.size a ≤ S64x14x24x256.size a)
theorem k0_off2683_inb : ∀ (i : grid0.Coords) (v11904 : BitVec 32) (k0_hw945 : k0_chk945 i v11904), ∀ a, (k0_off2683 i v11904) a + S1x14x1x256.size a ≤ S64x14x24x256.size a := fun i v11904 k0_hw945 => k0_hw945

def k0_off2684 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11930 : Index := Scalar.indexCast v11833
  let c28_6379 : Index := 28#32
  ![v11930.toNat, 28]
def k0_off2685 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11932 : Index := Scalar.indexCast v11833
  let c29_6380 : Index := 29#32
  ![v11932.toNat, 29]
def k0_off2686 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11934 : Index := Scalar.indexCast v11833
  let c30_6381 : Index := 30#32
  ![v11934.toNat, 30]
def k0_off2687 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11936 : Index := Scalar.indexCast v11833
  let c31_6382 : Index := 31#32
  ![v11936.toNat, 31]
def k0_off2688 (i : grid0.Coords) (v11931 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11938 : Index := Scalar.indexCast v11835
  let c0_6383 : Index := 0#32
  let v11939 : Index := Scalar.indexCast v11931
  let c0_6384 : Index := 0#32
  ![v11938.toNat, 0, v11939.toNat, 0]

def k0_chk946 (i : grid0.Coords) (v11931 : BitVec 32) : Prop :=
  (∀ a, (k0_off2688 i v11931) a + S1x14x1x256.size a ≤ S64x14x24x256.size a)
theorem k0_off2688_inb : ∀ (i : grid0.Coords) (v11931 : BitVec 32) (k0_hw946 : k0_chk946 i v11931), ∀ a, (k0_off2688 i v11931) a + S1x14x1x256.size a ≤ S64x14x24x256.size a := fun i v11931 k0_hw946 => k0_hw946

def k0_off2689 (i : grid0.Coords) (v11933 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11942 : Index := Scalar.indexCast v11835
  let c0_6385 : Index := 0#32
  let v11943 : Index := Scalar.indexCast v11933
  let c0_6386 : Index := 0#32
  ![v11942.toNat, 0, v11943.toNat, 0]

def k0_chk947 (i : grid0.Coords) (v11933 : BitVec 32) : Prop :=
  (∀ a, (k0_off2689 i v11933) a + S1x14x1x256.size a ≤ S64x14x24x256.size a)
theorem k0_off2689_inb : ∀ (i : grid0.Coords) (v11933 : BitVec 32) (k0_hw947 : k0_chk947 i v11933), ∀ a, (k0_off2689 i v11933) a + S1x14x1x256.size a ≤ S64x14x24x256.size a := fun i v11933 k0_hw947 => k0_hw947

def k0_off2690 (i : grid0.Coords) (v11935 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11946 : Index := Scalar.indexCast v11835
  let c0_6387 : Index := 0#32
  let v11947 : Index := Scalar.indexCast v11935
  let c0_6388 : Index := 0#32
  ![v11946.toNat, 0, v11947.toNat, 0]

def k0_chk948 (i : grid0.Coords) (v11935 : BitVec 32) : Prop :=
  (∀ a, (k0_off2690 i v11935) a + S1x14x1x256.size a ≤ S64x14x24x256.size a)
theorem k0_off2690_inb : ∀ (i : grid0.Coords) (v11935 : BitVec 32) (k0_hw948 : k0_chk948 i v11935), ∀ a, (k0_off2690 i v11935) a + S1x14x1x256.size a ≤ S64x14x24x256.size a := fun i v11935 k0_hw948 => k0_hw948

def k0_off2691 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11961 : Index := Scalar.indexCast v11833
  let c32_6396 : Index := 32#32
  ![v11961.toNat, 32]
def k0_off2692 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11963 : Index := Scalar.indexCast v11833
  let c33_6397 : Index := 33#32
  ![v11963.toNat, 33]
def k0_off2693 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11965 : Index := Scalar.indexCast v11833
  let c34_6398 : Index := 34#32
  ![v11965.toNat, 34]
def k0_off2694 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11967 : Index := Scalar.indexCast v11833
  let c35_6399 : Index := 35#32
  ![v11967.toNat, 35]
def k0_off2695 (i : grid0.Coords) (v11962 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11969 : Index := Scalar.indexCast v11835
  let c0_6400 : Index := 0#32
  let v11970 : Index := Scalar.indexCast v11962
  let c0_6401 : Index := 0#32
  ![v11969.toNat, 0, v11970.toNat, 0]

def k0_chk949 (i : grid0.Coords) (v11962 : BitVec 32) : Prop :=
  (∀ a, (k0_off2695 i v11962) a + S1x14x1x256.size a ≤ S64x14x24x256.size a)
theorem k0_off2695_inb : ∀ (i : grid0.Coords) (v11962 : BitVec 32) (k0_hw949 : k0_chk949 i v11962), ∀ a, (k0_off2695 i v11962) a + S1x14x1x256.size a ≤ S64x14x24x256.size a := fun i v11962 k0_hw949 => k0_hw949

def k0_off2696 (i : grid0.Coords) (v11964 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11973 : Index := Scalar.indexCast v11835
  let c0_6402 : Index := 0#32
  let v11974 : Index := Scalar.indexCast v11964
  let c0_6403 : Index := 0#32
  ![v11973.toNat, 0, v11974.toNat, 0]

def k0_chk950 (i : grid0.Coords) (v11964 : BitVec 32) : Prop :=
  (∀ a, (k0_off2696 i v11964) a + S1x14x1x256.size a ≤ S64x14x24x256.size a)
theorem k0_off2696_inb : ∀ (i : grid0.Coords) (v11964 : BitVec 32) (k0_hw950 : k0_chk950 i v11964), ∀ a, (k0_off2696 i v11964) a + S1x14x1x256.size a ≤ S64x14x24x256.size a := fun i v11964 k0_hw950 => k0_hw950

def k0_off2697 (i : grid0.Coords) (v11966 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v11977 : Index := Scalar.indexCast v11835
  let c0_6404 : Index := 0#32
  let v11978 : Index := Scalar.indexCast v11966
  let c0_6405 : Index := 0#32
  ![v11977.toNat, 0, v11978.toNat, 0]

def k0_chk951 (i : grid0.Coords) (v11966 : BitVec 32) : Prop :=
  (∀ a, (k0_off2697 i v11966) a + S1x14x1x256.size a ≤ S64x14x24x256.size a)
theorem k0_off2697_inb : ∀ (i : grid0.Coords) (v11966 : BitVec 32) (k0_hw951 : k0_chk951 i v11966), ∀ a, (k0_off2697 i v11966) a + S1x14x1x256.size a ≤ S64x14x24x256.size a := fun i v11966 k0_hw951 => k0_hw951

def k0_off2698 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11992 : Index := Scalar.indexCast v11833
  let c36_6413 : Index := 36#32
  ![v11992.toNat, 36]
def k0_off2699 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11994 : Index := Scalar.indexCast v11833
  let c37_6414 : Index := 37#32
  ![v11994.toNat, 37]
def k0_off2700 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11996 : Index := Scalar.indexCast v11833
  let c38_6415 : Index := 38#32
  ![v11996.toNat, 38]
def k0_off2701 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v11998 : Index := Scalar.indexCast v11833
  let c39_6416 : Index := 39#32
  ![v11998.toNat, 39]
def k0_off2702 (i : grid0.Coords) (v11993 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v12000 : Index := Scalar.indexCast v11835
  let c0_6417 : Index := 0#32
  let v12001 : Index := Scalar.indexCast v11993
  let c0_6418 : Index := 0#32
  ![v12000.toNat, 0, v12001.toNat, 0]

def k0_chk952 (i : grid0.Coords) (v11993 : BitVec 32) : Prop :=
  (∀ a, (k0_off2702 i v11993) a + S1x14x1x256.size a ≤ S64x14x24x256.size a)
theorem k0_off2702_inb : ∀ (i : grid0.Coords) (v11993 : BitVec 32) (k0_hw952 : k0_chk952 i v11993), ∀ a, (k0_off2702 i v11993) a + S1x14x1x256.size a ≤ S64x14x24x256.size a := fun i v11993 k0_hw952 => k0_hw952

def k0_off2703 (i : grid0.Coords) (v11995 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v12004 : Index := Scalar.indexCast v11835
  let c0_6419 : Index := 0#32
  let v12005 : Index := Scalar.indexCast v11995
  let c0_6420 : Index := 0#32
  ![v12004.toNat, 0, v12005.toNat, 0]

def k0_chk953 (i : grid0.Coords) (v11995 : BitVec 32) : Prop :=
  (∀ a, (k0_off2703 i v11995) a + S1x14x1x256.size a ≤ S64x14x24x256.size a)
theorem k0_off2703_inb : ∀ (i : grid0.Coords) (v11995 : BitVec 32) (k0_hw953 : k0_chk953 i v11995), ∀ a, (k0_off2703 i v11995) a + S1x14x1x256.size a ≤ S64x14x24x256.size a := fun i v11995 k0_hw953 => k0_hw953

def k0_off2704 (i : grid0.Coords) (v11997 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v12008 : Index := Scalar.indexCast v11835
  let c0_6421 : Index := 0#32
  let v12009 : Index := Scalar.indexCast v11997
  let c0_6422 : Index := 0#32
  ![v12008.toNat, 0, v12009.toNat, 0]

def k0_chk954 (i : grid0.Coords) (v11997 : BitVec 32) : Prop :=
  (∀ a, (k0_off2704 i v11997) a + S1x14x1x256.size a ≤ S64x14x24x256.size a)
theorem k0_off2704_inb : ∀ (i : grid0.Coords) (v11997 : BitVec 32) (k0_hw954 : k0_chk954 i v11997), ∀ a, (k0_off2704 i v11997) a + S1x14x1x256.size a ≤ S64x14x24x256.size a := fun i v11997 k0_hw954 => k0_hw954

def k0_off2705 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12023 : Index := Scalar.indexCast v11833
  let c40_6430 : Index := 40#32
  ![v12023.toNat, 40]
def k0_off2706 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12025 : Index := Scalar.indexCast v11833
  let c41_6431 : Index := 41#32
  ![v12025.toNat, 41]
def k0_off2707 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12027 : Index := Scalar.indexCast v11833
  let c42_6432 : Index := 42#32
  ![v12027.toNat, 42]
def k0_off2708 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12029 : Index := Scalar.indexCast v11833
  let c43_6433 : Index := 43#32
  ![v12029.toNat, 43]
def k0_off2709 (i : grid0.Coords) (v12024 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v12031 : Index := Scalar.indexCast v11835
  let c0_6434 : Index := 0#32
  let v12032 : Index := Scalar.indexCast v12024
  let c0_6435 : Index := 0#32
  ![v12031.toNat, 0, v12032.toNat, 0]

def k0_chk955 (i : grid0.Coords) (v12024 : BitVec 32) : Prop :=
  (∀ a, (k0_off2709 i v12024) a + S1x14x1x256.size a ≤ S64x14x24x256.size a)
theorem k0_off2709_inb : ∀ (i : grid0.Coords) (v12024 : BitVec 32) (k0_hw955 : k0_chk955 i v12024), ∀ a, (k0_off2709 i v12024) a + S1x14x1x256.size a ≤ S64x14x24x256.size a := fun i v12024 k0_hw955 => k0_hw955

def k0_off2710 (i : grid0.Coords) (v12026 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v12035 : Index := Scalar.indexCast v11835
  let c0_6436 : Index := 0#32
  let v12036 : Index := Scalar.indexCast v12026
  let c0_6437 : Index := 0#32
  ![v12035.toNat, 0, v12036.toNat, 0]

def k0_chk956 (i : grid0.Coords) (v12026 : BitVec 32) : Prop :=
  (∀ a, (k0_off2710 i v12026) a + S1x14x1x256.size a ≤ S64x14x24x256.size a)
theorem k0_off2710_inb : ∀ (i : grid0.Coords) (v12026 : BitVec 32) (k0_hw956 : k0_chk956 i v12026), ∀ a, (k0_off2710 i v12026) a + S1x14x1x256.size a ≤ S64x14x24x256.size a := fun i v12026 k0_hw956 => k0_hw956

def k0_off2711 (i : grid0.Coords) (v12028 : BitVec 32) : Fin 4 → Nat :=
  let c32_i32_6325 : BitVec 32 := 32#32
  let arg0 : BitVec 32 := BitVec.ofNat 32 (i 0).val
  let c2_i32 : BitVec 32 := 2#32
  let v0 : BitVec 32 := Scalar.remsi arg0 c2_i32
  let v11834 : BitVec 32 := Scalar.muli c32_i32_6325 v0
  let c30_i32_6326 : BitVec 32 := 30#32
  let v11835 : BitVec 32 := Scalar.addi v11834 c30_i32_6326
  let v12039 : Index := Scalar.indexCast v11835
  let c0_6438 : Index := 0#32
  let v12040 : Index := Scalar.indexCast v12028
  let c0_6439 : Index := 0#32
  ![v12039.toNat, 0, v12040.toNat, 0]

def k0_chk957 (i : grid0.Coords) (v12028 : BitVec 32) : Prop :=
  (∀ a, (k0_off2711 i v12028) a + S1x14x1x256.size a ≤ S64x14x24x256.size a)
theorem k0_off2711_inb : ∀ (i : grid0.Coords) (v12028 : BitVec 32) (k0_hw957 : k0_chk957 i v12028), ∀ a, (k0_off2711 i v12028) a + S1x14x1x256.size a ≤ S64x14x24x256.size a := fun i v12028 k0_hw957 => k0_hw957

def k0_off2712 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12055 : Index := Scalar.indexCast v11833
  let c44_6447 : Index := 44#32
  ![v12055.toNat, 44]
def k0_off2713 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12057 : Index := Scalar.indexCast v11833
  let c45_6448 : Index := 45#32
  ![v12057.toNat, 45]
def k0_off2714 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12059 : Index := Scalar.indexCast v11833
  let c46_6449 : Index := 46#32
  ![v12059.toNat, 46]
def k0_off2715 (v12056 : BitVec 32) : Fin 4 → Nat :=
  let c30_6450 : Index := 30#32
  let v12061 : Index := Scalar.indexCast v12056
  let c0_6451 : Index := 0#32
  let c0_6452 : Index := 0#32
  ![30, v12061.toNat, 0, 0]

def k0_chk958 (v12056 : BitVec 32) : Prop :=
  (∀ a, (k0_off2715 v12056) a + S1x3x7x256.size a ≤ S32x14x7x256.size a)
theorem k0_off2715_inb : ∀ (v12056 : BitVec 32) (k0_hw958 : k0_chk958 v12056), ∀ a, (k0_off2715 v12056) a + S1x3x7x256.size a ≤ S32x14x7x256.size a := fun v12056 k0_hw958 => k0_hw958

def k0_off2716 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12077 : Index := Scalar.indexCast v11833
  let c47_6458 : Index := 47#32
  ![v12077.toNat, 47]
def k0_off2717 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12079 : Index := Scalar.indexCast v11833
  let c48_6459 : Index := 48#32
  ![v12079.toNat, 48]
def k0_off2718 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12081 : Index := Scalar.indexCast v11833
  let c49_6460 : Index := 49#32
  ![v12081.toNat, 49]
def k0_off2719 (v12078 : BitVec 32) : Fin 4 → Nat :=
  let c30_6461 : Index := 30#32
  let v12083 : Index := Scalar.indexCast v12078
  let c0_6462 : Index := 0#32
  let c0_6463 : Index := 0#32
  ![30, v12083.toNat, 0, 0]

def k0_chk959 (v12078 : BitVec 32) : Prop :=
  (∀ a, (k0_off2719 v12078) a + S1x3x7x256.size a ≤ S32x14x7x256.size a)
theorem k0_off2719_inb : ∀ (v12078 : BitVec 32) (k0_hw959 : k0_chk959 v12078), ∀ a, (k0_off2719 v12078) a + S1x3x7x256.size a ≤ S32x14x7x256.size a := fun v12078 k0_hw959 => k0_hw959

def k0_off2720 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12099 : Index := Scalar.indexCast v11833
  let c50_6469 : Index := 50#32
  ![v12099.toNat, 50]
def k0_off2721 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12101 : Index := Scalar.indexCast v11833
  let c51_6470 : Index := 51#32
  ![v12101.toNat, 51]
def k0_off2722 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12103 : Index := Scalar.indexCast v11833
  let c52_6471 : Index := 52#32
  ![v12103.toNat, 52]
def k0_off2723 (v12100 : BitVec 32) : Fin 4 → Nat :=
  let c30_6472 : Index := 30#32
  let v12105 : Index := Scalar.indexCast v12100
  let c0_6473 : Index := 0#32
  let c0_6474 : Index := 0#32
  ![30, v12105.toNat, 0, 0]

def k0_chk960 (v12100 : BitVec 32) : Prop :=
  (∀ a, (k0_off2723 v12100) a + S1x3x7x256.size a ≤ S32x14x7x256.size a)
theorem k0_off2723_inb : ∀ (v12100 : BitVec 32) (k0_hw960 : k0_chk960 v12100), ∀ a, (k0_off2723 v12100) a + S1x3x7x256.size a ≤ S32x14x7x256.size a := fun v12100 k0_hw960 => k0_hw960

def k0_off2724 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12121 : Index := Scalar.indexCast v11833
  let c53_6480 : Index := 53#32
  ![v12121.toNat, 53]
def k0_off2725 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12123 : Index := Scalar.indexCast v11833
  let c54_6481 : Index := 54#32
  ![v12123.toNat, 54]
def k0_off2726 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12125 : Index := Scalar.indexCast v11833
  let c55_6482 : Index := 55#32
  ![v12125.toNat, 55]
def k0_off2727 (v12122 : BitVec 32) : Fin 4 → Nat :=
  let c30_6483 : Index := 30#32
  let v12127 : Index := Scalar.indexCast v12122
  let c0_6484 : Index := 0#32
  let c0_6485 : Index := 0#32
  ![30, v12127.toNat, 0, 0]

def k0_chk961 (v12122 : BitVec 32) : Prop :=
  (∀ a, (k0_off2727 v12122) a + S1x3x7x256.size a ≤ S32x14x7x256.size a)
theorem k0_off2727_inb : ∀ (v12122 : BitVec 32) (k0_hw961 : k0_chk961 v12122), ∀ a, (k0_off2727 v12122) a + S1x3x7x256.size a ≤ S32x14x7x256.size a := fun v12122 k0_hw961 => k0_hw961

def k0_off2728 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12143 : Index := Scalar.indexCast v11833
  let c56_6491 : Index := 56#32
  ![v12143.toNat, 56]
def k0_off2729 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12145 : Index := Scalar.indexCast v11833
  let c57_6492 : Index := 57#32
  ![v12145.toNat, 57]
def k0_off2730 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12147 : Index := Scalar.indexCast v11833
  let c58_6493 : Index := 58#32
  ![v12147.toNat, 58]
def k0_off2731 (v12144 : BitVec 32) : Fin 4 → Nat :=
  let c30_6494 : Index := 30#32
  let v12149 : Index := Scalar.indexCast v12144
  let c0_6495 : Index := 0#32
  let c0_6496 : Index := 0#32
  ![30, v12149.toNat, 0, 0]

def k0_chk962 (v12144 : BitVec 32) : Prop :=
  (∀ a, (k0_off2731 v12144) a + S1x3x7x256.size a ≤ S32x14x7x256.size a)
theorem k0_off2731_inb : ∀ (v12144 : BitVec 32) (k0_hw962 : k0_chk962 v12144), ∀ a, (k0_off2731 v12144) a + S1x3x7x256.size a ≤ S32x14x7x256.size a := fun v12144 k0_hw962 => k0_hw962

def k0_off2732 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12165 : Index := Scalar.indexCast v11833
  let c59_6502 : Index := 59#32
  ![v12165.toNat, 59]
def k0_off2733 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12167 : Index := Scalar.indexCast v11833
  let c60_6503 : Index := 60#32
  ![v12167.toNat, 60]
def k0_off2734 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12169 : Index := Scalar.indexCast v11833
  let c61_6504 : Index := 61#32
  ![v12169.toNat, 61]
def k0_off2735 (v12166 : BitVec 32) : Fin 4 → Nat :=
  let c30_6505 : Index := 30#32
  let v12171 : Index := Scalar.indexCast v12166
  let c0_6506 : Index := 0#32
  let c0_6507 : Index := 0#32
  ![30, v12171.toNat, 0, 0]

def k0_chk963 (v12166 : BitVec 32) : Prop :=
  (∀ a, (k0_off2735 v12166) a + S1x3x7x256.size a ≤ S32x14x7x256.size a)
theorem k0_off2735_inb : ∀ (v12166 : BitVec 32) (k0_hw963 : k0_chk963 v12166), ∀ a, (k0_off2735 v12166) a + S1x3x7x256.size a ≤ S32x14x7x256.size a := fun v12166 k0_hw963 => k0_hw963

def k0_off2736 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12187 : Index := Scalar.indexCast v11833
  let c62_6513 : Index := 62#32
  ![v12187.toNat, 62]
def k0_off2737 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12189 : Index := Scalar.indexCast v11833
  let c63_6514 : Index := 63#32
  ![v12189.toNat, 63]
def k0_off2738 (i : grid0.Coords) : Fin 2 → Nat :=
  let c32_i32_6323 : BitVec 32 := 32#32
  let arg0 : BitVec 32 := BitVec.ofNat 32 (i 0).val
  let v11832 : BitVec 32 := Scalar.muli c32_i32_6323 arg0
  let c30_i32_6324 : BitVec 32 := 30#32
  let v11833 : BitVec 32 := Scalar.addi v11832 c30_i32_6324
  let v12191 : Index := Scalar.indexCast v11833
  let c64_6515 : Index := 64#32
  ![v12191.toNat, 64]
def k0_off2739 (v12188 : BitVec 32) : Fin 4 → Nat :=
  let c30_6516 : Index := 30#32
  let v12193 : Index := Scalar.indexCast v12188
  let c0_6517 : Index := 0#32
  let c0_6518 : Index := 0#32
  ![30, v12193.toNat, 0, 0]

def k0_chk964 (v12188 : BitVec 32) : Prop :=
  (∀ a, (k0_off2739 v12188) a + S1x3x7x256.size a ≤ S32x14x7x256.size a)
theorem k0_off2739_inb : ∀ (v12188 : BitVec 32) (k0_hw964 : k0_chk964 v12188), ∀ a, (k0_off2739 v12188) a + S1x3x7x256.size a ≤ S32x14x7x256.size a := fun v12188 k0_hw964 => k0_hw964

def k0_off2740 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12214 : Index := Scalar.indexCast v12210
  let c16_6529 : Index := 16#32
  ![v12214.toNat, 16]
def k0_off2741 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12216 : Index := Scalar.indexCast v12210
  let c17_6530 : Index := 17#32
  ![v12216.toNat, 17]
def k0_off2742 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12218 : Index := Scalar.indexCast v12210
  let c18_6531 : Index := 18#32
  ![v12218.toNat, 18]
def k0_off2743 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12220 : Index := Scalar.indexCast v12210
  let c19_6532 : Index := 19#32
  ![v12220.toNat, 19]
def k0_off2744 (i : grid0.Coords) (v12215 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12222 : Index := Scalar.indexCast v12212
  let c0_6533 : Index := 0#32
  let v12223 : Index := Scalar.indexCast v12215
  let c0_6534 : Index := 0#32
  ![v12222.toNat, 0, v12223.toNat, 0]

def k0_chk965 (i : grid0.Coords) (v12215 : BitVec 32) : Prop :=
  (∀ a, (k0_off2744 i v12215) a + S1x14x1x256.size a ≤ S64x14x24x256.size a)
theorem k0_off2744_inb : ∀ (i : grid0.Coords) (v12215 : BitVec 32) (k0_hw965 : k0_chk965 i v12215), ∀ a, (k0_off2744 i v12215) a + S1x14x1x256.size a ≤ S64x14x24x256.size a := fun i v12215 k0_hw965 => k0_hw965

def k0_off2745 (i : grid0.Coords) (v12217 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12226 : Index := Scalar.indexCast v12212
  let c0_6535 : Index := 0#32
  let v12227 : Index := Scalar.indexCast v12217
  let c0_6536 : Index := 0#32
  ![v12226.toNat, 0, v12227.toNat, 0]

def k0_chk966 (i : grid0.Coords) (v12217 : BitVec 32) : Prop :=
  (∀ a, (k0_off2745 i v12217) a + S1x14x1x256.size a ≤ S64x14x24x256.size a)
theorem k0_off2745_inb : ∀ (i : grid0.Coords) (v12217 : BitVec 32) (k0_hw966 : k0_chk966 i v12217), ∀ a, (k0_off2745 i v12217) a + S1x14x1x256.size a ≤ S64x14x24x256.size a := fun i v12217 k0_hw966 => k0_hw966

def k0_off2746 (i : grid0.Coords) (v12219 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12230 : Index := Scalar.indexCast v12212
  let c0_6537 : Index := 0#32
  let v12231 : Index := Scalar.indexCast v12219
  let c0_6538 : Index := 0#32
  ![v12230.toNat, 0, v12231.toNat, 0]

def k0_chk967 (i : grid0.Coords) (v12219 : BitVec 32) : Prop :=
  (∀ a, (k0_off2746 i v12219) a + S1x14x1x256.size a ≤ S64x14x24x256.size a)
theorem k0_off2746_inb : ∀ (i : grid0.Coords) (v12219 : BitVec 32) (k0_hw967 : k0_chk967 i v12219), ∀ a, (k0_off2746 i v12219) a + S1x14x1x256.size a ≤ S64x14x24x256.size a := fun i v12219 k0_hw967 => k0_hw967

def k0_off2747 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12245 : Index := Scalar.indexCast v12210
  let c20_6546 : Index := 20#32
  ![v12245.toNat, 20]
def k0_off2748 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12247 : Index := Scalar.indexCast v12210
  let c21_6547 : Index := 21#32
  ![v12247.toNat, 21]
def k0_off2749 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12249 : Index := Scalar.indexCast v12210
  let c22_6548 : Index := 22#32
  ![v12249.toNat, 22]
def k0_off2750 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12251 : Index := Scalar.indexCast v12210
  let c23_6549 : Index := 23#32
  ![v12251.toNat, 23]
def k0_off2751 (i : grid0.Coords) (v12246 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12253 : Index := Scalar.indexCast v12212
  let c0_6550 : Index := 0#32
  let v12254 : Index := Scalar.indexCast v12246
  let c0_6551 : Index := 0#32
  ![v12253.toNat, 0, v12254.toNat, 0]

def k0_chk968 (i : grid0.Coords) (v12246 : BitVec 32) : Prop :=
  (∀ a, (k0_off2751 i v12246) a + S1x14x1x256.size a ≤ S64x14x24x256.size a)
theorem k0_off2751_inb : ∀ (i : grid0.Coords) (v12246 : BitVec 32) (k0_hw968 : k0_chk968 i v12246), ∀ a, (k0_off2751 i v12246) a + S1x14x1x256.size a ≤ S64x14x24x256.size a := fun i v12246 k0_hw968 => k0_hw968

def k0_off2752 (i : grid0.Coords) (v12248 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12257 : Index := Scalar.indexCast v12212
  let c0_6552 : Index := 0#32
  let v12258 : Index := Scalar.indexCast v12248
  let c0_6553 : Index := 0#32
  ![v12257.toNat, 0, v12258.toNat, 0]

def k0_chk969 (i : grid0.Coords) (v12248 : BitVec 32) : Prop :=
  (∀ a, (k0_off2752 i v12248) a + S1x14x1x256.size a ≤ S64x14x24x256.size a)
theorem k0_off2752_inb : ∀ (i : grid0.Coords) (v12248 : BitVec 32) (k0_hw969 : k0_chk969 i v12248), ∀ a, (k0_off2752 i v12248) a + S1x14x1x256.size a ≤ S64x14x24x256.size a := fun i v12248 k0_hw969 => k0_hw969

def k0_off2753 (i : grid0.Coords) (v12250 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12261 : Index := Scalar.indexCast v12212
  let c0_6554 : Index := 0#32
  let v12262 : Index := Scalar.indexCast v12250
  let c0_6555 : Index := 0#32
  ![v12261.toNat, 0, v12262.toNat, 0]

def k0_chk970 (i : grid0.Coords) (v12250 : BitVec 32) : Prop :=
  (∀ a, (k0_off2753 i v12250) a + S1x14x1x256.size a ≤ S64x14x24x256.size a)
theorem k0_off2753_inb : ∀ (i : grid0.Coords) (v12250 : BitVec 32) (k0_hw970 : k0_chk970 i v12250), ∀ a, (k0_off2753 i v12250) a + S1x14x1x256.size a ≤ S64x14x24x256.size a := fun i v12250 k0_hw970 => k0_hw970

def k0_off2754 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12276 : Index := Scalar.indexCast v12210
  let c24_6563 : Index := 24#32
  ![v12276.toNat, 24]
def k0_off2755 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12278 : Index := Scalar.indexCast v12210
  let c25_6564 : Index := 25#32
  ![v12278.toNat, 25]
def k0_off2756 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12280 : Index := Scalar.indexCast v12210
  let c26_6565 : Index := 26#32
  ![v12280.toNat, 26]
def k0_off2757 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12282 : Index := Scalar.indexCast v12210
  let c27_6566 : Index := 27#32
  ![v12282.toNat, 27]
def k0_off2758 (i : grid0.Coords) (v12277 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12284 : Index := Scalar.indexCast v12212
  let c0_6567 : Index := 0#32
  let v12285 : Index := Scalar.indexCast v12277
  let c0_6568 : Index := 0#32
  ![v12284.toNat, 0, v12285.toNat, 0]

def k0_chk971 (i : grid0.Coords) (v12277 : BitVec 32) : Prop :=
  (∀ a, (k0_off2758 i v12277) a + S1x14x1x256.size a ≤ S64x14x24x256.size a)
theorem k0_off2758_inb : ∀ (i : grid0.Coords) (v12277 : BitVec 32) (k0_hw971 : k0_chk971 i v12277), ∀ a, (k0_off2758 i v12277) a + S1x14x1x256.size a ≤ S64x14x24x256.size a := fun i v12277 k0_hw971 => k0_hw971

def k0_off2759 (i : grid0.Coords) (v12279 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12288 : Index := Scalar.indexCast v12212
  let c0_6569 : Index := 0#32
  let v12289 : Index := Scalar.indexCast v12279
  let c0_6570 : Index := 0#32
  ![v12288.toNat, 0, v12289.toNat, 0]

def k0_chk972 (i : grid0.Coords) (v12279 : BitVec 32) : Prop :=
  (∀ a, (k0_off2759 i v12279) a + S1x14x1x256.size a ≤ S64x14x24x256.size a)
theorem k0_off2759_inb : ∀ (i : grid0.Coords) (v12279 : BitVec 32) (k0_hw972 : k0_chk972 i v12279), ∀ a, (k0_off2759 i v12279) a + S1x14x1x256.size a ≤ S64x14x24x256.size a := fun i v12279 k0_hw972 => k0_hw972

def k0_off2760 (i : grid0.Coords) (v12281 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12292 : Index := Scalar.indexCast v12212
  let c0_6571 : Index := 0#32
  let v12293 : Index := Scalar.indexCast v12281
  let c0_6572 : Index := 0#32
  ![v12292.toNat, 0, v12293.toNat, 0]

def k0_chk973 (i : grid0.Coords) (v12281 : BitVec 32) : Prop :=
  (∀ a, (k0_off2760 i v12281) a + S1x14x1x256.size a ≤ S64x14x24x256.size a)
theorem k0_off2760_inb : ∀ (i : grid0.Coords) (v12281 : BitVec 32) (k0_hw973 : k0_chk973 i v12281), ∀ a, (k0_off2760 i v12281) a + S1x14x1x256.size a ≤ S64x14x24x256.size a := fun i v12281 k0_hw973 => k0_hw973

def k0_off2761 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12307 : Index := Scalar.indexCast v12210
  let c28_6580 : Index := 28#32
  ![v12307.toNat, 28]
def k0_off2762 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12309 : Index := Scalar.indexCast v12210
  let c29_6581 : Index := 29#32
  ![v12309.toNat, 29]
def k0_off2763 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12311 : Index := Scalar.indexCast v12210
  let c30_6582 : Index := 30#32
  ![v12311.toNat, 30]
def k0_off2764 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12313 : Index := Scalar.indexCast v12210
  let c31_6583 : Index := 31#32
  ![v12313.toNat, 31]
def k0_off2765 (i : grid0.Coords) (v12308 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12315 : Index := Scalar.indexCast v12212
  let c0_6584 : Index := 0#32
  let v12316 : Index := Scalar.indexCast v12308
  let c0_6585 : Index := 0#32
  ![v12315.toNat, 0, v12316.toNat, 0]

def k0_chk974 (i : grid0.Coords) (v12308 : BitVec 32) : Prop :=
  (∀ a, (k0_off2765 i v12308) a + S1x14x1x256.size a ≤ S64x14x24x256.size a)
theorem k0_off2765_inb : ∀ (i : grid0.Coords) (v12308 : BitVec 32) (k0_hw974 : k0_chk974 i v12308), ∀ a, (k0_off2765 i v12308) a + S1x14x1x256.size a ≤ S64x14x24x256.size a := fun i v12308 k0_hw974 => k0_hw974

def k0_off2766 (i : grid0.Coords) (v12310 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12319 : Index := Scalar.indexCast v12212
  let c0_6586 : Index := 0#32
  let v12320 : Index := Scalar.indexCast v12310
  let c0_6587 : Index := 0#32
  ![v12319.toNat, 0, v12320.toNat, 0]

def k0_chk975 (i : grid0.Coords) (v12310 : BitVec 32) : Prop :=
  (∀ a, (k0_off2766 i v12310) a + S1x14x1x256.size a ≤ S64x14x24x256.size a)
theorem k0_off2766_inb : ∀ (i : grid0.Coords) (v12310 : BitVec 32) (k0_hw975 : k0_chk975 i v12310), ∀ a, (k0_off2766 i v12310) a + S1x14x1x256.size a ≤ S64x14x24x256.size a := fun i v12310 k0_hw975 => k0_hw975

def k0_off2767 (i : grid0.Coords) (v12312 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12323 : Index := Scalar.indexCast v12212
  let c0_6588 : Index := 0#32
  let v12324 : Index := Scalar.indexCast v12312
  let c0_6589 : Index := 0#32
  ![v12323.toNat, 0, v12324.toNat, 0]

def k0_chk976 (i : grid0.Coords) (v12312 : BitVec 32) : Prop :=
  (∀ a, (k0_off2767 i v12312) a + S1x14x1x256.size a ≤ S64x14x24x256.size a)
theorem k0_off2767_inb : ∀ (i : grid0.Coords) (v12312 : BitVec 32) (k0_hw976 : k0_chk976 i v12312), ∀ a, (k0_off2767 i v12312) a + S1x14x1x256.size a ≤ S64x14x24x256.size a := fun i v12312 k0_hw976 => k0_hw976

def k0_off2768 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12338 : Index := Scalar.indexCast v12210
  let c32_6597 : Index := 32#32
  ![v12338.toNat, 32]
def k0_off2769 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12340 : Index := Scalar.indexCast v12210
  let c33_6598 : Index := 33#32
  ![v12340.toNat, 33]
def k0_off2770 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12342 : Index := Scalar.indexCast v12210
  let c34_6599 : Index := 34#32
  ![v12342.toNat, 34]
def k0_off2771 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12344 : Index := Scalar.indexCast v12210
  let c35_6600 : Index := 35#32
  ![v12344.toNat, 35]
def k0_off2772 (i : grid0.Coords) (v12339 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12346 : Index := Scalar.indexCast v12212
  let c0_6601 : Index := 0#32
  let v12347 : Index := Scalar.indexCast v12339
  let c0_6602 : Index := 0#32
  ![v12346.toNat, 0, v12347.toNat, 0]

def k0_chk977 (i : grid0.Coords) (v12339 : BitVec 32) : Prop :=
  (∀ a, (k0_off2772 i v12339) a + S1x14x1x256.size a ≤ S64x14x24x256.size a)
theorem k0_off2772_inb : ∀ (i : grid0.Coords) (v12339 : BitVec 32) (k0_hw977 : k0_chk977 i v12339), ∀ a, (k0_off2772 i v12339) a + S1x14x1x256.size a ≤ S64x14x24x256.size a := fun i v12339 k0_hw977 => k0_hw977

def k0_off2773 (i : grid0.Coords) (v12341 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12350 : Index := Scalar.indexCast v12212
  let c0_6603 : Index := 0#32
  let v12351 : Index := Scalar.indexCast v12341
  let c0_6604 : Index := 0#32
  ![v12350.toNat, 0, v12351.toNat, 0]

def k0_chk978 (i : grid0.Coords) (v12341 : BitVec 32) : Prop :=
  (∀ a, (k0_off2773 i v12341) a + S1x14x1x256.size a ≤ S64x14x24x256.size a)
theorem k0_off2773_inb : ∀ (i : grid0.Coords) (v12341 : BitVec 32) (k0_hw978 : k0_chk978 i v12341), ∀ a, (k0_off2773 i v12341) a + S1x14x1x256.size a ≤ S64x14x24x256.size a := fun i v12341 k0_hw978 => k0_hw978

def k0_off2774 (i : grid0.Coords) (v12343 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12354 : Index := Scalar.indexCast v12212
  let c0_6605 : Index := 0#32
  let v12355 : Index := Scalar.indexCast v12343
  let c0_6606 : Index := 0#32
  ![v12354.toNat, 0, v12355.toNat, 0]

def k0_chk979 (i : grid0.Coords) (v12343 : BitVec 32) : Prop :=
  (∀ a, (k0_off2774 i v12343) a + S1x14x1x256.size a ≤ S64x14x24x256.size a)
theorem k0_off2774_inb : ∀ (i : grid0.Coords) (v12343 : BitVec 32) (k0_hw979 : k0_chk979 i v12343), ∀ a, (k0_off2774 i v12343) a + S1x14x1x256.size a ≤ S64x14x24x256.size a := fun i v12343 k0_hw979 => k0_hw979

def k0_off2775 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12369 : Index := Scalar.indexCast v12210
  let c36_6614 : Index := 36#32
  ![v12369.toNat, 36]
def k0_off2776 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12371 : Index := Scalar.indexCast v12210
  let c37_6615 : Index := 37#32
  ![v12371.toNat, 37]
def k0_off2777 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12373 : Index := Scalar.indexCast v12210
  let c38_6616 : Index := 38#32
  ![v12373.toNat, 38]
def k0_off2778 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12375 : Index := Scalar.indexCast v12210
  let c39_6617 : Index := 39#32
  ![v12375.toNat, 39]
def k0_off2779 (i : grid0.Coords) (v12370 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12377 : Index := Scalar.indexCast v12212
  let c0_6618 : Index := 0#32
  let v12378 : Index := Scalar.indexCast v12370
  let c0_6619 : Index := 0#32
  ![v12377.toNat, 0, v12378.toNat, 0]

def k0_chk980 (i : grid0.Coords) (v12370 : BitVec 32) : Prop :=
  (∀ a, (k0_off2779 i v12370) a + S1x14x1x256.size a ≤ S64x14x24x256.size a)
theorem k0_off2779_inb : ∀ (i : grid0.Coords) (v12370 : BitVec 32) (k0_hw980 : k0_chk980 i v12370), ∀ a, (k0_off2779 i v12370) a + S1x14x1x256.size a ≤ S64x14x24x256.size a := fun i v12370 k0_hw980 => k0_hw980

def k0_off2780 (i : grid0.Coords) (v12372 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12381 : Index := Scalar.indexCast v12212
  let c0_6620 : Index := 0#32
  let v12382 : Index := Scalar.indexCast v12372
  let c0_6621 : Index := 0#32
  ![v12381.toNat, 0, v12382.toNat, 0]

def k0_chk981 (i : grid0.Coords) (v12372 : BitVec 32) : Prop :=
  (∀ a, (k0_off2780 i v12372) a + S1x14x1x256.size a ≤ S64x14x24x256.size a)
theorem k0_off2780_inb : ∀ (i : grid0.Coords) (v12372 : BitVec 32) (k0_hw981 : k0_chk981 i v12372), ∀ a, (k0_off2780 i v12372) a + S1x14x1x256.size a ≤ S64x14x24x256.size a := fun i v12372 k0_hw981 => k0_hw981

def k0_off2781 (i : grid0.Coords) (v12374 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12385 : Index := Scalar.indexCast v12212
  let c0_6622 : Index := 0#32
  let v12386 : Index := Scalar.indexCast v12374
  let c0_6623 : Index := 0#32
  ![v12385.toNat, 0, v12386.toNat, 0]

def k0_chk982 (i : grid0.Coords) (v12374 : BitVec 32) : Prop :=
  (∀ a, (k0_off2781 i v12374) a + S1x14x1x256.size a ≤ S64x14x24x256.size a)
theorem k0_off2781_inb : ∀ (i : grid0.Coords) (v12374 : BitVec 32) (k0_hw982 : k0_chk982 i v12374), ∀ a, (k0_off2781 i v12374) a + S1x14x1x256.size a ≤ S64x14x24x256.size a := fun i v12374 k0_hw982 => k0_hw982

def k0_off2782 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12400 : Index := Scalar.indexCast v12210
  let c40_6631 : Index := 40#32
  ![v12400.toNat, 40]
def k0_off2783 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12402 : Index := Scalar.indexCast v12210
  let c41_6632 : Index := 41#32
  ![v12402.toNat, 41]
def k0_off2784 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12404 : Index := Scalar.indexCast v12210
  let c42_6633 : Index := 42#32
  ![v12404.toNat, 42]
def k0_off2785 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12406 : Index := Scalar.indexCast v12210
  let c43_6634 : Index := 43#32
  ![v12406.toNat, 43]
def k0_off2786 (i : grid0.Coords) (v12401 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12408 : Index := Scalar.indexCast v12212
  let c0_6635 : Index := 0#32
  let v12409 : Index := Scalar.indexCast v12401
  let c0_6636 : Index := 0#32
  ![v12408.toNat, 0, v12409.toNat, 0]

def k0_chk983 (i : grid0.Coords) (v12401 : BitVec 32) : Prop :=
  (∀ a, (k0_off2786 i v12401) a + S1x14x1x256.size a ≤ S64x14x24x256.size a)
theorem k0_off2786_inb : ∀ (i : grid0.Coords) (v12401 : BitVec 32) (k0_hw983 : k0_chk983 i v12401), ∀ a, (k0_off2786 i v12401) a + S1x14x1x256.size a ≤ S64x14x24x256.size a := fun i v12401 k0_hw983 => k0_hw983

def k0_off2787 (i : grid0.Coords) (v12403 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12412 : Index := Scalar.indexCast v12212
  let c0_6637 : Index := 0#32
  let v12413 : Index := Scalar.indexCast v12403
  let c0_6638 : Index := 0#32
  ![v12412.toNat, 0, v12413.toNat, 0]

def k0_chk984 (i : grid0.Coords) (v12403 : BitVec 32) : Prop :=
  (∀ a, (k0_off2787 i v12403) a + S1x14x1x256.size a ≤ S64x14x24x256.size a)
theorem k0_off2787_inb : ∀ (i : grid0.Coords) (v12403 : BitVec 32) (k0_hw984 : k0_chk984 i v12403), ∀ a, (k0_off2787 i v12403) a + S1x14x1x256.size a ≤ S64x14x24x256.size a := fun i v12403 k0_hw984 => k0_hw984

def k0_off2788 (i : grid0.Coords) (v12405 : BitVec 32) : Fin 4 → Nat :=
  let c32_i32_6526 : BitVec 32 := 32#32
  let arg0 : BitVec 32 := BitVec.ofNat 32 (i 0).val
  let c2_i32 : BitVec 32 := 2#32
  let v0 : BitVec 32 := Scalar.remsi arg0 c2_i32
  let v12211 : BitVec 32 := Scalar.muli c32_i32_6526 v0
  let c31_i32_6527 : BitVec 32 := 31#32
  let v12212 : BitVec 32 := Scalar.addi v12211 c31_i32_6527
  let v12416 : Index := Scalar.indexCast v12212
  let c0_6639 : Index := 0#32
  let v12417 : Index := Scalar.indexCast v12405
  let c0_6640 : Index := 0#32
  ![v12416.toNat, 0, v12417.toNat, 0]

def k0_chk985 (i : grid0.Coords) (v12405 : BitVec 32) : Prop :=
  (∀ a, (k0_off2788 i v12405) a + S1x14x1x256.size a ≤ S64x14x24x256.size a)
theorem k0_off2788_inb : ∀ (i : grid0.Coords) (v12405 : BitVec 32) (k0_hw985 : k0_chk985 i v12405), ∀ a, (k0_off2788 i v12405) a + S1x14x1x256.size a ≤ S64x14x24x256.size a := fun i v12405 k0_hw985 => k0_hw985

def k0_off2789 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12432 : Index := Scalar.indexCast v12210
  let c44_6648 : Index := 44#32
  ![v12432.toNat, 44]
def k0_off2790 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12434 : Index := Scalar.indexCast v12210
  let c45_6649 : Index := 45#32
  ![v12434.toNat, 45]
def k0_off2791 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12436 : Index := Scalar.indexCast v12210
  let c46_6650 : Index := 46#32
  ![v12436.toNat, 46]
def k0_off2792 (v12433 : BitVec 32) : Fin 4 → Nat :=
  let c31_6651 : Index := 31#32
  let v12438 : Index := Scalar.indexCast v12433
  let c0_6652 : Index := 0#32
  let c0_6653 : Index := 0#32
  ![31, v12438.toNat, 0, 0]

def k0_chk986 (v12433 : BitVec 32) : Prop :=
  (∀ a, (k0_off2792 v12433) a + S1x3x7x256.size a ≤ S32x14x7x256.size a)
theorem k0_off2792_inb : ∀ (v12433 : BitVec 32) (k0_hw986 : k0_chk986 v12433), ∀ a, (k0_off2792 v12433) a + S1x3x7x256.size a ≤ S32x14x7x256.size a := fun v12433 k0_hw986 => k0_hw986

def k0_off2793 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12454 : Index := Scalar.indexCast v12210
  let c47_6659 : Index := 47#32
  ![v12454.toNat, 47]
def k0_off2794 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12456 : Index := Scalar.indexCast v12210
  let c48_6660 : Index := 48#32
  ![v12456.toNat, 48]
def k0_off2795 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12458 : Index := Scalar.indexCast v12210
  let c49_6661 : Index := 49#32
  ![v12458.toNat, 49]
def k0_off2796 (v12455 : BitVec 32) : Fin 4 → Nat :=
  let c31_6662 : Index := 31#32
  let v12460 : Index := Scalar.indexCast v12455
  let c0_6663 : Index := 0#32
  let c0_6664 : Index := 0#32
  ![31, v12460.toNat, 0, 0]

def k0_chk987 (v12455 : BitVec 32) : Prop :=
  (∀ a, (k0_off2796 v12455) a + S1x3x7x256.size a ≤ S32x14x7x256.size a)
theorem k0_off2796_inb : ∀ (v12455 : BitVec 32) (k0_hw987 : k0_chk987 v12455), ∀ a, (k0_off2796 v12455) a + S1x3x7x256.size a ≤ S32x14x7x256.size a := fun v12455 k0_hw987 => k0_hw987

def k0_off2797 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12476 : Index := Scalar.indexCast v12210
  let c50_6670 : Index := 50#32
  ![v12476.toNat, 50]
def k0_off2798 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12478 : Index := Scalar.indexCast v12210
  let c51_6671 : Index := 51#32
  ![v12478.toNat, 51]
def k0_off2799 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12480 : Index := Scalar.indexCast v12210
  let c52_6672 : Index := 52#32
  ![v12480.toNat, 52]
def k0_off2800 (v12477 : BitVec 32) : Fin 4 → Nat :=
  let c31_6673 : Index := 31#32
  let v12482 : Index := Scalar.indexCast v12477
  let c0_6674 : Index := 0#32
  let c0_6675 : Index := 0#32
  ![31, v12482.toNat, 0, 0]

def k0_chk988 (v12477 : BitVec 32) : Prop :=
  (∀ a, (k0_off2800 v12477) a + S1x3x7x256.size a ≤ S32x14x7x256.size a)
theorem k0_off2800_inb : ∀ (v12477 : BitVec 32) (k0_hw988 : k0_chk988 v12477), ∀ a, (k0_off2800 v12477) a + S1x3x7x256.size a ≤ S32x14x7x256.size a := fun v12477 k0_hw988 => k0_hw988

def k0_off2801 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12498 : Index := Scalar.indexCast v12210
  let c53_6681 : Index := 53#32
  ![v12498.toNat, 53]
def k0_off2802 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12500 : Index := Scalar.indexCast v12210
  let c54_6682 : Index := 54#32
  ![v12500.toNat, 54]
def k0_off2803 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12502 : Index := Scalar.indexCast v12210
  let c55_6683 : Index := 55#32
  ![v12502.toNat, 55]
def k0_off2804 (v12499 : BitVec 32) : Fin 4 → Nat :=
  let c31_6684 : Index := 31#32
  let v12504 : Index := Scalar.indexCast v12499
  let c0_6685 : Index := 0#32
  let c0_6686 : Index := 0#32
  ![31, v12504.toNat, 0, 0]

def k0_chk989 (v12499 : BitVec 32) : Prop :=
  (∀ a, (k0_off2804 v12499) a + S1x3x7x256.size a ≤ S32x14x7x256.size a)
theorem k0_off2804_inb : ∀ (v12499 : BitVec 32) (k0_hw989 : k0_chk989 v12499), ∀ a, (k0_off2804 v12499) a + S1x3x7x256.size a ≤ S32x14x7x256.size a := fun v12499 k0_hw989 => k0_hw989

def k0_off2805 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12520 : Index := Scalar.indexCast v12210
  let c56_6692 : Index := 56#32
  ![v12520.toNat, 56]
def k0_off2806 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12522 : Index := Scalar.indexCast v12210
  let c57_6693 : Index := 57#32
  ![v12522.toNat, 57]
def k0_off2807 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12524 : Index := Scalar.indexCast v12210
  let c58_6694 : Index := 58#32
  ![v12524.toNat, 58]
def k0_off2808 (v12521 : BitVec 32) : Fin 4 → Nat :=
  let c31_6695 : Index := 31#32
  let v12526 : Index := Scalar.indexCast v12521
  let c0_6696 : Index := 0#32
  let c0_6697 : Index := 0#32
  ![31, v12526.toNat, 0, 0]

def k0_chk990 (v12521 : BitVec 32) : Prop :=
  (∀ a, (k0_off2808 v12521) a + S1x3x7x256.size a ≤ S32x14x7x256.size a)
theorem k0_off2808_inb : ∀ (v12521 : BitVec 32) (k0_hw990 : k0_chk990 v12521), ∀ a, (k0_off2808 v12521) a + S1x3x7x256.size a ≤ S32x14x7x256.size a := fun v12521 k0_hw990 => k0_hw990

def k0_off2809 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12542 : Index := Scalar.indexCast v12210
  let c59_6703 : Index := 59#32
  ![v12542.toNat, 59]
def k0_off2810 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12544 : Index := Scalar.indexCast v12210
  let c60_6704 : Index := 60#32
  ![v12544.toNat, 60]
def k0_off2811 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12546 : Index := Scalar.indexCast v12210
  let c61_6705 : Index := 61#32
  ![v12546.toNat, 61]
def k0_off2812 (v12543 : BitVec 32) : Fin 4 → Nat :=
  let c31_6706 : Index := 31#32
  let v12548 : Index := Scalar.indexCast v12543
  let c0_6707 : Index := 0#32
  let c0_6708 : Index := 0#32
  ![31, v12548.toNat, 0, 0]

def k0_chk991 (v12543 : BitVec 32) : Prop :=
  (∀ a, (k0_off2812 v12543) a + S1x3x7x256.size a ≤ S32x14x7x256.size a)
theorem k0_off2812_inb : ∀ (v12543 : BitVec 32) (k0_hw991 : k0_chk991 v12543), ∀ a, (k0_off2812 v12543) a + S1x3x7x256.size a ≤ S32x14x7x256.size a := fun v12543 k0_hw991 => k0_hw991

def k0_off2813 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12564 : Index := Scalar.indexCast v12210
  let c62_6714 : Index := 62#32
  ![v12564.toNat, 62]
def k0_off2814 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12566 : Index := Scalar.indexCast v12210
  let c63_6715 : Index := 63#32
  ![v12566.toNat, 63]
def k0_off2815 (i : grid0.Coords) : Fin 2 → Nat :=
  let c32_i32_6524 : BitVec 32 := 32#32
  let arg0 : BitVec 32 := BitVec.ofNat 32 (i 0).val
  let v12209 : BitVec 32 := Scalar.muli c32_i32_6524 arg0
  let c31_i32_6525 : BitVec 32 := 31#32
  let v12210 : BitVec 32 := Scalar.addi v12209 c31_i32_6525
  let v12568 : Index := Scalar.indexCast v12210
  let c64_6716 : Index := 64#32
  ![v12568.toNat, 64]
def k0_off2816 (v12565 : BitVec 32) : Fin 4 → Nat :=
  let c31_6717 : Index := 31#32
  let v12570 : Index := Scalar.indexCast v12565
  let c0_6718 : Index := 0#32
  let c0_6719 : Index := 0#32
  ![31, v12570.toNat, 0, 0]

def k0_chk992 (v12565 : BitVec 32) : Prop :=
  (∀ a, (k0_off2816 v12565) a + S1x3x7x256.size a ≤ S32x14x7x256.size a)
theorem k0_off2816_inb : ∀ (v12565 : BitVec 32) (k0_hw992 : k0_chk992 v12565), ∀ a, (k0_off2816 v12565) a + S1x3x7x256.size a ≤ S32x14x7x256.size a := fun v12565 k0_hw992 => k0_hw992

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S1024x13 : Shape := ⟨2, ![1024, 13]⟩
abbrev S2x256x200x200 : Shape := ⟨4, ![2, 256, 200, 200]⟩
abbrev S_ : Shape := ⟨0, ![]⟩
abbrev S1024x1 : Shape := ⟨2, ![1024, 1]⟩
abbrev S1024 : Shape := ⟨1, ![1024]⟩
abbrev S7 : Shape := ⟨1, ![7]⟩
abbrev S1x7 : Shape := ⟨2, ![1, 7]⟩
abbrev S1024x7 : Shape := ⟨2, ![1024, 7]⟩
abbrev S16 : Shape := ⟨1, ![16]⟩
abbrev S1x16 : Shape := ⟨2, ![1, 16]⟩
abbrev S1024x16 : Shape := ⟨2, ![1024, 16]⟩
abbrev S1024x1x1 : Shape := ⟨3, ![1024, 1, 1]⟩
abbrev S1024x16x1 : Shape := ⟨3, ![1024, 16, 1]⟩
abbrev S1024x1x16 : Shape := ⟨3, ![1024, 1, 16]⟩
abbrev S1024x16x16 : Shape := ⟨3, ![1024, 16, 16]⟩
abbrev S1024x16x16x1 : Shape := ⟨4, ![1024, 16, 16, 1]⟩
abbrev S1024x16x16x3 : Shape := ⟨4, ![1024, 16, 16, 3]⟩
abbrev S1024x16x16x256 : Shape := ⟨4, ![1024, 16, 16, 256]⟩
abbrev S1024x7x1 : Shape := ⟨3, ![1024, 7, 1]⟩
abbrev S1024x7x16 : Shape := ⟨3, ![1024, 7, 16]⟩
abbrev S1024x7x16x1x1 : Shape := ⟨5, ![1024, 7, 16, 1, 1]⟩
abbrev S1024x1x16x16x256 : Shape := ⟨5, ![1024, 1, 16, 16, 256]⟩
abbrev S1024x7x16x16x256 : Shape := ⟨5, ![1024, 7, 16, 16, 256]⟩
abbrev S1024x7x16x256 : Shape := ⟨4, ![1024, 7, 16, 256]⟩
abbrev S1024x1x7x16x1 : Shape := ⟨5, ![1024, 1, 7, 16, 1]⟩
abbrev S1024x7x1x16x256 : Shape := ⟨5, ![1024, 7, 1, 16, 256]⟩
abbrev S1024x7x7x16x256 : Shape := ⟨5, ![1024, 7, 7, 16, 256]⟩
abbrev S1024x7x7x256 : Shape := ⟨4, ![1024, 7, 7, 256]⟩
abbrev S1024x256x7x7 : Shape := ⟨4, ![1024, 256, 7, 7]⟩
abbrev S1024x256x49 : Shape := ⟨3, ![1024, 256, 49]⟩

abbrev nBuf : Space → Nat
  | .hbm => 248
  | .vmem => 0
  | .smem => 0
  | _ => 0

abbrev hbmTy0_0 (i : Nat) : BufTy := match i % 128 with
  | 0 => ⟨S1024x13, .f32⟩
  | 1 => ⟨S2x256x200x200, .f32⟩
  | 2 => ⟨S_, .i32⟩
  | 3 => ⟨S_, .f32⟩
  | 4 => ⟨S_, .f32⟩
  | 5 => ⟨S_, .f32⟩
  | 6 => ⟨S1024x1, .f32⟩
  | 7 => ⟨S1024, .f32⟩
  | 8 => ⟨S1024, .i32⟩
  | 9 => ⟨S1024x1, .f32⟩
  | 10 => ⟨S1024, .f32⟩
  | 11 => ⟨S_, .f32⟩
  | 12 => ⟨S1024, .f32⟩
  | 13 => ⟨S1024, .f32⟩
  | 14 => ⟨S1024, .f32⟩
  | 15 => ⟨S1024, .i32⟩
  | 16 => ⟨S1024x1, .f32⟩
  | 17 => ⟨S1024, .f32⟩
  | 18 => ⟨S_, .f32⟩
  | 19 => ⟨S1024, .f32⟩
  | 20 => ⟨S1024, .f32⟩
  | 21 => ⟨S1024, .f32⟩
  | 22 => ⟨S1024, .i32⟩
  | 23 => ⟨S1024x1, .f32⟩
  | 24 => ⟨S1024, .f32⟩
  | 25 => ⟨S_, .f32⟩
  | 26 => ⟨S1024, .f32⟩
  | 27 => ⟨S1024, .f32⟩
  | 28 => ⟨S1024, .f32⟩
  | 29 => ⟨S1024, .i32⟩
  | 30 => ⟨S1024x1, .f32⟩
  | 31 => ⟨S1024, .f32⟩
  | 32 => ⟨S_, .f32⟩
  | 33 => ⟨S1024, .f32⟩
  | 34 => ⟨S1024, .f32⟩
  | 35 => ⟨S1024, .f32⟩
  | 36 => ⟨S1024, .i32⟩
  | 37 => ⟨S1024, .i32⟩
  | 38 => ⟨S_, .i32⟩
  | 39 => ⟨S1024, .i32⟩
  | 40 => ⟨S1024, .i32⟩
  | 41 => ⟨S_, .i32⟩
  | 42 => ⟨S1024, .i32⟩
  | 43 => ⟨S1024, .i32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i32⟩
  | 51 => ⟨S1024, .f32⟩
  | 52 => ⟨S_, .f32⟩
  | 53 => ⟨S1024, .f32⟩
  | 54 => ⟨S1024, .f32⟩
  | 55 => ⟨S1024, .f32⟩
  | 56 => ⟨S_, .f32⟩
  | 57 => ⟨S1024, .f32⟩
  | 58 => ⟨S1024, .f32⟩
  | 59 => ⟨S7, .f32⟩
  | 60 => ⟨S7, .f32⟩
  | 61 => ⟨S1x7, .f32⟩
  | 62 => ⟨S1024x1, .f32⟩
  | 63 => ⟨S1024x7, .f32⟩
  | 64 => ⟨S1024x7, .f32⟩
  | 65 => ⟨S1024x7, .f32⟩
  | 66 => ⟨S1024x7, .f32⟩
  | 67 => ⟨S1024x7, .i32⟩
  | 68 => ⟨S1024x1, .i32⟩
  | 69 => ⟨S1024x7, .i32⟩
  | 70 => ⟨S1024x7, .i32⟩
  | 71 => ⟨S_, .i32⟩
  | 72 => ⟨S_, .i32⟩
  | 73 => ⟨S_, .i32⟩
  | 74 => ⟨S1024x7, .i32⟩
  | 75 => ⟨S1024x7, .i32⟩
  | 76 => ⟨S_, .i32⟩
  | 77 => ⟨S1024x7, .i32⟩
  | 78 => ⟨S1024x7, .i32⟩
  | 79 => ⟨S1x7, .f32⟩
  | 80 => ⟨S_, .f32⟩
  | 81 => ⟨S1x7, .f32⟩
  | 82 => ⟨S1x7, .f32⟩
  | 83 => ⟨S1024x1, .f32⟩
  | 84 => ⟨S1024x7, .f32⟩
  | 85 => ⟨S1024x7, .f32⟩
  | 86 => ⟨S1024x7, .f32⟩
  | 87 => ⟨S1024x7, .f32⟩
  | 88 => ⟨S1024x7, .i32⟩
  | 89 => ⟨S1024x1, .i32⟩
  | 90 => ⟨S1024x7, .i32⟩
  | 91 => ⟨S1024x7, .i32⟩
  | 92 => ⟨S_, .i32⟩
  | 93 => ⟨S_, .i32⟩
  | 94 => ⟨S_, .i32⟩
  | 95 => ⟨S1024x7, .i32⟩
  | 96 => ⟨S1024x7, .i32⟩
  | 97 => ⟨S_, .i32⟩
  | 98 => ⟨S1024x7, .i32⟩
  | 99 => ⟨S1024x7, .i32⟩
  | 100 => ⟨S1x7, .f32⟩
  | 101 => ⟨S1024x1, .f32⟩
  | 102 => ⟨S1024x7, .f32⟩
  | 103 => ⟨S1024x7, .f32⟩
  | 104 => ⟨S1024x7, .f32⟩
  | 105 => ⟨S1024x7, .f32⟩
  | 106 => ⟨S1024x7, .i32⟩
  | 107 => ⟨S1024x1, .i32⟩
  | 108 => ⟨S1024x7, .i32⟩
  | 109 => ⟨S1024x7, .i32⟩
  | 110 => ⟨S_, .i32⟩
  | 111 => ⟨S_, .i32⟩
  | 112 => ⟨S_, .i32⟩
  | 113 => ⟨S1024x7, .i32⟩
  | 114 => ⟨S1024x7, .i32⟩
  | 115 => ⟨S_, .i32⟩
  | 116 => ⟨S1024x7, .i32⟩
  | 117 => ⟨S1024x7, .i32⟩
  | 118 => ⟨S1x7, .f32⟩
  | 119 => ⟨S_, .f32⟩
  | 120 => ⟨S1x7, .f32⟩
  | 121 => ⟨S1x7, .f32⟩
  | 122 => ⟨S1024x1, .f32⟩
  | 123 => ⟨S1024x7, .f32⟩
  | 124 => ⟨S1024x7, .f32⟩
  | 125 => ⟨S1024x7, .f32⟩
  | 126 => ⟨S1024x7, .f32⟩
  | 127 => ⟨S1024x7, .i32⟩
  | _ => ⟨S1024x13, .f32⟩

abbrev hbmTy0_1 (i : Nat) : BufTy := match i % 128 with
  | 0 => ⟨S1024x1, .i32⟩
  | 1 => ⟨S1024x7, .i32⟩
  | 2 => ⟨S1024x7, .i32⟩
  | 3 => ⟨S_, .i32⟩
  | 4 => ⟨S_, .i32⟩
  | 5 => ⟨S_, .i32⟩
  | 6 => ⟨S1024x7, .i32⟩
  | 7 => ⟨S1024x7, .i32⟩
  | 8 => ⟨S_, .i32⟩
  | 9 => ⟨S1024x7, .i32⟩
  | 10 => ⟨S1024x7, .i32⟩
  | 11 => ⟨S1024x1, .i32⟩
  | 12 => ⟨S16, .i32⟩
  | 13 => ⟨S1x16, .i32⟩
  | 14 => ⟨S1024x16, .i32⟩
  | 15 => ⟨S1024x16, .i32⟩
  | 16 => ⟨S1024x16, .i32⟩
  | 17 => ⟨S1024x1, .i32⟩
  | 18 => ⟨S16, .i32⟩
  | 19 => ⟨S1x16, .i32⟩
  | 20 => ⟨S1024x16, .i32⟩
  | 21 => ⟨S1024x16, .i32⟩
  | 22 => ⟨S1024x16, .i32⟩
  | 23 => ⟨S_, .i32⟩
  | 24 => ⟨S_, .i32⟩
  | 25 => ⟨S_, .i32⟩
  | 26 => ⟨S1024x16, .i32⟩
  | 27 => ⟨S1024x16, .i32⟩
  | 28 => ⟨S_, .i32⟩
  | 29 => ⟨S1024x16, .i32⟩
  | 30 => ⟨S1024x16, .i32⟩
  | 31 => ⟨S_, .i32⟩
  | 32 => ⟨S_, .i32⟩
  | 33 => ⟨S_, .i32⟩
  | 34 => ⟨S1024x16, .i32⟩
  | 35 => ⟨S1024x16, .i32⟩
  | 36 => ⟨S_, .i32⟩
  | 37 => ⟨S1024x16, .i32⟩
  | 38 => ⟨S1024x16, .i32⟩
  | 39 => ⟨S1024x1x1, .i32⟩
  | 40 => ⟨S1024x16x1, .i32⟩
  | 41 => ⟨S1024x1x16, .i32⟩
  | 42 => ⟨S_, .i32⟩
  | 43 => ⟨S1024x1x1, .i32⟩
  | 44 => ⟨S1024x1x1, .i1⟩
  | 45 => ⟨S_, .i32⟩
  | 46 => ⟨S1024x1x1, .i32⟩
  | 47 => ⟨S1024x1x1, .i32⟩
  | 48 => ⟨S1024x1x1, .i32⟩
  | 49 => ⟨S_, .i32⟩
  | 50 => ⟨S1024x16x1, .i32⟩
  | 51 => ⟨S1024x16x1, .i1⟩
  | 52 => ⟨S_, .i32⟩
  | 53 => ⟨S1024x16x1, .i32⟩
  | 54 => ⟨S1024x16x1, .i32⟩
  | 55 => ⟨S1024x16x1, .i32⟩
  | 56 => ⟨S_, .i32⟩
  | 57 => ⟨S1024x1x16, .i32⟩
  | 58 => ⟨S1024x1x16, .i1⟩
  | 59 => ⟨S_, .i32⟩
  | 60 => ⟨S1024x1x16, .i32⟩
  | 61 => ⟨S1024x1x16, .i32⟩
  | 62 => ⟨S1024x1x16, .i32⟩
  | 63 => ⟨S1024x16x16, .i32⟩
  | 64 => ⟨S1024x16x16, .i32⟩
  | 65 => ⟨S1024x16x16, .i32⟩
  | 66 => ⟨S1024x16x16x1, .i32⟩
  | 67 => ⟨S1024x16x16x1, .i32⟩
  | 68 => ⟨S1024x16x16x1, .i32⟩
  | 69 => ⟨S1024x16x16x3, .i32⟩
  | 70 => ⟨S1024x16x16x256, .f32⟩
  | 71 => ⟨S1024x1x16, .i32⟩
  | 72 => ⟨S1024x7x1, .i32⟩
  | 73 => ⟨S1024x7x16, .i32⟩
  | 74 => ⟨S1024x7x16, .i32⟩
  | 75 => ⟨S1024x7x16, .i1⟩
  | 76 => ⟨S1024x1x16, .i32⟩
  | 77 => ⟨S1024x7x1, .i32⟩
  | 78 => ⟨S1024x7x16, .i32⟩
  | 79 => ⟨S1024x7x16, .i32⟩
  | 80 => ⟨S1024x7x16, .i1⟩
  | 81 => ⟨S1024x7x16, .i1⟩
  | 82 => ⟨S1024x1x16, .i32⟩
  | 83 => ⟨S1024x7x1, .i32⟩
  | 84 => ⟨S1024x7x16, .i32⟩
  | 85 => ⟨S1024x7x16, .i32⟩
  | 86 => ⟨S1024x7x16, .i1⟩
  | 87 => ⟨S1024x1x16, .i32⟩
  | 88 => ⟨S1024x7x1, .i32⟩
  | 89 => ⟨S1024x7x16, .i32⟩
  | 90 => ⟨S1024x7x16, .i32⟩
  | 91 => ⟨S1024x7x16, .i1⟩
  | 92 => ⟨S1024x7x16, .i1⟩
  | 93 => ⟨S1024x7x16x1x1, .i1⟩
  | 94 => ⟨S1024x1x16x16x256, .f32⟩
  | 95 => ⟨S_, .f32⟩
  | 96 => ⟨S1024x7x16x16x256, .i1⟩
  | 97 => ⟨S1024x7x16x16x256, .f32⟩
  | 98 => ⟨S1024x7x16x16x256, .f32⟩
  | 99 => ⟨S1024x7x16x16x256, .f32⟩
  | 100 => ⟨S_, .f32⟩
  | 101 => ⟨S1024x7x16x256, .f32⟩
  | 102 => ⟨S1024x1x7x16x1, .i1⟩
  | 103 => ⟨S1024x7x1x16x256, .f32⟩
  | 104 => ⟨S_, .f32⟩
  | 105 => ⟨S1024x7x7x16x256, .i1⟩
  | 106 => ⟨S1024x7x7x16x256, .f32⟩
  | 107 => ⟨S1024x7x7x16x256, .f32⟩
  | 108 => ⟨S1024x7x7x16x256, .f32⟩
  | 109 => ⟨S_, .f32⟩
  | 110 => ⟨S1024x7x7x256, .f32⟩
  | 111 => ⟨S1024x7x7x256, .f32⟩
  | 112 => ⟨S_, .f32⟩
  | 113 => ⟨S1024x7x7x256, .f32⟩
  | 114 => ⟨S1024x7x7x256, .i1⟩
  | 115 => ⟨S_, .f32⟩
  | 116 => ⟨S1024x7x7x256, .f32⟩
  | 117 => ⟨S1024x7x7x256, .f32⟩
  | 118 => ⟨S1024x256x7x7, .f32⟩
  | 119 => ⟨S1024x256x49, .f32⟩
  | _ => ⟨S1024x13, .f32⟩

abbrev hbmTy (i : Nat) : BufTy := match i / 128 with
  | 0 => hbmTy0_0 i
  | 1 => hbmTy0_1 i
  | _ => ⟨S1024x13, .f32⟩

abbrev bufTy : (tb : Table) → Fin (tcTables nBuf tb) → BufTy
  | .hbm, ⟨i, _⟩ => hbmTy i
  | _, _ => ⟨S1024x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c : Ref sig .tc := ⟨.hbm, 38, rfl⟩
abbrev main_v34 : Ref sig .tc := ⟨.hbm, 39, rfl⟩
abbrev main_v35 : Ref sig .tc := ⟨.hbm, 40, rfl⟩
abbrev main_c_0 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_1 : Ref sig .tc := ⟨.hbm, 45, rfl⟩
abbrev main_v39 : Ref sig .tc := ⟨.hbm, 46, rfl⟩
abbrev main_v40 : Ref sig .tc := ⟨.hbm, 47, rfl⟩
abbrev main_c_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_5 : Ref sig .tc := ⟨.hbm, 71, rfl⟩
abbrev main_c_6 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_8 : Ref sig .tc := ⟨.hbm, 92, rfl⟩
abbrev main_c_9 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_10 : Ref sig .tc := ⟨.hbm, 110, rfl⟩
abbrev main_c_11 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_v85 : Ref sig .tc := ⟨.hbm, 117, rfl⟩
abbrev main_v86 : Ref sig .tc := ⟨.hbm, 118, rfl⟩
abbrev main_cst_12 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_13 : Ref sig .tc := ⟨.hbm, 131, rfl⟩
abbrev main_c_14 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_15 : Ref sig .tc := ⟨.hbm, 151, rfl⟩
abbrev main_c_16 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_v111 : Ref sig .tc := ⟨.hbm, 158, rfl⟩
abbrev main_c_17 : Ref sig .tc := ⟨.hbm, 159, rfl⟩
abbrev main_c_18 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_call9_v3 : Ref sig .tc := ⟨.hbm, 164, rfl⟩
abbrev main_call9_v4 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_19 : Ref sig .tc := ⟨.hbm, 170, rfl⟩
abbrev main_v116 : Ref sig .tc := ⟨.hbm, 171, rfl⟩
abbrev main_v117 : Ref sig .tc := ⟨.hbm, 172, rfl⟩
abbrev main_c_20 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_21 : Ref sig .tc := ⟨.hbm, 177, rfl⟩
abbrev main_v121 : Ref sig .tc := ⟨.hbm, 178, rfl⟩
abbrev main_v122 : Ref sig .tc := ⟨.hbm, 179, rfl⟩
abbrev main_c_22 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_23 : Ref sig .tc := ⟨.hbm, 184, rfl⟩
abbrev main_v126 : Ref sig .tc := ⟨.hbm, 185, rfl⟩
abbrev main_v127 : Ref sig .tc := ⟨.hbm, 186, rfl⟩
abbrev main_c_24 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_25 : Ref sig .tc := ⟨.hbm, 223, rfl⟩
abbrev main_call10_v0 : Ref sig .tc := ⟨.hbm, 224, rfl⟩
abbrev main_call10_v1 : Ref sig .tc := ⟨.hbm, 225, rfl⟩
abbrev main_call10_v2 : Ref sig .tc := ⟨.hbm, 226, rfl⟩
abbrev main_v163 : Ref sig .tc := ⟨.hbm, 227, rfl⟩
abbrev main_cst_26 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_27 : Ref sig .tc := ⟨.hbm, 232, rfl⟩
abbrev main_call11_v0 : Ref sig .tc := ⟨.hbm, 233, rfl⟩
abbrev main_call11_v1 : Ref sig .tc := ⟨.hbm, 234, rfl⟩
abbrev main_call11_v2 : Ref sig .tc := ⟨.hbm, 235, rfl⟩
abbrev main_v167 : Ref sig .tc := ⟨.hbm, 236, rfl⟩
abbrev main_cst_28 : Ref sig .tc := ⟨.hbm, 237, rfl⟩
abbrev main_v168 : Ref sig .tc := ⟨.hbm, 238, rfl⟩
abbrev main_v169 : Ref sig .tc := ⟨.hbm, 239, rfl⟩
abbrev main_cst_29 : Ref sig .tc := ⟨.hbm, 240, rfl⟩
abbrev main_v170 : Ref sig .tc := ⟨.hbm, 241, rfl⟩
abbrev main_v171 : Ref sig .tc := ⟨.hbm, 242, rfl⟩
abbrev main_cst_30 : Ref sig .tc := ⟨.hbm, 243, rfl⟩
abbrev main_call12_v0 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩

abbrev nD : Nat := 1
abbrev τ : Topo := Topo.v7x

variable {F : FTy → Type} [FloatOps F]
-- ==== Proof.Body.lean ====
/- The kernel body as a short program: the loops over the 32 RoIs of a grid point, over the 7 bin columns and over the 7 bin
   rows are folds over lists of indices, and each stage of a loop is one definition in the loop's indices. -/
module

public import proofs.«01_k».proof.KernelIdeal
public import proofs.«01_k».proof.Proof.Gen.KernelIdeal

@[expose] public section

noncomputable section

namespace Cert.RoiPool

open Idealize.ShloMosaic Idealize.SL.Sem Cert.KernelIdeal
open Cert.KernelIdeal.Facts Cert.KernelIdeal.Shapes1.Facts₀ Cert.KernelIdeal.K0.R2.Facts₀ Cert.KernelIdeal.K0.R1.Facts₀

variable {F : FTy → Type} [FloatOps F]

/-- The 32 RoIs of a grid point. -/
def rois : List (Fin 32) :=
  [⟨0, by decide⟩, ⟨1, by decide⟩, ⟨2, by decide⟩, ⟨3, by decide⟩, ⟨4, by decide⟩, ⟨5, by decide⟩, ⟨6, by decide⟩,
   ⟨7, by decide⟩, ⟨8, by decide⟩, ⟨9, by decide⟩, ⟨10, by decide⟩, ⟨11, by decide⟩, ⟨12, by decide⟩, ⟨13, by decide⟩,
   ⟨14, by decide⟩, ⟨15, by decide⟩, ⟨16, by decide⟩, ⟨17, by decide⟩, ⟨18, by decide⟩, ⟨19, by decide⟩,
   ⟨20, by decide⟩, ⟨21, by decide⟩, ⟨22, by decide⟩, ⟨23, by decide⟩, ⟨24, by decide⟩, ⟨25, by decide⟩,
   ⟨26, by decide⟩, ⟨27, by decide⟩, ⟨28, by decide⟩, ⟨29, by decide⟩, ⟨30, by decide⟩, ⟨31, by decide⟩]

/-- The 7 bins along an axis. -/
def bins : List (Fin 7) :=
  [⟨0, by decide⟩, ⟨1, by decide⟩, ⟨2, by decide⟩, ⟨3, by decide⟩, ⟨4, by decide⟩, ⟨5, by decide⟩, ⟨6, by decide⟩]

/-! ## Offsets -/

/-- The grid point as a word. -/
abbrev point (i : grid0.Coords) : BitVec 32 := BitVec.ofNat 32 (i 0).val

/-- The table row of RoI `j` of the grid point, as the body computes it. -/
def rowWord (i : grid0.Coords) (j : Fin 32) : BitVec 32 :=
  Scalar.addi (Scalar.muli 32#32 (point i)) (BitVec.ofNat 32 j.val)

/-- The table row of RoI `j` of the next grid point. -/
def nextRowWord (i : grid0.Coords) (j : Fin 32) : BitVec 32 :=
  Scalar.addi (Scalar.muli 32#32 (Scalar.addi (point i) 1#32)) (BitVec.ofNat 32 j.val)

/-- The crop slot of RoI `j` of the grid point. -/
def slotWord (i : grid0.Coords) (j : Fin 32) : BitVec 32 :=
  Scalar.addi (Scalar.muli 32#32 (Scalar.remsi (point i) 2#32)) (BitVec.ofNat 32 j.val)

/-- The crop slot of RoI `j` of the next grid point. -/
def nextSlotWord (i : grid0.Coords) (j : Fin 32) : BitVec 32 :=
  Scalar.addi (Scalar.muli 32#32 (Scalar.remsi (Scalar.addi (point i) 1#32) 2#32)) (BitVec.ofNat 32 j.val)

/-- Where the table holds entry `c` of RoI `j` of the grid point. -/
def tabOff (i : grid0.Coords) (j : Fin 32) (c : Nat) : Fin 2 → Nat :=
  ![(Scalar.indexCast (rowWord i j)).toNat, c]

/-- Where the table holds entry `c` of RoI `j` of the next grid point. -/
def nextTabOff (i : grid0.Coords) (j : Fin 32) (c : Nat) : Fin 2 → Nat :=
  ![(Scalar.indexCast (nextRowWord i j)).toNat, c]

/-- Where a copy's source starts in the feature array. -/
def srcOff (b x : BitVec 32) : Fin 3 → Nat := ![b.toNat, x.toNat, 0]

/-- Where bin column `v` of the crop slot of RoI `j` starts. -/
def colOff (i : grid0.Coords) (j : Fin 32) (v : BitVec 32) : Fin 4 → Nat :=
  ![(Scalar.indexCast (slotWord i j)).toNat, 0, (Scalar.indexCast v).toNat, 0]

/-- Where the three rows from `v` of RoI `j`'s column maxima start. -/
def slabOff (j : Fin 32) (v : BitVec 32) : Fin 4 → Nat := ![j.val, (Scalar.indexCast v).toNat, 0, 0]

/-- RoI `j` of a grid point has its row of the table at 32 times the point plus `j`. -/
theorem rowWord_lt : ∀ (i : grid0.Coords) (j : Fin 32), (Scalar.indexCast (rowWord i j)).toNat = 32 * (i 0).val + j.val := by
  decide +kernel

/-- RoI `j` of the next grid point has its row 32 further on. -/
theorem nextRowWord_eq : ∀ (i : grid0.Coords), k0_cond2 i = 1#1 → ∀ (j : Fin 32),
    (Scalar.indexCast (nextRowWord i j)).toNat = 32 * ((i 0).val + 1) + j.val := by
  decide +kernel

/-- RoI `j`'s crop slot at a grid point: the lower half of the slots at even points, the upper half at odd ones. -/
theorem slotWord_eq : ∀ (i : grid0.Coords) (j : Fin 32), (slotWord i j).toNat = 32 * ((i 0).val % 2) + j.val := by
  decide +kernel

/-- The next point's RoI `j` has its slot in the other half. -/
theorem nextSlotWord_eq : ∀ (i : grid0.Coords) (j : Fin 32), (nextSlotWord i j).toNat = 32 * (((i 0).val + 1) % 2) + j.val := by
  decide +kernel

/-- There are 32 grid points. -/
theorem point_lt (i : grid0.Coords) : (i 0).val < 32 := (i 0).isLt

/-- A column below 65 of a point's row lies in the table. -/
theorem tabOff_inb (i : grid0.Coords) (j : Fin 32) {c : Nat} (hc : c < 65) :
    ∀ a, tabOff i j c a + S1x1.size a ≤ S1024x65.size a := by
  intro a
  have h := rowWord_lt i j
  have hi := point_lt i
  have hj := j.isLt
  fin_cases a
  · show (Scalar.indexCast (rowWord i j)).toNat + 1 ≤ 1024
    omega
  · show c + 1 ≤ 65
    omega

/-- A column below 65 of one of the first 32 rows lies in the table. -/
theorem tab0_inb (j : Fin 32) {c : Nat} (hc : c < 65) : ∀ a, (![j.val, c] : Fin 2 → Nat) a + S1x1.size a ≤ S1024x65.size a := by
  intro a
  have hj := j.isLt
  fin_cases a
  · show j.val + 1 ≤ 1024
    omega
  · show c + 1 ≤ 65
    omega

/-- The branch that starts the next point's copies is taken at every point but the last. -/
theorem cond2_lt : ∀ (i : grid0.Coords), k0_cond2 i = 1#1 ↔ (i 0).val + 1 < 32 := by decide +kernel

/-- The branch that starts the first copies is taken at the first point only. -/
theorem cond1_eq : ∀ (i : grid0.Coords), k0_cond1 i = 1#1 ↔ (i 0).val = 0 := by decide +kernel

/-- A column below 65 of the next point's row lies in the table. -/
theorem nextTabOff_inb (i : grid0.Coords) (h : k0_cond2 i = 1#1) (j : Fin 32) {c : Nat} (hc : c < 65) :
    ∀ a, nextTabOff i j c a + S1x1.size a ≤ S1024x65.size a := by
  intro a
  have h1 := nextRowWord_eq i h j
  have hi := (cond2_lt i).1 h
  have hj := j.isLt
  fin_cases a
  · show (Scalar.indexCast (nextRowWord i j)).toNat + 1 ≤ 1024
    omega
  · show c + 1 ≤ 65
    omega

/-- A semaphore below 64 lies in the semaphore array. -/
theorem sem_inb {n : Nat} (hn : n < 64) : ∀ a, (![n] : Fin 1 → Nat) a + S1.size a ≤ S64.size a := by
  intro a
  fin_cases a
  show n + 1 ≤ 64
  omega

/-- A crop slot below 64 lies in the crop buffer. -/
theorem crop_inb {n : Nat} (hn : n < 64) :
    ∀ a, (![n, 0, 0, 0] : Fin 4 → Nat) a + S1x14x24x256.size a ≤ S64x14x24x256.size a := by
  intro a
  fin_cases a
  · show n + 1 ≤ 64
    omega
  all_goals exact Nat.le_refl _

/-- A point's slots are below 64. -/
theorem slot_lt (i : grid0.Coords) (j : Fin 32) : (slotWord i j).toNat < 64 := by
  have := slotWord_eq i j
  have := j.isLt
  omega

/-- The next point's slots are below 64. -/
theorem nextSlot_lt (i : grid0.Coords) (j : Fin 32) : (nextSlotWord i j).toNat < 64 := by
  have := nextSlotWord_eq i j
  have := j.isLt
  omega

/-- The maxima of bin column `q` of RoI `j` lie in the buffer of column maxima. -/
theorem maxima_inb (j : Fin 32) (q : Fin 7) :
    ∀ a, (![j.val, 0, q.val, 0] : Fin 4 → Nat) a + S1x14x1x256.size a ≤ S32x14x7x256.size a := by
  intro a
  have := j.isLt
  have := q.isLt
  fin_cases a
  · show j.val + 1 ≤ 32
    omega
  · exact Nat.le_refl _
  · show q.val + 1 ≤ 7
    omega
  · exact Nat.le_refl _

/-- The seven results of bin row `p` of RoI `j` lie in the buffer of results. -/
theorem res_inb (j : Fin 32) (p : Fin 7) :
    ∀ a, (![j.val, 7 * p.val, 0] : Fin 3 → Nat) a + S1x7x256.size a ≤ S32x49x256.size a := by
  intro a
  have := j.isLt
  have := p.isLt
  fin_cases a
  · show j.val + 1 ≤ 32
    omega
  · show 7 * p.val + 7 ≤ 49
    omega
  · exact Nat.le_refl _

/-- RoI `j`'s results lie in the buffer of results. -/
theorem resRoi_inb (j : Fin 32) : ∀ a, (![j.val, 0, 0] : Fin 3 → Nat) a + S1x49x256.size a ≤ S32x49x256.size a := by
  intro a
  have := j.isLt
  fin_cases a
  · show j.val + 1 ≤ 32
    omega
  all_goals exact Nat.le_refl _

/-- RoI `j`'s block lies in the output block. -/
theorem outRoi_inb (j : Fin 32) : ∀ a, (![j.val, 0, 0] : Fin 3 → Nat) a + S1x256x49.size a ≤ S32x256x49.size a := by
  intro a
  have := j.isLt
  fin_cases a
  · show j.val + 1 ≤ 32
    omega
  all_goals exact Nat.le_refl _

/-! ## What the body assumes of the words it loads -/

/-- A word the kernel declares a multiple of eight. -/
def mult8 (x : BitVec 32) : BitVec 32 := x

/-- The copy's source block lies in the feature array (at the first point's starts, where that branch is taken). -/
def chkStart0 (i : grid0.Coords) (b x : BitVec 32) : Prop :=
  (∀ (_ : k0_cond1 i = 1#1), 8 ∣ (mult8 x).toNat) ∧
  (∀ (_ : k0_cond1 i = 1#1), ∀ a, srcOff b x a + S14x24x256.size a ≤ S400x200x256.size a)

/-- Whether it holds can be decided. -/
instance chkStart0.dec (i : grid0.Coords) (b x : BitVec 32) : Decidable (chkStart0 i b x) :=
  decidable_of_iff' _ (Iff.of_eq (chkStart0.eq_1 i b x))

/-- The same for the starts of the next point's copies. -/
def chkNext (i : grid0.Coords) (b x : BitVec 32) : Prop :=
  (∀ (_ : k0_cond2 i = 1#1), 8 ∣ (mult8 x).toNat) ∧
  (∀ (_ : k0_cond2 i = 1#1), ∀ a, srcOff b x a + S14x24x256.size a ≤ S400x200x256.size a)

/-- Whether it holds can be decided. -/
instance chkNext.dec (i : grid0.Coords) (b x : BitVec 32) : Decidable (chkNext i b x) :=
  decidable_of_iff' _ (Iff.of_eq (chkNext.eq_1 i b x))

/-- The same for the waits. -/
def chkSrc (b x : BitVec 32) : Prop :=
  (8 ∣ (mult8 x).toNat) ∧ (∀ a, srcOff b x a + S14x24x256.size a ≤ S400x200x256.size a)

/-- Whether it holds can be decided. -/
instance chkSrc.dec (b x : BitVec 32) : Decidable (chkSrc b x) :=
  decidable_of_iff' _ (Iff.of_eq (chkSrc.eq_1 b x))

/-- A column load lies in the crop. -/
def chkCol (i : grid0.Coords) (j : Fin 32) (v : BitVec 32) : Prop :=
  ∀ a, colOff i j v a + S1x14x1x256.size a ≤ S64x14x24x256.size a

/-- Whether it holds can be decided. -/
instance chkCol.dec (i : grid0.Coords) (j : Fin 32) (v : BitVec 32) : Decidable (chkCol i j v) :=
  decidable_of_iff' _ (Iff.of_eq (chkCol.eq_1 i j v))

/-- A three-row load lies in the column maxima. -/
def chkSlab (j : Fin 32) (v : BitVec 32) : Prop :=
  ∀ a, slabOff j v a + S1x3x7x256.size a ≤ S32x14x7x256.size a

/-- Whether it holds can be decided. -/
instance chkSlab.dec (j : Fin 32) (v : BitVec 32) : Decidable (chkSlab j v) :=
  decidable_of_iff' _ (Iff.of_eq (chkSlab.eq_1 j v))

/-! ## The pure steps -/

/-- A bin column's maximum over its (at most three) cells, as the kernel selects it by the column's span. -/
def colMax (span : Elt F .i32) (a0 a1 a2 : Vec F S1x14x1x256 .f32) : FVec F S1x14x1x256 .f32 :=
  let m0 : FVec F S14x1x256 .f32 := shapeCast S14x1x256 a0 shapeCasts_S1x14x1x256_S14x1x256
  let m1 : FVec F S14x1x256 .f32 :=
    Scalar.select (Scalar.cmpi .sge span 2#32)
      (maximumf m0 (shapeCast S14x1x256 a1 shapeCasts_S1x14x1x256_S14x1x256)) m0
  let m2 : FVec F S14x1x256 .f32 :=
    Scalar.select (Scalar.cmpi .sge span 3#32)
      (maximumf m1 (shapeCast S14x1x256 a2 shapeCasts_S1x14x1x256_S14x1x256)) m1
  shapeCast S1x14x1x256
    (Scalar.select (Scalar.cmpi .sge span 1#32) m2 (broadcast S14x1x256 (Scalar.ofBits .f32 0xFF800000#32)) : FVec F S14x1x256 .f32)
    shapeCasts_S14x1x256_S1x14x1x256

/-- A bin row's maximum over the rows `lo ≤ · < hi` of a three-row slab. -/
def rowMax (lo hi : Elt F .i32) (b : Vec F S1x3x7x256 .f32) : FVec F S1x7x256 .f32 :=
  let row : IVec S3x1x1 32 := iota .tc S3x1x1 32 [0] iota_S3x1x1_d0_w32
  let m : IVec S3x1x1 1 := andi (cmpi .sge row (broadcast S3x1x1 lo)) (cmpi .slt row (broadcast S3x1x1 hi))
  let mb : IVec S3x7x256 1 :=
    broadcastTo S3x7x256 (shapeCast S3x1x1 m shapeCasts_S3x1x1_S3x1x1) broadcasts_S3x1x1_S3x7x256
  let v : FVec F S3x7x256 .f32 :=
    select mb (shapeCast S3x7x256 b shapeCasts_S1x3x7x256_S3x7x256) (broadcast S3x7x256 (Scalar.ofBits .f32 0xFF800000#32))
  shapeCast S1x7x256
    (multiReduction .maximumf [0] S7x256 v 0xFF800000#32 reduces_S3x7x256_S7x256 (.inl rfl) rfl : FVec F S7x256 .f32)
    shapeCasts_S7x256_S1x7x256

/-- A RoI's block of the result: its bins, a bin whose maximum is minus infinity set to zero, transposed. -/
def outRoi (v : Vec F S1x49x256 .f32) : FVec F S1x256x49 .f32 :=
  let r : FVec F S49x256 .f32 := shapeCast S49x256 v shapeCasts_S1x49x256_S49x256
  let z : FVec F S49x256 .f32 :=
    select (cmpf .oeq r (broadcast S49x256 (Scalar.ofBits .f32 0xFF800000#32))) (broadcast S49x256 (Scalar.ofBits .f32 0x00000000#32)) r
  shapeCast S1x256x49 (transpose S256x49 [1, 0] z transposes_S49x256_p1_0_S256x49 : FVec F S256x49 .f32) shapeCasts_S256x49_S1x256x49

/-! ## The stages -/

section Stages

variable (i : grid0.Coords) (arg1 : Memref sig .tc .smem S1024x65 .i32) (arg2 : Memref sig .tc .hbm S400x200x256 .f32)
  (arg3 : Memref sig .tc .vmem S32x256x49 .f32) (arg4 : Memref sig .tc .vmem S64x14x24x256 .f32)
  (arg5 : Memref sig .tc .vmem S32x14x7x256 .f32) (arg6 : Memref sig .tc .vmem S32x49x256 .f32) (arg7 : DmaSems sig S64)

/-- The body's programs. -/
abbrev Pr (F : FTy → Type) [FloatOps F] := Prog (TpuEff nD τ sig (Elt F) Λ₀ .tc) PUnit

/-- Crop slot `n` as the destination of a copy. -/
abbrev cropSlot (n : Nat) (h : n < 64) : Memref sig .tc .vmem S14x24x256 .f32 :=
  (arg4.slice (Rect.unit (s := S64x14x24x256) ![n, 0, 0, 0] S1x14x24x256.size (crop_inb h)) (fun _ => rfl)).squeeze
    S14x24x256 squeezes_S1x14x24x256_S14x24x256

/-- Semaphore `n`. -/
abbrev cropSem (n : Nat) (h : n < 64) : DmaSem sig :=
  ((arg7.slice (Rect.unit (s := S64) ![n] S1.size (sem_inb h))).squeeze S_ squeezes_S1_S_).sem

/-- The source block of a copy. -/
abbrev srcBlock (b x : BitVec 32) (h : ∀ a, srcOff b x a + S14x24x256.size a ≤ S400x200x256.size a) :
    Memref sig .tc .hbm S14x24x256 .f32 :=
  arg2.slice (Rect.unit (s := S400x200x256) (srcOff b x) S14x24x256.size h) (fun _ => rfl)

/-- At the first grid point: start RoI `j`'s copy. -/
def start0 (h1 : k0_cond1 i = 1#1) (j : Fin 32) (k : Pr F) : Pr F := do
  let b : Elt F .i32 ← smemLoad arg1 (Rect.unit (s := S1024x65) ![j.val, 0] S1x1.size (tab0_inb j (by decide))) numel1_S1x1 rfl
  let x : Elt F .i32 ← smemLoad arg1 (Rect.unit (s := S1024x65) ![j.val, 1] S1x1.size (tab0_inb j (by decide))) numel1_S1x1 rfl
  have hw : chkStart0 i b x := (← Prog.lift (TpuEff.assume (chkStart0 i b x) (chkStart0.dec i b x))).down
  Prog.lift (.enqueueDma (srcBlock arg2 b x (hw.2 h1)) (.here (cropSlot arg4 j.val (by omega))) (.dma (cropSem arg7 j.val (by omega)))
    (View.wordExact_bits rfl) ((View.wordExact_bits rfl).reshape _ _) ⟨Or.inl rfl, trivial⟩)
  k

/-- Before the last grid point: start the copy of RoI `j` of the next point. -/
def startNext (h2 : k0_cond2 i = 1#1) (j : Fin 32) (k : Pr F) : Pr F := do
  let b : Elt F .i32 ← smemLoad arg1 (Rect.unit (s := S1024x65) (nextTabOff i j 0) S1x1.size (nextTabOff_inb i h2 j (by decide))) numel1_S1x1 rfl
  let x : Elt F .i32 ← smemLoad arg1 (Rect.unit (s := S1024x65) (nextTabOff i j 1) S1x1.size (nextTabOff_inb i h2 j (by decide))) numel1_S1x1 rfl
  have hw : chkNext i b x := (← Prog.lift (TpuEff.assume (chkNext i b x) (chkNext.dec i b x))).down
  Prog.lift (.enqueueDma (srcBlock arg2 b x (hw.2 h2)) (.here (cropSlot arg4 (nextSlotWord i j).toNat (nextSlot_lt i j)))
    (.dma (cropSem arg7 (nextSlotWord i j).toNat (nextSlot_lt i j)))
    (View.wordExact_bits rfl) ((View.wordExact_bits rfl).reshape _ _) ⟨Or.inl rfl, trivial⟩)
  k

/-- Wait for RoI `j`'s copy. -/
def wait (j : Fin 32) (k : Pr F) : Pr F := do
  let b : Elt F .i32 ← smemLoad arg1 (Rect.unit (s := S1024x65) (tabOff i j 0) S1x1.size (tabOff_inb i j (by decide))) numel1_S1x1 rfl
  let x : Elt F .i32 ← smemLoad arg1 (Rect.unit (s := S1024x65) (tabOff i j 1) S1x1.size (tabOff_inb i j (by decide))) numel1_S1x1 rfl
  have hw : chkSrc b x := (← Prog.lift (TpuEff.assume (chkSrc b x) (chkSrc.dec b x))).down
  Prog.lift (.waitDma2 (cropSem arg7 (slotWord i j).toNat (slot_lt i j)) (srcBlock arg2 b x hw.2)
    (cropSlot arg4 (slotWord i j).toNat (slot_lt i j)) (View.wordExact_bits rfl) ((View.wordExact_bits rfl).reshape _ _))
  k

/-- Bin column `q` of RoI `j`. -/
def colStage (j : Fin 32) (q : Fin 7) (k : Pr F) : Pr F := do
  let c0 : Elt F .i32 ← smemLoad arg1 (Rect.unit (s := S1024x65) (tabOff i j (16 + 4 * q.val)) S1x1.size (tabOff_inb i j (by omega))) numel1_S1x1 rfl
  have h0 : chkCol i j c0 := (← Prog.lift (TpuEff.assume (chkCol i j c0) (chkCol.dec i j c0))).down
  let c1 : Elt F .i32 ← smemLoad arg1 (Rect.unit (s := S1024x65) (tabOff i j (17 + 4 * q.val)) S1x1.size (tabOff_inb i j (by omega))) numel1_S1x1 rfl
  have h1 : chkCol i j c1 := (← Prog.lift (TpuEff.assume (chkCol i j c1) (chkCol.dec i j c1))).down
  let c2 : Elt F .i32 ← smemLoad arg1 (Rect.unit (s := S1024x65) (tabOff i j (18 + 4 * q.val)) S1x1.size (tabOff_inb i j (by omega))) numel1_S1x1 rfl
  have h2 : chkCol i j c2 := (← Prog.lift (TpuEff.assume (chkCol i j c2) (chkCol.dec i j c2))).down
  let span : Elt F .i32 ← smemLoad arg1 (Rect.unit (s := S1024x65) (tabOff i j (19 + 4 * q.val)) S1x1.size (tabOff_inb i j (by omega))) numel1_S1x1 rfl
  let a0 : Vec F S1x14x1x256 .f32 ← Prog.lift (.load arg4 (Rect.unit (s := S64x14x24x256) (colOff i j c0) S1x14x1x256.size h0).toLoadRect (View.loadsAt_vmem h_S1x14x1x256))
  let a1 : Vec F S1x14x1x256 .f32 ← Prog.lift (.load arg4 (Rect.unit (s := S64x14x24x256) (colOff i j c1) S1x14x1x256.size h1).toLoadRect (View.loadsAt_vmem h_S1x14x1x256))
  let a2 : Vec F S1x14x1x256 .f32 ← Prog.lift (.load arg4 (Rect.unit (s := S64x14x24x256) (colOff i j c2) S1x14x1x256.size h2).toLoadRect (View.loadsAt_vmem h_S1x14x1x256))
  let _ : Vec F S1x14x1x256 .f32 ← Prog.lift (.load arg5 (Rect.unit (s := S32x14x7x256) ![j.val, 0, q.val, 0] S1x14x1x256.size (maxima_inb j q)).toLoadRect (View.loadsAt_vmem h_S1x14x1x256))
  Prog.lift (.store arg5 (Rect.unit (s := S32x14x7x256) ![j.val, 0, q.val, 0] S1x14x1x256.size (maxima_inb j q)) (colMax span a0 a1 a2) Finset.univ (View.stores_vmem_bits_univ h_S1x14x1x256 rfl) (.inl rfl))
  k

/-- Bin row `p` of RoI `j`. -/
def rowStage (j : Fin 32) (p : Fin 7) (k : Pr F) : Pr F := do
  let r0 : Elt F .i32 ← smemLoad arg1 (Rect.unit (s := S1024x65) (tabOff i j (44 + 3 * p.val)) S1x1.size (tabOff_inb i j (by omega))) numel1_S1x1 rfl
  have h0 : chkSlab j r0 := (← Prog.lift (TpuEff.assume (chkSlab j r0) (chkSlab.dec j r0))).down
  let lo : Elt F .i32 ← smemLoad arg1 (Rect.unit (s := S1024x65) (tabOff i j (45 + 3 * p.val)) S1x1.size (tabOff_inb i j (by omega))) numel1_S1x1 rfl
  let hi : Elt F .i32 ← smemLoad arg1 (Rect.unit (s := S1024x65) (tabOff i j (46 + 3 * p.val)) S1x1.size (tabOff_inb i j (by omega))) numel1_S1x1 rfl
  let b : Vec F S1x3x7x256 .f32 ← Prog.lift (.load arg5 (Rect.unit (s := S32x14x7x256) (slabOff j r0) S1x3x7x256.size h0).toLoadRect (View.loadsAt_vmem h_S1x3x7x256))
  let _ : Vec F S1x7x256 .f32 ← Prog.lift (.load arg6 (Rect.unit (s := S32x49x256) ![j.val, 7 * p.val, 0] S1x7x256.size (res_inb j p)).toLoadRect (View.loadsAt_vmem h_S1x7x256))
  Prog.lift (.store arg6 (Rect.unit (s := S32x49x256) ![j.val, 7 * p.val, 0] S1x7x256.size (res_inb j p)) (rowMax lo hi b) Finset.univ (View.stores_vmem_bits_univ h_S1x7x256 rfl) (.inl rfl))
  k

/-- RoI `j`'s block of the result. -/
def outStage (j : Fin 32) (k : Pr F) : Pr F := do
  let v : Vec F S1x49x256 .f32 ← Prog.lift (.load arg6 (Rect.unit (s := S32x49x256) ![j.val, 0, 0] S1x49x256.size (resRoi_inb j)).toLoadRect (View.loadsAt_vmem h_S1x49x256))
  let _ : Vec F S1x256x49 .f32 ← Prog.lift (.load arg3 (Rect.unit (s := S32x256x49) ![j.val, 0, 0] S1x256x49.size (outRoi_inb j)).toLoadRect (View.loadsAt_vmem h_S1x256x49))
  Prog.lift (.store arg3 (Rect.unit (s := S32x256x49) ![j.val, 0, 0] S1x256x49.size (outRoi_inb j)) (outRoi v) Finset.univ (View.stores_vmem_bits_univ h_S1x256x49 rfl) (.inl rfl))
  k

/-- The whole body at a grid point. -/
def body : Pr F := do
  if h1 : k0_cond1 i = 1#1 then rois.foldr (start0 i arg1 arg2 arg4 arg7 h1) (pure ⟨⟩) else pure ⟨⟩
  if h2 : k0_cond2 i = 1#1 then rois.foldr (startNext i arg1 arg2 arg4 arg7 h2) (pure ⟨⟩) else pure ⟨⟩
  rois.foldr (wait i arg1 arg2 arg4 arg7)
    (rois.foldr (fun j k => bins.foldr (colStage i arg1 arg4 arg5 j) (bins.foldr (rowStage i arg1 arg5 arg6 j) k))
      (rois.foldr (outStage arg3 arg6) (pure ⟨⟩)))

end Stages

end Cert.RoiPool

end
-- ==== Proof.Values.lean ====
/- What the kernel body leaves in its buffers, as functions of the table of words and of the feature array: the crop of a
   RoI, the column maxima, the bin maxima, the result's block. Indices read out of the table are taken modulo the extent, so
   that every definition is total; where the table is in order (`TabOK`) the remainder changes nothing. -/
module

public import proofs.«01_k».proof.Proof.Body
public import Idealize.ShloMosaic.Lib.ValueIdxCore

@[expose] public section

noncomputable section

namespace Cert.RoiPool

open Idealize.ShloMosaic Idealize.ShloMosaic.ValueIdx Cert.KernelIdeal

variable {F : FTy → Type} [FloatOps F]

/-- The table's contents. -/
abbrev Tab (F : FTy → Type) := S1024x65.Idx → Elt F .i32

/-- The feature array's contents, with the channel as the last axis and the batch and row axes merged. -/
abbrev Feat (F : FTy → Type) := S400x200x256.Idx → Elt F .f32

/-- Entry `c` of table row `r`. -/
def tabAt (tab : Tab F) (r c : ℕ) : BitVec 32 := tab (ix2 (Fin.ofNat 1024 r) (Fin.ofNat 65 c))

/-- What the body needs of the table: each copy's source block lies in the feature array and starts at a multiple of eight
    columns, each column load lies in the crop and each row load in the column maxima. -/
def TabOK (tab : Tab F) : Prop :=
  ∀ r < 1024, 8 ∣ (tabAt tab r 1).toNat ∧ (tabAt tab r 0).toNat + 14 ≤ 400 ∧ (tabAt tab r 1).toNat + 24 ≤ 200
    ∧ (∀ q < 7, (tabAt tab r (16 + 4 * q)).toNat < 24 ∧ (tabAt tab r (17 + 4 * q)).toNat < 24 ∧ (tabAt tab r (18 + 4 * q)).toNat < 24)
    ∧ (∀ p < 7, (tabAt tab r (44 + 3 * p)).toNat < 12)

/-- The crop of RoI `r`. -/
def cropVal (tab : Tab F) (ff : Feat F) (r y x : ℕ) (ch : Fin 256) : Elt F .f32 :=
  ff (ix3 (Fin.ofNat 400 ((tabAt tab r 0).toNat + y)) (Fin.ofNat 200 ((tabAt tab r 1).toNat + x)) ch)

/-- Column `v` of the crop of RoI `r`. -/
def colOf (tab : Tab F) (ff : Feat F) (r : ℕ) (v : BitVec 32) : Vec F S1x14x1x256 .f32 :=
  fun y => cropVal tab ff r (y 1).val v.toNat (y 3)

/-- Bin column `q`'s maxima of RoI `r`. -/
def colVal (tab : Tab F) (ff : Feat F) (r q : ℕ) : FVec F S1x14x1x256 .f32 :=
  colMax (tabAt tab r (19 + 4 * q)) (colOf tab ff r (tabAt tab r (16 + 4 * q))) (colOf tab ff r (tabAt tab r (17 + 4 * q)))
    (colOf tab ff r (tabAt tab r (18 + 4 * q)))

/-- The column maxima of grid point `t`. -/
def colBuf (tab : Tab F) (ff : Feat F) (t : ℕ) : S32x14x7x256.Idx → Elt F .f32 :=
  fun y => colVal tab ff (32 * t + (y 0).val) (y 2).val (ix4 0 (y 1) 0 (y 3))

/-- Three rows of RoI `j`'s column maxima, from row `v`. -/
def slabOf (tab : Tab F) (ff : Feat F) (t : ℕ) (j : Fin 32) (v : BitVec 32) : Vec F S1x3x7x256 .f32 :=
  fun y => colBuf tab ff t (ix4 j (Fin.ofNat 14 (v.toNat + (y 1).val)) (y 2) (y 3))

/-- Bin row `p`'s maxima of RoI `j`. -/
def rowVal (tab : Tab F) (ff : Feat F) (t : ℕ) (j : Fin 32) (p : ℕ) : FVec F S1x7x256 .f32 :=
  rowMax (tabAt tab (32 * t + j.val) (45 + 3 * p)) (tabAt tab (32 * t + j.val) (46 + 3 * p))
    (slabOf tab ff t j (tabAt tab (32 * t + j.val) (44 + 3 * p)))

/-- The bin maxima of grid point `t`. -/
def rowBuf (tab : Tab F) (ff : Feat F) (t : ℕ) : S32x49x256.Idx → Elt F .f32 :=
  fun y => rowVal tab ff t (y 0) ((y 1).val / 7) (ix3 0 (Fin.ofNat 7 (y 1).val) (y 2))

/-- The result's block of grid point `t`. -/
def outBuf (tab : Tab F) (ff : Feat F) (t : ℕ) : S32x256x49.Idx → Elt F .f32 :=
  fun y => outRoi (fun z : S1x49x256.Idx => rowBuf tab ff t (ix3 (y 0) (z 1) (z 2))) (ix3 0 (y 1) (y 2))

end Cert.RoiPool

end
-- ==== Proof.Effects.lean ====
/- The rules of the body's effects, at the head of a `do` block: a word of the table, an assumption, a load, a store; and the
   rule of a loop written as a fold over the indices of a range. -/
module

public import proofs.«01_k».proof.Proof.Values
public import proofs.«01_k».proof.Proof.Gen.KernelIdeal.Launch
public import Idealize.ShloMosaic.Lib.Pipeline.FrameBody
public import Idealize.ShloMosaic.Lib.Ring
public import Idealize.ShloMosaic.Lib.Tactic

@[expose] public section

noncomputable section

namespace Cert.RoiPool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The proof's algebra. -/
abbrev 𝕄 (F : FTy → Type) := MT nD τ sig Unit (Elt F) ℕ (Pipeline.UD sig nD τ) ℕ

/-- The weakest precondition of one of the body's programs. -/
abbrev WP (c : Dev nD) (p : Pr F) (Q : PUnit → sProp (𝕄 F)) : sProp (𝕄 F) :=
  wp frame (wpE (defs₀ (F := F)) Variants.none (c : Thread nD τ) none) Set.univ p Q

/-- The table as the body holds it: a half of it, at its contents. -/
abbrev tabPt (c : Dev nD) (tab : Tab F) : sProp (𝕄 F) :=
  (Memref.whole main_v152 : Memref sig .tc .smem S1024x65 .i32).view.loc (c : Thread nD τ) ↦{fullShare.right} tab

/-- A loop written out as a nest of steps keeps an invariant that each step carries to the next number. -/
theorem foldr_wp {N : ℕ} (c : Dev nD) {f : Fin N → Pr F → Pr F} (I : ℕ → sProp (𝕄 F)) (Q : PUnit → sProp (𝕄 F))
    (step : ∀ (j : Fin N) (k : Pr F), iprop(I j.val ∗ (I (j.val + 1) -∗ WP c k Q)) ⊢ WP c (f j k) Q) (k : Pr F) :
    iprop(I 0 ∗ (I N -∗ WP c k Q)) ⊢ WP c ((List.finRange N).foldr f k) Q := by
  suffices h : ∀ d m, m + d = N → iprop(I m ∗ (I N -∗ WP c k Q)) ⊢ WP c (((List.finRange N).drop m).foldr f k) Q from
    h N 0 (Nat.zero_add N)
  intro d
  induction d with
  | zero =>
    intro m hm
    obtain rfl : m = N := by omega
    rw [List.drop_eq_nil_of_le (by simp)]
    iintro ⟨HI, Hk⟩
    iapply Hk $$ HI
  | succ d ih =>
    intro m hm
    have hlt : m < (List.finRange N).length := by simp; omega
    rw [List.drop_eq_getElem_cons hlt, List.foldr_cons]
    refine BIBase.Entails.trans ?_ (step _ _)
    have hv : ((List.finRange N)[m]).val = m := by simp
    rw [hv]
    iintro ⟨HI, Hk⟩
    isplitl [HI]; · iexact HI
    iintro HI
    iapply (ih (m + 1) (by omega))
    isplitl [HI] <;> iassumption

/-- Reading a word of the table. -/
theorem wp_word (c : Dev nD) (tab : Tab F) (off : Fin 2 → ℕ) (h : ∀ a, off a + S1x1.size a ≤ S1024x65.size a) {r e : ℕ}
    (hr : off 0 = r) (he : off 1 = e) (k : Elt F .i32 → Pr F) (Q : PUnit → sProp (𝕄 F)) :
    iprop(tabPt c tab ∗ (tabPt c tab -∗ WP c (k (tabAt tab r e)) Q))
      ⊢ WP c (smemLoad (Memref.whole main_v152) (Rect.unit (s := S1024x65) off S1x1.size h) numel1_S1x1 rfl >>= k) Q := by
  subst hr he
  have h0 : off 0 < 1024 := by have := h 0; simp at this; omega
  have h1 : off 1 < 65 := by have := h 1; simp at this; omega
  iintro ⟨Ht, Hk⟩
  have e1 : (smemLoad (Memref.whole main_v152) (Rect.unit (s := S1024x65) off S1x1.size h) numel1_S1x1 rfl >>= k : Pr F)
      = smemLoadElt (Memref.whole main_v152) (Rect.unit (s := S1024x65) off S1x1.size h) (View.loads_smem_one rfl numel1_S1x1)
          (Shape.Idx.first (numel1_S1x1.symm ▸ Nat.one_pos)) k := rfl
  rw [e1]
  iapply (wp_smemLoadElt Variants.none (c : Thread nD τ) none Set.univ (S := Finset.univ) (q := fullShare.right) (f := tab)
    (Finset.subset_univ _)) $$ [Ht]
  · iexact Ht
  iintro Ht
  have e2 : ((Memref.whole main_v152 : Memref sig .tc .smem S1024x65 .i32).access (Rect.unit (s := S1024x65) off S1x1.size h)).read (Elt F) tab
      (Shape.Idx.first (numel1_S1x1.symm ▸ Nat.one_pos)) = tabAt tab (off 0) (off 1) := by
    refine congrArg tab ?_
    funext a
    refine Fin.ext ?_
    match a with
    | ⟨0, _⟩ => show off 0 + 1 * 0 = off 0 % 1024; omega
    | ⟨1, _⟩ => show off 1 + 1 * 0 = off 1 % 65; omega
  rw [e2]
  iapply Hk $$ Ht

/-- Passing an assumption that holds. -/
theorem wp_check (c : Dev nD) {P : Prop} {d : Decidable P} (h : P) (k : PLift P → Pr F) (Q : PUnit → sProp (𝕄 F)) :
    WP c (k ⟨h⟩) Q ⊢ WP c (Prog.lift (TpuEff.assume P d) >>= k) Q := by
  have e : (Prog.lift (TpuEff.assume P d) >>= k : Pr F) = .op (.assume P d) k := rfl
  rw [e]
  exact wp_assume Variants.none (c : Thread nD τ) none Set.univ h

/-- A load of a rectangle at known contents. -/
theorem wp_fetch (c : Dev nD) {cs : CoreSpace} {s : Shape} {e : EltTy} {m : Memref sig .tc cs s e} {r : Rect s}
    {hl : m.view.LoadsAt r.toLoadRect} (S : Finset (Idx (m.view.loc (c : Thread nD τ)))) {q : PosShare TreeShare}
    {f : Buf (Elt F) (m.view.loc (c : Thread nD τ))} (v : r.shape.Idx → Elt F e)
    (hS : m.view.setOn r.set ⊆ S) (hv : m.view.readAt (Elt F) r.toLoadRect f = v) (k : (r.shape.Idx → Elt F e) → Pr F)
    (Q : PUnit → sProp (𝕄 F)) :
    iprop((m.view.loc (c : Thread nD τ) ↦[S]{q} f) ∗ ((m.view.loc (c : Thread nD τ) ↦[S]{q} f) -∗ WP c (k v) Q))
      ⊢ WP c (Prog.lift (.load m r.toLoadRect hl) >>= k) Q := by
  subst hv
  have e1 : (Prog.lift (.load m r.toLoadRect hl) >>= k : Pr F) = .op (.load m r.toLoadRect hl) k := rfl
  rw [e1]
  iintro ⟨Hf, Hk⟩
  iapply (wp_load Variants.none (c : Thread nD τ) none Set.univ (q := q) (f := f) (r := r.toLoadRect) hS) $$ [Hf]
  · iexact Hf
  iintro Hf
  iapply Hk $$ Hf

/-- A store of a rectangle into a buffer held whole. -/
theorem wp_put (c : Dev nD) {cs : CoreSpace} {s : Shape} {e : EltTy} {m : Memref sig .tc cs s e} {r : Rect s} {w : r.shape.Idx → Elt F e}
    {hx : (m.access r).Stores Finset.univ} {hm : Finset.univ = (Finset.univ : Finset r.shape.Idx) ∨ ∀ a, r.stride a = 1}
    {f : Buf (Elt F) (m.view.loc (c : Thread nD τ))} (S : Finset (Idx (m.view.loc (c : Thread nD τ)))) (hS : (m.access r).setOn Finset.univ ⊆ S)
    (k : PUnit → Pr F) (Q : PUnit → sProp (𝕄 F)) :
    iprop((m.view.loc (c : Thread nD τ) ↦[S]{fullShare} f)
        ∗ ((m.view.loc (c : Thread nD τ) ↦[S]{fullShare} ((m.access r).write (Elt F) f w Finset.univ)) -∗ WP c (k ⟨⟩) Q))
      ⊢ WP c (Prog.lift (.store m r w Finset.univ hx hm) >>= k) Q := by
  have e1 : (Prog.lift (.store m r w Finset.univ hx hm) >>= k : Pr F) = .op (.store m r w Finset.univ hx hm) k := rfl
  rw [e1]
  iintro ⟨Hf, Hk⟩
  iapply (wp_store Variants.none (c : Thread nD τ) none Set.univ (f := f) (S := S) hS) $$ [Hf]
  · iexact Hf
  iintro Hf
  iapply Hk $$ Hf

/-- A load from a buffer held through its view. -/
theorem wp_fetch_all (c : Dev nD) {cs : CoreSpace} {s : Shape} {e : EltTy} {m : Memref sig .tc cs s e} {r : Rect s}
    {hl : m.view.LoadsAt r.toLoadRect} {q : PosShare TreeShare} {f : Buf (Elt F) (m.view.loc (c : Thread nD τ))}
    (v : r.shape.Idx → Elt F e) (hv : m.view.readAt (Elt F) r.toLoadRect f = v)
    (k : (r.shape.Idx → Elt F e) → Pr F) (Q : PUnit → sProp (𝕄 F)) :
    iprop((m.view.loc (c : Thread nD τ) ↦[m.view.set]{q} f)
        ∗ ((m.view.loc (c : Thread nD τ) ↦[m.view.set]{q} f) -∗ WP c (k v) Q))
      ⊢ WP c (Prog.lift (.load m r.toLoadRect hl) >>= k) Q :=
  wp_fetch c m.view.set v (m.view.setOn_subset_set _) hv k Q

/-- A store into a buffer held through its view. -/
theorem wp_put_all (c : Dev nD) {cs : CoreSpace} {s : Shape} {e : EltTy} {m : Memref sig .tc cs s e} {r : Rect s} {w : r.shape.Idx → Elt F e}
    {hx : (m.access r).Stores Finset.univ} {hm : Finset.univ = (Finset.univ : Finset r.shape.Idx) ∨ ∀ a, r.stride a = 1}
    {f : Buf (Elt F) (m.view.loc (c : Thread nD τ))}
    (k : PUnit → Pr F) (Q : PUnit → sProp (𝕄 F)) :
    iprop((m.view.loc (c : Thread nD τ) ↦[m.view.set]{fullShare} f)
        ∗ ((m.view.loc (c : Thread nD τ) ↦[m.view.set]{fullShare} ((m.access r).write (Elt F) f w Finset.univ)) -∗ WP c (k ⟨⟩) Q))
      ⊢ WP c (Prog.lift (.store m r w Finset.univ hx hm) >>= k) Q :=
  wp_put c m.view.set (m.view.set_slice_subset r) k Q

end Cert.RoiPool

end
-- ==== Proof.Slots.lean ====
/- The 64 crop slots of the kernel: each is free, or a copy into it is under way, or its copy has landed; and the rules of the
   stages that start a copy and wait for one. -/
module

public import proofs.«01_k».proof.Proof.Effects
public import Idealize.ShloMosaic.Lib.ValueLayout

@[expose] public section

noncomputable section

namespace Cert.RoiPool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen

variable {F : FTy → Type} [FloatOps F]

/-- What a crop slot is doing; a row number says which RoI's copy it is. -/
inductive SlotState where
  | free
  | fly (r : ℕ)
  | landed (r : ℕ)

/-- The crop buffer, whole. -/
abbrev cropM : Memref sig .tc .vmem S64x14x24x256 .f32 := Memref.whole cc0_scratch0
/-- The feature array, whole. -/
abbrev featM : Memref sig .tc .hbm S400x200x256 .f32 := Memref.whole main_v154
/-- The table, whole. -/
abbrev tabM : Memref sig .tc .smem S1024x65 .i32 := Memref.whole main_v152

/-- The elements of crop slot `n`. -/
def slotSet (n : ℕ) : Finset S64x14x24x256.Idx := Finset.univ.filter fun y => (y 0).val = n

/-- An element is in slot `n` if its first coordinate is `n`. -/
theorem mem_slotSet {n : ℕ} {y : S64x14x24x256.Idx} : y ∈ slotSet n ↔ (y 0).val = n := by simp [slotSet]

/-- The semaphore of slot `n`. -/
abbrev slotSem (n : Fin 64) : SemLoc sig := .dma (cropSem cc0_scratch3 n.val n.isLt)

/-- The crop slot's elements at some contents. -/
def slotAny (c : Dev nD) (n : Fin 64) : sProp (𝕄 F) :=
  iprop(∃ f : S64x14x24x256.Idx → Elt F .f32, cropM.view.loc (c : Thread nD τ) ↦[slotSet n.val]{fullShare} f)

/-- The crop slot holding the crop of RoI `r`. -/
def slotCrop (c : Dev nD) (tab : Tab F) (ff : Feat F) (n : Fin 64) (r : ℕ) : sProp (𝕄 F) :=
  iprop(∃ f : S64x14x24x256.Idx → Elt F .f32, (cropM.view.loc (c : Thread nD τ) ↦[slotSet n.val]{fullShare} f)
    ∗ ⌜∀ y : S64x14x24x256.Idx, (y 0).val = n.val → f y = cropVal tab ff r (y 1).val (y 2).val (y 3)⌝)

/-- Slot `n`'s part of the feature array, on the elements `I`. -/
abbrev featPt (c : Dev nD) (ff : Feat F) (n : Fin 64) (I : Finset S400x200x256.Idx) : sProp (𝕄 F) :=
  featM.view.loc (c : Thread nD τ) ↦[I]{shareTok fullShare 64 n} ff

/-- The amount of a copy on its semaphore. -/
abbrev copyAmount : ℕ := (cropSlot cropM 0 (by decide)).view.dmaCredit

/-- What is held of slot `n` in each state. -/
def slotOwn (c : Dev nD) (tab : Tab F) (ff : Feat F) (n : Fin 64) : SlotState → sProp (𝕄 F)
  | .free => iprop(semVal ((c : Thread nD τ), slotSem n) 0 ∗ slotAny c n ∗ featPt c ff n Finset.univ)
  | .fly r => iprop(∃ I : Finset S400x200x256.Idx,
      Flight (countersEmb (U := Pipeline.UD sig nD τ)) (c : Thread nD τ) (slotSem n) () copyAmount
        iprop(slotCrop c tab ff n r ∗ featPt c ff n I)
      ∗ featPt c ff n (Finset.univ \ I))
  | .landed r => iprop(semVal ((c : Thread nD τ), slotSem n) 0 ∗ slotCrop c tab ff n r ∗ featPt c ff n Finset.univ)

/-- All the slots. -/
def slots (c : Dev nD) (tab : Tab F) (ff : Feat F) (σ : ℕ → SlotState) : sProp (𝕄 F) :=
  bigSep Finset.univ fun n : Fin 64 => slotOwn c tab ff n (σ n.val)

/-- One slot taken out of the slots, and put back in another state. -/
theorem slots_take (c : Dev nD) (tab : Tab F) (ff : Feat F) (σ σ' : ℕ → SlotState) (n : Fin 64)
    (h : ∀ m < 64, m ≠ n.val → σ' m = σ m) :
    slots c tab ff σ ⊢ iprop(slotOwn c tab ff n (σ n.val) ∗ (slotOwn c tab ff n (σ' n.val) -∗ slots c tab ff σ')) :=
  bigSep_univ_update (Φ := fun n : Fin 64 => slotOwn c tab ff n (σ n.val)) (Ψ := fun n : Fin 64 => slotOwn c tab ff n (σ' n.val)) n
    fun j hj => by rw [h j.val j.isLt (fun e => hj (Fin.ext e))]

/-- A landed slot can be used again. -/
theorem landed_free (c : Dev nD) (tab : Tab F) (ff : Feat F) (n : Fin 64) (r : ℕ) :
    slotOwn c tab ff n (.landed r) ⊢ slotOwn c tab ff n .free := by
  unfold slotOwn slotAny slotCrop
  iintro ⟨Hs, ⟨%f, Hf, -⟩, Hff⟩
  isplitl [Hs]; · iexact Hs
  isplitl [Hf]
  · iexists f; iexact Hf
  iexact Hff

/-- Slots may keep their states, or be free where they were landed. -/
theorem slots_mono (c : Dev nD) (tab : Tab F) (ff : Feat F) (σ σ' : ℕ → SlotState)
    (h : ∀ n < 64, σ' n = σ n ∨ (σ' n = .free ∧ ∃ r, σ n = .landed r)) :
    slots c tab ff σ ⊢ slots c tab ff σ' := by
  refine bigSep_mono fun n _ => ?_
  rcases h n.val n.isLt with h | ⟨h, r, h'⟩
  · rw [h]; exact BIBase.Entails.rfl (P := slotOwn c tab ff n (σ n.val))
  · rw [h, h']; exact landed_free c tab ff n r

/-- A crop slot as a copy's destination: where its elements sit in the buffer. -/
theorem cropSlot_emb_ix (n : ℕ) (hn : n < 64) (y : Fin 14) (x : Fin 24) (ch : Fin 256) :
    (cropSlot cropM n hn).view.emb (ix3 y x ch) = (ix4 ⟨n, hn⟩ y x ch : S64x14x24x256.Idx) := by
  have e := reshapeEquiv_ix3_1abc (squeezes_S1x14x24x256_S14x24x256.numel_eq) y x ch
  refine (congrArg (Rect.unit (s := S64x14x24x256) ![n, 0, 0, 0] S1x14x24x256.size (crop_inb hn)).emb e).trans ?_
  funext a
  refine Fin.ext ?_
  match a with
  | ⟨0, _⟩ => show n + 1 * 0 = n; omega
  | ⟨1, _⟩ => show 0 + 1 * y.val = y.val; omega
  | ⟨2, _⟩ => show 0 + 1 * x.val = x.val; omega
  | ⟨3, _⟩ => show 0 + 1 * ch.val = ch.val; omega

/-- It covers the slot's elements, in order. -/
theorem cropSlot_emb (n : ℕ) (hn : n < 64) (y : S64x14x24x256.Idx) (hy : (y 0).val = n) :
    (cropSlot cropM n hn).view.emb (ix3 (y 1) (y 2) (y 3)) = y := by
  subst hy
  exact (cropSlot_emb_ix _ hn (y 1) (y 2) (y 3)).trans (eq_ix4 y).symm

/-- The view of crop slot `n` takes in elements of that slot only. -/
theorem cropSlot_set (n : ℕ) (hn : n < 64) : (cropSlot cropM n hn).view.set ⊆ slotSet n := by
  intro y hy
  obtain ⟨x, -, rfl⟩ := Finset.mem_map.1 hy
  rw [mem_slotSet, eq_ix3 x]
  exact congrArg (fun z : S64x14x24x256.Idx => (z 0).val) (cropSlot_emb_ix n hn (x 0) (x 1) (x 2))

/-- What a copy leaves in the slot. -/
theorem copied (tab : Tab F) (ff : Feat F) (n : ℕ) (hn : n < 64) (r : ℕ) (b x : BitVec 32) (hb : b = tabAt tab r 0) (hx : x = tabAt tab r 1)
    (h : ∀ a, srcOff b x a + S14x24x256.size a ≤ S400x200x256.size a) (fd : S64x14x24x256.Idx → Elt F .f32)
    (y : S64x14x24x256.Idx) (hy : (y 0).val = n) :
    ((cropSlot cropM n hn).view.write (Elt F) fd (ReadAs.same.apply ((srcBlock featM b x h).view.read (Elt F) ff)) Finset.univ :
      S64x14x24x256.Idx → Elt F .f32) y = cropVal tab ff r (y 1).val (y 2).val (y 3) := by
  have e := congrFun (View.read_write_univ (v := (cropSlot cropM n hn).view) (Val := Elt F) fd
    (ReadAs.same.apply ((srcBlock featM b x h).view.read (Elt F) ff))) (ix3 (y 1) (y 2) (y 3))
  have e0 := cropSlot_emb n hn y hy
  rw [← e0]
  refine Eq.trans e ?_
  rw [e0]
  refine congrArg ff ?_
  have h0 : b.toNat + 14 ≤ 400 := h 0
  have h1 : x.toNat + 24 ≤ 200 := h 1
  have g1 : (y 1).val < 14 := (y 1).isLt
  have g2 : (y 2).val < 24 := (y 2).isLt
  subst hb hx
  funext a
  refine Fin.ext ?_
  match a with
  | ⟨0, _⟩ => show (tabAt tab r 0).toNat + 1 * (y 1).val = ((tabAt tab r 0).toNat + (y 1).val) % 400; omega
  | ⟨1, _⟩ => show (tabAt tab r 1).toNat + 1 * (y 2).val = ((tabAt tab r 1).toNat + (y 2).val) % 200; omega
  | ⟨2, _⟩ => show 0 + 1 * (y 3).val = (y 3).val; omega

/-- Starting a copy into a free slot. -/
theorem wp_start (c : Dev nD) (tab : Tab F) (ff : Feat F) (n : Fin 64) (r : ℕ) (b x : BitVec 32)
    (hb : b = tabAt tab r 0) (hx : x = tabAt tab r 1)
    (h : ∀ a, srcOff b x a + S14x24x256.size a ≤ S400x200x256.size a)
    (hs : (srcBlock featM b x h).view.WordExact) (hd : (cropSlot cropM n.val n.isLt).view.WordExact)
    (ht : DmaTarget.Typed (nD := nD) (τ := τ) (sig := sig) (p := Proc.tc) Space.hbm (slotSem n) (.here (cropSlot cropM n.val n.isLt)))
    (k : PUnit → Pr F) (Q : PUnit → sProp (𝕄 F)) :
    iprop(slotOwn c tab ff n .free ∗ (slotOwn c tab ff n (.fly r) -∗ WP c (k ⟨⟩) Q))
      ⊢ WP c (Prog.lift (.enqueueDma (srcBlock featM b x h) (.here (cropSlot cropM n.val n.isLt)) (slotSem n) hs hd ht) >>= k) Q := by
  have e1 : (Prog.lift (.enqueueDma (srcBlock featM b x h) (.here (cropSlot cropM n.val n.isLt)) (slotSem n) hs hd ht) >>= k : Pr F)
      = .op (.enqueueDmaAs (srcBlock featM b x h) (.here (cropSlot cropM n.val n.isLt)) .same (slotSem n) hs hd ht) k := rfl
  rw [e1]
  unfold slotOwn slotAny
  iintro ⟨⟨Hs, ⟨%fd, Hd⟩, Hf⟩, Hk⟩
  ihave Hf := (pointsTo_split_subset (Finset.subset_univ (srcBlock featM b x h).view.set)).1 $$ Hf
  icases Hf with ⟨Hf1, Hf2⟩
  iapply (wp_dmaLocal (countersEmb (U := Pipeline.UD sig nD τ)) Variants.none (c : Thread nD τ) none () copyAmount
    (src := srcBlock featM b x h) (dst := cropSlot cropM n.val n.isLt) (fs := ff) (fd := fd) (Sd := slotSet n.val) rfl
    (View.dmaCredit_pos _ (by decide)) (cropSlot_set n.val n.isLt)) $$ [Hs Hd Hf1]
  · isplitl [Hf1]; · iexact Hf1
    isplitl [Hd]; · iexact Hd
    iexact Hs
  iintro HF
  iapply Hk
  iexists (srcBlock featM b x h).view.set
  isplitl [HF]
  · iapply (Flight_mono (countersEmb (U := Pipeline.UD sig nD τ)) (c : Thread nD τ) ?_) $$ HF
    unfold slotCrop
    iintro ⟨H1, H2⟩
    isplitl [H1]
    · iexists _
      isplitl [H1]; · iexact H1
      ipureintro
      exact copied tab ff n.val n.isLt r b x hb hx h fd
    iexact H2
  iexact Hf2

/-- Waiting for the copy into a slot. -/
theorem wp_landing (c : Dev nD) (tab : Tab F) (ff : Feat F) (n : Fin 64) (r : ℕ) (src : Memref sig .tc .hbm S14x24x256 .f32)
    (hs : src.view.WordExact) (hd : (cropSlot cropM n.val n.isLt).view.WordExact)
    (k : PUnit → Pr F) (Q : PUnit → sProp (𝕄 F)) :
    iprop(slotOwn c tab ff n (.fly r) ∗ (∃ W, owes (c : Thread nD τ) 0 W)
        ∗ (iprop(slotOwn c tab ff n (.landed r) ∗ (∃ W, owes (c : Thread nD τ) 0 W)) -∗ WP c (k ⟨⟩) Q))
      ⊢ WP c (Prog.lift (.waitDma2 (cropSem cc0_scratch3 n.val n.isLt) src (cropSlot cropM n.val n.isLt) hs hd) >>= k) Q := by
  have e1 : (Prog.lift (.waitDma2 (cropSem cc0_scratch3 n.val n.isLt) src (cropSlot cropM n.val n.isLt) hs hd) >>= k : Pr F)
      = .op (.waitDma2 (cropSem cc0_scratch3 n.val n.isLt) src (cropSlot cropM n.val n.isLt) hs hd) k := rfl
  rw [e1]
  unfold slotOwn
  iintro ⟨⟨%I, HF, Hf2⟩, ⟨%W, HW⟩, Hk⟩
  iapply (wp_waitLocal (countersEmb (U := Pipeline.UD sig nD τ)) Variants.none (c : Thread nD τ) none () (N := copyAmount) (W := W)
    (dstw := cropSlot cropM n.val n.isLt) rfl) $$ [HF HW]
  · isplitl [HF]; · iexact HF
    iexact HW
  iintro ⟨⟨Hc, Hf1⟩, Hs, HW⟩
  iapply Hk
  isplitr [HW]
  · isplitl [Hs]; · iexact Hs
    isplitl [Hc]; · iexact Hc
    iapply (pointsTo_split_subset (Finset.subset_univ I)).2
    isplitl [Hf1]; · iexact Hf1
    iexact Hf2
  iexists _; iexact HW

end Cert.RoiPool

end
-- ==== Proof.Copies.lean ====
/- The copies of a grid point: the states of the 64 slots before, during and after the loops that start and await them, and
   these loops' rules. -/
module

public import proofs.«01_k».proof.Proof.Slots

@[expose] public section

noncomputable section

namespace Cert.RoiPool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen

variable {F : FTy → Type} [FloatOps F]

/-- The slots before grid point `t`: from the second point on, the copies of the point's RoIs are under way. -/
def st (t n : ℕ) : SlotState := if 1 ≤ t ∧ t < 32 ∧ n / 32 = t % 2 then .fly (32 * t + n % 32) else .free

/-- The slots at the first point, `m` of its copies started. -/
def stFirst (m n : ℕ) : SlotState := if n < m then .fly n else .free

/-- The slots at point `t`, its copies under way, `m` of the next point's started. -/
def stNext (t m n : ℕ) : SlotState :=
  if n / 32 = t % 2 then .fly (32 * t + n % 32) else if n % 32 < m then .fly (32 * (t + 1) + n % 32) else .free

/-- The slots at point `t`, `m` of its copies landed and the next point's, if there is one, under way. -/
def stWait (t m n : ℕ) : SlotState :=
  if n / 32 = t % 2 then (if n % 32 < m then .landed (32 * t + n % 32) else .fly (32 * t + n % 32))
  else if t + 1 < 32 then .fly (32 * (t + 1) + n % 32) else .free

/-- Before the first point no copy is started. -/
theorem st_zero (n : ℕ) : st 0 n = stFirst 0 n := by
  unfold st stFirst; simp

/-- When all the first point's copies are started, none of the next point's is. -/
theorem stFirst_last (n : ℕ) (h : n < 64) : stNext 0 0 n = stFirst 32 n := by
  unfold stNext stFirst
  split_ifs <;> first | omega | rfl | (congr 1; omega)

/-- At a later point the point's copies are already under way. -/
theorem st_later (t n : ℕ) (h1 : 1 ≤ t) (h2 : t < 32) : stNext t 0 n = st t n := by
  unfold stNext st
  split_ifs <;> first | omega | rfl

/-- When all the next point's copies are started, none of this point's has been waited for. -/
theorem stNext_last (t n : ℕ) (h : t + 1 < 32) : stWait t 0 n = stNext t 32 n := by
  unfold stNext stWait
  split_ifs <;> first | omega | rfl

/-- At the last point there is no next point's copy to start. -/
theorem stNext_none (t n : ℕ) (h : ¬ t + 1 < 32) : stWait t 0 n = stNext t 0 n := by
  unfold stNext stWait
  split_ifs <;> first | omega | rfl

/-- When all the point's copies have landed, each slot is as the next point expects it, or landed and free to be used again. -/
theorem stWait_last (t n : ℕ) (h : n < 64) :
    st (t + 1) n = stWait t 32 n ∨ (st (t + 1) n = .free ∧ ∃ r, stWait t 32 n = .landed r) := by
  unfold st stWait
  split_ifs <;> first | omega | exact .inl rfl | exact .inr ⟨rfl, _, rfl⟩

/-- The slots depend on the states of the 64 slots alone. -/
theorem slots_congr (c : Dev nD) (tab : Tab F) (ff : Feat F) (σ σ' : ℕ → SlotState) (h : ∀ n < 64, σ' n = σ n) :
    slots c tab ff σ ⊢ slots c tab ff σ' := slots_mono c tab ff σ σ' fun n hn => .inl (h n hn)

/-- One slot changes its state in a loop over the slots. -/
theorem slots_step (c : Dev nD) (tab : Tab F) (ff : Feat F) (σ σ' : ℕ → SlotState) (n : ℕ) (hn : n < 64) (s s' : SlotState)
    (hs : σ n = s) (hs' : σ' n = s') (h : ∀ m < 64, m ≠ n → σ' m = σ m) :
    slots c tab ff σ ⊢ iprop(slotOwn c tab ff ⟨n, hn⟩ s ∗ (slotOwn c tab ff ⟨n, hn⟩ s' -∗ slots c tab ff σ')) := by
  subst hs hs'
  exact slots_take c tab ff σ σ' ⟨n, hn⟩ h

/-- A RoI's source block lies in the feature array, for a table that is in order. -/
theorem srcOff_inb {tab : Tab F} (ok : TabOK tab) {r : ℕ} (hr : r < 1024) :
    ∀ a, srcOff (tabAt tab r 0) (tabAt tab r 1) a + S14x24x256.size a ≤ S400x200x256.size a := by
  obtain ⟨-, h0, h1, -⟩ := ok r hr
  intro a
  match a with
  | ⟨0, _⟩ => exact h0
  | ⟨1, _⟩ => exact h1
  | ⟨2, _⟩ => exact Nat.le_refl _

/-- The loops' common resources: the table, the slots, the waits recorded. -/
def ring (c : Dev nD) (tab : Tab F) (ff : Feat F) (σ : ℕ → SlotState) : sProp (𝕄 F) :=
  iprop(tabPt c tab ∗ slots c tab ff σ ∗ ∃ W, owes (c : Thread nD τ) 0 W)

/-- Starting one of the first point's copies. -/
theorem start0_step (c : Dev nD) (tab : Tab F) (ff : Feat F) (ok : TabOK tab) (i : grid0.Coords) (h1 : k0_cond1 i = 1#1) (j : Fin 32)
    (k : Pr F) (Q : PUnit → sProp (𝕄 F)) :
    iprop(ring c tab ff (stFirst j.val) ∗ (ring c tab ff (stFirst (j.val + 1)) -∗ WP c k Q))
      ⊢ WP c (start0 i tabM featM cropM cc0_scratch3 h1 j k) Q := by
  have hj := j.isLt
  have hchk : chkStart0 i (tabAt tab j.val 0) (tabAt tab j.val 1) :=
    ⟨fun _ => (ok j.val (by omega)).1, fun _ => srcOff_inb ok (by omega)⟩
  unfold start0 ring
  iintro ⟨⟨Ht, Hs, HW⟩, Hk⟩
  iapply (wp_word c tab _ _ (r := j.val) (e := 0) rfl rfl)
  isplitl [Ht]; · iexact Ht
  iintro Ht
  iapply (wp_word c tab _ _ (r := j.val) (e := 1) rfl rfl)
  isplitl [Ht]; · iexact Ht
  iintro Ht
  iapply (wp_check c hchk)
  ihave Hs := (slots_step c tab ff (stFirst j.val) (stFirst (j.val + 1)) j.val (by omega) .free (.fly j.val)
    (by simp [stFirst]) (by simp [stFirst]) (fun m _ hm => by unfold stFirst; split_ifs <;> first | omega | rfl)) $$ Hs
  icases Hs with ⟨Hf, Hs⟩
  iapply (wp_start c tab ff ⟨j.val, by omega⟩ j.val (tabAt tab j.val 0) (tabAt tab j.val 1) rfl rfl)
  isplitl [Hf]; · iexact Hf
  iintro Hf
  iapply Hk
  isplitl [Ht]; · iexact Ht
  isplitl [Hs Hf]
  · iapply Hs $$ Hf
  iexact HW

/-- Starting one of the next point's copies. -/
theorem startNext_step (c : Dev nD) (tab : Tab F) (ff : Feat F) (ok : TabOK tab) (i : grid0.Coords) (h2 : k0_cond2 i = 1#1) (j : Fin 32)
    (k : Pr F) (Q : PUnit → sProp (𝕄 F)) :
    iprop(ring c tab ff (stNext (i 0).val j.val) ∗ (ring c tab ff (stNext (i 0).val (j.val + 1)) -∗ WP c k Q))
      ⊢ WP c (startNext i tabM featM cropM cc0_scratch3 h2 j k) Q := by
  have hj := j.isLt
  have ht := (cond2_lt i).1 h2
  have hn := nextSlotWord_eq i j
  have hr := nextRowWord_eq i h2 j
  have hlt := nextSlot_lt i j
  generalize ew : (nextSlotWord i j).toNat = n at hn hlt
  have hchk : chkNext i (tabAt tab (32 * ((i 0).val + 1) + j.val) 0) (tabAt tab (32 * ((i 0).val + 1) + j.val) 1) :=
    ⟨fun _ => (ok _ (by omega)).1, fun _ => srcOff_inb ok (by omega)⟩
  unfold startNext ring
  iintro ⟨⟨Ht, Hs, HW⟩, Hk⟩
  iapply (wp_word c tab _ _ (r := 32 * ((i 0).val + 1) + j.val) (e := 0) hr rfl)
  isplitl [Ht]; · iexact Ht
  iintro Ht
  iapply (wp_word c tab _ _ (r := 32 * ((i 0).val + 1) + j.val) (e := 1) hr rfl)
  isplitl [Ht]; · iexact Ht
  iintro Ht
  iapply (wp_check c hchk)
  ihave Hs := (slots_step c tab ff (stNext (i 0).val j.val) (stNext (i 0).val (j.val + 1)) (nextSlotWord i j).toNat (nextSlot_lt i j)
    .free (.fly (32 * ((i 0).val + 1) + j.val))
    (by rw [ew]; unfold stNext; split_ifs <;> first | omega | rfl)
    (by rw [ew]; unfold stNext; split_ifs <;> first | omega | rfl | (congr 1; omega))
    (fun m _ hm => by rw [ew] at hm; unfold stNext; split_ifs <;> first | omega | rfl)) $$ Hs
  icases Hs with ⟨Hf, Hs⟩
  iapply (wp_start c tab ff ⟨(nextSlotWord i j).toNat, nextSlot_lt i j⟩ (32 * ((i 0).val + 1) + j.val) _ _ rfl rfl)
  isplitl [Hf]; · iexact Hf
  iintro Hf
  iapply Hk
  isplitl [Ht]; · iexact Ht
  isplitl [Hs Hf]
  · iapply Hs $$ Hf
  iexact HW

/-- Waiting for one of the point's copies: its crop lands. -/
theorem wait_step (c : Dev nD) (tab : Tab F) (ff : Feat F) (ok : TabOK tab) (i : grid0.Coords) (j : Fin 32)
    (k : Pr F) (Q : PUnit → sProp (𝕄 F)) :
    iprop(ring c tab ff (stWait (i 0).val j.val) ∗ (ring c tab ff (stWait (i 0).val (j.val + 1)) -∗ WP c k Q))
      ⊢ WP c (wait i tabM featM cropM cc0_scratch3 j k) Q := by
  have hj := j.isLt
  have ht := point_lt i
  have hn := slotWord_eq i j
  have hr := rowWord_lt i j
  have hlt := slot_lt i j
  generalize ew : (slotWord i j).toNat = n at hn hlt
  have hchk : chkSrc (tabAt tab (32 * (i 0).val + j.val) 0) (tabAt tab (32 * (i 0).val + j.val) 1) :=
    ⟨(ok _ (by omega)).1, srcOff_inb ok (by omega)⟩
  unfold wait ring
  iintro ⟨⟨Ht, Hs, HW⟩, Hk⟩
  iapply (wp_word c tab _ _ (r := 32 * (i 0).val + j.val) (e := 0) hr rfl)
  isplitl [Ht]; · iexact Ht
  iintro Ht
  iapply (wp_word c tab _ _ (r := 32 * (i 0).val + j.val) (e := 1) hr rfl)
  isplitl [Ht]; · iexact Ht
  iintro Ht
  iapply (wp_check c hchk)
  ihave Hs := (slots_step c tab ff (stWait (i 0).val j.val) (stWait (i 0).val (j.val + 1)) (slotWord i j).toNat (slot_lt i j)
    (.fly (32 * (i 0).val + j.val)) (.landed (32 * (i 0).val + j.val))
    (by rw [ew]; unfold stWait; split_ifs <;> first | omega | rfl | (congr 1; omega))
    (by rw [ew]; unfold stWait; split_ifs <;> first | omega | rfl | (congr 1; omega))
    (fun m _ hm => by rw [ew] at hm; unfold stWait; split_ifs <;> first | omega | rfl)) $$ Hs
  icases Hs with ⟨Hf, Hs⟩
  iapply (wp_landing c tab ff ⟨(slotWord i j).toNat, slot_lt i j⟩ (32 * (i 0).val + j.val))
  isplitl [Hf]; · iexact Hf
  isplitl [HW]; · iexact HW
  iintro ⟨Hf, HW⟩
  iapply Hk
  isplitl [Ht]; · iexact Ht
  isplitl [Hs Hf]
  · iapply Hs $$ Hf
  iexact HW

/-- The loops' common resources depend on the states of the 64 slots alone. -/
theorem ring_congr (c : Dev nD) (tab : Tab F) (ff : Feat F) (σ σ' : ℕ → SlotState) (h : ∀ n < 64, σ' n = σ n) :
    ring c tab ff σ ⊢ ring c tab ff σ' := by
  unfold ring
  iintro ⟨Ht, Hs, HW⟩
  isplitl [Ht]; · iexact Ht
  isplitl [Hs]
  · iapply (slots_congr c tab ff σ σ' h) $$ Hs
  iexact HW

/-- The RoIs of a point, in order, are 0 to 31. -/
theorem rois_eq : rois = List.finRange 32 := by decide
/-- The bins of an axis, in order, are 0 to 6. -/
theorem bins_eq : bins = List.finRange 7 := by decide

/-- A loop over the RoIs, followed by the rest of the program. -/
theorem loop_then (c : Dev nD) {f : Fin 32 → Pr F → Pr F} (I : ℕ → sProp (𝕄 F)) (k : PUnit → Pr F) (Q : PUnit → sProp (𝕄 F))
    (step : ∀ (j : Fin 32) (k : Pr F) (Q : PUnit → sProp (𝕄 F)), iprop(I j.val ∗ (I (j.val + 1) -∗ WP c k Q)) ⊢ WP c (f j k) Q) :
    iprop(I 0 ∗ (I 32 -∗ WP c (k ⟨⟩) Q)) ⊢ WP c (rois.foldr f (pure ⟨⟩) >>= k) Q := by
  have e1 : WP c (rois.foldr f (pure ⟨⟩) >>= k) Q = WP c (rois.foldr f (pure ⟨⟩)) (fun a => WP c (k a) Q) := wp_bind _ _ _ _ _ _
  have e2 : WP c (pure ⟨⟩) (fun a => WP c (k a) Q) = WP c (k ⟨⟩) Q := (wp_bind _ _ _ (pure ⟨⟩) k Q).symm
  rw [e1, ← e2, rois_eq]
  exact foldr_wp c I _ (fun j k => step j k _) _

/-- The loop that starts the first point's copies, on the branch where it is taken and where it is not. -/
theorem first_loop (c : Dev nD) (tab : Tab F) (ff : Feat F) (ok : TabOK tab) (i : grid0.Coords) (k : PUnit → Pr F) (Q : PUnit → sProp (𝕄 F)) :
    iprop(ring c tab ff (st (i 0).val) ∗ (ring c tab ff (stNext (i 0).val 0) -∗ WP c (k ⟨⟩) Q))
      ⊢ WP c ((if h1 : k0_cond1 i = 1#1 then rois.foldr (start0 i tabM featM cropM cc0_scratch3 h1) (pure ⟨⟩) else pure ⟨⟩) >>= k) Q := by
  have ht := point_lt i
  by_cases h1 : k0_cond1 i = 1#1
  · rw [dif_pos h1, (cond1_eq i).1 h1]
    refine BIBase.Entails.trans ?_ (loop_then c (fun m => ring c tab ff (stFirst m)) k Q
      (fun j k Q => start0_step c tab ff ok i h1 j k Q))
    iintro ⟨HI, Hk⟩
    isplitl [HI]
    · iapply (ring_congr c tab ff _ _ (fun n _ => (st_zero n).symm)) $$ HI
    iintro HI
    iapply Hk
    iapply (ring_congr c tab ff _ _ (fun n hn => stFirst_last n hn)) $$ HI
  · have h0 : (i 0).val ≠ 0 := fun e => h1 ((cond1_eq i).2 e)
    rw [dif_neg h1]
    have e : (pure ⟨⟩ >>= k : Pr F) = k ⟨⟩ := rfl
    rw [e]
    iintro ⟨HI, Hk⟩
    iapply Hk
    iapply (ring_congr c tab ff _ _ (fun n _ => st_later (i 0).val n (by omega) ht)) $$ HI

/-- The loop that starts the next point's copies, on the branch where it is taken and where it is not. -/
theorem next_loop (c : Dev nD) (tab : Tab F) (ff : Feat F) (ok : TabOK tab) (i : grid0.Coords) (k : PUnit → Pr F) (Q : PUnit → sProp (𝕄 F)) :
    iprop(ring c tab ff (stNext (i 0).val 0) ∗ (ring c tab ff (stWait (i 0).val 0) -∗ WP c (k ⟨⟩) Q))
      ⊢ WP c ((if h2 : k0_cond2 i = 1#1 then rois.foldr (startNext i tabM featM cropM cc0_scratch3 h2) (pure ⟨⟩) else pure ⟨⟩) >>= k) Q := by
  by_cases h2 : k0_cond2 i = 1#1
  · rw [dif_pos h2]
    refine BIBase.Entails.trans ?_ (loop_then c (fun m => ring c tab ff (stNext (i 0).val m)) k Q
      (fun j k Q => startNext_step c tab ff ok i h2 j k Q))
    iintro ⟨HI, Hk⟩
    isplitl [HI]; · iexact HI
    iintro HI
    iapply Hk
    iapply (ring_congr c tab ff _ _ (fun n _ => stNext_last (i 0).val n ((cond2_lt i).1 h2))) $$ HI
  · rw [dif_neg h2]
    have e : (pure ⟨⟩ >>= k : Pr F) = k ⟨⟩ := rfl
    rw [e]
    iintro ⟨HI, Hk⟩
    iapply Hk
    iapply (ring_congr c tab ff _ _ (fun n _ => stNext_none (i 0).val n (fun h => h2 ((cond2_lt i).2 h)))) $$ HI

/-- The loop that awaits the point's copies. -/
theorem wait_loop (c : Dev nD) (tab : Tab F) (ff : Feat F) (ok : TabOK tab) (i : grid0.Coords) (k : Pr F) (Q : PUnit → sProp (𝕄 F)) :
    iprop(ring c tab ff (stWait (i 0).val 0) ∗ (ring c tab ff (stWait (i 0).val 32) -∗ WP c k Q))
      ⊢ WP c (rois.foldr (wait i tabM featM cropM cc0_scratch3) k) Q := by
  rw [rois_eq]
  exact foldr_wp c (fun m => ring c tab ff (stWait (i 0).val m)) Q (fun j k => wait_step c tab ff ok i j k Q) k

end Cert.RoiPool

end
-- ==== Proof.Compute.lean ====
/- The rules of the stages that compute: the column maxima, the bin maxima, the result's block. -/
module

public import proofs.«01_k».proof.Proof.Copies

@[expose] public section

noncomputable section

namespace Cert.RoiPool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen

variable {F : FTy → Type} [FloatOps F]

section Buffers

variable {cs : CoreSpace} {s : Shape} {e : EltTy} (m : Memref sig .tc cs s e) (r : Rect s) (f : m.view.ty.Contents (Elt F))
  (w : r.shape.Idx → Elt F e)

/-- A stored rectangle reads back what was stored, -/
theorem read_put_mem (x : r.shape.Idx) :
    m.view.read (Elt F) ((m.access r).write (Elt F) f w Finset.univ) (r.emb x) = w x :=
  congrFun (View.read_write_univ (v := m.access r) (Val := Elt F) f w) x

/-- and leaves the rest of the buffer. -/
theorem read_put_not_mem (y : s.Idx) (hy : y ∉ r.set) :
    m.view.read (Elt F) ((m.access r).write (Elt F) f w Finset.univ) y = m.view.read (Elt F) f y := by
  have h : m.view.emb y ∉ (m.access r).setOn Finset.univ := by
    intro h
    have h' : m.view.emb y ∈ (m.view.slice r).set := h
    rw [View.set_slice] at h'
    obtain ⟨z, hz, e⟩ := Finset.mem_map.1 h'
    exact hy (m.view.emb.injective e ▸ hz)
  have e := View.write_of_not_mem (v := m.access r) (Val := Elt F) f w Finset.univ h
  unfold View.read
  exact congrArg _ e

end Buffers

/-- The buffer of column maxima, whole. -/
abbrev colM : Memref sig .tc .vmem S32x14x7x256 .f32 := Memref.whole cc0_scratch1
/-- The buffer of results, whole. -/
abbrev rowM : Memref sig .tc .vmem S32x49x256 .f32 := Memref.whole cc0_scratch2

/-- The buffer of column maxima, read whole, is its contents. -/
theorem colM_read (g : S32x14x7x256.Idx → Elt F .f32) (y : S32x14x7x256.Idx) : colM.view.read (Elt F) g y = g y := rfl
/-- The buffer of results, read whole, is its contents. -/
theorem rowM_read (g : S32x49x256.Idx → Elt F .f32) (y : S32x49x256.Idx) : rowM.view.read (Elt F) g y = g y := rfl

/-- The column maxima, those of the RoIs before `j` and RoI `j`'s of the bin columns before `q` computed. -/
def colsDone (c : Dev nD) (tab : Tab F) (ff : Feat F) (t j q : ℕ) : sProp (𝕄 F) :=
  iprop(∃ g : S32x14x7x256.Idx → Elt F .f32, (colM.view.loc (c : Thread nD τ) ↦[colM.view.set]{fullShare} g)
    ∗ ⌜∀ y : S32x14x7x256.Idx, (y 0).val < j ∨ ((y 0).val = j ∧ (y 2).val < q) → g y = colBuf tab ff t y⌝)

/-- The bin maxima, those of the RoIs before `j` and RoI `j`'s of the bin rows before `p` computed. -/
def rowsDone (c : Dev nD) (tab : Tab F) (ff : Feat F) (t j p : ℕ) : sProp (𝕄 F) :=
  iprop(∃ g : S32x49x256.Idx → Elt F .f32, (rowM.view.loc (c : Thread nD τ) ↦[rowM.view.set]{fullShare} g)
    ∗ ⌜∀ y : S32x49x256.Idx, (y 0).val < j ∨ ((y 0).val = j ∧ (y 1).val < 7 * p) → g y = rowBuf tab ff t y⌝)

/-- The result's staging buffer, the blocks of the RoIs before `j` written. -/
def outDone (c : Dev nD) (tab : Tab F) (ff : Feat F) (t : ℕ) (m : Memref sig .tc .vmem S32x256x49 .f32) (j : ℕ) : sProp (𝕄 F) :=
  iprop(∃ g : Buf (Elt F) (m.view.loc (c : Thread nD τ)), (m.view.loc (c : Thread nD τ) ↦[m.view.set]{fullShare} g)
    ∗ ⌜∀ y : S32x256x49.Idx, (y 0).val < j → m.view.read (Elt F) g y = outBuf tab ff t y⌝)

/-- A column of a landed crop. -/
theorem read_col (tab : Tab F) (ff : Feat F) (i : grid0.Coords) (j : Fin 32) (r : ℕ) (v : BitVec 32) (h : chkCol i j v)
    (f : S64x14x24x256.Idx → Elt F .f32)
    (hf : ∀ y : S64x14x24x256.Idx, (y 0).val = (slotWord i j).toNat → f y = cropVal tab ff r (y 1).val (y 2).val (y 3)) :
    cropM.view.readAt (Elt F) (Rect.unit (s := S64x14x24x256) (colOff i j v) S1x14x1x256.size h).toLoadRect f = colOf tab ff r v := by
  funext x
  refine (hf _ ?_).trans ?_
  · have : (x 0).val < 1 := (x 0).isLt
    show (slotWord i j).toNat + 1 * (x 0).val = _
    omega
  · have h2 : (x 2).val < 1 := (x 2).isLt
    have e1 : 0 + 1 * (x 1).val = (x 1).val := by omega
    have e2 : v.toNat + 1 * (x 2).val = v.toNat := by omega
    have e3 : ((Rect.unit (s := S64x14x24x256) (colOff i j v) S1x14x1x256.size h).emb x 3) = x 3 := Fin.ext (by
      show 0 + 1 * (x 3).val = _; omega)
    show cropVal tab ff r (0 + 1 * (x 1).val) (v.toNat + 1 * (x 2).val)
      ((Rect.unit (s := S64x14x24x256) (colOff i j v) S1x14x1x256.size h).emb x 3) = cropVal tab ff r (x 1).val v.toNat (x 3)
    rw [e1, e2, e3]

/-- The columns loaded lie in the slot. -/
theorem col_sub (i : grid0.Coords) (j : Fin 32) (v : BitVec 32) (h : chkCol i j v) :
    cropM.view.setOn (Rect.unit (s := S64x14x24x256) (colOff i j v) S1x14x1x256.size h).set ⊆ slotSet (slotWord i j).toNat := by
  intro y hy
  obtain ⟨z, hz, rfl⟩ := Finset.mem_map.1 hy
  have h0 := Rect.mem_set_unit.1 hz 0
  rw [mem_slotSet]
  have h1 : (slotWord i j).toNat ≤ (z 0).val := h0.1
  have h2 : (z 0).val < (slotWord i j).toNat + 1 := h0.2
  show (z 0).val = _
  omega

/-- A column below 24 lies in the crop. -/
theorem chkCol_of (i : grid0.Coords) (j : Fin 32) (v : BitVec 32) (hv : v.toNat < 24) : chkCol i j v := by
  intro a
  have := slot_lt i j
  match a with
  | ⟨0, _⟩ => show (slotWord i j).toNat + 1 ≤ 64; omega
  | ⟨1, _⟩ => exact Nat.le_refl _
  | ⟨2, _⟩ => show v.toNat + 1 ≤ 24; omega
  | ⟨3, _⟩ => exact Nat.le_refl _

/-- Three rows from a row below 12 lie in the column maxima. -/
theorem chkSlab_of (j : Fin 32) (v : BitVec 32) (hv : v.toNat < 12) : chkSlab j v := by
  intro a
  have := j.isLt
  match a with
  | ⟨0, _⟩ => show j.val + 1 ≤ 32; omega
  | ⟨1, _⟩ => show v.toNat + 3 ≤ 14; omega
  | ⟨2, _⟩ => exact Nat.le_refl _
  | ⟨3, _⟩ => exact Nat.le_refl _

/-- What the loops over a point's bins hold of the slots: the table, and the slots with the point's crops landed. -/
abbrev held (c : Dev nD) (tab : Tab F) (ff : Feat F) (t : ℕ) : sProp (𝕄 F) := ring c tab ff (stWait t 32)

/-- The column maxima after one more bin column. -/
theorem cols_put (tab : Tab F) (ff : Feat F) (t : ℕ) (j : Fin 32) (q : Fin 7) (g : S32x14x7x256.Idx → Elt F .f32)
    (hg : ∀ y : S32x14x7x256.Idx, (y 0).val < j.val ∨ ((y 0).val = j.val ∧ (y 2).val < q.val) → g y = colBuf tab ff t y)
    (y : S32x14x7x256.Idx) (hy : (y 0).val < j.val ∨ ((y 0).val = j.val ∧ (y 2).val < q.val + 1)) :
    ((colM.access (Rect.unit (s := S32x14x7x256) ![j.val, 0, q.val, 0] S1x14x1x256.size (maxima_inb j q))).write (Elt F) g
      (colVal tab ff (32 * t + j.val) q.val) Finset.univ : S32x14x7x256.Idx → Elt F .f32) y = colBuf tab ff t y := by
  by_cases h : (y 0).val = j.val ∧ (y 2).val = q.val
  · have e : (Rect.unit (s := S32x14x7x256) ![j.val, 0, q.val, 0] S1x14x1x256.size (maxima_inb j q)).emb (ix4 0 (y 1) 0 (y 3)) = y := by
      funext a
      refine Fin.ext ?_
      match a with
      | ⟨0, _⟩ => show j.val + 1 * 0 = (y 0).val; omega
      | ⟨1, _⟩ => show 0 + 1 * (y 1).val = (y 1).val; omega
      | ⟨2, _⟩ => show q.val + 1 * 0 = (y 2).val; omega
      | ⟨3, _⟩ => show 0 + 1 * (y 3).val = (y 3).val; omega
    have r := read_put_mem (F := F) colM (Rect.unit (s := S32x14x7x256) ![j.val, 0, q.val, 0] S1x14x1x256.size (maxima_inb j q)) g
      (colVal tab ff (32 * t + j.val) q.val) (ix4 0 (y 1) 0 (y 3))
    rw [e] at r
    refine (colM_read _ y).symm.trans (r.trans ?_)
    unfold colBuf
    rw [h.1, h.2]
  · refine (colM_read _ y).symm.trans ((read_put_not_mem (F := F) colM _ g _ y ?_).trans (hg y (by omega)))
    intro hm
    have h0 := Rect.mem_set_unit.1 hm 0
    have h2 := Rect.mem_set_unit.1 hm 2
    have a1 : j.val ≤ (y 0).val := h0.1
    have a2 : (y 0).val < j.val + 1 := h0.2
    have b1 : q.val ≤ (y 2).val := h2.1
    have b2 : (y 2).val < q.val + 1 := h2.2
    omega

/-- One bin column: the stage computes its column maxima from the landed crop. -/
theorem col_step (c : Dev nD) (tab : Tab F) (ff : Feat F) (ok : TabOK tab) (i : grid0.Coords) (j : Fin 32) (q : Fin 7)
    (k : Pr F) (Q : PUnit → sProp (𝕄 F)) :
    iprop((held c tab ff (i 0).val ∗ colsDone c tab ff (i 0).val j.val q.val)
        ∗ ((held c tab ff (i 0).val ∗ colsDone c tab ff (i 0).val j.val (q.val + 1)) -∗ WP c k Q))
      ⊢ WP c (colStage i tabM cropM colM j q k) Q := by
  have hj := j.isLt
  have hq := q.isLt
  have ht := point_lt i
  have hn := slotWord_eq i j
  have hr := rowWord_lt i j
  obtain ⟨-, -, -, hc, -⟩ := ok (32 * (i 0).val + j.val) (by omega)
  obtain ⟨hc0, hc1, hc2⟩ := hc q.val hq
  have k0 := chkCol_of i j _ hc0
  have k1 := chkCol_of i j _ hc1
  have k2 := chkCol_of i j _ hc2
  unfold colStage held ring colsDone
  iintro ⟨⟨⟨Ht, Hs, HW⟩, ⟨%g, Hg, %hg⟩⟩, Hk⟩
  iapply (wp_word c tab _ _ (r := 32 * (i 0).val + j.val) (e := 16 + 4 * q.val) hr rfl)
  isplitl [Ht]; · iexact Ht
  iintro Ht
  iapply (wp_check c k0)
  iapply (wp_word c tab _ _ (r := 32 * (i 0).val + j.val) (e := 17 + 4 * q.val) hr rfl)
  isplitl [Ht]; · iexact Ht
  iintro Ht
  iapply (wp_check c k1)
  iapply (wp_word c tab _ _ (r := 32 * (i 0).val + j.val) (e := 18 + 4 * q.val) hr rfl)
  isplitl [Ht]; · iexact Ht
  iintro Ht
  iapply (wp_check c k2)
  iapply (wp_word c tab _ _ (r := 32 * (i 0).val + j.val) (e := 19 + 4 * q.val) hr rfl)
  isplitl [Ht]; · iexact Ht
  iintro Ht
  ihave Hs := (slots_step c tab ff (stWait (i 0).val 32) (stWait (i 0).val 32) (slotWord i j).toNat (slot_lt i j)
    (.landed (32 * (i 0).val + j.val)) (.landed (32 * (i 0).val + j.val))
    (by unfold stWait; split_ifs <;> first | omega | (congr 1; omega))
    (by unfold stWait; split_ifs <;> first | omega | (congr 1; omega))
    (fun m _ _ => rfl)) $$ Hs
  icases Hs with ⟨Hf, Hs⟩
  unfold slotOwn slotCrop
  icases Hf with ⟨Hsem, ⟨%f, Hf, %hf⟩, Hff⟩
  iapply (wp_fetch c (m := cropM) (slotSet (slotWord i j).toNat) (f := f) _ (col_sub i j _ k0) (read_col tab ff i j _ _ k0 f hf))
  isplitl [Hf]; · iexact Hf
  iintro Hf
  iapply (wp_fetch c (m := cropM) (slotSet (slotWord i j).toNat) (f := f) _ (col_sub i j _ k1) (read_col tab ff i j _ _ k1 f hf))
  isplitl [Hf]; · iexact Hf
  iintro Hf
  iapply (wp_fetch c (m := cropM) (slotSet (slotWord i j).toNat) (f := f) _ (col_sub i j _ k2) (read_col tab ff i j _ _ k2 f hf))
  isplitl [Hf]; · iexact Hf
  iintro Hf
  iapply (wp_fetch_all c (m := colM) (f := g) _ rfl)
  isplitl [Hg]; · iexact Hg
  iintro Hg
  iapply (wp_put_all c (m := colM) (f := g))
  isplitl [Hg]; · iexact Hg
  iintro Hg
  iapply Hk
  isplitr [Hg]
  · isplitl [Ht]; · iexact Ht
    isplitr [HW]
    · iapply Hs
      isplitl [Hsem]; · iexact Hsem
      isplitl [Hf]
      · iexists f
        isplitl [Hf]; · iexact Hf
        ipureintro; exact hf
      iexact Hff
    iexact HW
  iexists _
  isplitl [Hg]; · iexact Hg
  ipureintro
  exact cols_put tab ff (i 0).val j q g hg

end Cert.RoiPool

end
-- ==== Proof.Whole.lean ====
/- The rules of the bin maxima and of the result's block, the loops over the RoIs, and the whole body. -/
module

public import proofs.«01_k».proof.Proof.Compute

@[expose] public section

noncomputable section

namespace Cert.RoiPool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen

variable {F : FTy → Type} [FloatOps F]

/-- The three rows of the column maxima that a bin row loads. -/
theorem read_slab (tab : Tab F) (ff : Feat F) (t : ℕ) (j : Fin 32) (v : BitVec 32) (h : chkSlab j v) (hv : v.toNat < 12)
    (g : S32x14x7x256.Idx → Elt F .f32)
    (hg : ∀ y : S32x14x7x256.Idx, (y 0).val < j.val ∨ ((y 0).val = j.val ∧ (y 2).val < 7) → g y = colBuf tab ff t y) :
    colM.view.readAt (Elt F) (Rect.unit (s := S32x14x7x256) (slabOff j v) S1x3x7x256.size h).toLoadRect g = slabOf tab ff t j v := by
  funext x
  have h0 : (x 0).val < 1 := (x 0).isLt
  have h1 : (x 1).val < 3 := (x 1).isLt
  have h2 : (x 2).val < 7 := (x 2).isLt
  have e : (Rect.unit (s := S32x14x7x256) (slabOff j v) S1x3x7x256.size h).emb x = ix4 j (Fin.ofNat 14 (v.toNat + (x 1).val)) (x 2) (x 3) := by
    funext a
    refine Fin.ext ?_
    match a with
    | ⟨0, _⟩ => show j.val + 1 * (x 0).val = j.val; omega
    | ⟨1, _⟩ => show v.toNat + 1 * (x 1).val = (v.toNat + (x 1).val) % 14; omega
    | ⟨2, _⟩ => show 0 + 1 * (x 2).val = (x 2).val; omega
    | ⟨3, _⟩ => show 0 + 1 * (x 3).val = (x 3).val; omega
  show g ((Rect.unit (s := S32x14x7x256) (slabOff j v) S1x3x7x256.size h).emb x) = _
  rw [e]
  exact hg _ (.inr ⟨rfl, h2⟩)

/-- The bin maxima after one more bin row. -/
theorem rows_put (tab : Tab F) (ff : Feat F) (t : ℕ) (j : Fin 32) (p : Fin 7) (g : S32x49x256.Idx → Elt F .f32)
    (hg : ∀ y : S32x49x256.Idx, (y 0).val < j.val ∨ ((y 0).val = j.val ∧ (y 1).val < 7 * p.val) → g y = rowBuf tab ff t y)
    (y : S32x49x256.Idx) (hy : (y 0).val < j.val ∨ ((y 0).val = j.val ∧ (y 1).val < 7 * (p.val + 1))) :
    ((rowM.access (Rect.unit (s := S32x49x256) ![j.val, 7 * p.val, 0] S1x7x256.size (res_inb j p))).write (Elt F) g
      (rowVal tab ff t j p.val) Finset.univ : S32x49x256.Idx → Elt F .f32) y = rowBuf tab ff t y := by
  by_cases h : (y 0).val = j.val ∧ 7 * p.val ≤ (y 1).val
  · have hp := p.isLt
    have hm7 : (y 1).val % 7 = (y 1).val - 7 * p.val := by omega
    have e : (Rect.unit (s := S32x49x256) ![j.val, 7 * p.val, 0] S1x7x256.size (res_inb j p)).emb (ix3 0 (Fin.ofNat 7 (y 1).val) (y 2)) = y := by
      funext a
      refine Fin.ext ?_
      match a with
      | ⟨0, _⟩ => show j.val + 1 * 0 = (y 0).val; omega
      | ⟨1, _⟩ => show 7 * p.val + 1 * ((y 1).val % 7) = (y 1).val; omega
      | ⟨2, _⟩ => show 0 + 1 * (y 2).val = (y 2).val; omega
    have r := read_put_mem (F := F) rowM (Rect.unit (s := S32x49x256) ![j.val, 7 * p.val, 0] S1x7x256.size (res_inb j p)) g
      (rowVal tab ff t j p.val) (ix3 0 (Fin.ofNat 7 (y 1).val) (y 2))
    rw [e] at r
    refine (rowM_read _ y).symm.trans (r.trans ?_)
    have ej : (y 0) = j := Fin.ext h.1
    have ep : (y 1).val / 7 = p.val := by omega
    unfold rowBuf
    rw [ej, ep]
  · refine (rowM_read _ y).symm.trans ((read_put_not_mem (F := F) rowM _ g _ y ?_).trans (hg y (by omega)))
    intro hm
    have h0 := Rect.mem_set_unit.1 hm 0
    have h1 := Rect.mem_set_unit.1 hm 1
    have a1 : j.val ≤ (y 0).val := h0.1
    have a2 : (y 0).val < j.val + 1 := h0.2
    have b1 : 7 * p.val ≤ (y 1).val := h1.1
    omega

/-- One bin row of one RoI. -/
theorem row_step (c : Dev nD) (tab : Tab F) (ff : Feat F) (ok : TabOK tab) (i : grid0.Coords) (j : Fin 32) (p : Fin 7)
    (k : Pr F) (Q : PUnit → sProp (𝕄 F)) :
    iprop((held c tab ff (i 0).val ∗ colsDone c tab ff (i 0).val j.val 7 ∗ rowsDone c tab ff (i 0).val j.val p.val)
        ∗ ((held c tab ff (i 0).val ∗ colsDone c tab ff (i 0).val j.val 7 ∗ rowsDone c tab ff (i 0).val j.val (p.val + 1)) -∗ WP c k Q))
      ⊢ WP c (rowStage i tabM colM rowM j p k) Q := by
  have hj := j.isLt
  have hp := p.isLt
  have ht := point_lt i
  have hr := rowWord_lt i j
  obtain ⟨-, -, -, -, hc⟩ := ok (32 * (i 0).val + j.val) (by omega)
  have hc0 := hc p.val hp
  have k0 := chkSlab_of j _ hc0
  unfold rowStage held ring colsDone rowsDone
  iintro ⟨⟨⟨Ht, Hs, HW⟩, ⟨%g, Hg, %hg⟩, ⟨%f, Hf, %hf⟩⟩, Hk⟩
  iapply (wp_word c tab _ _ (r := 32 * (i 0).val + j.val) (e := 44 + 3 * p.val) hr rfl)
  isplitl [Ht]; · iexact Ht
  iintro Ht
  iapply (wp_check c k0)
  iapply (wp_word c tab _ _ (r := 32 * (i 0).val + j.val) (e := 45 + 3 * p.val) hr rfl)
  isplitl [Ht]; · iexact Ht
  iintro Ht
  iapply (wp_word c tab _ _ (r := 32 * (i 0).val + j.val) (e := 46 + 3 * p.val) hr rfl)
  isplitl [Ht]; · iexact Ht
  iintro Ht
  iapply (wp_fetch_all c (m := colM) (f := g) _ (read_slab tab ff (i 0).val j _ k0 hc0 g hg))
  isplitl [Hg]; · iexact Hg
  iintro Hg
  iapply (wp_fetch_all c (m := rowM) (f := f) _ rfl)
  isplitl [Hf]; · iexact Hf
  iintro Hf
  iapply (wp_put_all c (m := rowM) (f := f))
  isplitl [Hf]; · iexact Hf
  iintro Hf
  iapply Hk
  isplitl [Ht Hs HW]
  · isplitl [Ht]; · iexact Ht
    isplitl [Hs]; · iexact Hs
    iexact HW
  isplitl [Hg]
  · iexists g
    isplitl [Hg]; · iexact Hg
    ipureintro; exact hg
  iexists _
  isplitl [Hf]; · iexact Hf
  ipureintro
  exact rows_put tab ff (i 0).val j p f hf

/-- What the loop over the RoIs holds when the maxima of those before `j` are computed. -/
def roisDone (c : Dev nD) (tab : Tab F) (ff : Feat F) (t j : ℕ) : sProp (𝕄 F) :=
  iprop(held c tab ff t ∗ colsDone c tab ff t j 0 ∗ rowsDone c tab ff t j 0)

/-- A RoI's seven bin columns done are the next RoI's none. -/
theorem cols_next (c : Dev nD) (tab : Tab F) (ff : Feat F) (t j : ℕ) : colsDone c tab ff t j 7 ⊢ colsDone c tab ff t (j + 1) 0 := by
  unfold colsDone
  iintro ⟨%g, Hg, %hg⟩
  iexists g
  isplitl [Hg]; · iexact Hg
  ipureintro
  intro y hy
  have h2 : (y 2).val < 7 := (y 2).isLt
  exact hg y (by omega)

/-- A RoI's seven bin rows done are the next RoI's none. -/
theorem rows_next (c : Dev nD) (tab : Tab F) (ff : Feat F) (t j : ℕ) : rowsDone c tab ff t j 7 ⊢ rowsDone c tab ff t (j + 1) 0 := by
  unfold rowsDone
  iintro ⟨%g, Hg, %hg⟩
  iexists g
  isplitl [Hg]; · iexact Hg
  ipureintro
  intro y hy
  have h1 : (y 1).val < 49 := (y 1).isLt
  exact hg y (by omega)

/-- One RoI: its seven bin columns, then its seven bin rows. -/
theorem roi_step (c : Dev nD) (tab : Tab F) (ff : Feat F) (ok : TabOK tab) (i : grid0.Coords) (j : Fin 32)
    (k : Pr F) (Q : PUnit → sProp (𝕄 F)) :
    iprop(roisDone c tab ff (i 0).val j.val ∗ (roisDone c tab ff (i 0).val (j.val + 1) -∗ WP c k Q))
      ⊢ WP c (bins.foldr (colStage i tabM cropM colM j) (bins.foldr (rowStage i tabM colM rowM j) k)) Q := by
  rw [bins_eq]
  refine BIBase.Entails.trans ?_ (foldr_wp c (fun q => iprop(held c tab ff (i 0).val ∗ colsDone c tab ff (i 0).val j.val q)) Q
    (fun q k => col_step c tab ff ok i j q k Q) _)
  unfold roisDone
  iintro ⟨⟨Hh, Hc, Hr⟩, Hk⟩
  isplitl [Hh Hc]
  · isplitl [Hh]; · iexact Hh
    iexact Hc
  iintro ⟨Hh, Hc⟩
  iapply (foldr_wp c (fun p => iprop(held c tab ff (i 0).val ∗ colsDone c tab ff (i 0).val j.val 7 ∗ rowsDone c tab ff (i 0).val j.val p)) Q
    (fun p k => row_step c tab ff ok i j p k Q) k)
  isplitl [Hh Hc Hr]
  · isplitl [Hh]; · iexact Hh
    isplitl [Hc]; · iexact Hc
    iexact Hr
  iintro ⟨Hh, Hc, Hr⟩
  iapply Hk
  isplitl [Hh]; · iexact Hh
  isplitl [Hc]
  · iapply (cols_next c tab ff (i 0).val j.val) $$ Hc
  iapply (rows_next c tab ff (i 0).val j.val) $$ Hr

/-- A RoI's bin maxima, loaded whole. -/
theorem read_rows (tab : Tab F) (ff : Feat F) (t : ℕ) (j : Fin 32) (g : S32x49x256.Idx → Elt F .f32)
    (hg : ∀ y : S32x49x256.Idx, (y 0).val < 32 → g y = rowBuf tab ff t y) :
    rowM.view.readAt (Elt F) (Rect.unit (s := S32x49x256) ![j.val, 0, 0] S1x49x256.size (resRoi_inb j)).toLoadRect g
      = fun z : S1x49x256.Idx => rowBuf tab ff t (ix3 j (z 1) (z 2)) := by
  funext x
  have h0 : (x 0).val < 1 := (x 0).isLt
  have e : (Rect.unit (s := S32x49x256) ![j.val, 0, 0] S1x49x256.size (resRoi_inb j)).emb x = ix3 j (x 1) (x 2) := by
    funext a
    refine Fin.ext ?_
    match a with
    | ⟨0, _⟩ => show j.val + 1 * (x 0).val = j.val; omega
    | ⟨1, _⟩ => show 0 + 1 * (x 1).val = (x 1).val; omega
    | ⟨2, _⟩ => show 0 + 1 * (x 2).val = (x 2).val; omega
  show g ((Rect.unit (s := S32x49x256) ![j.val, 0, 0] S1x49x256.size (resRoi_inb j)).emb x) = _
  rw [e]
  exact hg _ j.isLt

/-- The result's block after one more RoI. -/
theorem out_put (tab : Tab F) (ff : Feat F) (t : ℕ) (m : Memref sig .tc .vmem S32x256x49 .f32) (j : Fin 32) (g : m.view.ty.Contents (Elt F))
    (hg : ∀ y : S32x256x49.Idx, (y 0).val < j.val → m.view.read (Elt F) g y = outBuf tab ff t y)
    (y : S32x256x49.Idx) (hy : (y 0).val < j.val + 1) :
    m.view.read (Elt F) ((m.access (Rect.unit (s := S32x256x49) ![j.val, 0, 0] S1x256x49.size (outRoi_inb j))).write (Elt F) g
      (outRoi (fun z : S1x49x256.Idx => rowBuf tab ff t (ix3 j (z 1) (z 2)))) Finset.univ) y = outBuf tab ff t y := by
  by_cases h : (y 0).val = j.val
  · have e : (Rect.unit (s := S32x256x49) ![j.val, 0, 0] S1x256x49.size (outRoi_inb j)).emb (ix3 0 (y 1) (y 2)) = y := by
      funext a
      refine Fin.ext ?_
      match a with
      | ⟨0, _⟩ => show j.val + 1 * 0 = (y 0).val; omega
      | ⟨1, _⟩ => show 0 + 1 * (y 1).val = (y 1).val; omega
      | ⟨2, _⟩ => show 0 + 1 * (y 2).val = (y 2).val; omega
    have r := read_put_mem (F := F) m (Rect.unit (s := S32x256x49) ![j.val, 0, 0] S1x256x49.size (outRoi_inb j)) g
      (outRoi (fun z : S1x49x256.Idx => rowBuf tab ff t (ix3 j (z 1) (z 2)))) (ix3 0 (y 1) (y 2))
    rw [e] at r
    have ej : (y 0) = j := Fin.ext h
    refine r.trans ?_
    unfold outBuf
    rw [ej]
  · refine (read_put_not_mem (F := F) m _ g _ y ?_).trans (hg y (by omega))
    intro hm
    have h0 := Rect.mem_set_unit.1 hm 0
    have a1 : j.val ≤ (y 0).val := h0.1
    omega

/-- The bin maxima of a whole grid point. -/
def rowsAll (c : Dev nD) (tab : Tab F) (ff : Feat F) (t : ℕ) : sProp (𝕄 F) :=
  iprop(∃ g : S32x49x256.Idx → Elt F .f32, (rowM.view.loc (c : Thread nD τ) ↦[rowM.view.set]{fullShare} g)
    ∗ ⌜∀ y : S32x49x256.Idx, (y 0).val < 32 → g y = rowBuf tab ff t y⌝)

/-- One RoI's block of the result. -/
theorem out_step (c : Dev nD) (tab : Tab F) (ff : Feat F) (t : ℕ) (m : Memref sig .tc .vmem S32x256x49 .f32) (j : Fin 32)
    (k : Pr F) (Q : PUnit → sProp (𝕄 F)) :
    iprop((rowsAll c tab ff t ∗ outDone c tab ff t m j.val)
        ∗ ((rowsAll c tab ff t ∗ outDone c tab ff t m (j.val + 1)) -∗ WP c k Q))
      ⊢ WP c (outStage m rowM j k) Q := by
  unfold outStage rowsAll outDone
  iintro ⟨⟨⟨%g, Hg, %hg⟩, ⟨%f, Hf, %hf⟩⟩, Hk⟩
  iapply (wp_fetch_all c (m := rowM) (f := g) _ (read_rows tab ff t j g hg))
  isplitl [Hg]; · iexact Hg
  iintro Hg
  iapply (wp_fetch_all c (m := m) (f := f) _ rfl)
  isplitl [Hf]; · iexact Hf
  iintro Hf
  iapply (wp_put_all c (m := m) (f := f))
  isplitl [Hf]; · iexact Hf
  iintro Hf
  iapply Hk
  isplitl [Hg]
  · iexists g
    isplitl [Hg]; · iexact Hg
    ipureintro; exact hg
  iexists _
  isplitl [Hf]; · iexact Hf
  ipureintro
  exact out_put tab ff t m j f hf

/-- The body as three parts in sequence. -/
theorem body_seq (i : grid0.Coords) (m : Memref sig .tc .vmem S32x256x49 .f32) :
    (body i tabM featM m cropM colM rowM cc0_scratch3 : Pr F)
      = ((if h1 : k0_cond1 i = 1#1 then rois.foldr (start0 i tabM featM cropM cc0_scratch3 h1) (pure ⟨⟩) else pure ⟨⟩) >>= fun _ =>
          (if h2 : k0_cond2 i = 1#1 then rois.foldr (startNext i tabM featM cropM cc0_scratch3 h2) (pure ⟨⟩) else pure ⟨⟩) >>= fun _ =>
            rois.foldr (wait i tabM featM cropM cc0_scratch3)
              (rois.foldr (fun j k => bins.foldr (colStage i tabM cropM colM j) (bins.foldr (rowStage i tabM colM rowM j) k))
                (rois.foldr (outStage m rowM) (pure ⟨⟩)))) := by
  unfold body
  by_cases h1 : k0_cond1 i = 1#1 <;> by_cases h2 : k0_cond2 i = 1#1 <;> simp only [h1, h2, dif_pos, dif_neg, not_false_eq_true] <;> rfl

/-- The end of the body. -/
theorem pure_wp (c : Dev nD) (Q : PUnit → sProp (𝕄 F)) : Q ⟨⟩ ⊢ WP c (pure ⟨⟩) Q := by
  have e : WP c (pure ⟨⟩) Q = iprop(|={Set.univ}[frame]=> Q ⟨⟩) := rfl
  rw [e]
  iintro H
  imodintro
  iexact H

/-- The whole body at a grid point: from the slots as they stand before the point, the two maxima buffers and the result's
    staging buffer with any contents, to the slots before the next point and the point's block in the staging buffer. -/
theorem body_wp (c : Dev nD) (tab : Tab F) (ff : Feat F) (ok : TabOK tab) (i : grid0.Coords) (m : Memref sig .tc .vmem S32x256x49 .f32)
    (Q : PUnit → sProp (𝕄 F)) :
    iprop(ring c tab ff (st (i 0).val)
        ∗ (∃ g, colM.view.loc (c : Thread nD τ) ↦[colM.view.set]{fullShare} g)
        ∗ (∃ g, rowM.view.loc (c : Thread nD τ) ↦[rowM.view.set]{fullShare} g)
        ∗ (∃ g, m.view.loc (c : Thread nD τ) ↦[m.view.set]{fullShare} g)
        ∗ ((ring c tab ff (st ((i 0).val + 1))
          ∗ (∃ g, colM.view.loc (c : Thread nD τ) ↦[colM.view.set]{fullShare} g)
          ∗ (∃ g, rowM.view.loc (c : Thread nD τ) ↦[rowM.view.set]{fullShare} g)
          ∗ owns c m fullShare (outBuf tab ff (i 0).val)) -∗ Q ⟨⟩))
      ⊢ WP c (body i tabM featM m cropM colM rowM cc0_scratch3) Q := by
  rw [body_seq]
  iintro ⟨Hr, ⟨%gc, Hc⟩, ⟨%gr, Hw⟩, ⟨%go, Ho⟩, Hk⟩
  iapply (first_loop c tab ff ok i)
  isplitl [Hr]; · iexact Hr
  iintro Hr
  iapply (next_loop c tab ff ok i)
  isplitl [Hr]; · iexact Hr
  iintro Hr
  iapply (wait_loop c tab ff ok i)
  isplitl [Hr]; · iexact Hr
  iintro Hr
  rw [rois_eq]
  iapply (foldr_wp c (fun j => roisDone c tab ff (i 0).val j) Q (fun j k => roi_step c tab ff ok i j k Q))
  isplitl [Hr Hc Hw]
  · unfold roisDone
    isplitl [Hr]; · iexact Hr
    unfold colsDone rowsDone
    isplitl [Hc]
    · iexists gc
      isplitl [Hc]; · iexact Hc
      ipureintro
      intro y hy
      exact absurd hy (by omega)
    iexists gr
    isplitl [Hw]; · iexact Hw
    ipureintro
    intro y hy
    exact absurd hy (by omega)
  iintro Hd
  unfold roisDone colsDone rowsDone
  icases Hd with ⟨Hr, ⟨%gc, Hc, -⟩, ⟨%gr, Hw, %hw⟩⟩
  iapply (foldr_wp c (fun j => iprop(rowsAll c tab ff (i 0).val ∗ outDone c tab ff (i 0).val m j)) Q
    (fun j k => out_step c tab ff (i 0).val m j k Q))
  isplitl [Hw Ho]
  · unfold rowsAll outDone
    isplitl [Hw]
    · iexists gr
      isplitl [Hw]; · iexact Hw
      ipureintro
      exact fun y hy => hw y (.inl hy)
    iexists go
    isplitl [Ho]; · iexact Ho
    ipureintro
    intro y hy
    exact absurd hy (by omega)
  iintro ⟨Hw, Ho⟩
  unfold rowsAll outDone
  icases Hw with ⟨%gw, Hw, -⟩
  icases Ho with ⟨%go, Ho, %ho⟩
  iapply (pure_wp c Q)
  iapply Hk
  isplitl [Hr]
  · unfold held ring
    icases Hr with ⟨Ht, Hs, HW⟩
    isplitl [Ht]; · iexact Ht
    isplitl [Hs]
    · iapply (slots_mono c tab ff _ _ (stWait_last (i 0).val)) $$ Hs
    iexact HW
  isplitl [Hc]
  · iexists gc
    iexact Hc
  isplitl [Hw]
  · iexists gw
    iexact Hw
  unfold owns
  iexists go
  isplitr [Ho]
  · ipureintro
    funext y
    exact ho y (y 0).isLt
  iexact Ho

end Cert.RoiPool

end
-- ==== Proof.BodyEq.lean ====
/- The printed kernel body is the short one of `Body.lean`. -/
module

public import proofs.«01_k».proof.Proof.Body
public import Idealize.ShloMosaic.Lib.Pipeline.Regions

@[expose] public section

set_option maxRecDepth 100000

namespace Cert.RoiPool
open Idealize.ShloMosaic Idealize.SL.Sem Cert.KernelIdeal Cert.KernelIdeal.Gen
variable {F : FTy → Type} [FloatOps F]

/-- The printed body is the short one. -/
theorem body_eq (i : grid0.Coords) (arg1 : Memref sig .tc .smem S1024x65 .i32) (h1 : arg1.IsWhole)
    (arg2 : Memref sig .tc .hbm S400x200x256 .f32) (h2 : arg2.IsWhole)
    (arg3 : Memref sig .tc .vmem S32x256x49 .f32) (h3 : arg3.IsWhole) (arg4 : Memref sig .tc .vmem S64x14x24x256 .f32) (h4 : arg4.IsWhole)
    (arg5 : Memref sig .tc .vmem S32x14x7x256 .f32) (h5 : arg5.IsWhole) (arg6 : Memref sig .tc .vmem S32x49x256 .f32) (h6 : arg6.IsWhole) (arg7 : DmaSems sig S64) :
    cc0__roi_kernel (F := F) i arg1 h1 arg2 h2 arg3 h3 arg4 h4 arg5 h5 arg6 h6 arg7 = body i arg1 arg2 arg3 arg4 arg5 arg6 arg7 := by
  unfold body cc0__roi_kernel k0_part385 k0_part28
  by_cases c1 : k0_cond1 i = 1#1 <;> by_cases c2 : k0_cond2 i = 1#1
  · simp only [dif_pos c1, dif_pos c2]
    chain_rfl
  · simp only [dif_pos c1, dif_neg c2]
    chain_rfl
  · simp only [dif_neg c1, dif_pos c2]
    chain_rfl
  · simp only [dif_neg c1, dif_neg c2]
    chain_rfl

end Cert.RoiPool

end
-- ==== Proof.Launching.lean ====
/- The pipeline's proof data and the run of the whole program: what the invariant holds between grid points, how the
   launch's buffers become it, and the run's end. -/
module

public import proofs.«01_k».proof.Proof.Whole
public import proofs.«01_k».proof.Proof.BodyEq
public import proofs.«01_k».proof.Proof.Gen.KernelIdeal.Launch
public import Idealize.ShloMosaic.Lib.Pipeline.Frame
public import Idealize.ShloMosaic.Lib.Pipeline.FrameBody
public import Idealize.ShloMosaic.Lib.Ring
public import Idealize.ShloMosaic.Lib.StableHlo.RunRead

@[expose] public section

noncomputable section

namespace Cert.RoiPool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen

variable {F : FTy → Type} [FloatOps F]

variable (m : (ℓ : Loc nD τ sig) → Buf (Elt F) ℓ) (ρ : Dev nD → PrngReg)

/-- The host's operations before the kernel, stretch by stretch. -/
def hostOps : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18]

/-- Every buffer's contents when the kernel starts. -/
def V (c : Dev nD) (b : Ref sig .tc) : Buf (Elt F) ((c : Thread nD τ).loc b) :=
  StableHlo.after (hostOps (F := F)).flatten (fun b => m (c, b)) b

/-- The table and the feature array when the kernel starts. -/
abbrev tab (c : Dev nD) : Tab F := V m c main_v152
/-- The feature array when the kernel starts. -/
abbrev ff (c : Dev nD) : Feat F := V m c main_v154

/-- The table's contents, which the pipeline is configured at. -/
def adm (p : Fin 1) : (pcfgs (F := F) p).Adm := ⟨fun | ⟨0, _⟩ => V m 0 main_v152 | ⟨_ + 1, h⟩ => absurd h (Nat.not_lt.2 (Nat.le_add_left _ _)), trivial⟩

/-- The pipeline at the table's contents. -/
abbrev cfgA : Pipeline.Cfg sig Λ₀ := Pipeline.pin (pcfgs (F := F)) (adm m) 0

/-- The staging buffer of the result at a point. -/
abbrev outM (t : Fin (cfgA m).N) : Memref sig .tc .vmem S32x256x49 .f32 := ((cfgA m).win 0).stage ((cfgA m).slots t 0)

/-- What the invariant holds between two grid points. -/
def inv (c : Dev nD) (n : ℕ) : sProp (𝕄 F) :=
  iprop(tabPt c (tab m c) ∗ slots c (tab m c) (ff m c) (st n)
    ∗ (∃ g, colM.view.loc (c : Thread nD τ) ↦[colM.view.set]{fullShare} g)
    ∗ (∃ g, rowM.view.loc (c : Thread nD τ) ↦[rowM.view.set]{fullShare} g)
    ∗ (featM.view.loc (c : Thread nD τ) ↦[Finset.univ]{shareDrop fullShare 64} (ff m c : S400x200x256.Idx → Elt F .f32))
    ∗ ∃ r, prngReg c r)

/-- The proof data of the one pipeline. -/
def dats (p : Fin 1) (c : Dev nD) : Pipeline.Dat τ (Elt F) Unit ℕ (Pipeline.UD sig nD τ) ℕ (Pipeline.pin (pcfgs (F := F)) (adm m) p) c where
  A w := V m c (Pipeline.arrRef spec0 w)
  after w t := match w with
    | ⟨0, _⟩ => outBuf (tab m c) (ff m c) t.val
    | ⟨_ + 1, h⟩ => absurd h (Nat.not_lt.2 (Nat.le_add_left _ _))
  Φ t := inv m c t.val
  q _ := fullShare
  owed _ := 0

/-- The pipeline's arrays at the start are what the host operations leave. -/
theorem A_eq (c : Dev nD) (w : Fin 1) : (dats m 0 c).A w = V m c (Pipeline.arrRef spec0 w) := by dsimp only [dats]
/-- A point leaves its output block. -/
theorem after_eq (c : Dev nD) (t : Fin (cfgA m).N) : (dats m 0 c).after 0 t = outBuf (tab m c) (ff m c) t.val := rfl

/-- The grid's one coordinate is the point's number. -/
theorem coords_val : ∀ t : Fin grid0.N, (grid0.coords t 0).val = t.val := by decide +kernel

/-- The body called at a point, as a program on its buffers. -/
def bodyOn (t : Fin (cfgA m).N) : Pr F := body (grid0.coords t) tabM featM (outM m t) cropM colM rowM cc0_scratch3

/-- The pipeline's call at a point is the body on the point's buffers. -/
theorem defs₀_row (t : Fin (cfgA m).N) :
    defs₀ (F := F) .tc (cfgA m).body ((cfgA m).bodyArgs t ((cfgA m).slots t)) = bodyOn m t := by
  unfold defs₀
  rw [Defs.onTc_tc]
  exact body_eq _ _ _ _ _ _ _ _ _ _ _ _ _ _

/-- What the body at a point starts from. -/
def bodyPre (c : Dev nD) (t : Fin (cfgA m).N) : sProp (𝕄 F) :=
  iprop((dats m 0 c).Φ t.castSucc ∗ (dats m 0 c).owesAt () t.castSucc
    ∗ (∃ d, owns (c : Thread nD τ) (outM m t) fullShare ((dats m 0 c).before 0 t d)))
/-- What the body at a point leaves. -/
def bodyPost (c : Dev nD) (t : Fin (cfgA m).N) : sProp (𝕄 F) :=
  iprop((dats m 0 c).Φ t.succ ∗ (dats m 0 c).owesAt () t.succ
    ∗ owns (c : Thread nD τ) (outM m t) fullShare ((dats m 0 c).after 0 t))

/-- The body at a point takes the invariant before it to the invariant after it, and leaves the point's block. -/
theorem sound_body (c : Dev nD) (ok : TabOK (tab m c)) (t : Fin (cfgA m).N) :
    bodyPre m c t ⊢ WP c (bodyOn m t) (fun _ => bodyPost m c t) := by
  have ht : (grid0.coords t 0).val = t.val := coords_val t
  unfold bodyPre bodyPost bodyOn
  rw [after_eq, show (dats m 0 c).Φ t.castSucc = inv m c t.val from rfl, show (dats m 0 c).Φ t.succ = inv m c (t.val + 1) from rfl]
  unfold Pipeline.Dat.owesAt Pipeline.owesWithin
  rw [show (dats m 0 c).owed t.castSucc = 0 from rfl, show (dats m 0 c).owed t.succ = 0 from rfl]
  unfold inv
  iintro ⟨⟨Ht, Hs, Hc, Hr, Hf, Hg⟩, ⟨%W, -, HW⟩, ⟨%d, Ho⟩⟩
  iapply (body_wp c (tab m c) (ff m c) ok (grid0.coords t) (outM m t))
  rw [ht]
  isplitl [Ht Hs HW]
  · unfold ring
    isplitl [Ht]; · iexact Ht
    isplitl [Hs]; · iexact Hs
    iexists W
    iexact HW
  isplitl [Hc]; · iexact Hc
  isplitl [Hr]; · iexact Hr
  isplitl [Ho]
  · unfold owns
    icases Ho with ⟨%f, -, Ho⟩
    iexists f
    iexact Ho
  iintro ⟨HR, Hc, Hr, Ho⟩
  unfold ring
  icases HR with ⟨Ht, Hs, ⟨%W', HW⟩⟩
  isplitl [Ht Hs Hc Hr Hf Hg]
  · isplitl [Ht]; · iexact Ht
    isplitl [Hs]; · iexact Hs
    isplitl [Hc]; · iexact Hc
    isplitl [Hr]; · iexact Hr
    isplitl [Hf]; · iexact Hf
    iexact Hg
  isplitl [HW]
  · iexists W'
    isplitr
    · ipureintro
      exact fun _ _ => Or.inl trivial
    iexact HW
  iexact Ho

/-- The pipeline's obligation on the body, for a table that is in order. -/
theorem body_obligation (c : Dev nD) (ok : TabOK (tab m c)) :
    Pipeline.BodyObligation (dats (F := F) m 0 c) (defs₀ (F := F)) Variants.none () Set.univ := fun t => by
  rw [bigSep_W0, bigSep_W0, defs₀_row]
  exact triple_restated (sound_body m c ok t) rfl BIBase.Entails.rfl fun _ => BIBase.Entails.rfl

/-! ## The slots at the launch and at the end -/

/-- Different slots have no element in common. -/
theorem slots_disjoint (b b' : Fin 64) (h : b ≠ b') : Disjoint (slotSet b.val) (slotSet b'.val) := by
  rw [Finset.disjoint_left]
  intro y hy hy'
  rw [mem_slotSet] at hy hy'
  exact h (Fin.ext (hy.symm.trans hy'))

/-- The slots make up the crop buffer. -/
theorem slots_cover : (Finset.univ : Finset (Fin 64)).biUnion (fun b => slotSet b.val) = Finset.univ := by
  ext y
  simp only [Finset.mem_biUnion, Finset.mem_univ, true_and, iff_true]
  exact ⟨y 0, mem_slotSet.2 rfl⟩

/-- The kernel's own semaphores. -/
abbrev osem : Fin 64 → SemLoc sig := slotSem
/-- The body's own semaphores are not the pipeline's. -/
theorem ownSemFacts : Pipeline.OwnSemFacts spec0 osem := by decide +kernel

/-- The free slots, as their semaphores, their parts of the crop buffer and their parts of the feature array. -/
theorem slots_free (c : Dev nD) (tb : Tab F) (f : Feat F) (σ : ℕ → SlotState) (hσ : ∀ n < 64, σ n = .free) :
    slots c tb f σ = iprop((bigSep Finset.univ fun n : Fin 64 => (semVal ((c : Thread nD τ), slotSem n) 0 : sProp (𝕄 F)))
      ∗ (bigSep Finset.univ fun n : Fin 64 => slotAny c n) ∗ (bigSep Finset.univ fun n : Fin 64 => featPt c f n Finset.univ)) := by
  unfold slots
  refine (bigSep_congr fun n _ => (by rw [hσ n.val n.isLt]; rfl :
    slotOwn c tb f n (σ n.val) = iprop(semVal ((c : Thread nD τ), slotSem n) 0 ∗ slotAny c n ∗ featPt c f n Finset.univ))).trans ?_
  exact (bigSep_sep Finset.univ (fun n : Fin 64 => (semVal ((c : Thread nD τ), slotSem n) 0 : sProp (𝕄 F)))
      (fun n : Fin 64 => iprop(slotAny c n ∗ featPt c f n Finset.univ))).trans
    (congrArg (fun X => iprop((bigSep Finset.univ fun n : Fin 64 => (semVal ((c : Thread nD τ), slotSem n) 0 : sProp (𝕄 F))) ∗ X))
      (bigSep_sep Finset.univ (fun n : Fin 64 => slotAny c n) (fun n : Fin 64 => featPt c f n Finset.univ)))

/-- The crop buffer is its slots, -/
theorem crop_blocks (c : Dev nD) (g : S64x14x24x256.Idx → Elt F .f32) :
    (cropM.view.loc (c : Thread nD τ) ↦{fullShare} g : sProp (𝕄 F)) ⊢ bigSep Finset.univ fun n : Fin 64 => slotAny c n := by
  refine BIBase.Entails.trans (BIBase.Entails.of_eq (Ring.pointsTo_blocks (ℓ := cropM.view.loc (c : Thread nD τ)) (Val := Elt F) (B := Fin 64)
    (fun b => slotSet b.val) slots_disjoint slots_cover (q := fullShare) g)) ?_
  have h (b : Fin 64) : (cropM.view.loc (c : Thread nD τ) ↦[slotSet b.val]{fullShare} g : sProp (𝕄 F)) ⊢ slotAny c b := by
    unfold slotAny
    iintro H
    iexists g
    iexact H
  exact bigSep_mono fun b _ => h b

/-- and back. -/
theorem crop_join (c : Dev nD) : (bigSep Finset.univ fun n : Fin 64 => slotAny c n)
    ⊢ (iprop(∃ g : S64x14x24x256.Idx → Elt F .f32, cropM.view.loc (c : Thread nD τ) ↦{fullShare} g) : sProp (𝕄 F)) :=
  Ring.pointsTo_blocks_join_exists (ℓ := cropM.view.loc (c : Thread nD τ)) (Val := Elt F) (B := Fin 64)
    (fun b => slotSet b.val) slots_disjoint slots_cover (q := fullShare) cropM.view.junk

/-- The crop buffer and the feature array, dealt to 64 free slots. -/
theorem slots_deal (c : Dev nD) (tb : Tab F) (f : Feat F) (σ : ℕ → SlotState) (hσ : ∀ n < 64, σ n = .free) :
    iprop(Pipeline.ownSems0 (Ix := Unit) (Name := ℕ) (U := Pipeline.UD sig nD τ) (Lvl := ℕ) (Val := Elt F) (τ := τ) osem c
        ∗ (∃ g : S64x14x24x256.Idx → Elt F .f32, cropM.view.loc (c : Thread nD τ) ↦{fullShare} g)
        ∗ (featM.view.loc (c : Thread nD τ) ↦{fullShare} f))
      ⊢ iprop(slots c tb f σ ∗ (featM.view.loc (c : Thread nD τ) ↦[Finset.univ]{shareDrop fullShare 64} f)) := by
  rw [slots_free c tb f σ hσ]
  iintro ⟨Hsem, ⟨%g, Hg⟩, Hf⟩
  ihave Hf := (pointsTo_toks_split fullShare 64) $$ Hf
  icases Hf with ⟨Hf, Hfs⟩
  isplitr [Hf]
  · isplitl [Hsem]
    · unfold Pipeline.ownSems0
      iexact Hsem
    isplitl [Hg]
    · iapply (crop_blocks c g) $$ Hg
    iexact Hfs
  iexact Hf

/-- The free slots, put back together. -/
theorem slots_join (c : Dev nD) (tb : Tab F) (f : Feat F) (σ : ℕ → SlotState) (hσ : ∀ n < 64, σ n = .free) :
    iprop(slots c tb f σ ∗ (featM.view.loc (c : Thread nD τ) ↦[Finset.univ]{shareDrop fullShare 64} f))
      ⊢ iprop(Pipeline.ownSems0 (Ix := Unit) (Name := ℕ) (U := Pipeline.UD sig nD τ) (Lvl := ℕ) (Val := Elt F) (τ := τ) osem c
        ∗ (∃ g : S64x14x24x256.Idx → Elt F .f32, cropM.view.loc (c : Thread nD τ) ↦{fullShare} g)
        ∗ (featM.view.loc (c : Thread nD τ) ↦{fullShare} f)) := by
  rw [slots_free c tb f σ hσ]
  iintro ⟨⟨Hsem, Hg, Hfs⟩, Hf⟩
  isplitl [Hsem]
  · unfold Pipeline.ownSems0
    iexact Hsem
  isplitl [Hg]
  · iapply (crop_join c) $$ Hg
  iapply (pointsTo_toks_join fullShare 64)
  isplitl [Hf]; · iexact Hf
  iexact Hfs

/-! ## The run -/

/-- The buffer the body's copies read. -/
def H0 : Finset (Ref sig .tc) := {main_v154}
/-- The buffer the copies read is not one of the pipeline's. -/
theorem H0_sub : H0 ⊆ Pipeline.restRefsP sig pre0 spec0 := by decide +kernel

/-- The view of the column maxima takes in the whole buffer. -/
theorem colM_set : colM.view.set = Finset.univ := View.set_whole _
/-- The view of the results takes in the whole buffer. -/
theorem rowM_set : rowM.view.set = Finset.univ := View.set_whole _

/-- What the launch hands the body becomes the invariant before the first point. -/
theorem inv_start (c : Dev nD) (hc : c = 0) :
    iprop(Pipeline.ΦD osem spec0 H0 (V m) c ∗ Pipeline.ΦT pre0 (adm m 0).1 c) ⊢ inv m c 0 := by
  subst hc
  have e : (Pipeline.ΦT pre0 (adm m 0).1 0 : sProp (𝕄 F)) = tabPt 0 (tab m 0) := bigSep_W0 _
  rw [e, Pipeline.ΦD_eq, scopedRest0_eq]
  unfold inv H0
  rw [bigSep_singleton]
  iintro ⟨⟨⟨Hcrop, Hcol, Hrow⟩, Hg, Hsem, Hf⟩, Ht⟩
  ihave Hs := (slots_deal 0 (tab m 0) (ff m 0) (st 0) (fun n _ => by unfold st; rw [if_neg (by omega)])) $$ [Hsem Hcrop Hf]
  · isplitl [Hsem]; · iexact Hsem
    isplitl [Hcrop]; · iexact Hcrop
    iexact Hf
  icases Hs with ⟨Hs, Hf⟩
  isplitl [Ht]; · iexact Ht
  isplitl [Hs]; · iexact Hs
  isplitl [Hcol]
  · rw [colM_set]; iexact Hcol
  isplitl [Hrow]
  · rw [rowM_set]; iexact Hrow
  isplitl [Hf]; · iexact Hf
  iexact Hg

/-- The invariant after the last point is what the launch takes back. -/
theorem inv_end (c : Dev nD) : inv m c 32 ⊢ Pipeline.ΦD osem spec0 H0 (V m) c := by
  rw [Pipeline.ΦD_eq, scopedRest0_eq]
  unfold inv H0
  rw [bigSep_singleton, colM_set, rowM_set]
  iintro ⟨Ht, Hs, Hcol, Hrow, Hf, Hg⟩
  ihave Hs := (slots_join c (tab m c) (ff m c) (st 32) (fun n _ => by unfold st; rw [if_neg (by omega)])) $$ [Hs Hf]
  · isplitl [Hs]; · iexact Hs
    iexact Hf
  icases Hs with ⟨Hsem, Hcrop, Hf⟩
  isplitl [Hcrop Hcol Hrow]
  · isplitl [Hcrop]; · iexact Hcrop
    isplitl [Hcol]; · iexact Hcol
    iexact Hrow
  isplitl [Hg]; · iexact Hg
  isplitl [Hsem]; · iexact Hsem
  iexact Hf

set_option backward.isDefEq.respectTransparency.types false in
/-- Up to the kernel, the program is the host's operations. -/
theorem hmain : Pipeline.HMainP (Ix := Unit) (Name := ℕ) (U := Pipeline.UD sig nD τ) (Lvl := ℕ) (pcfgs (F := F)) 0 defs₀ Variants.none m
    (main (F := F)) (V m) :=
  Pipeline.hmainP_prefixes (pcfgs (F := F)) 0 defs₀ Variants.none m main hostOps
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub, hostOps0_12_sub, hostOps0_13_sub, hostOps0_14_sub,
      hostOps0_15_sub, hostOps0_16_sub, hostOps0_17_sub, hostOps0_18_sub⟩
    (by
      unfold hostOps
      repeat' (first | exact StableHlo.forall_fresh_of_map rfl | refine ⟨?_, ?_⟩))
    (fun c => (main_chain c).trans rfl)

set_option backward.isDefEq.respectTransparency.types false in
/-- The whole program's run. -/
theorem run_main (ok : ∀ c, TabOK (tab m c)) :
    θ_run defs (onTc (τ := τ) (main (F := F))) (s₀ m ρ)
      (fun r => Pipeline.FramePost (Pipeline.pin (pcfgs (F := F)) (adm m)) (dats m) 0 (V m) r ∧ r.2.sem = fun _ => 0) :=
  Pipeline.θ_run_frameP_dma (Q' := _) (pcfgs (F := F)) (adm m) (dats m) (0 : Fin 1) launch0 osem defs₀ Variants.none ownSemFacts H0 H0_sub m ρ main
    (hbody := fun c => (body_obligation m c (ok c)).loose) (hshare := fun c => (dats m 0 c).share_full fun _ => rfl)
    (howed := fun _ _ => rfl) (V := V m) (hmain := hmain m) (hA := A_eq m)
    (hpf := fun c k => by
      have hc : c = 0 := Subsingleton.elim _ _
      subst hc
      match k with
      | ⟨0, _⟩ => rfl)
    (hin := fun c => inv_start m c (Subsingleton.elim _ _)) (hout := fun c => inv_end m c)

/-- The host operations leave the RoIs unchanged. -/
theorem V_arg0 (c : Dev nD) : V m c main_arg0 = m ((c : Thread nD τ).loc main_arg0) := by
  unfold V hostOps
  after_reads_simp
/-- The host operations leave the map unchanged. -/
theorem V_arg1 (c : Dev nD) : V m c main_arg1 = m ((c : Thread nD τ).loc main_arg1) := by
  unfold V hostOps
  after_reads_simp
/-- The host operations leave the stride unchanged. -/
theorem V_arg2 (c : Dev nD) : V m c main_arg2 = m ((c : Thread nD τ).loc main_arg2) := by
  unfold V hostOps
  after_reads_simp

end Cert.RoiPool

end
-- ==== Proof.Words.lean ====
/- The integers a RoI is reduced to, as words, and the kernel's table in terms of them. -/
module

public import proofs.«01_k».proof.Proof.Launching
public import Idealize.ShloMosaic.Lib.StableHlo.ReadAt
public import Idealize.ShloMosaic.Lib.Pointwise

@[expose] public section

set_option maxRecDepth 16384

noncomputable section

namespace Cert.RoiPool

open Idealize.ShloMosaic Idealize.ShloMosaic.TcCoe Idealize.ShloMosaic.Tactic
open Cert.KernelIdeal Cert.KernelIdeal.Gen

section
variable (F : FTy → Type) [FloatOps F]

/-- One over the stride. -/
def scaleW (s : BitVec 32) : F .f32 := FloatOps.hostDivf (FloatOps.ofBits .f32 1065353216#32) (FloatOps.sitofp .f32 s)

/-- A coordinate on the map: the box's, scaled and rounded. -/
def cornerW (a : S1024x13.Idx → Elt F .f32) (s : BitVec 32) (n : Fin 1024) (k : Fin 13) : BitVec 32 :=
  FloatOps.fptosi 32 (FloatOps.hostUnary .roundeven (FloatOps.mulf (a (ix2 n k)) (scaleW F s)))

/-- The RoI's image. -/
def imgW (a : S1024x13.Idx → Elt F .f32) (n : Fin 1024) : BitVec 32 := FloatOps.fptosi 32 (a (ix2 n 0))

/-- A bin's extent along an axis on which the RoI reaches from `lo` to `hi`. -/
def binW (lo hi : BitVec 32) : F .f32 :=
  FloatOps.hostDivf (FloatOps.sitofp .f32 (IntOp.maxsi (IntOp.addi (IntOp.subi hi lo) 1#32) 1#32)) (FloatOps.ofBits .f32 1088421888#32)

/-- A coordinate clipped to the map. -/
def clipW (w : BitVec 32) : BitVec 32 := IntOp.minsi 200#32 (IntOp.maxsi 0#32 w)

/-- Where bin `q` starts. -/
def startW (lo hi : BitVec 32) (q : ℕ) : BitVec 32 :=
  clipW (IntOp.addi (FloatOps.fptosi 32 (FloatOps.hostUnary .floor (FloatOps.mulf (FloatOps.sitofp .f32 (BitVec.ofNat 32 q)) (binW F lo hi)))) lo)
/-- Where bin `q` stops. -/
def stopW (lo hi : BitVec 32) (q : ℕ) : BitVec 32 :=
  clipW (IntOp.addi (FloatOps.fptosi 32 (FloatOps.hostUnary .ceil (FloatOps.mulf
    (FloatOps.addf (FloatOps.sitofp .f32 (BitVec.ofNat 32 q)) (FloatOps.ofBits .f32 1065353216#32)) (binW F lo hi)))) lo)
end

/-- The crop's first row. -/
def ysW (y : BitVec 32) : BitVec 32 := IntOp.minsi y 186#32
/-- A word's sign. -/
def signW (v : BitVec 32) : BitVec 32 := if v = 0 then 0 else if v.msb then -1 else 1
/-- The quotient by eight, rounded down. -/
def eighthW (v : BitVec 32) : BitVec 32 :=
  Scalar.select
    (IntOp.andi (IntOp.cmpi CmpIPredicate.ne (signW v) (signW 8#32))
      (IntOp.cmpi CmpIPredicate.ne (IntOp.remsi ArithUnit.host v 8#32) 0#32))
    (IntOp.subi (IntOp.divsi ArithUnit.host v 8#32) 1#32) (IntOp.divsi ArithUnit.host v 8#32)
/-- The crop's first column. -/
def xsW (x : BitVec 32) : BitVec 32 := IntOp.minsi (IntOp.muli (eighthW (IntOp.minsi x 186#32)) 8#32) 176#32

variable {F : FTy → Type} [FloatOps F]
variable (m : (ℓ : Loc nD τ sig) → Buf (Elt F) ℓ) (c : Dev nD)

/-- A RoI's corners, as the memory's arguments give them. -/
abbrev cw (n : Fin 1024) (k : Fin 13) : BitVec 32 := cornerW F (m (c, Proc.tc.devRef main_arg0)) (m (c, Proc.tc.devRef main_arg2) ix0) n k
/-- RoI `n`'s image, as the memory's arguments give it. -/
abbrev iw (n : Fin 1024) : BitVec 32 := imgW F (m (c, Proc.tc.devRef main_arg0)) n

/-- Where bin row `p` starts in the crop. -/
abbrev rsW (n : Fin 1024) (p : ℕ) : BitVec 32 := IntOp.subi (startW F (cw m c n 2) (cw m c n 4) p) (ysW (cw m c n 2))
/-- Where bin row `p` stops in the crop. -/
abbrev reW (n : Fin 1024) (p : ℕ) : BitVec 32 := IntOp.subi (stopW F (cw m c n 2) (cw m c n 4) p) (ysW (cw m c n 2))
/-- Where bin column `q` starts in the crop. -/
abbrev csW (n : Fin 1024) (q : ℕ) : BitVec 32 := IntOp.subi (startW F (cw m c n 1) (cw m c n 3) q) (xsW (cw m c n 1))
/-- Where bin column `q` stops in the crop. -/
abbrev ceW (n : Fin 1024) (q : ℕ) : BitVec 32 := IntOp.subi (stopW F (cw m c n 1) (cw m c n 3) q) (xsW (cw m c n 1))

/-- The table's column 0: the crop's first row, counted over both images. -/
theorem v152_0 (n : Fin 1024) : V m c main_v152 (ix2 n 0) = IntOp.addi (IntOp.muli (iw m c n) 200#32) (ysW (cw m c n 2)) := by
  unfold V hostOps
  after_reads_at
  after_reads_at
  simp only [id]
  pointwise
  rfl

/-- The table's column 1: the crop's first column. -/
theorem v152_1 (n : Fin 1024) : V m c main_v152 (ix2 n 1) = xsW (cw m c n 1) := by
  unfold V hostOps
  after_reads_at
  after_reads_at
  simp only [id]
  pointwise
  rfl

/-- The table's four words for a bin column, and its three for a bin row. -/
theorem v152_col (n : Fin 1024) (q : Fin 7) (j : Fin 4) :
    V m c main_v152 (ix2 n ⟨16 + 4 * q.val + j.val, by omega⟩)
      = if j.val < 1 then IntOp.minsi (csW m c n q.val) 23#32
        else if j.val - 1 < 1 then IntOp.minsi (IntOp.addi (csW m c n q.val) 1#32) 23#32
        else if j.val - 1 - 1 < 1 then IntOp.minsi (IntOp.addi (csW m c n q.val) 2#32) 23#32
        else IntOp.subi (ceW m c n q.val) (csW m c n q.val) := by
  unfold V hostOps
  after_reads_at
  rw [dif_neg (by omega), dif_neg (by omega), dif_neg (by omega), dif_pos (by omega)]
  after_reads_at
  simp only [show (16 + 4 * q.val + j.val - 1 - 1 - 14) / 4 = q.val by omega, show (16 + 4 * q.val + j.val - 1 - 1 - 14) % 4 = j.val by omega, Fin.eta]
  after_reads_at
  simp only [id]
  pointwise
  rfl

/-- The table's last 21 columns: each bin row's first row read, and where among the three rows the bin lies. -/
theorem v152_row (n : Fin 1024) (p : Fin 7) (j : Fin 3) :
    V m c main_v152 (ix2 n ⟨44 + 3 * p.val + j.val, by omega⟩)
      = if j.val < 1 then IntOp.minsi (rsW m c n p.val) 11#32
        else if j.val - 1 < 1 then IntOp.subi (rsW m c n p.val) (IntOp.minsi (rsW m c n p.val) 11#32)
        else IntOp.subi (reW m c n p.val) (IntOp.minsi (rsW m c n p.val) 11#32) := by
  unfold V hostOps
  after_reads_at
  rw [dif_neg (by omega), dif_neg (by omega), dif_neg (by omega), dif_neg (by omega)]
  after_reads_at
  simp only [show (44 + 3 * p.val + j.val - 1 - 1 - 14 - 28) / 3 = p.val by omega, show (44 + 3 * p.val + j.val - 1 - 1 - 14 - 28) % 3 = j.val by omega, Fin.eta]
  after_reads_at
  simp only [id]
  pointwise
  rfl

/-- The kernel's feature array: the argument with the channel last and the image and row axes merged. -/
theorem v154_at (r : Fin 400) (x : Fin 200) (ch : Fin 256) :
    V m c main_v154 (ix3 r x ch) = m (c, Proc.tc.devRef main_arg1) (ix4 ⟨r.val / 200, by omega⟩ ch ⟨r.val % 200, by omega⟩ x) := by
  unfold V hostOps
  after_reads_at

end Cert.RoiPool

end
-- ==== Proof.Inputs.lean ====
/- What the first precondition says of each RoI's words. -/
module

public import proofs.«01_k».proof.Proof.Words
public import proofs.«01_k».proof.Pre_rois_on_map
public import Idealize.ShloMosaic.Lib.ReduceAll

@[expose] public section

set_option maxRecDepth 16384

noncomputable section

/-- The side conditions under which the precondition is stated. -/
theorem Cert.RoiPool.onMapFacts : Cert.Pre_rois_on_map.Facts := by
  constructor <;> decide

namespace Cert.RoiPool

open Idealize.ShloMosaic Idealize.ShloMosaic.Tactic

variable {F : FTy → Type} [FloatOps F]

/-- The signed comparison at least, of the words as integers. -/
theorem sge_iff (x y : BitVec 32) : IntOp.cmpi .sge x y = 1#1 ↔ y.toInt ≤ x.toInt := by
  show BitVec.ofBool (y.sle x) = 1#1 ↔ _
  rw [← BitVec.sle_iff_toInt_le]
  cases y.sle x <;> simp

/-- The signed comparison at most, of the words as integers. -/
theorem sle_iff (x y : BitVec 32) : IntOp.cmpi .sle x y = 1#1 ↔ x.toInt ≤ y.toInt := by
  show BitVec.ofBool (x.sle y) = 1#1 ↔ _
  rw [← BitVec.sle_iff_toInt_le]
  cases x.sle y <;> simp

/-- The signed minimum, of the words as integers. -/
theorem toInt_minsi (x y : BitVec 32) : (IntOp.minsi x y).toInt = min x.toInt y.toInt := by
  unfold IntOp.minsi
  have h := BitVec.slt_iff_toInt_lt (x := x) (y := y)
  split
  · rename_i h1; have := h.1 h1; omega
  · rename_i h1; have : ¬ x.toInt < y.toInt := fun h2 => h1 (h.2 h2)
    omega

/-- The signed maximum, of the words as integers. -/
theorem toInt_maxsi (x y : BitVec 32) : (IntOp.maxsi x y).toInt = max x.toInt y.toInt := by
  unfold IntOp.maxsi
  have h := BitVec.slt_iff_toInt_lt (x := y) (y := x)
  split
  · rename_i h1; have := h.1 h1; omega
  · rename_i h1; have : ¬ y.toInt < x.toInt := fun h2 => h1 (h.2 h2)
    omega

/-- What `rois_on_map` says of one RoI: its image, its first corner, and where its bins start. -/
def OnMap (F : FTy → Type) [FloatOps F] (b x1 y1 x2 y2 : BitVec 32) : Prop :=
  0 ≤ b.toInt ∧ b.toInt ≤ 1 ∧ 0 ≤ x1.toInt ∧ 0 ≤ y1.toInt
    ∧ (∀ p < 7, min y1.toInt 200 ≤ (startW F y1 y2 p).toInt) ∧ ∀ q < 7, min x1.toInt 200 ≤ (startW F x1 x2 q).toInt

attribute [local instance] onMapFacts in
/-- Where `rois_on_map` is all ones, every RoI is on the map. -/
theorem onMap (a : FVec F Cert.Pre_rois_on_map.S1024x13 .f32) (f : FVec F Cert.Pre_rois_on_map.S2x256x200x200 .f32)
    (s : IVec Cert.Pre_rois_on_map.S_ 32) (h : Cert.Pre_rois_on_map.fn a f s = fun _ => 1#1) (n : Fin 1024) :
    OnMap F (imgW F a n) (cornerW F a (s ix0) n 1) (cornerW F a (s ix0) n 2) (cornerW F a (s ix0) n 3) (cornerW F a (s ix0) n 4) := by
  have h0 := congrFun h ix0
  haveI : Subsingleton Cert.Pre_rois_on_map.S_.Idx := ⟨fun x y => by funext i; exact i.elim0⟩
  simp only [Cert.Pre_rois_on_map.fn, Cert.Pre_rois_on_map.fn_part1, Cert.Pre_rois_on_map.fn_part2, Cert.Pre_rois_on_map.fn_part3, Cert.Pre_rois_on_map.fn_part4] at h0
  obtain ⟨h1, hw⟩ := IntOp.andi_eq_one.1 h0
  obtain ⟨hc, hh⟩ := IntOp.andi_eq_one.1 h1
  have hc := Host.reduce_andi_all _ _ _ _ _ hc (ix1 n)
  have hh := fun p : Fin 7 => Host.reduce_andi_all _ _ _ _ _ hh (ix2 n p)
  have hw := fun p : Fin 7 => Host.reduce_andi_all _ _ _ _ _ hw (ix2 n p)
  obtain ⟨hc, h4⟩ := IntOp.andi_eq_one.1 hc
  obtain ⟨hc, h3⟩ := IntOp.andi_eq_one.1 hc
  obtain ⟨h0, h1⟩ := IntOp.andi_eq_one.1 hc
  simp only [Cert.Pre_rois_on_map.fn_round, Cert.Pre_rois_on_map.fn_clip, id] at h0 h1 h3 h4 hh hw
  have h3 := (sge_iff _ _).1 h3
  have h4 := (sge_iff _ _).1 h4
  have h0 := (sge_iff _ _).1 h0
  have h1 := (sle_iff _ _).1 h1
  have hh := fun p => (sge_iff _ _).1 (hh p)
  have hw := fun p => (sge_iff _ _).1 (hw p)
  pointwise at h0 h1 h3 h4 hh hw
  exact ⟨h0, h1, h3, h4, fun p hp => (toInt_minsi _ 200#32) ▸ hh ⟨p, hp⟩, fun q hq => (toInt_minsi _ 200#32) ▸ hw ⟨q, hq⟩⟩

end Cert.RoiPool

end
-- ==== Proof.Order.lean ====
/- The table is in order: whatever the preconditions say of the RoIs' words makes the kernel's reads lie in their buffers. -/
module

public import proofs.«01_k».proof.Proof.Inputs

@[expose] public section

set_option maxRecDepth 16384

noncomputable section

namespace Cert.RoiPool

open Idealize.ShloMosaic Idealize.ShloMosaic.TcCoe Idealize.ShloMosaic.Tactic
open Cert.KernelIdeal Cert.KernelIdeal.Gen

/-! ## Signed readings of word arithmetic that does not overflow -/

/-- The sum of two words as integers, where it does not overflow. -/
theorem toInt_addi (x y : BitVec 32) (h : -2147483648 ≤ x.toInt + y.toInt) (h' : x.toInt + y.toInt < 2147483648) :
    (IntOp.addi x y).toInt = x.toInt + y.toInt := by
  unfold IntOp.addi
  rw [BitVec.toInt_add]
  exact Int.bmod_eq_of_le (by omega) (by omega)

/-- The difference of two words as integers, where it does not overflow. -/
theorem toInt_subi (x y : BitVec 32) (h : -2147483648 ≤ x.toInt - y.toInt) (h' : x.toInt - y.toInt < 2147483648) :
    (IntOp.subi x y).toInt = x.toInt - y.toInt := by
  unfold IntOp.subi
  rw [BitVec.toInt_sub]
  exact Int.bmod_eq_of_le (by omega) (by omega)

/-- The product of two words as integers, where it does not overflow. -/
theorem toInt_muli (x y : BitVec 32) (h : -2147483648 ≤ x.toInt * y.toInt) (h' : x.toInt * y.toInt < 2147483648) :
    (IntOp.muli x y).toInt = x.toInt * y.toInt := by
  unfold IntOp.muli
  rw [BitVec.toInt_mul]
  exact Int.bmod_eq_of_le (by omega) (by omega)

/-- A word that is not negative reads the same unsigned. -/
theorem toNat_of_nonneg (x : BitVec 32) (h : 0 ≤ x.toInt) : (x.toNat : ℤ) = x.toInt := by
  rw [BitVec.toInt_eq_toNat_cond] at h ⊢
  split <;> rename_i h1
  · rfl
  · rw [if_neg h1] at h
    have := x.isLt
    omega

/-- A word that is not negative is the word of the natural number it reads as. -/
theorem eq_ofNat_of_nonneg (x : BitVec 32) (h : 0 ≤ x.toInt) : x = BitVec.ofNat 32 x.toInt.toNat := by
  apply BitVec.eq_of_toNat_eq
  have := toNat_of_nonneg x h
  have := x.isLt
  rw [BitVec.toNat_ofNat]
  omega

/-- The eighth of each of the numbers 0 to 186 is the quotient by eight. -/
theorem eighth_all : ∀ k : Fin 187, (eighthW (BitVec.ofNat 32 k.val)).toInt = (k.val / 8 : ℕ) := by decide +kernel

/-- The eighth of a word between 0 and 186 is the quotient by eight. -/
theorem toInt_eighthW (v : BitVec 32) (h : 0 ≤ v.toInt) (h' : v.toInt ≤ 186) : (eighthW v).toInt = v.toInt / 8 := by
  have := eighth_all ⟨v.toInt.toNat, by omega⟩
  rw [eq_ofNat_of_nonneg v h, this, ← eq_ofNat_of_nonneg v h]
  dsimp only
  omega

/-- The crop's first column is the multiple of eight below the RoI's, at most 176. -/
theorem toInt_xsW (x : BitVec 32) (h : 0 ≤ x.toInt) : (xsW x).toInt = min (min x.toInt 186 / 8 * 8) 176 := by
  have e : (IntOp.minsi x 186#32).toInt = min x.toInt 186 := toInt_minsi _ _
  have e2 := toInt_eighthW (IntOp.minsi x 186#32) (by omega) (by omega)
  have e8 : (8#32 : BitVec 32).toInt = 8 := rfl
  unfold xsW
  rw [toInt_minsi, toInt_muli _ _ (by rw [e2, e8]; omega) (by rw [e2, e8]; omega), e2, e8, e]
  rfl

/-- The crop's first row is the RoI's, at most 186. -/
theorem toInt_ysW (y : BitVec 32) : (ysW y).toInt = min y.toInt 186 := toInt_minsi _ _

/-- Clipping to the map, as integers. -/
theorem toInt_clipW (w : BitVec 32) : (clipW w).toInt = min 200 (max 0 w.toInt) := by
  unfold clipW
  rw [toInt_minsi, toInt_maxsi]
  rfl

/-- A bin's start is on the map or at its edge. -/
theorem start_le {F : FTy → Type} [FloatOps F] (lo hi : BitVec 32) (q : ℕ) : 0 ≤ (startW F lo hi q).toInt ∧ (startW F lo hi q).toInt ≤ 200 := by
  unfold startW
  rw [toInt_clipW]
  omega

/-- A bin's stop is on the map or at its edge. -/
theorem stop_le {F : FTy → Type} [FloatOps F] (lo hi : BitVec 32) (q : ℕ) : 0 ≤ (stopW F lo hi q).toInt ∧ (stopW F lo hi q).toInt ≤ 200 := by
  unfold stopW
  rw [toInt_clipW]
  omega

/-! ## The table's entries -/

variable {F : FTy → Type} [FloatOps F]
variable (m : (ℓ : Loc nD τ sig) → Buf (Elt F) ℓ) (c : Dev nD)

/-- An entry of the table is the array's element there. -/
theorem tabAt_eq (r k : ℕ) (hr : r < 1024) (hk : k < 65) : tabAt (tab m c) r k = V m c main_v152 (ix2 ⟨r, hr⟩ ⟨k, hk⟩) := by
  unfold tabAt
  rw [← ix2_eq_valueIdx]
  congr 2 <;> exact Fin.ext (Nat.mod_eq_of_lt (by assumption))

/-- The table's column 0: the crop's first row, counted over both images. -/
theorem tab_row0 (n : Fin 1024) : tabAt (tab m c) n.val 0 = IntOp.addi (IntOp.muli (iw m c n) 200#32) (ysW (cw m c n 2)) :=
  (tabAt_eq m c _ _ n.isLt (by omega)).trans (v152_0 m c n)
/-- The table's column 1: the crop's first column. -/
theorem tab_col0 (n : Fin 1024) : tabAt (tab m c) n.val 1 = xsW (cw m c n 1) :=
  (tabAt_eq m c _ _ n.isLt (by omega)).trans (v152_1 m c n)
/-- The first column of bin `q` in the crop. -/
theorem tab_c0 (n : Fin 1024) (q : Fin 7) : tabAt (tab m c) n.val (16 + 4 * q.val) = IntOp.minsi (csW m c n q.val) 23#32 :=
  (tabAt_eq m c _ _ n.isLt (by omega)).trans (v152_col m c n q 0)
/-- The second column of bin `q` in the crop. -/
theorem tab_c1 (n : Fin 1024) (q : Fin 7) : tabAt (tab m c) n.val (17 + 4 * q.val) = IntOp.minsi (IntOp.addi (csW m c n q.val) 1#32) 23#32 := by
  rw [show 17 + 4 * q.val = 16 + 4 * q.val + 1 by omega]
  exact (tabAt_eq m c _ _ n.isLt (by omega)).trans (v152_col m c n q 1)
/-- The third column of bin `q` in the crop. -/
theorem tab_c2 (n : Fin 1024) (q : Fin 7) : tabAt (tab m c) n.val (18 + 4 * q.val) = IntOp.minsi (IntOp.addi (csW m c n q.val) 2#32) 23#32 := by
  rw [show 18 + 4 * q.val = 16 + 4 * q.val + 2 by omega]
  exact (tabAt_eq m c _ _ n.isLt (by omega)).trans (v152_col m c n q 2)
/-- How many columns bin `q` has. -/
theorem tab_span (n : Fin 1024) (q : Fin 7) : tabAt (tab m c) n.val (19 + 4 * q.val) = IntOp.subi (ceW m c n q.val) (csW m c n q.val) := by
  rw [show 19 + 4 * q.val = 16 + 4 * q.val + 3 by omega]
  exact (tabAt_eq m c _ _ n.isLt (by omega)).trans (v152_col m c n q 3)
/-- The first of the three rows that are read for bin `p`. -/
theorem tab_r0 (n : Fin 1024) (p : Fin 7) : tabAt (tab m c) n.val (44 + 3 * p.val) = IntOp.minsi (rsW m c n p.val) 11#32 :=
  (tabAt_eq m c _ _ n.isLt (by omega)).trans (v152_row m c n p 0)
/-- The first of those rows that belongs to the bin. -/
theorem tab_lo (n : Fin 1024) (p : Fin 7) : tabAt (tab m c) n.val (45 + 3 * p.val) = IntOp.subi (rsW m c n p.val) (IntOp.minsi (rsW m c n p.val) 11#32) := by
  rw [show 45 + 3 * p.val = 44 + 3 * p.val + 1 by omega]
  exact (tabAt_eq m c _ _ n.isLt (by omega)).trans (v152_row m c n p 1)
/-- The row after the last of those that belong to the bin. -/
theorem tab_hi (n : Fin 1024) (p : Fin 7) : tabAt (tab m c) n.val (46 + 3 * p.val) = IntOp.subi (reW m c n p.val) (IntOp.minsi (rsW m c n p.val) 11#32) := by
  rw [show 46 + 3 * p.val = 44 + 3 * p.val + 2 by omega]
  exact (tabAt_eq m c _ _ n.isLt (by omega)).trans (v152_row m c n p 2)

/-- The crop's first row, counted over both images, as an integer, under what `rois_on_map` says of the RoI. -/
theorem row0_toInt (n : Fin 1024) (h : OnMap F (iw m c n) (cw m c n 1) (cw m c n 2) (cw m c n 3) (cw m c n 4)) :
    (tabAt (tab m c) n.val 0).toInt = (iw m c n).toInt * 200 + min (cw m c n 2).toInt 186 := by
  obtain ⟨h0, h1, h2, h3, -, -⟩ := h
  have e : (200#32 : BitVec 32).toInt = 200 := rfl
  have ey := toInt_ysW (cw m c n 2)
  have em := toInt_muli (iw m c n) 200#32 (by rw [e]; omega) (by rw [e]; omega)
  rw [e] at em
  rw [tab_row0, toInt_addi _ _ (by omega) (by omega), em, ey]

/-- Where bin `q` starts in the crop, as an integer. -/
theorem cs_toInt (n : Fin 1024) (q : ℕ) (h : 0 ≤ (cw m c n 1).toInt) :
    (csW m c n q).toInt = (startW F (cw m c n 1) (cw m c n 3) q).toInt - (xsW (cw m c n 1)).toInt := by
  have e := toInt_xsW (cw m c n 1) h
  have es := start_le (F := F) (cw m c n 1) (cw m c n 3) q
  exact toInt_subi _ _ (by omega) (by omega)

/-- Where bin `q` stops in the crop, as an integer. -/
theorem ce_toInt (n : Fin 1024) (q : ℕ) (h : 0 ≤ (cw m c n 1).toInt) :
    (ceW m c n q).toInt = (stopW F (cw m c n 1) (cw m c n 3) q).toInt - (xsW (cw m c n 1)).toInt := by
  have e := toInt_xsW (cw m c n 1) h
  have es := stop_le (F := F) (cw m c n 1) (cw m c n 3) q
  exact toInt_subi _ _ (by omega) (by omega)

/-- Where bin `p` starts in the crop, as an integer. -/
theorem rs_toInt (n : Fin 1024) (p : ℕ) (h : 0 ≤ (cw m c n 2).toInt) :
    (rsW m c n p).toInt = (startW F (cw m c n 2) (cw m c n 4) p).toInt - min (cw m c n 2).toInt 186 := by
  have e := toInt_ysW (cw m c n 2)
  have es := start_le (F := F) (cw m c n 2) (cw m c n 4) p
  rw [← e]
  exact toInt_subi _ _ (by omega) (by omega)

/-- Where bin `p` stops in the crop, as an integer. -/
theorem re_toInt (n : Fin 1024) (p : ℕ) (h : 0 ≤ (cw m c n 2).toInt) :
    (reW m c n p).toInt = (stopW F (cw m c n 2) (cw m c n 4) p).toInt - min (cw m c n 2).toInt 186 := by
  have e := toInt_ysW (cw m c n 2)
  have es := stop_le (F := F) (cw m c n 2) (cw m c n 4) p
  rw [← e]
  exact toInt_subi _ _ (by omega) (by omega)

/-- Every RoI on the map: the table is in order. -/
theorem tabOK (h : ∀ n, OnMap F (iw m c n) (cw m c n 1) (cw m c n 2) (cw m c n 3) (cw m c n 4)) : TabOK (tab m c) := by
  intro r hr
  have hn := h ⟨r, hr⟩
  have e0 : (tabAt (tab m c) r 0).toInt = _ := row0_toInt m c ⟨r, hr⟩ hn
  have e1 := toInt_xsW (cw m c ⟨r, hr⟩ 1) hn.2.2.1
  have e2 : tabAt (tab m c) r 1 = xsW (cw m c ⟨r, hr⟩ 1) := tab_col0 m c ⟨r, hr⟩
  rw [← e2] at e1
  obtain ⟨h0, h1, h2, h3, h4, h5⟩ := hn
  have n0 := toNat_of_nonneg _ (show 0 ≤ (tabAt (tab m c) r 0).toInt by omega)
  have n1 := toNat_of_nonneg _ (show 0 ≤ (tabAt (tab m c) r 1).toInt by omega)
  refine ⟨by omega, by omega, by omega, fun q hq => ?_, fun p hp => ?_⟩
  · have hs := h5 q hq
    have hs' := start_le (F := F) (cw m c ⟨r, hr⟩ 1) (cw m c ⟨r, hr⟩ 3) q
    have ec := cs_toInt m c ⟨r, hr⟩ q h2
    rw [← e2] at ec
    have a1 := toInt_addi (csW m c ⟨r, hr⟩ q) 1#32 (by rw [show (1#32 : BitVec 32).toInt = 1 from rfl]; omega) (by rw [show (1#32 : BitVec 32).toInt = 1 from rfl]; omega)
    have a2 := toInt_addi (csW m c ⟨r, hr⟩ q) 2#32 (by rw [show (2#32 : BitVec 32).toInt = 2 from rfl]; omega) (by rw [show (2#32 : BitVec 32).toInt = 2 from rfl]; omega)
    rw [show (1#32 : BitVec 32).toInt = 1 from rfl] at a1
    rw [show (2#32 : BitVec 32).toInt = 2 from rfl] at a2
    have t0 : (tabAt (tab m c) r (16 + 4 * q)).toInt = _ := congrArg BitVec.toInt (tab_c0 m c ⟨r, hr⟩ ⟨q, hq⟩)
    have t1 : (tabAt (tab m c) r (17 + 4 * q)).toInt = _ := congrArg BitVec.toInt (tab_c1 m c ⟨r, hr⟩ ⟨q, hq⟩)
    have t2 : (tabAt (tab m c) r (18 + 4 * q)).toInt = _ := congrArg BitVec.toInt (tab_c2 m c ⟨r, hr⟩ ⟨q, hq⟩)
    rw [toInt_minsi, show (23#32 : BitVec 32).toInt = 23 from rfl] at t0 t1 t2
    dsimp only at t0 t1 t2
    have m0 := toNat_of_nonneg _ (show 0 ≤ (tabAt (tab m c) r (16 + 4 * q)).toInt by omega)
    have m1 := toNat_of_nonneg _ (show 0 ≤ (tabAt (tab m c) r (17 + 4 * q)).toInt by omega)
    have m2 := toNat_of_nonneg _ (show 0 ≤ (tabAt (tab m c) r (18 + 4 * q)).toInt by omega)
    exact ⟨by omega, by omega, by omega⟩
  · have hs := h4 p hp
    have hs' := start_le (F := F) (cw m c ⟨r, hr⟩ 2) (cw m c ⟨r, hr⟩ 4) p
    have ec := rs_toInt m c ⟨r, hr⟩ p h3
    have t0 : (tabAt (tab m c) r (44 + 3 * p)).toInt = _ := congrArg BitVec.toInt (tab_r0 m c ⟨r, hr⟩ ⟨p, hp⟩)
    rw [toInt_minsi, show (11#32 : BitVec 32).toInt = 11 from rfl] at t0
    dsimp only at t0
    have m0 := toNat_of_nonneg _ (show 0 ≤ (tabAt (tab m c) r (44 + 3 * p)).toInt by omega)
    omega

end Cert.RoiPool

end
-- ==== Proof.Twin.lean ====
/- The kernel and its idealization are one program text: a run of the one is a run of the other. -/
module

public import proofs.«01_k».proof.Proof.Gen.Kernel.Launch
public import proofs.«01_k».proof.Proof.Gen.KernelIdeal.Launch
public import Idealize.ShloMosaic.Lib.Tactic

@[expose] public section

noncomputable section

namespace Cert.RoiPool

open Idealize.ShloMosaic Idealize.SL.Sem

variable (F : FTy → Type) [FloatOps F]

/-- The printed kernel, run from any memory whose arguments satisfy `pre`, ends with its arguments unchanged and its
    semaphores at zero. -/
def KernelRuns (pre : (Cert.Kernel.S1024x13.Idx → Elt F .f32) → (Cert.Kernel.S2x256x200x200.Idx → Elt F .f32) → (Cert.Kernel.S_.Idx → Elt F .i32) → Prop) : Prop :=
  ∀ (m : (ℓ : Loc Cert.Kernel.nD Cert.Kernel.τ Cert.Kernel.sig) → Buf (Elt F) ℓ) (g : Dev Cert.Kernel.nD → PrngReg),
    (∀ c : Dev Cert.Kernel.nD, pre (m ((c.tc : Thread Cert.Kernel.nD Cert.Kernel.τ).loc Cert.Kernel.main_arg0))
      (m ((c.tc : Thread Cert.Kernel.nD Cert.Kernel.τ).loc Cert.Kernel.main_arg1)) (m ((c.tc : Thread Cert.Kernel.nD Cert.Kernel.τ).loc Cert.Kernel.main_arg2))) →
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The same of the idealized kernel. -/
def KernelIdealRuns (pre : (Cert.KernelIdeal.S1024x13.Idx → Elt F .f32) → (Cert.KernelIdeal.S2x256x200x200.Idx → Elt F .f32) → (Cert.KernelIdeal.S_.Idx → Elt F .i32) → Prop) : Prop :=
  ∀ (m : (ℓ : Loc Cert.KernelIdeal.nD Cert.KernelIdeal.τ Cert.KernelIdeal.sig) → Buf (Elt F) ℓ) (g : Dev Cert.KernelIdeal.nD → PrngReg),
    (∀ c : Dev Cert.KernelIdeal.nD, pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))) →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two statements are one. -/
theorem twin (pre : (Cert.KernelIdeal.S1024x13.Idx → Elt F .f32) → (Cert.KernelIdeal.S2x256x200x200.Idx → Elt F .f32) → (Cert.KernelIdeal.S_.Idx → Elt F .i32) → Prop) :
    KernelRuns F pre = KernelIdealRuns F pre := by
  sl_kernel_rfl

end Cert.RoiPool

end
-- ==== Proof.Runs.lean ====
/- The kernel's runs: what the whole program leaves, and its frames. -/
module

public import proofs.«01_k».proof.Proof.Order
public import proofs.«01_k».proof.Proof.Twin
public import Idealize.ShloMosaic.Lib.StableHlo.RunHlo

@[expose] public section

noncomputable section

namespace Cert.RoiPool

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (g : Dev nD → PrngReg)

/-- The run's end leaves the arguments as they were. -/
theorem args_kept (r : PUnit × MemSt nD τ sig (Elt F))
    (h : Pipeline.FramePost (Pipeline.pin (pcfgs (F := F)) (adm m)) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).2 main_arg0 (Pipeline.mem_restRefs_of main_arg0 (by decide) (show ∀ w : Fin 1, (spec0 w).arr.view.ref ≠ main_arg0 by decide))).trans (V_arg0 m c),
    ((h c).2 main_arg1 (Pipeline.mem_restRefs_of main_arg1 (by decide) (show ∀ w : Fin 1, (spec0 w).arr.view.ref ≠ main_arg1 by decide))).trans (V_arg1 m c),
    ((h c).2 main_arg2 (Pipeline.mem_restRefs_of main_arg2 (by decide) (show ∀ w : Fin 1, (spec0 w).arr.view.ref ≠ main_arg2 by decide))).trans (V_arg2 m c)⟩

attribute [local instance] onMapFacts in
/-- A memory of which `rois_on_map` holds: the idealized program runs, keeps its arguments and leaves every semaphore at zero. -/
theorem kernelIdeal_runs : KernelIdealRuns F (fun a f s => Cert.Pre_rois_on_map.fn (F := F) a f s = fun _ => 1#1) := by
  intro m g hp
  have ok : ∀ c, TabOK (tab m c) := fun c => tabOK m c fun n => onMap _ _ _ (hp c) n
  exact θ_run_mono (run_main m g ok) fun r h => ⟨args_kept m r h.1, h.2⟩

attribute [local instance] onMapFacts in
/-- The same of the program as it is printed. -/
theorem kernel_runs : KernelRuns F (fun a f s => Cert.Pre_rois_on_map.fn (F := F) a f s = fun _ => 1#1) := by
  rw [twin]
  exact kernelIdeal_runs

end Cert.RoiPool

end
-- ==== Proof.RefList.lean ====
/- The reference's host operations, in order, as a list. -/
module

public import proofs.«01_k».proof.Proof.Gen.ReferenceIdeal
public import Idealize.ShloMosaic.Lib.StableHlo.Run
public import Idealize.ShloMosaic.Lib.StableHlo.RunHlo
public import Idealize.ShloMosaic.Lib.Tactic

@[expose] public section

set_option maxRecDepth 16384

noncomputable section

namespace Cert.RoiPool.Ref

open Idealize.ShloMosaic Idealize.ShloMosaic.TcCoe Idealize.SL.Sem
open Cert.ReferenceIdeal Cert.ReferenceIdeal.Gen

variable {F : FTy → Type} [FloatOps F]

/-- Operations 1 to 64 of the reference. -/
abbrev opsR0 : List (HloOp τ sig (Elt F)) :=
  [ StableHlo.unary main_arg2 main_v0 (sitofp .f32 : (⟨S_, .i32⟩ : BufTy).Contents (Elt F) → (⟨S_, .f32⟩ : BufTy).Contents (Elt F)),
    StableHlo.nullary main_cst (constant S_ .f32 0x3F800000#32),
    StableHlo.binary main_cst main_v0 main_v1 (Host.divf : (⟨S_, .f32⟩ : BufTy).Contents (Elt F) → (⟨S_, .f32⟩ : BufTy).Contents (Elt F) → (⟨S_, .f32⟩ : BufTy).Contents (Elt F)),
    StableHlo.unary main_arg0 main_v2 ((extractStridedSlice S1024x1 ![0, 0] · slices_S1024x13_S1024x1_0_0) : (⟨S1024x13, .f32⟩ : BufTy).Contents (Elt F) → (⟨S1024x1, .f32⟩ : BufTy).Contents (Elt F)),
    StableHlo.reshape main_v2 main_v3 (rfl : (.f32 : EltTy) = .f32) shapeCasts_S1024x1_S1024,
    StableHlo.unary main_v3 main_v4 (fptosi 32 : (⟨S1024, .f32⟩ : BufTy).Contents (Elt F) → (⟨S1024, .i32⟩ : BufTy).Contents (Elt F)),
    StableHlo.unary main_arg0 main_v5 ((extractStridedSlice S1024x1 ![0, 1] · slices_S1024x13_S1024x1_0_1) : (⟨S1024x13, .f32⟩ : BufTy).Contents (Elt F) → (⟨S1024x1, .f32⟩ : BufTy).Contents (Elt F)),
    StableHlo.reshape main_v5 main_v6 (rfl : (.f32 : EltTy) = .f32) shapeCasts_S1024x1_S1024,
    StableHlo.unary main_v1 main_v7 (id : (⟨S_, .f32⟩ : BufTy).Contents (Elt F) → (⟨S_, .f32⟩ : BufTy).Contents (Elt F)),
    StableHlo.unary main_v7 main_v8 (broadcastInDim S1024 ![] bcast_S_S1024 : (⟨S_, .f32⟩ : BufTy).Contents (Elt F) → (⟨S1024, .f32⟩ : BufTy).Contents (Elt F)),
    StableHlo.binary main_v6 main_v8 main_v9 (mulf : (⟨S1024, .f32⟩ : BufTy).Contents (Elt F) → (⟨S1024, .f32⟩ : BufTy).Contents (Elt F) → (⟨S1024, .f32⟩ : BufTy).Contents (Elt F)),
    StableHlo.TRef.unary (.of main_v9 : StableHlo.TRef sig ⟨S1024, .f32⟩) (.of main_v10 : StableHlo.TRef sig ⟨S1024, .f32⟩) Host.roundeven,
    StableHlo.unary main_v10 main_v11 (fptosi 32 : (⟨S1024, .f32⟩ : BufTy).Contents (Elt F) → (⟨S1024, .i32⟩ : BufTy).Contents (Elt F)),
    StableHlo.unary main_arg0 main_v12 ((extractStridedSlice S1024x1 ![0, 2] · slices_S1024x13_S1024x1_0_2) : (⟨S1024x13, .f32⟩ : BufTy).Contents (Elt F) → (⟨S1024x1, .f32⟩ : BufTy).Contents (Elt F)),
    StableHlo.reshape main_v12 main_v13 (rfl : (.f32 : EltTy) = .f32) shapeCasts_S1024x1_S1024,
    StableHlo.unary main_v1 main_v14 (id : (⟨S_, .f32⟩ : BufTy).Contents (Elt F) → (⟨S_, .f32⟩ : BufTy).Contents (Elt F)),
    StableHlo.unary main_v14 main_v15 (broadcastInDim S1024 ![] bcast_S_S1024 : (⟨S_, .f32⟩ : BufTy).Contents (Elt F) → (⟨S1024, .f32⟩ : BufTy).Contents (Elt F)),
    StableHlo.binary main_v13 main_v15 main_v16 (mulf : (⟨S1024, .f32⟩ : BufTy).Contents (Elt F) → (⟨S1024, .f32⟩ : BufTy).Contents (Elt F) → (⟨S1024, .f32⟩ : BufTy).Contents (Elt F)),
    StableHlo.TRef.unary (.of main_v16 : StableHlo.TRef sig ⟨S1024, .f32⟩) (.of main_v17 : StableHlo.TRef sig ⟨S1024, .f32⟩) Host.roundeven,
    StableHlo.unary main_v17 main_v18 (fptosi 32 : (⟨S1024, .f32⟩ : BufTy).Contents (Elt F) → (⟨S1024, .i32⟩ : BufTy).Contents (Elt F)),
    StableHlo.unary main_arg0 main_v19 ((extractStridedSlice S1024x1 ![0, 3] · slices_S1024x13_S1024x1_0_3) : (⟨S1024x13, .f32⟩ : BufTy).Contents (Elt F) → (⟨S1024x1, .f32⟩ : BufTy).Contents (Elt F)),
    StableHlo.reshape main_v19 main_v20 (rfl : (.f32 : EltTy) = .f32) shapeCasts_S1024x1_S1024,
    StableHlo.unary main_v1 main_v21 (id : (⟨S_, .f32⟩ : BufTy).Contents (Elt F) → (⟨S_, .f32⟩ : BufTy).Contents (Elt F)),
    StableHlo.unary main_v21 main_v22 (broadcastInDim S1024 ![] bcast_S_S1024 : (⟨S_, .f32⟩ : BufTy).Contents (Elt F) → (⟨S1024, .f32⟩ : BufTy).Contents (Elt F)),
    StableHlo.binary main_v20 main_v22 main_v23 (mulf : (⟨S1024, .f32⟩ : BufTy).Contents (Elt F) → (⟨S1024, .f32⟩ : BufTy).Contents (Elt F) → (⟨S1024, .f32⟩ : BufTy).Contents (Elt F)),
    StableHlo.TRef.unary (.of main_v23 : StableHlo.TRef sig ⟨S1024, .f32⟩) (.of main_v24 : StableHlo.TRef sig ⟨S1024, .f32⟩) Host.roundeven,
    StableHlo.unary main_v24 main_v25 (fptosi 32 : (⟨S1024, .f32⟩ : BufTy).Contents (Elt F) → (⟨S1024, .i32⟩ : BufTy).Contents (Elt F)),
    StableHlo.unary main_arg0 main_v26 ((extractStridedSlice S1024x1 ![0, 4] · slices_S1024x13_S1024x1_0_4) : (⟨S1024x13, .f32⟩ : BufTy).Contents (Elt F) → (⟨S1024x1, .f32⟩ : BufTy).Contents (Elt F)),
    StableHlo.reshape main_v26 main_v27 (rfl : (.f32 : EltTy) = .f32) shapeCasts_S1024x1_S1024,
    StableHlo.unary main_v1 main_v28 (id : (⟨S_, .f32⟩ : BufTy).Contents (Elt F) → (⟨S_, .f32⟩ : BufTy).Contents (Elt F)),
    StableHlo.unary main_v28 main_v29 (broadcastInDim S1024 ![] bcast_S_S1024 : (⟨S_, .f32⟩ : BufTy).Contents (Elt F) → (⟨S1024, .f32⟩ : BufTy).Contents (Elt F)),
    StableHlo.binary main_v27 main_v29 main_v30 (mulf : (⟨S1024, .f32⟩ : BufTy).Contents (Elt F) → (⟨S1024, .f32⟩ : BufTy).Contents (Elt F) → (⟨S1024, .f32⟩ : BufTy).Contents (Elt F)),
    StableHlo.TRef.unary (.of main_v30 : StableHlo.TRef sig ⟨S1024, .f32⟩) (.of main_v31 : StableHlo.TRef sig ⟨S1024, .f32⟩) Host.roundeven,
    StableHlo.unary main_v31 main_v32 (fptosi 32 : (⟨S1024, .f32⟩ : BufTy).Contents (Elt F) → (⟨S1024, .i32⟩ : BufTy).Contents (Elt F)),
    StableHlo.binary main_v25 main_v11 main_v33 (subi : (⟨S1024, .i32⟩ : BufTy).Contents (Elt F) → (⟨S1024, .i32⟩ : BufTy).Contents (Elt F) → (⟨S1024, .i32⟩ : BufTy).Contents (Elt F)),
    StableHlo.nullary main_c (constantI S_ 32 1#32),
    StableHlo.unary main_c main_v34 (broadcastInDim S1024 ![] bcast_S_S1024 : (⟨S_, .i32⟩ : BufTy).Contents (Elt F) → (⟨S1024, .i32⟩ : BufTy).Contents (Elt F)),
    StableHlo.binary main_v33 main_v34 main_v35 (addi : (⟨S1024, .i32⟩ : BufTy).Contents (Elt F) → (⟨S1024, .i32⟩ : BufTy).Contents (Elt F) → (⟨S1024, .i32⟩ : BufTy).Contents (Elt F)),
    StableHlo.nullary main_c_0 (constantI S_ 32 1#32),
    StableHlo.unary main_c_0 main_v36 (broadcastInDim S1024 ![] bcast_S_S1024 : (⟨S_, .i32⟩ : BufTy).Contents (Elt F) → (⟨S1024, .i32⟩ : BufTy).Contents (Elt F)),
    StableHlo.binary main_v35 main_v36 main_v37 (maxsi : (⟨S1024, .i32⟩ : BufTy).Contents (Elt F) → (⟨S1024, .i32⟩ : BufTy).Contents (Elt F) → (⟨S1024, .i32⟩ : BufTy).Contents (Elt F)),
    StableHlo.binary main_v32 main_v18 main_v38 (subi : (⟨S1024, .i32⟩ : BufTy).Contents (Elt F) → (⟨S1024, .i32⟩ : BufTy).Contents (Elt F) → (⟨S1024, .i32⟩ : BufTy).Contents (Elt F)),
    StableHlo.nullary main_c_1 (constantI S_ 32 1#32),
    StableHlo.unary main_c_1 main_v39 (broadcastInDim S1024 ![] bcast_S_S1024 : (⟨S_, .i32⟩ : BufTy).Contents (Elt F) → (⟨S1024, .i32⟩ : BufTy).Contents (Elt F)),
    StableHlo.binary main_v38 main_v39 main_v40 (addi : (⟨S1024, .i32⟩ : BufTy).Contents (Elt F) → (⟨S1024, .i32⟩ : BufTy).Contents (Elt F) → (⟨S1024, .i32⟩ : BufTy).Contents (Elt F)),
    StableHlo.nullary main_c_2 (constantI S_ 32 1#32),
    StableHlo.unary main_c_2 main_v41 (broadcastInDim S1024 ![] bcast_S_S1024 : (⟨S_, .i32⟩ : BufTy).Contents (Elt F) → (⟨S1024, .i32⟩ : BufTy).Contents (Elt F)),
    StableHlo.binary main_v40 main_v41 main_v42 (maxsi : (⟨S1024, .i32⟩ : BufTy).Contents (Elt F) → (⟨S1024, .i32⟩ : BufTy).Contents (Elt F) → (⟨S1024, .i32⟩ : BufTy).Contents (Elt F)),
    StableHlo.unary main_v42 main_v43 (sitofp .f32 : (⟨S1024, .i32⟩ : BufTy).Contents (Elt F) → (⟨S1024, .f32⟩ : BufTy).Contents (Elt F)),
    StableHlo.nullary main_cst_3 (constant S_ .f32 0x40E00000#32),
    StableHlo.unary main_cst_3 main_v44 (broadcastInDim S1024 ![] bcast_S_S1024 : (⟨S_, .f32⟩ : BufTy).Contents (Elt F) → (⟨S1024, .f32⟩ : BufTy).Contents (Elt F)),
    StableHlo.binary main_v43 main_v44 main_v45 (Host.divf : (⟨S1024, .f32⟩ : BufTy).Contents (Elt F) → (⟨S1024, .f32⟩ : BufTy).Contents (Elt F) → (⟨S1024, .f32⟩ : BufTy).Contents (Elt F)),
    StableHlo.unary main_v37 main_v46 (sitofp .f32 : (⟨S1024, .i32⟩ : BufTy).Contents (Elt F) → (⟨S1024, .f32⟩ : BufTy).Contents (Elt F)),
    StableHlo.nullary main_cst_4 (constant S_ .f32 0x40E00000#32),
    StableHlo.unary main_cst_4 main_v47 (broadcastInDim S1024 ![] bcast_S_S1024 : (⟨S_, .f32⟩ : BufTy).Contents (Elt F) → (⟨S1024, .f32⟩ : BufTy).Contents (Elt F)),
    StableHlo.binary main_v46 main_v47 main_v48 (Host.divf : (⟨S1024, .f32⟩ : BufTy).Contents (Elt F) → (⟨S1024, .f32⟩ : BufTy).Contents (Elt F) → (⟨S1024, .f32⟩ : BufTy).Contents (Elt F)),
    StableHlo.nullary main_v49 (sitofp .f32 (iotaInDim S7 32 0)),
    StableHlo.nullary main_v50 (sitofp .f32 (iotaInDim S7 32 0)),
    StableHlo.unary main_v49 main_v51 (broadcastInDim S1x7 ![1] bcast_S7_S1x7_1 : (⟨S7, .f32⟩ : BufTy).Contents (Elt F) → (⟨S1x7, .f32⟩ : BufTy).Contents (Elt F)),
    StableHlo.unary main_v45 main_v52 (broadcastInDim S1024x1 ![0] bcast_S1024_S1024x1_0 : (⟨S1024, .f32⟩ : BufTy).Contents (Elt F) → (⟨S1024x1, .f32⟩ : BufTy).Contents (Elt F)),
    StableHlo.unary main_v51 main_v53 (broadcastInDim S1024x7 ![0, 1] bcast_S1x7_S1024x7_0_1 : (⟨S1x7, .f32⟩ : BufTy).Contents (Elt F) → (⟨S1024x7, .f32⟩ : BufTy).Contents (Elt F)),
    StableHlo.unary main_v52 main_v54 (broadcastInDim S1024x7 ![0, 1] bcast_S1024x1_S1024x7_0_1 : (⟨S1024x1, .f32⟩ : BufTy).Contents (Elt F) → (⟨S1024x7, .f32⟩ : BufTy).Contents (Elt F)),
    StableHlo.binary main_v53 main_v54 main_v55 (mulf : (⟨S1024x7, .f32⟩ : BufTy).Contents (Elt F) → (⟨S1024x7, .f32⟩ : BufTy).Contents (Elt F) → (⟨S1024x7, .f32⟩ : BufTy).Contents (Elt F)),
    StableHlo.unary main_v55 main_v56 (Host.floor : (⟨S1024x7, .f32⟩ : BufTy).Contents (Elt F) → (⟨S1024x7, .f32⟩ : BufTy).Contents (Elt F)) ]

/-- Operations 65 to 128 of the reference. -/
abbrev opsR1 : List (HloOp τ sig (Elt F)) :=
  [ StableHlo.unary main_v56 main_v57 (fptosi 32 : (⟨S1024x7, .f32⟩ : BufTy).Contents (Elt F) → (⟨S1024x7, .i32⟩ : BufTy).Contents (Elt F)),
    StableHlo.unary main_v18 main_v58 (broadcastInDim S1024x1 ![0] bcast_S1024_S1024x1_0 : (⟨S1024, .i32⟩ : BufTy).Contents (Elt F) → (⟨S1024x1, .i32⟩ : BufTy).Contents (Elt F)),
    StableHlo.unary main_v58 main_v59 (broadcastInDim S1024x7 ![0, 1] bcast_S1024x1_S1024x7_0_1 : (⟨S1024x1, .i32⟩ : BufTy).Contents (Elt F) → (⟨S1024x7, .i32⟩ : BufTy).Contents (Elt F)),
    StableHlo.binary main_v57 main_v59 main_v60 (addi : (⟨S1024x7, .i32⟩ : BufTy).Contents (Elt F) → (⟨S1024x7, .i32⟩ : BufTy).Contents (Elt F) → (⟨S1024x7, .i32⟩ : BufTy).Contents (Elt F)),
    StableHlo.nullary main_c_5 (constantI S_ 32 0#32),
    StableHlo.nullary main_c_6 (constantI S_ 32 200#32),
    StableHlo.TRef.unary (.of main_c_5 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S1024x7, .i32⟩) (broadcastInDim S1024x7 ![] bcast_S_S1024x7),
    StableHlo.TRef.binary (.of main_call4_v1 : StableHlo.TRef sig ⟨S1024x7, .i32⟩) (.of main_v60 : StableHlo.TRef sig ⟨S1024x7, .i32⟩) (.of main_call4_v2 : StableHlo.TRef sig ⟨S1024x7, .i32⟩) maxsi,
    StableHlo.TRef.unary (.of main_c_6 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S1024x7, .i32⟩) (broadcastInDim S1024x7 ![] bcast_S_S1024x7),
    StableHlo.TRef.binary (.of main_call4_v4 : StableHlo.TRef sig ⟨S1024x7, .i32⟩) (.of main_call4_v2 : StableHlo.TRef sig ⟨S1024x7, .i32⟩) (.of main_v61 : StableHlo.TRef sig ⟨S1024x7, .i32⟩) minsi,
    StableHlo.unary main_v49 main_v62 (broadcastInDim S1x7 ![1] bcast_S7_S1x7_1 : (⟨S7, .f32⟩ : BufTy).Contents (Elt F) → (⟨S1x7, .f32⟩ : BufTy).Contents (Elt F)),
    StableHlo.nullary main_cst_7 (constant S_ .f32 0x3F800000#32),
    StableHlo.unary main_cst_7 main_v63 (broadcastInDim S1x7 ![] bcast_S_S1x7 : (⟨S_, .f32⟩ : BufTy).Contents (Elt F) → (⟨S1x7, .f32⟩ : BufTy).Contents (Elt F)),
    StableHlo.binary main_v62 main_v63 main_v64 (addf : (⟨S1x7, .f32⟩ : BufTy).Contents (Elt F) → (⟨S1x7, .f32⟩ : BufTy).Contents (Elt F) → (⟨S1x7, .f32⟩ : BufTy).Contents (Elt F)),
    StableHlo.unary main_v45 main_v65 (broadcastInDim S1024x1 ![0] bcast_S1024_S1024x1_0 : (⟨S1024, .f32⟩ : BufTy).Contents (Elt F) → (⟨S1024x1, .f32⟩ : BufTy).Contents (Elt F)),
    StableHlo.unary main_v64 main_v66 (broadcastInDim S1024x7 ![0, 1] bcast_S1x7_S1024x7_0_1 : (⟨S1x7, .f32⟩ : BufTy).Contents (Elt F) → (⟨S1024x7, .f32⟩ : BufTy).Contents (Elt F)),
    StableHlo.unary main_v65 main_v67 (broadcastInDim S1024x7 ![0, 1] bcast_S1024x1_S1024x7_0_1 : (⟨S1024x1, .f32⟩ : BufTy).Contents (Elt F) → (⟨S1024x7, .f32⟩ : BufTy).Contents (Elt F)),
    StableHlo.binary main_v66 main_v67 main_v68 (mulf : (⟨S1024x7, .f32⟩ : BufTy).Contents (Elt F) → (⟨S1024x7, .f32⟩ : BufTy).Contents (Elt F) → (⟨S1024x7, .f32⟩ : BufTy).Contents (Elt F)),
    StableHlo.unary main_v68 main_v69 (Host.ceil : (⟨S1024x7, .f32⟩ : BufTy).Contents (Elt F) → (⟨S1024x7, .f32⟩ : BufTy).Contents (Elt F)),
    StableHlo.unary main_v69 main_v70 (fptosi 32 : (⟨S1024x7, .f32⟩ : BufTy).Contents (Elt F) → (⟨S1024x7, .i32⟩ : BufTy).Contents (Elt F)),
    StableHlo.unary main_v18 main_v71 (broadcastInDim S1024x1 ![0] bcast_S1024_S1024x1_0 : (⟨S1024, .i32⟩ : BufTy).Contents (Elt F) → (⟨S1024x1, .i32⟩ : BufTy).Contents (Elt F)),
    StableHlo.unary main_v71 main_v72 (broadcastInDim S1024x7 ![0, 1] bcast_S1024x1_S1024x7_0_1 : (⟨S1024x1, .i32⟩ : BufTy).Contents (Elt F) → (⟨S1024x7, .i32⟩ : BufTy).Contents (Elt F)),
    StableHlo.binary main_v70 main_v72 main_v73 (addi : (⟨S1024x7, .i32⟩ : BufTy).Contents (Elt F) → (⟨S1024x7, .i32⟩ : BufTy).Contents (Elt F) → (⟨S1024x7, .i32⟩ : BufTy).Contents (Elt F)),
    StableHlo.nullary main_c_8 (constantI S_ 32 0#32),
    StableHlo.nullary main_c_9 (constantI S_ 32 200#32),
    StableHlo.TRef.unary (.of main_c_8 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S1024x7, .i32⟩) (broadcastInDim S1024x7 ![] bcast_S_S1024x7),
    StableHlo.TRef.binary (.of main_call5_v1 : StableHlo.TRef sig ⟨S1024x7, .i32⟩) (.of main_v73 : StableHlo.TRef sig ⟨S1024x7, .i32⟩) (.of main_call5_v2 : StableHlo.TRef sig ⟨S1024x7, .i32⟩) maxsi,
    StableHlo.TRef.unary (.of main_c_9 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S1024x7, .i32⟩) (broadcastInDim S1024x7 ![] bcast_S_S1024x7),
    StableHlo.TRef.binary (.of main_call5_v4 : StableHlo.TRef sig ⟨S1024x7, .i32⟩) (.of main_call5_v2 : StableHlo.TRef sig ⟨S1024x7, .i32⟩) (.of main_v74 : StableHlo.TRef sig ⟨S1024x7, .i32⟩) minsi,
    StableHlo.unary main_v50 main_v75 (broadcastInDim S1x7 ![1] bcast_S7_S1x7_1 : (⟨S7, .f32⟩ : BufTy).Contents (Elt F) → (⟨S1x7, .f32⟩ : BufTy).Contents (Elt F)),
    StableHlo.unary main_v48 main_v76 (broadcastInDim S1024x1 ![0] bcast_S1024_S1024x1_0 : (⟨S1024, .f32⟩ : BufTy).Contents (Elt F) → (⟨S1024x1, .f32⟩ : BufTy).Contents (Elt F)),
    StableHlo.unary main_v75 main_v77 (broadcastInDim S1024x7 ![0, 1] bcast_S1x7_S1024x7_0_1 : (⟨S1x7, .f32⟩ : BufTy).Contents (Elt F) → (⟨S1024x7, .f32⟩ : BufTy).Contents (Elt F)),
    StableHlo.unary main_v76 main_v78 (broadcastInDim S1024x7 ![0, 1] bcast_S1024x1_S1024x7_0_1 : (⟨S1024x1, .f32⟩ : BufTy).Contents (Elt F) → (⟨S1024x7, .f32⟩ : BufTy).Contents (Elt F)),
    StableHlo.binary main_v77 main_v78 main_v79 (mulf : (⟨S1024x7, .f32⟩ : BufTy).Contents (Elt F) → (⟨S1024x7, .f32⟩ : BufTy).Contents (Elt F) → (⟨S1024x7, .f32⟩ : BufTy).Contents (Elt F)),
    StableHlo.unary main_v79 main_v80 (Host.floor : (⟨S1024x7, .f32⟩ : BufTy).Contents (Elt F) → (⟨S1024x7, .f32⟩ : BufTy).Contents (Elt F)),
    StableHlo.unary main_v80 main_v81 (fptosi 32 : (⟨S1024x7, .f32⟩ : BufTy).Contents (Elt F) → (⟨S1024x7, .i32⟩ : BufTy).Contents (Elt F)),
    StableHlo.unary main_v11 main_v82 (broadcastInDim S1024x1 ![0] bcast_S1024_S1024x1_0 : (⟨S1024, .i32⟩ : BufTy).Contents (Elt F) → (⟨S1024x1, .i32⟩ : BufTy).Contents (Elt F)),
    StableHlo.unary main_v82 main_v83 (broadcastInDim S1024x7 ![0, 1] bcast_S1024x1_S1024x7_0_1 : (⟨S1024x1, .i32⟩ : BufTy).Contents (Elt F) → (⟨S1024x7, .i32⟩ : BufTy).Contents (Elt F)),
    StableHlo.binary main_v81 main_v83 main_v84 (addi : (⟨S1024x7, .i32⟩ : BufTy).Contents (Elt F) → (⟨S1024x7, .i32⟩ : BufTy).Contents (Elt F) → (⟨S1024x7, .i32⟩ : BufTy).Contents (Elt F)),
    StableHlo.nullary main_c_10 (constantI S_ 32 0#32),
    StableHlo.nullary main_c_11 (constantI S_ 32 200#32),
    StableHlo.TRef.unary (.of main_c_10 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S1024x7, .i32⟩) (broadcastInDim S1024x7 ![] bcast_S_S1024x7),
    StableHlo.TRef.binary (.of main_call6_v1 : StableHlo.TRef sig ⟨S1024x7, .i32⟩) (.of main_v84 : StableHlo.TRef sig ⟨S1024x7, .i32⟩) (.of main_call6_v2 : StableHlo.TRef sig ⟨S1024x7, .i32⟩) maxsi,
    StableHlo.TRef.unary (.of main_c_11 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S1024x7, .i32⟩) (broadcastInDim S1024x7 ![] bcast_S_S1024x7),
    StableHlo.TRef.binary (.of main_call6_v4 : StableHlo.TRef sig ⟨S1024x7, .i32⟩) (.of main_call6_v2 : StableHlo.TRef sig ⟨S1024x7, .i32⟩) (.of main_v85 : StableHlo.TRef sig ⟨S1024x7, .i32⟩) minsi,
    StableHlo.unary main_v50 main_v86 (broadcastInDim S1x7 ![1] bcast_S7_S1x7_1 : (⟨S7, .f32⟩ : BufTy).Contents (Elt F) → (⟨S1x7, .f32⟩ : BufTy).Contents (Elt F)),
    StableHlo.nullary main_cst_12 (constant S_ .f32 0x3F800000#32),
    StableHlo.unary main_cst_12 main_v87 (broadcastInDim S1x7 ![] bcast_S_S1x7 : (⟨S_, .f32⟩ : BufTy).Contents (Elt F) → (⟨S1x7, .f32⟩ : BufTy).Contents (Elt F)),
    StableHlo.binary main_v86 main_v87 main_v88 (addf : (⟨S1x7, .f32⟩ : BufTy).Contents (Elt F) → (⟨S1x7, .f32⟩ : BufTy).Contents (Elt F) → (⟨S1x7, .f32⟩ : BufTy).Contents (Elt F)),
    StableHlo.unary main_v48 main_v89 (broadcastInDim S1024x1 ![0] bcast_S1024_S1024x1_0 : (⟨S1024, .f32⟩ : BufTy).Contents (Elt F) → (⟨S1024x1, .f32⟩ : BufTy).Contents (Elt F)),
    StableHlo.unary main_v88 main_v90 (broadcastInDim S1024x7 ![0, 1] bcast_S1x7_S1024x7_0_1 : (⟨S1x7, .f32⟩ : BufTy).Contents (Elt F) → (⟨S1024x7, .f32⟩ : BufTy).Contents (Elt F)),
    StableHlo.unary main_v89 main_v91 (broadcastInDim S1024x7 ![0, 1] bcast_S1024x1_S1024x7_0_1 : (⟨S1024x1, .f32⟩ : BufTy).Contents (Elt F) → (⟨S1024x7, .f32⟩ : BufTy).Contents (Elt F)),
    StableHlo.binary main_v90 main_v91 main_v92 (mulf : (⟨S1024x7, .f32⟩ : BufTy).Contents (Elt F) → (⟨S1024x7, .f32⟩ : BufTy).Contents (Elt F) → (⟨S1024x7, .f32⟩ : BufTy).Contents (Elt F)),
    StableHlo.unary main_v92 main_v93 (Host.ceil : (⟨S1024x7, .f32⟩ : BufTy).Contents (Elt F) → (⟨S1024x7, .f32⟩ : BufTy).Contents (Elt F)),
    StableHlo.unary main_v93 main_v94 (fptosi 32 : (⟨S1024x7, .f32⟩ : BufTy).Contents (Elt F) → (⟨S1024x7, .i32⟩ : BufTy).Contents (Elt F)),
    StableHlo.unary main_v11 main_v95 (broadcastInDim S1024x1 ![0] bcast_S1024_S1024x1_0 : (⟨S1024, .i32⟩ : BufTy).Contents (Elt F) → (⟨S1024x1, .i32⟩ : BufTy).Contents (Elt F)),
    StableHlo.unary main_v95 main_v96 (broadcastInDim S1024x7 ![0, 1] bcast_S1024x1_S1024x7_0_1 : (⟨S1024x1, .i32⟩ : BufTy).Contents (Elt F) → (⟨S1024x7, .i32⟩ : BufTy).Contents (Elt F)),
    StableHlo.binary main_v94 main_v96 main_v97 (addi : (⟨S1024x7, .i32⟩ : BufTy).Contents (Elt F) → (⟨S1024x7, .i32⟩ : BufTy).Contents (Elt F) → (⟨S1024x7, .i32⟩ : BufTy).Contents (Elt F)) ]

/-- Operations 129 to 195 of the reference. -/
abbrev opsR2 : List (HloOp τ sig (Elt F)) :=
  [ StableHlo.nullary main_c_13 (constantI S_ 32 0#32),
    StableHlo.nullary main_c_14 (constantI S_ 32 200#32),
    StableHlo.TRef.unary (.of main_c_13 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S1024x7, .i32⟩) (broadcastInDim S1024x7 ![] bcast_S_S1024x7),
    StableHlo.TRef.binary (.of main_call7_v1 : StableHlo.TRef sig ⟨S1024x7, .i32⟩) (.of main_v97 : StableHlo.TRef sig ⟨S1024x7, .i32⟩) (.of main_call7_v2 : StableHlo.TRef sig ⟨S1024x7, .i32⟩) maxsi,
    StableHlo.TRef.unary (.of main_c_14 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S1024x7, .i32⟩) (broadcastInDim S1024x7 ![] bcast_S_S1024x7),
    StableHlo.TRef.binary (.of main_call7_v4 : StableHlo.TRef sig ⟨S1024x7, .i32⟩) (.of main_call7_v2 : StableHlo.TRef sig ⟨S1024x7, .i32⟩) (.of main_v98 : StableHlo.TRef sig ⟨S1024x7, .i32⟩) minsi,
    StableHlo.unary main_v18 main_v99 (broadcastInDim S1024x1 ![0] bcast_S1024_S1024x1_0 : (⟨S1024, .i32⟩ : BufTy).Contents (Elt F) → (⟨S1024x1, .i32⟩ : BufTy).Contents (Elt F)),
    StableHlo.nullary main_v100 (iotaInDim S16 32 0),
    StableHlo.unary main_v100 main_v101 (broadcastInDim S1x16 ![1] bcast_S16_S1x16_1 : (⟨S16, .i32⟩ : BufTy).Contents (Elt F) → (⟨S1x16, .i32⟩ : BufTy).Contents (Elt F)),
    StableHlo.unary main_v99 main_v102 (broadcastInDim S1024x16 ![0, 1] bcast_S1024x1_S1024x16_0_1 : (⟨S1024x1, .i32⟩ : BufTy).Contents (Elt F) → (⟨S1024x16, .i32⟩ : BufTy).Contents (Elt F)),
    StableHlo.unary main_v101 main_v103 (broadcastInDim S1024x16 ![0, 1] bcast_S1x16_S1024x16_0_1 : (⟨S1x16, .i32⟩ : BufTy).Contents (Elt F) → (⟨S1024x16, .i32⟩ : BufTy).Contents (Elt F)),
    StableHlo.binary main_v102 main_v103 main_v104 (addi : (⟨S1024x16, .i32⟩ : BufTy).Contents (Elt F) → (⟨S1024x16, .i32⟩ : BufTy).Contents (Elt F) → (⟨S1024x16, .i32⟩ : BufTy).Contents (Elt F)),
    StableHlo.unary main_v11 main_v105 (broadcastInDim S1024x1 ![0] bcast_S1024_S1024x1_0 : (⟨S1024, .i32⟩ : BufTy).Contents (Elt F) → (⟨S1024x1, .i32⟩ : BufTy).Contents (Elt F)),
    StableHlo.nullary main_v106 (iotaInDim S16 32 0),
    StableHlo.unary main_v106 main_v107 (broadcastInDim S1x16 ![1] bcast_S16_S1x16_1 : (⟨S16, .i32⟩ : BufTy).Contents (Elt F) → (⟨S1x16, .i32⟩ : BufTy).Contents (Elt F)),
    StableHlo.unary main_v105 main_v108 (broadcastInDim S1024x16 ![0, 1] bcast_S1024x1_S1024x16_0_1 : (⟨S1024x1, .i32⟩ : BufTy).Contents (Elt F) → (⟨S1024x16, .i32⟩ : BufTy).Contents (Elt F)),
    StableHlo.unary main_v107 main_v109 (broadcastInDim S1024x16 ![0, 1] bcast_S1x16_S1024x16_0_1 : (⟨S1x16, .i32⟩ : BufTy).Contents (Elt F) → (⟨S1024x16, .i32⟩ : BufTy).Contents (Elt F)),
    StableHlo.binary main_v108 main_v109 main_v110 (addi : (⟨S1024x16, .i32⟩ : BufTy).Contents (Elt F) → (⟨S1024x16, .i32⟩ : BufTy).Contents (Elt F) → (⟨S1024x16, .i32⟩ : BufTy).Contents (Elt F)),
    StableHlo.nullary main_c_15 (constantI S_ 32 0#32),
    StableHlo.nullary main_c_16 (constantI S_ 32 199#32),
    StableHlo.TRef.unary (.of main_c_15 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S1024x16, .i32⟩) (broadcastInDim S1024x16 ![] bcast_S_S1024x16),
    StableHlo.TRef.binary (.of main_call8_v1 : StableHlo.TRef sig ⟨S1024x16, .i32⟩) (.of main_v104 : StableHlo.TRef sig ⟨S1024x16, .i32⟩) (.of main_call8_v2 : StableHlo.TRef sig ⟨S1024x16, .i32⟩) maxsi,
    StableHlo.TRef.unary (.of main_c_16 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S1024x16, .i32⟩) (broadcastInDim S1024x16 ![] bcast_S_S1024x16),
    StableHlo.TRef.binary (.of main_call8_v4 : StableHlo.TRef sig ⟨S1024x16, .i32⟩) (.of main_call8_v2 : StableHlo.TRef sig ⟨S1024x16, .i32⟩) (.of main_v111 : StableHlo.TRef sig ⟨S1024x16, .i32⟩) minsi,
    StableHlo.nullary main_c_17 (constantI S_ 32 0#32),
    StableHlo.nullary main_c_18 (constantI S_ 32 199#32),
    StableHlo.TRef.unary (.of main_c_17 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S1024x16, .i32⟩) (broadcastInDim S1024x16 ![] bcast_S_S1024x16),
    StableHlo.TRef.binary (.of main_call9_v1 : StableHlo.TRef sig ⟨S1024x16, .i32⟩) (.of main_v110 : StableHlo.TRef sig ⟨S1024x16, .i32⟩) (.of main_call9_v2 : StableHlo.TRef sig ⟨S1024x16, .i32⟩) maxsi,
    StableHlo.TRef.unary (.of main_c_18 : StableHlo.TRef sig ⟨S_, .i32⟩) (.of main_call9_v3 : StableHlo.TRef sig ⟨S_, .i32⟩) id,
    StableHlo.TRef.unary (.of main_call9_v3 : StableHlo.TRef sig ⟨S_, .i32⟩) (.of main_call9_v4 : StableHlo.TRef sig ⟨S1024x16, .i32⟩) (broadcastInDim S1024x16 ![] bcast_S_S1024x16),
    StableHlo.TRef.binary (.of main_call9_v4 : StableHlo.TRef sig ⟨S1024x16, .i32⟩) (.of main_call9_v2 : StableHlo.TRef sig ⟨S1024x16, .i32⟩) (.of main_v112 : StableHlo.TRef sig ⟨S1024x16, .i32⟩) minsi,
    StableHlo.unary main_v4 main_v113 (broadcastInDim S1024x1x1 ![0] bcast_S1024_S1024x1x1_0 : (⟨S1024, .i32⟩ : BufTy).Contents (Elt F) → (⟨S1024x1x1, .i32⟩ : BufTy).Contents (Elt F)),
    StableHlo.unary main_v111 main_v114 (broadcastInDim S1024x16x1 ![0, 1] bcast_S1024x16_S1024x16x1_0_1 : (⟨S1024x16, .i32⟩ : BufTy).Contents (Elt F) → (⟨S1024x16x1, .i32⟩ : BufTy).Contents (Elt F)),
    StableHlo.unary main_v112 main_v115 (broadcastInDim S1024x1x16 ![0, 2] bcast_S1024x16_S1024x1x16_0_2 : (⟨S1024x16, .i32⟩ : BufTy).Contents (Elt F) → (⟨S1024x1x16, .i32⟩ : BufTy).Contents (Elt F)),
    StableHlo.nullary main_c_19 (constantI S_ 32 0#32),
    StableHlo.unary main_c_19 main_v116 (broadcastInDim S1024x1x1 ![] bcast_S_S1024x1x1 : (⟨S_, .i32⟩ : BufTy).Contents (Elt F) → (⟨S1024x1x1, .i32⟩ : BufTy).Contents (Elt F)),
    StableHlo.binary main_v113 main_v116 main_v117 (cmpi .slt : (⟨S1024x1x1, .i32⟩ : BufTy).Contents (Elt F) → (⟨S1024x1x1, .i32⟩ : BufTy).Contents (Elt F) → (⟨S1024x1x1, .i1⟩ : BufTy).Contents (Elt F)),
    StableHlo.nullary main_c_20 (constantI S_ 32 2#32),
    StableHlo.unary main_c_20 main_v118 (broadcastInDim S1024x1x1 ![] bcast_S_S1024x1x1 : (⟨S_, .i32⟩ : BufTy).Contents (Elt F) → (⟨S1024x1x1, .i32⟩ : BufTy).Contents (Elt F)),
    StableHlo.binary main_v113 main_v118 main_v119 (addi : (⟨S1024x1x1, .i32⟩ : BufTy).Contents (Elt F) → (⟨S1024x1x1, .i32⟩ : BufTy).Contents (Elt F) → (⟨S1024x1x1, .i32⟩ : BufTy).Contents (Elt F)),
    StableHlo.ternary main_v117 main_v119 main_v113 main_v120 (select : (⟨S1024x1x1, .i1⟩ : BufTy).Contents (Elt F) → (⟨S1024x1x1, .i32⟩ : BufTy).Contents (Elt F) → (⟨S1024x1x1, .i32⟩ : BufTy).Contents (Elt F) → (⟨S1024x1x1, .i32⟩ : BufTy).Contents (Elt F)),
    StableHlo.nullary main_c_21 (constantI S_ 32 0#32),
    StableHlo.unary main_c_21 main_v121 (broadcastInDim S1024x16x1 ![] bcast_S_S1024x16x1 : (⟨S_, .i32⟩ : BufTy).Contents (Elt F) → (⟨S1024x16x1, .i32⟩ : BufTy).Contents (Elt F)),
    StableHlo.binary main_v114 main_v121 main_v122 (cmpi .slt : (⟨S1024x16x1, .i32⟩ : BufTy).Contents (Elt F) → (⟨S1024x16x1, .i32⟩ : BufTy).Contents (Elt F) → (⟨S1024x16x1, .i1⟩ : BufTy).Contents (Elt F)),
    StableHlo.nullary main_c_22 (constantI S_ 32 200#32),
    StableHlo.unary main_c_22 main_v123 (broadcastInDim S1024x16x1 ![] bcast_S_S1024x16x1 : (⟨S_, .i32⟩ : BufTy).Contents (Elt F) → (⟨S1024x16x1, .i32⟩ : BufTy).Contents (Elt F)),
    StableHlo.binary main_v114 main_v123 main_v124 (addi : (⟨S1024x16x1, .i32⟩ : BufTy).Contents (Elt F) → (⟨S1024x16x1, .i32⟩ : BufTy).Contents (Elt F) → (⟨S1024x16x1, .i32⟩ : BufTy).Contents (Elt F)),
    StableHlo.ternary main_v122 main_v124 main_v114 main_v125 (select : (⟨S1024x16x1, .i1⟩ : BufTy).Contents (Elt F) → (⟨S1024x16x1, .i32⟩ : BufTy).Contents (Elt F) → (⟨S1024x16x1, .i32⟩ : BufTy).Contents (Elt F) → (⟨S1024x16x1, .i32⟩ : BufTy).Contents (Elt F)),
    StableHlo.nullary main_c_23 (constantI S_ 32 0#32),
    StableHlo.unary main_c_23 main_v126 (broadcastInDim S1024x1x16 ![] bcast_S_S1024x1x16 : (⟨S_, .i32⟩ : BufTy).Contents (Elt F) → (⟨S1024x1x16, .i32⟩ : BufTy).Contents (Elt F)),
    StableHlo.binary main_v115 main_v126 main_v127 (cmpi .slt : (⟨S1024x1x16, .i32⟩ : BufTy).Contents (Elt F) → (⟨S1024x1x16, .i32⟩ : BufTy).Contents (Elt F) → (⟨S1024x1x16, .i1⟩ : BufTy).Contents (Elt F)),
    StableHlo.nullary main_c_24 (constantI S_ 32 200#32),
    StableHlo.unary main_c_24 main_v128 (broadcastInDim S1024x1x16 ![] bcast_S_S1024x1x16 : (⟨S_, .i32⟩ : BufTy).Contents (Elt F) → (⟨S1024x1x16, .i32⟩ : BufTy).Contents (Elt F)),
    StableHlo.binary main_v115 main_v128 main_v129 (addi : (⟨S1024x1x16, .i32⟩ : BufTy).Contents (Elt F) → (⟨S1024x1x16, .i32⟩ : BufTy).Contents (Elt F) → (⟨S1024x1x16, .i32⟩ : BufTy).Contents (Elt F)),
    StableHlo.ternary main_v127 main_v129 main_v115 main_v130 (select : (⟨S1024x1x16, .i1⟩ : BufTy).Contents (Elt F) → (⟨S1024x1x16, .i32⟩ : BufTy).Contents (Elt F) → (⟨S1024x1x16, .i32⟩ : BufTy).Contents (Elt F) → (⟨S1024x1x16, .i32⟩ : BufTy).Contents (Elt F)),
    StableHlo.unary main_v120 main_v131 (broadcastInDim S1024x16x16 ![0, 1, 2] bcast_S1024x1x1_S1024x16x16_0_1_2 : (⟨S1024x1x1, .i32⟩ : BufTy).Contents (Elt F) → (⟨S1024x16x16, .i32⟩ : BufTy).Contents (Elt F)),
    StableHlo.unary main_v125 main_v132 (broadcastInDim S1024x16x16 ![0, 1, 2] bcast_S1024x16x1_S1024x16x16_0_1_2 : (⟨S1024x16x1, .i32⟩ : BufTy).Contents (Elt F) → (⟨S1024x16x16, .i32⟩ : BufTy).Contents (Elt F)),
    StableHlo.unary main_v130 main_v133 (broadcastInDim S1024x16x16 ![0, 1, 2] bcast_S1024x1x16_S1024x16x16_0_1_2 : (⟨S1024x1x16, .i32⟩ : BufTy).Contents (Elt F) → (⟨S1024x16x16, .i32⟩ : BufTy).Contents (Elt F)),
    StableHlo.unary main_v131 main_v134 (broadcastInDim S1024x16x16x1 ![0, 1, 2] bcast_S1024x16x16_S1024x16x16x1_0_1_2 : (⟨S1024x16x16, .i32⟩ : BufTy).Contents (Elt F) → (⟨S1024x16x16x1, .i32⟩ : BufTy).Contents (Elt F)),
    StableHlo.unary main_v132 main_v135 (broadcastInDim S1024x16x16x1 ![0, 1, 2] bcast_S1024x16x16_S1024x16x16x1_0_1_2 : (⟨S1024x16x16, .i32⟩ : BufTy).Contents (Elt F) → (⟨S1024x16x16x1, .i32⟩ : BufTy).Contents (Elt F)),
    StableHlo.unary main_v133 main_v136 (broadcastInDim S1024x16x16x1 ![0, 1, 2] bcast_S1024x16x16_S1024x16x16x1_0_1_2 : (⟨S1024x16x16, .i32⟩ : BufTy).Contents (Elt F) → (⟨S1024x16x16x1, .i32⟩ : BufTy).Contents (Elt F)),
    StableHlo.nary ![main_v134, main_v135, main_v136] main_v137 (fun u => (concatenate S1024x16x16x3 3 [⟨S1024x16x16x1, (u 0 : (⟨S1024x16x16x1, .i32⟩ : BufTy).Contents (Elt F))⟩, ⟨S1024x16x16x1, (u 1 : (⟨S1024x16x16x1, .i32⟩ : BufTy).Contents (Elt F))⟩, ⟨S1024x16x16x1, (u 2 : (⟨S1024x16x16x1, .i32⟩ : BufTy).Contents (Elt F))⟩] concatenates_S1024x16x16x1_S1024x16x16x1_S1024x16x16x1_S1024x16x16x3_d3 : (⟨S1024x16x16x3, .i32⟩ : BufTy).Contents (Elt F))) ]

/-- Operations 196 to 236 of the reference. -/
abbrev opsR3 : List (HloOp τ sig (Elt F)) :=
  [ StableHlo.binary main_arg1 main_v137 main_v138 ((fun x i => Host.gather gather_S2x256x200x200_S1024x16x16x3_S1024x16x16x256_3_023_n_n_023_3_125611 x i) : (⟨S2x256x200x200, .f32⟩ : BufTy).Contents (Elt F) → (⟨S1024x16x16x3, .i32⟩ : BufTy).Contents (Elt F) → (⟨S1024x16x16x256, .f32⟩ : BufTy).Contents (Elt F)),
    StableHlo.unary main_v104 main_v139 (broadcastInDim S1024x1x16 ![0, 2] bcast_S1024x16_S1024x1x16_0_2 : (⟨S1024x16, .i32⟩ : BufTy).Contents (Elt F) → (⟨S1024x1x16, .i32⟩ : BufTy).Contents (Elt F)),
    StableHlo.unary main_v61 main_v140 (broadcastInDim S1024x7x1 ![0, 1] bcast_S1024x7_S1024x7x1_0_1 : (⟨S1024x7, .i32⟩ : BufTy).Contents (Elt F) → (⟨S1024x7x1, .i32⟩ : BufTy).Contents (Elt F)),
    StableHlo.unary main_v139 main_v141 (broadcastInDim S1024x7x16 ![0, 1, 2] bcast_S1024x1x16_S1024x7x16_0_1_2 : (⟨S1024x1x16, .i32⟩ : BufTy).Contents (Elt F) → (⟨S1024x7x16, .i32⟩ : BufTy).Contents (Elt F)),
    StableHlo.unary main_v140 main_v142 (broadcastInDim S1024x7x16 ![0, 1, 2] bcast_S1024x7x1_S1024x7x16_0_1_2 : (⟨S1024x7x1, .i32⟩ : BufTy).Contents (Elt F) → (⟨S1024x7x16, .i32⟩ : BufTy).Contents (Elt F)),
    StableHlo.binary main_v141 main_v142 main_v143 (cmpi .sge : (⟨S1024x7x16, .i32⟩ : BufTy).Contents (Elt F) → (⟨S1024x7x16, .i32⟩ : BufTy).Contents (Elt F) → (⟨S1024x7x16, .i1⟩ : BufTy).Contents (Elt F)),
    StableHlo.unary main_v104 main_v144 (broadcastInDim S1024x1x16 ![0, 2] bcast_S1024x16_S1024x1x16_0_2 : (⟨S1024x16, .i32⟩ : BufTy).Contents (Elt F) → (⟨S1024x1x16, .i32⟩ : BufTy).Contents (Elt F)),
    StableHlo.unary main_v74 main_v145 (broadcastInDim S1024x7x1 ![0, 1] bcast_S1024x7_S1024x7x1_0_1 : (⟨S1024x7, .i32⟩ : BufTy).Contents (Elt F) → (⟨S1024x7x1, .i32⟩ : BufTy).Contents (Elt F)),
    StableHlo.unary main_v144 main_v146 (broadcastInDim S1024x7x16 ![0, 1, 2] bcast_S1024x1x16_S1024x7x16_0_1_2 : (⟨S1024x1x16, .i32⟩ : BufTy).Contents (Elt F) → (⟨S1024x7x16, .i32⟩ : BufTy).Contents (Elt F)),
    StableHlo.unary main_v145 main_v147 (broadcastInDim S1024x7x16 ![0, 1, 2] bcast_S1024x7x1_S1024x7x16_0_1_2 : (⟨S1024x7x1, .i32⟩ : BufTy).Contents (Elt F) → (⟨S1024x7x16, .i32⟩ : BufTy).Contents (Elt F)),
    StableHlo.binary main_v146 main_v147 main_v148 (cmpi .slt : (⟨S1024x7x16, .i32⟩ : BufTy).Contents (Elt F) → (⟨S1024x7x16, .i32⟩ : BufTy).Contents (Elt F) → (⟨S1024x7x16, .i1⟩ : BufTy).Contents (Elt F)),
    StableHlo.binary main_v143 main_v148 main_v149 (andi : (⟨S1024x7x16, .i1⟩ : BufTy).Contents (Elt F) → (⟨S1024x7x16, .i1⟩ : BufTy).Contents (Elt F) → (⟨S1024x7x16, .i1⟩ : BufTy).Contents (Elt F)),
    StableHlo.unary main_v110 main_v150 (broadcastInDim S1024x1x16 ![0, 2] bcast_S1024x16_S1024x1x16_0_2 : (⟨S1024x16, .i32⟩ : BufTy).Contents (Elt F) → (⟨S1024x1x16, .i32⟩ : BufTy).Contents (Elt F)),
    StableHlo.unary main_v85 main_v151 (broadcastInDim S1024x7x1 ![0, 1] bcast_S1024x7_S1024x7x1_0_1 : (⟨S1024x7, .i32⟩ : BufTy).Contents (Elt F) → (⟨S1024x7x1, .i32⟩ : BufTy).Contents (Elt F)),
    StableHlo.unary main_v150 main_v152 (broadcastInDim S1024x7x16 ![0, 1, 2] bcast_S1024x1x16_S1024x7x16_0_1_2 : (⟨S1024x1x16, .i32⟩ : BufTy).Contents (Elt F) → (⟨S1024x7x16, .i32⟩ : BufTy).Contents (Elt F)),
    StableHlo.unary main_v151 main_v153 (broadcastInDim S1024x7x16 ![0, 1, 2] bcast_S1024x7x1_S1024x7x16_0_1_2 : (⟨S1024x7x1, .i32⟩ : BufTy).Contents (Elt F) → (⟨S1024x7x16, .i32⟩ : BufTy).Contents (Elt F)),
    StableHlo.binary main_v152 main_v153 main_v154 (cmpi .sge : (⟨S1024x7x16, .i32⟩ : BufTy).Contents (Elt F) → (⟨S1024x7x16, .i32⟩ : BufTy).Contents (Elt F) → (⟨S1024x7x16, .i1⟩ : BufTy).Contents (Elt F)),
    StableHlo.unary main_v110 main_v155 (broadcastInDim S1024x1x16 ![0, 2] bcast_S1024x16_S1024x1x16_0_2 : (⟨S1024x16, .i32⟩ : BufTy).Contents (Elt F) → (⟨S1024x1x16, .i32⟩ : BufTy).Contents (Elt F)),
    StableHlo.unary main_v98 main_v156 (broadcastInDim S1024x7x1 ![0, 1] bcast_S1024x7_S1024x7x1_0_1 : (⟨S1024x7, .i32⟩ : BufTy).Contents (Elt F) → (⟨S1024x7x1, .i32⟩ : BufTy).Contents (Elt F)),
    StableHlo.unary main_v155 main_v157 (broadcastInDim S1024x7x16 ![0, 1, 2] bcast_S1024x1x16_S1024x7x16_0_1_2 : (⟨S1024x1x16, .i32⟩ : BufTy).Contents (Elt F) → (⟨S1024x7x16, .i32⟩ : BufTy).Contents (Elt F)),
    StableHlo.unary main_v156 main_v158 (broadcastInDim S1024x7x16 ![0, 1, 2] bcast_S1024x7x1_S1024x7x16_0_1_2 : (⟨S1024x7x1, .i32⟩ : BufTy).Contents (Elt F) → (⟨S1024x7x16, .i32⟩ : BufTy).Contents (Elt F)),
    StableHlo.binary main_v157 main_v158 main_v159 (cmpi .slt : (⟨S1024x7x16, .i32⟩ : BufTy).Contents (Elt F) → (⟨S1024x7x16, .i32⟩ : BufTy).Contents (Elt F) → (⟨S1024x7x16, .i1⟩ : BufTy).Contents (Elt F)),
    StableHlo.binary main_v154 main_v159 main_v160 (andi : (⟨S1024x7x16, .i1⟩ : BufTy).Contents (Elt F) → (⟨S1024x7x16, .i1⟩ : BufTy).Contents (Elt F) → (⟨S1024x7x16, .i1⟩ : BufTy).Contents (Elt F)),
    StableHlo.unary main_v149 main_v161 (broadcastInDim S1024x7x16x1x1 ![0, 1, 2] bcast_S1024x7x16_S1024x7x16x1x1_0_1_2 : (⟨S1024x7x16, .i1⟩ : BufTy).Contents (Elt F) → (⟨S1024x7x16x1x1, .i1⟩ : BufTy).Contents (Elt F)),
    StableHlo.unary main_v138 main_v162 (broadcastInDim S1024x1x16x16x256 ![0, 2, 3, 4] bcast_S1024x16x16x256_S1024x1x16x16x256_0_2_3_4 : (⟨S1024x16x16x256, .f32⟩ : BufTy).Contents (Elt F) → (⟨S1024x1x16x16x256, .f32⟩ : BufTy).Contents (Elt F)),
    StableHlo.nullary main_cst_25 (constant S_ .f32 0xFF800000#32),
    StableHlo.TRef.unary (.of main_v161 : StableHlo.TRef sig ⟨S1024x7x16x1x1, .i1⟩) (.of main_call10_v0 : StableHlo.TRef sig ⟨S1024x7x16x16x256, .i1⟩) (broadcastInDim S1024x7x16x16x256 ![0, 1, 2, 3, 4] bcast_S1024x7x16x1x1_S1024x7x16x16x256_0_1_2_3_4),
    StableHlo.TRef.unary (.of main_v162 : StableHlo.TRef sig ⟨S1024x1x16x16x256, .f32⟩) (.of main_call10_v1 : StableHlo.TRef sig ⟨S1024x7x16x16x256, .f32⟩) (broadcastInDim S1024x7x16x16x256 ![0, 1, 2, 3, 4] bcast_S1024x1x16x16x256_S1024x7x16x16x256_0_1_2_3_4),
    StableHlo.TRef.unary (.of main_cst_25 : StableHlo.TRef sig ⟨S_, .f32⟩) (.of main_call10_v2 : StableHlo.TRef sig ⟨S1024x7x16x16x256, .f32⟩) (broadcastInDim S1024x7x16x16x256 ![] bcast_S_S1024x7x16x16x256),
    StableHlo.TRef.ternary (.of main_call10_v0 : StableHlo.TRef sig ⟨S1024x7x16x16x256, .i1⟩) (.of main_call10_v1 : StableHlo.TRef sig ⟨S1024x7x16x16x256, .f32⟩) (.of main_call10_v2 : StableHlo.TRef sig ⟨S1024x7x16x16x256, .f32⟩) (.of main_v163 : StableHlo.TRef sig ⟨S1024x7x16x16x256, .f32⟩) select,
    StableHlo.nullary main_cst_26 (constant S_ .f32 0xFF800000#32),
    StableHlo.binary main_v163 main_cst_26 main_v164 ((fun x v => Host.reduce FloatOps.maximumf x v reducesTo_S1024x7x16x16x256_S1024x7x16x256_d2 h_S_) : (⟨S1024x7x16x16x256, .f32⟩ : BufTy).Contents (Elt F) → (⟨S_, .f32⟩ : BufTy).Contents (Elt F) → (⟨S1024x7x16x256, .f32⟩ : BufTy).Contents (Elt F)),
    StableHlo.unary main_v160 main_v165 (broadcastInDim S1024x1x7x16x1 ![0, 2, 3] bcast_S1024x7x16_S1024x1x7x16x1_0_2_3 : (⟨S1024x7x16, .i1⟩ : BufTy).Contents (Elt F) → (⟨S1024x1x7x16x1, .i1⟩ : BufTy).Contents (Elt F)),
    StableHlo.unary main_v164 main_v166 (broadcastInDim S1024x7x1x16x256 ![0, 1, 3, 4] bcast_S1024x7x16x256_S1024x7x1x16x256_0_1_3_4 : (⟨S1024x7x16x256, .f32⟩ : BufTy).Contents (Elt F) → (⟨S1024x7x1x16x256, .f32⟩ : BufTy).Contents (Elt F)),
    StableHlo.nullary main_cst_27 (constant S_ .f32 0xFF800000#32),
    StableHlo.TRef.unary (.of main_v165 : StableHlo.TRef sig ⟨S1024x1x7x16x1, .i1⟩) (.of main_call11_v0 : StableHlo.TRef sig ⟨S1024x7x7x16x256, .i1⟩) (broadcastInDim S1024x7x7x16x256 ![0, 1, 2, 3, 4] bcast_S1024x1x7x16x1_S1024x7x7x16x256_0_1_2_3_4),
    StableHlo.TRef.unary (.of main_v166 : StableHlo.TRef sig ⟨S1024x7x1x16x256, .f32⟩) (.of main_call11_v1 : StableHlo.TRef sig ⟨S1024x7x7x16x256, .f32⟩) (broadcastInDim S1024x7x7x16x256 ![0, 1, 2, 3, 4] bcast_S1024x7x1x16x256_S1024x7x7x16x256_0_1_2_3_4),
    StableHlo.TRef.unary (.of main_cst_27 : StableHlo.TRef sig ⟨S_, .f32⟩) (.of main_call11_v2 : StableHlo.TRef sig ⟨S1024x7x7x16x256, .f32⟩) (broadcastInDim S1024x7x7x16x256 ![] bcast_S_S1024x7x7x16x256),
    StableHlo.TRef.ternary (.of main_call11_v0 : StableHlo.TRef sig ⟨S1024x7x7x16x256, .i1⟩) (.of main_call11_v1 : StableHlo.TRef sig ⟨S1024x7x7x16x256, .f32⟩) (.of main_call11_v2 : StableHlo.TRef sig ⟨S1024x7x7x16x256, .f32⟩) (.of main_v167 : StableHlo.TRef sig ⟨S1024x7x7x16x256, .f32⟩) select,
    StableHlo.nullary main_cst_28 (constant S_ .f32 0xFF800000#32),
    StableHlo.binary main_v167 main_cst_28 main_v168 ((fun x v => Host.reduce FloatOps.maximumf x v reducesTo_S1024x7x7x16x256_S1024x7x7x256_d3 h_S_) : (⟨S1024x7x7x16x256, .f32⟩ : BufTy).Contents (Elt F) → (⟨S_, .f32⟩ : BufTy).Contents (Elt F) → (⟨S1024x7x7x256, .f32⟩ : BufTy).Contents (Elt F)) ]

/-- Operations 237 to 245 of the reference. -/
abbrev opsR4 : List (HloOp τ sig (Elt F)) :=
  [ StableHlo.unary main_v168 main_v169 (Host.absf : (⟨S1024x7x7x256, .f32⟩ : BufTy).Contents (Elt F) → (⟨S1024x7x7x256, .f32⟩ : BufTy).Contents (Elt F)),
    StableHlo.nullary main_cst_29 (constant S_ .f32 0x7F800000#32),
    StableHlo.unary main_cst_29 main_v170 (broadcastInDim S1024x7x7x256 ![] bcast_S_S1024x7x7x256 : (⟨S_, .f32⟩ : BufTy).Contents (Elt F) → (⟨S1024x7x7x256, .f32⟩ : BufTy).Contents (Elt F)),
    StableHlo.binary main_v169 main_v170 main_v171 (cmpf .olt : (⟨S1024x7x7x256, .f32⟩ : BufTy).Contents (Elt F) → (⟨S1024x7x7x256, .f32⟩ : BufTy).Contents (Elt F) → (⟨S1024x7x7x256, .i1⟩ : BufTy).Contents (Elt F)),
    StableHlo.nullary main_cst_30 (constant S_ .f32 0x00000000#32),
    StableHlo.TRef.unary (.of main_cst_30 : StableHlo.TRef sig ⟨S_, .f32⟩) (.of main_call12_v0 : StableHlo.TRef sig ⟨S1024x7x7x256, .f32⟩) (broadcastInDim S1024x7x7x256 ![] bcast_S_S1024x7x7x256),
    StableHlo.TRef.ternary (.of main_v171 : StableHlo.TRef sig ⟨S1024x7x7x256, .i1⟩) (.of main_v168 : StableHlo.TRef sig ⟨S1024x7x7x256, .f32⟩) (.of main_call12_v0 : StableHlo.TRef sig ⟨S1024x7x7x256, .f32⟩) (.of main_v172 : StableHlo.TRef sig ⟨S1024x7x7x256, .f32⟩) select,
    StableHlo.unary main_v172 main_v173 ((transpose S1024x256x7x7 [0, 3, 1, 2] · transposes_S1024x7x7x256_S1024x256x7x7_0_3_1_2) : (⟨S1024x7x7x256, .f32⟩ : BufTy).Contents (Elt F) → (⟨S1024x256x7x7, .f32⟩ : BufTy).Contents (Elt F)),
    StableHlo.reshape main_v173 main_v174 (rfl : (.f32 : EltTy) = .f32) shapeCasts_S1024x256x7x7_S1024x256x49 ]

/-- The operations before the gather of the crops. -/
abbrev opsA : List (HloOp τ sig (Elt F)) := opsR0 ++ opsR1 ++ opsR2

/-- All of them. -/
def opsR : List (HloOp τ sig (Elt F)) := opsA ++ (opsR3 ++ opsR4)

/-- The arrays that part 0 writes. -/
def outR0 : List (Ref sig .tc) :=
  [main_v0, main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_c, main_v34, main_v35, main_c_0, main_v36, main_v37, main_v38, main_c_1, main_v39, main_v40, main_c_2, main_v41, main_v42, main_v43, main_cst_3, main_v44, main_v45, main_v46, main_cst_4, main_v47, main_v48, main_v49, main_v50, main_v51, main_v52, main_v53, main_v54, main_v55, main_v56]

/-- The arrays that part 1 writes. -/
def outR1 : List (Ref sig .tc) :=
  [main_v57, main_v58, main_v59, main_v60, main_c_5, main_c_6, main_call4_v0, main_call4_v1, main_call4_v2, main_call4_v3, main_call4_v4, main_v61, main_v62, main_cst_7, main_v63, main_v64, main_v65, main_v66, main_v67, main_v68, main_v69, main_v70, main_v71, main_v72, main_v73, main_c_8, main_c_9, main_call5_v0, main_call5_v1, main_call5_v2, main_call5_v3, main_call5_v4, main_v74, main_v75, main_v76, main_v77, main_v78, main_v79, main_v80, main_v81, main_v82, main_v83, main_v84, main_c_10, main_c_11, main_call6_v0, main_call6_v1, main_call6_v2, main_call6_v3, main_call6_v4, main_v85, main_v86, main_cst_12, main_v87, main_v88, main_v89, main_v90, main_v91, main_v92, main_v93, main_v94, main_v95, main_v96, main_v97]

/-- The arrays that part 2 writes. -/
def outR2 : List (Ref sig .tc) :=
  [main_c_13, main_c_14, main_call7_v0, main_call7_v1, main_call7_v2, main_call7_v3, main_call7_v4, main_v98, main_v99, main_v100, main_v101, main_v102, main_v103, main_v104, main_v105, main_v106, main_v107, main_v108, main_v109, main_v110, main_c_15, main_c_16, main_call8_v0, main_call8_v1, main_call8_v2, main_call8_v3, main_call8_v4, main_v111, main_c_17, main_c_18, main_call9_v0, main_call9_v1, main_call9_v2, main_call9_v3, main_call9_v4, main_v112, main_v113, main_v114, main_v115, main_c_19, main_v116, main_v117, main_c_20, main_v118, main_v119, main_v120, main_c_21, main_v121, main_v122, main_c_22, main_v123, main_v124, main_v125, main_c_23, main_v126, main_v127, main_c_24, main_v128, main_v129, main_v130, main_v131, main_v132, main_v133, main_v134, main_v135, main_v136, main_v137]

/-- The arrays that part 3 writes. -/
def outR3 : List (Ref sig .tc) :=
  [main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_cst_25, main_call10_v0, main_call10_v1, main_call10_v2, main_v163, main_cst_26, main_v164, main_v165, main_v166, main_cst_27, main_call11_v0, main_call11_v1, main_call11_v2, main_v167, main_cst_28, main_v168, main_v169, main_cst_29, main_v170, main_v171, main_cst_30, main_call12_v0, main_v172, main_v173, main_v174]

/-- The reference's program is the line of these operations. -/
theorem main_seq (d : Dev nD) : main (F := F) d = StableHlo.seq opsR := by sl_kernel_rfl

/-- Each operation touches buffers of the TensorCore only. -/
theorem touched : (opsR (F := F)).Forall fun op => op.bufs ⊆ StableHlo.tcRefs τ sig := by
  unfold opsR
  simp

end Cert.RoiPool.Ref

end
-- ==== Proof.RefRun.lean ====
/- The reference's run: it ends with its arguments unchanged and each array holding what the line of operations leaves. -/
module

public import proofs.«01_k».proof.Proof.RefList
public import Idealize.ShloMosaic.Lib.StableHlo.RunHlo
public import Idealize.ShloMosaic.Lib.Quiescent

@[expose] public section

set_option maxRecDepth 16384

noncomputable section

namespace Cert.RoiPool.Ref

open Idealize.ShloMosaic Idealize.ShloMosaic.TcCoe Idealize.SL.Sem
open Cert.ReferenceIdeal Cert.ReferenceIdeal.Gen

variable {F : FTy → Type} [FloatOps F]

/-- The arrays that the operations write, in order. -/
def outR : List (Ref sig .tc) := outR0 ++ outR1 ++ outR2 ++ outR3

/-- The operations write only the arrays of that list. -/
theorem writes_outR : (opsR (F := F)).Forall fun op => op.writes ⊆ (outR.map (Proc.devRef (τ := τ) .tc)).toFinset :=
  StableHlo.forall_writes_sub_of_map rfl

/-- No operation allocates an array. -/
theorem fresh_none : ∀ op ∈ opsR (F := F), op.fresh = ∅ := fun op h =>
  List.eq_of_mem_replicate (n := 245) ((show (opsR (F := F)).map HloOp.fresh = List.replicate 245 ∅ from rfl) ▸ List.mem_map_of_mem h)

/-- What the reference leaves in a buffer of a device. -/
def R (m : (ℓ : Loc nD τ sig) → Buf (Elt F) ℓ) (c : Dev nD) (b : Ref sig .tc) : (b.ty).Contents (Elt F) :=
  StableHlo.after (opsR (F := F)) (StableHlo.launchContents m c) (Proc.devRef .tc b)

/-- The reference runs, and ends with every buffer as the operations leave it. -/
theorem run_ref (m : (ℓ : Loc nD τ sig) → Buf (Elt F) ℓ) (g : Dev nD → PrngReg) :
    θ_run (defs (F := F)) (onTc (τ := τ) (main (F := F))) ⟨m, fun _ => 0, g⟩ fun r =>
      ∀ (c : Dev nD) (b : Ref sig .tc), r.2.mem ((c.tc : Thread nD τ).loc b) = R m c b :=
  StableHlo.run_hlo defs main (fun d => main_seq d) (by decide) (by decide) touched fresh_none m g

/-- The reference leaves the RoIs unchanged. -/
theorem R_arg0 (m : (ℓ : Loc nD τ sig) → Buf (Elt F) ℓ) (c : Dev nD) : R m c main_arg0 = m ((c.tc : Thread nD τ).loc main_arg0) :=
  StableHlo.after_of_writes_sub opsR _ writes_outR (by decide)
/-- The reference leaves the map unchanged. -/
theorem R_arg1 (m : (ℓ : Loc nD τ sig) → Buf (Elt F) ℓ) (c : Dev nD) : R m c main_arg1 = m ((c.tc : Thread nD τ).loc main_arg1) :=
  StableHlo.after_of_writes_sub opsR _ writes_outR (by decide)
/-- The reference leaves the stride unchanged. -/
theorem R_arg2 (m : (ℓ : Loc nD τ sig) → Buf (Elt F) ℓ) (c : Dev nD) : R m c main_arg2 = m ((c.tc : Thread nD τ).loc main_arg2) :=
  StableHlo.after_of_writes_sub opsR _ writes_outR (by decide)

/-- The reference's arguments are left as they were, and it has no semaphores. -/
theorem frame_ref (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0 :=
  θ_run_mono (run_ref m g) fun r h =>
    ⟨fun c => ⟨(h c _).trans (R_arg0 m c), (h c _).trans (R_arg1 m c), (h c _).trans (R_arg2 m c)⟩, sem_eq_zero_of_no_sems rfl r.2⟩

end Cert.RoiPool.Ref

end
-- ==== Proof.Sups.lean ====
/- Maxima over a bin's cells: the three forms in which the kernel and the reference take them are one supremum. -/
module

public import Mathlib.Data.EReal.Basic
public import Mathlib.Order.Interval.Finset.Nat
public import Mathlib.Data.Finset.Fold
public import Mathlib.Data.Finset.Lattice.Fold

@[expose] public section

namespace Cert.RoiPool

/-- A fold of `max` from minus infinity is a supremum. -/
theorem fold_sup {ι : Type} (s : Finset ι) (f : ι → EReal) : s.fold max ⊥ f = s.sup f := rfl

/-- The maximum over a window of `k` places from `base`, those outside `S ≤ · < E` masked by minus infinity, is the maximum
    over the places from `S` to `E`, where all of those lie in the window. -/
theorem sup_masked (k base S E : ℕ) (h : base ≤ S) (h' : E ≤ base + k) (g : ℕ → EReal) (f : Fin k → EReal)
    (hin : ∀ i : Fin k, S ≤ base + i.val → base + i.val < E → f i = g (base + i.val))
    (hout : ∀ i : Fin k, ¬ (S ≤ base + i.val ∧ base + i.val < E) → f i = ⊥) :
    Finset.univ.sup f = (Finset.Ico S E).sup g := by
  apply le_antisymm
  · apply Finset.sup_le
    intro i _
    by_cases hi : S ≤ base + i.val ∧ base + i.val < E
    · rw [hin i hi.1 hi.2]
      exact Finset.le_sup (f := g) (Finset.mem_Ico.2 hi)
    · rw [hout i hi]
      exact bot_le
  · apply Finset.sup_le
    intro y hy
    have hy := Finset.mem_Ico.1 hy
    have e : base + (y - base) = y := by omega
    have := hin ⟨y - base, by omega⟩ (by dsimp only; omega) (by dsimp only; omega)
    rw [e] at this
    rw [← this]
    exact Finset.le_sup (f := f) (Finset.mem_univ _)

/-- The maximum over at most three places, as a chain of guarded maxima. -/
theorem sup_chain (S E : ℕ) (h : E ≤ S + 3) (g : ℕ → EReal) (a0 a1 a2 : EReal)
    (h0 : S + 0 < E → a0 = g S) (h1 : S + 1 < E → a1 = g (S + 1)) (h2 : S + 2 < E → a2 = g (S + 2)) :
    (if S + 1 ≤ E then (if S + 3 ≤ E then max (if S + 2 ≤ E then max a0 a1 else a0) a2 else (if S + 2 ≤ E then max a0 a1 else a0)) else ⊥)
      = (Finset.Ico S E).sup g := by
  rcases (by omega : E ≤ S ∨ E = S + 1 ∨ E = S + 2 ∨ E = S + 3) with e | e | e | e
  · rw [if_neg (by omega), Finset.Ico_eq_empty (by omega), Finset.sup_empty]
  · subst e
    rw [if_pos (by omega), if_neg (by omega), if_neg (by omega), h0 (by omega)]
    simp
  · subst e
    rw [if_pos (by omega), if_neg (by omega), if_pos (by omega), h0 (by omega), h1 (by omega),
      show Finset.Ico S (S + 2) = {S, S + 1} by ext x; simp; omega]
    simp
  · subst e
    rw [if_pos (by omega), if_pos (by omega), if_pos (by omega), h0 (by omega), h1 (by omega), h2 (by omega),
      show Finset.Ico S (S + 3) = {S, S + 1, S + 2} by ext x; simp; omega]
    simp [sup_assoc, max_assoc]

/-- The maximum over the cells of a bin. -/
noncomputable def cellMax (G : ℕ → ℕ → EReal) (S E S' E' : ℕ) : EReal :=
  (Finset.Ico S E).sup fun y => (Finset.Ico S' E').sup fun x => G y x

/-- It is less than plus infinity where every cell is. -/
theorem cellMax_lt_top (G : ℕ → ℕ → EReal) (S E S' E' : ℕ) (h : ∀ y x, G y x < ⊤) : cellMax G S E S' E' < ⊤ :=
  (Finset.sup_lt_iff bot_lt_top).2 fun y _ => (Finset.sup_lt_iff bot_lt_top).2 fun x _ => h y x

/-- The two orders of axes. -/
theorem cellMax_comm (G : ℕ → ℕ → EReal) (S E S' E' : ℕ) :
    cellMax G S E S' E' = (Finset.Ico S' E').sup fun x => (Finset.Ico S E).sup fun y => G y x := Finset.sup_comm _ _ _

end Cert.RoiPool

end
-- ==== Proof.Bins.lean ====
/- Where a bin starts and stops, as numbers, over the extended reals. -/
module

public import proofs.«01_k».proof.Proof.Order
public import Idealize.ShloMosaic.Lib.IdealHost

@[expose] public section

noncomputable section

namespace Cert.RoiPool

open Idealize.ShloMosaic

/-- How many cells a RoI covers along an axis, from its first corner's coordinate to its last's. -/
def lenZ (lo hi : BitVec 32) : ℤ := max (hi.toInt - lo.toInt + 1) 1

/-- One axis of a RoI that starts on the map and covers at most fourteen cells. -/
def Axis (lo hi : BitVec 32) : Prop := (0 ≤ lo.toInt ∧ lo.toInt ≤ 200) ∧ 0 ≤ hi.toInt ∧ hi.toInt ≤ lo.toInt + 13

/-- The literal seven is the number seven. -/
theorem ofBits_seven : Ideal.ofBits .f32 1088421888#32 = ((7 : ℝ) : EReal) := by
  simp [Ideal.ofBits, Ideal.ieee, -EReal.coe_mul]; norm_num

/-- The literal minus infinity is the least extended real. -/
theorem ofBits_bot : Ideal.ofBits .f32 4286578688#32 = ⊥ := by
  simp [Ideal.ofBits, Ideal.ieee]

/-- The literal plus infinity is the greatest extended real. -/
theorem ofBits_top : Ideal.ofBits .f32 2139095040#32 = ⊤ := by
  simp [Ideal.ofBits, Ideal.ieee]

/-- A small whole number, turned into a word, reads as itself. -/
theorem fptosi_whole (z : ℤ) (h : -2147483648 ≤ z) (h' : z < 2147483648) : (Ideal.fptosi 32 ((z : ℝ) : EReal)).toInt = z := by
  have e : Ideal.toIntClamped (-(2 ^ (32 - 1) : Nat)) ((2 ^ (32 - 1) : Nat) - 1) ((z : ℝ) : EReal) = z := by
    show max _ (min _ (if 0 ≤ (z : ℝ) then ⌊(z : ℝ)⌋ else ⌈(z : ℝ)⌉)) = z
    rw [Int.floor_intCast, Int.ceil_intCast, ite_self]
    norm_num
    omega
  unfold Ideal.fptosi
  rw [e, BitVec.toInt_ofInt]
  exact Int.bmod_eq_of_le (by omega) (by omega)

/-- A word is converted to the integer it reads as. -/
theorem sitofp_eq (b : BitVec 32) : FloatOps.sitofp (F := Ideal) .f32 b = ((b.toInt : ℝ) : EReal) := rfl
/-- An extended real's conversion to a word is the ideal one. -/
theorem fptosi_eq (x : Ideal .f32) : FloatOps.fptosi (F := Ideal) 32 x = Ideal.fptosi 32 x := rfl

variable (lo hi : BitVec 32)

/-- A bin's extent is a seventh of the RoI's. -/
theorem binW_eq (h : Axis lo hi) : binW Ideal lo hi = (((lenZ lo hi : ℝ) / 7 : ℝ) : EReal) := by
  obtain ⟨⟨h0, h1⟩, h2, h3⟩ := h
  have e1 : (1#32 : BitVec 32).toInt = 1 := rfl
  have es := toInt_subi hi lo (by omega) (by omega)
  have ea := toInt_addi (IntOp.subi hi lo) 1#32 (by omega) (by omega)
  have em : (IntOp.maxsi (IntOp.addi (IntOp.subi hi lo) 1#32) 1#32).toInt = lenZ lo hi := by
    rw [toInt_maxsi, ea, es, e1]; rfl
  unfold binW
  show Ideal.div ((((IntOp.maxsi (IntOp.addi (IntOp.subi hi lo) 1#32) 1#32).toInt : ℝ)) : EReal) (Ideal.ofBits .f32 1088421888#32) = _
  rw [ofBits_seven, em]
  unfold Ideal.div
  rw [if_neg (by norm_cast), ← EReal.coe_inv, ← EReal.coe_mul, div_eq_mul_inv]

/-- A bin's number, as a word, is itself. -/
theorem toInt_small (q : ℕ) (hq : q < 7) : (BitVec.ofNat 32 q).toInt = q := by
  interval_cases q <;> rfl

/-- Where bin `q` starts: the RoI's first cell and `q` sevenths of its extent, rounded down, not beyond the map. -/
theorem startW_toInt (q : ℕ) (hq : q < 7) (h : Axis lo hi) :
    (startW Ideal lo hi q).toInt = min 200 (lo.toInt + q * lenZ lo hi / 7) := by
  have hb := binW_eq lo hi h
  obtain ⟨⟨h0, h1⟩, h2, h3⟩ := h
  have hl : 1 ≤ lenZ lo hi ∧ lenZ lo hi ≤ 14 := by unfold lenZ; omega
  have hz : 0 ≤ q * lenZ lo hi / 7 ∧ q * lenZ lo hi / 7 ≤ 14 := by interval_cases q <;> omega
  have hf : ⌊(q : ℝ) * ((lenZ lo hi : ℝ) / 7)⌋ = q * lenZ lo hi / 7 := by
    rw [Int.floor_eq_iff]
    have a1 : 7 * (q * lenZ lo hi / 7) ≤ q * lenZ lo hi := Int.mul_ediv_self_le (by norm_num)
    have a2 : q * lenZ lo hi < 7 * (q * lenZ lo hi / 7) + 7 := by omega
    have b1 : (7 : ℝ) * ((q * lenZ lo hi / 7 : ℤ) : ℝ) ≤ (q : ℝ) * (lenZ lo hi : ℝ) := by exact_mod_cast a1
    have b2 : (q : ℝ) * (lenZ lo hi : ℝ) < 7 * ((q * lenZ lo hi / 7 : ℤ) : ℝ) + 7 := by exact_mod_cast a2
    constructor <;> linarith
  have e : (FloatOps.fptosi (F := Ideal) (φ := .f32) 32 (FloatOps.hostUnary .floor (FloatOps.mulf (FloatOps.sitofp .f32 (BitVec.ofNat 32 q)) (binW Ideal lo hi)))).toInt
      = q * lenZ lo hi / 7 := by
    rw [hb]
    simp only [fptosi_eq, Ideal.hostUnary_floor_def, Ideal.mulf_def, sitofp_eq]
    rw [toInt_small q hq, ← EReal.coe_mul, Ideal.liftRound_coe, Int.cast_natCast, hf]
    exact fptosi_whole _ (by omega) (by omega)
  unfold startW
  rw [toInt_clipW, toInt_addi _ _ (by omega) (by omega), e]
  omega

/-- Where bin `q` stops: the RoI's first cell and `q + 1` sevenths of its extent, rounded up, not beyond the map. -/
theorem stopW_toInt (q : ℕ) (hq : q < 7) (h : Axis lo hi) :
    (stopW Ideal lo hi q).toInt = min 200 (lo.toInt + ((q + 1) * lenZ lo hi + 6) / 7) := by
  have hb := binW_eq lo hi h
  obtain ⟨⟨h0, h1⟩, h2, h3⟩ := h
  have hl : 1 ≤ lenZ lo hi ∧ lenZ lo hi ≤ 14 := by unfold lenZ; omega
  have hz : 0 ≤ (((q : ℤ) + 1) * lenZ lo hi + 6) / 7 ∧ (((q : ℤ) + 1) * lenZ lo hi + 6) / 7 ≤ 14 := by interval_cases q <;> omega
  have hf : ⌈((q : ℝ) + 1) * ((lenZ lo hi : ℝ) / 7)⌉ = ((q + 1) * lenZ lo hi + 6) / 7 := by
    rw [Int.ceil_eq_iff]
    have a1 : 7 * ((((q : ℤ) + 1) * lenZ lo hi + 6) / 7) ≤ (q + 1) * lenZ lo hi + 6 := Int.mul_ediv_self_le (by norm_num)
    have a2 : ((q : ℤ) + 1) * lenZ lo hi ≤ 7 * (((q + 1) * lenZ lo hi + 6) / 7) := by omega
    have b1 : (7 : ℝ) * (((((q : ℤ) + 1) * lenZ lo hi + 6) / 7 : ℤ) : ℝ) ≤ ((q : ℝ) + 1) * (lenZ lo hi : ℝ) + 6 := by exact_mod_cast a1
    have b2 : ((q : ℝ) + 1) * (lenZ lo hi : ℝ) ≤ 7 * (((((q : ℤ) + 1) * lenZ lo hi + 6) / 7 : ℤ) : ℝ) := by exact_mod_cast a2
    constructor <;> linarith
  have e : (FloatOps.fptosi (F := Ideal) (φ := .f32) 32 (FloatOps.hostUnary .ceil (FloatOps.mulf
      (FloatOps.addf (FloatOps.sitofp .f32 (BitVec.ofNat 32 q)) (FloatOps.ofBits .f32 1065353216#32)) (binW Ideal lo hi)))).toInt
      = ((q + 1) * lenZ lo hi + 6) / 7 := by
    rw [hb]
    simp only [fptosi_eq, Ideal.hostUnary_ceil_def, Ideal.mulf_def, Ideal.addf_def, sitofp_eq, Ideal.ofBits_def]
    rw [toInt_small q hq, Idealize.ShloMosaic.Ideal.ofBits_one_f32, show (1 : EReal) = ((1 : ℝ) : EReal) by norm_cast, ← EReal.coe_add, ← EReal.coe_mul, Ideal.liftRound_coe, Int.cast_natCast, hf]
    exact fptosi_whole _ (by omega) (by omega)
  unfold stopW
  rw [toInt_clipW, toInt_addi _ _ (by omega) (by omega), e]
  omega

/-- A bin starts within the RoI's first thirteen cells, stops within its first fourteen, and has at most three cells. -/
theorem bin_cells (q : ℕ) (hq : q < 7) (h : Axis lo hi) :
    min lo.toInt 200 ≤ (startW Ideal lo hi q).toInt ∧ (startW Ideal lo hi q).toInt ≤ min 200 (lo.toInt + 12)
      ∧ 0 ≤ (stopW Ideal lo hi q).toInt ∧ (stopW Ideal lo hi q).toInt ≤ min 200 (lo.toInt + 14)
      ∧ (stopW Ideal lo hi q).toInt ≤ (startW Ideal lo hi q).toInt + 3 := by
  rw [startW_toInt lo hi q hq h, stopW_toInt lo hi q hq h]
  obtain ⟨⟨h0, h1⟩, h2, h3⟩ := h
  have hl : 1 ≤ lenZ lo hi ∧ lenZ lo hi ≤ 14 := by unfold lenZ; omega
  interval_cases q <;> omega

end Cert.RoiPool

end
-- ==== Proof.Cells.lean ====
/- The kernel body's arithmetic at one element, over the extended reals. -/
module

public import proofs.«01_k».proof.Proof.Values
public import proofs.«01_k».proof.Proof.Sups
public import proofs.«01_k».proof.Proof.Bins
public import Idealize.ShloMosaic.Lib.Pointwise

@[expose] public section

set_option maxRecDepth 16384

noncomputable section

namespace Cert.RoiPool

open Idealize.ShloMosaic Idealize.ShloMosaic.Tactic Cert.KernelIdeal

/-- The test of order, as numbers. -/
theorem slt_iff (x y : BitVec 32) : IntOp.cmpi .slt x y = 1#1 ↔ x.toInt < y.toInt := by
  show BitVec.ofBool (x.slt y) = 1#1 ↔ _
  rw [BitVec.slt_eq_decide]
  by_cases h : x.toInt < y.toInt <;> simp [h]

/-- A choice made by a test of order. -/
theorem select_sge {α : Type} (x y : BitVec 32) (a b : α) : Scalar.select (IntOp.cmpi .sge x y) a b = if y.toInt ≤ x.toInt then a else b :=
  if_congr (sge_iff x y) rfl rfl

/-- A choice made by whether a word lies between two others. -/
theorem select_mask {α : Type} (x lo hi : BitVec 32) (a b : α) :
    Scalar.select (IntOp.andi (IntOp.cmpi .sge x lo) (IntOp.cmpi .slt x hi)) a b
      = if lo.toInt ≤ x.toInt ∧ x.toInt < hi.toInt then a else b :=
  if_congr (IntOp.andi_eq_one.trans (and_congr (sge_iff x lo) (slt_iff x hi))) rfl rfl

/-- The body's last step: a bin's maximum, or zero where the bin is empty. -/
theorem outRoi_at (v : Vec Ideal S1x49x256 .f32) (ch : Fin 256) (k : Fin 49) :
    outRoi v (ix3 0 ch k) = if v (ix3 0 k ch) = (⊥ : EReal) then (0 : EReal) else v (ix3 0 k ch) := by
  unfold outRoi
  pointwise
  rw [ofBits_bot]

/-- The maximum over a bin's columns, guarded by how many columns the bin has. -/
theorem colMax_at (span : BitVec 32) (a0 a1 a2 : Vec Ideal S1x14x1x256 .f32) (y : Fin 14) (ch : Fin 256) :
    colMax span a0 a1 a2 (ix4 0 y 0 ch) =
      (if 1 ≤ span.toInt then
        (if 3 ≤ span.toInt then
          max (if 2 ≤ span.toInt then max (a0 (ix4 0 y 0 ch)) (a1 (ix4 0 y 0 ch)) else a0 (ix4 0 y 0 ch) : EReal) (a2 (ix4 0 y 0 ch))
        else (if 2 ≤ span.toInt then max (a0 (ix4 0 y 0 ch)) (a1 (ix4 0 y 0 ch)) else a0 (ix4 0 y 0 ch)))
      else ⊥) := by
  unfold colMax
  pointwise
  simp only [Scalar.cmpi, select_sge, ofBits_bot]
  rfl

/-- The maximum over a bin's rows, of the three loaded. -/
theorem rowMax_at (lo hi : BitVec 32) (b : Vec Ideal S1x3x7x256 .f32) (q : Fin 7) (ch : Fin 256) :
    rowMax lo hi b (ix3 0 q ch) =
      Finset.univ.sup fun i : Fin 3 => if lo.toInt ≤ i.val ∧ (i.val : ℤ) < hi.toInt then (b (ix4 0 i q ch) : EReal) else ⊥ := by
  unfold rowMax
  pointwise
  simp only [Scalar.cmpi, select_mask, ofBits_bot]
  refine (fold_sup _ _).trans (Finset.sup_congr rfl fun i _ => ?_)
  have e : (BitVec.ofNat 32 i.val).toInt = i.val := by revert i; decide
  rw [e]

end Cert.RoiPool

end
-- ==== Proof.Small.lean ====
/- What the second precondition, `rois_small`, says of each RoI's words. -/
module

public import proofs.«01_k».proof.Proof.Inputs
public import proofs.«01_k».proof.Pre_rois_small

@[expose] public section

set_option maxRecDepth 16384

noncomputable section

/-- The side conditions under which the precondition is stated. -/
theorem Cert.RoiPool.smallFacts : Cert.Pre_rois_small.Facts := by
  constructor <;> decide

namespace Cert.RoiPool

open Idealize.ShloMosaic Idealize.ShloMosaic.Tactic

variable {F : FTy → Type} [FloatOps F]

/-- What `rois_small` says of one RoI: its image, its first corner on the map, its last corner at most thirteen cells on. -/
def Small (b x1 y1 x2 y2 : BitVec 32) : Prop :=
  (0 ≤ b.toInt ∧ b.toInt ≤ 1) ∧ (0 ≤ x1.toInt ∧ x1.toInt ≤ 200) ∧ (0 ≤ y1.toInt ∧ y1.toInt ≤ 200)
    ∧ (0 ≤ x2.toInt ∧ x2.toInt ≤ (IntOp.addi x1 13#32).toInt) ∧ (0 ≤ y2.toInt ∧ y2.toInt ≤ (IntOp.addi y1 13#32).toInt)

attribute [local instance] smallFacts in
/-- Where `rois_small` is all ones, every RoI is small and every cell of the map is less than plus infinity. -/
theorem small (a : FVec F Cert.Pre_rois_small.S1024x13 .f32) (f : FVec F Cert.Pre_rois_small.S2x256x200x200 .f32)
    (s : IVec Cert.Pre_rois_small.S_ 32) (h : Cert.Pre_rois_small.fn a f s = fun _ => 1#1) :
    (∀ n : Fin 1024, Small (imgW F a n) (cornerW F a (s ix0) n 1) (cornerW F a (s ix0) n 2) (cornerW F a (s ix0) n 3) (cornerW F a (s ix0) n 4))
    ∧ ∀ i, FloatOps.cmpf .olt (f i) (FloatOps.ofBits .f32 0x7F800000#32) = 1#1 := by
  have h0 := congrFun h ix0
  haveI : Subsingleton Cert.Pre_rois_small.S_.Idx := ⟨fun x y => by funext i; exact i.elim0⟩
  simp only [Cert.Pre_rois_small.fn, Cert.Pre_rois_small.fn_part1, Cert.Pre_rois_small.fn_part2, Cert.Pre_rois_small.fn_part3, Cert.Pre_rois_small.fn_part4, Cert.Pre_rois_small.fn_part5] at h0
  obtain ⟨h1, hf⟩ := IntOp.andi_eq_one.1 h0
  obtain ⟨hc, hh⟩ := IntOp.andi_eq_one.1 h1
  have hf := Host.reduce_andi_all _ _ _ _ _ hf
  refine ⟨fun n => ?_, fun i => ?_⟩
  · have hc := Host.reduce_andi_all _ _ _ _ _ hc (ix1 n)
    have hh := Host.reduce_andi_all _ _ _ _ _ hh (ix1 n)
    simp only [Cert.Pre_rois_small.fn_round, id] at hc hh
    obtain ⟨hc, b6⟩ := IntOp.andi_eq_one.1 hc
    obtain ⟨hc, b5⟩ := IntOp.andi_eq_one.1 hc
    obtain ⟨hc, b4⟩ := IntOp.andi_eq_one.1 hc
    obtain ⟨hc, b3⟩ := IntOp.andi_eq_one.1 hc
    obtain ⟨b1, b2⟩ := IntOp.andi_eq_one.1 hc
    obtain ⟨hh, b10⟩ := IntOp.andi_eq_one.1 hh
    obtain ⟨hh, b9⟩ := IntOp.andi_eq_one.1 hh
    obtain ⟨b7, b8⟩ := IntOp.andi_eq_one.1 hh
    have b1 := (sge_iff _ _).1 b1
    have b2 := (sle_iff _ _).1 b2
    have b3 := (sge_iff _ _).1 b3
    have b4 := (sle_iff _ _).1 b4
    have b5 := (sge_iff _ _).1 b5
    have b6 := (sle_iff _ _).1 b6
    have b7 := (sge_iff _ _).1 b7
    have b8 := (sle_iff _ _).1 b8
    have b9 := (sge_iff _ _).1 b9
    have b10 := (sle_iff _ _).1 b10
    pointwise at b1 b2 b3 b4 b5 b6 b7 b8 b9 b10
    exact ⟨⟨b1, b2⟩, ⟨b3, b4⟩, ⟨b5, b6⟩, ⟨b7, b8⟩, ⟨b9, b10⟩⟩
  · exact hf i

end Cert.RoiPool

end
-- ==== Proof.Result.lean ====
/- What the kernel's result holds where every RoI starts on the map and covers at most fourteen cells along each axis: each
   bin's maximum over its cells, or zero where the bin is empty. -/
module

public import proofs.«01_k».proof.Proof.Cells
public import proofs.«01_k».proof.Proof.Small

@[expose] public section

set_option maxRecDepth 16384
set_option maxHeartbeats 1000000

noncomputable section

namespace Cert.RoiPool

open Idealize.ShloMosaic Idealize.ShloMosaic.TcCoe Idealize.ShloMosaic.Tactic
open Cert.KernelIdeal Cert.KernelIdeal.Gen

/-- Channel `ch` of image `b` at row `y` and column `x`. -/
def cell (f : S2x256x200x200.Idx → EReal) (b : ℕ) (ch : Fin 256) (y x : ℕ) : EReal :=
  f (ix4 (Fin.ofNat 2 b) ch (Fin.ofNat 200 y) (Fin.ofNat 200 x))

/-- Where a bin starts along an axis, as a natural number. -/
def startN (lo hi : BitVec 32) (q : ℕ) : ℕ := (startW Ideal lo hi q).toInt.toNat
/-- Where a bin stops along an axis, as a natural number. -/
def stopN (lo hi : BitVec 32) (q : ℕ) : ℕ := (stopW Ideal lo hi q).toInt.toNat

/-- The maximum over the cells of bin row `p` and bin column `q`. -/
def binMax (f : S2x256x200x200.Idx → EReal) (b x1 y1 x2 y2 : BitVec 32) (ch : Fin 256) (p q : ℕ) : EReal :=
  cellMax (cell f b.toInt.toNat ch) (startN y1 y2 p) (stopN y1 y2 p) (startN x1 x2 q) (stopN x1 x2 q)

/-- What a bin pools to. -/
def pooled (f : S2x256x200x200.Idx → EReal) (b x1 y1 x2 y2 : BitVec 32) (ch : Fin 256) (p q : ℕ) : EReal :=
  if binMax f b x1 y1 x2 y2 ch p q = ⊥ then 0 else binMax f b x1 y1 x2 y2 ch p q

/-- A small RoI's two axes. -/
theorem Small.axes {b x1 y1 x2 y2 : BitVec 32} (h : Small b x1 y1 x2 y2) : Axis x1 x2 ∧ Axis y1 y2 := by
  obtain ⟨-, hx, hy, hx', hy'⟩ := h
  have e : (13#32 : BitVec 32).toInt = 13 := rfl
  have ex := toInt_addi x1 13#32 (by omega) (by omega)
  have ey := toInt_addi y1 13#32 (by omega) (by omega)
  exact ⟨⟨hx, by omega⟩, ⟨hy, by omega⟩⟩

/-- A small RoI is on the map. -/
theorem Small.onMap {b x1 y1 x2 y2 : BitVec 32} (h : Small b x1 y1 x2 y2) : OnMap Ideal b x1 y1 x2 y2 :=
  ⟨h.1.1, h.1.2, h.2.1.1, h.2.2.1.1, fun p hp => (bin_cells y1 y2 p hp h.axes.2).1, fun q hq => (bin_cells x1 x2 q hq h.axes.1).1⟩

variable (m : (ℓ : Loc nD τ sig) → Buf (Elt Ideal) ℓ) (c : Dev nD) (n : Fin 1024)

/-- RoI `n`'s words. -/
def SmallAt : Prop := Small (iw m c n) (cw m c n 1) (cw m c n 2) (cw m c n 3) (cw m c n 4)

/-- The map. -/
def featOf : S2x256x200x200.Idx → EReal := m (c, Proc.tc.devRef main_arg1)

variable {m c n} (h : SmallAt m c n)
include h

/-- A RoI's block, as the table has it: its first row and column. -/
theorem crop_facts :
    (tabAt (tab m c) n.val 0).toNat = (iw m c n).toInt.toNat * 200 + (min (cw m c n 2).toInt 186).toNat
    ∧ (iw m c n).toInt.toNat < 2 ∧ (min (cw m c n 2).toInt 186).toNat ≤ 186
    ∧ (tabAt (tab m c) n.val 1).toNat = (xsW (cw m c n 1)).toInt.toNat ∧ (xsW (cw m c n 1)).toInt.toNat ≤ 176 := by
  have hm := h.onMap
  have e0 := row0_toInt m c n hm
  have e1 := toInt_xsW (cw m c n 1) hm.2.2.1
  have e2 := tab_col0 m c n
  obtain ⟨⟨b0, b1⟩, ⟨x0, x1⟩, ⟨y0, y1⟩, -⟩ := h
  clear hm
  rw [← e2] at e1 ⊢
  have n0 := toNat_of_nonneg _ (show 0 ≤ (tabAt (tab m c) n.val 0).toInt by omega)
  have n1 := toNat_of_nonneg _ (show 0 ≤ (tabAt (tab m c) n.val 1).toInt by omega)
  clear e2
  generalize (tabAt (tab m c) n.val 0).toNat = r at *
  generalize (tabAt (tab m c) n.val 0).toInt = r' at *
  generalize (tabAt (tab m c) n.val 1).toNat = t at *
  generalize (tabAt (tab m c) n.val 1).toInt = t' at *
  generalize (iw m c n).toInt = b at *
  generalize (cw m c n 2).toInt = y at *
  generalize (cw m c n 1).toInt = x at *
  exact ⟨by omega, by omega, by omega, by omega, by omega⟩

/-- The crop holds the map's cells from the block's first row and column. -/
theorem crop_cell (y x : ℕ) (hy : y < 14) (hx : x < 24) (ch : Fin 256) :
    cropVal (tab m c) (ff m c) n.val y x ch
      = cell (featOf m c) (iw m c n).toInt.toNat ch ((min (cw m c n 2).toInt 186).toNat + y) ((xsW (cw m c n 1)).toInt.toNat + x) := by
  obtain ⟨f0, f1, f2, f3, f4⟩ := crop_facts h
  unfold cropVal cell featOf
  rw [← ix3_eq_valueIdx, f0, f3]
  refine (v154_at m c _ _ _).trans ?_
  clear f0 f3 h
  generalize (iw m c n).toInt.toNat = b at *
  generalize (min (cw m c n 2).toInt 186).toNat = Y at *
  generalize (xsW (cw m c n 1)).toInt.toNat = X at *
  have d0 : (⟨(Fin.ofNat 400 (b * 200 + Y + y)).val / 200, by omega⟩ : Fin 2) = Fin.ofNat 2 b := Fin.ext (by simp only [Fin.ofNat]; omega)
  have d1 : (⟨(Fin.ofNat 400 (b * 200 + Y + y)).val % 200, by omega⟩ : Fin 200) = Fin.ofNat 200 (Y + y) := Fin.ext (by simp only [Fin.ofNat]; omega)
  rw [d0, d1]

/-- Bin column `q`'s maxima are over the cells between the bin's start and its stop. -/
theorem col_cells (q : Fin 7) (y : Fin 14) (ch : Fin 256) :
    colVal (tab m c) (ff m c) n.val q.val (ix4 0 y 0 ch)
      = (Finset.Ico (startN (cw m c n 1) (cw m c n 3) q.val) (stopN (cw m c n 1) (cw m c n 3) q.val)).sup fun x =>
          cell (featOf m c) (iw m c n).toInt.toNat ch ((min (cw m c n 2).toInt 186).toNat + y.val) x := by
  have hm := h.onMap
  have e1 := toInt_xsW (cw m c n 1) hm.2.2.1
  have hb := bin_cells _ _ q.val q.isLt h.axes.1
  have es := cs_toInt m c n q.val hm.2.2.1
  have ee := ce_toInt m c n q.val hm.2.2.1
  obtain ⟨⟨b0, b1⟩, ⟨x0, x1⟩, ⟨y0, y1⟩, -⟩ := id h
  have a1 := toInt_addi (csW m c n q.val) 1#32 (by rw [show (1#32 : BitVec 32).toInt = 1 from rfl]; omega) (by rw [show (1#32 : BitVec 32).toInt = 1 from rfl]; omega)
  have a2 := toInt_addi (csW m c n q.val) 2#32 (by rw [show (2#32 : BitVec 32).toInt = 2 from rfl]; omega) (by rw [show (2#32 : BitVec 32).toInt = 2 from rfl]; omega)
  rw [show (1#32 : BitVec 32).toInt = 1 from rfl] at a1
  rw [show (2#32 : BitVec 32).toInt = 2 from rfl] at a2
  have t0 := congrArg BitVec.toInt (tab_c0 m c n q)
  have t1 := congrArg BitVec.toInt (tab_c1 m c n q)
  have t2 := congrArg BitVec.toInt (tab_c2 m c n q)
  have t3 := congrArg BitVec.toInt (tab_span m c n q)
  rw [toInt_minsi, show (23#32 : BitVec 32).toInt = 23 from rfl] at t0 t1 t2
  rw [toInt_subi _ _ (by omega) (by omega)] at t3
  have m0 := toNat_of_nonneg _ (show 0 ≤ (tabAt (tab m c) n.val (16 + 4 * q.val)).toInt by omega)
  have m1 := toNat_of_nonneg _ (show 0 ≤ (tabAt (tab m c) n.val (17 + 4 * q.val)).toInt by omega)
  have m2 := toNat_of_nonneg _ (show 0 ≤ (tabAt (tab m c) n.val (18 + 4 * q.val)).toInt by omega)
  unfold startN stopN
  unfold colVal
  rw [colMax_at]
  rw [← sup_chain _ _ (by omega) _ _ _ _ (fun h0 => ?_) (fun h1 => ?_) (fun h2 => ?_)]
  · refine if_congr (by omega) (if_congr (by omega) (congrArg₂ max (if_congr (by omega) rfl rfl) rfl) (if_congr (by omega) rfl rfl)) rfl
  · exact (crop_cell h _ _ y.isLt (by omega) ch).trans (congrArg (cell (featOf m c) (iw m c n).toInt.toNat ch _) (by omega))
  · exact (crop_cell h _ _ y.isLt (by omega) ch).trans (congrArg (cell (featOf m c) (iw m c n).toInt.toNat ch _) (by omega))
  · exact (crop_cell h _ _ y.isLt (by omega) ch).trans (congrArg (cell (featOf m c) (iw m c n).toInt.toNat ch _) (by omega))

omit h in
/-- RoI `n` among the grid point's thirty-two. -/
theorem point_roi : 32 * (n.val / 32) + n.val % 32 = n.val := by omega

/-- Bin row `p`'s rows, as the table has them: the first row loaded, and which of the three loaded lie in the bin. -/
theorem row_facts (p : Fin 7) :
    (min (cw m c n 2).toInt 186).toNat + (tabAt (tab m c) n.val (44 + 3 * p.val)).toNat ≤ startN (cw m c n 2) (cw m c n 4) p.val
    ∧ stopN (cw m c n 2) (cw m c n 4) p.val ≤ (min (cw m c n 2).toInt 186).toNat + (tabAt (tab m c) n.val (44 + 3 * p.val)).toNat + 3
    ∧ (tabAt (tab m c) n.val (44 + 3 * p.val)).toNat + 3 ≤ 14
    ∧ ∀ i : ℕ, ((tabAt (tab m c) n.val (45 + 3 * p.val)).toInt ≤ i ∧ (i : ℤ) < (tabAt (tab m c) n.val (46 + 3 * p.val)).toInt)
        ↔ (startN (cw m c n 2) (cw m c n 4) p.val ≤ (min (cw m c n 2).toInt 186).toNat + (tabAt (tab m c) n.val (44 + 3 * p.val)).toNat + i
          ∧ (min (cw m c n 2).toInt 186).toNat + (tabAt (tab m c) n.val (44 + 3 * p.val)).toNat + i < stopN (cw m c n 2) (cw m c n 4) p.val) := by
  have hm := h.onMap
  have hb := bin_cells _ _ p.val p.isLt h.axes.2
  have es := rs_toInt m c n p.val hm.2.2.2.1
  have ee := re_toInt m c n p.val hm.2.2.2.1
  have y0 := h.2.2.1.1
  have y1 := h.2.2.1.2
  clear hm h
  have t0 := congrArg BitVec.toInt (tab_r0 m c n p)
  have t1 := congrArg BitVec.toInt (tab_lo m c n p)
  have t2 := congrArg BitVec.toInt (tab_hi m c n p)
  have em : (IntOp.minsi (rsW m c n p.val) 11#32).toInt = min (rsW m c n p.val).toInt 11 := toInt_minsi _ _
  rw [em] at t0
  rw [toInt_subi _ _ (by omega) (by omega), em] at t1 t2
  have m0 := toNat_of_nonneg _ (show 0 ≤ (tabAt (tab m c) n.val (44 + 3 * p.val)).toInt by omega)
  unfold startN stopN
  generalize (tabAt (tab m c) n.val (44 + 3 * p.val)).toNat = r0 at *
  generalize (tabAt (tab m c) n.val (44 + 3 * p.val)).toInt = r0' at *
  generalize (tabAt (tab m c) n.val (45 + 3 * p.val)).toInt = lo at *
  generalize (tabAt (tab m c) n.val (46 + 3 * p.val)).toInt = hi at *
  generalize (startW Ideal (cw m c n 2) (cw m c n 4) p.val).toInt = S at *
  generalize (stopW Ideal (cw m c n 2) (cw m c n 4) p.val).toInt = E at *
  generalize (rsW m c n p.val).toInt = rs at *
  generalize (reW m c n p.val).toInt = re at *
  generalize (cw m c n 2).toInt = y at *
  clear em
  exact ⟨by omega, by omega, by omega, fun i => by omega⟩

/-- Bin row `p` and column `q`'s maximum is over the bin's cells. -/
theorem row_cells (p q : Fin 7) (ch : Fin 256) :
    rowVal (tab m c) (ff m c) (n.val / 32) ⟨n.val % 32, by omega⟩ p.val (ix3 0 q ch)
      = binMax (featOf m c) (iw m c n) (cw m c n 1) (cw m c n 2) (cw m c n 3) (cw m c n 4) ch p.val q.val := by
  obtain ⟨f0, f1, f2, f3⟩ := row_facts h p
  have e := fun y => col_cells h q y ch
  unfold rowVal
  dsimp only
  rw [point_roi, rowMax_at]
  unfold binMax cellMax
  refine sup_masked 3 _ _ _ f0 f1 _ _ (fun i hi hi' => ?_) (fun i hi => if_neg fun hc => hi ((f3 i.val).1 hc))
  rw [if_pos ((f3 i.val).2 ⟨hi, hi'⟩), Nat.add_assoc]
  refine Eq.trans ?_ (e ⟨_, (Nat.add_lt_add_left i.isLt _).trans_le f2⟩)
  unfold slabOf colBuf
  show colVal _ _ (32 * (n.val / 32) + n.val % 32) q.val _ = _
  rw [point_roi]
  refine congrArg (colVal _ _ _ _) ?_
  show ix4 0 (Fin.ofNat 14 _) 0 ch = _
  refine congrArg (fun y => ix4 0 y 0 ch) (Fin.ext (Nat.mod_eq_of_lt ?_))
  exact (Nat.add_lt_add_left i.isLt _).trans_le f2

/-- The result's block holds each bin's pooled value. -/
theorem out_cells (ch : Fin 256) (k : Fin 49) :
    outBuf (tab m c) (ff m c) (n.val / 32) (ix3 ⟨n.val % 32, by omega⟩ ch k)
      = pooled (featOf m c) (iw m c n) (cw m c n 1) (cw m c n 2) (cw m c n 3) (cw m c n 4) ch (k.val / 7) (k.val % 7) := by
  have e := row_cells h ⟨k.val / 7, by omega⟩ ⟨k.val % 7, by omega⟩ ch
  unfold outBuf
  show outRoi _ (ix3 0 ch k) = _
  rw [outRoi_at]
  unfold pooled
  rw [← e]
  rfl

end Cert.RoiPool

end
-- ==== Proof.Final.lean ====
/- The result array after the run, put together from the blocks the grid's points leave. -/
module

public import proofs.«01_k».proof.Proof.Result
public import proofs.«01_k».proof.Proof.Runs
public import Idealize.ShloMosaic.Lib.Pipeline.ValueKit

@[expose] public section

set_option maxRecDepth 16384

noncomputable section

namespace Cert.RoiPool

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ)

/-- The result array: RoI `n`'s entries are those of its grid point's block. -/
def result (c : Dev nD) : S1024x256x49.Idx → Elt F .f32 := fun i =>
  outBuf (tab m c) (ff m c) ((i 0).val / 32) (ix3 ⟨(i 0).val % 32, Nat.mod_lt _ (by decide)⟩ (i 1) (i 2))

/-- A point's block is its thirty-two RoIs', -/
theorem map_at : ∀ (t : Fin grid0.N) (a : Fin 3), cc0_transform_1 (grid0.coords t) a = (![t.val, 0, 0] : Fin 3 → ℕ) a := by
  decide +kernel

/-- and it is written back. -/
theorem flush_at : ∀ t : Fin grid0.N, Pipeline.Window.flushOf grid0 true cc0_transform_1 t = true := by
  decide +kernel

/-- The grid has 32 points. -/
theorem points : grid0.N = 32 := by decide

/-- Every entry of the array is in some point's block. -/
theorem cover (i : S1024x256x49.Idx) :
    ∃ t : Fin (cfgA m).N, ((cfgA m).win 0).flush t = true ∧ i ∈ (((cfgA m).win 0).blk t).view.set := by
  have h0 : (i 0).val < 1024 := (i 0).isLt
  have hN := points
  let t : Fin grid0.N := ⟨(i 0).val / 32, by omega⟩
  refine ⟨t, flush_at _, ?_⟩
  show i ∈ ((View.whole main_v155).slice (((cfgA m).win 0).rect t)).set
  erw [View.set_slice_whole]
  refine (Pipeline.Window.mem_rect_iff ((cfgA m).win 0) t i rfl).mpr fun a => ?_
  have key : ∀ a : Fin 3, cc0_transform_1 (grid0.coords t) a * S32x256x49.size a ≤ (i a).val
      ∧ (i a).val < cc0_transform_1 (grid0.coords t) a * S32x256x49.size a + S32x256x49.size a := by
    intro a
    rw [map_at]
    have hi := (i a).isLt
    match a with
    | 0 => show (i 0).val / 32 * 32 ≤ (i 0).val ∧ (i 0).val < (i 0).val / 32 * 32 + 32; omega
    | 1 => show 0 * 256 ≤ (i 1).val ∧ (i 1).val < 0 * 256 + 256; exact ⟨by omega, by simpa using hi⟩
    | 2 => show 0 * 49 ≤ (i 2).val ∧ (i 2).val < 0 * 49 + 49; exact ⟨by omega, by simpa using hi⟩
  exact key a

/-- An entry of the array is the entry of its point's block. -/
theorem result_block (c : Dev nD) (t : ℕ) (y : S32x256x49.Idx) (z : S1024x256x49.Idx) (e0 : (z 0).val = t * 32 + (y 0).val)
    (e1 : (z 1).val = (y 1).val) (e2 : (z 2).val = (y 2).val) : outBuf (tab m c) (ff m c) t y = result m c z := by
  have hy : (y 0).val < 32 := (y 0).isLt
  unfold result
  rw [show (z 0).val / 32 = t by omega]
  refine congrArg _ (funext fun a => ?_)
  match a with
  | 0 => exact Fin.ext (show (y 0).val = (z 0).val % 32 by omega)
  | 1 => exact Fin.ext e1.symm
  | 2 => exact Fin.ext e2.symm

/-- The run leaves the result array whole. -/
theorem final (c : Dev nD) : (dats m 0 c).arrAt 0 (cfgA m).N = result m c := by
  refine (dats m 0 c).arrAt_eq_of_emb 0 (result m c) (fun t hf y => ?_) (cover m)
  blk_simp
  rw [after_eq]
  have e : ∀ a : Fin 3, (((((cfgA m).win 0).blk t).view.emb y : S1024x256x49.Idx) a).val
      = cc0_transform_1 (grid0.coords t) a * S32x256x49.size a + ((y : S32x256x49.Idx) a).val := fun a => by
    blk_simp
    rfl
  refine result_block m c t.val y _ ((e 0).trans ?_) ((e 1).trans ?_) ((e 2).trans ?_)
  · rw [map_at]; rfl
  · rw [map_at]; exact Nat.zero_add _
  · rw [map_at]; exact Nat.zero_add _

/-- Under `rois_small` the result array holds each bin's pooled value. -/
theorem result_at (m : (ℓ : Loc nD τ sig) → Buf (Elt Ideal) ℓ) (c : Dev nD) (n : Fin 1024) (h : SmallAt m c n) (ch : Fin 256) (k : Fin 49) :
    result m c (ix3 n ch k)
      = pooled (featOf m c) (iw m c n) (cw m c n 1) (cw m c n 2) (cw m c n 3) (cw m c n 4) ch (k.val / 7) (k.val % 7) :=
  out_cells h ch k

/-- The idealized kernel's run under `rois_small`: the result array whole, the arguments kept, every semaphore at zero. -/
theorem kernel_value (m : (ℓ : Loc nD τ sig) → Buf (Elt Ideal) ℓ) (g : Dev nD → PrngReg) (h : ∀ c n, SmallAt m c n) :
    θ_run (defs (F := Ideal)) (onTc (τ := τ) (main (F := Ideal))) ⟨m, fun _ => 0, g⟩ (fun r =>
      (∀ c : Dev nD, r.2.mem ((c.tc : Thread nD τ).loc main_v155) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  have ok : ∀ c, TabOK (tab m c) := fun c => tabOK m c fun n => (h c n).onMap
  exact θ_run_mono (run_main m g ok) fun r hr => ⟨fun c => ⟨((hr.1 c).1 0).trans (final m c), args_kept m r hr.1 c⟩, hr.2⟩

end Cert.RoiPool

end
-- ==== Proof.RefHead.lean ====
/- What the reference's first operations leave in the arrays that its pooling reads: where the bins start and stop, the rows
   and columns of the window, and the places in the map that the window is read from. -/
module

public import proofs.«01_k».proof.Proof.RefList
public import proofs.«01_k».proof.Proof.Words
public import Idealize.ShloMosaic.Lib.Pointwise

@[expose] public section

set_option maxRecDepth 16384

noncomputable section

namespace Cert.RoiPool.Ref

open Idealize.ShloMosaic Idealize.ShloMosaic.TcCoe Idealize.ShloMosaic.Tactic
open Cert.ReferenceIdeal Cert.ReferenceIdeal.Gen

variable {F : FTy → Type} [FloatOps F]
variable (m : (ℓ : Loc nD τ sig) → Buf (Elt F) ℓ) (c : Dev nD)

/-- What the first operations leave in a buffer of a device. -/
def A (b : Ref sig .tc) : (b.ty).Contents (Elt F) :=
  StableHlo.after (opsA (F := F)) (StableHlo.launchContents m c) (Proc.devRef .tc b)

/-- RoI `n`'s corner coordinates and image. -/
abbrev cwR (n : Fin 1024) (k : Fin 13) : BitVec 32 := cornerW F (m (c, Proc.tc.devRef main_arg0)) (m (c, Proc.tc.devRef main_arg2) ix0) n k
/-- The image of RoI `n`. -/
abbrev iwR (n : Fin 1024) : BitVec 32 := imgW F (m (c, Proc.tc.devRef main_arg0)) n

/-- The map is as it was. -/
theorem A_arg1 : A m c main_arg1 = m (c, Proc.tc.devRef main_arg1) := by
  unfold A
  after_reads_at

/-- The rows of RoI `n`'s window, -/
theorem v104_at (n : Fin 1024) (y : Fin 16) : A m c main_v104 (ix2 n y) = IntOp.addi (cwR m c n 2) (BitVec.ofNat 32 y.val) := by
  unfold A
  after_reads_at
  simp only [id]
  pointwise
  rfl

/-- and its columns. -/
theorem v110_at (n : Fin 1024) (x : Fin 16) : A m c main_v110 (ix2 n x) = IntOp.addi (cwR m c n 1) (BitVec.ofNat 32 x.val) := by
  unfold A
  after_reads_at
  simp only [id]
  pointwise
  rfl

/-- Where the bin rows start and stop, -/
theorem v61_at (n : Fin 1024) (p : Fin 7) : A m c main_v61 (ix2 n p) = startW F (cwR m c n 2) (cwR m c n 4) p.val := by
  unfold A
  after_reads_at
  simp only [id]
  pointwise
  rfl
/-- The stop of bin row `p` of RoI `n`. -/
theorem v74_at (n : Fin 1024) (p : Fin 7) : A m c main_v74 (ix2 n p) = stopW F (cwR m c n 2) (cwR m c n 4) p.val := by
  unfold A
  after_reads_at
  simp only [id]
  pointwise
  rfl

/-- and the bin columns. -/
theorem v85_at (n : Fin 1024) (q : Fin 7) : A m c main_v85 (ix2 n q) = startW F (cwR m c n 1) (cwR m c n 3) q.val := by
  unfold A
  after_reads_at
  simp only [id]
  pointwise
  rfl
/-- The stop of bin column `q` of RoI `n`. -/
theorem v98_at (n : Fin 1024) (q : Fin 7) : A m c main_v98 (ix2 n q) = stopW F (cwR m c n 1) (cwR m c n 3) q.val := by
  unfold A
  after_reads_at
  simp only [id]
  pointwise
  rfl

/-- An index read from the end of the axis, of length `k`, where it is negative. -/
def wrapW (w k : BitVec 32) : BitVec 32 := Scalar.select (IntOp.cmpi .slt w 0#32) (IntOp.addi w k) w

/-- The window's `i`-th row or column, kept on the map. -/
def placeW (lo : BitVec 32) (i : ℕ) : BitVec 32 := IntOp.minsi 199#32 (IntOp.maxsi 0#32 (IntOp.addi lo (BitVec.ofNat 32 i)))

/-- The image, row and column that each place of the window is read from. -/
theorem v137_0 (n : Fin 1024) (y x : Fin 16) : A m c main_v137 (ix4 n y x 0) = wrapW (iwR m c n) 2#32 := by
  unfold A
  after_reads_at
  after_reads_at
  pointwise
  rfl
/-- The gather's second index: the window's row, kept on the map. -/
theorem v137_1 (n : Fin 1024) (y x : Fin 16) : A m c main_v137 (ix4 n y x 1) = wrapW (placeW (cwR m c n 2) y.val) 200#32 := by
  unfold A
  after_reads_at
  after_reads_at
  simp only [id]
  pointwise
  rfl
/-- The gather's third index: the window's column, kept on the map. -/
theorem v137_2 (n : Fin 1024) (y x : Fin 16) : A m c main_v137 (ix4 n y x 2) = wrapW (placeW (cwR m c n 1) x.val) 200#32 := by
  unfold A
  after_reads_at
  after_reads_at
  simp only [id]
  pointwise
  rfl

end Cert.RoiPool.Ref

end
-- ==== Proof.RefTail.lean ====
/- The reference's last operations at one element of the result: the two masked maxima over the window, and the reading of the
   map at a place. -/
module

public import proofs.«01_k».proof.Proof.RefList
public import proofs.«01_k».proof.Proof.Cells
public import Idealize.ShloMosaic.Lib.Pointwise

@[expose] public section

set_option maxRecDepth 16384

noncomputable section

namespace Cert.RoiPool.Ref

open Idealize.ShloMosaic Idealize.ShloMosaic.TcCoe Idealize.ShloMosaic.Tactic
open Cert.ReferenceIdeal Cert.ReferenceIdeal.Gen

/-- The dimension numbers with which the window is read from the map. -/
abbrev D : GatherDims S2x256x200x200 S1024x16x16x3 S1024x16x16x256 := gather_S2x256x200x200_S1024x16x16x3_S1024x16x16x256_3_023_n_n_023_3_125611

/-- The three entries of the triple. -/
theorem triple_at (n : Fin 1024) (y x : Fin 16) (ch : Fin 256) (k : Fin 3) : D.siIdx (ix4 n y x ch) k = ix4 n y x k := by
  funext b
  match b with
  | 0 => rfl
  | 1 => rfl
  | 2 => rfl
  | 3 => rfl

/-- A place of the map read through a triple of an image, a row and a column that are on the map. -/
theorem gather_at (f : S2x256x200x200.Idx → EReal) (idx : S1024x16x16x3.Idx → BitVec 32) (n : Fin 1024) (y x : Fin 16) (ch : Fin 256)
    (b : Fin 2) (r s : Fin 200) (hb : (idx (ix4 n y x 0)).toInt = b.val) (hr : (idx (ix4 n y x 1)).toInt = r.val) (hs : (idx (ix4 n y x 2)).toInt = s.val) :
    Host.gather D f idx (ix4 n y x ch) = f (ix4 b ch r s) := by
  have st : ∀ (a : Fin 4) (ha : a ∈ D.startIndexMap), D.start (ix4 n y x ch) idx a
      = min (idx (ix4 n y x ⟨D.startIndexMap.idxOf a, List.idxOf_lt_length_iff.2 ha⟩)).toInt.toNat (S2x256x200x200.size a - D.sliceSizes a) := by
    intro a ha
    unfold GatherDims.start
    rw [dif_pos ha]
    exact congrArg (fun i => min (idx i).toInt.toNat _) (triple_at n y x ch _)
  unfold Host.gather
  refine congrArg f (funext fun a => Fin.ext ?_)
  show D.start (ix4 n y x ch) idx a + D.batchCoord (ix4 n y x ch) a + D.offCoord (ix4 n y x ch) a = _
  rw [D.batchCoord_eq_zero _ a (List.not_mem_nil)]
  match a with
  | 0 =>
    rw [st 0 (by decide), D.offCoord_eq_zero _ 0 (fun h => ((D.mem_sKept 0).1 h).1 (by decide))]
    show min (idx (ix4 n y x 0)).toInt.toNat 1 + 0 + 0 = b.val
    omega
  | 1 =>
    have s1 : D.start (ix4 n y x ch) idx 1 = 0 := dif_neg (show (1 : Fin 4) ∉ D.startIndexMap by decide)
    have o1 : D.offCoord (ix4 n y x ch) 1 = ch.val := (dif_pos (show (1 : Fin 4) ∈ D.sKept by decide)).trans rfl
    rw [s1, o1]
    show 0 + 0 + ch.val = ch.val
    omega
  | 2 =>
    rw [st 2 (by decide), D.offCoord_eq_zero _ 2 (fun h => ((D.mem_sKept 2).1 h).1 (by decide))]
    show min (idx (ix4 n y x 1)).toInt.toNat 199 + 0 + 0 = r.val
    omega
  | 3 =>
    rw [st 3 (by decide), D.offCoord_eq_zero _ 3 (fun h => ((D.mem_sKept 3).1 h).1 (by decide))]
    show min (idx (ix4 n y x 2)).toInt.toNat 199 + 0 + 0 = s.val
    omega

/-- The maximum over the window's rows, those outside `S ≤ · < E` masked, at one column of the window, -/
def rowSup (f : S2x256x200x200.Idx → EReal) (idx : S1024x16x16x3.Idx → BitVec 32) (rows : S1024x16.Idx → BitVec 32) (S E : BitVec 32)
    (n : Fin 1024) (x : Fin 16) (ch : Fin 256) : EReal :=
  Finset.univ.sup fun y : Fin 16 =>
    if S.toInt ≤ (rows (ix2 n y)).toInt ∧ (rows (ix2 n y)).toInt < E.toInt then Host.gather D f idx (ix4 n y x ch) else ⊥

/-- and over its columns. -/
def winSup (f : S2x256x200x200.Idx → EReal) (idx : S1024x16x16x3.Idx → BitVec 32) (rows cols : S1024x16.Idx → BitVec 32)
    (S E S' E' : BitVec 32) (n : Fin 1024) (ch : Fin 256) : EReal :=
  Finset.univ.sup fun x : Fin 16 =>
    if S'.toInt ≤ (cols (ix2 n x)).toInt ∧ (cols (ix2 n x)).toInt < E'.toInt then rowSup f idx rows S E n x ch else ⊥

/-- The two maxima at one bin and channel. -/
theorem v168_at (W : (b : DevRef τ sig) → BufTy.Contents (Elt Ideal) b.ty) (n : Fin 1024) (p q : Fin 7) (ch : Fin 256) :
    StableHlo.after (opsR3 (F := Ideal)) W (Proc.devRef .tc main_v168) (ix4 n p q ch)
      = winSup (W (Proc.devRef .tc main_arg1)) (W (Proc.devRef .tc main_v137)) (W (Proc.devRef .tc main_v104)) (W (Proc.devRef .tc main_v110))
          (W (Proc.devRef .tc main_v61) (ix2 n p)) (W (Proc.devRef .tc main_v74) (ix2 n p))
          (W (Proc.devRef .tc main_v85) (ix2 n q)) (W (Proc.devRef .tc main_v98) (ix2 n q)) n ch := by
  after_reads_at
  simp only [Scalar.cmpi, select_mask, ofBits_bot, fold_sup, winSup, rowSup]

/-- The result at one element: the bin's maximum where it is finite, zero elsewhere. -/
theorem v174_at {F : FTy → Type} [FloatOps F] (W : (b : DevRef τ sig) → BufTy.Contents (Elt F) b.ty) (n : Fin 1024) (ch : Fin 256) (k : Fin 49) :
    StableHlo.after (opsR4 (F := F)) W (Proc.devRef .tc main_v174) (ix3 n ch k)
      = Scalar.select (FloatOps.cmpf .olt (FloatOps.hostAbsf (W (Proc.devRef .tc main_v168) (ix4 n ⟨k.val / 7, by omega⟩ ⟨k.val % 7, by omega⟩ ch) : F .f32)) (FloatOps.ofBits .f32 2139095040#32))
          (W (Proc.devRef .tc main_v168) (ix4 n ⟨k.val / 7, by omega⟩ ⟨k.val % 7, by omega⟩ ch)) (FloatOps.ofBits .f32 0#32) := by
  after_reads_at

/-- A finite maximum is one that is not minus infinity, where it is known to be less than plus infinity. -/
theorem finite_or_zero (M : EReal) (h : M < ⊤) :
    Scalar.select (FloatOps.cmpf .olt (FloatOps.hostAbsf (F := Ideal) (φ := .f32) M) (FloatOps.ofBits .f32 2139095040#32)) M (FloatOps.ofBits (F := Ideal) .f32 0#32)
      = if M = ⊥ then (0 : EReal) else M := by
  have e0 : Ideal.ofBits .f32 0#32 = 0 := by simp [Ideal.ofBits, Ideal.ieee]
  show (if Ideal.cmp .olt (max M (-M)) (Ideal.ofBits .f32 2139095040#32) = 1#1 then M else Ideal.ofBits .f32 0#32) = _
  have c : ∀ a b : EReal, Ideal.cmp .olt a b = 1#1 ↔ a < b := fun a b => by by_cases hab : a < b <;> simp [Ideal.cmp, hab]
  rw [ofBits_top, e0, if_congr (c _ _) rfl rfl]
  by_cases hb : M = ⊥
  · subst hb
    simp
  · rw [if_neg hb, if_pos (max_lt h (lt_top_iff_ne_top.2 fun e => hb (EReal.neg_eq_top_iff.1 e)))]

end Cert.RoiPool.Ref

end
-- ==== Proof.RefValue.lean ====
/- What the reference's result holds where every RoI starts on the map and covers at most fourteen cells along each axis: each
   bin's pooled value, as the kernel's. -/
module

public import proofs.«01_k».proof.Proof.RefRun
public import proofs.«01_k».proof.Proof.RefHead
public import proofs.«01_k».proof.Proof.RefTail
public import proofs.«01_k».proof.Proof.Result

@[expose] public section

set_option maxRecDepth 16384

noncomputable section

namespace Cert.RoiPool.Ref

open Idealize.ShloMosaic Idealize.ShloMosaic.TcCoe Idealize.ShloMosaic.Tactic
open Cert.ReferenceIdeal Cert.ReferenceIdeal.Gen

/-- An index on the axis is not wrapped. -/
theorem toInt_wrapW (w k : BitVec 32) (h : 0 ≤ w.toInt) : (wrapW w k).toInt = w.toInt := by
  unfold wrapW
  refine congrArg BitVec.toInt (if_neg fun e => ?_)
  have e := (slt_iff w 0#32).1 e
  rw [show (0#32 : BitVec 32).toInt = 0 from rfl] at e
  omega

/-- A place of the window does not overflow where the corner is at most 200. -/
theorem toInt_place (lo : BitVec 32) (i : Fin 16) (h : 0 ≤ lo.toInt) (h' : lo.toInt ≤ 200) :
    (IntOp.addi lo (BitVec.ofNat 32 i.val)).toInt = lo.toInt + i.val := by
  have e : (BitVec.ofNat 32 i.val).toInt = i.val := by revert i; decide
  have hi := i.isLt
  rw [toInt_addi _ _ (by omega) (by omega), e]

/-- One axis of the window: it holds the bin's cells, its mask is the bin, and its places on the map are read as they are. -/
theorem axis_facts (lo hi : BitVec 32) (q : ℕ) (hq : q < 7) (h : Axis lo hi) :
    lo.toInt.toNat ≤ startN lo hi q ∧ stopN lo hi q ≤ lo.toInt.toNat + 16
    ∧ (∀ i : Fin 16, ((startW Ideal lo hi q).toInt ≤ (IntOp.addi lo (BitVec.ofNat 32 i.val)).toInt
          ∧ (IntOp.addi lo (BitVec.ofNat 32 i.val)).toInt < (stopW Ideal lo hi q).toInt)
        ↔ (startN lo hi q ≤ lo.toInt.toNat + i.val ∧ lo.toInt.toNat + i.val < stopN lo hi q))
    ∧ ∀ i : Fin 16, lo.toInt.toNat + i.val < stopN lo hi q →
        (wrapW (placeW lo i.val) 200#32).toInt = (Fin.ofNat 200 (lo.toInt.toNat + i.val)).val := by
  have hb := bin_cells lo hi q hq h
  obtain ⟨⟨h0, h1⟩, -⟩ := h
  unfold startN stopN
  refine ⟨by omega, by omega, fun i => ?_, fun i hi => ?_⟩
  · rw [toInt_place lo i h0 h1]
    omega
  · have e : (placeW lo i.val).toInt = lo.toInt + i.val := by
      unfold placeW
      rw [toInt_minsi, toInt_maxsi, toInt_place lo i h0 h1, show (199#32 : BitVec 32).toInt = 199 from rfl, show (0#32 : BitVec 32).toInt = 0 from rfl]
      omega
    rw [toInt_wrapW _ _ (by omega), e]
    simp only [Fin.ofNat]
    omega

variable (m : (ℓ : Loc nD τ sig) → Buf (Elt Ideal) ℓ) (c : Dev nD) (n : Fin 1024)

/-- What `rois_small` says of RoI `n`. -/
def SmallR : Prop := Small (iwR m c n) (cwR m c n 1) (cwR m c n 2) (cwR m c n 3) (cwR m c n 4)

/-- The map. -/
def featR : S2x256x200x200.Idx → EReal := m (c, Proc.tc.devRef main_arg1)

variable {m c n} (h : SmallR m c n)
include h

/-- The masked maximum over the window is the bin's. -/
theorem window_cells (p q : Fin 7) (ch : Fin 256) :
    winSup (A m c main_arg1) (A m c main_v137) (A m c main_v104) (A m c main_v110)
        (A m c main_v61 (ix2 n p)) (A m c main_v74 (ix2 n p)) (A m c main_v85 (ix2 n q)) (A m c main_v98 (ix2 n q)) n ch
      = binMax (featR m c) (iwR m c n) (cwR m c n 1) (cwR m c n 2) (cwR m c n 3) (cwR m c n 4) ch p.val q.val := by
  obtain ⟨y0, y1, ym, yi⟩ := axis_facts _ _ p.val p.isLt h.axes.2
  obtain ⟨x0, x1, xm, xi⟩ := axis_facts _ _ q.val q.isLt h.axes.1
  have hb := h.1
  rw [A_arg1, v61_at, v74_at, v85_at, v98_at]
  unfold binMax
  rw [cellMax_comm]
  unfold winSup
  refine sup_masked 16 _ _ _ x0 x1 _ _ (fun x hx hx' => ?_) (fun x hx => if_neg fun hc => hx ?_)
  · rw [v110_at, if_pos ((xm x).2 ⟨hx, hx'⟩)]
    unfold rowSup
    refine sup_masked 16 _ _ _ y0 y1 _ _ (fun y hy hy' => ?_) (fun y hy => if_neg fun hc => hy ?_)
    · rw [v104_at, if_pos ((ym y).2 ⟨hy, hy'⟩)]
      refine gather_at _ _ n y x ch _ _ _ ?_ ?_ ?_
      · rw [v137_0, toInt_wrapW _ _ hb.1]
        simp only [Fin.ofNat]
        omega
      · rw [v137_1]
        exact yi y hy'
      · rw [v137_2]
        exact xi x hx'
    · rw [v104_at] at hc
      exact (ym y).1 hc
  · rw [v110_at] at hc
    exact (xm x).1 hc

/-- The reference's result at one element, of a map whose cells are less than plus infinity. -/
theorem R_at (hf : ∀ i, featR m c i < ⊤) (ch : Fin 256) (k : Fin 49) :
    R m c main_v174 (ix3 n ch k)
      = pooled (featR m c) (iwR m c n) (cwR m c n 1) (cwR m c n 2) (cwR m c n 3) (cwR m c n 4) ch (k.val / 7) (k.val % 7) := by
  have e := window_cells h ⟨k.val / 7, by omega⟩ ⟨k.val % 7, by omega⟩ ch
  have ht : binMax (featR m c) (iwR m c n) (cwR m c n 1) (cwR m c n 2) (cwR m c n 3) (cwR m c n 4) ch (k.val / 7) (k.val % 7) < ⊤ :=
    cellMax_lt_top _ _ _ _ _ fun y x => hf _
  unfold R opsR
  rw [StableHlo.after_append, StableHlo.after_append, v174_at, v168_at]
  unfold A at e
  rw [e, finite_or_zero _ ht]
  rfl

end Cert.RoiPool.Ref

end
-- ==== Proof.Agree.lean ====
/- The kernel and the reference end with one result. -/
module

public import proofs.«01_k».proof.Proof.Final
public import proofs.«01_k».proof.Proof.RefValue

@[expose] public section

noncomputable section

namespace Cert.RoiPool

open Idealize.ShloMosaic Idealize.ShloMosaic.TcCoe Idealize.ShloMosaic.Tactic Idealize.SL.Sem

/-- The corners of equal RoI tables at equal scales. -/
theorem words_agree {a a' : Cert.KernelIdeal.S1024x13.Idx → Elt Ideal .f32} {s s' : BitVec 32} (ha : a = a') (hs : s = s') (n : Fin 1024) (k : Fin 13) :
    cornerW Ideal a s n k = cornerW Ideal a' s' n k := by rw [ha, hs]

/-- The images of equal RoI tables. -/
theorem image_agrees {a a' : Cert.KernelIdeal.S1024x13.Idx → Elt Ideal .f32} (ha : a = a') (n : Fin 1024) : imgW Ideal a n = imgW Ideal a' n := by rw [ha]

/-- The reference's result array is the kernel's, from memories that agree on the arguments, where every RoI is small and every
    cell of the map is less than plus infinity. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h : ∀ n, SmallAt m c n) (hf : ∀ i, featOf m c i < ⊤) :
    Ref.R m' c Cert.ReferenceIdeal.main_v174 = result m c := by
  have g0 : (m' (c, Proc.tc.devRef Cert.ReferenceIdeal.main_arg0) : Cert.KernelIdeal.S1024x13.Idx → EReal) = m (c, Proc.tc.devRef Cert.KernelIdeal.main_arg0) := h0
  have g2 : m' (c, Proc.tc.devRef Cert.ReferenceIdeal.main_arg2) ix0 = m (c, Proc.tc.devRef Cert.KernelIdeal.main_arg2) ix0 := congrFun h2 ix0
  have ec : ∀ n k, Ref.cwR m' c n k = cw m c n k := fun n k => words_agree g0 g2 n k
  have ei : ∀ n, Ref.iwR m' c n = iw m c n := fun n => image_agrees g0 n
  have ef : Ref.featR m' c = featOf m c := h1
  have at_cell : ∀ (n : Fin 1024) (ch : Fin 256) (k : Fin 49),
      Ref.R m' c Cert.ReferenceIdeal.main_v174 (ix3 n ch k) = result m c (ix3 n ch k) := by
    intro n ch k
    have hs : Ref.SmallR m' c n := by
      unfold Ref.SmallR
      rw [ei, ec, ec, ec, ec]
      exact h n
    have e := Ref.R_at hs (fun j => by rw [ef]; exact hf j) ch k
    rw [ef, ei, ec, ec, ec, ec] at e
    exact e.trans (result_at m c n (h n) ch k).symm
  funext i
  have ix : i = ix3 (i 0) (i 1) (i 2) := funext fun a => by match a with | 0 => rfl | 1 => rfl | 2 => rfl
  rw [ix]
  exact at_cell (i 0) (i 1) (i 2)

/-- A comparison that says a number is less than plus infinity. -/
theorem lt_top_of_cmp (x : EReal) (h : FloatOps.cmpf (F := Ideal) (φ := .f32) .olt x (FloatOps.ofBits .f32 0x7F800000#32) = 1#1) : x < ⊤ := by
  have h : Ideal.cmp .olt x (Ideal.ofBits .f32 2139095040#32) = 1#1 := h
  rw [ofBits_top] at h
  by_contra hx
  simp [Ideal.cmp, hx] at h

end Cert.RoiPool

end
-- ==== Proof.lean ====
/- The certificate's proof: the claim, put together from the runs. -/
module

public import proofs.«01_k».proof.Defs
public import proofs.«01_k».proof.Proof.Runs
public import proofs.«01_k».proof.Proof.RefRun
public import proofs.«01_k».proof.Proof.Agree
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init
public import Idealize.ShloMosaic.Lib.StableHlo.RunHlo

@[expose] public section

namespace Cert.Proof

open Idealize.ShloMosaic Idealize.SL.Sem

/-- The idealized kernel and the reference end with one result, from memories of which `rois_small` holds. -/
theorem algebraic : Cert.algebraic_KernelIdeal_ReferenceIdeal_pre_rois_small (hKernelIdeal := Cert.KernelIdeal.Gen.facts)
    (hReferenceIdeal := Cert.ReferenceIdeal.Gen.facts) (hPre_rois_small := Cert.RoiPool.smallFacts) := by
  intro m g m' g' hp ha
  have hs := fun c => Cert.RoiPool.small _ _ _ (hp c)
  refine ⟨fun c => Cert.RoiPool.result m c, θ_run_mono (Cert.RoiPool.kernel_value m g fun c n => (hs c).1 n) fun r h => h.1,
    θ_run_mono (Cert.RoiPool.Ref.run_ref m' g') fun r h c => ⟨(h c _).trans ?_, (h c _).trans (Cert.RoiPool.Ref.R_arg0 m' c),
      (h c _).trans (Cert.RoiPool.Ref.R_arg1 m' c), (h c _).trans (Cert.RoiPool.Ref.R_arg2 m' c)⟩⟩
  exact Cert.RoiPool.results_agree m m' c (ha c).1 (ha c).2.1 (ha c).2.2 (fun n => (hs c).1 n)
    fun i => Cert.RoiPool.lt_top_of_cmp _ ((hs c).2 i)

/-- Every claim of the certificate. -/
theorem claim : Cert.Claim :=
  ⟨Cert.Kernel.Gen.facts, Cert.KernelIdeal.Gen.facts, Cert.ReferenceIdeal.Gen.facts, Cert.RoiPool.onMapFacts, Cert.RoiPool.smallFacts,
    fun m g h => Cert.RoiPool.kernel_runs m g h,
    fun m g h => Cert.RoiPool.kernelIdeal_runs m g h,
    fun m g h => θ_run_mono (Cert.RoiPool.kernel_value m g fun c n => (Cert.RoiPool.small _ _ _ (h c)).1 n) fun r hr =>
      ⟨fun c => (hr.1 c).2, hr.2⟩,
    fun m g _ => Cert.RoiPool.Ref.frame_ref m g,
    fun m g _ => Cert.RoiPool.Ref.frame_ref m g,
    trivial,
    algebraic⟩

end Cert.Proof
